-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v287) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x96x224x224 : Shape := ⟨4, ![16, 96, 224, 224]⟩
abbrev S_ : Shape := ⟨0, ![]⟩
abbrev S1 : Shape := ⟨1, ![1]⟩
abbrev S2 : Shape := ⟨1, ![2]⟩
abbrev S16 : Shape := ⟨1, ![16]⟩
abbrev S16x1 : Shape := ⟨2, ![16, 1]⟩
abbrev S16x2 : Shape := ⟨2, ![16, 2]⟩
abbrev S1x2 : Shape := ⟨2, ![1, 2]⟩
abbrev S2x1 : Shape := ⟨2, ![2, 1]⟩
abbrev S2x2 : Shape := ⟨2, ![2, 2]⟩
abbrev S1x16 : Shape := ⟨2, ![1, 16]⟩
abbrev S16x16 : Shape := ⟨2, ![16, 16]⟩
abbrev S4x4x16 : Shape := ⟨3, ![4, 4, 16]⟩
abbrev S16x4x4 : Shape := ⟨3, ![16, 4, 4]⟩
abbrev S64x4 : Shape := ⟨2, ![64, 4]⟩
abbrev S64x16 : Shape := ⟨2, ![64, 16]⟩
abbrev S4x56x224 : Shape := ⟨3, ![4, 56, 224]⟩
abbrev S4x56x56 : Shape := ⟨3, ![4, 56, 56]⟩
abbrev S1x4x56x56 : Shape := ⟨4, ![1, 4, 56, 56]⟩
abbrev S1x4x56x224 : Shape := ⟨4, ![1, 4, 56, 224]⟩

abbrev nBuf : Table → Nat
  | .hbm => 8001
  | .local .scVector .vmem => 2
  | _ => 0

abbrev hbmTy0_0 (i : Nat) : BufTy := match i % 128 with
  | 0 => ⟨S16x96x224x224, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S16, .i64⟩
  | 16 => ⟨S_, .i64⟩
  | 17 => ⟨S16, .i64⟩
  | 18 => ⟨S16, .i64⟩
  | 19 => ⟨S_, .i64⟩
  | 20 => ⟨S16, .i64⟩
  | 21 => ⟨S16, .i64⟩
  | 22 => ⟨S16, .i32⟩
  | 23 => ⟨S16, .i32⟩
  | 24 => ⟨S_, .i32⟩
  | 25 => ⟨S_, .i32⟩
  | 26 => ⟨S_, .i32⟩
  | 27 => ⟨S16, .i32⟩
  | 28 => ⟨S16, .i32⟩
  | 29 => ⟨S16, .i32⟩
  | 30 => ⟨S16, .i32⟩
  | 31 => ⟨S16, .i32⟩
  | 32 => ⟨S_, .i32⟩
  | 33 => ⟨S16, .i32⟩
  | 34 => ⟨S16, .i32⟩
  | 35 => ⟨S_, .i32⟩
  | 36 => ⟨S16, .i32⟩
  | 37 => ⟨S16, .i32⟩
  | 38 => ⟨S16, .i32⟩
  | 39 => ⟨S16, .i32⟩
  | 40 => ⟨S16, .i32⟩
  | 41 => ⟨S_, .i32⟩
  | 42 => ⟨S16, .i32⟩
  | 43 => ⟨S16, .i32⟩
  | 44 => ⟨S_, .i32⟩
  | 45 => ⟨S16, .i32⟩
  | 46 => ⟨S16, .i32⟩
  | 47 => ⟨S16, .i32⟩
  | 48 => ⟨S16, .i32⟩
  | 49 => ⟨S16, .i32⟩
  | 50 => ⟨S_, .i32⟩
  | 51 => ⟨S16, .i32⟩
  | 52 => ⟨S16, .i32⟩
  | 53 => ⟨S_, .i32⟩
  | 54 => ⟨S16, .i32⟩
  | 55 => ⟨S16, .i32⟩
  | 56 => ⟨S16, .i32⟩
  | 57 => ⟨S16, .i32⟩
  | 58 => ⟨S16, .i32⟩
  | 59 => ⟨S_, .i32⟩
  | 60 => ⟨S16, .i32⟩
  | 61 => ⟨S16, .i32⟩
  | 62 => ⟨S_, .i32⟩
  | 63 => ⟨S16, .i32⟩
  | 64 => ⟨S16, .i32⟩
  | 65 => ⟨S16, .i32⟩
  | 66 => ⟨S16, .i32⟩
  | 67 => ⟨S16, .i32⟩
  | 68 => ⟨S16, .i32⟩
  | 69 => ⟨S16, .i32⟩
  | 70 => ⟨S16, .i32⟩
  | 71 => ⟨S_, .i32⟩
  | 72 => ⟨S16, .i32⟩
  | 73 => ⟨S16, .i32⟩
  | 74 => ⟨S16, .i32⟩
  | 75 => ⟨S_, .i32⟩
  | 76 => ⟨S16, .i32⟩
  | 77 => ⟨S16, .i32⟩
  | 78 => ⟨S_, .i32⟩
  | 79 => ⟨S16, .i32⟩
  | 80 => ⟨S16, .i32⟩
  | 81 => ⟨S16, .i32⟩
  | 82 => ⟨S16, .i32⟩
  | 83 => ⟨S16, .i32⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S16, .i32⟩
  | 91 => ⟨S16, .i32⟩
  | 92 => ⟨S16, .i32⟩
  | 93 => ⟨S_, .i32⟩
  | 94 => ⟨S16, .i32⟩
  | 95 => ⟨S16, .i32⟩
  | 96 => ⟨S_, .i32⟩
  | 97 => ⟨S16, .i32⟩
  | 98 => ⟨S16, .i32⟩
  | 99 => ⟨S16, .i32⟩
  | 100 => ⟨S16, .i32⟩
  | 101 => ⟨S16, .i32⟩
  | 102 => ⟨S_, .i32⟩
  | 103 => ⟨S16, .i32⟩
  | 104 => ⟨S16, .i32⟩
  | 105 => ⟨S_, .i32⟩
  | 106 => ⟨S16, .i32⟩
  | 107 => ⟨S16, .i32⟩
  | 108 => ⟨S16, .i32⟩
  | 109 => ⟨S16, .i32⟩
  | 110 => ⟨S16, .i32⟩
  | 111 => ⟨S16, .i32⟩
  | 112 => ⟨S16, .i32⟩
  | 113 => ⟨S16, .i32⟩
  | 114 => ⟨S_, .i32⟩
  | 115 => ⟨S16, .i32⟩
  | 116 => ⟨S16, .i32⟩
  | 117 => ⟨S16, .i32⟩
  | 118 => ⟨S_, .i32⟩
  | 119 => ⟨S16, .i32⟩
  | 120 => ⟨S16, .i32⟩
  | 121 => ⟨S_, .i32⟩
  | 122 => ⟨S16, .i32⟩
  | 123 => ⟨S16, .i32⟩
  | 124 => ⟨S16, .i32⟩
  | 125 => ⟨S16, .i32⟩
  | 126 => ⟨S16, .i32⟩
  | 127 => ⟨S_, .i32⟩
  | _ => ⟨S16x96x224x224, .f32⟩

abbrev hbmTy0_1 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S16, .i32⟩
  | 6 => ⟨S16, .i32⟩
  | 7 => ⟨S16, .i32⟩
  | 8 => ⟨S_, .i32⟩
  | 9 => ⟨S16, .i32⟩
  | 10 => ⟨S16, .i32⟩
  | 11 => ⟨S_, .i32⟩
  | 12 => ⟨S16, .i32⟩
  | 13 => ⟨S16, .i32⟩
  | 14 => ⟨S16, .i32⟩
  | 15 => ⟨S16, .i32⟩
  | 16 => ⟨S16, .i32⟩
  | 17 => ⟨S_, .i32⟩
  | 18 => ⟨S16, .i32⟩
  | 19 => ⟨S16, .i32⟩
  | 20 => ⟨S_, .i32⟩
  | 21 => ⟨S16, .i32⟩
  | 22 => ⟨S16, .i32⟩
  | 23 => ⟨S16, .i32⟩
  | 24 => ⟨S16, .i32⟩
  | 25 => ⟨S16, .i32⟩
  | 26 => ⟨S16, .i32⟩
  | 27 => ⟨S16, .i32⟩
  | 28 => ⟨S16, .i32⟩
  | 29 => ⟨S_, .i32⟩
  | 30 => ⟨S16, .i32⟩
  | 31 => ⟨S16, .i32⟩
  | 32 => ⟨S16, .i32⟩
  | 33 => ⟨S_, .i32⟩
  | 34 => ⟨S16, .i32⟩
  | 35 => ⟨S16, .i32⟩
  | 36 => ⟨S_, .i32⟩
  | 37 => ⟨S16, .i32⟩
  | 38 => ⟨S16, .i32⟩
  | 39 => ⟨S16, .i32⟩
  | 40 => ⟨S16, .i32⟩
  | 41 => ⟨S16, .i32⟩
  | 42 => ⟨S_, .i32⟩
  | 43 => ⟨S16, .i32⟩
  | 44 => ⟨S16, .i32⟩
  | 45 => ⟨S_, .i32⟩
  | 46 => ⟨S16, .i32⟩
  | 47 => ⟨S16, .i32⟩
  | 48 => ⟨S16, .i32⟩
  | 49 => ⟨S16, .i32⟩
  | 50 => ⟨S16, .i32⟩
  | 51 => ⟨S_, .i32⟩
  | 52 => ⟨S16, .i32⟩
  | 53 => ⟨S16, .i32⟩
  | 54 => ⟨S_, .i32⟩
  | 55 => ⟨S16, .i32⟩
  | 56 => ⟨S16, .i32⟩
  | 57 => ⟨S16, .i32⟩
  | 58 => ⟨S16, .i32⟩
  | 59 => ⟨S16, .i32⟩
  | 60 => ⟨S_, .i32⟩
  | 61 => ⟨S16, .i32⟩
  | 62 => ⟨S16, .i32⟩
  | 63 => ⟨S_, .i32⟩
  | 64 => ⟨S16, .i32⟩
  | 65 => ⟨S16, .i32⟩
  | 66 => ⟨S16, .i32⟩
  | 67 => ⟨S16, .i32⟩
  | 68 => ⟨S16, .i32⟩
  | 69 => ⟨S16, .i32⟩
  | 70 => ⟨S16, .i32⟩
  | 71 => ⟨S16, .i32⟩
  | 72 => ⟨S_, .i32⟩
  | 73 => ⟨S16, .i32⟩
  | 74 => ⟨S16, .i32⟩
  | 75 => ⟨S16, .i32⟩
  | 76 => ⟨S_, .i32⟩
  | 77 => ⟨S16, .i32⟩
  | 78 => ⟨S16, .i32⟩
  | 79 => ⟨S_, .i32⟩
  | 80 => ⟨S16, .i32⟩
  | 81 => ⟨S16, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S_, .i32⟩
  | 89 => ⟨S16, .i32⟩
  | 90 => ⟨S16, .i32⟩
  | 91 => ⟨S16, .i32⟩
  | 92 => ⟨S16, .i32⟩
  | 93 => ⟨S16, .i32⟩
  | 94 => ⟨S_, .i32⟩
  | 95 => ⟨S16, .i32⟩
  | 96 => ⟨S16, .i32⟩
  | 97 => ⟨S_, .i32⟩
  | 98 => ⟨S16, .i32⟩
  | 99 => ⟨S16, .i32⟩
  | 100 => ⟨S16, .i32⟩
  | 101 => ⟨S16, .i32⟩
  | 102 => ⟨S16, .i32⟩
  | 103 => ⟨S_, .i32⟩
  | 104 => ⟨S16, .i32⟩
  | 105 => ⟨S16, .i32⟩
  | 106 => ⟨S_, .i32⟩
  | 107 => ⟨S16, .i32⟩
  | 108 => ⟨S16, .i32⟩
  | 109 => ⟨S16, .i32⟩
  | 110 => ⟨S16, .i32⟩
  | 111 => ⟨S16, .i32⟩
  | 112 => ⟨S16, .i32⟩
  | 113 => ⟨S16, .i32⟩
  | 114 => ⟨S16, .i32⟩
  | 115 => ⟨S_, .i32⟩
  | 116 => ⟨S16, .i32⟩
  | 117 => ⟨S16, .i32⟩
  | 118 => ⟨S16x1, .i32⟩
  | 119 => ⟨S16x1, .i32⟩
  | 120 => ⟨S16x2, .i32⟩
  | 121 => ⟨S1x2, .i32⟩
  | 122 => ⟨S2, .i32⟩
  | 123 => ⟨S16, .i32⟩
  | 124 => ⟨S1, .i32⟩
  | 125 => ⟨S_, .i32⟩
  | 126 => ⟨S1, .i32⟩
  | 127 => ⟨S_, .i32⟩
  | _ => ⟨S16x96x224x224, .f32⟩

abbrev hbmTy0_2 (i : Nat) : BufTy := match i % 128 with
  | 0 => ⟨S2, .i64⟩
  | 1 => ⟨S_, .i64⟩
  | 2 => ⟨S2, .i64⟩
  | 3 => ⟨S2, .i64⟩
  | 4 => ⟨S_, .i64⟩
  | 5 => ⟨S2, .i64⟩
  | 6 => ⟨S2, .i64⟩
  | 7 => ⟨S2, .i32⟩
  | 8 => ⟨S2, .i32⟩
  | 9 => ⟨S_, .i32⟩
  | 10 => ⟨S_, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S16x96x224x224, .f32⟩

abbrev hbmTy0_3 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S2x1, .i32⟩
  | 104 => ⟨S2x1, .i32⟩
  | 105 => ⟨S2x2, .i32⟩
  | 106 => ⟨S1x2, .i32⟩
  | 107 => ⟨S2, .i32⟩
  | 108 => ⟨S1x2, .i32⟩
  | 109 => ⟨S2, .i32⟩
  | 110 => ⟨S1, .i32⟩
  | 111 => ⟨S_, .i32⟩
  | 112 => ⟨S1, .i32⟩
  | 113 => ⟨S_, .i32⟩
  | 114 => ⟨S16, .i64⟩
  | 115 => ⟨S_, .i64⟩
  | 116 => ⟨S16, .i64⟩
  | 117 => ⟨S16, .i64⟩
  | 118 => ⟨S_, .i64⟩
  | 119 => ⟨S16, .i64⟩
  | 120 => ⟨S16, .i64⟩
  | 121 => ⟨S16, .i32⟩
  | 122 => ⟨S16, .i32⟩
  | 123 => ⟨S_, .i32⟩
  | 124 => ⟨S_, .i32⟩
  | 125 => ⟨S_, .i32⟩
  | 126 => ⟨S16, .i32⟩
  | 127 => ⟨S16, .i32⟩
  | _ => ⟨S16x96x224x224, .f32⟩

abbrev hbmTy0_4 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i32⟩
  | 6 => ⟨S_, .i32⟩
  | 7 => ⟨S16, .i32⟩
  | 8 => ⟨S16, .i32⟩
  | 9 => ⟨S16, .i32⟩
  | 10 => ⟨S16, .i32⟩
  | 11 => ⟨S16, .i32⟩
  | 12 => ⟨S_, .i32⟩
  | 13 => ⟨S16, .i32⟩
  | 14 => ⟨S16, .i32⟩
  | 15 => ⟨S_, .i32⟩
  | 16 => ⟨S16, .i32⟩
  | 17 => ⟨S16, .i32⟩
  | 18 => ⟨S16, .i32⟩
  | 19 => ⟨S16, .i32⟩
  | 20 => ⟨S16, .i32⟩
  | 21 => ⟨S_, .i32⟩
  | 22 => ⟨S16, .i32⟩
  | 23 => ⟨S16, .i32⟩
  | 24 => ⟨S_, .i32⟩
  | 25 => ⟨S16, .i32⟩
  | 26 => ⟨S16, .i32⟩
  | 27 => ⟨S16, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16, .i32⟩
  | 35 => ⟨S16, .i32⟩
  | 36 => ⟨S16, .i32⟩
  | 37 => ⟨S16, .i32⟩
  | 38 => ⟨S16, .i32⟩
  | 39 => ⟨S16, .i32⟩
  | 40 => ⟨S16, .i32⟩
  | 41 => ⟨S16, .i32⟩
  | 42 => ⟨S_, .i32⟩
  | 43 => ⟨S16, .i32⟩
  | 44 => ⟨S16, .i32⟩
  | 45 => ⟨S16, .i32⟩
  | 46 => ⟨S_, .i32⟩
  | 47 => ⟨S16, .i32⟩
  | 48 => ⟨S16, .i32⟩
  | 49 => ⟨S_, .i32⟩
  | 50 => ⟨S16, .i32⟩
  | 51 => ⟨S16, .i32⟩
  | 52 => ⟨S16, .i32⟩
  | 53 => ⟨S16, .i32⟩
  | 54 => ⟨S16, .i32⟩
  | 55 => ⟨S_, .i32⟩
  | 56 => ⟨S16, .i32⟩
  | 57 => ⟨S16, .i32⟩
  | 58 => ⟨S_, .i32⟩
  | 59 => ⟨S16, .i32⟩
  | 60 => ⟨S16, .i32⟩
  | 61 => ⟨S16, .i32⟩
  | 62 => ⟨S16, .i32⟩
  | 63 => ⟨S16, .i32⟩
  | 64 => ⟨S_, .i32⟩
  | 65 => ⟨S16, .i32⟩
  | 66 => ⟨S16, .i32⟩
  | 67 => ⟨S_, .i32⟩
  | 68 => ⟨S16, .i32⟩
  | 69 => ⟨S16, .i32⟩
  | 70 => ⟨S16, .i32⟩
  | 71 => ⟨S16, .i32⟩
  | 72 => ⟨S16, .i32⟩
  | 73 => ⟨S_, .i32⟩
  | 74 => ⟨S16, .i32⟩
  | 75 => ⟨S16, .i32⟩
  | 76 => ⟨S_, .i32⟩
  | 77 => ⟨S16, .i32⟩
  | 78 => ⟨S16, .i32⟩
  | 79 => ⟨S16, .i32⟩
  | 80 => ⟨S16, .i32⟩
  | 81 => ⟨S16, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S16, .i32⟩
  | 89 => ⟨S_, .i32⟩
  | 90 => ⟨S16, .i32⟩
  | 91 => ⟨S16, .i32⟩
  | 92 => ⟨S_, .i32⟩
  | 93 => ⟨S16, .i32⟩
  | 94 => ⟨S16, .i32⟩
  | 95 => ⟨S16, .i32⟩
  | 96 => ⟨S16, .i32⟩
  | 97 => ⟨S16, .i32⟩
  | 98 => ⟨S_, .i32⟩
  | 99 => ⟨S16, .i32⟩
  | 100 => ⟨S16, .i32⟩
  | 101 => ⟨S_, .i32⟩
  | 102 => ⟨S16, .i32⟩
  | 103 => ⟨S16, .i32⟩
  | 104 => ⟨S16, .i32⟩
  | 105 => ⟨S16, .i32⟩
  | 106 => ⟨S16, .i32⟩
  | 107 => ⟨S_, .i32⟩
  | 108 => ⟨S16, .i32⟩
  | 109 => ⟨S16, .i32⟩
  | 110 => ⟨S_, .i32⟩
  | 111 => ⟨S16, .i32⟩
  | 112 => ⟨S16, .i32⟩
  | 113 => ⟨S16, .i32⟩
  | 114 => ⟨S16, .i32⟩
  | 115 => ⟨S16, .i32⟩
  | 116 => ⟨S_, .i32⟩
  | 117 => ⟨S16, .i32⟩
  | 118 => ⟨S16, .i32⟩
  | 119 => ⟨S_, .i32⟩
  | 120 => ⟨S16, .i32⟩
  | 121 => ⟨S16, .i32⟩
  | 122 => ⟨S16, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_5 (i : Nat) : BufTy := match i % 128 with
  | 0 => ⟨S_, .i32⟩
  | 1 => ⟨S16, .i32⟩
  | 2 => ⟨S16, .i32⟩
  | 3 => ⟨S16, .i32⟩
  | 4 => ⟨S_, .i32⟩
  | 5 => ⟨S16, .i32⟩
  | 6 => ⟨S16, .i32⟩
  | 7 => ⟨S_, .i32⟩
  | 8 => ⟨S16, .i32⟩
  | 9 => ⟨S16, .i32⟩
  | 10 => ⟨S16, .i32⟩
  | 11 => ⟨S16, .i32⟩
  | 12 => ⟨S16, .i32⟩
  | 13 => ⟨S_, .i32⟩
  | 14 => ⟨S16, .i32⟩
  | 15 => ⟨S16, .i32⟩
  | 16 => ⟨S_, .i32⟩
  | 17 => ⟨S16, .i32⟩
  | 18 => ⟨S16, .i32⟩
  | 19 => ⟨S16, .i32⟩
  | 20 => ⟨S16, .i32⟩
  | 21 => ⟨S16, .i32⟩
  | 22 => ⟨S_, .i32⟩
  | 23 => ⟨S16, .i32⟩
  | 24 => ⟨S16, .i32⟩
  | 25 => ⟨S_, .i32⟩
  | 26 => ⟨S16, .i32⟩
  | 27 => ⟨S16, .i32⟩
  | 28 => ⟨S16, .i32⟩
  | 29 => ⟨S16, .i32⟩
  | 30 => ⟨S16, .i32⟩
  | 31 => ⟨S_, .i32⟩
  | 32 => ⟨S16, .i32⟩
  | 33 => ⟨S16, .i32⟩
  | 34 => ⟨S_, .i32⟩
  | 35 => ⟨S16, .i32⟩
  | 36 => ⟨S16, .i32⟩
  | 37 => ⟨S16, .i32⟩
  | 38 => ⟨S16, .i32⟩
  | 39 => ⟨S16, .i32⟩
  | 40 => ⟨S16, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S_, .i32⟩
  | 48 => ⟨S16, .i32⟩
  | 49 => ⟨S16, .i32⟩
  | 50 => ⟨S_, .i32⟩
  | 51 => ⟨S16, .i32⟩
  | 52 => ⟨S16, .i32⟩
  | 53 => ⟨S16, .i32⟩
  | 54 => ⟨S16, .i32⟩
  | 55 => ⟨S16, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .i32⟩
  | 63 => ⟨S16, .i32⟩
  | 64 => ⟨S16, .i32⟩
  | 65 => ⟨S_, .i32⟩
  | 66 => ⟨S16, .i32⟩
  | 67 => ⟨S16, .i32⟩
  | 68 => ⟨S_, .i32⟩
  | 69 => ⟨S16, .i32⟩
  | 70 => ⟨S16, .i32⟩
  | 71 => ⟨S16, .i32⟩
  | 72 => ⟨S16, .i32⟩
  | 73 => ⟨S16, .i32⟩
  | 74 => ⟨S_, .i32⟩
  | 75 => ⟨S16, .i32⟩
  | 76 => ⟨S16, .i32⟩
  | 77 => ⟨S_, .i32⟩
  | 78 => ⟨S16, .i32⟩
  | 79 => ⟨S16, .i32⟩
  | 80 => ⟨S16, .i32⟩
  | 81 => ⟨S16, .i32⟩
  | 82 => ⟨S16, .i32⟩
  | 83 => ⟨S16, .i32⟩
  | 84 => ⟨S16, .i32⟩
  | 85 => ⟨S16, .i32⟩
  | 86 => ⟨S_, .i32⟩
  | 87 => ⟨S16, .i32⟩
  | 88 => ⟨S16, .i32⟩
  | 89 => ⟨S16, .i32⟩
  | 90 => ⟨S16, .i32⟩
  | 91 => ⟨S16, .i32⟩
  | 92 => ⟨S1x2, .i32⟩
  | 93 => ⟨S2, .i32⟩
  | 94 => ⟨S16, .i32⟩
  | 95 => ⟨S1, .i32⟩
  | 96 => ⟨S_, .i32⟩
  | 97 => ⟨S1, .i32⟩
  | 98 => ⟨S_, .i32⟩
  | 99 => ⟨S2, .i64⟩
  | 100 => ⟨S_, .i64⟩
  | 101 => ⟨S2, .i64⟩
  | 102 => ⟨S2, .i64⟩
  | 103 => ⟨S_, .i64⟩
  | 104 => ⟨S2, .i64⟩
  | 105 => ⟨S2, .i64⟩
  | 106 => ⟨S2, .i32⟩
  | 107 => ⟨S2, .i32⟩
  | 108 => ⟨S_, .i32⟩
  | 109 => ⟨S_, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_6 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x96x224x224, .f32⟩

abbrev hbmTy0_7 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2x1, .i32⟩
  | 75 => ⟨S2x1, .i32⟩
  | 76 => ⟨S2x2, .i32⟩
  | 77 => ⟨S1x2, .i32⟩
  | 78 => ⟨S2, .i32⟩
  | 79 => ⟨S1x2, .i32⟩
  | 80 => ⟨S2, .i32⟩
  | 81 => ⟨S1, .i32⟩
  | 82 => ⟨S_, .i32⟩
  | 83 => ⟨S1, .i32⟩
  | 84 => ⟨S_, .i32⟩
  | 85 => ⟨S16, .i64⟩
  | 86 => ⟨S_, .i64⟩
  | 87 => ⟨S16, .i64⟩
  | 88 => ⟨S16, .i64⟩
  | 89 => ⟨S_, .i64⟩
  | 90 => ⟨S16, .i64⟩
  | 91 => ⟨S16, .i64⟩
  | 92 => ⟨S16, .i32⟩
  | 93 => ⟨S16, .i32⟩
  | 94 => ⟨S_, .i32⟩
  | 95 => ⟨S_, .i32⟩
  | 96 => ⟨S_, .i32⟩
  | 97 => ⟨S16, .i32⟩
  | 98 => ⟨S16, .i32⟩
  | 99 => ⟨S16, .i32⟩
  | 100 => ⟨S16, .i32⟩
  | 101 => ⟨S16, .i32⟩
  | 102 => ⟨S_, .i32⟩
  | 103 => ⟨S16, .i32⟩
  | 104 => ⟨S16, .i32⟩
  | 105 => ⟨S_, .i32⟩
  | 106 => ⟨S16, .i32⟩
  | 107 => ⟨S16, .i32⟩
  | 108 => ⟨S16, .i32⟩
  | 109 => ⟨S16, .i32⟩
  | 110 => ⟨S16, .i32⟩
  | 111 => ⟨S_, .i32⟩
  | 112 => ⟨S16, .i32⟩
  | 113 => ⟨S16, .i32⟩
  | 114 => ⟨S_, .i32⟩
  | 115 => ⟨S16, .i32⟩
  | 116 => ⟨S16, .i32⟩
  | 117 => ⟨S16, .i32⟩
  | 118 => ⟨S16, .i32⟩
  | 119 => ⟨S16, .i32⟩
  | 120 => ⟨S_, .i32⟩
  | 121 => ⟨S16, .i32⟩
  | 122 => ⟨S16, .i32⟩
  | 123 => ⟨S_, .i32⟩
  | 124 => ⟨S16, .i32⟩
  | 125 => ⟨S16, .i32⟩
  | 126 => ⟨S16, .i32⟩
  | 127 => ⟨S16, .i32⟩
  | _ => ⟨S16x96x224x224, .f32⟩

abbrev hbmTy0_8 (i : Nat) : BufTy := match i % 128 with
  | 0 => ⟨S16, .i32⟩
  | 1 => ⟨S_, .i32⟩
  | 2 => ⟨S16, .i32⟩
  | 3 => ⟨S16, .i32⟩
  | 4 => ⟨S_, .i32⟩
  | 5 => ⟨S16, .i32⟩
  | 6 => ⟨S16, .i32⟩
  | 7 => ⟨S16, .i32⟩
  | 8 => ⟨S16, .i32⟩
  | 9 => ⟨S16, .i32⟩
  | 10 => ⟨S16, .i32⟩
  | 11 => ⟨S16, .i32⟩
  | 12 => ⟨S16, .i32⟩
  | 13 => ⟨S_, .i32⟩
  | 14 => ⟨S16, .i32⟩
  | 15 => ⟨S16, .i32⟩
  | 16 => ⟨S16, .i32⟩
  | 17 => ⟨S_, .i32⟩
  | 18 => ⟨S16, .i32⟩
  | 19 => ⟨S16, .i32⟩
  | 20 => ⟨S_, .i32⟩
  | 21 => ⟨S16, .i32⟩
  | 22 => ⟨S16, .i32⟩
  | 23 => ⟨S16, .i32⟩
  | 24 => ⟨S16, .i32⟩
  | 25 => ⟨S16, .i32⟩
  | 26 => ⟨S_, .i32⟩
  | 27 => ⟨S16, .i32⟩
  | 28 => ⟨S16, .i32⟩
  | 29 => ⟨S_, .i32⟩
  | 30 => ⟨S16, .i32⟩
  | 31 => ⟨S16, .i32⟩
  | 32 => ⟨S16, .i32⟩
  | 33 => ⟨S16, .i32⟩
  | 34 => ⟨S16, .i32⟩
  | 35 => ⟨S_, .i32⟩
  | 36 => ⟨S16, .i32⟩
  | 37 => ⟨S16, .i32⟩
  | 38 => ⟨S_, .i32⟩
  | 39 => ⟨S16, .i32⟩
  | 40 => ⟨S16, .i32⟩
  | 41 => ⟨S16, .i32⟩
  | 42 => ⟨S16, .i32⟩
  | 43 => ⟨S16, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S16, .i32⟩
  | 51 => ⟨S16, .i32⟩
  | 52 => ⟨S16, .i32⟩
  | 53 => ⟨S16, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S_, .i32⟩
  | 61 => ⟨S16, .i32⟩
  | 62 => ⟨S16, .i32⟩
  | 63 => ⟨S_, .i32⟩
  | 64 => ⟨S16, .i32⟩
  | 65 => ⟨S16, .i32⟩
  | 66 => ⟨S16, .i32⟩
  | 67 => ⟨S16, .i32⟩
  | 68 => ⟨S16, .i32⟩
  | 69 => ⟨S_, .i32⟩
  | 70 => ⟨S16, .i32⟩
  | 71 => ⟨S16, .i32⟩
  | 72 => ⟨S_, .i32⟩
  | 73 => ⟨S16, .i32⟩
  | 74 => ⟨S16, .i32⟩
  | 75 => ⟨S16, .i32⟩
  | 76 => ⟨S16, .i32⟩
  | 77 => ⟨S16, .i32⟩
  | 78 => ⟨S_, .i32⟩
  | 79 => ⟨S16, .i32⟩
  | 80 => ⟨S16, .i32⟩
  | 81 => ⟨S_, .i32⟩
  | 82 => ⟨S16, .i32⟩
  | 83 => ⟨S16, .i32⟩
  | 84 => ⟨S16, .i32⟩
  | 85 => ⟨S16, .i32⟩
  | 86 => ⟨S16, .i32⟩
  | 87 => ⟨S_, .i32⟩
  | 88 => ⟨S16, .i32⟩
  | 89 => ⟨S16, .i32⟩
  | 90 => ⟨S_, .i32⟩
  | 91 => ⟨S16, .i32⟩
  | 92 => ⟨S16, .i32⟩
  | 93 => ⟨S16, .i32⟩
  | 94 => ⟨S16, .i32⟩
  | 95 => ⟨S16, .i32⟩
  | 96 => ⟨S16, .i32⟩
  | 97 => ⟨S16, .i32⟩
  | 98 => ⟨S16, .i32⟩
  | 99 => ⟨S_, .i32⟩
  | 100 => ⟨S16, .i32⟩
  | 101 => ⟨S16, .i32⟩
  | 102 => ⟨S16, .i32⟩
  | 103 => ⟨S_, .i32⟩
  | 104 => ⟨S16, .i32⟩
  | 105 => ⟨S16, .i32⟩
  | 106 => ⟨S_, .i32⟩
  | 107 => ⟨S16, .i32⟩
  | 108 => ⟨S16, .i32⟩
  | 109 => ⟨S16, .i32⟩
  | 110 => ⟨S16, .i32⟩
  | 111 => ⟨S16, .i32⟩
  | 112 => ⟨S_, .i32⟩
  | 113 => ⟨S16, .i32⟩
  | 114 => ⟨S16, .i32⟩
  | 115 => ⟨S_, .i32⟩
  | 116 => ⟨S16, .i32⟩
  | 117 => ⟨S16, .i32⟩
  | 118 => ⟨S16, .i32⟩
  | 119 => ⟨S16, .i32⟩
  | 120 => ⟨S16, .i32⟩
  | 121 => ⟨S_, .i32⟩
  | 122 => ⟨S16, .i32⟩
  | 123 => ⟨S16, .i32⟩
  | 124 => ⟨S_, .i32⟩
  | 125 => ⟨S16, .i32⟩
  | 126 => ⟨S16, .i32⟩
  | 127 => ⟨S16, .i32⟩
  | _ => ⟨S16x96x224x224, .f32⟩

abbrev hbmTy0_9 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S_, .i32⟩
  | 6 => ⟨S16, .i32⟩
  | 7 => ⟨S16, .i32⟩
  | 8 => ⟨S16, .i32⟩
  | 9 => ⟨S16, .i32⟩
  | 10 => ⟨S16, .i32⟩
  | 11 => ⟨S16, .i32⟩
  | 12 => ⟨S16, .i32⟩
  | 13 => ⟨S16, .i32⟩
  | 14 => ⟨S_, .i32⟩
  | 15 => ⟨S16, .i32⟩
  | 16 => ⟨S16, .i32⟩
  | 17 => ⟨S16, .i32⟩
  | 18 => ⟨S_, .i32⟩
  | 19 => ⟨S16, .i32⟩
  | 20 => ⟨S16, .i32⟩
  | 21 => ⟨S_, .i32⟩
  | 22 => ⟨S16, .i32⟩
  | 23 => ⟨S16, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S16, .i32⟩
  | 34 => ⟨S16, .i32⟩
  | 35 => ⟨S16, .i32⟩
  | 36 => ⟨S_, .i32⟩
  | 37 => ⟨S16, .i32⟩
  | 38 => ⟨S16, .i32⟩
  | 39 => ⟨S_, .i32⟩
  | 40 => ⟨S16, .i32⟩
  | 41 => ⟨S16, .i32⟩
  | 42 => ⟨S16, .i32⟩
  | 43 => ⟨S16, .i32⟩
  | 44 => ⟨S16, .i32⟩
  | 45 => ⟨S_, .i32⟩
  | 46 => ⟨S16, .i32⟩
  | 47 => ⟨S16, .i32⟩
  | 48 => ⟨S_, .i32⟩
  | 49 => ⟨S16, .i32⟩
  | 50 => ⟨S16, .i32⟩
  | 51 => ⟨S16, .i32⟩
  | 52 => ⟨S16, .i32⟩
  | 53 => ⟨S16, .i32⟩
  | 54 => ⟨S16, .i32⟩
  | 55 => ⟨S16, .i32⟩
  | 56 => ⟨S16, .i32⟩
  | 57 => ⟨S_, .i32⟩
  | 58 => ⟨S16, .i32⟩
  | 59 => ⟨S16, .i32⟩
  | 60 => ⟨S16, .i32⟩
  | 61 => ⟨S16, .i32⟩
  | 62 => ⟨S16, .i32⟩
  | 63 => ⟨S1x2, .i32⟩
  | 64 => ⟨S2, .i32⟩
  | 65 => ⟨S16, .i32⟩
  | 66 => ⟨S1, .i32⟩
  | 67 => ⟨S_, .i32⟩
  | 68 => ⟨S1, .i32⟩
  | 69 => ⟨S_, .i32⟩
  | 70 => ⟨S2, .i64⟩
  | 71 => ⟨S_, .i64⟩
  | 72 => ⟨S2, .i64⟩
  | 73 => ⟨S2, .i64⟩
  | 74 => ⟨S_, .i64⟩
  | 75 => ⟨S2, .i64⟩
  | 76 => ⟨S2, .i64⟩
  | 77 => ⟨S2, .i32⟩
  | 78 => ⟨S2, .i32⟩
  | 79 => ⟨S_, .i32⟩
  | 80 => ⟨S_, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x96x224x224, .f32⟩

abbrev hbmTy0_10 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16x96x224x224, .f32⟩

abbrev hbmTy0_11 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S2x1, .i32⟩
  | 46 => ⟨S2x1, .i32⟩
  | 47 => ⟨S2x2, .i32⟩
  | 48 => ⟨S1x2, .i32⟩
  | 49 => ⟨S2, .i32⟩
  | 50 => ⟨S1x2, .i32⟩
  | 51 => ⟨S2, .i32⟩
  | 52 => ⟨S1, .i32⟩
  | 53 => ⟨S_, .i32⟩
  | 54 => ⟨S1, .i32⟩
  | 55 => ⟨S_, .i32⟩
  | 56 => ⟨S16, .i64⟩
  | 57 => ⟨S_, .i64⟩
  | 58 => ⟨S16, .i64⟩
  | 59 => ⟨S16, .i64⟩
  | 60 => ⟨S_, .i64⟩
  | 61 => ⟨S16, .i64⟩
  | 62 => ⟨S16, .i64⟩
  | 63 => ⟨S16, .i32⟩
  | 64 => ⟨S16, .i32⟩
  | 65 => ⟨S_, .i32⟩
  | 66 => ⟨S_, .i32⟩
  | 67 => ⟨S_, .i32⟩
  | 68 => ⟨S16, .i32⟩
  | 69 => ⟨S16, .i32⟩
  | 70 => ⟨S16, .i32⟩
  | 71 => ⟨S16, .i32⟩
  | 72 => ⟨S16, .i32⟩
  | 73 => ⟨S_, .i32⟩
  | 74 => ⟨S16, .i32⟩
  | 75 => ⟨S16, .i32⟩
  | 76 => ⟨S_, .i32⟩
  | 77 => ⟨S16, .i32⟩
  | 78 => ⟨S16, .i32⟩
  | 79 => ⟨S16, .i32⟩
  | 80 => ⟨S16, .i32⟩
  | 81 => ⟨S16, .i32⟩
  | 82 => ⟨S_, .i32⟩
  | 83 => ⟨S16, .i32⟩
  | 84 => ⟨S16, .i32⟩
  | 85 => ⟨S_, .i32⟩
  | 86 => ⟨S16, .i32⟩
  | 87 => ⟨S16, .i32⟩
  | 88 => ⟨S16, .i32⟩
  | 89 => ⟨S16, .i32⟩
  | 90 => ⟨S16, .i32⟩
  | 91 => ⟨S_, .i32⟩
  | 92 => ⟨S16, .i32⟩
  | 93 => ⟨S16, .i32⟩
  | 94 => ⟨S_, .i32⟩
  | 95 => ⟨S16, .i32⟩
  | 96 => ⟨S16, .i32⟩
  | 97 => ⟨S16, .i32⟩
  | 98 => ⟨S16, .i32⟩
  | 99 => ⟨S16, .i32⟩
  | 100 => ⟨S_, .i32⟩
  | 101 => ⟨S16, .i32⟩
  | 102 => ⟨S16, .i32⟩
  | 103 => ⟨S_, .i32⟩
  | 104 => ⟨S16, .i32⟩
  | 105 => ⟨S16, .i32⟩
  | 106 => ⟨S16, .i32⟩
  | 107 => ⟨S16, .i32⟩
  | 108 => ⟨S16, .i32⟩
  | 109 => ⟨S16, .i32⟩
  | 110 => ⟨S16, .i32⟩
  | 111 => ⟨S16, .i32⟩
  | 112 => ⟨S_, .i32⟩
  | 113 => ⟨S16, .i32⟩
  | 114 => ⟨S16, .i32⟩
  | 115 => ⟨S16, .i32⟩
  | 116 => ⟨S_, .i32⟩
  | 117 => ⟨S16, .i32⟩
  | 118 => ⟨S16, .i32⟩
  | 119 => ⟨S_, .i32⟩
  | 120 => ⟨S16, .i32⟩
  | 121 => ⟨S16, .i32⟩
  | 122 => ⟨S16, .i32⟩
  | 123 => ⟨S16, .i32⟩
  | 124 => ⟨S16, .i32⟩
  | 125 => ⟨S_, .i32⟩
  | 126 => ⟨S16, .i32⟩
  | 127 => ⟨S16, .i32⟩
  | _ => ⟨S16x96x224x224, .f32⟩

abbrev hbmTy0_12 (i : Nat) : BufTy := match i % 128 with
  | 0 => ⟨S_, .i32⟩
  | 1 => ⟨S16, .i32⟩
  | 2 => ⟨S16, .i32⟩
  | 3 => ⟨S16, .i32⟩
  | 4 => ⟨S16, .i32⟩
  | 5 => ⟨S16, .i32⟩
  | 6 => ⟨S_, .i32⟩
  | 7 => ⟨S16, .i32⟩
  | 8 => ⟨S16, .i32⟩
  | 9 => ⟨S_, .i32⟩
  | 10 => ⟨S16, .i32⟩
  | 11 => ⟨S16, .i32⟩
  | 12 => ⟨S16, .i32⟩
  | 13 => ⟨S16, .i32⟩
  | 14 => ⟨S16, .i32⟩
  | 15 => ⟨S_, .i32⟩
  | 16 => ⟨S16, .i32⟩
  | 17 => ⟨S16, .i32⟩
  | 18 => ⟨S_, .i32⟩
  | 19 => ⟨S16, .i32⟩
  | 20 => ⟨S16, .i32⟩
  | 21 => ⟨S16, .i32⟩
  | 22 => ⟨S16, .i32⟩
  | 23 => ⟨S16, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S16, .i32⟩
  | 31 => ⟨S_, .i32⟩
  | 32 => ⟨S16, .i32⟩
  | 33 => ⟨S16, .i32⟩
  | 34 => ⟨S_, .i32⟩
  | 35 => ⟨S16, .i32⟩
  | 36 => ⟨S16, .i32⟩
  | 37 => ⟨S16, .i32⟩
  | 38 => ⟨S16, .i32⟩
  | 39 => ⟨S16, .i32⟩
  | 40 => ⟨S_, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S16, .i32⟩
  | 48 => ⟨S16, .i32⟩
  | 49 => ⟨S_, .i32⟩
  | 50 => ⟨S16, .i32⟩
  | 51 => ⟨S16, .i32⟩
  | 52 => ⟨S_, .i32⟩
  | 53 => ⟨S16, .i32⟩
  | 54 => ⟨S16, .i32⟩
  | 55 => ⟨S16, .i32⟩
  | 56 => ⟨S16, .i32⟩
  | 57 => ⟨S16, .i32⟩
  | 58 => ⟨S_, .i32⟩
  | 59 => ⟨S16, .i32⟩
  | 60 => ⟨S16, .i32⟩
  | 61 => ⟨S_, .i32⟩
  | 62 => ⟨S16, .i32⟩
  | 63 => ⟨S16, .i32⟩
  | 64 => ⟨S16, .i32⟩
  | 65 => ⟨S16, .i32⟩
  | 66 => ⟨S16, .i32⟩
  | 67 => ⟨S16, .i32⟩
  | 68 => ⟨S16, .i32⟩
  | 69 => ⟨S16, .i32⟩
  | 70 => ⟨S_, .i32⟩
  | 71 => ⟨S16, .i32⟩
  | 72 => ⟨S16, .i32⟩
  | 73 => ⟨S16, .i32⟩
  | 74 => ⟨S_, .i32⟩
  | 75 => ⟨S16, .i32⟩
  | 76 => ⟨S16, .i32⟩
  | 77 => ⟨S_, .i32⟩
  | 78 => ⟨S16, .i32⟩
  | 79 => ⟨S16, .i32⟩
  | 80 => ⟨S16, .i32⟩
  | 81 => ⟨S16, .i32⟩
  | 82 => ⟨S16, .i32⟩
  | 83 => ⟨S_, .i32⟩
  | 84 => ⟨S16, .i32⟩
  | 85 => ⟨S16, .i32⟩
  | 86 => ⟨S_, .i32⟩
  | 87 => ⟨S16, .i32⟩
  | 88 => ⟨S16, .i32⟩
  | 89 => ⟨S16, .i32⟩
  | 90 => ⟨S16, .i32⟩
  | 91 => ⟨S16, .i32⟩
  | 92 => ⟨S_, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S16, .i32⟩
  | 100 => ⟨S16, .i32⟩
  | 101 => ⟨S_, .i32⟩
  | 102 => ⟨S16, .i32⟩
  | 103 => ⟨S16, .i32⟩
  | 104 => ⟨S_, .i32⟩
  | 105 => ⟨S16, .i32⟩
  | 106 => ⟨S16, .i32⟩
  | 107 => ⟨S16, .i32⟩
  | 108 => ⟨S16, .i32⟩
  | 109 => ⟨S16, .i32⟩
  | 110 => ⟨S16, .i32⟩
  | 111 => ⟨S16, .i32⟩
  | 112 => ⟨S16, .i32⟩
  | 113 => ⟨S_, .i32⟩
  | 114 => ⟨S16, .i32⟩
  | 115 => ⟨S16, .i32⟩
  | 116 => ⟨S16, .i32⟩
  | 117 => ⟨S_, .i32⟩
  | 118 => ⟨S16, .i32⟩
  | 119 => ⟨S16, .i32⟩
  | 120 => ⟨S_, .i32⟩
  | 121 => ⟨S16, .i32⟩
  | 122 => ⟨S16, .i32⟩
  | 123 => ⟨S16, .i32⟩
  | 124 => ⟨S16, .i32⟩
  | 125 => ⟨S16, .i32⟩
  | 126 => ⟨S_, .i32⟩
  | 127 => ⟨S16, .i32⟩
  | _ => ⟨S16x96x224x224, .f32⟩

abbrev hbmTy0_13 (i : Nat) : BufTy := match i % 128 with
  | 0 => ⟨S16, .i32⟩
  | 1 => ⟨S_, .i32⟩
  | 2 => ⟨S16, .i32⟩
  | 3 => ⟨S16, .i32⟩
  | 4 => ⟨S16, .i32⟩
  | 5 => ⟨S16, .i32⟩
  | 6 => ⟨S16, .i32⟩
  | 7 => ⟨S_, .i32⟩
  | 8 => ⟨S16, .i32⟩
  | 9 => ⟨S16, .i32⟩
  | 10 => ⟨S_, .i32⟩
  | 11 => ⟨S16, .i32⟩
  | 12 => ⟨S16, .i32⟩
  | 13 => ⟨S16, .i32⟩
  | 14 => ⟨S16, .i32⟩
  | 15 => ⟨S16, .i32⟩
  | 16 => ⟨S_, .i32⟩
  | 17 => ⟨S16, .i32⟩
  | 18 => ⟨S16, .i32⟩
  | 19 => ⟨S_, .i32⟩
  | 20 => ⟨S16, .i32⟩
  | 21 => ⟨S16, .i32⟩
  | 22 => ⟨S16, .i32⟩
  | 23 => ⟨S16, .i32⟩
  | 24 => ⟨S16, .i32⟩
  | 25 => ⟨S16, .i32⟩
  | 26 => ⟨S16, .i32⟩
  | 27 => ⟨S16, .i32⟩
  | 28 => ⟨S_, .i32⟩
  | 29 => ⟨S16, .i32⟩
  | 30 => ⟨S16, .i32⟩
  | 31 => ⟨S16, .i32⟩
  | 32 => ⟨S16, .i32⟩
  | 33 => ⟨S16, .i32⟩
  | 34 => ⟨S1x2, .i32⟩
  | 35 => ⟨S2, .i32⟩
  | 36 => ⟨S16, .i32⟩
  | 37 => ⟨S1, .i32⟩
  | 38 => ⟨S_, .i32⟩
  | 39 => ⟨S1, .i32⟩
  | 40 => ⟨S_, .i32⟩
  | 41 => ⟨S2, .i64⟩
  | 42 => ⟨S_, .i64⟩
  | 43 => ⟨S2, .i64⟩
  | 44 => ⟨S2, .i64⟩
  | 45 => ⟨S_, .i64⟩
  | 46 => ⟨S2, .i64⟩
  | 47 => ⟨S2, .i64⟩
  | 48 => ⟨S2, .i32⟩
  | 49 => ⟨S2, .i32⟩
  | 50 => ⟨S_, .i32⟩
  | 51 => ⟨S_, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16x96x224x224, .f32⟩

abbrev hbmTy0_14 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S16x96x224x224, .f32⟩

abbrev hbmTy0_15 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S2x1, .i32⟩
  | 17 => ⟨S2x1, .i32⟩
  | 18 => ⟨S2x2, .i32⟩
  | 19 => ⟨S1x2, .i32⟩
  | 20 => ⟨S2, .i32⟩
  | 21 => ⟨S1x2, .i32⟩
  | 22 => ⟨S2, .i32⟩
  | 23 => ⟨S1, .i32⟩
  | 24 => ⟨S_, .i32⟩
  | 25 => ⟨S1, .i32⟩
  | 26 => ⟨S_, .i32⟩
  | 27 => ⟨S16, .i64⟩
  | 28 => ⟨S_, .i64⟩
  | 29 => ⟨S16, .i64⟩
  | 30 => ⟨S16, .i64⟩
  | 31 => ⟨S_, .i64⟩
  | 32 => ⟨S16, .i64⟩
  | 33 => ⟨S16, .i64⟩
  | 34 => ⟨S16, .i32⟩
  | 35 => ⟨S16, .i32⟩
  | 36 => ⟨S_, .i32⟩
  | 37 => ⟨S_, .i32⟩
  | 38 => ⟨S_, .i32⟩
  | 39 => ⟨S16, .i32⟩
  | 40 => ⟨S16, .i32⟩
  | 41 => ⟨S16, .i32⟩
  | 42 => ⟨S16, .i32⟩
  | 43 => ⟨S16, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S16, .i32⟩
  | 51 => ⟨S16, .i32⟩
  | 52 => ⟨S16, .i32⟩
  | 53 => ⟨S_, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S16, .i32⟩
  | 61 => ⟨S16, .i32⟩
  | 62 => ⟨S_, .i32⟩
  | 63 => ⟨S16, .i32⟩
  | 64 => ⟨S16, .i32⟩
  | 65 => ⟨S_, .i32⟩
  | 66 => ⟨S16, .i32⟩
  | 67 => ⟨S16, .i32⟩
  | 68 => ⟨S16, .i32⟩
  | 69 => ⟨S16, .i32⟩
  | 70 => ⟨S16, .i32⟩
  | 71 => ⟨S_, .i32⟩
  | 72 => ⟨S16, .i32⟩
  | 73 => ⟨S16, .i32⟩
  | 74 => ⟨S_, .i32⟩
  | 75 => ⟨S16, .i32⟩
  | 76 => ⟨S16, .i32⟩
  | 77 => ⟨S16, .i32⟩
  | 78 => ⟨S16, .i32⟩
  | 79 => ⟨S16, .i32⟩
  | 80 => ⟨S16, .i32⟩
  | 81 => ⟨S16, .i32⟩
  | 82 => ⟨S16, .i32⟩
  | 83 => ⟨S_, .i32⟩
  | 84 => ⟨S16, .i32⟩
  | 85 => ⟨S16, .i32⟩
  | 86 => ⟨S16, .i32⟩
  | 87 => ⟨S_, .i32⟩
  | 88 => ⟨S16, .i32⟩
  | 89 => ⟨S16, .i32⟩
  | 90 => ⟨S_, .i32⟩
  | 91 => ⟨S16, .i32⟩
  | 92 => ⟨S16, .i32⟩
  | 93 => ⟨S16, .i32⟩
  | 94 => ⟨S16, .i32⟩
  | 95 => ⟨S16, .i32⟩
  | 96 => ⟨S_, .i32⟩
  | 97 => ⟨S16, .i32⟩
  | 98 => ⟨S16, .i32⟩
  | 99 => ⟨S_, .i32⟩
  | 100 => ⟨S16, .i32⟩
  | 101 => ⟨S16, .i32⟩
  | 102 => ⟨S16, .i32⟩
  | 103 => ⟨S16, .i32⟩
  | 104 => ⟨S16, .i32⟩
  | 105 => ⟨S_, .i32⟩
  | 106 => ⟨S16, .i32⟩
  | 107 => ⟨S16, .i32⟩
  | 108 => ⟨S_, .i32⟩
  | 109 => ⟨S16, .i32⟩
  | 110 => ⟨S16, .i32⟩
  | 111 => ⟨S16, .i32⟩
  | 112 => ⟨S16, .i32⟩
  | 113 => ⟨S16, .i32⟩
  | 114 => ⟨S_, .i32⟩
  | 115 => ⟨S16, .i32⟩
  | 116 => ⟨S16, .i32⟩
  | 117 => ⟨S_, .i32⟩
  | 118 => ⟨S16, .i32⟩
  | 119 => ⟨S16, .i32⟩
  | 120 => ⟨S16, .i32⟩
  | 121 => ⟨S16, .i32⟩
  | 122 => ⟨S16, .i32⟩
  | 123 => ⟨S16, .i32⟩
  | 124 => ⟨S16, .i32⟩
  | 125 => ⟨S16, .i32⟩
  | 126 => ⟨S_, .i32⟩
  | 127 => ⟨S16, .i32⟩
  | _ => ⟨S16x96x224x224, .f32⟩

abbrev hbmTy0_16 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S_, .i32⟩
  | 6 => ⟨S16, .i32⟩
  | 7 => ⟨S16, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S_, .i32⟩
  | 15 => ⟨S16, .i32⟩
  | 16 => ⟨S16, .i32⟩
  | 17 => ⟨S16, .i32⟩
  | 18 => ⟨S16, .i32⟩
  | 19 => ⟨S16, .i32⟩
  | 20 => ⟨S_, .i32⟩
  | 21 => ⟨S16, .i32⟩
  | 22 => ⟨S16, .i32⟩
  | 23 => ⟨S_, .i32⟩
  | 24 => ⟨S16, .i32⟩
  | 25 => ⟨S16, .i32⟩
  | 26 => ⟨S16, .i32⟩
  | 27 => ⟨S16, .i32⟩
  | 28 => ⟨S16, .i32⟩
  | 29 => ⟨S_, .i32⟩
  | 30 => ⟨S16, .i32⟩
  | 31 => ⟨S16, .i32⟩
  | 32 => ⟨S_, .i32⟩
  | 33 => ⟨S16, .i32⟩
  | 34 => ⟨S16, .i32⟩
  | 35 => ⟨S16, .i32⟩
  | 36 => ⟨S16, .i32⟩
  | 37 => ⟨S16, .i32⟩
  | 38 => ⟨S16, .i32⟩
  | 39 => ⟨S16, .i32⟩
  | 40 => ⟨S16, .i32⟩
  | 41 => ⟨S_, .i32⟩
  | 42 => ⟨S16, .i32⟩
  | 43 => ⟨S16, .i32⟩
  | 44 => ⟨S16, .i32⟩
  | 45 => ⟨S_, .i32⟩
  | 46 => ⟨S16, .i32⟩
  | 47 => ⟨S16, .i32⟩
  | 48 => ⟨S_, .i32⟩
  | 49 => ⟨S16, .i32⟩
  | 50 => ⟨S16, .i32⟩
  | 51 => ⟨S16, .i32⟩
  | 52 => ⟨S16, .i32⟩
  | 53 => ⟨S16, .i32⟩
  | 54 => ⟨S_, .i32⟩
  | 55 => ⟨S16, .i32⟩
  | 56 => ⟨S16, .i32⟩
  | 57 => ⟨S_, .i32⟩
  | 58 => ⟨S16, .i32⟩
  | 59 => ⟨S16, .i32⟩
  | 60 => ⟨S16, .i32⟩
  | 61 => ⟨S16, .i32⟩
  | 62 => ⟨S16, .i32⟩
  | 63 => ⟨S_, .i32⟩
  | 64 => ⟨S16, .i32⟩
  | 65 => ⟨S16, .i32⟩
  | 66 => ⟨S_, .i32⟩
  | 67 => ⟨S16, .i32⟩
  | 68 => ⟨S16, .i32⟩
  | 69 => ⟨S16, .i32⟩
  | 70 => ⟨S16, .i32⟩
  | 71 => ⟨S16, .i32⟩
  | 72 => ⟨S_, .i32⟩
  | 73 => ⟨S16, .i32⟩
  | 74 => ⟨S16, .i32⟩
  | 75 => ⟨S_, .i32⟩
  | 76 => ⟨S16, .i32⟩
  | 77 => ⟨S16, .i32⟩
  | 78 => ⟨S16, .i32⟩
  | 79 => ⟨S16, .i32⟩
  | 80 => ⟨S16, .i32⟩
  | 81 => ⟨S16, .i32⟩
  | 82 => ⟨S16, .i32⟩
  | 83 => ⟨S16, .i32⟩
  | 84 => ⟨S_, .i32⟩
  | 85 => ⟨S16, .i32⟩
  | 86 => ⟨S16, .i32⟩
  | 87 => ⟨S16, .i32⟩
  | 88 => ⟨S_, .i32⟩
  | 89 => ⟨S16, .i32⟩
  | 90 => ⟨S16, .i32⟩
  | 91 => ⟨S_, .i32⟩
  | 92 => ⟨S16, .i32⟩
  | 93 => ⟨S16, .i32⟩
  | 94 => ⟨S16, .i32⟩
  | 95 => ⟨S16, .i32⟩
  | 96 => ⟨S16, .i32⟩
  | 97 => ⟨S_, .i32⟩
  | 98 => ⟨S16, .i32⟩
  | 99 => ⟨S16, .i32⟩
  | 100 => ⟨S_, .i32⟩
  | 101 => ⟨S16, .i32⟩
  | 102 => ⟨S16, .i32⟩
  | 103 => ⟨S16, .i32⟩
  | 104 => ⟨S16, .i32⟩
  | 105 => ⟨S16, .i32⟩
  | 106 => ⟨S_, .i32⟩
  | 107 => ⟨S16, .i32⟩
  | 108 => ⟨S16, .i32⟩
  | 109 => ⟨S_, .i32⟩
  | 110 => ⟨S16, .i32⟩
  | 111 => ⟨S16, .i32⟩
  | 112 => ⟨S16, .i32⟩
  | 113 => ⟨S16, .i32⟩
  | 114 => ⟨S16, .i32⟩
  | 115 => ⟨S_, .i32⟩
  | 116 => ⟨S16, .i32⟩
  | 117 => ⟨S16, .i32⟩
  | 118 => ⟨S_, .i32⟩
  | 119 => ⟨S16, .i32⟩
  | 120 => ⟨S16, .i32⟩
  | 121 => ⟨S16, .i32⟩
  | 122 => ⟨S16, .i32⟩
  | 123 => ⟨S16, .i32⟩
  | 124 => ⟨S16, .i32⟩
  | 125 => ⟨S16, .i32⟩
  | 126 => ⟨S16, .i32⟩
  | 127 => ⟨S_, .i32⟩
  | _ => ⟨S16x96x224x224, .f32⟩

abbrev hbmTy0_17 (i : Nat) : BufTy := match i % 128 with
  | 0 => ⟨S16, .i32⟩
  | 1 => ⟨S16, .i32⟩
  | 2 => ⟨S16, .i32⟩
  | 3 => ⟨S16, .i32⟩
  | 4 => ⟨S16, .i32⟩
  | 5 => ⟨S1x2, .i32⟩
  | 6 => ⟨S2, .i32⟩
  | 7 => ⟨S16, .i32⟩
  | 8 => ⟨S1, .i32⟩
  | 9 => ⟨S_, .i32⟩
  | 10 => ⟨S1, .i32⟩
  | 11 => ⟨S_, .i32⟩
  | 12 => ⟨S2, .i64⟩
  | 13 => ⟨S_, .i64⟩
  | 14 => ⟨S2, .i64⟩
  | 15 => ⟨S2, .i64⟩
  | 16 => ⟨S_, .i64⟩
  | 17 => ⟨S2, .i64⟩
  | 18 => ⟨S2, .i64⟩
  | 19 => ⟨S2, .i32⟩
  | 20 => ⟨S2, .i32⟩
  | 21 => ⟨S_, .i32⟩
  | 22 => ⟨S_, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S16x96x224x224, .f32⟩

abbrev hbmTy0_18 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S2x1, .i32⟩
  | 116 => ⟨S2x1, .i32⟩
  | 117 => ⟨S2x2, .i32⟩
  | 118 => ⟨S1x2, .i32⟩
  | 119 => ⟨S2, .i32⟩
  | 120 => ⟨S1x2, .i32⟩
  | 121 => ⟨S2, .i32⟩
  | 122 => ⟨S1, .i32⟩
  | 123 => ⟨S_, .i32⟩
  | 124 => ⟨S1, .i32⟩
  | 125 => ⟨S_, .i32⟩
  | 126 => ⟨S16, .i64⟩
  | 127 => ⟨S_, .i64⟩
  | _ => ⟨S16x96x224x224, .f32⟩

abbrev hbmTy0_19 (i : Nat) : BufTy := match i % 128 with
  | 0 => ⟨S16, .i64⟩
  | 1 => ⟨S16, .i64⟩
  | 2 => ⟨S_, .i64⟩
  | 3 => ⟨S16, .i64⟩
  | 4 => ⟨S16, .i64⟩
  | 5 => ⟨S16, .i32⟩
  | 6 => ⟨S16, .i32⟩
  | 7 => ⟨S_, .i32⟩
  | 8 => ⟨S_, .i32⟩
  | 9 => ⟨S_, .i32⟩
  | 10 => ⟨S16, .i32⟩
  | 11 => ⟨S16, .i32⟩
  | 12 => ⟨S16, .i32⟩
  | 13 => ⟨S16, .i32⟩
  | 14 => ⟨S16, .i32⟩
  | 15 => ⟨S_, .i32⟩
  | 16 => ⟨S16, .i32⟩
  | 17 => ⟨S16, .i32⟩
  | 18 => ⟨S_, .i32⟩
  | 19 => ⟨S16, .i32⟩
  | 20 => ⟨S16, .i32⟩
  | 21 => ⟨S16, .i32⟩
  | 22 => ⟨S16, .i32⟩
  | 23 => ⟨S16, .i32⟩
  | 24 => ⟨S_, .i32⟩
  | 25 => ⟨S16, .i32⟩
  | 26 => ⟨S16, .i32⟩
  | 27 => ⟨S_, .i32⟩
  | 28 => ⟨S16, .i32⟩
  | 29 => ⟨S16, .i32⟩
  | 30 => ⟨S16, .i32⟩
  | 31 => ⟨S16, .i32⟩
  | 32 => ⟨S16, .i32⟩
  | 33 => ⟨S_, .i32⟩
  | 34 => ⟨S16, .i32⟩
  | 35 => ⟨S16, .i32⟩
  | 36 => ⟨S_, .i32⟩
  | 37 => ⟨S16, .i32⟩
  | 38 => ⟨S16, .i32⟩
  | 39 => ⟨S16, .i32⟩
  | 40 => ⟨S16, .i32⟩
  | 41 => ⟨S16, .i32⟩
  | 42 => ⟨S_, .i32⟩
  | 43 => ⟨S16, .i32⟩
  | 44 => ⟨S16, .i32⟩
  | 45 => ⟨S_, .i32⟩
  | 46 => ⟨S16, .i32⟩
  | 47 => ⟨S16, .i32⟩
  | 48 => ⟨S16, .i32⟩
  | 49 => ⟨S16, .i32⟩
  | 50 => ⟨S16, .i32⟩
  | 51 => ⟨S16, .i32⟩
  | 52 => ⟨S16, .i32⟩
  | 53 => ⟨S16, .i32⟩
  | 54 => ⟨S_, .i32⟩
  | 55 => ⟨S16, .i32⟩
  | 56 => ⟨S16, .i32⟩
  | 57 => ⟨S16, .i32⟩
  | 58 => ⟨S_, .i32⟩
  | 59 => ⟨S16, .i32⟩
  | 60 => ⟨S16, .i32⟩
  | 61 => ⟨S_, .i32⟩
  | 62 => ⟨S16, .i32⟩
  | 63 => ⟨S16, .i32⟩
  | 64 => ⟨S16, .i32⟩
  | 65 => ⟨S16, .i32⟩
  | 66 => ⟨S16, .i32⟩
  | 67 => ⟨S_, .i32⟩
  | 68 => ⟨S16, .i32⟩
  | 69 => ⟨S16, .i32⟩
  | 70 => ⟨S_, .i32⟩
  | 71 => ⟨S16, .i32⟩
  | 72 => ⟨S16, .i32⟩
  | 73 => ⟨S16, .i32⟩
  | 74 => ⟨S16, .i32⟩
  | 75 => ⟨S16, .i32⟩
  | 76 => ⟨S_, .i32⟩
  | 77 => ⟨S16, .i32⟩
  | 78 => ⟨S16, .i32⟩
  | 79 => ⟨S_, .i32⟩
  | 80 => ⟨S16, .i32⟩
  | 81 => ⟨S16, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S_, .i32⟩
  | 89 => ⟨S16, .i32⟩
  | 90 => ⟨S16, .i32⟩
  | 91 => ⟨S16, .i32⟩
  | 92 => ⟨S16, .i32⟩
  | 93 => ⟨S16, .i32⟩
  | 94 => ⟨S16, .i32⟩
  | 95 => ⟨S16, .i32⟩
  | 96 => ⟨S16, .i32⟩
  | 97 => ⟨S_, .i32⟩
  | 98 => ⟨S16, .i32⟩
  | 99 => ⟨S16, .i32⟩
  | 100 => ⟨S16, .i32⟩
  | 101 => ⟨S_, .i32⟩
  | 102 => ⟨S16, .i32⟩
  | 103 => ⟨S16, .i32⟩
  | 104 => ⟨S_, .i32⟩
  | 105 => ⟨S16, .i32⟩
  | 106 => ⟨S16, .i32⟩
  | 107 => ⟨S16, .i32⟩
  | 108 => ⟨S16, .i32⟩
  | 109 => ⟨S16, .i32⟩
  | 110 => ⟨S_, .i32⟩
  | 111 => ⟨S16, .i32⟩
  | 112 => ⟨S16, .i32⟩
  | 113 => ⟨S_, .i32⟩
  | 114 => ⟨S16, .i32⟩
  | 115 => ⟨S16, .i32⟩
  | 116 => ⟨S16, .i32⟩
  | 117 => ⟨S16, .i32⟩
  | 118 => ⟨S16, .i32⟩
  | 119 => ⟨S_, .i32⟩
  | 120 => ⟨S16, .i32⟩
  | 121 => ⟨S16, .i32⟩
  | 122 => ⟨S_, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_20 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i32⟩
  | 6 => ⟨S16, .i32⟩
  | 7 => ⟨S16, .i32⟩
  | 8 => ⟨S16, .i32⟩
  | 9 => ⟨S16, .i32⟩
  | 10 => ⟨S16, .i32⟩
  | 11 => ⟨S16, .i32⟩
  | 12 => ⟨S_, .i32⟩
  | 13 => ⟨S16, .i32⟩
  | 14 => ⟨S16, .i32⟩
  | 15 => ⟨S16, .i32⟩
  | 16 => ⟨S_, .i32⟩
  | 17 => ⟨S16, .i32⟩
  | 18 => ⟨S16, .i32⟩
  | 19 => ⟨S_, .i32⟩
  | 20 => ⟨S16, .i32⟩
  | 21 => ⟨S16, .i32⟩
  | 22 => ⟨S16, .i32⟩
  | 23 => ⟨S16, .i32⟩
  | 24 => ⟨S16, .i32⟩
  | 25 => ⟨S_, .i32⟩
  | 26 => ⟨S16, .i32⟩
  | 27 => ⟨S16, .i32⟩
  | 28 => ⟨S_, .i32⟩
  | 29 => ⟨S16, .i32⟩
  | 30 => ⟨S16, .i32⟩
  | 31 => ⟨S16, .i32⟩
  | 32 => ⟨S16, .i32⟩
  | 33 => ⟨S16, .i32⟩
  | 34 => ⟨S_, .i32⟩
  | 35 => ⟨S16, .i32⟩
  | 36 => ⟨S16, .i32⟩
  | 37 => ⟨S_, .i32⟩
  | 38 => ⟨S16, .i32⟩
  | 39 => ⟨S16, .i32⟩
  | 40 => ⟨S16, .i32⟩
  | 41 => ⟨S16, .i32⟩
  | 42 => ⟨S16, .i32⟩
  | 43 => ⟨S_, .i32⟩
  | 44 => ⟨S16, .i32⟩
  | 45 => ⟨S16, .i32⟩
  | 46 => ⟨S_, .i32⟩
  | 47 => ⟨S16, .i32⟩
  | 48 => ⟨S16, .i32⟩
  | 49 => ⟨S16, .i32⟩
  | 50 => ⟨S16, .i32⟩
  | 51 => ⟨S16, .i32⟩
  | 52 => ⟨S16, .i32⟩
  | 53 => ⟨S16, .i32⟩
  | 54 => ⟨S16, .i32⟩
  | 55 => ⟨S_, .i32⟩
  | 56 => ⟨S16, .i32⟩
  | 57 => ⟨S16, .i32⟩
  | 58 => ⟨S16, .i32⟩
  | 59 => ⟨S_, .i32⟩
  | 60 => ⟨S16, .i32⟩
  | 61 => ⟨S16, .i32⟩
  | 62 => ⟨S_, .i32⟩
  | 63 => ⟨S16, .i32⟩
  | 64 => ⟨S16, .i32⟩
  | 65 => ⟨S16, .i32⟩
  | 66 => ⟨S16, .i32⟩
  | 67 => ⟨S16, .i32⟩
  | 68 => ⟨S_, .i32⟩
  | 69 => ⟨S16, .i32⟩
  | 70 => ⟨S16, .i32⟩
  | 71 => ⟨S_, .i32⟩
  | 72 => ⟨S16, .i32⟩
  | 73 => ⟨S16, .i32⟩
  | 74 => ⟨S16, .i32⟩
  | 75 => ⟨S16, .i32⟩
  | 76 => ⟨S16, .i32⟩
  | 77 => ⟨S_, .i32⟩
  | 78 => ⟨S16, .i32⟩
  | 79 => ⟨S16, .i32⟩
  | 80 => ⟨S_, .i32⟩
  | 81 => ⟨S16, .i32⟩
  | 82 => ⟨S16, .i32⟩
  | 83 => ⟨S16, .i32⟩
  | 84 => ⟨S16, .i32⟩
  | 85 => ⟨S16, .i32⟩
  | 86 => ⟨S_, .i32⟩
  | 87 => ⟨S16, .i32⟩
  | 88 => ⟨S16, .i32⟩
  | 89 => ⟨S_, .i32⟩
  | 90 => ⟨S16, .i32⟩
  | 91 => ⟨S16, .i32⟩
  | 92 => ⟨S16, .i32⟩
  | 93 => ⟨S16, .i32⟩
  | 94 => ⟨S16, .i32⟩
  | 95 => ⟨S16, .i32⟩
  | 96 => ⟨S16, .i32⟩
  | 97 => ⟨S16, .i32⟩
  | 98 => ⟨S_, .i32⟩
  | 99 => ⟨S16, .i32⟩
  | 100 => ⟨S16, .i32⟩
  | 101 => ⟨S16, .i32⟩
  | 102 => ⟨S16, .i32⟩
  | 103 => ⟨S16, .i32⟩
  | 104 => ⟨S1x2, .i32⟩
  | 105 => ⟨S2, .i32⟩
  | 106 => ⟨S16, .i32⟩
  | 107 => ⟨S1, .i32⟩
  | 108 => ⟨S_, .i32⟩
  | 109 => ⟨S1, .i32⟩
  | 110 => ⟨S_, .i32⟩
  | 111 => ⟨S2, .i64⟩
  | 112 => ⟨S_, .i64⟩
  | 113 => ⟨S2, .i64⟩
  | 114 => ⟨S2, .i64⟩
  | 115 => ⟨S_, .i64⟩
  | 116 => ⟨S2, .i64⟩
  | 117 => ⟨S2, .i64⟩
  | 118 => ⟨S2, .i32⟩
  | 119 => ⟨S2, .i32⟩
  | 120 => ⟨S_, .i32⟩
  | 121 => ⟨S_, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16x96x224x224, .f32⟩

abbrev hbmTy0_21 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_22 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2x1, .i32⟩
  | 87 => ⟨S2x1, .i32⟩
  | 88 => ⟨S2x2, .i32⟩
  | 89 => ⟨S1x2, .i32⟩
  | 90 => ⟨S2, .i32⟩
  | 91 => ⟨S1x2, .i32⟩
  | 92 => ⟨S2, .i32⟩
  | 93 => ⟨S1, .i32⟩
  | 94 => ⟨S_, .i32⟩
  | 95 => ⟨S1, .i32⟩
  | 96 => ⟨S_, .i32⟩
  | 97 => ⟨S16, .i64⟩
  | 98 => ⟨S_, .i64⟩
  | 99 => ⟨S16, .i64⟩
  | 100 => ⟨S16, .i64⟩
  | 101 => ⟨S_, .i64⟩
  | 102 => ⟨S16, .i64⟩
  | 103 => ⟨S16, .i64⟩
  | 104 => ⟨S16, .i32⟩
  | 105 => ⟨S16, .i32⟩
  | 106 => ⟨S_, .i32⟩
  | 107 => ⟨S_, .i32⟩
  | 108 => ⟨S_, .i32⟩
  | 109 => ⟨S16, .i32⟩
  | 110 => ⟨S16, .i32⟩
  | 111 => ⟨S16, .i32⟩
  | 112 => ⟨S16, .i32⟩
  | 113 => ⟨S16, .i32⟩
  | 114 => ⟨S_, .i32⟩
  | 115 => ⟨S16, .i32⟩
  | 116 => ⟨S16, .i32⟩
  | 117 => ⟨S_, .i32⟩
  | 118 => ⟨S16, .i32⟩
  | 119 => ⟨S16, .i32⟩
  | 120 => ⟨S16, .i32⟩
  | 121 => ⟨S16, .i32⟩
  | 122 => ⟨S16, .i32⟩
  | 123 => ⟨S_, .i32⟩
  | 124 => ⟨S16, .i32⟩
  | 125 => ⟨S16, .i32⟩
  | 126 => ⟨S_, .i32⟩
  | 127 => ⟨S16, .i32⟩
  | _ => ⟨S16x96x224x224, .f32⟩

abbrev hbmTy0_23 (i : Nat) : BufTy := match i % 128 with
  | 0 => ⟨S16, .i32⟩
  | 1 => ⟨S16, .i32⟩
  | 2 => ⟨S16, .i32⟩
  | 3 => ⟨S16, .i32⟩
  | 4 => ⟨S_, .i32⟩
  | 5 => ⟨S16, .i32⟩
  | 6 => ⟨S16, .i32⟩
  | 7 => ⟨S_, .i32⟩
  | 8 => ⟨S16, .i32⟩
  | 9 => ⟨S16, .i32⟩
  | 10 => ⟨S16, .i32⟩
  | 11 => ⟨S16, .i32⟩
  | 12 => ⟨S16, .i32⟩
  | 13 => ⟨S_, .i32⟩
  | 14 => ⟨S16, .i32⟩
  | 15 => ⟨S16, .i32⟩
  | 16 => ⟨S_, .i32⟩
  | 17 => ⟨S16, .i32⟩
  | 18 => ⟨S16, .i32⟩
  | 19 => ⟨S16, .i32⟩
  | 20 => ⟨S16, .i32⟩
  | 21 => ⟨S16, .i32⟩
  | 22 => ⟨S16, .i32⟩
  | 23 => ⟨S16, .i32⟩
  | 24 => ⟨S16, .i32⟩
  | 25 => ⟨S_, .i32⟩
  | 26 => ⟨S16, .i32⟩
  | 27 => ⟨S16, .i32⟩
  | 28 => ⟨S16, .i32⟩
  | 29 => ⟨S_, .i32⟩
  | 30 => ⟨S16, .i32⟩
  | 31 => ⟨S16, .i32⟩
  | 32 => ⟨S_, .i32⟩
  | 33 => ⟨S16, .i32⟩
  | 34 => ⟨S16, .i32⟩
  | 35 => ⟨S16, .i32⟩
  | 36 => ⟨S16, .i32⟩
  | 37 => ⟨S16, .i32⟩
  | 38 => ⟨S_, .i32⟩
  | 39 => ⟨S16, .i32⟩
  | 40 => ⟨S16, .i32⟩
  | 41 => ⟨S_, .i32⟩
  | 42 => ⟨S16, .i32⟩
  | 43 => ⟨S16, .i32⟩
  | 44 => ⟨S16, .i32⟩
  | 45 => ⟨S16, .i32⟩
  | 46 => ⟨S16, .i32⟩
  | 47 => ⟨S_, .i32⟩
  | 48 => ⟨S16, .i32⟩
  | 49 => ⟨S16, .i32⟩
  | 50 => ⟨S_, .i32⟩
  | 51 => ⟨S16, .i32⟩
  | 52 => ⟨S16, .i32⟩
  | 53 => ⟨S16, .i32⟩
  | 54 => ⟨S16, .i32⟩
  | 55 => ⟨S16, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .i32⟩
  | 63 => ⟨S16, .i32⟩
  | 64 => ⟨S16, .i32⟩
  | 65 => ⟨S16, .i32⟩
  | 66 => ⟨S16, .i32⟩
  | 67 => ⟨S16, .i32⟩
  | 68 => ⟨S_, .i32⟩
  | 69 => ⟨S16, .i32⟩
  | 70 => ⟨S16, .i32⟩
  | 71 => ⟨S16, .i32⟩
  | 72 => ⟨S_, .i32⟩
  | 73 => ⟨S16, .i32⟩
  | 74 => ⟨S16, .i32⟩
  | 75 => ⟨S_, .i32⟩
  | 76 => ⟨S16, .i32⟩
  | 77 => ⟨S16, .i32⟩
  | 78 => ⟨S16, .i32⟩
  | 79 => ⟨S16, .i32⟩
  | 80 => ⟨S16, .i32⟩
  | 81 => ⟨S_, .i32⟩
  | 82 => ⟨S16, .i32⟩
  | 83 => ⟨S16, .i32⟩
  | 84 => ⟨S_, .i32⟩
  | 85 => ⟨S16, .i32⟩
  | 86 => ⟨S16, .i32⟩
  | 87 => ⟨S16, .i32⟩
  | 88 => ⟨S16, .i32⟩
  | 89 => ⟨S16, .i32⟩
  | 90 => ⟨S_, .i32⟩
  | 91 => ⟨S16, .i32⟩
  | 92 => ⟨S16, .i32⟩
  | 93 => ⟨S_, .i32⟩
  | 94 => ⟨S16, .i32⟩
  | 95 => ⟨S16, .i32⟩
  | 96 => ⟨S16, .i32⟩
  | 97 => ⟨S16, .i32⟩
  | 98 => ⟨S16, .i32⟩
  | 99 => ⟨S_, .i32⟩
  | 100 => ⟨S16, .i32⟩
  | 101 => ⟨S16, .i32⟩
  | 102 => ⟨S_, .i32⟩
  | 103 => ⟨S16, .i32⟩
  | 104 => ⟨S16, .i32⟩
  | 105 => ⟨S16, .i32⟩
  | 106 => ⟨S16, .i32⟩
  | 107 => ⟨S16, .i32⟩
  | 108 => ⟨S16, .i32⟩
  | 109 => ⟨S16, .i32⟩
  | 110 => ⟨S16, .i32⟩
  | 111 => ⟨S_, .i32⟩
  | 112 => ⟨S16, .i32⟩
  | 113 => ⟨S16, .i32⟩
  | 114 => ⟨S16, .i32⟩
  | 115 => ⟨S_, .i32⟩
  | 116 => ⟨S16, .i32⟩
  | 117 => ⟨S16, .i32⟩
  | 118 => ⟨S_, .i32⟩
  | 119 => ⟨S16, .i32⟩
  | 120 => ⟨S16, .i32⟩
  | 121 => ⟨S16, .i32⟩
  | 122 => ⟨S16, .i32⟩
  | 123 => ⟨S16, .i32⟩
  | 124 => ⟨S_, .i32⟩
  | 125 => ⟨S16, .i32⟩
  | 126 => ⟨S16, .i32⟩
  | 127 => ⟨S_, .i32⟩
  | _ => ⟨S16x96x224x224, .f32⟩

abbrev hbmTy0_24 (i : Nat) : BufTy := match i % 128 with
  | 0 => ⟨S16, .i32⟩
  | 1 => ⟨S16, .i32⟩
  | 2 => ⟨S16, .i32⟩
  | 3 => ⟨S16, .i32⟩
  | 4 => ⟨S16, .i32⟩
  | 5 => ⟨S_, .i32⟩
  | 6 => ⟨S16, .i32⟩
  | 7 => ⟨S16, .i32⟩
  | 8 => ⟨S_, .i32⟩
  | 9 => ⟨S16, .i32⟩
  | 10 => ⟨S16, .i32⟩
  | 11 => ⟨S16, .i32⟩
  | 12 => ⟨S16, .i32⟩
  | 13 => ⟨S16, .i32⟩
  | 14 => ⟨S_, .i32⟩
  | 15 => ⟨S16, .i32⟩
  | 16 => ⟨S16, .i32⟩
  | 17 => ⟨S_, .i32⟩
  | 18 => ⟨S16, .i32⟩
  | 19 => ⟨S16, .i32⟩
  | 20 => ⟨S16, .i32⟩
  | 21 => ⟨S16, .i32⟩
  | 22 => ⟨S16, .i32⟩
  | 23 => ⟨S16, .i32⟩
  | 24 => ⟨S16, .i32⟩
  | 25 => ⟨S16, .i32⟩
  | 26 => ⟨S_, .i32⟩
  | 27 => ⟨S16, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16, .i32⟩
  | 35 => ⟨S16, .i32⟩
  | 36 => ⟨S16, .i32⟩
  | 37 => ⟨S16, .i32⟩
  | 38 => ⟨S16, .i32⟩
  | 39 => ⟨S_, .i32⟩
  | 40 => ⟨S16, .i32⟩
  | 41 => ⟨S16, .i32⟩
  | 42 => ⟨S_, .i32⟩
  | 43 => ⟨S16, .i32⟩
  | 44 => ⟨S16, .i32⟩
  | 45 => ⟨S16, .i32⟩
  | 46 => ⟨S16, .i32⟩
  | 47 => ⟨S16, .i32⟩
  | 48 => ⟨S_, .i32⟩
  | 49 => ⟨S16, .i32⟩
  | 50 => ⟨S16, .i32⟩
  | 51 => ⟨S_, .i32⟩
  | 52 => ⟨S16, .i32⟩
  | 53 => ⟨S16, .i32⟩
  | 54 => ⟨S16, .i32⟩
  | 55 => ⟨S16, .i32⟩
  | 56 => ⟨S16, .i32⟩
  | 57 => ⟨S_, .i32⟩
  | 58 => ⟨S16, .i32⟩
  | 59 => ⟨S16, .i32⟩
  | 60 => ⟨S_, .i32⟩
  | 61 => ⟨S16, .i32⟩
  | 62 => ⟨S16, .i32⟩
  | 63 => ⟨S16, .i32⟩
  | 64 => ⟨S16, .i32⟩
  | 65 => ⟨S16, .i32⟩
  | 66 => ⟨S16, .i32⟩
  | 67 => ⟨S16, .i32⟩
  | 68 => ⟨S16, .i32⟩
  | 69 => ⟨S_, .i32⟩
  | 70 => ⟨S16, .i32⟩
  | 71 => ⟨S16, .i32⟩
  | 72 => ⟨S16, .i32⟩
  | 73 => ⟨S16, .i32⟩
  | 74 => ⟨S16, .i32⟩
  | 75 => ⟨S1x2, .i32⟩
  | 76 => ⟨S2, .i32⟩
  | 77 => ⟨S16, .i32⟩
  | 78 => ⟨S1, .i32⟩
  | 79 => ⟨S_, .i32⟩
  | 80 => ⟨S1, .i32⟩
  | 81 => ⟨S_, .i32⟩
  | 82 => ⟨S2, .i64⟩
  | 83 => ⟨S_, .i64⟩
  | 84 => ⟨S2, .i64⟩
  | 85 => ⟨S2, .i64⟩
  | 86 => ⟨S_, .i64⟩
  | 87 => ⟨S2, .i64⟩
  | 88 => ⟨S2, .i64⟩
  | 89 => ⟨S2, .i32⟩
  | 90 => ⟨S2, .i32⟩
  | 91 => ⟨S_, .i32⟩
  | 92 => ⟨S_, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x96x224x224, .f32⟩

abbrev hbmTy0_25 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16x96x224x224, .f32⟩

abbrev hbmTy0_26 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S2x1, .i32⟩
  | 58 => ⟨S2x1, .i32⟩
  | 59 => ⟨S2x2, .i32⟩
  | 60 => ⟨S1x2, .i32⟩
  | 61 => ⟨S2, .i32⟩
  | 62 => ⟨S1x2, .i32⟩
  | 63 => ⟨S2, .i32⟩
  | 64 => ⟨S1, .i32⟩
  | 65 => ⟨S_, .i32⟩
  | 66 => ⟨S1, .i32⟩
  | 67 => ⟨S_, .i32⟩
  | 68 => ⟨S16, .i64⟩
  | 69 => ⟨S_, .i64⟩
  | 70 => ⟨S16, .i64⟩
  | 71 => ⟨S16, .i64⟩
  | 72 => ⟨S_, .i64⟩
  | 73 => ⟨S16, .i64⟩
  | 74 => ⟨S16, .i64⟩
  | 75 => ⟨S16, .i32⟩
  | 76 => ⟨S16, .i32⟩
  | 77 => ⟨S_, .i32⟩
  | 78 => ⟨S_, .i32⟩
  | 79 => ⟨S_, .i32⟩
  | 80 => ⟨S16, .i32⟩
  | 81 => ⟨S16, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S_, .i32⟩
  | 89 => ⟨S16, .i32⟩
  | 90 => ⟨S16, .i32⟩
  | 91 => ⟨S16, .i32⟩
  | 92 => ⟨S16, .i32⟩
  | 93 => ⟨S16, .i32⟩
  | 94 => ⟨S_, .i32⟩
  | 95 => ⟨S16, .i32⟩
  | 96 => ⟨S16, .i32⟩
  | 97 => ⟨S_, .i32⟩
  | 98 => ⟨S16, .i32⟩
  | 99 => ⟨S16, .i32⟩
  | 100 => ⟨S16, .i32⟩
  | 101 => ⟨S16, .i32⟩
  | 102 => ⟨S16, .i32⟩
  | 103 => ⟨S_, .i32⟩
  | 104 => ⟨S16, .i32⟩
  | 105 => ⟨S16, .i32⟩
  | 106 => ⟨S_, .i32⟩
  | 107 => ⟨S16, .i32⟩
  | 108 => ⟨S16, .i32⟩
  | 109 => ⟨S16, .i32⟩
  | 110 => ⟨S16, .i32⟩
  | 111 => ⟨S16, .i32⟩
  | 112 => ⟨S_, .i32⟩
  | 113 => ⟨S16, .i32⟩
  | 114 => ⟨S16, .i32⟩
  | 115 => ⟨S_, .i32⟩
  | 116 => ⟨S16, .i32⟩
  | 117 => ⟨S16, .i32⟩
  | 118 => ⟨S16, .i32⟩
  | 119 => ⟨S16, .i32⟩
  | 120 => ⟨S16, .i32⟩
  | 121 => ⟨S16, .i32⟩
  | 122 => ⟨S16, .i32⟩
  | 123 => ⟨S16, .i32⟩
  | 124 => ⟨S_, .i32⟩
  | 125 => ⟨S16, .i32⟩
  | 126 => ⟨S16, .i32⟩
  | 127 => ⟨S16, .i32⟩
  | _ => ⟨S16x96x224x224, .f32⟩

abbrev hbmTy0_27 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i32⟩
  | 6 => ⟨S16, .i32⟩
  | 7 => ⟨S16, .i32⟩
  | 8 => ⟨S16, .i32⟩
  | 9 => ⟨S_, .i32⟩
  | 10 => ⟨S16, .i32⟩
  | 11 => ⟨S16, .i32⟩
  | 12 => ⟨S_, .i32⟩
  | 13 => ⟨S16, .i32⟩
  | 14 => ⟨S16, .i32⟩
  | 15 => ⟨S16, .i32⟩
  | 16 => ⟨S16, .i32⟩
  | 17 => ⟨S16, .i32⟩
  | 18 => ⟨S_, .i32⟩
  | 19 => ⟨S16, .i32⟩
  | 20 => ⟨S16, .i32⟩
  | 21 => ⟨S_, .i32⟩
  | 22 => ⟨S16, .i32⟩
  | 23 => ⟨S16, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S16, .i32⟩
  | 34 => ⟨S16, .i32⟩
  | 35 => ⟨S16, .i32⟩
  | 36 => ⟨S16, .i32⟩
  | 37 => ⟨S16, .i32⟩
  | 38 => ⟨S16, .i32⟩
  | 39 => ⟨S_, .i32⟩
  | 40 => ⟨S16, .i32⟩
  | 41 => ⟨S16, .i32⟩
  | 42 => ⟨S16, .i32⟩
  | 43 => ⟨S_, .i32⟩
  | 44 => ⟨S16, .i32⟩
  | 45 => ⟨S16, .i32⟩
  | 46 => ⟨S_, .i32⟩
  | 47 => ⟨S16, .i32⟩
  | 48 => ⟨S16, .i32⟩
  | 49 => ⟨S16, .i32⟩
  | 50 => ⟨S16, .i32⟩
  | 51 => ⟨S16, .i32⟩
  | 52 => ⟨S_, .i32⟩
  | 53 => ⟨S16, .i32⟩
  | 54 => ⟨S16, .i32⟩
  | 55 => ⟨S_, .i32⟩
  | 56 => ⟨S16, .i32⟩
  | 57 => ⟨S16, .i32⟩
  | 58 => ⟨S16, .i32⟩
  | 59 => ⟨S16, .i32⟩
  | 60 => ⟨S16, .i32⟩
  | 61 => ⟨S_, .i32⟩
  | 62 => ⟨S16, .i32⟩
  | 63 => ⟨S16, .i32⟩
  | 64 => ⟨S_, .i32⟩
  | 65 => ⟨S16, .i32⟩
  | 66 => ⟨S16, .i32⟩
  | 67 => ⟨S16, .i32⟩
  | 68 => ⟨S16, .i32⟩
  | 69 => ⟨S16, .i32⟩
  | 70 => ⟨S_, .i32⟩
  | 71 => ⟨S16, .i32⟩
  | 72 => ⟨S16, .i32⟩
  | 73 => ⟨S_, .i32⟩
  | 74 => ⟨S16, .i32⟩
  | 75 => ⟨S16, .i32⟩
  | 76 => ⟨S16, .i32⟩
  | 77 => ⟨S16, .i32⟩
  | 78 => ⟨S16, .i32⟩
  | 79 => ⟨S16, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S_, .i32⟩
  | 87 => ⟨S16, .i32⟩
  | 88 => ⟨S16, .i32⟩
  | 89 => ⟨S_, .i32⟩
  | 90 => ⟨S16, .i32⟩
  | 91 => ⟨S16, .i32⟩
  | 92 => ⟨S16, .i32⟩
  | 93 => ⟨S16, .i32⟩
  | 94 => ⟨S16, .i32⟩
  | 95 => ⟨S_, .i32⟩
  | 96 => ⟨S16, .i32⟩
  | 97 => ⟨S16, .i32⟩
  | 98 => ⟨S_, .i32⟩
  | 99 => ⟨S16, .i32⟩
  | 100 => ⟨S16, .i32⟩
  | 101 => ⟨S16, .i32⟩
  | 102 => ⟨S16, .i32⟩
  | 103 => ⟨S16, .i32⟩
  | 104 => ⟨S_, .i32⟩
  | 105 => ⟨S16, .i32⟩
  | 106 => ⟨S16, .i32⟩
  | 107 => ⟨S_, .i32⟩
  | 108 => ⟨S16, .i32⟩
  | 109 => ⟨S16, .i32⟩
  | 110 => ⟨S16, .i32⟩
  | 111 => ⟨S16, .i32⟩
  | 112 => ⟨S16, .i32⟩
  | 113 => ⟨S_, .i32⟩
  | 114 => ⟨S16, .i32⟩
  | 115 => ⟨S16, .i32⟩
  | 116 => ⟨S_, .i32⟩
  | 117 => ⟨S16, .i32⟩
  | 118 => ⟨S16, .i32⟩
  | 119 => ⟨S16, .i32⟩
  | 120 => ⟨S16, .i32⟩
  | 121 => ⟨S16, .i32⟩
  | 122 => ⟨S16, .i32⟩
  | 123 => ⟨S16, .i32⟩
  | 124 => ⟨S16, .i32⟩
  | 125 => ⟨S_, .i32⟩
  | 126 => ⟨S16, .i32⟩
  | 127 => ⟨S16, .i32⟩
  | _ => ⟨S16x96x224x224, .f32⟩

abbrev hbmTy0_28 (i : Nat) : BufTy := match i % 128 with
  | 0 => ⟨S16, .i32⟩
  | 1 => ⟨S_, .i32⟩
  | 2 => ⟨S16, .i32⟩
  | 3 => ⟨S16, .i32⟩
  | 4 => ⟨S_, .i32⟩
  | 5 => ⟨S16, .i32⟩
  | 6 => ⟨S16, .i32⟩
  | 7 => ⟨S16, .i32⟩
  | 8 => ⟨S16, .i32⟩
  | 9 => ⟨S16, .i32⟩
  | 10 => ⟨S_, .i32⟩
  | 11 => ⟨S16, .i32⟩
  | 12 => ⟨S16, .i32⟩
  | 13 => ⟨S_, .i32⟩
  | 14 => ⟨S16, .i32⟩
  | 15 => ⟨S16, .i32⟩
  | 16 => ⟨S16, .i32⟩
  | 17 => ⟨S16, .i32⟩
  | 18 => ⟨S16, .i32⟩
  | 19 => ⟨S_, .i32⟩
  | 20 => ⟨S16, .i32⟩
  | 21 => ⟨S16, .i32⟩
  | 22 => ⟨S_, .i32⟩
  | 23 => ⟨S16, .i32⟩
  | 24 => ⟨S16, .i32⟩
  | 25 => ⟨S16, .i32⟩
  | 26 => ⟨S16, .i32⟩
  | 27 => ⟨S16, .i32⟩
  | 28 => ⟨S_, .i32⟩
  | 29 => ⟨S16, .i32⟩
  | 30 => ⟨S16, .i32⟩
  | 31 => ⟨S_, .i32⟩
  | 32 => ⟨S16, .i32⟩
  | 33 => ⟨S16, .i32⟩
  | 34 => ⟨S16, .i32⟩
  | 35 => ⟨S16, .i32⟩
  | 36 => ⟨S16, .i32⟩
  | 37 => ⟨S16, .i32⟩
  | 38 => ⟨S16, .i32⟩
  | 39 => ⟨S16, .i32⟩
  | 40 => ⟨S_, .i32⟩
  | 41 => ⟨S16, .i32⟩
  | 42 => ⟨S16, .i32⟩
  | 43 => ⟨S16, .i32⟩
  | 44 => ⟨S16, .i32⟩
  | 45 => ⟨S16, .i32⟩
  | 46 => ⟨S1x2, .i32⟩
  | 47 => ⟨S2, .i32⟩
  | 48 => ⟨S16, .i32⟩
  | 49 => ⟨S1, .i32⟩
  | 50 => ⟨S_, .i32⟩
  | 51 => ⟨S1, .i32⟩
  | 52 => ⟨S_, .i32⟩
  | 53 => ⟨S2, .i64⟩
  | 54 => ⟨S_, .i64⟩
  | 55 => ⟨S2, .i64⟩
  | 56 => ⟨S2, .i64⟩
  | 57 => ⟨S_, .i64⟩
  | 58 => ⟨S2, .i64⟩
  | 59 => ⟨S2, .i64⟩
  | 60 => ⟨S2, .i32⟩
  | 61 => ⟨S2, .i32⟩
  | 62 => ⟨S_, .i32⟩
  | 63 => ⟨S_, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_29 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S16x96x224x224, .f32⟩

abbrev hbmTy0_30 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S2x1, .i32⟩
  | 29 => ⟨S2x1, .i32⟩
  | 30 => ⟨S2x2, .i32⟩
  | 31 => ⟨S1x2, .i32⟩
  | 32 => ⟨S2, .i32⟩
  | 33 => ⟨S1x2, .i32⟩
  | 34 => ⟨S2, .i32⟩
  | 35 => ⟨S1, .i32⟩
  | 36 => ⟨S_, .i32⟩
  | 37 => ⟨S1, .i32⟩
  | 38 => ⟨S_, .i32⟩
  | 39 => ⟨S16, .i64⟩
  | 40 => ⟨S_, .i64⟩
  | 41 => ⟨S16, .i64⟩
  | 42 => ⟨S16, .i64⟩
  | 43 => ⟨S_, .i64⟩
  | 44 => ⟨S16, .i64⟩
  | 45 => ⟨S16, .i64⟩
  | 46 => ⟨S16, .i32⟩
  | 47 => ⟨S16, .i32⟩
  | 48 => ⟨S_, .i32⟩
  | 49 => ⟨S_, .i32⟩
  | 50 => ⟨S_, .i32⟩
  | 51 => ⟨S16, .i32⟩
  | 52 => ⟨S16, .i32⟩
  | 53 => ⟨S16, .i32⟩
  | 54 => ⟨S16, .i32⟩
  | 55 => ⟨S16, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .i32⟩
  | 63 => ⟨S16, .i32⟩
  | 64 => ⟨S16, .i32⟩
  | 65 => ⟨S_, .i32⟩
  | 66 => ⟨S16, .i32⟩
  | 67 => ⟨S16, .i32⟩
  | 68 => ⟨S_, .i32⟩
  | 69 => ⟨S16, .i32⟩
  | 70 => ⟨S16, .i32⟩
  | 71 => ⟨S16, .i32⟩
  | 72 => ⟨S16, .i32⟩
  | 73 => ⟨S16, .i32⟩
  | 74 => ⟨S_, .i32⟩
  | 75 => ⟨S16, .i32⟩
  | 76 => ⟨S16, .i32⟩
  | 77 => ⟨S_, .i32⟩
  | 78 => ⟨S16, .i32⟩
  | 79 => ⟨S16, .i32⟩
  | 80 => ⟨S16, .i32⟩
  | 81 => ⟨S16, .i32⟩
  | 82 => ⟨S16, .i32⟩
  | 83 => ⟨S_, .i32⟩
  | 84 => ⟨S16, .i32⟩
  | 85 => ⟨S16, .i32⟩
  | 86 => ⟨S_, .i32⟩
  | 87 => ⟨S16, .i32⟩
  | 88 => ⟨S16, .i32⟩
  | 89 => ⟨S16, .i32⟩
  | 90 => ⟨S16, .i32⟩
  | 91 => ⟨S16, .i32⟩
  | 92 => ⟨S16, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S_, .i32⟩
  | 100 => ⟨S16, .i32⟩
  | 101 => ⟨S16, .i32⟩
  | 102 => ⟨S_, .i32⟩
  | 103 => ⟨S16, .i32⟩
  | 104 => ⟨S16, .i32⟩
  | 105 => ⟨S16, .i32⟩
  | 106 => ⟨S16, .i32⟩
  | 107 => ⟨S16, .i32⟩
  | 108 => ⟨S_, .i32⟩
  | 109 => ⟨S16, .i32⟩
  | 110 => ⟨S16, .i32⟩
  | 111 => ⟨S_, .i32⟩
  | 112 => ⟨S16, .i32⟩
  | 113 => ⟨S16, .i32⟩
  | 114 => ⟨S16, .i32⟩
  | 115 => ⟨S16, .i32⟩
  | 116 => ⟨S16, .i32⟩
  | 117 => ⟨S_, .i32⟩
  | 118 => ⟨S16, .i32⟩
  | 119 => ⟨S16, .i32⟩
  | 120 => ⟨S_, .i32⟩
  | 121 => ⟨S16, .i32⟩
  | 122 => ⟨S16, .i32⟩
  | 123 => ⟨S16, .i32⟩
  | 124 => ⟨S16, .i32⟩
  | 125 => ⟨S16, .i32⟩
  | 126 => ⟨S_, .i32⟩
  | 127 => ⟨S16, .i32⟩
  | _ => ⟨S16x96x224x224, .f32⟩

abbrev hbmTy0_31 (i : Nat) : BufTy := match i % 128 with
  | 0 => ⟨S16, .i32⟩
  | 1 => ⟨S_, .i32⟩
  | 2 => ⟨S16, .i32⟩
  | 3 => ⟨S16, .i32⟩
  | 4 => ⟨S16, .i32⟩
  | 5 => ⟨S16, .i32⟩
  | 6 => ⟨S16, .i32⟩
  | 7 => ⟨S16, .i32⟩
  | 8 => ⟨S16, .i32⟩
  | 9 => ⟨S16, .i32⟩
  | 10 => ⟨S_, .i32⟩
  | 11 => ⟨S16, .i32⟩
  | 12 => ⟨S16, .i32⟩
  | 13 => ⟨S16, .i32⟩
  | 14 => ⟨S_, .i32⟩
  | 15 => ⟨S16, .i32⟩
  | 16 => ⟨S16, .i32⟩
  | 17 => ⟨S_, .i32⟩
  | 18 => ⟨S16, .i32⟩
  | 19 => ⟨S16, .i32⟩
  | 20 => ⟨S16, .i32⟩
  | 21 => ⟨S16, .i32⟩
  | 22 => ⟨S16, .i32⟩
  | 23 => ⟨S_, .i32⟩
  | 24 => ⟨S16, .i32⟩
  | 25 => ⟨S16, .i32⟩
  | 26 => ⟨S_, .i32⟩
  | 27 => ⟨S16, .i32⟩
  | 28 => ⟨S16, .i32⟩
  | 29 => ⟨S16, .i32⟩
  | 30 => ⟨S16, .i32⟩
  | 31 => ⟨S16, .i32⟩
  | 32 => ⟨S_, .i32⟩
  | 33 => ⟨S16, .i32⟩
  | 34 => ⟨S16, .i32⟩
  | 35 => ⟨S_, .i32⟩
  | 36 => ⟨S16, .i32⟩
  | 37 => ⟨S16, .i32⟩
  | 38 => ⟨S16, .i32⟩
  | 39 => ⟨S16, .i32⟩
  | 40 => ⟨S16, .i32⟩
  | 41 => ⟨S_, .i32⟩
  | 42 => ⟨S16, .i32⟩
  | 43 => ⟨S16, .i32⟩
  | 44 => ⟨S_, .i32⟩
  | 45 => ⟨S16, .i32⟩
  | 46 => ⟨S16, .i32⟩
  | 47 => ⟨S16, .i32⟩
  | 48 => ⟨S16, .i32⟩
  | 49 => ⟨S16, .i32⟩
  | 50 => ⟨S16, .i32⟩
  | 51 => ⟨S16, .i32⟩
  | 52 => ⟨S16, .i32⟩
  | 53 => ⟨S_, .i32⟩
  | 54 => ⟨S16, .i32⟩
  | 55 => ⟨S16, .i32⟩
  | 56 => ⟨S16, .i32⟩
  | 57 => ⟨S_, .i32⟩
  | 58 => ⟨S16, .i32⟩
  | 59 => ⟨S16, .i32⟩
  | 60 => ⟨S_, .i32⟩
  | 61 => ⟨S16, .i32⟩
  | 62 => ⟨S16, .i32⟩
  | 63 => ⟨S16, .i32⟩
  | 64 => ⟨S16, .i32⟩
  | 65 => ⟨S16, .i32⟩
  | 66 => ⟨S_, .i32⟩
  | 67 => ⟨S16, .i32⟩
  | 68 => ⟨S16, .i32⟩
  | 69 => ⟨S_, .i32⟩
  | 70 => ⟨S16, .i32⟩
  | 71 => ⟨S16, .i32⟩
  | 72 => ⟨S16, .i32⟩
  | 73 => ⟨S16, .i32⟩
  | 74 => ⟨S16, .i32⟩
  | 75 => ⟨S_, .i32⟩
  | 76 => ⟨S16, .i32⟩
  | 77 => ⟨S16, .i32⟩
  | 78 => ⟨S_, .i32⟩
  | 79 => ⟨S16, .i32⟩
  | 80 => ⟨S16, .i32⟩
  | 81 => ⟨S16, .i32⟩
  | 82 => ⟨S16, .i32⟩
  | 83 => ⟨S16, .i32⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S16, .i32⟩
  | 91 => ⟨S16, .i32⟩
  | 92 => ⟨S16, .i32⟩
  | 93 => ⟨S16, .i32⟩
  | 94 => ⟨S16, .i32⟩
  | 95 => ⟨S16, .i32⟩
  | 96 => ⟨S_, .i32⟩
  | 97 => ⟨S16, .i32⟩
  | 98 => ⟨S16, .i32⟩
  | 99 => ⟨S16, .i32⟩
  | 100 => ⟨S_, .i32⟩
  | 101 => ⟨S16, .i32⟩
  | 102 => ⟨S16, .i32⟩
  | 103 => ⟨S_, .i32⟩
  | 104 => ⟨S16, .i32⟩
  | 105 => ⟨S16, .i32⟩
  | 106 => ⟨S16, .i32⟩
  | 107 => ⟨S16, .i32⟩
  | 108 => ⟨S16, .i32⟩
  | 109 => ⟨S_, .i32⟩
  | 110 => ⟨S16, .i32⟩
  | 111 => ⟨S16, .i32⟩
  | 112 => ⟨S_, .i32⟩
  | 113 => ⟨S16, .i32⟩
  | 114 => ⟨S16, .i32⟩
  | 115 => ⟨S16, .i32⟩
  | 116 => ⟨S16, .i32⟩
  | 117 => ⟨S16, .i32⟩
  | 118 => ⟨S_, .i32⟩
  | 119 => ⟨S16, .i32⟩
  | 120 => ⟨S16, .i32⟩
  | 121 => ⟨S_, .i32⟩
  | 122 => ⟨S16, .i32⟩
  | 123 => ⟨S16, .i32⟩
  | 124 => ⟨S16, .i32⟩
  | 125 => ⟨S16, .i32⟩
  | 126 => ⟨S16, .i32⟩
  | 127 => ⟨S_, .i32⟩
  | _ => ⟨S16x96x224x224, .f32⟩

abbrev hbmTy0_32 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S16, .i32⟩
  | 6 => ⟨S16, .i32⟩
  | 7 => ⟨S16, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S16, .i32⟩
  | 15 => ⟨S16, .i32⟩
  | 16 => ⟨S16, .i32⟩
  | 17 => ⟨S1x2, .i32⟩
  | 18 => ⟨S2, .i32⟩
  | 19 => ⟨S16, .i32⟩
  | 20 => ⟨S1, .i32⟩
  | 21 => ⟨S_, .i32⟩
  | 22 => ⟨S1, .i32⟩
  | 23 => ⟨S_, .i32⟩
  | 24 => ⟨S2, .i64⟩
  | 25 => ⟨S_, .i64⟩
  | 26 => ⟨S2, .i64⟩
  | 27 => ⟨S2, .i64⟩
  | 28 => ⟨S_, .i64⟩
  | 29 => ⟨S2, .i64⟩
  | 30 => ⟨S2, .i64⟩
  | 31 => ⟨S2, .i32⟩
  | 32 => ⟨S2, .i32⟩
  | 33 => ⟨S_, .i32⟩
  | 34 => ⟨S_, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S_, .i32⟩
  | _ => ⟨S16x96x224x224, .f32⟩

abbrev hbmTy0_33 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S2x1, .i32⟩
  | _ => ⟨S16x96x224x224, .f32⟩

abbrev hbmTy0_34 (i : Nat) : BufTy := match i % 128 with
  | 0 => ⟨S2x1, .i32⟩
  | 1 => ⟨S2x2, .i32⟩
  | 2 => ⟨S1x2, .i32⟩
  | 3 => ⟨S2, .i32⟩
  | 4 => ⟨S1x2, .i32⟩
  | 5 => ⟨S2, .i32⟩
  | 6 => ⟨S1, .i32⟩
  | 7 => ⟨S_, .i32⟩
  | 8 => ⟨S1, .i32⟩
  | 9 => ⟨S_, .i32⟩
  | 10 => ⟨S16, .i64⟩
  | 11 => ⟨S_, .i64⟩
  | 12 => ⟨S16, .i64⟩
  | 13 => ⟨S16, .i64⟩
  | 14 => ⟨S_, .i64⟩
  | 15 => ⟨S16, .i64⟩
  | 16 => ⟨S16, .i64⟩
  | 17 => ⟨S16, .i32⟩
  | 18 => ⟨S16, .i32⟩
  | 19 => ⟨S_, .i32⟩
  | 20 => ⟨S_, .i32⟩
  | 21 => ⟨S_, .i32⟩
  | 22 => ⟨S16, .i32⟩
  | 23 => ⟨S16, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S16, .i32⟩
  | 34 => ⟨S16, .i32⟩
  | 35 => ⟨S16, .i32⟩
  | 36 => ⟨S_, .i32⟩
  | 37 => ⟨S16, .i32⟩
  | 38 => ⟨S16, .i32⟩
  | 39 => ⟨S_, .i32⟩
  | 40 => ⟨S16, .i32⟩
  | 41 => ⟨S16, .i32⟩
  | 42 => ⟨S16, .i32⟩
  | 43 => ⟨S16, .i32⟩
  | 44 => ⟨S16, .i32⟩
  | 45 => ⟨S_, .i32⟩
  | 46 => ⟨S16, .i32⟩
  | 47 => ⟨S16, .i32⟩
  | 48 => ⟨S_, .i32⟩
  | 49 => ⟨S16, .i32⟩
  | 50 => ⟨S16, .i32⟩
  | 51 => ⟨S16, .i32⟩
  | 52 => ⟨S16, .i32⟩
  | 53 => ⟨S16, .i32⟩
  | 54 => ⟨S_, .i32⟩
  | 55 => ⟨S16, .i32⟩
  | 56 => ⟨S16, .i32⟩
  | 57 => ⟨S_, .i32⟩
  | 58 => ⟨S16, .i32⟩
  | 59 => ⟨S16, .i32⟩
  | 60 => ⟨S16, .i32⟩
  | 61 => ⟨S16, .i32⟩
  | 62 => ⟨S16, .i32⟩
  | 63 => ⟨S16, .i32⟩
  | 64 => ⟨S16, .i32⟩
  | 65 => ⟨S16, .i32⟩
  | 66 => ⟨S_, .i32⟩
  | 67 => ⟨S16, .i32⟩
  | 68 => ⟨S16, .i32⟩
  | 69 => ⟨S16, .i32⟩
  | 70 => ⟨S_, .i32⟩
  | 71 => ⟨S16, .i32⟩
  | 72 => ⟨S16, .i32⟩
  | 73 => ⟨S_, .i32⟩
  | 74 => ⟨S16, .i32⟩
  | 75 => ⟨S16, .i32⟩
  | 76 => ⟨S16, .i32⟩
  | 77 => ⟨S16, .i32⟩
  | 78 => ⟨S16, .i32⟩
  | 79 => ⟨S_, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S16, .i32⟩
  | 87 => ⟨S16, .i32⟩
  | 88 => ⟨S_, .i32⟩
  | 89 => ⟨S16, .i32⟩
  | 90 => ⟨S16, .i32⟩
  | 91 => ⟨S_, .i32⟩
  | 92 => ⟨S16, .i32⟩
  | 93 => ⟨S16, .i32⟩
  | 94 => ⟨S16, .i32⟩
  | 95 => ⟨S16, .i32⟩
  | 96 => ⟨S16, .i32⟩
  | 97 => ⟨S_, .i32⟩
  | 98 => ⟨S16, .i32⟩
  | 99 => ⟨S16, .i32⟩
  | 100 => ⟨S_, .i32⟩
  | 101 => ⟨S16, .i32⟩
  | 102 => ⟨S16, .i32⟩
  | 103 => ⟨S16, .i32⟩
  | 104 => ⟨S16, .i32⟩
  | 105 => ⟨S16, .i32⟩
  | 106 => ⟨S16, .i32⟩
  | 107 => ⟨S16, .i32⟩
  | 108 => ⟨S16, .i32⟩
  | 109 => ⟨S_, .i32⟩
  | 110 => ⟨S16, .i32⟩
  | 111 => ⟨S16, .i32⟩
  | 112 => ⟨S16, .i32⟩
  | 113 => ⟨S_, .i32⟩
  | 114 => ⟨S16, .i32⟩
  | 115 => ⟨S16, .i32⟩
  | 116 => ⟨S_, .i32⟩
  | 117 => ⟨S16, .i32⟩
  | 118 => ⟨S16, .i32⟩
  | 119 => ⟨S16, .i32⟩
  | 120 => ⟨S16, .i32⟩
  | 121 => ⟨S16, .i32⟩
  | 122 => ⟨S_, .i32⟩
  | 123 => ⟨S16, .i32⟩
  | 124 => ⟨S16, .i32⟩
  | 125 => ⟨S_, .i32⟩
  | 126 => ⟨S16, .i32⟩
  | 127 => ⟨S16, .i32⟩
  | _ => ⟨S16x96x224x224, .f32⟩

abbrev hbmTy0_35 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i32⟩
  | 6 => ⟨S_, .i32⟩
  | 7 => ⟨S16, .i32⟩
  | 8 => ⟨S16, .i32⟩
  | 9 => ⟨S16, .i32⟩
  | 10 => ⟨S16, .i32⟩
  | 11 => ⟨S16, .i32⟩
  | 12 => ⟨S_, .i32⟩
  | 13 => ⟨S16, .i32⟩
  | 14 => ⟨S16, .i32⟩
  | 15 => ⟨S_, .i32⟩
  | 16 => ⟨S16, .i32⟩
  | 17 => ⟨S16, .i32⟩
  | 18 => ⟨S16, .i32⟩
  | 19 => ⟨S16, .i32⟩
  | 20 => ⟨S16, .i32⟩
  | 21 => ⟨S16, .i32⟩
  | 22 => ⟨S16, .i32⟩
  | 23 => ⟨S16, .i32⟩
  | 24 => ⟨S_, .i32⟩
  | 25 => ⟨S16, .i32⟩
  | 26 => ⟨S16, .i32⟩
  | 27 => ⟨S16, .i32⟩
  | 28 => ⟨S_, .i32⟩
  | 29 => ⟨S16, .i32⟩
  | 30 => ⟨S16, .i32⟩
  | 31 => ⟨S_, .i32⟩
  | 32 => ⟨S16, .i32⟩
  | 33 => ⟨S16, .i32⟩
  | 34 => ⟨S16, .i32⟩
  | 35 => ⟨S16, .i32⟩
  | 36 => ⟨S16, .i32⟩
  | 37 => ⟨S_, .i32⟩
  | 38 => ⟨S16, .i32⟩
  | 39 => ⟨S16, .i32⟩
  | 40 => ⟨S_, .i32⟩
  | 41 => ⟨S16, .i32⟩
  | 42 => ⟨S16, .i32⟩
  | 43 => ⟨S16, .i32⟩
  | 44 => ⟨S16, .i32⟩
  | 45 => ⟨S16, .i32⟩
  | 46 => ⟨S_, .i32⟩
  | 47 => ⟨S16, .i32⟩
  | 48 => ⟨S16, .i32⟩
  | 49 => ⟨S_, .i32⟩
  | 50 => ⟨S16, .i32⟩
  | 51 => ⟨S16, .i32⟩
  | 52 => ⟨S16, .i32⟩
  | 53 => ⟨S16, .i32⟩
  | 54 => ⟨S16, .i32⟩
  | 55 => ⟨S_, .i32⟩
  | 56 => ⟨S16, .i32⟩
  | 57 => ⟨S16, .i32⟩
  | 58 => ⟨S_, .i32⟩
  | 59 => ⟨S16, .i32⟩
  | 60 => ⟨S16, .i32⟩
  | 61 => ⟨S16, .i32⟩
  | 62 => ⟨S16, .i32⟩
  | 63 => ⟨S16, .i32⟩
  | 64 => ⟨S16, .i32⟩
  | 65 => ⟨S16, .i32⟩
  | 66 => ⟨S16, .i32⟩
  | 67 => ⟨S_, .i32⟩
  | 68 => ⟨S16, .i32⟩
  | 69 => ⟨S16, .i32⟩
  | 70 => ⟨S16, .i32⟩
  | 71 => ⟨S_, .i32⟩
  | 72 => ⟨S16, .i32⟩
  | 73 => ⟨S16, .i32⟩
  | 74 => ⟨S_, .i32⟩
  | 75 => ⟨S16, .i32⟩
  | 76 => ⟨S16, .i32⟩
  | 77 => ⟨S16, .i32⟩
  | 78 => ⟨S16, .i32⟩
  | 79 => ⟨S16, .i32⟩
  | 80 => ⟨S_, .i32⟩
  | 81 => ⟨S16, .i32⟩
  | 82 => ⟨S16, .i32⟩
  | 83 => ⟨S_, .i32⟩
  | 84 => ⟨S16, .i32⟩
  | 85 => ⟨S16, .i32⟩
  | 86 => ⟨S16, .i32⟩
  | 87 => ⟨S16, .i32⟩
  | 88 => ⟨S16, .i32⟩
  | 89 => ⟨S_, .i32⟩
  | 90 => ⟨S16, .i32⟩
  | 91 => ⟨S16, .i32⟩
  | 92 => ⟨S_, .i32⟩
  | 93 => ⟨S16, .i32⟩
  | 94 => ⟨S16, .i32⟩
  | 95 => ⟨S16, .i32⟩
  | 96 => ⟨S16, .i32⟩
  | 97 => ⟨S16, .i32⟩
  | 98 => ⟨S_, .i32⟩
  | 99 => ⟨S16, .i32⟩
  | 100 => ⟨S16, .i32⟩
  | 101 => ⟨S_, .i32⟩
  | 102 => ⟨S16, .i32⟩
  | 103 => ⟨S16, .i32⟩
  | 104 => ⟨S16, .i32⟩
  | 105 => ⟨S16, .i32⟩
  | 106 => ⟨S16, .i32⟩
  | 107 => ⟨S16, .i32⟩
  | 108 => ⟨S16, .i32⟩
  | 109 => ⟨S16, .i32⟩
  | 110 => ⟨S_, .i32⟩
  | 111 => ⟨S16, .i32⟩
  | 112 => ⟨S16, .i32⟩
  | 113 => ⟨S16, .i32⟩
  | 114 => ⟨S16, .i32⟩
  | 115 => ⟨S16, .i32⟩
  | 116 => ⟨S1x2, .i32⟩
  | 117 => ⟨S2, .i32⟩
  | 118 => ⟨S16, .i32⟩
  | 119 => ⟨S1, .i32⟩
  | 120 => ⟨S_, .i32⟩
  | 121 => ⟨S1, .i32⟩
  | 122 => ⟨S_, .i32⟩
  | 123 => ⟨S2, .i64⟩
  | 124 => ⟨S_, .i64⟩
  | 125 => ⟨S2, .i64⟩
  | 126 => ⟨S2, .i64⟩
  | 127 => ⟨S_, .i64⟩
  | _ => ⟨S16x96x224x224, .f32⟩

abbrev hbmTy0_36 (i : Nat) : BufTy := match i % 128 with
  | 0 => ⟨S2, .i64⟩
  | 1 => ⟨S2, .i64⟩
  | 2 => ⟨S2, .i32⟩
  | 3 => ⟨S2, .i32⟩
  | 4 => ⟨S_, .i32⟩
  | 5 => ⟨S_, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_37 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2x1, .i32⟩
  | 99 => ⟨S2x1, .i32⟩
  | 100 => ⟨S2x2, .i32⟩
  | 101 => ⟨S1x2, .i32⟩
  | 102 => ⟨S2, .i32⟩
  | 103 => ⟨S1x2, .i32⟩
  | 104 => ⟨S2, .i32⟩
  | 105 => ⟨S1, .i32⟩
  | 106 => ⟨S_, .i32⟩
  | 107 => ⟨S1, .i32⟩
  | 108 => ⟨S_, .i32⟩
  | 109 => ⟨S16, .i64⟩
  | 110 => ⟨S_, .i64⟩
  | 111 => ⟨S16, .i64⟩
  | 112 => ⟨S16, .i64⟩
  | 113 => ⟨S_, .i64⟩
  | 114 => ⟨S16, .i64⟩
  | 115 => ⟨S16, .i64⟩
  | 116 => ⟨S16, .i32⟩
  | 117 => ⟨S16, .i32⟩
  | 118 => ⟨S_, .i32⟩
  | 119 => ⟨S_, .i32⟩
  | 120 => ⟨S_, .i32⟩
  | 121 => ⟨S16, .i32⟩
  | 122 => ⟨S16, .i32⟩
  | 123 => ⟨S16, .i32⟩
  | 124 => ⟨S16, .i32⟩
  | 125 => ⟨S16, .i32⟩
  | 126 => ⟨S_, .i32⟩
  | 127 => ⟨S16, .i32⟩
  | _ => ⟨S16x96x224x224, .f32⟩

abbrev hbmTy0_38 (i : Nat) : BufTy := match i % 128 with
  | 0 => ⟨S16, .i32⟩
  | 1 => ⟨S_, .i32⟩
  | 2 => ⟨S16, .i32⟩
  | 3 => ⟨S16, .i32⟩
  | 4 => ⟨S16, .i32⟩
  | 5 => ⟨S16, .i32⟩
  | 6 => ⟨S16, .i32⟩
  | 7 => ⟨S_, .i32⟩
  | 8 => ⟨S16, .i32⟩
  | 9 => ⟨S16, .i32⟩
  | 10 => ⟨S_, .i32⟩
  | 11 => ⟨S16, .i32⟩
  | 12 => ⟨S16, .i32⟩
  | 13 => ⟨S16, .i32⟩
  | 14 => ⟨S16, .i32⟩
  | 15 => ⟨S16, .i32⟩
  | 16 => ⟨S_, .i32⟩
  | 17 => ⟨S16, .i32⟩
  | 18 => ⟨S16, .i32⟩
  | 19 => ⟨S_, .i32⟩
  | 20 => ⟨S16, .i32⟩
  | 21 => ⟨S16, .i32⟩
  | 22 => ⟨S16, .i32⟩
  | 23 => ⟨S16, .i32⟩
  | 24 => ⟨S16, .i32⟩
  | 25 => ⟨S_, .i32⟩
  | 26 => ⟨S16, .i32⟩
  | 27 => ⟨S16, .i32⟩
  | 28 => ⟨S_, .i32⟩
  | 29 => ⟨S16, .i32⟩
  | 30 => ⟨S16, .i32⟩
  | 31 => ⟨S16, .i32⟩
  | 32 => ⟨S16, .i32⟩
  | 33 => ⟨S16, .i32⟩
  | 34 => ⟨S16, .i32⟩
  | 35 => ⟨S16, .i32⟩
  | 36 => ⟨S16, .i32⟩
  | 37 => ⟨S_, .i32⟩
  | 38 => ⟨S16, .i32⟩
  | 39 => ⟨S16, .i32⟩
  | 40 => ⟨S16, .i32⟩
  | 41 => ⟨S_, .i32⟩
  | 42 => ⟨S16, .i32⟩
  | 43 => ⟨S16, .i32⟩
  | 44 => ⟨S_, .i32⟩
  | 45 => ⟨S16, .i32⟩
  | 46 => ⟨S16, .i32⟩
  | 47 => ⟨S16, .i32⟩
  | 48 => ⟨S16, .i32⟩
  | 49 => ⟨S16, .i32⟩
  | 50 => ⟨S_, .i32⟩
  | 51 => ⟨S16, .i32⟩
  | 52 => ⟨S16, .i32⟩
  | 53 => ⟨S_, .i32⟩
  | 54 => ⟨S16, .i32⟩
  | 55 => ⟨S16, .i32⟩
  | 56 => ⟨S16, .i32⟩
  | 57 => ⟨S16, .i32⟩
  | 58 => ⟨S16, .i32⟩
  | 59 => ⟨S_, .i32⟩
  | 60 => ⟨S16, .i32⟩
  | 61 => ⟨S16, .i32⟩
  | 62 => ⟨S_, .i32⟩
  | 63 => ⟨S16, .i32⟩
  | 64 => ⟨S16, .i32⟩
  | 65 => ⟨S16, .i32⟩
  | 66 => ⟨S16, .i32⟩
  | 67 => ⟨S16, .i32⟩
  | 68 => ⟨S_, .i32⟩
  | 69 => ⟨S16, .i32⟩
  | 70 => ⟨S16, .i32⟩
  | 71 => ⟨S_, .i32⟩
  | 72 => ⟨S16, .i32⟩
  | 73 => ⟨S16, .i32⟩
  | 74 => ⟨S16, .i32⟩
  | 75 => ⟨S16, .i32⟩
  | 76 => ⟨S16, .i32⟩
  | 77 => ⟨S16, .i32⟩
  | 78 => ⟨S16, .i32⟩
  | 79 => ⟨S16, .i32⟩
  | 80 => ⟨S_, .i32⟩
  | 81 => ⟨S16, .i32⟩
  | 82 => ⟨S16, .i32⟩
  | 83 => ⟨S16, .i32⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S16, .i32⟩
  | 91 => ⟨S16, .i32⟩
  | 92 => ⟨S16, .i32⟩
  | 93 => ⟨S_, .i32⟩
  | 94 => ⟨S16, .i32⟩
  | 95 => ⟨S16, .i32⟩
  | 96 => ⟨S_, .i32⟩
  | 97 => ⟨S16, .i32⟩
  | 98 => ⟨S16, .i32⟩
  | 99 => ⟨S16, .i32⟩
  | 100 => ⟨S16, .i32⟩
  | 101 => ⟨S16, .i32⟩
  | 102 => ⟨S_, .i32⟩
  | 103 => ⟨S16, .i32⟩
  | 104 => ⟨S16, .i32⟩
  | 105 => ⟨S_, .i32⟩
  | 106 => ⟨S16, .i32⟩
  | 107 => ⟨S16, .i32⟩
  | 108 => ⟨S16, .i32⟩
  | 109 => ⟨S16, .i32⟩
  | 110 => ⟨S16, .i32⟩
  | 111 => ⟨S_, .i32⟩
  | 112 => ⟨S16, .i32⟩
  | 113 => ⟨S16, .i32⟩
  | 114 => ⟨S_, .i32⟩
  | 115 => ⟨S16, .i32⟩
  | 116 => ⟨S16, .i32⟩
  | 117 => ⟨S16, .i32⟩
  | 118 => ⟨S16, .i32⟩
  | 119 => ⟨S16, .i32⟩
  | 120 => ⟨S16, .i32⟩
  | 121 => ⟨S16, .i32⟩
  | 122 => ⟨S16, .i32⟩
  | 123 => ⟨S_, .i32⟩
  | 124 => ⟨S16, .i32⟩
  | 125 => ⟨S16, .i32⟩
  | 126 => ⟨S16, .i32⟩
  | 127 => ⟨S_, .i32⟩
  | _ => ⟨S16x96x224x224, .f32⟩

abbrev hbmTy0_39 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S16, .i32⟩
  | 6 => ⟨S16, .i32⟩
  | 7 => ⟨S16, .i32⟩
  | 8 => ⟨S_, .i32⟩
  | 9 => ⟨S16, .i32⟩
  | 10 => ⟨S16, .i32⟩
  | 11 => ⟨S_, .i32⟩
  | 12 => ⟨S16, .i32⟩
  | 13 => ⟨S16, .i32⟩
  | 14 => ⟨S16, .i32⟩
  | 15 => ⟨S16, .i32⟩
  | 16 => ⟨S16, .i32⟩
  | 17 => ⟨S_, .i32⟩
  | 18 => ⟨S16, .i32⟩
  | 19 => ⟨S16, .i32⟩
  | 20 => ⟨S_, .i32⟩
  | 21 => ⟨S16, .i32⟩
  | 22 => ⟨S16, .i32⟩
  | 23 => ⟨S16, .i32⟩
  | 24 => ⟨S16, .i32⟩
  | 25 => ⟨S16, .i32⟩
  | 26 => ⟨S_, .i32⟩
  | 27 => ⟨S16, .i32⟩
  | 28 => ⟨S16, .i32⟩
  | 29 => ⟨S_, .i32⟩
  | 30 => ⟨S16, .i32⟩
  | 31 => ⟨S16, .i32⟩
  | 32 => ⟨S16, .i32⟩
  | 33 => ⟨S16, .i32⟩
  | 34 => ⟨S16, .i32⟩
  | 35 => ⟨S16, .i32⟩
  | 36 => ⟨S16, .i32⟩
  | 37 => ⟨S16, .i32⟩
  | 38 => ⟨S_, .i32⟩
  | 39 => ⟨S16, .i32⟩
  | 40 => ⟨S16, .i32⟩
  | 41 => ⟨S16, .i32⟩
  | 42 => ⟨S_, .i32⟩
  | 43 => ⟨S16, .i32⟩
  | 44 => ⟨S16, .i32⟩
  | 45 => ⟨S_, .i32⟩
  | 46 => ⟨S16, .i32⟩
  | 47 => ⟨S16, .i32⟩
  | 48 => ⟨S16, .i32⟩
  | 49 => ⟨S16, .i32⟩
  | 50 => ⟨S16, .i32⟩
  | 51 => ⟨S_, .i32⟩
  | 52 => ⟨S16, .i32⟩
  | 53 => ⟨S16, .i32⟩
  | 54 => ⟨S_, .i32⟩
  | 55 => ⟨S16, .i32⟩
  | 56 => ⟨S16, .i32⟩
  | 57 => ⟨S16, .i32⟩
  | 58 => ⟨S16, .i32⟩
  | 59 => ⟨S16, .i32⟩
  | 60 => ⟨S_, .i32⟩
  | 61 => ⟨S16, .i32⟩
  | 62 => ⟨S16, .i32⟩
  | 63 => ⟨S_, .i32⟩
  | 64 => ⟨S16, .i32⟩
  | 65 => ⟨S16, .i32⟩
  | 66 => ⟨S16, .i32⟩
  | 67 => ⟨S16, .i32⟩
  | 68 => ⟨S16, .i32⟩
  | 69 => ⟨S_, .i32⟩
  | 70 => ⟨S16, .i32⟩
  | 71 => ⟨S16, .i32⟩
  | 72 => ⟨S_, .i32⟩
  | 73 => ⟨S16, .i32⟩
  | 74 => ⟨S16, .i32⟩
  | 75 => ⟨S16, .i32⟩
  | 76 => ⟨S16, .i32⟩
  | 77 => ⟨S16, .i32⟩
  | 78 => ⟨S16, .i32⟩
  | 79 => ⟨S16, .i32⟩
  | 80 => ⟨S16, .i32⟩
  | 81 => ⟨S_, .i32⟩
  | 82 => ⟨S16, .i32⟩
  | 83 => ⟨S16, .i32⟩
  | 84 => ⟨S16, .i32⟩
  | 85 => ⟨S16, .i32⟩
  | 86 => ⟨S16, .i32⟩
  | 87 => ⟨S1x2, .i32⟩
  | 88 => ⟨S2, .i32⟩
  | 89 => ⟨S16, .i32⟩
  | 90 => ⟨S1, .i32⟩
  | 91 => ⟨S_, .i32⟩
  | 92 => ⟨S1, .i32⟩
  | 93 => ⟨S_, .i32⟩
  | 94 => ⟨S2, .i64⟩
  | 95 => ⟨S_, .i64⟩
  | 96 => ⟨S2, .i64⟩
  | 97 => ⟨S2, .i64⟩
  | 98 => ⟨S_, .i64⟩
  | 99 => ⟨S2, .i64⟩
  | 100 => ⟨S2, .i64⟩
  | 101 => ⟨S2, .i32⟩
  | 102 => ⟨S2, .i32⟩
  | 103 => ⟨S_, .i32⟩
  | 104 => ⟨S_, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S16x96x224x224, .f32⟩

abbrev hbmTy0_40 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S16x96x224x224, .f32⟩

abbrev hbmTy0_41 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S2x1, .i32⟩
  | 70 => ⟨S2x1, .i32⟩
  | 71 => ⟨S2x2, .i32⟩
  | 72 => ⟨S1x2, .i32⟩
  | 73 => ⟨S2, .i32⟩
  | 74 => ⟨S1x2, .i32⟩
  | 75 => ⟨S2, .i32⟩
  | 76 => ⟨S1, .i32⟩
  | 77 => ⟨S_, .i32⟩
  | 78 => ⟨S1, .i32⟩
  | 79 => ⟨S_, .i32⟩
  | 80 => ⟨S16, .i64⟩
  | 81 => ⟨S_, .i64⟩
  | 82 => ⟨S16, .i64⟩
  | 83 => ⟨S16, .i64⟩
  | 84 => ⟨S_, .i64⟩
  | 85 => ⟨S16, .i64⟩
  | 86 => ⟨S16, .i64⟩
  | 87 => ⟨S16, .i32⟩
  | 88 => ⟨S16, .i32⟩
  | 89 => ⟨S_, .i32⟩
  | 90 => ⟨S_, .i32⟩
  | 91 => ⟨S_, .i32⟩
  | 92 => ⟨S16, .i32⟩
  | 93 => ⟨S16, .i32⟩
  | 94 => ⟨S16, .i32⟩
  | 95 => ⟨S16, .i32⟩
  | 96 => ⟨S16, .i32⟩
  | 97 => ⟨S_, .i32⟩
  | 98 => ⟨S16, .i32⟩
  | 99 => ⟨S16, .i32⟩
  | 100 => ⟨S_, .i32⟩
  | 101 => ⟨S16, .i32⟩
  | 102 => ⟨S16, .i32⟩
  | 103 => ⟨S16, .i32⟩
  | 104 => ⟨S16, .i32⟩
  | 105 => ⟨S16, .i32⟩
  | 106 => ⟨S_, .i32⟩
  | 107 => ⟨S16, .i32⟩
  | 108 => ⟨S16, .i32⟩
  | 109 => ⟨S_, .i32⟩
  | 110 => ⟨S16, .i32⟩
  | 111 => ⟨S16, .i32⟩
  | 112 => ⟨S16, .i32⟩
  | 113 => ⟨S16, .i32⟩
  | 114 => ⟨S16, .i32⟩
  | 115 => ⟨S_, .i32⟩
  | 116 => ⟨S16, .i32⟩
  | 117 => ⟨S16, .i32⟩
  | 118 => ⟨S_, .i32⟩
  | 119 => ⟨S16, .i32⟩
  | 120 => ⟨S16, .i32⟩
  | 121 => ⟨S16, .i32⟩
  | 122 => ⟨S16, .i32⟩
  | 123 => ⟨S16, .i32⟩
  | 124 => ⟨S_, .i32⟩
  | 125 => ⟨S16, .i32⟩
  | 126 => ⟨S16, .i32⟩
  | 127 => ⟨S_, .i32⟩
  | _ => ⟨S16x96x224x224, .f32⟩

abbrev hbmTy0_42 (i : Nat) : BufTy := match i % 128 with
  | 0 => ⟨S16, .i32⟩
  | 1 => ⟨S16, .i32⟩
  | 2 => ⟨S16, .i32⟩
  | 3 => ⟨S16, .i32⟩
  | 4 => ⟨S16, .i32⟩
  | 5 => ⟨S16, .i32⟩
  | 6 => ⟨S16, .i32⟩
  | 7 => ⟨S16, .i32⟩
  | 8 => ⟨S_, .i32⟩
  | 9 => ⟨S16, .i32⟩
  | 10 => ⟨S16, .i32⟩
  | 11 => ⟨S16, .i32⟩
  | 12 => ⟨S_, .i32⟩
  | 13 => ⟨S16, .i32⟩
  | 14 => ⟨S16, .i32⟩
  | 15 => ⟨S_, .i32⟩
  | 16 => ⟨S16, .i32⟩
  | 17 => ⟨S16, .i32⟩
  | 18 => ⟨S16, .i32⟩
  | 19 => ⟨S16, .i32⟩
  | 20 => ⟨S16, .i32⟩
  | 21 => ⟨S_, .i32⟩
  | 22 => ⟨S16, .i32⟩
  | 23 => ⟨S16, .i32⟩
  | 24 => ⟨S_, .i32⟩
  | 25 => ⟨S16, .i32⟩
  | 26 => ⟨S16, .i32⟩
  | 27 => ⟨S16, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16, .i32⟩
  | 35 => ⟨S16, .i32⟩
  | 36 => ⟨S16, .i32⟩
  | 37 => ⟨S16, .i32⟩
  | 38 => ⟨S16, .i32⟩
  | 39 => ⟨S_, .i32⟩
  | 40 => ⟨S16, .i32⟩
  | 41 => ⟨S16, .i32⟩
  | 42 => ⟨S_, .i32⟩
  | 43 => ⟨S16, .i32⟩
  | 44 => ⟨S16, .i32⟩
  | 45 => ⟨S16, .i32⟩
  | 46 => ⟨S16, .i32⟩
  | 47 => ⟨S16, .i32⟩
  | 48 => ⟨S16, .i32⟩
  | 49 => ⟨S16, .i32⟩
  | 50 => ⟨S16, .i32⟩
  | 51 => ⟨S_, .i32⟩
  | 52 => ⟨S16, .i32⟩
  | 53 => ⟨S16, .i32⟩
  | 54 => ⟨S16, .i32⟩
  | 55 => ⟨S_, .i32⟩
  | 56 => ⟨S16, .i32⟩
  | 57 => ⟨S16, .i32⟩
  | 58 => ⟨S_, .i32⟩
  | 59 => ⟨S16, .i32⟩
  | 60 => ⟨S16, .i32⟩
  | 61 => ⟨S16, .i32⟩
  | 62 => ⟨S16, .i32⟩
  | 63 => ⟨S16, .i32⟩
  | 64 => ⟨S_, .i32⟩
  | 65 => ⟨S16, .i32⟩
  | 66 => ⟨S16, .i32⟩
  | 67 => ⟨S_, .i32⟩
  | 68 => ⟨S16, .i32⟩
  | 69 => ⟨S16, .i32⟩
  | 70 => ⟨S16, .i32⟩
  | 71 => ⟨S16, .i32⟩
  | 72 => ⟨S16, .i32⟩
  | 73 => ⟨S_, .i32⟩
  | 74 => ⟨S16, .i32⟩
  | 75 => ⟨S16, .i32⟩
  | 76 => ⟨S_, .i32⟩
  | 77 => ⟨S16, .i32⟩
  | 78 => ⟨S16, .i32⟩
  | 79 => ⟨S16, .i32⟩
  | 80 => ⟨S16, .i32⟩
  | 81 => ⟨S16, .i32⟩
  | 82 => ⟨S_, .i32⟩
  | 83 => ⟨S16, .i32⟩
  | 84 => ⟨S16, .i32⟩
  | 85 => ⟨S_, .i32⟩
  | 86 => ⟨S16, .i32⟩
  | 87 => ⟨S16, .i32⟩
  | 88 => ⟨S16, .i32⟩
  | 89 => ⟨S16, .i32⟩
  | 90 => ⟨S16, .i32⟩
  | 91 => ⟨S16, .i32⟩
  | 92 => ⟨S16, .i32⟩
  | 93 => ⟨S16, .i32⟩
  | 94 => ⟨S_, .i32⟩
  | 95 => ⟨S16, .i32⟩
  | 96 => ⟨S16, .i32⟩
  | 97 => ⟨S16, .i32⟩
  | 98 => ⟨S_, .i32⟩
  | 99 => ⟨S16, .i32⟩
  | 100 => ⟨S16, .i32⟩
  | 101 => ⟨S_, .i32⟩
  | 102 => ⟨S16, .i32⟩
  | 103 => ⟨S16, .i32⟩
  | 104 => ⟨S16, .i32⟩
  | 105 => ⟨S16, .i32⟩
  | 106 => ⟨S16, .i32⟩
  | 107 => ⟨S_, .i32⟩
  | 108 => ⟨S16, .i32⟩
  | 109 => ⟨S16, .i32⟩
  | 110 => ⟨S_, .i32⟩
  | 111 => ⟨S16, .i32⟩
  | 112 => ⟨S16, .i32⟩
  | 113 => ⟨S16, .i32⟩
  | 114 => ⟨S16, .i32⟩
  | 115 => ⟨S16, .i32⟩
  | 116 => ⟨S_, .i32⟩
  | 117 => ⟨S16, .i32⟩
  | 118 => ⟨S16, .i32⟩
  | 119 => ⟨S_, .i32⟩
  | 120 => ⟨S16, .i32⟩
  | 121 => ⟨S16, .i32⟩
  | 122 => ⟨S16, .i32⟩
  | 123 => ⟨S16, .i32⟩
  | 124 => ⟨S16, .i32⟩
  | 125 => ⟨S_, .i32⟩
  | 126 => ⟨S16, .i32⟩
  | 127 => ⟨S16, .i32⟩
  | _ => ⟨S16x96x224x224, .f32⟩

abbrev hbmTy0_43 (i : Nat) : BufTy := match i % 128 with
  | 0 => ⟨S_, .i32⟩
  | 1 => ⟨S16, .i32⟩
  | 2 => ⟨S16, .i32⟩
  | 3 => ⟨S16, .i32⟩
  | 4 => ⟨S16, .i32⟩
  | 5 => ⟨S16, .i32⟩
  | 6 => ⟨S16, .i32⟩
  | 7 => ⟨S16, .i32⟩
  | 8 => ⟨S16, .i32⟩
  | 9 => ⟨S_, .i32⟩
  | 10 => ⟨S16, .i32⟩
  | 11 => ⟨S16, .i32⟩
  | 12 => ⟨S16, .i32⟩
  | 13 => ⟨S_, .i32⟩
  | 14 => ⟨S16, .i32⟩
  | 15 => ⟨S16, .i32⟩
  | 16 => ⟨S_, .i32⟩
  | 17 => ⟨S16, .i32⟩
  | 18 => ⟨S16, .i32⟩
  | 19 => ⟨S16, .i32⟩
  | 20 => ⟨S16, .i32⟩
  | 21 => ⟨S16, .i32⟩
  | 22 => ⟨S_, .i32⟩
  | 23 => ⟨S16, .i32⟩
  | 24 => ⟨S16, .i32⟩
  | 25 => ⟨S_, .i32⟩
  | 26 => ⟨S16, .i32⟩
  | 27 => ⟨S16, .i32⟩
  | 28 => ⟨S16, .i32⟩
  | 29 => ⟨S16, .i32⟩
  | 30 => ⟨S16, .i32⟩
  | 31 => ⟨S_, .i32⟩
  | 32 => ⟨S16, .i32⟩
  | 33 => ⟨S16, .i32⟩
  | 34 => ⟨S_, .i32⟩
  | 35 => ⟨S16, .i32⟩
  | 36 => ⟨S16, .i32⟩
  | 37 => ⟨S16, .i32⟩
  | 38 => ⟨S16, .i32⟩
  | 39 => ⟨S16, .i32⟩
  | 40 => ⟨S_, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S16, .i32⟩
  | 48 => ⟨S16, .i32⟩
  | 49 => ⟨S16, .i32⟩
  | 50 => ⟨S16, .i32⟩
  | 51 => ⟨S16, .i32⟩
  | 52 => ⟨S_, .i32⟩
  | 53 => ⟨S16, .i32⟩
  | 54 => ⟨S16, .i32⟩
  | 55 => ⟨S16, .i32⟩
  | 56 => ⟨S16, .i32⟩
  | 57 => ⟨S16, .i32⟩
  | 58 => ⟨S1x2, .i32⟩
  | 59 => ⟨S2, .i32⟩
  | 60 => ⟨S16, .i32⟩
  | 61 => ⟨S1, .i32⟩
  | 62 => ⟨S_, .i32⟩
  | 63 => ⟨S1, .i32⟩
  | 64 => ⟨S_, .i32⟩
  | 65 => ⟨S2, .i64⟩
  | 66 => ⟨S_, .i64⟩
  | 67 => ⟨S2, .i64⟩
  | 68 => ⟨S2, .i64⟩
  | 69 => ⟨S_, .i64⟩
  | 70 => ⟨S2, .i64⟩
  | 71 => ⟨S2, .i64⟩
  | 72 => ⟨S2, .i32⟩
  | 73 => ⟨S2, .i32⟩
  | 74 => ⟨S_, .i32⟩
  | 75 => ⟨S_, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_44 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S_, .i32⟩
  | 127 => ⟨S2, .i32⟩
  | _ => ⟨S16x96x224x224, .f32⟩

abbrev hbmTy0_45 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S2x1, .i32⟩
  | 41 => ⟨S2x1, .i32⟩
  | 42 => ⟨S2x2, .i32⟩
  | 43 => ⟨S1x2, .i32⟩
  | 44 => ⟨S2, .i32⟩
  | 45 => ⟨S1x2, .i32⟩
  | 46 => ⟨S2, .i32⟩
  | 47 => ⟨S1, .i32⟩
  | 48 => ⟨S_, .i32⟩
  | 49 => ⟨S1, .i32⟩
  | 50 => ⟨S_, .i32⟩
  | 51 => ⟨S16, .i64⟩
  | 52 => ⟨S_, .i64⟩
  | 53 => ⟨S16, .i64⟩
  | 54 => ⟨S16, .i64⟩
  | 55 => ⟨S_, .i64⟩
  | 56 => ⟨S16, .i64⟩
  | 57 => ⟨S16, .i64⟩
  | 58 => ⟨S16, .i32⟩
  | 59 => ⟨S16, .i32⟩
  | 60 => ⟨S_, .i32⟩
  | 61 => ⟨S_, .i32⟩
  | 62 => ⟨S_, .i32⟩
  | 63 => ⟨S16, .i32⟩
  | 64 => ⟨S16, .i32⟩
  | 65 => ⟨S16, .i32⟩
  | 66 => ⟨S16, .i32⟩
  | 67 => ⟨S16, .i32⟩
  | 68 => ⟨S_, .i32⟩
  | 69 => ⟨S16, .i32⟩
  | 70 => ⟨S16, .i32⟩
  | 71 => ⟨S_, .i32⟩
  | 72 => ⟨S16, .i32⟩
  | 73 => ⟨S16, .i32⟩
  | 74 => ⟨S16, .i32⟩
  | 75 => ⟨S16, .i32⟩
  | 76 => ⟨S16, .i32⟩
  | 77 => ⟨S_, .i32⟩
  | 78 => ⟨S16, .i32⟩
  | 79 => ⟨S16, .i32⟩
  | 80 => ⟨S_, .i32⟩
  | 81 => ⟨S16, .i32⟩
  | 82 => ⟨S16, .i32⟩
  | 83 => ⟨S16, .i32⟩
  | 84 => ⟨S16, .i32⟩
  | 85 => ⟨S16, .i32⟩
  | 86 => ⟨S_, .i32⟩
  | 87 => ⟨S16, .i32⟩
  | 88 => ⟨S16, .i32⟩
  | 89 => ⟨S_, .i32⟩
  | 90 => ⟨S16, .i32⟩
  | 91 => ⟨S16, .i32⟩
  | 92 => ⟨S16, .i32⟩
  | 93 => ⟨S16, .i32⟩
  | 94 => ⟨S16, .i32⟩
  | 95 => ⟨S_, .i32⟩
  | 96 => ⟨S16, .i32⟩
  | 97 => ⟨S16, .i32⟩
  | 98 => ⟨S_, .i32⟩
  | 99 => ⟨S16, .i32⟩
  | 100 => ⟨S16, .i32⟩
  | 101 => ⟨S16, .i32⟩
  | 102 => ⟨S16, .i32⟩
  | 103 => ⟨S16, .i32⟩
  | 104 => ⟨S16, .i32⟩
  | 105 => ⟨S16, .i32⟩
  | 106 => ⟨S16, .i32⟩
  | 107 => ⟨S_, .i32⟩
  | 108 => ⟨S16, .i32⟩
  | 109 => ⟨S16, .i32⟩
  | 110 => ⟨S16, .i32⟩
  | 111 => ⟨S_, .i32⟩
  | 112 => ⟨S16, .i32⟩
  | 113 => ⟨S16, .i32⟩
  | 114 => ⟨S_, .i32⟩
  | 115 => ⟨S16, .i32⟩
  | 116 => ⟨S16, .i32⟩
  | 117 => ⟨S16, .i32⟩
  | 118 => ⟨S16, .i32⟩
  | 119 => ⟨S16, .i32⟩
  | 120 => ⟨S_, .i32⟩
  | 121 => ⟨S16, .i32⟩
  | 122 => ⟨S16, .i32⟩
  | 123 => ⟨S_, .i32⟩
  | 124 => ⟨S16, .i32⟩
  | 125 => ⟨S16, .i32⟩
  | 126 => ⟨S16, .i32⟩
  | 127 => ⟨S16, .i32⟩
  | _ => ⟨S16x96x224x224, .f32⟩

abbrev hbmTy0_46 (i : Nat) : BufTy := match i % 128 with
  | 0 => ⟨S16, .i32⟩
  | 1 => ⟨S_, .i32⟩
  | 2 => ⟨S16, .i32⟩
  | 3 => ⟨S16, .i32⟩
  | 4 => ⟨S_, .i32⟩
  | 5 => ⟨S16, .i32⟩
  | 6 => ⟨S16, .i32⟩
  | 7 => ⟨S16, .i32⟩
  | 8 => ⟨S16, .i32⟩
  | 9 => ⟨S16, .i32⟩
  | 10 => ⟨S_, .i32⟩
  | 11 => ⟨S16, .i32⟩
  | 12 => ⟨S16, .i32⟩
  | 13 => ⟨S_, .i32⟩
  | 14 => ⟨S16, .i32⟩
  | 15 => ⟨S16, .i32⟩
  | 16 => ⟨S16, .i32⟩
  | 17 => ⟨S16, .i32⟩
  | 18 => ⟨S16, .i32⟩
  | 19 => ⟨S16, .i32⟩
  | 20 => ⟨S16, .i32⟩
  | 21 => ⟨S16, .i32⟩
  | 22 => ⟨S_, .i32⟩
  | 23 => ⟨S16, .i32⟩
  | 24 => ⟨S16, .i32⟩
  | 25 => ⟨S16, .i32⟩
  | 26 => ⟨S_, .i32⟩
  | 27 => ⟨S16, .i32⟩
  | 28 => ⟨S16, .i32⟩
  | 29 => ⟨S_, .i32⟩
  | 30 => ⟨S16, .i32⟩
  | 31 => ⟨S16, .i32⟩
  | 32 => ⟨S16, .i32⟩
  | 33 => ⟨S16, .i32⟩
  | 34 => ⟨S16, .i32⟩
  | 35 => ⟨S_, .i32⟩
  | 36 => ⟨S16, .i32⟩
  | 37 => ⟨S16, .i32⟩
  | 38 => ⟨S_, .i32⟩
  | 39 => ⟨S16, .i32⟩
  | 40 => ⟨S16, .i32⟩
  | 41 => ⟨S16, .i32⟩
  | 42 => ⟨S16, .i32⟩
  | 43 => ⟨S16, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S16, .i32⟩
  | 51 => ⟨S16, .i32⟩
  | 52 => ⟨S16, .i32⟩
  | 53 => ⟨S_, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S16, .i32⟩
  | 61 => ⟨S16, .i32⟩
  | 62 => ⟨S16, .i32⟩
  | 63 => ⟨S16, .i32⟩
  | 64 => ⟨S16, .i32⟩
  | 65 => ⟨S_, .i32⟩
  | 66 => ⟨S16, .i32⟩
  | 67 => ⟨S16, .i32⟩
  | 68 => ⟨S16, .i32⟩
  | 69 => ⟨S_, .i32⟩
  | 70 => ⟨S16, .i32⟩
  | 71 => ⟨S16, .i32⟩
  | 72 => ⟨S_, .i32⟩
  | 73 => ⟨S16, .i32⟩
  | 74 => ⟨S16, .i32⟩
  | 75 => ⟨S16, .i32⟩
  | 76 => ⟨S16, .i32⟩
  | 77 => ⟨S16, .i32⟩
  | 78 => ⟨S_, .i32⟩
  | 79 => ⟨S16, .i32⟩
  | 80 => ⟨S16, .i32⟩
  | 81 => ⟨S_, .i32⟩
  | 82 => ⟨S16, .i32⟩
  | 83 => ⟨S16, .i32⟩
  | 84 => ⟨S16, .i32⟩
  | 85 => ⟨S16, .i32⟩
  | 86 => ⟨S16, .i32⟩
  | 87 => ⟨S_, .i32⟩
  | 88 => ⟨S16, .i32⟩
  | 89 => ⟨S16, .i32⟩
  | 90 => ⟨S_, .i32⟩
  | 91 => ⟨S16, .i32⟩
  | 92 => ⟨S16, .i32⟩
  | 93 => ⟨S16, .i32⟩
  | 94 => ⟨S16, .i32⟩
  | 95 => ⟨S16, .i32⟩
  | 96 => ⟨S_, .i32⟩
  | 97 => ⟨S16, .i32⟩
  | 98 => ⟨S16, .i32⟩
  | 99 => ⟨S_, .i32⟩
  | 100 => ⟨S16, .i32⟩
  | 101 => ⟨S16, .i32⟩
  | 102 => ⟨S16, .i32⟩
  | 103 => ⟨S16, .i32⟩
  | 104 => ⟨S16, .i32⟩
  | 105 => ⟨S16, .i32⟩
  | 106 => ⟨S16, .i32⟩
  | 107 => ⟨S16, .i32⟩
  | 108 => ⟨S_, .i32⟩
  | 109 => ⟨S16, .i32⟩
  | 110 => ⟨S16, .i32⟩
  | 111 => ⟨S16, .i32⟩
  | 112 => ⟨S_, .i32⟩
  | 113 => ⟨S16, .i32⟩
  | 114 => ⟨S16, .i32⟩
  | 115 => ⟨S_, .i32⟩
  | 116 => ⟨S16, .i32⟩
  | 117 => ⟨S16, .i32⟩
  | 118 => ⟨S16, .i32⟩
  | 119 => ⟨S16, .i32⟩
  | 120 => ⟨S16, .i32⟩
  | 121 => ⟨S_, .i32⟩
  | 122 => ⟨S16, .i32⟩
  | 123 => ⟨S16, .i32⟩
  | 124 => ⟨S_, .i32⟩
  | 125 => ⟨S16, .i32⟩
  | 126 => ⟨S16, .i32⟩
  | 127 => ⟨S16, .i32⟩
  | _ => ⟨S16x96x224x224, .f32⟩

abbrev hbmTy0_47 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S_, .i32⟩
  | 6 => ⟨S16, .i32⟩
  | 7 => ⟨S16, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S_, .i32⟩
  | 15 => ⟨S16, .i32⟩
  | 16 => ⟨S16, .i32⟩
  | 17 => ⟨S16, .i32⟩
  | 18 => ⟨S16, .i32⟩
  | 19 => ⟨S16, .i32⟩
  | 20 => ⟨S16, .i32⟩
  | 21 => ⟨S16, .i32⟩
  | 22 => ⟨S16, .i32⟩
  | 23 => ⟨S_, .i32⟩
  | 24 => ⟨S16, .i32⟩
  | 25 => ⟨S16, .i32⟩
  | 26 => ⟨S16, .i32⟩
  | 27 => ⟨S16, .i32⟩
  | 28 => ⟨S16, .i32⟩
  | 29 => ⟨S1x2, .i32⟩
  | 30 => ⟨S2, .i32⟩
  | 31 => ⟨S16, .i32⟩
  | 32 => ⟨S1, .i32⟩
  | 33 => ⟨S_, .i32⟩
  | 34 => ⟨S1, .i32⟩
  | 35 => ⟨S_, .i32⟩
  | 36 => ⟨S2, .i64⟩
  | 37 => ⟨S_, .i64⟩
  | 38 => ⟨S2, .i64⟩
  | 39 => ⟨S2, .i64⟩
  | 40 => ⟨S_, .i64⟩
  | 41 => ⟨S2, .i64⟩
  | 42 => ⟨S2, .i64⟩
  | 43 => ⟨S2, .i32⟩
  | 44 => ⟨S2, .i32⟩
  | 45 => ⟨S_, .i32⟩
  | 46 => ⟨S_, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S16x96x224x224, .f32⟩

abbrev hbmTy0_48 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S16x96x224x224, .f32⟩

abbrev hbmTy0_49 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S2x1, .i32⟩
  | 12 => ⟨S2x1, .i32⟩
  | 13 => ⟨S2x2, .i32⟩
  | 14 => ⟨S1x2, .i32⟩
  | 15 => ⟨S2, .i32⟩
  | 16 => ⟨S1x2, .i32⟩
  | 17 => ⟨S2, .i32⟩
  | 18 => ⟨S1, .i32⟩
  | 19 => ⟨S_, .i32⟩
  | 20 => ⟨S1, .i32⟩
  | 21 => ⟨S_, .i32⟩
  | 22 => ⟨S16, .i64⟩
  | 23 => ⟨S_, .i64⟩
  | 24 => ⟨S16, .i64⟩
  | 25 => ⟨S16, .i64⟩
  | 26 => ⟨S_, .i64⟩
  | 27 => ⟨S16, .i64⟩
  | 28 => ⟨S16, .i64⟩
  | 29 => ⟨S16, .i32⟩
  | 30 => ⟨S16, .i32⟩
  | 31 => ⟨S_, .i32⟩
  | 32 => ⟨S_, .i32⟩
  | 33 => ⟨S_, .i32⟩
  | 34 => ⟨S16, .i32⟩
  | 35 => ⟨S16, .i32⟩
  | 36 => ⟨S16, .i32⟩
  | 37 => ⟨S16, .i32⟩
  | 38 => ⟨S16, .i32⟩
  | 39 => ⟨S_, .i32⟩
  | 40 => ⟨S16, .i32⟩
  | 41 => ⟨S16, .i32⟩
  | 42 => ⟨S_, .i32⟩
  | 43 => ⟨S16, .i32⟩
  | 44 => ⟨S16, .i32⟩
  | 45 => ⟨S16, .i32⟩
  | 46 => ⟨S16, .i32⟩
  | 47 => ⟨S16, .i32⟩
  | 48 => ⟨S_, .i32⟩
  | 49 => ⟨S16, .i32⟩
  | 50 => ⟨S16, .i32⟩
  | 51 => ⟨S_, .i32⟩
  | 52 => ⟨S16, .i32⟩
  | 53 => ⟨S16, .i32⟩
  | 54 => ⟨S16, .i32⟩
  | 55 => ⟨S16, .i32⟩
  | 56 => ⟨S16, .i32⟩
  | 57 => ⟨S_, .i32⟩
  | 58 => ⟨S16, .i32⟩
  | 59 => ⟨S16, .i32⟩
  | 60 => ⟨S_, .i32⟩
  | 61 => ⟨S16, .i32⟩
  | 62 => ⟨S16, .i32⟩
  | 63 => ⟨S16, .i32⟩
  | 64 => ⟨S16, .i32⟩
  | 65 => ⟨S16, .i32⟩
  | 66 => ⟨S_, .i32⟩
  | 67 => ⟨S16, .i32⟩
  | 68 => ⟨S16, .i32⟩
  | 69 => ⟨S_, .i32⟩
  | 70 => ⟨S16, .i32⟩
  | 71 => ⟨S16, .i32⟩
  | 72 => ⟨S16, .i32⟩
  | 73 => ⟨S16, .i32⟩
  | 74 => ⟨S16, .i32⟩
  | 75 => ⟨S16, .i32⟩
  | 76 => ⟨S16, .i32⟩
  | 77 => ⟨S16, .i32⟩
  | 78 => ⟨S_, .i32⟩
  | 79 => ⟨S16, .i32⟩
  | 80 => ⟨S16, .i32⟩
  | 81 => ⟨S16, .i32⟩
  | 82 => ⟨S_, .i32⟩
  | 83 => ⟨S16, .i32⟩
  | 84 => ⟨S16, .i32⟩
  | 85 => ⟨S_, .i32⟩
  | 86 => ⟨S16, .i32⟩
  | 87 => ⟨S16, .i32⟩
  | 88 => ⟨S16, .i32⟩
  | 89 => ⟨S16, .i32⟩
  | 90 => ⟨S16, .i32⟩
  | 91 => ⟨S_, .i32⟩
  | 92 => ⟨S16, .i32⟩
  | 93 => ⟨S16, .i32⟩
  | 94 => ⟨S_, .i32⟩
  | 95 => ⟨S16, .i32⟩
  | 96 => ⟨S16, .i32⟩
  | 97 => ⟨S16, .i32⟩
  | 98 => ⟨S16, .i32⟩
  | 99 => ⟨S16, .i32⟩
  | 100 => ⟨S_, .i32⟩
  | 101 => ⟨S16, .i32⟩
  | 102 => ⟨S16, .i32⟩
  | 103 => ⟨S_, .i32⟩
  | 104 => ⟨S16, .i32⟩
  | 105 => ⟨S16, .i32⟩
  | 106 => ⟨S16, .i32⟩
  | 107 => ⟨S16, .i32⟩
  | 108 => ⟨S16, .i32⟩
  | 109 => ⟨S_, .i32⟩
  | 110 => ⟨S16, .i32⟩
  | 111 => ⟨S16, .i32⟩
  | 112 => ⟨S_, .i32⟩
  | 113 => ⟨S16, .i32⟩
  | 114 => ⟨S16, .i32⟩
  | 115 => ⟨S16, .i32⟩
  | 116 => ⟨S16, .i32⟩
  | 117 => ⟨S16, .i32⟩
  | 118 => ⟨S16, .i32⟩
  | 119 => ⟨S16, .i32⟩
  | 120 => ⟨S16, .i32⟩
  | 121 => ⟨S_, .i32⟩
  | 122 => ⟨S16, .i32⟩
  | 123 => ⟨S16, .i32⟩
  | 124 => ⟨S16, .i32⟩
  | 125 => ⟨S_, .i32⟩
  | 126 => ⟨S16, .i32⟩
  | 127 => ⟨S16, .i32⟩
  | _ => ⟨S16x96x224x224, .f32⟩

abbrev hbmTy0_50 (i : Nat) : BufTy := match i % 128 with
  | 0 => ⟨S_, .i32⟩
  | 1 => ⟨S16, .i32⟩
  | 2 => ⟨S16, .i32⟩
  | 3 => ⟨S16, .i32⟩
  | 4 => ⟨S16, .i32⟩
  | 5 => ⟨S16, .i32⟩
  | 6 => ⟨S_, .i32⟩
  | 7 => ⟨S16, .i32⟩
  | 8 => ⟨S16, .i32⟩
  | 9 => ⟨S_, .i32⟩
  | 10 => ⟨S16, .i32⟩
  | 11 => ⟨S16, .i32⟩
  | 12 => ⟨S16, .i32⟩
  | 13 => ⟨S16, .i32⟩
  | 14 => ⟨S16, .i32⟩
  | 15 => ⟨S_, .i32⟩
  | 16 => ⟨S16, .i32⟩
  | 17 => ⟨S16, .i32⟩
  | 18 => ⟨S_, .i32⟩
  | 19 => ⟨S16, .i32⟩
  | 20 => ⟨S16, .i32⟩
  | 21 => ⟨S16, .i32⟩
  | 22 => ⟨S16, .i32⟩
  | 23 => ⟨S16, .i32⟩
  | 24 => ⟨S_, .i32⟩
  | 25 => ⟨S16, .i32⟩
  | 26 => ⟨S16, .i32⟩
  | 27 => ⟨S_, .i32⟩
  | 28 => ⟨S16, .i32⟩
  | 29 => ⟨S16, .i32⟩
  | 30 => ⟨S16, .i32⟩
  | 31 => ⟨S16, .i32⟩
  | 32 => ⟨S16, .i32⟩
  | 33 => ⟨S16, .i32⟩
  | 34 => ⟨S16, .i32⟩
  | 35 => ⟨S16, .i32⟩
  | 36 => ⟨S_, .i32⟩
  | 37 => ⟨S16, .i32⟩
  | 38 => ⟨S16, .i32⟩
  | 39 => ⟨S16, .i32⟩
  | 40 => ⟨S_, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S16, .i32⟩
  | 48 => ⟨S16, .i32⟩
  | 49 => ⟨S_, .i32⟩
  | 50 => ⟨S16, .i32⟩
  | 51 => ⟨S16, .i32⟩
  | 52 => ⟨S_, .i32⟩
  | 53 => ⟨S16, .i32⟩
  | 54 => ⟨S16, .i32⟩
  | 55 => ⟨S16, .i32⟩
  | 56 => ⟨S16, .i32⟩
  | 57 => ⟨S16, .i32⟩
  | 58 => ⟨S_, .i32⟩
  | 59 => ⟨S16, .i32⟩
  | 60 => ⟨S16, .i32⟩
  | 61 => ⟨S_, .i32⟩
  | 62 => ⟨S16, .i32⟩
  | 63 => ⟨S16, .i32⟩
  | 64 => ⟨S16, .i32⟩
  | 65 => ⟨S16, .i32⟩
  | 66 => ⟨S16, .i32⟩
  | 67 => ⟨S_, .i32⟩
  | 68 => ⟨S16, .i32⟩
  | 69 => ⟨S16, .i32⟩
  | 70 => ⟨S_, .i32⟩
  | 71 => ⟨S16, .i32⟩
  | 72 => ⟨S16, .i32⟩
  | 73 => ⟨S16, .i32⟩
  | 74 => ⟨S16, .i32⟩
  | 75 => ⟨S16, .i32⟩
  | 76 => ⟨S16, .i32⟩
  | 77 => ⟨S16, .i32⟩
  | 78 => ⟨S16, .i32⟩
  | 79 => ⟨S_, .i32⟩
  | 80 => ⟨S16, .i32⟩
  | 81 => ⟨S16, .i32⟩
  | 82 => ⟨S16, .i32⟩
  | 83 => ⟨S_, .i32⟩
  | 84 => ⟨S16, .i32⟩
  | 85 => ⟨S16, .i32⟩
  | 86 => ⟨S_, .i32⟩
  | 87 => ⟨S16, .i32⟩
  | 88 => ⟨S16, .i32⟩
  | 89 => ⟨S16, .i32⟩
  | 90 => ⟨S16, .i32⟩
  | 91 => ⟨S16, .i32⟩
  | 92 => ⟨S_, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S16, .i32⟩
  | 100 => ⟨S16, .i32⟩
  | 101 => ⟨S_, .i32⟩
  | 102 => ⟨S16, .i32⟩
  | 103 => ⟨S16, .i32⟩
  | 104 => ⟨S_, .i32⟩
  | 105 => ⟨S16, .i32⟩
  | 106 => ⟨S16, .i32⟩
  | 107 => ⟨S16, .i32⟩
  | 108 => ⟨S16, .i32⟩
  | 109 => ⟨S16, .i32⟩
  | 110 => ⟨S_, .i32⟩
  | 111 => ⟨S16, .i32⟩
  | 112 => ⟨S16, .i32⟩
  | 113 => ⟨S_, .i32⟩
  | 114 => ⟨S16, .i32⟩
  | 115 => ⟨S16, .i32⟩
  | 116 => ⟨S16, .i32⟩
  | 117 => ⟨S16, .i32⟩
  | 118 => ⟨S16, .i32⟩
  | 119 => ⟨S16, .i32⟩
  | 120 => ⟨S16, .i32⟩
  | 121 => ⟨S16, .i32⟩
  | 122 => ⟨S_, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_51 (i : Nat) : BufTy := match i % 128 with
  | 0 => ⟨S1x2, .i32⟩
  | 1 => ⟨S2, .i32⟩
  | 2 => ⟨S16, .i32⟩
  | 3 => ⟨S1, .i32⟩
  | 4 => ⟨S_, .i32⟩
  | 5 => ⟨S1, .i32⟩
  | 6 => ⟨S_, .i32⟩
  | 7 => ⟨S2, .i64⟩
  | 8 => ⟨S_, .i64⟩
  | 9 => ⟨S2, .i64⟩
  | 10 => ⟨S2, .i64⟩
  | 11 => ⟨S_, .i64⟩
  | 12 => ⟨S2, .i64⟩
  | 13 => ⟨S2, .i64⟩
  | 14 => ⟨S2, .i32⟩
  | 15 => ⟨S2, .i32⟩
  | 16 => ⟨S_, .i32⟩
  | 17 => ⟨S_, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16x96x224x224, .f32⟩

abbrev hbmTy0_52 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S2x1, .i32⟩
  | 111 => ⟨S2x1, .i32⟩
  | 112 => ⟨S2x2, .i32⟩
  | 113 => ⟨S1x2, .i32⟩
  | 114 => ⟨S2, .i32⟩
  | 115 => ⟨S1x2, .i32⟩
  | 116 => ⟨S2, .i32⟩
  | 117 => ⟨S1, .i32⟩
  | 118 => ⟨S_, .i32⟩
  | 119 => ⟨S1, .i32⟩
  | 120 => ⟨S_, .i32⟩
  | 121 => ⟨S16, .i64⟩
  | 122 => ⟨S_, .i64⟩
  | 123 => ⟨S16, .i64⟩
  | 124 => ⟨S16, .i64⟩
  | 125 => ⟨S_, .i64⟩
  | 126 => ⟨S16, .i64⟩
  | 127 => ⟨S16, .i64⟩
  | _ => ⟨S16x96x224x224, .f32⟩

abbrev hbmTy0_53 (i : Nat) : BufTy := match i % 128 with
  | 0 => ⟨S16, .i32⟩
  | 1 => ⟨S16, .i32⟩
  | 2 => ⟨S_, .i32⟩
  | 3 => ⟨S_, .i32⟩
  | 4 => ⟨S_, .i32⟩
  | 5 => ⟨S16, .i32⟩
  | 6 => ⟨S16, .i32⟩
  | 7 => ⟨S16, .i32⟩
  | 8 => ⟨S16, .i32⟩
  | 9 => ⟨S16, .i32⟩
  | 10 => ⟨S_, .i32⟩
  | 11 => ⟨S16, .i32⟩
  | 12 => ⟨S16, .i32⟩
  | 13 => ⟨S_, .i32⟩
  | 14 => ⟨S16, .i32⟩
  | 15 => ⟨S16, .i32⟩
  | 16 => ⟨S16, .i32⟩
  | 17 => ⟨S16, .i32⟩
  | 18 => ⟨S16, .i32⟩
  | 19 => ⟨S_, .i32⟩
  | 20 => ⟨S16, .i32⟩
  | 21 => ⟨S16, .i32⟩
  | 22 => ⟨S_, .i32⟩
  | 23 => ⟨S16, .i32⟩
  | 24 => ⟨S16, .i32⟩
  | 25 => ⟨S16, .i32⟩
  | 26 => ⟨S16, .i32⟩
  | 27 => ⟨S16, .i32⟩
  | 28 => ⟨S_, .i32⟩
  | 29 => ⟨S16, .i32⟩
  | 30 => ⟨S16, .i32⟩
  | 31 => ⟨S_, .i32⟩
  | 32 => ⟨S16, .i32⟩
  | 33 => ⟨S16, .i32⟩
  | 34 => ⟨S16, .i32⟩
  | 35 => ⟨S16, .i32⟩
  | 36 => ⟨S16, .i32⟩
  | 37 => ⟨S_, .i32⟩
  | 38 => ⟨S16, .i32⟩
  | 39 => ⟨S16, .i32⟩
  | 40 => ⟨S_, .i32⟩
  | 41 => ⟨S16, .i32⟩
  | 42 => ⟨S16, .i32⟩
  | 43 => ⟨S16, .i32⟩
  | 44 => ⟨S16, .i32⟩
  | 45 => ⟨S16, .i32⟩
  | 46 => ⟨S16, .i32⟩
  | 47 => ⟨S16, .i32⟩
  | 48 => ⟨S16, .i32⟩
  | 49 => ⟨S_, .i32⟩
  | 50 => ⟨S16, .i32⟩
  | 51 => ⟨S16, .i32⟩
  | 52 => ⟨S16, .i32⟩
  | 53 => ⟨S_, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S16, .i32⟩
  | 61 => ⟨S16, .i32⟩
  | 62 => ⟨S_, .i32⟩
  | 63 => ⟨S16, .i32⟩
  | 64 => ⟨S16, .i32⟩
  | 65 => ⟨S_, .i32⟩
  | 66 => ⟨S16, .i32⟩
  | 67 => ⟨S16, .i32⟩
  | 68 => ⟨S16, .i32⟩
  | 69 => ⟨S16, .i32⟩
  | 70 => ⟨S16, .i32⟩
  | 71 => ⟨S_, .i32⟩
  | 72 => ⟨S16, .i32⟩
  | 73 => ⟨S16, .i32⟩
  | 74 => ⟨S_, .i32⟩
  | 75 => ⟨S16, .i32⟩
  | 76 => ⟨S16, .i32⟩
  | 77 => ⟨S16, .i32⟩
  | 78 => ⟨S16, .i32⟩
  | 79 => ⟨S16, .i32⟩
  | 80 => ⟨S_, .i32⟩
  | 81 => ⟨S16, .i32⟩
  | 82 => ⟨S16, .i32⟩
  | 83 => ⟨S_, .i32⟩
  | 84 => ⟨S16, .i32⟩
  | 85 => ⟨S16, .i32⟩
  | 86 => ⟨S16, .i32⟩
  | 87 => ⟨S16, .i32⟩
  | 88 => ⟨S16, .i32⟩
  | 89 => ⟨S16, .i32⟩
  | 90 => ⟨S16, .i32⟩
  | 91 => ⟨S16, .i32⟩
  | 92 => ⟨S_, .i32⟩
  | 93 => ⟨S16, .i32⟩
  | 94 => ⟨S16, .i32⟩
  | 95 => ⟨S16, .i32⟩
  | 96 => ⟨S_, .i32⟩
  | 97 => ⟨S16, .i32⟩
  | 98 => ⟨S16, .i32⟩
  | 99 => ⟨S_, .i32⟩
  | 100 => ⟨S16, .i32⟩
  | 101 => ⟨S16, .i32⟩
  | 102 => ⟨S16, .i32⟩
  | 103 => ⟨S16, .i32⟩
  | 104 => ⟨S16, .i32⟩
  | 105 => ⟨S_, .i32⟩
  | 106 => ⟨S16, .i32⟩
  | 107 => ⟨S16, .i32⟩
  | 108 => ⟨S_, .i32⟩
  | 109 => ⟨S16, .i32⟩
  | 110 => ⟨S16, .i32⟩
  | 111 => ⟨S16, .i32⟩
  | 112 => ⟨S16, .i32⟩
  | 113 => ⟨S16, .i32⟩
  | 114 => ⟨S_, .i32⟩
  | 115 => ⟨S16, .i32⟩
  | 116 => ⟨S16, .i32⟩
  | 117 => ⟨S_, .i32⟩
  | 118 => ⟨S16, .i32⟩
  | 119 => ⟨S16, .i32⟩
  | 120 => ⟨S16, .i32⟩
  | 121 => ⟨S16, .i32⟩
  | 122 => ⟨S16, .i32⟩
  | 123 => ⟨S_, .i32⟩
  | 124 => ⟨S16, .i32⟩
  | 125 => ⟨S16, .i32⟩
  | 126 => ⟨S_, .i32⟩
  | 127 => ⟨S16, .i32⟩
  | _ => ⟨S16x96x224x224, .f32⟩

abbrev hbmTy0_54 (i : Nat) : BufTy := match i % 128 with
  | 0 => ⟨S16, .i32⟩
  | 1 => ⟨S16, .i32⟩
  | 2 => ⟨S16, .i32⟩
  | 3 => ⟨S16, .i32⟩
  | 4 => ⟨S16, .i32⟩
  | 5 => ⟨S16, .i32⟩
  | 6 => ⟨S16, .i32⟩
  | 7 => ⟨S_, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S_, .i32⟩
  | 15 => ⟨S16, .i32⟩
  | 16 => ⟨S16, .i32⟩
  | 17 => ⟨S16, .i32⟩
  | 18 => ⟨S16, .i32⟩
  | 19 => ⟨S16, .i32⟩
  | 20 => ⟨S_, .i32⟩
  | 21 => ⟨S16, .i32⟩
  | 22 => ⟨S16, .i32⟩
  | 23 => ⟨S_, .i32⟩
  | 24 => ⟨S16, .i32⟩
  | 25 => ⟨S16, .i32⟩
  | 26 => ⟨S16, .i32⟩
  | 27 => ⟨S16, .i32⟩
  | 28 => ⟨S16, .i32⟩
  | 29 => ⟨S_, .i32⟩
  | 30 => ⟨S16, .i32⟩
  | 31 => ⟨S16, .i32⟩
  | 32 => ⟨S_, .i32⟩
  | 33 => ⟨S16, .i32⟩
  | 34 => ⟨S16, .i32⟩
  | 35 => ⟨S16, .i32⟩
  | 36 => ⟨S16, .i32⟩
  | 37 => ⟨S16, .i32⟩
  | 38 => ⟨S_, .i32⟩
  | 39 => ⟨S16, .i32⟩
  | 40 => ⟨S16, .i32⟩
  | 41 => ⟨S_, .i32⟩
  | 42 => ⟨S16, .i32⟩
  | 43 => ⟨S16, .i32⟩
  | 44 => ⟨S16, .i32⟩
  | 45 => ⟨S16, .i32⟩
  | 46 => ⟨S16, .i32⟩
  | 47 => ⟨S16, .i32⟩
  | 48 => ⟨S16, .i32⟩
  | 49 => ⟨S16, .i32⟩
  | 50 => ⟨S_, .i32⟩
  | 51 => ⟨S16, .i32⟩
  | 52 => ⟨S16, .i32⟩
  | 53 => ⟨S16, .i32⟩
  | 54 => ⟨S_, .i32⟩
  | 55 => ⟨S16, .i32⟩
  | 56 => ⟨S16, .i32⟩
  | 57 => ⟨S_, .i32⟩
  | 58 => ⟨S16, .i32⟩
  | 59 => ⟨S16, .i32⟩
  | 60 => ⟨S16, .i32⟩
  | 61 => ⟨S16, .i32⟩
  | 62 => ⟨S16, .i32⟩
  | 63 => ⟨S_, .i32⟩
  | 64 => ⟨S16, .i32⟩
  | 65 => ⟨S16, .i32⟩
  | 66 => ⟨S_, .i32⟩
  | 67 => ⟨S16, .i32⟩
  | 68 => ⟨S16, .i32⟩
  | 69 => ⟨S16, .i32⟩
  | 70 => ⟨S16, .i32⟩
  | 71 => ⟨S16, .i32⟩
  | 72 => ⟨S_, .i32⟩
  | 73 => ⟨S16, .i32⟩
  | 74 => ⟨S16, .i32⟩
  | 75 => ⟨S_, .i32⟩
  | 76 => ⟨S16, .i32⟩
  | 77 => ⟨S16, .i32⟩
  | 78 => ⟨S16, .i32⟩
  | 79 => ⟨S16, .i32⟩
  | 80 => ⟨S16, .i32⟩
  | 81 => ⟨S_, .i32⟩
  | 82 => ⟨S16, .i32⟩
  | 83 => ⟨S16, .i32⟩
  | 84 => ⟨S_, .i32⟩
  | 85 => ⟨S16, .i32⟩
  | 86 => ⟨S16, .i32⟩
  | 87 => ⟨S16, .i32⟩
  | 88 => ⟨S16, .i32⟩
  | 89 => ⟨S16, .i32⟩
  | 90 => ⟨S16, .i32⟩
  | 91 => ⟨S16, .i32⟩
  | 92 => ⟨S16, .i32⟩
  | 93 => ⟨S_, .i32⟩
  | 94 => ⟨S16, .i32⟩
  | 95 => ⟨S16, .i32⟩
  | 96 => ⟨S16, .i32⟩
  | 97 => ⟨S16, .i32⟩
  | 98 => ⟨S16, .i32⟩
  | 99 => ⟨S1x2, .i32⟩
  | 100 => ⟨S2, .i32⟩
  | 101 => ⟨S16, .i32⟩
  | 102 => ⟨S1, .i32⟩
  | 103 => ⟨S_, .i32⟩
  | 104 => ⟨S1, .i32⟩
  | 105 => ⟨S_, .i32⟩
  | 106 => ⟨S2, .i64⟩
  | 107 => ⟨S_, .i64⟩
  | 108 => ⟨S2, .i64⟩
  | 109 => ⟨S2, .i64⟩
  | 110 => ⟨S_, .i64⟩
  | 111 => ⟨S2, .i64⟩
  | 112 => ⟨S2, .i64⟩
  | 113 => ⟨S2, .i32⟩
  | 114 => ⟨S2, .i32⟩
  | 115 => ⟨S_, .i32⟩
  | 116 => ⟨S_, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S16x96x224x224, .f32⟩

abbrev hbmTy0_55 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S16x96x224x224, .f32⟩

abbrev hbmTy0_56 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2x1, .i32⟩
  | 82 => ⟨S2x1, .i32⟩
  | 83 => ⟨S2x2, .i32⟩
  | 84 => ⟨S1x2, .i32⟩
  | 85 => ⟨S2, .i32⟩
  | 86 => ⟨S1x2, .i32⟩
  | 87 => ⟨S2, .i32⟩
  | 88 => ⟨S1, .i32⟩
  | 89 => ⟨S_, .i32⟩
  | 90 => ⟨S1, .i32⟩
  | 91 => ⟨S_, .i32⟩
  | 92 => ⟨S16, .i64⟩
  | 93 => ⟨S_, .i64⟩
  | 94 => ⟨S16, .i64⟩
  | 95 => ⟨S16, .i64⟩
  | 96 => ⟨S_, .i64⟩
  | 97 => ⟨S16, .i64⟩
  | 98 => ⟨S16, .i64⟩
  | 99 => ⟨S16, .i32⟩
  | 100 => ⟨S16, .i32⟩
  | 101 => ⟨S_, .i32⟩
  | 102 => ⟨S_, .i32⟩
  | 103 => ⟨S_, .i32⟩
  | 104 => ⟨S16, .i32⟩
  | 105 => ⟨S16, .i32⟩
  | 106 => ⟨S16, .i32⟩
  | 107 => ⟨S16, .i32⟩
  | 108 => ⟨S16, .i32⟩
  | 109 => ⟨S_, .i32⟩
  | 110 => ⟨S16, .i32⟩
  | 111 => ⟨S16, .i32⟩
  | 112 => ⟨S_, .i32⟩
  | 113 => ⟨S16, .i32⟩
  | 114 => ⟨S16, .i32⟩
  | 115 => ⟨S16, .i32⟩
  | 116 => ⟨S16, .i32⟩
  | 117 => ⟨S16, .i32⟩
  | 118 => ⟨S_, .i32⟩
  | 119 => ⟨S16, .i32⟩
  | 120 => ⟨S16, .i32⟩
  | 121 => ⟨S_, .i32⟩
  | 122 => ⟨S16, .i32⟩
  | 123 => ⟨S16, .i32⟩
  | 124 => ⟨S16, .i32⟩
  | 125 => ⟨S16, .i32⟩
  | 126 => ⟨S16, .i32⟩
  | 127 => ⟨S_, .i32⟩
  | _ => ⟨S16x96x224x224, .f32⟩

abbrev hbmTy0_57 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S16, .i32⟩
  | 6 => ⟨S16, .i32⟩
  | 7 => ⟨S16, .i32⟩
  | 8 => ⟨S_, .i32⟩
  | 9 => ⟨S16, .i32⟩
  | 10 => ⟨S16, .i32⟩
  | 11 => ⟨S_, .i32⟩
  | 12 => ⟨S16, .i32⟩
  | 13 => ⟨S16, .i32⟩
  | 14 => ⟨S16, .i32⟩
  | 15 => ⟨S16, .i32⟩
  | 16 => ⟨S16, .i32⟩
  | 17 => ⟨S16, .i32⟩
  | 18 => ⟨S16, .i32⟩
  | 19 => ⟨S16, .i32⟩
  | 20 => ⟨S_, .i32⟩
  | 21 => ⟨S16, .i32⟩
  | 22 => ⟨S16, .i32⟩
  | 23 => ⟨S16, .i32⟩
  | 24 => ⟨S_, .i32⟩
  | 25 => ⟨S16, .i32⟩
  | 26 => ⟨S16, .i32⟩
  | 27 => ⟨S_, .i32⟩
  | 28 => ⟨S16, .i32⟩
  | 29 => ⟨S16, .i32⟩
  | 30 => ⟨S16, .i32⟩
  | 31 => ⟨S16, .i32⟩
  | 32 => ⟨S16, .i32⟩
  | 33 => ⟨S_, .i32⟩
  | 34 => ⟨S16, .i32⟩
  | 35 => ⟨S16, .i32⟩
  | 36 => ⟨S_, .i32⟩
  | 37 => ⟨S16, .i32⟩
  | 38 => ⟨S16, .i32⟩
  | 39 => ⟨S16, .i32⟩
  | 40 => ⟨S16, .i32⟩
  | 41 => ⟨S16, .i32⟩
  | 42 => ⟨S_, .i32⟩
  | 43 => ⟨S16, .i32⟩
  | 44 => ⟨S16, .i32⟩
  | 45 => ⟨S_, .i32⟩
  | 46 => ⟨S16, .i32⟩
  | 47 => ⟨S16, .i32⟩
  | 48 => ⟨S16, .i32⟩
  | 49 => ⟨S16, .i32⟩
  | 50 => ⟨S16, .i32⟩
  | 51 => ⟨S_, .i32⟩
  | 52 => ⟨S16, .i32⟩
  | 53 => ⟨S16, .i32⟩
  | 54 => ⟨S_, .i32⟩
  | 55 => ⟨S16, .i32⟩
  | 56 => ⟨S16, .i32⟩
  | 57 => ⟨S16, .i32⟩
  | 58 => ⟨S16, .i32⟩
  | 59 => ⟨S16, .i32⟩
  | 60 => ⟨S16, .i32⟩
  | 61 => ⟨S16, .i32⟩
  | 62 => ⟨S16, .i32⟩
  | 63 => ⟨S_, .i32⟩
  | 64 => ⟨S16, .i32⟩
  | 65 => ⟨S16, .i32⟩
  | 66 => ⟨S16, .i32⟩
  | 67 => ⟨S_, .i32⟩
  | 68 => ⟨S16, .i32⟩
  | 69 => ⟨S16, .i32⟩
  | 70 => ⟨S_, .i32⟩
  | 71 => ⟨S16, .i32⟩
  | 72 => ⟨S16, .i32⟩
  | 73 => ⟨S16, .i32⟩
  | 74 => ⟨S16, .i32⟩
  | 75 => ⟨S16, .i32⟩
  | 76 => ⟨S_, .i32⟩
  | 77 => ⟨S16, .i32⟩
  | 78 => ⟨S16, .i32⟩
  | 79 => ⟨S_, .i32⟩
  | 80 => ⟨S16, .i32⟩
  | 81 => ⟨S16, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S_, .i32⟩
  | 89 => ⟨S16, .i32⟩
  | 90 => ⟨S16, .i32⟩
  | 91 => ⟨S16, .i32⟩
  | 92 => ⟨S16, .i32⟩
  | 93 => ⟨S16, .i32⟩
  | 94 => ⟨S_, .i32⟩
  | 95 => ⟨S16, .i32⟩
  | 96 => ⟨S16, .i32⟩
  | 97 => ⟨S_, .i32⟩
  | 98 => ⟨S16, .i32⟩
  | 99 => ⟨S16, .i32⟩
  | 100 => ⟨S16, .i32⟩
  | 101 => ⟨S16, .i32⟩
  | 102 => ⟨S16, .i32⟩
  | 103 => ⟨S16, .i32⟩
  | 104 => ⟨S16, .i32⟩
  | 105 => ⟨S16, .i32⟩
  | 106 => ⟨S_, .i32⟩
  | 107 => ⟨S16, .i32⟩
  | 108 => ⟨S16, .i32⟩
  | 109 => ⟨S16, .i32⟩
  | 110 => ⟨S_, .i32⟩
  | 111 => ⟨S16, .i32⟩
  | 112 => ⟨S16, .i32⟩
  | 113 => ⟨S_, .i32⟩
  | 114 => ⟨S16, .i32⟩
  | 115 => ⟨S16, .i32⟩
  | 116 => ⟨S16, .i32⟩
  | 117 => ⟨S16, .i32⟩
  | 118 => ⟨S16, .i32⟩
  | 119 => ⟨S_, .i32⟩
  | 120 => ⟨S16, .i32⟩
  | 121 => ⟨S16, .i32⟩
  | 122 => ⟨S_, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_58 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i32⟩
  | 6 => ⟨S16, .i32⟩
  | 7 => ⟨S16, .i32⟩
  | 8 => ⟨S16, .i32⟩
  | 9 => ⟨S_, .i32⟩
  | 10 => ⟨S16, .i32⟩
  | 11 => ⟨S16, .i32⟩
  | 12 => ⟨S_, .i32⟩
  | 13 => ⟨S16, .i32⟩
  | 14 => ⟨S16, .i32⟩
  | 15 => ⟨S16, .i32⟩
  | 16 => ⟨S16, .i32⟩
  | 17 => ⟨S16, .i32⟩
  | 18 => ⟨S16, .i32⟩
  | 19 => ⟨S16, .i32⟩
  | 20 => ⟨S16, .i32⟩
  | 21 => ⟨S_, .i32⟩
  | 22 => ⟨S16, .i32⟩
  | 23 => ⟨S16, .i32⟩
  | 24 => ⟨S16, .i32⟩
  | 25 => ⟨S_, .i32⟩
  | 26 => ⟨S16, .i32⟩
  | 27 => ⟨S16, .i32⟩
  | 28 => ⟨S_, .i32⟩
  | 29 => ⟨S16, .i32⟩
  | 30 => ⟨S16, .i32⟩
  | 31 => ⟨S16, .i32⟩
  | 32 => ⟨S16, .i32⟩
  | 33 => ⟨S16, .i32⟩
  | 34 => ⟨S_, .i32⟩
  | 35 => ⟨S16, .i32⟩
  | 36 => ⟨S16, .i32⟩
  | 37 => ⟨S_, .i32⟩
  | 38 => ⟨S16, .i32⟩
  | 39 => ⟨S16, .i32⟩
  | 40 => ⟨S16, .i32⟩
  | 41 => ⟨S16, .i32⟩
  | 42 => ⟨S16, .i32⟩
  | 43 => ⟨S_, .i32⟩
  | 44 => ⟨S16, .i32⟩
  | 45 => ⟨S16, .i32⟩
  | 46 => ⟨S_, .i32⟩
  | 47 => ⟨S16, .i32⟩
  | 48 => ⟨S16, .i32⟩
  | 49 => ⟨S16, .i32⟩
  | 50 => ⟨S16, .i32⟩
  | 51 => ⟨S16, .i32⟩
  | 52 => ⟨S_, .i32⟩
  | 53 => ⟨S16, .i32⟩
  | 54 => ⟨S16, .i32⟩
  | 55 => ⟨S_, .i32⟩
  | 56 => ⟨S16, .i32⟩
  | 57 => ⟨S16, .i32⟩
  | 58 => ⟨S16, .i32⟩
  | 59 => ⟨S16, .i32⟩
  | 60 => ⟨S16, .i32⟩
  | 61 => ⟨S16, .i32⟩
  | 62 => ⟨S16, .i32⟩
  | 63 => ⟨S16, .i32⟩
  | 64 => ⟨S_, .i32⟩
  | 65 => ⟨S16, .i32⟩
  | 66 => ⟨S16, .i32⟩
  | 67 => ⟨S16, .i32⟩
  | 68 => ⟨S16, .i32⟩
  | 69 => ⟨S16, .i32⟩
  | 70 => ⟨S1x2, .i32⟩
  | 71 => ⟨S2, .i32⟩
  | 72 => ⟨S16, .i32⟩
  | 73 => ⟨S1, .i32⟩
  | 74 => ⟨S_, .i32⟩
  | 75 => ⟨S1, .i32⟩
  | 76 => ⟨S_, .i32⟩
  | 77 => ⟨S2, .i64⟩
  | 78 => ⟨S_, .i64⟩
  | 79 => ⟨S2, .i64⟩
  | 80 => ⟨S2, .i64⟩
  | 81 => ⟨S_, .i64⟩
  | 82 => ⟨S2, .i64⟩
  | 83 => ⟨S2, .i64⟩
  | 84 => ⟨S2, .i32⟩
  | 85 => ⟨S2, .i32⟩
  | 86 => ⟨S_, .i32⟩
  | 87 => ⟨S_, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S16x96x224x224, .f32⟩

abbrev hbmTy0_59 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_60 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2x1, .i32⟩
  | 53 => ⟨S2x1, .i32⟩
  | 54 => ⟨S2x2, .i32⟩
  | 55 => ⟨S1x2, .i32⟩
  | 56 => ⟨S2, .i32⟩
  | 57 => ⟨S1x2, .i32⟩
  | 58 => ⟨S2, .i32⟩
  | 59 => ⟨S1, .i32⟩
  | 60 => ⟨S_, .i32⟩
  | 61 => ⟨S1, .i32⟩
  | 62 => ⟨S_, .i32⟩
  | 63 => ⟨S16, .i64⟩
  | 64 => ⟨S_, .i64⟩
  | 65 => ⟨S16, .i64⟩
  | 66 => ⟨S16, .i64⟩
  | 67 => ⟨S_, .i64⟩
  | 68 => ⟨S16, .i64⟩
  | 69 => ⟨S16, .i64⟩
  | 70 => ⟨S16, .i32⟩
  | 71 => ⟨S16, .i32⟩
  | 72 => ⟨S_, .i32⟩
  | 73 => ⟨S_, .i32⟩
  | 74 => ⟨S_, .i32⟩
  | 75 => ⟨S16, .i32⟩
  | 76 => ⟨S16, .i32⟩
  | 77 => ⟨S16, .i32⟩
  | 78 => ⟨S16, .i32⟩
  | 79 => ⟨S16, .i32⟩
  | 80 => ⟨S_, .i32⟩
  | 81 => ⟨S16, .i32⟩
  | 82 => ⟨S16, .i32⟩
  | 83 => ⟨S_, .i32⟩
  | 84 => ⟨S16, .i32⟩
  | 85 => ⟨S16, .i32⟩
  | 86 => ⟨S16, .i32⟩
  | 87 => ⟨S16, .i32⟩
  | 88 => ⟨S16, .i32⟩
  | 89 => ⟨S_, .i32⟩
  | 90 => ⟨S16, .i32⟩
  | 91 => ⟨S16, .i32⟩
  | 92 => ⟨S_, .i32⟩
  | 93 => ⟨S16, .i32⟩
  | 94 => ⟨S16, .i32⟩
  | 95 => ⟨S16, .i32⟩
  | 96 => ⟨S16, .i32⟩
  | 97 => ⟨S16, .i32⟩
  | 98 => ⟨S_, .i32⟩
  | 99 => ⟨S16, .i32⟩
  | 100 => ⟨S16, .i32⟩
  | 101 => ⟨S_, .i32⟩
  | 102 => ⟨S16, .i32⟩
  | 103 => ⟨S16, .i32⟩
  | 104 => ⟨S16, .i32⟩
  | 105 => ⟨S16, .i32⟩
  | 106 => ⟨S16, .i32⟩
  | 107 => ⟨S_, .i32⟩
  | 108 => ⟨S16, .i32⟩
  | 109 => ⟨S16, .i32⟩
  | 110 => ⟨S_, .i32⟩
  | 111 => ⟨S16, .i32⟩
  | 112 => ⟨S16, .i32⟩
  | 113 => ⟨S16, .i32⟩
  | 114 => ⟨S16, .i32⟩
  | 115 => ⟨S16, .i32⟩
  | 116 => ⟨S16, .i32⟩
  | 117 => ⟨S16, .i32⟩
  | 118 => ⟨S16, .i32⟩
  | 119 => ⟨S_, .i32⟩
  | 120 => ⟨S16, .i32⟩
  | 121 => ⟨S16, .i32⟩
  | 122 => ⟨S16, .i32⟩
  | 123 => ⟨S_, .i32⟩
  | 124 => ⟨S16, .i32⟩
  | 125 => ⟨S16, .i32⟩
  | 126 => ⟨S_, .i32⟩
  | 127 => ⟨S16, .i32⟩
  | _ => ⟨S16x96x224x224, .f32⟩

abbrev hbmTy0_61 (i : Nat) : BufTy := match i % 128 with
  | 0 => ⟨S16, .i32⟩
  | 1 => ⟨S16, .i32⟩
  | 2 => ⟨S16, .i32⟩
  | 3 => ⟨S16, .i32⟩
  | 4 => ⟨S_, .i32⟩
  | 5 => ⟨S16, .i32⟩
  | 6 => ⟨S16, .i32⟩
  | 7 => ⟨S_, .i32⟩
  | 8 => ⟨S16, .i32⟩
  | 9 => ⟨S16, .i32⟩
  | 10 => ⟨S16, .i32⟩
  | 11 => ⟨S16, .i32⟩
  | 12 => ⟨S16, .i32⟩
  | 13 => ⟨S_, .i32⟩
  | 14 => ⟨S16, .i32⟩
  | 15 => ⟨S16, .i32⟩
  | 16 => ⟨S_, .i32⟩
  | 17 => ⟨S16, .i32⟩
  | 18 => ⟨S16, .i32⟩
  | 19 => ⟨S16, .i32⟩
  | 20 => ⟨S16, .i32⟩
  | 21 => ⟨S16, .i32⟩
  | 22 => ⟨S_, .i32⟩
  | 23 => ⟨S16, .i32⟩
  | 24 => ⟨S16, .i32⟩
  | 25 => ⟨S_, .i32⟩
  | 26 => ⟨S16, .i32⟩
  | 27 => ⟨S16, .i32⟩
  | 28 => ⟨S16, .i32⟩
  | 29 => ⟨S16, .i32⟩
  | 30 => ⟨S16, .i32⟩
  | 31 => ⟨S16, .i32⟩
  | 32 => ⟨S16, .i32⟩
  | 33 => ⟨S16, .i32⟩
  | 34 => ⟨S_, .i32⟩
  | 35 => ⟨S16, .i32⟩
  | 36 => ⟨S16, .i32⟩
  | 37 => ⟨S16, .i32⟩
  | 38 => ⟨S_, .i32⟩
  | 39 => ⟨S16, .i32⟩
  | 40 => ⟨S16, .i32⟩
  | 41 => ⟨S_, .i32⟩
  | 42 => ⟨S16, .i32⟩
  | 43 => ⟨S16, .i32⟩
  | 44 => ⟨S16, .i32⟩
  | 45 => ⟨S16, .i32⟩
  | 46 => ⟨S16, .i32⟩
  | 47 => ⟨S_, .i32⟩
  | 48 => ⟨S16, .i32⟩
  | 49 => ⟨S16, .i32⟩
  | 50 => ⟨S_, .i32⟩
  | 51 => ⟨S16, .i32⟩
  | 52 => ⟨S16, .i32⟩
  | 53 => ⟨S16, .i32⟩
  | 54 => ⟨S16, .i32⟩
  | 55 => ⟨S16, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .i32⟩
  | 63 => ⟨S16, .i32⟩
  | 64 => ⟨S16, .i32⟩
  | 65 => ⟨S_, .i32⟩
  | 66 => ⟨S16, .i32⟩
  | 67 => ⟨S16, .i32⟩
  | 68 => ⟨S_, .i32⟩
  | 69 => ⟨S16, .i32⟩
  | 70 => ⟨S16, .i32⟩
  | 71 => ⟨S16, .i32⟩
  | 72 => ⟨S16, .i32⟩
  | 73 => ⟨S16, .i32⟩
  | 74 => ⟨S16, .i32⟩
  | 75 => ⟨S16, .i32⟩
  | 76 => ⟨S16, .i32⟩
  | 77 => ⟨S_, .i32⟩
  | 78 => ⟨S16, .i32⟩
  | 79 => ⟨S16, .i32⟩
  | 80 => ⟨S16, .i32⟩
  | 81 => ⟨S_, .i32⟩
  | 82 => ⟨S16, .i32⟩
  | 83 => ⟨S16, .i32⟩
  | 84 => ⟨S_, .i32⟩
  | 85 => ⟨S16, .i32⟩
  | 86 => ⟨S16, .i32⟩
  | 87 => ⟨S16, .i32⟩
  | 88 => ⟨S16, .i32⟩
  | 89 => ⟨S16, .i32⟩
  | 90 => ⟨S_, .i32⟩
  | 91 => ⟨S16, .i32⟩
  | 92 => ⟨S16, .i32⟩
  | 93 => ⟨S_, .i32⟩
  | 94 => ⟨S16, .i32⟩
  | 95 => ⟨S16, .i32⟩
  | 96 => ⟨S16, .i32⟩
  | 97 => ⟨S16, .i32⟩
  | 98 => ⟨S16, .i32⟩
  | 99 => ⟨S_, .i32⟩
  | 100 => ⟨S16, .i32⟩
  | 101 => ⟨S16, .i32⟩
  | 102 => ⟨S_, .i32⟩
  | 103 => ⟨S16, .i32⟩
  | 104 => ⟨S16, .i32⟩
  | 105 => ⟨S16, .i32⟩
  | 106 => ⟨S16, .i32⟩
  | 107 => ⟨S16, .i32⟩
  | 108 => ⟨S_, .i32⟩
  | 109 => ⟨S16, .i32⟩
  | 110 => ⟨S16, .i32⟩
  | 111 => ⟨S_, .i32⟩
  | 112 => ⟨S16, .i32⟩
  | 113 => ⟨S16, .i32⟩
  | 114 => ⟨S16, .i32⟩
  | 115 => ⟨S16, .i32⟩
  | 116 => ⟨S16, .i32⟩
  | 117 => ⟨S16, .i32⟩
  | 118 => ⟨S16, .i32⟩
  | 119 => ⟨S16, .i32⟩
  | 120 => ⟨S_, .i32⟩
  | 121 => ⟨S16, .i32⟩
  | 122 => ⟨S16, .i32⟩
  | 123 => ⟨S16, .i32⟩
  | 124 => ⟨S_, .i32⟩
  | 125 => ⟨S16, .i32⟩
  | 126 => ⟨S16, .i32⟩
  | 127 => ⟨S_, .i32⟩
  | _ => ⟨S16x96x224x224, .f32⟩

abbrev hbmTy0_62 (i : Nat) : BufTy := match i % 128 with
  | 0 => ⟨S16, .i32⟩
  | 1 => ⟨S16, .i32⟩
  | 2 => ⟨S16, .i32⟩
  | 3 => ⟨S16, .i32⟩
  | 4 => ⟨S16, .i32⟩
  | 5 => ⟨S_, .i32⟩
  | 6 => ⟨S16, .i32⟩
  | 7 => ⟨S16, .i32⟩
  | 8 => ⟨S_, .i32⟩
  | 9 => ⟨S16, .i32⟩
  | 10 => ⟨S16, .i32⟩
  | 11 => ⟨S16, .i32⟩
  | 12 => ⟨S16, .i32⟩
  | 13 => ⟨S16, .i32⟩
  | 14 => ⟨S_, .i32⟩
  | 15 => ⟨S16, .i32⟩
  | 16 => ⟨S16, .i32⟩
  | 17 => ⟨S_, .i32⟩
  | 18 => ⟨S16, .i32⟩
  | 19 => ⟨S16, .i32⟩
  | 20 => ⟨S16, .i32⟩
  | 21 => ⟨S16, .i32⟩
  | 22 => ⟨S16, .i32⟩
  | 23 => ⟨S_, .i32⟩
  | 24 => ⟨S16, .i32⟩
  | 25 => ⟨S16, .i32⟩
  | 26 => ⟨S_, .i32⟩
  | 27 => ⟨S16, .i32⟩
  | 28 => ⟨S16, .i32⟩
  | 29 => ⟨S16, .i32⟩
  | 30 => ⟨S16, .i32⟩
  | 31 => ⟨S16, .i32⟩
  | 32 => ⟨S16, .i32⟩
  | 33 => ⟨S16, .i32⟩
  | 34 => ⟨S16, .i32⟩
  | 35 => ⟨S_, .i32⟩
  | 36 => ⟨S16, .i32⟩
  | 37 => ⟨S16, .i32⟩
  | 38 => ⟨S16, .i32⟩
  | 39 => ⟨S16, .i32⟩
  | 40 => ⟨S16, .i32⟩
  | 41 => ⟨S1x16, .i32⟩
  | 42 => ⟨S1x16, .i32⟩
  | 43 => ⟨S1x16, .i32⟩
  | 44 => ⟨S1x16, .i32⟩
  | 45 => ⟨S1x16, .i32⟩
  | 46 => ⟨S1x16, .i32⟩
  | 47 => ⟨S1x16, .i32⟩
  | 48 => ⟨S1x16, .i32⟩
  | 49 => ⟨S1x16, .i32⟩
  | 50 => ⟨S1x16, .i32⟩
  | 51 => ⟨S1x16, .i32⟩
  | 52 => ⟨S1x16, .i32⟩
  | 53 => ⟨S1x16, .i32⟩
  | 54 => ⟨S1x16, .i32⟩
  | 55 => ⟨S1x16, .i32⟩
  | 56 => ⟨S1x16, .i32⟩
  | 57 => ⟨S16x16, .i32⟩
  | 58 => ⟨S4x4x16, .i32⟩
  | 59 => ⟨S16x4x4, .i32⟩
  | 60 => ⟨S64x4, .i32⟩
  | 61 => ⟨S_, .i32⟩
  | 62 => ⟨S_, .i32⟩
  | 63 => ⟨S64x16, .i32⟩
  | 64 => ⟨S16x96x224x224, .f32⟩
  | _ => ⟨S16x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | 39 => hbmTy0_39 i
  | 40 => hbmTy0_40 i
  | 41 => hbmTy0_41 i
  | 42 => hbmTy0_42 i
  | 43 => hbmTy0_43 i
  | 44 => hbmTy0_44 i
  | 45 => hbmTy0_45 i
  | 46 => hbmTy0_46 i
  | 47 => hbmTy0_47 i
  | 48 => hbmTy0_48 i
  | 49 => hbmTy0_49 i
  | 50 => hbmTy0_50 i
  | 51 => hbmTy0_51 i
  | 52 => hbmTy0_52 i
  | 53 => hbmTy0_53 i
  | 54 => hbmTy0_54 i
  | 55 => hbmTy0_55 i
  | 56 => hbmTy0_56 i
  | 57 => hbmTy0_57 i
  | 58 => hbmTy0_58 i
  | 59 => hbmTy0_59 i
  | 60 => hbmTy0_60 i
  | 61 => hbmTy0_61 i
  | 62 => hbmTy0_62 i
  | _ => ⟨S16x96x224x224, .f32⟩

abbrev bufTy : (tb : Table) → Fin (nBuf tb) → BufTy
  | .hbm, ⟨i, _⟩ => hbmTy i
  | .local .scVector .vmem, ⟨0, _⟩ => ⟨S64x16, .i32⟩
  | .local .scVector .vmem, ⟨1, _⟩ => ⟨S4x56x224, .f32⟩
  | _, _ => ⟨S16x96x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_call1_call0_v0 : Ref sig .tc := ⟨.hbm, 252, rfl⟩
abbrev main_call1_call0_v1 : Ref sig .tc := ⟨.hbm, 253, rfl⟩
abbrev main_call1_call0_v2 : Ref sig .tc := ⟨.hbm, 254, rfl⟩
abbrev main_call1_call0_v3 : Ref sig .tc := ⟨.hbm, 255, rfl⟩
abbrev main_call1_call0_v4 : Ref sig .tc := ⟨.hbm, 256, rfl⟩
abbrev main_call1_call0_c : Ref sig .tc := ⟨.hbm, 257, rfl⟩
abbrev main_call1_call0_v5 : Ref sig .tc := ⟨.hbm, 258, rfl⟩
abbrev main_call1_call0_v6 : Ref sig .tc := ⟨.hbm, 259, rfl⟩
abbrev main_call1_call0_c_0 : Ref sig .tc := ⟨.hbm, 260, rfl⟩
abbrev main_call1_call0_v7 : Ref sig .tc := ⟨.hbm, 261, rfl⟩
abbrev main_call1_call0_v8 : Ref sig .tc := ⟨.hbm, 262, rfl⟩
abbrev main_call1_call0_v9 : Ref sig .tc := ⟨.hbm, 263, rfl⟩
abbrev main_call1_call0_v10 : Ref sig .tc := ⟨.hbm, 264, rfl⟩
abbrev main_call1_call0_call0_v0 : Ref sig .tc := ⟨.hbm, 265, rfl⟩
abbrev main_call1_call0_call0_c : Ref sig .tc := ⟨.hbm, 266, rfl⟩
abbrev main_call1_call0_call0_v1 : Ref sig .tc := ⟨.hbm, 267, rfl⟩
abbrev main_call1_call0_call0_v2 : Ref sig .tc := ⟨.hbm, 268, rfl⟩
abbrev main_call1_call0_call0_v3 : Ref sig .tc := ⟨.hbm, 269, rfl⟩
abbrev main_call1_call0_call0_v4 : Ref sig .tc := ⟨.hbm, 270, rfl⟩
abbrev main_call1_call0_call0_v5 : Ref sig .tc := ⟨.hbm, 271, rfl⟩
abbrev main_call1_call0_call0_v6 : Ref sig .tc := ⟨.hbm, 272, rfl⟩
abbrev main_call1_call0_call0_c_0 : Ref sig .tc := ⟨.hbm, 273, rfl⟩
abbrev main_call1_call0_call0_v7 : Ref sig .tc := ⟨.hbm, 274, rfl⟩
abbrev main_call1_call0_call0_v8 : Ref sig .tc := ⟨.hbm, 275, rfl⟩
abbrev main_call1_call0_call0_c_1 : Ref sig .tc := ⟨.hbm, 276, rfl⟩
abbrev main_call1_call0_call0_v9 : Ref sig .tc := ⟨.hbm, 277, rfl⟩
abbrev main_call1_call0_call0_v10 : Ref sig .tc := ⟨.hbm, 278, rfl⟩
abbrev main_call1_call0_call0_v11 : Ref sig .tc := ⟨.hbm, 279, rfl⟩
abbrev main_call1_call0_call0_v12 : Ref sig .tc := ⟨.hbm, 280, rfl⟩
abbrev main_call1_call0_call0_v13 : Ref sig .tc := ⟨.hbm, 281, rfl⟩
abbrev main_call1_call0_call0_c_2 : Ref sig .tc := ⟨.hbm, 282, rfl⟩
abbrev main_call1_call0_call0_v14 : Ref sig .tc := ⟨.hbm, 283, rfl⟩
abbrev main_call1_call0_call0_v15 : Ref sig .tc := ⟨.hbm, 284, rfl⟩
abbrev main_call1_call0_call0_c_3 : Ref sig .tc := ⟨.hbm, 285, rfl⟩
abbrev main_call1_call0_call0_v16 : Ref sig .tc := ⟨.hbm, 286, rfl⟩
abbrev main_call1_call0_call0_v17 : Ref sig .tc := ⟨.hbm, 287, rfl⟩
abbrev main_call1_call0_call0_v18 : Ref sig .tc := ⟨.hbm, 288, rfl⟩
abbrev main_call1_call0_call0_v19 : Ref sig .tc := ⟨.hbm, 289, rfl⟩
abbrev main_call1_call0_call0_v20 : Ref sig .tc := ⟨.hbm, 290, rfl⟩
abbrev main_call1_call0_call0_c_4 : Ref sig .tc := ⟨.hbm, 291, rfl⟩
abbrev main_call1_call0_call0_v21 : Ref sig .tc := ⟨.hbm, 292, rfl⟩
abbrev main_call1_call0_call0_v22 : Ref sig .tc := ⟨.hbm, 293, rfl⟩
abbrev main_call1_call0_call0_c_5 : Ref sig .tc := ⟨.hbm, 294, rfl⟩
abbrev main_call1_call0_call0_v23 : Ref sig .tc := ⟨.hbm, 295, rfl⟩
abbrev main_call1_call0_call0_v24 : Ref sig .tc := ⟨.hbm, 296, rfl⟩
abbrev main_call1_call0_call0_v25 : Ref sig .tc := ⟨.hbm, 297, rfl⟩
abbrev main_call1_call0_call0_v26 : Ref sig .tc := ⟨.hbm, 298, rfl⟩
abbrev main_call1_call0_call0_v27 : Ref sig .tc := ⟨.hbm, 299, rfl⟩
abbrev main_call1_call0_call0_c_6 : Ref sig .tc := ⟨.hbm, 300, rfl⟩
abbrev main_call1_call0_call0_v28 : Ref sig .tc := ⟨.hbm, 301, rfl⟩
abbrev main_call1_call0_call0_v29 : Ref sig .tc := ⟨.hbm, 302, rfl⟩
abbrev main_call1_call0_call0_c_7 : Ref sig .tc := ⟨.hbm, 303, rfl⟩
abbrev main_call1_call0_call0_v30 : Ref sig .tc := ⟨.hbm, 304, rfl⟩
abbrev main_call1_call0_call0_v31 : Ref sig .tc := ⟨.hbm, 305, rfl⟩
abbrev main_call1_call0_call0_v32 : Ref sig .tc := ⟨.hbm, 306, rfl⟩
abbrev main_call1_call0_call0_v33 : Ref sig .tc := ⟨.hbm, 307, rfl⟩
abbrev main_call1_call0_call0_v34 : Ref sig .tc := ⟨.hbm, 308, rfl⟩
abbrev main_call1_call0_call0_v35 : Ref sig .tc := ⟨.hbm, 309, rfl⟩
abbrev main_call1_call0_call0_v36 : Ref sig .tc := ⟨.hbm, 310, rfl⟩
abbrev main_call1_call0_call0_v37 : Ref sig .tc := ⟨.hbm, 311, rfl⟩
abbrev main_call1_call0_call0_c_8 : Ref sig .tc := ⟨.hbm, 312, rfl⟩
abbrev main_call1_call0_call0_v38 : Ref sig .tc := ⟨.hbm, 313, rfl⟩
abbrev main_call1_call0_call0_v39 : Ref sig .tc := ⟨.hbm, 314, rfl⟩
abbrev main_call1_call0_call0_v40 : Ref sig .tc := ⟨.hbm, 315, rfl⟩
abbrev main_call1_call0_call0_c_9 : Ref sig .tc := ⟨.hbm, 316, rfl⟩
abbrev main_call1_call0_call0_v41 : Ref sig .tc := ⟨.hbm, 317, rfl⟩
abbrev main_call1_call0_call0_v42 : Ref sig .tc := ⟨.hbm, 318, rfl⟩
abbrev main_call1_call0_call0_c_10 : Ref sig .tc := ⟨.hbm, 319, rfl⟩
abbrev main_call1_call0_call0_v43 : Ref sig .tc := ⟨.hbm, 320, rfl⟩
abbrev main_call1_call0_call0_v44 : Ref sig .tc := ⟨.hbm, 321, rfl⟩
abbrev main_call1_call0_call0_v45 : Ref sig .tc := ⟨.hbm, 322, rfl⟩
abbrev main_call1_call0_call0_v46 : Ref sig .tc := ⟨.hbm, 323, rfl⟩
abbrev main_call1_call0_call0_v47 : Ref sig .tc := ⟨.hbm, 324, rfl⟩
abbrev main_call1_call0_call0_c_11 : Ref sig .tc := ⟨.hbm, 325, rfl⟩
abbrev main_call1_call0_call0_v48 : Ref sig .tc := ⟨.hbm, 326, rfl⟩
abbrev main_call1_call0_call0_v49 : Ref sig .tc := ⟨.hbm, 327, rfl⟩
abbrev main_call1_call0_call0_c_12 : Ref sig .tc := ⟨.hbm, 328, rfl⟩
abbrev main_call1_call0_call0_v50 : Ref sig .tc := ⟨.hbm, 329, rfl⟩
abbrev main_call1_call0_call0_v51 : Ref sig .tc := ⟨.hbm, 330, rfl⟩
abbrev main_call1_call0_call0_v52 : Ref sig .tc := ⟨.hbm, 331, rfl⟩
abbrev main_call1_call0_call0_v53 : Ref sig .tc := ⟨.hbm, 332, rfl⟩
abbrev main_call1_call0_call0_v54 : Ref sig .tc := ⟨.hbm, 333, rfl⟩
abbrev main_call1_call0_call0_c_13 : Ref sig .tc := ⟨.hbm, 334, rfl⟩
abbrev main_call1_call0_call0_v55 : Ref sig .tc := ⟨.hbm, 335, rfl⟩
abbrev main_call1_call0_call0_v56 : Ref sig .tc := ⟨.hbm, 336, rfl⟩
abbrev main_call1_call0_call0_c_14 : Ref sig .tc := ⟨.hbm, 337, rfl⟩
abbrev main_call1_call0_call0_v57 : Ref sig .tc := ⟨.hbm, 338, rfl⟩
abbrev main_call1_call0_call0_v58 : Ref sig .tc := ⟨.hbm, 339, rfl⟩
abbrev main_call1_call0_call0_v59 : Ref sig .tc := ⟨.hbm, 340, rfl⟩
abbrev main_call1_call0_call0_v60 : Ref sig .tc := ⟨.hbm, 341, rfl⟩
abbrev main_call1_call0_call0_v61 : Ref sig .tc := ⟨.hbm, 342, rfl⟩
abbrev main_call1_call0_call0_c_15 : Ref sig .tc := ⟨.hbm, 343, rfl⟩
abbrev main_call1_call0_call0_v62 : Ref sig .tc := ⟨.hbm, 344, rfl⟩
abbrev main_call1_call0_call0_v63 : Ref sig .tc := ⟨.hbm, 345, rfl⟩
abbrev main_call1_call0_call0_c_16 : Ref sig .tc := ⟨.hbm, 346, rfl⟩
abbrev main_call1_call0_call0_v64 : Ref sig .tc := ⟨.hbm, 347, rfl⟩
abbrev main_call1_call0_call0_v65 : Ref sig .tc := ⟨.hbm, 348, rfl⟩
abbrev main_call1_call0_call0_v66 : Ref sig .tc := ⟨.hbm, 349, rfl⟩
abbrev main_call1_call0_call0_v67 : Ref sig .tc := ⟨.hbm, 350, rfl⟩
abbrev main_call1_call0_call0_v68 : Ref sig .tc := ⟨.hbm, 351, rfl⟩
abbrev main_call1_call0_call0_v69 : Ref sig .tc := ⟨.hbm, 352, rfl⟩
abbrev main_call1_call0_call0_v70 : Ref sig .tc := ⟨.hbm, 353, rfl⟩
abbrev main_call1_call0_call0_v71 : Ref sig .tc := ⟨.hbm, 354, rfl⟩
abbrev main_call1_call0_call0_c_17 : Ref sig .tc := ⟨.hbm, 355, rfl⟩
abbrev main_call1_call0_call0_v72 : Ref sig .tc := ⟨.hbm, 356, rfl⟩
abbrev main_call1_call0_call0_v73 : Ref sig .tc := ⟨.hbm, 357, rfl⟩
abbrev main_call1_call0_call0_v74 : Ref sig .tc := ⟨.hbm, 358, rfl⟩
abbrev main_call1_call0_call0_c_18 : Ref sig .tc := ⟨.hbm, 359, rfl⟩
abbrev main_call1_call0_call0_v75 : Ref sig .tc := ⟨.hbm, 360, rfl⟩
abbrev main_call1_call0_call0_v76 : Ref sig .tc := ⟨.hbm, 361, rfl⟩
abbrev main_call1_call0_call0_c_19 : Ref sig .tc := ⟨.hbm, 362, rfl⟩
abbrev main_call1_call0_call0_v77 : Ref sig .tc := ⟨.hbm, 363, rfl⟩
abbrev main_call1_call0_call0_v78 : Ref sig .tc := ⟨.hbm, 364, rfl⟩
abbrev main_call1_call0_call0_v79 : Ref sig .tc := ⟨.hbm, 365, rfl⟩
abbrev main_call1_call0_call0_v80 : Ref sig .tc := ⟨.hbm, 366, rfl⟩
abbrev main_call1_call0_call0_v81 : Ref sig .tc := ⟨.hbm, 367, rfl⟩
abbrev main_call1_call0_call0_c_20 : Ref sig .tc := ⟨.hbm, 368, rfl⟩
abbrev main_call1_call0_call0_v82 : Ref sig .tc := ⟨.hbm, 369, rfl⟩
abbrev main_call1_call0_call0_v83 : Ref sig .tc := ⟨.hbm, 370, rfl⟩
abbrev main_call1_call0_call0_c_21 : Ref sig .tc := ⟨.hbm, 371, rfl⟩
abbrev main_call1_call0_call0_v84 : Ref sig .tc := ⟨.hbm, 372, rfl⟩
abbrev main_call1_call0_call0_v85 : Ref sig .tc := ⟨.hbm, 373, rfl⟩
abbrev main_call1_call0_call0_v86 : Ref sig .tc := ⟨.hbm, 374, rfl⟩
abbrev main_call1_call0_call0_v87 : Ref sig .tc := ⟨.hbm, 375, rfl⟩
abbrev main_call1_call0_call0_v88 : Ref sig .tc := ⟨.hbm, 376, rfl⟩
abbrev main_call1_call0_call0_c_22 : Ref sig .tc := ⟨.hbm, 377, rfl⟩
abbrev main_call1_call0_call0_v89 : Ref sig .tc := ⟨.hbm, 378, rfl⟩
abbrev main_call1_call0_call0_v90 : Ref sig .tc := ⟨.hbm, 379, rfl⟩
abbrev main_call1_call0_call0_c_23 : Ref sig .tc := ⟨.hbm, 380, rfl⟩
abbrev main_call1_call0_call0_v91 : Ref sig .tc := ⟨.hbm, 381, rfl⟩
abbrev main_call1_call0_call0_v92 : Ref sig .tc := ⟨.hbm, 382, rfl⟩
abbrev main_call1_call0_call0_v93 : Ref sig .tc := ⟨.hbm, 383, rfl⟩
abbrev main_call1_call0_call0_v94 : Ref sig .tc := ⟨.hbm, 384, rfl⟩
abbrev main_call1_call0_call0_v95 : Ref sig .tc := ⟨.hbm, 385, rfl⟩
abbrev main_call1_call0_call0_c_24 : Ref sig .tc := ⟨.hbm, 386, rfl⟩
abbrev main_call1_call0_call0_v96 : Ref sig .tc := ⟨.hbm, 387, rfl⟩
abbrev main_call1_call0_call0_v97 : Ref sig .tc := ⟨.hbm, 388, rfl⟩
abbrev main_call1_call0_call0_c_25 : Ref sig .tc := ⟨.hbm, 389, rfl⟩
abbrev main_call1_call0_call0_v98 : Ref sig .tc := ⟨.hbm, 390, rfl⟩
abbrev main_call1_call0_call0_v99 : Ref sig .tc := ⟨.hbm, 391, rfl⟩
abbrev main_call1_call0_call0_v100 : Ref sig .tc := ⟨.hbm, 392, rfl⟩
abbrev main_call1_call0_call0_v101 : Ref sig .tc := ⟨.hbm, 393, rfl⟩
abbrev main_call1_call0_call0_v102 : Ref sig .tc := ⟨.hbm, 394, rfl⟩
abbrev main_call1_call0_call0_v103 : Ref sig .tc := ⟨.hbm, 395, rfl⟩
abbrev main_call1_call0_call0_v104 : Ref sig .tc := ⟨.hbm, 396, rfl⟩
abbrev main_call1_call0_call0_v105 : Ref sig .tc := ⟨.hbm, 397, rfl⟩
abbrev main_call1_call0_call0_c_26 : Ref sig .tc := ⟨.hbm, 398, rfl⟩
abbrev main_call1_call0_call0_v106 : Ref sig .tc := ⟨.hbm, 399, rfl⟩
abbrev main_call1_call0_call0_v107 : Ref sig .tc := ⟨.hbm, 400, rfl⟩
abbrev main_call1_call0_call0_v108 : Ref sig .tc := ⟨.hbm, 401, rfl⟩
abbrev main_call1_call0_call0_c_27 : Ref sig .tc := ⟨.hbm, 402, rfl⟩
abbrev main_call1_call0_call0_v109 : Ref sig .tc := ⟨.hbm, 403, rfl⟩
abbrev main_call1_call0_call0_v110 : Ref sig .tc := ⟨.hbm, 404, rfl⟩
abbrev main_call1_call0_call0_c_28 : Ref sig .tc := ⟨.hbm, 405, rfl⟩
abbrev main_call1_call0_call0_v111 : Ref sig .tc := ⟨.hbm, 406, rfl⟩
abbrev main_call1_call0_call0_v112 : Ref sig .tc := ⟨.hbm, 407, rfl⟩
abbrev main_call1_call0_call0_v113 : Ref sig .tc := ⟨.hbm, 408, rfl⟩
abbrev main_call1_call0_call0_v114 : Ref sig .tc := ⟨.hbm, 409, rfl⟩
abbrev main_call1_call0_call0_v115 : Ref sig .tc := ⟨.hbm, 410, rfl⟩
abbrev main_call1_call0_call0_c_29 : Ref sig .tc := ⟨.hbm, 411, rfl⟩
abbrev main_call1_call0_call0_v116 : Ref sig .tc := ⟨.hbm, 412, rfl⟩
abbrev main_call1_call0_call0_v117 : Ref sig .tc := ⟨.hbm, 413, rfl⟩
abbrev main_call1_call0_call0_c_30 : Ref sig .tc := ⟨.hbm, 414, rfl⟩
abbrev main_call1_call0_call0_v118 : Ref sig .tc := ⟨.hbm, 415, rfl⟩
abbrev main_call1_call0_call0_v119 : Ref sig .tc := ⟨.hbm, 416, rfl⟩
abbrev main_call1_call0_call0_v120 : Ref sig .tc := ⟨.hbm, 417, rfl⟩
abbrev main_call1_call0_call0_v121 : Ref sig .tc := ⟨.hbm, 418, rfl⟩
abbrev main_call1_call0_call0_v122 : Ref sig .tc := ⟨.hbm, 419, rfl⟩
abbrev main_call1_call0_call0_c_31 : Ref sig .tc := ⟨.hbm, 420, rfl⟩
abbrev main_call1_call0_call0_v123 : Ref sig .tc := ⟨.hbm, 421, rfl⟩
abbrev main_call1_call0_call0_v124 : Ref sig .tc := ⟨.hbm, 422, rfl⟩
abbrev main_call1_call0_call0_c_32 : Ref sig .tc := ⟨.hbm, 423, rfl⟩
abbrev main_call1_call0_call0_v125 : Ref sig .tc := ⟨.hbm, 424, rfl⟩
abbrev main_call1_call0_call0_v126 : Ref sig .tc := ⟨.hbm, 425, rfl⟩
abbrev main_call1_call0_call0_v127 : Ref sig .tc := ⟨.hbm, 426, rfl⟩
abbrev main_call1_call0_call0_v128 : Ref sig .tc := ⟨.hbm, 427, rfl⟩
abbrev main_call1_call0_call0_v129 : Ref sig .tc := ⟨.hbm, 428, rfl⟩
abbrev main_call1_call0_call0_c_33 : Ref sig .tc := ⟨.hbm, 429, rfl⟩
abbrev main_call1_call0_call0_v130 : Ref sig .tc := ⟨.hbm, 430, rfl⟩
abbrev main_call1_call0_call0_v131 : Ref sig .tc := ⟨.hbm, 431, rfl⟩
abbrev main_call1_call0_call0_c_34 : Ref sig .tc := ⟨.hbm, 432, rfl⟩
abbrev main_call1_call0_call0_v132 : Ref sig .tc := ⟨.hbm, 433, rfl⟩
abbrev main_call1_call0_call0_v133 : Ref sig .tc := ⟨.hbm, 434, rfl⟩
abbrev main_call1_call0_call0_v134 : Ref sig .tc := ⟨.hbm, 435, rfl⟩
abbrev main_call1_call0_call0_v135 : Ref sig .tc := ⟨.hbm, 436, rfl⟩
abbrev main_call1_call0_call0_v136 : Ref sig .tc := ⟨.hbm, 437, rfl⟩
abbrev main_call1_call0_call0_v137 : Ref sig .tc := ⟨.hbm, 438, rfl⟩
abbrev main_call1_call0_call0_v138 : Ref sig .tc := ⟨.hbm, 439, rfl⟩
abbrev main_call1_call0_call0_v139 : Ref sig .tc := ⟨.hbm, 440, rfl⟩
abbrev main_call1_call0_call0_c_35 : Ref sig .tc := ⟨.hbm, 441, rfl⟩
abbrev main_call1_call0_call0_v140 : Ref sig .tc := ⟨.hbm, 442, rfl⟩
abbrev main_call1_call0_call0_v141 : Ref sig .tc := ⟨.hbm, 443, rfl⟩
abbrev main_call1_call0_call0_v142 : Ref sig .tc := ⟨.hbm, 444, rfl⟩
abbrev main_call1_call0_call0_c_36 : Ref sig .tc := ⟨.hbm, 445, rfl⟩
abbrev main_call1_call0_call0_v143 : Ref sig .tc := ⟨.hbm, 446, rfl⟩
abbrev main_call1_call0_call0_v144 : Ref sig .tc := ⟨.hbm, 447, rfl⟩
abbrev main_call1_call0_call0_c_37 : Ref sig .tc := ⟨.hbm, 448, rfl⟩
abbrev main_call1_call0_call0_v145 : Ref sig .tc := ⟨.hbm, 449, rfl⟩
abbrev main_call1_call0_call0_v146 : Ref sig .tc := ⟨.hbm, 450, rfl⟩
abbrev main_call1_call0_call0_v147 : Ref sig .tc := ⟨.hbm, 451, rfl⟩
abbrev main_call1_call0_call0_v148 : Ref sig .tc := ⟨.hbm, 452, rfl⟩
abbrev main_call1_call0_call0_v149 : Ref sig .tc := ⟨.hbm, 453, rfl⟩
abbrev main_call1_call0_call0_c_38 : Ref sig .tc := ⟨.hbm, 454, rfl⟩
abbrev main_call1_call0_call0_v150 : Ref sig .tc := ⟨.hbm, 455, rfl⟩
abbrev main_call1_call0_call0_v151 : Ref sig .tc := ⟨.hbm, 456, rfl⟩
abbrev main_call1_call0_call0_c_39 : Ref sig .tc := ⟨.hbm, 457, rfl⟩
abbrev main_call1_call0_call0_v152 : Ref sig .tc := ⟨.hbm, 458, rfl⟩
abbrev main_call1_call0_call0_v153 : Ref sig .tc := ⟨.hbm, 459, rfl⟩
abbrev main_call1_call0_call0_v154 : Ref sig .tc := ⟨.hbm, 460, rfl⟩
abbrev main_call1_call0_call0_v155 : Ref sig .tc := ⟨.hbm, 461, rfl⟩
abbrev main_call1_call0_call0_v156 : Ref sig .tc := ⟨.hbm, 462, rfl⟩
abbrev main_call1_call0_call0_c_40 : Ref sig .tc := ⟨.hbm, 463, rfl⟩
abbrev main_call1_call0_call0_v157 : Ref sig .tc := ⟨.hbm, 464, rfl⟩
abbrev main_call1_call0_call0_v158 : Ref sig .tc := ⟨.hbm, 465, rfl⟩
abbrev main_call1_call0_call0_c_41 : Ref sig .tc := ⟨.hbm, 466, rfl⟩
abbrev main_call1_call0_call0_v159 : Ref sig .tc := ⟨.hbm, 467, rfl⟩
abbrev main_call1_call0_call0_v160 : Ref sig .tc := ⟨.hbm, 468, rfl⟩
abbrev main_call1_call0_call0_v161 : Ref sig .tc := ⟨.hbm, 469, rfl⟩
abbrev main_call1_call0_call0_v162 : Ref sig .tc := ⟨.hbm, 470, rfl⟩
abbrev main_call1_call0_call0_v163 : Ref sig .tc := ⟨.hbm, 471, rfl⟩
abbrev main_call1_call0_call0_c_42 : Ref sig .tc := ⟨.hbm, 472, rfl⟩
abbrev main_call1_call0_call0_v164 : Ref sig .tc := ⟨.hbm, 473, rfl⟩
abbrev main_call1_call0_call0_v165 : Ref sig .tc := ⟨.hbm, 474, rfl⟩
abbrev main_call1_call0_call0_c_43 : Ref sig .tc := ⟨.hbm, 475, rfl⟩
abbrev main_call1_call0_call0_v166 : Ref sig .tc := ⟨.hbm, 476, rfl⟩
abbrev main_call1_call0_call0_v167 : Ref sig .tc := ⟨.hbm, 477, rfl⟩
abbrev main_call1_call0_call0_v168 : Ref sig .tc := ⟨.hbm, 478, rfl⟩
abbrev main_call1_call0_call0_v169 : Ref sig .tc := ⟨.hbm, 479, rfl⟩
abbrev main_call1_call0_call0_v170 : Ref sig .tc := ⟨.hbm, 480, rfl⟩
abbrev main_call1_call0_v11_0 : Ref sig .tc := ⟨.hbm, 481, rfl⟩
abbrev main_call1_call0_call0_v172 : Ref sig .tc := ⟨.hbm, 482, rfl⟩
abbrev main_call1_call0_call0_v173 : Ref sig .tc := ⟨.hbm, 483, rfl⟩
abbrev main_call1_call0_call0_c_44 : Ref sig .tc := ⟨.hbm, 484, rfl⟩
abbrev main_call1_call0_call0_v174 : Ref sig .tc := ⟨.hbm, 485, rfl⟩
abbrev main_call1_call0_v11_1 : Ref sig .tc := ⟨.hbm, 486, rfl⟩
abbrev main_call1_call0_v12 : Ref sig .tc := ⟨.hbm, 487, rfl⟩
abbrev main_call1_call0_v13 : Ref sig .tc := ⟨.hbm, 488, rfl⟩
abbrev main_call1_v0 : Ref sig .tc := ⟨.hbm, 489, rfl⟩
abbrev main_call1_v1 : Ref sig .tc := ⟨.hbm, 490, rfl⟩
abbrev main_call1_v2 : Ref sig .tc := ⟨.hbm, 491, rfl⟩
abbrev main_call1_v3 : Ref sig .tc := ⟨.hbm, 492, rfl⟩
abbrev main_call1_v4 : Ref sig .tc := ⟨.hbm, 493, rfl⟩
abbrev main_call1_v5 : Ref sig .tc := ⟨.hbm, 494, rfl⟩
abbrev main_call1_v6 : Ref sig .tc := ⟨.hbm, 495, rfl⟩
abbrev main_call1_v7 : Ref sig .tc := ⟨.hbm, 496, rfl⟩
abbrev main_call1_v8 : Ref sig .tc := ⟨.hbm, 497, rfl⟩
abbrev main_call1_v9 : Ref sig .tc := ⟨.hbm, 498, rfl⟩
abbrev main_call1_c : Ref sig .tc := ⟨.hbm, 499, rfl⟩
abbrev main_call1_v10 : Ref sig .tc := ⟨.hbm, 500, rfl⟩
abbrev main_call1_v11 : Ref sig .tc := ⟨.hbm, 501, rfl⟩
abbrev main_call1_c_0 : Ref sig .tc := ⟨.hbm, 502, rfl⟩
abbrev main_call1_v12 : Ref sig .tc := ⟨.hbm, 503, rfl⟩
abbrev main_call1_v13 : Ref sig .tc := ⟨.hbm, 504, rfl⟩
abbrev main_call1_v14 : Ref sig .tc := ⟨.hbm, 505, rfl⟩
abbrev main_call1_v15 : Ref sig .tc := ⟨.hbm, 506, rfl⟩
abbrev main_call1_call1_v0 : Ref sig .tc := ⟨.hbm, 507, rfl⟩
abbrev main_call1_call1_c : Ref sig .tc := ⟨.hbm, 508, rfl⟩
abbrev main_call1_call1_v1 : Ref sig .tc := ⟨.hbm, 509, rfl⟩
abbrev main_call1_call1_v2 : Ref sig .tc := ⟨.hbm, 510, rfl⟩
abbrev main_call1_call1_v3 : Ref sig .tc := ⟨.hbm, 511, rfl⟩
abbrev main_call1_call1_v4 : Ref sig .tc := ⟨.hbm, 512, rfl⟩
abbrev main_call1_call1_v5 : Ref sig .tc := ⟨.hbm, 513, rfl⟩
abbrev main_call1_call1_v6 : Ref sig .tc := ⟨.hbm, 514, rfl⟩
abbrev main_call1_call1_c_0 : Ref sig .tc := ⟨.hbm, 515, rfl⟩
abbrev main_call1_call1_v7 : Ref sig .tc := ⟨.hbm, 516, rfl⟩
abbrev main_call1_call1_v8 : Ref sig .tc := ⟨.hbm, 517, rfl⟩
abbrev main_call1_call1_c_1 : Ref sig .tc := ⟨.hbm, 518, rfl⟩
abbrev main_call1_call1_v9 : Ref sig .tc := ⟨.hbm, 519, rfl⟩
abbrev main_call1_call1_v10 : Ref sig .tc := ⟨.hbm, 520, rfl⟩
abbrev main_call1_call1_v11 : Ref sig .tc := ⟨.hbm, 521, rfl⟩
abbrev main_call1_call1_v12 : Ref sig .tc := ⟨.hbm, 522, rfl⟩
abbrev main_call1_call1_v13 : Ref sig .tc := ⟨.hbm, 523, rfl⟩
abbrev main_call1_call1_c_2 : Ref sig .tc := ⟨.hbm, 524, rfl⟩
abbrev main_call1_call1_v14 : Ref sig .tc := ⟨.hbm, 525, rfl⟩
abbrev main_call1_call1_v15 : Ref sig .tc := ⟨.hbm, 526, rfl⟩
abbrev main_call1_call1_c_3 : Ref sig .tc := ⟨.hbm, 527, rfl⟩
abbrev main_call1_call1_v16 : Ref sig .tc := ⟨.hbm, 528, rfl⟩
abbrev main_call1_call1_v17 : Ref sig .tc := ⟨.hbm, 529, rfl⟩
abbrev main_call1_call1_v18 : Ref sig .tc := ⟨.hbm, 530, rfl⟩
abbrev main_call1_call1_v19 : Ref sig .tc := ⟨.hbm, 531, rfl⟩
abbrev main_call1_call1_v20 : Ref sig .tc := ⟨.hbm, 532, rfl⟩
abbrev main_call1_call1_c_4 : Ref sig .tc := ⟨.hbm, 533, rfl⟩
abbrev main_call1_call1_v21 : Ref sig .tc := ⟨.hbm, 534, rfl⟩
abbrev main_call1_call1_v22 : Ref sig .tc := ⟨.hbm, 535, rfl⟩
abbrev main_call1_call1_c_5 : Ref sig .tc := ⟨.hbm, 536, rfl⟩
abbrev main_call1_call1_v23 : Ref sig .tc := ⟨.hbm, 537, rfl⟩
abbrev main_call1_call1_v24 : Ref sig .tc := ⟨.hbm, 538, rfl⟩
abbrev main_call1_call1_v25 : Ref sig .tc := ⟨.hbm, 539, rfl⟩
abbrev main_call1_call1_v26 : Ref sig .tc := ⟨.hbm, 540, rfl⟩
abbrev main_call1_call1_v27 : Ref sig .tc := ⟨.hbm, 541, rfl⟩
abbrev main_call1_call1_c_6 : Ref sig .tc := ⟨.hbm, 542, rfl⟩
abbrev main_call1_call1_v28 : Ref sig .tc := ⟨.hbm, 543, rfl⟩
abbrev main_call1_call1_v29 : Ref sig .tc := ⟨.hbm, 544, rfl⟩
abbrev main_call1_call1_c_7 : Ref sig .tc := ⟨.hbm, 545, rfl⟩
abbrev main_call1_call1_v30 : Ref sig .tc := ⟨.hbm, 546, rfl⟩
abbrev main_call1_call1_v31 : Ref sig .tc := ⟨.hbm, 547, rfl⟩
abbrev main_call1_call1_v32 : Ref sig .tc := ⟨.hbm, 548, rfl⟩
abbrev main_call1_call1_v33 : Ref sig .tc := ⟨.hbm, 549, rfl⟩
abbrev main_call1_call1_v34 : Ref sig .tc := ⟨.hbm, 550, rfl⟩
abbrev main_call1_call1_v35 : Ref sig .tc := ⟨.hbm, 551, rfl⟩
abbrev main_call1_call1_v36 : Ref sig .tc := ⟨.hbm, 552, rfl⟩
abbrev main_call1_call1_v37 : Ref sig .tc := ⟨.hbm, 553, rfl⟩
abbrev main_call1_call1_c_8 : Ref sig .tc := ⟨.hbm, 554, rfl⟩
abbrev main_call1_call1_v38 : Ref sig .tc := ⟨.hbm, 555, rfl⟩
abbrev main_call1_call1_v39 : Ref sig .tc := ⟨.hbm, 556, rfl⟩
abbrev main_call1_call1_v40 : Ref sig .tc := ⟨.hbm, 557, rfl⟩
abbrev main_call1_call1_c_9 : Ref sig .tc := ⟨.hbm, 558, rfl⟩
abbrev main_call1_call1_v41 : Ref sig .tc := ⟨.hbm, 559, rfl⟩
abbrev main_call1_call1_v42 : Ref sig .tc := ⟨.hbm, 560, rfl⟩
abbrev main_call1_call1_c_10 : Ref sig .tc := ⟨.hbm, 561, rfl⟩
abbrev main_call1_call1_v43 : Ref sig .tc := ⟨.hbm, 562, rfl⟩
abbrev main_call1_call1_v44 : Ref sig .tc := ⟨.hbm, 563, rfl⟩
abbrev main_call1_call1_v45 : Ref sig .tc := ⟨.hbm, 564, rfl⟩
abbrev main_call1_call1_v46 : Ref sig .tc := ⟨.hbm, 565, rfl⟩
abbrev main_call1_call1_v47 : Ref sig .tc := ⟨.hbm, 566, rfl⟩
abbrev main_call1_call1_c_11 : Ref sig .tc := ⟨.hbm, 567, rfl⟩
abbrev main_call1_call1_v48 : Ref sig .tc := ⟨.hbm, 568, rfl⟩
abbrev main_call1_call1_v49 : Ref sig .tc := ⟨.hbm, 569, rfl⟩
abbrev main_call1_call1_c_12 : Ref sig .tc := ⟨.hbm, 570, rfl⟩
abbrev main_call1_call1_v50 : Ref sig .tc := ⟨.hbm, 571, rfl⟩
abbrev main_call1_call1_v51 : Ref sig .tc := ⟨.hbm, 572, rfl⟩
abbrev main_call1_call1_v52 : Ref sig .tc := ⟨.hbm, 573, rfl⟩
abbrev main_call1_call1_v53 : Ref sig .tc := ⟨.hbm, 574, rfl⟩
abbrev main_call1_call1_v54 : Ref sig .tc := ⟨.hbm, 575, rfl⟩
abbrev main_call1_call1_c_13 : Ref sig .tc := ⟨.hbm, 576, rfl⟩
abbrev main_call1_call1_v55 : Ref sig .tc := ⟨.hbm, 577, rfl⟩
abbrev main_call1_call1_v56 : Ref sig .tc := ⟨.hbm, 578, rfl⟩
abbrev main_call1_call1_c_14 : Ref sig .tc := ⟨.hbm, 579, rfl⟩
abbrev main_call1_call1_v57 : Ref sig .tc := ⟨.hbm, 580, rfl⟩
abbrev main_call1_call1_v58 : Ref sig .tc := ⟨.hbm, 581, rfl⟩
abbrev main_call1_call1_v59 : Ref sig .tc := ⟨.hbm, 582, rfl⟩
abbrev main_call1_call1_v60 : Ref sig .tc := ⟨.hbm, 583, rfl⟩
abbrev main_call1_call1_v61 : Ref sig .tc := ⟨.hbm, 584, rfl⟩
abbrev main_call1_call1_c_15 : Ref sig .tc := ⟨.hbm, 585, rfl⟩
abbrev main_call1_call1_v62 : Ref sig .tc := ⟨.hbm, 586, rfl⟩
abbrev main_call1_call1_v63 : Ref sig .tc := ⟨.hbm, 587, rfl⟩
abbrev main_call1_call1_c_16 : Ref sig .tc := ⟨.hbm, 588, rfl⟩
abbrev main_call1_call1_v64 : Ref sig .tc := ⟨.hbm, 589, rfl⟩
abbrev main_call1_call1_v65 : Ref sig .tc := ⟨.hbm, 590, rfl⟩
abbrev main_call1_call1_v66 : Ref sig .tc := ⟨.hbm, 591, rfl⟩
abbrev main_call1_call1_v67 : Ref sig .tc := ⟨.hbm, 592, rfl⟩
abbrev main_call1_call1_v68 : Ref sig .tc := ⟨.hbm, 593, rfl⟩
abbrev main_call1_call1_v69 : Ref sig .tc := ⟨.hbm, 594, rfl⟩
abbrev main_call1_call1_v70 : Ref sig .tc := ⟨.hbm, 595, rfl⟩
abbrev main_call1_call1_v71 : Ref sig .tc := ⟨.hbm, 596, rfl⟩
abbrev main_call1_call1_c_17 : Ref sig .tc := ⟨.hbm, 597, rfl⟩
abbrev main_call1_call1_v72 : Ref sig .tc := ⟨.hbm, 598, rfl⟩
abbrev main_call1_call1_v73 : Ref sig .tc := ⟨.hbm, 599, rfl⟩
abbrev main_call1_call1_v74 : Ref sig .tc := ⟨.hbm, 600, rfl⟩
abbrev main_call1_call1_c_18 : Ref sig .tc := ⟨.hbm, 601, rfl⟩
abbrev main_call1_call1_v75 : Ref sig .tc := ⟨.hbm, 602, rfl⟩
abbrev main_call1_call1_v76 : Ref sig .tc := ⟨.hbm, 603, rfl⟩
abbrev main_call1_call1_c_19 : Ref sig .tc := ⟨.hbm, 604, rfl⟩
abbrev main_call1_call1_v77 : Ref sig .tc := ⟨.hbm, 605, rfl⟩
abbrev main_call1_call1_v78 : Ref sig .tc := ⟨.hbm, 606, rfl⟩
abbrev main_call1_call1_v79 : Ref sig .tc := ⟨.hbm, 607, rfl⟩
abbrev main_call1_call1_v80 : Ref sig .tc := ⟨.hbm, 608, rfl⟩
abbrev main_call1_call1_v81 : Ref sig .tc := ⟨.hbm, 609, rfl⟩
abbrev main_call1_call1_c_20 : Ref sig .tc := ⟨.hbm, 610, rfl⟩
abbrev main_call1_call1_v82 : Ref sig .tc := ⟨.hbm, 611, rfl⟩
abbrev main_call1_call1_v83 : Ref sig .tc := ⟨.hbm, 612, rfl⟩
abbrev main_call1_call1_c_21 : Ref sig .tc := ⟨.hbm, 613, rfl⟩
abbrev main_call1_call1_v84 : Ref sig .tc := ⟨.hbm, 614, rfl⟩
abbrev main_call1_call1_v85 : Ref sig .tc := ⟨.hbm, 615, rfl⟩
abbrev main_call1_call1_v86 : Ref sig .tc := ⟨.hbm, 616, rfl⟩
abbrev main_call1_call1_v87 : Ref sig .tc := ⟨.hbm, 617, rfl⟩
abbrev main_call1_call1_v88 : Ref sig .tc := ⟨.hbm, 618, rfl⟩
abbrev main_call1_call1_c_22 : Ref sig .tc := ⟨.hbm, 619, rfl⟩
abbrev main_call1_call1_v89 : Ref sig .tc := ⟨.hbm, 620, rfl⟩
abbrev main_call1_call1_v90 : Ref sig .tc := ⟨.hbm, 621, rfl⟩
abbrev main_call1_call1_c_23 : Ref sig .tc := ⟨.hbm, 622, rfl⟩
abbrev main_call1_call1_v91 : Ref sig .tc := ⟨.hbm, 623, rfl⟩
abbrev main_call1_call1_v92 : Ref sig .tc := ⟨.hbm, 624, rfl⟩
abbrev main_call1_call1_v93 : Ref sig .tc := ⟨.hbm, 625, rfl⟩
abbrev main_call1_call1_v94 : Ref sig .tc := ⟨.hbm, 626, rfl⟩
abbrev main_call1_call1_v95 : Ref sig .tc := ⟨.hbm, 627, rfl⟩
abbrev main_call1_call1_c_24 : Ref sig .tc := ⟨.hbm, 628, rfl⟩
abbrev main_call1_call1_v96 : Ref sig .tc := ⟨.hbm, 629, rfl⟩
abbrev main_call1_call1_v97 : Ref sig .tc := ⟨.hbm, 630, rfl⟩
abbrev main_call1_call1_c_25 : Ref sig .tc := ⟨.hbm, 631, rfl⟩
abbrev main_call1_call1_v98 : Ref sig .tc := ⟨.hbm, 632, rfl⟩
abbrev main_call1_call1_v99 : Ref sig .tc := ⟨.hbm, 633, rfl⟩
abbrev main_call1_call1_v100 : Ref sig .tc := ⟨.hbm, 634, rfl⟩
abbrev main_call1_call1_v101 : Ref sig .tc := ⟨.hbm, 635, rfl⟩
abbrev main_call1_call1_v102 : Ref sig .tc := ⟨.hbm, 636, rfl⟩
abbrev main_call1_call1_v103 : Ref sig .tc := ⟨.hbm, 637, rfl⟩
abbrev main_call1_call1_v104 : Ref sig .tc := ⟨.hbm, 638, rfl⟩
abbrev main_call1_call1_v105 : Ref sig .tc := ⟨.hbm, 639, rfl⟩
abbrev main_call1_call1_c_26 : Ref sig .tc := ⟨.hbm, 640, rfl⟩
abbrev main_call1_call1_v106 : Ref sig .tc := ⟨.hbm, 641, rfl⟩
abbrev main_call1_call1_v107 : Ref sig .tc := ⟨.hbm, 642, rfl⟩
abbrev main_call1_call1_v108 : Ref sig .tc := ⟨.hbm, 643, rfl⟩
abbrev main_call1_call1_c_27 : Ref sig .tc := ⟨.hbm, 644, rfl⟩
abbrev main_call1_call1_v109 : Ref sig .tc := ⟨.hbm, 645, rfl⟩
abbrev main_call1_call1_v110 : Ref sig .tc := ⟨.hbm, 646, rfl⟩
abbrev main_call1_call1_c_28 : Ref sig .tc := ⟨.hbm, 647, rfl⟩
abbrev main_call1_call1_v111 : Ref sig .tc := ⟨.hbm, 648, rfl⟩
abbrev main_call1_call1_v112 : Ref sig .tc := ⟨.hbm, 649, rfl⟩
abbrev main_call1_call1_v113 : Ref sig .tc := ⟨.hbm, 650, rfl⟩
abbrev main_call1_call1_v114 : Ref sig .tc := ⟨.hbm, 651, rfl⟩
abbrev main_call1_call1_v115 : Ref sig .tc := ⟨.hbm, 652, rfl⟩
abbrev main_call1_call1_c_29 : Ref sig .tc := ⟨.hbm, 653, rfl⟩
abbrev main_call1_call1_v116 : Ref sig .tc := ⟨.hbm, 654, rfl⟩
abbrev main_call1_call1_v117 : Ref sig .tc := ⟨.hbm, 655, rfl⟩
abbrev main_call1_call1_c_30 : Ref sig .tc := ⟨.hbm, 656, rfl⟩
abbrev main_call1_call1_v118 : Ref sig .tc := ⟨.hbm, 657, rfl⟩
abbrev main_call1_call1_v119 : Ref sig .tc := ⟨.hbm, 658, rfl⟩
abbrev main_call1_call1_v120 : Ref sig .tc := ⟨.hbm, 659, rfl⟩
abbrev main_call1_call1_v121 : Ref sig .tc := ⟨.hbm, 660, rfl⟩
abbrev main_call1_call1_v122 : Ref sig .tc := ⟨.hbm, 661, rfl⟩
abbrev main_call1_call1_c_31 : Ref sig .tc := ⟨.hbm, 662, rfl⟩
abbrev main_call1_call1_v123 : Ref sig .tc := ⟨.hbm, 663, rfl⟩
abbrev main_call1_call1_v124 : Ref sig .tc := ⟨.hbm, 664, rfl⟩
abbrev main_call1_call1_c_32 : Ref sig .tc := ⟨.hbm, 665, rfl⟩
abbrev main_call1_call1_v125 : Ref sig .tc := ⟨.hbm, 666, rfl⟩
abbrev main_call1_call1_v126 : Ref sig .tc := ⟨.hbm, 667, rfl⟩
abbrev main_call1_call1_v127 : Ref sig .tc := ⟨.hbm, 668, rfl⟩
abbrev main_call1_call1_v128 : Ref sig .tc := ⟨.hbm, 669, rfl⟩
abbrev main_call1_call1_v129 : Ref sig .tc := ⟨.hbm, 670, rfl⟩
abbrev main_call1_call1_c_33 : Ref sig .tc := ⟨.hbm, 671, rfl⟩
abbrev main_call1_call1_v130 : Ref sig .tc := ⟨.hbm, 672, rfl⟩
abbrev main_call1_call1_v131 : Ref sig .tc := ⟨.hbm, 673, rfl⟩
abbrev main_call1_call1_c_34 : Ref sig .tc := ⟨.hbm, 674, rfl⟩
abbrev main_call1_call1_v132 : Ref sig .tc := ⟨.hbm, 675, rfl⟩
abbrev main_call1_call1_v133 : Ref sig .tc := ⟨.hbm, 676, rfl⟩
abbrev main_call1_call1_v134 : Ref sig .tc := ⟨.hbm, 677, rfl⟩
abbrev main_call1_call1_v135 : Ref sig .tc := ⟨.hbm, 678, rfl⟩
abbrev main_call1_call1_v136 : Ref sig .tc := ⟨.hbm, 679, rfl⟩
abbrev main_call1_call1_v137 : Ref sig .tc := ⟨.hbm, 680, rfl⟩
abbrev main_call1_call1_v138 : Ref sig .tc := ⟨.hbm, 681, rfl⟩
abbrev main_call1_call1_v139 : Ref sig .tc := ⟨.hbm, 682, rfl⟩
abbrev main_call1_call1_c_35 : Ref sig .tc := ⟨.hbm, 683, rfl⟩
abbrev main_call1_call1_v140 : Ref sig .tc := ⟨.hbm, 684, rfl⟩
abbrev main_call1_call1_v141 : Ref sig .tc := ⟨.hbm, 685, rfl⟩
abbrev main_call1_call1_v142 : Ref sig .tc := ⟨.hbm, 686, rfl⟩
abbrev main_call1_call1_c_36 : Ref sig .tc := ⟨.hbm, 687, rfl⟩
abbrev main_call1_call1_v143 : Ref sig .tc := ⟨.hbm, 688, rfl⟩
abbrev main_call1_call1_v144 : Ref sig .tc := ⟨.hbm, 689, rfl⟩
abbrev main_call1_call1_c_37 : Ref sig .tc := ⟨.hbm, 690, rfl⟩
abbrev main_call1_call1_v145 : Ref sig .tc := ⟨.hbm, 691, rfl⟩
abbrev main_call1_call1_v146 : Ref sig .tc := ⟨.hbm, 692, rfl⟩
abbrev main_call1_call1_v147 : Ref sig .tc := ⟨.hbm, 693, rfl⟩
abbrev main_call1_call1_v148 : Ref sig .tc := ⟨.hbm, 694, rfl⟩
abbrev main_call1_call1_v149 : Ref sig .tc := ⟨.hbm, 695, rfl⟩
abbrev main_call1_call1_c_38 : Ref sig .tc := ⟨.hbm, 696, rfl⟩
abbrev main_call1_call1_v150 : Ref sig .tc := ⟨.hbm, 697, rfl⟩
abbrev main_call1_call1_v151 : Ref sig .tc := ⟨.hbm, 698, rfl⟩
abbrev main_call1_call1_c_39 : Ref sig .tc := ⟨.hbm, 699, rfl⟩
abbrev main_call1_call1_v152 : Ref sig .tc := ⟨.hbm, 700, rfl⟩
abbrev main_call1_call1_v153 : Ref sig .tc := ⟨.hbm, 701, rfl⟩
abbrev main_call1_call1_v154 : Ref sig .tc := ⟨.hbm, 702, rfl⟩
abbrev main_call1_call1_v155 : Ref sig .tc := ⟨.hbm, 703, rfl⟩
abbrev main_call1_call1_v156 : Ref sig .tc := ⟨.hbm, 704, rfl⟩
abbrev main_call1_call1_c_40 : Ref sig .tc := ⟨.hbm, 705, rfl⟩
abbrev main_call1_call1_v157 : Ref sig .tc := ⟨.hbm, 706, rfl⟩
abbrev main_call1_call1_v158 : Ref sig .tc := ⟨.hbm, 707, rfl⟩
abbrev main_call1_call1_c_41 : Ref sig .tc := ⟨.hbm, 708, rfl⟩
abbrev main_call1_call1_v159 : Ref sig .tc := ⟨.hbm, 709, rfl⟩
abbrev main_call1_call1_v160 : Ref sig .tc := ⟨.hbm, 710, rfl⟩
abbrev main_call1_call1_v161 : Ref sig .tc := ⟨.hbm, 711, rfl⟩
abbrev main_call1_call1_v162 : Ref sig .tc := ⟨.hbm, 712, rfl⟩
abbrev main_call1_call1_v163 : Ref sig .tc := ⟨.hbm, 713, rfl⟩
abbrev main_call1_call1_c_42 : Ref sig .tc := ⟨.hbm, 714, rfl⟩
abbrev main_call1_call1_v164 : Ref sig .tc := ⟨.hbm, 715, rfl⟩
abbrev main_call1_call1_v165 : Ref sig .tc := ⟨.hbm, 716, rfl⟩
abbrev main_call1_call1_c_43 : Ref sig .tc := ⟨.hbm, 717, rfl⟩
abbrev main_call1_call1_v166 : Ref sig .tc := ⟨.hbm, 718, rfl⟩
abbrev main_call1_call1_v167 : Ref sig .tc := ⟨.hbm, 719, rfl⟩
abbrev main_call1_call1_v168 : Ref sig .tc := ⟨.hbm, 720, rfl⟩
abbrev main_call1_call1_v169 : Ref sig .tc := ⟨.hbm, 721, rfl⟩
abbrev main_call1_call1_v170 : Ref sig .tc := ⟨.hbm, 722, rfl⟩
abbrev main_call1_v16_0 : Ref sig .tc := ⟨.hbm, 723, rfl⟩
abbrev main_call1_call1_v172 : Ref sig .tc := ⟨.hbm, 724, rfl⟩
abbrev main_call1_call1_v173 : Ref sig .tc := ⟨.hbm, 725, rfl⟩
abbrev main_call1_call1_c_44 : Ref sig .tc := ⟨.hbm, 726, rfl⟩
abbrev main_call1_call1_v174 : Ref sig .tc := ⟨.hbm, 727, rfl⟩
abbrev main_call1_v16_1 : Ref sig .tc := ⟨.hbm, 728, rfl⟩
abbrev main_call1_v17 : Ref sig .tc := ⟨.hbm, 729, rfl⟩
abbrev main_call1_v18_0 : Ref sig .tc := ⟨.hbm, 730, rfl⟩
abbrev main_v11 : Ref sig .tc := ⟨.hbm, 731, rfl⟩
abbrev main_v12 : Ref sig .tc := ⟨.hbm, 732, rfl⟩
abbrev main_v13 : Ref sig .tc := ⟨.hbm, 733, rfl⟩
abbrev main_v14 : Ref sig .tc := ⟨.hbm, 734, rfl⟩
abbrev main_call2_call0_v0 : Ref sig .tc := ⟨.hbm, 735, rfl⟩
abbrev main_call2_call0_v1 : Ref sig .tc := ⟨.hbm, 736, rfl⟩
abbrev main_call2_call0_v2 : Ref sig .tc := ⟨.hbm, 737, rfl⟩
abbrev main_call2_call0_v3 : Ref sig .tc := ⟨.hbm, 738, rfl⟩
abbrev main_call2_call0_v4 : Ref sig .tc := ⟨.hbm, 739, rfl⟩
abbrev main_call2_call0_c : Ref sig .tc := ⟨.hbm, 740, rfl⟩
abbrev main_call2_call0_v5 : Ref sig .tc := ⟨.hbm, 741, rfl⟩
abbrev main_call2_call0_v6 : Ref sig .tc := ⟨.hbm, 742, rfl⟩
abbrev main_call2_call0_c_0 : Ref sig .tc := ⟨.hbm, 743, rfl⟩
abbrev main_call2_call0_v7 : Ref sig .tc := ⟨.hbm, 744, rfl⟩
abbrev main_call2_call0_v8 : Ref sig .tc := ⟨.hbm, 745, rfl⟩
abbrev main_call2_call0_v9 : Ref sig .tc := ⟨.hbm, 746, rfl⟩
abbrev main_call2_call0_v10 : Ref sig .tc := ⟨.hbm, 747, rfl⟩
abbrev main_call2_call0_call0_v0 : Ref sig .tc := ⟨.hbm, 748, rfl⟩
abbrev main_call2_call0_call0_c : Ref sig .tc := ⟨.hbm, 749, rfl⟩
abbrev main_call2_call0_call0_v1 : Ref sig .tc := ⟨.hbm, 750, rfl⟩
abbrev main_call2_call0_call0_v2 : Ref sig .tc := ⟨.hbm, 751, rfl⟩
abbrev main_call2_call0_call0_v3 : Ref sig .tc := ⟨.hbm, 752, rfl⟩
abbrev main_call2_call0_call0_v4 : Ref sig .tc := ⟨.hbm, 753, rfl⟩
abbrev main_call2_call0_call0_v5 : Ref sig .tc := ⟨.hbm, 754, rfl⟩
abbrev main_call2_call0_call0_v6 : Ref sig .tc := ⟨.hbm, 755, rfl⟩
abbrev main_call2_call0_call0_c_0 : Ref sig .tc := ⟨.hbm, 756, rfl⟩
abbrev main_call2_call0_call0_v7 : Ref sig .tc := ⟨.hbm, 757, rfl⟩
abbrev main_call2_call0_call0_v8 : Ref sig .tc := ⟨.hbm, 758, rfl⟩
abbrev main_call2_call0_call0_c_1 : Ref sig .tc := ⟨.hbm, 759, rfl⟩
abbrev main_call2_call0_call0_v9 : Ref sig .tc := ⟨.hbm, 760, rfl⟩
abbrev main_call2_call0_call0_v10 : Ref sig .tc := ⟨.hbm, 761, rfl⟩
abbrev main_call2_call0_call0_v11 : Ref sig .tc := ⟨.hbm, 762, rfl⟩
abbrev main_call2_call0_call0_v12 : Ref sig .tc := ⟨.hbm, 763, rfl⟩
abbrev main_call2_call0_call0_v13 : Ref sig .tc := ⟨.hbm, 764, rfl⟩
abbrev main_call2_call0_call0_c_2 : Ref sig .tc := ⟨.hbm, 765, rfl⟩
abbrev main_call2_call0_call0_v14 : Ref sig .tc := ⟨.hbm, 766, rfl⟩
abbrev main_call2_call0_call0_v15 : Ref sig .tc := ⟨.hbm, 767, rfl⟩
abbrev main_call2_call0_call0_c_3 : Ref sig .tc := ⟨.hbm, 768, rfl⟩
abbrev main_call2_call0_call0_v16 : Ref sig .tc := ⟨.hbm, 769, rfl⟩
abbrev main_call2_call0_call0_v17 : Ref sig .tc := ⟨.hbm, 770, rfl⟩
abbrev main_call2_call0_call0_v18 : Ref sig .tc := ⟨.hbm, 771, rfl⟩
abbrev main_call2_call0_call0_v19 : Ref sig .tc := ⟨.hbm, 772, rfl⟩
abbrev main_call2_call0_call0_v20 : Ref sig .tc := ⟨.hbm, 773, rfl⟩
abbrev main_call2_call0_call0_c_4 : Ref sig .tc := ⟨.hbm, 774, rfl⟩
abbrev main_call2_call0_call0_v21 : Ref sig .tc := ⟨.hbm, 775, rfl⟩
abbrev main_call2_call0_call0_v22 : Ref sig .tc := ⟨.hbm, 776, rfl⟩
abbrev main_call2_call0_call0_c_5 : Ref sig .tc := ⟨.hbm, 777, rfl⟩
abbrev main_call2_call0_call0_v23 : Ref sig .tc := ⟨.hbm, 778, rfl⟩
abbrev main_call2_call0_call0_v24 : Ref sig .tc := ⟨.hbm, 779, rfl⟩
abbrev main_call2_call0_call0_v25 : Ref sig .tc := ⟨.hbm, 780, rfl⟩
abbrev main_call2_call0_call0_v26 : Ref sig .tc := ⟨.hbm, 781, rfl⟩
abbrev main_call2_call0_call0_v27 : Ref sig .tc := ⟨.hbm, 782, rfl⟩
abbrev main_call2_call0_call0_c_6 : Ref sig .tc := ⟨.hbm, 783, rfl⟩
abbrev main_call2_call0_call0_v28 : Ref sig .tc := ⟨.hbm, 784, rfl⟩
abbrev main_call2_call0_call0_v29 : Ref sig .tc := ⟨.hbm, 785, rfl⟩
abbrev main_call2_call0_call0_c_7 : Ref sig .tc := ⟨.hbm, 786, rfl⟩
abbrev main_call2_call0_call0_v30 : Ref sig .tc := ⟨.hbm, 787, rfl⟩
abbrev main_call2_call0_call0_v31 : Ref sig .tc := ⟨.hbm, 788, rfl⟩
abbrev main_call2_call0_call0_v32 : Ref sig .tc := ⟨.hbm, 789, rfl⟩
abbrev main_call2_call0_call0_v33 : Ref sig .tc := ⟨.hbm, 790, rfl⟩
abbrev main_call2_call0_call0_v34 : Ref sig .tc := ⟨.hbm, 791, rfl⟩
abbrev main_call2_call0_call0_v35 : Ref sig .tc := ⟨.hbm, 792, rfl⟩
abbrev main_call2_call0_call0_v36 : Ref sig .tc := ⟨.hbm, 793, rfl⟩
abbrev main_call2_call0_call0_v37 : Ref sig .tc := ⟨.hbm, 794, rfl⟩
abbrev main_call2_call0_call0_c_8 : Ref sig .tc := ⟨.hbm, 795, rfl⟩
abbrev main_call2_call0_call0_v38 : Ref sig .tc := ⟨.hbm, 796, rfl⟩
abbrev main_call2_call0_call0_v39 : Ref sig .tc := ⟨.hbm, 797, rfl⟩
abbrev main_call2_call0_call0_v40 : Ref sig .tc := ⟨.hbm, 798, rfl⟩
abbrev main_call2_call0_call0_c_9 : Ref sig .tc := ⟨.hbm, 799, rfl⟩
abbrev main_call2_call0_call0_v41 : Ref sig .tc := ⟨.hbm, 800, rfl⟩
abbrev main_call2_call0_call0_v42 : Ref sig .tc := ⟨.hbm, 801, rfl⟩
abbrev main_call2_call0_call0_c_10 : Ref sig .tc := ⟨.hbm, 802, rfl⟩
abbrev main_call2_call0_call0_v43 : Ref sig .tc := ⟨.hbm, 803, rfl⟩
abbrev main_call2_call0_call0_v44 : Ref sig .tc := ⟨.hbm, 804, rfl⟩
abbrev main_call2_call0_call0_v45 : Ref sig .tc := ⟨.hbm, 805, rfl⟩
abbrev main_call2_call0_call0_v46 : Ref sig .tc := ⟨.hbm, 806, rfl⟩
abbrev main_call2_call0_call0_v47 : Ref sig .tc := ⟨.hbm, 807, rfl⟩
abbrev main_call2_call0_call0_c_11 : Ref sig .tc := ⟨.hbm, 808, rfl⟩
abbrev main_call2_call0_call0_v48 : Ref sig .tc := ⟨.hbm, 809, rfl⟩
abbrev main_call2_call0_call0_v49 : Ref sig .tc := ⟨.hbm, 810, rfl⟩
abbrev main_call2_call0_call0_c_12 : Ref sig .tc := ⟨.hbm, 811, rfl⟩
abbrev main_call2_call0_call0_v50 : Ref sig .tc := ⟨.hbm, 812, rfl⟩
abbrev main_call2_call0_call0_v51 : Ref sig .tc := ⟨.hbm, 813, rfl⟩
abbrev main_call2_call0_call0_v52 : Ref sig .tc := ⟨.hbm, 814, rfl⟩
abbrev main_call2_call0_call0_v53 : Ref sig .tc := ⟨.hbm, 815, rfl⟩
abbrev main_call2_call0_call0_v54 : Ref sig .tc := ⟨.hbm, 816, rfl⟩
abbrev main_call2_call0_call0_c_13 : Ref sig .tc := ⟨.hbm, 817, rfl⟩
abbrev main_call2_call0_call0_v55 : Ref sig .tc := ⟨.hbm, 818, rfl⟩
abbrev main_call2_call0_call0_v56 : Ref sig .tc := ⟨.hbm, 819, rfl⟩
abbrev main_call2_call0_call0_c_14 : Ref sig .tc := ⟨.hbm, 820, rfl⟩
abbrev main_call2_call0_call0_v57 : Ref sig .tc := ⟨.hbm, 821, rfl⟩
abbrev main_call2_call0_call0_v58 : Ref sig .tc := ⟨.hbm, 822, rfl⟩
abbrev main_call2_call0_call0_v59 : Ref sig .tc := ⟨.hbm, 823, rfl⟩
abbrev main_call2_call0_call0_v60 : Ref sig .tc := ⟨.hbm, 824, rfl⟩
abbrev main_call2_call0_call0_v61 : Ref sig .tc := ⟨.hbm, 825, rfl⟩
abbrev main_call2_call0_call0_c_15 : Ref sig .tc := ⟨.hbm, 826, rfl⟩
abbrev main_call2_call0_call0_v62 : Ref sig .tc := ⟨.hbm, 827, rfl⟩
abbrev main_call2_call0_call0_v63 : Ref sig .tc := ⟨.hbm, 828, rfl⟩
abbrev main_call2_call0_call0_c_16 : Ref sig .tc := ⟨.hbm, 829, rfl⟩
abbrev main_call2_call0_call0_v64 : Ref sig .tc := ⟨.hbm, 830, rfl⟩
abbrev main_call2_call0_call0_v65 : Ref sig .tc := ⟨.hbm, 831, rfl⟩
abbrev main_call2_call0_call0_v66 : Ref sig .tc := ⟨.hbm, 832, rfl⟩
abbrev main_call2_call0_call0_v67 : Ref sig .tc := ⟨.hbm, 833, rfl⟩
abbrev main_call2_call0_call0_v68 : Ref sig .tc := ⟨.hbm, 834, rfl⟩
abbrev main_call2_call0_call0_v69 : Ref sig .tc := ⟨.hbm, 835, rfl⟩
abbrev main_call2_call0_call0_v70 : Ref sig .tc := ⟨.hbm, 836, rfl⟩
abbrev main_call2_call0_call0_v71 : Ref sig .tc := ⟨.hbm, 837, rfl⟩
abbrev main_call2_call0_call0_c_17 : Ref sig .tc := ⟨.hbm, 838, rfl⟩
abbrev main_call2_call0_call0_v72 : Ref sig .tc := ⟨.hbm, 839, rfl⟩
abbrev main_call2_call0_call0_v73 : Ref sig .tc := ⟨.hbm, 840, rfl⟩
abbrev main_call2_call0_call0_v74 : Ref sig .tc := ⟨.hbm, 841, rfl⟩
abbrev main_call2_call0_call0_c_18 : Ref sig .tc := ⟨.hbm, 842, rfl⟩
abbrev main_call2_call0_call0_v75 : Ref sig .tc := ⟨.hbm, 843, rfl⟩
abbrev main_call2_call0_call0_v76 : Ref sig .tc := ⟨.hbm, 844, rfl⟩
abbrev main_call2_call0_call0_c_19 : Ref sig .tc := ⟨.hbm, 845, rfl⟩
abbrev main_call2_call0_call0_v77 : Ref sig .tc := ⟨.hbm, 846, rfl⟩
abbrev main_call2_call0_call0_v78 : Ref sig .tc := ⟨.hbm, 847, rfl⟩
abbrev main_call2_call0_call0_v79 : Ref sig .tc := ⟨.hbm, 848, rfl⟩
abbrev main_call2_call0_call0_v80 : Ref sig .tc := ⟨.hbm, 849, rfl⟩
abbrev main_call2_call0_call0_v81 : Ref sig .tc := ⟨.hbm, 850, rfl⟩
abbrev main_call2_call0_call0_c_20 : Ref sig .tc := ⟨.hbm, 851, rfl⟩
abbrev main_call2_call0_call0_v82 : Ref sig .tc := ⟨.hbm, 852, rfl⟩
abbrev main_call2_call0_call0_v83 : Ref sig .tc := ⟨.hbm, 853, rfl⟩
abbrev main_call2_call0_call0_c_21 : Ref sig .tc := ⟨.hbm, 854, rfl⟩
abbrev main_call2_call0_call0_v84 : Ref sig .tc := ⟨.hbm, 855, rfl⟩
abbrev main_call2_call0_call0_v85 : Ref sig .tc := ⟨.hbm, 856, rfl⟩
abbrev main_call2_call0_call0_v86 : Ref sig .tc := ⟨.hbm, 857, rfl⟩
abbrev main_call2_call0_call0_v87 : Ref sig .tc := ⟨.hbm, 858, rfl⟩
abbrev main_call2_call0_call0_v88 : Ref sig .tc := ⟨.hbm, 859, rfl⟩
abbrev main_call2_call0_call0_c_22 : Ref sig .tc := ⟨.hbm, 860, rfl⟩
abbrev main_call2_call0_call0_v89 : Ref sig .tc := ⟨.hbm, 861, rfl⟩
abbrev main_call2_call0_call0_v90 : Ref sig .tc := ⟨.hbm, 862, rfl⟩
abbrev main_call2_call0_call0_c_23 : Ref sig .tc := ⟨.hbm, 863, rfl⟩
abbrev main_call2_call0_call0_v91 : Ref sig .tc := ⟨.hbm, 864, rfl⟩
abbrev main_call2_call0_call0_v92 : Ref sig .tc := ⟨.hbm, 865, rfl⟩
abbrev main_call2_call0_call0_v93 : Ref sig .tc := ⟨.hbm, 866, rfl⟩
abbrev main_call2_call0_call0_v94 : Ref sig .tc := ⟨.hbm, 867, rfl⟩
abbrev main_call2_call0_call0_v95 : Ref sig .tc := ⟨.hbm, 868, rfl⟩
abbrev main_call2_call0_call0_c_24 : Ref sig .tc := ⟨.hbm, 869, rfl⟩
abbrev main_call2_call0_call0_v96 : Ref sig .tc := ⟨.hbm, 870, rfl⟩
abbrev main_call2_call0_call0_v97 : Ref sig .tc := ⟨.hbm, 871, rfl⟩
abbrev main_call2_call0_call0_c_25 : Ref sig .tc := ⟨.hbm, 872, rfl⟩
abbrev main_call2_call0_call0_v98 : Ref sig .tc := ⟨.hbm, 873, rfl⟩
abbrev main_call2_call0_call0_v99 : Ref sig .tc := ⟨.hbm, 874, rfl⟩
abbrev main_call2_call0_call0_v100 : Ref sig .tc := ⟨.hbm, 875, rfl⟩
abbrev main_call2_call0_call0_v101 : Ref sig .tc := ⟨.hbm, 876, rfl⟩
abbrev main_call2_call0_call0_v102 : Ref sig .tc := ⟨.hbm, 877, rfl⟩
abbrev main_call2_call0_call0_v103 : Ref sig .tc := ⟨.hbm, 878, rfl⟩
abbrev main_call2_call0_call0_v104 : Ref sig .tc := ⟨.hbm, 879, rfl⟩
abbrev main_call2_call0_call0_v105 : Ref sig .tc := ⟨.hbm, 880, rfl⟩
abbrev main_call2_call0_call0_c_26 : Ref sig .tc := ⟨.hbm, 881, rfl⟩
abbrev main_call2_call0_call0_v106 : Ref sig .tc := ⟨.hbm, 882, rfl⟩
abbrev main_call2_call0_call0_v107 : Ref sig .tc := ⟨.hbm, 883, rfl⟩
abbrev main_call2_call0_call0_v108 : Ref sig .tc := ⟨.hbm, 884, rfl⟩
abbrev main_call2_call0_call0_c_27 : Ref sig .tc := ⟨.hbm, 885, rfl⟩
abbrev main_call2_call0_call0_v109 : Ref sig .tc := ⟨.hbm, 886, rfl⟩
abbrev main_call2_call0_call0_v110 : Ref sig .tc := ⟨.hbm, 887, rfl⟩
abbrev main_call2_call0_call0_c_28 : Ref sig .tc := ⟨.hbm, 888, rfl⟩
abbrev main_call2_call0_call0_v111 : Ref sig .tc := ⟨.hbm, 889, rfl⟩
abbrev main_call2_call0_call0_v112 : Ref sig .tc := ⟨.hbm, 890, rfl⟩
abbrev main_call2_call0_call0_v113 : Ref sig .tc := ⟨.hbm, 891, rfl⟩
abbrev main_call2_call0_call0_v114 : Ref sig .tc := ⟨.hbm, 892, rfl⟩
abbrev main_call2_call0_call0_v115 : Ref sig .tc := ⟨.hbm, 893, rfl⟩
abbrev main_call2_call0_call0_c_29 : Ref sig .tc := ⟨.hbm, 894, rfl⟩
abbrev main_call2_call0_call0_v116 : Ref sig .tc := ⟨.hbm, 895, rfl⟩
abbrev main_call2_call0_call0_v117 : Ref sig .tc := ⟨.hbm, 896, rfl⟩
abbrev main_call2_call0_call0_c_30 : Ref sig .tc := ⟨.hbm, 897, rfl⟩
abbrev main_call2_call0_call0_v118 : Ref sig .tc := ⟨.hbm, 898, rfl⟩
abbrev main_call2_call0_call0_v119 : Ref sig .tc := ⟨.hbm, 899, rfl⟩
abbrev main_call2_call0_call0_v120 : Ref sig .tc := ⟨.hbm, 900, rfl⟩
abbrev main_call2_call0_call0_v121 : Ref sig .tc := ⟨.hbm, 901, rfl⟩
abbrev main_call2_call0_call0_v122 : Ref sig .tc := ⟨.hbm, 902, rfl⟩
abbrev main_call2_call0_call0_c_31 : Ref sig .tc := ⟨.hbm, 903, rfl⟩
abbrev main_call2_call0_call0_v123 : Ref sig .tc := ⟨.hbm, 904, rfl⟩
abbrev main_call2_call0_call0_v124 : Ref sig .tc := ⟨.hbm, 905, rfl⟩
abbrev main_call2_call0_call0_c_32 : Ref sig .tc := ⟨.hbm, 906, rfl⟩
abbrev main_call2_call0_call0_v125 : Ref sig .tc := ⟨.hbm, 907, rfl⟩
abbrev main_call2_call0_call0_v126 : Ref sig .tc := ⟨.hbm, 908, rfl⟩
abbrev main_call2_call0_call0_v127 : Ref sig .tc := ⟨.hbm, 909, rfl⟩
abbrev main_call2_call0_call0_v128 : Ref sig .tc := ⟨.hbm, 910, rfl⟩
abbrev main_call2_call0_call0_v129 : Ref sig .tc := ⟨.hbm, 911, rfl⟩
abbrev main_call2_call0_call0_c_33 : Ref sig .tc := ⟨.hbm, 912, rfl⟩
abbrev main_call2_call0_call0_v130 : Ref sig .tc := ⟨.hbm, 913, rfl⟩
abbrev main_call2_call0_call0_v131 : Ref sig .tc := ⟨.hbm, 914, rfl⟩
abbrev main_call2_call0_call0_c_34 : Ref sig .tc := ⟨.hbm, 915, rfl⟩
abbrev main_call2_call0_call0_v132 : Ref sig .tc := ⟨.hbm, 916, rfl⟩
abbrev main_call2_call0_call0_v133 : Ref sig .tc := ⟨.hbm, 917, rfl⟩
abbrev main_call2_call0_call0_v134 : Ref sig .tc := ⟨.hbm, 918, rfl⟩
abbrev main_call2_call0_call0_v135 : Ref sig .tc := ⟨.hbm, 919, rfl⟩
abbrev main_call2_call0_call0_v136 : Ref sig .tc := ⟨.hbm, 920, rfl⟩
abbrev main_call2_call0_call0_v137 : Ref sig .tc := ⟨.hbm, 921, rfl⟩
abbrev main_call2_call0_call0_v138 : Ref sig .tc := ⟨.hbm, 922, rfl⟩
abbrev main_call2_call0_call0_v139 : Ref sig .tc := ⟨.hbm, 923, rfl⟩
abbrev main_call2_call0_call0_c_35 : Ref sig .tc := ⟨.hbm, 924, rfl⟩
abbrev main_call2_call0_call0_v140 : Ref sig .tc := ⟨.hbm, 925, rfl⟩
abbrev main_call2_call0_call0_v141 : Ref sig .tc := ⟨.hbm, 926, rfl⟩
abbrev main_call2_call0_call0_v142 : Ref sig .tc := ⟨.hbm, 927, rfl⟩
abbrev main_call2_call0_call0_c_36 : Ref sig .tc := ⟨.hbm, 928, rfl⟩
abbrev main_call2_call0_call0_v143 : Ref sig .tc := ⟨.hbm, 929, rfl⟩
abbrev main_call2_call0_call0_v144 : Ref sig .tc := ⟨.hbm, 930, rfl⟩
abbrev main_call2_call0_call0_c_37 : Ref sig .tc := ⟨.hbm, 931, rfl⟩
abbrev main_call2_call0_call0_v145 : Ref sig .tc := ⟨.hbm, 932, rfl⟩
abbrev main_call2_call0_call0_v146 : Ref sig .tc := ⟨.hbm, 933, rfl⟩
abbrev main_call2_call0_call0_v147 : Ref sig .tc := ⟨.hbm, 934, rfl⟩
abbrev main_call2_call0_call0_v148 : Ref sig .tc := ⟨.hbm, 935, rfl⟩
abbrev main_call2_call0_call0_v149 : Ref sig .tc := ⟨.hbm, 936, rfl⟩
abbrev main_call2_call0_call0_c_38 : Ref sig .tc := ⟨.hbm, 937, rfl⟩
abbrev main_call2_call0_call0_v150 : Ref sig .tc := ⟨.hbm, 938, rfl⟩
abbrev main_call2_call0_call0_v151 : Ref sig .tc := ⟨.hbm, 939, rfl⟩
abbrev main_call2_call0_call0_c_39 : Ref sig .tc := ⟨.hbm, 940, rfl⟩
abbrev main_call2_call0_call0_v152 : Ref sig .tc := ⟨.hbm, 941, rfl⟩
abbrev main_call2_call0_call0_v153 : Ref sig .tc := ⟨.hbm, 942, rfl⟩
abbrev main_call2_call0_call0_v154 : Ref sig .tc := ⟨.hbm, 943, rfl⟩
abbrev main_call2_call0_call0_v155 : Ref sig .tc := ⟨.hbm, 944, rfl⟩
abbrev main_call2_call0_call0_v156 : Ref sig .tc := ⟨.hbm, 945, rfl⟩
abbrev main_call2_call0_call0_c_40 : Ref sig .tc := ⟨.hbm, 946, rfl⟩
abbrev main_call2_call0_call0_v157 : Ref sig .tc := ⟨.hbm, 947, rfl⟩
abbrev main_call2_call0_call0_v158 : Ref sig .tc := ⟨.hbm, 948, rfl⟩
abbrev main_call2_call0_call0_c_41 : Ref sig .tc := ⟨.hbm, 949, rfl⟩
abbrev main_call2_call0_call0_v159 : Ref sig .tc := ⟨.hbm, 950, rfl⟩
abbrev main_call2_call0_call0_v160 : Ref sig .tc := ⟨.hbm, 951, rfl⟩
abbrev main_call2_call0_call0_v161 : Ref sig .tc := ⟨.hbm, 952, rfl⟩
abbrev main_call2_call0_call0_v162 : Ref sig .tc := ⟨.hbm, 953, rfl⟩
abbrev main_call2_call0_call0_v163 : Ref sig .tc := ⟨.hbm, 954, rfl⟩
abbrev main_call2_call0_call0_c_42 : Ref sig .tc := ⟨.hbm, 955, rfl⟩
abbrev main_call2_call0_call0_v164 : Ref sig .tc := ⟨.hbm, 956, rfl⟩
abbrev main_call2_call0_call0_v165 : Ref sig .tc := ⟨.hbm, 957, rfl⟩
abbrev main_call2_call0_call0_c_43 : Ref sig .tc := ⟨.hbm, 958, rfl⟩
abbrev main_call2_call0_call0_v166 : Ref sig .tc := ⟨.hbm, 959, rfl⟩
abbrev main_call2_call0_call0_v167 : Ref sig .tc := ⟨.hbm, 960, rfl⟩
abbrev main_call2_call0_call0_v168 : Ref sig .tc := ⟨.hbm, 961, rfl⟩
abbrev main_call2_call0_call0_v169 : Ref sig .tc := ⟨.hbm, 962, rfl⟩
abbrev main_call2_call0_call0_v170 : Ref sig .tc := ⟨.hbm, 963, rfl⟩
abbrev main_call2_call0_v11_0 : Ref sig .tc := ⟨.hbm, 964, rfl⟩
abbrev main_call2_call0_call0_v172 : Ref sig .tc := ⟨.hbm, 965, rfl⟩
abbrev main_call2_call0_call0_v173 : Ref sig .tc := ⟨.hbm, 966, rfl⟩
abbrev main_call2_call0_call0_c_44 : Ref sig .tc := ⟨.hbm, 967, rfl⟩
abbrev main_call2_call0_call0_v174 : Ref sig .tc := ⟨.hbm, 968, rfl⟩
abbrev main_call2_call0_v11_1 : Ref sig .tc := ⟨.hbm, 969, rfl⟩
abbrev main_call2_call0_v12 : Ref sig .tc := ⟨.hbm, 970, rfl⟩
abbrev main_call2_call0_v13 : Ref sig .tc := ⟨.hbm, 971, rfl⟩
abbrev main_call2_v0 : Ref sig .tc := ⟨.hbm, 972, rfl⟩
abbrev main_call2_v1 : Ref sig .tc := ⟨.hbm, 973, rfl⟩
abbrev main_call2_v2 : Ref sig .tc := ⟨.hbm, 974, rfl⟩
abbrev main_call2_v3 : Ref sig .tc := ⟨.hbm, 975, rfl⟩
abbrev main_call2_v4 : Ref sig .tc := ⟨.hbm, 976, rfl⟩
abbrev main_call2_v5 : Ref sig .tc := ⟨.hbm, 977, rfl⟩
abbrev main_call2_v6 : Ref sig .tc := ⟨.hbm, 978, rfl⟩
abbrev main_call2_v7 : Ref sig .tc := ⟨.hbm, 979, rfl⟩
abbrev main_call2_v8 : Ref sig .tc := ⟨.hbm, 980, rfl⟩
abbrev main_call2_v9 : Ref sig .tc := ⟨.hbm, 981, rfl⟩
abbrev main_call2_c : Ref sig .tc := ⟨.hbm, 982, rfl⟩
abbrev main_call2_v10 : Ref sig .tc := ⟨.hbm, 983, rfl⟩
abbrev main_call2_v11 : Ref sig .tc := ⟨.hbm, 984, rfl⟩
abbrev main_call2_c_0 : Ref sig .tc := ⟨.hbm, 985, rfl⟩
abbrev main_call2_v12 : Ref sig .tc := ⟨.hbm, 986, rfl⟩
abbrev main_call2_v13 : Ref sig .tc := ⟨.hbm, 987, rfl⟩
abbrev main_call2_v14 : Ref sig .tc := ⟨.hbm, 988, rfl⟩
abbrev main_call2_v15 : Ref sig .tc := ⟨.hbm, 989, rfl⟩
abbrev main_call2_call1_v0 : Ref sig .tc := ⟨.hbm, 990, rfl⟩
abbrev main_call2_call1_c : Ref sig .tc := ⟨.hbm, 991, rfl⟩
abbrev main_call2_call1_v1 : Ref sig .tc := ⟨.hbm, 992, rfl⟩
abbrev main_call2_call1_v2 : Ref sig .tc := ⟨.hbm, 993, rfl⟩
abbrev main_call2_call1_v3 : Ref sig .tc := ⟨.hbm, 994, rfl⟩
abbrev main_call2_call1_v4 : Ref sig .tc := ⟨.hbm, 995, rfl⟩
abbrev main_call2_call1_v5 : Ref sig .tc := ⟨.hbm, 996, rfl⟩
abbrev main_call2_call1_v6 : Ref sig .tc := ⟨.hbm, 997, rfl⟩
abbrev main_call2_call1_c_0 : Ref sig .tc := ⟨.hbm, 998, rfl⟩
abbrev main_call2_call1_v7 : Ref sig .tc := ⟨.hbm, 999, rfl⟩
abbrev main_call2_call1_v8 : Ref sig .tc := ⟨.hbm, 1000, rfl⟩
abbrev main_call2_call1_c_1 : Ref sig .tc := ⟨.hbm, 1001, rfl⟩
abbrev main_call2_call1_v9 : Ref sig .tc := ⟨.hbm, 1002, rfl⟩
abbrev main_call2_call1_v10 : Ref sig .tc := ⟨.hbm, 1003, rfl⟩
abbrev main_call2_call1_v11 : Ref sig .tc := ⟨.hbm, 1004, rfl⟩
abbrev main_call2_call1_v12 : Ref sig .tc := ⟨.hbm, 1005, rfl⟩
abbrev main_call2_call1_v13 : Ref sig .tc := ⟨.hbm, 1006, rfl⟩
abbrev main_call2_call1_c_2 : Ref sig .tc := ⟨.hbm, 1007, rfl⟩
abbrev main_call2_call1_v14 : Ref sig .tc := ⟨.hbm, 1008, rfl⟩
abbrev main_call2_call1_v15 : Ref sig .tc := ⟨.hbm, 1009, rfl⟩
abbrev main_call2_call1_c_3 : Ref sig .tc := ⟨.hbm, 1010, rfl⟩
abbrev main_call2_call1_v16 : Ref sig .tc := ⟨.hbm, 1011, rfl⟩
abbrev main_call2_call1_v17 : Ref sig .tc := ⟨.hbm, 1012, rfl⟩
abbrev main_call2_call1_v18 : Ref sig .tc := ⟨.hbm, 1013, rfl⟩
abbrev main_call2_call1_v19 : Ref sig .tc := ⟨.hbm, 1014, rfl⟩
abbrev main_call2_call1_v20 : Ref sig .tc := ⟨.hbm, 1015, rfl⟩
abbrev main_call2_call1_c_4 : Ref sig .tc := ⟨.hbm, 1016, rfl⟩
abbrev main_call2_call1_v21 : Ref sig .tc := ⟨.hbm, 1017, rfl⟩
abbrev main_call2_call1_v22 : Ref sig .tc := ⟨.hbm, 1018, rfl⟩
abbrev main_call2_call1_c_5 : Ref sig .tc := ⟨.hbm, 1019, rfl⟩
abbrev main_call2_call1_v23 : Ref sig .tc := ⟨.hbm, 1020, rfl⟩
abbrev main_call2_call1_v24 : Ref sig .tc := ⟨.hbm, 1021, rfl⟩
abbrev main_call2_call1_v25 : Ref sig .tc := ⟨.hbm, 1022, rfl⟩
abbrev main_call2_call1_v26 : Ref sig .tc := ⟨.hbm, 1023, rfl⟩
abbrev main_call2_call1_v27 : Ref sig .tc := ⟨.hbm, 1024, rfl⟩
abbrev main_call2_call1_c_6 : Ref sig .tc := ⟨.hbm, 1025, rfl⟩
abbrev main_call2_call1_v28 : Ref sig .tc := ⟨.hbm, 1026, rfl⟩
abbrev main_call2_call1_v29 : Ref sig .tc := ⟨.hbm, 1027, rfl⟩
abbrev main_call2_call1_c_7 : Ref sig .tc := ⟨.hbm, 1028, rfl⟩
abbrev main_call2_call1_v30 : Ref sig .tc := ⟨.hbm, 1029, rfl⟩
abbrev main_call2_call1_v31 : Ref sig .tc := ⟨.hbm, 1030, rfl⟩
abbrev main_call2_call1_v32 : Ref sig .tc := ⟨.hbm, 1031, rfl⟩
abbrev main_call2_call1_v33 : Ref sig .tc := ⟨.hbm, 1032, rfl⟩
abbrev main_call2_call1_v34 : Ref sig .tc := ⟨.hbm, 1033, rfl⟩
abbrev main_call2_call1_v35 : Ref sig .tc := ⟨.hbm, 1034, rfl⟩
abbrev main_call2_call1_v36 : Ref sig .tc := ⟨.hbm, 1035, rfl⟩
abbrev main_call2_call1_v37 : Ref sig .tc := ⟨.hbm, 1036, rfl⟩
abbrev main_call2_call1_c_8 : Ref sig .tc := ⟨.hbm, 1037, rfl⟩
abbrev main_call2_call1_v38 : Ref sig .tc := ⟨.hbm, 1038, rfl⟩
abbrev main_call2_call1_v39 : Ref sig .tc := ⟨.hbm, 1039, rfl⟩
abbrev main_call2_call1_v40 : Ref sig .tc := ⟨.hbm, 1040, rfl⟩
abbrev main_call2_call1_c_9 : Ref sig .tc := ⟨.hbm, 1041, rfl⟩
abbrev main_call2_call1_v41 : Ref sig .tc := ⟨.hbm, 1042, rfl⟩
abbrev main_call2_call1_v42 : Ref sig .tc := ⟨.hbm, 1043, rfl⟩
abbrev main_call2_call1_c_10 : Ref sig .tc := ⟨.hbm, 1044, rfl⟩
abbrev main_call2_call1_v43 : Ref sig .tc := ⟨.hbm, 1045, rfl⟩
abbrev main_call2_call1_v44 : Ref sig .tc := ⟨.hbm, 1046, rfl⟩
abbrev main_call2_call1_v45 : Ref sig .tc := ⟨.hbm, 1047, rfl⟩
abbrev main_call2_call1_v46 : Ref sig .tc := ⟨.hbm, 1048, rfl⟩
abbrev main_call2_call1_v47 : Ref sig .tc := ⟨.hbm, 1049, rfl⟩
abbrev main_call2_call1_c_11 : Ref sig .tc := ⟨.hbm, 1050, rfl⟩
abbrev main_call2_call1_v48 : Ref sig .tc := ⟨.hbm, 1051, rfl⟩
abbrev main_call2_call1_v49 : Ref sig .tc := ⟨.hbm, 1052, rfl⟩
abbrev main_call2_call1_c_12 : Ref sig .tc := ⟨.hbm, 1053, rfl⟩
abbrev main_call2_call1_v50 : Ref sig .tc := ⟨.hbm, 1054, rfl⟩
abbrev main_call2_call1_v51 : Ref sig .tc := ⟨.hbm, 1055, rfl⟩
abbrev main_call2_call1_v52 : Ref sig .tc := ⟨.hbm, 1056, rfl⟩
abbrev main_call2_call1_v53 : Ref sig .tc := ⟨.hbm, 1057, rfl⟩
abbrev main_call2_call1_v54 : Ref sig .tc := ⟨.hbm, 1058, rfl⟩
abbrev main_call2_call1_c_13 : Ref sig .tc := ⟨.hbm, 1059, rfl⟩
abbrev main_call2_call1_v55 : Ref sig .tc := ⟨.hbm, 1060, rfl⟩
abbrev main_call2_call1_v56 : Ref sig .tc := ⟨.hbm, 1061, rfl⟩
abbrev main_call2_call1_c_14 : Ref sig .tc := ⟨.hbm, 1062, rfl⟩
abbrev main_call2_call1_v57 : Ref sig .tc := ⟨.hbm, 1063, rfl⟩
abbrev main_call2_call1_v58 : Ref sig .tc := ⟨.hbm, 1064, rfl⟩
abbrev main_call2_call1_v59 : Ref sig .tc := ⟨.hbm, 1065, rfl⟩
abbrev main_call2_call1_v60 : Ref sig .tc := ⟨.hbm, 1066, rfl⟩
abbrev main_call2_call1_v61 : Ref sig .tc := ⟨.hbm, 1067, rfl⟩
abbrev main_call2_call1_c_15 : Ref sig .tc := ⟨.hbm, 1068, rfl⟩
abbrev main_call2_call1_v62 : Ref sig .tc := ⟨.hbm, 1069, rfl⟩
abbrev main_call2_call1_v63 : Ref sig .tc := ⟨.hbm, 1070, rfl⟩
abbrev main_call2_call1_c_16 : Ref sig .tc := ⟨.hbm, 1071, rfl⟩
abbrev main_call2_call1_v64 : Ref sig .tc := ⟨.hbm, 1072, rfl⟩
abbrev main_call2_call1_v65 : Ref sig .tc := ⟨.hbm, 1073, rfl⟩
abbrev main_call2_call1_v66 : Ref sig .tc := ⟨.hbm, 1074, rfl⟩
abbrev main_call2_call1_v67 : Ref sig .tc := ⟨.hbm, 1075, rfl⟩
abbrev main_call2_call1_v68 : Ref sig .tc := ⟨.hbm, 1076, rfl⟩
abbrev main_call2_call1_v69 : Ref sig .tc := ⟨.hbm, 1077, rfl⟩
abbrev main_call2_call1_v70 : Ref sig .tc := ⟨.hbm, 1078, rfl⟩
abbrev main_call2_call1_v71 : Ref sig .tc := ⟨.hbm, 1079, rfl⟩
abbrev main_call2_call1_c_17 : Ref sig .tc := ⟨.hbm, 1080, rfl⟩
abbrev main_call2_call1_v72 : Ref sig .tc := ⟨.hbm, 1081, rfl⟩
abbrev main_call2_call1_v73 : Ref sig .tc := ⟨.hbm, 1082, rfl⟩
abbrev main_call2_call1_v74 : Ref sig .tc := ⟨.hbm, 1083, rfl⟩
abbrev main_call2_call1_c_18 : Ref sig .tc := ⟨.hbm, 1084, rfl⟩
abbrev main_call2_call1_v75 : Ref sig .tc := ⟨.hbm, 1085, rfl⟩
abbrev main_call2_call1_v76 : Ref sig .tc := ⟨.hbm, 1086, rfl⟩
abbrev main_call2_call1_c_19 : Ref sig .tc := ⟨.hbm, 1087, rfl⟩
abbrev main_call2_call1_v77 : Ref sig .tc := ⟨.hbm, 1088, rfl⟩
abbrev main_call2_call1_v78 : Ref sig .tc := ⟨.hbm, 1089, rfl⟩
abbrev main_call2_call1_v79 : Ref sig .tc := ⟨.hbm, 1090, rfl⟩
abbrev main_call2_call1_v80 : Ref sig .tc := ⟨.hbm, 1091, rfl⟩
abbrev main_call2_call1_v81 : Ref sig .tc := ⟨.hbm, 1092, rfl⟩
abbrev main_call2_call1_c_20 : Ref sig .tc := ⟨.hbm, 1093, rfl⟩
abbrev main_call2_call1_v82 : Ref sig .tc := ⟨.hbm, 1094, rfl⟩
abbrev main_call2_call1_v83 : Ref sig .tc := ⟨.hbm, 1095, rfl⟩
abbrev main_call2_call1_c_21 : Ref sig .tc := ⟨.hbm, 1096, rfl⟩
abbrev main_call2_call1_v84 : Ref sig .tc := ⟨.hbm, 1097, rfl⟩
abbrev main_call2_call1_v85 : Ref sig .tc := ⟨.hbm, 1098, rfl⟩
abbrev main_call2_call1_v86 : Ref sig .tc := ⟨.hbm, 1099, rfl⟩
abbrev main_call2_call1_v87 : Ref sig .tc := ⟨.hbm, 1100, rfl⟩
abbrev main_call2_call1_v88 : Ref sig .tc := ⟨.hbm, 1101, rfl⟩
abbrev main_call2_call1_c_22 : Ref sig .tc := ⟨.hbm, 1102, rfl⟩
abbrev main_call2_call1_v89 : Ref sig .tc := ⟨.hbm, 1103, rfl⟩
abbrev main_call2_call1_v90 : Ref sig .tc := ⟨.hbm, 1104, rfl⟩
abbrev main_call2_call1_c_23 : Ref sig .tc := ⟨.hbm, 1105, rfl⟩
abbrev main_call2_call1_v91 : Ref sig .tc := ⟨.hbm, 1106, rfl⟩
abbrev main_call2_call1_v92 : Ref sig .tc := ⟨.hbm, 1107, rfl⟩
abbrev main_call2_call1_v93 : Ref sig .tc := ⟨.hbm, 1108, rfl⟩
abbrev main_call2_call1_v94 : Ref sig .tc := ⟨.hbm, 1109, rfl⟩
abbrev main_call2_call1_v95 : Ref sig .tc := ⟨.hbm, 1110, rfl⟩
abbrev main_call2_call1_c_24 : Ref sig .tc := ⟨.hbm, 1111, rfl⟩
abbrev main_call2_call1_v96 : Ref sig .tc := ⟨.hbm, 1112, rfl⟩
abbrev main_call2_call1_v97 : Ref sig .tc := ⟨.hbm, 1113, rfl⟩
abbrev main_call2_call1_c_25 : Ref sig .tc := ⟨.hbm, 1114, rfl⟩
abbrev main_call2_call1_v98 : Ref sig .tc := ⟨.hbm, 1115, rfl⟩
abbrev main_call2_call1_v99 : Ref sig .tc := ⟨.hbm, 1116, rfl⟩
abbrev main_call2_call1_v100 : Ref sig .tc := ⟨.hbm, 1117, rfl⟩
abbrev main_call2_call1_v101 : Ref sig .tc := ⟨.hbm, 1118, rfl⟩
abbrev main_call2_call1_v102 : Ref sig .tc := ⟨.hbm, 1119, rfl⟩
abbrev main_call2_call1_v103 : Ref sig .tc := ⟨.hbm, 1120, rfl⟩
abbrev main_call2_call1_v104 : Ref sig .tc := ⟨.hbm, 1121, rfl⟩
abbrev main_call2_call1_v105 : Ref sig .tc := ⟨.hbm, 1122, rfl⟩
abbrev main_call2_call1_c_26 : Ref sig .tc := ⟨.hbm, 1123, rfl⟩
abbrev main_call2_call1_v106 : Ref sig .tc := ⟨.hbm, 1124, rfl⟩
abbrev main_call2_call1_v107 : Ref sig .tc := ⟨.hbm, 1125, rfl⟩
abbrev main_call2_call1_v108 : Ref sig .tc := ⟨.hbm, 1126, rfl⟩
abbrev main_call2_call1_c_27 : Ref sig .tc := ⟨.hbm, 1127, rfl⟩
abbrev main_call2_call1_v109 : Ref sig .tc := ⟨.hbm, 1128, rfl⟩
abbrev main_call2_call1_v110 : Ref sig .tc := ⟨.hbm, 1129, rfl⟩
abbrev main_call2_call1_c_28 : Ref sig .tc := ⟨.hbm, 1130, rfl⟩
abbrev main_call2_call1_v111 : Ref sig .tc := ⟨.hbm, 1131, rfl⟩
abbrev main_call2_call1_v112 : Ref sig .tc := ⟨.hbm, 1132, rfl⟩
abbrev main_call2_call1_v113 : Ref sig .tc := ⟨.hbm, 1133, rfl⟩
abbrev main_call2_call1_v114 : Ref sig .tc := ⟨.hbm, 1134, rfl⟩
abbrev main_call2_call1_v115 : Ref sig .tc := ⟨.hbm, 1135, rfl⟩
abbrev main_call2_call1_c_29 : Ref sig .tc := ⟨.hbm, 1136, rfl⟩
abbrev main_call2_call1_v116 : Ref sig .tc := ⟨.hbm, 1137, rfl⟩
abbrev main_call2_call1_v117 : Ref sig .tc := ⟨.hbm, 1138, rfl⟩
abbrev main_call2_call1_c_30 : Ref sig .tc := ⟨.hbm, 1139, rfl⟩
abbrev main_call2_call1_v118 : Ref sig .tc := ⟨.hbm, 1140, rfl⟩
abbrev main_call2_call1_v119 : Ref sig .tc := ⟨.hbm, 1141, rfl⟩
abbrev main_call2_call1_v120 : Ref sig .tc := ⟨.hbm, 1142, rfl⟩
abbrev main_call2_call1_v121 : Ref sig .tc := ⟨.hbm, 1143, rfl⟩
abbrev main_call2_call1_v122 : Ref sig .tc := ⟨.hbm, 1144, rfl⟩
abbrev main_call2_call1_c_31 : Ref sig .tc := ⟨.hbm, 1145, rfl⟩
abbrev main_call2_call1_v123 : Ref sig .tc := ⟨.hbm, 1146, rfl⟩
abbrev main_call2_call1_v124 : Ref sig .tc := ⟨.hbm, 1147, rfl⟩
abbrev main_call2_call1_c_32 : Ref sig .tc := ⟨.hbm, 1148, rfl⟩
abbrev main_call2_call1_v125 : Ref sig .tc := ⟨.hbm, 1149, rfl⟩
abbrev main_call2_call1_v126 : Ref sig .tc := ⟨.hbm, 1150, rfl⟩
abbrev main_call2_call1_v127 : Ref sig .tc := ⟨.hbm, 1151, rfl⟩
abbrev main_call2_call1_v128 : Ref sig .tc := ⟨.hbm, 1152, rfl⟩
abbrev main_call2_call1_v129 : Ref sig .tc := ⟨.hbm, 1153, rfl⟩
abbrev main_call2_call1_c_33 : Ref sig .tc := ⟨.hbm, 1154, rfl⟩
abbrev main_call2_call1_v130 : Ref sig .tc := ⟨.hbm, 1155, rfl⟩
abbrev main_call2_call1_v131 : Ref sig .tc := ⟨.hbm, 1156, rfl⟩
abbrev main_call2_call1_c_34 : Ref sig .tc := ⟨.hbm, 1157, rfl⟩
abbrev main_call2_call1_v132 : Ref sig .tc := ⟨.hbm, 1158, rfl⟩
abbrev main_call2_call1_v133 : Ref sig .tc := ⟨.hbm, 1159, rfl⟩
abbrev main_call2_call1_v134 : Ref sig .tc := ⟨.hbm, 1160, rfl⟩
abbrev main_call2_call1_v135 : Ref sig .tc := ⟨.hbm, 1161, rfl⟩
abbrev main_call2_call1_v136 : Ref sig .tc := ⟨.hbm, 1162, rfl⟩
abbrev main_call2_call1_v137 : Ref sig .tc := ⟨.hbm, 1163, rfl⟩
abbrev main_call2_call1_v138 : Ref sig .tc := ⟨.hbm, 1164, rfl⟩
abbrev main_call2_call1_v139 : Ref sig .tc := ⟨.hbm, 1165, rfl⟩
abbrev main_call2_call1_c_35 : Ref sig .tc := ⟨.hbm, 1166, rfl⟩
abbrev main_call2_call1_v140 : Ref sig .tc := ⟨.hbm, 1167, rfl⟩
abbrev main_call2_call1_v141 : Ref sig .tc := ⟨.hbm, 1168, rfl⟩
abbrev main_call2_call1_v142 : Ref sig .tc := ⟨.hbm, 1169, rfl⟩
abbrev main_call2_call1_c_36 : Ref sig .tc := ⟨.hbm, 1170, rfl⟩
abbrev main_call2_call1_v143 : Ref sig .tc := ⟨.hbm, 1171, rfl⟩
abbrev main_call2_call1_v144 : Ref sig .tc := ⟨.hbm, 1172, rfl⟩
abbrev main_call2_call1_c_37 : Ref sig .tc := ⟨.hbm, 1173, rfl⟩
abbrev main_call2_call1_v145 : Ref sig .tc := ⟨.hbm, 1174, rfl⟩
abbrev main_call2_call1_v146 : Ref sig .tc := ⟨.hbm, 1175, rfl⟩
abbrev main_call2_call1_v147 : Ref sig .tc := ⟨.hbm, 1176, rfl⟩
abbrev main_call2_call1_v148 : Ref sig .tc := ⟨.hbm, 1177, rfl⟩
abbrev main_call2_call1_v149 : Ref sig .tc := ⟨.hbm, 1178, rfl⟩
abbrev main_call2_call1_c_38 : Ref sig .tc := ⟨.hbm, 1179, rfl⟩
abbrev main_call2_call1_v150 : Ref sig .tc := ⟨.hbm, 1180, rfl⟩
abbrev main_call2_call1_v151 : Ref sig .tc := ⟨.hbm, 1181, rfl⟩
abbrev main_call2_call1_c_39 : Ref sig .tc := ⟨.hbm, 1182, rfl⟩
abbrev main_call2_call1_v152 : Ref sig .tc := ⟨.hbm, 1183, rfl⟩
abbrev main_call2_call1_v153 : Ref sig .tc := ⟨.hbm, 1184, rfl⟩
abbrev main_call2_call1_v154 : Ref sig .tc := ⟨.hbm, 1185, rfl⟩
abbrev main_call2_call1_v155 : Ref sig .tc := ⟨.hbm, 1186, rfl⟩
abbrev main_call2_call1_v156 : Ref sig .tc := ⟨.hbm, 1187, rfl⟩
abbrev main_call2_call1_c_40 : Ref sig .tc := ⟨.hbm, 1188, rfl⟩
abbrev main_call2_call1_v157 : Ref sig .tc := ⟨.hbm, 1189, rfl⟩
abbrev main_call2_call1_v158 : Ref sig .tc := ⟨.hbm, 1190, rfl⟩
abbrev main_call2_call1_c_41 : Ref sig .tc := ⟨.hbm, 1191, rfl⟩
abbrev main_call2_call1_v159 : Ref sig .tc := ⟨.hbm, 1192, rfl⟩
abbrev main_call2_call1_v160 : Ref sig .tc := ⟨.hbm, 1193, rfl⟩
abbrev main_call2_call1_v161 : Ref sig .tc := ⟨.hbm, 1194, rfl⟩
abbrev main_call2_call1_v162 : Ref sig .tc := ⟨.hbm, 1195, rfl⟩
abbrev main_call2_call1_v163 : Ref sig .tc := ⟨.hbm, 1196, rfl⟩
abbrev main_call2_call1_c_42 : Ref sig .tc := ⟨.hbm, 1197, rfl⟩
abbrev main_call2_call1_v164 : Ref sig .tc := ⟨.hbm, 1198, rfl⟩
abbrev main_call2_call1_v165 : Ref sig .tc := ⟨.hbm, 1199, rfl⟩
abbrev main_call2_call1_c_43 : Ref sig .tc := ⟨.hbm, 1200, rfl⟩
abbrev main_call2_call1_v166 : Ref sig .tc := ⟨.hbm, 1201, rfl⟩
abbrev main_call2_call1_v167 : Ref sig .tc := ⟨.hbm, 1202, rfl⟩
abbrev main_call2_call1_v168 : Ref sig .tc := ⟨.hbm, 1203, rfl⟩
abbrev main_call2_call1_v169 : Ref sig .tc := ⟨.hbm, 1204, rfl⟩
abbrev main_call2_call1_v170 : Ref sig .tc := ⟨.hbm, 1205, rfl⟩
abbrev main_call2_v16_0 : Ref sig .tc := ⟨.hbm, 1206, rfl⟩
abbrev main_call2_call1_v172 : Ref sig .tc := ⟨.hbm, 1207, rfl⟩
abbrev main_call2_call1_v173 : Ref sig .tc := ⟨.hbm, 1208, rfl⟩
abbrev main_call2_call1_c_44 : Ref sig .tc := ⟨.hbm, 1209, rfl⟩
abbrev main_call2_call1_v174 : Ref sig .tc := ⟨.hbm, 1210, rfl⟩
abbrev main_call2_v16_1 : Ref sig .tc := ⟨.hbm, 1211, rfl⟩
abbrev main_call2_v17 : Ref sig .tc := ⟨.hbm, 1212, rfl⟩
abbrev main_call2_v18_0 : Ref sig .tc := ⟨.hbm, 1213, rfl⟩
abbrev main_v15 : Ref sig .tc := ⟨.hbm, 1214, rfl⟩
abbrev main_v16 : Ref sig .tc := ⟨.hbm, 1215, rfl⟩
abbrev main_v17 : Ref sig .tc := ⟨.hbm, 1216, rfl⟩
abbrev main_v18 : Ref sig .tc := ⟨.hbm, 1217, rfl⟩
abbrev main_call3_call0_v0 : Ref sig .tc := ⟨.hbm, 1218, rfl⟩
abbrev main_call3_call0_v1 : Ref sig .tc := ⟨.hbm, 1219, rfl⟩
abbrev main_call3_call0_v2 : Ref sig .tc := ⟨.hbm, 1220, rfl⟩
abbrev main_call3_call0_v3 : Ref sig .tc := ⟨.hbm, 1221, rfl⟩
abbrev main_call3_call0_v4 : Ref sig .tc := ⟨.hbm, 1222, rfl⟩
abbrev main_call3_call0_c : Ref sig .tc := ⟨.hbm, 1223, rfl⟩
abbrev main_call3_call0_v5 : Ref sig .tc := ⟨.hbm, 1224, rfl⟩
abbrev main_call3_call0_v6 : Ref sig .tc := ⟨.hbm, 1225, rfl⟩
abbrev main_call3_call0_c_0 : Ref sig .tc := ⟨.hbm, 1226, rfl⟩
abbrev main_call3_call0_v7 : Ref sig .tc := ⟨.hbm, 1227, rfl⟩
abbrev main_call3_call0_v8 : Ref sig .tc := ⟨.hbm, 1228, rfl⟩
abbrev main_call3_call0_v9 : Ref sig .tc := ⟨.hbm, 1229, rfl⟩
abbrev main_call3_call0_v10 : Ref sig .tc := ⟨.hbm, 1230, rfl⟩
abbrev main_call3_call0_call0_v0 : Ref sig .tc := ⟨.hbm, 1231, rfl⟩
abbrev main_call3_call0_call0_c : Ref sig .tc := ⟨.hbm, 1232, rfl⟩
abbrev main_call3_call0_call0_v1 : Ref sig .tc := ⟨.hbm, 1233, rfl⟩
abbrev main_call3_call0_call0_v2 : Ref sig .tc := ⟨.hbm, 1234, rfl⟩
abbrev main_call3_call0_call0_v3 : Ref sig .tc := ⟨.hbm, 1235, rfl⟩
abbrev main_call3_call0_call0_v4 : Ref sig .tc := ⟨.hbm, 1236, rfl⟩
abbrev main_call3_call0_call0_v5 : Ref sig .tc := ⟨.hbm, 1237, rfl⟩
abbrev main_call3_call0_call0_v6 : Ref sig .tc := ⟨.hbm, 1238, rfl⟩
abbrev main_call3_call0_call0_c_0 : Ref sig .tc := ⟨.hbm, 1239, rfl⟩
abbrev main_call3_call0_call0_v7 : Ref sig .tc := ⟨.hbm, 1240, rfl⟩
abbrev main_call3_call0_call0_v8 : Ref sig .tc := ⟨.hbm, 1241, rfl⟩
abbrev main_call3_call0_call0_c_1 : Ref sig .tc := ⟨.hbm, 1242, rfl⟩
abbrev main_call3_call0_call0_v9 : Ref sig .tc := ⟨.hbm, 1243, rfl⟩
abbrev main_call3_call0_call0_v10 : Ref sig .tc := ⟨.hbm, 1244, rfl⟩
abbrev main_call3_call0_call0_v11 : Ref sig .tc := ⟨.hbm, 1245, rfl⟩
abbrev main_call3_call0_call0_v12 : Ref sig .tc := ⟨.hbm, 1246, rfl⟩
abbrev main_call3_call0_call0_v13 : Ref sig .tc := ⟨.hbm, 1247, rfl⟩
abbrev main_call3_call0_call0_c_2 : Ref sig .tc := ⟨.hbm, 1248, rfl⟩
abbrev main_call3_call0_call0_v14 : Ref sig .tc := ⟨.hbm, 1249, rfl⟩
abbrev main_call3_call0_call0_v15 : Ref sig .tc := ⟨.hbm, 1250, rfl⟩
abbrev main_call3_call0_call0_c_3 : Ref sig .tc := ⟨.hbm, 1251, rfl⟩
abbrev main_call3_call0_call0_v16 : Ref sig .tc := ⟨.hbm, 1252, rfl⟩
abbrev main_call3_call0_call0_v17 : Ref sig .tc := ⟨.hbm, 1253, rfl⟩
abbrev main_call3_call0_call0_v18 : Ref sig .tc := ⟨.hbm, 1254, rfl⟩
abbrev main_call3_call0_call0_v19 : Ref sig .tc := ⟨.hbm, 1255, rfl⟩
abbrev main_call3_call0_call0_v20 : Ref sig .tc := ⟨.hbm, 1256, rfl⟩
abbrev main_call3_call0_call0_c_4 : Ref sig .tc := ⟨.hbm, 1257, rfl⟩
abbrev main_call3_call0_call0_v21 : Ref sig .tc := ⟨.hbm, 1258, rfl⟩
abbrev main_call3_call0_call0_v22 : Ref sig .tc := ⟨.hbm, 1259, rfl⟩
abbrev main_call3_call0_call0_c_5 : Ref sig .tc := ⟨.hbm, 1260, rfl⟩
abbrev main_call3_call0_call0_v23 : Ref sig .tc := ⟨.hbm, 1261, rfl⟩
abbrev main_call3_call0_call0_v24 : Ref sig .tc := ⟨.hbm, 1262, rfl⟩
abbrev main_call3_call0_call0_v25 : Ref sig .tc := ⟨.hbm, 1263, rfl⟩
abbrev main_call3_call0_call0_v26 : Ref sig .tc := ⟨.hbm, 1264, rfl⟩
abbrev main_call3_call0_call0_v27 : Ref sig .tc := ⟨.hbm, 1265, rfl⟩
abbrev main_call3_call0_call0_c_6 : Ref sig .tc := ⟨.hbm, 1266, rfl⟩
abbrev main_call3_call0_call0_v28 : Ref sig .tc := ⟨.hbm, 1267, rfl⟩
abbrev main_call3_call0_call0_v29 : Ref sig .tc := ⟨.hbm, 1268, rfl⟩
abbrev main_call3_call0_call0_c_7 : Ref sig .tc := ⟨.hbm, 1269, rfl⟩
abbrev main_call3_call0_call0_v30 : Ref sig .tc := ⟨.hbm, 1270, rfl⟩
abbrev main_call3_call0_call0_v31 : Ref sig .tc := ⟨.hbm, 1271, rfl⟩
abbrev main_call3_call0_call0_v32 : Ref sig .tc := ⟨.hbm, 1272, rfl⟩
abbrev main_call3_call0_call0_v33 : Ref sig .tc := ⟨.hbm, 1273, rfl⟩
abbrev main_call3_call0_call0_v34 : Ref sig .tc := ⟨.hbm, 1274, rfl⟩
abbrev main_call3_call0_call0_v35 : Ref sig .tc := ⟨.hbm, 1275, rfl⟩
abbrev main_call3_call0_call0_v36 : Ref sig .tc := ⟨.hbm, 1276, rfl⟩
abbrev main_call3_call0_call0_v37 : Ref sig .tc := ⟨.hbm, 1277, rfl⟩
abbrev main_call3_call0_call0_c_8 : Ref sig .tc := ⟨.hbm, 1278, rfl⟩
abbrev main_call3_call0_call0_v38 : Ref sig .tc := ⟨.hbm, 1279, rfl⟩
abbrev main_call3_call0_call0_v39 : Ref sig .tc := ⟨.hbm, 1280, rfl⟩
abbrev main_call3_call0_call0_v40 : Ref sig .tc := ⟨.hbm, 1281, rfl⟩
abbrev main_call3_call0_call0_c_9 : Ref sig .tc := ⟨.hbm, 1282, rfl⟩
abbrev main_call3_call0_call0_v41 : Ref sig .tc := ⟨.hbm, 1283, rfl⟩
abbrev main_call3_call0_call0_v42 : Ref sig .tc := ⟨.hbm, 1284, rfl⟩
abbrev main_call3_call0_call0_c_10 : Ref sig .tc := ⟨.hbm, 1285, rfl⟩
abbrev main_call3_call0_call0_v43 : Ref sig .tc := ⟨.hbm, 1286, rfl⟩
abbrev main_call3_call0_call0_v44 : Ref sig .tc := ⟨.hbm, 1287, rfl⟩
abbrev main_call3_call0_call0_v45 : Ref sig .tc := ⟨.hbm, 1288, rfl⟩
abbrev main_call3_call0_call0_v46 : Ref sig .tc := ⟨.hbm, 1289, rfl⟩
abbrev main_call3_call0_call0_v47 : Ref sig .tc := ⟨.hbm, 1290, rfl⟩
abbrev main_call3_call0_call0_c_11 : Ref sig .tc := ⟨.hbm, 1291, rfl⟩
abbrev main_call3_call0_call0_v48 : Ref sig .tc := ⟨.hbm, 1292, rfl⟩
abbrev main_call3_call0_call0_v49 : Ref sig .tc := ⟨.hbm, 1293, rfl⟩
abbrev main_call3_call0_call0_c_12 : Ref sig .tc := ⟨.hbm, 1294, rfl⟩
abbrev main_call3_call0_call0_v50 : Ref sig .tc := ⟨.hbm, 1295, rfl⟩
abbrev main_call3_call0_call0_v51 : Ref sig .tc := ⟨.hbm, 1296, rfl⟩
abbrev main_call3_call0_call0_v52 : Ref sig .tc := ⟨.hbm, 1297, rfl⟩
abbrev main_call3_call0_call0_v53 : Ref sig .tc := ⟨.hbm, 1298, rfl⟩
abbrev main_call3_call0_call0_v54 : Ref sig .tc := ⟨.hbm, 1299, rfl⟩
abbrev main_call3_call0_call0_c_13 : Ref sig .tc := ⟨.hbm, 1300, rfl⟩
abbrev main_call3_call0_call0_v55 : Ref sig .tc := ⟨.hbm, 1301, rfl⟩
abbrev main_call3_call0_call0_v56 : Ref sig .tc := ⟨.hbm, 1302, rfl⟩
abbrev main_call3_call0_call0_c_14 : Ref sig .tc := ⟨.hbm, 1303, rfl⟩
abbrev main_call3_call0_call0_v57 : Ref sig .tc := ⟨.hbm, 1304, rfl⟩
abbrev main_call3_call0_call0_v58 : Ref sig .tc := ⟨.hbm, 1305, rfl⟩
abbrev main_call3_call0_call0_v59 : Ref sig .tc := ⟨.hbm, 1306, rfl⟩
abbrev main_call3_call0_call0_v60 : Ref sig .tc := ⟨.hbm, 1307, rfl⟩
abbrev main_call3_call0_call0_v61 : Ref sig .tc := ⟨.hbm, 1308, rfl⟩
abbrev main_call3_call0_call0_c_15 : Ref sig .tc := ⟨.hbm, 1309, rfl⟩
abbrev main_call3_call0_call0_v62 : Ref sig .tc := ⟨.hbm, 1310, rfl⟩
abbrev main_call3_call0_call0_v63 : Ref sig .tc := ⟨.hbm, 1311, rfl⟩
abbrev main_call3_call0_call0_c_16 : Ref sig .tc := ⟨.hbm, 1312, rfl⟩
abbrev main_call3_call0_call0_v64 : Ref sig .tc := ⟨.hbm, 1313, rfl⟩
abbrev main_call3_call0_call0_v65 : Ref sig .tc := ⟨.hbm, 1314, rfl⟩
abbrev main_call3_call0_call0_v66 : Ref sig .tc := ⟨.hbm, 1315, rfl⟩
abbrev main_call3_call0_call0_v67 : Ref sig .tc := ⟨.hbm, 1316, rfl⟩
abbrev main_call3_call0_call0_v68 : Ref sig .tc := ⟨.hbm, 1317, rfl⟩
abbrev main_call3_call0_call0_v69 : Ref sig .tc := ⟨.hbm, 1318, rfl⟩
abbrev main_call3_call0_call0_v70 : Ref sig .tc := ⟨.hbm, 1319, rfl⟩
abbrev main_call3_call0_call0_v71 : Ref sig .tc := ⟨.hbm, 1320, rfl⟩
abbrev main_call3_call0_call0_c_17 : Ref sig .tc := ⟨.hbm, 1321, rfl⟩
abbrev main_call3_call0_call0_v72 : Ref sig .tc := ⟨.hbm, 1322, rfl⟩
abbrev main_call3_call0_call0_v73 : Ref sig .tc := ⟨.hbm, 1323, rfl⟩
abbrev main_call3_call0_call0_v74 : Ref sig .tc := ⟨.hbm, 1324, rfl⟩
abbrev main_call3_call0_call0_c_18 : Ref sig .tc := ⟨.hbm, 1325, rfl⟩
abbrev main_call3_call0_call0_v75 : Ref sig .tc := ⟨.hbm, 1326, rfl⟩
abbrev main_call3_call0_call0_v76 : Ref sig .tc := ⟨.hbm, 1327, rfl⟩
abbrev main_call3_call0_call0_c_19 : Ref sig .tc := ⟨.hbm, 1328, rfl⟩
abbrev main_call3_call0_call0_v77 : Ref sig .tc := ⟨.hbm, 1329, rfl⟩
abbrev main_call3_call0_call0_v78 : Ref sig .tc := ⟨.hbm, 1330, rfl⟩
abbrev main_call3_call0_call0_v79 : Ref sig .tc := ⟨.hbm, 1331, rfl⟩
abbrev main_call3_call0_call0_v80 : Ref sig .tc := ⟨.hbm, 1332, rfl⟩
abbrev main_call3_call0_call0_v81 : Ref sig .tc := ⟨.hbm, 1333, rfl⟩
abbrev main_call3_call0_call0_c_20 : Ref sig .tc := ⟨.hbm, 1334, rfl⟩
abbrev main_call3_call0_call0_v82 : Ref sig .tc := ⟨.hbm, 1335, rfl⟩
abbrev main_call3_call0_call0_v83 : Ref sig .tc := ⟨.hbm, 1336, rfl⟩
abbrev main_call3_call0_call0_c_21 : Ref sig .tc := ⟨.hbm, 1337, rfl⟩
abbrev main_call3_call0_call0_v84 : Ref sig .tc := ⟨.hbm, 1338, rfl⟩
abbrev main_call3_call0_call0_v85 : Ref sig .tc := ⟨.hbm, 1339, rfl⟩
abbrev main_call3_call0_call0_v86 : Ref sig .tc := ⟨.hbm, 1340, rfl⟩
abbrev main_call3_call0_call0_v87 : Ref sig .tc := ⟨.hbm, 1341, rfl⟩
abbrev main_call3_call0_call0_v88 : Ref sig .tc := ⟨.hbm, 1342, rfl⟩
abbrev main_call3_call0_call0_c_22 : Ref sig .tc := ⟨.hbm, 1343, rfl⟩
abbrev main_call3_call0_call0_v89 : Ref sig .tc := ⟨.hbm, 1344, rfl⟩
abbrev main_call3_call0_call0_v90 : Ref sig .tc := ⟨.hbm, 1345, rfl⟩
abbrev main_call3_call0_call0_c_23 : Ref sig .tc := ⟨.hbm, 1346, rfl⟩
abbrev main_call3_call0_call0_v91 : Ref sig .tc := ⟨.hbm, 1347, rfl⟩
abbrev main_call3_call0_call0_v92 : Ref sig .tc := ⟨.hbm, 1348, rfl⟩
abbrev main_call3_call0_call0_v93 : Ref sig .tc := ⟨.hbm, 1349, rfl⟩
abbrev main_call3_call0_call0_v94 : Ref sig .tc := ⟨.hbm, 1350, rfl⟩
abbrev main_call3_call0_call0_v95 : Ref sig .tc := ⟨.hbm, 1351, rfl⟩
abbrev main_call3_call0_call0_c_24 : Ref sig .tc := ⟨.hbm, 1352, rfl⟩
abbrev main_call3_call0_call0_v96 : Ref sig .tc := ⟨.hbm, 1353, rfl⟩
abbrev main_call3_call0_call0_v97 : Ref sig .tc := ⟨.hbm, 1354, rfl⟩
abbrev main_call3_call0_call0_c_25 : Ref sig .tc := ⟨.hbm, 1355, rfl⟩
abbrev main_call3_call0_call0_v98 : Ref sig .tc := ⟨.hbm, 1356, rfl⟩
abbrev main_call3_call0_call0_v99 : Ref sig .tc := ⟨.hbm, 1357, rfl⟩
abbrev main_call3_call0_call0_v100 : Ref sig .tc := ⟨.hbm, 1358, rfl⟩
abbrev main_call3_call0_call0_v101 : Ref sig .tc := ⟨.hbm, 1359, rfl⟩
abbrev main_call3_call0_call0_v102 : Ref sig .tc := ⟨.hbm, 1360, rfl⟩
abbrev main_call3_call0_call0_v103 : Ref sig .tc := ⟨.hbm, 1361, rfl⟩
abbrev main_call3_call0_call0_v104 : Ref sig .tc := ⟨.hbm, 1362, rfl⟩
abbrev main_call3_call0_call0_v105 : Ref sig .tc := ⟨.hbm, 1363, rfl⟩
abbrev main_call3_call0_call0_c_26 : Ref sig .tc := ⟨.hbm, 1364, rfl⟩
abbrev main_call3_call0_call0_v106 : Ref sig .tc := ⟨.hbm, 1365, rfl⟩
abbrev main_call3_call0_call0_v107 : Ref sig .tc := ⟨.hbm, 1366, rfl⟩
abbrev main_call3_call0_call0_v108 : Ref sig .tc := ⟨.hbm, 1367, rfl⟩
abbrev main_call3_call0_call0_c_27 : Ref sig .tc := ⟨.hbm, 1368, rfl⟩
abbrev main_call3_call0_call0_v109 : Ref sig .tc := ⟨.hbm, 1369, rfl⟩
abbrev main_call3_call0_call0_v110 : Ref sig .tc := ⟨.hbm, 1370, rfl⟩
abbrev main_call3_call0_call0_c_28 : Ref sig .tc := ⟨.hbm, 1371, rfl⟩
abbrev main_call3_call0_call0_v111 : Ref sig .tc := ⟨.hbm, 1372, rfl⟩
abbrev main_call3_call0_call0_v112 : Ref sig .tc := ⟨.hbm, 1373, rfl⟩
abbrev main_call3_call0_call0_v113 : Ref sig .tc := ⟨.hbm, 1374, rfl⟩
abbrev main_call3_call0_call0_v114 : Ref sig .tc := ⟨.hbm, 1375, rfl⟩
abbrev main_call3_call0_call0_v115 : Ref sig .tc := ⟨.hbm, 1376, rfl⟩
abbrev main_call3_call0_call0_c_29 : Ref sig .tc := ⟨.hbm, 1377, rfl⟩
abbrev main_call3_call0_call0_v116 : Ref sig .tc := ⟨.hbm, 1378, rfl⟩
abbrev main_call3_call0_call0_v117 : Ref sig .tc := ⟨.hbm, 1379, rfl⟩
abbrev main_call3_call0_call0_c_30 : Ref sig .tc := ⟨.hbm, 1380, rfl⟩
abbrev main_call3_call0_call0_v118 : Ref sig .tc := ⟨.hbm, 1381, rfl⟩
abbrev main_call3_call0_call0_v119 : Ref sig .tc := ⟨.hbm, 1382, rfl⟩
abbrev main_call3_call0_call0_v120 : Ref sig .tc := ⟨.hbm, 1383, rfl⟩
abbrev main_call3_call0_call0_v121 : Ref sig .tc := ⟨.hbm, 1384, rfl⟩
abbrev main_call3_call0_call0_v122 : Ref sig .tc := ⟨.hbm, 1385, rfl⟩
abbrev main_call3_call0_call0_c_31 : Ref sig .tc := ⟨.hbm, 1386, rfl⟩
abbrev main_call3_call0_call0_v123 : Ref sig .tc := ⟨.hbm, 1387, rfl⟩
abbrev main_call3_call0_call0_v124 : Ref sig .tc := ⟨.hbm, 1388, rfl⟩
abbrev main_call3_call0_call0_c_32 : Ref sig .tc := ⟨.hbm, 1389, rfl⟩
abbrev main_call3_call0_call0_v125 : Ref sig .tc := ⟨.hbm, 1390, rfl⟩
abbrev main_call3_call0_call0_v126 : Ref sig .tc := ⟨.hbm, 1391, rfl⟩
abbrev main_call3_call0_call0_v127 : Ref sig .tc := ⟨.hbm, 1392, rfl⟩
abbrev main_call3_call0_call0_v128 : Ref sig .tc := ⟨.hbm, 1393, rfl⟩
abbrev main_call3_call0_call0_v129 : Ref sig .tc := ⟨.hbm, 1394, rfl⟩
abbrev main_call3_call0_call0_c_33 : Ref sig .tc := ⟨.hbm, 1395, rfl⟩
abbrev main_call3_call0_call0_v130 : Ref sig .tc := ⟨.hbm, 1396, rfl⟩
abbrev main_call3_call0_call0_v131 : Ref sig .tc := ⟨.hbm, 1397, rfl⟩
abbrev main_call3_call0_call0_c_34 : Ref sig .tc := ⟨.hbm, 1398, rfl⟩
abbrev main_call3_call0_call0_v132 : Ref sig .tc := ⟨.hbm, 1399, rfl⟩
abbrev main_call3_call0_call0_v133 : Ref sig .tc := ⟨.hbm, 1400, rfl⟩
abbrev main_call3_call0_call0_v134 : Ref sig .tc := ⟨.hbm, 1401, rfl⟩
abbrev main_call3_call0_call0_v135 : Ref sig .tc := ⟨.hbm, 1402, rfl⟩
abbrev main_call3_call0_call0_v136 : Ref sig .tc := ⟨.hbm, 1403, rfl⟩
abbrev main_call3_call0_call0_v137 : Ref sig .tc := ⟨.hbm, 1404, rfl⟩
abbrev main_call3_call0_call0_v138 : Ref sig .tc := ⟨.hbm, 1405, rfl⟩
abbrev main_call3_call0_call0_v139 : Ref sig .tc := ⟨.hbm, 1406, rfl⟩
abbrev main_call3_call0_call0_c_35 : Ref sig .tc := ⟨.hbm, 1407, rfl⟩
abbrev main_call3_call0_call0_v140 : Ref sig .tc := ⟨.hbm, 1408, rfl⟩
abbrev main_call3_call0_call0_v141 : Ref sig .tc := ⟨.hbm, 1409, rfl⟩
abbrev main_call3_call0_call0_v142 : Ref sig .tc := ⟨.hbm, 1410, rfl⟩
abbrev main_call3_call0_call0_c_36 : Ref sig .tc := ⟨.hbm, 1411, rfl⟩
abbrev main_call3_call0_call0_v143 : Ref sig .tc := ⟨.hbm, 1412, rfl⟩
abbrev main_call3_call0_call0_v144 : Ref sig .tc := ⟨.hbm, 1413, rfl⟩
abbrev main_call3_call0_call0_c_37 : Ref sig .tc := ⟨.hbm, 1414, rfl⟩
abbrev main_call3_call0_call0_v145 : Ref sig .tc := ⟨.hbm, 1415, rfl⟩
abbrev main_call3_call0_call0_v146 : Ref sig .tc := ⟨.hbm, 1416, rfl⟩
abbrev main_call3_call0_call0_v147 : Ref sig .tc := ⟨.hbm, 1417, rfl⟩
abbrev main_call3_call0_call0_v148 : Ref sig .tc := ⟨.hbm, 1418, rfl⟩
abbrev main_call3_call0_call0_v149 : Ref sig .tc := ⟨.hbm, 1419, rfl⟩
abbrev main_call3_call0_call0_c_38 : Ref sig .tc := ⟨.hbm, 1420, rfl⟩
abbrev main_call3_call0_call0_v150 : Ref sig .tc := ⟨.hbm, 1421, rfl⟩
abbrev main_call3_call0_call0_v151 : Ref sig .tc := ⟨.hbm, 1422, rfl⟩
abbrev main_call3_call0_call0_c_39 : Ref sig .tc := ⟨.hbm, 1423, rfl⟩
abbrev main_call3_call0_call0_v152 : Ref sig .tc := ⟨.hbm, 1424, rfl⟩
abbrev main_call3_call0_call0_v153 : Ref sig .tc := ⟨.hbm, 1425, rfl⟩
abbrev main_call3_call0_call0_v154 : Ref sig .tc := ⟨.hbm, 1426, rfl⟩
abbrev main_call3_call0_call0_v155 : Ref sig .tc := ⟨.hbm, 1427, rfl⟩
abbrev main_call3_call0_call0_v156 : Ref sig .tc := ⟨.hbm, 1428, rfl⟩
abbrev main_call3_call0_call0_c_40 : Ref sig .tc := ⟨.hbm, 1429, rfl⟩
abbrev main_call3_call0_call0_v157 : Ref sig .tc := ⟨.hbm, 1430, rfl⟩
abbrev main_call3_call0_call0_v158 : Ref sig .tc := ⟨.hbm, 1431, rfl⟩
abbrev main_call3_call0_call0_c_41 : Ref sig .tc := ⟨.hbm, 1432, rfl⟩
abbrev main_call3_call0_call0_v159 : Ref sig .tc := ⟨.hbm, 1433, rfl⟩
abbrev main_call3_call0_call0_v160 : Ref sig .tc := ⟨.hbm, 1434, rfl⟩
abbrev main_call3_call0_call0_v161 : Ref sig .tc := ⟨.hbm, 1435, rfl⟩
abbrev main_call3_call0_call0_v162 : Ref sig .tc := ⟨.hbm, 1436, rfl⟩
abbrev main_call3_call0_call0_v163 : Ref sig .tc := ⟨.hbm, 1437, rfl⟩
abbrev main_call3_call0_call0_c_42 : Ref sig .tc := ⟨.hbm, 1438, rfl⟩
abbrev main_call3_call0_call0_v164 : Ref sig .tc := ⟨.hbm, 1439, rfl⟩
abbrev main_call3_call0_call0_v165 : Ref sig .tc := ⟨.hbm, 1440, rfl⟩
abbrev main_call3_call0_call0_c_43 : Ref sig .tc := ⟨.hbm, 1441, rfl⟩
abbrev main_call3_call0_call0_v166 : Ref sig .tc := ⟨.hbm, 1442, rfl⟩
abbrev main_call3_call0_call0_v167 : Ref sig .tc := ⟨.hbm, 1443, rfl⟩
abbrev main_call3_call0_call0_v168 : Ref sig .tc := ⟨.hbm, 1444, rfl⟩
abbrev main_call3_call0_call0_v169 : Ref sig .tc := ⟨.hbm, 1445, rfl⟩
abbrev main_call3_call0_call0_v170 : Ref sig .tc := ⟨.hbm, 1446, rfl⟩
abbrev main_call3_call0_v11_0 : Ref sig .tc := ⟨.hbm, 1447, rfl⟩
abbrev main_call3_call0_call0_v172 : Ref sig .tc := ⟨.hbm, 1448, rfl⟩
abbrev main_call3_call0_call0_v173 : Ref sig .tc := ⟨.hbm, 1449, rfl⟩
abbrev main_call3_call0_call0_c_44 : Ref sig .tc := ⟨.hbm, 1450, rfl⟩
abbrev main_call3_call0_call0_v174 : Ref sig .tc := ⟨.hbm, 1451, rfl⟩
abbrev main_call3_call0_v11_1 : Ref sig .tc := ⟨.hbm, 1452, rfl⟩
abbrev main_call3_call0_v12 : Ref sig .tc := ⟨.hbm, 1453, rfl⟩
abbrev main_call3_call0_v13 : Ref sig .tc := ⟨.hbm, 1454, rfl⟩
abbrev main_call3_v0 : Ref sig .tc := ⟨.hbm, 1455, rfl⟩
abbrev main_call3_v1 : Ref sig .tc := ⟨.hbm, 1456, rfl⟩
abbrev main_call3_v2 : Ref sig .tc := ⟨.hbm, 1457, rfl⟩
abbrev main_call3_v3 : Ref sig .tc := ⟨.hbm, 1458, rfl⟩
abbrev main_call3_v4 : Ref sig .tc := ⟨.hbm, 1459, rfl⟩
abbrev main_call3_v5 : Ref sig .tc := ⟨.hbm, 1460, rfl⟩
abbrev main_call3_v6 : Ref sig .tc := ⟨.hbm, 1461, rfl⟩
abbrev main_call3_v7 : Ref sig .tc := ⟨.hbm, 1462, rfl⟩
abbrev main_call3_v8 : Ref sig .tc := ⟨.hbm, 1463, rfl⟩
abbrev main_call3_v9 : Ref sig .tc := ⟨.hbm, 1464, rfl⟩
abbrev main_call3_c : Ref sig .tc := ⟨.hbm, 1465, rfl⟩
abbrev main_call3_v10 : Ref sig .tc := ⟨.hbm, 1466, rfl⟩
abbrev main_call3_v11 : Ref sig .tc := ⟨.hbm, 1467, rfl⟩
abbrev main_call3_c_0 : Ref sig .tc := ⟨.hbm, 1468, rfl⟩
abbrev main_call3_v12 : Ref sig .tc := ⟨.hbm, 1469, rfl⟩
abbrev main_call3_v13 : Ref sig .tc := ⟨.hbm, 1470, rfl⟩
abbrev main_call3_v14 : Ref sig .tc := ⟨.hbm, 1471, rfl⟩
abbrev main_call3_v15 : Ref sig .tc := ⟨.hbm, 1472, rfl⟩
abbrev main_call3_call1_v0 : Ref sig .tc := ⟨.hbm, 1473, rfl⟩
abbrev main_call3_call1_c : Ref sig .tc := ⟨.hbm, 1474, rfl⟩
abbrev main_call3_call1_v1 : Ref sig .tc := ⟨.hbm, 1475, rfl⟩
abbrev main_call3_call1_v2 : Ref sig .tc := ⟨.hbm, 1476, rfl⟩
abbrev main_call3_call1_v3 : Ref sig .tc := ⟨.hbm, 1477, rfl⟩
abbrev main_call3_call1_v4 : Ref sig .tc := ⟨.hbm, 1478, rfl⟩
abbrev main_call3_call1_v5 : Ref sig .tc := ⟨.hbm, 1479, rfl⟩
abbrev main_call3_call1_v6 : Ref sig .tc := ⟨.hbm, 1480, rfl⟩
abbrev main_call3_call1_c_0 : Ref sig .tc := ⟨.hbm, 1481, rfl⟩
abbrev main_call3_call1_v7 : Ref sig .tc := ⟨.hbm, 1482, rfl⟩
abbrev main_call3_call1_v8 : Ref sig .tc := ⟨.hbm, 1483, rfl⟩
abbrev main_call3_call1_c_1 : Ref sig .tc := ⟨.hbm, 1484, rfl⟩
abbrev main_call3_call1_v9 : Ref sig .tc := ⟨.hbm, 1485, rfl⟩
abbrev main_call3_call1_v10 : Ref sig .tc := ⟨.hbm, 1486, rfl⟩
abbrev main_call3_call1_v11 : Ref sig .tc := ⟨.hbm, 1487, rfl⟩
abbrev main_call3_call1_v12 : Ref sig .tc := ⟨.hbm, 1488, rfl⟩
abbrev main_call3_call1_v13 : Ref sig .tc := ⟨.hbm, 1489, rfl⟩
abbrev main_call3_call1_c_2 : Ref sig .tc := ⟨.hbm, 1490, rfl⟩
abbrev main_call3_call1_v14 : Ref sig .tc := ⟨.hbm, 1491, rfl⟩
abbrev main_call3_call1_v15 : Ref sig .tc := ⟨.hbm, 1492, rfl⟩
abbrev main_call3_call1_c_3 : Ref sig .tc := ⟨.hbm, 1493, rfl⟩
abbrev main_call3_call1_v16 : Ref sig .tc := ⟨.hbm, 1494, rfl⟩
abbrev main_call3_call1_v17 : Ref sig .tc := ⟨.hbm, 1495, rfl⟩
abbrev main_call3_call1_v18 : Ref sig .tc := ⟨.hbm, 1496, rfl⟩
abbrev main_call3_call1_v19 : Ref sig .tc := ⟨.hbm, 1497, rfl⟩
abbrev main_call3_call1_v20 : Ref sig .tc := ⟨.hbm, 1498, rfl⟩
abbrev main_call3_call1_c_4 : Ref sig .tc := ⟨.hbm, 1499, rfl⟩
abbrev main_call3_call1_v21 : Ref sig .tc := ⟨.hbm, 1500, rfl⟩
abbrev main_call3_call1_v22 : Ref sig .tc := ⟨.hbm, 1501, rfl⟩
abbrev main_call3_call1_c_5 : Ref sig .tc := ⟨.hbm, 1502, rfl⟩
abbrev main_call3_call1_v23 : Ref sig .tc := ⟨.hbm, 1503, rfl⟩
abbrev main_call3_call1_v24 : Ref sig .tc := ⟨.hbm, 1504, rfl⟩
abbrev main_call3_call1_v25 : Ref sig .tc := ⟨.hbm, 1505, rfl⟩
abbrev main_call3_call1_v26 : Ref sig .tc := ⟨.hbm, 1506, rfl⟩
abbrev main_call3_call1_v27 : Ref sig .tc := ⟨.hbm, 1507, rfl⟩
abbrev main_call3_call1_c_6 : Ref sig .tc := ⟨.hbm, 1508, rfl⟩
abbrev main_call3_call1_v28 : Ref sig .tc := ⟨.hbm, 1509, rfl⟩
abbrev main_call3_call1_v29 : Ref sig .tc := ⟨.hbm, 1510, rfl⟩
abbrev main_call3_call1_c_7 : Ref sig .tc := ⟨.hbm, 1511, rfl⟩
abbrev main_call3_call1_v30 : Ref sig .tc := ⟨.hbm, 1512, rfl⟩
abbrev main_call3_call1_v31 : Ref sig .tc := ⟨.hbm, 1513, rfl⟩
abbrev main_call3_call1_v32 : Ref sig .tc := ⟨.hbm, 1514, rfl⟩
abbrev main_call3_call1_v33 : Ref sig .tc := ⟨.hbm, 1515, rfl⟩
abbrev main_call3_call1_v34 : Ref sig .tc := ⟨.hbm, 1516, rfl⟩
abbrev main_call3_call1_v35 : Ref sig .tc := ⟨.hbm, 1517, rfl⟩
abbrev main_call3_call1_v36 : Ref sig .tc := ⟨.hbm, 1518, rfl⟩
abbrev main_call3_call1_v37 : Ref sig .tc := ⟨.hbm, 1519, rfl⟩
abbrev main_call3_call1_c_8 : Ref sig .tc := ⟨.hbm, 1520, rfl⟩
abbrev main_call3_call1_v38 : Ref sig .tc := ⟨.hbm, 1521, rfl⟩
abbrev main_call3_call1_v39 : Ref sig .tc := ⟨.hbm, 1522, rfl⟩
abbrev main_call3_call1_v40 : Ref sig .tc := ⟨.hbm, 1523, rfl⟩
abbrev main_call3_call1_c_9 : Ref sig .tc := ⟨.hbm, 1524, rfl⟩
abbrev main_call3_call1_v41 : Ref sig .tc := ⟨.hbm, 1525, rfl⟩
abbrev main_call3_call1_v42 : Ref sig .tc := ⟨.hbm, 1526, rfl⟩
abbrev main_call3_call1_c_10 : Ref sig .tc := ⟨.hbm, 1527, rfl⟩
abbrev main_call3_call1_v43 : Ref sig .tc := ⟨.hbm, 1528, rfl⟩
abbrev main_call3_call1_v44 : Ref sig .tc := ⟨.hbm, 1529, rfl⟩
abbrev main_call3_call1_v45 : Ref sig .tc := ⟨.hbm, 1530, rfl⟩
abbrev main_call3_call1_v46 : Ref sig .tc := ⟨.hbm, 1531, rfl⟩
abbrev main_call3_call1_v47 : Ref sig .tc := ⟨.hbm, 1532, rfl⟩
abbrev main_call3_call1_c_11 : Ref sig .tc := ⟨.hbm, 1533, rfl⟩
abbrev main_call3_call1_v48 : Ref sig .tc := ⟨.hbm, 1534, rfl⟩
abbrev main_call3_call1_v49 : Ref sig .tc := ⟨.hbm, 1535, rfl⟩
abbrev main_call3_call1_c_12 : Ref sig .tc := ⟨.hbm, 1536, rfl⟩
abbrev main_call3_call1_v50 : Ref sig .tc := ⟨.hbm, 1537, rfl⟩
abbrev main_call3_call1_v51 : Ref sig .tc := ⟨.hbm, 1538, rfl⟩
abbrev main_call3_call1_v52 : Ref sig .tc := ⟨.hbm, 1539, rfl⟩
abbrev main_call3_call1_v53 : Ref sig .tc := ⟨.hbm, 1540, rfl⟩
abbrev main_call3_call1_v54 : Ref sig .tc := ⟨.hbm, 1541, rfl⟩
abbrev main_call3_call1_c_13 : Ref sig .tc := ⟨.hbm, 1542, rfl⟩
abbrev main_call3_call1_v55 : Ref sig .tc := ⟨.hbm, 1543, rfl⟩
abbrev main_call3_call1_v56 : Ref sig .tc := ⟨.hbm, 1544, rfl⟩
abbrev main_call3_call1_c_14 : Ref sig .tc := ⟨.hbm, 1545, rfl⟩
abbrev main_call3_call1_v57 : Ref sig .tc := ⟨.hbm, 1546, rfl⟩
abbrev main_call3_call1_v58 : Ref sig .tc := ⟨.hbm, 1547, rfl⟩
abbrev main_call3_call1_v59 : Ref sig .tc := ⟨.hbm, 1548, rfl⟩
abbrev main_call3_call1_v60 : Ref sig .tc := ⟨.hbm, 1549, rfl⟩
abbrev main_call3_call1_v61 : Ref sig .tc := ⟨.hbm, 1550, rfl⟩
abbrev main_call3_call1_c_15 : Ref sig .tc := ⟨.hbm, 1551, rfl⟩
abbrev main_call3_call1_v62 : Ref sig .tc := ⟨.hbm, 1552, rfl⟩
abbrev main_call3_call1_v63 : Ref sig .tc := ⟨.hbm, 1553, rfl⟩
abbrev main_call3_call1_c_16 : Ref sig .tc := ⟨.hbm, 1554, rfl⟩
abbrev main_call3_call1_v64 : Ref sig .tc := ⟨.hbm, 1555, rfl⟩
abbrev main_call3_call1_v65 : Ref sig .tc := ⟨.hbm, 1556, rfl⟩
abbrev main_call3_call1_v66 : Ref sig .tc := ⟨.hbm, 1557, rfl⟩
abbrev main_call3_call1_v67 : Ref sig .tc := ⟨.hbm, 1558, rfl⟩
abbrev main_call3_call1_v68 : Ref sig .tc := ⟨.hbm, 1559, rfl⟩
abbrev main_call3_call1_v69 : Ref sig .tc := ⟨.hbm, 1560, rfl⟩
abbrev main_call3_call1_v70 : Ref sig .tc := ⟨.hbm, 1561, rfl⟩
abbrev main_call3_call1_v71 : Ref sig .tc := ⟨.hbm, 1562, rfl⟩
abbrev main_call3_call1_c_17 : Ref sig .tc := ⟨.hbm, 1563, rfl⟩
abbrev main_call3_call1_v72 : Ref sig .tc := ⟨.hbm, 1564, rfl⟩
abbrev main_call3_call1_v73 : Ref sig .tc := ⟨.hbm, 1565, rfl⟩
abbrev main_call3_call1_v74 : Ref sig .tc := ⟨.hbm, 1566, rfl⟩
abbrev main_call3_call1_c_18 : Ref sig .tc := ⟨.hbm, 1567, rfl⟩
abbrev main_call3_call1_v75 : Ref sig .tc := ⟨.hbm, 1568, rfl⟩
abbrev main_call3_call1_v76 : Ref sig .tc := ⟨.hbm, 1569, rfl⟩
abbrev main_call3_call1_c_19 : Ref sig .tc := ⟨.hbm, 1570, rfl⟩
abbrev main_call3_call1_v77 : Ref sig .tc := ⟨.hbm, 1571, rfl⟩
abbrev main_call3_call1_v78 : Ref sig .tc := ⟨.hbm, 1572, rfl⟩
abbrev main_call3_call1_v79 : Ref sig .tc := ⟨.hbm, 1573, rfl⟩
abbrev main_call3_call1_v80 : Ref sig .tc := ⟨.hbm, 1574, rfl⟩
abbrev main_call3_call1_v81 : Ref sig .tc := ⟨.hbm, 1575, rfl⟩
abbrev main_call3_call1_c_20 : Ref sig .tc := ⟨.hbm, 1576, rfl⟩
abbrev main_call3_call1_v82 : Ref sig .tc := ⟨.hbm, 1577, rfl⟩
abbrev main_call3_call1_v83 : Ref sig .tc := ⟨.hbm, 1578, rfl⟩
abbrev main_call3_call1_c_21 : Ref sig .tc := ⟨.hbm, 1579, rfl⟩
abbrev main_call3_call1_v84 : Ref sig .tc := ⟨.hbm, 1580, rfl⟩
abbrev main_call3_call1_v85 : Ref sig .tc := ⟨.hbm, 1581, rfl⟩
abbrev main_call3_call1_v86 : Ref sig .tc := ⟨.hbm, 1582, rfl⟩
abbrev main_call3_call1_v87 : Ref sig .tc := ⟨.hbm, 1583, rfl⟩
abbrev main_call3_call1_v88 : Ref sig .tc := ⟨.hbm, 1584, rfl⟩
abbrev main_call3_call1_c_22 : Ref sig .tc := ⟨.hbm, 1585, rfl⟩
abbrev main_call3_call1_v89 : Ref sig .tc := ⟨.hbm, 1586, rfl⟩
abbrev main_call3_call1_v90 : Ref sig .tc := ⟨.hbm, 1587, rfl⟩
abbrev main_call3_call1_c_23 : Ref sig .tc := ⟨.hbm, 1588, rfl⟩
abbrev main_call3_call1_v91 : Ref sig .tc := ⟨.hbm, 1589, rfl⟩
abbrev main_call3_call1_v92 : Ref sig .tc := ⟨.hbm, 1590, rfl⟩
abbrev main_call3_call1_v93 : Ref sig .tc := ⟨.hbm, 1591, rfl⟩
abbrev main_call3_call1_v94 : Ref sig .tc := ⟨.hbm, 1592, rfl⟩
abbrev main_call3_call1_v95 : Ref sig .tc := ⟨.hbm, 1593, rfl⟩
abbrev main_call3_call1_c_24 : Ref sig .tc := ⟨.hbm, 1594, rfl⟩
abbrev main_call3_call1_v96 : Ref sig .tc := ⟨.hbm, 1595, rfl⟩
abbrev main_call3_call1_v97 : Ref sig .tc := ⟨.hbm, 1596, rfl⟩
abbrev main_call3_call1_c_25 : Ref sig .tc := ⟨.hbm, 1597, rfl⟩
abbrev main_call3_call1_v98 : Ref sig .tc := ⟨.hbm, 1598, rfl⟩
abbrev main_call3_call1_v99 : Ref sig .tc := ⟨.hbm, 1599, rfl⟩
abbrev main_call3_call1_v100 : Ref sig .tc := ⟨.hbm, 1600, rfl⟩
abbrev main_call3_call1_v101 : Ref sig .tc := ⟨.hbm, 1601, rfl⟩
abbrev main_call3_call1_v102 : Ref sig .tc := ⟨.hbm, 1602, rfl⟩
abbrev main_call3_call1_v103 : Ref sig .tc := ⟨.hbm, 1603, rfl⟩
abbrev main_call3_call1_v104 : Ref sig .tc := ⟨.hbm, 1604, rfl⟩
abbrev main_call3_call1_v105 : Ref sig .tc := ⟨.hbm, 1605, rfl⟩
abbrev main_call3_call1_c_26 : Ref sig .tc := ⟨.hbm, 1606, rfl⟩
abbrev main_call3_call1_v106 : Ref sig .tc := ⟨.hbm, 1607, rfl⟩
abbrev main_call3_call1_v107 : Ref sig .tc := ⟨.hbm, 1608, rfl⟩
abbrev main_call3_call1_v108 : Ref sig .tc := ⟨.hbm, 1609, rfl⟩
abbrev main_call3_call1_c_27 : Ref sig .tc := ⟨.hbm, 1610, rfl⟩
abbrev main_call3_call1_v109 : Ref sig .tc := ⟨.hbm, 1611, rfl⟩
abbrev main_call3_call1_v110 : Ref sig .tc := ⟨.hbm, 1612, rfl⟩
abbrev main_call3_call1_c_28 : Ref sig .tc := ⟨.hbm, 1613, rfl⟩
abbrev main_call3_call1_v111 : Ref sig .tc := ⟨.hbm, 1614, rfl⟩
abbrev main_call3_call1_v112 : Ref sig .tc := ⟨.hbm, 1615, rfl⟩
abbrev main_call3_call1_v113 : Ref sig .tc := ⟨.hbm, 1616, rfl⟩
abbrev main_call3_call1_v114 : Ref sig .tc := ⟨.hbm, 1617, rfl⟩
abbrev main_call3_call1_v115 : Ref sig .tc := ⟨.hbm, 1618, rfl⟩
abbrev main_call3_call1_c_29 : Ref sig .tc := ⟨.hbm, 1619, rfl⟩
abbrev main_call3_call1_v116 : Ref sig .tc := ⟨.hbm, 1620, rfl⟩
abbrev main_call3_call1_v117 : Ref sig .tc := ⟨.hbm, 1621, rfl⟩
abbrev main_call3_call1_c_30 : Ref sig .tc := ⟨.hbm, 1622, rfl⟩
abbrev main_call3_call1_v118 : Ref sig .tc := ⟨.hbm, 1623, rfl⟩
abbrev main_call3_call1_v119 : Ref sig .tc := ⟨.hbm, 1624, rfl⟩
abbrev main_call3_call1_v120 : Ref sig .tc := ⟨.hbm, 1625, rfl⟩
abbrev main_call3_call1_v121 : Ref sig .tc := ⟨.hbm, 1626, rfl⟩
abbrev main_call3_call1_v122 : Ref sig .tc := ⟨.hbm, 1627, rfl⟩
abbrev main_call3_call1_c_31 : Ref sig .tc := ⟨.hbm, 1628, rfl⟩
abbrev main_call3_call1_v123 : Ref sig .tc := ⟨.hbm, 1629, rfl⟩
abbrev main_call3_call1_v124 : Ref sig .tc := ⟨.hbm, 1630, rfl⟩
abbrev main_call3_call1_c_32 : Ref sig .tc := ⟨.hbm, 1631, rfl⟩
abbrev main_call3_call1_v125 : Ref sig .tc := ⟨.hbm, 1632, rfl⟩
abbrev main_call3_call1_v126 : Ref sig .tc := ⟨.hbm, 1633, rfl⟩
abbrev main_call3_call1_v127 : Ref sig .tc := ⟨.hbm, 1634, rfl⟩
abbrev main_call3_call1_v128 : Ref sig .tc := ⟨.hbm, 1635, rfl⟩
abbrev main_call3_call1_v129 : Ref sig .tc := ⟨.hbm, 1636, rfl⟩
abbrev main_call3_call1_c_33 : Ref sig .tc := ⟨.hbm, 1637, rfl⟩
abbrev main_call3_call1_v130 : Ref sig .tc := ⟨.hbm, 1638, rfl⟩
abbrev main_call3_call1_v131 : Ref sig .tc := ⟨.hbm, 1639, rfl⟩
abbrev main_call3_call1_c_34 : Ref sig .tc := ⟨.hbm, 1640, rfl⟩
abbrev main_call3_call1_v132 : Ref sig .tc := ⟨.hbm, 1641, rfl⟩
abbrev main_call3_call1_v133 : Ref sig .tc := ⟨.hbm, 1642, rfl⟩
abbrev main_call3_call1_v134 : Ref sig .tc := ⟨.hbm, 1643, rfl⟩
abbrev main_call3_call1_v135 : Ref sig .tc := ⟨.hbm, 1644, rfl⟩
abbrev main_call3_call1_v136 : Ref sig .tc := ⟨.hbm, 1645, rfl⟩
abbrev main_call3_call1_v137 : Ref sig .tc := ⟨.hbm, 1646, rfl⟩
abbrev main_call3_call1_v138 : Ref sig .tc := ⟨.hbm, 1647, rfl⟩
abbrev main_call3_call1_v139 : Ref sig .tc := ⟨.hbm, 1648, rfl⟩
abbrev main_call3_call1_c_35 : Ref sig .tc := ⟨.hbm, 1649, rfl⟩
abbrev main_call3_call1_v140 : Ref sig .tc := ⟨.hbm, 1650, rfl⟩
abbrev main_call3_call1_v141 : Ref sig .tc := ⟨.hbm, 1651, rfl⟩
abbrev main_call3_call1_v142 : Ref sig .tc := ⟨.hbm, 1652, rfl⟩
abbrev main_call3_call1_c_36 : Ref sig .tc := ⟨.hbm, 1653, rfl⟩
abbrev main_call3_call1_v143 : Ref sig .tc := ⟨.hbm, 1654, rfl⟩
abbrev main_call3_call1_v144 : Ref sig .tc := ⟨.hbm, 1655, rfl⟩
abbrev main_call3_call1_c_37 : Ref sig .tc := ⟨.hbm, 1656, rfl⟩
abbrev main_call3_call1_v145 : Ref sig .tc := ⟨.hbm, 1657, rfl⟩
abbrev main_call3_call1_v146 : Ref sig .tc := ⟨.hbm, 1658, rfl⟩
abbrev main_call3_call1_v147 : Ref sig .tc := ⟨.hbm, 1659, rfl⟩
abbrev main_call3_call1_v148 : Ref sig .tc := ⟨.hbm, 1660, rfl⟩
abbrev main_call3_call1_v149 : Ref sig .tc := ⟨.hbm, 1661, rfl⟩
abbrev main_call3_call1_c_38 : Ref sig .tc := ⟨.hbm, 1662, rfl⟩
abbrev main_call3_call1_v150 : Ref sig .tc := ⟨.hbm, 1663, rfl⟩
abbrev main_call3_call1_v151 : Ref sig .tc := ⟨.hbm, 1664, rfl⟩
abbrev main_call3_call1_c_39 : Ref sig .tc := ⟨.hbm, 1665, rfl⟩
abbrev main_call3_call1_v152 : Ref sig .tc := ⟨.hbm, 1666, rfl⟩
abbrev main_call3_call1_v153 : Ref sig .tc := ⟨.hbm, 1667, rfl⟩
abbrev main_call3_call1_v154 : Ref sig .tc := ⟨.hbm, 1668, rfl⟩
abbrev main_call3_call1_v155 : Ref sig .tc := ⟨.hbm, 1669, rfl⟩
abbrev main_call3_call1_v156 : Ref sig .tc := ⟨.hbm, 1670, rfl⟩
abbrev main_call3_call1_c_40 : Ref sig .tc := ⟨.hbm, 1671, rfl⟩
abbrev main_call3_call1_v157 : Ref sig .tc := ⟨.hbm, 1672, rfl⟩
abbrev main_call3_call1_v158 : Ref sig .tc := ⟨.hbm, 1673, rfl⟩
abbrev main_call3_call1_c_41 : Ref sig .tc := ⟨.hbm, 1674, rfl⟩
abbrev main_call3_call1_v159 : Ref sig .tc := ⟨.hbm, 1675, rfl⟩
abbrev main_call3_call1_v160 : Ref sig .tc := ⟨.hbm, 1676, rfl⟩
abbrev main_call3_call1_v161 : Ref sig .tc := ⟨.hbm, 1677, rfl⟩
abbrev main_call3_call1_v162 : Ref sig .tc := ⟨.hbm, 1678, rfl⟩
abbrev main_call3_call1_v163 : Ref sig .tc := ⟨.hbm, 1679, rfl⟩
abbrev main_call3_call1_c_42 : Ref sig .tc := ⟨.hbm, 1680, rfl⟩
abbrev main_call3_call1_v164 : Ref sig .tc := ⟨.hbm, 1681, rfl⟩
abbrev main_call3_call1_v165 : Ref sig .tc := ⟨.hbm, 1682, rfl⟩
abbrev main_call3_call1_c_43 : Ref sig .tc := ⟨.hbm, 1683, rfl⟩
abbrev main_call3_call1_v166 : Ref sig .tc := ⟨.hbm, 1684, rfl⟩
abbrev main_call3_call1_v167 : Ref sig .tc := ⟨.hbm, 1685, rfl⟩
abbrev main_call3_call1_v168 : Ref sig .tc := ⟨.hbm, 1686, rfl⟩
abbrev main_call3_call1_v169 : Ref sig .tc := ⟨.hbm, 1687, rfl⟩
abbrev main_call3_call1_v170 : Ref sig .tc := ⟨.hbm, 1688, rfl⟩
abbrev main_call3_v16_0 : Ref sig .tc := ⟨.hbm, 1689, rfl⟩
abbrev main_call3_call1_v172 : Ref sig .tc := ⟨.hbm, 1690, rfl⟩
abbrev main_call3_call1_v173 : Ref sig .tc := ⟨.hbm, 1691, rfl⟩
abbrev main_call3_call1_c_44 : Ref sig .tc := ⟨.hbm, 1692, rfl⟩
abbrev main_call3_call1_v174 : Ref sig .tc := ⟨.hbm, 1693, rfl⟩
abbrev main_call3_v16_1 : Ref sig .tc := ⟨.hbm, 1694, rfl⟩
abbrev main_call3_v17 : Ref sig .tc := ⟨.hbm, 1695, rfl⟩
abbrev main_call3_v18_0 : Ref sig .tc := ⟨.hbm, 1696, rfl⟩
abbrev main_v19 : Ref sig .tc := ⟨.hbm, 1697, rfl⟩
abbrev main_v20 : Ref sig .tc := ⟨.hbm, 1698, rfl⟩
abbrev main_v21 : Ref sig .tc := ⟨.hbm, 1699, rfl⟩
abbrev main_v22 : Ref sig .tc := ⟨.hbm, 1700, rfl⟩
abbrev main_call4_call0_v0 : Ref sig .tc := ⟨.hbm, 1701, rfl⟩
abbrev main_call4_call0_v1 : Ref sig .tc := ⟨.hbm, 1702, rfl⟩
abbrev main_call4_call0_v2 : Ref sig .tc := ⟨.hbm, 1703, rfl⟩
abbrev main_call4_call0_v3 : Ref sig .tc := ⟨.hbm, 1704, rfl⟩
abbrev main_call4_call0_v4 : Ref sig .tc := ⟨.hbm, 1705, rfl⟩
abbrev main_call4_call0_c : Ref sig .tc := ⟨.hbm, 1706, rfl⟩
abbrev main_call4_call0_v5 : Ref sig .tc := ⟨.hbm, 1707, rfl⟩
abbrev main_call4_call0_v6 : Ref sig .tc := ⟨.hbm, 1708, rfl⟩
abbrev main_call4_call0_c_0 : Ref sig .tc := ⟨.hbm, 1709, rfl⟩
abbrev main_call4_call0_v7 : Ref sig .tc := ⟨.hbm, 1710, rfl⟩
abbrev main_call4_call0_v8 : Ref sig .tc := ⟨.hbm, 1711, rfl⟩
abbrev main_call4_call0_v9 : Ref sig .tc := ⟨.hbm, 1712, rfl⟩
abbrev main_call4_call0_v10 : Ref sig .tc := ⟨.hbm, 1713, rfl⟩
abbrev main_call4_call0_call0_v0 : Ref sig .tc := ⟨.hbm, 1714, rfl⟩
abbrev main_call4_call0_call0_c : Ref sig .tc := ⟨.hbm, 1715, rfl⟩
abbrev main_call4_call0_call0_v1 : Ref sig .tc := ⟨.hbm, 1716, rfl⟩
abbrev main_call4_call0_call0_v2 : Ref sig .tc := ⟨.hbm, 1717, rfl⟩
abbrev main_call4_call0_call0_v3 : Ref sig .tc := ⟨.hbm, 1718, rfl⟩
abbrev main_call4_call0_call0_v4 : Ref sig .tc := ⟨.hbm, 1719, rfl⟩
abbrev main_call4_call0_call0_v5 : Ref sig .tc := ⟨.hbm, 1720, rfl⟩
abbrev main_call4_call0_call0_v6 : Ref sig .tc := ⟨.hbm, 1721, rfl⟩
abbrev main_call4_call0_call0_c_0 : Ref sig .tc := ⟨.hbm, 1722, rfl⟩
abbrev main_call4_call0_call0_v7 : Ref sig .tc := ⟨.hbm, 1723, rfl⟩
abbrev main_call4_call0_call0_v8 : Ref sig .tc := ⟨.hbm, 1724, rfl⟩
abbrev main_call4_call0_call0_c_1 : Ref sig .tc := ⟨.hbm, 1725, rfl⟩
abbrev main_call4_call0_call0_v9 : Ref sig .tc := ⟨.hbm, 1726, rfl⟩
abbrev main_call4_call0_call0_v10 : Ref sig .tc := ⟨.hbm, 1727, rfl⟩
abbrev main_call4_call0_call0_v11 : Ref sig .tc := ⟨.hbm, 1728, rfl⟩
abbrev main_call4_call0_call0_v12 : Ref sig .tc := ⟨.hbm, 1729, rfl⟩
abbrev main_call4_call0_call0_v13 : Ref sig .tc := ⟨.hbm, 1730, rfl⟩
abbrev main_call4_call0_call0_c_2 : Ref sig .tc := ⟨.hbm, 1731, rfl⟩
abbrev main_call4_call0_call0_v14 : Ref sig .tc := ⟨.hbm, 1732, rfl⟩
abbrev main_call4_call0_call0_v15 : Ref sig .tc := ⟨.hbm, 1733, rfl⟩
abbrev main_call4_call0_call0_c_3 : Ref sig .tc := ⟨.hbm, 1734, rfl⟩
abbrev main_call4_call0_call0_v16 : Ref sig .tc := ⟨.hbm, 1735, rfl⟩
abbrev main_call4_call0_call0_v17 : Ref sig .tc := ⟨.hbm, 1736, rfl⟩
abbrev main_call4_call0_call0_v18 : Ref sig .tc := ⟨.hbm, 1737, rfl⟩
abbrev main_call4_call0_call0_v19 : Ref sig .tc := ⟨.hbm, 1738, rfl⟩
abbrev main_call4_call0_call0_v20 : Ref sig .tc := ⟨.hbm, 1739, rfl⟩
abbrev main_call4_call0_call0_c_4 : Ref sig .tc := ⟨.hbm, 1740, rfl⟩
abbrev main_call4_call0_call0_v21 : Ref sig .tc := ⟨.hbm, 1741, rfl⟩
abbrev main_call4_call0_call0_v22 : Ref sig .tc := ⟨.hbm, 1742, rfl⟩
abbrev main_call4_call0_call0_c_5 : Ref sig .tc := ⟨.hbm, 1743, rfl⟩
abbrev main_call4_call0_call0_v23 : Ref sig .tc := ⟨.hbm, 1744, rfl⟩
abbrev main_call4_call0_call0_v24 : Ref sig .tc := ⟨.hbm, 1745, rfl⟩
abbrev main_call4_call0_call0_v25 : Ref sig .tc := ⟨.hbm, 1746, rfl⟩
abbrev main_call4_call0_call0_v26 : Ref sig .tc := ⟨.hbm, 1747, rfl⟩
abbrev main_call4_call0_call0_v27 : Ref sig .tc := ⟨.hbm, 1748, rfl⟩
abbrev main_call4_call0_call0_c_6 : Ref sig .tc := ⟨.hbm, 1749, rfl⟩
abbrev main_call4_call0_call0_v28 : Ref sig .tc := ⟨.hbm, 1750, rfl⟩
abbrev main_call4_call0_call0_v29 : Ref sig .tc := ⟨.hbm, 1751, rfl⟩
abbrev main_call4_call0_call0_c_7 : Ref sig .tc := ⟨.hbm, 1752, rfl⟩
abbrev main_call4_call0_call0_v30 : Ref sig .tc := ⟨.hbm, 1753, rfl⟩
abbrev main_call4_call0_call0_v31 : Ref sig .tc := ⟨.hbm, 1754, rfl⟩
abbrev main_call4_call0_call0_v32 : Ref sig .tc := ⟨.hbm, 1755, rfl⟩
abbrev main_call4_call0_call0_v33 : Ref sig .tc := ⟨.hbm, 1756, rfl⟩
abbrev main_call4_call0_call0_v34 : Ref sig .tc := ⟨.hbm, 1757, rfl⟩
abbrev main_call4_call0_call0_v35 : Ref sig .tc := ⟨.hbm, 1758, rfl⟩
abbrev main_call4_call0_call0_v36 : Ref sig .tc := ⟨.hbm, 1759, rfl⟩
abbrev main_call4_call0_call0_v37 : Ref sig .tc := ⟨.hbm, 1760, rfl⟩
abbrev main_call4_call0_call0_c_8 : Ref sig .tc := ⟨.hbm, 1761, rfl⟩
abbrev main_call4_call0_call0_v38 : Ref sig .tc := ⟨.hbm, 1762, rfl⟩
abbrev main_call4_call0_call0_v39 : Ref sig .tc := ⟨.hbm, 1763, rfl⟩
abbrev main_call4_call0_call0_v40 : Ref sig .tc := ⟨.hbm, 1764, rfl⟩
abbrev main_call4_call0_call0_c_9 : Ref sig .tc := ⟨.hbm, 1765, rfl⟩
abbrev main_call4_call0_call0_v41 : Ref sig .tc := ⟨.hbm, 1766, rfl⟩
abbrev main_call4_call0_call0_v42 : Ref sig .tc := ⟨.hbm, 1767, rfl⟩
abbrev main_call4_call0_call0_c_10 : Ref sig .tc := ⟨.hbm, 1768, rfl⟩
abbrev main_call4_call0_call0_v43 : Ref sig .tc := ⟨.hbm, 1769, rfl⟩
abbrev main_call4_call0_call0_v44 : Ref sig .tc := ⟨.hbm, 1770, rfl⟩
abbrev main_call4_call0_call0_v45 : Ref sig .tc := ⟨.hbm, 1771, rfl⟩
abbrev main_call4_call0_call0_v46 : Ref sig .tc := ⟨.hbm, 1772, rfl⟩
abbrev main_call4_call0_call0_v47 : Ref sig .tc := ⟨.hbm, 1773, rfl⟩
abbrev main_call4_call0_call0_c_11 : Ref sig .tc := ⟨.hbm, 1774, rfl⟩
abbrev main_call4_call0_call0_v48 : Ref sig .tc := ⟨.hbm, 1775, rfl⟩
abbrev main_call4_call0_call0_v49 : Ref sig .tc := ⟨.hbm, 1776, rfl⟩
abbrev main_call4_call0_call0_c_12 : Ref sig .tc := ⟨.hbm, 1777, rfl⟩
abbrev main_call4_call0_call0_v50 : Ref sig .tc := ⟨.hbm, 1778, rfl⟩
abbrev main_call4_call0_call0_v51 : Ref sig .tc := ⟨.hbm, 1779, rfl⟩
abbrev main_call4_call0_call0_v52 : Ref sig .tc := ⟨.hbm, 1780, rfl⟩
abbrev main_call4_call0_call0_v53 : Ref sig .tc := ⟨.hbm, 1781, rfl⟩
abbrev main_call4_call0_call0_v54 : Ref sig .tc := ⟨.hbm, 1782, rfl⟩
abbrev main_call4_call0_call0_c_13 : Ref sig .tc := ⟨.hbm, 1783, rfl⟩
abbrev main_call4_call0_call0_v55 : Ref sig .tc := ⟨.hbm, 1784, rfl⟩
abbrev main_call4_call0_call0_v56 : Ref sig .tc := ⟨.hbm, 1785, rfl⟩
abbrev main_call4_call0_call0_c_14 : Ref sig .tc := ⟨.hbm, 1786, rfl⟩
abbrev main_call4_call0_call0_v57 : Ref sig .tc := ⟨.hbm, 1787, rfl⟩
abbrev main_call4_call0_call0_v58 : Ref sig .tc := ⟨.hbm, 1788, rfl⟩
abbrev main_call4_call0_call0_v59 : Ref sig .tc := ⟨.hbm, 1789, rfl⟩
abbrev main_call4_call0_call0_v60 : Ref sig .tc := ⟨.hbm, 1790, rfl⟩
abbrev main_call4_call0_call0_v61 : Ref sig .tc := ⟨.hbm, 1791, rfl⟩
abbrev main_call4_call0_call0_c_15 : Ref sig .tc := ⟨.hbm, 1792, rfl⟩
abbrev main_call4_call0_call0_v62 : Ref sig .tc := ⟨.hbm, 1793, rfl⟩
abbrev main_call4_call0_call0_v63 : Ref sig .tc := ⟨.hbm, 1794, rfl⟩
abbrev main_call4_call0_call0_c_16 : Ref sig .tc := ⟨.hbm, 1795, rfl⟩
abbrev main_call4_call0_call0_v64 : Ref sig .tc := ⟨.hbm, 1796, rfl⟩
abbrev main_call4_call0_call0_v65 : Ref sig .tc := ⟨.hbm, 1797, rfl⟩
abbrev main_call4_call0_call0_v66 : Ref sig .tc := ⟨.hbm, 1798, rfl⟩
abbrev main_call4_call0_call0_v67 : Ref sig .tc := ⟨.hbm, 1799, rfl⟩
abbrev main_call4_call0_call0_v68 : Ref sig .tc := ⟨.hbm, 1800, rfl⟩
abbrev main_call4_call0_call0_v69 : Ref sig .tc := ⟨.hbm, 1801, rfl⟩
abbrev main_call4_call0_call0_v70 : Ref sig .tc := ⟨.hbm, 1802, rfl⟩
abbrev main_call4_call0_call0_v71 : Ref sig .tc := ⟨.hbm, 1803, rfl⟩
abbrev main_call4_call0_call0_c_17 : Ref sig .tc := ⟨.hbm, 1804, rfl⟩
abbrev main_call4_call0_call0_v72 : Ref sig .tc := ⟨.hbm, 1805, rfl⟩
abbrev main_call4_call0_call0_v73 : Ref sig .tc := ⟨.hbm, 1806, rfl⟩
abbrev main_call4_call0_call0_v74 : Ref sig .tc := ⟨.hbm, 1807, rfl⟩
abbrev main_call4_call0_call0_c_18 : Ref sig .tc := ⟨.hbm, 1808, rfl⟩
abbrev main_call4_call0_call0_v75 : Ref sig .tc := ⟨.hbm, 1809, rfl⟩
abbrev main_call4_call0_call0_v76 : Ref sig .tc := ⟨.hbm, 1810, rfl⟩
abbrev main_call4_call0_call0_c_19 : Ref sig .tc := ⟨.hbm, 1811, rfl⟩
abbrev main_call4_call0_call0_v77 : Ref sig .tc := ⟨.hbm, 1812, rfl⟩
abbrev main_call4_call0_call0_v78 : Ref sig .tc := ⟨.hbm, 1813, rfl⟩
abbrev main_call4_call0_call0_v79 : Ref sig .tc := ⟨.hbm, 1814, rfl⟩
abbrev main_call4_call0_call0_v80 : Ref sig .tc := ⟨.hbm, 1815, rfl⟩
abbrev main_call4_call0_call0_v81 : Ref sig .tc := ⟨.hbm, 1816, rfl⟩
abbrev main_call4_call0_call0_c_20 : Ref sig .tc := ⟨.hbm, 1817, rfl⟩
abbrev main_call4_call0_call0_v82 : Ref sig .tc := ⟨.hbm, 1818, rfl⟩
abbrev main_call4_call0_call0_v83 : Ref sig .tc := ⟨.hbm, 1819, rfl⟩
abbrev main_call4_call0_call0_c_21 : Ref sig .tc := ⟨.hbm, 1820, rfl⟩
abbrev main_call4_call0_call0_v84 : Ref sig .tc := ⟨.hbm, 1821, rfl⟩
abbrev main_call4_call0_call0_v85 : Ref sig .tc := ⟨.hbm, 1822, rfl⟩
abbrev main_call4_call0_call0_v86 : Ref sig .tc := ⟨.hbm, 1823, rfl⟩
abbrev main_call4_call0_call0_v87 : Ref sig .tc := ⟨.hbm, 1824, rfl⟩
abbrev main_call4_call0_call0_v88 : Ref sig .tc := ⟨.hbm, 1825, rfl⟩
abbrev main_call4_call0_call0_c_22 : Ref sig .tc := ⟨.hbm, 1826, rfl⟩
abbrev main_call4_call0_call0_v89 : Ref sig .tc := ⟨.hbm, 1827, rfl⟩
abbrev main_call4_call0_call0_v90 : Ref sig .tc := ⟨.hbm, 1828, rfl⟩
abbrev main_call4_call0_call0_c_23 : Ref sig .tc := ⟨.hbm, 1829, rfl⟩
abbrev main_call4_call0_call0_v91 : Ref sig .tc := ⟨.hbm, 1830, rfl⟩
abbrev main_call4_call0_call0_v92 : Ref sig .tc := ⟨.hbm, 1831, rfl⟩
abbrev main_call4_call0_call0_v93 : Ref sig .tc := ⟨.hbm, 1832, rfl⟩
abbrev main_call4_call0_call0_v94 : Ref sig .tc := ⟨.hbm, 1833, rfl⟩
abbrev main_call4_call0_call0_v95 : Ref sig .tc := ⟨.hbm, 1834, rfl⟩
abbrev main_call4_call0_call0_c_24 : Ref sig .tc := ⟨.hbm, 1835, rfl⟩
abbrev main_call4_call0_call0_v96 : Ref sig .tc := ⟨.hbm, 1836, rfl⟩
abbrev main_call4_call0_call0_v97 : Ref sig .tc := ⟨.hbm, 1837, rfl⟩
abbrev main_call4_call0_call0_c_25 : Ref sig .tc := ⟨.hbm, 1838, rfl⟩
abbrev main_call4_call0_call0_v98 : Ref sig .tc := ⟨.hbm, 1839, rfl⟩
abbrev main_call4_call0_call0_v99 : Ref sig .tc := ⟨.hbm, 1840, rfl⟩
abbrev main_call4_call0_call0_v100 : Ref sig .tc := ⟨.hbm, 1841, rfl⟩
abbrev main_call4_call0_call0_v101 : Ref sig .tc := ⟨.hbm, 1842, rfl⟩
abbrev main_call4_call0_call0_v102 : Ref sig .tc := ⟨.hbm, 1843, rfl⟩
abbrev main_call4_call0_call0_v103 : Ref sig .tc := ⟨.hbm, 1844, rfl⟩
abbrev main_call4_call0_call0_v104 : Ref sig .tc := ⟨.hbm, 1845, rfl⟩
abbrev main_call4_call0_call0_v105 : Ref sig .tc := ⟨.hbm, 1846, rfl⟩
abbrev main_call4_call0_call0_c_26 : Ref sig .tc := ⟨.hbm, 1847, rfl⟩
abbrev main_call4_call0_call0_v106 : Ref sig .tc := ⟨.hbm, 1848, rfl⟩
abbrev main_call4_call0_call0_v107 : Ref sig .tc := ⟨.hbm, 1849, rfl⟩
abbrev main_call4_call0_call0_v108 : Ref sig .tc := ⟨.hbm, 1850, rfl⟩
abbrev main_call4_call0_call0_c_27 : Ref sig .tc := ⟨.hbm, 1851, rfl⟩
abbrev main_call4_call0_call0_v109 : Ref sig .tc := ⟨.hbm, 1852, rfl⟩
abbrev main_call4_call0_call0_v110 : Ref sig .tc := ⟨.hbm, 1853, rfl⟩
abbrev main_call4_call0_call0_c_28 : Ref sig .tc := ⟨.hbm, 1854, rfl⟩
abbrev main_call4_call0_call0_v111 : Ref sig .tc := ⟨.hbm, 1855, rfl⟩
abbrev main_call4_call0_call0_v112 : Ref sig .tc := ⟨.hbm, 1856, rfl⟩
abbrev main_call4_call0_call0_v113 : Ref sig .tc := ⟨.hbm, 1857, rfl⟩
abbrev main_call4_call0_call0_v114 : Ref sig .tc := ⟨.hbm, 1858, rfl⟩
abbrev main_call4_call0_call0_v115 : Ref sig .tc := ⟨.hbm, 1859, rfl⟩
abbrev main_call4_call0_call0_c_29 : Ref sig .tc := ⟨.hbm, 1860, rfl⟩
abbrev main_call4_call0_call0_v116 : Ref sig .tc := ⟨.hbm, 1861, rfl⟩
abbrev main_call4_call0_call0_v117 : Ref sig .tc := ⟨.hbm, 1862, rfl⟩
abbrev main_call4_call0_call0_c_30 : Ref sig .tc := ⟨.hbm, 1863, rfl⟩
abbrev main_call4_call0_call0_v118 : Ref sig .tc := ⟨.hbm, 1864, rfl⟩
abbrev main_call4_call0_call0_v119 : Ref sig .tc := ⟨.hbm, 1865, rfl⟩
abbrev main_call4_call0_call0_v120 : Ref sig .tc := ⟨.hbm, 1866, rfl⟩
abbrev main_call4_call0_call0_v121 : Ref sig .tc := ⟨.hbm, 1867, rfl⟩
abbrev main_call4_call0_call0_v122 : Ref sig .tc := ⟨.hbm, 1868, rfl⟩
abbrev main_call4_call0_call0_c_31 : Ref sig .tc := ⟨.hbm, 1869, rfl⟩
abbrev main_call4_call0_call0_v123 : Ref sig .tc := ⟨.hbm, 1870, rfl⟩
abbrev main_call4_call0_call0_v124 : Ref sig .tc := ⟨.hbm, 1871, rfl⟩
abbrev main_call4_call0_call0_c_32 : Ref sig .tc := ⟨.hbm, 1872, rfl⟩
abbrev main_call4_call0_call0_v125 : Ref sig .tc := ⟨.hbm, 1873, rfl⟩
abbrev main_call4_call0_call0_v126 : Ref sig .tc := ⟨.hbm, 1874, rfl⟩
abbrev main_call4_call0_call0_v127 : Ref sig .tc := ⟨.hbm, 1875, rfl⟩
abbrev main_call4_call0_call0_v128 : Ref sig .tc := ⟨.hbm, 1876, rfl⟩
abbrev main_call4_call0_call0_v129 : Ref sig .tc := ⟨.hbm, 1877, rfl⟩
abbrev main_call4_call0_call0_c_33 : Ref sig .tc := ⟨.hbm, 1878, rfl⟩
abbrev main_call4_call0_call0_v130 : Ref sig .tc := ⟨.hbm, 1879, rfl⟩
abbrev main_call4_call0_call0_v131 : Ref sig .tc := ⟨.hbm, 1880, rfl⟩
abbrev main_call4_call0_call0_c_34 : Ref sig .tc := ⟨.hbm, 1881, rfl⟩
abbrev main_call4_call0_call0_v132 : Ref sig .tc := ⟨.hbm, 1882, rfl⟩
abbrev main_call4_call0_call0_v133 : Ref sig .tc := ⟨.hbm, 1883, rfl⟩
abbrev main_call4_call0_call0_v134 : Ref sig .tc := ⟨.hbm, 1884, rfl⟩
abbrev main_call4_call0_call0_v135 : Ref sig .tc := ⟨.hbm, 1885, rfl⟩
abbrev main_call4_call0_call0_v136 : Ref sig .tc := ⟨.hbm, 1886, rfl⟩
abbrev main_call4_call0_call0_v137 : Ref sig .tc := ⟨.hbm, 1887, rfl⟩
abbrev main_call4_call0_call0_v138 : Ref sig .tc := ⟨.hbm, 1888, rfl⟩
abbrev main_call4_call0_call0_v139 : Ref sig .tc := ⟨.hbm, 1889, rfl⟩
abbrev main_call4_call0_call0_c_35 : Ref sig .tc := ⟨.hbm, 1890, rfl⟩
abbrev main_call4_call0_call0_v140 : Ref sig .tc := ⟨.hbm, 1891, rfl⟩
abbrev main_call4_call0_call0_v141 : Ref sig .tc := ⟨.hbm, 1892, rfl⟩
abbrev main_call4_call0_call0_v142 : Ref sig .tc := ⟨.hbm, 1893, rfl⟩
abbrev main_call4_call0_call0_c_36 : Ref sig .tc := ⟨.hbm, 1894, rfl⟩
abbrev main_call4_call0_call0_v143 : Ref sig .tc := ⟨.hbm, 1895, rfl⟩
abbrev main_call4_call0_call0_v144 : Ref sig .tc := ⟨.hbm, 1896, rfl⟩
abbrev main_call4_call0_call0_c_37 : Ref sig .tc := ⟨.hbm, 1897, rfl⟩
abbrev main_call4_call0_call0_v145 : Ref sig .tc := ⟨.hbm, 1898, rfl⟩
abbrev main_call4_call0_call0_v146 : Ref sig .tc := ⟨.hbm, 1899, rfl⟩
abbrev main_call4_call0_call0_v147 : Ref sig .tc := ⟨.hbm, 1900, rfl⟩
abbrev main_call4_call0_call0_v148 : Ref sig .tc := ⟨.hbm, 1901, rfl⟩
abbrev main_call4_call0_call0_v149 : Ref sig .tc := ⟨.hbm, 1902, rfl⟩
abbrev main_call4_call0_call0_c_38 : Ref sig .tc := ⟨.hbm, 1903, rfl⟩
abbrev main_call4_call0_call0_v150 : Ref sig .tc := ⟨.hbm, 1904, rfl⟩
abbrev main_call4_call0_call0_v151 : Ref sig .tc := ⟨.hbm, 1905, rfl⟩
abbrev main_call4_call0_call0_c_39 : Ref sig .tc := ⟨.hbm, 1906, rfl⟩
abbrev main_call4_call0_call0_v152 : Ref sig .tc := ⟨.hbm, 1907, rfl⟩
abbrev main_call4_call0_call0_v153 : Ref sig .tc := ⟨.hbm, 1908, rfl⟩
abbrev main_call4_call0_call0_v154 : Ref sig .tc := ⟨.hbm, 1909, rfl⟩
abbrev main_call4_call0_call0_v155 : Ref sig .tc := ⟨.hbm, 1910, rfl⟩
abbrev main_call4_call0_call0_v156 : Ref sig .tc := ⟨.hbm, 1911, rfl⟩
abbrev main_call4_call0_call0_c_40 : Ref sig .tc := ⟨.hbm, 1912, rfl⟩
abbrev main_call4_call0_call0_v157 : Ref sig .tc := ⟨.hbm, 1913, rfl⟩
abbrev main_call4_call0_call0_v158 : Ref sig .tc := ⟨.hbm, 1914, rfl⟩
abbrev main_call4_call0_call0_c_41 : Ref sig .tc := ⟨.hbm, 1915, rfl⟩
abbrev main_call4_call0_call0_v159 : Ref sig .tc := ⟨.hbm, 1916, rfl⟩
abbrev main_call4_call0_call0_v160 : Ref sig .tc := ⟨.hbm, 1917, rfl⟩
abbrev main_call4_call0_call0_v161 : Ref sig .tc := ⟨.hbm, 1918, rfl⟩
abbrev main_call4_call0_call0_v162 : Ref sig .tc := ⟨.hbm, 1919, rfl⟩
abbrev main_call4_call0_call0_v163 : Ref sig .tc := ⟨.hbm, 1920, rfl⟩
abbrev main_call4_call0_call0_c_42 : Ref sig .tc := ⟨.hbm, 1921, rfl⟩
abbrev main_call4_call0_call0_v164 : Ref sig .tc := ⟨.hbm, 1922, rfl⟩
abbrev main_call4_call0_call0_v165 : Ref sig .tc := ⟨.hbm, 1923, rfl⟩
abbrev main_call4_call0_call0_c_43 : Ref sig .tc := ⟨.hbm, 1924, rfl⟩
abbrev main_call4_call0_call0_v166 : Ref sig .tc := ⟨.hbm, 1925, rfl⟩
abbrev main_call4_call0_call0_v167 : Ref sig .tc := ⟨.hbm, 1926, rfl⟩
abbrev main_call4_call0_call0_v168 : Ref sig .tc := ⟨.hbm, 1927, rfl⟩
abbrev main_call4_call0_call0_v169 : Ref sig .tc := ⟨.hbm, 1928, rfl⟩
abbrev main_call4_call0_call0_v170 : Ref sig .tc := ⟨.hbm, 1929, rfl⟩
abbrev main_call4_call0_v11_0 : Ref sig .tc := ⟨.hbm, 1930, rfl⟩
abbrev main_call4_call0_call0_v172 : Ref sig .tc := ⟨.hbm, 1931, rfl⟩
abbrev main_call4_call0_call0_v173 : Ref sig .tc := ⟨.hbm, 1932, rfl⟩
abbrev main_call4_call0_call0_c_44 : Ref sig .tc := ⟨.hbm, 1933, rfl⟩
abbrev main_call4_call0_call0_v174 : Ref sig .tc := ⟨.hbm, 1934, rfl⟩
abbrev main_call4_call0_v11_1 : Ref sig .tc := ⟨.hbm, 1935, rfl⟩
abbrev main_call4_call0_v12 : Ref sig .tc := ⟨.hbm, 1936, rfl⟩
abbrev main_call4_call0_v13 : Ref sig .tc := ⟨.hbm, 1937, rfl⟩
abbrev main_call4_v0 : Ref sig .tc := ⟨.hbm, 1938, rfl⟩
abbrev main_call4_v1 : Ref sig .tc := ⟨.hbm, 1939, rfl⟩
abbrev main_call4_v2 : Ref sig .tc := ⟨.hbm, 1940, rfl⟩
abbrev main_call4_v3 : Ref sig .tc := ⟨.hbm, 1941, rfl⟩
abbrev main_call4_v4 : Ref sig .tc := ⟨.hbm, 1942, rfl⟩
abbrev main_call4_v5 : Ref sig .tc := ⟨.hbm, 1943, rfl⟩
abbrev main_call4_v6 : Ref sig .tc := ⟨.hbm, 1944, rfl⟩
abbrev main_call4_v7 : Ref sig .tc := ⟨.hbm, 1945, rfl⟩
abbrev main_call4_v8 : Ref sig .tc := ⟨.hbm, 1946, rfl⟩
abbrev main_call4_v9 : Ref sig .tc := ⟨.hbm, 1947, rfl⟩
abbrev main_call4_c : Ref sig .tc := ⟨.hbm, 1948, rfl⟩
abbrev main_call4_v10 : Ref sig .tc := ⟨.hbm, 1949, rfl⟩
abbrev main_call4_v11 : Ref sig .tc := ⟨.hbm, 1950, rfl⟩
abbrev main_call4_c_0 : Ref sig .tc := ⟨.hbm, 1951, rfl⟩
abbrev main_call4_v12 : Ref sig .tc := ⟨.hbm, 1952, rfl⟩
abbrev main_call4_v13 : Ref sig .tc := ⟨.hbm, 1953, rfl⟩
abbrev main_call4_v14 : Ref sig .tc := ⟨.hbm, 1954, rfl⟩
abbrev main_call4_v15 : Ref sig .tc := ⟨.hbm, 1955, rfl⟩
abbrev main_call4_call1_v0 : Ref sig .tc := ⟨.hbm, 1956, rfl⟩
abbrev main_call4_call1_c : Ref sig .tc := ⟨.hbm, 1957, rfl⟩
abbrev main_call4_call1_v1 : Ref sig .tc := ⟨.hbm, 1958, rfl⟩
abbrev main_call4_call1_v2 : Ref sig .tc := ⟨.hbm, 1959, rfl⟩
abbrev main_call4_call1_v3 : Ref sig .tc := ⟨.hbm, 1960, rfl⟩
abbrev main_call4_call1_v4 : Ref sig .tc := ⟨.hbm, 1961, rfl⟩
abbrev main_call4_call1_v5 : Ref sig .tc := ⟨.hbm, 1962, rfl⟩
abbrev main_call4_call1_v6 : Ref sig .tc := ⟨.hbm, 1963, rfl⟩
abbrev main_call4_call1_c_0 : Ref sig .tc := ⟨.hbm, 1964, rfl⟩
abbrev main_call4_call1_v7 : Ref sig .tc := ⟨.hbm, 1965, rfl⟩
abbrev main_call4_call1_v8 : Ref sig .tc := ⟨.hbm, 1966, rfl⟩
abbrev main_call4_call1_c_1 : Ref sig .tc := ⟨.hbm, 1967, rfl⟩
abbrev main_call4_call1_v9 : Ref sig .tc := ⟨.hbm, 1968, rfl⟩
abbrev main_call4_call1_v10 : Ref sig .tc := ⟨.hbm, 1969, rfl⟩
abbrev main_call4_call1_v11 : Ref sig .tc := ⟨.hbm, 1970, rfl⟩
abbrev main_call4_call1_v12 : Ref sig .tc := ⟨.hbm, 1971, rfl⟩
abbrev main_call4_call1_v13 : Ref sig .tc := ⟨.hbm, 1972, rfl⟩
abbrev main_call4_call1_c_2 : Ref sig .tc := ⟨.hbm, 1973, rfl⟩
abbrev main_call4_call1_v14 : Ref sig .tc := ⟨.hbm, 1974, rfl⟩
abbrev main_call4_call1_v15 : Ref sig .tc := ⟨.hbm, 1975, rfl⟩
abbrev main_call4_call1_c_3 : Ref sig .tc := ⟨.hbm, 1976, rfl⟩
abbrev main_call4_call1_v16 : Ref sig .tc := ⟨.hbm, 1977, rfl⟩
abbrev main_call4_call1_v17 : Ref sig .tc := ⟨.hbm, 1978, rfl⟩
abbrev main_call4_call1_v18 : Ref sig .tc := ⟨.hbm, 1979, rfl⟩
abbrev main_call4_call1_v19 : Ref sig .tc := ⟨.hbm, 1980, rfl⟩
abbrev main_call4_call1_v20 : Ref sig .tc := ⟨.hbm, 1981, rfl⟩
abbrev main_call4_call1_c_4 : Ref sig .tc := ⟨.hbm, 1982, rfl⟩
abbrev main_call4_call1_v21 : Ref sig .tc := ⟨.hbm, 1983, rfl⟩
abbrev main_call4_call1_v22 : Ref sig .tc := ⟨.hbm, 1984, rfl⟩
abbrev main_call4_call1_c_5 : Ref sig .tc := ⟨.hbm, 1985, rfl⟩
abbrev main_call4_call1_v23 : Ref sig .tc := ⟨.hbm, 1986, rfl⟩
abbrev main_call4_call1_v24 : Ref sig .tc := ⟨.hbm, 1987, rfl⟩
abbrev main_call4_call1_v25 : Ref sig .tc := ⟨.hbm, 1988, rfl⟩
abbrev main_call4_call1_v26 : Ref sig .tc := ⟨.hbm, 1989, rfl⟩
abbrev main_call4_call1_v27 : Ref sig .tc := ⟨.hbm, 1990, rfl⟩
abbrev main_call4_call1_c_6 : Ref sig .tc := ⟨.hbm, 1991, rfl⟩
abbrev main_call4_call1_v28 : Ref sig .tc := ⟨.hbm, 1992, rfl⟩
abbrev main_call4_call1_v29 : Ref sig .tc := ⟨.hbm, 1993, rfl⟩
abbrev main_call4_call1_c_7 : Ref sig .tc := ⟨.hbm, 1994, rfl⟩
abbrev main_call4_call1_v30 : Ref sig .tc := ⟨.hbm, 1995, rfl⟩
abbrev main_call4_call1_v31 : Ref sig .tc := ⟨.hbm, 1996, rfl⟩
abbrev main_call4_call1_v32 : Ref sig .tc := ⟨.hbm, 1997, rfl⟩
abbrev main_call4_call1_v33 : Ref sig .tc := ⟨.hbm, 1998, rfl⟩
abbrev main_call4_call1_v34 : Ref sig .tc := ⟨.hbm, 1999, rfl⟩
abbrev main_call4_call1_v35 : Ref sig .tc := ⟨.hbm, 2000, rfl⟩
abbrev main_call4_call1_v36 : Ref sig .tc := ⟨.hbm, 2001, rfl⟩
abbrev main_call4_call1_v37 : Ref sig .tc := ⟨.hbm, 2002, rfl⟩
abbrev main_call4_call1_c_8 : Ref sig .tc := ⟨.hbm, 2003, rfl⟩
abbrev main_call4_call1_v38 : Ref sig .tc := ⟨.hbm, 2004, rfl⟩
abbrev main_call4_call1_v39 : Ref sig .tc := ⟨.hbm, 2005, rfl⟩
abbrev main_call4_call1_v40 : Ref sig .tc := ⟨.hbm, 2006, rfl⟩
abbrev main_call4_call1_c_9 : Ref sig .tc := ⟨.hbm, 2007, rfl⟩
abbrev main_call4_call1_v41 : Ref sig .tc := ⟨.hbm, 2008, rfl⟩
abbrev main_call4_call1_v42 : Ref sig .tc := ⟨.hbm, 2009, rfl⟩
abbrev main_call4_call1_c_10 : Ref sig .tc := ⟨.hbm, 2010, rfl⟩
abbrev main_call4_call1_v43 : Ref sig .tc := ⟨.hbm, 2011, rfl⟩
abbrev main_call4_call1_v44 : Ref sig .tc := ⟨.hbm, 2012, rfl⟩
abbrev main_call4_call1_v45 : Ref sig .tc := ⟨.hbm, 2013, rfl⟩
abbrev main_call4_call1_v46 : Ref sig .tc := ⟨.hbm, 2014, rfl⟩
abbrev main_call4_call1_v47 : Ref sig .tc := ⟨.hbm, 2015, rfl⟩
abbrev main_call4_call1_c_11 : Ref sig .tc := ⟨.hbm, 2016, rfl⟩
abbrev main_call4_call1_v48 : Ref sig .tc := ⟨.hbm, 2017, rfl⟩
abbrev main_call4_call1_v49 : Ref sig .tc := ⟨.hbm, 2018, rfl⟩
abbrev main_call4_call1_c_12 : Ref sig .tc := ⟨.hbm, 2019, rfl⟩
abbrev main_call4_call1_v50 : Ref sig .tc := ⟨.hbm, 2020, rfl⟩
abbrev main_call4_call1_v51 : Ref sig .tc := ⟨.hbm, 2021, rfl⟩
abbrev main_call4_call1_v52 : Ref sig .tc := ⟨.hbm, 2022, rfl⟩
abbrev main_call4_call1_v53 : Ref sig .tc := ⟨.hbm, 2023, rfl⟩
abbrev main_call4_call1_v54 : Ref sig .tc := ⟨.hbm, 2024, rfl⟩
abbrev main_call4_call1_c_13 : Ref sig .tc := ⟨.hbm, 2025, rfl⟩
abbrev main_call4_call1_v55 : Ref sig .tc := ⟨.hbm, 2026, rfl⟩
abbrev main_call4_call1_v56 : Ref sig .tc := ⟨.hbm, 2027, rfl⟩
abbrev main_call4_call1_c_14 : Ref sig .tc := ⟨.hbm, 2028, rfl⟩
abbrev main_call4_call1_v57 : Ref sig .tc := ⟨.hbm, 2029, rfl⟩
abbrev main_call4_call1_v58 : Ref sig .tc := ⟨.hbm, 2030, rfl⟩
abbrev main_call4_call1_v59 : Ref sig .tc := ⟨.hbm, 2031, rfl⟩
abbrev main_call4_call1_v60 : Ref sig .tc := ⟨.hbm, 2032, rfl⟩
abbrev main_call4_call1_v61 : Ref sig .tc := ⟨.hbm, 2033, rfl⟩
abbrev main_call4_call1_c_15 : Ref sig .tc := ⟨.hbm, 2034, rfl⟩
abbrev main_call4_call1_v62 : Ref sig .tc := ⟨.hbm, 2035, rfl⟩
abbrev main_call4_call1_v63 : Ref sig .tc := ⟨.hbm, 2036, rfl⟩
abbrev main_call4_call1_c_16 : Ref sig .tc := ⟨.hbm, 2037, rfl⟩
abbrev main_call4_call1_v64 : Ref sig .tc := ⟨.hbm, 2038, rfl⟩
abbrev main_call4_call1_v65 : Ref sig .tc := ⟨.hbm, 2039, rfl⟩
abbrev main_call4_call1_v66 : Ref sig .tc := ⟨.hbm, 2040, rfl⟩
abbrev main_call4_call1_v67 : Ref sig .tc := ⟨.hbm, 2041, rfl⟩
abbrev main_call4_call1_v68 : Ref sig .tc := ⟨.hbm, 2042, rfl⟩
abbrev main_call4_call1_v69 : Ref sig .tc := ⟨.hbm, 2043, rfl⟩
abbrev main_call4_call1_v70 : Ref sig .tc := ⟨.hbm, 2044, rfl⟩
abbrev main_call4_call1_v71 : Ref sig .tc := ⟨.hbm, 2045, rfl⟩
abbrev main_call4_call1_c_17 : Ref sig .tc := ⟨.hbm, 2046, rfl⟩
abbrev main_call4_call1_v72 : Ref sig .tc := ⟨.hbm, 2047, rfl⟩
abbrev main_call4_call1_v73 : Ref sig .tc := ⟨.hbm, 2048, rfl⟩
abbrev main_call4_call1_v74 : Ref sig .tc := ⟨.hbm, 2049, rfl⟩
abbrev main_call4_call1_c_18 : Ref sig .tc := ⟨.hbm, 2050, rfl⟩
abbrev main_call4_call1_v75 : Ref sig .tc := ⟨.hbm, 2051, rfl⟩
abbrev main_call4_call1_v76 : Ref sig .tc := ⟨.hbm, 2052, rfl⟩
abbrev main_call4_call1_c_19 : Ref sig .tc := ⟨.hbm, 2053, rfl⟩
abbrev main_call4_call1_v77 : Ref sig .tc := ⟨.hbm, 2054, rfl⟩
abbrev main_call4_call1_v78 : Ref sig .tc := ⟨.hbm, 2055, rfl⟩
abbrev main_call4_call1_v79 : Ref sig .tc := ⟨.hbm, 2056, rfl⟩
abbrev main_call4_call1_v80 : Ref sig .tc := ⟨.hbm, 2057, rfl⟩
abbrev main_call4_call1_v81 : Ref sig .tc := ⟨.hbm, 2058, rfl⟩
abbrev main_call4_call1_c_20 : Ref sig .tc := ⟨.hbm, 2059, rfl⟩
abbrev main_call4_call1_v82 : Ref sig .tc := ⟨.hbm, 2060, rfl⟩
abbrev main_call4_call1_v83 : Ref sig .tc := ⟨.hbm, 2061, rfl⟩
abbrev main_call4_call1_c_21 : Ref sig .tc := ⟨.hbm, 2062, rfl⟩
abbrev main_call4_call1_v84 : Ref sig .tc := ⟨.hbm, 2063, rfl⟩
abbrev main_call4_call1_v85 : Ref sig .tc := ⟨.hbm, 2064, rfl⟩
abbrev main_call4_call1_v86 : Ref sig .tc := ⟨.hbm, 2065, rfl⟩
abbrev main_call4_call1_v87 : Ref sig .tc := ⟨.hbm, 2066, rfl⟩
abbrev main_call4_call1_v88 : Ref sig .tc := ⟨.hbm, 2067, rfl⟩
abbrev main_call4_call1_c_22 : Ref sig .tc := ⟨.hbm, 2068, rfl⟩
abbrev main_call4_call1_v89 : Ref sig .tc := ⟨.hbm, 2069, rfl⟩
abbrev main_call4_call1_v90 : Ref sig .tc := ⟨.hbm, 2070, rfl⟩
abbrev main_call4_call1_c_23 : Ref sig .tc := ⟨.hbm, 2071, rfl⟩
abbrev main_call4_call1_v91 : Ref sig .tc := ⟨.hbm, 2072, rfl⟩
abbrev main_call4_call1_v92 : Ref sig .tc := ⟨.hbm, 2073, rfl⟩
abbrev main_call4_call1_v93 : Ref sig .tc := ⟨.hbm, 2074, rfl⟩
abbrev main_call4_call1_v94 : Ref sig .tc := ⟨.hbm, 2075, rfl⟩
abbrev main_call4_call1_v95 : Ref sig .tc := ⟨.hbm, 2076, rfl⟩
abbrev main_call4_call1_c_24 : Ref sig .tc := ⟨.hbm, 2077, rfl⟩
abbrev main_call4_call1_v96 : Ref sig .tc := ⟨.hbm, 2078, rfl⟩
abbrev main_call4_call1_v97 : Ref sig .tc := ⟨.hbm, 2079, rfl⟩
abbrev main_call4_call1_c_25 : Ref sig .tc := ⟨.hbm, 2080, rfl⟩
abbrev main_call4_call1_v98 : Ref sig .tc := ⟨.hbm, 2081, rfl⟩
abbrev main_call4_call1_v99 : Ref sig .tc := ⟨.hbm, 2082, rfl⟩
abbrev main_call4_call1_v100 : Ref sig .tc := ⟨.hbm, 2083, rfl⟩
abbrev main_call4_call1_v101 : Ref sig .tc := ⟨.hbm, 2084, rfl⟩
abbrev main_call4_call1_v102 : Ref sig .tc := ⟨.hbm, 2085, rfl⟩
abbrev main_call4_call1_v103 : Ref sig .tc := ⟨.hbm, 2086, rfl⟩
abbrev main_call4_call1_v104 : Ref sig .tc := ⟨.hbm, 2087, rfl⟩
abbrev main_call4_call1_v105 : Ref sig .tc := ⟨.hbm, 2088, rfl⟩
abbrev main_call4_call1_c_26 : Ref sig .tc := ⟨.hbm, 2089, rfl⟩
abbrev main_call4_call1_v106 : Ref sig .tc := ⟨.hbm, 2090, rfl⟩
abbrev main_call4_call1_v107 : Ref sig .tc := ⟨.hbm, 2091, rfl⟩
abbrev main_call4_call1_v108 : Ref sig .tc := ⟨.hbm, 2092, rfl⟩
abbrev main_call4_call1_c_27 : Ref sig .tc := ⟨.hbm, 2093, rfl⟩
abbrev main_call4_call1_v109 : Ref sig .tc := ⟨.hbm, 2094, rfl⟩
abbrev main_call4_call1_v110 : Ref sig .tc := ⟨.hbm, 2095, rfl⟩
abbrev main_call4_call1_c_28 : Ref sig .tc := ⟨.hbm, 2096, rfl⟩
abbrev main_call4_call1_v111 : Ref sig .tc := ⟨.hbm, 2097, rfl⟩
abbrev main_call4_call1_v112 : Ref sig .tc := ⟨.hbm, 2098, rfl⟩
abbrev main_call4_call1_v113 : Ref sig .tc := ⟨.hbm, 2099, rfl⟩
abbrev main_call4_call1_v114 : Ref sig .tc := ⟨.hbm, 2100, rfl⟩
abbrev main_call4_call1_v115 : Ref sig .tc := ⟨.hbm, 2101, rfl⟩
abbrev main_call4_call1_c_29 : Ref sig .tc := ⟨.hbm, 2102, rfl⟩
abbrev main_call4_call1_v116 : Ref sig .tc := ⟨.hbm, 2103, rfl⟩
abbrev main_call4_call1_v117 : Ref sig .tc := ⟨.hbm, 2104, rfl⟩
abbrev main_call4_call1_c_30 : Ref sig .tc := ⟨.hbm, 2105, rfl⟩
abbrev main_call4_call1_v118 : Ref sig .tc := ⟨.hbm, 2106, rfl⟩
abbrev main_call4_call1_v119 : Ref sig .tc := ⟨.hbm, 2107, rfl⟩
abbrev main_call4_call1_v120 : Ref sig .tc := ⟨.hbm, 2108, rfl⟩
abbrev main_call4_call1_v121 : Ref sig .tc := ⟨.hbm, 2109, rfl⟩
abbrev main_call4_call1_v122 : Ref sig .tc := ⟨.hbm, 2110, rfl⟩
abbrev main_call4_call1_c_31 : Ref sig .tc := ⟨.hbm, 2111, rfl⟩
abbrev main_call4_call1_v123 : Ref sig .tc := ⟨.hbm, 2112, rfl⟩
abbrev main_call4_call1_v124 : Ref sig .tc := ⟨.hbm, 2113, rfl⟩
abbrev main_call4_call1_c_32 : Ref sig .tc := ⟨.hbm, 2114, rfl⟩
abbrev main_call4_call1_v125 : Ref sig .tc := ⟨.hbm, 2115, rfl⟩
abbrev main_call4_call1_v126 : Ref sig .tc := ⟨.hbm, 2116, rfl⟩
abbrev main_call4_call1_v127 : Ref sig .tc := ⟨.hbm, 2117, rfl⟩
abbrev main_call4_call1_v128 : Ref sig .tc := ⟨.hbm, 2118, rfl⟩
abbrev main_call4_call1_v129 : Ref sig .tc := ⟨.hbm, 2119, rfl⟩
abbrev main_call4_call1_c_33 : Ref sig .tc := ⟨.hbm, 2120, rfl⟩
abbrev main_call4_call1_v130 : Ref sig .tc := ⟨.hbm, 2121, rfl⟩
abbrev main_call4_call1_v131 : Ref sig .tc := ⟨.hbm, 2122, rfl⟩
abbrev main_call4_call1_c_34 : Ref sig .tc := ⟨.hbm, 2123, rfl⟩
abbrev main_call4_call1_v132 : Ref sig .tc := ⟨.hbm, 2124, rfl⟩
abbrev main_call4_call1_v133 : Ref sig .tc := ⟨.hbm, 2125, rfl⟩
abbrev main_call4_call1_v134 : Ref sig .tc := ⟨.hbm, 2126, rfl⟩
abbrev main_call4_call1_v135 : Ref sig .tc := ⟨.hbm, 2127, rfl⟩
abbrev main_call4_call1_v136 : Ref sig .tc := ⟨.hbm, 2128, rfl⟩
abbrev main_call4_call1_v137 : Ref sig .tc := ⟨.hbm, 2129, rfl⟩
abbrev main_call4_call1_v138 : Ref sig .tc := ⟨.hbm, 2130, rfl⟩
abbrev main_call4_call1_v139 : Ref sig .tc := ⟨.hbm, 2131, rfl⟩
abbrev main_call4_call1_c_35 : Ref sig .tc := ⟨.hbm, 2132, rfl⟩
abbrev main_call4_call1_v140 : Ref sig .tc := ⟨.hbm, 2133, rfl⟩
abbrev main_call4_call1_v141 : Ref sig .tc := ⟨.hbm, 2134, rfl⟩
abbrev main_call4_call1_v142 : Ref sig .tc := ⟨.hbm, 2135, rfl⟩
abbrev main_call4_call1_c_36 : Ref sig .tc := ⟨.hbm, 2136, rfl⟩
abbrev main_call4_call1_v143 : Ref sig .tc := ⟨.hbm, 2137, rfl⟩
abbrev main_call4_call1_v144 : Ref sig .tc := ⟨.hbm, 2138, rfl⟩
abbrev main_call4_call1_c_37 : Ref sig .tc := ⟨.hbm, 2139, rfl⟩
abbrev main_call4_call1_v145 : Ref sig .tc := ⟨.hbm, 2140, rfl⟩
abbrev main_call4_call1_v146 : Ref sig .tc := ⟨.hbm, 2141, rfl⟩
abbrev main_call4_call1_v147 : Ref sig .tc := ⟨.hbm, 2142, rfl⟩
abbrev main_call4_call1_v148 : Ref sig .tc := ⟨.hbm, 2143, rfl⟩
abbrev main_call4_call1_v149 : Ref sig .tc := ⟨.hbm, 2144, rfl⟩
abbrev main_call4_call1_c_38 : Ref sig .tc := ⟨.hbm, 2145, rfl⟩
abbrev main_call4_call1_v150 : Ref sig .tc := ⟨.hbm, 2146, rfl⟩
abbrev main_call4_call1_v151 : Ref sig .tc := ⟨.hbm, 2147, rfl⟩
abbrev main_call4_call1_c_39 : Ref sig .tc := ⟨.hbm, 2148, rfl⟩
abbrev main_call4_call1_v152 : Ref sig .tc := ⟨.hbm, 2149, rfl⟩
abbrev main_call4_call1_v153 : Ref sig .tc := ⟨.hbm, 2150, rfl⟩
abbrev main_call4_call1_v154 : Ref sig .tc := ⟨.hbm, 2151, rfl⟩
abbrev main_call4_call1_v155 : Ref sig .tc := ⟨.hbm, 2152, rfl⟩
abbrev main_call4_call1_v156 : Ref sig .tc := ⟨.hbm, 2153, rfl⟩
abbrev main_call4_call1_c_40 : Ref sig .tc := ⟨.hbm, 2154, rfl⟩
abbrev main_call4_call1_v157 : Ref sig .tc := ⟨.hbm, 2155, rfl⟩
abbrev main_call4_call1_v158 : Ref sig .tc := ⟨.hbm, 2156, rfl⟩
abbrev main_call4_call1_c_41 : Ref sig .tc := ⟨.hbm, 2157, rfl⟩
abbrev main_call4_call1_v159 : Ref sig .tc := ⟨.hbm, 2158, rfl⟩
abbrev main_call4_call1_v160 : Ref sig .tc := ⟨.hbm, 2159, rfl⟩
abbrev main_call4_call1_v161 : Ref sig .tc := ⟨.hbm, 2160, rfl⟩
abbrev main_call4_call1_v162 : Ref sig .tc := ⟨.hbm, 2161, rfl⟩
abbrev main_call4_call1_v163 : Ref sig .tc := ⟨.hbm, 2162, rfl⟩
abbrev main_call4_call1_c_42 : Ref sig .tc := ⟨.hbm, 2163, rfl⟩
abbrev main_call4_call1_v164 : Ref sig .tc := ⟨.hbm, 2164, rfl⟩
abbrev main_call4_call1_v165 : Ref sig .tc := ⟨.hbm, 2165, rfl⟩
abbrev main_call4_call1_c_43 : Ref sig .tc := ⟨.hbm, 2166, rfl⟩
abbrev main_call4_call1_v166 : Ref sig .tc := ⟨.hbm, 2167, rfl⟩
abbrev main_call4_call1_v167 : Ref sig .tc := ⟨.hbm, 2168, rfl⟩
abbrev main_call4_call1_v168 : Ref sig .tc := ⟨.hbm, 2169, rfl⟩
abbrev main_call4_call1_v169 : Ref sig .tc := ⟨.hbm, 2170, rfl⟩
abbrev main_call4_call1_v170 : Ref sig .tc := ⟨.hbm, 2171, rfl⟩
abbrev main_call4_v16_0 : Ref sig .tc := ⟨.hbm, 2172, rfl⟩
abbrev main_call4_call1_v172 : Ref sig .tc := ⟨.hbm, 2173, rfl⟩
abbrev main_call4_call1_v173 : Ref sig .tc := ⟨.hbm, 2174, rfl⟩
abbrev main_call4_call1_c_44 : Ref sig .tc := ⟨.hbm, 2175, rfl⟩
abbrev main_call4_call1_v174 : Ref sig .tc := ⟨.hbm, 2176, rfl⟩
abbrev main_call4_v16_1 : Ref sig .tc := ⟨.hbm, 2177, rfl⟩
abbrev main_call4_v17 : Ref sig .tc := ⟨.hbm, 2178, rfl⟩
abbrev main_call4_v18_0 : Ref sig .tc := ⟨.hbm, 2179, rfl⟩
abbrev main_v23 : Ref sig .tc := ⟨.hbm, 2180, rfl⟩
abbrev main_v24 : Ref sig .tc := ⟨.hbm, 2181, rfl⟩
abbrev main_v25 : Ref sig .tc := ⟨.hbm, 2182, rfl⟩
abbrev main_v26 : Ref sig .tc := ⟨.hbm, 2183, rfl⟩
abbrev main_call5_call0_v0 : Ref sig .tc := ⟨.hbm, 2184, rfl⟩
abbrev main_call5_call0_v1 : Ref sig .tc := ⟨.hbm, 2185, rfl⟩
abbrev main_call5_call0_v2 : Ref sig .tc := ⟨.hbm, 2186, rfl⟩
abbrev main_call5_call0_v3 : Ref sig .tc := ⟨.hbm, 2187, rfl⟩
abbrev main_call5_call0_v4 : Ref sig .tc := ⟨.hbm, 2188, rfl⟩
abbrev main_call5_call0_c : Ref sig .tc := ⟨.hbm, 2189, rfl⟩
abbrev main_call5_call0_v5 : Ref sig .tc := ⟨.hbm, 2190, rfl⟩
abbrev main_call5_call0_v6 : Ref sig .tc := ⟨.hbm, 2191, rfl⟩
abbrev main_call5_call0_c_0 : Ref sig .tc := ⟨.hbm, 2192, rfl⟩
abbrev main_call5_call0_v7 : Ref sig .tc := ⟨.hbm, 2193, rfl⟩
abbrev main_call5_call0_v8 : Ref sig .tc := ⟨.hbm, 2194, rfl⟩
abbrev main_call5_call0_v9 : Ref sig .tc := ⟨.hbm, 2195, rfl⟩
abbrev main_call5_call0_v10 : Ref sig .tc := ⟨.hbm, 2196, rfl⟩
abbrev main_call5_call0_call0_v0 : Ref sig .tc := ⟨.hbm, 2197, rfl⟩
abbrev main_call5_call0_call0_c : Ref sig .tc := ⟨.hbm, 2198, rfl⟩
abbrev main_call5_call0_call0_v1 : Ref sig .tc := ⟨.hbm, 2199, rfl⟩
abbrev main_call5_call0_call0_v2 : Ref sig .tc := ⟨.hbm, 2200, rfl⟩
abbrev main_call5_call0_call0_v3 : Ref sig .tc := ⟨.hbm, 2201, rfl⟩
abbrev main_call5_call0_call0_v4 : Ref sig .tc := ⟨.hbm, 2202, rfl⟩
abbrev main_call5_call0_call0_v5 : Ref sig .tc := ⟨.hbm, 2203, rfl⟩
abbrev main_call5_call0_call0_v6 : Ref sig .tc := ⟨.hbm, 2204, rfl⟩
abbrev main_call5_call0_call0_c_0 : Ref sig .tc := ⟨.hbm, 2205, rfl⟩
abbrev main_call5_call0_call0_v7 : Ref sig .tc := ⟨.hbm, 2206, rfl⟩
abbrev main_call5_call0_call0_v8 : Ref sig .tc := ⟨.hbm, 2207, rfl⟩
abbrev main_call5_call0_call0_c_1 : Ref sig .tc := ⟨.hbm, 2208, rfl⟩
abbrev main_call5_call0_call0_v9 : Ref sig .tc := ⟨.hbm, 2209, rfl⟩
abbrev main_call5_call0_call0_v10 : Ref sig .tc := ⟨.hbm, 2210, rfl⟩
abbrev main_call5_call0_call0_v11 : Ref sig .tc := ⟨.hbm, 2211, rfl⟩
abbrev main_call5_call0_call0_v12 : Ref sig .tc := ⟨.hbm, 2212, rfl⟩
abbrev main_call5_call0_call0_v13 : Ref sig .tc := ⟨.hbm, 2213, rfl⟩
abbrev main_call5_call0_call0_c_2 : Ref sig .tc := ⟨.hbm, 2214, rfl⟩
abbrev main_call5_call0_call0_v14 : Ref sig .tc := ⟨.hbm, 2215, rfl⟩
abbrev main_call5_call0_call0_v15 : Ref sig .tc := ⟨.hbm, 2216, rfl⟩
abbrev main_call5_call0_call0_c_3 : Ref sig .tc := ⟨.hbm, 2217, rfl⟩
abbrev main_call5_call0_call0_v16 : Ref sig .tc := ⟨.hbm, 2218, rfl⟩
abbrev main_call5_call0_call0_v17 : Ref sig .tc := ⟨.hbm, 2219, rfl⟩
abbrev main_call5_call0_call0_v18 : Ref sig .tc := ⟨.hbm, 2220, rfl⟩
abbrev main_call5_call0_call0_v19 : Ref sig .tc := ⟨.hbm, 2221, rfl⟩
abbrev main_call5_call0_call0_v20 : Ref sig .tc := ⟨.hbm, 2222, rfl⟩
abbrev main_call5_call0_call0_c_4 : Ref sig .tc := ⟨.hbm, 2223, rfl⟩
abbrev main_call5_call0_call0_v21 : Ref sig .tc := ⟨.hbm, 2224, rfl⟩
abbrev main_call5_call0_call0_v22 : Ref sig .tc := ⟨.hbm, 2225, rfl⟩
abbrev main_call5_call0_call0_c_5 : Ref sig .tc := ⟨.hbm, 2226, rfl⟩
abbrev main_call5_call0_call0_v23 : Ref sig .tc := ⟨.hbm, 2227, rfl⟩
abbrev main_call5_call0_call0_v24 : Ref sig .tc := ⟨.hbm, 2228, rfl⟩
abbrev main_call5_call0_call0_v25 : Ref sig .tc := ⟨.hbm, 2229, rfl⟩
abbrev main_call5_call0_call0_v26 : Ref sig .tc := ⟨.hbm, 2230, rfl⟩
abbrev main_call5_call0_call0_v27 : Ref sig .tc := ⟨.hbm, 2231, rfl⟩
abbrev main_call5_call0_call0_c_6 : Ref sig .tc := ⟨.hbm, 2232, rfl⟩
abbrev main_call5_call0_call0_v28 : Ref sig .tc := ⟨.hbm, 2233, rfl⟩
abbrev main_call5_call0_call0_v29 : Ref sig .tc := ⟨.hbm, 2234, rfl⟩
abbrev main_call5_call0_call0_c_7 : Ref sig .tc := ⟨.hbm, 2235, rfl⟩
abbrev main_call5_call0_call0_v30 : Ref sig .tc := ⟨.hbm, 2236, rfl⟩
abbrev main_call5_call0_call0_v31 : Ref sig .tc := ⟨.hbm, 2237, rfl⟩
abbrev main_call5_call0_call0_v32 : Ref sig .tc := ⟨.hbm, 2238, rfl⟩
abbrev main_call5_call0_call0_v33 : Ref sig .tc := ⟨.hbm, 2239, rfl⟩
abbrev main_call5_call0_call0_v34 : Ref sig .tc := ⟨.hbm, 2240, rfl⟩
abbrev main_call5_call0_call0_v35 : Ref sig .tc := ⟨.hbm, 2241, rfl⟩
abbrev main_call5_call0_call0_v36 : Ref sig .tc := ⟨.hbm, 2242, rfl⟩
abbrev main_call5_call0_call0_v37 : Ref sig .tc := ⟨.hbm, 2243, rfl⟩
abbrev main_call5_call0_call0_c_8 : Ref sig .tc := ⟨.hbm, 2244, rfl⟩
abbrev main_call5_call0_call0_v38 : Ref sig .tc := ⟨.hbm, 2245, rfl⟩
abbrev main_call5_call0_call0_v39 : Ref sig .tc := ⟨.hbm, 2246, rfl⟩
abbrev main_call5_call0_call0_v40 : Ref sig .tc := ⟨.hbm, 2247, rfl⟩
abbrev main_call5_call0_call0_c_9 : Ref sig .tc := ⟨.hbm, 2248, rfl⟩
abbrev main_call5_call0_call0_v41 : Ref sig .tc := ⟨.hbm, 2249, rfl⟩
abbrev main_call5_call0_call0_v42 : Ref sig .tc := ⟨.hbm, 2250, rfl⟩
abbrev main_call5_call0_call0_c_10 : Ref sig .tc := ⟨.hbm, 2251, rfl⟩
abbrev main_call5_call0_call0_v43 : Ref sig .tc := ⟨.hbm, 2252, rfl⟩
abbrev main_call5_call0_call0_v44 : Ref sig .tc := ⟨.hbm, 2253, rfl⟩
abbrev main_call5_call0_call0_v45 : Ref sig .tc := ⟨.hbm, 2254, rfl⟩
abbrev main_call5_call0_call0_v46 : Ref sig .tc := ⟨.hbm, 2255, rfl⟩
abbrev main_call5_call0_call0_v47 : Ref sig .tc := ⟨.hbm, 2256, rfl⟩
abbrev main_call5_call0_call0_c_11 : Ref sig .tc := ⟨.hbm, 2257, rfl⟩
abbrev main_call5_call0_call0_v48 : Ref sig .tc := ⟨.hbm, 2258, rfl⟩
abbrev main_call5_call0_call0_v49 : Ref sig .tc := ⟨.hbm, 2259, rfl⟩
abbrev main_call5_call0_call0_c_12 : Ref sig .tc := ⟨.hbm, 2260, rfl⟩
abbrev main_call5_call0_call0_v50 : Ref sig .tc := ⟨.hbm, 2261, rfl⟩
abbrev main_call5_call0_call0_v51 : Ref sig .tc := ⟨.hbm, 2262, rfl⟩
abbrev main_call5_call0_call0_v52 : Ref sig .tc := ⟨.hbm, 2263, rfl⟩
abbrev main_call5_call0_call0_v53 : Ref sig .tc := ⟨.hbm, 2264, rfl⟩
abbrev main_call5_call0_call0_v54 : Ref sig .tc := ⟨.hbm, 2265, rfl⟩
abbrev main_call5_call0_call0_c_13 : Ref sig .tc := ⟨.hbm, 2266, rfl⟩
abbrev main_call5_call0_call0_v55 : Ref sig .tc := ⟨.hbm, 2267, rfl⟩
abbrev main_call5_call0_call0_v56 : Ref sig .tc := ⟨.hbm, 2268, rfl⟩
abbrev main_call5_call0_call0_c_14 : Ref sig .tc := ⟨.hbm, 2269, rfl⟩
abbrev main_call5_call0_call0_v57 : Ref sig .tc := ⟨.hbm, 2270, rfl⟩
abbrev main_call5_call0_call0_v58 : Ref sig .tc := ⟨.hbm, 2271, rfl⟩
abbrev main_call5_call0_call0_v59 : Ref sig .tc := ⟨.hbm, 2272, rfl⟩
abbrev main_call5_call0_call0_v60 : Ref sig .tc := ⟨.hbm, 2273, rfl⟩
abbrev main_call5_call0_call0_v61 : Ref sig .tc := ⟨.hbm, 2274, rfl⟩
abbrev main_call5_call0_call0_c_15 : Ref sig .tc := ⟨.hbm, 2275, rfl⟩
abbrev main_call5_call0_call0_v62 : Ref sig .tc := ⟨.hbm, 2276, rfl⟩
abbrev main_call5_call0_call0_v63 : Ref sig .tc := ⟨.hbm, 2277, rfl⟩
abbrev main_call5_call0_call0_c_16 : Ref sig .tc := ⟨.hbm, 2278, rfl⟩
abbrev main_call5_call0_call0_v64 : Ref sig .tc := ⟨.hbm, 2279, rfl⟩
abbrev main_call5_call0_call0_v65 : Ref sig .tc := ⟨.hbm, 2280, rfl⟩
abbrev main_call5_call0_call0_v66 : Ref sig .tc := ⟨.hbm, 2281, rfl⟩
abbrev main_call5_call0_call0_v67 : Ref sig .tc := ⟨.hbm, 2282, rfl⟩
abbrev main_call5_call0_call0_v68 : Ref sig .tc := ⟨.hbm, 2283, rfl⟩
abbrev main_call5_call0_call0_v69 : Ref sig .tc := ⟨.hbm, 2284, rfl⟩
abbrev main_call5_call0_call0_v70 : Ref sig .tc := ⟨.hbm, 2285, rfl⟩
abbrev main_call5_call0_call0_v71 : Ref sig .tc := ⟨.hbm, 2286, rfl⟩
abbrev main_call5_call0_call0_c_17 : Ref sig .tc := ⟨.hbm, 2287, rfl⟩
abbrev main_call5_call0_call0_v72 : Ref sig .tc := ⟨.hbm, 2288, rfl⟩
abbrev main_call5_call0_call0_v73 : Ref sig .tc := ⟨.hbm, 2289, rfl⟩
abbrev main_call5_call0_call0_v74 : Ref sig .tc := ⟨.hbm, 2290, rfl⟩
abbrev main_call5_call0_call0_c_18 : Ref sig .tc := ⟨.hbm, 2291, rfl⟩
abbrev main_call5_call0_call0_v75 : Ref sig .tc := ⟨.hbm, 2292, rfl⟩
abbrev main_call5_call0_call0_v76 : Ref sig .tc := ⟨.hbm, 2293, rfl⟩
abbrev main_call5_call0_call0_c_19 : Ref sig .tc := ⟨.hbm, 2294, rfl⟩
abbrev main_call5_call0_call0_v77 : Ref sig .tc := ⟨.hbm, 2295, rfl⟩
abbrev main_call5_call0_call0_v78 : Ref sig .tc := ⟨.hbm, 2296, rfl⟩
abbrev main_call5_call0_call0_v79 : Ref sig .tc := ⟨.hbm, 2297, rfl⟩
abbrev main_call5_call0_call0_v80 : Ref sig .tc := ⟨.hbm, 2298, rfl⟩
abbrev main_call5_call0_call0_v81 : Ref sig .tc := ⟨.hbm, 2299, rfl⟩
abbrev main_call5_call0_call0_c_20 : Ref sig .tc := ⟨.hbm, 2300, rfl⟩
abbrev main_call5_call0_call0_v82 : Ref sig .tc := ⟨.hbm, 2301, rfl⟩
abbrev main_call5_call0_call0_v83 : Ref sig .tc := ⟨.hbm, 2302, rfl⟩
abbrev main_call5_call0_call0_c_21 : Ref sig .tc := ⟨.hbm, 2303, rfl⟩
abbrev main_call5_call0_call0_v84 : Ref sig .tc := ⟨.hbm, 2304, rfl⟩
abbrev main_call5_call0_call0_v85 : Ref sig .tc := ⟨.hbm, 2305, rfl⟩
abbrev main_call5_call0_call0_v86 : Ref sig .tc := ⟨.hbm, 2306, rfl⟩
abbrev main_call5_call0_call0_v87 : Ref sig .tc := ⟨.hbm, 2307, rfl⟩
abbrev main_call5_call0_call0_v88 : Ref sig .tc := ⟨.hbm, 2308, rfl⟩
abbrev main_call5_call0_call0_c_22 : Ref sig .tc := ⟨.hbm, 2309, rfl⟩
abbrev main_call5_call0_call0_v89 : Ref sig .tc := ⟨.hbm, 2310, rfl⟩
abbrev main_call5_call0_call0_v90 : Ref sig .tc := ⟨.hbm, 2311, rfl⟩
abbrev main_call5_call0_call0_c_23 : Ref sig .tc := ⟨.hbm, 2312, rfl⟩
abbrev main_call5_call0_call0_v91 : Ref sig .tc := ⟨.hbm, 2313, rfl⟩
abbrev main_call5_call0_call0_v92 : Ref sig .tc := ⟨.hbm, 2314, rfl⟩
abbrev main_call5_call0_call0_v93 : Ref sig .tc := ⟨.hbm, 2315, rfl⟩
abbrev main_call5_call0_call0_v94 : Ref sig .tc := ⟨.hbm, 2316, rfl⟩
abbrev main_call5_call0_call0_v95 : Ref sig .tc := ⟨.hbm, 2317, rfl⟩
abbrev main_call5_call0_call0_c_24 : Ref sig .tc := ⟨.hbm, 2318, rfl⟩
abbrev main_call5_call0_call0_v96 : Ref sig .tc := ⟨.hbm, 2319, rfl⟩
abbrev main_call5_call0_call0_v97 : Ref sig .tc := ⟨.hbm, 2320, rfl⟩
abbrev main_call5_call0_call0_c_25 : Ref sig .tc := ⟨.hbm, 2321, rfl⟩
abbrev main_call5_call0_call0_v98 : Ref sig .tc := ⟨.hbm, 2322, rfl⟩
abbrev main_call5_call0_call0_v99 : Ref sig .tc := ⟨.hbm, 2323, rfl⟩
abbrev main_call5_call0_call0_v100 : Ref sig .tc := ⟨.hbm, 2324, rfl⟩
abbrev main_call5_call0_call0_v101 : Ref sig .tc := ⟨.hbm, 2325, rfl⟩
abbrev main_call5_call0_call0_v102 : Ref sig .tc := ⟨.hbm, 2326, rfl⟩
abbrev main_call5_call0_call0_v103 : Ref sig .tc := ⟨.hbm, 2327, rfl⟩
abbrev main_call5_call0_call0_v104 : Ref sig .tc := ⟨.hbm, 2328, rfl⟩
abbrev main_call5_call0_call0_v105 : Ref sig .tc := ⟨.hbm, 2329, rfl⟩
abbrev main_call5_call0_call0_c_26 : Ref sig .tc := ⟨.hbm, 2330, rfl⟩
abbrev main_call5_call0_call0_v106 : Ref sig .tc := ⟨.hbm, 2331, rfl⟩
abbrev main_call5_call0_call0_v107 : Ref sig .tc := ⟨.hbm, 2332, rfl⟩
abbrev main_call5_call0_call0_v108 : Ref sig .tc := ⟨.hbm, 2333, rfl⟩
abbrev main_call5_call0_call0_c_27 : Ref sig .tc := ⟨.hbm, 2334, rfl⟩
abbrev main_call5_call0_call0_v109 : Ref sig .tc := ⟨.hbm, 2335, rfl⟩
abbrev main_call5_call0_call0_v110 : Ref sig .tc := ⟨.hbm, 2336, rfl⟩
abbrev main_call5_call0_call0_c_28 : Ref sig .tc := ⟨.hbm, 2337, rfl⟩
abbrev main_call5_call0_call0_v111 : Ref sig .tc := ⟨.hbm, 2338, rfl⟩
abbrev main_call5_call0_call0_v112 : Ref sig .tc := ⟨.hbm, 2339, rfl⟩
abbrev main_call5_call0_call0_v113 : Ref sig .tc := ⟨.hbm, 2340, rfl⟩
abbrev main_call5_call0_call0_v114 : Ref sig .tc := ⟨.hbm, 2341, rfl⟩
abbrev main_call5_call0_call0_v115 : Ref sig .tc := ⟨.hbm, 2342, rfl⟩
abbrev main_call5_call0_call0_c_29 : Ref sig .tc := ⟨.hbm, 2343, rfl⟩
abbrev main_call5_call0_call0_v116 : Ref sig .tc := ⟨.hbm, 2344, rfl⟩
abbrev main_call5_call0_call0_v117 : Ref sig .tc := ⟨.hbm, 2345, rfl⟩
abbrev main_call5_call0_call0_c_30 : Ref sig .tc := ⟨.hbm, 2346, rfl⟩
abbrev main_call5_call0_call0_v118 : Ref sig .tc := ⟨.hbm, 2347, rfl⟩
abbrev main_call5_call0_call0_v119 : Ref sig .tc := ⟨.hbm, 2348, rfl⟩
abbrev main_call5_call0_call0_v120 : Ref sig .tc := ⟨.hbm, 2349, rfl⟩
abbrev main_call5_call0_call0_v121 : Ref sig .tc := ⟨.hbm, 2350, rfl⟩
abbrev main_call5_call0_call0_v122 : Ref sig .tc := ⟨.hbm, 2351, rfl⟩
abbrev main_call5_call0_call0_c_31 : Ref sig .tc := ⟨.hbm, 2352, rfl⟩
abbrev main_call5_call0_call0_v123 : Ref sig .tc := ⟨.hbm, 2353, rfl⟩
abbrev main_call5_call0_call0_v124 : Ref sig .tc := ⟨.hbm, 2354, rfl⟩
abbrev main_call5_call0_call0_c_32 : Ref sig .tc := ⟨.hbm, 2355, rfl⟩
abbrev main_call5_call0_call0_v125 : Ref sig .tc := ⟨.hbm, 2356, rfl⟩
abbrev main_call5_call0_call0_v126 : Ref sig .tc := ⟨.hbm, 2357, rfl⟩
abbrev main_call5_call0_call0_v127 : Ref sig .tc := ⟨.hbm, 2358, rfl⟩
abbrev main_call5_call0_call0_v128 : Ref sig .tc := ⟨.hbm, 2359, rfl⟩
abbrev main_call5_call0_call0_v129 : Ref sig .tc := ⟨.hbm, 2360, rfl⟩
abbrev main_call5_call0_call0_c_33 : Ref sig .tc := ⟨.hbm, 2361, rfl⟩
abbrev main_call5_call0_call0_v130 : Ref sig .tc := ⟨.hbm, 2362, rfl⟩
abbrev main_call5_call0_call0_v131 : Ref sig .tc := ⟨.hbm, 2363, rfl⟩
abbrev main_call5_call0_call0_c_34 : Ref sig .tc := ⟨.hbm, 2364, rfl⟩
abbrev main_call5_call0_call0_v132 : Ref sig .tc := ⟨.hbm, 2365, rfl⟩
abbrev main_call5_call0_call0_v133 : Ref sig .tc := ⟨.hbm, 2366, rfl⟩
abbrev main_call5_call0_call0_v134 : Ref sig .tc := ⟨.hbm, 2367, rfl⟩
abbrev main_call5_call0_call0_v135 : Ref sig .tc := ⟨.hbm, 2368, rfl⟩
abbrev main_call5_call0_call0_v136 : Ref sig .tc := ⟨.hbm, 2369, rfl⟩
abbrev main_call5_call0_call0_v137 : Ref sig .tc := ⟨.hbm, 2370, rfl⟩
abbrev main_call5_call0_call0_v138 : Ref sig .tc := ⟨.hbm, 2371, rfl⟩
abbrev main_call5_call0_call0_v139 : Ref sig .tc := ⟨.hbm, 2372, rfl⟩
abbrev main_call5_call0_call0_c_35 : Ref sig .tc := ⟨.hbm, 2373, rfl⟩
abbrev main_call5_call0_call0_v140 : Ref sig .tc := ⟨.hbm, 2374, rfl⟩
abbrev main_call5_call0_call0_v141 : Ref sig .tc := ⟨.hbm, 2375, rfl⟩
abbrev main_call5_call0_call0_v142 : Ref sig .tc := ⟨.hbm, 2376, rfl⟩
abbrev main_call5_call0_call0_c_36 : Ref sig .tc := ⟨.hbm, 2377, rfl⟩
abbrev main_call5_call0_call0_v143 : Ref sig .tc := ⟨.hbm, 2378, rfl⟩
abbrev main_call5_call0_call0_v144 : Ref sig .tc := ⟨.hbm, 2379, rfl⟩
abbrev main_call5_call0_call0_c_37 : Ref sig .tc := ⟨.hbm, 2380, rfl⟩
abbrev main_call5_call0_call0_v145 : Ref sig .tc := ⟨.hbm, 2381, rfl⟩
abbrev main_call5_call0_call0_v146 : Ref sig .tc := ⟨.hbm, 2382, rfl⟩
abbrev main_call5_call0_call0_v147 : Ref sig .tc := ⟨.hbm, 2383, rfl⟩
abbrev main_call5_call0_call0_v148 : Ref sig .tc := ⟨.hbm, 2384, rfl⟩
abbrev main_call5_call0_call0_v149 : Ref sig .tc := ⟨.hbm, 2385, rfl⟩
abbrev main_call5_call0_call0_c_38 : Ref sig .tc := ⟨.hbm, 2386, rfl⟩
abbrev main_call5_call0_call0_v150 : Ref sig .tc := ⟨.hbm, 2387, rfl⟩
abbrev main_call5_call0_call0_v151 : Ref sig .tc := ⟨.hbm, 2388, rfl⟩
abbrev main_call5_call0_call0_c_39 : Ref sig .tc := ⟨.hbm, 2389, rfl⟩
abbrev main_call5_call0_call0_v152 : Ref sig .tc := ⟨.hbm, 2390, rfl⟩
abbrev main_call5_call0_call0_v153 : Ref sig .tc := ⟨.hbm, 2391, rfl⟩
abbrev main_call5_call0_call0_v154 : Ref sig .tc := ⟨.hbm, 2392, rfl⟩
abbrev main_call5_call0_call0_v155 : Ref sig .tc := ⟨.hbm, 2393, rfl⟩
abbrev main_call5_call0_call0_v156 : Ref sig .tc := ⟨.hbm, 2394, rfl⟩
abbrev main_call5_call0_call0_c_40 : Ref sig .tc := ⟨.hbm, 2395, rfl⟩
abbrev main_call5_call0_call0_v157 : Ref sig .tc := ⟨.hbm, 2396, rfl⟩
abbrev main_call5_call0_call0_v158 : Ref sig .tc := ⟨.hbm, 2397, rfl⟩
abbrev main_call5_call0_call0_c_41 : Ref sig .tc := ⟨.hbm, 2398, rfl⟩
abbrev main_call5_call0_call0_v159 : Ref sig .tc := ⟨.hbm, 2399, rfl⟩
abbrev main_call5_call0_call0_v160 : Ref sig .tc := ⟨.hbm, 2400, rfl⟩
abbrev main_call5_call0_call0_v161 : Ref sig .tc := ⟨.hbm, 2401, rfl⟩
abbrev main_call5_call0_call0_v162 : Ref sig .tc := ⟨.hbm, 2402, rfl⟩
abbrev main_call5_call0_call0_v163 : Ref sig .tc := ⟨.hbm, 2403, rfl⟩
abbrev main_call5_call0_call0_c_42 : Ref sig .tc := ⟨.hbm, 2404, rfl⟩
abbrev main_call5_call0_call0_v164 : Ref sig .tc := ⟨.hbm, 2405, rfl⟩
abbrev main_call5_call0_call0_v165 : Ref sig .tc := ⟨.hbm, 2406, rfl⟩
abbrev main_call5_call0_call0_c_43 : Ref sig .tc := ⟨.hbm, 2407, rfl⟩
abbrev main_call5_call0_call0_v166 : Ref sig .tc := ⟨.hbm, 2408, rfl⟩
abbrev main_call5_call0_call0_v167 : Ref sig .tc := ⟨.hbm, 2409, rfl⟩
abbrev main_call5_call0_call0_v168 : Ref sig .tc := ⟨.hbm, 2410, rfl⟩
abbrev main_call5_call0_call0_v169 : Ref sig .tc := ⟨.hbm, 2411, rfl⟩
abbrev main_call5_call0_call0_v170 : Ref sig .tc := ⟨.hbm, 2412, rfl⟩
abbrev main_call5_call0_v11_0 : Ref sig .tc := ⟨.hbm, 2413, rfl⟩
abbrev main_call5_call0_call0_v172 : Ref sig .tc := ⟨.hbm, 2414, rfl⟩
abbrev main_call5_call0_call0_v173 : Ref sig .tc := ⟨.hbm, 2415, rfl⟩
abbrev main_call5_call0_call0_c_44 : Ref sig .tc := ⟨.hbm, 2416, rfl⟩
abbrev main_call5_call0_call0_v174 : Ref sig .tc := ⟨.hbm, 2417, rfl⟩
abbrev main_call5_call0_v11_1 : Ref sig .tc := ⟨.hbm, 2418, rfl⟩
abbrev main_call5_call0_v12 : Ref sig .tc := ⟨.hbm, 2419, rfl⟩
abbrev main_call5_call0_v13 : Ref sig .tc := ⟨.hbm, 2420, rfl⟩
abbrev main_call5_v0 : Ref sig .tc := ⟨.hbm, 2421, rfl⟩
abbrev main_call5_v1 : Ref sig .tc := ⟨.hbm, 2422, rfl⟩
abbrev main_call5_v2 : Ref sig .tc := ⟨.hbm, 2423, rfl⟩
abbrev main_call5_v3 : Ref sig .tc := ⟨.hbm, 2424, rfl⟩
abbrev main_call5_v4 : Ref sig .tc := ⟨.hbm, 2425, rfl⟩
abbrev main_call5_v5 : Ref sig .tc := ⟨.hbm, 2426, rfl⟩
abbrev main_call5_v6 : Ref sig .tc := ⟨.hbm, 2427, rfl⟩
abbrev main_call5_v7 : Ref sig .tc := ⟨.hbm, 2428, rfl⟩
abbrev main_call5_v8 : Ref sig .tc := ⟨.hbm, 2429, rfl⟩
abbrev main_call5_v9 : Ref sig .tc := ⟨.hbm, 2430, rfl⟩
abbrev main_call5_c : Ref sig .tc := ⟨.hbm, 2431, rfl⟩
abbrev main_call5_v10 : Ref sig .tc := ⟨.hbm, 2432, rfl⟩
abbrev main_call5_v11 : Ref sig .tc := ⟨.hbm, 2433, rfl⟩
abbrev main_call5_c_0 : Ref sig .tc := ⟨.hbm, 2434, rfl⟩
abbrev main_call5_v12 : Ref sig .tc := ⟨.hbm, 2435, rfl⟩
abbrev main_call5_v13 : Ref sig .tc := ⟨.hbm, 2436, rfl⟩
abbrev main_call5_v14 : Ref sig .tc := ⟨.hbm, 2437, rfl⟩
abbrev main_call5_v15 : Ref sig .tc := ⟨.hbm, 2438, rfl⟩
abbrev main_call5_call1_v0 : Ref sig .tc := ⟨.hbm, 2439, rfl⟩
abbrev main_call5_call1_c : Ref sig .tc := ⟨.hbm, 2440, rfl⟩
abbrev main_call5_call1_v1 : Ref sig .tc := ⟨.hbm, 2441, rfl⟩
abbrev main_call5_call1_v2 : Ref sig .tc := ⟨.hbm, 2442, rfl⟩
abbrev main_call5_call1_v3 : Ref sig .tc := ⟨.hbm, 2443, rfl⟩
abbrev main_call5_call1_v4 : Ref sig .tc := ⟨.hbm, 2444, rfl⟩
abbrev main_call5_call1_v5 : Ref sig .tc := ⟨.hbm, 2445, rfl⟩
abbrev main_call5_call1_v6 : Ref sig .tc := ⟨.hbm, 2446, rfl⟩
abbrev main_call5_call1_c_0 : Ref sig .tc := ⟨.hbm, 2447, rfl⟩
abbrev main_call5_call1_v7 : Ref sig .tc := ⟨.hbm, 2448, rfl⟩
abbrev main_call5_call1_v8 : Ref sig .tc := ⟨.hbm, 2449, rfl⟩
abbrev main_call5_call1_c_1 : Ref sig .tc := ⟨.hbm, 2450, rfl⟩
abbrev main_call5_call1_v9 : Ref sig .tc := ⟨.hbm, 2451, rfl⟩
abbrev main_call5_call1_v10 : Ref sig .tc := ⟨.hbm, 2452, rfl⟩
abbrev main_call5_call1_v11 : Ref sig .tc := ⟨.hbm, 2453, rfl⟩
abbrev main_call5_call1_v12 : Ref sig .tc := ⟨.hbm, 2454, rfl⟩
abbrev main_call5_call1_v13 : Ref sig .tc := ⟨.hbm, 2455, rfl⟩
abbrev main_call5_call1_c_2 : Ref sig .tc := ⟨.hbm, 2456, rfl⟩
abbrev main_call5_call1_v14 : Ref sig .tc := ⟨.hbm, 2457, rfl⟩
abbrev main_call5_call1_v15 : Ref sig .tc := ⟨.hbm, 2458, rfl⟩
abbrev main_call5_call1_c_3 : Ref sig .tc := ⟨.hbm, 2459, rfl⟩
abbrev main_call5_call1_v16 : Ref sig .tc := ⟨.hbm, 2460, rfl⟩
abbrev main_call5_call1_v17 : Ref sig .tc := ⟨.hbm, 2461, rfl⟩
abbrev main_call5_call1_v18 : Ref sig .tc := ⟨.hbm, 2462, rfl⟩
abbrev main_call5_call1_v19 : Ref sig .tc := ⟨.hbm, 2463, rfl⟩
abbrev main_call5_call1_v20 : Ref sig .tc := ⟨.hbm, 2464, rfl⟩
abbrev main_call5_call1_c_4 : Ref sig .tc := ⟨.hbm, 2465, rfl⟩
abbrev main_call5_call1_v21 : Ref sig .tc := ⟨.hbm, 2466, rfl⟩
abbrev main_call5_call1_v22 : Ref sig .tc := ⟨.hbm, 2467, rfl⟩
abbrev main_call5_call1_c_5 : Ref sig .tc := ⟨.hbm, 2468, rfl⟩
abbrev main_call5_call1_v23 : Ref sig .tc := ⟨.hbm, 2469, rfl⟩
abbrev main_call5_call1_v24 : Ref sig .tc := ⟨.hbm, 2470, rfl⟩
abbrev main_call5_call1_v25 : Ref sig .tc := ⟨.hbm, 2471, rfl⟩
abbrev main_call5_call1_v26 : Ref sig .tc := ⟨.hbm, 2472, rfl⟩
abbrev main_call5_call1_v27 : Ref sig .tc := ⟨.hbm, 2473, rfl⟩
abbrev main_call5_call1_c_6 : Ref sig .tc := ⟨.hbm, 2474, rfl⟩
abbrev main_call5_call1_v28 : Ref sig .tc := ⟨.hbm, 2475, rfl⟩
abbrev main_call5_call1_v29 : Ref sig .tc := ⟨.hbm, 2476, rfl⟩
abbrev main_call5_call1_c_7 : Ref sig .tc := ⟨.hbm, 2477, rfl⟩
abbrev main_call5_call1_v30 : Ref sig .tc := ⟨.hbm, 2478, rfl⟩
abbrev main_call5_call1_v31 : Ref sig .tc := ⟨.hbm, 2479, rfl⟩
abbrev main_call5_call1_v32 : Ref sig .tc := ⟨.hbm, 2480, rfl⟩
abbrev main_call5_call1_v33 : Ref sig .tc := ⟨.hbm, 2481, rfl⟩
abbrev main_call5_call1_v34 : Ref sig .tc := ⟨.hbm, 2482, rfl⟩
abbrev main_call5_call1_v35 : Ref sig .tc := ⟨.hbm, 2483, rfl⟩
abbrev main_call5_call1_v36 : Ref sig .tc := ⟨.hbm, 2484, rfl⟩
abbrev main_call5_call1_v37 : Ref sig .tc := ⟨.hbm, 2485, rfl⟩
abbrev main_call5_call1_c_8 : Ref sig .tc := ⟨.hbm, 2486, rfl⟩
abbrev main_call5_call1_v38 : Ref sig .tc := ⟨.hbm, 2487, rfl⟩
abbrev main_call5_call1_v39 : Ref sig .tc := ⟨.hbm, 2488, rfl⟩
abbrev main_call5_call1_v40 : Ref sig .tc := ⟨.hbm, 2489, rfl⟩
abbrev main_call5_call1_c_9 : Ref sig .tc := ⟨.hbm, 2490, rfl⟩
abbrev main_call5_call1_v41 : Ref sig .tc := ⟨.hbm, 2491, rfl⟩
abbrev main_call5_call1_v42 : Ref sig .tc := ⟨.hbm, 2492, rfl⟩
abbrev main_call5_call1_c_10 : Ref sig .tc := ⟨.hbm, 2493, rfl⟩
abbrev main_call5_call1_v43 : Ref sig .tc := ⟨.hbm, 2494, rfl⟩
abbrev main_call5_call1_v44 : Ref sig .tc := ⟨.hbm, 2495, rfl⟩
abbrev main_call5_call1_v45 : Ref sig .tc := ⟨.hbm, 2496, rfl⟩
abbrev main_call5_call1_v46 : Ref sig .tc := ⟨.hbm, 2497, rfl⟩
abbrev main_call5_call1_v47 : Ref sig .tc := ⟨.hbm, 2498, rfl⟩
abbrev main_call5_call1_c_11 : Ref sig .tc := ⟨.hbm, 2499, rfl⟩
abbrev main_call5_call1_v48 : Ref sig .tc := ⟨.hbm, 2500, rfl⟩
abbrev main_call5_call1_v49 : Ref sig .tc := ⟨.hbm, 2501, rfl⟩
abbrev main_call5_call1_c_12 : Ref sig .tc := ⟨.hbm, 2502, rfl⟩
abbrev main_call5_call1_v50 : Ref sig .tc := ⟨.hbm, 2503, rfl⟩
abbrev main_call5_call1_v51 : Ref sig .tc := ⟨.hbm, 2504, rfl⟩
abbrev main_call5_call1_v52 : Ref sig .tc := ⟨.hbm, 2505, rfl⟩
abbrev main_call5_call1_v53 : Ref sig .tc := ⟨.hbm, 2506, rfl⟩
abbrev main_call5_call1_v54 : Ref sig .tc := ⟨.hbm, 2507, rfl⟩
abbrev main_call5_call1_c_13 : Ref sig .tc := ⟨.hbm, 2508, rfl⟩
abbrev main_call5_call1_v55 : Ref sig .tc := ⟨.hbm, 2509, rfl⟩
abbrev main_call5_call1_v56 : Ref sig .tc := ⟨.hbm, 2510, rfl⟩
abbrev main_call5_call1_c_14 : Ref sig .tc := ⟨.hbm, 2511, rfl⟩
abbrev main_call5_call1_v57 : Ref sig .tc := ⟨.hbm, 2512, rfl⟩
abbrev main_call5_call1_v58 : Ref sig .tc := ⟨.hbm, 2513, rfl⟩
abbrev main_call5_call1_v59 : Ref sig .tc := ⟨.hbm, 2514, rfl⟩
abbrev main_call5_call1_v60 : Ref sig .tc := ⟨.hbm, 2515, rfl⟩
abbrev main_call5_call1_v61 : Ref sig .tc := ⟨.hbm, 2516, rfl⟩
abbrev main_call5_call1_c_15 : Ref sig .tc := ⟨.hbm, 2517, rfl⟩
abbrev main_call5_call1_v62 : Ref sig .tc := ⟨.hbm, 2518, rfl⟩
abbrev main_call5_call1_v63 : Ref sig .tc := ⟨.hbm, 2519, rfl⟩
abbrev main_call5_call1_c_16 : Ref sig .tc := ⟨.hbm, 2520, rfl⟩
abbrev main_call5_call1_v64 : Ref sig .tc := ⟨.hbm, 2521, rfl⟩
abbrev main_call5_call1_v65 : Ref sig .tc := ⟨.hbm, 2522, rfl⟩
abbrev main_call5_call1_v66 : Ref sig .tc := ⟨.hbm, 2523, rfl⟩
abbrev main_call5_call1_v67 : Ref sig .tc := ⟨.hbm, 2524, rfl⟩
abbrev main_call5_call1_v68 : Ref sig .tc := ⟨.hbm, 2525, rfl⟩
abbrev main_call5_call1_v69 : Ref sig .tc := ⟨.hbm, 2526, rfl⟩
abbrev main_call5_call1_v70 : Ref sig .tc := ⟨.hbm, 2527, rfl⟩
abbrev main_call5_call1_v71 : Ref sig .tc := ⟨.hbm, 2528, rfl⟩
abbrev main_call5_call1_c_17 : Ref sig .tc := ⟨.hbm, 2529, rfl⟩
abbrev main_call5_call1_v72 : Ref sig .tc := ⟨.hbm, 2530, rfl⟩
abbrev main_call5_call1_v73 : Ref sig .tc := ⟨.hbm, 2531, rfl⟩
abbrev main_call5_call1_v74 : Ref sig .tc := ⟨.hbm, 2532, rfl⟩
abbrev main_call5_call1_c_18 : Ref sig .tc := ⟨.hbm, 2533, rfl⟩
abbrev main_call5_call1_v75 : Ref sig .tc := ⟨.hbm, 2534, rfl⟩
abbrev main_call5_call1_v76 : Ref sig .tc := ⟨.hbm, 2535, rfl⟩
abbrev main_call5_call1_c_19 : Ref sig .tc := ⟨.hbm, 2536, rfl⟩
abbrev main_call5_call1_v77 : Ref sig .tc := ⟨.hbm, 2537, rfl⟩
abbrev main_call5_call1_v78 : Ref sig .tc := ⟨.hbm, 2538, rfl⟩
abbrev main_call5_call1_v79 : Ref sig .tc := ⟨.hbm, 2539, rfl⟩
abbrev main_call5_call1_v80 : Ref sig .tc := ⟨.hbm, 2540, rfl⟩
abbrev main_call5_call1_v81 : Ref sig .tc := ⟨.hbm, 2541, rfl⟩
abbrev main_call5_call1_c_20 : Ref sig .tc := ⟨.hbm, 2542, rfl⟩
abbrev main_call5_call1_v82 : Ref sig .tc := ⟨.hbm, 2543, rfl⟩
abbrev main_call5_call1_v83 : Ref sig .tc := ⟨.hbm, 2544, rfl⟩
abbrev main_call5_call1_c_21 : Ref sig .tc := ⟨.hbm, 2545, rfl⟩
abbrev main_call5_call1_v84 : Ref sig .tc := ⟨.hbm, 2546, rfl⟩
abbrev main_call5_call1_v85 : Ref sig .tc := ⟨.hbm, 2547, rfl⟩
abbrev main_call5_call1_v86 : Ref sig .tc := ⟨.hbm, 2548, rfl⟩
abbrev main_call5_call1_v87 : Ref sig .tc := ⟨.hbm, 2549, rfl⟩
abbrev main_call5_call1_v88 : Ref sig .tc := ⟨.hbm, 2550, rfl⟩
abbrev main_call5_call1_c_22 : Ref sig .tc := ⟨.hbm, 2551, rfl⟩
abbrev main_call5_call1_v89 : Ref sig .tc := ⟨.hbm, 2552, rfl⟩
abbrev main_call5_call1_v90 : Ref sig .tc := ⟨.hbm, 2553, rfl⟩
abbrev main_call5_call1_c_23 : Ref sig .tc := ⟨.hbm, 2554, rfl⟩
abbrev main_call5_call1_v91 : Ref sig .tc := ⟨.hbm, 2555, rfl⟩
abbrev main_call5_call1_v92 : Ref sig .tc := ⟨.hbm, 2556, rfl⟩
abbrev main_call5_call1_v93 : Ref sig .tc := ⟨.hbm, 2557, rfl⟩
abbrev main_call5_call1_v94 : Ref sig .tc := ⟨.hbm, 2558, rfl⟩
abbrev main_call5_call1_v95 : Ref sig .tc := ⟨.hbm, 2559, rfl⟩
abbrev main_call5_call1_c_24 : Ref sig .tc := ⟨.hbm, 2560, rfl⟩
abbrev main_call5_call1_v96 : Ref sig .tc := ⟨.hbm, 2561, rfl⟩
abbrev main_call5_call1_v97 : Ref sig .tc := ⟨.hbm, 2562, rfl⟩
abbrev main_call5_call1_c_25 : Ref sig .tc := ⟨.hbm, 2563, rfl⟩
abbrev main_call5_call1_v98 : Ref sig .tc := ⟨.hbm, 2564, rfl⟩
abbrev main_call5_call1_v99 : Ref sig .tc := ⟨.hbm, 2565, rfl⟩
abbrev main_call5_call1_v100 : Ref sig .tc := ⟨.hbm, 2566, rfl⟩
abbrev main_call5_call1_v101 : Ref sig .tc := ⟨.hbm, 2567, rfl⟩
abbrev main_call5_call1_v102 : Ref sig .tc := ⟨.hbm, 2568, rfl⟩
abbrev main_call5_call1_v103 : Ref sig .tc := ⟨.hbm, 2569, rfl⟩
abbrev main_call5_call1_v104 : Ref sig .tc := ⟨.hbm, 2570, rfl⟩
abbrev main_call5_call1_v105 : Ref sig .tc := ⟨.hbm, 2571, rfl⟩
abbrev main_call5_call1_c_26 : Ref sig .tc := ⟨.hbm, 2572, rfl⟩
abbrev main_call5_call1_v106 : Ref sig .tc := ⟨.hbm, 2573, rfl⟩
abbrev main_call5_call1_v107 : Ref sig .tc := ⟨.hbm, 2574, rfl⟩
abbrev main_call5_call1_v108 : Ref sig .tc := ⟨.hbm, 2575, rfl⟩
abbrev main_call5_call1_c_27 : Ref sig .tc := ⟨.hbm, 2576, rfl⟩
abbrev main_call5_call1_v109 : Ref sig .tc := ⟨.hbm, 2577, rfl⟩
abbrev main_call5_call1_v110 : Ref sig .tc := ⟨.hbm, 2578, rfl⟩
abbrev main_call5_call1_c_28 : Ref sig .tc := ⟨.hbm, 2579, rfl⟩
abbrev main_call5_call1_v111 : Ref sig .tc := ⟨.hbm, 2580, rfl⟩
abbrev main_call5_call1_v112 : Ref sig .tc := ⟨.hbm, 2581, rfl⟩
abbrev main_call5_call1_v113 : Ref sig .tc := ⟨.hbm, 2582, rfl⟩
abbrev main_call5_call1_v114 : Ref sig .tc := ⟨.hbm, 2583, rfl⟩
abbrev main_call5_call1_v115 : Ref sig .tc := ⟨.hbm, 2584, rfl⟩
abbrev main_call5_call1_c_29 : Ref sig .tc := ⟨.hbm, 2585, rfl⟩
abbrev main_call5_call1_v116 : Ref sig .tc := ⟨.hbm, 2586, rfl⟩
abbrev main_call5_call1_v117 : Ref sig .tc := ⟨.hbm, 2587, rfl⟩
abbrev main_call5_call1_c_30 : Ref sig .tc := ⟨.hbm, 2588, rfl⟩
abbrev main_call5_call1_v118 : Ref sig .tc := ⟨.hbm, 2589, rfl⟩
abbrev main_call5_call1_v119 : Ref sig .tc := ⟨.hbm, 2590, rfl⟩
abbrev main_call5_call1_v120 : Ref sig .tc := ⟨.hbm, 2591, rfl⟩
abbrev main_call5_call1_v121 : Ref sig .tc := ⟨.hbm, 2592, rfl⟩
abbrev main_call5_call1_v122 : Ref sig .tc := ⟨.hbm, 2593, rfl⟩
abbrev main_call5_call1_c_31 : Ref sig .tc := ⟨.hbm, 2594, rfl⟩
abbrev main_call5_call1_v123 : Ref sig .tc := ⟨.hbm, 2595, rfl⟩
abbrev main_call5_call1_v124 : Ref sig .tc := ⟨.hbm, 2596, rfl⟩
abbrev main_call5_call1_c_32 : Ref sig .tc := ⟨.hbm, 2597, rfl⟩
abbrev main_call5_call1_v125 : Ref sig .tc := ⟨.hbm, 2598, rfl⟩
abbrev main_call5_call1_v126 : Ref sig .tc := ⟨.hbm, 2599, rfl⟩
abbrev main_call5_call1_v127 : Ref sig .tc := ⟨.hbm, 2600, rfl⟩
abbrev main_call5_call1_v128 : Ref sig .tc := ⟨.hbm, 2601, rfl⟩
abbrev main_call5_call1_v129 : Ref sig .tc := ⟨.hbm, 2602, rfl⟩
abbrev main_call5_call1_c_33 : Ref sig .tc := ⟨.hbm, 2603, rfl⟩
abbrev main_call5_call1_v130 : Ref sig .tc := ⟨.hbm, 2604, rfl⟩
abbrev main_call5_call1_v131 : Ref sig .tc := ⟨.hbm, 2605, rfl⟩
abbrev main_call5_call1_c_34 : Ref sig .tc := ⟨.hbm, 2606, rfl⟩
abbrev main_call5_call1_v132 : Ref sig .tc := ⟨.hbm, 2607, rfl⟩
abbrev main_call5_call1_v133 : Ref sig .tc := ⟨.hbm, 2608, rfl⟩
abbrev main_call5_call1_v134 : Ref sig .tc := ⟨.hbm, 2609, rfl⟩
abbrev main_call5_call1_v135 : Ref sig .tc := ⟨.hbm, 2610, rfl⟩
abbrev main_call5_call1_v136 : Ref sig .tc := ⟨.hbm, 2611, rfl⟩
abbrev main_call5_call1_v137 : Ref sig .tc := ⟨.hbm, 2612, rfl⟩
abbrev main_call5_call1_v138 : Ref sig .tc := ⟨.hbm, 2613, rfl⟩
abbrev main_call5_call1_v139 : Ref sig .tc := ⟨.hbm, 2614, rfl⟩
abbrev main_call5_call1_c_35 : Ref sig .tc := ⟨.hbm, 2615, rfl⟩
abbrev main_call5_call1_v140 : Ref sig .tc := ⟨.hbm, 2616, rfl⟩
abbrev main_call5_call1_v141 : Ref sig .tc := ⟨.hbm, 2617, rfl⟩
abbrev main_call5_call1_v142 : Ref sig .tc := ⟨.hbm, 2618, rfl⟩
abbrev main_call5_call1_c_36 : Ref sig .tc := ⟨.hbm, 2619, rfl⟩
abbrev main_call5_call1_v143 : Ref sig .tc := ⟨.hbm, 2620, rfl⟩
abbrev main_call5_call1_v144 : Ref sig .tc := ⟨.hbm, 2621, rfl⟩
abbrev main_call5_call1_c_37 : Ref sig .tc := ⟨.hbm, 2622, rfl⟩
abbrev main_call5_call1_v145 : Ref sig .tc := ⟨.hbm, 2623, rfl⟩
abbrev main_call5_call1_v146 : Ref sig .tc := ⟨.hbm, 2624, rfl⟩
abbrev main_call5_call1_v147 : Ref sig .tc := ⟨.hbm, 2625, rfl⟩
abbrev main_call5_call1_v148 : Ref sig .tc := ⟨.hbm, 2626, rfl⟩
abbrev main_call5_call1_v149 : Ref sig .tc := ⟨.hbm, 2627, rfl⟩
abbrev main_call5_call1_c_38 : Ref sig .tc := ⟨.hbm, 2628, rfl⟩
abbrev main_call5_call1_v150 : Ref sig .tc := ⟨.hbm, 2629, rfl⟩
abbrev main_call5_call1_v151 : Ref sig .tc := ⟨.hbm, 2630, rfl⟩
abbrev main_call5_call1_c_39 : Ref sig .tc := ⟨.hbm, 2631, rfl⟩
abbrev main_call5_call1_v152 : Ref sig .tc := ⟨.hbm, 2632, rfl⟩
abbrev main_call5_call1_v153 : Ref sig .tc := ⟨.hbm, 2633, rfl⟩
abbrev main_call5_call1_v154 : Ref sig .tc := ⟨.hbm, 2634, rfl⟩
abbrev main_call5_call1_v155 : Ref sig .tc := ⟨.hbm, 2635, rfl⟩
abbrev main_call5_call1_v156 : Ref sig .tc := ⟨.hbm, 2636, rfl⟩
abbrev main_call5_call1_c_40 : Ref sig .tc := ⟨.hbm, 2637, rfl⟩
abbrev main_call5_call1_v157 : Ref sig .tc := ⟨.hbm, 2638, rfl⟩
abbrev main_call5_call1_v158 : Ref sig .tc := ⟨.hbm, 2639, rfl⟩
abbrev main_call5_call1_c_41 : Ref sig .tc := ⟨.hbm, 2640, rfl⟩
abbrev main_call5_call1_v159 : Ref sig .tc := ⟨.hbm, 2641, rfl⟩
abbrev main_call5_call1_v160 : Ref sig .tc := ⟨.hbm, 2642, rfl⟩
abbrev main_call5_call1_v161 : Ref sig .tc := ⟨.hbm, 2643, rfl⟩
abbrev main_call5_call1_v162 : Ref sig .tc := ⟨.hbm, 2644, rfl⟩
abbrev main_call5_call1_v163 : Ref sig .tc := ⟨.hbm, 2645, rfl⟩
abbrev main_call5_call1_c_42 : Ref sig .tc := ⟨.hbm, 2646, rfl⟩
abbrev main_call5_call1_v164 : Ref sig .tc := ⟨.hbm, 2647, rfl⟩
abbrev main_call5_call1_v165 : Ref sig .tc := ⟨.hbm, 2648, rfl⟩
abbrev main_call5_call1_c_43 : Ref sig .tc := ⟨.hbm, 2649, rfl⟩
abbrev main_call5_call1_v166 : Ref sig .tc := ⟨.hbm, 2650, rfl⟩
abbrev main_call5_call1_v167 : Ref sig .tc := ⟨.hbm, 2651, rfl⟩
abbrev main_call5_call1_v168 : Ref sig .tc := ⟨.hbm, 2652, rfl⟩
abbrev main_call5_call1_v169 : Ref sig .tc := ⟨.hbm, 2653, rfl⟩
abbrev main_call5_call1_v170 : Ref sig .tc := ⟨.hbm, 2654, rfl⟩
abbrev main_call5_v16_0 : Ref sig .tc := ⟨.hbm, 2655, rfl⟩
abbrev main_call5_call1_v172 : Ref sig .tc := ⟨.hbm, 2656, rfl⟩
abbrev main_call5_call1_v173 : Ref sig .tc := ⟨.hbm, 2657, rfl⟩
abbrev main_call5_call1_c_44 : Ref sig .tc := ⟨.hbm, 2658, rfl⟩
abbrev main_call5_call1_v174 : Ref sig .tc := ⟨.hbm, 2659, rfl⟩
abbrev main_call5_v16_1 : Ref sig .tc := ⟨.hbm, 2660, rfl⟩
abbrev main_call5_v17 : Ref sig .tc := ⟨.hbm, 2661, rfl⟩
abbrev main_call5_v18_0 : Ref sig .tc := ⟨.hbm, 2662, rfl⟩
abbrev main_v27 : Ref sig .tc := ⟨.hbm, 2663, rfl⟩
abbrev main_v28 : Ref sig .tc := ⟨.hbm, 2664, rfl⟩
abbrev main_v29 : Ref sig .tc := ⟨.hbm, 2665, rfl⟩
abbrev main_v30 : Ref sig .tc := ⟨.hbm, 2666, rfl⟩
abbrev main_call6_call0_v0 : Ref sig .tc := ⟨.hbm, 2667, rfl⟩
abbrev main_call6_call0_v1 : Ref sig .tc := ⟨.hbm, 2668, rfl⟩
abbrev main_call6_call0_v2 : Ref sig .tc := ⟨.hbm, 2669, rfl⟩
abbrev main_call6_call0_v3 : Ref sig .tc := ⟨.hbm, 2670, rfl⟩
abbrev main_call6_call0_v4 : Ref sig .tc := ⟨.hbm, 2671, rfl⟩
abbrev main_call6_call0_c : Ref sig .tc := ⟨.hbm, 2672, rfl⟩
abbrev main_call6_call0_v5 : Ref sig .tc := ⟨.hbm, 2673, rfl⟩
abbrev main_call6_call0_v6 : Ref sig .tc := ⟨.hbm, 2674, rfl⟩
abbrev main_call6_call0_c_0 : Ref sig .tc := ⟨.hbm, 2675, rfl⟩
abbrev main_call6_call0_v7 : Ref sig .tc := ⟨.hbm, 2676, rfl⟩
abbrev main_call6_call0_v8 : Ref sig .tc := ⟨.hbm, 2677, rfl⟩
abbrev main_call6_call0_v9 : Ref sig .tc := ⟨.hbm, 2678, rfl⟩
abbrev main_call6_call0_v10 : Ref sig .tc := ⟨.hbm, 2679, rfl⟩
abbrev main_call6_call0_call0_v0 : Ref sig .tc := ⟨.hbm, 2680, rfl⟩
abbrev main_call6_call0_call0_c : Ref sig .tc := ⟨.hbm, 2681, rfl⟩
abbrev main_call6_call0_call0_v1 : Ref sig .tc := ⟨.hbm, 2682, rfl⟩
abbrev main_call6_call0_call0_v2 : Ref sig .tc := ⟨.hbm, 2683, rfl⟩
abbrev main_call6_call0_call0_v3 : Ref sig .tc := ⟨.hbm, 2684, rfl⟩
abbrev main_call6_call0_call0_v4 : Ref sig .tc := ⟨.hbm, 2685, rfl⟩
abbrev main_call6_call0_call0_v5 : Ref sig .tc := ⟨.hbm, 2686, rfl⟩
abbrev main_call6_call0_call0_v6 : Ref sig .tc := ⟨.hbm, 2687, rfl⟩
abbrev main_call6_call0_call0_c_0 : Ref sig .tc := ⟨.hbm, 2688, rfl⟩
abbrev main_call6_call0_call0_v7 : Ref sig .tc := ⟨.hbm, 2689, rfl⟩
abbrev main_call6_call0_call0_v8 : Ref sig .tc := ⟨.hbm, 2690, rfl⟩
abbrev main_call6_call0_call0_c_1 : Ref sig .tc := ⟨.hbm, 2691, rfl⟩
abbrev main_call6_call0_call0_v9 : Ref sig .tc := ⟨.hbm, 2692, rfl⟩
abbrev main_call6_call0_call0_v10 : Ref sig .tc := ⟨.hbm, 2693, rfl⟩
abbrev main_call6_call0_call0_v11 : Ref sig .tc := ⟨.hbm, 2694, rfl⟩
abbrev main_call6_call0_call0_v12 : Ref sig .tc := ⟨.hbm, 2695, rfl⟩
abbrev main_call6_call0_call0_v13 : Ref sig .tc := ⟨.hbm, 2696, rfl⟩
abbrev main_call6_call0_call0_c_2 : Ref sig .tc := ⟨.hbm, 2697, rfl⟩
abbrev main_call6_call0_call0_v14 : Ref sig .tc := ⟨.hbm, 2698, rfl⟩
abbrev main_call6_call0_call0_v15 : Ref sig .tc := ⟨.hbm, 2699, rfl⟩
abbrev main_call6_call0_call0_c_3 : Ref sig .tc := ⟨.hbm, 2700, rfl⟩
abbrev main_call6_call0_call0_v16 : Ref sig .tc := ⟨.hbm, 2701, rfl⟩
abbrev main_call6_call0_call0_v17 : Ref sig .tc := ⟨.hbm, 2702, rfl⟩
abbrev main_call6_call0_call0_v18 : Ref sig .tc := ⟨.hbm, 2703, rfl⟩
abbrev main_call6_call0_call0_v19 : Ref sig .tc := ⟨.hbm, 2704, rfl⟩
abbrev main_call6_call0_call0_v20 : Ref sig .tc := ⟨.hbm, 2705, rfl⟩
abbrev main_call6_call0_call0_c_4 : Ref sig .tc := ⟨.hbm, 2706, rfl⟩
abbrev main_call6_call0_call0_v21 : Ref sig .tc := ⟨.hbm, 2707, rfl⟩
abbrev main_call6_call0_call0_v22 : Ref sig .tc := ⟨.hbm, 2708, rfl⟩
abbrev main_call6_call0_call0_c_5 : Ref sig .tc := ⟨.hbm, 2709, rfl⟩
abbrev main_call6_call0_call0_v23 : Ref sig .tc := ⟨.hbm, 2710, rfl⟩
abbrev main_call6_call0_call0_v24 : Ref sig .tc := ⟨.hbm, 2711, rfl⟩
abbrev main_call6_call0_call0_v25 : Ref sig .tc := ⟨.hbm, 2712, rfl⟩
abbrev main_call6_call0_call0_v26 : Ref sig .tc := ⟨.hbm, 2713, rfl⟩
abbrev main_call6_call0_call0_v27 : Ref sig .tc := ⟨.hbm, 2714, rfl⟩
abbrev main_call6_call0_call0_c_6 : Ref sig .tc := ⟨.hbm, 2715, rfl⟩
abbrev main_call6_call0_call0_v28 : Ref sig .tc := ⟨.hbm, 2716, rfl⟩
abbrev main_call6_call0_call0_v29 : Ref sig .tc := ⟨.hbm, 2717, rfl⟩
abbrev main_call6_call0_call0_c_7 : Ref sig .tc := ⟨.hbm, 2718, rfl⟩
abbrev main_call6_call0_call0_v30 : Ref sig .tc := ⟨.hbm, 2719, rfl⟩
abbrev main_call6_call0_call0_v31 : Ref sig .tc := ⟨.hbm, 2720, rfl⟩
abbrev main_call6_call0_call0_v32 : Ref sig .tc := ⟨.hbm, 2721, rfl⟩
abbrev main_call6_call0_call0_v33 : Ref sig .tc := ⟨.hbm, 2722, rfl⟩
abbrev main_call6_call0_call0_v34 : Ref sig .tc := ⟨.hbm, 2723, rfl⟩
abbrev main_call6_call0_call0_v35 : Ref sig .tc := ⟨.hbm, 2724, rfl⟩
abbrev main_call6_call0_call0_v36 : Ref sig .tc := ⟨.hbm, 2725, rfl⟩
abbrev main_call6_call0_call0_v37 : Ref sig .tc := ⟨.hbm, 2726, rfl⟩
abbrev main_call6_call0_call0_c_8 : Ref sig .tc := ⟨.hbm, 2727, rfl⟩
abbrev main_call6_call0_call0_v38 : Ref sig .tc := ⟨.hbm, 2728, rfl⟩
abbrev main_call6_call0_call0_v39 : Ref sig .tc := ⟨.hbm, 2729, rfl⟩
abbrev main_call6_call0_call0_v40 : Ref sig .tc := ⟨.hbm, 2730, rfl⟩
abbrev main_call6_call0_call0_c_9 : Ref sig .tc := ⟨.hbm, 2731, rfl⟩
abbrev main_call6_call0_call0_v41 : Ref sig .tc := ⟨.hbm, 2732, rfl⟩
abbrev main_call6_call0_call0_v42 : Ref sig .tc := ⟨.hbm, 2733, rfl⟩
abbrev main_call6_call0_call0_c_10 : Ref sig .tc := ⟨.hbm, 2734, rfl⟩
abbrev main_call6_call0_call0_v43 : Ref sig .tc := ⟨.hbm, 2735, rfl⟩
abbrev main_call6_call0_call0_v44 : Ref sig .tc := ⟨.hbm, 2736, rfl⟩
abbrev main_call6_call0_call0_v45 : Ref sig .tc := ⟨.hbm, 2737, rfl⟩
abbrev main_call6_call0_call0_v46 : Ref sig .tc := ⟨.hbm, 2738, rfl⟩
abbrev main_call6_call0_call0_v47 : Ref sig .tc := ⟨.hbm, 2739, rfl⟩
abbrev main_call6_call0_call0_c_11 : Ref sig .tc := ⟨.hbm, 2740, rfl⟩
abbrev main_call6_call0_call0_v48 : Ref sig .tc := ⟨.hbm, 2741, rfl⟩
abbrev main_call6_call0_call0_v49 : Ref sig .tc := ⟨.hbm, 2742, rfl⟩
abbrev main_call6_call0_call0_c_12 : Ref sig .tc := ⟨.hbm, 2743, rfl⟩
abbrev main_call6_call0_call0_v50 : Ref sig .tc := ⟨.hbm, 2744, rfl⟩
abbrev main_call6_call0_call0_v51 : Ref sig .tc := ⟨.hbm, 2745, rfl⟩
abbrev main_call6_call0_call0_v52 : Ref sig .tc := ⟨.hbm, 2746, rfl⟩
abbrev main_call6_call0_call0_v53 : Ref sig .tc := ⟨.hbm, 2747, rfl⟩
abbrev main_call6_call0_call0_v54 : Ref sig .tc := ⟨.hbm, 2748, rfl⟩
abbrev main_call6_call0_call0_c_13 : Ref sig .tc := ⟨.hbm, 2749, rfl⟩
abbrev main_call6_call0_call0_v55 : Ref sig .tc := ⟨.hbm, 2750, rfl⟩
abbrev main_call6_call0_call0_v56 : Ref sig .tc := ⟨.hbm, 2751, rfl⟩
abbrev main_call6_call0_call0_c_14 : Ref sig .tc := ⟨.hbm, 2752, rfl⟩
abbrev main_call6_call0_call0_v57 : Ref sig .tc := ⟨.hbm, 2753, rfl⟩
abbrev main_call6_call0_call0_v58 : Ref sig .tc := ⟨.hbm, 2754, rfl⟩
abbrev main_call6_call0_call0_v59 : Ref sig .tc := ⟨.hbm, 2755, rfl⟩
abbrev main_call6_call0_call0_v60 : Ref sig .tc := ⟨.hbm, 2756, rfl⟩
abbrev main_call6_call0_call0_v61 : Ref sig .tc := ⟨.hbm, 2757, rfl⟩
abbrev main_call6_call0_call0_c_15 : Ref sig .tc := ⟨.hbm, 2758, rfl⟩
abbrev main_call6_call0_call0_v62 : Ref sig .tc := ⟨.hbm, 2759, rfl⟩
abbrev main_call6_call0_call0_v63 : Ref sig .tc := ⟨.hbm, 2760, rfl⟩
abbrev main_call6_call0_call0_c_16 : Ref sig .tc := ⟨.hbm, 2761, rfl⟩
abbrev main_call6_call0_call0_v64 : Ref sig .tc := ⟨.hbm, 2762, rfl⟩
abbrev main_call6_call0_call0_v65 : Ref sig .tc := ⟨.hbm, 2763, rfl⟩
abbrev main_call6_call0_call0_v66 : Ref sig .tc := ⟨.hbm, 2764, rfl⟩
abbrev main_call6_call0_call0_v67 : Ref sig .tc := ⟨.hbm, 2765, rfl⟩
abbrev main_call6_call0_call0_v68 : Ref sig .tc := ⟨.hbm, 2766, rfl⟩
abbrev main_call6_call0_call0_v69 : Ref sig .tc := ⟨.hbm, 2767, rfl⟩
abbrev main_call6_call0_call0_v70 : Ref sig .tc := ⟨.hbm, 2768, rfl⟩
abbrev main_call6_call0_call0_v71 : Ref sig .tc := ⟨.hbm, 2769, rfl⟩
abbrev main_call6_call0_call0_c_17 : Ref sig .tc := ⟨.hbm, 2770, rfl⟩
abbrev main_call6_call0_call0_v72 : Ref sig .tc := ⟨.hbm, 2771, rfl⟩
abbrev main_call6_call0_call0_v73 : Ref sig .tc := ⟨.hbm, 2772, rfl⟩
abbrev main_call6_call0_call0_v74 : Ref sig .tc := ⟨.hbm, 2773, rfl⟩
abbrev main_call6_call0_call0_c_18 : Ref sig .tc := ⟨.hbm, 2774, rfl⟩
abbrev main_call6_call0_call0_v75 : Ref sig .tc := ⟨.hbm, 2775, rfl⟩
abbrev main_call6_call0_call0_v76 : Ref sig .tc := ⟨.hbm, 2776, rfl⟩
abbrev main_call6_call0_call0_c_19 : Ref sig .tc := ⟨.hbm, 2777, rfl⟩
abbrev main_call6_call0_call0_v77 : Ref sig .tc := ⟨.hbm, 2778, rfl⟩
abbrev main_call6_call0_call0_v78 : Ref sig .tc := ⟨.hbm, 2779, rfl⟩
abbrev main_call6_call0_call0_v79 : Ref sig .tc := ⟨.hbm, 2780, rfl⟩
abbrev main_call6_call0_call0_v80 : Ref sig .tc := ⟨.hbm, 2781, rfl⟩
abbrev main_call6_call0_call0_v81 : Ref sig .tc := ⟨.hbm, 2782, rfl⟩
abbrev main_call6_call0_call0_c_20 : Ref sig .tc := ⟨.hbm, 2783, rfl⟩
abbrev main_call6_call0_call0_v82 : Ref sig .tc := ⟨.hbm, 2784, rfl⟩
abbrev main_call6_call0_call0_v83 : Ref sig .tc := ⟨.hbm, 2785, rfl⟩
abbrev main_call6_call0_call0_c_21 : Ref sig .tc := ⟨.hbm, 2786, rfl⟩
abbrev main_call6_call0_call0_v84 : Ref sig .tc := ⟨.hbm, 2787, rfl⟩
abbrev main_call6_call0_call0_v85 : Ref sig .tc := ⟨.hbm, 2788, rfl⟩
abbrev main_call6_call0_call0_v86 : Ref sig .tc := ⟨.hbm, 2789, rfl⟩
abbrev main_call6_call0_call0_v87 : Ref sig .tc := ⟨.hbm, 2790, rfl⟩
abbrev main_call6_call0_call0_v88 : Ref sig .tc := ⟨.hbm, 2791, rfl⟩
abbrev main_call6_call0_call0_c_22 : Ref sig .tc := ⟨.hbm, 2792, rfl⟩
abbrev main_call6_call0_call0_v89 : Ref sig .tc := ⟨.hbm, 2793, rfl⟩
abbrev main_call6_call0_call0_v90 : Ref sig .tc := ⟨.hbm, 2794, rfl⟩
abbrev main_call6_call0_call0_c_23 : Ref sig .tc := ⟨.hbm, 2795, rfl⟩
abbrev main_call6_call0_call0_v91 : Ref sig .tc := ⟨.hbm, 2796, rfl⟩
abbrev main_call6_call0_call0_v92 : Ref sig .tc := ⟨.hbm, 2797, rfl⟩
abbrev main_call6_call0_call0_v93 : Ref sig .tc := ⟨.hbm, 2798, rfl⟩
abbrev main_call6_call0_call0_v94 : Ref sig .tc := ⟨.hbm, 2799, rfl⟩
abbrev main_call6_call0_call0_v95 : Ref sig .tc := ⟨.hbm, 2800, rfl⟩
abbrev main_call6_call0_call0_c_24 : Ref sig .tc := ⟨.hbm, 2801, rfl⟩
abbrev main_call6_call0_call0_v96 : Ref sig .tc := ⟨.hbm, 2802, rfl⟩
abbrev main_call6_call0_call0_v97 : Ref sig .tc := ⟨.hbm, 2803, rfl⟩
abbrev main_call6_call0_call0_c_25 : Ref sig .tc := ⟨.hbm, 2804, rfl⟩
abbrev main_call6_call0_call0_v98 : Ref sig .tc := ⟨.hbm, 2805, rfl⟩
abbrev main_call6_call0_call0_v99 : Ref sig .tc := ⟨.hbm, 2806, rfl⟩
abbrev main_call6_call0_call0_v100 : Ref sig .tc := ⟨.hbm, 2807, rfl⟩
abbrev main_call6_call0_call0_v101 : Ref sig .tc := ⟨.hbm, 2808, rfl⟩
abbrev main_call6_call0_call0_v102 : Ref sig .tc := ⟨.hbm, 2809, rfl⟩
abbrev main_call6_call0_call0_v103 : Ref sig .tc := ⟨.hbm, 2810, rfl⟩
abbrev main_call6_call0_call0_v104 : Ref sig .tc := ⟨.hbm, 2811, rfl⟩
abbrev main_call6_call0_call0_v105 : Ref sig .tc := ⟨.hbm, 2812, rfl⟩
abbrev main_call6_call0_call0_c_26 : Ref sig .tc := ⟨.hbm, 2813, rfl⟩
abbrev main_call6_call0_call0_v106 : Ref sig .tc := ⟨.hbm, 2814, rfl⟩
abbrev main_call6_call0_call0_v107 : Ref sig .tc := ⟨.hbm, 2815, rfl⟩
abbrev main_call6_call0_call0_v108 : Ref sig .tc := ⟨.hbm, 2816, rfl⟩
abbrev main_call6_call0_call0_c_27 : Ref sig .tc := ⟨.hbm, 2817, rfl⟩
abbrev main_call6_call0_call0_v109 : Ref sig .tc := ⟨.hbm, 2818, rfl⟩
abbrev main_call6_call0_call0_v110 : Ref sig .tc := ⟨.hbm, 2819, rfl⟩
abbrev main_call6_call0_call0_c_28 : Ref sig .tc := ⟨.hbm, 2820, rfl⟩
abbrev main_call6_call0_call0_v111 : Ref sig .tc := ⟨.hbm, 2821, rfl⟩
abbrev main_call6_call0_call0_v112 : Ref sig .tc := ⟨.hbm, 2822, rfl⟩
abbrev main_call6_call0_call0_v113 : Ref sig .tc := ⟨.hbm, 2823, rfl⟩
abbrev main_call6_call0_call0_v114 : Ref sig .tc := ⟨.hbm, 2824, rfl⟩
abbrev main_call6_call0_call0_v115 : Ref sig .tc := ⟨.hbm, 2825, rfl⟩
abbrev main_call6_call0_call0_c_29 : Ref sig .tc := ⟨.hbm, 2826, rfl⟩
abbrev main_call6_call0_call0_v116 : Ref sig .tc := ⟨.hbm, 2827, rfl⟩
abbrev main_call6_call0_call0_v117 : Ref sig .tc := ⟨.hbm, 2828, rfl⟩
abbrev main_call6_call0_call0_c_30 : Ref sig .tc := ⟨.hbm, 2829, rfl⟩
abbrev main_call6_call0_call0_v118 : Ref sig .tc := ⟨.hbm, 2830, rfl⟩
abbrev main_call6_call0_call0_v119 : Ref sig .tc := ⟨.hbm, 2831, rfl⟩
abbrev main_call6_call0_call0_v120 : Ref sig .tc := ⟨.hbm, 2832, rfl⟩
abbrev main_call6_call0_call0_v121 : Ref sig .tc := ⟨.hbm, 2833, rfl⟩
abbrev main_call6_call0_call0_v122 : Ref sig .tc := ⟨.hbm, 2834, rfl⟩
abbrev main_call6_call0_call0_c_31 : Ref sig .tc := ⟨.hbm, 2835, rfl⟩
abbrev main_call6_call0_call0_v123 : Ref sig .tc := ⟨.hbm, 2836, rfl⟩
abbrev main_call6_call0_call0_v124 : Ref sig .tc := ⟨.hbm, 2837, rfl⟩
abbrev main_call6_call0_call0_c_32 : Ref sig .tc := ⟨.hbm, 2838, rfl⟩
abbrev main_call6_call0_call0_v125 : Ref sig .tc := ⟨.hbm, 2839, rfl⟩
abbrev main_call6_call0_call0_v126 : Ref sig .tc := ⟨.hbm, 2840, rfl⟩
abbrev main_call6_call0_call0_v127 : Ref sig .tc := ⟨.hbm, 2841, rfl⟩
abbrev main_call6_call0_call0_v128 : Ref sig .tc := ⟨.hbm, 2842, rfl⟩
abbrev main_call6_call0_call0_v129 : Ref sig .tc := ⟨.hbm, 2843, rfl⟩
abbrev main_call6_call0_call0_c_33 : Ref sig .tc := ⟨.hbm, 2844, rfl⟩
abbrev main_call6_call0_call0_v130 : Ref sig .tc := ⟨.hbm, 2845, rfl⟩
abbrev main_call6_call0_call0_v131 : Ref sig .tc := ⟨.hbm, 2846, rfl⟩
abbrev main_call6_call0_call0_c_34 : Ref sig .tc := ⟨.hbm, 2847, rfl⟩
abbrev main_call6_call0_call0_v132 : Ref sig .tc := ⟨.hbm, 2848, rfl⟩
abbrev main_call6_call0_call0_v133 : Ref sig .tc := ⟨.hbm, 2849, rfl⟩
abbrev main_call6_call0_call0_v134 : Ref sig .tc := ⟨.hbm, 2850, rfl⟩
abbrev main_call6_call0_call0_v135 : Ref sig .tc := ⟨.hbm, 2851, rfl⟩
abbrev main_call6_call0_call0_v136 : Ref sig .tc := ⟨.hbm, 2852, rfl⟩
abbrev main_call6_call0_call0_v137 : Ref sig .tc := ⟨.hbm, 2853, rfl⟩
abbrev main_call6_call0_call0_v138 : Ref sig .tc := ⟨.hbm, 2854, rfl⟩
abbrev main_call6_call0_call0_v139 : Ref sig .tc := ⟨.hbm, 2855, rfl⟩
abbrev main_call6_call0_call0_c_35 : Ref sig .tc := ⟨.hbm, 2856, rfl⟩
abbrev main_call6_call0_call0_v140 : Ref sig .tc := ⟨.hbm, 2857, rfl⟩
abbrev main_call6_call0_call0_v141 : Ref sig .tc := ⟨.hbm, 2858, rfl⟩
abbrev main_call6_call0_call0_v142 : Ref sig .tc := ⟨.hbm, 2859, rfl⟩
abbrev main_call6_call0_call0_c_36 : Ref sig .tc := ⟨.hbm, 2860, rfl⟩
abbrev main_call6_call0_call0_v143 : Ref sig .tc := ⟨.hbm, 2861, rfl⟩
abbrev main_call6_call0_call0_v144 : Ref sig .tc := ⟨.hbm, 2862, rfl⟩
abbrev main_call6_call0_call0_c_37 : Ref sig .tc := ⟨.hbm, 2863, rfl⟩
abbrev main_call6_call0_call0_v145 : Ref sig .tc := ⟨.hbm, 2864, rfl⟩
abbrev main_call6_call0_call0_v146 : Ref sig .tc := ⟨.hbm, 2865, rfl⟩
abbrev main_call6_call0_call0_v147 : Ref sig .tc := ⟨.hbm, 2866, rfl⟩
abbrev main_call6_call0_call0_v148 : Ref sig .tc := ⟨.hbm, 2867, rfl⟩
abbrev main_call6_call0_call0_v149 : Ref sig .tc := ⟨.hbm, 2868, rfl⟩
abbrev main_call6_call0_call0_c_38 : Ref sig .tc := ⟨.hbm, 2869, rfl⟩
abbrev main_call6_call0_call0_v150 : Ref sig .tc := ⟨.hbm, 2870, rfl⟩
abbrev main_call6_call0_call0_v151 : Ref sig .tc := ⟨.hbm, 2871, rfl⟩
abbrev main_call6_call0_call0_c_39 : Ref sig .tc := ⟨.hbm, 2872, rfl⟩
abbrev main_call6_call0_call0_v152 : Ref sig .tc := ⟨.hbm, 2873, rfl⟩
abbrev main_call6_call0_call0_v153 : Ref sig .tc := ⟨.hbm, 2874, rfl⟩
abbrev main_call6_call0_call0_v154 : Ref sig .tc := ⟨.hbm, 2875, rfl⟩
abbrev main_call6_call0_call0_v155 : Ref sig .tc := ⟨.hbm, 2876, rfl⟩
abbrev main_call6_call0_call0_v156 : Ref sig .tc := ⟨.hbm, 2877, rfl⟩
abbrev main_call6_call0_call0_c_40 : Ref sig .tc := ⟨.hbm, 2878, rfl⟩
abbrev main_call6_call0_call0_v157 : Ref sig .tc := ⟨.hbm, 2879, rfl⟩
abbrev main_call6_call0_call0_v158 : Ref sig .tc := ⟨.hbm, 2880, rfl⟩
abbrev main_call6_call0_call0_c_41 : Ref sig .tc := ⟨.hbm, 2881, rfl⟩
abbrev main_call6_call0_call0_v159 : Ref sig .tc := ⟨.hbm, 2882, rfl⟩
abbrev main_call6_call0_call0_v160 : Ref sig .tc := ⟨.hbm, 2883, rfl⟩
abbrev main_call6_call0_call0_v161 : Ref sig .tc := ⟨.hbm, 2884, rfl⟩
abbrev main_call6_call0_call0_v162 : Ref sig .tc := ⟨.hbm, 2885, rfl⟩
abbrev main_call6_call0_call0_v163 : Ref sig .tc := ⟨.hbm, 2886, rfl⟩
abbrev main_call6_call0_call0_c_42 : Ref sig .tc := ⟨.hbm, 2887, rfl⟩
abbrev main_call6_call0_call0_v164 : Ref sig .tc := ⟨.hbm, 2888, rfl⟩
abbrev main_call6_call0_call0_v165 : Ref sig .tc := ⟨.hbm, 2889, rfl⟩
abbrev main_call6_call0_call0_c_43 : Ref sig .tc := ⟨.hbm, 2890, rfl⟩
abbrev main_call6_call0_call0_v166 : Ref sig .tc := ⟨.hbm, 2891, rfl⟩
abbrev main_call6_call0_call0_v167 : Ref sig .tc := ⟨.hbm, 2892, rfl⟩
abbrev main_call6_call0_call0_v168 : Ref sig .tc := ⟨.hbm, 2893, rfl⟩
abbrev main_call6_call0_call0_v169 : Ref sig .tc := ⟨.hbm, 2894, rfl⟩
abbrev main_call6_call0_call0_v170 : Ref sig .tc := ⟨.hbm, 2895, rfl⟩
abbrev main_call6_call0_v11_0 : Ref sig .tc := ⟨.hbm, 2896, rfl⟩
abbrev main_call6_call0_call0_v172 : Ref sig .tc := ⟨.hbm, 2897, rfl⟩
abbrev main_call6_call0_call0_v173 : Ref sig .tc := ⟨.hbm, 2898, rfl⟩
abbrev main_call6_call0_call0_c_44 : Ref sig .tc := ⟨.hbm, 2899, rfl⟩
abbrev main_call6_call0_call0_v174 : Ref sig .tc := ⟨.hbm, 2900, rfl⟩
abbrev main_call6_call0_v11_1 : Ref sig .tc := ⟨.hbm, 2901, rfl⟩
abbrev main_call6_call0_v12 : Ref sig .tc := ⟨.hbm, 2902, rfl⟩
abbrev main_call6_call0_v13 : Ref sig .tc := ⟨.hbm, 2903, rfl⟩
abbrev main_call6_v0 : Ref sig .tc := ⟨.hbm, 2904, rfl⟩
abbrev main_call6_v1 : Ref sig .tc := ⟨.hbm, 2905, rfl⟩
abbrev main_call6_v2 : Ref sig .tc := ⟨.hbm, 2906, rfl⟩
abbrev main_call6_v3 : Ref sig .tc := ⟨.hbm, 2907, rfl⟩
abbrev main_call6_v4 : Ref sig .tc := ⟨.hbm, 2908, rfl⟩
abbrev main_call6_v5 : Ref sig .tc := ⟨.hbm, 2909, rfl⟩
abbrev main_call6_v6 : Ref sig .tc := ⟨.hbm, 2910, rfl⟩
abbrev main_call6_v7 : Ref sig .tc := ⟨.hbm, 2911, rfl⟩
abbrev main_call6_v8 : Ref sig .tc := ⟨.hbm, 2912, rfl⟩
abbrev main_call6_v9 : Ref sig .tc := ⟨.hbm, 2913, rfl⟩
abbrev main_call6_c : Ref sig .tc := ⟨.hbm, 2914, rfl⟩
abbrev main_call6_v10 : Ref sig .tc := ⟨.hbm, 2915, rfl⟩
abbrev main_call6_v11 : Ref sig .tc := ⟨.hbm, 2916, rfl⟩
abbrev main_call6_c_0 : Ref sig .tc := ⟨.hbm, 2917, rfl⟩
abbrev main_call6_v12 : Ref sig .tc := ⟨.hbm, 2918, rfl⟩
abbrev main_call6_v13 : Ref sig .tc := ⟨.hbm, 2919, rfl⟩
abbrev main_call6_v14 : Ref sig .tc := ⟨.hbm, 2920, rfl⟩
abbrev main_call6_v15 : Ref sig .tc := ⟨.hbm, 2921, rfl⟩
abbrev main_call6_call1_v0 : Ref sig .tc := ⟨.hbm, 2922, rfl⟩
abbrev main_call6_call1_c : Ref sig .tc := ⟨.hbm, 2923, rfl⟩
abbrev main_call6_call1_v1 : Ref sig .tc := ⟨.hbm, 2924, rfl⟩
abbrev main_call6_call1_v2 : Ref sig .tc := ⟨.hbm, 2925, rfl⟩
abbrev main_call6_call1_v3 : Ref sig .tc := ⟨.hbm, 2926, rfl⟩
abbrev main_call6_call1_v4 : Ref sig .tc := ⟨.hbm, 2927, rfl⟩
abbrev main_call6_call1_v5 : Ref sig .tc := ⟨.hbm, 2928, rfl⟩
abbrev main_call6_call1_v6 : Ref sig .tc := ⟨.hbm, 2929, rfl⟩
abbrev main_call6_call1_c_0 : Ref sig .tc := ⟨.hbm, 2930, rfl⟩
abbrev main_call6_call1_v7 : Ref sig .tc := ⟨.hbm, 2931, rfl⟩
abbrev main_call6_call1_v8 : Ref sig .tc := ⟨.hbm, 2932, rfl⟩
abbrev main_call6_call1_c_1 : Ref sig .tc := ⟨.hbm, 2933, rfl⟩
abbrev main_call6_call1_v9 : Ref sig .tc := ⟨.hbm, 2934, rfl⟩
abbrev main_call6_call1_v10 : Ref sig .tc := ⟨.hbm, 2935, rfl⟩
abbrev main_call6_call1_v11 : Ref sig .tc := ⟨.hbm, 2936, rfl⟩
abbrev main_call6_call1_v12 : Ref sig .tc := ⟨.hbm, 2937, rfl⟩
abbrev main_call6_call1_v13 : Ref sig .tc := ⟨.hbm, 2938, rfl⟩
abbrev main_call6_call1_c_2 : Ref sig .tc := ⟨.hbm, 2939, rfl⟩
abbrev main_call6_call1_v14 : Ref sig .tc := ⟨.hbm, 2940, rfl⟩
abbrev main_call6_call1_v15 : Ref sig .tc := ⟨.hbm, 2941, rfl⟩
abbrev main_call6_call1_c_3 : Ref sig .tc := ⟨.hbm, 2942, rfl⟩
abbrev main_call6_call1_v16 : Ref sig .tc := ⟨.hbm, 2943, rfl⟩
abbrev main_call6_call1_v17 : Ref sig .tc := ⟨.hbm, 2944, rfl⟩
abbrev main_call6_call1_v18 : Ref sig .tc := ⟨.hbm, 2945, rfl⟩
abbrev main_call6_call1_v19 : Ref sig .tc := ⟨.hbm, 2946, rfl⟩
abbrev main_call6_call1_v20 : Ref sig .tc := ⟨.hbm, 2947, rfl⟩
abbrev main_call6_call1_c_4 : Ref sig .tc := ⟨.hbm, 2948, rfl⟩
abbrev main_call6_call1_v21 : Ref sig .tc := ⟨.hbm, 2949, rfl⟩
abbrev main_call6_call1_v22 : Ref sig .tc := ⟨.hbm, 2950, rfl⟩
abbrev main_call6_call1_c_5 : Ref sig .tc := ⟨.hbm, 2951, rfl⟩
abbrev main_call6_call1_v23 : Ref sig .tc := ⟨.hbm, 2952, rfl⟩
abbrev main_call6_call1_v24 : Ref sig .tc := ⟨.hbm, 2953, rfl⟩
abbrev main_call6_call1_v25 : Ref sig .tc := ⟨.hbm, 2954, rfl⟩
abbrev main_call6_call1_v26 : Ref sig .tc := ⟨.hbm, 2955, rfl⟩
abbrev main_call6_call1_v27 : Ref sig .tc := ⟨.hbm, 2956, rfl⟩
abbrev main_call6_call1_c_6 : Ref sig .tc := ⟨.hbm, 2957, rfl⟩
abbrev main_call6_call1_v28 : Ref sig .tc := ⟨.hbm, 2958, rfl⟩
abbrev main_call6_call1_v29 : Ref sig .tc := ⟨.hbm, 2959, rfl⟩
abbrev main_call6_call1_c_7 : Ref sig .tc := ⟨.hbm, 2960, rfl⟩
abbrev main_call6_call1_v30 : Ref sig .tc := ⟨.hbm, 2961, rfl⟩
abbrev main_call6_call1_v31 : Ref sig .tc := ⟨.hbm, 2962, rfl⟩
abbrev main_call6_call1_v32 : Ref sig .tc := ⟨.hbm, 2963, rfl⟩
abbrev main_call6_call1_v33 : Ref sig .tc := ⟨.hbm, 2964, rfl⟩
abbrev main_call6_call1_v34 : Ref sig .tc := ⟨.hbm, 2965, rfl⟩
abbrev main_call6_call1_v35 : Ref sig .tc := ⟨.hbm, 2966, rfl⟩
abbrev main_call6_call1_v36 : Ref sig .tc := ⟨.hbm, 2967, rfl⟩
abbrev main_call6_call1_v37 : Ref sig .tc := ⟨.hbm, 2968, rfl⟩
abbrev main_call6_call1_c_8 : Ref sig .tc := ⟨.hbm, 2969, rfl⟩
abbrev main_call6_call1_v38 : Ref sig .tc := ⟨.hbm, 2970, rfl⟩
abbrev main_call6_call1_v39 : Ref sig .tc := ⟨.hbm, 2971, rfl⟩
abbrev main_call6_call1_v40 : Ref sig .tc := ⟨.hbm, 2972, rfl⟩
abbrev main_call6_call1_c_9 : Ref sig .tc := ⟨.hbm, 2973, rfl⟩
abbrev main_call6_call1_v41 : Ref sig .tc := ⟨.hbm, 2974, rfl⟩
abbrev main_call6_call1_v42 : Ref sig .tc := ⟨.hbm, 2975, rfl⟩
abbrev main_call6_call1_c_10 : Ref sig .tc := ⟨.hbm, 2976, rfl⟩
abbrev main_call6_call1_v43 : Ref sig .tc := ⟨.hbm, 2977, rfl⟩
abbrev main_call6_call1_v44 : Ref sig .tc := ⟨.hbm, 2978, rfl⟩
abbrev main_call6_call1_v45 : Ref sig .tc := ⟨.hbm, 2979, rfl⟩
abbrev main_call6_call1_v46 : Ref sig .tc := ⟨.hbm, 2980, rfl⟩
abbrev main_call6_call1_v47 : Ref sig .tc := ⟨.hbm, 2981, rfl⟩
abbrev main_call6_call1_c_11 : Ref sig .tc := ⟨.hbm, 2982, rfl⟩
abbrev main_call6_call1_v48 : Ref sig .tc := ⟨.hbm, 2983, rfl⟩
abbrev main_call6_call1_v49 : Ref sig .tc := ⟨.hbm, 2984, rfl⟩
abbrev main_call6_call1_c_12 : Ref sig .tc := ⟨.hbm, 2985, rfl⟩
abbrev main_call6_call1_v50 : Ref sig .tc := ⟨.hbm, 2986, rfl⟩
abbrev main_call6_call1_v51 : Ref sig .tc := ⟨.hbm, 2987, rfl⟩
abbrev main_call6_call1_v52 : Ref sig .tc := ⟨.hbm, 2988, rfl⟩
abbrev main_call6_call1_v53 : Ref sig .tc := ⟨.hbm, 2989, rfl⟩
abbrev main_call6_call1_v54 : Ref sig .tc := ⟨.hbm, 2990, rfl⟩
abbrev main_call6_call1_c_13 : Ref sig .tc := ⟨.hbm, 2991, rfl⟩
abbrev main_call6_call1_v55 : Ref sig .tc := ⟨.hbm, 2992, rfl⟩
abbrev main_call6_call1_v56 : Ref sig .tc := ⟨.hbm, 2993, rfl⟩
abbrev main_call6_call1_c_14 : Ref sig .tc := ⟨.hbm, 2994, rfl⟩
abbrev main_call6_call1_v57 : Ref sig .tc := ⟨.hbm, 2995, rfl⟩
abbrev main_call6_call1_v58 : Ref sig .tc := ⟨.hbm, 2996, rfl⟩
abbrev main_call6_call1_v59 : Ref sig .tc := ⟨.hbm, 2997, rfl⟩
abbrev main_call6_call1_v60 : Ref sig .tc := ⟨.hbm, 2998, rfl⟩
abbrev main_call6_call1_v61 : Ref sig .tc := ⟨.hbm, 2999, rfl⟩
abbrev main_call6_call1_c_15 : Ref sig .tc := ⟨.hbm, 3000, rfl⟩
abbrev main_call6_call1_v62 : Ref sig .tc := ⟨.hbm, 3001, rfl⟩
abbrev main_call6_call1_v63 : Ref sig .tc := ⟨.hbm, 3002, rfl⟩
abbrev main_call6_call1_c_16 : Ref sig .tc := ⟨.hbm, 3003, rfl⟩
abbrev main_call6_call1_v64 : Ref sig .tc := ⟨.hbm, 3004, rfl⟩
abbrev main_call6_call1_v65 : Ref sig .tc := ⟨.hbm, 3005, rfl⟩
abbrev main_call6_call1_v66 : Ref sig .tc := ⟨.hbm, 3006, rfl⟩
abbrev main_call6_call1_v67 : Ref sig .tc := ⟨.hbm, 3007, rfl⟩
abbrev main_call6_call1_v68 : Ref sig .tc := ⟨.hbm, 3008, rfl⟩
abbrev main_call6_call1_v69 : Ref sig .tc := ⟨.hbm, 3009, rfl⟩
abbrev main_call6_call1_v70 : Ref sig .tc := ⟨.hbm, 3010, rfl⟩
abbrev main_call6_call1_v71 : Ref sig .tc := ⟨.hbm, 3011, rfl⟩
abbrev main_call6_call1_c_17 : Ref sig .tc := ⟨.hbm, 3012, rfl⟩
abbrev main_call6_call1_v72 : Ref sig .tc := ⟨.hbm, 3013, rfl⟩
abbrev main_call6_call1_v73 : Ref sig .tc := ⟨.hbm, 3014, rfl⟩
abbrev main_call6_call1_v74 : Ref sig .tc := ⟨.hbm, 3015, rfl⟩
abbrev main_call6_call1_c_18 : Ref sig .tc := ⟨.hbm, 3016, rfl⟩
abbrev main_call6_call1_v75 : Ref sig .tc := ⟨.hbm, 3017, rfl⟩
abbrev main_call6_call1_v76 : Ref sig .tc := ⟨.hbm, 3018, rfl⟩
abbrev main_call6_call1_c_19 : Ref sig .tc := ⟨.hbm, 3019, rfl⟩
abbrev main_call6_call1_v77 : Ref sig .tc := ⟨.hbm, 3020, rfl⟩
abbrev main_call6_call1_v78 : Ref sig .tc := ⟨.hbm, 3021, rfl⟩
abbrev main_call6_call1_v79 : Ref sig .tc := ⟨.hbm, 3022, rfl⟩
abbrev main_call6_call1_v80 : Ref sig .tc := ⟨.hbm, 3023, rfl⟩
abbrev main_call6_call1_v81 : Ref sig .tc := ⟨.hbm, 3024, rfl⟩
abbrev main_call6_call1_c_20 : Ref sig .tc := ⟨.hbm, 3025, rfl⟩
abbrev main_call6_call1_v82 : Ref sig .tc := ⟨.hbm, 3026, rfl⟩
abbrev main_call6_call1_v83 : Ref sig .tc := ⟨.hbm, 3027, rfl⟩
abbrev main_call6_call1_c_21 : Ref sig .tc := ⟨.hbm, 3028, rfl⟩
abbrev main_call6_call1_v84 : Ref sig .tc := ⟨.hbm, 3029, rfl⟩
abbrev main_call6_call1_v85 : Ref sig .tc := ⟨.hbm, 3030, rfl⟩
abbrev main_call6_call1_v86 : Ref sig .tc := ⟨.hbm, 3031, rfl⟩
abbrev main_call6_call1_v87 : Ref sig .tc := ⟨.hbm, 3032, rfl⟩
abbrev main_call6_call1_v88 : Ref sig .tc := ⟨.hbm, 3033, rfl⟩
abbrev main_call6_call1_c_22 : Ref sig .tc := ⟨.hbm, 3034, rfl⟩
abbrev main_call6_call1_v89 : Ref sig .tc := ⟨.hbm, 3035, rfl⟩
abbrev main_call6_call1_v90 : Ref sig .tc := ⟨.hbm, 3036, rfl⟩
abbrev main_call6_call1_c_23 : Ref sig .tc := ⟨.hbm, 3037, rfl⟩
abbrev main_call6_call1_v91 : Ref sig .tc := ⟨.hbm, 3038, rfl⟩
abbrev main_call6_call1_v92 : Ref sig .tc := ⟨.hbm, 3039, rfl⟩
abbrev main_call6_call1_v93 : Ref sig .tc := ⟨.hbm, 3040, rfl⟩
abbrev main_call6_call1_v94 : Ref sig .tc := ⟨.hbm, 3041, rfl⟩
abbrev main_call6_call1_v95 : Ref sig .tc := ⟨.hbm, 3042, rfl⟩
abbrev main_call6_call1_c_24 : Ref sig .tc := ⟨.hbm, 3043, rfl⟩
abbrev main_call6_call1_v96 : Ref sig .tc := ⟨.hbm, 3044, rfl⟩
abbrev main_call6_call1_v97 : Ref sig .tc := ⟨.hbm, 3045, rfl⟩
abbrev main_call6_call1_c_25 : Ref sig .tc := ⟨.hbm, 3046, rfl⟩
abbrev main_call6_call1_v98 : Ref sig .tc := ⟨.hbm, 3047, rfl⟩
abbrev main_call6_call1_v99 : Ref sig .tc := ⟨.hbm, 3048, rfl⟩
abbrev main_call6_call1_v100 : Ref sig .tc := ⟨.hbm, 3049, rfl⟩
abbrev main_call6_call1_v101 : Ref sig .tc := ⟨.hbm, 3050, rfl⟩
abbrev main_call6_call1_v102 : Ref sig .tc := ⟨.hbm, 3051, rfl⟩
abbrev main_call6_call1_v103 : Ref sig .tc := ⟨.hbm, 3052, rfl⟩
abbrev main_call6_call1_v104 : Ref sig .tc := ⟨.hbm, 3053, rfl⟩
abbrev main_call6_call1_v105 : Ref sig .tc := ⟨.hbm, 3054, rfl⟩
abbrev main_call6_call1_c_26 : Ref sig .tc := ⟨.hbm, 3055, rfl⟩
abbrev main_call6_call1_v106 : Ref sig .tc := ⟨.hbm, 3056, rfl⟩
abbrev main_call6_call1_v107 : Ref sig .tc := ⟨.hbm, 3057, rfl⟩
abbrev main_call6_call1_v108 : Ref sig .tc := ⟨.hbm, 3058, rfl⟩
abbrev main_call6_call1_c_27 : Ref sig .tc := ⟨.hbm, 3059, rfl⟩
abbrev main_call6_call1_v109 : Ref sig .tc := ⟨.hbm, 3060, rfl⟩
abbrev main_call6_call1_v110 : Ref sig .tc := ⟨.hbm, 3061, rfl⟩
abbrev main_call6_call1_c_28 : Ref sig .tc := ⟨.hbm, 3062, rfl⟩
abbrev main_call6_call1_v111 : Ref sig .tc := ⟨.hbm, 3063, rfl⟩
abbrev main_call6_call1_v112 : Ref sig .tc := ⟨.hbm, 3064, rfl⟩
abbrev main_call6_call1_v113 : Ref sig .tc := ⟨.hbm, 3065, rfl⟩
abbrev main_call6_call1_v114 : Ref sig .tc := ⟨.hbm, 3066, rfl⟩
abbrev main_call6_call1_v115 : Ref sig .tc := ⟨.hbm, 3067, rfl⟩
abbrev main_call6_call1_c_29 : Ref sig .tc := ⟨.hbm, 3068, rfl⟩
abbrev main_call6_call1_v116 : Ref sig .tc := ⟨.hbm, 3069, rfl⟩
abbrev main_call6_call1_v117 : Ref sig .tc := ⟨.hbm, 3070, rfl⟩
abbrev main_call6_call1_c_30 : Ref sig .tc := ⟨.hbm, 3071, rfl⟩
abbrev main_call6_call1_v118 : Ref sig .tc := ⟨.hbm, 3072, rfl⟩
abbrev main_call6_call1_v119 : Ref sig .tc := ⟨.hbm, 3073, rfl⟩
abbrev main_call6_call1_v120 : Ref sig .tc := ⟨.hbm, 3074, rfl⟩
abbrev main_call6_call1_v121 : Ref sig .tc := ⟨.hbm, 3075, rfl⟩
abbrev main_call6_call1_v122 : Ref sig .tc := ⟨.hbm, 3076, rfl⟩
abbrev main_call6_call1_c_31 : Ref sig .tc := ⟨.hbm, 3077, rfl⟩
abbrev main_call6_call1_v123 : Ref sig .tc := ⟨.hbm, 3078, rfl⟩
abbrev main_call6_call1_v124 : Ref sig .tc := ⟨.hbm, 3079, rfl⟩
abbrev main_call6_call1_c_32 : Ref sig .tc := ⟨.hbm, 3080, rfl⟩
abbrev main_call6_call1_v125 : Ref sig .tc := ⟨.hbm, 3081, rfl⟩
abbrev main_call6_call1_v126 : Ref sig .tc := ⟨.hbm, 3082, rfl⟩
abbrev main_call6_call1_v127 : Ref sig .tc := ⟨.hbm, 3083, rfl⟩
abbrev main_call6_call1_v128 : Ref sig .tc := ⟨.hbm, 3084, rfl⟩
abbrev main_call6_call1_v129 : Ref sig .tc := ⟨.hbm, 3085, rfl⟩
abbrev main_call6_call1_c_33 : Ref sig .tc := ⟨.hbm, 3086, rfl⟩
abbrev main_call6_call1_v130 : Ref sig .tc := ⟨.hbm, 3087, rfl⟩
abbrev main_call6_call1_v131 : Ref sig .tc := ⟨.hbm, 3088, rfl⟩
abbrev main_call6_call1_c_34 : Ref sig .tc := ⟨.hbm, 3089, rfl⟩
abbrev main_call6_call1_v132 : Ref sig .tc := ⟨.hbm, 3090, rfl⟩
abbrev main_call6_call1_v133 : Ref sig .tc := ⟨.hbm, 3091, rfl⟩
abbrev main_call6_call1_v134 : Ref sig .tc := ⟨.hbm, 3092, rfl⟩
abbrev main_call6_call1_v135 : Ref sig .tc := ⟨.hbm, 3093, rfl⟩
abbrev main_call6_call1_v136 : Ref sig .tc := ⟨.hbm, 3094, rfl⟩
abbrev main_call6_call1_v137 : Ref sig .tc := ⟨.hbm, 3095, rfl⟩
abbrev main_call6_call1_v138 : Ref sig .tc := ⟨.hbm, 3096, rfl⟩
abbrev main_call6_call1_v139 : Ref sig .tc := ⟨.hbm, 3097, rfl⟩
abbrev main_call6_call1_c_35 : Ref sig .tc := ⟨.hbm, 3098, rfl⟩
abbrev main_call6_call1_v140 : Ref sig .tc := ⟨.hbm, 3099, rfl⟩
abbrev main_call6_call1_v141 : Ref sig .tc := ⟨.hbm, 3100, rfl⟩
abbrev main_call6_call1_v142 : Ref sig .tc := ⟨.hbm, 3101, rfl⟩
abbrev main_call6_call1_c_36 : Ref sig .tc := ⟨.hbm, 3102, rfl⟩
abbrev main_call6_call1_v143 : Ref sig .tc := ⟨.hbm, 3103, rfl⟩
abbrev main_call6_call1_v144 : Ref sig .tc := ⟨.hbm, 3104, rfl⟩
abbrev main_call6_call1_c_37 : Ref sig .tc := ⟨.hbm, 3105, rfl⟩
abbrev main_call6_call1_v145 : Ref sig .tc := ⟨.hbm, 3106, rfl⟩
abbrev main_call6_call1_v146 : Ref sig .tc := ⟨.hbm, 3107, rfl⟩
abbrev main_call6_call1_v147 : Ref sig .tc := ⟨.hbm, 3108, rfl⟩
abbrev main_call6_call1_v148 : Ref sig .tc := ⟨.hbm, 3109, rfl⟩
abbrev main_call6_call1_v149 : Ref sig .tc := ⟨.hbm, 3110, rfl⟩
abbrev main_call6_call1_c_38 : Ref sig .tc := ⟨.hbm, 3111, rfl⟩
abbrev main_call6_call1_v150 : Ref sig .tc := ⟨.hbm, 3112, rfl⟩
abbrev main_call6_call1_v151 : Ref sig .tc := ⟨.hbm, 3113, rfl⟩
abbrev main_call6_call1_c_39 : Ref sig .tc := ⟨.hbm, 3114, rfl⟩
abbrev main_call6_call1_v152 : Ref sig .tc := ⟨.hbm, 3115, rfl⟩
abbrev main_call6_call1_v153 : Ref sig .tc := ⟨.hbm, 3116, rfl⟩
abbrev main_call6_call1_v154 : Ref sig .tc := ⟨.hbm, 3117, rfl⟩
abbrev main_call6_call1_v155 : Ref sig .tc := ⟨.hbm, 3118, rfl⟩
abbrev main_call6_call1_v156 : Ref sig .tc := ⟨.hbm, 3119, rfl⟩
abbrev main_call6_call1_c_40 : Ref sig .tc := ⟨.hbm, 3120, rfl⟩
abbrev main_call6_call1_v157 : Ref sig .tc := ⟨.hbm, 3121, rfl⟩
abbrev main_call6_call1_v158 : Ref sig .tc := ⟨.hbm, 3122, rfl⟩
abbrev main_call6_call1_c_41 : Ref sig .tc := ⟨.hbm, 3123, rfl⟩
abbrev main_call6_call1_v159 : Ref sig .tc := ⟨.hbm, 3124, rfl⟩
abbrev main_call6_call1_v160 : Ref sig .tc := ⟨.hbm, 3125, rfl⟩
abbrev main_call6_call1_v161 : Ref sig .tc := ⟨.hbm, 3126, rfl⟩
abbrev main_call6_call1_v162 : Ref sig .tc := ⟨.hbm, 3127, rfl⟩
abbrev main_call6_call1_v163 : Ref sig .tc := ⟨.hbm, 3128, rfl⟩
abbrev main_call6_call1_c_42 : Ref sig .tc := ⟨.hbm, 3129, rfl⟩
abbrev main_call6_call1_v164 : Ref sig .tc := ⟨.hbm, 3130, rfl⟩
abbrev main_call6_call1_v165 : Ref sig .tc := ⟨.hbm, 3131, rfl⟩
abbrev main_call6_call1_c_43 : Ref sig .tc := ⟨.hbm, 3132, rfl⟩
abbrev main_call6_call1_v166 : Ref sig .tc := ⟨.hbm, 3133, rfl⟩
abbrev main_call6_call1_v167 : Ref sig .tc := ⟨.hbm, 3134, rfl⟩
abbrev main_call6_call1_v168 : Ref sig .tc := ⟨.hbm, 3135, rfl⟩
abbrev main_call6_call1_v169 : Ref sig .tc := ⟨.hbm, 3136, rfl⟩
abbrev main_call6_call1_v170 : Ref sig .tc := ⟨.hbm, 3137, rfl⟩
abbrev main_call6_v16_0 : Ref sig .tc := ⟨.hbm, 3138, rfl⟩
abbrev main_call6_call1_v172 : Ref sig .tc := ⟨.hbm, 3139, rfl⟩
abbrev main_call6_call1_v173 : Ref sig .tc := ⟨.hbm, 3140, rfl⟩
abbrev main_call6_call1_c_44 : Ref sig .tc := ⟨.hbm, 3141, rfl⟩
abbrev main_call6_call1_v174 : Ref sig .tc := ⟨.hbm, 3142, rfl⟩
abbrev main_call6_v16_1 : Ref sig .tc := ⟨.hbm, 3143, rfl⟩
abbrev main_call6_v17 : Ref sig .tc := ⟨.hbm, 3144, rfl⟩
abbrev main_call6_v18_0 : Ref sig .tc := ⟨.hbm, 3145, rfl⟩
abbrev main_v31 : Ref sig .tc := ⟨.hbm, 3146, rfl⟩
abbrev main_v32 : Ref sig .tc := ⟨.hbm, 3147, rfl⟩
abbrev main_v33 : Ref sig .tc := ⟨.hbm, 3148, rfl⟩
abbrev main_v34 : Ref sig .tc := ⟨.hbm, 3149, rfl⟩
abbrev main_call7_call0_v0 : Ref sig .tc := ⟨.hbm, 3150, rfl⟩
abbrev main_call7_call0_v1 : Ref sig .tc := ⟨.hbm, 3151, rfl⟩
abbrev main_call7_call0_v2 : Ref sig .tc := ⟨.hbm, 3152, rfl⟩
abbrev main_call7_call0_v3 : Ref sig .tc := ⟨.hbm, 3153, rfl⟩
abbrev main_call7_call0_v4 : Ref sig .tc := ⟨.hbm, 3154, rfl⟩
abbrev main_call7_call0_c : Ref sig .tc := ⟨.hbm, 3155, rfl⟩
abbrev main_call7_call0_v5 : Ref sig .tc := ⟨.hbm, 3156, rfl⟩
abbrev main_call7_call0_v6 : Ref sig .tc := ⟨.hbm, 3157, rfl⟩
abbrev main_call7_call0_c_0 : Ref sig .tc := ⟨.hbm, 3158, rfl⟩
abbrev main_call7_call0_v7 : Ref sig .tc := ⟨.hbm, 3159, rfl⟩
abbrev main_call7_call0_v8 : Ref sig .tc := ⟨.hbm, 3160, rfl⟩
abbrev main_call7_call0_v9 : Ref sig .tc := ⟨.hbm, 3161, rfl⟩
abbrev main_call7_call0_v10 : Ref sig .tc := ⟨.hbm, 3162, rfl⟩
abbrev main_call7_call0_call0_v0 : Ref sig .tc := ⟨.hbm, 3163, rfl⟩
abbrev main_call7_call0_call0_c : Ref sig .tc := ⟨.hbm, 3164, rfl⟩
abbrev main_call7_call0_call0_v1 : Ref sig .tc := ⟨.hbm, 3165, rfl⟩
abbrev main_call7_call0_call0_v2 : Ref sig .tc := ⟨.hbm, 3166, rfl⟩
abbrev main_call7_call0_call0_v3 : Ref sig .tc := ⟨.hbm, 3167, rfl⟩
abbrev main_call7_call0_call0_v4 : Ref sig .tc := ⟨.hbm, 3168, rfl⟩
abbrev main_call7_call0_call0_v5 : Ref sig .tc := ⟨.hbm, 3169, rfl⟩
abbrev main_call7_call0_call0_v6 : Ref sig .tc := ⟨.hbm, 3170, rfl⟩
abbrev main_call7_call0_call0_c_0 : Ref sig .tc := ⟨.hbm, 3171, rfl⟩
abbrev main_call7_call0_call0_v7 : Ref sig .tc := ⟨.hbm, 3172, rfl⟩
abbrev main_call7_call0_call0_v8 : Ref sig .tc := ⟨.hbm, 3173, rfl⟩
abbrev main_call7_call0_call0_c_1 : Ref sig .tc := ⟨.hbm, 3174, rfl⟩
abbrev main_call7_call0_call0_v9 : Ref sig .tc := ⟨.hbm, 3175, rfl⟩
abbrev main_call7_call0_call0_v10 : Ref sig .tc := ⟨.hbm, 3176, rfl⟩
abbrev main_call7_call0_call0_v11 : Ref sig .tc := ⟨.hbm, 3177, rfl⟩
abbrev main_call7_call0_call0_v12 : Ref sig .tc := ⟨.hbm, 3178, rfl⟩
abbrev main_call7_call0_call0_v13 : Ref sig .tc := ⟨.hbm, 3179, rfl⟩
abbrev main_call7_call0_call0_c_2 : Ref sig .tc := ⟨.hbm, 3180, rfl⟩
abbrev main_call7_call0_call0_v14 : Ref sig .tc := ⟨.hbm, 3181, rfl⟩
abbrev main_call7_call0_call0_v15 : Ref sig .tc := ⟨.hbm, 3182, rfl⟩
abbrev main_call7_call0_call0_c_3 : Ref sig .tc := ⟨.hbm, 3183, rfl⟩
abbrev main_call7_call0_call0_v16 : Ref sig .tc := ⟨.hbm, 3184, rfl⟩
abbrev main_call7_call0_call0_v17 : Ref sig .tc := ⟨.hbm, 3185, rfl⟩
abbrev main_call7_call0_call0_v18 : Ref sig .tc := ⟨.hbm, 3186, rfl⟩
abbrev main_call7_call0_call0_v19 : Ref sig .tc := ⟨.hbm, 3187, rfl⟩
abbrev main_call7_call0_call0_v20 : Ref sig .tc := ⟨.hbm, 3188, rfl⟩
abbrev main_call7_call0_call0_c_4 : Ref sig .tc := ⟨.hbm, 3189, rfl⟩
abbrev main_call7_call0_call0_v21 : Ref sig .tc := ⟨.hbm, 3190, rfl⟩
abbrev main_call7_call0_call0_v22 : Ref sig .tc := ⟨.hbm, 3191, rfl⟩
abbrev main_call7_call0_call0_c_5 : Ref sig .tc := ⟨.hbm, 3192, rfl⟩
abbrev main_call7_call0_call0_v23 : Ref sig .tc := ⟨.hbm, 3193, rfl⟩
abbrev main_call7_call0_call0_v24 : Ref sig .tc := ⟨.hbm, 3194, rfl⟩
abbrev main_call7_call0_call0_v25 : Ref sig .tc := ⟨.hbm, 3195, rfl⟩
abbrev main_call7_call0_call0_v26 : Ref sig .tc := ⟨.hbm, 3196, rfl⟩
abbrev main_call7_call0_call0_v27 : Ref sig .tc := ⟨.hbm, 3197, rfl⟩
abbrev main_call7_call0_call0_c_6 : Ref sig .tc := ⟨.hbm, 3198, rfl⟩
abbrev main_call7_call0_call0_v28 : Ref sig .tc := ⟨.hbm, 3199, rfl⟩
abbrev main_call7_call0_call0_v29 : Ref sig .tc := ⟨.hbm, 3200, rfl⟩
abbrev main_call7_call0_call0_c_7 : Ref sig .tc := ⟨.hbm, 3201, rfl⟩
abbrev main_call7_call0_call0_v30 : Ref sig .tc := ⟨.hbm, 3202, rfl⟩
abbrev main_call7_call0_call0_v31 : Ref sig .tc := ⟨.hbm, 3203, rfl⟩
abbrev main_call7_call0_call0_v32 : Ref sig .tc := ⟨.hbm, 3204, rfl⟩
abbrev main_call7_call0_call0_v33 : Ref sig .tc := ⟨.hbm, 3205, rfl⟩
abbrev main_call7_call0_call0_v34 : Ref sig .tc := ⟨.hbm, 3206, rfl⟩
abbrev main_call7_call0_call0_v35 : Ref sig .tc := ⟨.hbm, 3207, rfl⟩
abbrev main_call7_call0_call0_v36 : Ref sig .tc := ⟨.hbm, 3208, rfl⟩
abbrev main_call7_call0_call0_v37 : Ref sig .tc := ⟨.hbm, 3209, rfl⟩
abbrev main_call7_call0_call0_c_8 : Ref sig .tc := ⟨.hbm, 3210, rfl⟩
abbrev main_call7_call0_call0_v38 : Ref sig .tc := ⟨.hbm, 3211, rfl⟩
abbrev main_call7_call0_call0_v39 : Ref sig .tc := ⟨.hbm, 3212, rfl⟩
abbrev main_call7_call0_call0_v40 : Ref sig .tc := ⟨.hbm, 3213, rfl⟩
abbrev main_call7_call0_call0_c_9 : Ref sig .tc := ⟨.hbm, 3214, rfl⟩
abbrev main_call7_call0_call0_v41 : Ref sig .tc := ⟨.hbm, 3215, rfl⟩
abbrev main_call7_call0_call0_v42 : Ref sig .tc := ⟨.hbm, 3216, rfl⟩
abbrev main_call7_call0_call0_c_10 : Ref sig .tc := ⟨.hbm, 3217, rfl⟩
abbrev main_call7_call0_call0_v43 : Ref sig .tc := ⟨.hbm, 3218, rfl⟩
abbrev main_call7_call0_call0_v44 : Ref sig .tc := ⟨.hbm, 3219, rfl⟩
abbrev main_call7_call0_call0_v45 : Ref sig .tc := ⟨.hbm, 3220, rfl⟩
abbrev main_call7_call0_call0_v46 : Ref sig .tc := ⟨.hbm, 3221, rfl⟩
abbrev main_call7_call0_call0_v47 : Ref sig .tc := ⟨.hbm, 3222, rfl⟩
abbrev main_call7_call0_call0_c_11 : Ref sig .tc := ⟨.hbm, 3223, rfl⟩
abbrev main_call7_call0_call0_v48 : Ref sig .tc := ⟨.hbm, 3224, rfl⟩
abbrev main_call7_call0_call0_v49 : Ref sig .tc := ⟨.hbm, 3225, rfl⟩
abbrev main_call7_call0_call0_c_12 : Ref sig .tc := ⟨.hbm, 3226, rfl⟩
abbrev main_call7_call0_call0_v50 : Ref sig .tc := ⟨.hbm, 3227, rfl⟩
abbrev main_call7_call0_call0_v51 : Ref sig .tc := ⟨.hbm, 3228, rfl⟩
abbrev main_call7_call0_call0_v52 : Ref sig .tc := ⟨.hbm, 3229, rfl⟩
abbrev main_call7_call0_call0_v53 : Ref sig .tc := ⟨.hbm, 3230, rfl⟩
abbrev main_call7_call0_call0_v54 : Ref sig .tc := ⟨.hbm, 3231, rfl⟩
abbrev main_call7_call0_call0_c_13 : Ref sig .tc := ⟨.hbm, 3232, rfl⟩
abbrev main_call7_call0_call0_v55 : Ref sig .tc := ⟨.hbm, 3233, rfl⟩
abbrev main_call7_call0_call0_v56 : Ref sig .tc := ⟨.hbm, 3234, rfl⟩
abbrev main_call7_call0_call0_c_14 : Ref sig .tc := ⟨.hbm, 3235, rfl⟩
abbrev main_call7_call0_call0_v57 : Ref sig .tc := ⟨.hbm, 3236, rfl⟩
abbrev main_call7_call0_call0_v58 : Ref sig .tc := ⟨.hbm, 3237, rfl⟩
abbrev main_call7_call0_call0_v59 : Ref sig .tc := ⟨.hbm, 3238, rfl⟩
abbrev main_call7_call0_call0_v60 : Ref sig .tc := ⟨.hbm, 3239, rfl⟩
abbrev main_call7_call0_call0_v61 : Ref sig .tc := ⟨.hbm, 3240, rfl⟩
abbrev main_call7_call0_call0_c_15 : Ref sig .tc := ⟨.hbm, 3241, rfl⟩
abbrev main_call7_call0_call0_v62 : Ref sig .tc := ⟨.hbm, 3242, rfl⟩
abbrev main_call7_call0_call0_v63 : Ref sig .tc := ⟨.hbm, 3243, rfl⟩
abbrev main_call7_call0_call0_c_16 : Ref sig .tc := ⟨.hbm, 3244, rfl⟩
abbrev main_call7_call0_call0_v64 : Ref sig .tc := ⟨.hbm, 3245, rfl⟩
abbrev main_call7_call0_call0_v65 : Ref sig .tc := ⟨.hbm, 3246, rfl⟩
abbrev main_call7_call0_call0_v66 : Ref sig .tc := ⟨.hbm, 3247, rfl⟩
abbrev main_call7_call0_call0_v67 : Ref sig .tc := ⟨.hbm, 3248, rfl⟩
abbrev main_call7_call0_call0_v68 : Ref sig .tc := ⟨.hbm, 3249, rfl⟩
abbrev main_call7_call0_call0_v69 : Ref sig .tc := ⟨.hbm, 3250, rfl⟩
abbrev main_call7_call0_call0_v70 : Ref sig .tc := ⟨.hbm, 3251, rfl⟩
abbrev main_call7_call0_call0_v71 : Ref sig .tc := ⟨.hbm, 3252, rfl⟩
abbrev main_call7_call0_call0_c_17 : Ref sig .tc := ⟨.hbm, 3253, rfl⟩
abbrev main_call7_call0_call0_v72 : Ref sig .tc := ⟨.hbm, 3254, rfl⟩
abbrev main_call7_call0_call0_v73 : Ref sig .tc := ⟨.hbm, 3255, rfl⟩
abbrev main_call7_call0_call0_v74 : Ref sig .tc := ⟨.hbm, 3256, rfl⟩
abbrev main_call7_call0_call0_c_18 : Ref sig .tc := ⟨.hbm, 3257, rfl⟩
abbrev main_call7_call0_call0_v75 : Ref sig .tc := ⟨.hbm, 3258, rfl⟩
abbrev main_call7_call0_call0_v76 : Ref sig .tc := ⟨.hbm, 3259, rfl⟩
abbrev main_call7_call0_call0_c_19 : Ref sig .tc := ⟨.hbm, 3260, rfl⟩
abbrev main_call7_call0_call0_v77 : Ref sig .tc := ⟨.hbm, 3261, rfl⟩
abbrev main_call7_call0_call0_v78 : Ref sig .tc := ⟨.hbm, 3262, rfl⟩
abbrev main_call7_call0_call0_v79 : Ref sig .tc := ⟨.hbm, 3263, rfl⟩
abbrev main_call7_call0_call0_v80 : Ref sig .tc := ⟨.hbm, 3264, rfl⟩
abbrev main_call7_call0_call0_v81 : Ref sig .tc := ⟨.hbm, 3265, rfl⟩
abbrev main_call7_call0_call0_c_20 : Ref sig .tc := ⟨.hbm, 3266, rfl⟩
abbrev main_call7_call0_call0_v82 : Ref sig .tc := ⟨.hbm, 3267, rfl⟩
abbrev main_call7_call0_call0_v83 : Ref sig .tc := ⟨.hbm, 3268, rfl⟩
abbrev main_call7_call0_call0_c_21 : Ref sig .tc := ⟨.hbm, 3269, rfl⟩
abbrev main_call7_call0_call0_v84 : Ref sig .tc := ⟨.hbm, 3270, rfl⟩
abbrev main_call7_call0_call0_v85 : Ref sig .tc := ⟨.hbm, 3271, rfl⟩
abbrev main_call7_call0_call0_v86 : Ref sig .tc := ⟨.hbm, 3272, rfl⟩
abbrev main_call7_call0_call0_v87 : Ref sig .tc := ⟨.hbm, 3273, rfl⟩
abbrev main_call7_call0_call0_v88 : Ref sig .tc := ⟨.hbm, 3274, rfl⟩
abbrev main_call7_call0_call0_c_22 : Ref sig .tc := ⟨.hbm, 3275, rfl⟩
abbrev main_call7_call0_call0_v89 : Ref sig .tc := ⟨.hbm, 3276, rfl⟩
abbrev main_call7_call0_call0_v90 : Ref sig .tc := ⟨.hbm, 3277, rfl⟩
abbrev main_call7_call0_call0_c_23 : Ref sig .tc := ⟨.hbm, 3278, rfl⟩
abbrev main_call7_call0_call0_v91 : Ref sig .tc := ⟨.hbm, 3279, rfl⟩
abbrev main_call7_call0_call0_v92 : Ref sig .tc := ⟨.hbm, 3280, rfl⟩
abbrev main_call7_call0_call0_v93 : Ref sig .tc := ⟨.hbm, 3281, rfl⟩
abbrev main_call7_call0_call0_v94 : Ref sig .tc := ⟨.hbm, 3282, rfl⟩
abbrev main_call7_call0_call0_v95 : Ref sig .tc := ⟨.hbm, 3283, rfl⟩
abbrev main_call7_call0_call0_c_24 : Ref sig .tc := ⟨.hbm, 3284, rfl⟩
abbrev main_call7_call0_call0_v96 : Ref sig .tc := ⟨.hbm, 3285, rfl⟩
abbrev main_call7_call0_call0_v97 : Ref sig .tc := ⟨.hbm, 3286, rfl⟩
abbrev main_call7_call0_call0_c_25 : Ref sig .tc := ⟨.hbm, 3287, rfl⟩
abbrev main_call7_call0_call0_v98 : Ref sig .tc := ⟨.hbm, 3288, rfl⟩
abbrev main_call7_call0_call0_v99 : Ref sig .tc := ⟨.hbm, 3289, rfl⟩
abbrev main_call7_call0_call0_v100 : Ref sig .tc := ⟨.hbm, 3290, rfl⟩
abbrev main_call7_call0_call0_v101 : Ref sig .tc := ⟨.hbm, 3291, rfl⟩
abbrev main_call7_call0_call0_v102 : Ref sig .tc := ⟨.hbm, 3292, rfl⟩
abbrev main_call7_call0_call0_v103 : Ref sig .tc := ⟨.hbm, 3293, rfl⟩
abbrev main_call7_call0_call0_v104 : Ref sig .tc := ⟨.hbm, 3294, rfl⟩
abbrev main_call7_call0_call0_v105 : Ref sig .tc := ⟨.hbm, 3295, rfl⟩
abbrev main_call7_call0_call0_c_26 : Ref sig .tc := ⟨.hbm, 3296, rfl⟩
abbrev main_call7_call0_call0_v106 : Ref sig .tc := ⟨.hbm, 3297, rfl⟩
abbrev main_call7_call0_call0_v107 : Ref sig .tc := ⟨.hbm, 3298, rfl⟩
abbrev main_call7_call0_call0_v108 : Ref sig .tc := ⟨.hbm, 3299, rfl⟩
abbrev main_call7_call0_call0_c_27 : Ref sig .tc := ⟨.hbm, 3300, rfl⟩
abbrev main_call7_call0_call0_v109 : Ref sig .tc := ⟨.hbm, 3301, rfl⟩
abbrev main_call7_call0_call0_v110 : Ref sig .tc := ⟨.hbm, 3302, rfl⟩
abbrev main_call7_call0_call0_c_28 : Ref sig .tc := ⟨.hbm, 3303, rfl⟩
abbrev main_call7_call0_call0_v111 : Ref sig .tc := ⟨.hbm, 3304, rfl⟩
abbrev main_call7_call0_call0_v112 : Ref sig .tc := ⟨.hbm, 3305, rfl⟩
abbrev main_call7_call0_call0_v113 : Ref sig .tc := ⟨.hbm, 3306, rfl⟩
abbrev main_call7_call0_call0_v114 : Ref sig .tc := ⟨.hbm, 3307, rfl⟩
abbrev main_call7_call0_call0_v115 : Ref sig .tc := ⟨.hbm, 3308, rfl⟩
abbrev main_call7_call0_call0_c_29 : Ref sig .tc := ⟨.hbm, 3309, rfl⟩
abbrev main_call7_call0_call0_v116 : Ref sig .tc := ⟨.hbm, 3310, rfl⟩
abbrev main_call7_call0_call0_v117 : Ref sig .tc := ⟨.hbm, 3311, rfl⟩
abbrev main_call7_call0_call0_c_30 : Ref sig .tc := ⟨.hbm, 3312, rfl⟩
abbrev main_call7_call0_call0_v118 : Ref sig .tc := ⟨.hbm, 3313, rfl⟩
abbrev main_call7_call0_call0_v119 : Ref sig .tc := ⟨.hbm, 3314, rfl⟩
abbrev main_call7_call0_call0_v120 : Ref sig .tc := ⟨.hbm, 3315, rfl⟩
abbrev main_call7_call0_call0_v121 : Ref sig .tc := ⟨.hbm, 3316, rfl⟩
abbrev main_call7_call0_call0_v122 : Ref sig .tc := ⟨.hbm, 3317, rfl⟩
abbrev main_call7_call0_call0_c_31 : Ref sig .tc := ⟨.hbm, 3318, rfl⟩
abbrev main_call7_call0_call0_v123 : Ref sig .tc := ⟨.hbm, 3319, rfl⟩
abbrev main_call7_call0_call0_v124 : Ref sig .tc := ⟨.hbm, 3320, rfl⟩
abbrev main_call7_call0_call0_c_32 : Ref sig .tc := ⟨.hbm, 3321, rfl⟩
abbrev main_call7_call0_call0_v125 : Ref sig .tc := ⟨.hbm, 3322, rfl⟩
abbrev main_call7_call0_call0_v126 : Ref sig .tc := ⟨.hbm, 3323, rfl⟩
abbrev main_call7_call0_call0_v127 : Ref sig .tc := ⟨.hbm, 3324, rfl⟩
abbrev main_call7_call0_call0_v128 : Ref sig .tc := ⟨.hbm, 3325, rfl⟩
abbrev main_call7_call0_call0_v129 : Ref sig .tc := ⟨.hbm, 3326, rfl⟩
abbrev main_call7_call0_call0_c_33 : Ref sig .tc := ⟨.hbm, 3327, rfl⟩
abbrev main_call7_call0_call0_v130 : Ref sig .tc := ⟨.hbm, 3328, rfl⟩
abbrev main_call7_call0_call0_v131 : Ref sig .tc := ⟨.hbm, 3329, rfl⟩
abbrev main_call7_call0_call0_c_34 : Ref sig .tc := ⟨.hbm, 3330, rfl⟩
abbrev main_call7_call0_call0_v132 : Ref sig .tc := ⟨.hbm, 3331, rfl⟩
abbrev main_call7_call0_call0_v133 : Ref sig .tc := ⟨.hbm, 3332, rfl⟩
abbrev main_call7_call0_call0_v134 : Ref sig .tc := ⟨.hbm, 3333, rfl⟩
abbrev main_call7_call0_call0_v135 : Ref sig .tc := ⟨.hbm, 3334, rfl⟩
abbrev main_call7_call0_call0_v136 : Ref sig .tc := ⟨.hbm, 3335, rfl⟩
abbrev main_call7_call0_call0_v137 : Ref sig .tc := ⟨.hbm, 3336, rfl⟩
abbrev main_call7_call0_call0_v138 : Ref sig .tc := ⟨.hbm, 3337, rfl⟩
abbrev main_call7_call0_call0_v139 : Ref sig .tc := ⟨.hbm, 3338, rfl⟩
abbrev main_call7_call0_call0_c_35 : Ref sig .tc := ⟨.hbm, 3339, rfl⟩
abbrev main_call7_call0_call0_v140 : Ref sig .tc := ⟨.hbm, 3340, rfl⟩
abbrev main_call7_call0_call0_v141 : Ref sig .tc := ⟨.hbm, 3341, rfl⟩
abbrev main_call7_call0_call0_v142 : Ref sig .tc := ⟨.hbm, 3342, rfl⟩
abbrev main_call7_call0_call0_c_36 : Ref sig .tc := ⟨.hbm, 3343, rfl⟩
abbrev main_call7_call0_call0_v143 : Ref sig .tc := ⟨.hbm, 3344, rfl⟩
abbrev main_call7_call0_call0_v144 : Ref sig .tc := ⟨.hbm, 3345, rfl⟩
abbrev main_call7_call0_call0_c_37 : Ref sig .tc := ⟨.hbm, 3346, rfl⟩
abbrev main_call7_call0_call0_v145 : Ref sig .tc := ⟨.hbm, 3347, rfl⟩
abbrev main_call7_call0_call0_v146 : Ref sig .tc := ⟨.hbm, 3348, rfl⟩
abbrev main_call7_call0_call0_v147 : Ref sig .tc := ⟨.hbm, 3349, rfl⟩
abbrev main_call7_call0_call0_v148 : Ref sig .tc := ⟨.hbm, 3350, rfl⟩
abbrev main_call7_call0_call0_v149 : Ref sig .tc := ⟨.hbm, 3351, rfl⟩
abbrev main_call7_call0_call0_c_38 : Ref sig .tc := ⟨.hbm, 3352, rfl⟩
abbrev main_call7_call0_call0_v150 : Ref sig .tc := ⟨.hbm, 3353, rfl⟩
abbrev main_call7_call0_call0_v151 : Ref sig .tc := ⟨.hbm, 3354, rfl⟩
abbrev main_call7_call0_call0_c_39 : Ref sig .tc := ⟨.hbm, 3355, rfl⟩
abbrev main_call7_call0_call0_v152 : Ref sig .tc := ⟨.hbm, 3356, rfl⟩
abbrev main_call7_call0_call0_v153 : Ref sig .tc := ⟨.hbm, 3357, rfl⟩
abbrev main_call7_call0_call0_v154 : Ref sig .tc := ⟨.hbm, 3358, rfl⟩
abbrev main_call7_call0_call0_v155 : Ref sig .tc := ⟨.hbm, 3359, rfl⟩
abbrev main_call7_call0_call0_v156 : Ref sig .tc := ⟨.hbm, 3360, rfl⟩
abbrev main_call7_call0_call0_c_40 : Ref sig .tc := ⟨.hbm, 3361, rfl⟩
abbrev main_call7_call0_call0_v157 : Ref sig .tc := ⟨.hbm, 3362, rfl⟩
abbrev main_call7_call0_call0_v158 : Ref sig .tc := ⟨.hbm, 3363, rfl⟩
abbrev main_call7_call0_call0_c_41 : Ref sig .tc := ⟨.hbm, 3364, rfl⟩
abbrev main_call7_call0_call0_v159 : Ref sig .tc := ⟨.hbm, 3365, rfl⟩
abbrev main_call7_call0_call0_v160 : Ref sig .tc := ⟨.hbm, 3366, rfl⟩
abbrev main_call7_call0_call0_v161 : Ref sig .tc := ⟨.hbm, 3367, rfl⟩
abbrev main_call7_call0_call0_v162 : Ref sig .tc := ⟨.hbm, 3368, rfl⟩
abbrev main_call7_call0_call0_v163 : Ref sig .tc := ⟨.hbm, 3369, rfl⟩
abbrev main_call7_call0_call0_c_42 : Ref sig .tc := ⟨.hbm, 3370, rfl⟩
abbrev main_call7_call0_call0_v164 : Ref sig .tc := ⟨.hbm, 3371, rfl⟩
abbrev main_call7_call0_call0_v165 : Ref sig .tc := ⟨.hbm, 3372, rfl⟩
abbrev main_call7_call0_call0_c_43 : Ref sig .tc := ⟨.hbm, 3373, rfl⟩
abbrev main_call7_call0_call0_v166 : Ref sig .tc := ⟨.hbm, 3374, rfl⟩
abbrev main_call7_call0_call0_v167 : Ref sig .tc := ⟨.hbm, 3375, rfl⟩
abbrev main_call7_call0_call0_v168 : Ref sig .tc := ⟨.hbm, 3376, rfl⟩
abbrev main_call7_call0_call0_v169 : Ref sig .tc := ⟨.hbm, 3377, rfl⟩
abbrev main_call7_call0_call0_v170 : Ref sig .tc := ⟨.hbm, 3378, rfl⟩
abbrev main_call7_call0_v11_0 : Ref sig .tc := ⟨.hbm, 3379, rfl⟩
abbrev main_call7_call0_call0_v172 : Ref sig .tc := ⟨.hbm, 3380, rfl⟩
abbrev main_call7_call0_call0_v173 : Ref sig .tc := ⟨.hbm, 3381, rfl⟩
abbrev main_call7_call0_call0_c_44 : Ref sig .tc := ⟨.hbm, 3382, rfl⟩
abbrev main_call7_call0_call0_v174 : Ref sig .tc := ⟨.hbm, 3383, rfl⟩
abbrev main_call7_call0_v11_1 : Ref sig .tc := ⟨.hbm, 3384, rfl⟩
abbrev main_call7_call0_v12 : Ref sig .tc := ⟨.hbm, 3385, rfl⟩
abbrev main_call7_call0_v13 : Ref sig .tc := ⟨.hbm, 3386, rfl⟩
abbrev main_call7_v0 : Ref sig .tc := ⟨.hbm, 3387, rfl⟩
abbrev main_call7_v1 : Ref sig .tc := ⟨.hbm, 3388, rfl⟩
abbrev main_call7_v2 : Ref sig .tc := ⟨.hbm, 3389, rfl⟩
abbrev main_call7_v3 : Ref sig .tc := ⟨.hbm, 3390, rfl⟩
abbrev main_call7_v4 : Ref sig .tc := ⟨.hbm, 3391, rfl⟩
abbrev main_call7_v5 : Ref sig .tc := ⟨.hbm, 3392, rfl⟩
abbrev main_call7_v6 : Ref sig .tc := ⟨.hbm, 3393, rfl⟩
abbrev main_call7_v7 : Ref sig .tc := ⟨.hbm, 3394, rfl⟩
abbrev main_call7_v8 : Ref sig .tc := ⟨.hbm, 3395, rfl⟩
abbrev main_call7_v9 : Ref sig .tc := ⟨.hbm, 3396, rfl⟩
abbrev main_call7_c : Ref sig .tc := ⟨.hbm, 3397, rfl⟩
abbrev main_call7_v10 : Ref sig .tc := ⟨.hbm, 3398, rfl⟩
abbrev main_call7_v11 : Ref sig .tc := ⟨.hbm, 3399, rfl⟩
abbrev main_call7_c_0 : Ref sig .tc := ⟨.hbm, 3400, rfl⟩
abbrev main_call7_v12 : Ref sig .tc := ⟨.hbm, 3401, rfl⟩
abbrev main_call7_v13 : Ref sig .tc := ⟨.hbm, 3402, rfl⟩
abbrev main_call7_v14 : Ref sig .tc := ⟨.hbm, 3403, rfl⟩
abbrev main_call7_v15 : Ref sig .tc := ⟨.hbm, 3404, rfl⟩
abbrev main_call7_call1_v0 : Ref sig .tc := ⟨.hbm, 3405, rfl⟩
abbrev main_call7_call1_c : Ref sig .tc := ⟨.hbm, 3406, rfl⟩
abbrev main_call7_call1_v1 : Ref sig .tc := ⟨.hbm, 3407, rfl⟩
abbrev main_call7_call1_v2 : Ref sig .tc := ⟨.hbm, 3408, rfl⟩
abbrev main_call7_call1_v3 : Ref sig .tc := ⟨.hbm, 3409, rfl⟩
abbrev main_call7_call1_v4 : Ref sig .tc := ⟨.hbm, 3410, rfl⟩
abbrev main_call7_call1_v5 : Ref sig .tc := ⟨.hbm, 3411, rfl⟩
abbrev main_call7_call1_v6 : Ref sig .tc := ⟨.hbm, 3412, rfl⟩
abbrev main_call7_call1_c_0 : Ref sig .tc := ⟨.hbm, 3413, rfl⟩
abbrev main_call7_call1_v7 : Ref sig .tc := ⟨.hbm, 3414, rfl⟩
abbrev main_call7_call1_v8 : Ref sig .tc := ⟨.hbm, 3415, rfl⟩
abbrev main_call7_call1_c_1 : Ref sig .tc := ⟨.hbm, 3416, rfl⟩
abbrev main_call7_call1_v9 : Ref sig .tc := ⟨.hbm, 3417, rfl⟩
abbrev main_call7_call1_v10 : Ref sig .tc := ⟨.hbm, 3418, rfl⟩
abbrev main_call7_call1_v11 : Ref sig .tc := ⟨.hbm, 3419, rfl⟩
abbrev main_call7_call1_v12 : Ref sig .tc := ⟨.hbm, 3420, rfl⟩
abbrev main_call7_call1_v13 : Ref sig .tc := ⟨.hbm, 3421, rfl⟩
abbrev main_call7_call1_c_2 : Ref sig .tc := ⟨.hbm, 3422, rfl⟩
abbrev main_call7_call1_v14 : Ref sig .tc := ⟨.hbm, 3423, rfl⟩
abbrev main_call7_call1_v15 : Ref sig .tc := ⟨.hbm, 3424, rfl⟩
abbrev main_call7_call1_c_3 : Ref sig .tc := ⟨.hbm, 3425, rfl⟩
abbrev main_call7_call1_v16 : Ref sig .tc := ⟨.hbm, 3426, rfl⟩
abbrev main_call7_call1_v17 : Ref sig .tc := ⟨.hbm, 3427, rfl⟩
abbrev main_call7_call1_v18 : Ref sig .tc := ⟨.hbm, 3428, rfl⟩
abbrev main_call7_call1_v19 : Ref sig .tc := ⟨.hbm, 3429, rfl⟩
abbrev main_call7_call1_v20 : Ref sig .tc := ⟨.hbm, 3430, rfl⟩
abbrev main_call7_call1_c_4 : Ref sig .tc := ⟨.hbm, 3431, rfl⟩
abbrev main_call7_call1_v21 : Ref sig .tc := ⟨.hbm, 3432, rfl⟩
abbrev main_call7_call1_v22 : Ref sig .tc := ⟨.hbm, 3433, rfl⟩
abbrev main_call7_call1_c_5 : Ref sig .tc := ⟨.hbm, 3434, rfl⟩
abbrev main_call7_call1_v23 : Ref sig .tc := ⟨.hbm, 3435, rfl⟩
abbrev main_call7_call1_v24 : Ref sig .tc := ⟨.hbm, 3436, rfl⟩
abbrev main_call7_call1_v25 : Ref sig .tc := ⟨.hbm, 3437, rfl⟩
abbrev main_call7_call1_v26 : Ref sig .tc := ⟨.hbm, 3438, rfl⟩
abbrev main_call7_call1_v27 : Ref sig .tc := ⟨.hbm, 3439, rfl⟩
abbrev main_call7_call1_c_6 : Ref sig .tc := ⟨.hbm, 3440, rfl⟩
abbrev main_call7_call1_v28 : Ref sig .tc := ⟨.hbm, 3441, rfl⟩
abbrev main_call7_call1_v29 : Ref sig .tc := ⟨.hbm, 3442, rfl⟩
abbrev main_call7_call1_c_7 : Ref sig .tc := ⟨.hbm, 3443, rfl⟩
abbrev main_call7_call1_v30 : Ref sig .tc := ⟨.hbm, 3444, rfl⟩
abbrev main_call7_call1_v31 : Ref sig .tc := ⟨.hbm, 3445, rfl⟩
abbrev main_call7_call1_v32 : Ref sig .tc := ⟨.hbm, 3446, rfl⟩
abbrev main_call7_call1_v33 : Ref sig .tc := ⟨.hbm, 3447, rfl⟩
abbrev main_call7_call1_v34 : Ref sig .tc := ⟨.hbm, 3448, rfl⟩
abbrev main_call7_call1_v35 : Ref sig .tc := ⟨.hbm, 3449, rfl⟩
abbrev main_call7_call1_v36 : Ref sig .tc := ⟨.hbm, 3450, rfl⟩
abbrev main_call7_call1_v37 : Ref sig .tc := ⟨.hbm, 3451, rfl⟩
abbrev main_call7_call1_c_8 : Ref sig .tc := ⟨.hbm, 3452, rfl⟩
abbrev main_call7_call1_v38 : Ref sig .tc := ⟨.hbm, 3453, rfl⟩
abbrev main_call7_call1_v39 : Ref sig .tc := ⟨.hbm, 3454, rfl⟩
abbrev main_call7_call1_v40 : Ref sig .tc := ⟨.hbm, 3455, rfl⟩
abbrev main_call7_call1_c_9 : Ref sig .tc := ⟨.hbm, 3456, rfl⟩
abbrev main_call7_call1_v41 : Ref sig .tc := ⟨.hbm, 3457, rfl⟩
abbrev main_call7_call1_v42 : Ref sig .tc := ⟨.hbm, 3458, rfl⟩
abbrev main_call7_call1_c_10 : Ref sig .tc := ⟨.hbm, 3459, rfl⟩
abbrev main_call7_call1_v43 : Ref sig .tc := ⟨.hbm, 3460, rfl⟩
abbrev main_call7_call1_v44 : Ref sig .tc := ⟨.hbm, 3461, rfl⟩
abbrev main_call7_call1_v45 : Ref sig .tc := ⟨.hbm, 3462, rfl⟩
abbrev main_call7_call1_v46 : Ref sig .tc := ⟨.hbm, 3463, rfl⟩
abbrev main_call7_call1_v47 : Ref sig .tc := ⟨.hbm, 3464, rfl⟩
abbrev main_call7_call1_c_11 : Ref sig .tc := ⟨.hbm, 3465, rfl⟩
abbrev main_call7_call1_v48 : Ref sig .tc := ⟨.hbm, 3466, rfl⟩
abbrev main_call7_call1_v49 : Ref sig .tc := ⟨.hbm, 3467, rfl⟩
abbrev main_call7_call1_c_12 : Ref sig .tc := ⟨.hbm, 3468, rfl⟩
abbrev main_call7_call1_v50 : Ref sig .tc := ⟨.hbm, 3469, rfl⟩
abbrev main_call7_call1_v51 : Ref sig .tc := ⟨.hbm, 3470, rfl⟩
abbrev main_call7_call1_v52 : Ref sig .tc := ⟨.hbm, 3471, rfl⟩
abbrev main_call7_call1_v53 : Ref sig .tc := ⟨.hbm, 3472, rfl⟩
abbrev main_call7_call1_v54 : Ref sig .tc := ⟨.hbm, 3473, rfl⟩
abbrev main_call7_call1_c_13 : Ref sig .tc := ⟨.hbm, 3474, rfl⟩
abbrev main_call7_call1_v55 : Ref sig .tc := ⟨.hbm, 3475, rfl⟩
abbrev main_call7_call1_v56 : Ref sig .tc := ⟨.hbm, 3476, rfl⟩
abbrev main_call7_call1_c_14 : Ref sig .tc := ⟨.hbm, 3477, rfl⟩
abbrev main_call7_call1_v57 : Ref sig .tc := ⟨.hbm, 3478, rfl⟩
abbrev main_call7_call1_v58 : Ref sig .tc := ⟨.hbm, 3479, rfl⟩
abbrev main_call7_call1_v59 : Ref sig .tc := ⟨.hbm, 3480, rfl⟩
abbrev main_call7_call1_v60 : Ref sig .tc := ⟨.hbm, 3481, rfl⟩
abbrev main_call7_call1_v61 : Ref sig .tc := ⟨.hbm, 3482, rfl⟩
abbrev main_call7_call1_c_15 : Ref sig .tc := ⟨.hbm, 3483, rfl⟩
abbrev main_call7_call1_v62 : Ref sig .tc := ⟨.hbm, 3484, rfl⟩
abbrev main_call7_call1_v63 : Ref sig .tc := ⟨.hbm, 3485, rfl⟩
abbrev main_call7_call1_c_16 : Ref sig .tc := ⟨.hbm, 3486, rfl⟩
abbrev main_call7_call1_v64 : Ref sig .tc := ⟨.hbm, 3487, rfl⟩
abbrev main_call7_call1_v65 : Ref sig .tc := ⟨.hbm, 3488, rfl⟩
abbrev main_call7_call1_v66 : Ref sig .tc := ⟨.hbm, 3489, rfl⟩
abbrev main_call7_call1_v67 : Ref sig .tc := ⟨.hbm, 3490, rfl⟩
abbrev main_call7_call1_v68 : Ref sig .tc := ⟨.hbm, 3491, rfl⟩
abbrev main_call7_call1_v69 : Ref sig .tc := ⟨.hbm, 3492, rfl⟩
abbrev main_call7_call1_v70 : Ref sig .tc := ⟨.hbm, 3493, rfl⟩
abbrev main_call7_call1_v71 : Ref sig .tc := ⟨.hbm, 3494, rfl⟩
abbrev main_call7_call1_c_17 : Ref sig .tc := ⟨.hbm, 3495, rfl⟩
abbrev main_call7_call1_v72 : Ref sig .tc := ⟨.hbm, 3496, rfl⟩
abbrev main_call7_call1_v73 : Ref sig .tc := ⟨.hbm, 3497, rfl⟩
abbrev main_call7_call1_v74 : Ref sig .tc := ⟨.hbm, 3498, rfl⟩
abbrev main_call7_call1_c_18 : Ref sig .tc := ⟨.hbm, 3499, rfl⟩
abbrev main_call7_call1_v75 : Ref sig .tc := ⟨.hbm, 3500, rfl⟩
abbrev main_call7_call1_v76 : Ref sig .tc := ⟨.hbm, 3501, rfl⟩
abbrev main_call7_call1_c_19 : Ref sig .tc := ⟨.hbm, 3502, rfl⟩
abbrev main_call7_call1_v77 : Ref sig .tc := ⟨.hbm, 3503, rfl⟩
abbrev main_call7_call1_v78 : Ref sig .tc := ⟨.hbm, 3504, rfl⟩
abbrev main_call7_call1_v79 : Ref sig .tc := ⟨.hbm, 3505, rfl⟩
abbrev main_call7_call1_v80 : Ref sig .tc := ⟨.hbm, 3506, rfl⟩
abbrev main_call7_call1_v81 : Ref sig .tc := ⟨.hbm, 3507, rfl⟩
abbrev main_call7_call1_c_20 : Ref sig .tc := ⟨.hbm, 3508, rfl⟩
abbrev main_call7_call1_v82 : Ref sig .tc := ⟨.hbm, 3509, rfl⟩
abbrev main_call7_call1_v83 : Ref sig .tc := ⟨.hbm, 3510, rfl⟩
abbrev main_call7_call1_c_21 : Ref sig .tc := ⟨.hbm, 3511, rfl⟩
abbrev main_call7_call1_v84 : Ref sig .tc := ⟨.hbm, 3512, rfl⟩
abbrev main_call7_call1_v85 : Ref sig .tc := ⟨.hbm, 3513, rfl⟩
abbrev main_call7_call1_v86 : Ref sig .tc := ⟨.hbm, 3514, rfl⟩
abbrev main_call7_call1_v87 : Ref sig .tc := ⟨.hbm, 3515, rfl⟩
abbrev main_call7_call1_v88 : Ref sig .tc := ⟨.hbm, 3516, rfl⟩
abbrev main_call7_call1_c_22 : Ref sig .tc := ⟨.hbm, 3517, rfl⟩
abbrev main_call7_call1_v89 : Ref sig .tc := ⟨.hbm, 3518, rfl⟩
abbrev main_call7_call1_v90 : Ref sig .tc := ⟨.hbm, 3519, rfl⟩
abbrev main_call7_call1_c_23 : Ref sig .tc := ⟨.hbm, 3520, rfl⟩
abbrev main_call7_call1_v91 : Ref sig .tc := ⟨.hbm, 3521, rfl⟩
abbrev main_call7_call1_v92 : Ref sig .tc := ⟨.hbm, 3522, rfl⟩
abbrev main_call7_call1_v93 : Ref sig .tc := ⟨.hbm, 3523, rfl⟩
abbrev main_call7_call1_v94 : Ref sig .tc := ⟨.hbm, 3524, rfl⟩
abbrev main_call7_call1_v95 : Ref sig .tc := ⟨.hbm, 3525, rfl⟩
abbrev main_call7_call1_c_24 : Ref sig .tc := ⟨.hbm, 3526, rfl⟩
abbrev main_call7_call1_v96 : Ref sig .tc := ⟨.hbm, 3527, rfl⟩
abbrev main_call7_call1_v97 : Ref sig .tc := ⟨.hbm, 3528, rfl⟩
abbrev main_call7_call1_c_25 : Ref sig .tc := ⟨.hbm, 3529, rfl⟩
abbrev main_call7_call1_v98 : Ref sig .tc := ⟨.hbm, 3530, rfl⟩
abbrev main_call7_call1_v99 : Ref sig .tc := ⟨.hbm, 3531, rfl⟩
abbrev main_call7_call1_v100 : Ref sig .tc := ⟨.hbm, 3532, rfl⟩
abbrev main_call7_call1_v101 : Ref sig .tc := ⟨.hbm, 3533, rfl⟩
abbrev main_call7_call1_v102 : Ref sig .tc := ⟨.hbm, 3534, rfl⟩
abbrev main_call7_call1_v103 : Ref sig .tc := ⟨.hbm, 3535, rfl⟩
abbrev main_call7_call1_v104 : Ref sig .tc := ⟨.hbm, 3536, rfl⟩
abbrev main_call7_call1_v105 : Ref sig .tc := ⟨.hbm, 3537, rfl⟩
abbrev main_call7_call1_c_26 : Ref sig .tc := ⟨.hbm, 3538, rfl⟩
abbrev main_call7_call1_v106 : Ref sig .tc := ⟨.hbm, 3539, rfl⟩
abbrev main_call7_call1_v107 : Ref sig .tc := ⟨.hbm, 3540, rfl⟩
abbrev main_call7_call1_v108 : Ref sig .tc := ⟨.hbm, 3541, rfl⟩
abbrev main_call7_call1_c_27 : Ref sig .tc := ⟨.hbm, 3542, rfl⟩
abbrev main_call7_call1_v109 : Ref sig .tc := ⟨.hbm, 3543, rfl⟩
abbrev main_call7_call1_v110 : Ref sig .tc := ⟨.hbm, 3544, rfl⟩
abbrev main_call7_call1_c_28 : Ref sig .tc := ⟨.hbm, 3545, rfl⟩
abbrev main_call7_call1_v111 : Ref sig .tc := ⟨.hbm, 3546, rfl⟩
abbrev main_call7_call1_v112 : Ref sig .tc := ⟨.hbm, 3547, rfl⟩
abbrev main_call7_call1_v113 : Ref sig .tc := ⟨.hbm, 3548, rfl⟩
abbrev main_call7_call1_v114 : Ref sig .tc := ⟨.hbm, 3549, rfl⟩
abbrev main_call7_call1_v115 : Ref sig .tc := ⟨.hbm, 3550, rfl⟩
abbrev main_call7_call1_c_29 : Ref sig .tc := ⟨.hbm, 3551, rfl⟩
abbrev main_call7_call1_v116 : Ref sig .tc := ⟨.hbm, 3552, rfl⟩
abbrev main_call7_call1_v117 : Ref sig .tc := ⟨.hbm, 3553, rfl⟩
abbrev main_call7_call1_c_30 : Ref sig .tc := ⟨.hbm, 3554, rfl⟩
abbrev main_call7_call1_v118 : Ref sig .tc := ⟨.hbm, 3555, rfl⟩
abbrev main_call7_call1_v119 : Ref sig .tc := ⟨.hbm, 3556, rfl⟩
abbrev main_call7_call1_v120 : Ref sig .tc := ⟨.hbm, 3557, rfl⟩
abbrev main_call7_call1_v121 : Ref sig .tc := ⟨.hbm, 3558, rfl⟩
abbrev main_call7_call1_v122 : Ref sig .tc := ⟨.hbm, 3559, rfl⟩
abbrev main_call7_call1_c_31 : Ref sig .tc := ⟨.hbm, 3560, rfl⟩
abbrev main_call7_call1_v123 : Ref sig .tc := ⟨.hbm, 3561, rfl⟩
abbrev main_call7_call1_v124 : Ref sig .tc := ⟨.hbm, 3562, rfl⟩
abbrev main_call7_call1_c_32 : Ref sig .tc := ⟨.hbm, 3563, rfl⟩
abbrev main_call7_call1_v125 : Ref sig .tc := ⟨.hbm, 3564, rfl⟩
abbrev main_call7_call1_v126 : Ref sig .tc := ⟨.hbm, 3565, rfl⟩
abbrev main_call7_call1_v127 : Ref sig .tc := ⟨.hbm, 3566, rfl⟩
abbrev main_call7_call1_v128 : Ref sig .tc := ⟨.hbm, 3567, rfl⟩
abbrev main_call7_call1_v129 : Ref sig .tc := ⟨.hbm, 3568, rfl⟩
abbrev main_call7_call1_c_33 : Ref sig .tc := ⟨.hbm, 3569, rfl⟩
abbrev main_call7_call1_v130 : Ref sig .tc := ⟨.hbm, 3570, rfl⟩
abbrev main_call7_call1_v131 : Ref sig .tc := ⟨.hbm, 3571, rfl⟩
abbrev main_call7_call1_c_34 : Ref sig .tc := ⟨.hbm, 3572, rfl⟩
abbrev main_call7_call1_v132 : Ref sig .tc := ⟨.hbm, 3573, rfl⟩
abbrev main_call7_call1_v133 : Ref sig .tc := ⟨.hbm, 3574, rfl⟩
abbrev main_call7_call1_v134 : Ref sig .tc := ⟨.hbm, 3575, rfl⟩
abbrev main_call7_call1_v135 : Ref sig .tc := ⟨.hbm, 3576, rfl⟩
abbrev main_call7_call1_v136 : Ref sig .tc := ⟨.hbm, 3577, rfl⟩
abbrev main_call7_call1_v137 : Ref sig .tc := ⟨.hbm, 3578, rfl⟩
abbrev main_call7_call1_v138 : Ref sig .tc := ⟨.hbm, 3579, rfl⟩
abbrev main_call7_call1_v139 : Ref sig .tc := ⟨.hbm, 3580, rfl⟩
abbrev main_call7_call1_c_35 : Ref sig .tc := ⟨.hbm, 3581, rfl⟩
abbrev main_call7_call1_v140 : Ref sig .tc := ⟨.hbm, 3582, rfl⟩
abbrev main_call7_call1_v141 : Ref sig .tc := ⟨.hbm, 3583, rfl⟩
abbrev main_call7_call1_v142 : Ref sig .tc := ⟨.hbm, 3584, rfl⟩
abbrev main_call7_call1_c_36 : Ref sig .tc := ⟨.hbm, 3585, rfl⟩
abbrev main_call7_call1_v143 : Ref sig .tc := ⟨.hbm, 3586, rfl⟩
abbrev main_call7_call1_v144 : Ref sig .tc := ⟨.hbm, 3587, rfl⟩
abbrev main_call7_call1_c_37 : Ref sig .tc := ⟨.hbm, 3588, rfl⟩
abbrev main_call7_call1_v145 : Ref sig .tc := ⟨.hbm, 3589, rfl⟩
abbrev main_call7_call1_v146 : Ref sig .tc := ⟨.hbm, 3590, rfl⟩
abbrev main_call7_call1_v147 : Ref sig .tc := ⟨.hbm, 3591, rfl⟩
abbrev main_call7_call1_v148 : Ref sig .tc := ⟨.hbm, 3592, rfl⟩
abbrev main_call7_call1_v149 : Ref sig .tc := ⟨.hbm, 3593, rfl⟩
abbrev main_call7_call1_c_38 : Ref sig .tc := ⟨.hbm, 3594, rfl⟩
abbrev main_call7_call1_v150 : Ref sig .tc := ⟨.hbm, 3595, rfl⟩
abbrev main_call7_call1_v151 : Ref sig .tc := ⟨.hbm, 3596, rfl⟩
abbrev main_call7_call1_c_39 : Ref sig .tc := ⟨.hbm, 3597, rfl⟩
abbrev main_call7_call1_v152 : Ref sig .tc := ⟨.hbm, 3598, rfl⟩
abbrev main_call7_call1_v153 : Ref sig .tc := ⟨.hbm, 3599, rfl⟩
abbrev main_call7_call1_v154 : Ref sig .tc := ⟨.hbm, 3600, rfl⟩
abbrev main_call7_call1_v155 : Ref sig .tc := ⟨.hbm, 3601, rfl⟩
abbrev main_call7_call1_v156 : Ref sig .tc := ⟨.hbm, 3602, rfl⟩
abbrev main_call7_call1_c_40 : Ref sig .tc := ⟨.hbm, 3603, rfl⟩
abbrev main_call7_call1_v157 : Ref sig .tc := ⟨.hbm, 3604, rfl⟩
abbrev main_call7_call1_v158 : Ref sig .tc := ⟨.hbm, 3605, rfl⟩
abbrev main_call7_call1_c_41 : Ref sig .tc := ⟨.hbm, 3606, rfl⟩
abbrev main_call7_call1_v159 : Ref sig .tc := ⟨.hbm, 3607, rfl⟩
abbrev main_call7_call1_v160 : Ref sig .tc := ⟨.hbm, 3608, rfl⟩
abbrev main_call7_call1_v161 : Ref sig .tc := ⟨.hbm, 3609, rfl⟩
abbrev main_call7_call1_v162 : Ref sig .tc := ⟨.hbm, 3610, rfl⟩
abbrev main_call7_call1_v163 : Ref sig .tc := ⟨.hbm, 3611, rfl⟩
abbrev main_call7_call1_c_42 : Ref sig .tc := ⟨.hbm, 3612, rfl⟩
abbrev main_call7_call1_v164 : Ref sig .tc := ⟨.hbm, 3613, rfl⟩
abbrev main_call7_call1_v165 : Ref sig .tc := ⟨.hbm, 3614, rfl⟩
abbrev main_call7_call1_c_43 : Ref sig .tc := ⟨.hbm, 3615, rfl⟩
abbrev main_call7_call1_v166 : Ref sig .tc := ⟨.hbm, 3616, rfl⟩
abbrev main_call7_call1_v167 : Ref sig .tc := ⟨.hbm, 3617, rfl⟩
abbrev main_call7_call1_v168 : Ref sig .tc := ⟨.hbm, 3618, rfl⟩
abbrev main_call7_call1_v169 : Ref sig .tc := ⟨.hbm, 3619, rfl⟩
abbrev main_call7_call1_v170 : Ref sig .tc := ⟨.hbm, 3620, rfl⟩
abbrev main_call7_v16_0 : Ref sig .tc := ⟨.hbm, 3621, rfl⟩
abbrev main_call7_call1_v172 : Ref sig .tc := ⟨.hbm, 3622, rfl⟩
abbrev main_call7_call1_v173 : Ref sig .tc := ⟨.hbm, 3623, rfl⟩
abbrev main_call7_call1_c_44 : Ref sig .tc := ⟨.hbm, 3624, rfl⟩
abbrev main_call7_call1_v174 : Ref sig .tc := ⟨.hbm, 3625, rfl⟩
abbrev main_call7_v16_1 : Ref sig .tc := ⟨.hbm, 3626, rfl⟩
abbrev main_call7_v17 : Ref sig .tc := ⟨.hbm, 3627, rfl⟩
abbrev main_call7_v18_0 : Ref sig .tc := ⟨.hbm, 3628, rfl⟩
abbrev main_v35 : Ref sig .tc := ⟨.hbm, 3629, rfl⟩
abbrev main_v36 : Ref sig .tc := ⟨.hbm, 3630, rfl⟩
abbrev main_v37 : Ref sig .tc := ⟨.hbm, 3631, rfl⟩
abbrev main_v38 : Ref sig .tc := ⟨.hbm, 3632, rfl⟩
abbrev main_call8_call0_v0 : Ref sig .tc := ⟨.hbm, 3633, rfl⟩
abbrev main_call8_call0_v1 : Ref sig .tc := ⟨.hbm, 3634, rfl⟩
abbrev main_call8_call0_v2 : Ref sig .tc := ⟨.hbm, 3635, rfl⟩
abbrev main_call8_call0_v3 : Ref sig .tc := ⟨.hbm, 3636, rfl⟩
abbrev main_call8_call0_v4 : Ref sig .tc := ⟨.hbm, 3637, rfl⟩
abbrev main_call8_call0_c : Ref sig .tc := ⟨.hbm, 3638, rfl⟩
abbrev main_call8_call0_v5 : Ref sig .tc := ⟨.hbm, 3639, rfl⟩
abbrev main_call8_call0_v6 : Ref sig .tc := ⟨.hbm, 3640, rfl⟩
abbrev main_call8_call0_c_0 : Ref sig .tc := ⟨.hbm, 3641, rfl⟩
abbrev main_call8_call0_v7 : Ref sig .tc := ⟨.hbm, 3642, rfl⟩
abbrev main_call8_call0_v8 : Ref sig .tc := ⟨.hbm, 3643, rfl⟩
abbrev main_call8_call0_v9 : Ref sig .tc := ⟨.hbm, 3644, rfl⟩
abbrev main_call8_call0_v10 : Ref sig .tc := ⟨.hbm, 3645, rfl⟩
abbrev main_call8_call0_call0_v0 : Ref sig .tc := ⟨.hbm, 3646, rfl⟩
abbrev main_call8_call0_call0_c : Ref sig .tc := ⟨.hbm, 3647, rfl⟩
abbrev main_call8_call0_call0_v1 : Ref sig .tc := ⟨.hbm, 3648, rfl⟩
abbrev main_call8_call0_call0_v2 : Ref sig .tc := ⟨.hbm, 3649, rfl⟩
abbrev main_call8_call0_call0_v3 : Ref sig .tc := ⟨.hbm, 3650, rfl⟩
abbrev main_call8_call0_call0_v4 : Ref sig .tc := ⟨.hbm, 3651, rfl⟩
abbrev main_call8_call0_call0_v5 : Ref sig .tc := ⟨.hbm, 3652, rfl⟩
abbrev main_call8_call0_call0_v6 : Ref sig .tc := ⟨.hbm, 3653, rfl⟩
abbrev main_call8_call0_call0_c_0 : Ref sig .tc := ⟨.hbm, 3654, rfl⟩
abbrev main_call8_call0_call0_v7 : Ref sig .tc := ⟨.hbm, 3655, rfl⟩
abbrev main_call8_call0_call0_v8 : Ref sig .tc := ⟨.hbm, 3656, rfl⟩
abbrev main_call8_call0_call0_c_1 : Ref sig .tc := ⟨.hbm, 3657, rfl⟩
abbrev main_call8_call0_call0_v9 : Ref sig .tc := ⟨.hbm, 3658, rfl⟩
abbrev main_call8_call0_call0_v10 : Ref sig .tc := ⟨.hbm, 3659, rfl⟩
abbrev main_call8_call0_call0_v11 : Ref sig .tc := ⟨.hbm, 3660, rfl⟩
abbrev main_call8_call0_call0_v12 : Ref sig .tc := ⟨.hbm, 3661, rfl⟩
abbrev main_call8_call0_call0_v13 : Ref sig .tc := ⟨.hbm, 3662, rfl⟩
abbrev main_call8_call0_call0_c_2 : Ref sig .tc := ⟨.hbm, 3663, rfl⟩
abbrev main_call8_call0_call0_v14 : Ref sig .tc := ⟨.hbm, 3664, rfl⟩
abbrev main_call8_call0_call0_v15 : Ref sig .tc := ⟨.hbm, 3665, rfl⟩
abbrev main_call8_call0_call0_c_3 : Ref sig .tc := ⟨.hbm, 3666, rfl⟩
abbrev main_call8_call0_call0_v16 : Ref sig .tc := ⟨.hbm, 3667, rfl⟩
abbrev main_call8_call0_call0_v17 : Ref sig .tc := ⟨.hbm, 3668, rfl⟩
abbrev main_call8_call0_call0_v18 : Ref sig .tc := ⟨.hbm, 3669, rfl⟩
abbrev main_call8_call0_call0_v19 : Ref sig .tc := ⟨.hbm, 3670, rfl⟩
abbrev main_call8_call0_call0_v20 : Ref sig .tc := ⟨.hbm, 3671, rfl⟩
abbrev main_call8_call0_call0_c_4 : Ref sig .tc := ⟨.hbm, 3672, rfl⟩
abbrev main_call8_call0_call0_v21 : Ref sig .tc := ⟨.hbm, 3673, rfl⟩
abbrev main_call8_call0_call0_v22 : Ref sig .tc := ⟨.hbm, 3674, rfl⟩
abbrev main_call8_call0_call0_c_5 : Ref sig .tc := ⟨.hbm, 3675, rfl⟩
abbrev main_call8_call0_call0_v23 : Ref sig .tc := ⟨.hbm, 3676, rfl⟩
abbrev main_call8_call0_call0_v24 : Ref sig .tc := ⟨.hbm, 3677, rfl⟩
abbrev main_call8_call0_call0_v25 : Ref sig .tc := ⟨.hbm, 3678, rfl⟩
abbrev main_call8_call0_call0_v26 : Ref sig .tc := ⟨.hbm, 3679, rfl⟩
abbrev main_call8_call0_call0_v27 : Ref sig .tc := ⟨.hbm, 3680, rfl⟩
abbrev main_call8_call0_call0_c_6 : Ref sig .tc := ⟨.hbm, 3681, rfl⟩
abbrev main_call8_call0_call0_v28 : Ref sig .tc := ⟨.hbm, 3682, rfl⟩
abbrev main_call8_call0_call0_v29 : Ref sig .tc := ⟨.hbm, 3683, rfl⟩
abbrev main_call8_call0_call0_c_7 : Ref sig .tc := ⟨.hbm, 3684, rfl⟩
abbrev main_call8_call0_call0_v30 : Ref sig .tc := ⟨.hbm, 3685, rfl⟩
abbrev main_call8_call0_call0_v31 : Ref sig .tc := ⟨.hbm, 3686, rfl⟩
abbrev main_call8_call0_call0_v32 : Ref sig .tc := ⟨.hbm, 3687, rfl⟩
abbrev main_call8_call0_call0_v33 : Ref sig .tc := ⟨.hbm, 3688, rfl⟩
abbrev main_call8_call0_call0_v34 : Ref sig .tc := ⟨.hbm, 3689, rfl⟩
abbrev main_call8_call0_call0_v35 : Ref sig .tc := ⟨.hbm, 3690, rfl⟩
abbrev main_call8_call0_call0_v36 : Ref sig .tc := ⟨.hbm, 3691, rfl⟩
abbrev main_call8_call0_call0_v37 : Ref sig .tc := ⟨.hbm, 3692, rfl⟩
abbrev main_call8_call0_call0_c_8 : Ref sig .tc := ⟨.hbm, 3693, rfl⟩
abbrev main_call8_call0_call0_v38 : Ref sig .tc := ⟨.hbm, 3694, rfl⟩
abbrev main_call8_call0_call0_v39 : Ref sig .tc := ⟨.hbm, 3695, rfl⟩
abbrev main_call8_call0_call0_v40 : Ref sig .tc := ⟨.hbm, 3696, rfl⟩
abbrev main_call8_call0_call0_c_9 : Ref sig .tc := ⟨.hbm, 3697, rfl⟩
abbrev main_call8_call0_call0_v41 : Ref sig .tc := ⟨.hbm, 3698, rfl⟩
abbrev main_call8_call0_call0_v42 : Ref sig .tc := ⟨.hbm, 3699, rfl⟩
abbrev main_call8_call0_call0_c_10 : Ref sig .tc := ⟨.hbm, 3700, rfl⟩
abbrev main_call8_call0_call0_v43 : Ref sig .tc := ⟨.hbm, 3701, rfl⟩
abbrev main_call8_call0_call0_v44 : Ref sig .tc := ⟨.hbm, 3702, rfl⟩
abbrev main_call8_call0_call0_v45 : Ref sig .tc := ⟨.hbm, 3703, rfl⟩
abbrev main_call8_call0_call0_v46 : Ref sig .tc := ⟨.hbm, 3704, rfl⟩
abbrev main_call8_call0_call0_v47 : Ref sig .tc := ⟨.hbm, 3705, rfl⟩
abbrev main_call8_call0_call0_c_11 : Ref sig .tc := ⟨.hbm, 3706, rfl⟩
abbrev main_call8_call0_call0_v48 : Ref sig .tc := ⟨.hbm, 3707, rfl⟩
abbrev main_call8_call0_call0_v49 : Ref sig .tc := ⟨.hbm, 3708, rfl⟩
abbrev main_call8_call0_call0_c_12 : Ref sig .tc := ⟨.hbm, 3709, rfl⟩
abbrev main_call8_call0_call0_v50 : Ref sig .tc := ⟨.hbm, 3710, rfl⟩
abbrev main_call8_call0_call0_v51 : Ref sig .tc := ⟨.hbm, 3711, rfl⟩
abbrev main_call8_call0_call0_v52 : Ref sig .tc := ⟨.hbm, 3712, rfl⟩
abbrev main_call8_call0_call0_v53 : Ref sig .tc := ⟨.hbm, 3713, rfl⟩
abbrev main_call8_call0_call0_v54 : Ref sig .tc := ⟨.hbm, 3714, rfl⟩
abbrev main_call8_call0_call0_c_13 : Ref sig .tc := ⟨.hbm, 3715, rfl⟩
abbrev main_call8_call0_call0_v55 : Ref sig .tc := ⟨.hbm, 3716, rfl⟩
abbrev main_call8_call0_call0_v56 : Ref sig .tc := ⟨.hbm, 3717, rfl⟩
abbrev main_call8_call0_call0_c_14 : Ref sig .tc := ⟨.hbm, 3718, rfl⟩
abbrev main_call8_call0_call0_v57 : Ref sig .tc := ⟨.hbm, 3719, rfl⟩
abbrev main_call8_call0_call0_v58 : Ref sig .tc := ⟨.hbm, 3720, rfl⟩
abbrev main_call8_call0_call0_v59 : Ref sig .tc := ⟨.hbm, 3721, rfl⟩
abbrev main_call8_call0_call0_v60 : Ref sig .tc := ⟨.hbm, 3722, rfl⟩
abbrev main_call8_call0_call0_v61 : Ref sig .tc := ⟨.hbm, 3723, rfl⟩
abbrev main_call8_call0_call0_c_15 : Ref sig .tc := ⟨.hbm, 3724, rfl⟩
abbrev main_call8_call0_call0_v62 : Ref sig .tc := ⟨.hbm, 3725, rfl⟩
abbrev main_call8_call0_call0_v63 : Ref sig .tc := ⟨.hbm, 3726, rfl⟩
abbrev main_call8_call0_call0_c_16 : Ref sig .tc := ⟨.hbm, 3727, rfl⟩
abbrev main_call8_call0_call0_v64 : Ref sig .tc := ⟨.hbm, 3728, rfl⟩
abbrev main_call8_call0_call0_v65 : Ref sig .tc := ⟨.hbm, 3729, rfl⟩
abbrev main_call8_call0_call0_v66 : Ref sig .tc := ⟨.hbm, 3730, rfl⟩
abbrev main_call8_call0_call0_v67 : Ref sig .tc := ⟨.hbm, 3731, rfl⟩
abbrev main_call8_call0_call0_v68 : Ref sig .tc := ⟨.hbm, 3732, rfl⟩
abbrev main_call8_call0_call0_v69 : Ref sig .tc := ⟨.hbm, 3733, rfl⟩
abbrev main_call8_call0_call0_v70 : Ref sig .tc := ⟨.hbm, 3734, rfl⟩
abbrev main_call8_call0_call0_v71 : Ref sig .tc := ⟨.hbm, 3735, rfl⟩
abbrev main_call8_call0_call0_c_17 : Ref sig .tc := ⟨.hbm, 3736, rfl⟩
abbrev main_call8_call0_call0_v72 : Ref sig .tc := ⟨.hbm, 3737, rfl⟩
abbrev main_call8_call0_call0_v73 : Ref sig .tc := ⟨.hbm, 3738, rfl⟩
abbrev main_call8_call0_call0_v74 : Ref sig .tc := ⟨.hbm, 3739, rfl⟩
abbrev main_call8_call0_call0_c_18 : Ref sig .tc := ⟨.hbm, 3740, rfl⟩
abbrev main_call8_call0_call0_v75 : Ref sig .tc := ⟨.hbm, 3741, rfl⟩
abbrev main_call8_call0_call0_v76 : Ref sig .tc := ⟨.hbm, 3742, rfl⟩
abbrev main_call8_call0_call0_c_19 : Ref sig .tc := ⟨.hbm, 3743, rfl⟩
abbrev main_call8_call0_call0_v77 : Ref sig .tc := ⟨.hbm, 3744, rfl⟩
abbrev main_call8_call0_call0_v78 : Ref sig .tc := ⟨.hbm, 3745, rfl⟩
abbrev main_call8_call0_call0_v79 : Ref sig .tc := ⟨.hbm, 3746, rfl⟩
abbrev main_call8_call0_call0_v80 : Ref sig .tc := ⟨.hbm, 3747, rfl⟩
abbrev main_call8_call0_call0_v81 : Ref sig .tc := ⟨.hbm, 3748, rfl⟩
abbrev main_call8_call0_call0_c_20 : Ref sig .tc := ⟨.hbm, 3749, rfl⟩
abbrev main_call8_call0_call0_v82 : Ref sig .tc := ⟨.hbm, 3750, rfl⟩
abbrev main_call8_call0_call0_v83 : Ref sig .tc := ⟨.hbm, 3751, rfl⟩
abbrev main_call8_call0_call0_c_21 : Ref sig .tc := ⟨.hbm, 3752, rfl⟩
abbrev main_call8_call0_call0_v84 : Ref sig .tc := ⟨.hbm, 3753, rfl⟩
abbrev main_call8_call0_call0_v85 : Ref sig .tc := ⟨.hbm, 3754, rfl⟩
abbrev main_call8_call0_call0_v86 : Ref sig .tc := ⟨.hbm, 3755, rfl⟩
abbrev main_call8_call0_call0_v87 : Ref sig .tc := ⟨.hbm, 3756, rfl⟩
abbrev main_call8_call0_call0_v88 : Ref sig .tc := ⟨.hbm, 3757, rfl⟩
abbrev main_call8_call0_call0_c_22 : Ref sig .tc := ⟨.hbm, 3758, rfl⟩
abbrev main_call8_call0_call0_v89 : Ref sig .tc := ⟨.hbm, 3759, rfl⟩
abbrev main_call8_call0_call0_v90 : Ref sig .tc := ⟨.hbm, 3760, rfl⟩
abbrev main_call8_call0_call0_c_23 : Ref sig .tc := ⟨.hbm, 3761, rfl⟩
abbrev main_call8_call0_call0_v91 : Ref sig .tc := ⟨.hbm, 3762, rfl⟩
abbrev main_call8_call0_call0_v92 : Ref sig .tc := ⟨.hbm, 3763, rfl⟩
abbrev main_call8_call0_call0_v93 : Ref sig .tc := ⟨.hbm, 3764, rfl⟩
abbrev main_call8_call0_call0_v94 : Ref sig .tc := ⟨.hbm, 3765, rfl⟩
abbrev main_call8_call0_call0_v95 : Ref sig .tc := ⟨.hbm, 3766, rfl⟩
abbrev main_call8_call0_call0_c_24 : Ref sig .tc := ⟨.hbm, 3767, rfl⟩
abbrev main_call8_call0_call0_v96 : Ref sig .tc := ⟨.hbm, 3768, rfl⟩
abbrev main_call8_call0_call0_v97 : Ref sig .tc := ⟨.hbm, 3769, rfl⟩
abbrev main_call8_call0_call0_c_25 : Ref sig .tc := ⟨.hbm, 3770, rfl⟩
abbrev main_call8_call0_call0_v98 : Ref sig .tc := ⟨.hbm, 3771, rfl⟩
abbrev main_call8_call0_call0_v99 : Ref sig .tc := ⟨.hbm, 3772, rfl⟩
abbrev main_call8_call0_call0_v100 : Ref sig .tc := ⟨.hbm, 3773, rfl⟩
abbrev main_call8_call0_call0_v101 : Ref sig .tc := ⟨.hbm, 3774, rfl⟩
abbrev main_call8_call0_call0_v102 : Ref sig .tc := ⟨.hbm, 3775, rfl⟩
abbrev main_call8_call0_call0_v103 : Ref sig .tc := ⟨.hbm, 3776, rfl⟩
abbrev main_call8_call0_call0_v104 : Ref sig .tc := ⟨.hbm, 3777, rfl⟩
abbrev main_call8_call0_call0_v105 : Ref sig .tc := ⟨.hbm, 3778, rfl⟩
abbrev main_call8_call0_call0_c_26 : Ref sig .tc := ⟨.hbm, 3779, rfl⟩
abbrev main_call8_call0_call0_v106 : Ref sig .tc := ⟨.hbm, 3780, rfl⟩
abbrev main_call8_call0_call0_v107 : Ref sig .tc := ⟨.hbm, 3781, rfl⟩
abbrev main_call8_call0_call0_v108 : Ref sig .tc := ⟨.hbm, 3782, rfl⟩
abbrev main_call8_call0_call0_c_27 : Ref sig .tc := ⟨.hbm, 3783, rfl⟩
abbrev main_call8_call0_call0_v109 : Ref sig .tc := ⟨.hbm, 3784, rfl⟩
abbrev main_call8_call0_call0_v110 : Ref sig .tc := ⟨.hbm, 3785, rfl⟩
abbrev main_call8_call0_call0_c_28 : Ref sig .tc := ⟨.hbm, 3786, rfl⟩
abbrev main_call8_call0_call0_v111 : Ref sig .tc := ⟨.hbm, 3787, rfl⟩
abbrev main_call8_call0_call0_v112 : Ref sig .tc := ⟨.hbm, 3788, rfl⟩
abbrev main_call8_call0_call0_v113 : Ref sig .tc := ⟨.hbm, 3789, rfl⟩
abbrev main_call8_call0_call0_v114 : Ref sig .tc := ⟨.hbm, 3790, rfl⟩
abbrev main_call8_call0_call0_v115 : Ref sig .tc := ⟨.hbm, 3791, rfl⟩
abbrev main_call8_call0_call0_c_29 : Ref sig .tc := ⟨.hbm, 3792, rfl⟩
abbrev main_call8_call0_call0_v116 : Ref sig .tc := ⟨.hbm, 3793, rfl⟩
abbrev main_call8_call0_call0_v117 : Ref sig .tc := ⟨.hbm, 3794, rfl⟩
abbrev main_call8_call0_call0_c_30 : Ref sig .tc := ⟨.hbm, 3795, rfl⟩
abbrev main_call8_call0_call0_v118 : Ref sig .tc := ⟨.hbm, 3796, rfl⟩
abbrev main_call8_call0_call0_v119 : Ref sig .tc := ⟨.hbm, 3797, rfl⟩
abbrev main_call8_call0_call0_v120 : Ref sig .tc := ⟨.hbm, 3798, rfl⟩
abbrev main_call8_call0_call0_v121 : Ref sig .tc := ⟨.hbm, 3799, rfl⟩
abbrev main_call8_call0_call0_v122 : Ref sig .tc := ⟨.hbm, 3800, rfl⟩
abbrev main_call8_call0_call0_c_31 : Ref sig .tc := ⟨.hbm, 3801, rfl⟩
abbrev main_call8_call0_call0_v123 : Ref sig .tc := ⟨.hbm, 3802, rfl⟩
abbrev main_call8_call0_call0_v124 : Ref sig .tc := ⟨.hbm, 3803, rfl⟩
abbrev main_call8_call0_call0_c_32 : Ref sig .tc := ⟨.hbm, 3804, rfl⟩
abbrev main_call8_call0_call0_v125 : Ref sig .tc := ⟨.hbm, 3805, rfl⟩
abbrev main_call8_call0_call0_v126 : Ref sig .tc := ⟨.hbm, 3806, rfl⟩
abbrev main_call8_call0_call0_v127 : Ref sig .tc := ⟨.hbm, 3807, rfl⟩
abbrev main_call8_call0_call0_v128 : Ref sig .tc := ⟨.hbm, 3808, rfl⟩
abbrev main_call8_call0_call0_v129 : Ref sig .tc := ⟨.hbm, 3809, rfl⟩
abbrev main_call8_call0_call0_c_33 : Ref sig .tc := ⟨.hbm, 3810, rfl⟩
abbrev main_call8_call0_call0_v130 : Ref sig .tc := ⟨.hbm, 3811, rfl⟩
abbrev main_call8_call0_call0_v131 : Ref sig .tc := ⟨.hbm, 3812, rfl⟩
abbrev main_call8_call0_call0_c_34 : Ref sig .tc := ⟨.hbm, 3813, rfl⟩
abbrev main_call8_call0_call0_v132 : Ref sig .tc := ⟨.hbm, 3814, rfl⟩
abbrev main_call8_call0_call0_v133 : Ref sig .tc := ⟨.hbm, 3815, rfl⟩
abbrev main_call8_call0_call0_v134 : Ref sig .tc := ⟨.hbm, 3816, rfl⟩
abbrev main_call8_call0_call0_v135 : Ref sig .tc := ⟨.hbm, 3817, rfl⟩
abbrev main_call8_call0_call0_v136 : Ref sig .tc := ⟨.hbm, 3818, rfl⟩
abbrev main_call8_call0_call0_v137 : Ref sig .tc := ⟨.hbm, 3819, rfl⟩
abbrev main_call8_call0_call0_v138 : Ref sig .tc := ⟨.hbm, 3820, rfl⟩
abbrev main_call8_call0_call0_v139 : Ref sig .tc := ⟨.hbm, 3821, rfl⟩
abbrev main_call8_call0_call0_c_35 : Ref sig .tc := ⟨.hbm, 3822, rfl⟩
abbrev main_call8_call0_call0_v140 : Ref sig .tc := ⟨.hbm, 3823, rfl⟩
abbrev main_call8_call0_call0_v141 : Ref sig .tc := ⟨.hbm, 3824, rfl⟩
abbrev main_call8_call0_call0_v142 : Ref sig .tc := ⟨.hbm, 3825, rfl⟩
abbrev main_call8_call0_call0_c_36 : Ref sig .tc := ⟨.hbm, 3826, rfl⟩
abbrev main_call8_call0_call0_v143 : Ref sig .tc := ⟨.hbm, 3827, rfl⟩
abbrev main_call8_call0_call0_v144 : Ref sig .tc := ⟨.hbm, 3828, rfl⟩
abbrev main_call8_call0_call0_c_37 : Ref sig .tc := ⟨.hbm, 3829, rfl⟩
abbrev main_call8_call0_call0_v145 : Ref sig .tc := ⟨.hbm, 3830, rfl⟩
abbrev main_call8_call0_call0_v146 : Ref sig .tc := ⟨.hbm, 3831, rfl⟩
abbrev main_call8_call0_call0_v147 : Ref sig .tc := ⟨.hbm, 3832, rfl⟩
abbrev main_call8_call0_call0_v148 : Ref sig .tc := ⟨.hbm, 3833, rfl⟩
abbrev main_call8_call0_call0_v149 : Ref sig .tc := ⟨.hbm, 3834, rfl⟩
abbrev main_call8_call0_call0_c_38 : Ref sig .tc := ⟨.hbm, 3835, rfl⟩
abbrev main_call8_call0_call0_v150 : Ref sig .tc := ⟨.hbm, 3836, rfl⟩
abbrev main_call8_call0_call0_v151 : Ref sig .tc := ⟨.hbm, 3837, rfl⟩
abbrev main_call8_call0_call0_c_39 : Ref sig .tc := ⟨.hbm, 3838, rfl⟩
abbrev main_call8_call0_call0_v152 : Ref sig .tc := ⟨.hbm, 3839, rfl⟩
abbrev main_call8_call0_call0_v153 : Ref sig .tc := ⟨.hbm, 3840, rfl⟩
abbrev main_call8_call0_call0_v154 : Ref sig .tc := ⟨.hbm, 3841, rfl⟩
abbrev main_call8_call0_call0_v155 : Ref sig .tc := ⟨.hbm, 3842, rfl⟩
abbrev main_call8_call0_call0_v156 : Ref sig .tc := ⟨.hbm, 3843, rfl⟩
abbrev main_call8_call0_call0_c_40 : Ref sig .tc := ⟨.hbm, 3844, rfl⟩
abbrev main_call8_call0_call0_v157 : Ref sig .tc := ⟨.hbm, 3845, rfl⟩
abbrev main_call8_call0_call0_v158 : Ref sig .tc := ⟨.hbm, 3846, rfl⟩
abbrev main_call8_call0_call0_c_41 : Ref sig .tc := ⟨.hbm, 3847, rfl⟩
abbrev main_call8_call0_call0_v159 : Ref sig .tc := ⟨.hbm, 3848, rfl⟩
abbrev main_call8_call0_call0_v160 : Ref sig .tc := ⟨.hbm, 3849, rfl⟩
abbrev main_call8_call0_call0_v161 : Ref sig .tc := ⟨.hbm, 3850, rfl⟩
abbrev main_call8_call0_call0_v162 : Ref sig .tc := ⟨.hbm, 3851, rfl⟩
abbrev main_call8_call0_call0_v163 : Ref sig .tc := ⟨.hbm, 3852, rfl⟩
abbrev main_call8_call0_call0_c_42 : Ref sig .tc := ⟨.hbm, 3853, rfl⟩
abbrev main_call8_call0_call0_v164 : Ref sig .tc := ⟨.hbm, 3854, rfl⟩
abbrev main_call8_call0_call0_v165 : Ref sig .tc := ⟨.hbm, 3855, rfl⟩
abbrev main_call8_call0_call0_c_43 : Ref sig .tc := ⟨.hbm, 3856, rfl⟩
abbrev main_call8_call0_call0_v166 : Ref sig .tc := ⟨.hbm, 3857, rfl⟩
abbrev main_call8_call0_call0_v167 : Ref sig .tc := ⟨.hbm, 3858, rfl⟩
abbrev main_call8_call0_call0_v168 : Ref sig .tc := ⟨.hbm, 3859, rfl⟩
abbrev main_call8_call0_call0_v169 : Ref sig .tc := ⟨.hbm, 3860, rfl⟩
abbrev main_call8_call0_call0_v170 : Ref sig .tc := ⟨.hbm, 3861, rfl⟩
abbrev main_call8_call0_v11_0 : Ref sig .tc := ⟨.hbm, 3862, rfl⟩
abbrev main_call8_call0_call0_v172 : Ref sig .tc := ⟨.hbm, 3863, rfl⟩
abbrev main_call8_call0_call0_v173 : Ref sig .tc := ⟨.hbm, 3864, rfl⟩
abbrev main_call8_call0_call0_c_44 : Ref sig .tc := ⟨.hbm, 3865, rfl⟩
abbrev main_call8_call0_call0_v174 : Ref sig .tc := ⟨.hbm, 3866, rfl⟩
abbrev main_call8_call0_v11_1 : Ref sig .tc := ⟨.hbm, 3867, rfl⟩
abbrev main_call8_call0_v12 : Ref sig .tc := ⟨.hbm, 3868, rfl⟩
abbrev main_call8_call0_v13 : Ref sig .tc := ⟨.hbm, 3869, rfl⟩
abbrev main_call8_v0 : Ref sig .tc := ⟨.hbm, 3870, rfl⟩
abbrev main_call8_v1 : Ref sig .tc := ⟨.hbm, 3871, rfl⟩
abbrev main_call8_v2 : Ref sig .tc := ⟨.hbm, 3872, rfl⟩
abbrev main_call8_v3 : Ref sig .tc := ⟨.hbm, 3873, rfl⟩
abbrev main_call8_v4 : Ref sig .tc := ⟨.hbm, 3874, rfl⟩
abbrev main_call8_v5 : Ref sig .tc := ⟨.hbm, 3875, rfl⟩
abbrev main_call8_v6 : Ref sig .tc := ⟨.hbm, 3876, rfl⟩
abbrev main_call8_v7 : Ref sig .tc := ⟨.hbm, 3877, rfl⟩
abbrev main_call8_v8 : Ref sig .tc := ⟨.hbm, 3878, rfl⟩
abbrev main_call8_v9 : Ref sig .tc := ⟨.hbm, 3879, rfl⟩
abbrev main_call8_c : Ref sig .tc := ⟨.hbm, 3880, rfl⟩
abbrev main_call8_v10 : Ref sig .tc := ⟨.hbm, 3881, rfl⟩
abbrev main_call8_v11 : Ref sig .tc := ⟨.hbm, 3882, rfl⟩
abbrev main_call8_c_0 : Ref sig .tc := ⟨.hbm, 3883, rfl⟩
abbrev main_call8_v12 : Ref sig .tc := ⟨.hbm, 3884, rfl⟩
abbrev main_call8_v13 : Ref sig .tc := ⟨.hbm, 3885, rfl⟩
abbrev main_call8_v14 : Ref sig .tc := ⟨.hbm, 3886, rfl⟩
abbrev main_call8_v15 : Ref sig .tc := ⟨.hbm, 3887, rfl⟩
abbrev main_call8_call1_v0 : Ref sig .tc := ⟨.hbm, 3888, rfl⟩
abbrev main_call8_call1_c : Ref sig .tc := ⟨.hbm, 3889, rfl⟩
abbrev main_call8_call1_v1 : Ref sig .tc := ⟨.hbm, 3890, rfl⟩
abbrev main_call8_call1_v2 : Ref sig .tc := ⟨.hbm, 3891, rfl⟩
abbrev main_call8_call1_v3 : Ref sig .tc := ⟨.hbm, 3892, rfl⟩
abbrev main_call8_call1_v4 : Ref sig .tc := ⟨.hbm, 3893, rfl⟩
abbrev main_call8_call1_v5 : Ref sig .tc := ⟨.hbm, 3894, rfl⟩
abbrev main_call8_call1_v6 : Ref sig .tc := ⟨.hbm, 3895, rfl⟩
abbrev main_call8_call1_c_0 : Ref sig .tc := ⟨.hbm, 3896, rfl⟩
abbrev main_call8_call1_v7 : Ref sig .tc := ⟨.hbm, 3897, rfl⟩
abbrev main_call8_call1_v8 : Ref sig .tc := ⟨.hbm, 3898, rfl⟩
abbrev main_call8_call1_c_1 : Ref sig .tc := ⟨.hbm, 3899, rfl⟩
abbrev main_call8_call1_v9 : Ref sig .tc := ⟨.hbm, 3900, rfl⟩
abbrev main_call8_call1_v10 : Ref sig .tc := ⟨.hbm, 3901, rfl⟩
abbrev main_call8_call1_v11 : Ref sig .tc := ⟨.hbm, 3902, rfl⟩
abbrev main_call8_call1_v12 : Ref sig .tc := ⟨.hbm, 3903, rfl⟩
abbrev main_call8_call1_v13 : Ref sig .tc := ⟨.hbm, 3904, rfl⟩
abbrev main_call8_call1_c_2 : Ref sig .tc := ⟨.hbm, 3905, rfl⟩
abbrev main_call8_call1_v14 : Ref sig .tc := ⟨.hbm, 3906, rfl⟩
abbrev main_call8_call1_v15 : Ref sig .tc := ⟨.hbm, 3907, rfl⟩
abbrev main_call8_call1_c_3 : Ref sig .tc := ⟨.hbm, 3908, rfl⟩
abbrev main_call8_call1_v16 : Ref sig .tc := ⟨.hbm, 3909, rfl⟩
abbrev main_call8_call1_v17 : Ref sig .tc := ⟨.hbm, 3910, rfl⟩
abbrev main_call8_call1_v18 : Ref sig .tc := ⟨.hbm, 3911, rfl⟩
abbrev main_call8_call1_v19 : Ref sig .tc := ⟨.hbm, 3912, rfl⟩
abbrev main_call8_call1_v20 : Ref sig .tc := ⟨.hbm, 3913, rfl⟩
abbrev main_call8_call1_c_4 : Ref sig .tc := ⟨.hbm, 3914, rfl⟩
abbrev main_call8_call1_v21 : Ref sig .tc := ⟨.hbm, 3915, rfl⟩
abbrev main_call8_call1_v22 : Ref sig .tc := ⟨.hbm, 3916, rfl⟩
abbrev main_call8_call1_c_5 : Ref sig .tc := ⟨.hbm, 3917, rfl⟩
abbrev main_call8_call1_v23 : Ref sig .tc := ⟨.hbm, 3918, rfl⟩
abbrev main_call8_call1_v24 : Ref sig .tc := ⟨.hbm, 3919, rfl⟩
abbrev main_call8_call1_v25 : Ref sig .tc := ⟨.hbm, 3920, rfl⟩
abbrev main_call8_call1_v26 : Ref sig .tc := ⟨.hbm, 3921, rfl⟩
abbrev main_call8_call1_v27 : Ref sig .tc := ⟨.hbm, 3922, rfl⟩
abbrev main_call8_call1_c_6 : Ref sig .tc := ⟨.hbm, 3923, rfl⟩
abbrev main_call8_call1_v28 : Ref sig .tc := ⟨.hbm, 3924, rfl⟩
abbrev main_call8_call1_v29 : Ref sig .tc := ⟨.hbm, 3925, rfl⟩
abbrev main_call8_call1_c_7 : Ref sig .tc := ⟨.hbm, 3926, rfl⟩
abbrev main_call8_call1_v30 : Ref sig .tc := ⟨.hbm, 3927, rfl⟩
abbrev main_call8_call1_v31 : Ref sig .tc := ⟨.hbm, 3928, rfl⟩
abbrev main_call8_call1_v32 : Ref sig .tc := ⟨.hbm, 3929, rfl⟩
abbrev main_call8_call1_v33 : Ref sig .tc := ⟨.hbm, 3930, rfl⟩
abbrev main_call8_call1_v34 : Ref sig .tc := ⟨.hbm, 3931, rfl⟩
abbrev main_call8_call1_v35 : Ref sig .tc := ⟨.hbm, 3932, rfl⟩
abbrev main_call8_call1_v36 : Ref sig .tc := ⟨.hbm, 3933, rfl⟩
abbrev main_call8_call1_v37 : Ref sig .tc := ⟨.hbm, 3934, rfl⟩
abbrev main_call8_call1_c_8 : Ref sig .tc := ⟨.hbm, 3935, rfl⟩
abbrev main_call8_call1_v38 : Ref sig .tc := ⟨.hbm, 3936, rfl⟩
abbrev main_call8_call1_v39 : Ref sig .tc := ⟨.hbm, 3937, rfl⟩
abbrev main_call8_call1_v40 : Ref sig .tc := ⟨.hbm, 3938, rfl⟩
abbrev main_call8_call1_c_9 : Ref sig .tc := ⟨.hbm, 3939, rfl⟩
abbrev main_call8_call1_v41 : Ref sig .tc := ⟨.hbm, 3940, rfl⟩
abbrev main_call8_call1_v42 : Ref sig .tc := ⟨.hbm, 3941, rfl⟩
abbrev main_call8_call1_c_10 : Ref sig .tc := ⟨.hbm, 3942, rfl⟩
abbrev main_call8_call1_v43 : Ref sig .tc := ⟨.hbm, 3943, rfl⟩
abbrev main_call8_call1_v44 : Ref sig .tc := ⟨.hbm, 3944, rfl⟩
abbrev main_call8_call1_v45 : Ref sig .tc := ⟨.hbm, 3945, rfl⟩
abbrev main_call8_call1_v46 : Ref sig .tc := ⟨.hbm, 3946, rfl⟩
abbrev main_call8_call1_v47 : Ref sig .tc := ⟨.hbm, 3947, rfl⟩
abbrev main_call8_call1_c_11 : Ref sig .tc := ⟨.hbm, 3948, rfl⟩
abbrev main_call8_call1_v48 : Ref sig .tc := ⟨.hbm, 3949, rfl⟩
abbrev main_call8_call1_v49 : Ref sig .tc := ⟨.hbm, 3950, rfl⟩
abbrev main_call8_call1_c_12 : Ref sig .tc := ⟨.hbm, 3951, rfl⟩
abbrev main_call8_call1_v50 : Ref sig .tc := ⟨.hbm, 3952, rfl⟩
abbrev main_call8_call1_v51 : Ref sig .tc := ⟨.hbm, 3953, rfl⟩
abbrev main_call8_call1_v52 : Ref sig .tc := ⟨.hbm, 3954, rfl⟩
abbrev main_call8_call1_v53 : Ref sig .tc := ⟨.hbm, 3955, rfl⟩
abbrev main_call8_call1_v54 : Ref sig .tc := ⟨.hbm, 3956, rfl⟩
abbrev main_call8_call1_c_13 : Ref sig .tc := ⟨.hbm, 3957, rfl⟩
abbrev main_call8_call1_v55 : Ref sig .tc := ⟨.hbm, 3958, rfl⟩
abbrev main_call8_call1_v56 : Ref sig .tc := ⟨.hbm, 3959, rfl⟩
abbrev main_call8_call1_c_14 : Ref sig .tc := ⟨.hbm, 3960, rfl⟩
abbrev main_call8_call1_v57 : Ref sig .tc := ⟨.hbm, 3961, rfl⟩
abbrev main_call8_call1_v58 : Ref sig .tc := ⟨.hbm, 3962, rfl⟩
abbrev main_call8_call1_v59 : Ref sig .tc := ⟨.hbm, 3963, rfl⟩
abbrev main_call8_call1_v60 : Ref sig .tc := ⟨.hbm, 3964, rfl⟩
abbrev main_call8_call1_v61 : Ref sig .tc := ⟨.hbm, 3965, rfl⟩
abbrev main_call8_call1_c_15 : Ref sig .tc := ⟨.hbm, 3966, rfl⟩
abbrev main_call8_call1_v62 : Ref sig .tc := ⟨.hbm, 3967, rfl⟩
abbrev main_call8_call1_v63 : Ref sig .tc := ⟨.hbm, 3968, rfl⟩
abbrev main_call8_call1_c_16 : Ref sig .tc := ⟨.hbm, 3969, rfl⟩
abbrev main_call8_call1_v64 : Ref sig .tc := ⟨.hbm, 3970, rfl⟩
abbrev main_call8_call1_v65 : Ref sig .tc := ⟨.hbm, 3971, rfl⟩
abbrev main_call8_call1_v66 : Ref sig .tc := ⟨.hbm, 3972, rfl⟩
abbrev main_call8_call1_v67 : Ref sig .tc := ⟨.hbm, 3973, rfl⟩
abbrev main_call8_call1_v68 : Ref sig .tc := ⟨.hbm, 3974, rfl⟩
abbrev main_call8_call1_v69 : Ref sig .tc := ⟨.hbm, 3975, rfl⟩
abbrev main_call8_call1_v70 : Ref sig .tc := ⟨.hbm, 3976, rfl⟩
abbrev main_call8_call1_v71 : Ref sig .tc := ⟨.hbm, 3977, rfl⟩
abbrev main_call8_call1_c_17 : Ref sig .tc := ⟨.hbm, 3978, rfl⟩
abbrev main_call8_call1_v72 : Ref sig .tc := ⟨.hbm, 3979, rfl⟩
abbrev main_call8_call1_v73 : Ref sig .tc := ⟨.hbm, 3980, rfl⟩
abbrev main_call8_call1_v74 : Ref sig .tc := ⟨.hbm, 3981, rfl⟩
abbrev main_call8_call1_c_18 : Ref sig .tc := ⟨.hbm, 3982, rfl⟩
abbrev main_call8_call1_v75 : Ref sig .tc := ⟨.hbm, 3983, rfl⟩
abbrev main_call8_call1_v76 : Ref sig .tc := ⟨.hbm, 3984, rfl⟩
abbrev main_call8_call1_c_19 : Ref sig .tc := ⟨.hbm, 3985, rfl⟩
abbrev main_call8_call1_v77 : Ref sig .tc := ⟨.hbm, 3986, rfl⟩
abbrev main_call8_call1_v78 : Ref sig .tc := ⟨.hbm, 3987, rfl⟩
abbrev main_call8_call1_v79 : Ref sig .tc := ⟨.hbm, 3988, rfl⟩
abbrev main_call8_call1_v80 : Ref sig .tc := ⟨.hbm, 3989, rfl⟩
abbrev main_call8_call1_v81 : Ref sig .tc := ⟨.hbm, 3990, rfl⟩
abbrev main_call8_call1_c_20 : Ref sig .tc := ⟨.hbm, 3991, rfl⟩
abbrev main_call8_call1_v82 : Ref sig .tc := ⟨.hbm, 3992, rfl⟩
abbrev main_call8_call1_v83 : Ref sig .tc := ⟨.hbm, 3993, rfl⟩
abbrev main_call8_call1_c_21 : Ref sig .tc := ⟨.hbm, 3994, rfl⟩
abbrev main_call8_call1_v84 : Ref sig .tc := ⟨.hbm, 3995, rfl⟩
abbrev main_call8_call1_v85 : Ref sig .tc := ⟨.hbm, 3996, rfl⟩
abbrev main_call8_call1_v86 : Ref sig .tc := ⟨.hbm, 3997, rfl⟩
abbrev main_call8_call1_v87 : Ref sig .tc := ⟨.hbm, 3998, rfl⟩
abbrev main_call8_call1_v88 : Ref sig .tc := ⟨.hbm, 3999, rfl⟩
abbrev main_call8_call1_c_22 : Ref sig .tc := ⟨.hbm, 4000, rfl⟩
abbrev main_call8_call1_v89 : Ref sig .tc := ⟨.hbm, 4001, rfl⟩
abbrev main_call8_call1_v90 : Ref sig .tc := ⟨.hbm, 4002, rfl⟩
abbrev main_call8_call1_c_23 : Ref sig .tc := ⟨.hbm, 4003, rfl⟩
abbrev main_call8_call1_v91 : Ref sig .tc := ⟨.hbm, 4004, rfl⟩
abbrev main_call8_call1_v92 : Ref sig .tc := ⟨.hbm, 4005, rfl⟩
abbrev main_call8_call1_v93 : Ref sig .tc := ⟨.hbm, 4006, rfl⟩
abbrev main_call8_call1_v94 : Ref sig .tc := ⟨.hbm, 4007, rfl⟩
abbrev main_call8_call1_v95 : Ref sig .tc := ⟨.hbm, 4008, rfl⟩
abbrev main_call8_call1_c_24 : Ref sig .tc := ⟨.hbm, 4009, rfl⟩
abbrev main_call8_call1_v96 : Ref sig .tc := ⟨.hbm, 4010, rfl⟩
abbrev main_call8_call1_v97 : Ref sig .tc := ⟨.hbm, 4011, rfl⟩
abbrev main_call8_call1_c_25 : Ref sig .tc := ⟨.hbm, 4012, rfl⟩
abbrev main_call8_call1_v98 : Ref sig .tc := ⟨.hbm, 4013, rfl⟩
abbrev main_call8_call1_v99 : Ref sig .tc := ⟨.hbm, 4014, rfl⟩
abbrev main_call8_call1_v100 : Ref sig .tc := ⟨.hbm, 4015, rfl⟩
abbrev main_call8_call1_v101 : Ref sig .tc := ⟨.hbm, 4016, rfl⟩
abbrev main_call8_call1_v102 : Ref sig .tc := ⟨.hbm, 4017, rfl⟩
abbrev main_call8_call1_v103 : Ref sig .tc := ⟨.hbm, 4018, rfl⟩
abbrev main_call8_call1_v104 : Ref sig .tc := ⟨.hbm, 4019, rfl⟩
abbrev main_call8_call1_v105 : Ref sig .tc := ⟨.hbm, 4020, rfl⟩
abbrev main_call8_call1_c_26 : Ref sig .tc := ⟨.hbm, 4021, rfl⟩
abbrev main_call8_call1_v106 : Ref sig .tc := ⟨.hbm, 4022, rfl⟩
abbrev main_call8_call1_v107 : Ref sig .tc := ⟨.hbm, 4023, rfl⟩
abbrev main_call8_call1_v108 : Ref sig .tc := ⟨.hbm, 4024, rfl⟩
abbrev main_call8_call1_c_27 : Ref sig .tc := ⟨.hbm, 4025, rfl⟩
abbrev main_call8_call1_v109 : Ref sig .tc := ⟨.hbm, 4026, rfl⟩
abbrev main_call8_call1_v110 : Ref sig .tc := ⟨.hbm, 4027, rfl⟩
abbrev main_call8_call1_c_28 : Ref sig .tc := ⟨.hbm, 4028, rfl⟩
abbrev main_call8_call1_v111 : Ref sig .tc := ⟨.hbm, 4029, rfl⟩
abbrev main_call8_call1_v112 : Ref sig .tc := ⟨.hbm, 4030, rfl⟩
abbrev main_call8_call1_v113 : Ref sig .tc := ⟨.hbm, 4031, rfl⟩
abbrev main_call8_call1_v114 : Ref sig .tc := ⟨.hbm, 4032, rfl⟩
abbrev main_call8_call1_v115 : Ref sig .tc := ⟨.hbm, 4033, rfl⟩
abbrev main_call8_call1_c_29 : Ref sig .tc := ⟨.hbm, 4034, rfl⟩
abbrev main_call8_call1_v116 : Ref sig .tc := ⟨.hbm, 4035, rfl⟩
abbrev main_call8_call1_v117 : Ref sig .tc := ⟨.hbm, 4036, rfl⟩
abbrev main_call8_call1_c_30 : Ref sig .tc := ⟨.hbm, 4037, rfl⟩
abbrev main_call8_call1_v118 : Ref sig .tc := ⟨.hbm, 4038, rfl⟩
abbrev main_call8_call1_v119 : Ref sig .tc := ⟨.hbm, 4039, rfl⟩
abbrev main_call8_call1_v120 : Ref sig .tc := ⟨.hbm, 4040, rfl⟩
abbrev main_call8_call1_v121 : Ref sig .tc := ⟨.hbm, 4041, rfl⟩
abbrev main_call8_call1_v122 : Ref sig .tc := ⟨.hbm, 4042, rfl⟩
abbrev main_call8_call1_c_31 : Ref sig .tc := ⟨.hbm, 4043, rfl⟩
abbrev main_call8_call1_v123 : Ref sig .tc := ⟨.hbm, 4044, rfl⟩
abbrev main_call8_call1_v124 : Ref sig .tc := ⟨.hbm, 4045, rfl⟩
abbrev main_call8_call1_c_32 : Ref sig .tc := ⟨.hbm, 4046, rfl⟩
abbrev main_call8_call1_v125 : Ref sig .tc := ⟨.hbm, 4047, rfl⟩
abbrev main_call8_call1_v126 : Ref sig .tc := ⟨.hbm, 4048, rfl⟩
abbrev main_call8_call1_v127 : Ref sig .tc := ⟨.hbm, 4049, rfl⟩
abbrev main_call8_call1_v128 : Ref sig .tc := ⟨.hbm, 4050, rfl⟩
abbrev main_call8_call1_v129 : Ref sig .tc := ⟨.hbm, 4051, rfl⟩
abbrev main_call8_call1_c_33 : Ref sig .tc := ⟨.hbm, 4052, rfl⟩
abbrev main_call8_call1_v130 : Ref sig .tc := ⟨.hbm, 4053, rfl⟩
abbrev main_call8_call1_v131 : Ref sig .tc := ⟨.hbm, 4054, rfl⟩
abbrev main_call8_call1_c_34 : Ref sig .tc := ⟨.hbm, 4055, rfl⟩
abbrev main_call8_call1_v132 : Ref sig .tc := ⟨.hbm, 4056, rfl⟩
abbrev main_call8_call1_v133 : Ref sig .tc := ⟨.hbm, 4057, rfl⟩
abbrev main_call8_call1_v134 : Ref sig .tc := ⟨.hbm, 4058, rfl⟩
abbrev main_call8_call1_v135 : Ref sig .tc := ⟨.hbm, 4059, rfl⟩
abbrev main_call8_call1_v136 : Ref sig .tc := ⟨.hbm, 4060, rfl⟩
abbrev main_call8_call1_v137 : Ref sig .tc := ⟨.hbm, 4061, rfl⟩
abbrev main_call8_call1_v138 : Ref sig .tc := ⟨.hbm, 4062, rfl⟩
abbrev main_call8_call1_v139 : Ref sig .tc := ⟨.hbm, 4063, rfl⟩
abbrev main_call8_call1_c_35 : Ref sig .tc := ⟨.hbm, 4064, rfl⟩
abbrev main_call8_call1_v140 : Ref sig .tc := ⟨.hbm, 4065, rfl⟩
abbrev main_call8_call1_v141 : Ref sig .tc := ⟨.hbm, 4066, rfl⟩
abbrev main_call8_call1_v142 : Ref sig .tc := ⟨.hbm, 4067, rfl⟩
abbrev main_call8_call1_c_36 : Ref sig .tc := ⟨.hbm, 4068, rfl⟩
abbrev main_call8_call1_v143 : Ref sig .tc := ⟨.hbm, 4069, rfl⟩
abbrev main_call8_call1_v144 : Ref sig .tc := ⟨.hbm, 4070, rfl⟩
abbrev main_call8_call1_c_37 : Ref sig .tc := ⟨.hbm, 4071, rfl⟩
abbrev main_call8_call1_v145 : Ref sig .tc := ⟨.hbm, 4072, rfl⟩
abbrev main_call8_call1_v146 : Ref sig .tc := ⟨.hbm, 4073, rfl⟩
abbrev main_call8_call1_v147 : Ref sig .tc := ⟨.hbm, 4074, rfl⟩
abbrev main_call8_call1_v148 : Ref sig .tc := ⟨.hbm, 4075, rfl⟩
abbrev main_call8_call1_v149 : Ref sig .tc := ⟨.hbm, 4076, rfl⟩
abbrev main_call8_call1_c_38 : Ref sig .tc := ⟨.hbm, 4077, rfl⟩
abbrev main_call8_call1_v150 : Ref sig .tc := ⟨.hbm, 4078, rfl⟩
abbrev main_call8_call1_v151 : Ref sig .tc := ⟨.hbm, 4079, rfl⟩
abbrev main_call8_call1_c_39 : Ref sig .tc := ⟨.hbm, 4080, rfl⟩
abbrev main_call8_call1_v152 : Ref sig .tc := ⟨.hbm, 4081, rfl⟩
abbrev main_call8_call1_v153 : Ref sig .tc := ⟨.hbm, 4082, rfl⟩
abbrev main_call8_call1_v154 : Ref sig .tc := ⟨.hbm, 4083, rfl⟩
abbrev main_call8_call1_v155 : Ref sig .tc := ⟨.hbm, 4084, rfl⟩
abbrev main_call8_call1_v156 : Ref sig .tc := ⟨.hbm, 4085, rfl⟩
abbrev main_call8_call1_c_40 : Ref sig .tc := ⟨.hbm, 4086, rfl⟩
abbrev main_call8_call1_v157 : Ref sig .tc := ⟨.hbm, 4087, rfl⟩
abbrev main_call8_call1_v158 : Ref sig .tc := ⟨.hbm, 4088, rfl⟩
abbrev main_call8_call1_c_41 : Ref sig .tc := ⟨.hbm, 4089, rfl⟩
abbrev main_call8_call1_v159 : Ref sig .tc := ⟨.hbm, 4090, rfl⟩
abbrev main_call8_call1_v160 : Ref sig .tc := ⟨.hbm, 4091, rfl⟩
abbrev main_call8_call1_v161 : Ref sig .tc := ⟨.hbm, 4092, rfl⟩
abbrev main_call8_call1_v162 : Ref sig .tc := ⟨.hbm, 4093, rfl⟩
abbrev main_call8_call1_v163 : Ref sig .tc := ⟨.hbm, 4094, rfl⟩
abbrev main_call8_call1_c_42 : Ref sig .tc := ⟨.hbm, 4095, rfl⟩

abbrev main_call8_call1_v164 : Ref sig .tc := ⟨.hbm, 4096, rfl⟩
abbrev main_call8_call1_v165 : Ref sig .tc := ⟨.hbm, 4097, rfl⟩
abbrev main_call8_call1_c_43 : Ref sig .tc := ⟨.hbm, 4098, rfl⟩
abbrev main_call8_call1_v166 : Ref sig .tc := ⟨.hbm, 4099, rfl⟩
abbrev main_call8_call1_v167 : Ref sig .tc := ⟨.hbm, 4100, rfl⟩
abbrev main_call8_call1_v168 : Ref sig .tc := ⟨.hbm, 4101, rfl⟩
abbrev main_call8_call1_v169 : Ref sig .tc := ⟨.hbm, 4102, rfl⟩
abbrev main_call8_call1_v170 : Ref sig .tc := ⟨.hbm, 4103, rfl⟩
abbrev main_call8_v16_0 : Ref sig .tc := ⟨.hbm, 4104, rfl⟩
abbrev main_call8_call1_v172 : Ref sig .tc := ⟨.hbm, 4105, rfl⟩
abbrev main_call8_call1_v173 : Ref sig .tc := ⟨.hbm, 4106, rfl⟩
abbrev main_call8_call1_c_44 : Ref sig .tc := ⟨.hbm, 4107, rfl⟩
abbrev main_call8_call1_v174 : Ref sig .tc := ⟨.hbm, 4108, rfl⟩
abbrev main_call8_v16_1 : Ref sig .tc := ⟨.hbm, 4109, rfl⟩
abbrev main_call8_v17 : Ref sig .tc := ⟨.hbm, 4110, rfl⟩
abbrev main_call8_v18_0 : Ref sig .tc := ⟨.hbm, 4111, rfl⟩
abbrev main_v39 : Ref sig .tc := ⟨.hbm, 4112, rfl⟩
abbrev main_v40 : Ref sig .tc := ⟨.hbm, 4113, rfl⟩
abbrev main_v41 : Ref sig .tc := ⟨.hbm, 4114, rfl⟩
abbrev main_v42 : Ref sig .tc := ⟨.hbm, 4115, rfl⟩
abbrev main_call9_call0_v0 : Ref sig .tc := ⟨.hbm, 4116, rfl⟩
abbrev main_call9_call0_v1 : Ref sig .tc := ⟨.hbm, 4117, rfl⟩
abbrev main_call9_call0_v2 : Ref sig .tc := ⟨.hbm, 4118, rfl⟩
abbrev main_call9_call0_v3 : Ref sig .tc := ⟨.hbm, 4119, rfl⟩
abbrev main_call9_call0_v4 : Ref sig .tc := ⟨.hbm, 4120, rfl⟩
abbrev main_call9_call0_c : Ref sig .tc := ⟨.hbm, 4121, rfl⟩
abbrev main_call9_call0_v5 : Ref sig .tc := ⟨.hbm, 4122, rfl⟩
abbrev main_call9_call0_v6 : Ref sig .tc := ⟨.hbm, 4123, rfl⟩
abbrev main_call9_call0_c_0 : Ref sig .tc := ⟨.hbm, 4124, rfl⟩
abbrev main_call9_call0_v7 : Ref sig .tc := ⟨.hbm, 4125, rfl⟩
abbrev main_call9_call0_v8 : Ref sig .tc := ⟨.hbm, 4126, rfl⟩
abbrev main_call9_call0_v9 : Ref sig .tc := ⟨.hbm, 4127, rfl⟩
abbrev main_call9_call0_v10 : Ref sig .tc := ⟨.hbm, 4128, rfl⟩
abbrev main_call9_call0_call0_v0 : Ref sig .tc := ⟨.hbm, 4129, rfl⟩
abbrev main_call9_call0_call0_c : Ref sig .tc := ⟨.hbm, 4130, rfl⟩
abbrev main_call9_call0_call0_v1 : Ref sig .tc := ⟨.hbm, 4131, rfl⟩
abbrev main_call9_call0_call0_v2 : Ref sig .tc := ⟨.hbm, 4132, rfl⟩
abbrev main_call9_call0_call0_v3 : Ref sig .tc := ⟨.hbm, 4133, rfl⟩
abbrev main_call9_call0_call0_v4 : Ref sig .tc := ⟨.hbm, 4134, rfl⟩
abbrev main_call9_call0_call0_v5 : Ref sig .tc := ⟨.hbm, 4135, rfl⟩
abbrev main_call9_call0_call0_v6 : Ref sig .tc := ⟨.hbm, 4136, rfl⟩
abbrev main_call9_call0_call0_c_0 : Ref sig .tc := ⟨.hbm, 4137, rfl⟩
abbrev main_call9_call0_call0_v7 : Ref sig .tc := ⟨.hbm, 4138, rfl⟩
abbrev main_call9_call0_call0_v8 : Ref sig .tc := ⟨.hbm, 4139, rfl⟩
abbrev main_call9_call0_call0_c_1 : Ref sig .tc := ⟨.hbm, 4140, rfl⟩
abbrev main_call9_call0_call0_v9 : Ref sig .tc := ⟨.hbm, 4141, rfl⟩
abbrev main_call9_call0_call0_v10 : Ref sig .tc := ⟨.hbm, 4142, rfl⟩
abbrev main_call9_call0_call0_v11 : Ref sig .tc := ⟨.hbm, 4143, rfl⟩
abbrev main_call9_call0_call0_v12 : Ref sig .tc := ⟨.hbm, 4144, rfl⟩
abbrev main_call9_call0_call0_v13 : Ref sig .tc := ⟨.hbm, 4145, rfl⟩
abbrev main_call9_call0_call0_c_2 : Ref sig .tc := ⟨.hbm, 4146, rfl⟩
abbrev main_call9_call0_call0_v14 : Ref sig .tc := ⟨.hbm, 4147, rfl⟩
abbrev main_call9_call0_call0_v15 : Ref sig .tc := ⟨.hbm, 4148, rfl⟩
abbrev main_call9_call0_call0_c_3 : Ref sig .tc := ⟨.hbm, 4149, rfl⟩
abbrev main_call9_call0_call0_v16 : Ref sig .tc := ⟨.hbm, 4150, rfl⟩
abbrev main_call9_call0_call0_v17 : Ref sig .tc := ⟨.hbm, 4151, rfl⟩
abbrev main_call9_call0_call0_v18 : Ref sig .tc := ⟨.hbm, 4152, rfl⟩
abbrev main_call9_call0_call0_v19 : Ref sig .tc := ⟨.hbm, 4153, rfl⟩
abbrev main_call9_call0_call0_v20 : Ref sig .tc := ⟨.hbm, 4154, rfl⟩
abbrev main_call9_call0_call0_c_4 : Ref sig .tc := ⟨.hbm, 4155, rfl⟩
abbrev main_call9_call0_call0_v21 : Ref sig .tc := ⟨.hbm, 4156, rfl⟩
abbrev main_call9_call0_call0_v22 : Ref sig .tc := ⟨.hbm, 4157, rfl⟩
abbrev main_call9_call0_call0_c_5 : Ref sig .tc := ⟨.hbm, 4158, rfl⟩
abbrev main_call9_call0_call0_v23 : Ref sig .tc := ⟨.hbm, 4159, rfl⟩
abbrev main_call9_call0_call0_v24 : Ref sig .tc := ⟨.hbm, 4160, rfl⟩
abbrev main_call9_call0_call0_v25 : Ref sig .tc := ⟨.hbm, 4161, rfl⟩
abbrev main_call9_call0_call0_v26 : Ref sig .tc := ⟨.hbm, 4162, rfl⟩
abbrev main_call9_call0_call0_v27 : Ref sig .tc := ⟨.hbm, 4163, rfl⟩
abbrev main_call9_call0_call0_c_6 : Ref sig .tc := ⟨.hbm, 4164, rfl⟩
abbrev main_call9_call0_call0_v28 : Ref sig .tc := ⟨.hbm, 4165, rfl⟩
abbrev main_call9_call0_call0_v29 : Ref sig .tc := ⟨.hbm, 4166, rfl⟩
abbrev main_call9_call0_call0_c_7 : Ref sig .tc := ⟨.hbm, 4167, rfl⟩
abbrev main_call9_call0_call0_v30 : Ref sig .tc := ⟨.hbm, 4168, rfl⟩
abbrev main_call9_call0_call0_v31 : Ref sig .tc := ⟨.hbm, 4169, rfl⟩
abbrev main_call9_call0_call0_v32 : Ref sig .tc := ⟨.hbm, 4170, rfl⟩
abbrev main_call9_call0_call0_v33 : Ref sig .tc := ⟨.hbm, 4171, rfl⟩
abbrev main_call9_call0_call0_v34 : Ref sig .tc := ⟨.hbm, 4172, rfl⟩
abbrev main_call9_call0_call0_v35 : Ref sig .tc := ⟨.hbm, 4173, rfl⟩
abbrev main_call9_call0_call0_v36 : Ref sig .tc := ⟨.hbm, 4174, rfl⟩
abbrev main_call9_call0_call0_v37 : Ref sig .tc := ⟨.hbm, 4175, rfl⟩
abbrev main_call9_call0_call0_c_8 : Ref sig .tc := ⟨.hbm, 4176, rfl⟩
abbrev main_call9_call0_call0_v38 : Ref sig .tc := ⟨.hbm, 4177, rfl⟩
abbrev main_call9_call0_call0_v39 : Ref sig .tc := ⟨.hbm, 4178, rfl⟩
abbrev main_call9_call0_call0_v40 : Ref sig .tc := ⟨.hbm, 4179, rfl⟩
abbrev main_call9_call0_call0_c_9 : Ref sig .tc := ⟨.hbm, 4180, rfl⟩
abbrev main_call9_call0_call0_v41 : Ref sig .tc := ⟨.hbm, 4181, rfl⟩
abbrev main_call9_call0_call0_v42 : Ref sig .tc := ⟨.hbm, 4182, rfl⟩
abbrev main_call9_call0_call0_c_10 : Ref sig .tc := ⟨.hbm, 4183, rfl⟩
abbrev main_call9_call0_call0_v43 : Ref sig .tc := ⟨.hbm, 4184, rfl⟩
abbrev main_call9_call0_call0_v44 : Ref sig .tc := ⟨.hbm, 4185, rfl⟩
abbrev main_call9_call0_call0_v45 : Ref sig .tc := ⟨.hbm, 4186, rfl⟩
abbrev main_call9_call0_call0_v46 : Ref sig .tc := ⟨.hbm, 4187, rfl⟩
abbrev main_call9_call0_call0_v47 : Ref sig .tc := ⟨.hbm, 4188, rfl⟩
abbrev main_call9_call0_call0_c_11 : Ref sig .tc := ⟨.hbm, 4189, rfl⟩
abbrev main_call9_call0_call0_v48 : Ref sig .tc := ⟨.hbm, 4190, rfl⟩
abbrev main_call9_call0_call0_v49 : Ref sig .tc := ⟨.hbm, 4191, rfl⟩
abbrev main_call9_call0_call0_c_12 : Ref sig .tc := ⟨.hbm, 4192, rfl⟩
abbrev main_call9_call0_call0_v50 : Ref sig .tc := ⟨.hbm, 4193, rfl⟩
abbrev main_call9_call0_call0_v51 : Ref sig .tc := ⟨.hbm, 4194, rfl⟩
abbrev main_call9_call0_call0_v52 : Ref sig .tc := ⟨.hbm, 4195, rfl⟩
abbrev main_call9_call0_call0_v53 : Ref sig .tc := ⟨.hbm, 4196, rfl⟩
abbrev main_call9_call0_call0_v54 : Ref sig .tc := ⟨.hbm, 4197, rfl⟩
abbrev main_call9_call0_call0_c_13 : Ref sig .tc := ⟨.hbm, 4198, rfl⟩
abbrev main_call9_call0_call0_v55 : Ref sig .tc := ⟨.hbm, 4199, rfl⟩
abbrev main_call9_call0_call0_v56 : Ref sig .tc := ⟨.hbm, 4200, rfl⟩
abbrev main_call9_call0_call0_c_14 : Ref sig .tc := ⟨.hbm, 4201, rfl⟩
abbrev main_call9_call0_call0_v57 : Ref sig .tc := ⟨.hbm, 4202, rfl⟩
abbrev main_call9_call0_call0_v58 : Ref sig .tc := ⟨.hbm, 4203, rfl⟩
abbrev main_call9_call0_call0_v59 : Ref sig .tc := ⟨.hbm, 4204, rfl⟩
abbrev main_call9_call0_call0_v60 : Ref sig .tc := ⟨.hbm, 4205, rfl⟩
abbrev main_call9_call0_call0_v61 : Ref sig .tc := ⟨.hbm, 4206, rfl⟩
abbrev main_call9_call0_call0_c_15 : Ref sig .tc := ⟨.hbm, 4207, rfl⟩
abbrev main_call9_call0_call0_v62 : Ref sig .tc := ⟨.hbm, 4208, rfl⟩
abbrev main_call9_call0_call0_v63 : Ref sig .tc := ⟨.hbm, 4209, rfl⟩
abbrev main_call9_call0_call0_c_16 : Ref sig .tc := ⟨.hbm, 4210, rfl⟩
abbrev main_call9_call0_call0_v64 : Ref sig .tc := ⟨.hbm, 4211, rfl⟩
abbrev main_call9_call0_call0_v65 : Ref sig .tc := ⟨.hbm, 4212, rfl⟩
abbrev main_call9_call0_call0_v66 : Ref sig .tc := ⟨.hbm, 4213, rfl⟩
abbrev main_call9_call0_call0_v67 : Ref sig .tc := ⟨.hbm, 4214, rfl⟩
abbrev main_call9_call0_call0_v68 : Ref sig .tc := ⟨.hbm, 4215, rfl⟩
abbrev main_call9_call0_call0_v69 : Ref sig .tc := ⟨.hbm, 4216, rfl⟩
abbrev main_call9_call0_call0_v70 : Ref sig .tc := ⟨.hbm, 4217, rfl⟩
abbrev main_call9_call0_call0_v71 : Ref sig .tc := ⟨.hbm, 4218, rfl⟩
abbrev main_call9_call0_call0_c_17 : Ref sig .tc := ⟨.hbm, 4219, rfl⟩
abbrev main_call9_call0_call0_v72 : Ref sig .tc := ⟨.hbm, 4220, rfl⟩
abbrev main_call9_call0_call0_v73 : Ref sig .tc := ⟨.hbm, 4221, rfl⟩
abbrev main_call9_call0_call0_v74 : Ref sig .tc := ⟨.hbm, 4222, rfl⟩
abbrev main_call9_call0_call0_c_18 : Ref sig .tc := ⟨.hbm, 4223, rfl⟩
abbrev main_call9_call0_call0_v75 : Ref sig .tc := ⟨.hbm, 4224, rfl⟩
abbrev main_call9_call0_call0_v76 : Ref sig .tc := ⟨.hbm, 4225, rfl⟩
abbrev main_call9_call0_call0_c_19 : Ref sig .tc := ⟨.hbm, 4226, rfl⟩
abbrev main_call9_call0_call0_v77 : Ref sig .tc := ⟨.hbm, 4227, rfl⟩
abbrev main_call9_call0_call0_v78 : Ref sig .tc := ⟨.hbm, 4228, rfl⟩
abbrev main_call9_call0_call0_v79 : Ref sig .tc := ⟨.hbm, 4229, rfl⟩
abbrev main_call9_call0_call0_v80 : Ref sig .tc := ⟨.hbm, 4230, rfl⟩
abbrev main_call9_call0_call0_v81 : Ref sig .tc := ⟨.hbm, 4231, rfl⟩
abbrev main_call9_call0_call0_c_20 : Ref sig .tc := ⟨.hbm, 4232, rfl⟩
abbrev main_call9_call0_call0_v82 : Ref sig .tc := ⟨.hbm, 4233, rfl⟩
abbrev main_call9_call0_call0_v83 : Ref sig .tc := ⟨.hbm, 4234, rfl⟩
abbrev main_call9_call0_call0_c_21 : Ref sig .tc := ⟨.hbm, 4235, rfl⟩
abbrev main_call9_call0_call0_v84 : Ref sig .tc := ⟨.hbm, 4236, rfl⟩
abbrev main_call9_call0_call0_v85 : Ref sig .tc := ⟨.hbm, 4237, rfl⟩
abbrev main_call9_call0_call0_v86 : Ref sig .tc := ⟨.hbm, 4238, rfl⟩
abbrev main_call9_call0_call0_v87 : Ref sig .tc := ⟨.hbm, 4239, rfl⟩
abbrev main_call9_call0_call0_v88 : Ref sig .tc := ⟨.hbm, 4240, rfl⟩
abbrev main_call9_call0_call0_c_22 : Ref sig .tc := ⟨.hbm, 4241, rfl⟩
abbrev main_call9_call0_call0_v89 : Ref sig .tc := ⟨.hbm, 4242, rfl⟩
abbrev main_call9_call0_call0_v90 : Ref sig .tc := ⟨.hbm, 4243, rfl⟩
abbrev main_call9_call0_call0_c_23 : Ref sig .tc := ⟨.hbm, 4244, rfl⟩
abbrev main_call9_call0_call0_v91 : Ref sig .tc := ⟨.hbm, 4245, rfl⟩
abbrev main_call9_call0_call0_v92 : Ref sig .tc := ⟨.hbm, 4246, rfl⟩
abbrev main_call9_call0_call0_v93 : Ref sig .tc := ⟨.hbm, 4247, rfl⟩
abbrev main_call9_call0_call0_v94 : Ref sig .tc := ⟨.hbm, 4248, rfl⟩
abbrev main_call9_call0_call0_v95 : Ref sig .tc := ⟨.hbm, 4249, rfl⟩
abbrev main_call9_call0_call0_c_24 : Ref sig .tc := ⟨.hbm, 4250, rfl⟩
abbrev main_call9_call0_call0_v96 : Ref sig .tc := ⟨.hbm, 4251, rfl⟩
abbrev main_call9_call0_call0_v97 : Ref sig .tc := ⟨.hbm, 4252, rfl⟩
abbrev main_call9_call0_call0_c_25 : Ref sig .tc := ⟨.hbm, 4253, rfl⟩
abbrev main_call9_call0_call0_v98 : Ref sig .tc := ⟨.hbm, 4254, rfl⟩
abbrev main_call9_call0_call0_v99 : Ref sig .tc := ⟨.hbm, 4255, rfl⟩
abbrev main_call9_call0_call0_v100 : Ref sig .tc := ⟨.hbm, 4256, rfl⟩
abbrev main_call9_call0_call0_v101 : Ref sig .tc := ⟨.hbm, 4257, rfl⟩
abbrev main_call9_call0_call0_v102 : Ref sig .tc := ⟨.hbm, 4258, rfl⟩
abbrev main_call9_call0_call0_v103 : Ref sig .tc := ⟨.hbm, 4259, rfl⟩
abbrev main_call9_call0_call0_v104 : Ref sig .tc := ⟨.hbm, 4260, rfl⟩
abbrev main_call9_call0_call0_v105 : Ref sig .tc := ⟨.hbm, 4261, rfl⟩
abbrev main_call9_call0_call0_c_26 : Ref sig .tc := ⟨.hbm, 4262, rfl⟩
abbrev main_call9_call0_call0_v106 : Ref sig .tc := ⟨.hbm, 4263, rfl⟩
abbrev main_call9_call0_call0_v107 : Ref sig .tc := ⟨.hbm, 4264, rfl⟩
abbrev main_call9_call0_call0_v108 : Ref sig .tc := ⟨.hbm, 4265, rfl⟩
abbrev main_call9_call0_call0_c_27 : Ref sig .tc := ⟨.hbm, 4266, rfl⟩
abbrev main_call9_call0_call0_v109 : Ref sig .tc := ⟨.hbm, 4267, rfl⟩
abbrev main_call9_call0_call0_v110 : Ref sig .tc := ⟨.hbm, 4268, rfl⟩
abbrev main_call9_call0_call0_c_28 : Ref sig .tc := ⟨.hbm, 4269, rfl⟩
abbrev main_call9_call0_call0_v111 : Ref sig .tc := ⟨.hbm, 4270, rfl⟩
abbrev main_call9_call0_call0_v112 : Ref sig .tc := ⟨.hbm, 4271, rfl⟩
abbrev main_call9_call0_call0_v113 : Ref sig .tc := ⟨.hbm, 4272, rfl⟩
abbrev main_call9_call0_call0_v114 : Ref sig .tc := ⟨.hbm, 4273, rfl⟩
abbrev main_call9_call0_call0_v115 : Ref sig .tc := ⟨.hbm, 4274, rfl⟩
abbrev main_call9_call0_call0_c_29 : Ref sig .tc := ⟨.hbm, 4275, rfl⟩
abbrev main_call9_call0_call0_v116 : Ref sig .tc := ⟨.hbm, 4276, rfl⟩
abbrev main_call9_call0_call0_v117 : Ref sig .tc := ⟨.hbm, 4277, rfl⟩
abbrev main_call9_call0_call0_c_30 : Ref sig .tc := ⟨.hbm, 4278, rfl⟩
abbrev main_call9_call0_call0_v118 : Ref sig .tc := ⟨.hbm, 4279, rfl⟩
abbrev main_call9_call0_call0_v119 : Ref sig .tc := ⟨.hbm, 4280, rfl⟩
abbrev main_call9_call0_call0_v120 : Ref sig .tc := ⟨.hbm, 4281, rfl⟩
abbrev main_call9_call0_call0_v121 : Ref sig .tc := ⟨.hbm, 4282, rfl⟩
abbrev main_call9_call0_call0_v122 : Ref sig .tc := ⟨.hbm, 4283, rfl⟩
abbrev main_call9_call0_call0_c_31 : Ref sig .tc := ⟨.hbm, 4284, rfl⟩
abbrev main_call9_call0_call0_v123 : Ref sig .tc := ⟨.hbm, 4285, rfl⟩
abbrev main_call9_call0_call0_v124 : Ref sig .tc := ⟨.hbm, 4286, rfl⟩
abbrev main_call9_call0_call0_c_32 : Ref sig .tc := ⟨.hbm, 4287, rfl⟩
abbrev main_call9_call0_call0_v125 : Ref sig .tc := ⟨.hbm, 4288, rfl⟩
abbrev main_call9_call0_call0_v126 : Ref sig .tc := ⟨.hbm, 4289, rfl⟩
abbrev main_call9_call0_call0_v127 : Ref sig .tc := ⟨.hbm, 4290, rfl⟩
abbrev main_call9_call0_call0_v128 : Ref sig .tc := ⟨.hbm, 4291, rfl⟩
abbrev main_call9_call0_call0_v129 : Ref sig .tc := ⟨.hbm, 4292, rfl⟩
abbrev main_call9_call0_call0_c_33 : Ref sig .tc := ⟨.hbm, 4293, rfl⟩
abbrev main_call9_call0_call0_v130 : Ref sig .tc := ⟨.hbm, 4294, rfl⟩
abbrev main_call9_call0_call0_v131 : Ref sig .tc := ⟨.hbm, 4295, rfl⟩
abbrev main_call9_call0_call0_c_34 : Ref sig .tc := ⟨.hbm, 4296, rfl⟩
abbrev main_call9_call0_call0_v132 : Ref sig .tc := ⟨.hbm, 4297, rfl⟩
abbrev main_call9_call0_call0_v133 : Ref sig .tc := ⟨.hbm, 4298, rfl⟩
abbrev main_call9_call0_call0_v134 : Ref sig .tc := ⟨.hbm, 4299, rfl⟩
abbrev main_call9_call0_call0_v135 : Ref sig .tc := ⟨.hbm, 4300, rfl⟩
abbrev main_call9_call0_call0_v136 : Ref sig .tc := ⟨.hbm, 4301, rfl⟩
abbrev main_call9_call0_call0_v137 : Ref sig .tc := ⟨.hbm, 4302, rfl⟩
abbrev main_call9_call0_call0_v138 : Ref sig .tc := ⟨.hbm, 4303, rfl⟩
abbrev main_call9_call0_call0_v139 : Ref sig .tc := ⟨.hbm, 4304, rfl⟩
abbrev main_call9_call0_call0_c_35 : Ref sig .tc := ⟨.hbm, 4305, rfl⟩
abbrev main_call9_call0_call0_v140 : Ref sig .tc := ⟨.hbm, 4306, rfl⟩
abbrev main_call9_call0_call0_v141 : Ref sig .tc := ⟨.hbm, 4307, rfl⟩
abbrev main_call9_call0_call0_v142 : Ref sig .tc := ⟨.hbm, 4308, rfl⟩
abbrev main_call9_call0_call0_c_36 : Ref sig .tc := ⟨.hbm, 4309, rfl⟩
abbrev main_call9_call0_call0_v143 : Ref sig .tc := ⟨.hbm, 4310, rfl⟩
abbrev main_call9_call0_call0_v144 : Ref sig .tc := ⟨.hbm, 4311, rfl⟩
abbrev main_call9_call0_call0_c_37 : Ref sig .tc := ⟨.hbm, 4312, rfl⟩
abbrev main_call9_call0_call0_v145 : Ref sig .tc := ⟨.hbm, 4313, rfl⟩
abbrev main_call9_call0_call0_v146 : Ref sig .tc := ⟨.hbm, 4314, rfl⟩
abbrev main_call9_call0_call0_v147 : Ref sig .tc := ⟨.hbm, 4315, rfl⟩
abbrev main_call9_call0_call0_v148 : Ref sig .tc := ⟨.hbm, 4316, rfl⟩
abbrev main_call9_call0_call0_v149 : Ref sig .tc := ⟨.hbm, 4317, rfl⟩
abbrev main_call9_call0_call0_c_38 : Ref sig .tc := ⟨.hbm, 4318, rfl⟩
abbrev main_call9_call0_call0_v150 : Ref sig .tc := ⟨.hbm, 4319, rfl⟩
abbrev main_call9_call0_call0_v151 : Ref sig .tc := ⟨.hbm, 4320, rfl⟩
abbrev main_call9_call0_call0_c_39 : Ref sig .tc := ⟨.hbm, 4321, rfl⟩
abbrev main_call9_call0_call0_v152 : Ref sig .tc := ⟨.hbm, 4322, rfl⟩
abbrev main_call9_call0_call0_v153 : Ref sig .tc := ⟨.hbm, 4323, rfl⟩
abbrev main_call9_call0_call0_v154 : Ref sig .tc := ⟨.hbm, 4324, rfl⟩
abbrev main_call9_call0_call0_v155 : Ref sig .tc := ⟨.hbm, 4325, rfl⟩
abbrev main_call9_call0_call0_v156 : Ref sig .tc := ⟨.hbm, 4326, rfl⟩
abbrev main_call9_call0_call0_c_40 : Ref sig .tc := ⟨.hbm, 4327, rfl⟩
abbrev main_call9_call0_call0_v157 : Ref sig .tc := ⟨.hbm, 4328, rfl⟩
abbrev main_call9_call0_call0_v158 : Ref sig .tc := ⟨.hbm, 4329, rfl⟩
abbrev main_call9_call0_call0_c_41 : Ref sig .tc := ⟨.hbm, 4330, rfl⟩
abbrev main_call9_call0_call0_v159 : Ref sig .tc := ⟨.hbm, 4331, rfl⟩
abbrev main_call9_call0_call0_v160 : Ref sig .tc := ⟨.hbm, 4332, rfl⟩
abbrev main_call9_call0_call0_v161 : Ref sig .tc := ⟨.hbm, 4333, rfl⟩
abbrev main_call9_call0_call0_v162 : Ref sig .tc := ⟨.hbm, 4334, rfl⟩
abbrev main_call9_call0_call0_v163 : Ref sig .tc := ⟨.hbm, 4335, rfl⟩
abbrev main_call9_call0_call0_c_42 : Ref sig .tc := ⟨.hbm, 4336, rfl⟩
abbrev main_call9_call0_call0_v164 : Ref sig .tc := ⟨.hbm, 4337, rfl⟩
abbrev main_call9_call0_call0_v165 : Ref sig .tc := ⟨.hbm, 4338, rfl⟩
abbrev main_call9_call0_call0_c_43 : Ref sig .tc := ⟨.hbm, 4339, rfl⟩
abbrev main_call9_call0_call0_v166 : Ref sig .tc := ⟨.hbm, 4340, rfl⟩
abbrev main_call9_call0_call0_v167 : Ref sig .tc := ⟨.hbm, 4341, rfl⟩
abbrev main_call9_call0_call0_v168 : Ref sig .tc := ⟨.hbm, 4342, rfl⟩
abbrev main_call9_call0_call0_v169 : Ref sig .tc := ⟨.hbm, 4343, rfl⟩
abbrev main_call9_call0_call0_v170 : Ref sig .tc := ⟨.hbm, 4344, rfl⟩
abbrev main_call9_call0_v11_0 : Ref sig .tc := ⟨.hbm, 4345, rfl⟩
abbrev main_call9_call0_call0_v172 : Ref sig .tc := ⟨.hbm, 4346, rfl⟩
abbrev main_call9_call0_call0_v173 : Ref sig .tc := ⟨.hbm, 4347, rfl⟩
abbrev main_call9_call0_call0_c_44 : Ref sig .tc := ⟨.hbm, 4348, rfl⟩
abbrev main_call9_call0_call0_v174 : Ref sig .tc := ⟨.hbm, 4349, rfl⟩
abbrev main_call9_call0_v11_1 : Ref sig .tc := ⟨.hbm, 4350, rfl⟩
abbrev main_call9_call0_v12 : Ref sig .tc := ⟨.hbm, 4351, rfl⟩
abbrev main_call9_call0_v13 : Ref sig .tc := ⟨.hbm, 4352, rfl⟩
abbrev main_call9_v0 : Ref sig .tc := ⟨.hbm, 4353, rfl⟩
abbrev main_call9_v1 : Ref sig .tc := ⟨.hbm, 4354, rfl⟩
abbrev main_call9_v2 : Ref sig .tc := ⟨.hbm, 4355, rfl⟩
abbrev main_call9_v3 : Ref sig .tc := ⟨.hbm, 4356, rfl⟩
abbrev main_call9_v4 : Ref sig .tc := ⟨.hbm, 4357, rfl⟩
abbrev main_call9_v5 : Ref sig .tc := ⟨.hbm, 4358, rfl⟩
abbrev main_call9_v6 : Ref sig .tc := ⟨.hbm, 4359, rfl⟩
abbrev main_call9_v7 : Ref sig .tc := ⟨.hbm, 4360, rfl⟩
abbrev main_call9_v8 : Ref sig .tc := ⟨.hbm, 4361, rfl⟩
abbrev main_call9_v9 : Ref sig .tc := ⟨.hbm, 4362, rfl⟩
abbrev main_call9_c : Ref sig .tc := ⟨.hbm, 4363, rfl⟩
abbrev main_call9_v10 : Ref sig .tc := ⟨.hbm, 4364, rfl⟩
abbrev main_call9_v11 : Ref sig .tc := ⟨.hbm, 4365, rfl⟩
abbrev main_call9_c_0 : Ref sig .tc := ⟨.hbm, 4366, rfl⟩
abbrev main_call9_v12 : Ref sig .tc := ⟨.hbm, 4367, rfl⟩
abbrev main_call9_v13 : Ref sig .tc := ⟨.hbm, 4368, rfl⟩
abbrev main_call9_v14 : Ref sig .tc := ⟨.hbm, 4369, rfl⟩
abbrev main_call9_v15 : Ref sig .tc := ⟨.hbm, 4370, rfl⟩
abbrev main_call9_call1_v0 : Ref sig .tc := ⟨.hbm, 4371, rfl⟩
abbrev main_call9_call1_c : Ref sig .tc := ⟨.hbm, 4372, rfl⟩
abbrev main_call9_call1_v1 : Ref sig .tc := ⟨.hbm, 4373, rfl⟩
abbrev main_call9_call1_v2 : Ref sig .tc := ⟨.hbm, 4374, rfl⟩
abbrev main_call9_call1_v3 : Ref sig .tc := ⟨.hbm, 4375, rfl⟩
abbrev main_call9_call1_v4 : Ref sig .tc := ⟨.hbm, 4376, rfl⟩
abbrev main_call9_call1_v5 : Ref sig .tc := ⟨.hbm, 4377, rfl⟩
abbrev main_call9_call1_v6 : Ref sig .tc := ⟨.hbm, 4378, rfl⟩
abbrev main_call9_call1_c_0 : Ref sig .tc := ⟨.hbm, 4379, rfl⟩
abbrev main_call9_call1_v7 : Ref sig .tc := ⟨.hbm, 4380, rfl⟩
abbrev main_call9_call1_v8 : Ref sig .tc := ⟨.hbm, 4381, rfl⟩
abbrev main_call9_call1_c_1 : Ref sig .tc := ⟨.hbm, 4382, rfl⟩
abbrev main_call9_call1_v9 : Ref sig .tc := ⟨.hbm, 4383, rfl⟩
abbrev main_call9_call1_v10 : Ref sig .tc := ⟨.hbm, 4384, rfl⟩
abbrev main_call9_call1_v11 : Ref sig .tc := ⟨.hbm, 4385, rfl⟩
abbrev main_call9_call1_v12 : Ref sig .tc := ⟨.hbm, 4386, rfl⟩
abbrev main_call9_call1_v13 : Ref sig .tc := ⟨.hbm, 4387, rfl⟩
abbrev main_call9_call1_c_2 : Ref sig .tc := ⟨.hbm, 4388, rfl⟩
abbrev main_call9_call1_v14 : Ref sig .tc := ⟨.hbm, 4389, rfl⟩
abbrev main_call9_call1_v15 : Ref sig .tc := ⟨.hbm, 4390, rfl⟩
abbrev main_call9_call1_c_3 : Ref sig .tc := ⟨.hbm, 4391, rfl⟩
abbrev main_call9_call1_v16 : Ref sig .tc := ⟨.hbm, 4392, rfl⟩
abbrev main_call9_call1_v17 : Ref sig .tc := ⟨.hbm, 4393, rfl⟩
abbrev main_call9_call1_v18 : Ref sig .tc := ⟨.hbm, 4394, rfl⟩
abbrev main_call9_call1_v19 : Ref sig .tc := ⟨.hbm, 4395, rfl⟩
abbrev main_call9_call1_v20 : Ref sig .tc := ⟨.hbm, 4396, rfl⟩
abbrev main_call9_call1_c_4 : Ref sig .tc := ⟨.hbm, 4397, rfl⟩
abbrev main_call9_call1_v21 : Ref sig .tc := ⟨.hbm, 4398, rfl⟩
abbrev main_call9_call1_v22 : Ref sig .tc := ⟨.hbm, 4399, rfl⟩
abbrev main_call9_call1_c_5 : Ref sig .tc := ⟨.hbm, 4400, rfl⟩
abbrev main_call9_call1_v23 : Ref sig .tc := ⟨.hbm, 4401, rfl⟩
abbrev main_call9_call1_v24 : Ref sig .tc := ⟨.hbm, 4402, rfl⟩
abbrev main_call9_call1_v25 : Ref sig .tc := ⟨.hbm, 4403, rfl⟩
abbrev main_call9_call1_v26 : Ref sig .tc := ⟨.hbm, 4404, rfl⟩
abbrev main_call9_call1_v27 : Ref sig .tc := ⟨.hbm, 4405, rfl⟩
abbrev main_call9_call1_c_6 : Ref sig .tc := ⟨.hbm, 4406, rfl⟩
abbrev main_call9_call1_v28 : Ref sig .tc := ⟨.hbm, 4407, rfl⟩
abbrev main_call9_call1_v29 : Ref sig .tc := ⟨.hbm, 4408, rfl⟩
abbrev main_call9_call1_c_7 : Ref sig .tc := ⟨.hbm, 4409, rfl⟩
abbrev main_call9_call1_v30 : Ref sig .tc := ⟨.hbm, 4410, rfl⟩
abbrev main_call9_call1_v31 : Ref sig .tc := ⟨.hbm, 4411, rfl⟩
abbrev main_call9_call1_v32 : Ref sig .tc := ⟨.hbm, 4412, rfl⟩
abbrev main_call9_call1_v33 : Ref sig .tc := ⟨.hbm, 4413, rfl⟩
abbrev main_call9_call1_v34 : Ref sig .tc := ⟨.hbm, 4414, rfl⟩
abbrev main_call9_call1_v35 : Ref sig .tc := ⟨.hbm, 4415, rfl⟩
abbrev main_call9_call1_v36 : Ref sig .tc := ⟨.hbm, 4416, rfl⟩
abbrev main_call9_call1_v37 : Ref sig .tc := ⟨.hbm, 4417, rfl⟩
abbrev main_call9_call1_c_8 : Ref sig .tc := ⟨.hbm, 4418, rfl⟩
abbrev main_call9_call1_v38 : Ref sig .tc := ⟨.hbm, 4419, rfl⟩
abbrev main_call9_call1_v39 : Ref sig .tc := ⟨.hbm, 4420, rfl⟩
abbrev main_call9_call1_v40 : Ref sig .tc := ⟨.hbm, 4421, rfl⟩
abbrev main_call9_call1_c_9 : Ref sig .tc := ⟨.hbm, 4422, rfl⟩
abbrev main_call9_call1_v41 : Ref sig .tc := ⟨.hbm, 4423, rfl⟩
abbrev main_call9_call1_v42 : Ref sig .tc := ⟨.hbm, 4424, rfl⟩
abbrev main_call9_call1_c_10 : Ref sig .tc := ⟨.hbm, 4425, rfl⟩
abbrev main_call9_call1_v43 : Ref sig .tc := ⟨.hbm, 4426, rfl⟩
abbrev main_call9_call1_v44 : Ref sig .tc := ⟨.hbm, 4427, rfl⟩
abbrev main_call9_call1_v45 : Ref sig .tc := ⟨.hbm, 4428, rfl⟩
abbrev main_call9_call1_v46 : Ref sig .tc := ⟨.hbm, 4429, rfl⟩
abbrev main_call9_call1_v47 : Ref sig .tc := ⟨.hbm, 4430, rfl⟩
abbrev main_call9_call1_c_11 : Ref sig .tc := ⟨.hbm, 4431, rfl⟩
abbrev main_call9_call1_v48 : Ref sig .tc := ⟨.hbm, 4432, rfl⟩
abbrev main_call9_call1_v49 : Ref sig .tc := ⟨.hbm, 4433, rfl⟩
abbrev main_call9_call1_c_12 : Ref sig .tc := ⟨.hbm, 4434, rfl⟩
abbrev main_call9_call1_v50 : Ref sig .tc := ⟨.hbm, 4435, rfl⟩
abbrev main_call9_call1_v51 : Ref sig .tc := ⟨.hbm, 4436, rfl⟩
abbrev main_call9_call1_v52 : Ref sig .tc := ⟨.hbm, 4437, rfl⟩
abbrev main_call9_call1_v53 : Ref sig .tc := ⟨.hbm, 4438, rfl⟩
abbrev main_call9_call1_v54 : Ref sig .tc := ⟨.hbm, 4439, rfl⟩
abbrev main_call9_call1_c_13 : Ref sig .tc := ⟨.hbm, 4440, rfl⟩
abbrev main_call9_call1_v55 : Ref sig .tc := ⟨.hbm, 4441, rfl⟩
abbrev main_call9_call1_v56 : Ref sig .tc := ⟨.hbm, 4442, rfl⟩
abbrev main_call9_call1_c_14 : Ref sig .tc := ⟨.hbm, 4443, rfl⟩
abbrev main_call9_call1_v57 : Ref sig .tc := ⟨.hbm, 4444, rfl⟩
abbrev main_call9_call1_v58 : Ref sig .tc := ⟨.hbm, 4445, rfl⟩
abbrev main_call9_call1_v59 : Ref sig .tc := ⟨.hbm, 4446, rfl⟩
abbrev main_call9_call1_v60 : Ref sig .tc := ⟨.hbm, 4447, rfl⟩
abbrev main_call9_call1_v61 : Ref sig .tc := ⟨.hbm, 4448, rfl⟩
abbrev main_call9_call1_c_15 : Ref sig .tc := ⟨.hbm, 4449, rfl⟩
abbrev main_call9_call1_v62 : Ref sig .tc := ⟨.hbm, 4450, rfl⟩
abbrev main_call9_call1_v63 : Ref sig .tc := ⟨.hbm, 4451, rfl⟩
abbrev main_call9_call1_c_16 : Ref sig .tc := ⟨.hbm, 4452, rfl⟩
abbrev main_call9_call1_v64 : Ref sig .tc := ⟨.hbm, 4453, rfl⟩
abbrev main_call9_call1_v65 : Ref sig .tc := ⟨.hbm, 4454, rfl⟩
abbrev main_call9_call1_v66 : Ref sig .tc := ⟨.hbm, 4455, rfl⟩
abbrev main_call9_call1_v67 : Ref sig .tc := ⟨.hbm, 4456, rfl⟩
abbrev main_call9_call1_v68 : Ref sig .tc := ⟨.hbm, 4457, rfl⟩
abbrev main_call9_call1_v69 : Ref sig .tc := ⟨.hbm, 4458, rfl⟩
abbrev main_call9_call1_v70 : Ref sig .tc := ⟨.hbm, 4459, rfl⟩
abbrev main_call9_call1_v71 : Ref sig .tc := ⟨.hbm, 4460, rfl⟩
abbrev main_call9_call1_c_17 : Ref sig .tc := ⟨.hbm, 4461, rfl⟩
abbrev main_call9_call1_v72 : Ref sig .tc := ⟨.hbm, 4462, rfl⟩
abbrev main_call9_call1_v73 : Ref sig .tc := ⟨.hbm, 4463, rfl⟩
abbrev main_call9_call1_v74 : Ref sig .tc := ⟨.hbm, 4464, rfl⟩
abbrev main_call9_call1_c_18 : Ref sig .tc := ⟨.hbm, 4465, rfl⟩
abbrev main_call9_call1_v75 : Ref sig .tc := ⟨.hbm, 4466, rfl⟩
abbrev main_call9_call1_v76 : Ref sig .tc := ⟨.hbm, 4467, rfl⟩
abbrev main_call9_call1_c_19 : Ref sig .tc := ⟨.hbm, 4468, rfl⟩
abbrev main_call9_call1_v77 : Ref sig .tc := ⟨.hbm, 4469, rfl⟩
abbrev main_call9_call1_v78 : Ref sig .tc := ⟨.hbm, 4470, rfl⟩
abbrev main_call9_call1_v79 : Ref sig .tc := ⟨.hbm, 4471, rfl⟩
abbrev main_call9_call1_v80 : Ref sig .tc := ⟨.hbm, 4472, rfl⟩
abbrev main_call9_call1_v81 : Ref sig .tc := ⟨.hbm, 4473, rfl⟩
abbrev main_call9_call1_c_20 : Ref sig .tc := ⟨.hbm, 4474, rfl⟩
abbrev main_call9_call1_v82 : Ref sig .tc := ⟨.hbm, 4475, rfl⟩
abbrev main_call9_call1_v83 : Ref sig .tc := ⟨.hbm, 4476, rfl⟩
abbrev main_call9_call1_c_21 : Ref sig .tc := ⟨.hbm, 4477, rfl⟩
abbrev main_call9_call1_v84 : Ref sig .tc := ⟨.hbm, 4478, rfl⟩
abbrev main_call9_call1_v85 : Ref sig .tc := ⟨.hbm, 4479, rfl⟩
abbrev main_call9_call1_v86 : Ref sig .tc := ⟨.hbm, 4480, rfl⟩
abbrev main_call9_call1_v87 : Ref sig .tc := ⟨.hbm, 4481, rfl⟩
abbrev main_call9_call1_v88 : Ref sig .tc := ⟨.hbm, 4482, rfl⟩
abbrev main_call9_call1_c_22 : Ref sig .tc := ⟨.hbm, 4483, rfl⟩
abbrev main_call9_call1_v89 : Ref sig .tc := ⟨.hbm, 4484, rfl⟩
abbrev main_call9_call1_v90 : Ref sig .tc := ⟨.hbm, 4485, rfl⟩
abbrev main_call9_call1_c_23 : Ref sig .tc := ⟨.hbm, 4486, rfl⟩
abbrev main_call9_call1_v91 : Ref sig .tc := ⟨.hbm, 4487, rfl⟩
abbrev main_call9_call1_v92 : Ref sig .tc := ⟨.hbm, 4488, rfl⟩
abbrev main_call9_call1_v93 : Ref sig .tc := ⟨.hbm, 4489, rfl⟩
abbrev main_call9_call1_v94 : Ref sig .tc := ⟨.hbm, 4490, rfl⟩
abbrev main_call9_call1_v95 : Ref sig .tc := ⟨.hbm, 4491, rfl⟩
abbrev main_call9_call1_c_24 : Ref sig .tc := ⟨.hbm, 4492, rfl⟩
abbrev main_call9_call1_v96 : Ref sig .tc := ⟨.hbm, 4493, rfl⟩
abbrev main_call9_call1_v97 : Ref sig .tc := ⟨.hbm, 4494, rfl⟩
abbrev main_call9_call1_c_25 : Ref sig .tc := ⟨.hbm, 4495, rfl⟩
abbrev main_call9_call1_v98 : Ref sig .tc := ⟨.hbm, 4496, rfl⟩
abbrev main_call9_call1_v99 : Ref sig .tc := ⟨.hbm, 4497, rfl⟩
abbrev main_call9_call1_v100 : Ref sig .tc := ⟨.hbm, 4498, rfl⟩
abbrev main_call9_call1_v101 : Ref sig .tc := ⟨.hbm, 4499, rfl⟩
abbrev main_call9_call1_v102 : Ref sig .tc := ⟨.hbm, 4500, rfl⟩
abbrev main_call9_call1_v103 : Ref sig .tc := ⟨.hbm, 4501, rfl⟩
abbrev main_call9_call1_v104 : Ref sig .tc := ⟨.hbm, 4502, rfl⟩
abbrev main_call9_call1_v105 : Ref sig .tc := ⟨.hbm, 4503, rfl⟩
abbrev main_call9_call1_c_26 : Ref sig .tc := ⟨.hbm, 4504, rfl⟩
abbrev main_call9_call1_v106 : Ref sig .tc := ⟨.hbm, 4505, rfl⟩
abbrev main_call9_call1_v107 : Ref sig .tc := ⟨.hbm, 4506, rfl⟩
abbrev main_call9_call1_v108 : Ref sig .tc := ⟨.hbm, 4507, rfl⟩
abbrev main_call9_call1_c_27 : Ref sig .tc := ⟨.hbm, 4508, rfl⟩
abbrev main_call9_call1_v109 : Ref sig .tc := ⟨.hbm, 4509, rfl⟩
abbrev main_call9_call1_v110 : Ref sig .tc := ⟨.hbm, 4510, rfl⟩
abbrev main_call9_call1_c_28 : Ref sig .tc := ⟨.hbm, 4511, rfl⟩
abbrev main_call9_call1_v111 : Ref sig .tc := ⟨.hbm, 4512, rfl⟩
abbrev main_call9_call1_v112 : Ref sig .tc := ⟨.hbm, 4513, rfl⟩
abbrev main_call9_call1_v113 : Ref sig .tc := ⟨.hbm, 4514, rfl⟩
abbrev main_call9_call1_v114 : Ref sig .tc := ⟨.hbm, 4515, rfl⟩
abbrev main_call9_call1_v115 : Ref sig .tc := ⟨.hbm, 4516, rfl⟩
abbrev main_call9_call1_c_29 : Ref sig .tc := ⟨.hbm, 4517, rfl⟩
abbrev main_call9_call1_v116 : Ref sig .tc := ⟨.hbm, 4518, rfl⟩
abbrev main_call9_call1_v117 : Ref sig .tc := ⟨.hbm, 4519, rfl⟩
abbrev main_call9_call1_c_30 : Ref sig .tc := ⟨.hbm, 4520, rfl⟩
abbrev main_call9_call1_v118 : Ref sig .tc := ⟨.hbm, 4521, rfl⟩
abbrev main_call9_call1_v119 : Ref sig .tc := ⟨.hbm, 4522, rfl⟩
abbrev main_call9_call1_v120 : Ref sig .tc := ⟨.hbm, 4523, rfl⟩
abbrev main_call9_call1_v121 : Ref sig .tc := ⟨.hbm, 4524, rfl⟩
abbrev main_call9_call1_v122 : Ref sig .tc := ⟨.hbm, 4525, rfl⟩
abbrev main_call9_call1_c_31 : Ref sig .tc := ⟨.hbm, 4526, rfl⟩
abbrev main_call9_call1_v123 : Ref sig .tc := ⟨.hbm, 4527, rfl⟩
abbrev main_call9_call1_v124 : Ref sig .tc := ⟨.hbm, 4528, rfl⟩
abbrev main_call9_call1_c_32 : Ref sig .tc := ⟨.hbm, 4529, rfl⟩
abbrev main_call9_call1_v125 : Ref sig .tc := ⟨.hbm, 4530, rfl⟩
abbrev main_call9_call1_v126 : Ref sig .tc := ⟨.hbm, 4531, rfl⟩
abbrev main_call9_call1_v127 : Ref sig .tc := ⟨.hbm, 4532, rfl⟩
abbrev main_call9_call1_v128 : Ref sig .tc := ⟨.hbm, 4533, rfl⟩
abbrev main_call9_call1_v129 : Ref sig .tc := ⟨.hbm, 4534, rfl⟩
abbrev main_call9_call1_c_33 : Ref sig .tc := ⟨.hbm, 4535, rfl⟩
abbrev main_call9_call1_v130 : Ref sig .tc := ⟨.hbm, 4536, rfl⟩
abbrev main_call9_call1_v131 : Ref sig .tc := ⟨.hbm, 4537, rfl⟩
abbrev main_call9_call1_c_34 : Ref sig .tc := ⟨.hbm, 4538, rfl⟩
abbrev main_call9_call1_v132 : Ref sig .tc := ⟨.hbm, 4539, rfl⟩
abbrev main_call9_call1_v133 : Ref sig .tc := ⟨.hbm, 4540, rfl⟩
abbrev main_call9_call1_v134 : Ref sig .tc := ⟨.hbm, 4541, rfl⟩
abbrev main_call9_call1_v135 : Ref sig .tc := ⟨.hbm, 4542, rfl⟩
abbrev main_call9_call1_v136 : Ref sig .tc := ⟨.hbm, 4543, rfl⟩
abbrev main_call9_call1_v137 : Ref sig .tc := ⟨.hbm, 4544, rfl⟩
abbrev main_call9_call1_v138 : Ref sig .tc := ⟨.hbm, 4545, rfl⟩
abbrev main_call9_call1_v139 : Ref sig .tc := ⟨.hbm, 4546, rfl⟩
abbrev main_call9_call1_c_35 : Ref sig .tc := ⟨.hbm, 4547, rfl⟩
abbrev main_call9_call1_v140 : Ref sig .tc := ⟨.hbm, 4548, rfl⟩
abbrev main_call9_call1_v141 : Ref sig .tc := ⟨.hbm, 4549, rfl⟩
abbrev main_call9_call1_v142 : Ref sig .tc := ⟨.hbm, 4550, rfl⟩
abbrev main_call9_call1_c_36 : Ref sig .tc := ⟨.hbm, 4551, rfl⟩
abbrev main_call9_call1_v143 : Ref sig .tc := ⟨.hbm, 4552, rfl⟩
abbrev main_call9_call1_v144 : Ref sig .tc := ⟨.hbm, 4553, rfl⟩
abbrev main_call9_call1_c_37 : Ref sig .tc := ⟨.hbm, 4554, rfl⟩
abbrev main_call9_call1_v145 : Ref sig .tc := ⟨.hbm, 4555, rfl⟩
abbrev main_call9_call1_v146 : Ref sig .tc := ⟨.hbm, 4556, rfl⟩
abbrev main_call9_call1_v147 : Ref sig .tc := ⟨.hbm, 4557, rfl⟩
abbrev main_call9_call1_v148 : Ref sig .tc := ⟨.hbm, 4558, rfl⟩
abbrev main_call9_call1_v149 : Ref sig .tc := ⟨.hbm, 4559, rfl⟩
abbrev main_call9_call1_c_38 : Ref sig .tc := ⟨.hbm, 4560, rfl⟩
abbrev main_call9_call1_v150 : Ref sig .tc := ⟨.hbm, 4561, rfl⟩
abbrev main_call9_call1_v151 : Ref sig .tc := ⟨.hbm, 4562, rfl⟩
abbrev main_call9_call1_c_39 : Ref sig .tc := ⟨.hbm, 4563, rfl⟩
abbrev main_call9_call1_v152 : Ref sig .tc := ⟨.hbm, 4564, rfl⟩
abbrev main_call9_call1_v153 : Ref sig .tc := ⟨.hbm, 4565, rfl⟩
abbrev main_call9_call1_v154 : Ref sig .tc := ⟨.hbm, 4566, rfl⟩
abbrev main_call9_call1_v155 : Ref sig .tc := ⟨.hbm, 4567, rfl⟩
abbrev main_call9_call1_v156 : Ref sig .tc := ⟨.hbm, 4568, rfl⟩
abbrev main_call9_call1_c_40 : Ref sig .tc := ⟨.hbm, 4569, rfl⟩
abbrev main_call9_call1_v157 : Ref sig .tc := ⟨.hbm, 4570, rfl⟩
abbrev main_call9_call1_v158 : Ref sig .tc := ⟨.hbm, 4571, rfl⟩
abbrev main_call9_call1_c_41 : Ref sig .tc := ⟨.hbm, 4572, rfl⟩
abbrev main_call9_call1_v159 : Ref sig .tc := ⟨.hbm, 4573, rfl⟩
abbrev main_call9_call1_v160 : Ref sig .tc := ⟨.hbm, 4574, rfl⟩
abbrev main_call9_call1_v161 : Ref sig .tc := ⟨.hbm, 4575, rfl⟩
abbrev main_call9_call1_v162 : Ref sig .tc := ⟨.hbm, 4576, rfl⟩
abbrev main_call9_call1_v163 : Ref sig .tc := ⟨.hbm, 4577, rfl⟩
abbrev main_call9_call1_c_42 : Ref sig .tc := ⟨.hbm, 4578, rfl⟩
abbrev main_call9_call1_v164 : Ref sig .tc := ⟨.hbm, 4579, rfl⟩
abbrev main_call9_call1_v165 : Ref sig .tc := ⟨.hbm, 4580, rfl⟩
abbrev main_call9_call1_c_43 : Ref sig .tc := ⟨.hbm, 4581, rfl⟩
abbrev main_call9_call1_v166 : Ref sig .tc := ⟨.hbm, 4582, rfl⟩
abbrev main_call9_call1_v167 : Ref sig .tc := ⟨.hbm, 4583, rfl⟩
abbrev main_call9_call1_v168 : Ref sig .tc := ⟨.hbm, 4584, rfl⟩
abbrev main_call9_call1_v169 : Ref sig .tc := ⟨.hbm, 4585, rfl⟩
abbrev main_call9_call1_v170 : Ref sig .tc := ⟨.hbm, 4586, rfl⟩
abbrev main_call9_v16_0 : Ref sig .tc := ⟨.hbm, 4587, rfl⟩
abbrev main_call9_call1_v172 : Ref sig .tc := ⟨.hbm, 4588, rfl⟩
abbrev main_call9_call1_v173 : Ref sig .tc := ⟨.hbm, 4589, rfl⟩
abbrev main_call9_call1_c_44 : Ref sig .tc := ⟨.hbm, 4590, rfl⟩
abbrev main_call9_call1_v174 : Ref sig .tc := ⟨.hbm, 4591, rfl⟩
abbrev main_call9_v16_1 : Ref sig .tc := ⟨.hbm, 4592, rfl⟩
abbrev main_call9_v17 : Ref sig .tc := ⟨.hbm, 4593, rfl⟩
abbrev main_call9_v18_0 : Ref sig .tc := ⟨.hbm, 4594, rfl⟩
abbrev main_v43 : Ref sig .tc := ⟨.hbm, 4595, rfl⟩
abbrev main_v44 : Ref sig .tc := ⟨.hbm, 4596, rfl⟩
abbrev main_v45 : Ref sig .tc := ⟨.hbm, 4597, rfl⟩
abbrev main_v46 : Ref sig .tc := ⟨.hbm, 4598, rfl⟩
abbrev main_call10_call0_v0 : Ref sig .tc := ⟨.hbm, 4599, rfl⟩
abbrev main_call10_call0_v1 : Ref sig .tc := ⟨.hbm, 4600, rfl⟩
abbrev main_call10_call0_v2 : Ref sig .tc := ⟨.hbm, 4601, rfl⟩
abbrev main_call10_call0_v3 : Ref sig .tc := ⟨.hbm, 4602, rfl⟩
abbrev main_call10_call0_v4 : Ref sig .tc := ⟨.hbm, 4603, rfl⟩
abbrev main_call10_call0_c : Ref sig .tc := ⟨.hbm, 4604, rfl⟩
abbrev main_call10_call0_v5 : Ref sig .tc := ⟨.hbm, 4605, rfl⟩
abbrev main_call10_call0_v6 : Ref sig .tc := ⟨.hbm, 4606, rfl⟩
abbrev main_call10_call0_c_0 : Ref sig .tc := ⟨.hbm, 4607, rfl⟩
abbrev main_call10_call0_v7 : Ref sig .tc := ⟨.hbm, 4608, rfl⟩
abbrev main_call10_call0_v8 : Ref sig .tc := ⟨.hbm, 4609, rfl⟩
abbrev main_call10_call0_v9 : Ref sig .tc := ⟨.hbm, 4610, rfl⟩
abbrev main_call10_call0_v10 : Ref sig .tc := ⟨.hbm, 4611, rfl⟩
abbrev main_call10_call0_call0_v0 : Ref sig .tc := ⟨.hbm, 4612, rfl⟩
abbrev main_call10_call0_call0_c : Ref sig .tc := ⟨.hbm, 4613, rfl⟩
abbrev main_call10_call0_call0_v1 : Ref sig .tc := ⟨.hbm, 4614, rfl⟩
abbrev main_call10_call0_call0_v2 : Ref sig .tc := ⟨.hbm, 4615, rfl⟩
abbrev main_call10_call0_call0_v3 : Ref sig .tc := ⟨.hbm, 4616, rfl⟩
abbrev main_call10_call0_call0_v4 : Ref sig .tc := ⟨.hbm, 4617, rfl⟩
abbrev main_call10_call0_call0_v5 : Ref sig .tc := ⟨.hbm, 4618, rfl⟩
abbrev main_call10_call0_call0_v6 : Ref sig .tc := ⟨.hbm, 4619, rfl⟩
abbrev main_call10_call0_call0_c_0 : Ref sig .tc := ⟨.hbm, 4620, rfl⟩
abbrev main_call10_call0_call0_v7 : Ref sig .tc := ⟨.hbm, 4621, rfl⟩
abbrev main_call10_call0_call0_v8 : Ref sig .tc := ⟨.hbm, 4622, rfl⟩
abbrev main_call10_call0_call0_c_1 : Ref sig .tc := ⟨.hbm, 4623, rfl⟩
abbrev main_call10_call0_call0_v9 : Ref sig .tc := ⟨.hbm, 4624, rfl⟩
abbrev main_call10_call0_call0_v10 : Ref sig .tc := ⟨.hbm, 4625, rfl⟩
abbrev main_call10_call0_call0_v11 : Ref sig .tc := ⟨.hbm, 4626, rfl⟩
abbrev main_call10_call0_call0_v12 : Ref sig .tc := ⟨.hbm, 4627, rfl⟩
abbrev main_call10_call0_call0_v13 : Ref sig .tc := ⟨.hbm, 4628, rfl⟩
abbrev main_call10_call0_call0_c_2 : Ref sig .tc := ⟨.hbm, 4629, rfl⟩
abbrev main_call10_call0_call0_v14 : Ref sig .tc := ⟨.hbm, 4630, rfl⟩
abbrev main_call10_call0_call0_v15 : Ref sig .tc := ⟨.hbm, 4631, rfl⟩
abbrev main_call10_call0_call0_c_3 : Ref sig .tc := ⟨.hbm, 4632, rfl⟩
abbrev main_call10_call0_call0_v16 : Ref sig .tc := ⟨.hbm, 4633, rfl⟩
abbrev main_call10_call0_call0_v17 : Ref sig .tc := ⟨.hbm, 4634, rfl⟩
abbrev main_call10_call0_call0_v18 : Ref sig .tc := ⟨.hbm, 4635, rfl⟩
abbrev main_call10_call0_call0_v19 : Ref sig .tc := ⟨.hbm, 4636, rfl⟩
abbrev main_call10_call0_call0_v20 : Ref sig .tc := ⟨.hbm, 4637, rfl⟩
abbrev main_call10_call0_call0_c_4 : Ref sig .tc := ⟨.hbm, 4638, rfl⟩
abbrev main_call10_call0_call0_v21 : Ref sig .tc := ⟨.hbm, 4639, rfl⟩
abbrev main_call10_call0_call0_v22 : Ref sig .tc := ⟨.hbm, 4640, rfl⟩
abbrev main_call10_call0_call0_c_5 : Ref sig .tc := ⟨.hbm, 4641, rfl⟩
abbrev main_call10_call0_call0_v23 : Ref sig .tc := ⟨.hbm, 4642, rfl⟩
abbrev main_call10_call0_call0_v24 : Ref sig .tc := ⟨.hbm, 4643, rfl⟩
abbrev main_call10_call0_call0_v25 : Ref sig .tc := ⟨.hbm, 4644, rfl⟩
abbrev main_call10_call0_call0_v26 : Ref sig .tc := ⟨.hbm, 4645, rfl⟩
abbrev main_call10_call0_call0_v27 : Ref sig .tc := ⟨.hbm, 4646, rfl⟩
abbrev main_call10_call0_call0_c_6 : Ref sig .tc := ⟨.hbm, 4647, rfl⟩
abbrev main_call10_call0_call0_v28 : Ref sig .tc := ⟨.hbm, 4648, rfl⟩
abbrev main_call10_call0_call0_v29 : Ref sig .tc := ⟨.hbm, 4649, rfl⟩
abbrev main_call10_call0_call0_c_7 : Ref sig .tc := ⟨.hbm, 4650, rfl⟩
abbrev main_call10_call0_call0_v30 : Ref sig .tc := ⟨.hbm, 4651, rfl⟩
abbrev main_call10_call0_call0_v31 : Ref sig .tc := ⟨.hbm, 4652, rfl⟩
abbrev main_call10_call0_call0_v32 : Ref sig .tc := ⟨.hbm, 4653, rfl⟩
abbrev main_call10_call0_call0_v33 : Ref sig .tc := ⟨.hbm, 4654, rfl⟩
abbrev main_call10_call0_call0_v34 : Ref sig .tc := ⟨.hbm, 4655, rfl⟩
abbrev main_call10_call0_call0_v35 : Ref sig .tc := ⟨.hbm, 4656, rfl⟩
abbrev main_call10_call0_call0_v36 : Ref sig .tc := ⟨.hbm, 4657, rfl⟩
abbrev main_call10_call0_call0_v37 : Ref sig .tc := ⟨.hbm, 4658, rfl⟩
abbrev main_call10_call0_call0_c_8 : Ref sig .tc := ⟨.hbm, 4659, rfl⟩
abbrev main_call10_call0_call0_v38 : Ref sig .tc := ⟨.hbm, 4660, rfl⟩
abbrev main_call10_call0_call0_v39 : Ref sig .tc := ⟨.hbm, 4661, rfl⟩
abbrev main_call10_call0_call0_v40 : Ref sig .tc := ⟨.hbm, 4662, rfl⟩
abbrev main_call10_call0_call0_c_9 : Ref sig .tc := ⟨.hbm, 4663, rfl⟩
abbrev main_call10_call0_call0_v41 : Ref sig .tc := ⟨.hbm, 4664, rfl⟩
abbrev main_call10_call0_call0_v42 : Ref sig .tc := ⟨.hbm, 4665, rfl⟩
abbrev main_call10_call0_call0_c_10 : Ref sig .tc := ⟨.hbm, 4666, rfl⟩
abbrev main_call10_call0_call0_v43 : Ref sig .tc := ⟨.hbm, 4667, rfl⟩
abbrev main_call10_call0_call0_v44 : Ref sig .tc := ⟨.hbm, 4668, rfl⟩
abbrev main_call10_call0_call0_v45 : Ref sig .tc := ⟨.hbm, 4669, rfl⟩
abbrev main_call10_call0_call0_v46 : Ref sig .tc := ⟨.hbm, 4670, rfl⟩
abbrev main_call10_call0_call0_v47 : Ref sig .tc := ⟨.hbm, 4671, rfl⟩
abbrev main_call10_call0_call0_c_11 : Ref sig .tc := ⟨.hbm, 4672, rfl⟩
abbrev main_call10_call0_call0_v48 : Ref sig .tc := ⟨.hbm, 4673, rfl⟩
abbrev main_call10_call0_call0_v49 : Ref sig .tc := ⟨.hbm, 4674, rfl⟩
abbrev main_call10_call0_call0_c_12 : Ref sig .tc := ⟨.hbm, 4675, rfl⟩
abbrev main_call10_call0_call0_v50 : Ref sig .tc := ⟨.hbm, 4676, rfl⟩
abbrev main_call10_call0_call0_v51 : Ref sig .tc := ⟨.hbm, 4677, rfl⟩
abbrev main_call10_call0_call0_v52 : Ref sig .tc := ⟨.hbm, 4678, rfl⟩
abbrev main_call10_call0_call0_v53 : Ref sig .tc := ⟨.hbm, 4679, rfl⟩
abbrev main_call10_call0_call0_v54 : Ref sig .tc := ⟨.hbm, 4680, rfl⟩
abbrev main_call10_call0_call0_c_13 : Ref sig .tc := ⟨.hbm, 4681, rfl⟩
abbrev main_call10_call0_call0_v55 : Ref sig .tc := ⟨.hbm, 4682, rfl⟩
abbrev main_call10_call0_call0_v56 : Ref sig .tc := ⟨.hbm, 4683, rfl⟩
abbrev main_call10_call0_call0_c_14 : Ref sig .tc := ⟨.hbm, 4684, rfl⟩
abbrev main_call10_call0_call0_v57 : Ref sig .tc := ⟨.hbm, 4685, rfl⟩
abbrev main_call10_call0_call0_v58 : Ref sig .tc := ⟨.hbm, 4686, rfl⟩
abbrev main_call10_call0_call0_v59 : Ref sig .tc := ⟨.hbm, 4687, rfl⟩
abbrev main_call10_call0_call0_v60 : Ref sig .tc := ⟨.hbm, 4688, rfl⟩
abbrev main_call10_call0_call0_v61 : Ref sig .tc := ⟨.hbm, 4689, rfl⟩
abbrev main_call10_call0_call0_c_15 : Ref sig .tc := ⟨.hbm, 4690, rfl⟩
abbrev main_call10_call0_call0_v62 : Ref sig .tc := ⟨.hbm, 4691, rfl⟩
abbrev main_call10_call0_call0_v63 : Ref sig .tc := ⟨.hbm, 4692, rfl⟩
abbrev main_call10_call0_call0_c_16 : Ref sig .tc := ⟨.hbm, 4693, rfl⟩
abbrev main_call10_call0_call0_v64 : Ref sig .tc := ⟨.hbm, 4694, rfl⟩
abbrev main_call10_call0_call0_v65 : Ref sig .tc := ⟨.hbm, 4695, rfl⟩
abbrev main_call10_call0_call0_v66 : Ref sig .tc := ⟨.hbm, 4696, rfl⟩
abbrev main_call10_call0_call0_v67 : Ref sig .tc := ⟨.hbm, 4697, rfl⟩
abbrev main_call10_call0_call0_v68 : Ref sig .tc := ⟨.hbm, 4698, rfl⟩
abbrev main_call10_call0_call0_v69 : Ref sig .tc := ⟨.hbm, 4699, rfl⟩
abbrev main_call10_call0_call0_v70 : Ref sig .tc := ⟨.hbm, 4700, rfl⟩
abbrev main_call10_call0_call0_v71 : Ref sig .tc := ⟨.hbm, 4701, rfl⟩
abbrev main_call10_call0_call0_c_17 : Ref sig .tc := ⟨.hbm, 4702, rfl⟩
abbrev main_call10_call0_call0_v72 : Ref sig .tc := ⟨.hbm, 4703, rfl⟩
abbrev main_call10_call0_call0_v73 : Ref sig .tc := ⟨.hbm, 4704, rfl⟩
abbrev main_call10_call0_call0_v74 : Ref sig .tc := ⟨.hbm, 4705, rfl⟩
abbrev main_call10_call0_call0_c_18 : Ref sig .tc := ⟨.hbm, 4706, rfl⟩
abbrev main_call10_call0_call0_v75 : Ref sig .tc := ⟨.hbm, 4707, rfl⟩
abbrev main_call10_call0_call0_v76 : Ref sig .tc := ⟨.hbm, 4708, rfl⟩
abbrev main_call10_call0_call0_c_19 : Ref sig .tc := ⟨.hbm, 4709, rfl⟩
abbrev main_call10_call0_call0_v77 : Ref sig .tc := ⟨.hbm, 4710, rfl⟩
abbrev main_call10_call0_call0_v78 : Ref sig .tc := ⟨.hbm, 4711, rfl⟩
abbrev main_call10_call0_call0_v79 : Ref sig .tc := ⟨.hbm, 4712, rfl⟩
abbrev main_call10_call0_call0_v80 : Ref sig .tc := ⟨.hbm, 4713, rfl⟩
abbrev main_call10_call0_call0_v81 : Ref sig .tc := ⟨.hbm, 4714, rfl⟩
abbrev main_call10_call0_call0_c_20 : Ref sig .tc := ⟨.hbm, 4715, rfl⟩
abbrev main_call10_call0_call0_v82 : Ref sig .tc := ⟨.hbm, 4716, rfl⟩
abbrev main_call10_call0_call0_v83 : Ref sig .tc := ⟨.hbm, 4717, rfl⟩
abbrev main_call10_call0_call0_c_21 : Ref sig .tc := ⟨.hbm, 4718, rfl⟩
abbrev main_call10_call0_call0_v84 : Ref sig .tc := ⟨.hbm, 4719, rfl⟩
abbrev main_call10_call0_call0_v85 : Ref sig .tc := ⟨.hbm, 4720, rfl⟩
abbrev main_call10_call0_call0_v86 : Ref sig .tc := ⟨.hbm, 4721, rfl⟩
abbrev main_call10_call0_call0_v87 : Ref sig .tc := ⟨.hbm, 4722, rfl⟩
abbrev main_call10_call0_call0_v88 : Ref sig .tc := ⟨.hbm, 4723, rfl⟩
abbrev main_call10_call0_call0_c_22 : Ref sig .tc := ⟨.hbm, 4724, rfl⟩
abbrev main_call10_call0_call0_v89 : Ref sig .tc := ⟨.hbm, 4725, rfl⟩
abbrev main_call10_call0_call0_v90 : Ref sig .tc := ⟨.hbm, 4726, rfl⟩
abbrev main_call10_call0_call0_c_23 : Ref sig .tc := ⟨.hbm, 4727, rfl⟩
abbrev main_call10_call0_call0_v91 : Ref sig .tc := ⟨.hbm, 4728, rfl⟩
abbrev main_call10_call0_call0_v92 : Ref sig .tc := ⟨.hbm, 4729, rfl⟩
abbrev main_call10_call0_call0_v93 : Ref sig .tc := ⟨.hbm, 4730, rfl⟩
abbrev main_call10_call0_call0_v94 : Ref sig .tc := ⟨.hbm, 4731, rfl⟩
abbrev main_call10_call0_call0_v95 : Ref sig .tc := ⟨.hbm, 4732, rfl⟩
abbrev main_call10_call0_call0_c_24 : Ref sig .tc := ⟨.hbm, 4733, rfl⟩
abbrev main_call10_call0_call0_v96 : Ref sig .tc := ⟨.hbm, 4734, rfl⟩
abbrev main_call10_call0_call0_v97 : Ref sig .tc := ⟨.hbm, 4735, rfl⟩
abbrev main_call10_call0_call0_c_25 : Ref sig .tc := ⟨.hbm, 4736, rfl⟩
abbrev main_call10_call0_call0_v98 : Ref sig .tc := ⟨.hbm, 4737, rfl⟩
abbrev main_call10_call0_call0_v99 : Ref sig .tc := ⟨.hbm, 4738, rfl⟩
abbrev main_call10_call0_call0_v100 : Ref sig .tc := ⟨.hbm, 4739, rfl⟩
abbrev main_call10_call0_call0_v101 : Ref sig .tc := ⟨.hbm, 4740, rfl⟩
abbrev main_call10_call0_call0_v102 : Ref sig .tc := ⟨.hbm, 4741, rfl⟩
abbrev main_call10_call0_call0_v103 : Ref sig .tc := ⟨.hbm, 4742, rfl⟩
abbrev main_call10_call0_call0_v104 : Ref sig .tc := ⟨.hbm, 4743, rfl⟩
abbrev main_call10_call0_call0_v105 : Ref sig .tc := ⟨.hbm, 4744, rfl⟩
abbrev main_call10_call0_call0_c_26 : Ref sig .tc := ⟨.hbm, 4745, rfl⟩
abbrev main_call10_call0_call0_v106 : Ref sig .tc := ⟨.hbm, 4746, rfl⟩
abbrev main_call10_call0_call0_v107 : Ref sig .tc := ⟨.hbm, 4747, rfl⟩
abbrev main_call10_call0_call0_v108 : Ref sig .tc := ⟨.hbm, 4748, rfl⟩
abbrev main_call10_call0_call0_c_27 : Ref sig .tc := ⟨.hbm, 4749, rfl⟩
abbrev main_call10_call0_call0_v109 : Ref sig .tc := ⟨.hbm, 4750, rfl⟩
abbrev main_call10_call0_call0_v110 : Ref sig .tc := ⟨.hbm, 4751, rfl⟩
abbrev main_call10_call0_call0_c_28 : Ref sig .tc := ⟨.hbm, 4752, rfl⟩
abbrev main_call10_call0_call0_v111 : Ref sig .tc := ⟨.hbm, 4753, rfl⟩
abbrev main_call10_call0_call0_v112 : Ref sig .tc := ⟨.hbm, 4754, rfl⟩
abbrev main_call10_call0_call0_v113 : Ref sig .tc := ⟨.hbm, 4755, rfl⟩
abbrev main_call10_call0_call0_v114 : Ref sig .tc := ⟨.hbm, 4756, rfl⟩
abbrev main_call10_call0_call0_v115 : Ref sig .tc := ⟨.hbm, 4757, rfl⟩
abbrev main_call10_call0_call0_c_29 : Ref sig .tc := ⟨.hbm, 4758, rfl⟩
abbrev main_call10_call0_call0_v116 : Ref sig .tc := ⟨.hbm, 4759, rfl⟩
abbrev main_call10_call0_call0_v117 : Ref sig .tc := ⟨.hbm, 4760, rfl⟩
abbrev main_call10_call0_call0_c_30 : Ref sig .tc := ⟨.hbm, 4761, rfl⟩
abbrev main_call10_call0_call0_v118 : Ref sig .tc := ⟨.hbm, 4762, rfl⟩
abbrev main_call10_call0_call0_v119 : Ref sig .tc := ⟨.hbm, 4763, rfl⟩
abbrev main_call10_call0_call0_v120 : Ref sig .tc := ⟨.hbm, 4764, rfl⟩
abbrev main_call10_call0_call0_v121 : Ref sig .tc := ⟨.hbm, 4765, rfl⟩
abbrev main_call10_call0_call0_v122 : Ref sig .tc := ⟨.hbm, 4766, rfl⟩
abbrev main_call10_call0_call0_c_31 : Ref sig .tc := ⟨.hbm, 4767, rfl⟩
abbrev main_call10_call0_call0_v123 : Ref sig .tc := ⟨.hbm, 4768, rfl⟩
abbrev main_call10_call0_call0_v124 : Ref sig .tc := ⟨.hbm, 4769, rfl⟩
abbrev main_call10_call0_call0_c_32 : Ref sig .tc := ⟨.hbm, 4770, rfl⟩
abbrev main_call10_call0_call0_v125 : Ref sig .tc := ⟨.hbm, 4771, rfl⟩
abbrev main_call10_call0_call0_v126 : Ref sig .tc := ⟨.hbm, 4772, rfl⟩
abbrev main_call10_call0_call0_v127 : Ref sig .tc := ⟨.hbm, 4773, rfl⟩
abbrev main_call10_call0_call0_v128 : Ref sig .tc := ⟨.hbm, 4774, rfl⟩
abbrev main_call10_call0_call0_v129 : Ref sig .tc := ⟨.hbm, 4775, rfl⟩
abbrev main_call10_call0_call0_c_33 : Ref sig .tc := ⟨.hbm, 4776, rfl⟩
abbrev main_call10_call0_call0_v130 : Ref sig .tc := ⟨.hbm, 4777, rfl⟩
abbrev main_call10_call0_call0_v131 : Ref sig .tc := ⟨.hbm, 4778, rfl⟩
abbrev main_call10_call0_call0_c_34 : Ref sig .tc := ⟨.hbm, 4779, rfl⟩
abbrev main_call10_call0_call0_v132 : Ref sig .tc := ⟨.hbm, 4780, rfl⟩
abbrev main_call10_call0_call0_v133 : Ref sig .tc := ⟨.hbm, 4781, rfl⟩
abbrev main_call10_call0_call0_v134 : Ref sig .tc := ⟨.hbm, 4782, rfl⟩
abbrev main_call10_call0_call0_v135 : Ref sig .tc := ⟨.hbm, 4783, rfl⟩
abbrev main_call10_call0_call0_v136 : Ref sig .tc := ⟨.hbm, 4784, rfl⟩
abbrev main_call10_call0_call0_v137 : Ref sig .tc := ⟨.hbm, 4785, rfl⟩
abbrev main_call10_call0_call0_v138 : Ref sig .tc := ⟨.hbm, 4786, rfl⟩
abbrev main_call10_call0_call0_v139 : Ref sig .tc := ⟨.hbm, 4787, rfl⟩
abbrev main_call10_call0_call0_c_35 : Ref sig .tc := ⟨.hbm, 4788, rfl⟩
abbrev main_call10_call0_call0_v140 : Ref sig .tc := ⟨.hbm, 4789, rfl⟩
abbrev main_call10_call0_call0_v141 : Ref sig .tc := ⟨.hbm, 4790, rfl⟩
abbrev main_call10_call0_call0_v142 : Ref sig .tc := ⟨.hbm, 4791, rfl⟩
abbrev main_call10_call0_call0_c_36 : Ref sig .tc := ⟨.hbm, 4792, rfl⟩
abbrev main_call10_call0_call0_v143 : Ref sig .tc := ⟨.hbm, 4793, rfl⟩
abbrev main_call10_call0_call0_v144 : Ref sig .tc := ⟨.hbm, 4794, rfl⟩
abbrev main_call10_call0_call0_c_37 : Ref sig .tc := ⟨.hbm, 4795, rfl⟩
abbrev main_call10_call0_call0_v145 : Ref sig .tc := ⟨.hbm, 4796, rfl⟩
abbrev main_call10_call0_call0_v146 : Ref sig .tc := ⟨.hbm, 4797, rfl⟩
abbrev main_call10_call0_call0_v147 : Ref sig .tc := ⟨.hbm, 4798, rfl⟩
abbrev main_call10_call0_call0_v148 : Ref sig .tc := ⟨.hbm, 4799, rfl⟩
abbrev main_call10_call0_call0_v149 : Ref sig .tc := ⟨.hbm, 4800, rfl⟩
abbrev main_call10_call0_call0_c_38 : Ref sig .tc := ⟨.hbm, 4801, rfl⟩
abbrev main_call10_call0_call0_v150 : Ref sig .tc := ⟨.hbm, 4802, rfl⟩
abbrev main_call10_call0_call0_v151 : Ref sig .tc := ⟨.hbm, 4803, rfl⟩
abbrev main_call10_call0_call0_c_39 : Ref sig .tc := ⟨.hbm, 4804, rfl⟩
abbrev main_call10_call0_call0_v152 : Ref sig .tc := ⟨.hbm, 4805, rfl⟩
abbrev main_call10_call0_call0_v153 : Ref sig .tc := ⟨.hbm, 4806, rfl⟩
abbrev main_call10_call0_call0_v154 : Ref sig .tc := ⟨.hbm, 4807, rfl⟩
abbrev main_call10_call0_call0_v155 : Ref sig .tc := ⟨.hbm, 4808, rfl⟩
abbrev main_call10_call0_call0_v156 : Ref sig .tc := ⟨.hbm, 4809, rfl⟩
abbrev main_call10_call0_call0_c_40 : Ref sig .tc := ⟨.hbm, 4810, rfl⟩
abbrev main_call10_call0_call0_v157 : Ref sig .tc := ⟨.hbm, 4811, rfl⟩
abbrev main_call10_call0_call0_v158 : Ref sig .tc := ⟨.hbm, 4812, rfl⟩
abbrev main_call10_call0_call0_c_41 : Ref sig .tc := ⟨.hbm, 4813, rfl⟩
abbrev main_call10_call0_call0_v159 : Ref sig .tc := ⟨.hbm, 4814, rfl⟩
abbrev main_call10_call0_call0_v160 : Ref sig .tc := ⟨.hbm, 4815, rfl⟩
abbrev main_call10_call0_call0_v161 : Ref sig .tc := ⟨.hbm, 4816, rfl⟩
abbrev main_call10_call0_call0_v162 : Ref sig .tc := ⟨.hbm, 4817, rfl⟩
abbrev main_call10_call0_call0_v163 : Ref sig .tc := ⟨.hbm, 4818, rfl⟩
abbrev main_call10_call0_call0_c_42 : Ref sig .tc := ⟨.hbm, 4819, rfl⟩
abbrev main_call10_call0_call0_v164 : Ref sig .tc := ⟨.hbm, 4820, rfl⟩
abbrev main_call10_call0_call0_v165 : Ref sig .tc := ⟨.hbm, 4821, rfl⟩
abbrev main_call10_call0_call0_c_43 : Ref sig .tc := ⟨.hbm, 4822, rfl⟩
abbrev main_call10_call0_call0_v166 : Ref sig .tc := ⟨.hbm, 4823, rfl⟩
abbrev main_call10_call0_call0_v167 : Ref sig .tc := ⟨.hbm, 4824, rfl⟩
abbrev main_call10_call0_call0_v168 : Ref sig .tc := ⟨.hbm, 4825, rfl⟩
abbrev main_call10_call0_call0_v169 : Ref sig .tc := ⟨.hbm, 4826, rfl⟩
abbrev main_call10_call0_call0_v170 : Ref sig .tc := ⟨.hbm, 4827, rfl⟩
abbrev main_call10_call0_v11_0 : Ref sig .tc := ⟨.hbm, 4828, rfl⟩
abbrev main_call10_call0_call0_v172 : Ref sig .tc := ⟨.hbm, 4829, rfl⟩
abbrev main_call10_call0_call0_v173 : Ref sig .tc := ⟨.hbm, 4830, rfl⟩
abbrev main_call10_call0_call0_c_44 : Ref sig .tc := ⟨.hbm, 4831, rfl⟩
abbrev main_call10_call0_call0_v174 : Ref sig .tc := ⟨.hbm, 4832, rfl⟩
abbrev main_call10_call0_v11_1 : Ref sig .tc := ⟨.hbm, 4833, rfl⟩
abbrev main_call10_call0_v12 : Ref sig .tc := ⟨.hbm, 4834, rfl⟩
abbrev main_call10_call0_v13 : Ref sig .tc := ⟨.hbm, 4835, rfl⟩
abbrev main_call10_v0 : Ref sig .tc := ⟨.hbm, 4836, rfl⟩
abbrev main_call10_v1 : Ref sig .tc := ⟨.hbm, 4837, rfl⟩
abbrev main_call10_v2 : Ref sig .tc := ⟨.hbm, 4838, rfl⟩
abbrev main_call10_v3 : Ref sig .tc := ⟨.hbm, 4839, rfl⟩
abbrev main_call10_v4 : Ref sig .tc := ⟨.hbm, 4840, rfl⟩
abbrev main_call10_v5 : Ref sig .tc := ⟨.hbm, 4841, rfl⟩
abbrev main_call10_v6 : Ref sig .tc := ⟨.hbm, 4842, rfl⟩
abbrev main_call10_v7 : Ref sig .tc := ⟨.hbm, 4843, rfl⟩
abbrev main_call10_v8 : Ref sig .tc := ⟨.hbm, 4844, rfl⟩
abbrev main_call10_v9 : Ref sig .tc := ⟨.hbm, 4845, rfl⟩
abbrev main_call10_c : Ref sig .tc := ⟨.hbm, 4846, rfl⟩
abbrev main_call10_v10 : Ref sig .tc := ⟨.hbm, 4847, rfl⟩
abbrev main_call10_v11 : Ref sig .tc := ⟨.hbm, 4848, rfl⟩
abbrev main_call10_c_0 : Ref sig .tc := ⟨.hbm, 4849, rfl⟩
abbrev main_call10_v12 : Ref sig .tc := ⟨.hbm, 4850, rfl⟩
abbrev main_call10_v13 : Ref sig .tc := ⟨.hbm, 4851, rfl⟩
abbrev main_call10_v14 : Ref sig .tc := ⟨.hbm, 4852, rfl⟩
abbrev main_call10_v15 : Ref sig .tc := ⟨.hbm, 4853, rfl⟩
abbrev main_call10_call1_v0 : Ref sig .tc := ⟨.hbm, 4854, rfl⟩
abbrev main_call10_call1_c : Ref sig .tc := ⟨.hbm, 4855, rfl⟩
abbrev main_call10_call1_v1 : Ref sig .tc := ⟨.hbm, 4856, rfl⟩
abbrev main_call10_call1_v2 : Ref sig .tc := ⟨.hbm, 4857, rfl⟩
abbrev main_call10_call1_v3 : Ref sig .tc := ⟨.hbm, 4858, rfl⟩
abbrev main_call10_call1_v4 : Ref sig .tc := ⟨.hbm, 4859, rfl⟩
abbrev main_call10_call1_v5 : Ref sig .tc := ⟨.hbm, 4860, rfl⟩
abbrev main_call10_call1_v6 : Ref sig .tc := ⟨.hbm, 4861, rfl⟩
abbrev main_call10_call1_c_0 : Ref sig .tc := ⟨.hbm, 4862, rfl⟩
abbrev main_call10_call1_v7 : Ref sig .tc := ⟨.hbm, 4863, rfl⟩
abbrev main_call10_call1_v8 : Ref sig .tc := ⟨.hbm, 4864, rfl⟩
abbrev main_call10_call1_c_1 : Ref sig .tc := ⟨.hbm, 4865, rfl⟩
abbrev main_call10_call1_v9 : Ref sig .tc := ⟨.hbm, 4866, rfl⟩
abbrev main_call10_call1_v10 : Ref sig .tc := ⟨.hbm, 4867, rfl⟩
abbrev main_call10_call1_v11 : Ref sig .tc := ⟨.hbm, 4868, rfl⟩
abbrev main_call10_call1_v12 : Ref sig .tc := ⟨.hbm, 4869, rfl⟩
abbrev main_call10_call1_v13 : Ref sig .tc := ⟨.hbm, 4870, rfl⟩
abbrev main_call10_call1_c_2 : Ref sig .tc := ⟨.hbm, 4871, rfl⟩
abbrev main_call10_call1_v14 : Ref sig .tc := ⟨.hbm, 4872, rfl⟩
abbrev main_call10_call1_v15 : Ref sig .tc := ⟨.hbm, 4873, rfl⟩
abbrev main_call10_call1_c_3 : Ref sig .tc := ⟨.hbm, 4874, rfl⟩
abbrev main_call10_call1_v16 : Ref sig .tc := ⟨.hbm, 4875, rfl⟩
abbrev main_call10_call1_v17 : Ref sig .tc := ⟨.hbm, 4876, rfl⟩
abbrev main_call10_call1_v18 : Ref sig .tc := ⟨.hbm, 4877, rfl⟩
abbrev main_call10_call1_v19 : Ref sig .tc := ⟨.hbm, 4878, rfl⟩
abbrev main_call10_call1_v20 : Ref sig .tc := ⟨.hbm, 4879, rfl⟩
abbrev main_call10_call1_c_4 : Ref sig .tc := ⟨.hbm, 4880, rfl⟩
abbrev main_call10_call1_v21 : Ref sig .tc := ⟨.hbm, 4881, rfl⟩
abbrev main_call10_call1_v22 : Ref sig .tc := ⟨.hbm, 4882, rfl⟩
abbrev main_call10_call1_c_5 : Ref sig .tc := ⟨.hbm, 4883, rfl⟩
abbrev main_call10_call1_v23 : Ref sig .tc := ⟨.hbm, 4884, rfl⟩
abbrev main_call10_call1_v24 : Ref sig .tc := ⟨.hbm, 4885, rfl⟩
abbrev main_call10_call1_v25 : Ref sig .tc := ⟨.hbm, 4886, rfl⟩
abbrev main_call10_call1_v26 : Ref sig .tc := ⟨.hbm, 4887, rfl⟩
abbrev main_call10_call1_v27 : Ref sig .tc := ⟨.hbm, 4888, rfl⟩
abbrev main_call10_call1_c_6 : Ref sig .tc := ⟨.hbm, 4889, rfl⟩
abbrev main_call10_call1_v28 : Ref sig .tc := ⟨.hbm, 4890, rfl⟩
abbrev main_call10_call1_v29 : Ref sig .tc := ⟨.hbm, 4891, rfl⟩
abbrev main_call10_call1_c_7 : Ref sig .tc := ⟨.hbm, 4892, rfl⟩
abbrev main_call10_call1_v30 : Ref sig .tc := ⟨.hbm, 4893, rfl⟩
abbrev main_call10_call1_v31 : Ref sig .tc := ⟨.hbm, 4894, rfl⟩
abbrev main_call10_call1_v32 : Ref sig .tc := ⟨.hbm, 4895, rfl⟩
abbrev main_call10_call1_v33 : Ref sig .tc := ⟨.hbm, 4896, rfl⟩
abbrev main_call10_call1_v34 : Ref sig .tc := ⟨.hbm, 4897, rfl⟩
abbrev main_call10_call1_v35 : Ref sig .tc := ⟨.hbm, 4898, rfl⟩
abbrev main_call10_call1_v36 : Ref sig .tc := ⟨.hbm, 4899, rfl⟩
abbrev main_call10_call1_v37 : Ref sig .tc := ⟨.hbm, 4900, rfl⟩
abbrev main_call10_call1_c_8 : Ref sig .tc := ⟨.hbm, 4901, rfl⟩
abbrev main_call10_call1_v38 : Ref sig .tc := ⟨.hbm, 4902, rfl⟩
abbrev main_call10_call1_v39 : Ref sig .tc := ⟨.hbm, 4903, rfl⟩
abbrev main_call10_call1_v40 : Ref sig .tc := ⟨.hbm, 4904, rfl⟩
abbrev main_call10_call1_c_9 : Ref sig .tc := ⟨.hbm, 4905, rfl⟩
abbrev main_call10_call1_v41 : Ref sig .tc := ⟨.hbm, 4906, rfl⟩
abbrev main_call10_call1_v42 : Ref sig .tc := ⟨.hbm, 4907, rfl⟩
abbrev main_call10_call1_c_10 : Ref sig .tc := ⟨.hbm, 4908, rfl⟩
abbrev main_call10_call1_v43 : Ref sig .tc := ⟨.hbm, 4909, rfl⟩
abbrev main_call10_call1_v44 : Ref sig .tc := ⟨.hbm, 4910, rfl⟩
abbrev main_call10_call1_v45 : Ref sig .tc := ⟨.hbm, 4911, rfl⟩
abbrev main_call10_call1_v46 : Ref sig .tc := ⟨.hbm, 4912, rfl⟩
abbrev main_call10_call1_v47 : Ref sig .tc := ⟨.hbm, 4913, rfl⟩
abbrev main_call10_call1_c_11 : Ref sig .tc := ⟨.hbm, 4914, rfl⟩
abbrev main_call10_call1_v48 : Ref sig .tc := ⟨.hbm, 4915, rfl⟩
abbrev main_call10_call1_v49 : Ref sig .tc := ⟨.hbm, 4916, rfl⟩
abbrev main_call10_call1_c_12 : Ref sig .tc := ⟨.hbm, 4917, rfl⟩
abbrev main_call10_call1_v50 : Ref sig .tc := ⟨.hbm, 4918, rfl⟩
abbrev main_call10_call1_v51 : Ref sig .tc := ⟨.hbm, 4919, rfl⟩
abbrev main_call10_call1_v52 : Ref sig .tc := ⟨.hbm, 4920, rfl⟩
abbrev main_call10_call1_v53 : Ref sig .tc := ⟨.hbm, 4921, rfl⟩
abbrev main_call10_call1_v54 : Ref sig .tc := ⟨.hbm, 4922, rfl⟩
abbrev main_call10_call1_c_13 : Ref sig .tc := ⟨.hbm, 4923, rfl⟩
abbrev main_call10_call1_v55 : Ref sig .tc := ⟨.hbm, 4924, rfl⟩
abbrev main_call10_call1_v56 : Ref sig .tc := ⟨.hbm, 4925, rfl⟩
abbrev main_call10_call1_c_14 : Ref sig .tc := ⟨.hbm, 4926, rfl⟩
abbrev main_call10_call1_v57 : Ref sig .tc := ⟨.hbm, 4927, rfl⟩
abbrev main_call10_call1_v58 : Ref sig .tc := ⟨.hbm, 4928, rfl⟩
abbrev main_call10_call1_v59 : Ref sig .tc := ⟨.hbm, 4929, rfl⟩
abbrev main_call10_call1_v60 : Ref sig .tc := ⟨.hbm, 4930, rfl⟩
abbrev main_call10_call1_v61 : Ref sig .tc := ⟨.hbm, 4931, rfl⟩
abbrev main_call10_call1_c_15 : Ref sig .tc := ⟨.hbm, 4932, rfl⟩
abbrev main_call10_call1_v62 : Ref sig .tc := ⟨.hbm, 4933, rfl⟩
abbrev main_call10_call1_v63 : Ref sig .tc := ⟨.hbm, 4934, rfl⟩
abbrev main_call10_call1_c_16 : Ref sig .tc := ⟨.hbm, 4935, rfl⟩
abbrev main_call10_call1_v64 : Ref sig .tc := ⟨.hbm, 4936, rfl⟩
abbrev main_call10_call1_v65 : Ref sig .tc := ⟨.hbm, 4937, rfl⟩
abbrev main_call10_call1_v66 : Ref sig .tc := ⟨.hbm, 4938, rfl⟩
abbrev main_call10_call1_v67 : Ref sig .tc := ⟨.hbm, 4939, rfl⟩
abbrev main_call10_call1_v68 : Ref sig .tc := ⟨.hbm, 4940, rfl⟩
abbrev main_call10_call1_v69 : Ref sig .tc := ⟨.hbm, 4941, rfl⟩
abbrev main_call10_call1_v70 : Ref sig .tc := ⟨.hbm, 4942, rfl⟩
abbrev main_call10_call1_v71 : Ref sig .tc := ⟨.hbm, 4943, rfl⟩
abbrev main_call10_call1_c_17 : Ref sig .tc := ⟨.hbm, 4944, rfl⟩
abbrev main_call10_call1_v72 : Ref sig .tc := ⟨.hbm, 4945, rfl⟩
abbrev main_call10_call1_v73 : Ref sig .tc := ⟨.hbm, 4946, rfl⟩
abbrev main_call10_call1_v74 : Ref sig .tc := ⟨.hbm, 4947, rfl⟩
abbrev main_call10_call1_c_18 : Ref sig .tc := ⟨.hbm, 4948, rfl⟩
abbrev main_call10_call1_v75 : Ref sig .tc := ⟨.hbm, 4949, rfl⟩
abbrev main_call10_call1_v76 : Ref sig .tc := ⟨.hbm, 4950, rfl⟩
abbrev main_call10_call1_c_19 : Ref sig .tc := ⟨.hbm, 4951, rfl⟩
abbrev main_call10_call1_v77 : Ref sig .tc := ⟨.hbm, 4952, rfl⟩
abbrev main_call10_call1_v78 : Ref sig .tc := ⟨.hbm, 4953, rfl⟩
abbrev main_call10_call1_v79 : Ref sig .tc := ⟨.hbm, 4954, rfl⟩
abbrev main_call10_call1_v80 : Ref sig .tc := ⟨.hbm, 4955, rfl⟩
abbrev main_call10_call1_v81 : Ref sig .tc := ⟨.hbm, 4956, rfl⟩
abbrev main_call10_call1_c_20 : Ref sig .tc := ⟨.hbm, 4957, rfl⟩
abbrev main_call10_call1_v82 : Ref sig .tc := ⟨.hbm, 4958, rfl⟩
abbrev main_call10_call1_v83 : Ref sig .tc := ⟨.hbm, 4959, rfl⟩
abbrev main_call10_call1_c_21 : Ref sig .tc := ⟨.hbm, 4960, rfl⟩
abbrev main_call10_call1_v84 : Ref sig .tc := ⟨.hbm, 4961, rfl⟩
abbrev main_call10_call1_v85 : Ref sig .tc := ⟨.hbm, 4962, rfl⟩
abbrev main_call10_call1_v86 : Ref sig .tc := ⟨.hbm, 4963, rfl⟩
abbrev main_call10_call1_v87 : Ref sig .tc := ⟨.hbm, 4964, rfl⟩
abbrev main_call10_call1_v88 : Ref sig .tc := ⟨.hbm, 4965, rfl⟩
abbrev main_call10_call1_c_22 : Ref sig .tc := ⟨.hbm, 4966, rfl⟩
abbrev main_call10_call1_v89 : Ref sig .tc := ⟨.hbm, 4967, rfl⟩
abbrev main_call10_call1_v90 : Ref sig .tc := ⟨.hbm, 4968, rfl⟩
abbrev main_call10_call1_c_23 : Ref sig .tc := ⟨.hbm, 4969, rfl⟩
abbrev main_call10_call1_v91 : Ref sig .tc := ⟨.hbm, 4970, rfl⟩
abbrev main_call10_call1_v92 : Ref sig .tc := ⟨.hbm, 4971, rfl⟩
abbrev main_call10_call1_v93 : Ref sig .tc := ⟨.hbm, 4972, rfl⟩
abbrev main_call10_call1_v94 : Ref sig .tc := ⟨.hbm, 4973, rfl⟩
abbrev main_call10_call1_v95 : Ref sig .tc := ⟨.hbm, 4974, rfl⟩
abbrev main_call10_call1_c_24 : Ref sig .tc := ⟨.hbm, 4975, rfl⟩
abbrev main_call10_call1_v96 : Ref sig .tc := ⟨.hbm, 4976, rfl⟩
abbrev main_call10_call1_v97 : Ref sig .tc := ⟨.hbm, 4977, rfl⟩
abbrev main_call10_call1_c_25 : Ref sig .tc := ⟨.hbm, 4978, rfl⟩
abbrev main_call10_call1_v98 : Ref sig .tc := ⟨.hbm, 4979, rfl⟩
abbrev main_call10_call1_v99 : Ref sig .tc := ⟨.hbm, 4980, rfl⟩
abbrev main_call10_call1_v100 : Ref sig .tc := ⟨.hbm, 4981, rfl⟩
abbrev main_call10_call1_v101 : Ref sig .tc := ⟨.hbm, 4982, rfl⟩
abbrev main_call10_call1_v102 : Ref sig .tc := ⟨.hbm, 4983, rfl⟩
abbrev main_call10_call1_v103 : Ref sig .tc := ⟨.hbm, 4984, rfl⟩
abbrev main_call10_call1_v104 : Ref sig .tc := ⟨.hbm, 4985, rfl⟩
abbrev main_call10_call1_v105 : Ref sig .tc := ⟨.hbm, 4986, rfl⟩
abbrev main_call10_call1_c_26 : Ref sig .tc := ⟨.hbm, 4987, rfl⟩
abbrev main_call10_call1_v106 : Ref sig .tc := ⟨.hbm, 4988, rfl⟩
abbrev main_call10_call1_v107 : Ref sig .tc := ⟨.hbm, 4989, rfl⟩
abbrev main_call10_call1_v108 : Ref sig .tc := ⟨.hbm, 4990, rfl⟩
abbrev main_call10_call1_c_27 : Ref sig .tc := ⟨.hbm, 4991, rfl⟩
abbrev main_call10_call1_v109 : Ref sig .tc := ⟨.hbm, 4992, rfl⟩
abbrev main_call10_call1_v110 : Ref sig .tc := ⟨.hbm, 4993, rfl⟩
abbrev main_call10_call1_c_28 : Ref sig .tc := ⟨.hbm, 4994, rfl⟩
abbrev main_call10_call1_v111 : Ref sig .tc := ⟨.hbm, 4995, rfl⟩
abbrev main_call10_call1_v112 : Ref sig .tc := ⟨.hbm, 4996, rfl⟩
abbrev main_call10_call1_v113 : Ref sig .tc := ⟨.hbm, 4997, rfl⟩
abbrev main_call10_call1_v114 : Ref sig .tc := ⟨.hbm, 4998, rfl⟩
abbrev main_call10_call1_v115 : Ref sig .tc := ⟨.hbm, 4999, rfl⟩
abbrev main_call10_call1_c_29 : Ref sig .tc := ⟨.hbm, 5000, rfl⟩
abbrev main_call10_call1_v116 : Ref sig .tc := ⟨.hbm, 5001, rfl⟩
abbrev main_call10_call1_v117 : Ref sig .tc := ⟨.hbm, 5002, rfl⟩
abbrev main_call10_call1_c_30 : Ref sig .tc := ⟨.hbm, 5003, rfl⟩
abbrev main_call10_call1_v118 : Ref sig .tc := ⟨.hbm, 5004, rfl⟩
abbrev main_call10_call1_v119 : Ref sig .tc := ⟨.hbm, 5005, rfl⟩
abbrev main_call10_call1_v120 : Ref sig .tc := ⟨.hbm, 5006, rfl⟩
abbrev main_call10_call1_v121 : Ref sig .tc := ⟨.hbm, 5007, rfl⟩
abbrev main_call10_call1_v122 : Ref sig .tc := ⟨.hbm, 5008, rfl⟩
abbrev main_call10_call1_c_31 : Ref sig .tc := ⟨.hbm, 5009, rfl⟩
abbrev main_call10_call1_v123 : Ref sig .tc := ⟨.hbm, 5010, rfl⟩
abbrev main_call10_call1_v124 : Ref sig .tc := ⟨.hbm, 5011, rfl⟩
abbrev main_call10_call1_c_32 : Ref sig .tc := ⟨.hbm, 5012, rfl⟩
abbrev main_call10_call1_v125 : Ref sig .tc := ⟨.hbm, 5013, rfl⟩
abbrev main_call10_call1_v126 : Ref sig .tc := ⟨.hbm, 5014, rfl⟩
abbrev main_call10_call1_v127 : Ref sig .tc := ⟨.hbm, 5015, rfl⟩
abbrev main_call10_call1_v128 : Ref sig .tc := ⟨.hbm, 5016, rfl⟩
abbrev main_call10_call1_v129 : Ref sig .tc := ⟨.hbm, 5017, rfl⟩
abbrev main_call10_call1_c_33 : Ref sig .tc := ⟨.hbm, 5018, rfl⟩
abbrev main_call10_call1_v130 : Ref sig .tc := ⟨.hbm, 5019, rfl⟩
abbrev main_call10_call1_v131 : Ref sig .tc := ⟨.hbm, 5020, rfl⟩
abbrev main_call10_call1_c_34 : Ref sig .tc := ⟨.hbm, 5021, rfl⟩
abbrev main_call10_call1_v132 : Ref sig .tc := ⟨.hbm, 5022, rfl⟩
abbrev main_call10_call1_v133 : Ref sig .tc := ⟨.hbm, 5023, rfl⟩
abbrev main_call10_call1_v134 : Ref sig .tc := ⟨.hbm, 5024, rfl⟩
abbrev main_call10_call1_v135 : Ref sig .tc := ⟨.hbm, 5025, rfl⟩
abbrev main_call10_call1_v136 : Ref sig .tc := ⟨.hbm, 5026, rfl⟩
abbrev main_call10_call1_v137 : Ref sig .tc := ⟨.hbm, 5027, rfl⟩
abbrev main_call10_call1_v138 : Ref sig .tc := ⟨.hbm, 5028, rfl⟩
abbrev main_call10_call1_v139 : Ref sig .tc := ⟨.hbm, 5029, rfl⟩
abbrev main_call10_call1_c_35 : Ref sig .tc := ⟨.hbm, 5030, rfl⟩
abbrev main_call10_call1_v140 : Ref sig .tc := ⟨.hbm, 5031, rfl⟩
abbrev main_call10_call1_v141 : Ref sig .tc := ⟨.hbm, 5032, rfl⟩
abbrev main_call10_call1_v142 : Ref sig .tc := ⟨.hbm, 5033, rfl⟩
abbrev main_call10_call1_c_36 : Ref sig .tc := ⟨.hbm, 5034, rfl⟩
abbrev main_call10_call1_v143 : Ref sig .tc := ⟨.hbm, 5035, rfl⟩
abbrev main_call10_call1_v144 : Ref sig .tc := ⟨.hbm, 5036, rfl⟩
abbrev main_call10_call1_c_37 : Ref sig .tc := ⟨.hbm, 5037, rfl⟩
abbrev main_call10_call1_v145 : Ref sig .tc := ⟨.hbm, 5038, rfl⟩
abbrev main_call10_call1_v146 : Ref sig .tc := ⟨.hbm, 5039, rfl⟩
abbrev main_call10_call1_v147 : Ref sig .tc := ⟨.hbm, 5040, rfl⟩
abbrev main_call10_call1_v148 : Ref sig .tc := ⟨.hbm, 5041, rfl⟩
abbrev main_call10_call1_v149 : Ref sig .tc := ⟨.hbm, 5042, rfl⟩
abbrev main_call10_call1_c_38 : Ref sig .tc := ⟨.hbm, 5043, rfl⟩
abbrev main_call10_call1_v150 : Ref sig .tc := ⟨.hbm, 5044, rfl⟩
abbrev main_call10_call1_v151 : Ref sig .tc := ⟨.hbm, 5045, rfl⟩
abbrev main_call10_call1_c_39 : Ref sig .tc := ⟨.hbm, 5046, rfl⟩
abbrev main_call10_call1_v152 : Ref sig .tc := ⟨.hbm, 5047, rfl⟩
abbrev main_call10_call1_v153 : Ref sig .tc := ⟨.hbm, 5048, rfl⟩
abbrev main_call10_call1_v154 : Ref sig .tc := ⟨.hbm, 5049, rfl⟩
abbrev main_call10_call1_v155 : Ref sig .tc := ⟨.hbm, 5050, rfl⟩
abbrev main_call10_call1_v156 : Ref sig .tc := ⟨.hbm, 5051, rfl⟩
abbrev main_call10_call1_c_40 : Ref sig .tc := ⟨.hbm, 5052, rfl⟩
abbrev main_call10_call1_v157 : Ref sig .tc := ⟨.hbm, 5053, rfl⟩
abbrev main_call10_call1_v158 : Ref sig .tc := ⟨.hbm, 5054, rfl⟩
abbrev main_call10_call1_c_41 : Ref sig .tc := ⟨.hbm, 5055, rfl⟩
abbrev main_call10_call1_v159 : Ref sig .tc := ⟨.hbm, 5056, rfl⟩
abbrev main_call10_call1_v160 : Ref sig .tc := ⟨.hbm, 5057, rfl⟩
abbrev main_call10_call1_v161 : Ref sig .tc := ⟨.hbm, 5058, rfl⟩
abbrev main_call10_call1_v162 : Ref sig .tc := ⟨.hbm, 5059, rfl⟩
abbrev main_call10_call1_v163 : Ref sig .tc := ⟨.hbm, 5060, rfl⟩
abbrev main_call10_call1_c_42 : Ref sig .tc := ⟨.hbm, 5061, rfl⟩
abbrev main_call10_call1_v164 : Ref sig .tc := ⟨.hbm, 5062, rfl⟩
abbrev main_call10_call1_v165 : Ref sig .tc := ⟨.hbm, 5063, rfl⟩
abbrev main_call10_call1_c_43 : Ref sig .tc := ⟨.hbm, 5064, rfl⟩
abbrev main_call10_call1_v166 : Ref sig .tc := ⟨.hbm, 5065, rfl⟩
abbrev main_call10_call1_v167 : Ref sig .tc := ⟨.hbm, 5066, rfl⟩
abbrev main_call10_call1_v168 : Ref sig .tc := ⟨.hbm, 5067, rfl⟩
abbrev main_call10_call1_v169 : Ref sig .tc := ⟨.hbm, 5068, rfl⟩
abbrev main_call10_call1_v170 : Ref sig .tc := ⟨.hbm, 5069, rfl⟩
abbrev main_call10_v16_0 : Ref sig .tc := ⟨.hbm, 5070, rfl⟩
abbrev main_call10_call1_v172 : Ref sig .tc := ⟨.hbm, 5071, rfl⟩
abbrev main_call10_call1_v173 : Ref sig .tc := ⟨.hbm, 5072, rfl⟩
abbrev main_call10_call1_c_44 : Ref sig .tc := ⟨.hbm, 5073, rfl⟩
abbrev main_call10_call1_v174 : Ref sig .tc := ⟨.hbm, 5074, rfl⟩
abbrev main_call10_v16_1 : Ref sig .tc := ⟨.hbm, 5075, rfl⟩
abbrev main_call10_v17 : Ref sig .tc := ⟨.hbm, 5076, rfl⟩
abbrev main_call10_v18_0 : Ref sig .tc := ⟨.hbm, 5077, rfl⟩
abbrev main_v47 : Ref sig .tc := ⟨.hbm, 5078, rfl⟩
abbrev main_v48 : Ref sig .tc := ⟨.hbm, 5079, rfl⟩
abbrev main_v49 : Ref sig .tc := ⟨.hbm, 5080, rfl⟩
abbrev main_v50 : Ref sig .tc := ⟨.hbm, 5081, rfl⟩
abbrev main_call11_call0_v0 : Ref sig .tc := ⟨.hbm, 5082, rfl⟩
abbrev main_call11_call0_v1 : Ref sig .tc := ⟨.hbm, 5083, rfl⟩
abbrev main_call11_call0_v2 : Ref sig .tc := ⟨.hbm, 5084, rfl⟩
abbrev main_call11_call0_v3 : Ref sig .tc := ⟨.hbm, 5085, rfl⟩
abbrev main_call11_call0_v4 : Ref sig .tc := ⟨.hbm, 5086, rfl⟩
abbrev main_call11_call0_c : Ref sig .tc := ⟨.hbm, 5087, rfl⟩
abbrev main_call11_call0_v5 : Ref sig .tc := ⟨.hbm, 5088, rfl⟩
abbrev main_call11_call0_v6 : Ref sig .tc := ⟨.hbm, 5089, rfl⟩
abbrev main_call11_call0_c_0 : Ref sig .tc := ⟨.hbm, 5090, rfl⟩
abbrev main_call11_call0_v7 : Ref sig .tc := ⟨.hbm, 5091, rfl⟩
abbrev main_call11_call0_v8 : Ref sig .tc := ⟨.hbm, 5092, rfl⟩
abbrev main_call11_call0_v9 : Ref sig .tc := ⟨.hbm, 5093, rfl⟩
abbrev main_call11_call0_v10 : Ref sig .tc := ⟨.hbm, 5094, rfl⟩
abbrev main_call11_call0_call0_v0 : Ref sig .tc := ⟨.hbm, 5095, rfl⟩
abbrev main_call11_call0_call0_c : Ref sig .tc := ⟨.hbm, 5096, rfl⟩
abbrev main_call11_call0_call0_v1 : Ref sig .tc := ⟨.hbm, 5097, rfl⟩
abbrev main_call11_call0_call0_v2 : Ref sig .tc := ⟨.hbm, 5098, rfl⟩
abbrev main_call11_call0_call0_v3 : Ref sig .tc := ⟨.hbm, 5099, rfl⟩
abbrev main_call11_call0_call0_v4 : Ref sig .tc := ⟨.hbm, 5100, rfl⟩
abbrev main_call11_call0_call0_v5 : Ref sig .tc := ⟨.hbm, 5101, rfl⟩
abbrev main_call11_call0_call0_v6 : Ref sig .tc := ⟨.hbm, 5102, rfl⟩
abbrev main_call11_call0_call0_c_0 : Ref sig .tc := ⟨.hbm, 5103, rfl⟩
abbrev main_call11_call0_call0_v7 : Ref sig .tc := ⟨.hbm, 5104, rfl⟩
abbrev main_call11_call0_call0_v8 : Ref sig .tc := ⟨.hbm, 5105, rfl⟩
abbrev main_call11_call0_call0_c_1 : Ref sig .tc := ⟨.hbm, 5106, rfl⟩
abbrev main_call11_call0_call0_v9 : Ref sig .tc := ⟨.hbm, 5107, rfl⟩
abbrev main_call11_call0_call0_v10 : Ref sig .tc := ⟨.hbm, 5108, rfl⟩
abbrev main_call11_call0_call0_v11 : Ref sig .tc := ⟨.hbm, 5109, rfl⟩
abbrev main_call11_call0_call0_v12 : Ref sig .tc := ⟨.hbm, 5110, rfl⟩
abbrev main_call11_call0_call0_v13 : Ref sig .tc := ⟨.hbm, 5111, rfl⟩
abbrev main_call11_call0_call0_c_2 : Ref sig .tc := ⟨.hbm, 5112, rfl⟩
abbrev main_call11_call0_call0_v14 : Ref sig .tc := ⟨.hbm, 5113, rfl⟩
abbrev main_call11_call0_call0_v15 : Ref sig .tc := ⟨.hbm, 5114, rfl⟩
abbrev main_call11_call0_call0_c_3 : Ref sig .tc := ⟨.hbm, 5115, rfl⟩
abbrev main_call11_call0_call0_v16 : Ref sig .tc := ⟨.hbm, 5116, rfl⟩
abbrev main_call11_call0_call0_v17 : Ref sig .tc := ⟨.hbm, 5117, rfl⟩
abbrev main_call11_call0_call0_v18 : Ref sig .tc := ⟨.hbm, 5118, rfl⟩
abbrev main_call11_call0_call0_v19 : Ref sig .tc := ⟨.hbm, 5119, rfl⟩
abbrev main_call11_call0_call0_v20 : Ref sig .tc := ⟨.hbm, 5120, rfl⟩
abbrev main_call11_call0_call0_c_4 : Ref sig .tc := ⟨.hbm, 5121, rfl⟩
abbrev main_call11_call0_call0_v21 : Ref sig .tc := ⟨.hbm, 5122, rfl⟩
abbrev main_call11_call0_call0_v22 : Ref sig .tc := ⟨.hbm, 5123, rfl⟩
abbrev main_call11_call0_call0_c_5 : Ref sig .tc := ⟨.hbm, 5124, rfl⟩
abbrev main_call11_call0_call0_v23 : Ref sig .tc := ⟨.hbm, 5125, rfl⟩
abbrev main_call11_call0_call0_v24 : Ref sig .tc := ⟨.hbm, 5126, rfl⟩
abbrev main_call11_call0_call0_v25 : Ref sig .tc := ⟨.hbm, 5127, rfl⟩
abbrev main_call11_call0_call0_v26 : Ref sig .tc := ⟨.hbm, 5128, rfl⟩
abbrev main_call11_call0_call0_v27 : Ref sig .tc := ⟨.hbm, 5129, rfl⟩
abbrev main_call11_call0_call0_c_6 : Ref sig .tc := ⟨.hbm, 5130, rfl⟩
abbrev main_call11_call0_call0_v28 : Ref sig .tc := ⟨.hbm, 5131, rfl⟩
abbrev main_call11_call0_call0_v29 : Ref sig .tc := ⟨.hbm, 5132, rfl⟩
abbrev main_call11_call0_call0_c_7 : Ref sig .tc := ⟨.hbm, 5133, rfl⟩
abbrev main_call11_call0_call0_v30 : Ref sig .tc := ⟨.hbm, 5134, rfl⟩
abbrev main_call11_call0_call0_v31 : Ref sig .tc := ⟨.hbm, 5135, rfl⟩
abbrev main_call11_call0_call0_v32 : Ref sig .tc := ⟨.hbm, 5136, rfl⟩
abbrev main_call11_call0_call0_v33 : Ref sig .tc := ⟨.hbm, 5137, rfl⟩
abbrev main_call11_call0_call0_v34 : Ref sig .tc := ⟨.hbm, 5138, rfl⟩
abbrev main_call11_call0_call0_v35 : Ref sig .tc := ⟨.hbm, 5139, rfl⟩
abbrev main_call11_call0_call0_v36 : Ref sig .tc := ⟨.hbm, 5140, rfl⟩
abbrev main_call11_call0_call0_v37 : Ref sig .tc := ⟨.hbm, 5141, rfl⟩
abbrev main_call11_call0_call0_c_8 : Ref sig .tc := ⟨.hbm, 5142, rfl⟩
abbrev main_call11_call0_call0_v38 : Ref sig .tc := ⟨.hbm, 5143, rfl⟩
abbrev main_call11_call0_call0_v39 : Ref sig .tc := ⟨.hbm, 5144, rfl⟩
abbrev main_call11_call0_call0_v40 : Ref sig .tc := ⟨.hbm, 5145, rfl⟩
abbrev main_call11_call0_call0_c_9 : Ref sig .tc := ⟨.hbm, 5146, rfl⟩
abbrev main_call11_call0_call0_v41 : Ref sig .tc := ⟨.hbm, 5147, rfl⟩
abbrev main_call11_call0_call0_v42 : Ref sig .tc := ⟨.hbm, 5148, rfl⟩
abbrev main_call11_call0_call0_c_10 : Ref sig .tc := ⟨.hbm, 5149, rfl⟩
abbrev main_call11_call0_call0_v43 : Ref sig .tc := ⟨.hbm, 5150, rfl⟩
abbrev main_call11_call0_call0_v44 : Ref sig .tc := ⟨.hbm, 5151, rfl⟩
abbrev main_call11_call0_call0_v45 : Ref sig .tc := ⟨.hbm, 5152, rfl⟩
abbrev main_call11_call0_call0_v46 : Ref sig .tc := ⟨.hbm, 5153, rfl⟩
abbrev main_call11_call0_call0_v47 : Ref sig .tc := ⟨.hbm, 5154, rfl⟩
abbrev main_call11_call0_call0_c_11 : Ref sig .tc := ⟨.hbm, 5155, rfl⟩
abbrev main_call11_call0_call0_v48 : Ref sig .tc := ⟨.hbm, 5156, rfl⟩
abbrev main_call11_call0_call0_v49 : Ref sig .tc := ⟨.hbm, 5157, rfl⟩
abbrev main_call11_call0_call0_c_12 : Ref sig .tc := ⟨.hbm, 5158, rfl⟩
abbrev main_call11_call0_call0_v50 : Ref sig .tc := ⟨.hbm, 5159, rfl⟩
abbrev main_call11_call0_call0_v51 : Ref sig .tc := ⟨.hbm, 5160, rfl⟩
abbrev main_call11_call0_call0_v52 : Ref sig .tc := ⟨.hbm, 5161, rfl⟩
abbrev main_call11_call0_call0_v53 : Ref sig .tc := ⟨.hbm, 5162, rfl⟩
abbrev main_call11_call0_call0_v54 : Ref sig .tc := ⟨.hbm, 5163, rfl⟩
abbrev main_call11_call0_call0_c_13 : Ref sig .tc := ⟨.hbm, 5164, rfl⟩
abbrev main_call11_call0_call0_v55 : Ref sig .tc := ⟨.hbm, 5165, rfl⟩
abbrev main_call11_call0_call0_v56 : Ref sig .tc := ⟨.hbm, 5166, rfl⟩
abbrev main_call11_call0_call0_c_14 : Ref sig .tc := ⟨.hbm, 5167, rfl⟩
abbrev main_call11_call0_call0_v57 : Ref sig .tc := ⟨.hbm, 5168, rfl⟩
abbrev main_call11_call0_call0_v58 : Ref sig .tc := ⟨.hbm, 5169, rfl⟩
abbrev main_call11_call0_call0_v59 : Ref sig .tc := ⟨.hbm, 5170, rfl⟩
abbrev main_call11_call0_call0_v60 : Ref sig .tc := ⟨.hbm, 5171, rfl⟩
abbrev main_call11_call0_call0_v61 : Ref sig .tc := ⟨.hbm, 5172, rfl⟩
abbrev main_call11_call0_call0_c_15 : Ref sig .tc := ⟨.hbm, 5173, rfl⟩
abbrev main_call11_call0_call0_v62 : Ref sig .tc := ⟨.hbm, 5174, rfl⟩
abbrev main_call11_call0_call0_v63 : Ref sig .tc := ⟨.hbm, 5175, rfl⟩
abbrev main_call11_call0_call0_c_16 : Ref sig .tc := ⟨.hbm, 5176, rfl⟩
abbrev main_call11_call0_call0_v64 : Ref sig .tc := ⟨.hbm, 5177, rfl⟩
abbrev main_call11_call0_call0_v65 : Ref sig .tc := ⟨.hbm, 5178, rfl⟩
abbrev main_call11_call0_call0_v66 : Ref sig .tc := ⟨.hbm, 5179, rfl⟩
abbrev main_call11_call0_call0_v67 : Ref sig .tc := ⟨.hbm, 5180, rfl⟩
abbrev main_call11_call0_call0_v68 : Ref sig .tc := ⟨.hbm, 5181, rfl⟩
abbrev main_call11_call0_call0_v69 : Ref sig .tc := ⟨.hbm, 5182, rfl⟩
abbrev main_call11_call0_call0_v70 : Ref sig .tc := ⟨.hbm, 5183, rfl⟩
abbrev main_call11_call0_call0_v71 : Ref sig .tc := ⟨.hbm, 5184, rfl⟩
abbrev main_call11_call0_call0_c_17 : Ref sig .tc := ⟨.hbm, 5185, rfl⟩
abbrev main_call11_call0_call0_v72 : Ref sig .tc := ⟨.hbm, 5186, rfl⟩
abbrev main_call11_call0_call0_v73 : Ref sig .tc := ⟨.hbm, 5187, rfl⟩
abbrev main_call11_call0_call0_v74 : Ref sig .tc := ⟨.hbm, 5188, rfl⟩
abbrev main_call11_call0_call0_c_18 : Ref sig .tc := ⟨.hbm, 5189, rfl⟩
abbrev main_call11_call0_call0_v75 : Ref sig .tc := ⟨.hbm, 5190, rfl⟩
abbrev main_call11_call0_call0_v76 : Ref sig .tc := ⟨.hbm, 5191, rfl⟩
abbrev main_call11_call0_call0_c_19 : Ref sig .tc := ⟨.hbm, 5192, rfl⟩
abbrev main_call11_call0_call0_v77 : Ref sig .tc := ⟨.hbm, 5193, rfl⟩
abbrev main_call11_call0_call0_v78 : Ref sig .tc := ⟨.hbm, 5194, rfl⟩
abbrev main_call11_call0_call0_v79 : Ref sig .tc := ⟨.hbm, 5195, rfl⟩
abbrev main_call11_call0_call0_v80 : Ref sig .tc := ⟨.hbm, 5196, rfl⟩
abbrev main_call11_call0_call0_v81 : Ref sig .tc := ⟨.hbm, 5197, rfl⟩
abbrev main_call11_call0_call0_c_20 : Ref sig .tc := ⟨.hbm, 5198, rfl⟩
abbrev main_call11_call0_call0_v82 : Ref sig .tc := ⟨.hbm, 5199, rfl⟩
abbrev main_call11_call0_call0_v83 : Ref sig .tc := ⟨.hbm, 5200, rfl⟩
abbrev main_call11_call0_call0_c_21 : Ref sig .tc := ⟨.hbm, 5201, rfl⟩
abbrev main_call11_call0_call0_v84 : Ref sig .tc := ⟨.hbm, 5202, rfl⟩
abbrev main_call11_call0_call0_v85 : Ref sig .tc := ⟨.hbm, 5203, rfl⟩
abbrev main_call11_call0_call0_v86 : Ref sig .tc := ⟨.hbm, 5204, rfl⟩
abbrev main_call11_call0_call0_v87 : Ref sig .tc := ⟨.hbm, 5205, rfl⟩
abbrev main_call11_call0_call0_v88 : Ref sig .tc := ⟨.hbm, 5206, rfl⟩
abbrev main_call11_call0_call0_c_22 : Ref sig .tc := ⟨.hbm, 5207, rfl⟩
abbrev main_call11_call0_call0_v89 : Ref sig .tc := ⟨.hbm, 5208, rfl⟩
abbrev main_call11_call0_call0_v90 : Ref sig .tc := ⟨.hbm, 5209, rfl⟩
abbrev main_call11_call0_call0_c_23 : Ref sig .tc := ⟨.hbm, 5210, rfl⟩
abbrev main_call11_call0_call0_v91 : Ref sig .tc := ⟨.hbm, 5211, rfl⟩
abbrev main_call11_call0_call0_v92 : Ref sig .tc := ⟨.hbm, 5212, rfl⟩
abbrev main_call11_call0_call0_v93 : Ref sig .tc := ⟨.hbm, 5213, rfl⟩
abbrev main_call11_call0_call0_v94 : Ref sig .tc := ⟨.hbm, 5214, rfl⟩
abbrev main_call11_call0_call0_v95 : Ref sig .tc := ⟨.hbm, 5215, rfl⟩
abbrev main_call11_call0_call0_c_24 : Ref sig .tc := ⟨.hbm, 5216, rfl⟩
abbrev main_call11_call0_call0_v96 : Ref sig .tc := ⟨.hbm, 5217, rfl⟩
abbrev main_call11_call0_call0_v97 : Ref sig .tc := ⟨.hbm, 5218, rfl⟩
abbrev main_call11_call0_call0_c_25 : Ref sig .tc := ⟨.hbm, 5219, rfl⟩
abbrev main_call11_call0_call0_v98 : Ref sig .tc := ⟨.hbm, 5220, rfl⟩
abbrev main_call11_call0_call0_v99 : Ref sig .tc := ⟨.hbm, 5221, rfl⟩
abbrev main_call11_call0_call0_v100 : Ref sig .tc := ⟨.hbm, 5222, rfl⟩
abbrev main_call11_call0_call0_v101 : Ref sig .tc := ⟨.hbm, 5223, rfl⟩
abbrev main_call11_call0_call0_v102 : Ref sig .tc := ⟨.hbm, 5224, rfl⟩
abbrev main_call11_call0_call0_v103 : Ref sig .tc := ⟨.hbm, 5225, rfl⟩
abbrev main_call11_call0_call0_v104 : Ref sig .tc := ⟨.hbm, 5226, rfl⟩
abbrev main_call11_call0_call0_v105 : Ref sig .tc := ⟨.hbm, 5227, rfl⟩
abbrev main_call11_call0_call0_c_26 : Ref sig .tc := ⟨.hbm, 5228, rfl⟩
abbrev main_call11_call0_call0_v106 : Ref sig .tc := ⟨.hbm, 5229, rfl⟩
abbrev main_call11_call0_call0_v107 : Ref sig .tc := ⟨.hbm, 5230, rfl⟩
abbrev main_call11_call0_call0_v108 : Ref sig .tc := ⟨.hbm, 5231, rfl⟩
abbrev main_call11_call0_call0_c_27 : Ref sig .tc := ⟨.hbm, 5232, rfl⟩
abbrev main_call11_call0_call0_v109 : Ref sig .tc := ⟨.hbm, 5233, rfl⟩
abbrev main_call11_call0_call0_v110 : Ref sig .tc := ⟨.hbm, 5234, rfl⟩
abbrev main_call11_call0_call0_c_28 : Ref sig .tc := ⟨.hbm, 5235, rfl⟩
abbrev main_call11_call0_call0_v111 : Ref sig .tc := ⟨.hbm, 5236, rfl⟩
abbrev main_call11_call0_call0_v112 : Ref sig .tc := ⟨.hbm, 5237, rfl⟩
abbrev main_call11_call0_call0_v113 : Ref sig .tc := ⟨.hbm, 5238, rfl⟩
abbrev main_call11_call0_call0_v114 : Ref sig .tc := ⟨.hbm, 5239, rfl⟩
abbrev main_call11_call0_call0_v115 : Ref sig .tc := ⟨.hbm, 5240, rfl⟩
abbrev main_call11_call0_call0_c_29 : Ref sig .tc := ⟨.hbm, 5241, rfl⟩
abbrev main_call11_call0_call0_v116 : Ref sig .tc := ⟨.hbm, 5242, rfl⟩
abbrev main_call11_call0_call0_v117 : Ref sig .tc := ⟨.hbm, 5243, rfl⟩
abbrev main_call11_call0_call0_c_30 : Ref sig .tc := ⟨.hbm, 5244, rfl⟩
abbrev main_call11_call0_call0_v118 : Ref sig .tc := ⟨.hbm, 5245, rfl⟩
abbrev main_call11_call0_call0_v119 : Ref sig .tc := ⟨.hbm, 5246, rfl⟩
abbrev main_call11_call0_call0_v120 : Ref sig .tc := ⟨.hbm, 5247, rfl⟩
abbrev main_call11_call0_call0_v121 : Ref sig .tc := ⟨.hbm, 5248, rfl⟩
abbrev main_call11_call0_call0_v122 : Ref sig .tc := ⟨.hbm, 5249, rfl⟩
abbrev main_call11_call0_call0_c_31 : Ref sig .tc := ⟨.hbm, 5250, rfl⟩
abbrev main_call11_call0_call0_v123 : Ref sig .tc := ⟨.hbm, 5251, rfl⟩
abbrev main_call11_call0_call0_v124 : Ref sig .tc := ⟨.hbm, 5252, rfl⟩
abbrev main_call11_call0_call0_c_32 : Ref sig .tc := ⟨.hbm, 5253, rfl⟩
abbrev main_call11_call0_call0_v125 : Ref sig .tc := ⟨.hbm, 5254, rfl⟩
abbrev main_call11_call0_call0_v126 : Ref sig .tc := ⟨.hbm, 5255, rfl⟩
abbrev main_call11_call0_call0_v127 : Ref sig .tc := ⟨.hbm, 5256, rfl⟩
abbrev main_call11_call0_call0_v128 : Ref sig .tc := ⟨.hbm, 5257, rfl⟩
abbrev main_call11_call0_call0_v129 : Ref sig .tc := ⟨.hbm, 5258, rfl⟩
abbrev main_call11_call0_call0_c_33 : Ref sig .tc := ⟨.hbm, 5259, rfl⟩
abbrev main_call11_call0_call0_v130 : Ref sig .tc := ⟨.hbm, 5260, rfl⟩
abbrev main_call11_call0_call0_v131 : Ref sig .tc := ⟨.hbm, 5261, rfl⟩
abbrev main_call11_call0_call0_c_34 : Ref sig .tc := ⟨.hbm, 5262, rfl⟩
abbrev main_call11_call0_call0_v132 : Ref sig .tc := ⟨.hbm, 5263, rfl⟩
abbrev main_call11_call0_call0_v133 : Ref sig .tc := ⟨.hbm, 5264, rfl⟩
abbrev main_call11_call0_call0_v134 : Ref sig .tc := ⟨.hbm, 5265, rfl⟩
abbrev main_call11_call0_call0_v135 : Ref sig .tc := ⟨.hbm, 5266, rfl⟩
abbrev main_call11_call0_call0_v136 : Ref sig .tc := ⟨.hbm, 5267, rfl⟩
abbrev main_call11_call0_call0_v137 : Ref sig .tc := ⟨.hbm, 5268, rfl⟩
abbrev main_call11_call0_call0_v138 : Ref sig .tc := ⟨.hbm, 5269, rfl⟩
abbrev main_call11_call0_call0_v139 : Ref sig .tc := ⟨.hbm, 5270, rfl⟩
abbrev main_call11_call0_call0_c_35 : Ref sig .tc := ⟨.hbm, 5271, rfl⟩
abbrev main_call11_call0_call0_v140 : Ref sig .tc := ⟨.hbm, 5272, rfl⟩
abbrev main_call11_call0_call0_v141 : Ref sig .tc := ⟨.hbm, 5273, rfl⟩
abbrev main_call11_call0_call0_v142 : Ref sig .tc := ⟨.hbm, 5274, rfl⟩
abbrev main_call11_call0_call0_c_36 : Ref sig .tc := ⟨.hbm, 5275, rfl⟩
abbrev main_call11_call0_call0_v143 : Ref sig .tc := ⟨.hbm, 5276, rfl⟩
abbrev main_call11_call0_call0_v144 : Ref sig .tc := ⟨.hbm, 5277, rfl⟩
abbrev main_call11_call0_call0_c_37 : Ref sig .tc := ⟨.hbm, 5278, rfl⟩
abbrev main_call11_call0_call0_v145 : Ref sig .tc := ⟨.hbm, 5279, rfl⟩
abbrev main_call11_call0_call0_v146 : Ref sig .tc := ⟨.hbm, 5280, rfl⟩
abbrev main_call11_call0_call0_v147 : Ref sig .tc := ⟨.hbm, 5281, rfl⟩
abbrev main_call11_call0_call0_v148 : Ref sig .tc := ⟨.hbm, 5282, rfl⟩
abbrev main_call11_call0_call0_v149 : Ref sig .tc := ⟨.hbm, 5283, rfl⟩
abbrev main_call11_call0_call0_c_38 : Ref sig .tc := ⟨.hbm, 5284, rfl⟩
abbrev main_call11_call0_call0_v150 : Ref sig .tc := ⟨.hbm, 5285, rfl⟩
abbrev main_call11_call0_call0_v151 : Ref sig .tc := ⟨.hbm, 5286, rfl⟩
abbrev main_call11_call0_call0_c_39 : Ref sig .tc := ⟨.hbm, 5287, rfl⟩
abbrev main_call11_call0_call0_v152 : Ref sig .tc := ⟨.hbm, 5288, rfl⟩
abbrev main_call11_call0_call0_v153 : Ref sig .tc := ⟨.hbm, 5289, rfl⟩
abbrev main_call11_call0_call0_v154 : Ref sig .tc := ⟨.hbm, 5290, rfl⟩
abbrev main_call11_call0_call0_v155 : Ref sig .tc := ⟨.hbm, 5291, rfl⟩
abbrev main_call11_call0_call0_v156 : Ref sig .tc := ⟨.hbm, 5292, rfl⟩
abbrev main_call11_call0_call0_c_40 : Ref sig .tc := ⟨.hbm, 5293, rfl⟩
abbrev main_call11_call0_call0_v157 : Ref sig .tc := ⟨.hbm, 5294, rfl⟩
abbrev main_call11_call0_call0_v158 : Ref sig .tc := ⟨.hbm, 5295, rfl⟩
abbrev main_call11_call0_call0_c_41 : Ref sig .tc := ⟨.hbm, 5296, rfl⟩
abbrev main_call11_call0_call0_v159 : Ref sig .tc := ⟨.hbm, 5297, rfl⟩
abbrev main_call11_call0_call0_v160 : Ref sig .tc := ⟨.hbm, 5298, rfl⟩
abbrev main_call11_call0_call0_v161 : Ref sig .tc := ⟨.hbm, 5299, rfl⟩
abbrev main_call11_call0_call0_v162 : Ref sig .tc := ⟨.hbm, 5300, rfl⟩
abbrev main_call11_call0_call0_v163 : Ref sig .tc := ⟨.hbm, 5301, rfl⟩
abbrev main_call11_call0_call0_c_42 : Ref sig .tc := ⟨.hbm, 5302, rfl⟩
abbrev main_call11_call0_call0_v164 : Ref sig .tc := ⟨.hbm, 5303, rfl⟩
abbrev main_call11_call0_call0_v165 : Ref sig .tc := ⟨.hbm, 5304, rfl⟩
abbrev main_call11_call0_call0_c_43 : Ref sig .tc := ⟨.hbm, 5305, rfl⟩
abbrev main_call11_call0_call0_v166 : Ref sig .tc := ⟨.hbm, 5306, rfl⟩
abbrev main_call11_call0_call0_v167 : Ref sig .tc := ⟨.hbm, 5307, rfl⟩
abbrev main_call11_call0_call0_v168 : Ref sig .tc := ⟨.hbm, 5308, rfl⟩
abbrev main_call11_call0_call0_v169 : Ref sig .tc := ⟨.hbm, 5309, rfl⟩
abbrev main_call11_call0_call0_v170 : Ref sig .tc := ⟨.hbm, 5310, rfl⟩
abbrev main_call11_call0_v11_0 : Ref sig .tc := ⟨.hbm, 5311, rfl⟩
abbrev main_call11_call0_call0_v172 : Ref sig .tc := ⟨.hbm, 5312, rfl⟩
abbrev main_call11_call0_call0_v173 : Ref sig .tc := ⟨.hbm, 5313, rfl⟩
abbrev main_call11_call0_call0_c_44 : Ref sig .tc := ⟨.hbm, 5314, rfl⟩
abbrev main_call11_call0_call0_v174 : Ref sig .tc := ⟨.hbm, 5315, rfl⟩
abbrev main_call11_call0_v11_1 : Ref sig .tc := ⟨.hbm, 5316, rfl⟩
abbrev main_call11_call0_v12 : Ref sig .tc := ⟨.hbm, 5317, rfl⟩
abbrev main_call11_call0_v13 : Ref sig .tc := ⟨.hbm, 5318, rfl⟩
abbrev main_call11_v0 : Ref sig .tc := ⟨.hbm, 5319, rfl⟩
abbrev main_call11_v1 : Ref sig .tc := ⟨.hbm, 5320, rfl⟩
abbrev main_call11_v2 : Ref sig .tc := ⟨.hbm, 5321, rfl⟩
abbrev main_call11_v3 : Ref sig .tc := ⟨.hbm, 5322, rfl⟩
abbrev main_call11_v4 : Ref sig .tc := ⟨.hbm, 5323, rfl⟩
abbrev main_call11_v5 : Ref sig .tc := ⟨.hbm, 5324, rfl⟩
abbrev main_call11_v6 : Ref sig .tc := ⟨.hbm, 5325, rfl⟩
abbrev main_call11_v7 : Ref sig .tc := ⟨.hbm, 5326, rfl⟩
abbrev main_call11_v8 : Ref sig .tc := ⟨.hbm, 5327, rfl⟩
abbrev main_call11_v9 : Ref sig .tc := ⟨.hbm, 5328, rfl⟩
abbrev main_call11_c : Ref sig .tc := ⟨.hbm, 5329, rfl⟩
abbrev main_call11_v10 : Ref sig .tc := ⟨.hbm, 5330, rfl⟩
abbrev main_call11_v11 : Ref sig .tc := ⟨.hbm, 5331, rfl⟩
abbrev main_call11_c_0 : Ref sig .tc := ⟨.hbm, 5332, rfl⟩
abbrev main_call11_v12 : Ref sig .tc := ⟨.hbm, 5333, rfl⟩
abbrev main_call11_v13 : Ref sig .tc := ⟨.hbm, 5334, rfl⟩
abbrev main_call11_v14 : Ref sig .tc := ⟨.hbm, 5335, rfl⟩
abbrev main_call11_v15 : Ref sig .tc := ⟨.hbm, 5336, rfl⟩
abbrev main_call11_call1_v0 : Ref sig .tc := ⟨.hbm, 5337, rfl⟩
abbrev main_call11_call1_c : Ref sig .tc := ⟨.hbm, 5338, rfl⟩
abbrev main_call11_call1_v1 : Ref sig .tc := ⟨.hbm, 5339, rfl⟩
abbrev main_call11_call1_v2 : Ref sig .tc := ⟨.hbm, 5340, rfl⟩
abbrev main_call11_call1_v3 : Ref sig .tc := ⟨.hbm, 5341, rfl⟩
abbrev main_call11_call1_v4 : Ref sig .tc := ⟨.hbm, 5342, rfl⟩
abbrev main_call11_call1_v5 : Ref sig .tc := ⟨.hbm, 5343, rfl⟩
abbrev main_call11_call1_v6 : Ref sig .tc := ⟨.hbm, 5344, rfl⟩
abbrev main_call11_call1_c_0 : Ref sig .tc := ⟨.hbm, 5345, rfl⟩
abbrev main_call11_call1_v7 : Ref sig .tc := ⟨.hbm, 5346, rfl⟩
abbrev main_call11_call1_v8 : Ref sig .tc := ⟨.hbm, 5347, rfl⟩
abbrev main_call11_call1_c_1 : Ref sig .tc := ⟨.hbm, 5348, rfl⟩
abbrev main_call11_call1_v9 : Ref sig .tc := ⟨.hbm, 5349, rfl⟩
abbrev main_call11_call1_v10 : Ref sig .tc := ⟨.hbm, 5350, rfl⟩
abbrev main_call11_call1_v11 : Ref sig .tc := ⟨.hbm, 5351, rfl⟩
abbrev main_call11_call1_v12 : Ref sig .tc := ⟨.hbm, 5352, rfl⟩
abbrev main_call11_call1_v13 : Ref sig .tc := ⟨.hbm, 5353, rfl⟩
abbrev main_call11_call1_c_2 : Ref sig .tc := ⟨.hbm, 5354, rfl⟩
abbrev main_call11_call1_v14 : Ref sig .tc := ⟨.hbm, 5355, rfl⟩
abbrev main_call11_call1_v15 : Ref sig .tc := ⟨.hbm, 5356, rfl⟩
abbrev main_call11_call1_c_3 : Ref sig .tc := ⟨.hbm, 5357, rfl⟩
abbrev main_call11_call1_v16 : Ref sig .tc := ⟨.hbm, 5358, rfl⟩
abbrev main_call11_call1_v17 : Ref sig .tc := ⟨.hbm, 5359, rfl⟩
abbrev main_call11_call1_v18 : Ref sig .tc := ⟨.hbm, 5360, rfl⟩
abbrev main_call11_call1_v19 : Ref sig .tc := ⟨.hbm, 5361, rfl⟩
abbrev main_call11_call1_v20 : Ref sig .tc := ⟨.hbm, 5362, rfl⟩
abbrev main_call11_call1_c_4 : Ref sig .tc := ⟨.hbm, 5363, rfl⟩
abbrev main_call11_call1_v21 : Ref sig .tc := ⟨.hbm, 5364, rfl⟩
abbrev main_call11_call1_v22 : Ref sig .tc := ⟨.hbm, 5365, rfl⟩
abbrev main_call11_call1_c_5 : Ref sig .tc := ⟨.hbm, 5366, rfl⟩
abbrev main_call11_call1_v23 : Ref sig .tc := ⟨.hbm, 5367, rfl⟩
abbrev main_call11_call1_v24 : Ref sig .tc := ⟨.hbm, 5368, rfl⟩
abbrev main_call11_call1_v25 : Ref sig .tc := ⟨.hbm, 5369, rfl⟩
abbrev main_call11_call1_v26 : Ref sig .tc := ⟨.hbm, 5370, rfl⟩
abbrev main_call11_call1_v27 : Ref sig .tc := ⟨.hbm, 5371, rfl⟩
abbrev main_call11_call1_c_6 : Ref sig .tc := ⟨.hbm, 5372, rfl⟩
abbrev main_call11_call1_v28 : Ref sig .tc := ⟨.hbm, 5373, rfl⟩
abbrev main_call11_call1_v29 : Ref sig .tc := ⟨.hbm, 5374, rfl⟩
abbrev main_call11_call1_c_7 : Ref sig .tc := ⟨.hbm, 5375, rfl⟩
abbrev main_call11_call1_v30 : Ref sig .tc := ⟨.hbm, 5376, rfl⟩
abbrev main_call11_call1_v31 : Ref sig .tc := ⟨.hbm, 5377, rfl⟩
abbrev main_call11_call1_v32 : Ref sig .tc := ⟨.hbm, 5378, rfl⟩
abbrev main_call11_call1_v33 : Ref sig .tc := ⟨.hbm, 5379, rfl⟩
abbrev main_call11_call1_v34 : Ref sig .tc := ⟨.hbm, 5380, rfl⟩
abbrev main_call11_call1_v35 : Ref sig .tc := ⟨.hbm, 5381, rfl⟩
abbrev main_call11_call1_v36 : Ref sig .tc := ⟨.hbm, 5382, rfl⟩
abbrev main_call11_call1_v37 : Ref sig .tc := ⟨.hbm, 5383, rfl⟩
abbrev main_call11_call1_c_8 : Ref sig .tc := ⟨.hbm, 5384, rfl⟩
abbrev main_call11_call1_v38 : Ref sig .tc := ⟨.hbm, 5385, rfl⟩
abbrev main_call11_call1_v39 : Ref sig .tc := ⟨.hbm, 5386, rfl⟩
abbrev main_call11_call1_v40 : Ref sig .tc := ⟨.hbm, 5387, rfl⟩
abbrev main_call11_call1_c_9 : Ref sig .tc := ⟨.hbm, 5388, rfl⟩
abbrev main_call11_call1_v41 : Ref sig .tc := ⟨.hbm, 5389, rfl⟩
abbrev main_call11_call1_v42 : Ref sig .tc := ⟨.hbm, 5390, rfl⟩
abbrev main_call11_call1_c_10 : Ref sig .tc := ⟨.hbm, 5391, rfl⟩
abbrev main_call11_call1_v43 : Ref sig .tc := ⟨.hbm, 5392, rfl⟩
abbrev main_call11_call1_v44 : Ref sig .tc := ⟨.hbm, 5393, rfl⟩
abbrev main_call11_call1_v45 : Ref sig .tc := ⟨.hbm, 5394, rfl⟩
abbrev main_call11_call1_v46 : Ref sig .tc := ⟨.hbm, 5395, rfl⟩
abbrev main_call11_call1_v47 : Ref sig .tc := ⟨.hbm, 5396, rfl⟩
abbrev main_call11_call1_c_11 : Ref sig .tc := ⟨.hbm, 5397, rfl⟩
abbrev main_call11_call1_v48 : Ref sig .tc := ⟨.hbm, 5398, rfl⟩
abbrev main_call11_call1_v49 : Ref sig .tc := ⟨.hbm, 5399, rfl⟩
abbrev main_call11_call1_c_12 : Ref sig .tc := ⟨.hbm, 5400, rfl⟩
abbrev main_call11_call1_v50 : Ref sig .tc := ⟨.hbm, 5401, rfl⟩
abbrev main_call11_call1_v51 : Ref sig .tc := ⟨.hbm, 5402, rfl⟩
abbrev main_call11_call1_v52 : Ref sig .tc := ⟨.hbm, 5403, rfl⟩
abbrev main_call11_call1_v53 : Ref sig .tc := ⟨.hbm, 5404, rfl⟩
abbrev main_call11_call1_v54 : Ref sig .tc := ⟨.hbm, 5405, rfl⟩
abbrev main_call11_call1_c_13 : Ref sig .tc := ⟨.hbm, 5406, rfl⟩
abbrev main_call11_call1_v55 : Ref sig .tc := ⟨.hbm, 5407, rfl⟩
abbrev main_call11_call1_v56 : Ref sig .tc := ⟨.hbm, 5408, rfl⟩
abbrev main_call11_call1_c_14 : Ref sig .tc := ⟨.hbm, 5409, rfl⟩
abbrev main_call11_call1_v57 : Ref sig .tc := ⟨.hbm, 5410, rfl⟩
abbrev main_call11_call1_v58 : Ref sig .tc := ⟨.hbm, 5411, rfl⟩
abbrev main_call11_call1_v59 : Ref sig .tc := ⟨.hbm, 5412, rfl⟩
abbrev main_call11_call1_v60 : Ref sig .tc := ⟨.hbm, 5413, rfl⟩
abbrev main_call11_call1_v61 : Ref sig .tc := ⟨.hbm, 5414, rfl⟩
abbrev main_call11_call1_c_15 : Ref sig .tc := ⟨.hbm, 5415, rfl⟩
abbrev main_call11_call1_v62 : Ref sig .tc := ⟨.hbm, 5416, rfl⟩
abbrev main_call11_call1_v63 : Ref sig .tc := ⟨.hbm, 5417, rfl⟩
abbrev main_call11_call1_c_16 : Ref sig .tc := ⟨.hbm, 5418, rfl⟩
abbrev main_call11_call1_v64 : Ref sig .tc := ⟨.hbm, 5419, rfl⟩
abbrev main_call11_call1_v65 : Ref sig .tc := ⟨.hbm, 5420, rfl⟩
abbrev main_call11_call1_v66 : Ref sig .tc := ⟨.hbm, 5421, rfl⟩
abbrev main_call11_call1_v67 : Ref sig .tc := ⟨.hbm, 5422, rfl⟩
abbrev main_call11_call1_v68 : Ref sig .tc := ⟨.hbm, 5423, rfl⟩
abbrev main_call11_call1_v69 : Ref sig .tc := ⟨.hbm, 5424, rfl⟩
abbrev main_call11_call1_v70 : Ref sig .tc := ⟨.hbm, 5425, rfl⟩
abbrev main_call11_call1_v71 : Ref sig .tc := ⟨.hbm, 5426, rfl⟩
abbrev main_call11_call1_c_17 : Ref sig .tc := ⟨.hbm, 5427, rfl⟩
abbrev main_call11_call1_v72 : Ref sig .tc := ⟨.hbm, 5428, rfl⟩
abbrev main_call11_call1_v73 : Ref sig .tc := ⟨.hbm, 5429, rfl⟩
abbrev main_call11_call1_v74 : Ref sig .tc := ⟨.hbm, 5430, rfl⟩
abbrev main_call11_call1_c_18 : Ref sig .tc := ⟨.hbm, 5431, rfl⟩
abbrev main_call11_call1_v75 : Ref sig .tc := ⟨.hbm, 5432, rfl⟩
abbrev main_call11_call1_v76 : Ref sig .tc := ⟨.hbm, 5433, rfl⟩
abbrev main_call11_call1_c_19 : Ref sig .tc := ⟨.hbm, 5434, rfl⟩
abbrev main_call11_call1_v77 : Ref sig .tc := ⟨.hbm, 5435, rfl⟩
abbrev main_call11_call1_v78 : Ref sig .tc := ⟨.hbm, 5436, rfl⟩
abbrev main_call11_call1_v79 : Ref sig .tc := ⟨.hbm, 5437, rfl⟩
abbrev main_call11_call1_v80 : Ref sig .tc := ⟨.hbm, 5438, rfl⟩
abbrev main_call11_call1_v81 : Ref sig .tc := ⟨.hbm, 5439, rfl⟩
abbrev main_call11_call1_c_20 : Ref sig .tc := ⟨.hbm, 5440, rfl⟩
abbrev main_call11_call1_v82 : Ref sig .tc := ⟨.hbm, 5441, rfl⟩
abbrev main_call11_call1_v83 : Ref sig .tc := ⟨.hbm, 5442, rfl⟩
abbrev main_call11_call1_c_21 : Ref sig .tc := ⟨.hbm, 5443, rfl⟩
abbrev main_call11_call1_v84 : Ref sig .tc := ⟨.hbm, 5444, rfl⟩
abbrev main_call11_call1_v85 : Ref sig .tc := ⟨.hbm, 5445, rfl⟩
abbrev main_call11_call1_v86 : Ref sig .tc := ⟨.hbm, 5446, rfl⟩
abbrev main_call11_call1_v87 : Ref sig .tc := ⟨.hbm, 5447, rfl⟩
abbrev main_call11_call1_v88 : Ref sig .tc := ⟨.hbm, 5448, rfl⟩
abbrev main_call11_call1_c_22 : Ref sig .tc := ⟨.hbm, 5449, rfl⟩
abbrev main_call11_call1_v89 : Ref sig .tc := ⟨.hbm, 5450, rfl⟩
abbrev main_call11_call1_v90 : Ref sig .tc := ⟨.hbm, 5451, rfl⟩
abbrev main_call11_call1_c_23 : Ref sig .tc := ⟨.hbm, 5452, rfl⟩
abbrev main_call11_call1_v91 : Ref sig .tc := ⟨.hbm, 5453, rfl⟩
abbrev main_call11_call1_v92 : Ref sig .tc := ⟨.hbm, 5454, rfl⟩
abbrev main_call11_call1_v93 : Ref sig .tc := ⟨.hbm, 5455, rfl⟩
abbrev main_call11_call1_v94 : Ref sig .tc := ⟨.hbm, 5456, rfl⟩
abbrev main_call11_call1_v95 : Ref sig .tc := ⟨.hbm, 5457, rfl⟩
abbrev main_call11_call1_c_24 : Ref sig .tc := ⟨.hbm, 5458, rfl⟩
abbrev main_call11_call1_v96 : Ref sig .tc := ⟨.hbm, 5459, rfl⟩
abbrev main_call11_call1_v97 : Ref sig .tc := ⟨.hbm, 5460, rfl⟩
abbrev main_call11_call1_c_25 : Ref sig .tc := ⟨.hbm, 5461, rfl⟩
abbrev main_call11_call1_v98 : Ref sig .tc := ⟨.hbm, 5462, rfl⟩
abbrev main_call11_call1_v99 : Ref sig .tc := ⟨.hbm, 5463, rfl⟩
abbrev main_call11_call1_v100 : Ref sig .tc := ⟨.hbm, 5464, rfl⟩
abbrev main_call11_call1_v101 : Ref sig .tc := ⟨.hbm, 5465, rfl⟩
abbrev main_call11_call1_v102 : Ref sig .tc := ⟨.hbm, 5466, rfl⟩
abbrev main_call11_call1_v103 : Ref sig .tc := ⟨.hbm, 5467, rfl⟩
abbrev main_call11_call1_v104 : Ref sig .tc := ⟨.hbm, 5468, rfl⟩
abbrev main_call11_call1_v105 : Ref sig .tc := ⟨.hbm, 5469, rfl⟩
abbrev main_call11_call1_c_26 : Ref sig .tc := ⟨.hbm, 5470, rfl⟩
abbrev main_call11_call1_v106 : Ref sig .tc := ⟨.hbm, 5471, rfl⟩
abbrev main_call11_call1_v107 : Ref sig .tc := ⟨.hbm, 5472, rfl⟩
abbrev main_call11_call1_v108 : Ref sig .tc := ⟨.hbm, 5473, rfl⟩
abbrev main_call11_call1_c_27 : Ref sig .tc := ⟨.hbm, 5474, rfl⟩
abbrev main_call11_call1_v109 : Ref sig .tc := ⟨.hbm, 5475, rfl⟩
abbrev main_call11_call1_v110 : Ref sig .tc := ⟨.hbm, 5476, rfl⟩
abbrev main_call11_call1_c_28 : Ref sig .tc := ⟨.hbm, 5477, rfl⟩
abbrev main_call11_call1_v111 : Ref sig .tc := ⟨.hbm, 5478, rfl⟩
abbrev main_call11_call1_v112 : Ref sig .tc := ⟨.hbm, 5479, rfl⟩
abbrev main_call11_call1_v113 : Ref sig .tc := ⟨.hbm, 5480, rfl⟩
abbrev main_call11_call1_v114 : Ref sig .tc := ⟨.hbm, 5481, rfl⟩
abbrev main_call11_call1_v115 : Ref sig .tc := ⟨.hbm, 5482, rfl⟩
abbrev main_call11_call1_c_29 : Ref sig .tc := ⟨.hbm, 5483, rfl⟩
abbrev main_call11_call1_v116 : Ref sig .tc := ⟨.hbm, 5484, rfl⟩
abbrev main_call11_call1_v117 : Ref sig .tc := ⟨.hbm, 5485, rfl⟩
abbrev main_call11_call1_c_30 : Ref sig .tc := ⟨.hbm, 5486, rfl⟩
abbrev main_call11_call1_v118 : Ref sig .tc := ⟨.hbm, 5487, rfl⟩
abbrev main_call11_call1_v119 : Ref sig .tc := ⟨.hbm, 5488, rfl⟩
abbrev main_call11_call1_v120 : Ref sig .tc := ⟨.hbm, 5489, rfl⟩
abbrev main_call11_call1_v121 : Ref sig .tc := ⟨.hbm, 5490, rfl⟩
abbrev main_call11_call1_v122 : Ref sig .tc := ⟨.hbm, 5491, rfl⟩
abbrev main_call11_call1_c_31 : Ref sig .tc := ⟨.hbm, 5492, rfl⟩
abbrev main_call11_call1_v123 : Ref sig .tc := ⟨.hbm, 5493, rfl⟩
abbrev main_call11_call1_v124 : Ref sig .tc := ⟨.hbm, 5494, rfl⟩
abbrev main_call11_call1_c_32 : Ref sig .tc := ⟨.hbm, 5495, rfl⟩
abbrev main_call11_call1_v125 : Ref sig .tc := ⟨.hbm, 5496, rfl⟩
abbrev main_call11_call1_v126 : Ref sig .tc := ⟨.hbm, 5497, rfl⟩
abbrev main_call11_call1_v127 : Ref sig .tc := ⟨.hbm, 5498, rfl⟩
abbrev main_call11_call1_v128 : Ref sig .tc := ⟨.hbm, 5499, rfl⟩
abbrev main_call11_call1_v129 : Ref sig .tc := ⟨.hbm, 5500, rfl⟩
abbrev main_call11_call1_c_33 : Ref sig .tc := ⟨.hbm, 5501, rfl⟩
abbrev main_call11_call1_v130 : Ref sig .tc := ⟨.hbm, 5502, rfl⟩
abbrev main_call11_call1_v131 : Ref sig .tc := ⟨.hbm, 5503, rfl⟩
abbrev main_call11_call1_c_34 : Ref sig .tc := ⟨.hbm, 5504, rfl⟩
abbrev main_call11_call1_v132 : Ref sig .tc := ⟨.hbm, 5505, rfl⟩
abbrev main_call11_call1_v133 : Ref sig .tc := ⟨.hbm, 5506, rfl⟩
abbrev main_call11_call1_v134 : Ref sig .tc := ⟨.hbm, 5507, rfl⟩
abbrev main_call11_call1_v135 : Ref sig .tc := ⟨.hbm, 5508, rfl⟩
abbrev main_call11_call1_v136 : Ref sig .tc := ⟨.hbm, 5509, rfl⟩
abbrev main_call11_call1_v137 : Ref sig .tc := ⟨.hbm, 5510, rfl⟩
abbrev main_call11_call1_v138 : Ref sig .tc := ⟨.hbm, 5511, rfl⟩
abbrev main_call11_call1_v139 : Ref sig .tc := ⟨.hbm, 5512, rfl⟩
abbrev main_call11_call1_c_35 : Ref sig .tc := ⟨.hbm, 5513, rfl⟩
abbrev main_call11_call1_v140 : Ref sig .tc := ⟨.hbm, 5514, rfl⟩
abbrev main_call11_call1_v141 : Ref sig .tc := ⟨.hbm, 5515, rfl⟩
abbrev main_call11_call1_v142 : Ref sig .tc := ⟨.hbm, 5516, rfl⟩
abbrev main_call11_call1_c_36 : Ref sig .tc := ⟨.hbm, 5517, rfl⟩
abbrev main_call11_call1_v143 : Ref sig .tc := ⟨.hbm, 5518, rfl⟩
abbrev main_call11_call1_v144 : Ref sig .tc := ⟨.hbm, 5519, rfl⟩
abbrev main_call11_call1_c_37 : Ref sig .tc := ⟨.hbm, 5520, rfl⟩
abbrev main_call11_call1_v145 : Ref sig .tc := ⟨.hbm, 5521, rfl⟩
abbrev main_call11_call1_v146 : Ref sig .tc := ⟨.hbm, 5522, rfl⟩
abbrev main_call11_call1_v147 : Ref sig .tc := ⟨.hbm, 5523, rfl⟩
abbrev main_call11_call1_v148 : Ref sig .tc := ⟨.hbm, 5524, rfl⟩
abbrev main_call11_call1_v149 : Ref sig .tc := ⟨.hbm, 5525, rfl⟩
abbrev main_call11_call1_c_38 : Ref sig .tc := ⟨.hbm, 5526, rfl⟩
abbrev main_call11_call1_v150 : Ref sig .tc := ⟨.hbm, 5527, rfl⟩
abbrev main_call11_call1_v151 : Ref sig .tc := ⟨.hbm, 5528, rfl⟩
abbrev main_call11_call1_c_39 : Ref sig .tc := ⟨.hbm, 5529, rfl⟩
abbrev main_call11_call1_v152 : Ref sig .tc := ⟨.hbm, 5530, rfl⟩
abbrev main_call11_call1_v153 : Ref sig .tc := ⟨.hbm, 5531, rfl⟩
abbrev main_call11_call1_v154 : Ref sig .tc := ⟨.hbm, 5532, rfl⟩
abbrev main_call11_call1_v155 : Ref sig .tc := ⟨.hbm, 5533, rfl⟩
abbrev main_call11_call1_v156 : Ref sig .tc := ⟨.hbm, 5534, rfl⟩
abbrev main_call11_call1_c_40 : Ref sig .tc := ⟨.hbm, 5535, rfl⟩
abbrev main_call11_call1_v157 : Ref sig .tc := ⟨.hbm, 5536, rfl⟩
abbrev main_call11_call1_v158 : Ref sig .tc := ⟨.hbm, 5537, rfl⟩
abbrev main_call11_call1_c_41 : Ref sig .tc := ⟨.hbm, 5538, rfl⟩
abbrev main_call11_call1_v159 : Ref sig .tc := ⟨.hbm, 5539, rfl⟩
abbrev main_call11_call1_v160 : Ref sig .tc := ⟨.hbm, 5540, rfl⟩
abbrev main_call11_call1_v161 : Ref sig .tc := ⟨.hbm, 5541, rfl⟩
abbrev main_call11_call1_v162 : Ref sig .tc := ⟨.hbm, 5542, rfl⟩
abbrev main_call11_call1_v163 : Ref sig .tc := ⟨.hbm, 5543, rfl⟩
abbrev main_call11_call1_c_42 : Ref sig .tc := ⟨.hbm, 5544, rfl⟩
abbrev main_call11_call1_v164 : Ref sig .tc := ⟨.hbm, 5545, rfl⟩
abbrev main_call11_call1_v165 : Ref sig .tc := ⟨.hbm, 5546, rfl⟩
abbrev main_call11_call1_c_43 : Ref sig .tc := ⟨.hbm, 5547, rfl⟩
abbrev main_call11_call1_v166 : Ref sig .tc := ⟨.hbm, 5548, rfl⟩
abbrev main_call11_call1_v167 : Ref sig .tc := ⟨.hbm, 5549, rfl⟩
abbrev main_call11_call1_v168 : Ref sig .tc := ⟨.hbm, 5550, rfl⟩
abbrev main_call11_call1_v169 : Ref sig .tc := ⟨.hbm, 5551, rfl⟩
abbrev main_call11_call1_v170 : Ref sig .tc := ⟨.hbm, 5552, rfl⟩
abbrev main_call11_v16_0 : Ref sig .tc := ⟨.hbm, 5553, rfl⟩
abbrev main_call11_call1_v172 : Ref sig .tc := ⟨.hbm, 5554, rfl⟩
abbrev main_call11_call1_v173 : Ref sig .tc := ⟨.hbm, 5555, rfl⟩
abbrev main_call11_call1_c_44 : Ref sig .tc := ⟨.hbm, 5556, rfl⟩
abbrev main_call11_call1_v174 : Ref sig .tc := ⟨.hbm, 5557, rfl⟩
abbrev main_call11_v16_1 : Ref sig .tc := ⟨.hbm, 5558, rfl⟩
abbrev main_call11_v17 : Ref sig .tc := ⟨.hbm, 5559, rfl⟩
abbrev main_call11_v18_0 : Ref sig .tc := ⟨.hbm, 5560, rfl⟩
abbrev main_v51 : Ref sig .tc := ⟨.hbm, 5561, rfl⟩
abbrev main_v52 : Ref sig .tc := ⟨.hbm, 5562, rfl⟩
abbrev main_v53 : Ref sig .tc := ⟨.hbm, 5563, rfl⟩
abbrev main_v54 : Ref sig .tc := ⟨.hbm, 5564, rfl⟩
abbrev main_call12_call0_v0 : Ref sig .tc := ⟨.hbm, 5565, rfl⟩
abbrev main_call12_call0_v1 : Ref sig .tc := ⟨.hbm, 5566, rfl⟩
abbrev main_call12_call0_v2 : Ref sig .tc := ⟨.hbm, 5567, rfl⟩
abbrev main_call12_call0_v3 : Ref sig .tc := ⟨.hbm, 5568, rfl⟩
abbrev main_call12_call0_v4 : Ref sig .tc := ⟨.hbm, 5569, rfl⟩
abbrev main_call12_call0_c : Ref sig .tc := ⟨.hbm, 5570, rfl⟩
abbrev main_call12_call0_v5 : Ref sig .tc := ⟨.hbm, 5571, rfl⟩
abbrev main_call12_call0_v6 : Ref sig .tc := ⟨.hbm, 5572, rfl⟩
abbrev main_call12_call0_c_0 : Ref sig .tc := ⟨.hbm, 5573, rfl⟩
abbrev main_call12_call0_v7 : Ref sig .tc := ⟨.hbm, 5574, rfl⟩
abbrev main_call12_call0_v8 : Ref sig .tc := ⟨.hbm, 5575, rfl⟩
abbrev main_call12_call0_v9 : Ref sig .tc := ⟨.hbm, 5576, rfl⟩
abbrev main_call12_call0_v10 : Ref sig .tc := ⟨.hbm, 5577, rfl⟩
abbrev main_call12_call0_call0_v0 : Ref sig .tc := ⟨.hbm, 5578, rfl⟩
abbrev main_call12_call0_call0_c : Ref sig .tc := ⟨.hbm, 5579, rfl⟩
abbrev main_call12_call0_call0_v1 : Ref sig .tc := ⟨.hbm, 5580, rfl⟩
abbrev main_call12_call0_call0_v2 : Ref sig .tc := ⟨.hbm, 5581, rfl⟩
abbrev main_call12_call0_call0_v3 : Ref sig .tc := ⟨.hbm, 5582, rfl⟩
abbrev main_call12_call0_call0_v4 : Ref sig .tc := ⟨.hbm, 5583, rfl⟩
abbrev main_call12_call0_call0_v5 : Ref sig .tc := ⟨.hbm, 5584, rfl⟩
abbrev main_call12_call0_call0_v6 : Ref sig .tc := ⟨.hbm, 5585, rfl⟩
abbrev main_call12_call0_call0_c_0 : Ref sig .tc := ⟨.hbm, 5586, rfl⟩
abbrev main_call12_call0_call0_v7 : Ref sig .tc := ⟨.hbm, 5587, rfl⟩
abbrev main_call12_call0_call0_v8 : Ref sig .tc := ⟨.hbm, 5588, rfl⟩
abbrev main_call12_call0_call0_c_1 : Ref sig .tc := ⟨.hbm, 5589, rfl⟩
abbrev main_call12_call0_call0_v9 : Ref sig .tc := ⟨.hbm, 5590, rfl⟩
abbrev main_call12_call0_call0_v10 : Ref sig .tc := ⟨.hbm, 5591, rfl⟩
abbrev main_call12_call0_call0_v11 : Ref sig .tc := ⟨.hbm, 5592, rfl⟩
abbrev main_call12_call0_call0_v12 : Ref sig .tc := ⟨.hbm, 5593, rfl⟩
abbrev main_call12_call0_call0_v13 : Ref sig .tc := ⟨.hbm, 5594, rfl⟩
abbrev main_call12_call0_call0_c_2 : Ref sig .tc := ⟨.hbm, 5595, rfl⟩
abbrev main_call12_call0_call0_v14 : Ref sig .tc := ⟨.hbm, 5596, rfl⟩
abbrev main_call12_call0_call0_v15 : Ref sig .tc := ⟨.hbm, 5597, rfl⟩
abbrev main_call12_call0_call0_c_3 : Ref sig .tc := ⟨.hbm, 5598, rfl⟩
abbrev main_call12_call0_call0_v16 : Ref sig .tc := ⟨.hbm, 5599, rfl⟩
abbrev main_call12_call0_call0_v17 : Ref sig .tc := ⟨.hbm, 5600, rfl⟩
abbrev main_call12_call0_call0_v18 : Ref sig .tc := ⟨.hbm, 5601, rfl⟩
abbrev main_call12_call0_call0_v19 : Ref sig .tc := ⟨.hbm, 5602, rfl⟩
abbrev main_call12_call0_call0_v20 : Ref sig .tc := ⟨.hbm, 5603, rfl⟩
abbrev main_call12_call0_call0_c_4 : Ref sig .tc := ⟨.hbm, 5604, rfl⟩
abbrev main_call12_call0_call0_v21 : Ref sig .tc := ⟨.hbm, 5605, rfl⟩
abbrev main_call12_call0_call0_v22 : Ref sig .tc := ⟨.hbm, 5606, rfl⟩
abbrev main_call12_call0_call0_c_5 : Ref sig .tc := ⟨.hbm, 5607, rfl⟩
abbrev main_call12_call0_call0_v23 : Ref sig .tc := ⟨.hbm, 5608, rfl⟩
abbrev main_call12_call0_call0_v24 : Ref sig .tc := ⟨.hbm, 5609, rfl⟩
abbrev main_call12_call0_call0_v25 : Ref sig .tc := ⟨.hbm, 5610, rfl⟩
abbrev main_call12_call0_call0_v26 : Ref sig .tc := ⟨.hbm, 5611, rfl⟩
abbrev main_call12_call0_call0_v27 : Ref sig .tc := ⟨.hbm, 5612, rfl⟩
abbrev main_call12_call0_call0_c_6 : Ref sig .tc := ⟨.hbm, 5613, rfl⟩
abbrev main_call12_call0_call0_v28 : Ref sig .tc := ⟨.hbm, 5614, rfl⟩
abbrev main_call12_call0_call0_v29 : Ref sig .tc := ⟨.hbm, 5615, rfl⟩
abbrev main_call12_call0_call0_c_7 : Ref sig .tc := ⟨.hbm, 5616, rfl⟩
abbrev main_call12_call0_call0_v30 : Ref sig .tc := ⟨.hbm, 5617, rfl⟩
abbrev main_call12_call0_call0_v31 : Ref sig .tc := ⟨.hbm, 5618, rfl⟩
abbrev main_call12_call0_call0_v32 : Ref sig .tc := ⟨.hbm, 5619, rfl⟩
abbrev main_call12_call0_call0_v33 : Ref sig .tc := ⟨.hbm, 5620, rfl⟩
abbrev main_call12_call0_call0_v34 : Ref sig .tc := ⟨.hbm, 5621, rfl⟩
abbrev main_call12_call0_call0_v35 : Ref sig .tc := ⟨.hbm, 5622, rfl⟩
abbrev main_call12_call0_call0_v36 : Ref sig .tc := ⟨.hbm, 5623, rfl⟩
abbrev main_call12_call0_call0_v37 : Ref sig .tc := ⟨.hbm, 5624, rfl⟩
abbrev main_call12_call0_call0_c_8 : Ref sig .tc := ⟨.hbm, 5625, rfl⟩
abbrev main_call12_call0_call0_v38 : Ref sig .tc := ⟨.hbm, 5626, rfl⟩
abbrev main_call12_call0_call0_v39 : Ref sig .tc := ⟨.hbm, 5627, rfl⟩
abbrev main_call12_call0_call0_v40 : Ref sig .tc := ⟨.hbm, 5628, rfl⟩
abbrev main_call12_call0_call0_c_9 : Ref sig .tc := ⟨.hbm, 5629, rfl⟩
abbrev main_call12_call0_call0_v41 : Ref sig .tc := ⟨.hbm, 5630, rfl⟩
abbrev main_call12_call0_call0_v42 : Ref sig .tc := ⟨.hbm, 5631, rfl⟩
abbrev main_call12_call0_call0_c_10 : Ref sig .tc := ⟨.hbm, 5632, rfl⟩
abbrev main_call12_call0_call0_v43 : Ref sig .tc := ⟨.hbm, 5633, rfl⟩
abbrev main_call12_call0_call0_v44 : Ref sig .tc := ⟨.hbm, 5634, rfl⟩
abbrev main_call12_call0_call0_v45 : Ref sig .tc := ⟨.hbm, 5635, rfl⟩
abbrev main_call12_call0_call0_v46 : Ref sig .tc := ⟨.hbm, 5636, rfl⟩
abbrev main_call12_call0_call0_v47 : Ref sig .tc := ⟨.hbm, 5637, rfl⟩
abbrev main_call12_call0_call0_c_11 : Ref sig .tc := ⟨.hbm, 5638, rfl⟩
abbrev main_call12_call0_call0_v48 : Ref sig .tc := ⟨.hbm, 5639, rfl⟩
abbrev main_call12_call0_call0_v49 : Ref sig .tc := ⟨.hbm, 5640, rfl⟩
abbrev main_call12_call0_call0_c_12 : Ref sig .tc := ⟨.hbm, 5641, rfl⟩
abbrev main_call12_call0_call0_v50 : Ref sig .tc := ⟨.hbm, 5642, rfl⟩
abbrev main_call12_call0_call0_v51 : Ref sig .tc := ⟨.hbm, 5643, rfl⟩
abbrev main_call12_call0_call0_v52 : Ref sig .tc := ⟨.hbm, 5644, rfl⟩
abbrev main_call12_call0_call0_v53 : Ref sig .tc := ⟨.hbm, 5645, rfl⟩
abbrev main_call12_call0_call0_v54 : Ref sig .tc := ⟨.hbm, 5646, rfl⟩
abbrev main_call12_call0_call0_c_13 : Ref sig .tc := ⟨.hbm, 5647, rfl⟩
abbrev main_call12_call0_call0_v55 : Ref sig .tc := ⟨.hbm, 5648, rfl⟩
abbrev main_call12_call0_call0_v56 : Ref sig .tc := ⟨.hbm, 5649, rfl⟩
abbrev main_call12_call0_call0_c_14 : Ref sig .tc := ⟨.hbm, 5650, rfl⟩
abbrev main_call12_call0_call0_v57 : Ref sig .tc := ⟨.hbm, 5651, rfl⟩
abbrev main_call12_call0_call0_v58 : Ref sig .tc := ⟨.hbm, 5652, rfl⟩
abbrev main_call12_call0_call0_v59 : Ref sig .tc := ⟨.hbm, 5653, rfl⟩
abbrev main_call12_call0_call0_v60 : Ref sig .tc := ⟨.hbm, 5654, rfl⟩
abbrev main_call12_call0_call0_v61 : Ref sig .tc := ⟨.hbm, 5655, rfl⟩
abbrev main_call12_call0_call0_c_15 : Ref sig .tc := ⟨.hbm, 5656, rfl⟩
abbrev main_call12_call0_call0_v62 : Ref sig .tc := ⟨.hbm, 5657, rfl⟩
abbrev main_call12_call0_call0_v63 : Ref sig .tc := ⟨.hbm, 5658, rfl⟩
abbrev main_call12_call0_call0_c_16 : Ref sig .tc := ⟨.hbm, 5659, rfl⟩
abbrev main_call12_call0_call0_v64 : Ref sig .tc := ⟨.hbm, 5660, rfl⟩
abbrev main_call12_call0_call0_v65 : Ref sig .tc := ⟨.hbm, 5661, rfl⟩
abbrev main_call12_call0_call0_v66 : Ref sig .tc := ⟨.hbm, 5662, rfl⟩
abbrev main_call12_call0_call0_v67 : Ref sig .tc := ⟨.hbm, 5663, rfl⟩
abbrev main_call12_call0_call0_v68 : Ref sig .tc := ⟨.hbm, 5664, rfl⟩
abbrev main_call12_call0_call0_v69 : Ref sig .tc := ⟨.hbm, 5665, rfl⟩
abbrev main_call12_call0_call0_v70 : Ref sig .tc := ⟨.hbm, 5666, rfl⟩
abbrev main_call12_call0_call0_v71 : Ref sig .tc := ⟨.hbm, 5667, rfl⟩
abbrev main_call12_call0_call0_c_17 : Ref sig .tc := ⟨.hbm, 5668, rfl⟩
abbrev main_call12_call0_call0_v72 : Ref sig .tc := ⟨.hbm, 5669, rfl⟩
abbrev main_call12_call0_call0_v73 : Ref sig .tc := ⟨.hbm, 5670, rfl⟩
abbrev main_call12_call0_call0_v74 : Ref sig .tc := ⟨.hbm, 5671, rfl⟩
abbrev main_call12_call0_call0_c_18 : Ref sig .tc := ⟨.hbm, 5672, rfl⟩
abbrev main_call12_call0_call0_v75 : Ref sig .tc := ⟨.hbm, 5673, rfl⟩
abbrev main_call12_call0_call0_v76 : Ref sig .tc := ⟨.hbm, 5674, rfl⟩
abbrev main_call12_call0_call0_c_19 : Ref sig .tc := ⟨.hbm, 5675, rfl⟩
abbrev main_call12_call0_call0_v77 : Ref sig .tc := ⟨.hbm, 5676, rfl⟩
abbrev main_call12_call0_call0_v78 : Ref sig .tc := ⟨.hbm, 5677, rfl⟩
abbrev main_call12_call0_call0_v79 : Ref sig .tc := ⟨.hbm, 5678, rfl⟩
abbrev main_call12_call0_call0_v80 : Ref sig .tc := ⟨.hbm, 5679, rfl⟩
abbrev main_call12_call0_call0_v81 : Ref sig .tc := ⟨.hbm, 5680, rfl⟩
abbrev main_call12_call0_call0_c_20 : Ref sig .tc := ⟨.hbm, 5681, rfl⟩
abbrev main_call12_call0_call0_v82 : Ref sig .tc := ⟨.hbm, 5682, rfl⟩
abbrev main_call12_call0_call0_v83 : Ref sig .tc := ⟨.hbm, 5683, rfl⟩
abbrev main_call12_call0_call0_c_21 : Ref sig .tc := ⟨.hbm, 5684, rfl⟩
abbrev main_call12_call0_call0_v84 : Ref sig .tc := ⟨.hbm, 5685, rfl⟩
abbrev main_call12_call0_call0_v85 : Ref sig .tc := ⟨.hbm, 5686, rfl⟩
abbrev main_call12_call0_call0_v86 : Ref sig .tc := ⟨.hbm, 5687, rfl⟩
abbrev main_call12_call0_call0_v87 : Ref sig .tc := ⟨.hbm, 5688, rfl⟩
abbrev main_call12_call0_call0_v88 : Ref sig .tc := ⟨.hbm, 5689, rfl⟩
abbrev main_call12_call0_call0_c_22 : Ref sig .tc := ⟨.hbm, 5690, rfl⟩
abbrev main_call12_call0_call0_v89 : Ref sig .tc := ⟨.hbm, 5691, rfl⟩
abbrev main_call12_call0_call0_v90 : Ref sig .tc := ⟨.hbm, 5692, rfl⟩
abbrev main_call12_call0_call0_c_23 : Ref sig .tc := ⟨.hbm, 5693, rfl⟩
abbrev main_call12_call0_call0_v91 : Ref sig .tc := ⟨.hbm, 5694, rfl⟩
abbrev main_call12_call0_call0_v92 : Ref sig .tc := ⟨.hbm, 5695, rfl⟩
abbrev main_call12_call0_call0_v93 : Ref sig .tc := ⟨.hbm, 5696, rfl⟩
abbrev main_call12_call0_call0_v94 : Ref sig .tc := ⟨.hbm, 5697, rfl⟩
abbrev main_call12_call0_call0_v95 : Ref sig .tc := ⟨.hbm, 5698, rfl⟩
abbrev main_call12_call0_call0_c_24 : Ref sig .tc := ⟨.hbm, 5699, rfl⟩
abbrev main_call12_call0_call0_v96 : Ref sig .tc := ⟨.hbm, 5700, rfl⟩
abbrev main_call12_call0_call0_v97 : Ref sig .tc := ⟨.hbm, 5701, rfl⟩
abbrev main_call12_call0_call0_c_25 : Ref sig .tc := ⟨.hbm, 5702, rfl⟩
abbrev main_call12_call0_call0_v98 : Ref sig .tc := ⟨.hbm, 5703, rfl⟩
abbrev main_call12_call0_call0_v99 : Ref sig .tc := ⟨.hbm, 5704, rfl⟩
abbrev main_call12_call0_call0_v100 : Ref sig .tc := ⟨.hbm, 5705, rfl⟩
abbrev main_call12_call0_call0_v101 : Ref sig .tc := ⟨.hbm, 5706, rfl⟩
abbrev main_call12_call0_call0_v102 : Ref sig .tc := ⟨.hbm, 5707, rfl⟩
abbrev main_call12_call0_call0_v103 : Ref sig .tc := ⟨.hbm, 5708, rfl⟩
abbrev main_call12_call0_call0_v104 : Ref sig .tc := ⟨.hbm, 5709, rfl⟩
abbrev main_call12_call0_call0_v105 : Ref sig .tc := ⟨.hbm, 5710, rfl⟩
abbrev main_call12_call0_call0_c_26 : Ref sig .tc := ⟨.hbm, 5711, rfl⟩
abbrev main_call12_call0_call0_v106 : Ref sig .tc := ⟨.hbm, 5712, rfl⟩
abbrev main_call12_call0_call0_v107 : Ref sig .tc := ⟨.hbm, 5713, rfl⟩
abbrev main_call12_call0_call0_v108 : Ref sig .tc := ⟨.hbm, 5714, rfl⟩
abbrev main_call12_call0_call0_c_27 : Ref sig .tc := ⟨.hbm, 5715, rfl⟩
abbrev main_call12_call0_call0_v109 : Ref sig .tc := ⟨.hbm, 5716, rfl⟩
abbrev main_call12_call0_call0_v110 : Ref sig .tc := ⟨.hbm, 5717, rfl⟩
abbrev main_call12_call0_call0_c_28 : Ref sig .tc := ⟨.hbm, 5718, rfl⟩
abbrev main_call12_call0_call0_v111 : Ref sig .tc := ⟨.hbm, 5719, rfl⟩
abbrev main_call12_call0_call0_v112 : Ref sig .tc := ⟨.hbm, 5720, rfl⟩
abbrev main_call12_call0_call0_v113 : Ref sig .tc := ⟨.hbm, 5721, rfl⟩
abbrev main_call12_call0_call0_v114 : Ref sig .tc := ⟨.hbm, 5722, rfl⟩
abbrev main_call12_call0_call0_v115 : Ref sig .tc := ⟨.hbm, 5723, rfl⟩
abbrev main_call12_call0_call0_c_29 : Ref sig .tc := ⟨.hbm, 5724, rfl⟩
abbrev main_call12_call0_call0_v116 : Ref sig .tc := ⟨.hbm, 5725, rfl⟩
abbrev main_call12_call0_call0_v117 : Ref sig .tc := ⟨.hbm, 5726, rfl⟩
abbrev main_call12_call0_call0_c_30 : Ref sig .tc := ⟨.hbm, 5727, rfl⟩
abbrev main_call12_call0_call0_v118 : Ref sig .tc := ⟨.hbm, 5728, rfl⟩
abbrev main_call12_call0_call0_v119 : Ref sig .tc := ⟨.hbm, 5729, rfl⟩
abbrev main_call12_call0_call0_v120 : Ref sig .tc := ⟨.hbm, 5730, rfl⟩
abbrev main_call12_call0_call0_v121 : Ref sig .tc := ⟨.hbm, 5731, rfl⟩
abbrev main_call12_call0_call0_v122 : Ref sig .tc := ⟨.hbm, 5732, rfl⟩
abbrev main_call12_call0_call0_c_31 : Ref sig .tc := ⟨.hbm, 5733, rfl⟩
abbrev main_call12_call0_call0_v123 : Ref sig .tc := ⟨.hbm, 5734, rfl⟩
abbrev main_call12_call0_call0_v124 : Ref sig .tc := ⟨.hbm, 5735, rfl⟩
abbrev main_call12_call0_call0_c_32 : Ref sig .tc := ⟨.hbm, 5736, rfl⟩
abbrev main_call12_call0_call0_v125 : Ref sig .tc := ⟨.hbm, 5737, rfl⟩
abbrev main_call12_call0_call0_v126 : Ref sig .tc := ⟨.hbm, 5738, rfl⟩
abbrev main_call12_call0_call0_v127 : Ref sig .tc := ⟨.hbm, 5739, rfl⟩
abbrev main_call12_call0_call0_v128 : Ref sig .tc := ⟨.hbm, 5740, rfl⟩
abbrev main_call12_call0_call0_v129 : Ref sig .tc := ⟨.hbm, 5741, rfl⟩
abbrev main_call12_call0_call0_c_33 : Ref sig .tc := ⟨.hbm, 5742, rfl⟩
abbrev main_call12_call0_call0_v130 : Ref sig .tc := ⟨.hbm, 5743, rfl⟩
abbrev main_call12_call0_call0_v131 : Ref sig .tc := ⟨.hbm, 5744, rfl⟩
abbrev main_call12_call0_call0_c_34 : Ref sig .tc := ⟨.hbm, 5745, rfl⟩
abbrev main_call12_call0_call0_v132 : Ref sig .tc := ⟨.hbm, 5746, rfl⟩
abbrev main_call12_call0_call0_v133 : Ref sig .tc := ⟨.hbm, 5747, rfl⟩
abbrev main_call12_call0_call0_v134 : Ref sig .tc := ⟨.hbm, 5748, rfl⟩
abbrev main_call12_call0_call0_v135 : Ref sig .tc := ⟨.hbm, 5749, rfl⟩
abbrev main_call12_call0_call0_v136 : Ref sig .tc := ⟨.hbm, 5750, rfl⟩
abbrev main_call12_call0_call0_v137 : Ref sig .tc := ⟨.hbm, 5751, rfl⟩
abbrev main_call12_call0_call0_v138 : Ref sig .tc := ⟨.hbm, 5752, rfl⟩
abbrev main_call12_call0_call0_v139 : Ref sig .tc := ⟨.hbm, 5753, rfl⟩
abbrev main_call12_call0_call0_c_35 : Ref sig .tc := ⟨.hbm, 5754, rfl⟩
abbrev main_call12_call0_call0_v140 : Ref sig .tc := ⟨.hbm, 5755, rfl⟩
abbrev main_call12_call0_call0_v141 : Ref sig .tc := ⟨.hbm, 5756, rfl⟩
abbrev main_call12_call0_call0_v142 : Ref sig .tc := ⟨.hbm, 5757, rfl⟩
abbrev main_call12_call0_call0_c_36 : Ref sig .tc := ⟨.hbm, 5758, rfl⟩
abbrev main_call12_call0_call0_v143 : Ref sig .tc := ⟨.hbm, 5759, rfl⟩
abbrev main_call12_call0_call0_v144 : Ref sig .tc := ⟨.hbm, 5760, rfl⟩
abbrev main_call12_call0_call0_c_37 : Ref sig .tc := ⟨.hbm, 5761, rfl⟩
abbrev main_call12_call0_call0_v145 : Ref sig .tc := ⟨.hbm, 5762, rfl⟩
abbrev main_call12_call0_call0_v146 : Ref sig .tc := ⟨.hbm, 5763, rfl⟩
abbrev main_call12_call0_call0_v147 : Ref sig .tc := ⟨.hbm, 5764, rfl⟩
abbrev main_call12_call0_call0_v148 : Ref sig .tc := ⟨.hbm, 5765, rfl⟩
abbrev main_call12_call0_call0_v149 : Ref sig .tc := ⟨.hbm, 5766, rfl⟩
abbrev main_call12_call0_call0_c_38 : Ref sig .tc := ⟨.hbm, 5767, rfl⟩
abbrev main_call12_call0_call0_v150 : Ref sig .tc := ⟨.hbm, 5768, rfl⟩
abbrev main_call12_call0_call0_v151 : Ref sig .tc := ⟨.hbm, 5769, rfl⟩
abbrev main_call12_call0_call0_c_39 : Ref sig .tc := ⟨.hbm, 5770, rfl⟩
abbrev main_call12_call0_call0_v152 : Ref sig .tc := ⟨.hbm, 5771, rfl⟩
abbrev main_call12_call0_call0_v153 : Ref sig .tc := ⟨.hbm, 5772, rfl⟩
abbrev main_call12_call0_call0_v154 : Ref sig .tc := ⟨.hbm, 5773, rfl⟩
abbrev main_call12_call0_call0_v155 : Ref sig .tc := ⟨.hbm, 5774, rfl⟩
abbrev main_call12_call0_call0_v156 : Ref sig .tc := ⟨.hbm, 5775, rfl⟩
abbrev main_call12_call0_call0_c_40 : Ref sig .tc := ⟨.hbm, 5776, rfl⟩
abbrev main_call12_call0_call0_v157 : Ref sig .tc := ⟨.hbm, 5777, rfl⟩
abbrev main_call12_call0_call0_v158 : Ref sig .tc := ⟨.hbm, 5778, rfl⟩
abbrev main_call12_call0_call0_c_41 : Ref sig .tc := ⟨.hbm, 5779, rfl⟩
abbrev main_call12_call0_call0_v159 : Ref sig .tc := ⟨.hbm, 5780, rfl⟩
abbrev main_call12_call0_call0_v160 : Ref sig .tc := ⟨.hbm, 5781, rfl⟩
abbrev main_call12_call0_call0_v161 : Ref sig .tc := ⟨.hbm, 5782, rfl⟩
abbrev main_call12_call0_call0_v162 : Ref sig .tc := ⟨.hbm, 5783, rfl⟩
abbrev main_call12_call0_call0_v163 : Ref sig .tc := ⟨.hbm, 5784, rfl⟩
abbrev main_call12_call0_call0_c_42 : Ref sig .tc := ⟨.hbm, 5785, rfl⟩
abbrev main_call12_call0_call0_v164 : Ref sig .tc := ⟨.hbm, 5786, rfl⟩
abbrev main_call12_call0_call0_v165 : Ref sig .tc := ⟨.hbm, 5787, rfl⟩
abbrev main_call12_call0_call0_c_43 : Ref sig .tc := ⟨.hbm, 5788, rfl⟩
abbrev main_call12_call0_call0_v166 : Ref sig .tc := ⟨.hbm, 5789, rfl⟩
abbrev main_call12_call0_call0_v167 : Ref sig .tc := ⟨.hbm, 5790, rfl⟩
abbrev main_call12_call0_call0_v168 : Ref sig .tc := ⟨.hbm, 5791, rfl⟩
abbrev main_call12_call0_call0_v169 : Ref sig .tc := ⟨.hbm, 5792, rfl⟩
abbrev main_call12_call0_call0_v170 : Ref sig .tc := ⟨.hbm, 5793, rfl⟩
abbrev main_call12_call0_v11_0 : Ref sig .tc := ⟨.hbm, 5794, rfl⟩
abbrev main_call12_call0_call0_v172 : Ref sig .tc := ⟨.hbm, 5795, rfl⟩
abbrev main_call12_call0_call0_v173 : Ref sig .tc := ⟨.hbm, 5796, rfl⟩
abbrev main_call12_call0_call0_c_44 : Ref sig .tc := ⟨.hbm, 5797, rfl⟩
abbrev main_call12_call0_call0_v174 : Ref sig .tc := ⟨.hbm, 5798, rfl⟩
abbrev main_call12_call0_v11_1 : Ref sig .tc := ⟨.hbm, 5799, rfl⟩
abbrev main_call12_call0_v12 : Ref sig .tc := ⟨.hbm, 5800, rfl⟩
abbrev main_call12_call0_v13 : Ref sig .tc := ⟨.hbm, 5801, rfl⟩
abbrev main_call12_v0 : Ref sig .tc := ⟨.hbm, 5802, rfl⟩
abbrev main_call12_v1 : Ref sig .tc := ⟨.hbm, 5803, rfl⟩
abbrev main_call12_v2 : Ref sig .tc := ⟨.hbm, 5804, rfl⟩
abbrev main_call12_v3 : Ref sig .tc := ⟨.hbm, 5805, rfl⟩
abbrev main_call12_v4 : Ref sig .tc := ⟨.hbm, 5806, rfl⟩
abbrev main_call12_v5 : Ref sig .tc := ⟨.hbm, 5807, rfl⟩
abbrev main_call12_v6 : Ref sig .tc := ⟨.hbm, 5808, rfl⟩
abbrev main_call12_v7 : Ref sig .tc := ⟨.hbm, 5809, rfl⟩
abbrev main_call12_v8 : Ref sig .tc := ⟨.hbm, 5810, rfl⟩
abbrev main_call12_v9 : Ref sig .tc := ⟨.hbm, 5811, rfl⟩
abbrev main_call12_c : Ref sig .tc := ⟨.hbm, 5812, rfl⟩
abbrev main_call12_v10 : Ref sig .tc := ⟨.hbm, 5813, rfl⟩
abbrev main_call12_v11 : Ref sig .tc := ⟨.hbm, 5814, rfl⟩
abbrev main_call12_c_0 : Ref sig .tc := ⟨.hbm, 5815, rfl⟩
abbrev main_call12_v12 : Ref sig .tc := ⟨.hbm, 5816, rfl⟩
abbrev main_call12_v13 : Ref sig .tc := ⟨.hbm, 5817, rfl⟩
abbrev main_call12_v14 : Ref sig .tc := ⟨.hbm, 5818, rfl⟩
abbrev main_call12_v15 : Ref sig .tc := ⟨.hbm, 5819, rfl⟩
abbrev main_call12_call1_v0 : Ref sig .tc := ⟨.hbm, 5820, rfl⟩
abbrev main_call12_call1_c : Ref sig .tc := ⟨.hbm, 5821, rfl⟩
abbrev main_call12_call1_v1 : Ref sig .tc := ⟨.hbm, 5822, rfl⟩
abbrev main_call12_call1_v2 : Ref sig .tc := ⟨.hbm, 5823, rfl⟩
abbrev main_call12_call1_v3 : Ref sig .tc := ⟨.hbm, 5824, rfl⟩
abbrev main_call12_call1_v4 : Ref sig .tc := ⟨.hbm, 5825, rfl⟩
abbrev main_call12_call1_v5 : Ref sig .tc := ⟨.hbm, 5826, rfl⟩
abbrev main_call12_call1_v6 : Ref sig .tc := ⟨.hbm, 5827, rfl⟩
abbrev main_call12_call1_c_0 : Ref sig .tc := ⟨.hbm, 5828, rfl⟩
abbrev main_call12_call1_v7 : Ref sig .tc := ⟨.hbm, 5829, rfl⟩
abbrev main_call12_call1_v8 : Ref sig .tc := ⟨.hbm, 5830, rfl⟩
abbrev main_call12_call1_c_1 : Ref sig .tc := ⟨.hbm, 5831, rfl⟩
abbrev main_call12_call1_v9 : Ref sig .tc := ⟨.hbm, 5832, rfl⟩
abbrev main_call12_call1_v10 : Ref sig .tc := ⟨.hbm, 5833, rfl⟩
abbrev main_call12_call1_v11 : Ref sig .tc := ⟨.hbm, 5834, rfl⟩
abbrev main_call12_call1_v12 : Ref sig .tc := ⟨.hbm, 5835, rfl⟩
abbrev main_call12_call1_v13 : Ref sig .tc := ⟨.hbm, 5836, rfl⟩
abbrev main_call12_call1_c_2 : Ref sig .tc := ⟨.hbm, 5837, rfl⟩
abbrev main_call12_call1_v14 : Ref sig .tc := ⟨.hbm, 5838, rfl⟩
abbrev main_call12_call1_v15 : Ref sig .tc := ⟨.hbm, 5839, rfl⟩
abbrev main_call12_call1_c_3 : Ref sig .tc := ⟨.hbm, 5840, rfl⟩
abbrev main_call12_call1_v16 : Ref sig .tc := ⟨.hbm, 5841, rfl⟩
abbrev main_call12_call1_v17 : Ref sig .tc := ⟨.hbm, 5842, rfl⟩
abbrev main_call12_call1_v18 : Ref sig .tc := ⟨.hbm, 5843, rfl⟩
abbrev main_call12_call1_v19 : Ref sig .tc := ⟨.hbm, 5844, rfl⟩
abbrev main_call12_call1_v20 : Ref sig .tc := ⟨.hbm, 5845, rfl⟩
abbrev main_call12_call1_c_4 : Ref sig .tc := ⟨.hbm, 5846, rfl⟩
abbrev main_call12_call1_v21 : Ref sig .tc := ⟨.hbm, 5847, rfl⟩
abbrev main_call12_call1_v22 : Ref sig .tc := ⟨.hbm, 5848, rfl⟩
abbrev main_call12_call1_c_5 : Ref sig .tc := ⟨.hbm, 5849, rfl⟩
abbrev main_call12_call1_v23 : Ref sig .tc := ⟨.hbm, 5850, rfl⟩
abbrev main_call12_call1_v24 : Ref sig .tc := ⟨.hbm, 5851, rfl⟩
abbrev main_call12_call1_v25 : Ref sig .tc := ⟨.hbm, 5852, rfl⟩
abbrev main_call12_call1_v26 : Ref sig .tc := ⟨.hbm, 5853, rfl⟩
abbrev main_call12_call1_v27 : Ref sig .tc := ⟨.hbm, 5854, rfl⟩
abbrev main_call12_call1_c_6 : Ref sig .tc := ⟨.hbm, 5855, rfl⟩
abbrev main_call12_call1_v28 : Ref sig .tc := ⟨.hbm, 5856, rfl⟩
abbrev main_call12_call1_v29 : Ref sig .tc := ⟨.hbm, 5857, rfl⟩
abbrev main_call12_call1_c_7 : Ref sig .tc := ⟨.hbm, 5858, rfl⟩
abbrev main_call12_call1_v30 : Ref sig .tc := ⟨.hbm, 5859, rfl⟩
abbrev main_call12_call1_v31 : Ref sig .tc := ⟨.hbm, 5860, rfl⟩
abbrev main_call12_call1_v32 : Ref sig .tc := ⟨.hbm, 5861, rfl⟩
abbrev main_call12_call1_v33 : Ref sig .tc := ⟨.hbm, 5862, rfl⟩
abbrev main_call12_call1_v34 : Ref sig .tc := ⟨.hbm, 5863, rfl⟩
abbrev main_call12_call1_v35 : Ref sig .tc := ⟨.hbm, 5864, rfl⟩
abbrev main_call12_call1_v36 : Ref sig .tc := ⟨.hbm, 5865, rfl⟩
abbrev main_call12_call1_v37 : Ref sig .tc := ⟨.hbm, 5866, rfl⟩
abbrev main_call12_call1_c_8 : Ref sig .tc := ⟨.hbm, 5867, rfl⟩
abbrev main_call12_call1_v38 : Ref sig .tc := ⟨.hbm, 5868, rfl⟩
abbrev main_call12_call1_v39 : Ref sig .tc := ⟨.hbm, 5869, rfl⟩
abbrev main_call12_call1_v40 : Ref sig .tc := ⟨.hbm, 5870, rfl⟩
abbrev main_call12_call1_c_9 : Ref sig .tc := ⟨.hbm, 5871, rfl⟩
abbrev main_call12_call1_v41 : Ref sig .tc := ⟨.hbm, 5872, rfl⟩
abbrev main_call12_call1_v42 : Ref sig .tc := ⟨.hbm, 5873, rfl⟩
abbrev main_call12_call1_c_10 : Ref sig .tc := ⟨.hbm, 5874, rfl⟩
abbrev main_call12_call1_v43 : Ref sig .tc := ⟨.hbm, 5875, rfl⟩
abbrev main_call12_call1_v44 : Ref sig .tc := ⟨.hbm, 5876, rfl⟩
abbrev main_call12_call1_v45 : Ref sig .tc := ⟨.hbm, 5877, rfl⟩
abbrev main_call12_call1_v46 : Ref sig .tc := ⟨.hbm, 5878, rfl⟩
abbrev main_call12_call1_v47 : Ref sig .tc := ⟨.hbm, 5879, rfl⟩
abbrev main_call12_call1_c_11 : Ref sig .tc := ⟨.hbm, 5880, rfl⟩
abbrev main_call12_call1_v48 : Ref sig .tc := ⟨.hbm, 5881, rfl⟩
abbrev main_call12_call1_v49 : Ref sig .tc := ⟨.hbm, 5882, rfl⟩
abbrev main_call12_call1_c_12 : Ref sig .tc := ⟨.hbm, 5883, rfl⟩
abbrev main_call12_call1_v50 : Ref sig .tc := ⟨.hbm, 5884, rfl⟩
abbrev main_call12_call1_v51 : Ref sig .tc := ⟨.hbm, 5885, rfl⟩
abbrev main_call12_call1_v52 : Ref sig .tc := ⟨.hbm, 5886, rfl⟩
abbrev main_call12_call1_v53 : Ref sig .tc := ⟨.hbm, 5887, rfl⟩
abbrev main_call12_call1_v54 : Ref sig .tc := ⟨.hbm, 5888, rfl⟩
abbrev main_call12_call1_c_13 : Ref sig .tc := ⟨.hbm, 5889, rfl⟩
abbrev main_call12_call1_v55 : Ref sig .tc := ⟨.hbm, 5890, rfl⟩
abbrev main_call12_call1_v56 : Ref sig .tc := ⟨.hbm, 5891, rfl⟩
abbrev main_call12_call1_c_14 : Ref sig .tc := ⟨.hbm, 5892, rfl⟩
abbrev main_call12_call1_v57 : Ref sig .tc := ⟨.hbm, 5893, rfl⟩
abbrev main_call12_call1_v58 : Ref sig .tc := ⟨.hbm, 5894, rfl⟩
abbrev main_call12_call1_v59 : Ref sig .tc := ⟨.hbm, 5895, rfl⟩
abbrev main_call12_call1_v60 : Ref sig .tc := ⟨.hbm, 5896, rfl⟩
abbrev main_call12_call1_v61 : Ref sig .tc := ⟨.hbm, 5897, rfl⟩
abbrev main_call12_call1_c_15 : Ref sig .tc := ⟨.hbm, 5898, rfl⟩
abbrev main_call12_call1_v62 : Ref sig .tc := ⟨.hbm, 5899, rfl⟩
abbrev main_call12_call1_v63 : Ref sig .tc := ⟨.hbm, 5900, rfl⟩
abbrev main_call12_call1_c_16 : Ref sig .tc := ⟨.hbm, 5901, rfl⟩
abbrev main_call12_call1_v64 : Ref sig .tc := ⟨.hbm, 5902, rfl⟩
abbrev main_call12_call1_v65 : Ref sig .tc := ⟨.hbm, 5903, rfl⟩
abbrev main_call12_call1_v66 : Ref sig .tc := ⟨.hbm, 5904, rfl⟩
abbrev main_call12_call1_v67 : Ref sig .tc := ⟨.hbm, 5905, rfl⟩
abbrev main_call12_call1_v68 : Ref sig .tc := ⟨.hbm, 5906, rfl⟩
abbrev main_call12_call1_v69 : Ref sig .tc := ⟨.hbm, 5907, rfl⟩
abbrev main_call12_call1_v70 : Ref sig .tc := ⟨.hbm, 5908, rfl⟩
abbrev main_call12_call1_v71 : Ref sig .tc := ⟨.hbm, 5909, rfl⟩
abbrev main_call12_call1_c_17 : Ref sig .tc := ⟨.hbm, 5910, rfl⟩
abbrev main_call12_call1_v72 : Ref sig .tc := ⟨.hbm, 5911, rfl⟩
abbrev main_call12_call1_v73 : Ref sig .tc := ⟨.hbm, 5912, rfl⟩
abbrev main_call12_call1_v74 : Ref sig .tc := ⟨.hbm, 5913, rfl⟩
abbrev main_call12_call1_c_18 : Ref sig .tc := ⟨.hbm, 5914, rfl⟩
abbrev main_call12_call1_v75 : Ref sig .tc := ⟨.hbm, 5915, rfl⟩
abbrev main_call12_call1_v76 : Ref sig .tc := ⟨.hbm, 5916, rfl⟩
abbrev main_call12_call1_c_19 : Ref sig .tc := ⟨.hbm, 5917, rfl⟩
abbrev main_call12_call1_v77 : Ref sig .tc := ⟨.hbm, 5918, rfl⟩
abbrev main_call12_call1_v78 : Ref sig .tc := ⟨.hbm, 5919, rfl⟩
abbrev main_call12_call1_v79 : Ref sig .tc := ⟨.hbm, 5920, rfl⟩
abbrev main_call12_call1_v80 : Ref sig .tc := ⟨.hbm, 5921, rfl⟩
abbrev main_call12_call1_v81 : Ref sig .tc := ⟨.hbm, 5922, rfl⟩
abbrev main_call12_call1_c_20 : Ref sig .tc := ⟨.hbm, 5923, rfl⟩
abbrev main_call12_call1_v82 : Ref sig .tc := ⟨.hbm, 5924, rfl⟩
abbrev main_call12_call1_v83 : Ref sig .tc := ⟨.hbm, 5925, rfl⟩
abbrev main_call12_call1_c_21 : Ref sig .tc := ⟨.hbm, 5926, rfl⟩
abbrev main_call12_call1_v84 : Ref sig .tc := ⟨.hbm, 5927, rfl⟩
abbrev main_call12_call1_v85 : Ref sig .tc := ⟨.hbm, 5928, rfl⟩
abbrev main_call12_call1_v86 : Ref sig .tc := ⟨.hbm, 5929, rfl⟩
abbrev main_call12_call1_v87 : Ref sig .tc := ⟨.hbm, 5930, rfl⟩
abbrev main_call12_call1_v88 : Ref sig .tc := ⟨.hbm, 5931, rfl⟩
abbrev main_call12_call1_c_22 : Ref sig .tc := ⟨.hbm, 5932, rfl⟩
abbrev main_call12_call1_v89 : Ref sig .tc := ⟨.hbm, 5933, rfl⟩
abbrev main_call12_call1_v90 : Ref sig .tc := ⟨.hbm, 5934, rfl⟩
abbrev main_call12_call1_c_23 : Ref sig .tc := ⟨.hbm, 5935, rfl⟩
abbrev main_call12_call1_v91 : Ref sig .tc := ⟨.hbm, 5936, rfl⟩
abbrev main_call12_call1_v92 : Ref sig .tc := ⟨.hbm, 5937, rfl⟩
abbrev main_call12_call1_v93 : Ref sig .tc := ⟨.hbm, 5938, rfl⟩
abbrev main_call12_call1_v94 : Ref sig .tc := ⟨.hbm, 5939, rfl⟩
abbrev main_call12_call1_v95 : Ref sig .tc := ⟨.hbm, 5940, rfl⟩
abbrev main_call12_call1_c_24 : Ref sig .tc := ⟨.hbm, 5941, rfl⟩
abbrev main_call12_call1_v96 : Ref sig .tc := ⟨.hbm, 5942, rfl⟩
abbrev main_call12_call1_v97 : Ref sig .tc := ⟨.hbm, 5943, rfl⟩
abbrev main_call12_call1_c_25 : Ref sig .tc := ⟨.hbm, 5944, rfl⟩
abbrev main_call12_call1_v98 : Ref sig .tc := ⟨.hbm, 5945, rfl⟩
abbrev main_call12_call1_v99 : Ref sig .tc := ⟨.hbm, 5946, rfl⟩
abbrev main_call12_call1_v100 : Ref sig .tc := ⟨.hbm, 5947, rfl⟩
abbrev main_call12_call1_v101 : Ref sig .tc := ⟨.hbm, 5948, rfl⟩
abbrev main_call12_call1_v102 : Ref sig .tc := ⟨.hbm, 5949, rfl⟩
abbrev main_call12_call1_v103 : Ref sig .tc := ⟨.hbm, 5950, rfl⟩
abbrev main_call12_call1_v104 : Ref sig .tc := ⟨.hbm, 5951, rfl⟩
abbrev main_call12_call1_v105 : Ref sig .tc := ⟨.hbm, 5952, rfl⟩
abbrev main_call12_call1_c_26 : Ref sig .tc := ⟨.hbm, 5953, rfl⟩
abbrev main_call12_call1_v106 : Ref sig .tc := ⟨.hbm, 5954, rfl⟩
abbrev main_call12_call1_v107 : Ref sig .tc := ⟨.hbm, 5955, rfl⟩
abbrev main_call12_call1_v108 : Ref sig .tc := ⟨.hbm, 5956, rfl⟩
abbrev main_call12_call1_c_27 : Ref sig .tc := ⟨.hbm, 5957, rfl⟩
abbrev main_call12_call1_v109 : Ref sig .tc := ⟨.hbm, 5958, rfl⟩
abbrev main_call12_call1_v110 : Ref sig .tc := ⟨.hbm, 5959, rfl⟩
abbrev main_call12_call1_c_28 : Ref sig .tc := ⟨.hbm, 5960, rfl⟩
abbrev main_call12_call1_v111 : Ref sig .tc := ⟨.hbm, 5961, rfl⟩
abbrev main_call12_call1_v112 : Ref sig .tc := ⟨.hbm, 5962, rfl⟩
abbrev main_call12_call1_v113 : Ref sig .tc := ⟨.hbm, 5963, rfl⟩
abbrev main_call12_call1_v114 : Ref sig .tc := ⟨.hbm, 5964, rfl⟩
abbrev main_call12_call1_v115 : Ref sig .tc := ⟨.hbm, 5965, rfl⟩
abbrev main_call12_call1_c_29 : Ref sig .tc := ⟨.hbm, 5966, rfl⟩
abbrev main_call12_call1_v116 : Ref sig .tc := ⟨.hbm, 5967, rfl⟩
abbrev main_call12_call1_v117 : Ref sig .tc := ⟨.hbm, 5968, rfl⟩
abbrev main_call12_call1_c_30 : Ref sig .tc := ⟨.hbm, 5969, rfl⟩
abbrev main_call12_call1_v118 : Ref sig .tc := ⟨.hbm, 5970, rfl⟩
abbrev main_call12_call1_v119 : Ref sig .tc := ⟨.hbm, 5971, rfl⟩
abbrev main_call12_call1_v120 : Ref sig .tc := ⟨.hbm, 5972, rfl⟩
abbrev main_call12_call1_v121 : Ref sig .tc := ⟨.hbm, 5973, rfl⟩
abbrev main_call12_call1_v122 : Ref sig .tc := ⟨.hbm, 5974, rfl⟩
abbrev main_call12_call1_c_31 : Ref sig .tc := ⟨.hbm, 5975, rfl⟩
abbrev main_call12_call1_v123 : Ref sig .tc := ⟨.hbm, 5976, rfl⟩
abbrev main_call12_call1_v124 : Ref sig .tc := ⟨.hbm, 5977, rfl⟩
abbrev main_call12_call1_c_32 : Ref sig .tc := ⟨.hbm, 5978, rfl⟩
abbrev main_call12_call1_v125 : Ref sig .tc := ⟨.hbm, 5979, rfl⟩
abbrev main_call12_call1_v126 : Ref sig .tc := ⟨.hbm, 5980, rfl⟩
abbrev main_call12_call1_v127 : Ref sig .tc := ⟨.hbm, 5981, rfl⟩
abbrev main_call12_call1_v128 : Ref sig .tc := ⟨.hbm, 5982, rfl⟩
abbrev main_call12_call1_v129 : Ref sig .tc := ⟨.hbm, 5983, rfl⟩
abbrev main_call12_call1_c_33 : Ref sig .tc := ⟨.hbm, 5984, rfl⟩
abbrev main_call12_call1_v130 : Ref sig .tc := ⟨.hbm, 5985, rfl⟩
abbrev main_call12_call1_v131 : Ref sig .tc := ⟨.hbm, 5986, rfl⟩
abbrev main_call12_call1_c_34 : Ref sig .tc := ⟨.hbm, 5987, rfl⟩
abbrev main_call12_call1_v132 : Ref sig .tc := ⟨.hbm, 5988, rfl⟩
abbrev main_call12_call1_v133 : Ref sig .tc := ⟨.hbm, 5989, rfl⟩
abbrev main_call12_call1_v134 : Ref sig .tc := ⟨.hbm, 5990, rfl⟩
abbrev main_call12_call1_v135 : Ref sig .tc := ⟨.hbm, 5991, rfl⟩
abbrev main_call12_call1_v136 : Ref sig .tc := ⟨.hbm, 5992, rfl⟩
abbrev main_call12_call1_v137 : Ref sig .tc := ⟨.hbm, 5993, rfl⟩
abbrev main_call12_call1_v138 : Ref sig .tc := ⟨.hbm, 5994, rfl⟩
abbrev main_call12_call1_v139 : Ref sig .tc := ⟨.hbm, 5995, rfl⟩
abbrev main_call12_call1_c_35 : Ref sig .tc := ⟨.hbm, 5996, rfl⟩
abbrev main_call12_call1_v140 : Ref sig .tc := ⟨.hbm, 5997, rfl⟩
abbrev main_call12_call1_v141 : Ref sig .tc := ⟨.hbm, 5998, rfl⟩
abbrev main_call12_call1_v142 : Ref sig .tc := ⟨.hbm, 5999, rfl⟩
abbrev main_call12_call1_c_36 : Ref sig .tc := ⟨.hbm, 6000, rfl⟩
abbrev main_call12_call1_v143 : Ref sig .tc := ⟨.hbm, 6001, rfl⟩
abbrev main_call12_call1_v144 : Ref sig .tc := ⟨.hbm, 6002, rfl⟩
abbrev main_call12_call1_c_37 : Ref sig .tc := ⟨.hbm, 6003, rfl⟩
abbrev main_call12_call1_v145 : Ref sig .tc := ⟨.hbm, 6004, rfl⟩
abbrev main_call12_call1_v146 : Ref sig .tc := ⟨.hbm, 6005, rfl⟩
abbrev main_call12_call1_v147 : Ref sig .tc := ⟨.hbm, 6006, rfl⟩
abbrev main_call12_call1_v148 : Ref sig .tc := ⟨.hbm, 6007, rfl⟩
abbrev main_call12_call1_v149 : Ref sig .tc := ⟨.hbm, 6008, rfl⟩
abbrev main_call12_call1_c_38 : Ref sig .tc := ⟨.hbm, 6009, rfl⟩
abbrev main_call12_call1_v150 : Ref sig .tc := ⟨.hbm, 6010, rfl⟩
abbrev main_call12_call1_v151 : Ref sig .tc := ⟨.hbm, 6011, rfl⟩
abbrev main_call12_call1_c_39 : Ref sig .tc := ⟨.hbm, 6012, rfl⟩
abbrev main_call12_call1_v152 : Ref sig .tc := ⟨.hbm, 6013, rfl⟩
abbrev main_call12_call1_v153 : Ref sig .tc := ⟨.hbm, 6014, rfl⟩
abbrev main_call12_call1_v154 : Ref sig .tc := ⟨.hbm, 6015, rfl⟩
abbrev main_call12_call1_v155 : Ref sig .tc := ⟨.hbm, 6016, rfl⟩
abbrev main_call12_call1_v156 : Ref sig .tc := ⟨.hbm, 6017, rfl⟩
abbrev main_call12_call1_c_40 : Ref sig .tc := ⟨.hbm, 6018, rfl⟩
abbrev main_call12_call1_v157 : Ref sig .tc := ⟨.hbm, 6019, rfl⟩
abbrev main_call12_call1_v158 : Ref sig .tc := ⟨.hbm, 6020, rfl⟩
abbrev main_call12_call1_c_41 : Ref sig .tc := ⟨.hbm, 6021, rfl⟩
abbrev main_call12_call1_v159 : Ref sig .tc := ⟨.hbm, 6022, rfl⟩
abbrev main_call12_call1_v160 : Ref sig .tc := ⟨.hbm, 6023, rfl⟩
abbrev main_call12_call1_v161 : Ref sig .tc := ⟨.hbm, 6024, rfl⟩
abbrev main_call12_call1_v162 : Ref sig .tc := ⟨.hbm, 6025, rfl⟩
abbrev main_call12_call1_v163 : Ref sig .tc := ⟨.hbm, 6026, rfl⟩
abbrev main_call12_call1_c_42 : Ref sig .tc := ⟨.hbm, 6027, rfl⟩
abbrev main_call12_call1_v164 : Ref sig .tc := ⟨.hbm, 6028, rfl⟩
abbrev main_call12_call1_v165 : Ref sig .tc := ⟨.hbm, 6029, rfl⟩
abbrev main_call12_call1_c_43 : Ref sig .tc := ⟨.hbm, 6030, rfl⟩
abbrev main_call12_call1_v166 : Ref sig .tc := ⟨.hbm, 6031, rfl⟩
abbrev main_call12_call1_v167 : Ref sig .tc := ⟨.hbm, 6032, rfl⟩
abbrev main_call12_call1_v168 : Ref sig .tc := ⟨.hbm, 6033, rfl⟩
abbrev main_call12_call1_v169 : Ref sig .tc := ⟨.hbm, 6034, rfl⟩
abbrev main_call12_call1_v170 : Ref sig .tc := ⟨.hbm, 6035, rfl⟩
abbrev main_call12_v16_0 : Ref sig .tc := ⟨.hbm, 6036, rfl⟩
abbrev main_call12_call1_v172 : Ref sig .tc := ⟨.hbm, 6037, rfl⟩
abbrev main_call12_call1_v173 : Ref sig .tc := ⟨.hbm, 6038, rfl⟩
abbrev main_call12_call1_c_44 : Ref sig .tc := ⟨.hbm, 6039, rfl⟩
abbrev main_call12_call1_v174 : Ref sig .tc := ⟨.hbm, 6040, rfl⟩
abbrev main_call12_v16_1 : Ref sig .tc := ⟨.hbm, 6041, rfl⟩
abbrev main_call12_v17 : Ref sig .tc := ⟨.hbm, 6042, rfl⟩
abbrev main_call12_v18_0 : Ref sig .tc := ⟨.hbm, 6043, rfl⟩
abbrev main_v55 : Ref sig .tc := ⟨.hbm, 6044, rfl⟩
abbrev main_v56 : Ref sig .tc := ⟨.hbm, 6045, rfl⟩
abbrev main_v57 : Ref sig .tc := ⟨.hbm, 6046, rfl⟩
abbrev main_v58 : Ref sig .tc := ⟨.hbm, 6047, rfl⟩
abbrev main_call13_call0_v0 : Ref sig .tc := ⟨.hbm, 6048, rfl⟩
abbrev main_call13_call0_v1 : Ref sig .tc := ⟨.hbm, 6049, rfl⟩
abbrev main_call13_call0_v2 : Ref sig .tc := ⟨.hbm, 6050, rfl⟩
abbrev main_call13_call0_v3 : Ref sig .tc := ⟨.hbm, 6051, rfl⟩
abbrev main_call13_call0_v4 : Ref sig .tc := ⟨.hbm, 6052, rfl⟩
abbrev main_call13_call0_c : Ref sig .tc := ⟨.hbm, 6053, rfl⟩
abbrev main_call13_call0_v5 : Ref sig .tc := ⟨.hbm, 6054, rfl⟩
abbrev main_call13_call0_v6 : Ref sig .tc := ⟨.hbm, 6055, rfl⟩
abbrev main_call13_call0_c_0 : Ref sig .tc := ⟨.hbm, 6056, rfl⟩
abbrev main_call13_call0_v7 : Ref sig .tc := ⟨.hbm, 6057, rfl⟩
abbrev main_call13_call0_v8 : Ref sig .tc := ⟨.hbm, 6058, rfl⟩
abbrev main_call13_call0_v9 : Ref sig .tc := ⟨.hbm, 6059, rfl⟩
abbrev main_call13_call0_v10 : Ref sig .tc := ⟨.hbm, 6060, rfl⟩
abbrev main_call13_call0_call0_v0 : Ref sig .tc := ⟨.hbm, 6061, rfl⟩
abbrev main_call13_call0_call0_c : Ref sig .tc := ⟨.hbm, 6062, rfl⟩
abbrev main_call13_call0_call0_v1 : Ref sig .tc := ⟨.hbm, 6063, rfl⟩
abbrev main_call13_call0_call0_v2 : Ref sig .tc := ⟨.hbm, 6064, rfl⟩
abbrev main_call13_call0_call0_v3 : Ref sig .tc := ⟨.hbm, 6065, rfl⟩
abbrev main_call13_call0_call0_v4 : Ref sig .tc := ⟨.hbm, 6066, rfl⟩
abbrev main_call13_call0_call0_v5 : Ref sig .tc := ⟨.hbm, 6067, rfl⟩
abbrev main_call13_call0_call0_v6 : Ref sig .tc := ⟨.hbm, 6068, rfl⟩
abbrev main_call13_call0_call0_c_0 : Ref sig .tc := ⟨.hbm, 6069, rfl⟩
abbrev main_call13_call0_call0_v7 : Ref sig .tc := ⟨.hbm, 6070, rfl⟩
abbrev main_call13_call0_call0_v8 : Ref sig .tc := ⟨.hbm, 6071, rfl⟩
abbrev main_call13_call0_call0_c_1 : Ref sig .tc := ⟨.hbm, 6072, rfl⟩
abbrev main_call13_call0_call0_v9 : Ref sig .tc := ⟨.hbm, 6073, rfl⟩
abbrev main_call13_call0_call0_v10 : Ref sig .tc := ⟨.hbm, 6074, rfl⟩
abbrev main_call13_call0_call0_v11 : Ref sig .tc := ⟨.hbm, 6075, rfl⟩
abbrev main_call13_call0_call0_v12 : Ref sig .tc := ⟨.hbm, 6076, rfl⟩
abbrev main_call13_call0_call0_v13 : Ref sig .tc := ⟨.hbm, 6077, rfl⟩
abbrev main_call13_call0_call0_c_2 : Ref sig .tc := ⟨.hbm, 6078, rfl⟩
abbrev main_call13_call0_call0_v14 : Ref sig .tc := ⟨.hbm, 6079, rfl⟩
abbrev main_call13_call0_call0_v15 : Ref sig .tc := ⟨.hbm, 6080, rfl⟩
abbrev main_call13_call0_call0_c_3 : Ref sig .tc := ⟨.hbm, 6081, rfl⟩
abbrev main_call13_call0_call0_v16 : Ref sig .tc := ⟨.hbm, 6082, rfl⟩
abbrev main_call13_call0_call0_v17 : Ref sig .tc := ⟨.hbm, 6083, rfl⟩
abbrev main_call13_call0_call0_v18 : Ref sig .tc := ⟨.hbm, 6084, rfl⟩
abbrev main_call13_call0_call0_v19 : Ref sig .tc := ⟨.hbm, 6085, rfl⟩
abbrev main_call13_call0_call0_v20 : Ref sig .tc := ⟨.hbm, 6086, rfl⟩
abbrev main_call13_call0_call0_c_4 : Ref sig .tc := ⟨.hbm, 6087, rfl⟩
abbrev main_call13_call0_call0_v21 : Ref sig .tc := ⟨.hbm, 6088, rfl⟩
abbrev main_call13_call0_call0_v22 : Ref sig .tc := ⟨.hbm, 6089, rfl⟩
abbrev main_call13_call0_call0_c_5 : Ref sig .tc := ⟨.hbm, 6090, rfl⟩
abbrev main_call13_call0_call0_v23 : Ref sig .tc := ⟨.hbm, 6091, rfl⟩
abbrev main_call13_call0_call0_v24 : Ref sig .tc := ⟨.hbm, 6092, rfl⟩
abbrev main_call13_call0_call0_v25 : Ref sig .tc := ⟨.hbm, 6093, rfl⟩
abbrev main_call13_call0_call0_v26 : Ref sig .tc := ⟨.hbm, 6094, rfl⟩
abbrev main_call13_call0_call0_v27 : Ref sig .tc := ⟨.hbm, 6095, rfl⟩
abbrev main_call13_call0_call0_c_6 : Ref sig .tc := ⟨.hbm, 6096, rfl⟩
abbrev main_call13_call0_call0_v28 : Ref sig .tc := ⟨.hbm, 6097, rfl⟩
abbrev main_call13_call0_call0_v29 : Ref sig .tc := ⟨.hbm, 6098, rfl⟩
abbrev main_call13_call0_call0_c_7 : Ref sig .tc := ⟨.hbm, 6099, rfl⟩
abbrev main_call13_call0_call0_v30 : Ref sig .tc := ⟨.hbm, 6100, rfl⟩
abbrev main_call13_call0_call0_v31 : Ref sig .tc := ⟨.hbm, 6101, rfl⟩
abbrev main_call13_call0_call0_v32 : Ref sig .tc := ⟨.hbm, 6102, rfl⟩
abbrev main_call13_call0_call0_v33 : Ref sig .tc := ⟨.hbm, 6103, rfl⟩
abbrev main_call13_call0_call0_v34 : Ref sig .tc := ⟨.hbm, 6104, rfl⟩
abbrev main_call13_call0_call0_v35 : Ref sig .tc := ⟨.hbm, 6105, rfl⟩
abbrev main_call13_call0_call0_v36 : Ref sig .tc := ⟨.hbm, 6106, rfl⟩
abbrev main_call13_call0_call0_v37 : Ref sig .tc := ⟨.hbm, 6107, rfl⟩
abbrev main_call13_call0_call0_c_8 : Ref sig .tc := ⟨.hbm, 6108, rfl⟩
abbrev main_call13_call0_call0_v38 : Ref sig .tc := ⟨.hbm, 6109, rfl⟩
abbrev main_call13_call0_call0_v39 : Ref sig .tc := ⟨.hbm, 6110, rfl⟩
abbrev main_call13_call0_call0_v40 : Ref sig .tc := ⟨.hbm, 6111, rfl⟩
abbrev main_call13_call0_call0_c_9 : Ref sig .tc := ⟨.hbm, 6112, rfl⟩
abbrev main_call13_call0_call0_v41 : Ref sig .tc := ⟨.hbm, 6113, rfl⟩
abbrev main_call13_call0_call0_v42 : Ref sig .tc := ⟨.hbm, 6114, rfl⟩
abbrev main_call13_call0_call0_c_10 : Ref sig .tc := ⟨.hbm, 6115, rfl⟩
abbrev main_call13_call0_call0_v43 : Ref sig .tc := ⟨.hbm, 6116, rfl⟩
abbrev main_call13_call0_call0_v44 : Ref sig .tc := ⟨.hbm, 6117, rfl⟩
abbrev main_call13_call0_call0_v45 : Ref sig .tc := ⟨.hbm, 6118, rfl⟩
abbrev main_call13_call0_call0_v46 : Ref sig .tc := ⟨.hbm, 6119, rfl⟩
abbrev main_call13_call0_call0_v47 : Ref sig .tc := ⟨.hbm, 6120, rfl⟩
abbrev main_call13_call0_call0_c_11 : Ref sig .tc := ⟨.hbm, 6121, rfl⟩
abbrev main_call13_call0_call0_v48 : Ref sig .tc := ⟨.hbm, 6122, rfl⟩
abbrev main_call13_call0_call0_v49 : Ref sig .tc := ⟨.hbm, 6123, rfl⟩
abbrev main_call13_call0_call0_c_12 : Ref sig .tc := ⟨.hbm, 6124, rfl⟩
abbrev main_call13_call0_call0_v50 : Ref sig .tc := ⟨.hbm, 6125, rfl⟩
abbrev main_call13_call0_call0_v51 : Ref sig .tc := ⟨.hbm, 6126, rfl⟩
abbrev main_call13_call0_call0_v52 : Ref sig .tc := ⟨.hbm, 6127, rfl⟩
abbrev main_call13_call0_call0_v53 : Ref sig .tc := ⟨.hbm, 6128, rfl⟩
abbrev main_call13_call0_call0_v54 : Ref sig .tc := ⟨.hbm, 6129, rfl⟩
abbrev main_call13_call0_call0_c_13 : Ref sig .tc := ⟨.hbm, 6130, rfl⟩
abbrev main_call13_call0_call0_v55 : Ref sig .tc := ⟨.hbm, 6131, rfl⟩
abbrev main_call13_call0_call0_v56 : Ref sig .tc := ⟨.hbm, 6132, rfl⟩
abbrev main_call13_call0_call0_c_14 : Ref sig .tc := ⟨.hbm, 6133, rfl⟩
abbrev main_call13_call0_call0_v57 : Ref sig .tc := ⟨.hbm, 6134, rfl⟩
abbrev main_call13_call0_call0_v58 : Ref sig .tc := ⟨.hbm, 6135, rfl⟩
abbrev main_call13_call0_call0_v59 : Ref sig .tc := ⟨.hbm, 6136, rfl⟩
abbrev main_call13_call0_call0_v60 : Ref sig .tc := ⟨.hbm, 6137, rfl⟩
abbrev main_call13_call0_call0_v61 : Ref sig .tc := ⟨.hbm, 6138, rfl⟩
abbrev main_call13_call0_call0_c_15 : Ref sig .tc := ⟨.hbm, 6139, rfl⟩
abbrev main_call13_call0_call0_v62 : Ref sig .tc := ⟨.hbm, 6140, rfl⟩
abbrev main_call13_call0_call0_v63 : Ref sig .tc := ⟨.hbm, 6141, rfl⟩
abbrev main_call13_call0_call0_c_16 : Ref sig .tc := ⟨.hbm, 6142, rfl⟩
abbrev main_call13_call0_call0_v64 : Ref sig .tc := ⟨.hbm, 6143, rfl⟩
abbrev main_call13_call0_call0_v65 : Ref sig .tc := ⟨.hbm, 6144, rfl⟩
abbrev main_call13_call0_call0_v66 : Ref sig .tc := ⟨.hbm, 6145, rfl⟩
abbrev main_call13_call0_call0_v67 : Ref sig .tc := ⟨.hbm, 6146, rfl⟩
abbrev main_call13_call0_call0_v68 : Ref sig .tc := ⟨.hbm, 6147, rfl⟩
abbrev main_call13_call0_call0_v69 : Ref sig .tc := ⟨.hbm, 6148, rfl⟩
abbrev main_call13_call0_call0_v70 : Ref sig .tc := ⟨.hbm, 6149, rfl⟩
abbrev main_call13_call0_call0_v71 : Ref sig .tc := ⟨.hbm, 6150, rfl⟩
abbrev main_call13_call0_call0_c_17 : Ref sig .tc := ⟨.hbm, 6151, rfl⟩
abbrev main_call13_call0_call0_v72 : Ref sig .tc := ⟨.hbm, 6152, rfl⟩
abbrev main_call13_call0_call0_v73 : Ref sig .tc := ⟨.hbm, 6153, rfl⟩
abbrev main_call13_call0_call0_v74 : Ref sig .tc := ⟨.hbm, 6154, rfl⟩
abbrev main_call13_call0_call0_c_18 : Ref sig .tc := ⟨.hbm, 6155, rfl⟩
abbrev main_call13_call0_call0_v75 : Ref sig .tc := ⟨.hbm, 6156, rfl⟩
abbrev main_call13_call0_call0_v76 : Ref sig .tc := ⟨.hbm, 6157, rfl⟩
abbrev main_call13_call0_call0_c_19 : Ref sig .tc := ⟨.hbm, 6158, rfl⟩
abbrev main_call13_call0_call0_v77 : Ref sig .tc := ⟨.hbm, 6159, rfl⟩
abbrev main_call13_call0_call0_v78 : Ref sig .tc := ⟨.hbm, 6160, rfl⟩
abbrev main_call13_call0_call0_v79 : Ref sig .tc := ⟨.hbm, 6161, rfl⟩
abbrev main_call13_call0_call0_v80 : Ref sig .tc := ⟨.hbm, 6162, rfl⟩
abbrev main_call13_call0_call0_v81 : Ref sig .tc := ⟨.hbm, 6163, rfl⟩
abbrev main_call13_call0_call0_c_20 : Ref sig .tc := ⟨.hbm, 6164, rfl⟩
abbrev main_call13_call0_call0_v82 : Ref sig .tc := ⟨.hbm, 6165, rfl⟩
abbrev main_call13_call0_call0_v83 : Ref sig .tc := ⟨.hbm, 6166, rfl⟩
abbrev main_call13_call0_call0_c_21 : Ref sig .tc := ⟨.hbm, 6167, rfl⟩
abbrev main_call13_call0_call0_v84 : Ref sig .tc := ⟨.hbm, 6168, rfl⟩
abbrev main_call13_call0_call0_v85 : Ref sig .tc := ⟨.hbm, 6169, rfl⟩
abbrev main_call13_call0_call0_v86 : Ref sig .tc := ⟨.hbm, 6170, rfl⟩
abbrev main_call13_call0_call0_v87 : Ref sig .tc := ⟨.hbm, 6171, rfl⟩
abbrev main_call13_call0_call0_v88 : Ref sig .tc := ⟨.hbm, 6172, rfl⟩
abbrev main_call13_call0_call0_c_22 : Ref sig .tc := ⟨.hbm, 6173, rfl⟩
abbrev main_call13_call0_call0_v89 : Ref sig .tc := ⟨.hbm, 6174, rfl⟩
abbrev main_call13_call0_call0_v90 : Ref sig .tc := ⟨.hbm, 6175, rfl⟩
abbrev main_call13_call0_call0_c_23 : Ref sig .tc := ⟨.hbm, 6176, rfl⟩
abbrev main_call13_call0_call0_v91 : Ref sig .tc := ⟨.hbm, 6177, rfl⟩
abbrev main_call13_call0_call0_v92 : Ref sig .tc := ⟨.hbm, 6178, rfl⟩
abbrev main_call13_call0_call0_v93 : Ref sig .tc := ⟨.hbm, 6179, rfl⟩
abbrev main_call13_call0_call0_v94 : Ref sig .tc := ⟨.hbm, 6180, rfl⟩
abbrev main_call13_call0_call0_v95 : Ref sig .tc := ⟨.hbm, 6181, rfl⟩
abbrev main_call13_call0_call0_c_24 : Ref sig .tc := ⟨.hbm, 6182, rfl⟩
abbrev main_call13_call0_call0_v96 : Ref sig .tc := ⟨.hbm, 6183, rfl⟩
abbrev main_call13_call0_call0_v97 : Ref sig .tc := ⟨.hbm, 6184, rfl⟩
abbrev main_call13_call0_call0_c_25 : Ref sig .tc := ⟨.hbm, 6185, rfl⟩
abbrev main_call13_call0_call0_v98 : Ref sig .tc := ⟨.hbm, 6186, rfl⟩
abbrev main_call13_call0_call0_v99 : Ref sig .tc := ⟨.hbm, 6187, rfl⟩
abbrev main_call13_call0_call0_v100 : Ref sig .tc := ⟨.hbm, 6188, rfl⟩
abbrev main_call13_call0_call0_v101 : Ref sig .tc := ⟨.hbm, 6189, rfl⟩
abbrev main_call13_call0_call0_v102 : Ref sig .tc := ⟨.hbm, 6190, rfl⟩
abbrev main_call13_call0_call0_v103 : Ref sig .tc := ⟨.hbm, 6191, rfl⟩
abbrev main_call13_call0_call0_v104 : Ref sig .tc := ⟨.hbm, 6192, rfl⟩
abbrev main_call13_call0_call0_v105 : Ref sig .tc := ⟨.hbm, 6193, rfl⟩
abbrev main_call13_call0_call0_c_26 : Ref sig .tc := ⟨.hbm, 6194, rfl⟩
abbrev main_call13_call0_call0_v106 : Ref sig .tc := ⟨.hbm, 6195, rfl⟩
abbrev main_call13_call0_call0_v107 : Ref sig .tc := ⟨.hbm, 6196, rfl⟩
abbrev main_call13_call0_call0_v108 : Ref sig .tc := ⟨.hbm, 6197, rfl⟩
abbrev main_call13_call0_call0_c_27 : Ref sig .tc := ⟨.hbm, 6198, rfl⟩
abbrev main_call13_call0_call0_v109 : Ref sig .tc := ⟨.hbm, 6199, rfl⟩
abbrev main_call13_call0_call0_v110 : Ref sig .tc := ⟨.hbm, 6200, rfl⟩
abbrev main_call13_call0_call0_c_28 : Ref sig .tc := ⟨.hbm, 6201, rfl⟩
abbrev main_call13_call0_call0_v111 : Ref sig .tc := ⟨.hbm, 6202, rfl⟩
abbrev main_call13_call0_call0_v112 : Ref sig .tc := ⟨.hbm, 6203, rfl⟩
abbrev main_call13_call0_call0_v113 : Ref sig .tc := ⟨.hbm, 6204, rfl⟩
abbrev main_call13_call0_call0_v114 : Ref sig .tc := ⟨.hbm, 6205, rfl⟩
abbrev main_call13_call0_call0_v115 : Ref sig .tc := ⟨.hbm, 6206, rfl⟩
abbrev main_call13_call0_call0_c_29 : Ref sig .tc := ⟨.hbm, 6207, rfl⟩
abbrev main_call13_call0_call0_v116 : Ref sig .tc := ⟨.hbm, 6208, rfl⟩
abbrev main_call13_call0_call0_v117 : Ref sig .tc := ⟨.hbm, 6209, rfl⟩
abbrev main_call13_call0_call0_c_30 : Ref sig .tc := ⟨.hbm, 6210, rfl⟩
abbrev main_call13_call0_call0_v118 : Ref sig .tc := ⟨.hbm, 6211, rfl⟩
abbrev main_call13_call0_call0_v119 : Ref sig .tc := ⟨.hbm, 6212, rfl⟩
abbrev main_call13_call0_call0_v120 : Ref sig .tc := ⟨.hbm, 6213, rfl⟩
abbrev main_call13_call0_call0_v121 : Ref sig .tc := ⟨.hbm, 6214, rfl⟩
abbrev main_call13_call0_call0_v122 : Ref sig .tc := ⟨.hbm, 6215, rfl⟩
abbrev main_call13_call0_call0_c_31 : Ref sig .tc := ⟨.hbm, 6216, rfl⟩
abbrev main_call13_call0_call0_v123 : Ref sig .tc := ⟨.hbm, 6217, rfl⟩
abbrev main_call13_call0_call0_v124 : Ref sig .tc := ⟨.hbm, 6218, rfl⟩
abbrev main_call13_call0_call0_c_32 : Ref sig .tc := ⟨.hbm, 6219, rfl⟩
abbrev main_call13_call0_call0_v125 : Ref sig .tc := ⟨.hbm, 6220, rfl⟩
abbrev main_call13_call0_call0_v126 : Ref sig .tc := ⟨.hbm, 6221, rfl⟩
abbrev main_call13_call0_call0_v127 : Ref sig .tc := ⟨.hbm, 6222, rfl⟩
abbrev main_call13_call0_call0_v128 : Ref sig .tc := ⟨.hbm, 6223, rfl⟩
abbrev main_call13_call0_call0_v129 : Ref sig .tc := ⟨.hbm, 6224, rfl⟩
abbrev main_call13_call0_call0_c_33 : Ref sig .tc := ⟨.hbm, 6225, rfl⟩
abbrev main_call13_call0_call0_v130 : Ref sig .tc := ⟨.hbm, 6226, rfl⟩
abbrev main_call13_call0_call0_v131 : Ref sig .tc := ⟨.hbm, 6227, rfl⟩
abbrev main_call13_call0_call0_c_34 : Ref sig .tc := ⟨.hbm, 6228, rfl⟩
abbrev main_call13_call0_call0_v132 : Ref sig .tc := ⟨.hbm, 6229, rfl⟩
abbrev main_call13_call0_call0_v133 : Ref sig .tc := ⟨.hbm, 6230, rfl⟩
abbrev main_call13_call0_call0_v134 : Ref sig .tc := ⟨.hbm, 6231, rfl⟩
abbrev main_call13_call0_call0_v135 : Ref sig .tc := ⟨.hbm, 6232, rfl⟩
abbrev main_call13_call0_call0_v136 : Ref sig .tc := ⟨.hbm, 6233, rfl⟩
abbrev main_call13_call0_call0_v137 : Ref sig .tc := ⟨.hbm, 6234, rfl⟩
abbrev main_call13_call0_call0_v138 : Ref sig .tc := ⟨.hbm, 6235, rfl⟩
abbrev main_call13_call0_call0_v139 : Ref sig .tc := ⟨.hbm, 6236, rfl⟩
abbrev main_call13_call0_call0_c_35 : Ref sig .tc := ⟨.hbm, 6237, rfl⟩
abbrev main_call13_call0_call0_v140 : Ref sig .tc := ⟨.hbm, 6238, rfl⟩
abbrev main_call13_call0_call0_v141 : Ref sig .tc := ⟨.hbm, 6239, rfl⟩
abbrev main_call13_call0_call0_v142 : Ref sig .tc := ⟨.hbm, 6240, rfl⟩
abbrev main_call13_call0_call0_c_36 : Ref sig .tc := ⟨.hbm, 6241, rfl⟩
abbrev main_call13_call0_call0_v143 : Ref sig .tc := ⟨.hbm, 6242, rfl⟩
abbrev main_call13_call0_call0_v144 : Ref sig .tc := ⟨.hbm, 6243, rfl⟩
abbrev main_call13_call0_call0_c_37 : Ref sig .tc := ⟨.hbm, 6244, rfl⟩
abbrev main_call13_call0_call0_v145 : Ref sig .tc := ⟨.hbm, 6245, rfl⟩
abbrev main_call13_call0_call0_v146 : Ref sig .tc := ⟨.hbm, 6246, rfl⟩
abbrev main_call13_call0_call0_v147 : Ref sig .tc := ⟨.hbm, 6247, rfl⟩
abbrev main_call13_call0_call0_v148 : Ref sig .tc := ⟨.hbm, 6248, rfl⟩
abbrev main_call13_call0_call0_v149 : Ref sig .tc := ⟨.hbm, 6249, rfl⟩
abbrev main_call13_call0_call0_c_38 : Ref sig .tc := ⟨.hbm, 6250, rfl⟩
abbrev main_call13_call0_call0_v150 : Ref sig .tc := ⟨.hbm, 6251, rfl⟩
abbrev main_call13_call0_call0_v151 : Ref sig .tc := ⟨.hbm, 6252, rfl⟩
abbrev main_call13_call0_call0_c_39 : Ref sig .tc := ⟨.hbm, 6253, rfl⟩
abbrev main_call13_call0_call0_v152 : Ref sig .tc := ⟨.hbm, 6254, rfl⟩
abbrev main_call13_call0_call0_v153 : Ref sig .tc := ⟨.hbm, 6255, rfl⟩
abbrev main_call13_call0_call0_v154 : Ref sig .tc := ⟨.hbm, 6256, rfl⟩
abbrev main_call13_call0_call0_v155 : Ref sig .tc := ⟨.hbm, 6257, rfl⟩
abbrev main_call13_call0_call0_v156 : Ref sig .tc := ⟨.hbm, 6258, rfl⟩
abbrev main_call13_call0_call0_c_40 : Ref sig .tc := ⟨.hbm, 6259, rfl⟩
abbrev main_call13_call0_call0_v157 : Ref sig .tc := ⟨.hbm, 6260, rfl⟩
abbrev main_call13_call0_call0_v158 : Ref sig .tc := ⟨.hbm, 6261, rfl⟩
abbrev main_call13_call0_call0_c_41 : Ref sig .tc := ⟨.hbm, 6262, rfl⟩
abbrev main_call13_call0_call0_v159 : Ref sig .tc := ⟨.hbm, 6263, rfl⟩
abbrev main_call13_call0_call0_v160 : Ref sig .tc := ⟨.hbm, 6264, rfl⟩
abbrev main_call13_call0_call0_v161 : Ref sig .tc := ⟨.hbm, 6265, rfl⟩
abbrev main_call13_call0_call0_v162 : Ref sig .tc := ⟨.hbm, 6266, rfl⟩
abbrev main_call13_call0_call0_v163 : Ref sig .tc := ⟨.hbm, 6267, rfl⟩
abbrev main_call13_call0_call0_c_42 : Ref sig .tc := ⟨.hbm, 6268, rfl⟩
abbrev main_call13_call0_call0_v164 : Ref sig .tc := ⟨.hbm, 6269, rfl⟩
abbrev main_call13_call0_call0_v165 : Ref sig .tc := ⟨.hbm, 6270, rfl⟩
abbrev main_call13_call0_call0_c_43 : Ref sig .tc := ⟨.hbm, 6271, rfl⟩
abbrev main_call13_call0_call0_v166 : Ref sig .tc := ⟨.hbm, 6272, rfl⟩
abbrev main_call13_call0_call0_v167 : Ref sig .tc := ⟨.hbm, 6273, rfl⟩
abbrev main_call13_call0_call0_v168 : Ref sig .tc := ⟨.hbm, 6274, rfl⟩
abbrev main_call13_call0_call0_v169 : Ref sig .tc := ⟨.hbm, 6275, rfl⟩
abbrev main_call13_call0_call0_v170 : Ref sig .tc := ⟨.hbm, 6276, rfl⟩
abbrev main_call13_call0_v11_0 : Ref sig .tc := ⟨.hbm, 6277, rfl⟩
abbrev main_call13_call0_call0_v172 : Ref sig .tc := ⟨.hbm, 6278, rfl⟩
abbrev main_call13_call0_call0_v173 : Ref sig .tc := ⟨.hbm, 6279, rfl⟩
abbrev main_call13_call0_call0_c_44 : Ref sig .tc := ⟨.hbm, 6280, rfl⟩
abbrev main_call13_call0_call0_v174 : Ref sig .tc := ⟨.hbm, 6281, rfl⟩
abbrev main_call13_call0_v11_1 : Ref sig .tc := ⟨.hbm, 6282, rfl⟩
abbrev main_call13_call0_v12 : Ref sig .tc := ⟨.hbm, 6283, rfl⟩
abbrev main_call13_call0_v13 : Ref sig .tc := ⟨.hbm, 6284, rfl⟩
abbrev main_call13_v0 : Ref sig .tc := ⟨.hbm, 6285, rfl⟩
abbrev main_call13_v1 : Ref sig .tc := ⟨.hbm, 6286, rfl⟩
abbrev main_call13_v2 : Ref sig .tc := ⟨.hbm, 6287, rfl⟩
abbrev main_call13_v3 : Ref sig .tc := ⟨.hbm, 6288, rfl⟩
abbrev main_call13_v4 : Ref sig .tc := ⟨.hbm, 6289, rfl⟩
abbrev main_call13_v5 : Ref sig .tc := ⟨.hbm, 6290, rfl⟩
abbrev main_call13_v6 : Ref sig .tc := ⟨.hbm, 6291, rfl⟩
abbrev main_call13_v7 : Ref sig .tc := ⟨.hbm, 6292, rfl⟩
abbrev main_call13_v8 : Ref sig .tc := ⟨.hbm, 6293, rfl⟩
abbrev main_call13_v9 : Ref sig .tc := ⟨.hbm, 6294, rfl⟩
abbrev main_call13_c : Ref sig .tc := ⟨.hbm, 6295, rfl⟩
abbrev main_call13_v10 : Ref sig .tc := ⟨.hbm, 6296, rfl⟩
abbrev main_call13_v11 : Ref sig .tc := ⟨.hbm, 6297, rfl⟩
abbrev main_call13_c_0 : Ref sig .tc := ⟨.hbm, 6298, rfl⟩
abbrev main_call13_v12 : Ref sig .tc := ⟨.hbm, 6299, rfl⟩
abbrev main_call13_v13 : Ref sig .tc := ⟨.hbm, 6300, rfl⟩
abbrev main_call13_v14 : Ref sig .tc := ⟨.hbm, 6301, rfl⟩
abbrev main_call13_v15 : Ref sig .tc := ⟨.hbm, 6302, rfl⟩
abbrev main_call13_call1_v0 : Ref sig .tc := ⟨.hbm, 6303, rfl⟩
abbrev main_call13_call1_c : Ref sig .tc := ⟨.hbm, 6304, rfl⟩
abbrev main_call13_call1_v1 : Ref sig .tc := ⟨.hbm, 6305, rfl⟩
abbrev main_call13_call1_v2 : Ref sig .tc := ⟨.hbm, 6306, rfl⟩
abbrev main_call13_call1_v3 : Ref sig .tc := ⟨.hbm, 6307, rfl⟩
abbrev main_call13_call1_v4 : Ref sig .tc := ⟨.hbm, 6308, rfl⟩
abbrev main_call13_call1_v5 : Ref sig .tc := ⟨.hbm, 6309, rfl⟩
abbrev main_call13_call1_v6 : Ref sig .tc := ⟨.hbm, 6310, rfl⟩
abbrev main_call13_call1_c_0 : Ref sig .tc := ⟨.hbm, 6311, rfl⟩
abbrev main_call13_call1_v7 : Ref sig .tc := ⟨.hbm, 6312, rfl⟩
abbrev main_call13_call1_v8 : Ref sig .tc := ⟨.hbm, 6313, rfl⟩
abbrev main_call13_call1_c_1 : Ref sig .tc := ⟨.hbm, 6314, rfl⟩
abbrev main_call13_call1_v9 : Ref sig .tc := ⟨.hbm, 6315, rfl⟩
abbrev main_call13_call1_v10 : Ref sig .tc := ⟨.hbm, 6316, rfl⟩
abbrev main_call13_call1_v11 : Ref sig .tc := ⟨.hbm, 6317, rfl⟩
abbrev main_call13_call1_v12 : Ref sig .tc := ⟨.hbm, 6318, rfl⟩
abbrev main_call13_call1_v13 : Ref sig .tc := ⟨.hbm, 6319, rfl⟩
abbrev main_call13_call1_c_2 : Ref sig .tc := ⟨.hbm, 6320, rfl⟩
abbrev main_call13_call1_v14 : Ref sig .tc := ⟨.hbm, 6321, rfl⟩
abbrev main_call13_call1_v15 : Ref sig .tc := ⟨.hbm, 6322, rfl⟩
abbrev main_call13_call1_c_3 : Ref sig .tc := ⟨.hbm, 6323, rfl⟩
abbrev main_call13_call1_v16 : Ref sig .tc := ⟨.hbm, 6324, rfl⟩
abbrev main_call13_call1_v17 : Ref sig .tc := ⟨.hbm, 6325, rfl⟩
abbrev main_call13_call1_v18 : Ref sig .tc := ⟨.hbm, 6326, rfl⟩
abbrev main_call13_call1_v19 : Ref sig .tc := ⟨.hbm, 6327, rfl⟩
abbrev main_call13_call1_v20 : Ref sig .tc := ⟨.hbm, 6328, rfl⟩
abbrev main_call13_call1_c_4 : Ref sig .tc := ⟨.hbm, 6329, rfl⟩
abbrev main_call13_call1_v21 : Ref sig .tc := ⟨.hbm, 6330, rfl⟩
abbrev main_call13_call1_v22 : Ref sig .tc := ⟨.hbm, 6331, rfl⟩
abbrev main_call13_call1_c_5 : Ref sig .tc := ⟨.hbm, 6332, rfl⟩
abbrev main_call13_call1_v23 : Ref sig .tc := ⟨.hbm, 6333, rfl⟩
abbrev main_call13_call1_v24 : Ref sig .tc := ⟨.hbm, 6334, rfl⟩
abbrev main_call13_call1_v25 : Ref sig .tc := ⟨.hbm, 6335, rfl⟩
abbrev main_call13_call1_v26 : Ref sig .tc := ⟨.hbm, 6336, rfl⟩
abbrev main_call13_call1_v27 : Ref sig .tc := ⟨.hbm, 6337, rfl⟩
abbrev main_call13_call1_c_6 : Ref sig .tc := ⟨.hbm, 6338, rfl⟩
abbrev main_call13_call1_v28 : Ref sig .tc := ⟨.hbm, 6339, rfl⟩
abbrev main_call13_call1_v29 : Ref sig .tc := ⟨.hbm, 6340, rfl⟩
abbrev main_call13_call1_c_7 : Ref sig .tc := ⟨.hbm, 6341, rfl⟩
abbrev main_call13_call1_v30 : Ref sig .tc := ⟨.hbm, 6342, rfl⟩
abbrev main_call13_call1_v31 : Ref sig .tc := ⟨.hbm, 6343, rfl⟩
abbrev main_call13_call1_v32 : Ref sig .tc := ⟨.hbm, 6344, rfl⟩
abbrev main_call13_call1_v33 : Ref sig .tc := ⟨.hbm, 6345, rfl⟩
abbrev main_call13_call1_v34 : Ref sig .tc := ⟨.hbm, 6346, rfl⟩
abbrev main_call13_call1_v35 : Ref sig .tc := ⟨.hbm, 6347, rfl⟩
abbrev main_call13_call1_v36 : Ref sig .tc := ⟨.hbm, 6348, rfl⟩
abbrev main_call13_call1_v37 : Ref sig .tc := ⟨.hbm, 6349, rfl⟩
abbrev main_call13_call1_c_8 : Ref sig .tc := ⟨.hbm, 6350, rfl⟩
abbrev main_call13_call1_v38 : Ref sig .tc := ⟨.hbm, 6351, rfl⟩
abbrev main_call13_call1_v39 : Ref sig .tc := ⟨.hbm, 6352, rfl⟩
abbrev main_call13_call1_v40 : Ref sig .tc := ⟨.hbm, 6353, rfl⟩
abbrev main_call13_call1_c_9 : Ref sig .tc := ⟨.hbm, 6354, rfl⟩
abbrev main_call13_call1_v41 : Ref sig .tc := ⟨.hbm, 6355, rfl⟩
abbrev main_call13_call1_v42 : Ref sig .tc := ⟨.hbm, 6356, rfl⟩
abbrev main_call13_call1_c_10 : Ref sig .tc := ⟨.hbm, 6357, rfl⟩
abbrev main_call13_call1_v43 : Ref sig .tc := ⟨.hbm, 6358, rfl⟩
abbrev main_call13_call1_v44 : Ref sig .tc := ⟨.hbm, 6359, rfl⟩
abbrev main_call13_call1_v45 : Ref sig .tc := ⟨.hbm, 6360, rfl⟩
abbrev main_call13_call1_v46 : Ref sig .tc := ⟨.hbm, 6361, rfl⟩
abbrev main_call13_call1_v47 : Ref sig .tc := ⟨.hbm, 6362, rfl⟩
abbrev main_call13_call1_c_11 : Ref sig .tc := ⟨.hbm, 6363, rfl⟩
abbrev main_call13_call1_v48 : Ref sig .tc := ⟨.hbm, 6364, rfl⟩
abbrev main_call13_call1_v49 : Ref sig .tc := ⟨.hbm, 6365, rfl⟩
abbrev main_call13_call1_c_12 : Ref sig .tc := ⟨.hbm, 6366, rfl⟩
abbrev main_call13_call1_v50 : Ref sig .tc := ⟨.hbm, 6367, rfl⟩
abbrev main_call13_call1_v51 : Ref sig .tc := ⟨.hbm, 6368, rfl⟩
abbrev main_call13_call1_v52 : Ref sig .tc := ⟨.hbm, 6369, rfl⟩
abbrev main_call13_call1_v53 : Ref sig .tc := ⟨.hbm, 6370, rfl⟩
abbrev main_call13_call1_v54 : Ref sig .tc := ⟨.hbm, 6371, rfl⟩
abbrev main_call13_call1_c_13 : Ref sig .tc := ⟨.hbm, 6372, rfl⟩
abbrev main_call13_call1_v55 : Ref sig .tc := ⟨.hbm, 6373, rfl⟩
abbrev main_call13_call1_v56 : Ref sig .tc := ⟨.hbm, 6374, rfl⟩
abbrev main_call13_call1_c_14 : Ref sig .tc := ⟨.hbm, 6375, rfl⟩
abbrev main_call13_call1_v57 : Ref sig .tc := ⟨.hbm, 6376, rfl⟩
abbrev main_call13_call1_v58 : Ref sig .tc := ⟨.hbm, 6377, rfl⟩
abbrev main_call13_call1_v59 : Ref sig .tc := ⟨.hbm, 6378, rfl⟩
abbrev main_call13_call1_v60 : Ref sig .tc := ⟨.hbm, 6379, rfl⟩
abbrev main_call13_call1_v61 : Ref sig .tc := ⟨.hbm, 6380, rfl⟩
abbrev main_call13_call1_c_15 : Ref sig .tc := ⟨.hbm, 6381, rfl⟩
abbrev main_call13_call1_v62 : Ref sig .tc := ⟨.hbm, 6382, rfl⟩
abbrev main_call13_call1_v63 : Ref sig .tc := ⟨.hbm, 6383, rfl⟩
abbrev main_call13_call1_c_16 : Ref sig .tc := ⟨.hbm, 6384, rfl⟩
abbrev main_call13_call1_v64 : Ref sig .tc := ⟨.hbm, 6385, rfl⟩
abbrev main_call13_call1_v65 : Ref sig .tc := ⟨.hbm, 6386, rfl⟩
abbrev main_call13_call1_v66 : Ref sig .tc := ⟨.hbm, 6387, rfl⟩
abbrev main_call13_call1_v67 : Ref sig .tc := ⟨.hbm, 6388, rfl⟩
abbrev main_call13_call1_v68 : Ref sig .tc := ⟨.hbm, 6389, rfl⟩
abbrev main_call13_call1_v69 : Ref sig .tc := ⟨.hbm, 6390, rfl⟩
abbrev main_call13_call1_v70 : Ref sig .tc := ⟨.hbm, 6391, rfl⟩
abbrev main_call13_call1_v71 : Ref sig .tc := ⟨.hbm, 6392, rfl⟩
abbrev main_call13_call1_c_17 : Ref sig .tc := ⟨.hbm, 6393, rfl⟩
abbrev main_call13_call1_v72 : Ref sig .tc := ⟨.hbm, 6394, rfl⟩
abbrev main_call13_call1_v73 : Ref sig .tc := ⟨.hbm, 6395, rfl⟩
abbrev main_call13_call1_v74 : Ref sig .tc := ⟨.hbm, 6396, rfl⟩
abbrev main_call13_call1_c_18 : Ref sig .tc := ⟨.hbm, 6397, rfl⟩
abbrev main_call13_call1_v75 : Ref sig .tc := ⟨.hbm, 6398, rfl⟩
abbrev main_call13_call1_v76 : Ref sig .tc := ⟨.hbm, 6399, rfl⟩
abbrev main_call13_call1_c_19 : Ref sig .tc := ⟨.hbm, 6400, rfl⟩
abbrev main_call13_call1_v77 : Ref sig .tc := ⟨.hbm, 6401, rfl⟩
abbrev main_call13_call1_v78 : Ref sig .tc := ⟨.hbm, 6402, rfl⟩
abbrev main_call13_call1_v79 : Ref sig .tc := ⟨.hbm, 6403, rfl⟩
abbrev main_call13_call1_v80 : Ref sig .tc := ⟨.hbm, 6404, rfl⟩
abbrev main_call13_call1_v81 : Ref sig .tc := ⟨.hbm, 6405, rfl⟩
abbrev main_call13_call1_c_20 : Ref sig .tc := ⟨.hbm, 6406, rfl⟩
abbrev main_call13_call1_v82 : Ref sig .tc := ⟨.hbm, 6407, rfl⟩
abbrev main_call13_call1_v83 : Ref sig .tc := ⟨.hbm, 6408, rfl⟩
abbrev main_call13_call1_c_21 : Ref sig .tc := ⟨.hbm, 6409, rfl⟩
abbrev main_call13_call1_v84 : Ref sig .tc := ⟨.hbm, 6410, rfl⟩
abbrev main_call13_call1_v85 : Ref sig .tc := ⟨.hbm, 6411, rfl⟩
abbrev main_call13_call1_v86 : Ref sig .tc := ⟨.hbm, 6412, rfl⟩
abbrev main_call13_call1_v87 : Ref sig .tc := ⟨.hbm, 6413, rfl⟩
abbrev main_call13_call1_v88 : Ref sig .tc := ⟨.hbm, 6414, rfl⟩
abbrev main_call13_call1_c_22 : Ref sig .tc := ⟨.hbm, 6415, rfl⟩
abbrev main_call13_call1_v89 : Ref sig .tc := ⟨.hbm, 6416, rfl⟩
abbrev main_call13_call1_v90 : Ref sig .tc := ⟨.hbm, 6417, rfl⟩
abbrev main_call13_call1_c_23 : Ref sig .tc := ⟨.hbm, 6418, rfl⟩
abbrev main_call13_call1_v91 : Ref sig .tc := ⟨.hbm, 6419, rfl⟩
abbrev main_call13_call1_v92 : Ref sig .tc := ⟨.hbm, 6420, rfl⟩
abbrev main_call13_call1_v93 : Ref sig .tc := ⟨.hbm, 6421, rfl⟩
abbrev main_call13_call1_v94 : Ref sig .tc := ⟨.hbm, 6422, rfl⟩
abbrev main_call13_call1_v95 : Ref sig .tc := ⟨.hbm, 6423, rfl⟩
abbrev main_call13_call1_c_24 : Ref sig .tc := ⟨.hbm, 6424, rfl⟩
abbrev main_call13_call1_v96 : Ref sig .tc := ⟨.hbm, 6425, rfl⟩
abbrev main_call13_call1_v97 : Ref sig .tc := ⟨.hbm, 6426, rfl⟩
abbrev main_call13_call1_c_25 : Ref sig .tc := ⟨.hbm, 6427, rfl⟩
abbrev main_call13_call1_v98 : Ref sig .tc := ⟨.hbm, 6428, rfl⟩
abbrev main_call13_call1_v99 : Ref sig .tc := ⟨.hbm, 6429, rfl⟩
abbrev main_call13_call1_v100 : Ref sig .tc := ⟨.hbm, 6430, rfl⟩
abbrev main_call13_call1_v101 : Ref sig .tc := ⟨.hbm, 6431, rfl⟩
abbrev main_call13_call1_v102 : Ref sig .tc := ⟨.hbm, 6432, rfl⟩
abbrev main_call13_call1_v103 : Ref sig .tc := ⟨.hbm, 6433, rfl⟩
abbrev main_call13_call1_v104 : Ref sig .tc := ⟨.hbm, 6434, rfl⟩
abbrev main_call13_call1_v105 : Ref sig .tc := ⟨.hbm, 6435, rfl⟩
abbrev main_call13_call1_c_26 : Ref sig .tc := ⟨.hbm, 6436, rfl⟩
abbrev main_call13_call1_v106 : Ref sig .tc := ⟨.hbm, 6437, rfl⟩
abbrev main_call13_call1_v107 : Ref sig .tc := ⟨.hbm, 6438, rfl⟩
abbrev main_call13_call1_v108 : Ref sig .tc := ⟨.hbm, 6439, rfl⟩
abbrev main_call13_call1_c_27 : Ref sig .tc := ⟨.hbm, 6440, rfl⟩
abbrev main_call13_call1_v109 : Ref sig .tc := ⟨.hbm, 6441, rfl⟩
abbrev main_call13_call1_v110 : Ref sig .tc := ⟨.hbm, 6442, rfl⟩
abbrev main_call13_call1_c_28 : Ref sig .tc := ⟨.hbm, 6443, rfl⟩
abbrev main_call13_call1_v111 : Ref sig .tc := ⟨.hbm, 6444, rfl⟩
abbrev main_call13_call1_v112 : Ref sig .tc := ⟨.hbm, 6445, rfl⟩
abbrev main_call13_call1_v113 : Ref sig .tc := ⟨.hbm, 6446, rfl⟩
abbrev main_call13_call1_v114 : Ref sig .tc := ⟨.hbm, 6447, rfl⟩
abbrev main_call13_call1_v115 : Ref sig .tc := ⟨.hbm, 6448, rfl⟩
abbrev main_call13_call1_c_29 : Ref sig .tc := ⟨.hbm, 6449, rfl⟩
abbrev main_call13_call1_v116 : Ref sig .tc := ⟨.hbm, 6450, rfl⟩
abbrev main_call13_call1_v117 : Ref sig .tc := ⟨.hbm, 6451, rfl⟩
abbrev main_call13_call1_c_30 : Ref sig .tc := ⟨.hbm, 6452, rfl⟩
abbrev main_call13_call1_v118 : Ref sig .tc := ⟨.hbm, 6453, rfl⟩
abbrev main_call13_call1_v119 : Ref sig .tc := ⟨.hbm, 6454, rfl⟩
abbrev main_call13_call1_v120 : Ref sig .tc := ⟨.hbm, 6455, rfl⟩
abbrev main_call13_call1_v121 : Ref sig .tc := ⟨.hbm, 6456, rfl⟩
abbrev main_call13_call1_v122 : Ref sig .tc := ⟨.hbm, 6457, rfl⟩
abbrev main_call13_call1_c_31 : Ref sig .tc := ⟨.hbm, 6458, rfl⟩
abbrev main_call13_call1_v123 : Ref sig .tc := ⟨.hbm, 6459, rfl⟩
abbrev main_call13_call1_v124 : Ref sig .tc := ⟨.hbm, 6460, rfl⟩
abbrev main_call13_call1_c_32 : Ref sig .tc := ⟨.hbm, 6461, rfl⟩
abbrev main_call13_call1_v125 : Ref sig .tc := ⟨.hbm, 6462, rfl⟩
abbrev main_call13_call1_v126 : Ref sig .tc := ⟨.hbm, 6463, rfl⟩
abbrev main_call13_call1_v127 : Ref sig .tc := ⟨.hbm, 6464, rfl⟩
abbrev main_call13_call1_v128 : Ref sig .tc := ⟨.hbm, 6465, rfl⟩
abbrev main_call13_call1_v129 : Ref sig .tc := ⟨.hbm, 6466, rfl⟩
abbrev main_call13_call1_c_33 : Ref sig .tc := ⟨.hbm, 6467, rfl⟩
abbrev main_call13_call1_v130 : Ref sig .tc := ⟨.hbm, 6468, rfl⟩
abbrev main_call13_call1_v131 : Ref sig .tc := ⟨.hbm, 6469, rfl⟩
abbrev main_call13_call1_c_34 : Ref sig .tc := ⟨.hbm, 6470, rfl⟩
abbrev main_call13_call1_v132 : Ref sig .tc := ⟨.hbm, 6471, rfl⟩
abbrev main_call13_call1_v133 : Ref sig .tc := ⟨.hbm, 6472, rfl⟩
abbrev main_call13_call1_v134 : Ref sig .tc := ⟨.hbm, 6473, rfl⟩
abbrev main_call13_call1_v135 : Ref sig .tc := ⟨.hbm, 6474, rfl⟩
abbrev main_call13_call1_v136 : Ref sig .tc := ⟨.hbm, 6475, rfl⟩
abbrev main_call13_call1_v137 : Ref sig .tc := ⟨.hbm, 6476, rfl⟩
abbrev main_call13_call1_v138 : Ref sig .tc := ⟨.hbm, 6477, rfl⟩
abbrev main_call13_call1_v139 : Ref sig .tc := ⟨.hbm, 6478, rfl⟩
abbrev main_call13_call1_c_35 : Ref sig .tc := ⟨.hbm, 6479, rfl⟩
abbrev main_call13_call1_v140 : Ref sig .tc := ⟨.hbm, 6480, rfl⟩
abbrev main_call13_call1_v141 : Ref sig .tc := ⟨.hbm, 6481, rfl⟩
abbrev main_call13_call1_v142 : Ref sig .tc := ⟨.hbm, 6482, rfl⟩
abbrev main_call13_call1_c_36 : Ref sig .tc := ⟨.hbm, 6483, rfl⟩
abbrev main_call13_call1_v143 : Ref sig .tc := ⟨.hbm, 6484, rfl⟩
abbrev main_call13_call1_v144 : Ref sig .tc := ⟨.hbm, 6485, rfl⟩
abbrev main_call13_call1_c_37 : Ref sig .tc := ⟨.hbm, 6486, rfl⟩
abbrev main_call13_call1_v145 : Ref sig .tc := ⟨.hbm, 6487, rfl⟩
abbrev main_call13_call1_v146 : Ref sig .tc := ⟨.hbm, 6488, rfl⟩
abbrev main_call13_call1_v147 : Ref sig .tc := ⟨.hbm, 6489, rfl⟩
abbrev main_call13_call1_v148 : Ref sig .tc := ⟨.hbm, 6490, rfl⟩
abbrev main_call13_call1_v149 : Ref sig .tc := ⟨.hbm, 6491, rfl⟩
abbrev main_call13_call1_c_38 : Ref sig .tc := ⟨.hbm, 6492, rfl⟩
abbrev main_call13_call1_v150 : Ref sig .tc := ⟨.hbm, 6493, rfl⟩
abbrev main_call13_call1_v151 : Ref sig .tc := ⟨.hbm, 6494, rfl⟩
abbrev main_call13_call1_c_39 : Ref sig .tc := ⟨.hbm, 6495, rfl⟩
abbrev main_call13_call1_v152 : Ref sig .tc := ⟨.hbm, 6496, rfl⟩
abbrev main_call13_call1_v153 : Ref sig .tc := ⟨.hbm, 6497, rfl⟩
abbrev main_call13_call1_v154 : Ref sig .tc := ⟨.hbm, 6498, rfl⟩
abbrev main_call13_call1_v155 : Ref sig .tc := ⟨.hbm, 6499, rfl⟩
abbrev main_call13_call1_v156 : Ref sig .tc := ⟨.hbm, 6500, rfl⟩
abbrev main_call13_call1_c_40 : Ref sig .tc := ⟨.hbm, 6501, rfl⟩
abbrev main_call13_call1_v157 : Ref sig .tc := ⟨.hbm, 6502, rfl⟩
abbrev main_call13_call1_v158 : Ref sig .tc := ⟨.hbm, 6503, rfl⟩
abbrev main_call13_call1_c_41 : Ref sig .tc := ⟨.hbm, 6504, rfl⟩
abbrev main_call13_call1_v159 : Ref sig .tc := ⟨.hbm, 6505, rfl⟩
abbrev main_call13_call1_v160 : Ref sig .tc := ⟨.hbm, 6506, rfl⟩
abbrev main_call13_call1_v161 : Ref sig .tc := ⟨.hbm, 6507, rfl⟩
abbrev main_call13_call1_v162 : Ref sig .tc := ⟨.hbm, 6508, rfl⟩
abbrev main_call13_call1_v163 : Ref sig .tc := ⟨.hbm, 6509, rfl⟩
abbrev main_call13_call1_c_42 : Ref sig .tc := ⟨.hbm, 6510, rfl⟩
abbrev main_call13_call1_v164 : Ref sig .tc := ⟨.hbm, 6511, rfl⟩
abbrev main_call13_call1_v165 : Ref sig .tc := ⟨.hbm, 6512, rfl⟩
abbrev main_call13_call1_c_43 : Ref sig .tc := ⟨.hbm, 6513, rfl⟩
abbrev main_call13_call1_v166 : Ref sig .tc := ⟨.hbm, 6514, rfl⟩
abbrev main_call13_call1_v167 : Ref sig .tc := ⟨.hbm, 6515, rfl⟩
abbrev main_call13_call1_v168 : Ref sig .tc := ⟨.hbm, 6516, rfl⟩
abbrev main_call13_call1_v169 : Ref sig .tc := ⟨.hbm, 6517, rfl⟩
abbrev main_call13_call1_v170 : Ref sig .tc := ⟨.hbm, 6518, rfl⟩
abbrev main_call13_v16_0 : Ref sig .tc := ⟨.hbm, 6519, rfl⟩
abbrev main_call13_call1_v172 : Ref sig .tc := ⟨.hbm, 6520, rfl⟩
abbrev main_call13_call1_v173 : Ref sig .tc := ⟨.hbm, 6521, rfl⟩
abbrev main_call13_call1_c_44 : Ref sig .tc := ⟨.hbm, 6522, rfl⟩
abbrev main_call13_call1_v174 : Ref sig .tc := ⟨.hbm, 6523, rfl⟩
abbrev main_call13_v16_1 : Ref sig .tc := ⟨.hbm, 6524, rfl⟩
abbrev main_call13_v17 : Ref sig .tc := ⟨.hbm, 6525, rfl⟩
abbrev main_call13_v18_0 : Ref sig .tc := ⟨.hbm, 6526, rfl⟩
abbrev main_v59 : Ref sig .tc := ⟨.hbm, 6527, rfl⟩
abbrev main_v60 : Ref sig .tc := ⟨.hbm, 6528, rfl⟩
abbrev main_v61 : Ref sig .tc := ⟨.hbm, 6529, rfl⟩
abbrev main_v62 : Ref sig .tc := ⟨.hbm, 6530, rfl⟩
abbrev main_call14_call0_v0 : Ref sig .tc := ⟨.hbm, 6531, rfl⟩
abbrev main_call14_call0_v1 : Ref sig .tc := ⟨.hbm, 6532, rfl⟩
abbrev main_call14_call0_v2 : Ref sig .tc := ⟨.hbm, 6533, rfl⟩
abbrev main_call14_call0_v3 : Ref sig .tc := ⟨.hbm, 6534, rfl⟩
abbrev main_call14_call0_v4 : Ref sig .tc := ⟨.hbm, 6535, rfl⟩
abbrev main_call14_call0_c : Ref sig .tc := ⟨.hbm, 6536, rfl⟩
abbrev main_call14_call0_v5 : Ref sig .tc := ⟨.hbm, 6537, rfl⟩
abbrev main_call14_call0_v6 : Ref sig .tc := ⟨.hbm, 6538, rfl⟩
abbrev main_call14_call0_c_0 : Ref sig .tc := ⟨.hbm, 6539, rfl⟩
abbrev main_call14_call0_v7 : Ref sig .tc := ⟨.hbm, 6540, rfl⟩
abbrev main_call14_call0_v8 : Ref sig .tc := ⟨.hbm, 6541, rfl⟩
abbrev main_call14_call0_v9 : Ref sig .tc := ⟨.hbm, 6542, rfl⟩
abbrev main_call14_call0_v10 : Ref sig .tc := ⟨.hbm, 6543, rfl⟩
abbrev main_call14_call0_call0_v0 : Ref sig .tc := ⟨.hbm, 6544, rfl⟩
abbrev main_call14_call0_call0_c : Ref sig .tc := ⟨.hbm, 6545, rfl⟩
abbrev main_call14_call0_call0_v1 : Ref sig .tc := ⟨.hbm, 6546, rfl⟩
abbrev main_call14_call0_call0_v2 : Ref sig .tc := ⟨.hbm, 6547, rfl⟩
abbrev main_call14_call0_call0_v3 : Ref sig .tc := ⟨.hbm, 6548, rfl⟩
abbrev main_call14_call0_call0_v4 : Ref sig .tc := ⟨.hbm, 6549, rfl⟩
abbrev main_call14_call0_call0_v5 : Ref sig .tc := ⟨.hbm, 6550, rfl⟩
abbrev main_call14_call0_call0_v6 : Ref sig .tc := ⟨.hbm, 6551, rfl⟩
abbrev main_call14_call0_call0_c_0 : Ref sig .tc := ⟨.hbm, 6552, rfl⟩
abbrev main_call14_call0_call0_v7 : Ref sig .tc := ⟨.hbm, 6553, rfl⟩
abbrev main_call14_call0_call0_v8 : Ref sig .tc := ⟨.hbm, 6554, rfl⟩
abbrev main_call14_call0_call0_c_1 : Ref sig .tc := ⟨.hbm, 6555, rfl⟩
abbrev main_call14_call0_call0_v9 : Ref sig .tc := ⟨.hbm, 6556, rfl⟩
abbrev main_call14_call0_call0_v10 : Ref sig .tc := ⟨.hbm, 6557, rfl⟩
abbrev main_call14_call0_call0_v11 : Ref sig .tc := ⟨.hbm, 6558, rfl⟩
abbrev main_call14_call0_call0_v12 : Ref sig .tc := ⟨.hbm, 6559, rfl⟩
abbrev main_call14_call0_call0_v13 : Ref sig .tc := ⟨.hbm, 6560, rfl⟩
abbrev main_call14_call0_call0_c_2 : Ref sig .tc := ⟨.hbm, 6561, rfl⟩
abbrev main_call14_call0_call0_v14 : Ref sig .tc := ⟨.hbm, 6562, rfl⟩
abbrev main_call14_call0_call0_v15 : Ref sig .tc := ⟨.hbm, 6563, rfl⟩
abbrev main_call14_call0_call0_c_3 : Ref sig .tc := ⟨.hbm, 6564, rfl⟩
abbrev main_call14_call0_call0_v16 : Ref sig .tc := ⟨.hbm, 6565, rfl⟩
abbrev main_call14_call0_call0_v17 : Ref sig .tc := ⟨.hbm, 6566, rfl⟩
abbrev main_call14_call0_call0_v18 : Ref sig .tc := ⟨.hbm, 6567, rfl⟩
abbrev main_call14_call0_call0_v19 : Ref sig .tc := ⟨.hbm, 6568, rfl⟩
abbrev main_call14_call0_call0_v20 : Ref sig .tc := ⟨.hbm, 6569, rfl⟩
abbrev main_call14_call0_call0_c_4 : Ref sig .tc := ⟨.hbm, 6570, rfl⟩
abbrev main_call14_call0_call0_v21 : Ref sig .tc := ⟨.hbm, 6571, rfl⟩
abbrev main_call14_call0_call0_v22 : Ref sig .tc := ⟨.hbm, 6572, rfl⟩
abbrev main_call14_call0_call0_c_5 : Ref sig .tc := ⟨.hbm, 6573, rfl⟩
abbrev main_call14_call0_call0_v23 : Ref sig .tc := ⟨.hbm, 6574, rfl⟩
abbrev main_call14_call0_call0_v24 : Ref sig .tc := ⟨.hbm, 6575, rfl⟩
abbrev main_call14_call0_call0_v25 : Ref sig .tc := ⟨.hbm, 6576, rfl⟩
abbrev main_call14_call0_call0_v26 : Ref sig .tc := ⟨.hbm, 6577, rfl⟩
abbrev main_call14_call0_call0_v27 : Ref sig .tc := ⟨.hbm, 6578, rfl⟩
abbrev main_call14_call0_call0_c_6 : Ref sig .tc := ⟨.hbm, 6579, rfl⟩
abbrev main_call14_call0_call0_v28 : Ref sig .tc := ⟨.hbm, 6580, rfl⟩
abbrev main_call14_call0_call0_v29 : Ref sig .tc := ⟨.hbm, 6581, rfl⟩
abbrev main_call14_call0_call0_c_7 : Ref sig .tc := ⟨.hbm, 6582, rfl⟩
abbrev main_call14_call0_call0_v30 : Ref sig .tc := ⟨.hbm, 6583, rfl⟩
abbrev main_call14_call0_call0_v31 : Ref sig .tc := ⟨.hbm, 6584, rfl⟩
abbrev main_call14_call0_call0_v32 : Ref sig .tc := ⟨.hbm, 6585, rfl⟩
abbrev main_call14_call0_call0_v33 : Ref sig .tc := ⟨.hbm, 6586, rfl⟩
abbrev main_call14_call0_call0_v34 : Ref sig .tc := ⟨.hbm, 6587, rfl⟩
abbrev main_call14_call0_call0_v35 : Ref sig .tc := ⟨.hbm, 6588, rfl⟩
abbrev main_call14_call0_call0_v36 : Ref sig .tc := ⟨.hbm, 6589, rfl⟩
abbrev main_call14_call0_call0_v37 : Ref sig .tc := ⟨.hbm, 6590, rfl⟩
abbrev main_call14_call0_call0_c_8 : Ref sig .tc := ⟨.hbm, 6591, rfl⟩
abbrev main_call14_call0_call0_v38 : Ref sig .tc := ⟨.hbm, 6592, rfl⟩
abbrev main_call14_call0_call0_v39 : Ref sig .tc := ⟨.hbm, 6593, rfl⟩
abbrev main_call14_call0_call0_v40 : Ref sig .tc := ⟨.hbm, 6594, rfl⟩
abbrev main_call14_call0_call0_c_9 : Ref sig .tc := ⟨.hbm, 6595, rfl⟩
abbrev main_call14_call0_call0_v41 : Ref sig .tc := ⟨.hbm, 6596, rfl⟩
abbrev main_call14_call0_call0_v42 : Ref sig .tc := ⟨.hbm, 6597, rfl⟩
abbrev main_call14_call0_call0_c_10 : Ref sig .tc := ⟨.hbm, 6598, rfl⟩
abbrev main_call14_call0_call0_v43 : Ref sig .tc := ⟨.hbm, 6599, rfl⟩
abbrev main_call14_call0_call0_v44 : Ref sig .tc := ⟨.hbm, 6600, rfl⟩
abbrev main_call14_call0_call0_v45 : Ref sig .tc := ⟨.hbm, 6601, rfl⟩
abbrev main_call14_call0_call0_v46 : Ref sig .tc := ⟨.hbm, 6602, rfl⟩
abbrev main_call14_call0_call0_v47 : Ref sig .tc := ⟨.hbm, 6603, rfl⟩
abbrev main_call14_call0_call0_c_11 : Ref sig .tc := ⟨.hbm, 6604, rfl⟩
abbrev main_call14_call0_call0_v48 : Ref sig .tc := ⟨.hbm, 6605, rfl⟩
abbrev main_call14_call0_call0_v49 : Ref sig .tc := ⟨.hbm, 6606, rfl⟩
abbrev main_call14_call0_call0_c_12 : Ref sig .tc := ⟨.hbm, 6607, rfl⟩
abbrev main_call14_call0_call0_v50 : Ref sig .tc := ⟨.hbm, 6608, rfl⟩
abbrev main_call14_call0_call0_v51 : Ref sig .tc := ⟨.hbm, 6609, rfl⟩
abbrev main_call14_call0_call0_v52 : Ref sig .tc := ⟨.hbm, 6610, rfl⟩
abbrev main_call14_call0_call0_v53 : Ref sig .tc := ⟨.hbm, 6611, rfl⟩
abbrev main_call14_call0_call0_v54 : Ref sig .tc := ⟨.hbm, 6612, rfl⟩
abbrev main_call14_call0_call0_c_13 : Ref sig .tc := ⟨.hbm, 6613, rfl⟩
abbrev main_call14_call0_call0_v55 : Ref sig .tc := ⟨.hbm, 6614, rfl⟩
abbrev main_call14_call0_call0_v56 : Ref sig .tc := ⟨.hbm, 6615, rfl⟩
abbrev main_call14_call0_call0_c_14 : Ref sig .tc := ⟨.hbm, 6616, rfl⟩
abbrev main_call14_call0_call0_v57 : Ref sig .tc := ⟨.hbm, 6617, rfl⟩
abbrev main_call14_call0_call0_v58 : Ref sig .tc := ⟨.hbm, 6618, rfl⟩
abbrev main_call14_call0_call0_v59 : Ref sig .tc := ⟨.hbm, 6619, rfl⟩
abbrev main_call14_call0_call0_v60 : Ref sig .tc := ⟨.hbm, 6620, rfl⟩
abbrev main_call14_call0_call0_v61 : Ref sig .tc := ⟨.hbm, 6621, rfl⟩
abbrev main_call14_call0_call0_c_15 : Ref sig .tc := ⟨.hbm, 6622, rfl⟩
abbrev main_call14_call0_call0_v62 : Ref sig .tc := ⟨.hbm, 6623, rfl⟩
abbrev main_call14_call0_call0_v63 : Ref sig .tc := ⟨.hbm, 6624, rfl⟩
abbrev main_call14_call0_call0_c_16 : Ref sig .tc := ⟨.hbm, 6625, rfl⟩
abbrev main_call14_call0_call0_v64 : Ref sig .tc := ⟨.hbm, 6626, rfl⟩
abbrev main_call14_call0_call0_v65 : Ref sig .tc := ⟨.hbm, 6627, rfl⟩
abbrev main_call14_call0_call0_v66 : Ref sig .tc := ⟨.hbm, 6628, rfl⟩
abbrev main_call14_call0_call0_v67 : Ref sig .tc := ⟨.hbm, 6629, rfl⟩
abbrev main_call14_call0_call0_v68 : Ref sig .tc := ⟨.hbm, 6630, rfl⟩
abbrev main_call14_call0_call0_v69 : Ref sig .tc := ⟨.hbm, 6631, rfl⟩
abbrev main_call14_call0_call0_v70 : Ref sig .tc := ⟨.hbm, 6632, rfl⟩
abbrev main_call14_call0_call0_v71 : Ref sig .tc := ⟨.hbm, 6633, rfl⟩
abbrev main_call14_call0_call0_c_17 : Ref sig .tc := ⟨.hbm, 6634, rfl⟩
abbrev main_call14_call0_call0_v72 : Ref sig .tc := ⟨.hbm, 6635, rfl⟩
abbrev main_call14_call0_call0_v73 : Ref sig .tc := ⟨.hbm, 6636, rfl⟩
abbrev main_call14_call0_call0_v74 : Ref sig .tc := ⟨.hbm, 6637, rfl⟩
abbrev main_call14_call0_call0_c_18 : Ref sig .tc := ⟨.hbm, 6638, rfl⟩
abbrev main_call14_call0_call0_v75 : Ref sig .tc := ⟨.hbm, 6639, rfl⟩
abbrev main_call14_call0_call0_v76 : Ref sig .tc := ⟨.hbm, 6640, rfl⟩
abbrev main_call14_call0_call0_c_19 : Ref sig .tc := ⟨.hbm, 6641, rfl⟩
abbrev main_call14_call0_call0_v77 : Ref sig .tc := ⟨.hbm, 6642, rfl⟩
abbrev main_call14_call0_call0_v78 : Ref sig .tc := ⟨.hbm, 6643, rfl⟩
abbrev main_call14_call0_call0_v79 : Ref sig .tc := ⟨.hbm, 6644, rfl⟩
abbrev main_call14_call0_call0_v80 : Ref sig .tc := ⟨.hbm, 6645, rfl⟩
abbrev main_call14_call0_call0_v81 : Ref sig .tc := ⟨.hbm, 6646, rfl⟩
abbrev main_call14_call0_call0_c_20 : Ref sig .tc := ⟨.hbm, 6647, rfl⟩
abbrev main_call14_call0_call0_v82 : Ref sig .tc := ⟨.hbm, 6648, rfl⟩
abbrev main_call14_call0_call0_v83 : Ref sig .tc := ⟨.hbm, 6649, rfl⟩
abbrev main_call14_call0_call0_c_21 : Ref sig .tc := ⟨.hbm, 6650, rfl⟩
abbrev main_call14_call0_call0_v84 : Ref sig .tc := ⟨.hbm, 6651, rfl⟩
abbrev main_call14_call0_call0_v85 : Ref sig .tc := ⟨.hbm, 6652, rfl⟩
abbrev main_call14_call0_call0_v86 : Ref sig .tc := ⟨.hbm, 6653, rfl⟩
abbrev main_call14_call0_call0_v87 : Ref sig .tc := ⟨.hbm, 6654, rfl⟩
abbrev main_call14_call0_call0_v88 : Ref sig .tc := ⟨.hbm, 6655, rfl⟩
abbrev main_call14_call0_call0_c_22 : Ref sig .tc := ⟨.hbm, 6656, rfl⟩
abbrev main_call14_call0_call0_v89 : Ref sig .tc := ⟨.hbm, 6657, rfl⟩
abbrev main_call14_call0_call0_v90 : Ref sig .tc := ⟨.hbm, 6658, rfl⟩
abbrev main_call14_call0_call0_c_23 : Ref sig .tc := ⟨.hbm, 6659, rfl⟩
abbrev main_call14_call0_call0_v91 : Ref sig .tc := ⟨.hbm, 6660, rfl⟩
abbrev main_call14_call0_call0_v92 : Ref sig .tc := ⟨.hbm, 6661, rfl⟩
abbrev main_call14_call0_call0_v93 : Ref sig .tc := ⟨.hbm, 6662, rfl⟩
abbrev main_call14_call0_call0_v94 : Ref sig .tc := ⟨.hbm, 6663, rfl⟩
abbrev main_call14_call0_call0_v95 : Ref sig .tc := ⟨.hbm, 6664, rfl⟩
abbrev main_call14_call0_call0_c_24 : Ref sig .tc := ⟨.hbm, 6665, rfl⟩
abbrev main_call14_call0_call0_v96 : Ref sig .tc := ⟨.hbm, 6666, rfl⟩
abbrev main_call14_call0_call0_v97 : Ref sig .tc := ⟨.hbm, 6667, rfl⟩
abbrev main_call14_call0_call0_c_25 : Ref sig .tc := ⟨.hbm, 6668, rfl⟩
abbrev main_call14_call0_call0_v98 : Ref sig .tc := ⟨.hbm, 6669, rfl⟩
abbrev main_call14_call0_call0_v99 : Ref sig .tc := ⟨.hbm, 6670, rfl⟩
abbrev main_call14_call0_call0_v100 : Ref sig .tc := ⟨.hbm, 6671, rfl⟩
abbrev main_call14_call0_call0_v101 : Ref sig .tc := ⟨.hbm, 6672, rfl⟩
abbrev main_call14_call0_call0_v102 : Ref sig .tc := ⟨.hbm, 6673, rfl⟩
abbrev main_call14_call0_call0_v103 : Ref sig .tc := ⟨.hbm, 6674, rfl⟩
abbrev main_call14_call0_call0_v104 : Ref sig .tc := ⟨.hbm, 6675, rfl⟩
abbrev main_call14_call0_call0_v105 : Ref sig .tc := ⟨.hbm, 6676, rfl⟩
abbrev main_call14_call0_call0_c_26 : Ref sig .tc := ⟨.hbm, 6677, rfl⟩
abbrev main_call14_call0_call0_v106 : Ref sig .tc := ⟨.hbm, 6678, rfl⟩
abbrev main_call14_call0_call0_v107 : Ref sig .tc := ⟨.hbm, 6679, rfl⟩
abbrev main_call14_call0_call0_v108 : Ref sig .tc := ⟨.hbm, 6680, rfl⟩
abbrev main_call14_call0_call0_c_27 : Ref sig .tc := ⟨.hbm, 6681, rfl⟩
abbrev main_call14_call0_call0_v109 : Ref sig .tc := ⟨.hbm, 6682, rfl⟩
abbrev main_call14_call0_call0_v110 : Ref sig .tc := ⟨.hbm, 6683, rfl⟩
abbrev main_call14_call0_call0_c_28 : Ref sig .tc := ⟨.hbm, 6684, rfl⟩
abbrev main_call14_call0_call0_v111 : Ref sig .tc := ⟨.hbm, 6685, rfl⟩
abbrev main_call14_call0_call0_v112 : Ref sig .tc := ⟨.hbm, 6686, rfl⟩
abbrev main_call14_call0_call0_v113 : Ref sig .tc := ⟨.hbm, 6687, rfl⟩
abbrev main_call14_call0_call0_v114 : Ref sig .tc := ⟨.hbm, 6688, rfl⟩
abbrev main_call14_call0_call0_v115 : Ref sig .tc := ⟨.hbm, 6689, rfl⟩
abbrev main_call14_call0_call0_c_29 : Ref sig .tc := ⟨.hbm, 6690, rfl⟩
abbrev main_call14_call0_call0_v116 : Ref sig .tc := ⟨.hbm, 6691, rfl⟩
abbrev main_call14_call0_call0_v117 : Ref sig .tc := ⟨.hbm, 6692, rfl⟩
abbrev main_call14_call0_call0_c_30 : Ref sig .tc := ⟨.hbm, 6693, rfl⟩
abbrev main_call14_call0_call0_v118 : Ref sig .tc := ⟨.hbm, 6694, rfl⟩
abbrev main_call14_call0_call0_v119 : Ref sig .tc := ⟨.hbm, 6695, rfl⟩
abbrev main_call14_call0_call0_v120 : Ref sig .tc := ⟨.hbm, 6696, rfl⟩
abbrev main_call14_call0_call0_v121 : Ref sig .tc := ⟨.hbm, 6697, rfl⟩
abbrev main_call14_call0_call0_v122 : Ref sig .tc := ⟨.hbm, 6698, rfl⟩
abbrev main_call14_call0_call0_c_31 : Ref sig .tc := ⟨.hbm, 6699, rfl⟩
abbrev main_call14_call0_call0_v123 : Ref sig .tc := ⟨.hbm, 6700, rfl⟩
abbrev main_call14_call0_call0_v124 : Ref sig .tc := ⟨.hbm, 6701, rfl⟩
abbrev main_call14_call0_call0_c_32 : Ref sig .tc := ⟨.hbm, 6702, rfl⟩
abbrev main_call14_call0_call0_v125 : Ref sig .tc := ⟨.hbm, 6703, rfl⟩
abbrev main_call14_call0_call0_v126 : Ref sig .tc := ⟨.hbm, 6704, rfl⟩
abbrev main_call14_call0_call0_v127 : Ref sig .tc := ⟨.hbm, 6705, rfl⟩
abbrev main_call14_call0_call0_v128 : Ref sig .tc := ⟨.hbm, 6706, rfl⟩
abbrev main_call14_call0_call0_v129 : Ref sig .tc := ⟨.hbm, 6707, rfl⟩
abbrev main_call14_call0_call0_c_33 : Ref sig .tc := ⟨.hbm, 6708, rfl⟩
abbrev main_call14_call0_call0_v130 : Ref sig .tc := ⟨.hbm, 6709, rfl⟩
abbrev main_call14_call0_call0_v131 : Ref sig .tc := ⟨.hbm, 6710, rfl⟩
abbrev main_call14_call0_call0_c_34 : Ref sig .tc := ⟨.hbm, 6711, rfl⟩
abbrev main_call14_call0_call0_v132 : Ref sig .tc := ⟨.hbm, 6712, rfl⟩
abbrev main_call14_call0_call0_v133 : Ref sig .tc := ⟨.hbm, 6713, rfl⟩
abbrev main_call14_call0_call0_v134 : Ref sig .tc := ⟨.hbm, 6714, rfl⟩
abbrev main_call14_call0_call0_v135 : Ref sig .tc := ⟨.hbm, 6715, rfl⟩
abbrev main_call14_call0_call0_v136 : Ref sig .tc := ⟨.hbm, 6716, rfl⟩
abbrev main_call14_call0_call0_v137 : Ref sig .tc := ⟨.hbm, 6717, rfl⟩
abbrev main_call14_call0_call0_v138 : Ref sig .tc := ⟨.hbm, 6718, rfl⟩
abbrev main_call14_call0_call0_v139 : Ref sig .tc := ⟨.hbm, 6719, rfl⟩
abbrev main_call14_call0_call0_c_35 : Ref sig .tc := ⟨.hbm, 6720, rfl⟩
abbrev main_call14_call0_call0_v140 : Ref sig .tc := ⟨.hbm, 6721, rfl⟩
abbrev main_call14_call0_call0_v141 : Ref sig .tc := ⟨.hbm, 6722, rfl⟩
abbrev main_call14_call0_call0_v142 : Ref sig .tc := ⟨.hbm, 6723, rfl⟩
abbrev main_call14_call0_call0_c_36 : Ref sig .tc := ⟨.hbm, 6724, rfl⟩
abbrev main_call14_call0_call0_v143 : Ref sig .tc := ⟨.hbm, 6725, rfl⟩
abbrev main_call14_call0_call0_v144 : Ref sig .tc := ⟨.hbm, 6726, rfl⟩
abbrev main_call14_call0_call0_c_37 : Ref sig .tc := ⟨.hbm, 6727, rfl⟩
abbrev main_call14_call0_call0_v145 : Ref sig .tc := ⟨.hbm, 6728, rfl⟩
abbrev main_call14_call0_call0_v146 : Ref sig .tc := ⟨.hbm, 6729, rfl⟩
abbrev main_call14_call0_call0_v147 : Ref sig .tc := ⟨.hbm, 6730, rfl⟩
abbrev main_call14_call0_call0_v148 : Ref sig .tc := ⟨.hbm, 6731, rfl⟩
abbrev main_call14_call0_call0_v149 : Ref sig .tc := ⟨.hbm, 6732, rfl⟩
abbrev main_call14_call0_call0_c_38 : Ref sig .tc := ⟨.hbm, 6733, rfl⟩
abbrev main_call14_call0_call0_v150 : Ref sig .tc := ⟨.hbm, 6734, rfl⟩
abbrev main_call14_call0_call0_v151 : Ref sig .tc := ⟨.hbm, 6735, rfl⟩
abbrev main_call14_call0_call0_c_39 : Ref sig .tc := ⟨.hbm, 6736, rfl⟩
abbrev main_call14_call0_call0_v152 : Ref sig .tc := ⟨.hbm, 6737, rfl⟩
abbrev main_call14_call0_call0_v153 : Ref sig .tc := ⟨.hbm, 6738, rfl⟩
abbrev main_call14_call0_call0_v154 : Ref sig .tc := ⟨.hbm, 6739, rfl⟩
abbrev main_call14_call0_call0_v155 : Ref sig .tc := ⟨.hbm, 6740, rfl⟩
abbrev main_call14_call0_call0_v156 : Ref sig .tc := ⟨.hbm, 6741, rfl⟩
abbrev main_call14_call0_call0_c_40 : Ref sig .tc := ⟨.hbm, 6742, rfl⟩
abbrev main_call14_call0_call0_v157 : Ref sig .tc := ⟨.hbm, 6743, rfl⟩
abbrev main_call14_call0_call0_v158 : Ref sig .tc := ⟨.hbm, 6744, rfl⟩
abbrev main_call14_call0_call0_c_41 : Ref sig .tc := ⟨.hbm, 6745, rfl⟩
abbrev main_call14_call0_call0_v159 : Ref sig .tc := ⟨.hbm, 6746, rfl⟩
abbrev main_call14_call0_call0_v160 : Ref sig .tc := ⟨.hbm, 6747, rfl⟩
abbrev main_call14_call0_call0_v161 : Ref sig .tc := ⟨.hbm, 6748, rfl⟩
abbrev main_call14_call0_call0_v162 : Ref sig .tc := ⟨.hbm, 6749, rfl⟩
abbrev main_call14_call0_call0_v163 : Ref sig .tc := ⟨.hbm, 6750, rfl⟩
abbrev main_call14_call0_call0_c_42 : Ref sig .tc := ⟨.hbm, 6751, rfl⟩
abbrev main_call14_call0_call0_v164 : Ref sig .tc := ⟨.hbm, 6752, rfl⟩
abbrev main_call14_call0_call0_v165 : Ref sig .tc := ⟨.hbm, 6753, rfl⟩
abbrev main_call14_call0_call0_c_43 : Ref sig .tc := ⟨.hbm, 6754, rfl⟩
abbrev main_call14_call0_call0_v166 : Ref sig .tc := ⟨.hbm, 6755, rfl⟩
abbrev main_call14_call0_call0_v167 : Ref sig .tc := ⟨.hbm, 6756, rfl⟩
abbrev main_call14_call0_call0_v168 : Ref sig .tc := ⟨.hbm, 6757, rfl⟩
abbrev main_call14_call0_call0_v169 : Ref sig .tc := ⟨.hbm, 6758, rfl⟩
abbrev main_call14_call0_call0_v170 : Ref sig .tc := ⟨.hbm, 6759, rfl⟩
abbrev main_call14_call0_v11_0 : Ref sig .tc := ⟨.hbm, 6760, rfl⟩
abbrev main_call14_call0_call0_v172 : Ref sig .tc := ⟨.hbm, 6761, rfl⟩
abbrev main_call14_call0_call0_v173 : Ref sig .tc := ⟨.hbm, 6762, rfl⟩
abbrev main_call14_call0_call0_c_44 : Ref sig .tc := ⟨.hbm, 6763, rfl⟩
abbrev main_call14_call0_call0_v174 : Ref sig .tc := ⟨.hbm, 6764, rfl⟩
abbrev main_call14_call0_v11_1 : Ref sig .tc := ⟨.hbm, 6765, rfl⟩
abbrev main_call14_call0_v12 : Ref sig .tc := ⟨.hbm, 6766, rfl⟩
abbrev main_call14_call0_v13 : Ref sig .tc := ⟨.hbm, 6767, rfl⟩
abbrev main_call14_v0 : Ref sig .tc := ⟨.hbm, 6768, rfl⟩
abbrev main_call14_v1 : Ref sig .tc := ⟨.hbm, 6769, rfl⟩
abbrev main_call14_v2 : Ref sig .tc := ⟨.hbm, 6770, rfl⟩
abbrev main_call14_v3 : Ref sig .tc := ⟨.hbm, 6771, rfl⟩
abbrev main_call14_v4 : Ref sig .tc := ⟨.hbm, 6772, rfl⟩
abbrev main_call14_v5 : Ref sig .tc := ⟨.hbm, 6773, rfl⟩
abbrev main_call14_v6 : Ref sig .tc := ⟨.hbm, 6774, rfl⟩
abbrev main_call14_v7 : Ref sig .tc := ⟨.hbm, 6775, rfl⟩
abbrev main_call14_v8 : Ref sig .tc := ⟨.hbm, 6776, rfl⟩
abbrev main_call14_v9 : Ref sig .tc := ⟨.hbm, 6777, rfl⟩
abbrev main_call14_c : Ref sig .tc := ⟨.hbm, 6778, rfl⟩
abbrev main_call14_v10 : Ref sig .tc := ⟨.hbm, 6779, rfl⟩
abbrev main_call14_v11 : Ref sig .tc := ⟨.hbm, 6780, rfl⟩
abbrev main_call14_c_0 : Ref sig .tc := ⟨.hbm, 6781, rfl⟩
abbrev main_call14_v12 : Ref sig .tc := ⟨.hbm, 6782, rfl⟩
abbrev main_call14_v13 : Ref sig .tc := ⟨.hbm, 6783, rfl⟩
abbrev main_call14_v14 : Ref sig .tc := ⟨.hbm, 6784, rfl⟩
abbrev main_call14_v15 : Ref sig .tc := ⟨.hbm, 6785, rfl⟩
abbrev main_call14_call1_v0 : Ref sig .tc := ⟨.hbm, 6786, rfl⟩
abbrev main_call14_call1_c : Ref sig .tc := ⟨.hbm, 6787, rfl⟩
abbrev main_call14_call1_v1 : Ref sig .tc := ⟨.hbm, 6788, rfl⟩
abbrev main_call14_call1_v2 : Ref sig .tc := ⟨.hbm, 6789, rfl⟩
abbrev main_call14_call1_v3 : Ref sig .tc := ⟨.hbm, 6790, rfl⟩
abbrev main_call14_call1_v4 : Ref sig .tc := ⟨.hbm, 6791, rfl⟩
abbrev main_call14_call1_v5 : Ref sig .tc := ⟨.hbm, 6792, rfl⟩
abbrev main_call14_call1_v6 : Ref sig .tc := ⟨.hbm, 6793, rfl⟩
abbrev main_call14_call1_c_0 : Ref sig .tc := ⟨.hbm, 6794, rfl⟩
abbrev main_call14_call1_v7 : Ref sig .tc := ⟨.hbm, 6795, rfl⟩
abbrev main_call14_call1_v8 : Ref sig .tc := ⟨.hbm, 6796, rfl⟩
abbrev main_call14_call1_c_1 : Ref sig .tc := ⟨.hbm, 6797, rfl⟩
abbrev main_call14_call1_v9 : Ref sig .tc := ⟨.hbm, 6798, rfl⟩
abbrev main_call14_call1_v10 : Ref sig .tc := ⟨.hbm, 6799, rfl⟩
abbrev main_call14_call1_v11 : Ref sig .tc := ⟨.hbm, 6800, rfl⟩
abbrev main_call14_call1_v12 : Ref sig .tc := ⟨.hbm, 6801, rfl⟩
abbrev main_call14_call1_v13 : Ref sig .tc := ⟨.hbm, 6802, rfl⟩
abbrev main_call14_call1_c_2 : Ref sig .tc := ⟨.hbm, 6803, rfl⟩
abbrev main_call14_call1_v14 : Ref sig .tc := ⟨.hbm, 6804, rfl⟩
abbrev main_call14_call1_v15 : Ref sig .tc := ⟨.hbm, 6805, rfl⟩
abbrev main_call14_call1_c_3 : Ref sig .tc := ⟨.hbm, 6806, rfl⟩
abbrev main_call14_call1_v16 : Ref sig .tc := ⟨.hbm, 6807, rfl⟩
abbrev main_call14_call1_v17 : Ref sig .tc := ⟨.hbm, 6808, rfl⟩
abbrev main_call14_call1_v18 : Ref sig .tc := ⟨.hbm, 6809, rfl⟩
abbrev main_call14_call1_v19 : Ref sig .tc := ⟨.hbm, 6810, rfl⟩
abbrev main_call14_call1_v20 : Ref sig .tc := ⟨.hbm, 6811, rfl⟩
abbrev main_call14_call1_c_4 : Ref sig .tc := ⟨.hbm, 6812, rfl⟩
abbrev main_call14_call1_v21 : Ref sig .tc := ⟨.hbm, 6813, rfl⟩
abbrev main_call14_call1_v22 : Ref sig .tc := ⟨.hbm, 6814, rfl⟩
abbrev main_call14_call1_c_5 : Ref sig .tc := ⟨.hbm, 6815, rfl⟩
abbrev main_call14_call1_v23 : Ref sig .tc := ⟨.hbm, 6816, rfl⟩
abbrev main_call14_call1_v24 : Ref sig .tc := ⟨.hbm, 6817, rfl⟩
abbrev main_call14_call1_v25 : Ref sig .tc := ⟨.hbm, 6818, rfl⟩
abbrev main_call14_call1_v26 : Ref sig .tc := ⟨.hbm, 6819, rfl⟩
abbrev main_call14_call1_v27 : Ref sig .tc := ⟨.hbm, 6820, rfl⟩
abbrev main_call14_call1_c_6 : Ref sig .tc := ⟨.hbm, 6821, rfl⟩
abbrev main_call14_call1_v28 : Ref sig .tc := ⟨.hbm, 6822, rfl⟩
abbrev main_call14_call1_v29 : Ref sig .tc := ⟨.hbm, 6823, rfl⟩
abbrev main_call14_call1_c_7 : Ref sig .tc := ⟨.hbm, 6824, rfl⟩
abbrev main_call14_call1_v30 : Ref sig .tc := ⟨.hbm, 6825, rfl⟩
abbrev main_call14_call1_v31 : Ref sig .tc := ⟨.hbm, 6826, rfl⟩
abbrev main_call14_call1_v32 : Ref sig .tc := ⟨.hbm, 6827, rfl⟩
abbrev main_call14_call1_v33 : Ref sig .tc := ⟨.hbm, 6828, rfl⟩
abbrev main_call14_call1_v34 : Ref sig .tc := ⟨.hbm, 6829, rfl⟩
abbrev main_call14_call1_v35 : Ref sig .tc := ⟨.hbm, 6830, rfl⟩
abbrev main_call14_call1_v36 : Ref sig .tc := ⟨.hbm, 6831, rfl⟩
abbrev main_call14_call1_v37 : Ref sig .tc := ⟨.hbm, 6832, rfl⟩
abbrev main_call14_call1_c_8 : Ref sig .tc := ⟨.hbm, 6833, rfl⟩
abbrev main_call14_call1_v38 : Ref sig .tc := ⟨.hbm, 6834, rfl⟩
abbrev main_call14_call1_v39 : Ref sig .tc := ⟨.hbm, 6835, rfl⟩
abbrev main_call14_call1_v40 : Ref sig .tc := ⟨.hbm, 6836, rfl⟩
abbrev main_call14_call1_c_9 : Ref sig .tc := ⟨.hbm, 6837, rfl⟩
abbrev main_call14_call1_v41 : Ref sig .tc := ⟨.hbm, 6838, rfl⟩
abbrev main_call14_call1_v42 : Ref sig .tc := ⟨.hbm, 6839, rfl⟩
abbrev main_call14_call1_c_10 : Ref sig .tc := ⟨.hbm, 6840, rfl⟩
abbrev main_call14_call1_v43 : Ref sig .tc := ⟨.hbm, 6841, rfl⟩
abbrev main_call14_call1_v44 : Ref sig .tc := ⟨.hbm, 6842, rfl⟩
abbrev main_call14_call1_v45 : Ref sig .tc := ⟨.hbm, 6843, rfl⟩
abbrev main_call14_call1_v46 : Ref sig .tc := ⟨.hbm, 6844, rfl⟩
abbrev main_call14_call1_v47 : Ref sig .tc := ⟨.hbm, 6845, rfl⟩
abbrev main_call14_call1_c_11 : Ref sig .tc := ⟨.hbm, 6846, rfl⟩
abbrev main_call14_call1_v48 : Ref sig .tc := ⟨.hbm, 6847, rfl⟩
abbrev main_call14_call1_v49 : Ref sig .tc := ⟨.hbm, 6848, rfl⟩
abbrev main_call14_call1_c_12 : Ref sig .tc := ⟨.hbm, 6849, rfl⟩
abbrev main_call14_call1_v50 : Ref sig .tc := ⟨.hbm, 6850, rfl⟩
abbrev main_call14_call1_v51 : Ref sig .tc := ⟨.hbm, 6851, rfl⟩
abbrev main_call14_call1_v52 : Ref sig .tc := ⟨.hbm, 6852, rfl⟩
abbrev main_call14_call1_v53 : Ref sig .tc := ⟨.hbm, 6853, rfl⟩
abbrev main_call14_call1_v54 : Ref sig .tc := ⟨.hbm, 6854, rfl⟩
abbrev main_call14_call1_c_13 : Ref sig .tc := ⟨.hbm, 6855, rfl⟩
abbrev main_call14_call1_v55 : Ref sig .tc := ⟨.hbm, 6856, rfl⟩
abbrev main_call14_call1_v56 : Ref sig .tc := ⟨.hbm, 6857, rfl⟩
abbrev main_call14_call1_c_14 : Ref sig .tc := ⟨.hbm, 6858, rfl⟩
abbrev main_call14_call1_v57 : Ref sig .tc := ⟨.hbm, 6859, rfl⟩
abbrev main_call14_call1_v58 : Ref sig .tc := ⟨.hbm, 6860, rfl⟩
abbrev main_call14_call1_v59 : Ref sig .tc := ⟨.hbm, 6861, rfl⟩
abbrev main_call14_call1_v60 : Ref sig .tc := ⟨.hbm, 6862, rfl⟩
abbrev main_call14_call1_v61 : Ref sig .tc := ⟨.hbm, 6863, rfl⟩
abbrev main_call14_call1_c_15 : Ref sig .tc := ⟨.hbm, 6864, rfl⟩
abbrev main_call14_call1_v62 : Ref sig .tc := ⟨.hbm, 6865, rfl⟩
abbrev main_call14_call1_v63 : Ref sig .tc := ⟨.hbm, 6866, rfl⟩
abbrev main_call14_call1_c_16 : Ref sig .tc := ⟨.hbm, 6867, rfl⟩
abbrev main_call14_call1_v64 : Ref sig .tc := ⟨.hbm, 6868, rfl⟩
abbrev main_call14_call1_v65 : Ref sig .tc := ⟨.hbm, 6869, rfl⟩
abbrev main_call14_call1_v66 : Ref sig .tc := ⟨.hbm, 6870, rfl⟩
abbrev main_call14_call1_v67 : Ref sig .tc := ⟨.hbm, 6871, rfl⟩
abbrev main_call14_call1_v68 : Ref sig .tc := ⟨.hbm, 6872, rfl⟩
abbrev main_call14_call1_v69 : Ref sig .tc := ⟨.hbm, 6873, rfl⟩
abbrev main_call14_call1_v70 : Ref sig .tc := ⟨.hbm, 6874, rfl⟩
abbrev main_call14_call1_v71 : Ref sig .tc := ⟨.hbm, 6875, rfl⟩
abbrev main_call14_call1_c_17 : Ref sig .tc := ⟨.hbm, 6876, rfl⟩
abbrev main_call14_call1_v72 : Ref sig .tc := ⟨.hbm, 6877, rfl⟩
abbrev main_call14_call1_v73 : Ref sig .tc := ⟨.hbm, 6878, rfl⟩
abbrev main_call14_call1_v74 : Ref sig .tc := ⟨.hbm, 6879, rfl⟩
abbrev main_call14_call1_c_18 : Ref sig .tc := ⟨.hbm, 6880, rfl⟩
abbrev main_call14_call1_v75 : Ref sig .tc := ⟨.hbm, 6881, rfl⟩
abbrev main_call14_call1_v76 : Ref sig .tc := ⟨.hbm, 6882, rfl⟩
abbrev main_call14_call1_c_19 : Ref sig .tc := ⟨.hbm, 6883, rfl⟩
abbrev main_call14_call1_v77 : Ref sig .tc := ⟨.hbm, 6884, rfl⟩
abbrev main_call14_call1_v78 : Ref sig .tc := ⟨.hbm, 6885, rfl⟩
abbrev main_call14_call1_v79 : Ref sig .tc := ⟨.hbm, 6886, rfl⟩
abbrev main_call14_call1_v80 : Ref sig .tc := ⟨.hbm, 6887, rfl⟩
abbrev main_call14_call1_v81 : Ref sig .tc := ⟨.hbm, 6888, rfl⟩
abbrev main_call14_call1_c_20 : Ref sig .tc := ⟨.hbm, 6889, rfl⟩
abbrev main_call14_call1_v82 : Ref sig .tc := ⟨.hbm, 6890, rfl⟩
abbrev main_call14_call1_v83 : Ref sig .tc := ⟨.hbm, 6891, rfl⟩
abbrev main_call14_call1_c_21 : Ref sig .tc := ⟨.hbm, 6892, rfl⟩
abbrev main_call14_call1_v84 : Ref sig .tc := ⟨.hbm, 6893, rfl⟩
abbrev main_call14_call1_v85 : Ref sig .tc := ⟨.hbm, 6894, rfl⟩
abbrev main_call14_call1_v86 : Ref sig .tc := ⟨.hbm, 6895, rfl⟩
abbrev main_call14_call1_v87 : Ref sig .tc := ⟨.hbm, 6896, rfl⟩
abbrev main_call14_call1_v88 : Ref sig .tc := ⟨.hbm, 6897, rfl⟩
abbrev main_call14_call1_c_22 : Ref sig .tc := ⟨.hbm, 6898, rfl⟩
abbrev main_call14_call1_v89 : Ref sig .tc := ⟨.hbm, 6899, rfl⟩
abbrev main_call14_call1_v90 : Ref sig .tc := ⟨.hbm, 6900, rfl⟩
abbrev main_call14_call1_c_23 : Ref sig .tc := ⟨.hbm, 6901, rfl⟩
abbrev main_call14_call1_v91 : Ref sig .tc := ⟨.hbm, 6902, rfl⟩
abbrev main_call14_call1_v92 : Ref sig .tc := ⟨.hbm, 6903, rfl⟩
abbrev main_call14_call1_v93 : Ref sig .tc := ⟨.hbm, 6904, rfl⟩
abbrev main_call14_call1_v94 : Ref sig .tc := ⟨.hbm, 6905, rfl⟩
abbrev main_call14_call1_v95 : Ref sig .tc := ⟨.hbm, 6906, rfl⟩
abbrev main_call14_call1_c_24 : Ref sig .tc := ⟨.hbm, 6907, rfl⟩
abbrev main_call14_call1_v96 : Ref sig .tc := ⟨.hbm, 6908, rfl⟩
abbrev main_call14_call1_v97 : Ref sig .tc := ⟨.hbm, 6909, rfl⟩
abbrev main_call14_call1_c_25 : Ref sig .tc := ⟨.hbm, 6910, rfl⟩
abbrev main_call14_call1_v98 : Ref sig .tc := ⟨.hbm, 6911, rfl⟩
abbrev main_call14_call1_v99 : Ref sig .tc := ⟨.hbm, 6912, rfl⟩
abbrev main_call14_call1_v100 : Ref sig .tc := ⟨.hbm, 6913, rfl⟩
abbrev main_call14_call1_v101 : Ref sig .tc := ⟨.hbm, 6914, rfl⟩
abbrev main_call14_call1_v102 : Ref sig .tc := ⟨.hbm, 6915, rfl⟩
abbrev main_call14_call1_v103 : Ref sig .tc := ⟨.hbm, 6916, rfl⟩
abbrev main_call14_call1_v104 : Ref sig .tc := ⟨.hbm, 6917, rfl⟩
abbrev main_call14_call1_v105 : Ref sig .tc := ⟨.hbm, 6918, rfl⟩
abbrev main_call14_call1_c_26 : Ref sig .tc := ⟨.hbm, 6919, rfl⟩
abbrev main_call14_call1_v106 : Ref sig .tc := ⟨.hbm, 6920, rfl⟩
abbrev main_call14_call1_v107 : Ref sig .tc := ⟨.hbm, 6921, rfl⟩
abbrev main_call14_call1_v108 : Ref sig .tc := ⟨.hbm, 6922, rfl⟩
abbrev main_call14_call1_c_27 : Ref sig .tc := ⟨.hbm, 6923, rfl⟩
abbrev main_call14_call1_v109 : Ref sig .tc := ⟨.hbm, 6924, rfl⟩
abbrev main_call14_call1_v110 : Ref sig .tc := ⟨.hbm, 6925, rfl⟩
abbrev main_call14_call1_c_28 : Ref sig .tc := ⟨.hbm, 6926, rfl⟩
abbrev main_call14_call1_v111 : Ref sig .tc := ⟨.hbm, 6927, rfl⟩
abbrev main_call14_call1_v112 : Ref sig .tc := ⟨.hbm, 6928, rfl⟩
abbrev main_call14_call1_v113 : Ref sig .tc := ⟨.hbm, 6929, rfl⟩
abbrev main_call14_call1_v114 : Ref sig .tc := ⟨.hbm, 6930, rfl⟩
abbrev main_call14_call1_v115 : Ref sig .tc := ⟨.hbm, 6931, rfl⟩
abbrev main_call14_call1_c_29 : Ref sig .tc := ⟨.hbm, 6932, rfl⟩
abbrev main_call14_call1_v116 : Ref sig .tc := ⟨.hbm, 6933, rfl⟩
abbrev main_call14_call1_v117 : Ref sig .tc := ⟨.hbm, 6934, rfl⟩
abbrev main_call14_call1_c_30 : Ref sig .tc := ⟨.hbm, 6935, rfl⟩
abbrev main_call14_call1_v118 : Ref sig .tc := ⟨.hbm, 6936, rfl⟩
abbrev main_call14_call1_v119 : Ref sig .tc := ⟨.hbm, 6937, rfl⟩
abbrev main_call14_call1_v120 : Ref sig .tc := ⟨.hbm, 6938, rfl⟩
abbrev main_call14_call1_v121 : Ref sig .tc := ⟨.hbm, 6939, rfl⟩
abbrev main_call14_call1_v122 : Ref sig .tc := ⟨.hbm, 6940, rfl⟩
abbrev main_call14_call1_c_31 : Ref sig .tc := ⟨.hbm, 6941, rfl⟩
abbrev main_call14_call1_v123 : Ref sig .tc := ⟨.hbm, 6942, rfl⟩
abbrev main_call14_call1_v124 : Ref sig .tc := ⟨.hbm, 6943, rfl⟩
abbrev main_call14_call1_c_32 : Ref sig .tc := ⟨.hbm, 6944, rfl⟩
abbrev main_call14_call1_v125 : Ref sig .tc := ⟨.hbm, 6945, rfl⟩
abbrev main_call14_call1_v126 : Ref sig .tc := ⟨.hbm, 6946, rfl⟩
abbrev main_call14_call1_v127 : Ref sig .tc := ⟨.hbm, 6947, rfl⟩
abbrev main_call14_call1_v128 : Ref sig .tc := ⟨.hbm, 6948, rfl⟩
abbrev main_call14_call1_v129 : Ref sig .tc := ⟨.hbm, 6949, rfl⟩
abbrev main_call14_call1_c_33 : Ref sig .tc := ⟨.hbm, 6950, rfl⟩
abbrev main_call14_call1_v130 : Ref sig .tc := ⟨.hbm, 6951, rfl⟩
abbrev main_call14_call1_v131 : Ref sig .tc := ⟨.hbm, 6952, rfl⟩
abbrev main_call14_call1_c_34 : Ref sig .tc := ⟨.hbm, 6953, rfl⟩
abbrev main_call14_call1_v132 : Ref sig .tc := ⟨.hbm, 6954, rfl⟩
abbrev main_call14_call1_v133 : Ref sig .tc := ⟨.hbm, 6955, rfl⟩
abbrev main_call14_call1_v134 : Ref sig .tc := ⟨.hbm, 6956, rfl⟩
abbrev main_call14_call1_v135 : Ref sig .tc := ⟨.hbm, 6957, rfl⟩
abbrev main_call14_call1_v136 : Ref sig .tc := ⟨.hbm, 6958, rfl⟩
abbrev main_call14_call1_v137 : Ref sig .tc := ⟨.hbm, 6959, rfl⟩
abbrev main_call14_call1_v138 : Ref sig .tc := ⟨.hbm, 6960, rfl⟩
abbrev main_call14_call1_v139 : Ref sig .tc := ⟨.hbm, 6961, rfl⟩
abbrev main_call14_call1_c_35 : Ref sig .tc := ⟨.hbm, 6962, rfl⟩
abbrev main_call14_call1_v140 : Ref sig .tc := ⟨.hbm, 6963, rfl⟩
abbrev main_call14_call1_v141 : Ref sig .tc := ⟨.hbm, 6964, rfl⟩
abbrev main_call14_call1_v142 : Ref sig .tc := ⟨.hbm, 6965, rfl⟩
abbrev main_call14_call1_c_36 : Ref sig .tc := ⟨.hbm, 6966, rfl⟩
abbrev main_call14_call1_v143 : Ref sig .tc := ⟨.hbm, 6967, rfl⟩
abbrev main_call14_call1_v144 : Ref sig .tc := ⟨.hbm, 6968, rfl⟩
abbrev main_call14_call1_c_37 : Ref sig .tc := ⟨.hbm, 6969, rfl⟩
abbrev main_call14_call1_v145 : Ref sig .tc := ⟨.hbm, 6970, rfl⟩
abbrev main_call14_call1_v146 : Ref sig .tc := ⟨.hbm, 6971, rfl⟩
abbrev main_call14_call1_v147 : Ref sig .tc := ⟨.hbm, 6972, rfl⟩
abbrev main_call14_call1_v148 : Ref sig .tc := ⟨.hbm, 6973, rfl⟩
abbrev main_call14_call1_v149 : Ref sig .tc := ⟨.hbm, 6974, rfl⟩
abbrev main_call14_call1_c_38 : Ref sig .tc := ⟨.hbm, 6975, rfl⟩
abbrev main_call14_call1_v150 : Ref sig .tc := ⟨.hbm, 6976, rfl⟩
abbrev main_call14_call1_v151 : Ref sig .tc := ⟨.hbm, 6977, rfl⟩
abbrev main_call14_call1_c_39 : Ref sig .tc := ⟨.hbm, 6978, rfl⟩
abbrev main_call14_call1_v152 : Ref sig .tc := ⟨.hbm, 6979, rfl⟩
abbrev main_call14_call1_v153 : Ref sig .tc := ⟨.hbm, 6980, rfl⟩
abbrev main_call14_call1_v154 : Ref sig .tc := ⟨.hbm, 6981, rfl⟩
abbrev main_call14_call1_v155 : Ref sig .tc := ⟨.hbm, 6982, rfl⟩
abbrev main_call14_call1_v156 : Ref sig .tc := ⟨.hbm, 6983, rfl⟩
abbrev main_call14_call1_c_40 : Ref sig .tc := ⟨.hbm, 6984, rfl⟩
abbrev main_call14_call1_v157 : Ref sig .tc := ⟨.hbm, 6985, rfl⟩
abbrev main_call14_call1_v158 : Ref sig .tc := ⟨.hbm, 6986, rfl⟩
abbrev main_call14_call1_c_41 : Ref sig .tc := ⟨.hbm, 6987, rfl⟩
abbrev main_call14_call1_v159 : Ref sig .tc := ⟨.hbm, 6988, rfl⟩
abbrev main_call14_call1_v160 : Ref sig .tc := ⟨.hbm, 6989, rfl⟩
abbrev main_call14_call1_v161 : Ref sig .tc := ⟨.hbm, 6990, rfl⟩
abbrev main_call14_call1_v162 : Ref sig .tc := ⟨.hbm, 6991, rfl⟩
abbrev main_call14_call1_v163 : Ref sig .tc := ⟨.hbm, 6992, rfl⟩
abbrev main_call14_call1_c_42 : Ref sig .tc := ⟨.hbm, 6993, rfl⟩
abbrev main_call14_call1_v164 : Ref sig .tc := ⟨.hbm, 6994, rfl⟩
abbrev main_call14_call1_v165 : Ref sig .tc := ⟨.hbm, 6995, rfl⟩
abbrev main_call14_call1_c_43 : Ref sig .tc := ⟨.hbm, 6996, rfl⟩
abbrev main_call14_call1_v166 : Ref sig .tc := ⟨.hbm, 6997, rfl⟩
abbrev main_call14_call1_v167 : Ref sig .tc := ⟨.hbm, 6998, rfl⟩
abbrev main_call14_call1_v168 : Ref sig .tc := ⟨.hbm, 6999, rfl⟩
abbrev main_call14_call1_v169 : Ref sig .tc := ⟨.hbm, 7000, rfl⟩
abbrev main_call14_call1_v170 : Ref sig .tc := ⟨.hbm, 7001, rfl⟩
abbrev main_call14_v16_0 : Ref sig .tc := ⟨.hbm, 7002, rfl⟩
abbrev main_call14_call1_v172 : Ref sig .tc := ⟨.hbm, 7003, rfl⟩
abbrev main_call14_call1_v173 : Ref sig .tc := ⟨.hbm, 7004, rfl⟩
abbrev main_call14_call1_c_44 : Ref sig .tc := ⟨.hbm, 7005, rfl⟩
abbrev main_call14_call1_v174 : Ref sig .tc := ⟨.hbm, 7006, rfl⟩
abbrev main_call14_v16_1 : Ref sig .tc := ⟨.hbm, 7007, rfl⟩
abbrev main_call14_v17 : Ref sig .tc := ⟨.hbm, 7008, rfl⟩
abbrev main_call14_v18_0 : Ref sig .tc := ⟨.hbm, 7009, rfl⟩
abbrev main_v63 : Ref sig .tc := ⟨.hbm, 7010, rfl⟩
abbrev main_v64 : Ref sig .tc := ⟨.hbm, 7011, rfl⟩
abbrev main_v65 : Ref sig .tc := ⟨.hbm, 7012, rfl⟩
abbrev main_v66 : Ref sig .tc := ⟨.hbm, 7013, rfl⟩
abbrev main_call15_call0_v0 : Ref sig .tc := ⟨.hbm, 7014, rfl⟩
abbrev main_call15_call0_v1 : Ref sig .tc := ⟨.hbm, 7015, rfl⟩
abbrev main_call15_call0_v2 : Ref sig .tc := ⟨.hbm, 7016, rfl⟩
abbrev main_call15_call0_v3 : Ref sig .tc := ⟨.hbm, 7017, rfl⟩
abbrev main_call15_call0_v4 : Ref sig .tc := ⟨.hbm, 7018, rfl⟩
abbrev main_call15_call0_c : Ref sig .tc := ⟨.hbm, 7019, rfl⟩
abbrev main_call15_call0_v5 : Ref sig .tc := ⟨.hbm, 7020, rfl⟩
abbrev main_call15_call0_v6 : Ref sig .tc := ⟨.hbm, 7021, rfl⟩
abbrev main_call15_call0_c_0 : Ref sig .tc := ⟨.hbm, 7022, rfl⟩
abbrev main_call15_call0_v7 : Ref sig .tc := ⟨.hbm, 7023, rfl⟩
abbrev main_call15_call0_v8 : Ref sig .tc := ⟨.hbm, 7024, rfl⟩
abbrev main_call15_call0_v9 : Ref sig .tc := ⟨.hbm, 7025, rfl⟩
abbrev main_call15_call0_v10 : Ref sig .tc := ⟨.hbm, 7026, rfl⟩
abbrev main_call15_call0_call0_v0 : Ref sig .tc := ⟨.hbm, 7027, rfl⟩
abbrev main_call15_call0_call0_c : Ref sig .tc := ⟨.hbm, 7028, rfl⟩
abbrev main_call15_call0_call0_v1 : Ref sig .tc := ⟨.hbm, 7029, rfl⟩
abbrev main_call15_call0_call0_v2 : Ref sig .tc := ⟨.hbm, 7030, rfl⟩
abbrev main_call15_call0_call0_v3 : Ref sig .tc := ⟨.hbm, 7031, rfl⟩
abbrev main_call15_call0_call0_v4 : Ref sig .tc := ⟨.hbm, 7032, rfl⟩
abbrev main_call15_call0_call0_v5 : Ref sig .tc := ⟨.hbm, 7033, rfl⟩
abbrev main_call15_call0_call0_v6 : Ref sig .tc := ⟨.hbm, 7034, rfl⟩
abbrev main_call15_call0_call0_c_0 : Ref sig .tc := ⟨.hbm, 7035, rfl⟩
abbrev main_call15_call0_call0_v7 : Ref sig .tc := ⟨.hbm, 7036, rfl⟩
abbrev main_call15_call0_call0_v8 : Ref sig .tc := ⟨.hbm, 7037, rfl⟩
abbrev main_call15_call0_call0_c_1 : Ref sig .tc := ⟨.hbm, 7038, rfl⟩
abbrev main_call15_call0_call0_v9 : Ref sig .tc := ⟨.hbm, 7039, rfl⟩
abbrev main_call15_call0_call0_v10 : Ref sig .tc := ⟨.hbm, 7040, rfl⟩
abbrev main_call15_call0_call0_v11 : Ref sig .tc := ⟨.hbm, 7041, rfl⟩
abbrev main_call15_call0_call0_v12 : Ref sig .tc := ⟨.hbm, 7042, rfl⟩
abbrev main_call15_call0_call0_v13 : Ref sig .tc := ⟨.hbm, 7043, rfl⟩
abbrev main_call15_call0_call0_c_2 : Ref sig .tc := ⟨.hbm, 7044, rfl⟩
abbrev main_call15_call0_call0_v14 : Ref sig .tc := ⟨.hbm, 7045, rfl⟩
abbrev main_call15_call0_call0_v15 : Ref sig .tc := ⟨.hbm, 7046, rfl⟩
abbrev main_call15_call0_call0_c_3 : Ref sig .tc := ⟨.hbm, 7047, rfl⟩
abbrev main_call15_call0_call0_v16 : Ref sig .tc := ⟨.hbm, 7048, rfl⟩
abbrev main_call15_call0_call0_v17 : Ref sig .tc := ⟨.hbm, 7049, rfl⟩
abbrev main_call15_call0_call0_v18 : Ref sig .tc := ⟨.hbm, 7050, rfl⟩
abbrev main_call15_call0_call0_v19 : Ref sig .tc := ⟨.hbm, 7051, rfl⟩
abbrev main_call15_call0_call0_v20 : Ref sig .tc := ⟨.hbm, 7052, rfl⟩
abbrev main_call15_call0_call0_c_4 : Ref sig .tc := ⟨.hbm, 7053, rfl⟩
abbrev main_call15_call0_call0_v21 : Ref sig .tc := ⟨.hbm, 7054, rfl⟩
abbrev main_call15_call0_call0_v22 : Ref sig .tc := ⟨.hbm, 7055, rfl⟩
abbrev main_call15_call0_call0_c_5 : Ref sig .tc := ⟨.hbm, 7056, rfl⟩
abbrev main_call15_call0_call0_v23 : Ref sig .tc := ⟨.hbm, 7057, rfl⟩
abbrev main_call15_call0_call0_v24 : Ref sig .tc := ⟨.hbm, 7058, rfl⟩
abbrev main_call15_call0_call0_v25 : Ref sig .tc := ⟨.hbm, 7059, rfl⟩
abbrev main_call15_call0_call0_v26 : Ref sig .tc := ⟨.hbm, 7060, rfl⟩
abbrev main_call15_call0_call0_v27 : Ref sig .tc := ⟨.hbm, 7061, rfl⟩
abbrev main_call15_call0_call0_c_6 : Ref sig .tc := ⟨.hbm, 7062, rfl⟩
abbrev main_call15_call0_call0_v28 : Ref sig .tc := ⟨.hbm, 7063, rfl⟩
abbrev main_call15_call0_call0_v29 : Ref sig .tc := ⟨.hbm, 7064, rfl⟩
abbrev main_call15_call0_call0_c_7 : Ref sig .tc := ⟨.hbm, 7065, rfl⟩
abbrev main_call15_call0_call0_v30 : Ref sig .tc := ⟨.hbm, 7066, rfl⟩
abbrev main_call15_call0_call0_v31 : Ref sig .tc := ⟨.hbm, 7067, rfl⟩
abbrev main_call15_call0_call0_v32 : Ref sig .tc := ⟨.hbm, 7068, rfl⟩
abbrev main_call15_call0_call0_v33 : Ref sig .tc := ⟨.hbm, 7069, rfl⟩
abbrev main_call15_call0_call0_v34 : Ref sig .tc := ⟨.hbm, 7070, rfl⟩
abbrev main_call15_call0_call0_v35 : Ref sig .tc := ⟨.hbm, 7071, rfl⟩
abbrev main_call15_call0_call0_v36 : Ref sig .tc := ⟨.hbm, 7072, rfl⟩
abbrev main_call15_call0_call0_v37 : Ref sig .tc := ⟨.hbm, 7073, rfl⟩
abbrev main_call15_call0_call0_c_8 : Ref sig .tc := ⟨.hbm, 7074, rfl⟩
abbrev main_call15_call0_call0_v38 : Ref sig .tc := ⟨.hbm, 7075, rfl⟩
abbrev main_call15_call0_call0_v39 : Ref sig .tc := ⟨.hbm, 7076, rfl⟩
abbrev main_call15_call0_call0_v40 : Ref sig .tc := ⟨.hbm, 7077, rfl⟩
abbrev main_call15_call0_call0_c_9 : Ref sig .tc := ⟨.hbm, 7078, rfl⟩
abbrev main_call15_call0_call0_v41 : Ref sig .tc := ⟨.hbm, 7079, rfl⟩
abbrev main_call15_call0_call0_v42 : Ref sig .tc := ⟨.hbm, 7080, rfl⟩
abbrev main_call15_call0_call0_c_10 : Ref sig .tc := ⟨.hbm, 7081, rfl⟩
abbrev main_call15_call0_call0_v43 : Ref sig .tc := ⟨.hbm, 7082, rfl⟩
abbrev main_call15_call0_call0_v44 : Ref sig .tc := ⟨.hbm, 7083, rfl⟩
abbrev main_call15_call0_call0_v45 : Ref sig .tc := ⟨.hbm, 7084, rfl⟩
abbrev main_call15_call0_call0_v46 : Ref sig .tc := ⟨.hbm, 7085, rfl⟩
abbrev main_call15_call0_call0_v47 : Ref sig .tc := ⟨.hbm, 7086, rfl⟩
abbrev main_call15_call0_call0_c_11 : Ref sig .tc := ⟨.hbm, 7087, rfl⟩
abbrev main_call15_call0_call0_v48 : Ref sig .tc := ⟨.hbm, 7088, rfl⟩
abbrev main_call15_call0_call0_v49 : Ref sig .tc := ⟨.hbm, 7089, rfl⟩
abbrev main_call15_call0_call0_c_12 : Ref sig .tc := ⟨.hbm, 7090, rfl⟩
abbrev main_call15_call0_call0_v50 : Ref sig .tc := ⟨.hbm, 7091, rfl⟩
abbrev main_call15_call0_call0_v51 : Ref sig .tc := ⟨.hbm, 7092, rfl⟩
abbrev main_call15_call0_call0_v52 : Ref sig .tc := ⟨.hbm, 7093, rfl⟩
abbrev main_call15_call0_call0_v53 : Ref sig .tc := ⟨.hbm, 7094, rfl⟩
abbrev main_call15_call0_call0_v54 : Ref sig .tc := ⟨.hbm, 7095, rfl⟩
abbrev main_call15_call0_call0_c_13 : Ref sig .tc := ⟨.hbm, 7096, rfl⟩
abbrev main_call15_call0_call0_v55 : Ref sig .tc := ⟨.hbm, 7097, rfl⟩
abbrev main_call15_call0_call0_v56 : Ref sig .tc := ⟨.hbm, 7098, rfl⟩
abbrev main_call15_call0_call0_c_14 : Ref sig .tc := ⟨.hbm, 7099, rfl⟩
abbrev main_call15_call0_call0_v57 : Ref sig .tc := ⟨.hbm, 7100, rfl⟩
abbrev main_call15_call0_call0_v58 : Ref sig .tc := ⟨.hbm, 7101, rfl⟩
abbrev main_call15_call0_call0_v59 : Ref sig .tc := ⟨.hbm, 7102, rfl⟩
abbrev main_call15_call0_call0_v60 : Ref sig .tc := ⟨.hbm, 7103, rfl⟩
abbrev main_call15_call0_call0_v61 : Ref sig .tc := ⟨.hbm, 7104, rfl⟩
abbrev main_call15_call0_call0_c_15 : Ref sig .tc := ⟨.hbm, 7105, rfl⟩
abbrev main_call15_call0_call0_v62 : Ref sig .tc := ⟨.hbm, 7106, rfl⟩
abbrev main_call15_call0_call0_v63 : Ref sig .tc := ⟨.hbm, 7107, rfl⟩
abbrev main_call15_call0_call0_c_16 : Ref sig .tc := ⟨.hbm, 7108, rfl⟩
abbrev main_call15_call0_call0_v64 : Ref sig .tc := ⟨.hbm, 7109, rfl⟩
abbrev main_call15_call0_call0_v65 : Ref sig .tc := ⟨.hbm, 7110, rfl⟩
abbrev main_call15_call0_call0_v66 : Ref sig .tc := ⟨.hbm, 7111, rfl⟩
abbrev main_call15_call0_call0_v67 : Ref sig .tc := ⟨.hbm, 7112, rfl⟩
abbrev main_call15_call0_call0_v68 : Ref sig .tc := ⟨.hbm, 7113, rfl⟩
abbrev main_call15_call0_call0_v69 : Ref sig .tc := ⟨.hbm, 7114, rfl⟩
abbrev main_call15_call0_call0_v70 : Ref sig .tc := ⟨.hbm, 7115, rfl⟩
abbrev main_call15_call0_call0_v71 : Ref sig .tc := ⟨.hbm, 7116, rfl⟩
abbrev main_call15_call0_call0_c_17 : Ref sig .tc := ⟨.hbm, 7117, rfl⟩
abbrev main_call15_call0_call0_v72 : Ref sig .tc := ⟨.hbm, 7118, rfl⟩
abbrev main_call15_call0_call0_v73 : Ref sig .tc := ⟨.hbm, 7119, rfl⟩
abbrev main_call15_call0_call0_v74 : Ref sig .tc := ⟨.hbm, 7120, rfl⟩
abbrev main_call15_call0_call0_c_18 : Ref sig .tc := ⟨.hbm, 7121, rfl⟩
abbrev main_call15_call0_call0_v75 : Ref sig .tc := ⟨.hbm, 7122, rfl⟩
abbrev main_call15_call0_call0_v76 : Ref sig .tc := ⟨.hbm, 7123, rfl⟩
abbrev main_call15_call0_call0_c_19 : Ref sig .tc := ⟨.hbm, 7124, rfl⟩
abbrev main_call15_call0_call0_v77 : Ref sig .tc := ⟨.hbm, 7125, rfl⟩
abbrev main_call15_call0_call0_v78 : Ref sig .tc := ⟨.hbm, 7126, rfl⟩
abbrev main_call15_call0_call0_v79 : Ref sig .tc := ⟨.hbm, 7127, rfl⟩
abbrev main_call15_call0_call0_v80 : Ref sig .tc := ⟨.hbm, 7128, rfl⟩
abbrev main_call15_call0_call0_v81 : Ref sig .tc := ⟨.hbm, 7129, rfl⟩
abbrev main_call15_call0_call0_c_20 : Ref sig .tc := ⟨.hbm, 7130, rfl⟩
abbrev main_call15_call0_call0_v82 : Ref sig .tc := ⟨.hbm, 7131, rfl⟩
abbrev main_call15_call0_call0_v83 : Ref sig .tc := ⟨.hbm, 7132, rfl⟩
abbrev main_call15_call0_call0_c_21 : Ref sig .tc := ⟨.hbm, 7133, rfl⟩
abbrev main_call15_call0_call0_v84 : Ref sig .tc := ⟨.hbm, 7134, rfl⟩
abbrev main_call15_call0_call0_v85 : Ref sig .tc := ⟨.hbm, 7135, rfl⟩
abbrev main_call15_call0_call0_v86 : Ref sig .tc := ⟨.hbm, 7136, rfl⟩
abbrev main_call15_call0_call0_v87 : Ref sig .tc := ⟨.hbm, 7137, rfl⟩
abbrev main_call15_call0_call0_v88 : Ref sig .tc := ⟨.hbm, 7138, rfl⟩
abbrev main_call15_call0_call0_c_22 : Ref sig .tc := ⟨.hbm, 7139, rfl⟩
abbrev main_call15_call0_call0_v89 : Ref sig .tc := ⟨.hbm, 7140, rfl⟩
abbrev main_call15_call0_call0_v90 : Ref sig .tc := ⟨.hbm, 7141, rfl⟩
abbrev main_call15_call0_call0_c_23 : Ref sig .tc := ⟨.hbm, 7142, rfl⟩
abbrev main_call15_call0_call0_v91 : Ref sig .tc := ⟨.hbm, 7143, rfl⟩
abbrev main_call15_call0_call0_v92 : Ref sig .tc := ⟨.hbm, 7144, rfl⟩
abbrev main_call15_call0_call0_v93 : Ref sig .tc := ⟨.hbm, 7145, rfl⟩
abbrev main_call15_call0_call0_v94 : Ref sig .tc := ⟨.hbm, 7146, rfl⟩
abbrev main_call15_call0_call0_v95 : Ref sig .tc := ⟨.hbm, 7147, rfl⟩
abbrev main_call15_call0_call0_c_24 : Ref sig .tc := ⟨.hbm, 7148, rfl⟩
abbrev main_call15_call0_call0_v96 : Ref sig .tc := ⟨.hbm, 7149, rfl⟩
abbrev main_call15_call0_call0_v97 : Ref sig .tc := ⟨.hbm, 7150, rfl⟩
abbrev main_call15_call0_call0_c_25 : Ref sig .tc := ⟨.hbm, 7151, rfl⟩
abbrev main_call15_call0_call0_v98 : Ref sig .tc := ⟨.hbm, 7152, rfl⟩
abbrev main_call15_call0_call0_v99 : Ref sig .tc := ⟨.hbm, 7153, rfl⟩
abbrev main_call15_call0_call0_v100 : Ref sig .tc := ⟨.hbm, 7154, rfl⟩
abbrev main_call15_call0_call0_v101 : Ref sig .tc := ⟨.hbm, 7155, rfl⟩
abbrev main_call15_call0_call0_v102 : Ref sig .tc := ⟨.hbm, 7156, rfl⟩
abbrev main_call15_call0_call0_v103 : Ref sig .tc := ⟨.hbm, 7157, rfl⟩
abbrev main_call15_call0_call0_v104 : Ref sig .tc := ⟨.hbm, 7158, rfl⟩
abbrev main_call15_call0_call0_v105 : Ref sig .tc := ⟨.hbm, 7159, rfl⟩
abbrev main_call15_call0_call0_c_26 : Ref sig .tc := ⟨.hbm, 7160, rfl⟩
abbrev main_call15_call0_call0_v106 : Ref sig .tc := ⟨.hbm, 7161, rfl⟩
abbrev main_call15_call0_call0_v107 : Ref sig .tc := ⟨.hbm, 7162, rfl⟩
abbrev main_call15_call0_call0_v108 : Ref sig .tc := ⟨.hbm, 7163, rfl⟩
abbrev main_call15_call0_call0_c_27 : Ref sig .tc := ⟨.hbm, 7164, rfl⟩
abbrev main_call15_call0_call0_v109 : Ref sig .tc := ⟨.hbm, 7165, rfl⟩
abbrev main_call15_call0_call0_v110 : Ref sig .tc := ⟨.hbm, 7166, rfl⟩
abbrev main_call15_call0_call0_c_28 : Ref sig .tc := ⟨.hbm, 7167, rfl⟩
abbrev main_call15_call0_call0_v111 : Ref sig .tc := ⟨.hbm, 7168, rfl⟩
abbrev main_call15_call0_call0_v112 : Ref sig .tc := ⟨.hbm, 7169, rfl⟩
abbrev main_call15_call0_call0_v113 : Ref sig .tc := ⟨.hbm, 7170, rfl⟩
abbrev main_call15_call0_call0_v114 : Ref sig .tc := ⟨.hbm, 7171, rfl⟩
abbrev main_call15_call0_call0_v115 : Ref sig .tc := ⟨.hbm, 7172, rfl⟩
abbrev main_call15_call0_call0_c_29 : Ref sig .tc := ⟨.hbm, 7173, rfl⟩
abbrev main_call15_call0_call0_v116 : Ref sig .tc := ⟨.hbm, 7174, rfl⟩
abbrev main_call15_call0_call0_v117 : Ref sig .tc := ⟨.hbm, 7175, rfl⟩
abbrev main_call15_call0_call0_c_30 : Ref sig .tc := ⟨.hbm, 7176, rfl⟩
abbrev main_call15_call0_call0_v118 : Ref sig .tc := ⟨.hbm, 7177, rfl⟩
abbrev main_call15_call0_call0_v119 : Ref sig .tc := ⟨.hbm, 7178, rfl⟩
abbrev main_call15_call0_call0_v120 : Ref sig .tc := ⟨.hbm, 7179, rfl⟩
abbrev main_call15_call0_call0_v121 : Ref sig .tc := ⟨.hbm, 7180, rfl⟩
abbrev main_call15_call0_call0_v122 : Ref sig .tc := ⟨.hbm, 7181, rfl⟩
abbrev main_call15_call0_call0_c_31 : Ref sig .tc := ⟨.hbm, 7182, rfl⟩
abbrev main_call15_call0_call0_v123 : Ref sig .tc := ⟨.hbm, 7183, rfl⟩
abbrev main_call15_call0_call0_v124 : Ref sig .tc := ⟨.hbm, 7184, rfl⟩
abbrev main_call15_call0_call0_c_32 : Ref sig .tc := ⟨.hbm, 7185, rfl⟩
abbrev main_call15_call0_call0_v125 : Ref sig .tc := ⟨.hbm, 7186, rfl⟩
abbrev main_call15_call0_call0_v126 : Ref sig .tc := ⟨.hbm, 7187, rfl⟩
abbrev main_call15_call0_call0_v127 : Ref sig .tc := ⟨.hbm, 7188, rfl⟩
abbrev main_call15_call0_call0_v128 : Ref sig .tc := ⟨.hbm, 7189, rfl⟩
abbrev main_call15_call0_call0_v129 : Ref sig .tc := ⟨.hbm, 7190, rfl⟩
abbrev main_call15_call0_call0_c_33 : Ref sig .tc := ⟨.hbm, 7191, rfl⟩
abbrev main_call15_call0_call0_v130 : Ref sig .tc := ⟨.hbm, 7192, rfl⟩
abbrev main_call15_call0_call0_v131 : Ref sig .tc := ⟨.hbm, 7193, rfl⟩
abbrev main_call15_call0_call0_c_34 : Ref sig .tc := ⟨.hbm, 7194, rfl⟩
abbrev main_call15_call0_call0_v132 : Ref sig .tc := ⟨.hbm, 7195, rfl⟩
abbrev main_call15_call0_call0_v133 : Ref sig .tc := ⟨.hbm, 7196, rfl⟩
abbrev main_call15_call0_call0_v134 : Ref sig .tc := ⟨.hbm, 7197, rfl⟩
abbrev main_call15_call0_call0_v135 : Ref sig .tc := ⟨.hbm, 7198, rfl⟩
abbrev main_call15_call0_call0_v136 : Ref sig .tc := ⟨.hbm, 7199, rfl⟩
abbrev main_call15_call0_call0_v137 : Ref sig .tc := ⟨.hbm, 7200, rfl⟩
abbrev main_call15_call0_call0_v138 : Ref sig .tc := ⟨.hbm, 7201, rfl⟩
abbrev main_call15_call0_call0_v139 : Ref sig .tc := ⟨.hbm, 7202, rfl⟩
abbrev main_call15_call0_call0_c_35 : Ref sig .tc := ⟨.hbm, 7203, rfl⟩
abbrev main_call15_call0_call0_v140 : Ref sig .tc := ⟨.hbm, 7204, rfl⟩
abbrev main_call15_call0_call0_v141 : Ref sig .tc := ⟨.hbm, 7205, rfl⟩
abbrev main_call15_call0_call0_v142 : Ref sig .tc := ⟨.hbm, 7206, rfl⟩
abbrev main_call15_call0_call0_c_36 : Ref sig .tc := ⟨.hbm, 7207, rfl⟩
abbrev main_call15_call0_call0_v143 : Ref sig .tc := ⟨.hbm, 7208, rfl⟩
abbrev main_call15_call0_call0_v144 : Ref sig .tc := ⟨.hbm, 7209, rfl⟩
abbrev main_call15_call0_call0_c_37 : Ref sig .tc := ⟨.hbm, 7210, rfl⟩
abbrev main_call15_call0_call0_v145 : Ref sig .tc := ⟨.hbm, 7211, rfl⟩
abbrev main_call15_call0_call0_v146 : Ref sig .tc := ⟨.hbm, 7212, rfl⟩
abbrev main_call15_call0_call0_v147 : Ref sig .tc := ⟨.hbm, 7213, rfl⟩
abbrev main_call15_call0_call0_v148 : Ref sig .tc := ⟨.hbm, 7214, rfl⟩
abbrev main_call15_call0_call0_v149 : Ref sig .tc := ⟨.hbm, 7215, rfl⟩
abbrev main_call15_call0_call0_c_38 : Ref sig .tc := ⟨.hbm, 7216, rfl⟩
abbrev main_call15_call0_call0_v150 : Ref sig .tc := ⟨.hbm, 7217, rfl⟩
abbrev main_call15_call0_call0_v151 : Ref sig .tc := ⟨.hbm, 7218, rfl⟩
abbrev main_call15_call0_call0_c_39 : Ref sig .tc := ⟨.hbm, 7219, rfl⟩
abbrev main_call15_call0_call0_v152 : Ref sig .tc := ⟨.hbm, 7220, rfl⟩
abbrev main_call15_call0_call0_v153 : Ref sig .tc := ⟨.hbm, 7221, rfl⟩
abbrev main_call15_call0_call0_v154 : Ref sig .tc := ⟨.hbm, 7222, rfl⟩
abbrev main_call15_call0_call0_v155 : Ref sig .tc := ⟨.hbm, 7223, rfl⟩
abbrev main_call15_call0_call0_v156 : Ref sig .tc := ⟨.hbm, 7224, rfl⟩
abbrev main_call15_call0_call0_c_40 : Ref sig .tc := ⟨.hbm, 7225, rfl⟩
abbrev main_call15_call0_call0_v157 : Ref sig .tc := ⟨.hbm, 7226, rfl⟩
abbrev main_call15_call0_call0_v158 : Ref sig .tc := ⟨.hbm, 7227, rfl⟩
abbrev main_call15_call0_call0_c_41 : Ref sig .tc := ⟨.hbm, 7228, rfl⟩
abbrev main_call15_call0_call0_v159 : Ref sig .tc := ⟨.hbm, 7229, rfl⟩
abbrev main_call15_call0_call0_v160 : Ref sig .tc := ⟨.hbm, 7230, rfl⟩
abbrev main_call15_call0_call0_v161 : Ref sig .tc := ⟨.hbm, 7231, rfl⟩
abbrev main_call15_call0_call0_v162 : Ref sig .tc := ⟨.hbm, 7232, rfl⟩
abbrev main_call15_call0_call0_v163 : Ref sig .tc := ⟨.hbm, 7233, rfl⟩
abbrev main_call15_call0_call0_c_42 : Ref sig .tc := ⟨.hbm, 7234, rfl⟩
abbrev main_call15_call0_call0_v164 : Ref sig .tc := ⟨.hbm, 7235, rfl⟩
abbrev main_call15_call0_call0_v165 : Ref sig .tc := ⟨.hbm, 7236, rfl⟩
abbrev main_call15_call0_call0_c_43 : Ref sig .tc := ⟨.hbm, 7237, rfl⟩
abbrev main_call15_call0_call0_v166 : Ref sig .tc := ⟨.hbm, 7238, rfl⟩
abbrev main_call15_call0_call0_v167 : Ref sig .tc := ⟨.hbm, 7239, rfl⟩
abbrev main_call15_call0_call0_v168 : Ref sig .tc := ⟨.hbm, 7240, rfl⟩
abbrev main_call15_call0_call0_v169 : Ref sig .tc := ⟨.hbm, 7241, rfl⟩
abbrev main_call15_call0_call0_v170 : Ref sig .tc := ⟨.hbm, 7242, rfl⟩
abbrev main_call15_call0_v11_0 : Ref sig .tc := ⟨.hbm, 7243, rfl⟩
abbrev main_call15_call0_call0_v172 : Ref sig .tc := ⟨.hbm, 7244, rfl⟩
abbrev main_call15_call0_call0_v173 : Ref sig .tc := ⟨.hbm, 7245, rfl⟩
abbrev main_call15_call0_call0_c_44 : Ref sig .tc := ⟨.hbm, 7246, rfl⟩
abbrev main_call15_call0_call0_v174 : Ref sig .tc := ⟨.hbm, 7247, rfl⟩
abbrev main_call15_call0_v11_1 : Ref sig .tc := ⟨.hbm, 7248, rfl⟩
abbrev main_call15_call0_v12 : Ref sig .tc := ⟨.hbm, 7249, rfl⟩
abbrev main_call15_call0_v13 : Ref sig .tc := ⟨.hbm, 7250, rfl⟩
abbrev main_call15_v0 : Ref sig .tc := ⟨.hbm, 7251, rfl⟩
abbrev main_call15_v1 : Ref sig .tc := ⟨.hbm, 7252, rfl⟩
abbrev main_call15_v2 : Ref sig .tc := ⟨.hbm, 7253, rfl⟩
abbrev main_call15_v3 : Ref sig .tc := ⟨.hbm, 7254, rfl⟩
abbrev main_call15_v4 : Ref sig .tc := ⟨.hbm, 7255, rfl⟩
abbrev main_call15_v5 : Ref sig .tc := ⟨.hbm, 7256, rfl⟩
abbrev main_call15_v6 : Ref sig .tc := ⟨.hbm, 7257, rfl⟩
abbrev main_call15_v7 : Ref sig .tc := ⟨.hbm, 7258, rfl⟩
abbrev main_call15_v8 : Ref sig .tc := ⟨.hbm, 7259, rfl⟩
abbrev main_call15_v9 : Ref sig .tc := ⟨.hbm, 7260, rfl⟩
abbrev main_call15_c : Ref sig .tc := ⟨.hbm, 7261, rfl⟩
abbrev main_call15_v10 : Ref sig .tc := ⟨.hbm, 7262, rfl⟩
abbrev main_call15_v11 : Ref sig .tc := ⟨.hbm, 7263, rfl⟩
abbrev main_call15_c_0 : Ref sig .tc := ⟨.hbm, 7264, rfl⟩
abbrev main_call15_v12 : Ref sig .tc := ⟨.hbm, 7265, rfl⟩
abbrev main_call15_v13 : Ref sig .tc := ⟨.hbm, 7266, rfl⟩
abbrev main_call15_v14 : Ref sig .tc := ⟨.hbm, 7267, rfl⟩
abbrev main_call15_v15 : Ref sig .tc := ⟨.hbm, 7268, rfl⟩
abbrev main_call15_call1_v0 : Ref sig .tc := ⟨.hbm, 7269, rfl⟩
abbrev main_call15_call1_c : Ref sig .tc := ⟨.hbm, 7270, rfl⟩
abbrev main_call15_call1_v1 : Ref sig .tc := ⟨.hbm, 7271, rfl⟩
abbrev main_call15_call1_v2 : Ref sig .tc := ⟨.hbm, 7272, rfl⟩
abbrev main_call15_call1_v3 : Ref sig .tc := ⟨.hbm, 7273, rfl⟩
abbrev main_call15_call1_v4 : Ref sig .tc := ⟨.hbm, 7274, rfl⟩
abbrev main_call15_call1_v5 : Ref sig .tc := ⟨.hbm, 7275, rfl⟩
abbrev main_call15_call1_v6 : Ref sig .tc := ⟨.hbm, 7276, rfl⟩
abbrev main_call15_call1_c_0 : Ref sig .tc := ⟨.hbm, 7277, rfl⟩
abbrev main_call15_call1_v7 : Ref sig .tc := ⟨.hbm, 7278, rfl⟩
abbrev main_call15_call1_v8 : Ref sig .tc := ⟨.hbm, 7279, rfl⟩
abbrev main_call15_call1_c_1 : Ref sig .tc := ⟨.hbm, 7280, rfl⟩
abbrev main_call15_call1_v9 : Ref sig .tc := ⟨.hbm, 7281, rfl⟩
abbrev main_call15_call1_v10 : Ref sig .tc := ⟨.hbm, 7282, rfl⟩
abbrev main_call15_call1_v11 : Ref sig .tc := ⟨.hbm, 7283, rfl⟩
abbrev main_call15_call1_v12 : Ref sig .tc := ⟨.hbm, 7284, rfl⟩
abbrev main_call15_call1_v13 : Ref sig .tc := ⟨.hbm, 7285, rfl⟩
abbrev main_call15_call1_c_2 : Ref sig .tc := ⟨.hbm, 7286, rfl⟩
abbrev main_call15_call1_v14 : Ref sig .tc := ⟨.hbm, 7287, rfl⟩
abbrev main_call15_call1_v15 : Ref sig .tc := ⟨.hbm, 7288, rfl⟩
abbrev main_call15_call1_c_3 : Ref sig .tc := ⟨.hbm, 7289, rfl⟩
abbrev main_call15_call1_v16 : Ref sig .tc := ⟨.hbm, 7290, rfl⟩
abbrev main_call15_call1_v17 : Ref sig .tc := ⟨.hbm, 7291, rfl⟩
abbrev main_call15_call1_v18 : Ref sig .tc := ⟨.hbm, 7292, rfl⟩
abbrev main_call15_call1_v19 : Ref sig .tc := ⟨.hbm, 7293, rfl⟩
abbrev main_call15_call1_v20 : Ref sig .tc := ⟨.hbm, 7294, rfl⟩
abbrev main_call15_call1_c_4 : Ref sig .tc := ⟨.hbm, 7295, rfl⟩
abbrev main_call15_call1_v21 : Ref sig .tc := ⟨.hbm, 7296, rfl⟩
abbrev main_call15_call1_v22 : Ref sig .tc := ⟨.hbm, 7297, rfl⟩
abbrev main_call15_call1_c_5 : Ref sig .tc := ⟨.hbm, 7298, rfl⟩
abbrev main_call15_call1_v23 : Ref sig .tc := ⟨.hbm, 7299, rfl⟩
abbrev main_call15_call1_v24 : Ref sig .tc := ⟨.hbm, 7300, rfl⟩
abbrev main_call15_call1_v25 : Ref sig .tc := ⟨.hbm, 7301, rfl⟩
abbrev main_call15_call1_v26 : Ref sig .tc := ⟨.hbm, 7302, rfl⟩
abbrev main_call15_call1_v27 : Ref sig .tc := ⟨.hbm, 7303, rfl⟩
abbrev main_call15_call1_c_6 : Ref sig .tc := ⟨.hbm, 7304, rfl⟩
abbrev main_call15_call1_v28 : Ref sig .tc := ⟨.hbm, 7305, rfl⟩
abbrev main_call15_call1_v29 : Ref sig .tc := ⟨.hbm, 7306, rfl⟩
abbrev main_call15_call1_c_7 : Ref sig .tc := ⟨.hbm, 7307, rfl⟩
abbrev main_call15_call1_v30 : Ref sig .tc := ⟨.hbm, 7308, rfl⟩
abbrev main_call15_call1_v31 : Ref sig .tc := ⟨.hbm, 7309, rfl⟩
abbrev main_call15_call1_v32 : Ref sig .tc := ⟨.hbm, 7310, rfl⟩
abbrev main_call15_call1_v33 : Ref sig .tc := ⟨.hbm, 7311, rfl⟩
abbrev main_call15_call1_v34 : Ref sig .tc := ⟨.hbm, 7312, rfl⟩
abbrev main_call15_call1_v35 : Ref sig .tc := ⟨.hbm, 7313, rfl⟩
abbrev main_call15_call1_v36 : Ref sig .tc := ⟨.hbm, 7314, rfl⟩
abbrev main_call15_call1_v37 : Ref sig .tc := ⟨.hbm, 7315, rfl⟩
abbrev main_call15_call1_c_8 : Ref sig .tc := ⟨.hbm, 7316, rfl⟩
abbrev main_call15_call1_v38 : Ref sig .tc := ⟨.hbm, 7317, rfl⟩
abbrev main_call15_call1_v39 : Ref sig .tc := ⟨.hbm, 7318, rfl⟩
abbrev main_call15_call1_v40 : Ref sig .tc := ⟨.hbm, 7319, rfl⟩
abbrev main_call15_call1_c_9 : Ref sig .tc := ⟨.hbm, 7320, rfl⟩
abbrev main_call15_call1_v41 : Ref sig .tc := ⟨.hbm, 7321, rfl⟩
abbrev main_call15_call1_v42 : Ref sig .tc := ⟨.hbm, 7322, rfl⟩
abbrev main_call15_call1_c_10 : Ref sig .tc := ⟨.hbm, 7323, rfl⟩
abbrev main_call15_call1_v43 : Ref sig .tc := ⟨.hbm, 7324, rfl⟩
abbrev main_call15_call1_v44 : Ref sig .tc := ⟨.hbm, 7325, rfl⟩
abbrev main_call15_call1_v45 : Ref sig .tc := ⟨.hbm, 7326, rfl⟩
abbrev main_call15_call1_v46 : Ref sig .tc := ⟨.hbm, 7327, rfl⟩
abbrev main_call15_call1_v47 : Ref sig .tc := ⟨.hbm, 7328, rfl⟩
abbrev main_call15_call1_c_11 : Ref sig .tc := ⟨.hbm, 7329, rfl⟩
abbrev main_call15_call1_v48 : Ref sig .tc := ⟨.hbm, 7330, rfl⟩
abbrev main_call15_call1_v49 : Ref sig .tc := ⟨.hbm, 7331, rfl⟩
abbrev main_call15_call1_c_12 : Ref sig .tc := ⟨.hbm, 7332, rfl⟩
abbrev main_call15_call1_v50 : Ref sig .tc := ⟨.hbm, 7333, rfl⟩
abbrev main_call15_call1_v51 : Ref sig .tc := ⟨.hbm, 7334, rfl⟩
abbrev main_call15_call1_v52 : Ref sig .tc := ⟨.hbm, 7335, rfl⟩
abbrev main_call15_call1_v53 : Ref sig .tc := ⟨.hbm, 7336, rfl⟩
abbrev main_call15_call1_v54 : Ref sig .tc := ⟨.hbm, 7337, rfl⟩
abbrev main_call15_call1_c_13 : Ref sig .tc := ⟨.hbm, 7338, rfl⟩
abbrev main_call15_call1_v55 : Ref sig .tc := ⟨.hbm, 7339, rfl⟩
abbrev main_call15_call1_v56 : Ref sig .tc := ⟨.hbm, 7340, rfl⟩
abbrev main_call15_call1_c_14 : Ref sig .tc := ⟨.hbm, 7341, rfl⟩
abbrev main_call15_call1_v57 : Ref sig .tc := ⟨.hbm, 7342, rfl⟩
abbrev main_call15_call1_v58 : Ref sig .tc := ⟨.hbm, 7343, rfl⟩
abbrev main_call15_call1_v59 : Ref sig .tc := ⟨.hbm, 7344, rfl⟩
abbrev main_call15_call1_v60 : Ref sig .tc := ⟨.hbm, 7345, rfl⟩
abbrev main_call15_call1_v61 : Ref sig .tc := ⟨.hbm, 7346, rfl⟩
abbrev main_call15_call1_c_15 : Ref sig .tc := ⟨.hbm, 7347, rfl⟩
abbrev main_call15_call1_v62 : Ref sig .tc := ⟨.hbm, 7348, rfl⟩
abbrev main_call15_call1_v63 : Ref sig .tc := ⟨.hbm, 7349, rfl⟩
abbrev main_call15_call1_c_16 : Ref sig .tc := ⟨.hbm, 7350, rfl⟩
abbrev main_call15_call1_v64 : Ref sig .tc := ⟨.hbm, 7351, rfl⟩
abbrev main_call15_call1_v65 : Ref sig .tc := ⟨.hbm, 7352, rfl⟩
abbrev main_call15_call1_v66 : Ref sig .tc := ⟨.hbm, 7353, rfl⟩
abbrev main_call15_call1_v67 : Ref sig .tc := ⟨.hbm, 7354, rfl⟩
abbrev main_call15_call1_v68 : Ref sig .tc := ⟨.hbm, 7355, rfl⟩
abbrev main_call15_call1_v69 : Ref sig .tc := ⟨.hbm, 7356, rfl⟩
abbrev main_call15_call1_v70 : Ref sig .tc := ⟨.hbm, 7357, rfl⟩
abbrev main_call15_call1_v71 : Ref sig .tc := ⟨.hbm, 7358, rfl⟩
abbrev main_call15_call1_c_17 : Ref sig .tc := ⟨.hbm, 7359, rfl⟩
abbrev main_call15_call1_v72 : Ref sig .tc := ⟨.hbm, 7360, rfl⟩
abbrev main_call15_call1_v73 : Ref sig .tc := ⟨.hbm, 7361, rfl⟩
abbrev main_call15_call1_v74 : Ref sig .tc := ⟨.hbm, 7362, rfl⟩
abbrev main_call15_call1_c_18 : Ref sig .tc := ⟨.hbm, 7363, rfl⟩
abbrev main_call15_call1_v75 : Ref sig .tc := ⟨.hbm, 7364, rfl⟩
abbrev main_call15_call1_v76 : Ref sig .tc := ⟨.hbm, 7365, rfl⟩
abbrev main_call15_call1_c_19 : Ref sig .tc := ⟨.hbm, 7366, rfl⟩
abbrev main_call15_call1_v77 : Ref sig .tc := ⟨.hbm, 7367, rfl⟩
abbrev main_call15_call1_v78 : Ref sig .tc := ⟨.hbm, 7368, rfl⟩
abbrev main_call15_call1_v79 : Ref sig .tc := ⟨.hbm, 7369, rfl⟩
abbrev main_call15_call1_v80 : Ref sig .tc := ⟨.hbm, 7370, rfl⟩
abbrev main_call15_call1_v81 : Ref sig .tc := ⟨.hbm, 7371, rfl⟩
abbrev main_call15_call1_c_20 : Ref sig .tc := ⟨.hbm, 7372, rfl⟩
abbrev main_call15_call1_v82 : Ref sig .tc := ⟨.hbm, 7373, rfl⟩
abbrev main_call15_call1_v83 : Ref sig .tc := ⟨.hbm, 7374, rfl⟩
abbrev main_call15_call1_c_21 : Ref sig .tc := ⟨.hbm, 7375, rfl⟩
abbrev main_call15_call1_v84 : Ref sig .tc := ⟨.hbm, 7376, rfl⟩
abbrev main_call15_call1_v85 : Ref sig .tc := ⟨.hbm, 7377, rfl⟩
abbrev main_call15_call1_v86 : Ref sig .tc := ⟨.hbm, 7378, rfl⟩
abbrev main_call15_call1_v87 : Ref sig .tc := ⟨.hbm, 7379, rfl⟩
abbrev main_call15_call1_v88 : Ref sig .tc := ⟨.hbm, 7380, rfl⟩
abbrev main_call15_call1_c_22 : Ref sig .tc := ⟨.hbm, 7381, rfl⟩
abbrev main_call15_call1_v89 : Ref sig .tc := ⟨.hbm, 7382, rfl⟩
abbrev main_call15_call1_v90 : Ref sig .tc := ⟨.hbm, 7383, rfl⟩
abbrev main_call15_call1_c_23 : Ref sig .tc := ⟨.hbm, 7384, rfl⟩
abbrev main_call15_call1_v91 : Ref sig .tc := ⟨.hbm, 7385, rfl⟩
abbrev main_call15_call1_v92 : Ref sig .tc := ⟨.hbm, 7386, rfl⟩
abbrev main_call15_call1_v93 : Ref sig .tc := ⟨.hbm, 7387, rfl⟩
abbrev main_call15_call1_v94 : Ref sig .tc := ⟨.hbm, 7388, rfl⟩
abbrev main_call15_call1_v95 : Ref sig .tc := ⟨.hbm, 7389, rfl⟩
abbrev main_call15_call1_c_24 : Ref sig .tc := ⟨.hbm, 7390, rfl⟩
abbrev main_call15_call1_v96 : Ref sig .tc := ⟨.hbm, 7391, rfl⟩
abbrev main_call15_call1_v97 : Ref sig .tc := ⟨.hbm, 7392, rfl⟩
abbrev main_call15_call1_c_25 : Ref sig .tc := ⟨.hbm, 7393, rfl⟩
abbrev main_call15_call1_v98 : Ref sig .tc := ⟨.hbm, 7394, rfl⟩
abbrev main_call15_call1_v99 : Ref sig .tc := ⟨.hbm, 7395, rfl⟩
abbrev main_call15_call1_v100 : Ref sig .tc := ⟨.hbm, 7396, rfl⟩
abbrev main_call15_call1_v101 : Ref sig .tc := ⟨.hbm, 7397, rfl⟩
abbrev main_call15_call1_v102 : Ref sig .tc := ⟨.hbm, 7398, rfl⟩
abbrev main_call15_call1_v103 : Ref sig .tc := ⟨.hbm, 7399, rfl⟩
abbrev main_call15_call1_v104 : Ref sig .tc := ⟨.hbm, 7400, rfl⟩
abbrev main_call15_call1_v105 : Ref sig .tc := ⟨.hbm, 7401, rfl⟩
abbrev main_call15_call1_c_26 : Ref sig .tc := ⟨.hbm, 7402, rfl⟩
abbrev main_call15_call1_v106 : Ref sig .tc := ⟨.hbm, 7403, rfl⟩
abbrev main_call15_call1_v107 : Ref sig .tc := ⟨.hbm, 7404, rfl⟩
abbrev main_call15_call1_v108 : Ref sig .tc := ⟨.hbm, 7405, rfl⟩
abbrev main_call15_call1_c_27 : Ref sig .tc := ⟨.hbm, 7406, rfl⟩
abbrev main_call15_call1_v109 : Ref sig .tc := ⟨.hbm, 7407, rfl⟩
abbrev main_call15_call1_v110 : Ref sig .tc := ⟨.hbm, 7408, rfl⟩
abbrev main_call15_call1_c_28 : Ref sig .tc := ⟨.hbm, 7409, rfl⟩
abbrev main_call15_call1_v111 : Ref sig .tc := ⟨.hbm, 7410, rfl⟩
abbrev main_call15_call1_v112 : Ref sig .tc := ⟨.hbm, 7411, rfl⟩
abbrev main_call15_call1_v113 : Ref sig .tc := ⟨.hbm, 7412, rfl⟩
abbrev main_call15_call1_v114 : Ref sig .tc := ⟨.hbm, 7413, rfl⟩
abbrev main_call15_call1_v115 : Ref sig .tc := ⟨.hbm, 7414, rfl⟩
abbrev main_call15_call1_c_29 : Ref sig .tc := ⟨.hbm, 7415, rfl⟩
abbrev main_call15_call1_v116 : Ref sig .tc := ⟨.hbm, 7416, rfl⟩
abbrev main_call15_call1_v117 : Ref sig .tc := ⟨.hbm, 7417, rfl⟩
abbrev main_call15_call1_c_30 : Ref sig .tc := ⟨.hbm, 7418, rfl⟩
abbrev main_call15_call1_v118 : Ref sig .tc := ⟨.hbm, 7419, rfl⟩
abbrev main_call15_call1_v119 : Ref sig .tc := ⟨.hbm, 7420, rfl⟩
abbrev main_call15_call1_v120 : Ref sig .tc := ⟨.hbm, 7421, rfl⟩
abbrev main_call15_call1_v121 : Ref sig .tc := ⟨.hbm, 7422, rfl⟩
abbrev main_call15_call1_v122 : Ref sig .tc := ⟨.hbm, 7423, rfl⟩
abbrev main_call15_call1_c_31 : Ref sig .tc := ⟨.hbm, 7424, rfl⟩
abbrev main_call15_call1_v123 : Ref sig .tc := ⟨.hbm, 7425, rfl⟩
abbrev main_call15_call1_v124 : Ref sig .tc := ⟨.hbm, 7426, rfl⟩
abbrev main_call15_call1_c_32 : Ref sig .tc := ⟨.hbm, 7427, rfl⟩
abbrev main_call15_call1_v125 : Ref sig .tc := ⟨.hbm, 7428, rfl⟩
abbrev main_call15_call1_v126 : Ref sig .tc := ⟨.hbm, 7429, rfl⟩
abbrev main_call15_call1_v127 : Ref sig .tc := ⟨.hbm, 7430, rfl⟩
abbrev main_call15_call1_v128 : Ref sig .tc := ⟨.hbm, 7431, rfl⟩
abbrev main_call15_call1_v129 : Ref sig .tc := ⟨.hbm, 7432, rfl⟩
abbrev main_call15_call1_c_33 : Ref sig .tc := ⟨.hbm, 7433, rfl⟩
abbrev main_call15_call1_v130 : Ref sig .tc := ⟨.hbm, 7434, rfl⟩
abbrev main_call15_call1_v131 : Ref sig .tc := ⟨.hbm, 7435, rfl⟩
abbrev main_call15_call1_c_34 : Ref sig .tc := ⟨.hbm, 7436, rfl⟩
abbrev main_call15_call1_v132 : Ref sig .tc := ⟨.hbm, 7437, rfl⟩
abbrev main_call15_call1_v133 : Ref sig .tc := ⟨.hbm, 7438, rfl⟩
abbrev main_call15_call1_v134 : Ref sig .tc := ⟨.hbm, 7439, rfl⟩
abbrev main_call15_call1_v135 : Ref sig .tc := ⟨.hbm, 7440, rfl⟩
abbrev main_call15_call1_v136 : Ref sig .tc := ⟨.hbm, 7441, rfl⟩
abbrev main_call15_call1_v137 : Ref sig .tc := ⟨.hbm, 7442, rfl⟩
abbrev main_call15_call1_v138 : Ref sig .tc := ⟨.hbm, 7443, rfl⟩
abbrev main_call15_call1_v139 : Ref sig .tc := ⟨.hbm, 7444, rfl⟩
abbrev main_call15_call1_c_35 : Ref sig .tc := ⟨.hbm, 7445, rfl⟩
abbrev main_call15_call1_v140 : Ref sig .tc := ⟨.hbm, 7446, rfl⟩
abbrev main_call15_call1_v141 : Ref sig .tc := ⟨.hbm, 7447, rfl⟩
abbrev main_call15_call1_v142 : Ref sig .tc := ⟨.hbm, 7448, rfl⟩
abbrev main_call15_call1_c_36 : Ref sig .tc := ⟨.hbm, 7449, rfl⟩
abbrev main_call15_call1_v143 : Ref sig .tc := ⟨.hbm, 7450, rfl⟩
abbrev main_call15_call1_v144 : Ref sig .tc := ⟨.hbm, 7451, rfl⟩
abbrev main_call15_call1_c_37 : Ref sig .tc := ⟨.hbm, 7452, rfl⟩
abbrev main_call15_call1_v145 : Ref sig .tc := ⟨.hbm, 7453, rfl⟩
abbrev main_call15_call1_v146 : Ref sig .tc := ⟨.hbm, 7454, rfl⟩
abbrev main_call15_call1_v147 : Ref sig .tc := ⟨.hbm, 7455, rfl⟩
abbrev main_call15_call1_v148 : Ref sig .tc := ⟨.hbm, 7456, rfl⟩
abbrev main_call15_call1_v149 : Ref sig .tc := ⟨.hbm, 7457, rfl⟩
abbrev main_call15_call1_c_38 : Ref sig .tc := ⟨.hbm, 7458, rfl⟩
abbrev main_call15_call1_v150 : Ref sig .tc := ⟨.hbm, 7459, rfl⟩
abbrev main_call15_call1_v151 : Ref sig .tc := ⟨.hbm, 7460, rfl⟩
abbrev main_call15_call1_c_39 : Ref sig .tc := ⟨.hbm, 7461, rfl⟩
abbrev main_call15_call1_v152 : Ref sig .tc := ⟨.hbm, 7462, rfl⟩
abbrev main_call15_call1_v153 : Ref sig .tc := ⟨.hbm, 7463, rfl⟩
abbrev main_call15_call1_v154 : Ref sig .tc := ⟨.hbm, 7464, rfl⟩
abbrev main_call15_call1_v155 : Ref sig .tc := ⟨.hbm, 7465, rfl⟩
abbrev main_call15_call1_v156 : Ref sig .tc := ⟨.hbm, 7466, rfl⟩
abbrev main_call15_call1_c_40 : Ref sig .tc := ⟨.hbm, 7467, rfl⟩
abbrev main_call15_call1_v157 : Ref sig .tc := ⟨.hbm, 7468, rfl⟩
abbrev main_call15_call1_v158 : Ref sig .tc := ⟨.hbm, 7469, rfl⟩
abbrev main_call15_call1_c_41 : Ref sig .tc := ⟨.hbm, 7470, rfl⟩
abbrev main_call15_call1_v159 : Ref sig .tc := ⟨.hbm, 7471, rfl⟩
abbrev main_call15_call1_v160 : Ref sig .tc := ⟨.hbm, 7472, rfl⟩
abbrev main_call15_call1_v161 : Ref sig .tc := ⟨.hbm, 7473, rfl⟩
abbrev main_call15_call1_v162 : Ref sig .tc := ⟨.hbm, 7474, rfl⟩
abbrev main_call15_call1_v163 : Ref sig .tc := ⟨.hbm, 7475, rfl⟩
abbrev main_call15_call1_c_42 : Ref sig .tc := ⟨.hbm, 7476, rfl⟩
abbrev main_call15_call1_v164 : Ref sig .tc := ⟨.hbm, 7477, rfl⟩
abbrev main_call15_call1_v165 : Ref sig .tc := ⟨.hbm, 7478, rfl⟩
abbrev main_call15_call1_c_43 : Ref sig .tc := ⟨.hbm, 7479, rfl⟩
abbrev main_call15_call1_v166 : Ref sig .tc := ⟨.hbm, 7480, rfl⟩
abbrev main_call15_call1_v167 : Ref sig .tc := ⟨.hbm, 7481, rfl⟩
abbrev main_call15_call1_v168 : Ref sig .tc := ⟨.hbm, 7482, rfl⟩
abbrev main_call15_call1_v169 : Ref sig .tc := ⟨.hbm, 7483, rfl⟩
abbrev main_call15_call1_v170 : Ref sig .tc := ⟨.hbm, 7484, rfl⟩
abbrev main_call15_v16_0 : Ref sig .tc := ⟨.hbm, 7485, rfl⟩
abbrev main_call15_call1_v172 : Ref sig .tc := ⟨.hbm, 7486, rfl⟩
abbrev main_call15_call1_v173 : Ref sig .tc := ⟨.hbm, 7487, rfl⟩
abbrev main_call15_call1_c_44 : Ref sig .tc := ⟨.hbm, 7488, rfl⟩
abbrev main_call15_call1_v174 : Ref sig .tc := ⟨.hbm, 7489, rfl⟩
abbrev main_call15_v16_1 : Ref sig .tc := ⟨.hbm, 7490, rfl⟩
abbrev main_call15_v17 : Ref sig .tc := ⟨.hbm, 7491, rfl⟩
abbrev main_call15_v18_0 : Ref sig .tc := ⟨.hbm, 7492, rfl⟩
abbrev main_v67 : Ref sig .tc := ⟨.hbm, 7493, rfl⟩
abbrev main_v68 : Ref sig .tc := ⟨.hbm, 7494, rfl⟩
abbrev main_v69 : Ref sig .tc := ⟨.hbm, 7495, rfl⟩
abbrev main_v70 : Ref sig .tc := ⟨.hbm, 7496, rfl⟩
abbrev main_call16_call0_v0 : Ref sig .tc := ⟨.hbm, 7497, rfl⟩
abbrev main_call16_call0_v1 : Ref sig .tc := ⟨.hbm, 7498, rfl⟩
abbrev main_call16_call0_v2 : Ref sig .tc := ⟨.hbm, 7499, rfl⟩
abbrev main_call16_call0_v3 : Ref sig .tc := ⟨.hbm, 7500, rfl⟩
abbrev main_call16_call0_v4 : Ref sig .tc := ⟨.hbm, 7501, rfl⟩
abbrev main_call16_call0_c : Ref sig .tc := ⟨.hbm, 7502, rfl⟩
abbrev main_call16_call0_v5 : Ref sig .tc := ⟨.hbm, 7503, rfl⟩
abbrev main_call16_call0_v6 : Ref sig .tc := ⟨.hbm, 7504, rfl⟩
abbrev main_call16_call0_c_0 : Ref sig .tc := ⟨.hbm, 7505, rfl⟩
abbrev main_call16_call0_v7 : Ref sig .tc := ⟨.hbm, 7506, rfl⟩
abbrev main_call16_call0_v8 : Ref sig .tc := ⟨.hbm, 7507, rfl⟩
abbrev main_call16_call0_v9 : Ref sig .tc := ⟨.hbm, 7508, rfl⟩
abbrev main_call16_call0_v10 : Ref sig .tc := ⟨.hbm, 7509, rfl⟩
abbrev main_call16_call0_call0_v0 : Ref sig .tc := ⟨.hbm, 7510, rfl⟩
abbrev main_call16_call0_call0_c : Ref sig .tc := ⟨.hbm, 7511, rfl⟩
abbrev main_call16_call0_call0_v1 : Ref sig .tc := ⟨.hbm, 7512, rfl⟩
abbrev main_call16_call0_call0_v2 : Ref sig .tc := ⟨.hbm, 7513, rfl⟩
abbrev main_call16_call0_call0_v3 : Ref sig .tc := ⟨.hbm, 7514, rfl⟩
abbrev main_call16_call0_call0_v4 : Ref sig .tc := ⟨.hbm, 7515, rfl⟩
abbrev main_call16_call0_call0_v5 : Ref sig .tc := ⟨.hbm, 7516, rfl⟩
abbrev main_call16_call0_call0_v6 : Ref sig .tc := ⟨.hbm, 7517, rfl⟩
abbrev main_call16_call0_call0_c_0 : Ref sig .tc := ⟨.hbm, 7518, rfl⟩
abbrev main_call16_call0_call0_v7 : Ref sig .tc := ⟨.hbm, 7519, rfl⟩
abbrev main_call16_call0_call0_v8 : Ref sig .tc := ⟨.hbm, 7520, rfl⟩
abbrev main_call16_call0_call0_c_1 : Ref sig .tc := ⟨.hbm, 7521, rfl⟩
abbrev main_call16_call0_call0_v9 : Ref sig .tc := ⟨.hbm, 7522, rfl⟩
abbrev main_call16_call0_call0_v10 : Ref sig .tc := ⟨.hbm, 7523, rfl⟩
abbrev main_call16_call0_call0_v11 : Ref sig .tc := ⟨.hbm, 7524, rfl⟩
abbrev main_call16_call0_call0_v12 : Ref sig .tc := ⟨.hbm, 7525, rfl⟩
abbrev main_call16_call0_call0_v13 : Ref sig .tc := ⟨.hbm, 7526, rfl⟩
abbrev main_call16_call0_call0_c_2 : Ref sig .tc := ⟨.hbm, 7527, rfl⟩
abbrev main_call16_call0_call0_v14 : Ref sig .tc := ⟨.hbm, 7528, rfl⟩
abbrev main_call16_call0_call0_v15 : Ref sig .tc := ⟨.hbm, 7529, rfl⟩
abbrev main_call16_call0_call0_c_3 : Ref sig .tc := ⟨.hbm, 7530, rfl⟩
abbrev main_call16_call0_call0_v16 : Ref sig .tc := ⟨.hbm, 7531, rfl⟩
abbrev main_call16_call0_call0_v17 : Ref sig .tc := ⟨.hbm, 7532, rfl⟩
abbrev main_call16_call0_call0_v18 : Ref sig .tc := ⟨.hbm, 7533, rfl⟩
abbrev main_call16_call0_call0_v19 : Ref sig .tc := ⟨.hbm, 7534, rfl⟩
abbrev main_call16_call0_call0_v20 : Ref sig .tc := ⟨.hbm, 7535, rfl⟩
abbrev main_call16_call0_call0_c_4 : Ref sig .tc := ⟨.hbm, 7536, rfl⟩
abbrev main_call16_call0_call0_v21 : Ref sig .tc := ⟨.hbm, 7537, rfl⟩
abbrev main_call16_call0_call0_v22 : Ref sig .tc := ⟨.hbm, 7538, rfl⟩
abbrev main_call16_call0_call0_c_5 : Ref sig .tc := ⟨.hbm, 7539, rfl⟩
abbrev main_call16_call0_call0_v23 : Ref sig .tc := ⟨.hbm, 7540, rfl⟩
abbrev main_call16_call0_call0_v24 : Ref sig .tc := ⟨.hbm, 7541, rfl⟩
abbrev main_call16_call0_call0_v25 : Ref sig .tc := ⟨.hbm, 7542, rfl⟩
abbrev main_call16_call0_call0_v26 : Ref sig .tc := ⟨.hbm, 7543, rfl⟩
abbrev main_call16_call0_call0_v27 : Ref sig .tc := ⟨.hbm, 7544, rfl⟩
abbrev main_call16_call0_call0_c_6 : Ref sig .tc := ⟨.hbm, 7545, rfl⟩
abbrev main_call16_call0_call0_v28 : Ref sig .tc := ⟨.hbm, 7546, rfl⟩
abbrev main_call16_call0_call0_v29 : Ref sig .tc := ⟨.hbm, 7547, rfl⟩
abbrev main_call16_call0_call0_c_7 : Ref sig .tc := ⟨.hbm, 7548, rfl⟩
abbrev main_call16_call0_call0_v30 : Ref sig .tc := ⟨.hbm, 7549, rfl⟩
abbrev main_call16_call0_call0_v31 : Ref sig .tc := ⟨.hbm, 7550, rfl⟩
abbrev main_call16_call0_call0_v32 : Ref sig .tc := ⟨.hbm, 7551, rfl⟩
abbrev main_call16_call0_call0_v33 : Ref sig .tc := ⟨.hbm, 7552, rfl⟩
abbrev main_call16_call0_call0_v34 : Ref sig .tc := ⟨.hbm, 7553, rfl⟩
abbrev main_call16_call0_call0_v35 : Ref sig .tc := ⟨.hbm, 7554, rfl⟩
abbrev main_call16_call0_call0_v36 : Ref sig .tc := ⟨.hbm, 7555, rfl⟩
abbrev main_call16_call0_call0_v37 : Ref sig .tc := ⟨.hbm, 7556, rfl⟩
abbrev main_call16_call0_call0_c_8 : Ref sig .tc := ⟨.hbm, 7557, rfl⟩
abbrev main_call16_call0_call0_v38 : Ref sig .tc := ⟨.hbm, 7558, rfl⟩
abbrev main_call16_call0_call0_v39 : Ref sig .tc := ⟨.hbm, 7559, rfl⟩
abbrev main_call16_call0_call0_v40 : Ref sig .tc := ⟨.hbm, 7560, rfl⟩
abbrev main_call16_call0_call0_c_9 : Ref sig .tc := ⟨.hbm, 7561, rfl⟩
abbrev main_call16_call0_call0_v41 : Ref sig .tc := ⟨.hbm, 7562, rfl⟩
abbrev main_call16_call0_call0_v42 : Ref sig .tc := ⟨.hbm, 7563, rfl⟩
abbrev main_call16_call0_call0_c_10 : Ref sig .tc := ⟨.hbm, 7564, rfl⟩
abbrev main_call16_call0_call0_v43 : Ref sig .tc := ⟨.hbm, 7565, rfl⟩
abbrev main_call16_call0_call0_v44 : Ref sig .tc := ⟨.hbm, 7566, rfl⟩
abbrev main_call16_call0_call0_v45 : Ref sig .tc := ⟨.hbm, 7567, rfl⟩
abbrev main_call16_call0_call0_v46 : Ref sig .tc := ⟨.hbm, 7568, rfl⟩
abbrev main_call16_call0_call0_v47 : Ref sig .tc := ⟨.hbm, 7569, rfl⟩
abbrev main_call16_call0_call0_c_11 : Ref sig .tc := ⟨.hbm, 7570, rfl⟩
abbrev main_call16_call0_call0_v48 : Ref sig .tc := ⟨.hbm, 7571, rfl⟩
abbrev main_call16_call0_call0_v49 : Ref sig .tc := ⟨.hbm, 7572, rfl⟩
abbrev main_call16_call0_call0_c_12 : Ref sig .tc := ⟨.hbm, 7573, rfl⟩
abbrev main_call16_call0_call0_v50 : Ref sig .tc := ⟨.hbm, 7574, rfl⟩
abbrev main_call16_call0_call0_v51 : Ref sig .tc := ⟨.hbm, 7575, rfl⟩
abbrev main_call16_call0_call0_v52 : Ref sig .tc := ⟨.hbm, 7576, rfl⟩
abbrev main_call16_call0_call0_v53 : Ref sig .tc := ⟨.hbm, 7577, rfl⟩
abbrev main_call16_call0_call0_v54 : Ref sig .tc := ⟨.hbm, 7578, rfl⟩
abbrev main_call16_call0_call0_c_13 : Ref sig .tc := ⟨.hbm, 7579, rfl⟩
abbrev main_call16_call0_call0_v55 : Ref sig .tc := ⟨.hbm, 7580, rfl⟩
abbrev main_call16_call0_call0_v56 : Ref sig .tc := ⟨.hbm, 7581, rfl⟩
abbrev main_call16_call0_call0_c_14 : Ref sig .tc := ⟨.hbm, 7582, rfl⟩
abbrev main_call16_call0_call0_v57 : Ref sig .tc := ⟨.hbm, 7583, rfl⟩
abbrev main_call16_call0_call0_v58 : Ref sig .tc := ⟨.hbm, 7584, rfl⟩
abbrev main_call16_call0_call0_v59 : Ref sig .tc := ⟨.hbm, 7585, rfl⟩
abbrev main_call16_call0_call0_v60 : Ref sig .tc := ⟨.hbm, 7586, rfl⟩
abbrev main_call16_call0_call0_v61 : Ref sig .tc := ⟨.hbm, 7587, rfl⟩
abbrev main_call16_call0_call0_c_15 : Ref sig .tc := ⟨.hbm, 7588, rfl⟩
abbrev main_call16_call0_call0_v62 : Ref sig .tc := ⟨.hbm, 7589, rfl⟩
abbrev main_call16_call0_call0_v63 : Ref sig .tc := ⟨.hbm, 7590, rfl⟩
abbrev main_call16_call0_call0_c_16 : Ref sig .tc := ⟨.hbm, 7591, rfl⟩
abbrev main_call16_call0_call0_v64 : Ref sig .tc := ⟨.hbm, 7592, rfl⟩
abbrev main_call16_call0_call0_v65 : Ref sig .tc := ⟨.hbm, 7593, rfl⟩
abbrev main_call16_call0_call0_v66 : Ref sig .tc := ⟨.hbm, 7594, rfl⟩
abbrev main_call16_call0_call0_v67 : Ref sig .tc := ⟨.hbm, 7595, rfl⟩
abbrev main_call16_call0_call0_v68 : Ref sig .tc := ⟨.hbm, 7596, rfl⟩
abbrev main_call16_call0_call0_v69 : Ref sig .tc := ⟨.hbm, 7597, rfl⟩
abbrev main_call16_call0_call0_v70 : Ref sig .tc := ⟨.hbm, 7598, rfl⟩
abbrev main_call16_call0_call0_v71 : Ref sig .tc := ⟨.hbm, 7599, rfl⟩
abbrev main_call16_call0_call0_c_17 : Ref sig .tc := ⟨.hbm, 7600, rfl⟩
abbrev main_call16_call0_call0_v72 : Ref sig .tc := ⟨.hbm, 7601, rfl⟩
abbrev main_call16_call0_call0_v73 : Ref sig .tc := ⟨.hbm, 7602, rfl⟩
abbrev main_call16_call0_call0_v74 : Ref sig .tc := ⟨.hbm, 7603, rfl⟩
abbrev main_call16_call0_call0_c_18 : Ref sig .tc := ⟨.hbm, 7604, rfl⟩
abbrev main_call16_call0_call0_v75 : Ref sig .tc := ⟨.hbm, 7605, rfl⟩
abbrev main_call16_call0_call0_v76 : Ref sig .tc := ⟨.hbm, 7606, rfl⟩
abbrev main_call16_call0_call0_c_19 : Ref sig .tc := ⟨.hbm, 7607, rfl⟩
abbrev main_call16_call0_call0_v77 : Ref sig .tc := ⟨.hbm, 7608, rfl⟩
abbrev main_call16_call0_call0_v78 : Ref sig .tc := ⟨.hbm, 7609, rfl⟩
abbrev main_call16_call0_call0_v79 : Ref sig .tc := ⟨.hbm, 7610, rfl⟩
abbrev main_call16_call0_call0_v80 : Ref sig .tc := ⟨.hbm, 7611, rfl⟩
abbrev main_call16_call0_call0_v81 : Ref sig .tc := ⟨.hbm, 7612, rfl⟩
abbrev main_call16_call0_call0_c_20 : Ref sig .tc := ⟨.hbm, 7613, rfl⟩
abbrev main_call16_call0_call0_v82 : Ref sig .tc := ⟨.hbm, 7614, rfl⟩
abbrev main_call16_call0_call0_v83 : Ref sig .tc := ⟨.hbm, 7615, rfl⟩
abbrev main_call16_call0_call0_c_21 : Ref sig .tc := ⟨.hbm, 7616, rfl⟩
abbrev main_call16_call0_call0_v84 : Ref sig .tc := ⟨.hbm, 7617, rfl⟩
abbrev main_call16_call0_call0_v85 : Ref sig .tc := ⟨.hbm, 7618, rfl⟩
abbrev main_call16_call0_call0_v86 : Ref sig .tc := ⟨.hbm, 7619, rfl⟩
abbrev main_call16_call0_call0_v87 : Ref sig .tc := ⟨.hbm, 7620, rfl⟩
abbrev main_call16_call0_call0_v88 : Ref sig .tc := ⟨.hbm, 7621, rfl⟩
abbrev main_call16_call0_call0_c_22 : Ref sig .tc := ⟨.hbm, 7622, rfl⟩
abbrev main_call16_call0_call0_v89 : Ref sig .tc := ⟨.hbm, 7623, rfl⟩
abbrev main_call16_call0_call0_v90 : Ref sig .tc := ⟨.hbm, 7624, rfl⟩
abbrev main_call16_call0_call0_c_23 : Ref sig .tc := ⟨.hbm, 7625, rfl⟩
abbrev main_call16_call0_call0_v91 : Ref sig .tc := ⟨.hbm, 7626, rfl⟩
abbrev main_call16_call0_call0_v92 : Ref sig .tc := ⟨.hbm, 7627, rfl⟩
abbrev main_call16_call0_call0_v93 : Ref sig .tc := ⟨.hbm, 7628, rfl⟩
abbrev main_call16_call0_call0_v94 : Ref sig .tc := ⟨.hbm, 7629, rfl⟩
abbrev main_call16_call0_call0_v95 : Ref sig .tc := ⟨.hbm, 7630, rfl⟩
abbrev main_call16_call0_call0_c_24 : Ref sig .tc := ⟨.hbm, 7631, rfl⟩
abbrev main_call16_call0_call0_v96 : Ref sig .tc := ⟨.hbm, 7632, rfl⟩
abbrev main_call16_call0_call0_v97 : Ref sig .tc := ⟨.hbm, 7633, rfl⟩
abbrev main_call16_call0_call0_c_25 : Ref sig .tc := ⟨.hbm, 7634, rfl⟩
abbrev main_call16_call0_call0_v98 : Ref sig .tc := ⟨.hbm, 7635, rfl⟩
abbrev main_call16_call0_call0_v99 : Ref sig .tc := ⟨.hbm, 7636, rfl⟩
abbrev main_call16_call0_call0_v100 : Ref sig .tc := ⟨.hbm, 7637, rfl⟩
abbrev main_call16_call0_call0_v101 : Ref sig .tc := ⟨.hbm, 7638, rfl⟩
abbrev main_call16_call0_call0_v102 : Ref sig .tc := ⟨.hbm, 7639, rfl⟩
abbrev main_call16_call0_call0_v103 : Ref sig .tc := ⟨.hbm, 7640, rfl⟩
abbrev main_call16_call0_call0_v104 : Ref sig .tc := ⟨.hbm, 7641, rfl⟩
abbrev main_call16_call0_call0_v105 : Ref sig .tc := ⟨.hbm, 7642, rfl⟩
abbrev main_call16_call0_call0_c_26 : Ref sig .tc := ⟨.hbm, 7643, rfl⟩
abbrev main_call16_call0_call0_v106 : Ref sig .tc := ⟨.hbm, 7644, rfl⟩
abbrev main_call16_call0_call0_v107 : Ref sig .tc := ⟨.hbm, 7645, rfl⟩
abbrev main_call16_call0_call0_v108 : Ref sig .tc := ⟨.hbm, 7646, rfl⟩
abbrev main_call16_call0_call0_c_27 : Ref sig .tc := ⟨.hbm, 7647, rfl⟩
abbrev main_call16_call0_call0_v109 : Ref sig .tc := ⟨.hbm, 7648, rfl⟩
abbrev main_call16_call0_call0_v110 : Ref sig .tc := ⟨.hbm, 7649, rfl⟩
abbrev main_call16_call0_call0_c_28 : Ref sig .tc := ⟨.hbm, 7650, rfl⟩
abbrev main_call16_call0_call0_v111 : Ref sig .tc := ⟨.hbm, 7651, rfl⟩
abbrev main_call16_call0_call0_v112 : Ref sig .tc := ⟨.hbm, 7652, rfl⟩
abbrev main_call16_call0_call0_v113 : Ref sig .tc := ⟨.hbm, 7653, rfl⟩
abbrev main_call16_call0_call0_v114 : Ref sig .tc := ⟨.hbm, 7654, rfl⟩
abbrev main_call16_call0_call0_v115 : Ref sig .tc := ⟨.hbm, 7655, rfl⟩
abbrev main_call16_call0_call0_c_29 : Ref sig .tc := ⟨.hbm, 7656, rfl⟩
abbrev main_call16_call0_call0_v116 : Ref sig .tc := ⟨.hbm, 7657, rfl⟩
abbrev main_call16_call0_call0_v117 : Ref sig .tc := ⟨.hbm, 7658, rfl⟩
abbrev main_call16_call0_call0_c_30 : Ref sig .tc := ⟨.hbm, 7659, rfl⟩
abbrev main_call16_call0_call0_v118 : Ref sig .tc := ⟨.hbm, 7660, rfl⟩
abbrev main_call16_call0_call0_v119 : Ref sig .tc := ⟨.hbm, 7661, rfl⟩
abbrev main_call16_call0_call0_v120 : Ref sig .tc := ⟨.hbm, 7662, rfl⟩
abbrev main_call16_call0_call0_v121 : Ref sig .tc := ⟨.hbm, 7663, rfl⟩
abbrev main_call16_call0_call0_v122 : Ref sig .tc := ⟨.hbm, 7664, rfl⟩
abbrev main_call16_call0_call0_c_31 : Ref sig .tc := ⟨.hbm, 7665, rfl⟩
abbrev main_call16_call0_call0_v123 : Ref sig .tc := ⟨.hbm, 7666, rfl⟩
abbrev main_call16_call0_call0_v124 : Ref sig .tc := ⟨.hbm, 7667, rfl⟩
abbrev main_call16_call0_call0_c_32 : Ref sig .tc := ⟨.hbm, 7668, rfl⟩
abbrev main_call16_call0_call0_v125 : Ref sig .tc := ⟨.hbm, 7669, rfl⟩
abbrev main_call16_call0_call0_v126 : Ref sig .tc := ⟨.hbm, 7670, rfl⟩
abbrev main_call16_call0_call0_v127 : Ref sig .tc := ⟨.hbm, 7671, rfl⟩
abbrev main_call16_call0_call0_v128 : Ref sig .tc := ⟨.hbm, 7672, rfl⟩
abbrev main_call16_call0_call0_v129 : Ref sig .tc := ⟨.hbm, 7673, rfl⟩
abbrev main_call16_call0_call0_c_33 : Ref sig .tc := ⟨.hbm, 7674, rfl⟩
abbrev main_call16_call0_call0_v130 : Ref sig .tc := ⟨.hbm, 7675, rfl⟩
abbrev main_call16_call0_call0_v131 : Ref sig .tc := ⟨.hbm, 7676, rfl⟩
abbrev main_call16_call0_call0_c_34 : Ref sig .tc := ⟨.hbm, 7677, rfl⟩
abbrev main_call16_call0_call0_v132 : Ref sig .tc := ⟨.hbm, 7678, rfl⟩
abbrev main_call16_call0_call0_v133 : Ref sig .tc := ⟨.hbm, 7679, rfl⟩
abbrev main_call16_call0_call0_v134 : Ref sig .tc := ⟨.hbm, 7680, rfl⟩
abbrev main_call16_call0_call0_v135 : Ref sig .tc := ⟨.hbm, 7681, rfl⟩
abbrev main_call16_call0_call0_v136 : Ref sig .tc := ⟨.hbm, 7682, rfl⟩
abbrev main_call16_call0_call0_v137 : Ref sig .tc := ⟨.hbm, 7683, rfl⟩
abbrev main_call16_call0_call0_v138 : Ref sig .tc := ⟨.hbm, 7684, rfl⟩
abbrev main_call16_call0_call0_v139 : Ref sig .tc := ⟨.hbm, 7685, rfl⟩
abbrev main_call16_call0_call0_c_35 : Ref sig .tc := ⟨.hbm, 7686, rfl⟩
abbrev main_call16_call0_call0_v140 : Ref sig .tc := ⟨.hbm, 7687, rfl⟩
abbrev main_call16_call0_call0_v141 : Ref sig .tc := ⟨.hbm, 7688, rfl⟩
abbrev main_call16_call0_call0_v142 : Ref sig .tc := ⟨.hbm, 7689, rfl⟩
abbrev main_call16_call0_call0_c_36 : Ref sig .tc := ⟨.hbm, 7690, rfl⟩
abbrev main_call16_call0_call0_v143 : Ref sig .tc := ⟨.hbm, 7691, rfl⟩
abbrev main_call16_call0_call0_v144 : Ref sig .tc := ⟨.hbm, 7692, rfl⟩
abbrev main_call16_call0_call0_c_37 : Ref sig .tc := ⟨.hbm, 7693, rfl⟩
abbrev main_call16_call0_call0_v145 : Ref sig .tc := ⟨.hbm, 7694, rfl⟩
abbrev main_call16_call0_call0_v146 : Ref sig .tc := ⟨.hbm, 7695, rfl⟩
abbrev main_call16_call0_call0_v147 : Ref sig .tc := ⟨.hbm, 7696, rfl⟩
abbrev main_call16_call0_call0_v148 : Ref sig .tc := ⟨.hbm, 7697, rfl⟩
abbrev main_call16_call0_call0_v149 : Ref sig .tc := ⟨.hbm, 7698, rfl⟩
abbrev main_call16_call0_call0_c_38 : Ref sig .tc := ⟨.hbm, 7699, rfl⟩
abbrev main_call16_call0_call0_v150 : Ref sig .tc := ⟨.hbm, 7700, rfl⟩
abbrev main_call16_call0_call0_v151 : Ref sig .tc := ⟨.hbm, 7701, rfl⟩
abbrev main_call16_call0_call0_c_39 : Ref sig .tc := ⟨.hbm, 7702, rfl⟩
abbrev main_call16_call0_call0_v152 : Ref sig .tc := ⟨.hbm, 7703, rfl⟩
abbrev main_call16_call0_call0_v153 : Ref sig .tc := ⟨.hbm, 7704, rfl⟩
abbrev main_call16_call0_call0_v154 : Ref sig .tc := ⟨.hbm, 7705, rfl⟩
abbrev main_call16_call0_call0_v155 : Ref sig .tc := ⟨.hbm, 7706, rfl⟩
abbrev main_call16_call0_call0_v156 : Ref sig .tc := ⟨.hbm, 7707, rfl⟩
abbrev main_call16_call0_call0_c_40 : Ref sig .tc := ⟨.hbm, 7708, rfl⟩
abbrev main_call16_call0_call0_v157 : Ref sig .tc := ⟨.hbm, 7709, rfl⟩
abbrev main_call16_call0_call0_v158 : Ref sig .tc := ⟨.hbm, 7710, rfl⟩
abbrev main_call16_call0_call0_c_41 : Ref sig .tc := ⟨.hbm, 7711, rfl⟩
abbrev main_call16_call0_call0_v159 : Ref sig .tc := ⟨.hbm, 7712, rfl⟩
abbrev main_call16_call0_call0_v160 : Ref sig .tc := ⟨.hbm, 7713, rfl⟩
abbrev main_call16_call0_call0_v161 : Ref sig .tc := ⟨.hbm, 7714, rfl⟩
abbrev main_call16_call0_call0_v162 : Ref sig .tc := ⟨.hbm, 7715, rfl⟩
abbrev main_call16_call0_call0_v163 : Ref sig .tc := ⟨.hbm, 7716, rfl⟩
abbrev main_call16_call0_call0_c_42 : Ref sig .tc := ⟨.hbm, 7717, rfl⟩
abbrev main_call16_call0_call0_v164 : Ref sig .tc := ⟨.hbm, 7718, rfl⟩
abbrev main_call16_call0_call0_v165 : Ref sig .tc := ⟨.hbm, 7719, rfl⟩
abbrev main_call16_call0_call0_c_43 : Ref sig .tc := ⟨.hbm, 7720, rfl⟩
abbrev main_call16_call0_call0_v166 : Ref sig .tc := ⟨.hbm, 7721, rfl⟩
abbrev main_call16_call0_call0_v167 : Ref sig .tc := ⟨.hbm, 7722, rfl⟩
abbrev main_call16_call0_call0_v168 : Ref sig .tc := ⟨.hbm, 7723, rfl⟩
abbrev main_call16_call0_call0_v169 : Ref sig .tc := ⟨.hbm, 7724, rfl⟩
abbrev main_call16_call0_call0_v170 : Ref sig .tc := ⟨.hbm, 7725, rfl⟩
abbrev main_call16_call0_v11_0 : Ref sig .tc := ⟨.hbm, 7726, rfl⟩
abbrev main_call16_call0_call0_v172 : Ref sig .tc := ⟨.hbm, 7727, rfl⟩
abbrev main_call16_call0_call0_v173 : Ref sig .tc := ⟨.hbm, 7728, rfl⟩
abbrev main_call16_call0_call0_c_44 : Ref sig .tc := ⟨.hbm, 7729, rfl⟩
abbrev main_call16_call0_call0_v174 : Ref sig .tc := ⟨.hbm, 7730, rfl⟩
abbrev main_call16_call0_v11_1 : Ref sig .tc := ⟨.hbm, 7731, rfl⟩
abbrev main_call16_call0_v12 : Ref sig .tc := ⟨.hbm, 7732, rfl⟩
abbrev main_call16_call0_v13 : Ref sig .tc := ⟨.hbm, 7733, rfl⟩
abbrev main_call16_v0 : Ref sig .tc := ⟨.hbm, 7734, rfl⟩
abbrev main_call16_v1 : Ref sig .tc := ⟨.hbm, 7735, rfl⟩
abbrev main_call16_v2 : Ref sig .tc := ⟨.hbm, 7736, rfl⟩
abbrev main_call16_v3 : Ref sig .tc := ⟨.hbm, 7737, rfl⟩
abbrev main_call16_v4 : Ref sig .tc := ⟨.hbm, 7738, rfl⟩
abbrev main_call16_v5 : Ref sig .tc := ⟨.hbm, 7739, rfl⟩
abbrev main_call16_v6 : Ref sig .tc := ⟨.hbm, 7740, rfl⟩
abbrev main_call16_v7 : Ref sig .tc := ⟨.hbm, 7741, rfl⟩
abbrev main_call16_v8 : Ref sig .tc := ⟨.hbm, 7742, rfl⟩
abbrev main_call16_v9 : Ref sig .tc := ⟨.hbm, 7743, rfl⟩
abbrev main_call16_c : Ref sig .tc := ⟨.hbm, 7744, rfl⟩
abbrev main_call16_v10 : Ref sig .tc := ⟨.hbm, 7745, rfl⟩
abbrev main_call16_v11 : Ref sig .tc := ⟨.hbm, 7746, rfl⟩
abbrev main_call16_c_0 : Ref sig .tc := ⟨.hbm, 7747, rfl⟩
abbrev main_call16_v12 : Ref sig .tc := ⟨.hbm, 7748, rfl⟩
abbrev main_call16_v13 : Ref sig .tc := ⟨.hbm, 7749, rfl⟩
abbrev main_call16_v14 : Ref sig .tc := ⟨.hbm, 7750, rfl⟩
abbrev main_call16_v15 : Ref sig .tc := ⟨.hbm, 7751, rfl⟩
abbrev main_call16_call1_v0 : Ref sig .tc := ⟨.hbm, 7752, rfl⟩
abbrev main_call16_call1_c : Ref sig .tc := ⟨.hbm, 7753, rfl⟩
abbrev main_call16_call1_v1 : Ref sig .tc := ⟨.hbm, 7754, rfl⟩
abbrev main_call16_call1_v2 : Ref sig .tc := ⟨.hbm, 7755, rfl⟩
abbrev main_call16_call1_v3 : Ref sig .tc := ⟨.hbm, 7756, rfl⟩
abbrev main_call16_call1_v4 : Ref sig .tc := ⟨.hbm, 7757, rfl⟩
abbrev main_call16_call1_v5 : Ref sig .tc := ⟨.hbm, 7758, rfl⟩
abbrev main_call16_call1_v6 : Ref sig .tc := ⟨.hbm, 7759, rfl⟩
abbrev main_call16_call1_c_0 : Ref sig .tc := ⟨.hbm, 7760, rfl⟩
abbrev main_call16_call1_v7 : Ref sig .tc := ⟨.hbm, 7761, rfl⟩
abbrev main_call16_call1_v8 : Ref sig .tc := ⟨.hbm, 7762, rfl⟩
abbrev main_call16_call1_c_1 : Ref sig .tc := ⟨.hbm, 7763, rfl⟩
abbrev main_call16_call1_v9 : Ref sig .tc := ⟨.hbm, 7764, rfl⟩
abbrev main_call16_call1_v10 : Ref sig .tc := ⟨.hbm, 7765, rfl⟩
abbrev main_call16_call1_v11 : Ref sig .tc := ⟨.hbm, 7766, rfl⟩
abbrev main_call16_call1_v12 : Ref sig .tc := ⟨.hbm, 7767, rfl⟩
abbrev main_call16_call1_v13 : Ref sig .tc := ⟨.hbm, 7768, rfl⟩
abbrev main_call16_call1_c_2 : Ref sig .tc := ⟨.hbm, 7769, rfl⟩
abbrev main_call16_call1_v14 : Ref sig .tc := ⟨.hbm, 7770, rfl⟩
abbrev main_call16_call1_v15 : Ref sig .tc := ⟨.hbm, 7771, rfl⟩
abbrev main_call16_call1_c_3 : Ref sig .tc := ⟨.hbm, 7772, rfl⟩
abbrev main_call16_call1_v16 : Ref sig .tc := ⟨.hbm, 7773, rfl⟩
abbrev main_call16_call1_v17 : Ref sig .tc := ⟨.hbm, 7774, rfl⟩
abbrev main_call16_call1_v18 : Ref sig .tc := ⟨.hbm, 7775, rfl⟩
abbrev main_call16_call1_v19 : Ref sig .tc := ⟨.hbm, 7776, rfl⟩
abbrev main_call16_call1_v20 : Ref sig .tc := ⟨.hbm, 7777, rfl⟩
abbrev main_call16_call1_c_4 : Ref sig .tc := ⟨.hbm, 7778, rfl⟩
abbrev main_call16_call1_v21 : Ref sig .tc := ⟨.hbm, 7779, rfl⟩
abbrev main_call16_call1_v22 : Ref sig .tc := ⟨.hbm, 7780, rfl⟩
abbrev main_call16_call1_c_5 : Ref sig .tc := ⟨.hbm, 7781, rfl⟩
abbrev main_call16_call1_v23 : Ref sig .tc := ⟨.hbm, 7782, rfl⟩
abbrev main_call16_call1_v24 : Ref sig .tc := ⟨.hbm, 7783, rfl⟩
abbrev main_call16_call1_v25 : Ref sig .tc := ⟨.hbm, 7784, rfl⟩
abbrev main_call16_call1_v26 : Ref sig .tc := ⟨.hbm, 7785, rfl⟩
abbrev main_call16_call1_v27 : Ref sig .tc := ⟨.hbm, 7786, rfl⟩
abbrev main_call16_call1_c_6 : Ref sig .tc := ⟨.hbm, 7787, rfl⟩
abbrev main_call16_call1_v28 : Ref sig .tc := ⟨.hbm, 7788, rfl⟩
abbrev main_call16_call1_v29 : Ref sig .tc := ⟨.hbm, 7789, rfl⟩
abbrev main_call16_call1_c_7 : Ref sig .tc := ⟨.hbm, 7790, rfl⟩
abbrev main_call16_call1_v30 : Ref sig .tc := ⟨.hbm, 7791, rfl⟩
abbrev main_call16_call1_v31 : Ref sig .tc := ⟨.hbm, 7792, rfl⟩
abbrev main_call16_call1_v32 : Ref sig .tc := ⟨.hbm, 7793, rfl⟩
abbrev main_call16_call1_v33 : Ref sig .tc := ⟨.hbm, 7794, rfl⟩
abbrev main_call16_call1_v34 : Ref sig .tc := ⟨.hbm, 7795, rfl⟩
abbrev main_call16_call1_v35 : Ref sig .tc := ⟨.hbm, 7796, rfl⟩
abbrev main_call16_call1_v36 : Ref sig .tc := ⟨.hbm, 7797, rfl⟩
abbrev main_call16_call1_v37 : Ref sig .tc := ⟨.hbm, 7798, rfl⟩
abbrev main_call16_call1_c_8 : Ref sig .tc := ⟨.hbm, 7799, rfl⟩
abbrev main_call16_call1_v38 : Ref sig .tc := ⟨.hbm, 7800, rfl⟩
abbrev main_call16_call1_v39 : Ref sig .tc := ⟨.hbm, 7801, rfl⟩
abbrev main_call16_call1_v40 : Ref sig .tc := ⟨.hbm, 7802, rfl⟩
abbrev main_call16_call1_c_9 : Ref sig .tc := ⟨.hbm, 7803, rfl⟩
abbrev main_call16_call1_v41 : Ref sig .tc := ⟨.hbm, 7804, rfl⟩
abbrev main_call16_call1_v42 : Ref sig .tc := ⟨.hbm, 7805, rfl⟩
abbrev main_call16_call1_c_10 : Ref sig .tc := ⟨.hbm, 7806, rfl⟩
abbrev main_call16_call1_v43 : Ref sig .tc := ⟨.hbm, 7807, rfl⟩
abbrev main_call16_call1_v44 : Ref sig .tc := ⟨.hbm, 7808, rfl⟩
abbrev main_call16_call1_v45 : Ref sig .tc := ⟨.hbm, 7809, rfl⟩
abbrev main_call16_call1_v46 : Ref sig .tc := ⟨.hbm, 7810, rfl⟩
abbrev main_call16_call1_v47 : Ref sig .tc := ⟨.hbm, 7811, rfl⟩
abbrev main_call16_call1_c_11 : Ref sig .tc := ⟨.hbm, 7812, rfl⟩
abbrev main_call16_call1_v48 : Ref sig .tc := ⟨.hbm, 7813, rfl⟩
abbrev main_call16_call1_v49 : Ref sig .tc := ⟨.hbm, 7814, rfl⟩
abbrev main_call16_call1_c_12 : Ref sig .tc := ⟨.hbm, 7815, rfl⟩
abbrev main_call16_call1_v50 : Ref sig .tc := ⟨.hbm, 7816, rfl⟩
abbrev main_call16_call1_v51 : Ref sig .tc := ⟨.hbm, 7817, rfl⟩
abbrev main_call16_call1_v52 : Ref sig .tc := ⟨.hbm, 7818, rfl⟩
abbrev main_call16_call1_v53 : Ref sig .tc := ⟨.hbm, 7819, rfl⟩
abbrev main_call16_call1_v54 : Ref sig .tc := ⟨.hbm, 7820, rfl⟩
abbrev main_call16_call1_c_13 : Ref sig .tc := ⟨.hbm, 7821, rfl⟩
abbrev main_call16_call1_v55 : Ref sig .tc := ⟨.hbm, 7822, rfl⟩
abbrev main_call16_call1_v56 : Ref sig .tc := ⟨.hbm, 7823, rfl⟩
abbrev main_call16_call1_c_14 : Ref sig .tc := ⟨.hbm, 7824, rfl⟩
abbrev main_call16_call1_v57 : Ref sig .tc := ⟨.hbm, 7825, rfl⟩
abbrev main_call16_call1_v58 : Ref sig .tc := ⟨.hbm, 7826, rfl⟩
abbrev main_call16_call1_v59 : Ref sig .tc := ⟨.hbm, 7827, rfl⟩
abbrev main_call16_call1_v60 : Ref sig .tc := ⟨.hbm, 7828, rfl⟩
abbrev main_call16_call1_v61 : Ref sig .tc := ⟨.hbm, 7829, rfl⟩
abbrev main_call16_call1_c_15 : Ref sig .tc := ⟨.hbm, 7830, rfl⟩
abbrev main_call16_call1_v62 : Ref sig .tc := ⟨.hbm, 7831, rfl⟩
abbrev main_call16_call1_v63 : Ref sig .tc := ⟨.hbm, 7832, rfl⟩
abbrev main_call16_call1_c_16 : Ref sig .tc := ⟨.hbm, 7833, rfl⟩
abbrev main_call16_call1_v64 : Ref sig .tc := ⟨.hbm, 7834, rfl⟩
abbrev main_call16_call1_v65 : Ref sig .tc := ⟨.hbm, 7835, rfl⟩
abbrev main_call16_call1_v66 : Ref sig .tc := ⟨.hbm, 7836, rfl⟩
abbrev main_call16_call1_v67 : Ref sig .tc := ⟨.hbm, 7837, rfl⟩
abbrev main_call16_call1_v68 : Ref sig .tc := ⟨.hbm, 7838, rfl⟩
abbrev main_call16_call1_v69 : Ref sig .tc := ⟨.hbm, 7839, rfl⟩
abbrev main_call16_call1_v70 : Ref sig .tc := ⟨.hbm, 7840, rfl⟩
abbrev main_call16_call1_v71 : Ref sig .tc := ⟨.hbm, 7841, rfl⟩
abbrev main_call16_call1_c_17 : Ref sig .tc := ⟨.hbm, 7842, rfl⟩
abbrev main_call16_call1_v72 : Ref sig .tc := ⟨.hbm, 7843, rfl⟩
abbrev main_call16_call1_v73 : Ref sig .tc := ⟨.hbm, 7844, rfl⟩
abbrev main_call16_call1_v74 : Ref sig .tc := ⟨.hbm, 7845, rfl⟩
abbrev main_call16_call1_c_18 : Ref sig .tc := ⟨.hbm, 7846, rfl⟩
abbrev main_call16_call1_v75 : Ref sig .tc := ⟨.hbm, 7847, rfl⟩
abbrev main_call16_call1_v76 : Ref sig .tc := ⟨.hbm, 7848, rfl⟩
abbrev main_call16_call1_c_19 : Ref sig .tc := ⟨.hbm, 7849, rfl⟩
abbrev main_call16_call1_v77 : Ref sig .tc := ⟨.hbm, 7850, rfl⟩
abbrev main_call16_call1_v78 : Ref sig .tc := ⟨.hbm, 7851, rfl⟩
abbrev main_call16_call1_v79 : Ref sig .tc := ⟨.hbm, 7852, rfl⟩
abbrev main_call16_call1_v80 : Ref sig .tc := ⟨.hbm, 7853, rfl⟩
abbrev main_call16_call1_v81 : Ref sig .tc := ⟨.hbm, 7854, rfl⟩
abbrev main_call16_call1_c_20 : Ref sig .tc := ⟨.hbm, 7855, rfl⟩
abbrev main_call16_call1_v82 : Ref sig .tc := ⟨.hbm, 7856, rfl⟩
abbrev main_call16_call1_v83 : Ref sig .tc := ⟨.hbm, 7857, rfl⟩
abbrev main_call16_call1_c_21 : Ref sig .tc := ⟨.hbm, 7858, rfl⟩
abbrev main_call16_call1_v84 : Ref sig .tc := ⟨.hbm, 7859, rfl⟩
abbrev main_call16_call1_v85 : Ref sig .tc := ⟨.hbm, 7860, rfl⟩
abbrev main_call16_call1_v86 : Ref sig .tc := ⟨.hbm, 7861, rfl⟩
abbrev main_call16_call1_v87 : Ref sig .tc := ⟨.hbm, 7862, rfl⟩
abbrev main_call16_call1_v88 : Ref sig .tc := ⟨.hbm, 7863, rfl⟩
abbrev main_call16_call1_c_22 : Ref sig .tc := ⟨.hbm, 7864, rfl⟩
abbrev main_call16_call1_v89 : Ref sig .tc := ⟨.hbm, 7865, rfl⟩
abbrev main_call16_call1_v90 : Ref sig .tc := ⟨.hbm, 7866, rfl⟩
abbrev main_call16_call1_c_23 : Ref sig .tc := ⟨.hbm, 7867, rfl⟩
abbrev main_call16_call1_v91 : Ref sig .tc := ⟨.hbm, 7868, rfl⟩
abbrev main_call16_call1_v92 : Ref sig .tc := ⟨.hbm, 7869, rfl⟩
abbrev main_call16_call1_v93 : Ref sig .tc := ⟨.hbm, 7870, rfl⟩
abbrev main_call16_call1_v94 : Ref sig .tc := ⟨.hbm, 7871, rfl⟩
abbrev main_call16_call1_v95 : Ref sig .tc := ⟨.hbm, 7872, rfl⟩
abbrev main_call16_call1_c_24 : Ref sig .tc := ⟨.hbm, 7873, rfl⟩
abbrev main_call16_call1_v96 : Ref sig .tc := ⟨.hbm, 7874, rfl⟩
abbrev main_call16_call1_v97 : Ref sig .tc := ⟨.hbm, 7875, rfl⟩
abbrev main_call16_call1_c_25 : Ref sig .tc := ⟨.hbm, 7876, rfl⟩
abbrev main_call16_call1_v98 : Ref sig .tc := ⟨.hbm, 7877, rfl⟩
abbrev main_call16_call1_v99 : Ref sig .tc := ⟨.hbm, 7878, rfl⟩
abbrev main_call16_call1_v100 : Ref sig .tc := ⟨.hbm, 7879, rfl⟩
abbrev main_call16_call1_v101 : Ref sig .tc := ⟨.hbm, 7880, rfl⟩
abbrev main_call16_call1_v102 : Ref sig .tc := ⟨.hbm, 7881, rfl⟩
abbrev main_call16_call1_v103 : Ref sig .tc := ⟨.hbm, 7882, rfl⟩
abbrev main_call16_call1_v104 : Ref sig .tc := ⟨.hbm, 7883, rfl⟩
abbrev main_call16_call1_v105 : Ref sig .tc := ⟨.hbm, 7884, rfl⟩
abbrev main_call16_call1_c_26 : Ref sig .tc := ⟨.hbm, 7885, rfl⟩
abbrev main_call16_call1_v106 : Ref sig .tc := ⟨.hbm, 7886, rfl⟩
abbrev main_call16_call1_v107 : Ref sig .tc := ⟨.hbm, 7887, rfl⟩
abbrev main_call16_call1_v108 : Ref sig .tc := ⟨.hbm, 7888, rfl⟩
abbrev main_call16_call1_c_27 : Ref sig .tc := ⟨.hbm, 7889, rfl⟩
abbrev main_call16_call1_v109 : Ref sig .tc := ⟨.hbm, 7890, rfl⟩
abbrev main_call16_call1_v110 : Ref sig .tc := ⟨.hbm, 7891, rfl⟩
abbrev main_call16_call1_c_28 : Ref sig .tc := ⟨.hbm, 7892, rfl⟩
abbrev main_call16_call1_v111 : Ref sig .tc := ⟨.hbm, 7893, rfl⟩
abbrev main_call16_call1_v112 : Ref sig .tc := ⟨.hbm, 7894, rfl⟩
abbrev main_call16_call1_v113 : Ref sig .tc := ⟨.hbm, 7895, rfl⟩
abbrev main_call16_call1_v114 : Ref sig .tc := ⟨.hbm, 7896, rfl⟩
abbrev main_call16_call1_v115 : Ref sig .tc := ⟨.hbm, 7897, rfl⟩
abbrev main_call16_call1_c_29 : Ref sig .tc := ⟨.hbm, 7898, rfl⟩
abbrev main_call16_call1_v116 : Ref sig .tc := ⟨.hbm, 7899, rfl⟩
abbrev main_call16_call1_v117 : Ref sig .tc := ⟨.hbm, 7900, rfl⟩
abbrev main_call16_call1_c_30 : Ref sig .tc := ⟨.hbm, 7901, rfl⟩
abbrev main_call16_call1_v118 : Ref sig .tc := ⟨.hbm, 7902, rfl⟩
abbrev main_call16_call1_v119 : Ref sig .tc := ⟨.hbm, 7903, rfl⟩
abbrev main_call16_call1_v120 : Ref sig .tc := ⟨.hbm, 7904, rfl⟩
abbrev main_call16_call1_v121 : Ref sig .tc := ⟨.hbm, 7905, rfl⟩
abbrev main_call16_call1_v122 : Ref sig .tc := ⟨.hbm, 7906, rfl⟩
abbrev main_call16_call1_c_31 : Ref sig .tc := ⟨.hbm, 7907, rfl⟩
abbrev main_call16_call1_v123 : Ref sig .tc := ⟨.hbm, 7908, rfl⟩
abbrev main_call16_call1_v124 : Ref sig .tc := ⟨.hbm, 7909, rfl⟩
abbrev main_call16_call1_c_32 : Ref sig .tc := ⟨.hbm, 7910, rfl⟩
abbrev main_call16_call1_v125 : Ref sig .tc := ⟨.hbm, 7911, rfl⟩
abbrev main_call16_call1_v126 : Ref sig .tc := ⟨.hbm, 7912, rfl⟩
abbrev main_call16_call1_v127 : Ref sig .tc := ⟨.hbm, 7913, rfl⟩
abbrev main_call16_call1_v128 : Ref sig .tc := ⟨.hbm, 7914, rfl⟩
abbrev main_call16_call1_v129 : Ref sig .tc := ⟨.hbm, 7915, rfl⟩
abbrev main_call16_call1_c_33 : Ref sig .tc := ⟨.hbm, 7916, rfl⟩
abbrev main_call16_call1_v130 : Ref sig .tc := ⟨.hbm, 7917, rfl⟩
abbrev main_call16_call1_v131 : Ref sig .tc := ⟨.hbm, 7918, rfl⟩
abbrev main_call16_call1_c_34 : Ref sig .tc := ⟨.hbm, 7919, rfl⟩
abbrev main_call16_call1_v132 : Ref sig .tc := ⟨.hbm, 7920, rfl⟩
abbrev main_call16_call1_v133 : Ref sig .tc := ⟨.hbm, 7921, rfl⟩
abbrev main_call16_call1_v134 : Ref sig .tc := ⟨.hbm, 7922, rfl⟩
abbrev main_call16_call1_v135 : Ref sig .tc := ⟨.hbm, 7923, rfl⟩
abbrev main_call16_call1_v136 : Ref sig .tc := ⟨.hbm, 7924, rfl⟩
abbrev main_call16_call1_v137 : Ref sig .tc := ⟨.hbm, 7925, rfl⟩
abbrev main_call16_call1_v138 : Ref sig .tc := ⟨.hbm, 7926, rfl⟩
abbrev main_call16_call1_v139 : Ref sig .tc := ⟨.hbm, 7927, rfl⟩
abbrev main_call16_call1_c_35 : Ref sig .tc := ⟨.hbm, 7928, rfl⟩
abbrev main_call16_call1_v140 : Ref sig .tc := ⟨.hbm, 7929, rfl⟩
abbrev main_call16_call1_v141 : Ref sig .tc := ⟨.hbm, 7930, rfl⟩
abbrev main_call16_call1_v142 : Ref sig .tc := ⟨.hbm, 7931, rfl⟩
abbrev main_call16_call1_c_36 : Ref sig .tc := ⟨.hbm, 7932, rfl⟩
abbrev main_call16_call1_v143 : Ref sig .tc := ⟨.hbm, 7933, rfl⟩
abbrev main_call16_call1_v144 : Ref sig .tc := ⟨.hbm, 7934, rfl⟩
abbrev main_call16_call1_c_37 : Ref sig .tc := ⟨.hbm, 7935, rfl⟩
abbrev main_call16_call1_v145 : Ref sig .tc := ⟨.hbm, 7936, rfl⟩
abbrev main_call16_call1_v146 : Ref sig .tc := ⟨.hbm, 7937, rfl⟩
abbrev main_call16_call1_v147 : Ref sig .tc := ⟨.hbm, 7938, rfl⟩
abbrev main_call16_call1_v148 : Ref sig .tc := ⟨.hbm, 7939, rfl⟩
abbrev main_call16_call1_v149 : Ref sig .tc := ⟨.hbm, 7940, rfl⟩
abbrev main_call16_call1_c_38 : Ref sig .tc := ⟨.hbm, 7941, rfl⟩
abbrev main_call16_call1_v150 : Ref sig .tc := ⟨.hbm, 7942, rfl⟩
abbrev main_call16_call1_v151 : Ref sig .tc := ⟨.hbm, 7943, rfl⟩
abbrev main_call16_call1_c_39 : Ref sig .tc := ⟨.hbm, 7944, rfl⟩
abbrev main_call16_call1_v152 : Ref sig .tc := ⟨.hbm, 7945, rfl⟩
abbrev main_call16_call1_v153 : Ref sig .tc := ⟨.hbm, 7946, rfl⟩
abbrev main_call16_call1_v154 : Ref sig .tc := ⟨.hbm, 7947, rfl⟩
abbrev main_call16_call1_v155 : Ref sig .tc := ⟨.hbm, 7948, rfl⟩
abbrev main_call16_call1_v156 : Ref sig .tc := ⟨.hbm, 7949, rfl⟩
abbrev main_call16_call1_c_40 : Ref sig .tc := ⟨.hbm, 7950, rfl⟩
abbrev main_call16_call1_v157 : Ref sig .tc := ⟨.hbm, 7951, rfl⟩
abbrev main_call16_call1_v158 : Ref sig .tc := ⟨.hbm, 7952, rfl⟩
abbrev main_call16_call1_c_41 : Ref sig .tc := ⟨.hbm, 7953, rfl⟩
abbrev main_call16_call1_v159 : Ref sig .tc := ⟨.hbm, 7954, rfl⟩
abbrev main_call16_call1_v160 : Ref sig .tc := ⟨.hbm, 7955, rfl⟩
abbrev main_call16_call1_v161 : Ref sig .tc := ⟨.hbm, 7956, rfl⟩
abbrev main_call16_call1_v162 : Ref sig .tc := ⟨.hbm, 7957, rfl⟩
abbrev main_call16_call1_v163 : Ref sig .tc := ⟨.hbm, 7958, rfl⟩
abbrev main_call16_call1_c_42 : Ref sig .tc := ⟨.hbm, 7959, rfl⟩
abbrev main_call16_call1_v164 : Ref sig .tc := ⟨.hbm, 7960, rfl⟩
abbrev main_call16_call1_v165 : Ref sig .tc := ⟨.hbm, 7961, rfl⟩
abbrev main_call16_call1_c_43 : Ref sig .tc := ⟨.hbm, 7962, rfl⟩
abbrev main_call16_call1_v166 : Ref sig .tc := ⟨.hbm, 7963, rfl⟩
abbrev main_call16_call1_v167 : Ref sig .tc := ⟨.hbm, 7964, rfl⟩
abbrev main_call16_call1_v168 : Ref sig .tc := ⟨.hbm, 7965, rfl⟩
abbrev main_call16_call1_v169 : Ref sig .tc := ⟨.hbm, 7966, rfl⟩
abbrev main_call16_call1_v170 : Ref sig .tc := ⟨.hbm, 7967, rfl⟩
abbrev main_call16_v16_0 : Ref sig .tc := ⟨.hbm, 7968, rfl⟩
abbrev main_call16_call1_v172 : Ref sig .tc := ⟨.hbm, 7969, rfl⟩
abbrev main_call16_call1_v173 : Ref sig .tc := ⟨.hbm, 7970, rfl⟩
abbrev main_call16_call1_c_44 : Ref sig .tc := ⟨.hbm, 7971, rfl⟩
abbrev main_call16_call1_v174 : Ref sig .tc := ⟨.hbm, 7972, rfl⟩
abbrev main_call16_v16_1 : Ref sig .tc := ⟨.hbm, 7973, rfl⟩
abbrev main_call16_v17 : Ref sig .tc := ⟨.hbm, 7974, rfl⟩
abbrev main_call16_v18_0 : Ref sig .tc := ⟨.hbm, 7975, rfl⟩
abbrev main_v71 : Ref sig .tc := ⟨.hbm, 7976, rfl⟩
abbrev main_v72 : Ref sig .tc := ⟨.hbm, 7977, rfl⟩
abbrev main_v73 : Ref sig .tc := ⟨.hbm, 7978, rfl⟩
abbrev main_v74 : Ref sig .tc := ⟨.hbm, 7979, rfl⟩
abbrev main_v75 : Ref sig .tc := ⟨.hbm, 7980, rfl⟩
abbrev main_v76 : Ref sig .tc := ⟨.hbm, 7981, rfl⟩
abbrev main_v77 : Ref sig .tc := ⟨.hbm, 7982, rfl⟩
abbrev main_v78 : Ref sig .tc := ⟨.hbm, 7983, rfl⟩
abbrev main_v79 : Ref sig .tc := ⟨.hbm, 7984, rfl⟩
abbrev main_v80 : Ref sig .tc := ⟨.hbm, 7985, rfl⟩
abbrev main_v81 : Ref sig .tc := ⟨.hbm, 7986, rfl⟩
abbrev main_v82 : Ref sig .tc := ⟨.hbm, 7987, rfl⟩
abbrev main_v83 : Ref sig .tc := ⟨.hbm, 7988, rfl⟩
abbrev main_v84 : Ref sig .tc := ⟨.hbm, 7989, rfl⟩
abbrev main_v85 : Ref sig .tc := ⟨.hbm, 7990, rfl⟩
abbrev main_v86 : Ref sig .tc := ⟨.hbm, 7991, rfl⟩
abbrev main_v87 : Ref sig .tc := ⟨.hbm, 7992, rfl⟩
abbrev main_v88 : Ref sig .tc := ⟨.hbm, 7993, rfl⟩
abbrev main_v89 : Ref sig .tc := ⟨.hbm, 7994, rfl⟩
abbrev main_v90 : Ref sig .tc := ⟨.hbm, 7995, rfl⟩
abbrev main_v91 : Ref sig .tc := ⟨.hbm, 7996, rfl⟩
abbrev main_c_2 : Ref sig .tc := ⟨.hbm, 7997, rfl⟩
abbrev main_call17_v0 : Ref sig .tc := ⟨.hbm, 7998, rfl⟩
abbrev main_v92 : Ref sig .tc := ⟨.hbm, 7999, rfl⟩
abbrev main_v93 : Ref sig .tc := ⟨.hbm, 8000, rfl⟩
abbrev main_arg0_scv : Ref sig .scVector := ⟨.hbm, 0, rfl⟩
abbrev main_v92_scv : Ref sig .scVector := ⟨.hbm, 7999, rfl⟩
abbrev main_v93_scv : Ref sig .scVector := ⟨.hbm, 8000, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let v31 : Index := Scalar.indexCast v3
  let c0 : Index := 0#32
  ![v31.toNat, 0]
@[reducible] def k0_t1_loop : Scf.Loop 32 :=
  let c0_i32_13 : BitVec 32 := 0#32
  let c24_i32 : BitVec 32 := 24#32
  let v34 : BitVec 32 := Scalar.addi c0_i32_13 c24_i32
  let c1_i32_14 : BitVec 32 := 1#32
  ⟨c0_i32_13, v34, c1_i32_14⟩
def k0_off2 (i : grid0.Coords) (k0_t1 : Fin k0_t1_loop.trips) (v72 : BitVec 32) : Fin 4 → Nat :=
  let c0_i32_13 : BitVec 32 := 0#32
  let c1_i32_14 : BitVec 32 := 1#32
  let arg7 : BitVec 32 := Scf.iv c0_i32_13 c1_i32_14 k0_t1
  let c4_i32_37 : BitVec 32 := 4#32
  let v70 : BitVec 32 := Scalar.muli arg7 c4_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c56_i32 : BitVec 32 := 56#32
  let v73 : BitVec 32 := Scalar.muli v30 c56_i32
  let c0_i32_46_r1 : BitVec 32 := 0#32
  ![v72.toNat, v70.toNat, v73.toNat, 0]

def k0_chk1 (i : grid0.Coords) (k0_t1 : Fin k0_t1_loop.trips) (v72 : BitVec 32) : Prop :=
  (∀ a, (k0_off2 i k0_t1 v72) a + S1x4x56x56.size a ≤ S16x96x224x224.size a)
theorem k0_off2_inb : ∀ (i : grid0.Coords) (k0_t1 : Fin k0_t1_loop.trips) (v72 : BitVec 32) (k0_hw1 : k0_chk1 i k0_t1 v72), ∀ a, (k0_off2 i k0_t1 v72) a + S1x4x56x56.size a ≤ S16x96x224x224.size a := fun i k0_t1 v72 k0_hw1 => k0_hw1

def k0_off3 (i : grid0.Coords) (k0_t1 : Fin k0_t1_loop.trips) (v75 : BitVec 32) : Fin 4 → Nat :=
  let c0_i32_13 : BitVec 32 := 0#32
  let c1_i32_14 : BitVec 32 := 1#32
  let arg7 : BitVec 32 := Scf.iv c0_i32_13 c1_i32_14 k0_t1
  let c4_i32_37 : BitVec 32 := 4#32
  let v70 : BitVec 32 := Scalar.muli arg7 c4_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c56_i32_38 : BitVec 32 := 56#32
  let v76 : BitVec 32 := Scalar.muli v30 c56_i32_38
  let c56_i32_46_r2 : BitVec 32 := 56#32
  ![v75.toNat, v70.toNat, v76.toNat, 56]

def k0_chk2 (i : grid0.Coords) (k0_t1 : Fin k0_t1_loop.trips) (v75 : BitVec 32) : Prop :=
  (∀ a, (k0_off3 i k0_t1 v75) a + S1x4x56x56.size a ≤ S16x96x224x224.size a)
theorem k0_off3_inb : ∀ (i : grid0.Coords) (k0_t1 : Fin k0_t1_loop.trips) (v75 : BitVec 32) (k0_hw2 : k0_chk2 i k0_t1 v75), ∀ a, (k0_off3 i k0_t1 v75) a + S1x4x56x56.size a ≤ S16x96x224x224.size a := fun i k0_t1 v75 k0_hw2 => k0_hw2

def k0_off4 (i : grid0.Coords) (k0_t1 : Fin k0_t1_loop.trips) (v78 : BitVec 32) : Fin 4 → Nat :=
  let c0_i32_13 : BitVec 32 := 0#32
  let c1_i32_14 : BitVec 32 := 1#32
  let arg7 : BitVec 32 := Scf.iv c0_i32_13 c1_i32_14 k0_t1
  let c4_i32_37 : BitVec 32 := 4#32
  let v70 : BitVec 32 := Scalar.muli arg7 c4_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c56_i32_39 : BitVec 32 := 56#32
  let v79 : BitVec 32 := Scalar.muli v30 c56_i32_39
  let c112_i32_45_r3 : BitVec 32 := 112#32
  ![v78.toNat, v70.toNat, v79.toNat, 112]

def k0_chk3 (i : grid0.Coords) (k0_t1 : Fin k0_t1_loop.trips) (v78 : BitVec 32) : Prop :=
  (∀ a, (k0_off4 i k0_t1 v78) a + S1x4x56x56.size a ≤ S16x96x224x224.size a)
theorem k0_off4_inb : ∀ (i : grid0.Coords) (k0_t1 : Fin k0_t1_loop.trips) (v78 : BitVec 32) (k0_hw3 : k0_chk3 i k0_t1 v78), ∀ a, (k0_off4 i k0_t1 v78) a + S1x4x56x56.size a ≤ S16x96x224x224.size a := fun i k0_t1 v78 k0_hw3 => k0_hw3

def k0_off5 (i : grid0.Coords) (k0_t1 : Fin k0_t1_loop.trips) (v81 : BitVec 32) : Fin 4 → Nat :=
  let c0_i32_13 : BitVec 32 := 0#32
  let c1_i32_14 : BitVec 32 := 1#32
  let arg7 : BitVec 32 := Scf.iv c0_i32_13 c1_i32_14 k0_t1
  let c4_i32_37 : BitVec 32 := 4#32
  let v70 : BitVec 32 := Scalar.muli arg7 c4_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c56_i32_40 : BitVec 32 := 56#32
  let v82 : BitVec 32 := Scalar.muli v30 c56_i32_40
  let c168_i32_45_r4 : BitVec 32 := 168#32
  ![v81.toNat, v70.toNat, v82.toNat, 168]

def k0_chk4 (i : grid0.Coords) (k0_t1 : Fin k0_t1_loop.trips) (v81 : BitVec 32) : Prop :=
  (∀ a, (k0_off5 i k0_t1 v81) a + S1x4x56x56.size a ≤ S16x96x224x224.size a)
theorem k0_off5_inb : ∀ (i : grid0.Coords) (k0_t1 : Fin k0_t1_loop.trips) (v81 : BitVec 32) (k0_hw4 : k0_chk4 i k0_t1 v81), ∀ a, (k0_off5 i k0_t1 v81) a + S1x4x56x56.size a ≤ S16x96x224x224.size a := fun i k0_t1 v81 k0_hw4 => k0_hw4

def k0_off6 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32 : BitVec 32 := 4#32
  let c0_i32_3 : BitVec 32 := 0#32
  let v10 : BitVec 1 := Scalar.cmpi .sgt c4_i32 c0_i32_3
  let v11 : BitVec 32 := Scalar.extui v10
  let c0_i32_4 : BitVec 32 := 0#32
  let v12 : BitVec 1 := Scalar.cmpi .slt c4_i32 c0_i32_4
  let v13 : BitVec 32 := Scalar.extui v12
  let v14 : BitVec 32 := Scalar.subi v11 v13
  let v15 : BitVec 1 := Scalar.cmpi .ne v9 v14
  let v16 : BitVec 32 := Scalar.remsi v3 c4_i32
  let c0_i32_5 : BitVec 32 := 0#32
  let v17 : BitVec 1 := Scalar.cmpi .ne v16 c0_i32_5
  let v18 : BitVec 1 := Scalar.andi v15 v17
  let v4 : BitVec 32 := Scalar.divsi v3 c4_i32
  let c1_i32 : BitVec 32 := 1#32
  let v19 : BitVec 32 := Scalar.subi v4 c1_i32
  let v20 : BitVec 32 := Scalar.select v18 v19 v4
  let c0_i32_13 : BitVec 32 := 0#32
  let c1_i32_14 : BitVec 32 := 1#32
  let arg7 : BitVec 32 := Scf.iv c0_i32_13 c1_i32_14 k0_t1
  let c4_i32_37 : BitVec 32 := 4#32
  let v70 : BitVec 32 := Scalar.muli arg7 c4_i32_37
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c56_i32_41 : BitVec 32 := 56#32
  let v83 : BitVec 32 := Scalar.muli v30 c56_i32_41
  let c0_i32_43_r5 : BitVec 32 := 0#32
  ![v20.toNat, v70.toNat, v83.toNat, 0]
@[reducible] def k0_t2_loop : Scf.Loop 32 :=
  let c0_i32_33 : BitVec 32 := 0#32
  let c24_i32_34 : BitVec 32 := 24#32
  let v68 : BitVec 32 := Scalar.addi c0_i32_33 c24_i32_34
  let c1_i32_35 : BitVec 32 := 1#32
  ⟨c0_i32_33, v68, c1_i32_35⟩
def k0_off7 (i : grid0.Coords) (k0_t2 : Fin k0_t2_loop.trips) (v72 : BitVec 32) : Fin 4 → Nat :=
  let c0_i32_33 : BitVec 32 := 0#32
  let c1_i32_35 : BitVec 32 := 1#32
  let arg7 : BitVec 32 := Scf.iv c0_i32_33 c1_i32_35 k0_t2
  let c4_i32_37 : BitVec 32 := 4#32
  let v70 : BitVec 32 := Scalar.muli arg7 c4_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let v36 : BitVec 32 := Scalar.muli v1 c2_i32_16
  let c1_i32_17 : BitVec 32 := 1#32
  let v37 : BitVec 32 := Scalar.addi v36 c1_i32_17
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v37 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c56_i32 : BitVec 32 := 56#32
  let v73 : BitVec 32 := Scalar.muli v64 c56_i32
  let c0_i32_46_r6 : BitVec 32 := 0#32
  ![v72.toNat, v70.toNat, v73.toNat, 0]

def k0_chk5 (i : grid0.Coords) (k0_t2 : Fin k0_t2_loop.trips) (v72 : BitVec 32) : Prop :=
  (∀ a, (k0_off7 i k0_t2 v72) a + S1x4x56x56.size a ≤ S16x96x224x224.size a)
theorem k0_off7_inb : ∀ (i : grid0.Coords) (k0_t2 : Fin k0_t2_loop.trips) (v72 : BitVec 32) (k0_hw5 : k0_chk5 i k0_t2 v72), ∀ a, (k0_off7 i k0_t2 v72) a + S1x4x56x56.size a ≤ S16x96x224x224.size a := fun i k0_t2 v72 k0_hw5 => k0_hw5

def k0_off8 (i : grid0.Coords) (k0_t2 : Fin k0_t2_loop.trips) (v75 : BitVec 32) : Fin 4 → Nat :=
  let c0_i32_33 : BitVec 32 := 0#32
  let c1_i32_35 : BitVec 32 := 1#32
  let arg7 : BitVec 32 := Scf.iv c0_i32_33 c1_i32_35 k0_t2
  let c4_i32_37 : BitVec 32 := 4#32
  let v70 : BitVec 32 := Scalar.muli arg7 c4_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let v36 : BitVec 32 := Scalar.muli v1 c2_i32_16
  let c1_i32_17 : BitVec 32 := 1#32
  let v37 : BitVec 32 := Scalar.addi v36 c1_i32_17
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v37 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c56_i32_38 : BitVec 32 := 56#32
  let v76 : BitVec 32 := Scalar.muli v64 c56_i32_38
  let c56_i32_46_r7 : BitVec 32 := 56#32
  ![v75.toNat, v70.toNat, v76.toNat, 56]

def k0_chk6 (i : grid0.Coords) (k0_t2 : Fin k0_t2_loop.trips) (v75 : BitVec 32) : Prop :=
  (∀ a, (k0_off8 i k0_t2 v75) a + S1x4x56x56.size a ≤ S16x96x224x224.size a)
theorem k0_off8_inb : ∀ (i : grid0.Coords) (k0_t2 : Fin k0_t2_loop.trips) (v75 : BitVec 32) (k0_hw6 : k0_chk6 i k0_t2 v75), ∀ a, (k0_off8 i k0_t2 v75) a + S1x4x56x56.size a ≤ S16x96x224x224.size a := fun i k0_t2 v75 k0_hw6 => k0_hw6

def k0_off9 (i : grid0.Coords) (k0_t2 : Fin k0_t2_loop.trips) (v78 : BitVec 32) : Fin 4 → Nat :=
  let c0_i32_33 : BitVec 32 := 0#32
  let c1_i32_35 : BitVec 32 := 1#32
  let arg7 : BitVec 32 := Scf.iv c0_i32_33 c1_i32_35 k0_t2
  let c4_i32_37 : BitVec 32 := 4#32
  let v70 : BitVec 32 := Scalar.muli arg7 c4_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let v36 : BitVec 32 := Scalar.muli v1 c2_i32_16
  let c1_i32_17 : BitVec 32 := 1#32
  let v37 : BitVec 32 := Scalar.addi v36 c1_i32_17
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v37 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c56_i32_39 : BitVec 32 := 56#32
  let v79 : BitVec 32 := Scalar.muli v64 c56_i32_39
  let c112_i32_45_r8 : BitVec 32 := 112#32
  ![v78.toNat, v70.toNat, v79.toNat, 112]

def k0_chk7 (i : grid0.Coords) (k0_t2 : Fin k0_t2_loop.trips) (v78 : BitVec 32) : Prop :=
  (∀ a, (k0_off9 i k0_t2 v78) a + S1x4x56x56.size a ≤ S16x96x224x224.size a)
theorem k0_off9_inb : ∀ (i : grid0.Coords) (k0_t2 : Fin k0_t2_loop.trips) (v78 : BitVec 32) (k0_hw7 : k0_chk7 i k0_t2 v78), ∀ a, (k0_off9 i k0_t2 v78) a + S1x4x56x56.size a ≤ S16x96x224x224.size a := fun i k0_t2 v78 k0_hw7 => k0_hw7

def k0_off10 (i : grid0.Coords) (k0_t2 : Fin k0_t2_loop.trips) (v81 : BitVec 32) : Fin 4 → Nat :=
  let c0_i32_33 : BitVec 32 := 0#32
  let c1_i32_35 : BitVec 32 := 1#32
  let arg7 : BitVec 32 := Scf.iv c0_i32_33 c1_i32_35 k0_t2
  let c4_i32_37 : BitVec 32 := 4#32
  let v70 : BitVec 32 := Scalar.muli arg7 c4_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let v36 : BitVec 32 := Scalar.muli v1 c2_i32_16
  let c1_i32_17 : BitVec 32 := 1#32
  let v37 : BitVec 32 := Scalar.addi v36 c1_i32_17
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v37 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c56_i32_40 : BitVec 32 := 56#32
  let v82 : BitVec 32 := Scalar.muli v64 c56_i32_40
  let c168_i32_45_r9 : BitVec 32 := 168#32
  ![v81.toNat, v70.toNat, v82.toNat, 168]

def k0_chk8 (i : grid0.Coords) (k0_t2 : Fin k0_t2_loop.trips) (v81 : BitVec 32) : Prop :=
  (∀ a, (k0_off10 i k0_t2 v81) a + S1x4x56x56.size a ≤ S16x96x224x224.size a)
theorem k0_off10_inb : ∀ (i : grid0.Coords) (k0_t2 : Fin k0_t2_loop.trips) (v81 : BitVec 32) (k0_hw8 : k0_chk8 i k0_t2 v81), ∀ a, (k0_off10 i k0_t2 v81) a + S1x4x56x56.size a ≤ S16x96x224x224.size a := fun i k0_t2 v81 k0_hw8 => k0_hw8

def k0_off11 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let v36 : BitVec 32 := Scalar.muli v1 c2_i32_16
  let c1_i32_17 : BitVec 32 := 1#32
  let v37 : BitVec 32 := Scalar.addi v36 c1_i32_17
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c4_i32_18 : BitVec 32 := 4#32
  let c0_i32_21 : BitVec 32 := 0#32
  let v44 : BitVec 1 := Scalar.cmpi .sgt c4_i32_18 c0_i32_21
  let v45 : BitVec 32 := Scalar.extui v44
  let c0_i32_22 : BitVec 32 := 0#32
  let v46 : BitVec 1 := Scalar.cmpi .slt c4_i32_18 c0_i32_22
  let v47 : BitVec 32 := Scalar.extui v46
  let v48 : BitVec 32 := Scalar.subi v45 v47
  let v49 : BitVec 1 := Scalar.cmpi .ne v43 v48
  let v50 : BitVec 32 := Scalar.remsi v37 c4_i32_18
  let c0_i32_23 : BitVec 32 := 0#32
  let v51 : BitVec 1 := Scalar.cmpi .ne v50 c0_i32_23
  let v52 : BitVec 1 := Scalar.andi v49 v51
  let v38 : BitVec 32 := Scalar.divsi v37 c4_i32_18
  let c1_i32_24 : BitVec 32 := 1#32
  let v53 : BitVec 32 := Scalar.subi v38 c1_i32_24
  let v54 : BitVec 32 := Scalar.select v52 v53 v38
  let c0_i32_33 : BitVec 32 := 0#32
  let c1_i32_35 : BitVec 32 := 1#32
  let arg7 : BitVec 32 := Scf.iv c0_i32_33 c1_i32_35 k0_t2
  let c4_i32_37 : BitVec 32 := 4#32
  let v70 : BitVec 32 := Scalar.muli arg7 c4_i32_37
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v37 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c56_i32_41 : BitVec 32 := 56#32
  let v83 : BitVec 32 := Scalar.muli v64 c56_i32_41
  let c0_i32_43_r10 : BitVec 32 := 0#32
  ![v54.toNat, v70.toNat, v83.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x96x224x224 : Shape := ⟨4, ![16, 96, 224, 224]⟩
abbrev S_ : Shape := ⟨0, ![]⟩
abbrev S1 : Shape := ⟨1, ![1]⟩
abbrev S2 : Shape := ⟨1, ![2]⟩
abbrev S16x96x4x56x4x56 : Shape := ⟨6, ![16, 96, 4, 56, 4, 56]⟩
abbrev S4x4x16x96x56x56 : Shape := ⟨6, ![4, 4, 16, 96, 56, 56]⟩
abbrev S16x16x96x56x56 : Shape := ⟨5, ![16, 16, 96, 56, 56]⟩
abbrev S16 : Shape := ⟨1, ![16]⟩
abbrev S16x1 : Shape := ⟨2, ![16, 1]⟩
abbrev S16x2 : Shape := ⟨2, ![16, 2]⟩
abbrev S1x2 : Shape := ⟨2, ![1, 2]⟩
abbrev S2x1 : Shape := ⟨2, ![2, 1]⟩
abbrev S2x2 : Shape := ⟨2, ![2, 2]⟩
abbrev S1x16 : Shape := ⟨2, ![1, 16]⟩
abbrev S16x16 : Shape := ⟨2, ![16, 16]⟩
abbrev S1x16x96x56x56 : Shape := ⟨5, ![1, 16, 96, 56, 56]⟩
abbrev S16x96x56x56 : Shape := ⟨4, ![16, 96, 56, 56]⟩

abbrev nBuf : Space → Nat
  | .hbm => 8225
  | .vmem => 0
  | .smem => 0
  | _ => 0

abbrev hbmTy0_0 (i : Nat) : BufTy := match i % 128 with
  | 0 => ⟨S16x96x224x224, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S16x96x4x56x4x56, .f32⟩
  | 12 => ⟨S4x4x16x96x56x56, .f32⟩
  | 13 => ⟨S16x16x96x56x56, .f32⟩
  | 14 => ⟨S1, .i32⟩
  | 15 => ⟨S_, .i32⟩
  | 16 => ⟨S1, .i32⟩
  | 17 => ⟨S_, .i32⟩
  | 18 => ⟨S16, .i64⟩
  | 19 => ⟨S_, .i64⟩
  | 20 => ⟨S16, .i64⟩
  | 21 => ⟨S16, .i64⟩
  | 22 => ⟨S_, .i64⟩
  | 23 => ⟨S16, .i64⟩
  | 24 => ⟨S16, .i64⟩
  | 25 => ⟨S16, .i32⟩
  | 26 => ⟨S16, .i32⟩
  | 27 => ⟨S_, .i32⟩
  | 28 => ⟨S_, .i32⟩
  | 29 => ⟨S_, .i32⟩
  | 30 => ⟨S16, .i32⟩
  | 31 => ⟨S16, .i32⟩
  | 32 => ⟨S16, .i32⟩
  | 33 => ⟨S16, .i32⟩
  | 34 => ⟨S16, .i32⟩
  | 35 => ⟨S_, .i32⟩
  | 36 => ⟨S16, .i32⟩
  | 37 => ⟨S16, .i32⟩
  | 38 => ⟨S_, .i32⟩
  | 39 => ⟨S16, .i32⟩
  | 40 => ⟨S16, .i32⟩
  | 41 => ⟨S16, .i32⟩
  | 42 => ⟨S16, .i32⟩
  | 43 => ⟨S16, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S16, .i32⟩
  | 51 => ⟨S16, .i32⟩
  | 52 => ⟨S16, .i32⟩
  | 53 => ⟨S_, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S16, .i32⟩
  | 61 => ⟨S16, .i32⟩
  | 62 => ⟨S_, .i32⟩
  | 63 => ⟨S16, .i32⟩
  | 64 => ⟨S16, .i32⟩
  | 65 => ⟨S_, .i32⟩
  | 66 => ⟨S16, .i32⟩
  | 67 => ⟨S16, .i32⟩
  | 68 => ⟨S16, .i32⟩
  | 69 => ⟨S16, .i32⟩
  | 70 => ⟨S16, .i32⟩
  | 71 => ⟨S16, .i32⟩
  | 72 => ⟨S16, .i32⟩
  | 73 => ⟨S16, .i32⟩
  | 74 => ⟨S_, .i32⟩
  | 75 => ⟨S16, .i32⟩
  | 76 => ⟨S16, .i32⟩
  | 77 => ⟨S16, .i32⟩
  | 78 => ⟨S_, .i32⟩
  | 79 => ⟨S16, .i32⟩
  | 80 => ⟨S16, .i32⟩
  | 81 => ⟨S_, .i32⟩
  | 82 => ⟨S16, .i32⟩
  | 83 => ⟨S16, .i32⟩
  | 84 => ⟨S16, .i32⟩
  | 85 => ⟨S16, .i32⟩
  | 86 => ⟨S16, .i32⟩
  | 87 => ⟨S_, .i32⟩
  | 88 => ⟨S16, .i32⟩
  | 89 => ⟨S16, .i32⟩
  | 90 => ⟨S_, .i32⟩
  | 91 => ⟨S16, .i32⟩
  | 92 => ⟨S16, .i32⟩
  | 93 => ⟨S16, .i32⟩
  | 94 => ⟨S16, .i32⟩
  | 95 => ⟨S16, .i32⟩
  | 96 => ⟨S_, .i32⟩
  | 97 => ⟨S16, .i32⟩
  | 98 => ⟨S16, .i32⟩
  | 99 => ⟨S_, .i32⟩
  | 100 => ⟨S16, .i32⟩
  | 101 => ⟨S16, .i32⟩
  | 102 => ⟨S16, .i32⟩
  | 103 => ⟨S16, .i32⟩
  | 104 => ⟨S16, .i32⟩
  | 105 => ⟨S_, .i32⟩
  | 106 => ⟨S16, .i32⟩
  | 107 => ⟨S16, .i32⟩
  | 108 => ⟨S_, .i32⟩
  | 109 => ⟨S16, .i32⟩
  | 110 => ⟨S16, .i32⟩
  | 111 => ⟨S16, .i32⟩
  | 112 => ⟨S16, .i32⟩
  | 113 => ⟨S16, .i32⟩
  | 114 => ⟨S16, .i32⟩
  | 115 => ⟨S16, .i32⟩
  | 116 => ⟨S16, .i32⟩
  | 117 => ⟨S_, .i32⟩
  | 118 => ⟨S16, .i32⟩
  | 119 => ⟨S16, .i32⟩
  | 120 => ⟨S16, .i32⟩
  | 121 => ⟨S_, .i32⟩
  | 122 => ⟨S16, .i32⟩
  | 123 => ⟨S16, .i32⟩
  | 124 => ⟨S_, .i32⟩
  | 125 => ⟨S16, .i32⟩
  | 126 => ⟨S16, .i32⟩
  | 127 => ⟨S16, .i32⟩
  | _ => ⟨S16x96x224x224, .f32⟩

abbrev hbmTy0_1 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S_, .i32⟩
  | 6 => ⟨S16, .i32⟩
  | 7 => ⟨S16, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S_, .i32⟩
  | 15 => ⟨S16, .i32⟩
  | 16 => ⟨S16, .i32⟩
  | 17 => ⟨S16, .i32⟩
  | 18 => ⟨S16, .i32⟩
  | 19 => ⟨S16, .i32⟩
  | 20 => ⟨S_, .i32⟩
  | 21 => ⟨S16, .i32⟩
  | 22 => ⟨S16, .i32⟩
  | 23 => ⟨S_, .i32⟩
  | 24 => ⟨S16, .i32⟩
  | 25 => ⟨S16, .i32⟩
  | 26 => ⟨S16, .i32⟩
  | 27 => ⟨S16, .i32⟩
  | 28 => ⟨S16, .i32⟩
  | 29 => ⟨S16, .i32⟩
  | 30 => ⟨S16, .i32⟩
  | 31 => ⟨S16, .i32⟩
  | 32 => ⟨S_, .i32⟩
  | 33 => ⟨S16, .i32⟩
  | 34 => ⟨S16, .i32⟩
  | 35 => ⟨S16, .i32⟩
  | 36 => ⟨S_, .i32⟩
  | 37 => ⟨S16, .i32⟩
  | 38 => ⟨S16, .i32⟩
  | 39 => ⟨S_, .i32⟩
  | 40 => ⟨S16, .i32⟩
  | 41 => ⟨S16, .i32⟩
  | 42 => ⟨S16, .i32⟩
  | 43 => ⟨S16, .i32⟩
  | 44 => ⟨S16, .i32⟩
  | 45 => ⟨S_, .i32⟩
  | 46 => ⟨S16, .i32⟩
  | 47 => ⟨S16, .i32⟩
  | 48 => ⟨S_, .i32⟩
  | 49 => ⟨S16, .i32⟩
  | 50 => ⟨S16, .i32⟩
  | 51 => ⟨S16, .i32⟩
  | 52 => ⟨S16, .i32⟩
  | 53 => ⟨S16, .i32⟩
  | 54 => ⟨S_, .i32⟩
  | 55 => ⟨S16, .i32⟩
  | 56 => ⟨S16, .i32⟩
  | 57 => ⟨S_, .i32⟩
  | 58 => ⟨S16, .i32⟩
  | 59 => ⟨S16, .i32⟩
  | 60 => ⟨S16, .i32⟩
  | 61 => ⟨S16, .i32⟩
  | 62 => ⟨S16, .i32⟩
  | 63 => ⟨S_, .i32⟩
  | 64 => ⟨S16, .i32⟩
  | 65 => ⟨S16, .i32⟩
  | 66 => ⟨S_, .i32⟩
  | 67 => ⟨S16, .i32⟩
  | 68 => ⟨S16, .i32⟩
  | 69 => ⟨S16, .i32⟩
  | 70 => ⟨S16, .i32⟩
  | 71 => ⟨S16, .i32⟩
  | 72 => ⟨S16, .i32⟩
  | 73 => ⟨S16, .i32⟩
  | 74 => ⟨S16, .i32⟩
  | 75 => ⟨S_, .i32⟩
  | 76 => ⟨S16, .i32⟩
  | 77 => ⟨S16, .i32⟩
  | 78 => ⟨S16, .i32⟩
  | 79 => ⟨S_, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S16, .i32⟩
  | 87 => ⟨S16, .i32⟩
  | 88 => ⟨S_, .i32⟩
  | 89 => ⟨S16, .i32⟩
  | 90 => ⟨S16, .i32⟩
  | 91 => ⟨S_, .i32⟩
  | 92 => ⟨S16, .i32⟩
  | 93 => ⟨S16, .i32⟩
  | 94 => ⟨S16, .i32⟩
  | 95 => ⟨S16, .i32⟩
  | 96 => ⟨S16, .i32⟩
  | 97 => ⟨S_, .i32⟩
  | 98 => ⟨S16, .i32⟩
  | 99 => ⟨S16, .i32⟩
  | 100 => ⟨S_, .i32⟩
  | 101 => ⟨S16, .i32⟩
  | 102 => ⟨S16, .i32⟩
  | 103 => ⟨S16, .i32⟩
  | 104 => ⟨S16, .i32⟩
  | 105 => ⟨S16, .i32⟩
  | 106 => ⟨S_, .i32⟩
  | 107 => ⟨S16, .i32⟩
  | 108 => ⟨S16, .i32⟩
  | 109 => ⟨S_, .i32⟩
  | 110 => ⟨S16, .i32⟩
  | 111 => ⟨S16, .i32⟩
  | 112 => ⟨S16, .i32⟩
  | 113 => ⟨S16, .i32⟩
  | 114 => ⟨S16, .i32⟩
  | 115 => ⟨S16, .i32⟩
  | 116 => ⟨S16, .i32⟩
  | 117 => ⟨S16, .i32⟩
  | 118 => ⟨S_, .i32⟩
  | 119 => ⟨S16, .i32⟩
  | 120 => ⟨S16, .i32⟩
  | 121 => ⟨S16x1, .i32⟩
  | 122 => ⟨S16x1, .i32⟩
  | 123 => ⟨S16x2, .i32⟩
  | 124 => ⟨S1x2, .i32⟩
  | 125 => ⟨S2, .i32⟩
  | 126 => ⟨S16, .i32⟩
  | 127 => ⟨S1, .i32⟩
  | _ => ⟨S16x96x224x224, .f32⟩

abbrev hbmTy0_2 (i : Nat) : BufTy := match i % 128 with
  | 0 => ⟨S_, .i32⟩
  | 1 => ⟨S1, .i32⟩
  | 2 => ⟨S_, .i32⟩
  | 3 => ⟨S2, .i64⟩
  | 4 => ⟨S_, .i64⟩
  | 5 => ⟨S2, .i64⟩
  | 6 => ⟨S2, .i64⟩
  | 7 => ⟨S_, .i64⟩
  | 8 => ⟨S2, .i64⟩
  | 9 => ⟨S2, .i64⟩
  | 10 => ⟨S2, .i32⟩
  | 11 => ⟨S2, .i32⟩
  | 12 => ⟨S_, .i32⟩
  | 13 => ⟨S_, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S16x96x224x224, .f32⟩

abbrev hbmTy0_3 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S2x1, .i32⟩
  | 107 => ⟨S2x1, .i32⟩
  | 108 => ⟨S2x2, .i32⟩
  | 109 => ⟨S1x2, .i32⟩
  | 110 => ⟨S2, .i32⟩
  | 111 => ⟨S1x2, .i32⟩
  | 112 => ⟨S2, .i32⟩
  | 113 => ⟨S1, .i32⟩
  | 114 => ⟨S_, .i32⟩
  | 115 => ⟨S1, .i32⟩
  | 116 => ⟨S_, .i32⟩
  | 117 => ⟨S16, .i64⟩
  | 118 => ⟨S_, .i64⟩
  | 119 => ⟨S16, .i64⟩
  | 120 => ⟨S16, .i64⟩
  | 121 => ⟨S_, .i64⟩
  | 122 => ⟨S16, .i64⟩
  | 123 => ⟨S16, .i64⟩
  | 124 => ⟨S16, .i32⟩
  | 125 => ⟨S16, .i32⟩
  | 126 => ⟨S_, .i32⟩
  | 127 => ⟨S_, .i32⟩
  | _ => ⟨S16x96x224x224, .f32⟩

abbrev hbmTy0_4 (i : Nat) : BufTy := match i % 128 with
  | 0 => ⟨S_, .i32⟩
  | 1 => ⟨S16, .i32⟩
  | 2 => ⟨S16, .i32⟩
  | 3 => ⟨S16, .i32⟩
  | 4 => ⟨S16, .i32⟩
  | 5 => ⟨S16, .i32⟩
  | 6 => ⟨S_, .i32⟩
  | 7 => ⟨S16, .i32⟩
  | 8 => ⟨S16, .i32⟩
  | 9 => ⟨S_, .i32⟩
  | 10 => ⟨S16, .i32⟩
  | 11 => ⟨S16, .i32⟩
  | 12 => ⟨S16, .i32⟩
  | 13 => ⟨S16, .i32⟩
  | 14 => ⟨S16, .i32⟩
  | 15 => ⟨S_, .i32⟩
  | 16 => ⟨S16, .i32⟩
  | 17 => ⟨S16, .i32⟩
  | 18 => ⟨S_, .i32⟩
  | 19 => ⟨S16, .i32⟩
  | 20 => ⟨S16, .i32⟩
  | 21 => ⟨S16, .i32⟩
  | 22 => ⟨S16, .i32⟩
  | 23 => ⟨S16, .i32⟩
  | 24 => ⟨S_, .i32⟩
  | 25 => ⟨S16, .i32⟩
  | 26 => ⟨S16, .i32⟩
  | 27 => ⟨S_, .i32⟩
  | 28 => ⟨S16, .i32⟩
  | 29 => ⟨S16, .i32⟩
  | 30 => ⟨S16, .i32⟩
  | 31 => ⟨S16, .i32⟩
  | 32 => ⟨S16, .i32⟩
  | 33 => ⟨S_, .i32⟩
  | 34 => ⟨S16, .i32⟩
  | 35 => ⟨S16, .i32⟩
  | 36 => ⟨S_, .i32⟩
  | 37 => ⟨S16, .i32⟩
  | 38 => ⟨S16, .i32⟩
  | 39 => ⟨S16, .i32⟩
  | 40 => ⟨S16, .i32⟩
  | 41 => ⟨S16, .i32⟩
  | 42 => ⟨S16, .i32⟩
  | 43 => ⟨S16, .i32⟩
  | 44 => ⟨S16, .i32⟩
  | 45 => ⟨S_, .i32⟩
  | 46 => ⟨S16, .i32⟩
  | 47 => ⟨S16, .i32⟩
  | 48 => ⟨S16, .i32⟩
  | 49 => ⟨S_, .i32⟩
  | 50 => ⟨S16, .i32⟩
  | 51 => ⟨S16, .i32⟩
  | 52 => ⟨S_, .i32⟩
  | 53 => ⟨S16, .i32⟩
  | 54 => ⟨S16, .i32⟩
  | 55 => ⟨S16, .i32⟩
  | 56 => ⟨S16, .i32⟩
  | 57 => ⟨S16, .i32⟩
  | 58 => ⟨S_, .i32⟩
  | 59 => ⟨S16, .i32⟩
  | 60 => ⟨S16, .i32⟩
  | 61 => ⟨S_, .i32⟩
  | 62 => ⟨S16, .i32⟩
  | 63 => ⟨S16, .i32⟩
  | 64 => ⟨S16, .i32⟩
  | 65 => ⟨S16, .i32⟩
  | 66 => ⟨S16, .i32⟩
  | 67 => ⟨S_, .i32⟩
  | 68 => ⟨S16, .i32⟩
  | 69 => ⟨S16, .i32⟩
  | 70 => ⟨S_, .i32⟩
  | 71 => ⟨S16, .i32⟩
  | 72 => ⟨S16, .i32⟩
  | 73 => ⟨S16, .i32⟩
  | 74 => ⟨S16, .i32⟩
  | 75 => ⟨S16, .i32⟩
  | 76 => ⟨S_, .i32⟩
  | 77 => ⟨S16, .i32⟩
  | 78 => ⟨S16, .i32⟩
  | 79 => ⟨S_, .i32⟩
  | 80 => ⟨S16, .i32⟩
  | 81 => ⟨S16, .i32⟩
  | 82 => ⟨S16, .i32⟩
  | 83 => ⟨S16, .i32⟩
  | 84 => ⟨S16, .i32⟩
  | 85 => ⟨S16, .i32⟩
  | 86 => ⟨S16, .i32⟩
  | 87 => ⟨S16, .i32⟩
  | 88 => ⟨S_, .i32⟩
  | 89 => ⟨S16, .i32⟩
  | 90 => ⟨S16, .i32⟩
  | 91 => ⟨S16, .i32⟩
  | 92 => ⟨S_, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S16, .i32⟩
  | 100 => ⟨S16, .i32⟩
  | 101 => ⟨S_, .i32⟩
  | 102 => ⟨S16, .i32⟩
  | 103 => ⟨S16, .i32⟩
  | 104 => ⟨S_, .i32⟩
  | 105 => ⟨S16, .i32⟩
  | 106 => ⟨S16, .i32⟩
  | 107 => ⟨S16, .i32⟩
  | 108 => ⟨S16, .i32⟩
  | 109 => ⟨S16, .i32⟩
  | 110 => ⟨S_, .i32⟩
  | 111 => ⟨S16, .i32⟩
  | 112 => ⟨S16, .i32⟩
  | 113 => ⟨S_, .i32⟩
  | 114 => ⟨S16, .i32⟩
  | 115 => ⟨S16, .i32⟩
  | 116 => ⟨S16, .i32⟩
  | 117 => ⟨S16, .i32⟩
  | 118 => ⟨S16, .i32⟩
  | 119 => ⟨S_, .i32⟩
  | 120 => ⟨S16, .i32⟩
  | 121 => ⟨S16, .i32⟩
  | 122 => ⟨S_, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_5 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i32⟩
  | 6 => ⟨S16, .i32⟩
  | 7 => ⟨S_, .i32⟩
  | 8 => ⟨S16, .i32⟩
  | 9 => ⟨S16, .i32⟩
  | 10 => ⟨S_, .i32⟩
  | 11 => ⟨S16, .i32⟩
  | 12 => ⟨S16, .i32⟩
  | 13 => ⟨S16, .i32⟩
  | 14 => ⟨S16, .i32⟩
  | 15 => ⟨S16, .i32⟩
  | 16 => ⟨S_, .i32⟩
  | 17 => ⟨S16, .i32⟩
  | 18 => ⟨S16, .i32⟩
  | 19 => ⟨S_, .i32⟩
  | 20 => ⟨S16, .i32⟩
  | 21 => ⟨S16, .i32⟩
  | 22 => ⟨S16, .i32⟩
  | 23 => ⟨S16, .i32⟩
  | 24 => ⟨S16, .i32⟩
  | 25 => ⟨S_, .i32⟩
  | 26 => ⟨S16, .i32⟩
  | 27 => ⟨S16, .i32⟩
  | 28 => ⟨S_, .i32⟩
  | 29 => ⟨S16, .i32⟩
  | 30 => ⟨S16, .i32⟩
  | 31 => ⟨S16, .i32⟩
  | 32 => ⟨S16, .i32⟩
  | 33 => ⟨S16, .i32⟩
  | 34 => ⟨S_, .i32⟩
  | 35 => ⟨S16, .i32⟩
  | 36 => ⟨S16, .i32⟩
  | 37 => ⟨S_, .i32⟩
  | 38 => ⟨S16, .i32⟩
  | 39 => ⟨S16, .i32⟩
  | 40 => ⟨S16, .i32⟩
  | 41 => ⟨S16, .i32⟩
  | 42 => ⟨S16, .i32⟩
  | 43 => ⟨S16, .i32⟩
  | 44 => ⟨S16, .i32⟩
  | 45 => ⟨S16, .i32⟩
  | 46 => ⟨S_, .i32⟩
  | 47 => ⟨S16, .i32⟩
  | 48 => ⟨S16, .i32⟩
  | 49 => ⟨S16, .i32⟩
  | 50 => ⟨S_, .i32⟩
  | 51 => ⟨S16, .i32⟩
  | 52 => ⟨S16, .i32⟩
  | 53 => ⟨S_, .i32⟩
  | 54 => ⟨S16, .i32⟩
  | 55 => ⟨S16, .i32⟩
  | 56 => ⟨S16, .i32⟩
  | 57 => ⟨S16, .i32⟩
  | 58 => ⟨S16, .i32⟩
  | 59 => ⟨S_, .i32⟩
  | 60 => ⟨S16, .i32⟩
  | 61 => ⟨S16, .i32⟩
  | 62 => ⟨S_, .i32⟩
  | 63 => ⟨S16, .i32⟩
  | 64 => ⟨S16, .i32⟩
  | 65 => ⟨S16, .i32⟩
  | 66 => ⟨S16, .i32⟩
  | 67 => ⟨S16, .i32⟩
  | 68 => ⟨S_, .i32⟩
  | 69 => ⟨S16, .i32⟩
  | 70 => ⟨S16, .i32⟩
  | 71 => ⟨S_, .i32⟩
  | 72 => ⟨S16, .i32⟩
  | 73 => ⟨S16, .i32⟩
  | 74 => ⟨S16, .i32⟩
  | 75 => ⟨S16, .i32⟩
  | 76 => ⟨S16, .i32⟩
  | 77 => ⟨S_, .i32⟩
  | 78 => ⟨S16, .i32⟩
  | 79 => ⟨S16, .i32⟩
  | 80 => ⟨S_, .i32⟩
  | 81 => ⟨S16, .i32⟩
  | 82 => ⟨S16, .i32⟩
  | 83 => ⟨S16, .i32⟩
  | 84 => ⟨S16, .i32⟩
  | 85 => ⟨S16, .i32⟩
  | 86 => ⟨S16, .i32⟩
  | 87 => ⟨S16, .i32⟩
  | 88 => ⟨S16, .i32⟩
  | 89 => ⟨S_, .i32⟩
  | 90 => ⟨S16, .i32⟩
  | 91 => ⟨S16, .i32⟩
  | 92 => ⟨S16, .i32⟩
  | 93 => ⟨S16, .i32⟩
  | 94 => ⟨S16, .i32⟩
  | 95 => ⟨S1x2, .i32⟩
  | 96 => ⟨S2, .i32⟩
  | 97 => ⟨S16, .i32⟩
  | 98 => ⟨S1, .i32⟩
  | 99 => ⟨S_, .i32⟩
  | 100 => ⟨S1, .i32⟩
  | 101 => ⟨S_, .i32⟩
  | 102 => ⟨S2, .i64⟩
  | 103 => ⟨S_, .i64⟩
  | 104 => ⟨S2, .i64⟩
  | 105 => ⟨S2, .i64⟩
  | 106 => ⟨S_, .i64⟩
  | 107 => ⟨S2, .i64⟩
  | 108 => ⟨S2, .i64⟩
  | 109 => ⟨S2, .i32⟩
  | 110 => ⟨S2, .i32⟩
  | 111 => ⟨S_, .i32⟩
  | 112 => ⟨S_, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16x96x224x224, .f32⟩

abbrev hbmTy0_6 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S16x96x224x224, .f32⟩

abbrev hbmTy0_7 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2x1, .i32⟩
  | 78 => ⟨S2x1, .i32⟩
  | 79 => ⟨S2x2, .i32⟩
  | 80 => ⟨S1x2, .i32⟩
  | 81 => ⟨S2, .i32⟩
  | 82 => ⟨S1x2, .i32⟩
  | 83 => ⟨S2, .i32⟩
  | 84 => ⟨S1, .i32⟩
  | 85 => ⟨S_, .i32⟩
  | 86 => ⟨S1, .i32⟩
  | 87 => ⟨S_, .i32⟩
  | 88 => ⟨S16, .i64⟩
  | 89 => ⟨S_, .i64⟩
  | 90 => ⟨S16, .i64⟩
  | 91 => ⟨S16, .i64⟩
  | 92 => ⟨S_, .i64⟩
  | 93 => ⟨S16, .i64⟩
  | 94 => ⟨S16, .i64⟩
  | 95 => ⟨S16, .i32⟩
  | 96 => ⟨S16, .i32⟩
  | 97 => ⟨S_, .i32⟩
  | 98 => ⟨S_, .i32⟩
  | 99 => ⟨S_, .i32⟩
  | 100 => ⟨S16, .i32⟩
  | 101 => ⟨S16, .i32⟩
  | 102 => ⟨S16, .i32⟩
  | 103 => ⟨S16, .i32⟩
  | 104 => ⟨S16, .i32⟩
  | 105 => ⟨S_, .i32⟩
  | 106 => ⟨S16, .i32⟩
  | 107 => ⟨S16, .i32⟩
  | 108 => ⟨S_, .i32⟩
  | 109 => ⟨S16, .i32⟩
  | 110 => ⟨S16, .i32⟩
  | 111 => ⟨S16, .i32⟩
  | 112 => ⟨S16, .i32⟩
  | 113 => ⟨S16, .i32⟩
  | 114 => ⟨S_, .i32⟩
  | 115 => ⟨S16, .i32⟩
  | 116 => ⟨S16, .i32⟩
  | 117 => ⟨S_, .i32⟩
  | 118 => ⟨S16, .i32⟩
  | 119 => ⟨S16, .i32⟩
  | 120 => ⟨S16, .i32⟩
  | 121 => ⟨S16, .i32⟩
  | 122 => ⟨S16, .i32⟩
  | 123 => ⟨S_, .i32⟩
  | 124 => ⟨S16, .i32⟩
  | 125 => ⟨S16, .i32⟩
  | 126 => ⟨S_, .i32⟩
  | 127 => ⟨S16, .i32⟩
  | _ => ⟨S16x96x224x224, .f32⟩

abbrev hbmTy0_8 (i : Nat) : BufTy := match i % 128 with
  | 0 => ⟨S16, .i32⟩
  | 1 => ⟨S16, .i32⟩
  | 2 => ⟨S16, .i32⟩
  | 3 => ⟨S16, .i32⟩
  | 4 => ⟨S_, .i32⟩
  | 5 => ⟨S16, .i32⟩
  | 6 => ⟨S16, .i32⟩
  | 7 => ⟨S_, .i32⟩
  | 8 => ⟨S16, .i32⟩
  | 9 => ⟨S16, .i32⟩
  | 10 => ⟨S16, .i32⟩
  | 11 => ⟨S16, .i32⟩
  | 12 => ⟨S16, .i32⟩
  | 13 => ⟨S16, .i32⟩
  | 14 => ⟨S16, .i32⟩
  | 15 => ⟨S16, .i32⟩
  | 16 => ⟨S_, .i32⟩
  | 17 => ⟨S16, .i32⟩
  | 18 => ⟨S16, .i32⟩
  | 19 => ⟨S16, .i32⟩
  | 20 => ⟨S_, .i32⟩
  | 21 => ⟨S16, .i32⟩
  | 22 => ⟨S16, .i32⟩
  | 23 => ⟨S_, .i32⟩
  | 24 => ⟨S16, .i32⟩
  | 25 => ⟨S16, .i32⟩
  | 26 => ⟨S16, .i32⟩
  | 27 => ⟨S16, .i32⟩
  | 28 => ⟨S16, .i32⟩
  | 29 => ⟨S_, .i32⟩
  | 30 => ⟨S16, .i32⟩
  | 31 => ⟨S16, .i32⟩
  | 32 => ⟨S_, .i32⟩
  | 33 => ⟨S16, .i32⟩
  | 34 => ⟨S16, .i32⟩
  | 35 => ⟨S16, .i32⟩
  | 36 => ⟨S16, .i32⟩
  | 37 => ⟨S16, .i32⟩
  | 38 => ⟨S_, .i32⟩
  | 39 => ⟨S16, .i32⟩
  | 40 => ⟨S16, .i32⟩
  | 41 => ⟨S_, .i32⟩
  | 42 => ⟨S16, .i32⟩
  | 43 => ⟨S16, .i32⟩
  | 44 => ⟨S16, .i32⟩
  | 45 => ⟨S16, .i32⟩
  | 46 => ⟨S16, .i32⟩
  | 47 => ⟨S_, .i32⟩
  | 48 => ⟨S16, .i32⟩
  | 49 => ⟨S16, .i32⟩
  | 50 => ⟨S_, .i32⟩
  | 51 => ⟨S16, .i32⟩
  | 52 => ⟨S16, .i32⟩
  | 53 => ⟨S16, .i32⟩
  | 54 => ⟨S16, .i32⟩
  | 55 => ⟨S16, .i32⟩
  | 56 => ⟨S16, .i32⟩
  | 57 => ⟨S16, .i32⟩
  | 58 => ⟨S16, .i32⟩
  | 59 => ⟨S_, .i32⟩
  | 60 => ⟨S16, .i32⟩
  | 61 => ⟨S16, .i32⟩
  | 62 => ⟨S16, .i32⟩
  | 63 => ⟨S_, .i32⟩
  | 64 => ⟨S16, .i32⟩
  | 65 => ⟨S16, .i32⟩
  | 66 => ⟨S_, .i32⟩
  | 67 => ⟨S16, .i32⟩
  | 68 => ⟨S16, .i32⟩
  | 69 => ⟨S16, .i32⟩
  | 70 => ⟨S16, .i32⟩
  | 71 => ⟨S16, .i32⟩
  | 72 => ⟨S_, .i32⟩
  | 73 => ⟨S16, .i32⟩
  | 74 => ⟨S16, .i32⟩
  | 75 => ⟨S_, .i32⟩
  | 76 => ⟨S16, .i32⟩
  | 77 => ⟨S16, .i32⟩
  | 78 => ⟨S16, .i32⟩
  | 79 => ⟨S16, .i32⟩
  | 80 => ⟨S16, .i32⟩
  | 81 => ⟨S_, .i32⟩
  | 82 => ⟨S16, .i32⟩
  | 83 => ⟨S16, .i32⟩
  | 84 => ⟨S_, .i32⟩
  | 85 => ⟨S16, .i32⟩
  | 86 => ⟨S16, .i32⟩
  | 87 => ⟨S16, .i32⟩
  | 88 => ⟨S16, .i32⟩
  | 89 => ⟨S16, .i32⟩
  | 90 => ⟨S_, .i32⟩
  | 91 => ⟨S16, .i32⟩
  | 92 => ⟨S16, .i32⟩
  | 93 => ⟨S_, .i32⟩
  | 94 => ⟨S16, .i32⟩
  | 95 => ⟨S16, .i32⟩
  | 96 => ⟨S16, .i32⟩
  | 97 => ⟨S16, .i32⟩
  | 98 => ⟨S16, .i32⟩
  | 99 => ⟨S16, .i32⟩
  | 100 => ⟨S16, .i32⟩
  | 101 => ⟨S16, .i32⟩
  | 102 => ⟨S_, .i32⟩
  | 103 => ⟨S16, .i32⟩
  | 104 => ⟨S16, .i32⟩
  | 105 => ⟨S16, .i32⟩
  | 106 => ⟨S_, .i32⟩
  | 107 => ⟨S16, .i32⟩
  | 108 => ⟨S16, .i32⟩
  | 109 => ⟨S_, .i32⟩
  | 110 => ⟨S16, .i32⟩
  | 111 => ⟨S16, .i32⟩
  | 112 => ⟨S16, .i32⟩
  | 113 => ⟨S16, .i32⟩
  | 114 => ⟨S16, .i32⟩
  | 115 => ⟨S_, .i32⟩
  | 116 => ⟨S16, .i32⟩
  | 117 => ⟨S16, .i32⟩
  | 118 => ⟨S_, .i32⟩
  | 119 => ⟨S16, .i32⟩
  | 120 => ⟨S16, .i32⟩
  | 121 => ⟨S16, .i32⟩
  | 122 => ⟨S16, .i32⟩
  | 123 => ⟨S16, .i32⟩
  | 124 => ⟨S_, .i32⟩
  | 125 => ⟨S16, .i32⟩
  | 126 => ⟨S16, .i32⟩
  | 127 => ⟨S_, .i32⟩
  | _ => ⟨S16x96x224x224, .f32⟩

abbrev hbmTy0_9 (i : Nat) : BufTy := match i % 128 with
  | 0 => ⟨S16, .i32⟩
  | 1 => ⟨S16, .i32⟩
  | 2 => ⟨S16, .i32⟩
  | 3 => ⟨S16, .i32⟩
  | 4 => ⟨S16, .i32⟩
  | 5 => ⟨S_, .i32⟩
  | 6 => ⟨S16, .i32⟩
  | 7 => ⟨S16, .i32⟩
  | 8 => ⟨S_, .i32⟩
  | 9 => ⟨S16, .i32⟩
  | 10 => ⟨S16, .i32⟩
  | 11 => ⟨S16, .i32⟩
  | 12 => ⟨S16, .i32⟩
  | 13 => ⟨S16, .i32⟩
  | 14 => ⟨S16, .i32⟩
  | 15 => ⟨S16, .i32⟩
  | 16 => ⟨S16, .i32⟩
  | 17 => ⟨S_, .i32⟩
  | 18 => ⟨S16, .i32⟩
  | 19 => ⟨S16, .i32⟩
  | 20 => ⟨S16, .i32⟩
  | 21 => ⟨S_, .i32⟩
  | 22 => ⟨S16, .i32⟩
  | 23 => ⟨S16, .i32⟩
  | 24 => ⟨S_, .i32⟩
  | 25 => ⟨S16, .i32⟩
  | 26 => ⟨S16, .i32⟩
  | 27 => ⟨S16, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16, .i32⟩
  | 35 => ⟨S16, .i32⟩
  | 36 => ⟨S16, .i32⟩
  | 37 => ⟨S16, .i32⟩
  | 38 => ⟨S16, .i32⟩
  | 39 => ⟨S_, .i32⟩
  | 40 => ⟨S16, .i32⟩
  | 41 => ⟨S16, .i32⟩
  | 42 => ⟨S_, .i32⟩
  | 43 => ⟨S16, .i32⟩
  | 44 => ⟨S16, .i32⟩
  | 45 => ⟨S16, .i32⟩
  | 46 => ⟨S16, .i32⟩
  | 47 => ⟨S16, .i32⟩
  | 48 => ⟨S_, .i32⟩
  | 49 => ⟨S16, .i32⟩
  | 50 => ⟨S16, .i32⟩
  | 51 => ⟨S_, .i32⟩
  | 52 => ⟨S16, .i32⟩
  | 53 => ⟨S16, .i32⟩
  | 54 => ⟨S16, .i32⟩
  | 55 => ⟨S16, .i32⟩
  | 56 => ⟨S16, .i32⟩
  | 57 => ⟨S16, .i32⟩
  | 58 => ⟨S16, .i32⟩
  | 59 => ⟨S16, .i32⟩
  | 60 => ⟨S_, .i32⟩
  | 61 => ⟨S16, .i32⟩
  | 62 => ⟨S16, .i32⟩
  | 63 => ⟨S16, .i32⟩
  | 64 => ⟨S16, .i32⟩
  | 65 => ⟨S16, .i32⟩
  | 66 => ⟨S1x2, .i32⟩
  | 67 => ⟨S2, .i32⟩
  | 68 => ⟨S16, .i32⟩
  | 69 => ⟨S1, .i32⟩
  | 70 => ⟨S_, .i32⟩
  | 71 => ⟨S1, .i32⟩
  | 72 => ⟨S_, .i32⟩
  | 73 => ⟨S2, .i64⟩
  | 74 => ⟨S_, .i64⟩
  | 75 => ⟨S2, .i64⟩
  | 76 => ⟨S2, .i64⟩
  | 77 => ⟨S_, .i64⟩
  | 78 => ⟨S2, .i64⟩
  | 79 => ⟨S2, .i64⟩
  | 80 => ⟨S2, .i32⟩
  | 81 => ⟨S2, .i32⟩
  | 82 => ⟨S_, .i32⟩
  | 83 => ⟨S_, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S16x96x224x224, .f32⟩

abbrev hbmTy0_10 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S16x96x224x224, .f32⟩

abbrev hbmTy0_11 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S2x1, .i32⟩
  | 49 => ⟨S2x1, .i32⟩
  | 50 => ⟨S2x2, .i32⟩
  | 51 => ⟨S1x2, .i32⟩
  | 52 => ⟨S2, .i32⟩
  | 53 => ⟨S1x2, .i32⟩
  | 54 => ⟨S2, .i32⟩
  | 55 => ⟨S1, .i32⟩
  | 56 => ⟨S_, .i32⟩
  | 57 => ⟨S1, .i32⟩
  | 58 => ⟨S_, .i32⟩
  | 59 => ⟨S16, .i64⟩
  | 60 => ⟨S_, .i64⟩
  | 61 => ⟨S16, .i64⟩
  | 62 => ⟨S16, .i64⟩
  | 63 => ⟨S_, .i64⟩
  | 64 => ⟨S16, .i64⟩
  | 65 => ⟨S16, .i64⟩
  | 66 => ⟨S16, .i32⟩
  | 67 => ⟨S16, .i32⟩
  | 68 => ⟨S_, .i32⟩
  | 69 => ⟨S_, .i32⟩
  | 70 => ⟨S_, .i32⟩
  | 71 => ⟨S16, .i32⟩
  | 72 => ⟨S16, .i32⟩
  | 73 => ⟨S16, .i32⟩
  | 74 => ⟨S16, .i32⟩
  | 75 => ⟨S16, .i32⟩
  | 76 => ⟨S_, .i32⟩
  | 77 => ⟨S16, .i32⟩
  | 78 => ⟨S16, .i32⟩
  | 79 => ⟨S_, .i32⟩
  | 80 => ⟨S16, .i32⟩
  | 81 => ⟨S16, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S_, .i32⟩
  | 89 => ⟨S16, .i32⟩
  | 90 => ⟨S16, .i32⟩
  | 91 => ⟨S16, .i32⟩
  | 92 => ⟨S16, .i32⟩
  | 93 => ⟨S16, .i32⟩
  | 94 => ⟨S_, .i32⟩
  | 95 => ⟨S16, .i32⟩
  | 96 => ⟨S16, .i32⟩
  | 97 => ⟨S_, .i32⟩
  | 98 => ⟨S16, .i32⟩
  | 99 => ⟨S16, .i32⟩
  | 100 => ⟨S16, .i32⟩
  | 101 => ⟨S16, .i32⟩
  | 102 => ⟨S16, .i32⟩
  | 103 => ⟨S_, .i32⟩
  | 104 => ⟨S16, .i32⟩
  | 105 => ⟨S16, .i32⟩
  | 106 => ⟨S_, .i32⟩
  | 107 => ⟨S16, .i32⟩
  | 108 => ⟨S16, .i32⟩
  | 109 => ⟨S16, .i32⟩
  | 110 => ⟨S16, .i32⟩
  | 111 => ⟨S16, .i32⟩
  | 112 => ⟨S16, .i32⟩
  | 113 => ⟨S16, .i32⟩
  | 114 => ⟨S16, .i32⟩
  | 115 => ⟨S_, .i32⟩
  | 116 => ⟨S16, .i32⟩
  | 117 => ⟨S16, .i32⟩
  | 118 => ⟨S16, .i32⟩
  | 119 => ⟨S_, .i32⟩
  | 120 => ⟨S16, .i32⟩
  | 121 => ⟨S16, .i32⟩
  | 122 => ⟨S_, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_12 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i32⟩
  | 6 => ⟨S16, .i32⟩
  | 7 => ⟨S16, .i32⟩
  | 8 => ⟨S16, .i32⟩
  | 9 => ⟨S_, .i32⟩
  | 10 => ⟨S16, .i32⟩
  | 11 => ⟨S16, .i32⟩
  | 12 => ⟨S_, .i32⟩
  | 13 => ⟨S16, .i32⟩
  | 14 => ⟨S16, .i32⟩
  | 15 => ⟨S16, .i32⟩
  | 16 => ⟨S16, .i32⟩
  | 17 => ⟨S16, .i32⟩
  | 18 => ⟨S_, .i32⟩
  | 19 => ⟨S16, .i32⟩
  | 20 => ⟨S16, .i32⟩
  | 21 => ⟨S_, .i32⟩
  | 22 => ⟨S16, .i32⟩
  | 23 => ⟨S16, .i32⟩
  | 24 => ⟨S16, .i32⟩
  | 25 => ⟨S16, .i32⟩
  | 26 => ⟨S16, .i32⟩
  | 27 => ⟨S16, .i32⟩
  | 28 => ⟨S16, .i32⟩
  | 29 => ⟨S16, .i32⟩
  | 30 => ⟨S_, .i32⟩
  | 31 => ⟨S16, .i32⟩
  | 32 => ⟨S16, .i32⟩
  | 33 => ⟨S16, .i32⟩
  | 34 => ⟨S_, .i32⟩
  | 35 => ⟨S16, .i32⟩
  | 36 => ⟨S16, .i32⟩
  | 37 => ⟨S_, .i32⟩
  | 38 => ⟨S16, .i32⟩
  | 39 => ⟨S16, .i32⟩
  | 40 => ⟨S16, .i32⟩
  | 41 => ⟨S16, .i32⟩
  | 42 => ⟨S16, .i32⟩
  | 43 => ⟨S_, .i32⟩
  | 44 => ⟨S16, .i32⟩
  | 45 => ⟨S16, .i32⟩
  | 46 => ⟨S_, .i32⟩
  | 47 => ⟨S16, .i32⟩
  | 48 => ⟨S16, .i32⟩
  | 49 => ⟨S16, .i32⟩
  | 50 => ⟨S16, .i32⟩
  | 51 => ⟨S16, .i32⟩
  | 52 => ⟨S_, .i32⟩
  | 53 => ⟨S16, .i32⟩
  | 54 => ⟨S16, .i32⟩
  | 55 => ⟨S_, .i32⟩
  | 56 => ⟨S16, .i32⟩
  | 57 => ⟨S16, .i32⟩
  | 58 => ⟨S16, .i32⟩
  | 59 => ⟨S16, .i32⟩
  | 60 => ⟨S16, .i32⟩
  | 61 => ⟨S_, .i32⟩
  | 62 => ⟨S16, .i32⟩
  | 63 => ⟨S16, .i32⟩
  | 64 => ⟨S_, .i32⟩
  | 65 => ⟨S16, .i32⟩
  | 66 => ⟨S16, .i32⟩
  | 67 => ⟨S16, .i32⟩
  | 68 => ⟨S16, .i32⟩
  | 69 => ⟨S16, .i32⟩
  | 70 => ⟨S16, .i32⟩
  | 71 => ⟨S16, .i32⟩
  | 72 => ⟨S16, .i32⟩
  | 73 => ⟨S_, .i32⟩
  | 74 => ⟨S16, .i32⟩
  | 75 => ⟨S16, .i32⟩
  | 76 => ⟨S16, .i32⟩
  | 77 => ⟨S_, .i32⟩
  | 78 => ⟨S16, .i32⟩
  | 79 => ⟨S16, .i32⟩
  | 80 => ⟨S_, .i32⟩
  | 81 => ⟨S16, .i32⟩
  | 82 => ⟨S16, .i32⟩
  | 83 => ⟨S16, .i32⟩
  | 84 => ⟨S16, .i32⟩
  | 85 => ⟨S16, .i32⟩
  | 86 => ⟨S_, .i32⟩
  | 87 => ⟨S16, .i32⟩
  | 88 => ⟨S16, .i32⟩
  | 89 => ⟨S_, .i32⟩
  | 90 => ⟨S16, .i32⟩
  | 91 => ⟨S16, .i32⟩
  | 92 => ⟨S16, .i32⟩
  | 93 => ⟨S16, .i32⟩
  | 94 => ⟨S16, .i32⟩
  | 95 => ⟨S_, .i32⟩
  | 96 => ⟨S16, .i32⟩
  | 97 => ⟨S16, .i32⟩
  | 98 => ⟨S_, .i32⟩
  | 99 => ⟨S16, .i32⟩
  | 100 => ⟨S16, .i32⟩
  | 101 => ⟨S16, .i32⟩
  | 102 => ⟨S16, .i32⟩
  | 103 => ⟨S16, .i32⟩
  | 104 => ⟨S_, .i32⟩
  | 105 => ⟨S16, .i32⟩
  | 106 => ⟨S16, .i32⟩
  | 107 => ⟨S_, .i32⟩
  | 108 => ⟨S16, .i32⟩
  | 109 => ⟨S16, .i32⟩
  | 110 => ⟨S16, .i32⟩
  | 111 => ⟨S16, .i32⟩
  | 112 => ⟨S16, .i32⟩
  | 113 => ⟨S16, .i32⟩
  | 114 => ⟨S16, .i32⟩
  | 115 => ⟨S16, .i32⟩
  | 116 => ⟨S_, .i32⟩
  | 117 => ⟨S16, .i32⟩
  | 118 => ⟨S16, .i32⟩
  | 119 => ⟨S16, .i32⟩
  | 120 => ⟨S_, .i32⟩
  | 121 => ⟨S16, .i32⟩
  | 122 => ⟨S16, .i32⟩
  | 123 => ⟨S_, .i32⟩
  | 124 => ⟨S16, .i32⟩
  | 125 => ⟨S16, .i32⟩
  | 126 => ⟨S16, .i32⟩
  | 127 => ⟨S16, .i32⟩
  | _ => ⟨S16x96x224x224, .f32⟩

abbrev hbmTy0_13 (i : Nat) : BufTy := match i % 128 with
  | 0 => ⟨S16, .i32⟩
  | 1 => ⟨S_, .i32⟩
  | 2 => ⟨S16, .i32⟩
  | 3 => ⟨S16, .i32⟩
  | 4 => ⟨S_, .i32⟩
  | 5 => ⟨S16, .i32⟩
  | 6 => ⟨S16, .i32⟩
  | 7 => ⟨S16, .i32⟩
  | 8 => ⟨S16, .i32⟩
  | 9 => ⟨S16, .i32⟩
  | 10 => ⟨S_, .i32⟩
  | 11 => ⟨S16, .i32⟩
  | 12 => ⟨S16, .i32⟩
  | 13 => ⟨S_, .i32⟩
  | 14 => ⟨S16, .i32⟩
  | 15 => ⟨S16, .i32⟩
  | 16 => ⟨S16, .i32⟩
  | 17 => ⟨S16, .i32⟩
  | 18 => ⟨S16, .i32⟩
  | 19 => ⟨S_, .i32⟩
  | 20 => ⟨S16, .i32⟩
  | 21 => ⟨S16, .i32⟩
  | 22 => ⟨S_, .i32⟩
  | 23 => ⟨S16, .i32⟩
  | 24 => ⟨S16, .i32⟩
  | 25 => ⟨S16, .i32⟩
  | 26 => ⟨S16, .i32⟩
  | 27 => ⟨S16, .i32⟩
  | 28 => ⟨S16, .i32⟩
  | 29 => ⟨S16, .i32⟩
  | 30 => ⟨S16, .i32⟩
  | 31 => ⟨S_, .i32⟩
  | 32 => ⟨S16, .i32⟩
  | 33 => ⟨S16, .i32⟩
  | 34 => ⟨S16, .i32⟩
  | 35 => ⟨S16, .i32⟩
  | 36 => ⟨S16, .i32⟩
  | 37 => ⟨S1x2, .i32⟩
  | 38 => ⟨S2, .i32⟩
  | 39 => ⟨S16, .i32⟩
  | 40 => ⟨S1, .i32⟩
  | 41 => ⟨S_, .i32⟩
  | 42 => ⟨S1, .i32⟩
  | 43 => ⟨S_, .i32⟩
  | 44 => ⟨S2, .i64⟩
  | 45 => ⟨S_, .i64⟩
  | 46 => ⟨S2, .i64⟩
  | 47 => ⟨S2, .i64⟩
  | 48 => ⟨S_, .i64⟩
  | 49 => ⟨S2, .i64⟩
  | 50 => ⟨S2, .i64⟩
  | 51 => ⟨S2, .i32⟩
  | 52 => ⟨S2, .i32⟩
  | 53 => ⟨S_, .i32⟩
  | 54 => ⟨S_, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_14 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S16x96x224x224, .f32⟩

abbrev hbmTy0_15 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S2x1, .i32⟩
  | 20 => ⟨S2x1, .i32⟩
  | 21 => ⟨S2x2, .i32⟩
  | 22 => ⟨S1x2, .i32⟩
  | 23 => ⟨S2, .i32⟩
  | 24 => ⟨S1x2, .i32⟩
  | 25 => ⟨S2, .i32⟩
  | 26 => ⟨S1, .i32⟩
  | 27 => ⟨S_, .i32⟩
  | 28 => ⟨S1, .i32⟩
  | 29 => ⟨S_, .i32⟩
  | 30 => ⟨S16, .i64⟩
  | 31 => ⟨S_, .i64⟩
  | 32 => ⟨S16, .i64⟩
  | 33 => ⟨S16, .i64⟩
  | 34 => ⟨S_, .i64⟩
  | 35 => ⟨S16, .i64⟩
  | 36 => ⟨S16, .i64⟩
  | 37 => ⟨S16, .i32⟩
  | 38 => ⟨S16, .i32⟩
  | 39 => ⟨S_, .i32⟩
  | 40 => ⟨S_, .i32⟩
  | 41 => ⟨S_, .i32⟩
  | 42 => ⟨S16, .i32⟩
  | 43 => ⟨S16, .i32⟩
  | 44 => ⟨S16, .i32⟩
  | 45 => ⟨S16, .i32⟩
  | 46 => ⟨S16, .i32⟩
  | 47 => ⟨S_, .i32⟩
  | 48 => ⟨S16, .i32⟩
  | 49 => ⟨S16, .i32⟩
  | 50 => ⟨S_, .i32⟩
  | 51 => ⟨S16, .i32⟩
  | 52 => ⟨S16, .i32⟩
  | 53 => ⟨S16, .i32⟩
  | 54 => ⟨S16, .i32⟩
  | 55 => ⟨S16, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .i32⟩
  | 63 => ⟨S16, .i32⟩
  | 64 => ⟨S16, .i32⟩
  | 65 => ⟨S_, .i32⟩
  | 66 => ⟨S16, .i32⟩
  | 67 => ⟨S16, .i32⟩
  | 68 => ⟨S_, .i32⟩
  | 69 => ⟨S16, .i32⟩
  | 70 => ⟨S16, .i32⟩
  | 71 => ⟨S16, .i32⟩
  | 72 => ⟨S16, .i32⟩
  | 73 => ⟨S16, .i32⟩
  | 74 => ⟨S_, .i32⟩
  | 75 => ⟨S16, .i32⟩
  | 76 => ⟨S16, .i32⟩
  | 77 => ⟨S_, .i32⟩
  | 78 => ⟨S16, .i32⟩
  | 79 => ⟨S16, .i32⟩
  | 80 => ⟨S16, .i32⟩
  | 81 => ⟨S16, .i32⟩
  | 82 => ⟨S16, .i32⟩
  | 83 => ⟨S16, .i32⟩
  | 84 => ⟨S16, .i32⟩
  | 85 => ⟨S16, .i32⟩
  | 86 => ⟨S_, .i32⟩
  | 87 => ⟨S16, .i32⟩
  | 88 => ⟨S16, .i32⟩
  | 89 => ⟨S16, .i32⟩
  | 90 => ⟨S_, .i32⟩
  | 91 => ⟨S16, .i32⟩
  | 92 => ⟨S16, .i32⟩
  | 93 => ⟨S_, .i32⟩
  | 94 => ⟨S16, .i32⟩
  | 95 => ⟨S16, .i32⟩
  | 96 => ⟨S16, .i32⟩
  | 97 => ⟨S16, .i32⟩
  | 98 => ⟨S16, .i32⟩
  | 99 => ⟨S_, .i32⟩
  | 100 => ⟨S16, .i32⟩
  | 101 => ⟨S16, .i32⟩
  | 102 => ⟨S_, .i32⟩
  | 103 => ⟨S16, .i32⟩
  | 104 => ⟨S16, .i32⟩
  | 105 => ⟨S16, .i32⟩
  | 106 => ⟨S16, .i32⟩
  | 107 => ⟨S16, .i32⟩
  | 108 => ⟨S_, .i32⟩
  | 109 => ⟨S16, .i32⟩
  | 110 => ⟨S16, .i32⟩
  | 111 => ⟨S_, .i32⟩
  | 112 => ⟨S16, .i32⟩
  | 113 => ⟨S16, .i32⟩
  | 114 => ⟨S16, .i32⟩
  | 115 => ⟨S16, .i32⟩
  | 116 => ⟨S16, .i32⟩
  | 117 => ⟨S_, .i32⟩
  | 118 => ⟨S16, .i32⟩
  | 119 => ⟨S16, .i32⟩
  | 120 => ⟨S_, .i32⟩
  | 121 => ⟨S16, .i32⟩
  | 122 => ⟨S16, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_16 (i : Nat) : BufTy := match i % 128 with
  | 0 => ⟨S16, .i32⟩
  | 1 => ⟨S_, .i32⟩
  | 2 => ⟨S16, .i32⟩
  | 3 => ⟨S16, .i32⟩
  | 4 => ⟨S16, .i32⟩
  | 5 => ⟨S_, .i32⟩
  | 6 => ⟨S16, .i32⟩
  | 7 => ⟨S16, .i32⟩
  | 8 => ⟨S_, .i32⟩
  | 9 => ⟨S16, .i32⟩
  | 10 => ⟨S16, .i32⟩
  | 11 => ⟨S16, .i32⟩
  | 12 => ⟨S16, .i32⟩
  | 13 => ⟨S16, .i32⟩
  | 14 => ⟨S_, .i32⟩
  | 15 => ⟨S16, .i32⟩
  | 16 => ⟨S16, .i32⟩
  | 17 => ⟨S_, .i32⟩
  | 18 => ⟨S16, .i32⟩
  | 19 => ⟨S16, .i32⟩
  | 20 => ⟨S16, .i32⟩
  | 21 => ⟨S16, .i32⟩
  | 22 => ⟨S16, .i32⟩
  | 23 => ⟨S_, .i32⟩
  | 24 => ⟨S16, .i32⟩
  | 25 => ⟨S16, .i32⟩
  | 26 => ⟨S_, .i32⟩
  | 27 => ⟨S16, .i32⟩
  | 28 => ⟨S16, .i32⟩
  | 29 => ⟨S16, .i32⟩
  | 30 => ⟨S16, .i32⟩
  | 31 => ⟨S16, .i32⟩
  | 32 => ⟨S_, .i32⟩
  | 33 => ⟨S16, .i32⟩
  | 34 => ⟨S16, .i32⟩
  | 35 => ⟨S_, .i32⟩
  | 36 => ⟨S16, .i32⟩
  | 37 => ⟨S16, .i32⟩
  | 38 => ⟨S16, .i32⟩
  | 39 => ⟨S16, .i32⟩
  | 40 => ⟨S16, .i32⟩
  | 41 => ⟨S16, .i32⟩
  | 42 => ⟨S16, .i32⟩
  | 43 => ⟨S16, .i32⟩
  | 44 => ⟨S_, .i32⟩
  | 45 => ⟨S16, .i32⟩
  | 46 => ⟨S16, .i32⟩
  | 47 => ⟨S16, .i32⟩
  | 48 => ⟨S_, .i32⟩
  | 49 => ⟨S16, .i32⟩
  | 50 => ⟨S16, .i32⟩
  | 51 => ⟨S_, .i32⟩
  | 52 => ⟨S16, .i32⟩
  | 53 => ⟨S16, .i32⟩
  | 54 => ⟨S16, .i32⟩
  | 55 => ⟨S16, .i32⟩
  | 56 => ⟨S16, .i32⟩
  | 57 => ⟨S_, .i32⟩
  | 58 => ⟨S16, .i32⟩
  | 59 => ⟨S16, .i32⟩
  | 60 => ⟨S_, .i32⟩
  | 61 => ⟨S16, .i32⟩
  | 62 => ⟨S16, .i32⟩
  | 63 => ⟨S16, .i32⟩
  | 64 => ⟨S16, .i32⟩
  | 65 => ⟨S16, .i32⟩
  | 66 => ⟨S_, .i32⟩
  | 67 => ⟨S16, .i32⟩
  | 68 => ⟨S16, .i32⟩
  | 69 => ⟨S_, .i32⟩
  | 70 => ⟨S16, .i32⟩
  | 71 => ⟨S16, .i32⟩
  | 72 => ⟨S16, .i32⟩
  | 73 => ⟨S16, .i32⟩
  | 74 => ⟨S16, .i32⟩
  | 75 => ⟨S_, .i32⟩
  | 76 => ⟨S16, .i32⟩
  | 77 => ⟨S16, .i32⟩
  | 78 => ⟨S_, .i32⟩
  | 79 => ⟨S16, .i32⟩
  | 80 => ⟨S16, .i32⟩
  | 81 => ⟨S16, .i32⟩
  | 82 => ⟨S16, .i32⟩
  | 83 => ⟨S16, .i32⟩
  | 84 => ⟨S16, .i32⟩
  | 85 => ⟨S16, .i32⟩
  | 86 => ⟨S16, .i32⟩
  | 87 => ⟨S_, .i32⟩
  | 88 => ⟨S16, .i32⟩
  | 89 => ⟨S16, .i32⟩
  | 90 => ⟨S16, .i32⟩
  | 91 => ⟨S_, .i32⟩
  | 92 => ⟨S16, .i32⟩
  | 93 => ⟨S16, .i32⟩
  | 94 => ⟨S_, .i32⟩
  | 95 => ⟨S16, .i32⟩
  | 96 => ⟨S16, .i32⟩
  | 97 => ⟨S16, .i32⟩
  | 98 => ⟨S16, .i32⟩
  | 99 => ⟨S16, .i32⟩
  | 100 => ⟨S_, .i32⟩
  | 101 => ⟨S16, .i32⟩
  | 102 => ⟨S16, .i32⟩
  | 103 => ⟨S_, .i32⟩
  | 104 => ⟨S16, .i32⟩
  | 105 => ⟨S16, .i32⟩
  | 106 => ⟨S16, .i32⟩
  | 107 => ⟨S16, .i32⟩
  | 108 => ⟨S16, .i32⟩
  | 109 => ⟨S_, .i32⟩
  | 110 => ⟨S16, .i32⟩
  | 111 => ⟨S16, .i32⟩
  | 112 => ⟨S_, .i32⟩
  | 113 => ⟨S16, .i32⟩
  | 114 => ⟨S16, .i32⟩
  | 115 => ⟨S16, .i32⟩
  | 116 => ⟨S16, .i32⟩
  | 117 => ⟨S16, .i32⟩
  | 118 => ⟨S_, .i32⟩
  | 119 => ⟨S16, .i32⟩
  | 120 => ⟨S16, .i32⟩
  | 121 => ⟨S_, .i32⟩
  | 122 => ⟨S16, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_17 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S16, .i32⟩
  | 6 => ⟨S16, .i32⟩
  | 7 => ⟨S16, .i32⟩
  | 8 => ⟨S1x2, .i32⟩
  | 9 => ⟨S2, .i32⟩
  | 10 => ⟨S16, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16x96x224x224, .f32⟩

abbrev hbmTy0_18 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S1, .i32⟩
  | 126 => ⟨S_, .i32⟩
  | 127 => ⟨S1, .i32⟩
  | _ => ⟨S16x96x224x224, .f32⟩

abbrev hbmTy0_19 (i : Nat) : BufTy := match i % 128 with
  | 0 => ⟨S_, .i32⟩
  | 1 => ⟨S16, .i64⟩
  | 2 => ⟨S_, .i64⟩
  | 3 => ⟨S16, .i64⟩
  | 4 => ⟨S16, .i64⟩
  | 5 => ⟨S_, .i64⟩
  | 6 => ⟨S16, .i64⟩
  | 7 => ⟨S16, .i64⟩
  | 8 => ⟨S16, .i32⟩
  | 9 => ⟨S16, .i32⟩
  | 10 => ⟨S_, .i32⟩
  | 11 => ⟨S_, .i32⟩
  | 12 => ⟨S_, .i32⟩
  | 13 => ⟨S16, .i32⟩
  | 14 => ⟨S16, .i32⟩
  | 15 => ⟨S16, .i32⟩
  | 16 => ⟨S16, .i32⟩
  | 17 => ⟨S16, .i32⟩
  | 18 => ⟨S_, .i32⟩
  | 19 => ⟨S16, .i32⟩
  | 20 => ⟨S16, .i32⟩
  | 21 => ⟨S_, .i32⟩
  | 22 => ⟨S16, .i32⟩
  | 23 => ⟨S16, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S16, .i32⟩
  | 34 => ⟨S16, .i32⟩
  | 35 => ⟨S16, .i32⟩
  | 36 => ⟨S_, .i32⟩
  | 37 => ⟨S16, .i32⟩
  | 38 => ⟨S16, .i32⟩
  | 39 => ⟨S_, .i32⟩
  | 40 => ⟨S16, .i32⟩
  | 41 => ⟨S16, .i32⟩
  | 42 => ⟨S16, .i32⟩
  | 43 => ⟨S16, .i32⟩
  | 44 => ⟨S16, .i32⟩
  | 45 => ⟨S_, .i32⟩
  | 46 => ⟨S16, .i32⟩
  | 47 => ⟨S16, .i32⟩
  | 48 => ⟨S_, .i32⟩
  | 49 => ⟨S16, .i32⟩
  | 50 => ⟨S16, .i32⟩
  | 51 => ⟨S16, .i32⟩
  | 52 => ⟨S16, .i32⟩
  | 53 => ⟨S16, .i32⟩
  | 54 => ⟨S16, .i32⟩
  | 55 => ⟨S16, .i32⟩
  | 56 => ⟨S16, .i32⟩
  | 57 => ⟨S_, .i32⟩
  | 58 => ⟨S16, .i32⟩
  | 59 => ⟨S16, .i32⟩
  | 60 => ⟨S16, .i32⟩
  | 61 => ⟨S_, .i32⟩
  | 62 => ⟨S16, .i32⟩
  | 63 => ⟨S16, .i32⟩
  | 64 => ⟨S_, .i32⟩
  | 65 => ⟨S16, .i32⟩
  | 66 => ⟨S16, .i32⟩
  | 67 => ⟨S16, .i32⟩
  | 68 => ⟨S16, .i32⟩
  | 69 => ⟨S16, .i32⟩
  | 70 => ⟨S_, .i32⟩
  | 71 => ⟨S16, .i32⟩
  | 72 => ⟨S16, .i32⟩
  | 73 => ⟨S_, .i32⟩
  | 74 => ⟨S16, .i32⟩
  | 75 => ⟨S16, .i32⟩
  | 76 => ⟨S16, .i32⟩
  | 77 => ⟨S16, .i32⟩
  | 78 => ⟨S16, .i32⟩
  | 79 => ⟨S_, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S16, .i32⟩
  | 87 => ⟨S16, .i32⟩
  | 88 => ⟨S_, .i32⟩
  | 89 => ⟨S16, .i32⟩
  | 90 => ⟨S16, .i32⟩
  | 91 => ⟨S_, .i32⟩
  | 92 => ⟨S16, .i32⟩
  | 93 => ⟨S16, .i32⟩
  | 94 => ⟨S16, .i32⟩
  | 95 => ⟨S16, .i32⟩
  | 96 => ⟨S16, .i32⟩
  | 97 => ⟨S16, .i32⟩
  | 98 => ⟨S16, .i32⟩
  | 99 => ⟨S16, .i32⟩
  | 100 => ⟨S_, .i32⟩
  | 101 => ⟨S16, .i32⟩
  | 102 => ⟨S16, .i32⟩
  | 103 => ⟨S16, .i32⟩
  | 104 => ⟨S_, .i32⟩
  | 105 => ⟨S16, .i32⟩
  | 106 => ⟨S16, .i32⟩
  | 107 => ⟨S_, .i32⟩
  | 108 => ⟨S16, .i32⟩
  | 109 => ⟨S16, .i32⟩
  | 110 => ⟨S16, .i32⟩
  | 111 => ⟨S16, .i32⟩
  | 112 => ⟨S16, .i32⟩
  | 113 => ⟨S_, .i32⟩
  | 114 => ⟨S16, .i32⟩
  | 115 => ⟨S16, .i32⟩
  | 116 => ⟨S_, .i32⟩
  | 117 => ⟨S16, .i32⟩
  | 118 => ⟨S16, .i32⟩
  | 119 => ⟨S16, .i32⟩
  | 120 => ⟨S16, .i32⟩
  | 121 => ⟨S16, .i32⟩
  | 122 => ⟨S_, .i32⟩
  | 123 => ⟨S16, .i32⟩
  | 124 => ⟨S16, .i32⟩
  | 125 => ⟨S_, .i32⟩
  | 126 => ⟨S16, .i32⟩
  | 127 => ⟨S16, .i32⟩
  | _ => ⟨S16x96x224x224, .f32⟩

abbrev hbmTy0_20 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i32⟩
  | 6 => ⟨S_, .i32⟩
  | 7 => ⟨S16, .i32⟩
  | 8 => ⟨S16, .i32⟩
  | 9 => ⟨S16, .i32⟩
  | 10 => ⟨S16, .i32⟩
  | 11 => ⟨S16, .i32⟩
  | 12 => ⟨S16, .i32⟩
  | 13 => ⟨S16, .i32⟩
  | 14 => ⟨S16, .i32⟩
  | 15 => ⟨S_, .i32⟩
  | 16 => ⟨S16, .i32⟩
  | 17 => ⟨S16, .i32⟩
  | 18 => ⟨S16, .i32⟩
  | 19 => ⟨S_, .i32⟩
  | 20 => ⟨S16, .i32⟩
  | 21 => ⟨S16, .i32⟩
  | 22 => ⟨S_, .i32⟩
  | 23 => ⟨S16, .i32⟩
  | 24 => ⟨S16, .i32⟩
  | 25 => ⟨S16, .i32⟩
  | 26 => ⟨S16, .i32⟩
  | 27 => ⟨S16, .i32⟩
  | 28 => ⟨S_, .i32⟩
  | 29 => ⟨S16, .i32⟩
  | 30 => ⟨S16, .i32⟩
  | 31 => ⟨S_, .i32⟩
  | 32 => ⟨S16, .i32⟩
  | 33 => ⟨S16, .i32⟩
  | 34 => ⟨S16, .i32⟩
  | 35 => ⟨S16, .i32⟩
  | 36 => ⟨S16, .i32⟩
  | 37 => ⟨S_, .i32⟩
  | 38 => ⟨S16, .i32⟩
  | 39 => ⟨S16, .i32⟩
  | 40 => ⟨S_, .i32⟩
  | 41 => ⟨S16, .i32⟩
  | 42 => ⟨S16, .i32⟩
  | 43 => ⟨S16, .i32⟩
  | 44 => ⟨S16, .i32⟩
  | 45 => ⟨S16, .i32⟩
  | 46 => ⟨S_, .i32⟩
  | 47 => ⟨S16, .i32⟩
  | 48 => ⟨S16, .i32⟩
  | 49 => ⟨S_, .i32⟩
  | 50 => ⟨S16, .i32⟩
  | 51 => ⟨S16, .i32⟩
  | 52 => ⟨S16, .i32⟩
  | 53 => ⟨S16, .i32⟩
  | 54 => ⟨S16, .i32⟩
  | 55 => ⟨S16, .i32⟩
  | 56 => ⟨S16, .i32⟩
  | 57 => ⟨S16, .i32⟩
  | 58 => ⟨S_, .i32⟩
  | 59 => ⟨S16, .i32⟩
  | 60 => ⟨S16, .i32⟩
  | 61 => ⟨S16, .i32⟩
  | 62 => ⟨S_, .i32⟩
  | 63 => ⟨S16, .i32⟩
  | 64 => ⟨S16, .i32⟩
  | 65 => ⟨S_, .i32⟩
  | 66 => ⟨S16, .i32⟩
  | 67 => ⟨S16, .i32⟩
  | 68 => ⟨S16, .i32⟩
  | 69 => ⟨S16, .i32⟩
  | 70 => ⟨S16, .i32⟩
  | 71 => ⟨S_, .i32⟩
  | 72 => ⟨S16, .i32⟩
  | 73 => ⟨S16, .i32⟩
  | 74 => ⟨S_, .i32⟩
  | 75 => ⟨S16, .i32⟩
  | 76 => ⟨S16, .i32⟩
  | 77 => ⟨S16, .i32⟩
  | 78 => ⟨S16, .i32⟩
  | 79 => ⟨S16, .i32⟩
  | 80 => ⟨S_, .i32⟩
  | 81 => ⟨S16, .i32⟩
  | 82 => ⟨S16, .i32⟩
  | 83 => ⟨S_, .i32⟩
  | 84 => ⟨S16, .i32⟩
  | 85 => ⟨S16, .i32⟩
  | 86 => ⟨S16, .i32⟩
  | 87 => ⟨S16, .i32⟩
  | 88 => ⟨S16, .i32⟩
  | 89 => ⟨S_, .i32⟩
  | 90 => ⟨S16, .i32⟩
  | 91 => ⟨S16, .i32⟩
  | 92 => ⟨S_, .i32⟩
  | 93 => ⟨S16, .i32⟩
  | 94 => ⟨S16, .i32⟩
  | 95 => ⟨S16, .i32⟩
  | 96 => ⟨S16, .i32⟩
  | 97 => ⟨S16, .i32⟩
  | 98 => ⟨S16, .i32⟩
  | 99 => ⟨S16, .i32⟩
  | 100 => ⟨S16, .i32⟩
  | 101 => ⟨S_, .i32⟩
  | 102 => ⟨S16, .i32⟩
  | 103 => ⟨S16, .i32⟩
  | 104 => ⟨S16, .i32⟩
  | 105 => ⟨S16, .i32⟩
  | 106 => ⟨S16, .i32⟩
  | 107 => ⟨S1x2, .i32⟩
  | 108 => ⟨S2, .i32⟩
  | 109 => ⟨S16, .i32⟩
  | 110 => ⟨S1, .i32⟩
  | 111 => ⟨S_, .i32⟩
  | 112 => ⟨S1, .i32⟩
  | 113 => ⟨S_, .i32⟩
  | 114 => ⟨S2, .i64⟩
  | 115 => ⟨S_, .i64⟩
  | 116 => ⟨S2, .i64⟩
  | 117 => ⟨S2, .i64⟩
  | 118 => ⟨S_, .i64⟩
  | 119 => ⟨S2, .i64⟩
  | 120 => ⟨S2, .i64⟩
  | 121 => ⟨S2, .i32⟩
  | 122 => ⟨S2, .i32⟩
  | 123 => ⟨S_, .i32⟩
  | 124 => ⟨S_, .i32⟩
  | 125 => ⟨S_, .i32⟩
  | 126 => ⟨S2, .i32⟩
  | 127 => ⟨S2, .i32⟩
  | _ => ⟨S16x96x224x224, .f32⟩

abbrev hbmTy0_21 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S16x96x224x224, .f32⟩

abbrev hbmTy0_22 (i : Nat) : BufTy := match i % 128 with
  | 0 => ⟨S_, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S2x1, .i32⟩
  | 90 => ⟨S2x1, .i32⟩
  | 91 => ⟨S2x2, .i32⟩
  | 92 => ⟨S1x2, .i32⟩
  | 93 => ⟨S2, .i32⟩
  | 94 => ⟨S1x2, .i32⟩
  | 95 => ⟨S2, .i32⟩
  | 96 => ⟨S1, .i32⟩
  | 97 => ⟨S_, .i32⟩
  | 98 => ⟨S1, .i32⟩
  | 99 => ⟨S_, .i32⟩
  | 100 => ⟨S16, .i64⟩
  | 101 => ⟨S_, .i64⟩
  | 102 => ⟨S16, .i64⟩
  | 103 => ⟨S16, .i64⟩
  | 104 => ⟨S_, .i64⟩
  | 105 => ⟨S16, .i64⟩
  | 106 => ⟨S16, .i64⟩
  | 107 => ⟨S16, .i32⟩
  | 108 => ⟨S16, .i32⟩
  | 109 => ⟨S_, .i32⟩
  | 110 => ⟨S_, .i32⟩
  | 111 => ⟨S_, .i32⟩
  | 112 => ⟨S16, .i32⟩
  | 113 => ⟨S16, .i32⟩
  | 114 => ⟨S16, .i32⟩
  | 115 => ⟨S16, .i32⟩
  | 116 => ⟨S16, .i32⟩
  | 117 => ⟨S_, .i32⟩
  | 118 => ⟨S16, .i32⟩
  | 119 => ⟨S16, .i32⟩
  | 120 => ⟨S_, .i32⟩
  | 121 => ⟨S16, .i32⟩
  | 122 => ⟨S16, .i32⟩
  | 123 => ⟨S16, .i32⟩
  | 124 => ⟨S16, .i32⟩
  | 125 => ⟨S16, .i32⟩
  | 126 => ⟨S_, .i32⟩
  | 127 => ⟨S16, .i32⟩
  | _ => ⟨S16x96x224x224, .f32⟩

abbrev hbmTy0_23 (i : Nat) : BufTy := match i % 128 with
  | 0 => ⟨S16, .i32⟩
  | 1 => ⟨S_, .i32⟩
  | 2 => ⟨S16, .i32⟩
  | 3 => ⟨S16, .i32⟩
  | 4 => ⟨S16, .i32⟩
  | 5 => ⟨S16, .i32⟩
  | 6 => ⟨S16, .i32⟩
  | 7 => ⟨S_, .i32⟩
  | 8 => ⟨S16, .i32⟩
  | 9 => ⟨S16, .i32⟩
  | 10 => ⟨S_, .i32⟩
  | 11 => ⟨S16, .i32⟩
  | 12 => ⟨S16, .i32⟩
  | 13 => ⟨S16, .i32⟩
  | 14 => ⟨S16, .i32⟩
  | 15 => ⟨S16, .i32⟩
  | 16 => ⟨S_, .i32⟩
  | 17 => ⟨S16, .i32⟩
  | 18 => ⟨S16, .i32⟩
  | 19 => ⟨S_, .i32⟩
  | 20 => ⟨S16, .i32⟩
  | 21 => ⟨S16, .i32⟩
  | 22 => ⟨S16, .i32⟩
  | 23 => ⟨S16, .i32⟩
  | 24 => ⟨S16, .i32⟩
  | 25 => ⟨S16, .i32⟩
  | 26 => ⟨S16, .i32⟩
  | 27 => ⟨S16, .i32⟩
  | 28 => ⟨S_, .i32⟩
  | 29 => ⟨S16, .i32⟩
  | 30 => ⟨S16, .i32⟩
  | 31 => ⟨S16, .i32⟩
  | 32 => ⟨S_, .i32⟩
  | 33 => ⟨S16, .i32⟩
  | 34 => ⟨S16, .i32⟩
  | 35 => ⟨S_, .i32⟩
  | 36 => ⟨S16, .i32⟩
  | 37 => ⟨S16, .i32⟩
  | 38 => ⟨S16, .i32⟩
  | 39 => ⟨S16, .i32⟩
  | 40 => ⟨S16, .i32⟩
  | 41 => ⟨S_, .i32⟩
  | 42 => ⟨S16, .i32⟩
  | 43 => ⟨S16, .i32⟩
  | 44 => ⟨S_, .i32⟩
  | 45 => ⟨S16, .i32⟩
  | 46 => ⟨S16, .i32⟩
  | 47 => ⟨S16, .i32⟩
  | 48 => ⟨S16, .i32⟩
  | 49 => ⟨S16, .i32⟩
  | 50 => ⟨S_, .i32⟩
  | 51 => ⟨S16, .i32⟩
  | 52 => ⟨S16, .i32⟩
  | 53 => ⟨S_, .i32⟩
  | 54 => ⟨S16, .i32⟩
  | 55 => ⟨S16, .i32⟩
  | 56 => ⟨S16, .i32⟩
  | 57 => ⟨S16, .i32⟩
  | 58 => ⟨S16, .i32⟩
  | 59 => ⟨S_, .i32⟩
  | 60 => ⟨S16, .i32⟩
  | 61 => ⟨S16, .i32⟩
  | 62 => ⟨S_, .i32⟩
  | 63 => ⟨S16, .i32⟩
  | 64 => ⟨S16, .i32⟩
  | 65 => ⟨S16, .i32⟩
  | 66 => ⟨S16, .i32⟩
  | 67 => ⟨S16, .i32⟩
  | 68 => ⟨S16, .i32⟩
  | 69 => ⟨S16, .i32⟩
  | 70 => ⟨S16, .i32⟩
  | 71 => ⟨S_, .i32⟩
  | 72 => ⟨S16, .i32⟩
  | 73 => ⟨S16, .i32⟩
  | 74 => ⟨S16, .i32⟩
  | 75 => ⟨S_, .i32⟩
  | 76 => ⟨S16, .i32⟩
  | 77 => ⟨S16, .i32⟩
  | 78 => ⟨S_, .i32⟩
  | 79 => ⟨S16, .i32⟩
  | 80 => ⟨S16, .i32⟩
  | 81 => ⟨S16, .i32⟩
  | 82 => ⟨S16, .i32⟩
  | 83 => ⟨S16, .i32⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S16, .i32⟩
  | 91 => ⟨S16, .i32⟩
  | 92 => ⟨S16, .i32⟩
  | 93 => ⟨S_, .i32⟩
  | 94 => ⟨S16, .i32⟩
  | 95 => ⟨S16, .i32⟩
  | 96 => ⟨S_, .i32⟩
  | 97 => ⟨S16, .i32⟩
  | 98 => ⟨S16, .i32⟩
  | 99 => ⟨S16, .i32⟩
  | 100 => ⟨S16, .i32⟩
  | 101 => ⟨S16, .i32⟩
  | 102 => ⟨S_, .i32⟩
  | 103 => ⟨S16, .i32⟩
  | 104 => ⟨S16, .i32⟩
  | 105 => ⟨S_, .i32⟩
  | 106 => ⟨S16, .i32⟩
  | 107 => ⟨S16, .i32⟩
  | 108 => ⟨S16, .i32⟩
  | 109 => ⟨S16, .i32⟩
  | 110 => ⟨S16, .i32⟩
  | 111 => ⟨S16, .i32⟩
  | 112 => ⟨S16, .i32⟩
  | 113 => ⟨S16, .i32⟩
  | 114 => ⟨S_, .i32⟩
  | 115 => ⟨S16, .i32⟩
  | 116 => ⟨S16, .i32⟩
  | 117 => ⟨S16, .i32⟩
  | 118 => ⟨S_, .i32⟩
  | 119 => ⟨S16, .i32⟩
  | 120 => ⟨S16, .i32⟩
  | 121 => ⟨S_, .i32⟩
  | 122 => ⟨S16, .i32⟩
  | 123 => ⟨S16, .i32⟩
  | 124 => ⟨S16, .i32⟩
  | 125 => ⟨S16, .i32⟩
  | 126 => ⟨S16, .i32⟩
  | 127 => ⟨S_, .i32⟩
  | _ => ⟨S16x96x224x224, .f32⟩

abbrev hbmTy0_24 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S16, .i32⟩
  | 6 => ⟨S16, .i32⟩
  | 7 => ⟨S16, .i32⟩
  | 8 => ⟨S_, .i32⟩
  | 9 => ⟨S16, .i32⟩
  | 10 => ⟨S16, .i32⟩
  | 11 => ⟨S_, .i32⟩
  | 12 => ⟨S16, .i32⟩
  | 13 => ⟨S16, .i32⟩
  | 14 => ⟨S16, .i32⟩
  | 15 => ⟨S16, .i32⟩
  | 16 => ⟨S16, .i32⟩
  | 17 => ⟨S_, .i32⟩
  | 18 => ⟨S16, .i32⟩
  | 19 => ⟨S16, .i32⟩
  | 20 => ⟨S_, .i32⟩
  | 21 => ⟨S16, .i32⟩
  | 22 => ⟨S16, .i32⟩
  | 23 => ⟨S16, .i32⟩
  | 24 => ⟨S16, .i32⟩
  | 25 => ⟨S16, .i32⟩
  | 26 => ⟨S16, .i32⟩
  | 27 => ⟨S16, .i32⟩
  | 28 => ⟨S16, .i32⟩
  | 29 => ⟨S_, .i32⟩
  | 30 => ⟨S16, .i32⟩
  | 31 => ⟨S16, .i32⟩
  | 32 => ⟨S16, .i32⟩
  | 33 => ⟨S_, .i32⟩
  | 34 => ⟨S16, .i32⟩
  | 35 => ⟨S16, .i32⟩
  | 36 => ⟨S_, .i32⟩
  | 37 => ⟨S16, .i32⟩
  | 38 => ⟨S16, .i32⟩
  | 39 => ⟨S16, .i32⟩
  | 40 => ⟨S16, .i32⟩
  | 41 => ⟨S16, .i32⟩
  | 42 => ⟨S_, .i32⟩
  | 43 => ⟨S16, .i32⟩
  | 44 => ⟨S16, .i32⟩
  | 45 => ⟨S_, .i32⟩
  | 46 => ⟨S16, .i32⟩
  | 47 => ⟨S16, .i32⟩
  | 48 => ⟨S16, .i32⟩
  | 49 => ⟨S16, .i32⟩
  | 50 => ⟨S16, .i32⟩
  | 51 => ⟨S_, .i32⟩
  | 52 => ⟨S16, .i32⟩
  | 53 => ⟨S16, .i32⟩
  | 54 => ⟨S_, .i32⟩
  | 55 => ⟨S16, .i32⟩
  | 56 => ⟨S16, .i32⟩
  | 57 => ⟨S16, .i32⟩
  | 58 => ⟨S16, .i32⟩
  | 59 => ⟨S16, .i32⟩
  | 60 => ⟨S_, .i32⟩
  | 61 => ⟨S16, .i32⟩
  | 62 => ⟨S16, .i32⟩
  | 63 => ⟨S_, .i32⟩
  | 64 => ⟨S16, .i32⟩
  | 65 => ⟨S16, .i32⟩
  | 66 => ⟨S16, .i32⟩
  | 67 => ⟨S16, .i32⟩
  | 68 => ⟨S16, .i32⟩
  | 69 => ⟨S16, .i32⟩
  | 70 => ⟨S16, .i32⟩
  | 71 => ⟨S16, .i32⟩
  | 72 => ⟨S_, .i32⟩
  | 73 => ⟨S16, .i32⟩
  | 74 => ⟨S16, .i32⟩
  | 75 => ⟨S16, .i32⟩
  | 76 => ⟨S16, .i32⟩
  | 77 => ⟨S16, .i32⟩
  | 78 => ⟨S1x2, .i32⟩
  | 79 => ⟨S2, .i32⟩
  | 80 => ⟨S16, .i32⟩
  | 81 => ⟨S1, .i32⟩
  | 82 => ⟨S_, .i32⟩
  | 83 => ⟨S1, .i32⟩
  | 84 => ⟨S_, .i32⟩
  | 85 => ⟨S2, .i64⟩
  | 86 => ⟨S_, .i64⟩
  | 87 => ⟨S2, .i64⟩
  | 88 => ⟨S2, .i64⟩
  | 89 => ⟨S_, .i64⟩
  | 90 => ⟨S2, .i64⟩
  | 91 => ⟨S2, .i64⟩
  | 92 => ⟨S2, .i32⟩
  | 93 => ⟨S2, .i32⟩
  | 94 => ⟨S_, .i32⟩
  | 95 => ⟨S_, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S16x96x224x224, .f32⟩

abbrev hbmTy0_25 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S16x96x224x224, .f32⟩

abbrev hbmTy0_26 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S2x1, .i32⟩
  | 61 => ⟨S2x1, .i32⟩
  | 62 => ⟨S2x2, .i32⟩
  | 63 => ⟨S1x2, .i32⟩
  | 64 => ⟨S2, .i32⟩
  | 65 => ⟨S1x2, .i32⟩
  | 66 => ⟨S2, .i32⟩
  | 67 => ⟨S1, .i32⟩
  | 68 => ⟨S_, .i32⟩
  | 69 => ⟨S1, .i32⟩
  | 70 => ⟨S_, .i32⟩
  | 71 => ⟨S16, .i64⟩
  | 72 => ⟨S_, .i64⟩
  | 73 => ⟨S16, .i64⟩
  | 74 => ⟨S16, .i64⟩
  | 75 => ⟨S_, .i64⟩
  | 76 => ⟨S16, .i64⟩
  | 77 => ⟨S16, .i64⟩
  | 78 => ⟨S16, .i32⟩
  | 79 => ⟨S16, .i32⟩
  | 80 => ⟨S_, .i32⟩
  | 81 => ⟨S_, .i32⟩
  | 82 => ⟨S_, .i32⟩
  | 83 => ⟨S16, .i32⟩
  | 84 => ⟨S16, .i32⟩
  | 85 => ⟨S16, .i32⟩
  | 86 => ⟨S16, .i32⟩
  | 87 => ⟨S16, .i32⟩
  | 88 => ⟨S_, .i32⟩
  | 89 => ⟨S16, .i32⟩
  | 90 => ⟨S16, .i32⟩
  | 91 => ⟨S_, .i32⟩
  | 92 => ⟨S16, .i32⟩
  | 93 => ⟨S16, .i32⟩
  | 94 => ⟨S16, .i32⟩
  | 95 => ⟨S16, .i32⟩
  | 96 => ⟨S16, .i32⟩
  | 97 => ⟨S_, .i32⟩
  | 98 => ⟨S16, .i32⟩
  | 99 => ⟨S16, .i32⟩
  | 100 => ⟨S_, .i32⟩
  | 101 => ⟨S16, .i32⟩
  | 102 => ⟨S16, .i32⟩
  | 103 => ⟨S16, .i32⟩
  | 104 => ⟨S16, .i32⟩
  | 105 => ⟨S16, .i32⟩
  | 106 => ⟨S_, .i32⟩
  | 107 => ⟨S16, .i32⟩
  | 108 => ⟨S16, .i32⟩
  | 109 => ⟨S_, .i32⟩
  | 110 => ⟨S16, .i32⟩
  | 111 => ⟨S16, .i32⟩
  | 112 => ⟨S16, .i32⟩
  | 113 => ⟨S16, .i32⟩
  | 114 => ⟨S16, .i32⟩
  | 115 => ⟨S_, .i32⟩
  | 116 => ⟨S16, .i32⟩
  | 117 => ⟨S16, .i32⟩
  | 118 => ⟨S_, .i32⟩
  | 119 => ⟨S16, .i32⟩
  | 120 => ⟨S16, .i32⟩
  | 121 => ⟨S16, .i32⟩
  | 122 => ⟨S16, .i32⟩
  | 123 => ⟨S16, .i32⟩
  | 124 => ⟨S16, .i32⟩
  | 125 => ⟨S16, .i32⟩
  | 126 => ⟨S16, .i32⟩
  | 127 => ⟨S_, .i32⟩
  | _ => ⟨S16x96x224x224, .f32⟩

abbrev hbmTy0_27 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i32⟩
  | 6 => ⟨S_, .i32⟩
  | 7 => ⟨S16, .i32⟩
  | 8 => ⟨S16, .i32⟩
  | 9 => ⟨S16, .i32⟩
  | 10 => ⟨S16, .i32⟩
  | 11 => ⟨S16, .i32⟩
  | 12 => ⟨S_, .i32⟩
  | 13 => ⟨S16, .i32⟩
  | 14 => ⟨S16, .i32⟩
  | 15 => ⟨S_, .i32⟩
  | 16 => ⟨S16, .i32⟩
  | 17 => ⟨S16, .i32⟩
  | 18 => ⟨S16, .i32⟩
  | 19 => ⟨S16, .i32⟩
  | 20 => ⟨S16, .i32⟩
  | 21 => ⟨S_, .i32⟩
  | 22 => ⟨S16, .i32⟩
  | 23 => ⟨S16, .i32⟩
  | 24 => ⟨S_, .i32⟩
  | 25 => ⟨S16, .i32⟩
  | 26 => ⟨S16, .i32⟩
  | 27 => ⟨S16, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16, .i32⟩
  | 35 => ⟨S16, .i32⟩
  | 36 => ⟨S16, .i32⟩
  | 37 => ⟨S16, .i32⟩
  | 38 => ⟨S16, .i32⟩
  | 39 => ⟨S16, .i32⟩
  | 40 => ⟨S16, .i32⟩
  | 41 => ⟨S16, .i32⟩
  | 42 => ⟨S_, .i32⟩
  | 43 => ⟨S16, .i32⟩
  | 44 => ⟨S16, .i32⟩
  | 45 => ⟨S16, .i32⟩
  | 46 => ⟨S_, .i32⟩
  | 47 => ⟨S16, .i32⟩
  | 48 => ⟨S16, .i32⟩
  | 49 => ⟨S_, .i32⟩
  | 50 => ⟨S16, .i32⟩
  | 51 => ⟨S16, .i32⟩
  | 52 => ⟨S16, .i32⟩
  | 53 => ⟨S16, .i32⟩
  | 54 => ⟨S16, .i32⟩
  | 55 => ⟨S_, .i32⟩
  | 56 => ⟨S16, .i32⟩
  | 57 => ⟨S16, .i32⟩
  | 58 => ⟨S_, .i32⟩
  | 59 => ⟨S16, .i32⟩
  | 60 => ⟨S16, .i32⟩
  | 61 => ⟨S16, .i32⟩
  | 62 => ⟨S16, .i32⟩
  | 63 => ⟨S16, .i32⟩
  | 64 => ⟨S_, .i32⟩
  | 65 => ⟨S16, .i32⟩
  | 66 => ⟨S16, .i32⟩
  | 67 => ⟨S_, .i32⟩
  | 68 => ⟨S16, .i32⟩
  | 69 => ⟨S16, .i32⟩
  | 70 => ⟨S16, .i32⟩
  | 71 => ⟨S16, .i32⟩
  | 72 => ⟨S16, .i32⟩
  | 73 => ⟨S_, .i32⟩
  | 74 => ⟨S16, .i32⟩
  | 75 => ⟨S16, .i32⟩
  | 76 => ⟨S_, .i32⟩
  | 77 => ⟨S16, .i32⟩
  | 78 => ⟨S16, .i32⟩
  | 79 => ⟨S16, .i32⟩
  | 80 => ⟨S16, .i32⟩
  | 81 => ⟨S16, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S16, .i32⟩
  | 89 => ⟨S_, .i32⟩
  | 90 => ⟨S16, .i32⟩
  | 91 => ⟨S16, .i32⟩
  | 92 => ⟨S_, .i32⟩
  | 93 => ⟨S16, .i32⟩
  | 94 => ⟨S16, .i32⟩
  | 95 => ⟨S16, .i32⟩
  | 96 => ⟨S16, .i32⟩
  | 97 => ⟨S16, .i32⟩
  | 98 => ⟨S_, .i32⟩
  | 99 => ⟨S16, .i32⟩
  | 100 => ⟨S16, .i32⟩
  | 101 => ⟨S_, .i32⟩
  | 102 => ⟨S16, .i32⟩
  | 103 => ⟨S16, .i32⟩
  | 104 => ⟨S16, .i32⟩
  | 105 => ⟨S16, .i32⟩
  | 106 => ⟨S16, .i32⟩
  | 107 => ⟨S_, .i32⟩
  | 108 => ⟨S16, .i32⟩
  | 109 => ⟨S16, .i32⟩
  | 110 => ⟨S_, .i32⟩
  | 111 => ⟨S16, .i32⟩
  | 112 => ⟨S16, .i32⟩
  | 113 => ⟨S16, .i32⟩
  | 114 => ⟨S16, .i32⟩
  | 115 => ⟨S16, .i32⟩
  | 116 => ⟨S_, .i32⟩
  | 117 => ⟨S16, .i32⟩
  | 118 => ⟨S16, .i32⟩
  | 119 => ⟨S_, .i32⟩
  | 120 => ⟨S16, .i32⟩
  | 121 => ⟨S16, .i32⟩
  | 122 => ⟨S16, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_28 (i : Nat) : BufTy := match i % 128 with
  | 0 => ⟨S_, .i32⟩
  | 1 => ⟨S16, .i32⟩
  | 2 => ⟨S16, .i32⟩
  | 3 => ⟨S16, .i32⟩
  | 4 => ⟨S_, .i32⟩
  | 5 => ⟨S16, .i32⟩
  | 6 => ⟨S16, .i32⟩
  | 7 => ⟨S_, .i32⟩
  | 8 => ⟨S16, .i32⟩
  | 9 => ⟨S16, .i32⟩
  | 10 => ⟨S16, .i32⟩
  | 11 => ⟨S16, .i32⟩
  | 12 => ⟨S16, .i32⟩
  | 13 => ⟨S_, .i32⟩
  | 14 => ⟨S16, .i32⟩
  | 15 => ⟨S16, .i32⟩
  | 16 => ⟨S_, .i32⟩
  | 17 => ⟨S16, .i32⟩
  | 18 => ⟨S16, .i32⟩
  | 19 => ⟨S16, .i32⟩
  | 20 => ⟨S16, .i32⟩
  | 21 => ⟨S16, .i32⟩
  | 22 => ⟨S_, .i32⟩
  | 23 => ⟨S16, .i32⟩
  | 24 => ⟨S16, .i32⟩
  | 25 => ⟨S_, .i32⟩
  | 26 => ⟨S16, .i32⟩
  | 27 => ⟨S16, .i32⟩
  | 28 => ⟨S16, .i32⟩
  | 29 => ⟨S16, .i32⟩
  | 30 => ⟨S16, .i32⟩
  | 31 => ⟨S_, .i32⟩
  | 32 => ⟨S16, .i32⟩
  | 33 => ⟨S16, .i32⟩
  | 34 => ⟨S_, .i32⟩
  | 35 => ⟨S16, .i32⟩
  | 36 => ⟨S16, .i32⟩
  | 37 => ⟨S16, .i32⟩
  | 38 => ⟨S16, .i32⟩
  | 39 => ⟨S16, .i32⟩
  | 40 => ⟨S16, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S16, .i32⟩
  | 48 => ⟨S16, .i32⟩
  | 49 => ⟨S1x2, .i32⟩
  | 50 => ⟨S2, .i32⟩
  | 51 => ⟨S16, .i32⟩
  | 52 => ⟨S1, .i32⟩
  | 53 => ⟨S_, .i32⟩
  | 54 => ⟨S1, .i32⟩
  | 55 => ⟨S_, .i32⟩
  | 56 => ⟨S2, .i64⟩
  | 57 => ⟨S_, .i64⟩
  | 58 => ⟨S2, .i64⟩
  | 59 => ⟨S2, .i64⟩
  | 60 => ⟨S_, .i64⟩
  | 61 => ⟨S2, .i64⟩
  | 62 => ⟨S2, .i64⟩
  | 63 => ⟨S2, .i32⟩
  | 64 => ⟨S2, .i32⟩
  | 65 => ⟨S_, .i32⟩
  | 66 => ⟨S_, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_29 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x96x224x224, .f32⟩

abbrev hbmTy0_30 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S2x1, .i32⟩
  | 32 => ⟨S2x1, .i32⟩
  | 33 => ⟨S2x2, .i32⟩
  | 34 => ⟨S1x2, .i32⟩
  | 35 => ⟨S2, .i32⟩
  | 36 => ⟨S1x2, .i32⟩
  | 37 => ⟨S2, .i32⟩
  | 38 => ⟨S1, .i32⟩
  | 39 => ⟨S_, .i32⟩
  | 40 => ⟨S1, .i32⟩
  | 41 => ⟨S_, .i32⟩
  | 42 => ⟨S16, .i64⟩
  | 43 => ⟨S_, .i64⟩
  | 44 => ⟨S16, .i64⟩
  | 45 => ⟨S16, .i64⟩
  | 46 => ⟨S_, .i64⟩
  | 47 => ⟨S16, .i64⟩
  | 48 => ⟨S16, .i64⟩
  | 49 => ⟨S16, .i32⟩
  | 50 => ⟨S16, .i32⟩
  | 51 => ⟨S_, .i32⟩
  | 52 => ⟨S_, .i32⟩
  | 53 => ⟨S_, .i32⟩
  | 54 => ⟨S16, .i32⟩
  | 55 => ⟨S16, .i32⟩
  | 56 => ⟨S16, .i32⟩
  | 57 => ⟨S16, .i32⟩
  | 58 => ⟨S16, .i32⟩
  | 59 => ⟨S_, .i32⟩
  | 60 => ⟨S16, .i32⟩
  | 61 => ⟨S16, .i32⟩
  | 62 => ⟨S_, .i32⟩
  | 63 => ⟨S16, .i32⟩
  | 64 => ⟨S16, .i32⟩
  | 65 => ⟨S16, .i32⟩
  | 66 => ⟨S16, .i32⟩
  | 67 => ⟨S16, .i32⟩
  | 68 => ⟨S_, .i32⟩
  | 69 => ⟨S16, .i32⟩
  | 70 => ⟨S16, .i32⟩
  | 71 => ⟨S_, .i32⟩
  | 72 => ⟨S16, .i32⟩
  | 73 => ⟨S16, .i32⟩
  | 74 => ⟨S16, .i32⟩
  | 75 => ⟨S16, .i32⟩
  | 76 => ⟨S16, .i32⟩
  | 77 => ⟨S_, .i32⟩
  | 78 => ⟨S16, .i32⟩
  | 79 => ⟨S16, .i32⟩
  | 80 => ⟨S_, .i32⟩
  | 81 => ⟨S16, .i32⟩
  | 82 => ⟨S16, .i32⟩
  | 83 => ⟨S16, .i32⟩
  | 84 => ⟨S16, .i32⟩
  | 85 => ⟨S16, .i32⟩
  | 86 => ⟨S_, .i32⟩
  | 87 => ⟨S16, .i32⟩
  | 88 => ⟨S16, .i32⟩
  | 89 => ⟨S_, .i32⟩
  | 90 => ⟨S16, .i32⟩
  | 91 => ⟨S16, .i32⟩
  | 92 => ⟨S16, .i32⟩
  | 93 => ⟨S16, .i32⟩
  | 94 => ⟨S16, .i32⟩
  | 95 => ⟨S16, .i32⟩
  | 96 => ⟨S16, .i32⟩
  | 97 => ⟨S16, .i32⟩
  | 98 => ⟨S_, .i32⟩
  | 99 => ⟨S16, .i32⟩
  | 100 => ⟨S16, .i32⟩
  | 101 => ⟨S16, .i32⟩
  | 102 => ⟨S_, .i32⟩
  | 103 => ⟨S16, .i32⟩
  | 104 => ⟨S16, .i32⟩
  | 105 => ⟨S_, .i32⟩
  | 106 => ⟨S16, .i32⟩
  | 107 => ⟨S16, .i32⟩
  | 108 => ⟨S16, .i32⟩
  | 109 => ⟨S16, .i32⟩
  | 110 => ⟨S16, .i32⟩
  | 111 => ⟨S_, .i32⟩
  | 112 => ⟨S16, .i32⟩
  | 113 => ⟨S16, .i32⟩
  | 114 => ⟨S_, .i32⟩
  | 115 => ⟨S16, .i32⟩
  | 116 => ⟨S16, .i32⟩
  | 117 => ⟨S16, .i32⟩
  | 118 => ⟨S16, .i32⟩
  | 119 => ⟨S16, .i32⟩
  | 120 => ⟨S_, .i32⟩
  | 121 => ⟨S16, .i32⟩
  | 122 => ⟨S16, .i32⟩
  | 123 => ⟨S_, .i32⟩
  | 124 => ⟨S16, .i32⟩
  | 125 => ⟨S16, .i32⟩
  | 126 => ⟨S16, .i32⟩
  | 127 => ⟨S16, .i32⟩
  | _ => ⟨S16x96x224x224, .f32⟩

abbrev hbmTy0_31 (i : Nat) : BufTy := match i % 128 with
  | 0 => ⟨S16, .i32⟩
  | 1 => ⟨S_, .i32⟩
  | 2 => ⟨S16, .i32⟩
  | 3 => ⟨S16, .i32⟩
  | 4 => ⟨S_, .i32⟩
  | 5 => ⟨S16, .i32⟩
  | 6 => ⟨S16, .i32⟩
  | 7 => ⟨S16, .i32⟩
  | 8 => ⟨S16, .i32⟩
  | 9 => ⟨S16, .i32⟩
  | 10 => ⟨S16, .i32⟩
  | 11 => ⟨S16, .i32⟩
  | 12 => ⟨S16, .i32⟩
  | 13 => ⟨S_, .i32⟩
  | 14 => ⟨S16, .i32⟩
  | 15 => ⟨S16, .i32⟩
  | 16 => ⟨S16, .i32⟩
  | 17 => ⟨S_, .i32⟩
  | 18 => ⟨S16, .i32⟩
  | 19 => ⟨S16, .i32⟩
  | 20 => ⟨S_, .i32⟩
  | 21 => ⟨S16, .i32⟩
  | 22 => ⟨S16, .i32⟩
  | 23 => ⟨S16, .i32⟩
  | 24 => ⟨S16, .i32⟩
  | 25 => ⟨S16, .i32⟩
  | 26 => ⟨S_, .i32⟩
  | 27 => ⟨S16, .i32⟩
  | 28 => ⟨S16, .i32⟩
  | 29 => ⟨S_, .i32⟩
  | 30 => ⟨S16, .i32⟩
  | 31 => ⟨S16, .i32⟩
  | 32 => ⟨S16, .i32⟩
  | 33 => ⟨S16, .i32⟩
  | 34 => ⟨S16, .i32⟩
  | 35 => ⟨S_, .i32⟩
  | 36 => ⟨S16, .i32⟩
  | 37 => ⟨S16, .i32⟩
  | 38 => ⟨S_, .i32⟩
  | 39 => ⟨S16, .i32⟩
  | 40 => ⟨S16, .i32⟩
  | 41 => ⟨S16, .i32⟩
  | 42 => ⟨S16, .i32⟩
  | 43 => ⟨S16, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S16, .i32⟩
  | 51 => ⟨S16, .i32⟩
  | 52 => ⟨S16, .i32⟩
  | 53 => ⟨S16, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S_, .i32⟩
  | 61 => ⟨S16, .i32⟩
  | 62 => ⟨S16, .i32⟩
  | 63 => ⟨S_, .i32⟩
  | 64 => ⟨S16, .i32⟩
  | 65 => ⟨S16, .i32⟩
  | 66 => ⟨S16, .i32⟩
  | 67 => ⟨S16, .i32⟩
  | 68 => ⟨S16, .i32⟩
  | 69 => ⟨S_, .i32⟩
  | 70 => ⟨S16, .i32⟩
  | 71 => ⟨S16, .i32⟩
  | 72 => ⟨S_, .i32⟩
  | 73 => ⟨S16, .i32⟩
  | 74 => ⟨S16, .i32⟩
  | 75 => ⟨S16, .i32⟩
  | 76 => ⟨S16, .i32⟩
  | 77 => ⟨S16, .i32⟩
  | 78 => ⟨S_, .i32⟩
  | 79 => ⟨S16, .i32⟩
  | 80 => ⟨S16, .i32⟩
  | 81 => ⟨S_, .i32⟩
  | 82 => ⟨S16, .i32⟩
  | 83 => ⟨S16, .i32⟩
  | 84 => ⟨S16, .i32⟩
  | 85 => ⟨S16, .i32⟩
  | 86 => ⟨S16, .i32⟩
  | 87 => ⟨S_, .i32⟩
  | 88 => ⟨S16, .i32⟩
  | 89 => ⟨S16, .i32⟩
  | 90 => ⟨S_, .i32⟩
  | 91 => ⟨S16, .i32⟩
  | 92 => ⟨S16, .i32⟩
  | 93 => ⟨S16, .i32⟩
  | 94 => ⟨S16, .i32⟩
  | 95 => ⟨S16, .i32⟩
  | 96 => ⟨S16, .i32⟩
  | 97 => ⟨S16, .i32⟩
  | 98 => ⟨S16, .i32⟩
  | 99 => ⟨S_, .i32⟩
  | 100 => ⟨S16, .i32⟩
  | 101 => ⟨S16, .i32⟩
  | 102 => ⟨S16, .i32⟩
  | 103 => ⟨S_, .i32⟩
  | 104 => ⟨S16, .i32⟩
  | 105 => ⟨S16, .i32⟩
  | 106 => ⟨S_, .i32⟩
  | 107 => ⟨S16, .i32⟩
  | 108 => ⟨S16, .i32⟩
  | 109 => ⟨S16, .i32⟩
  | 110 => ⟨S16, .i32⟩
  | 111 => ⟨S16, .i32⟩
  | 112 => ⟨S_, .i32⟩
  | 113 => ⟨S16, .i32⟩
  | 114 => ⟨S16, .i32⟩
  | 115 => ⟨S_, .i32⟩
  | 116 => ⟨S16, .i32⟩
  | 117 => ⟨S16, .i32⟩
  | 118 => ⟨S16, .i32⟩
  | 119 => ⟨S16, .i32⟩
  | 120 => ⟨S16, .i32⟩
  | 121 => ⟨S_, .i32⟩
  | 122 => ⟨S16, .i32⟩
  | 123 => ⟨S16, .i32⟩
  | 124 => ⟨S_, .i32⟩
  | 125 => ⟨S16, .i32⟩
  | 126 => ⟨S16, .i32⟩
  | 127 => ⟨S16, .i32⟩
  | _ => ⟨S16x96x224x224, .f32⟩

abbrev hbmTy0_32 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S_, .i32⟩
  | 6 => ⟨S16, .i32⟩
  | 7 => ⟨S16, .i32⟩
  | 8 => ⟨S16, .i32⟩
  | 9 => ⟨S16, .i32⟩
  | 10 => ⟨S16, .i32⟩
  | 11 => ⟨S16, .i32⟩
  | 12 => ⟨S16, .i32⟩
  | 13 => ⟨S16, .i32⟩
  | 14 => ⟨S_, .i32⟩
  | 15 => ⟨S16, .i32⟩
  | 16 => ⟨S16, .i32⟩
  | 17 => ⟨S16, .i32⟩
  | 18 => ⟨S16, .i32⟩
  | 19 => ⟨S16, .i32⟩
  | 20 => ⟨S1x2, .i32⟩
  | 21 => ⟨S2, .i32⟩
  | 22 => ⟨S16, .i32⟩
  | 23 => ⟨S1, .i32⟩
  | 24 => ⟨S_, .i32⟩
  | 25 => ⟨S1, .i32⟩
  | 26 => ⟨S_, .i32⟩
  | 27 => ⟨S2, .i64⟩
  | 28 => ⟨S_, .i64⟩
  | 29 => ⟨S2, .i64⟩
  | 30 => ⟨S2, .i64⟩
  | 31 => ⟨S_, .i64⟩
  | 32 => ⟨S2, .i64⟩
  | 33 => ⟨S2, .i64⟩
  | 34 => ⟨S2, .i32⟩
  | 35 => ⟨S2, .i32⟩
  | 36 => ⟨S_, .i32⟩
  | 37 => ⟨S_, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x96x224x224, .f32⟩

abbrev hbmTy0_33 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16x96x224x224, .f32⟩

abbrev hbmTy0_34 (i : Nat) : BufTy := match i % 128 with
  | 0 => ⟨S2, .i32⟩
  | 1 => ⟨S2, .i32⟩
  | 2 => ⟨S2x1, .i32⟩
  | 3 => ⟨S2x1, .i32⟩
  | 4 => ⟨S2x2, .i32⟩
  | 5 => ⟨S1x2, .i32⟩
  | 6 => ⟨S2, .i32⟩
  | 7 => ⟨S1x2, .i32⟩
  | 8 => ⟨S2, .i32⟩
  | 9 => ⟨S1, .i32⟩
  | 10 => ⟨S_, .i32⟩
  | 11 => ⟨S1, .i32⟩
  | 12 => ⟨S_, .i32⟩
  | 13 => ⟨S16, .i64⟩
  | 14 => ⟨S_, .i64⟩
  | 15 => ⟨S16, .i64⟩
  | 16 => ⟨S16, .i64⟩
  | 17 => ⟨S_, .i64⟩
  | 18 => ⟨S16, .i64⟩
  | 19 => ⟨S16, .i64⟩
  | 20 => ⟨S16, .i32⟩
  | 21 => ⟨S16, .i32⟩
  | 22 => ⟨S_, .i32⟩
  | 23 => ⟨S_, .i32⟩
  | 24 => ⟨S_, .i32⟩
  | 25 => ⟨S16, .i32⟩
  | 26 => ⟨S16, .i32⟩
  | 27 => ⟨S16, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16, .i32⟩
  | 35 => ⟨S16, .i32⟩
  | 36 => ⟨S16, .i32⟩
  | 37 => ⟨S16, .i32⟩
  | 38 => ⟨S16, .i32⟩
  | 39 => ⟨S_, .i32⟩
  | 40 => ⟨S16, .i32⟩
  | 41 => ⟨S16, .i32⟩
  | 42 => ⟨S_, .i32⟩
  | 43 => ⟨S16, .i32⟩
  | 44 => ⟨S16, .i32⟩
  | 45 => ⟨S16, .i32⟩
  | 46 => ⟨S16, .i32⟩
  | 47 => ⟨S16, .i32⟩
  | 48 => ⟨S_, .i32⟩
  | 49 => ⟨S16, .i32⟩
  | 50 => ⟨S16, .i32⟩
  | 51 => ⟨S_, .i32⟩
  | 52 => ⟨S16, .i32⟩
  | 53 => ⟨S16, .i32⟩
  | 54 => ⟨S16, .i32⟩
  | 55 => ⟨S16, .i32⟩
  | 56 => ⟨S16, .i32⟩
  | 57 => ⟨S_, .i32⟩
  | 58 => ⟨S16, .i32⟩
  | 59 => ⟨S16, .i32⟩
  | 60 => ⟨S_, .i32⟩
  | 61 => ⟨S16, .i32⟩
  | 62 => ⟨S16, .i32⟩
  | 63 => ⟨S16, .i32⟩
  | 64 => ⟨S16, .i32⟩
  | 65 => ⟨S16, .i32⟩
  | 66 => ⟨S16, .i32⟩
  | 67 => ⟨S16, .i32⟩
  | 68 => ⟨S16, .i32⟩
  | 69 => ⟨S_, .i32⟩
  | 70 => ⟨S16, .i32⟩
  | 71 => ⟨S16, .i32⟩
  | 72 => ⟨S16, .i32⟩
  | 73 => ⟨S_, .i32⟩
  | 74 => ⟨S16, .i32⟩
  | 75 => ⟨S16, .i32⟩
  | 76 => ⟨S_, .i32⟩
  | 77 => ⟨S16, .i32⟩
  | 78 => ⟨S16, .i32⟩
  | 79 => ⟨S16, .i32⟩
  | 80 => ⟨S16, .i32⟩
  | 81 => ⟨S16, .i32⟩
  | 82 => ⟨S_, .i32⟩
  | 83 => ⟨S16, .i32⟩
  | 84 => ⟨S16, .i32⟩
  | 85 => ⟨S_, .i32⟩
  | 86 => ⟨S16, .i32⟩
  | 87 => ⟨S16, .i32⟩
  | 88 => ⟨S16, .i32⟩
  | 89 => ⟨S16, .i32⟩
  | 90 => ⟨S16, .i32⟩
  | 91 => ⟨S_, .i32⟩
  | 92 => ⟨S16, .i32⟩
  | 93 => ⟨S16, .i32⟩
  | 94 => ⟨S_, .i32⟩
  | 95 => ⟨S16, .i32⟩
  | 96 => ⟨S16, .i32⟩
  | 97 => ⟨S16, .i32⟩
  | 98 => ⟨S16, .i32⟩
  | 99 => ⟨S16, .i32⟩
  | 100 => ⟨S_, .i32⟩
  | 101 => ⟨S16, .i32⟩
  | 102 => ⟨S16, .i32⟩
  | 103 => ⟨S_, .i32⟩
  | 104 => ⟨S16, .i32⟩
  | 105 => ⟨S16, .i32⟩
  | 106 => ⟨S16, .i32⟩
  | 107 => ⟨S16, .i32⟩
  | 108 => ⟨S16, .i32⟩
  | 109 => ⟨S16, .i32⟩
  | 110 => ⟨S16, .i32⟩
  | 111 => ⟨S16, .i32⟩
  | 112 => ⟨S_, .i32⟩
  | 113 => ⟨S16, .i32⟩
  | 114 => ⟨S16, .i32⟩
  | 115 => ⟨S16, .i32⟩
  | 116 => ⟨S_, .i32⟩
  | 117 => ⟨S16, .i32⟩
  | 118 => ⟨S16, .i32⟩
  | 119 => ⟨S_, .i32⟩
  | 120 => ⟨S16, .i32⟩
  | 121 => ⟨S16, .i32⟩
  | 122 => ⟨S16, .i32⟩
  | 123 => ⟨S16, .i32⟩
  | 124 => ⟨S16, .i32⟩
  | 125 => ⟨S_, .i32⟩
  | 126 => ⟨S16, .i32⟩
  | 127 => ⟨S16, .i32⟩
  | _ => ⟨S16x96x224x224, .f32⟩

abbrev hbmTy0_35 (i : Nat) : BufTy := match i % 128 with
  | 0 => ⟨S_, .i32⟩
  | 1 => ⟨S16, .i32⟩
  | 2 => ⟨S16, .i32⟩
  | 3 => ⟨S16, .i32⟩
  | 4 => ⟨S16, .i32⟩
  | 5 => ⟨S16, .i32⟩
  | 6 => ⟨S_, .i32⟩
  | 7 => ⟨S16, .i32⟩
  | 8 => ⟨S16, .i32⟩
  | 9 => ⟨S_, .i32⟩
  | 10 => ⟨S16, .i32⟩
  | 11 => ⟨S16, .i32⟩
  | 12 => ⟨S16, .i32⟩
  | 13 => ⟨S16, .i32⟩
  | 14 => ⟨S16, .i32⟩
  | 15 => ⟨S_, .i32⟩
  | 16 => ⟨S16, .i32⟩
  | 17 => ⟨S16, .i32⟩
  | 18 => ⟨S_, .i32⟩
  | 19 => ⟨S16, .i32⟩
  | 20 => ⟨S16, .i32⟩
  | 21 => ⟨S16, .i32⟩
  | 22 => ⟨S16, .i32⟩
  | 23 => ⟨S16, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S16, .i32⟩
  | 31 => ⟨S_, .i32⟩
  | 32 => ⟨S16, .i32⟩
  | 33 => ⟨S16, .i32⟩
  | 34 => ⟨S_, .i32⟩
  | 35 => ⟨S16, .i32⟩
  | 36 => ⟨S16, .i32⟩
  | 37 => ⟨S16, .i32⟩
  | 38 => ⟨S16, .i32⟩
  | 39 => ⟨S16, .i32⟩
  | 40 => ⟨S_, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S16, .i32⟩
  | 48 => ⟨S16, .i32⟩
  | 49 => ⟨S_, .i32⟩
  | 50 => ⟨S16, .i32⟩
  | 51 => ⟨S16, .i32⟩
  | 52 => ⟨S_, .i32⟩
  | 53 => ⟨S16, .i32⟩
  | 54 => ⟨S16, .i32⟩
  | 55 => ⟨S16, .i32⟩
  | 56 => ⟨S16, .i32⟩
  | 57 => ⟨S16, .i32⟩
  | 58 => ⟨S_, .i32⟩
  | 59 => ⟨S16, .i32⟩
  | 60 => ⟨S16, .i32⟩
  | 61 => ⟨S_, .i32⟩
  | 62 => ⟨S16, .i32⟩
  | 63 => ⟨S16, .i32⟩
  | 64 => ⟨S16, .i32⟩
  | 65 => ⟨S16, .i32⟩
  | 66 => ⟨S16, .i32⟩
  | 67 => ⟨S16, .i32⟩
  | 68 => ⟨S16, .i32⟩
  | 69 => ⟨S16, .i32⟩
  | 70 => ⟨S_, .i32⟩
  | 71 => ⟨S16, .i32⟩
  | 72 => ⟨S16, .i32⟩
  | 73 => ⟨S16, .i32⟩
  | 74 => ⟨S_, .i32⟩
  | 75 => ⟨S16, .i32⟩
  | 76 => ⟨S16, .i32⟩
  | 77 => ⟨S_, .i32⟩
  | 78 => ⟨S16, .i32⟩
  | 79 => ⟨S16, .i32⟩
  | 80 => ⟨S16, .i32⟩
  | 81 => ⟨S16, .i32⟩
  | 82 => ⟨S16, .i32⟩
  | 83 => ⟨S_, .i32⟩
  | 84 => ⟨S16, .i32⟩
  | 85 => ⟨S16, .i32⟩
  | 86 => ⟨S_, .i32⟩
  | 87 => ⟨S16, .i32⟩
  | 88 => ⟨S16, .i32⟩
  | 89 => ⟨S16, .i32⟩
  | 90 => ⟨S16, .i32⟩
  | 91 => ⟨S16, .i32⟩
  | 92 => ⟨S_, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S16, .i32⟩
  | 100 => ⟨S16, .i32⟩
  | 101 => ⟨S_, .i32⟩
  | 102 => ⟨S16, .i32⟩
  | 103 => ⟨S16, .i32⟩
  | 104 => ⟨S_, .i32⟩
  | 105 => ⟨S16, .i32⟩
  | 106 => ⟨S16, .i32⟩
  | 107 => ⟨S16, .i32⟩
  | 108 => ⟨S16, .i32⟩
  | 109 => ⟨S16, .i32⟩
  | 110 => ⟨S16, .i32⟩
  | 111 => ⟨S16, .i32⟩
  | 112 => ⟨S16, .i32⟩
  | 113 => ⟨S_, .i32⟩
  | 114 => ⟨S16, .i32⟩
  | 115 => ⟨S16, .i32⟩
  | 116 => ⟨S16, .i32⟩
  | 117 => ⟨S16, .i32⟩
  | 118 => ⟨S16, .i32⟩
  | 119 => ⟨S1x2, .i32⟩
  | 120 => ⟨S2, .i32⟩
  | 121 => ⟨S16, .i32⟩
  | 122 => ⟨S1, .i32⟩
  | 123 => ⟨S_, .i32⟩
  | 124 => ⟨S1, .i32⟩
  | 125 => ⟨S_, .i32⟩
  | 126 => ⟨S2, .i64⟩
  | 127 => ⟨S_, .i64⟩
  | _ => ⟨S16x96x224x224, .f32⟩

abbrev hbmTy0_36 (i : Nat) : BufTy := match i % 128 with
  | 0 => ⟨S2, .i64⟩
  | 1 => ⟨S2, .i64⟩
  | 2 => ⟨S_, .i64⟩
  | 3 => ⟨S2, .i64⟩
  | 4 => ⟨S2, .i64⟩
  | 5 => ⟨S2, .i32⟩
  | 6 => ⟨S2, .i32⟩
  | 7 => ⟨S_, .i32⟩
  | 8 => ⟨S_, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16x96x224x224, .f32⟩

abbrev hbmTy0_37 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S2x1, .i32⟩
  | 102 => ⟨S2x1, .i32⟩
  | 103 => ⟨S2x2, .i32⟩
  | 104 => ⟨S1x2, .i32⟩
  | 105 => ⟨S2, .i32⟩
  | 106 => ⟨S1x2, .i32⟩
  | 107 => ⟨S2, .i32⟩
  | 108 => ⟨S1, .i32⟩
  | 109 => ⟨S_, .i32⟩
  | 110 => ⟨S1, .i32⟩
  | 111 => ⟨S_, .i32⟩
  | 112 => ⟨S16, .i64⟩
  | 113 => ⟨S_, .i64⟩
  | 114 => ⟨S16, .i64⟩
  | 115 => ⟨S16, .i64⟩
  | 116 => ⟨S_, .i64⟩
  | 117 => ⟨S16, .i64⟩
  | 118 => ⟨S16, .i64⟩
  | 119 => ⟨S16, .i32⟩
  | 120 => ⟨S16, .i32⟩
  | 121 => ⟨S_, .i32⟩
  | 122 => ⟨S_, .i32⟩
  | 123 => ⟨S_, .i32⟩
  | 124 => ⟨S16, .i32⟩
  | 125 => ⟨S16, .i32⟩
  | 126 => ⟨S16, .i32⟩
  | 127 => ⟨S16, .i32⟩
  | _ => ⟨S16x96x224x224, .f32⟩

abbrev hbmTy0_38 (i : Nat) : BufTy := match i % 128 with
  | 0 => ⟨S16, .i32⟩
  | 1 => ⟨S_, .i32⟩
  | 2 => ⟨S16, .i32⟩
  | 3 => ⟨S16, .i32⟩
  | 4 => ⟨S_, .i32⟩
  | 5 => ⟨S16, .i32⟩
  | 6 => ⟨S16, .i32⟩
  | 7 => ⟨S16, .i32⟩
  | 8 => ⟨S16, .i32⟩
  | 9 => ⟨S16, .i32⟩
  | 10 => ⟨S_, .i32⟩
  | 11 => ⟨S16, .i32⟩
  | 12 => ⟨S16, .i32⟩
  | 13 => ⟨S_, .i32⟩
  | 14 => ⟨S16, .i32⟩
  | 15 => ⟨S16, .i32⟩
  | 16 => ⟨S16, .i32⟩
  | 17 => ⟨S16, .i32⟩
  | 18 => ⟨S16, .i32⟩
  | 19 => ⟨S_, .i32⟩
  | 20 => ⟨S16, .i32⟩
  | 21 => ⟨S16, .i32⟩
  | 22 => ⟨S_, .i32⟩
  | 23 => ⟨S16, .i32⟩
  | 24 => ⟨S16, .i32⟩
  | 25 => ⟨S16, .i32⟩
  | 26 => ⟨S16, .i32⟩
  | 27 => ⟨S16, .i32⟩
  | 28 => ⟨S_, .i32⟩
  | 29 => ⟨S16, .i32⟩
  | 30 => ⟨S16, .i32⟩
  | 31 => ⟨S_, .i32⟩
  | 32 => ⟨S16, .i32⟩
  | 33 => ⟨S16, .i32⟩
  | 34 => ⟨S16, .i32⟩
  | 35 => ⟨S16, .i32⟩
  | 36 => ⟨S16, .i32⟩
  | 37 => ⟨S16, .i32⟩
  | 38 => ⟨S16, .i32⟩
  | 39 => ⟨S16, .i32⟩
  | 40 => ⟨S_, .i32⟩
  | 41 => ⟨S16, .i32⟩
  | 42 => ⟨S16, .i32⟩
  | 43 => ⟨S16, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S16, .i32⟩
  | 51 => ⟨S16, .i32⟩
  | 52 => ⟨S16, .i32⟩
  | 53 => ⟨S_, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S16, .i32⟩
  | 61 => ⟨S16, .i32⟩
  | 62 => ⟨S_, .i32⟩
  | 63 => ⟨S16, .i32⟩
  | 64 => ⟨S16, .i32⟩
  | 65 => ⟨S_, .i32⟩
  | 66 => ⟨S16, .i32⟩
  | 67 => ⟨S16, .i32⟩
  | 68 => ⟨S16, .i32⟩
  | 69 => ⟨S16, .i32⟩
  | 70 => ⟨S16, .i32⟩
  | 71 => ⟨S_, .i32⟩
  | 72 => ⟨S16, .i32⟩
  | 73 => ⟨S16, .i32⟩
  | 74 => ⟨S_, .i32⟩
  | 75 => ⟨S16, .i32⟩
  | 76 => ⟨S16, .i32⟩
  | 77 => ⟨S16, .i32⟩
  | 78 => ⟨S16, .i32⟩
  | 79 => ⟨S16, .i32⟩
  | 80 => ⟨S16, .i32⟩
  | 81 => ⟨S16, .i32⟩
  | 82 => ⟨S16, .i32⟩
  | 83 => ⟨S_, .i32⟩
  | 84 => ⟨S16, .i32⟩
  | 85 => ⟨S16, .i32⟩
  | 86 => ⟨S16, .i32⟩
  | 87 => ⟨S_, .i32⟩
  | 88 => ⟨S16, .i32⟩
  | 89 => ⟨S16, .i32⟩
  | 90 => ⟨S_, .i32⟩
  | 91 => ⟨S16, .i32⟩
  | 92 => ⟨S16, .i32⟩
  | 93 => ⟨S16, .i32⟩
  | 94 => ⟨S16, .i32⟩
  | 95 => ⟨S16, .i32⟩
  | 96 => ⟨S_, .i32⟩
  | 97 => ⟨S16, .i32⟩
  | 98 => ⟨S16, .i32⟩
  | 99 => ⟨S_, .i32⟩
  | 100 => ⟨S16, .i32⟩
  | 101 => ⟨S16, .i32⟩
  | 102 => ⟨S16, .i32⟩
  | 103 => ⟨S16, .i32⟩
  | 104 => ⟨S16, .i32⟩
  | 105 => ⟨S_, .i32⟩
  | 106 => ⟨S16, .i32⟩
  | 107 => ⟨S16, .i32⟩
  | 108 => ⟨S_, .i32⟩
  | 109 => ⟨S16, .i32⟩
  | 110 => ⟨S16, .i32⟩
  | 111 => ⟨S16, .i32⟩
  | 112 => ⟨S16, .i32⟩
  | 113 => ⟨S16, .i32⟩
  | 114 => ⟨S_, .i32⟩
  | 115 => ⟨S16, .i32⟩
  | 116 => ⟨S16, .i32⟩
  | 117 => ⟨S_, .i32⟩
  | 118 => ⟨S16, .i32⟩
  | 119 => ⟨S16, .i32⟩
  | 120 => ⟨S16, .i32⟩
  | 121 => ⟨S16, .i32⟩
  | 122 => ⟨S16, .i32⟩
  | 123 => ⟨S16, .i32⟩
  | 124 => ⟨S16, .i32⟩
  | 125 => ⟨S16, .i32⟩
  | 126 => ⟨S_, .i32⟩
  | 127 => ⟨S16, .i32⟩
  | _ => ⟨S16x96x224x224, .f32⟩

abbrev hbmTy0_39 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S_, .i32⟩
  | 6 => ⟨S16, .i32⟩
  | 7 => ⟨S16, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S_, .i32⟩
  | 15 => ⟨S16, .i32⟩
  | 16 => ⟨S16, .i32⟩
  | 17 => ⟨S16, .i32⟩
  | 18 => ⟨S16, .i32⟩
  | 19 => ⟨S16, .i32⟩
  | 20 => ⟨S_, .i32⟩
  | 21 => ⟨S16, .i32⟩
  | 22 => ⟨S16, .i32⟩
  | 23 => ⟨S_, .i32⟩
  | 24 => ⟨S16, .i32⟩
  | 25 => ⟨S16, .i32⟩
  | 26 => ⟨S16, .i32⟩
  | 27 => ⟨S16, .i32⟩
  | 28 => ⟨S16, .i32⟩
  | 29 => ⟨S_, .i32⟩
  | 30 => ⟨S16, .i32⟩
  | 31 => ⟨S16, .i32⟩
  | 32 => ⟨S_, .i32⟩
  | 33 => ⟨S16, .i32⟩
  | 34 => ⟨S16, .i32⟩
  | 35 => ⟨S16, .i32⟩
  | 36 => ⟨S16, .i32⟩
  | 37 => ⟨S16, .i32⟩
  | 38 => ⟨S16, .i32⟩
  | 39 => ⟨S16, .i32⟩
  | 40 => ⟨S16, .i32⟩
  | 41 => ⟨S_, .i32⟩
  | 42 => ⟨S16, .i32⟩
  | 43 => ⟨S16, .i32⟩
  | 44 => ⟨S16, .i32⟩
  | 45 => ⟨S_, .i32⟩
  | 46 => ⟨S16, .i32⟩
  | 47 => ⟨S16, .i32⟩
  | 48 => ⟨S_, .i32⟩
  | 49 => ⟨S16, .i32⟩
  | 50 => ⟨S16, .i32⟩
  | 51 => ⟨S16, .i32⟩
  | 52 => ⟨S16, .i32⟩
  | 53 => ⟨S16, .i32⟩
  | 54 => ⟨S_, .i32⟩
  | 55 => ⟨S16, .i32⟩
  | 56 => ⟨S16, .i32⟩
  | 57 => ⟨S_, .i32⟩
  | 58 => ⟨S16, .i32⟩
  | 59 => ⟨S16, .i32⟩
  | 60 => ⟨S16, .i32⟩
  | 61 => ⟨S16, .i32⟩
  | 62 => ⟨S16, .i32⟩
  | 63 => ⟨S_, .i32⟩
  | 64 => ⟨S16, .i32⟩
  | 65 => ⟨S16, .i32⟩
  | 66 => ⟨S_, .i32⟩
  | 67 => ⟨S16, .i32⟩
  | 68 => ⟨S16, .i32⟩
  | 69 => ⟨S16, .i32⟩
  | 70 => ⟨S16, .i32⟩
  | 71 => ⟨S16, .i32⟩
  | 72 => ⟨S_, .i32⟩
  | 73 => ⟨S16, .i32⟩
  | 74 => ⟨S16, .i32⟩
  | 75 => ⟨S_, .i32⟩
  | 76 => ⟨S16, .i32⟩
  | 77 => ⟨S16, .i32⟩
  | 78 => ⟨S16, .i32⟩
  | 79 => ⟨S16, .i32⟩
  | 80 => ⟨S16, .i32⟩
  | 81 => ⟨S16, .i32⟩
  | 82 => ⟨S16, .i32⟩
  | 83 => ⟨S16, .i32⟩
  | 84 => ⟨S_, .i32⟩
  | 85 => ⟨S16, .i32⟩
  | 86 => ⟨S16, .i32⟩
  | 87 => ⟨S16, .i32⟩
  | 88 => ⟨S16, .i32⟩
  | 89 => ⟨S16, .i32⟩
  | 90 => ⟨S1x2, .i32⟩
  | 91 => ⟨S2, .i32⟩
  | 92 => ⟨S16, .i32⟩
  | 93 => ⟨S1, .i32⟩
  | 94 => ⟨S_, .i32⟩
  | 95 => ⟨S1, .i32⟩
  | 96 => ⟨S_, .i32⟩
  | 97 => ⟨S2, .i64⟩
  | 98 => ⟨S_, .i64⟩
  | 99 => ⟨S2, .i64⟩
  | 100 => ⟨S2, .i64⟩
  | 101 => ⟨S_, .i64⟩
  | 102 => ⟨S2, .i64⟩
  | 103 => ⟨S2, .i64⟩
  | 104 => ⟨S2, .i32⟩
  | 105 => ⟨S2, .i32⟩
  | 106 => ⟨S_, .i32⟩
  | 107 => ⟨S_, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S16x96x224x224, .f32⟩

abbrev hbmTy0_40 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S16x96x224x224, .f32⟩

abbrev hbmTy0_41 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S2x1, .i32⟩
  | 73 => ⟨S2x1, .i32⟩
  | 74 => ⟨S2x2, .i32⟩
  | 75 => ⟨S1x2, .i32⟩
  | 76 => ⟨S2, .i32⟩
  | 77 => ⟨S1x2, .i32⟩
  | 78 => ⟨S2, .i32⟩
  | 79 => ⟨S1, .i32⟩
  | 80 => ⟨S_, .i32⟩
  | 81 => ⟨S1, .i32⟩
  | 82 => ⟨S_, .i32⟩
  | 83 => ⟨S16, .i64⟩
  | 84 => ⟨S_, .i64⟩
  | 85 => ⟨S16, .i64⟩
  | 86 => ⟨S16, .i64⟩
  | 87 => ⟨S_, .i64⟩
  | 88 => ⟨S16, .i64⟩
  | 89 => ⟨S16, .i64⟩
  | 90 => ⟨S16, .i32⟩
  | 91 => ⟨S16, .i32⟩
  | 92 => ⟨S_, .i32⟩
  | 93 => ⟨S_, .i32⟩
  | 94 => ⟨S_, .i32⟩
  | 95 => ⟨S16, .i32⟩
  | 96 => ⟨S16, .i32⟩
  | 97 => ⟨S16, .i32⟩
  | 98 => ⟨S16, .i32⟩
  | 99 => ⟨S16, .i32⟩
  | 100 => ⟨S_, .i32⟩
  | 101 => ⟨S16, .i32⟩
  | 102 => ⟨S16, .i32⟩
  | 103 => ⟨S_, .i32⟩
  | 104 => ⟨S16, .i32⟩
  | 105 => ⟨S16, .i32⟩
  | 106 => ⟨S16, .i32⟩
  | 107 => ⟨S16, .i32⟩
  | 108 => ⟨S16, .i32⟩
  | 109 => ⟨S_, .i32⟩
  | 110 => ⟨S16, .i32⟩
  | 111 => ⟨S16, .i32⟩
  | 112 => ⟨S_, .i32⟩
  | 113 => ⟨S16, .i32⟩
  | 114 => ⟨S16, .i32⟩
  | 115 => ⟨S16, .i32⟩
  | 116 => ⟨S16, .i32⟩
  | 117 => ⟨S16, .i32⟩
  | 118 => ⟨S_, .i32⟩
  | 119 => ⟨S16, .i32⟩
  | 120 => ⟨S16, .i32⟩
  | 121 => ⟨S_, .i32⟩
  | 122 => ⟨S16, .i32⟩
  | 123 => ⟨S16, .i32⟩
  | 124 => ⟨S16, .i32⟩
  | 125 => ⟨S16, .i32⟩
  | 126 => ⟨S16, .i32⟩
  | 127 => ⟨S_, .i32⟩
  | _ => ⟨S16x96x224x224, .f32⟩

abbrev hbmTy0_42 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S16, .i32⟩
  | 6 => ⟨S16, .i32⟩
  | 7 => ⟨S16, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S16, .i32⟩
  | 15 => ⟨S_, .i32⟩
  | 16 => ⟨S16, .i32⟩
  | 17 => ⟨S16, .i32⟩
  | 18 => ⟨S_, .i32⟩
  | 19 => ⟨S16, .i32⟩
  | 20 => ⟨S16, .i32⟩
  | 21 => ⟨S16, .i32⟩
  | 22 => ⟨S16, .i32⟩
  | 23 => ⟨S16, .i32⟩
  | 24 => ⟨S_, .i32⟩
  | 25 => ⟨S16, .i32⟩
  | 26 => ⟨S16, .i32⟩
  | 27 => ⟨S_, .i32⟩
  | 28 => ⟨S16, .i32⟩
  | 29 => ⟨S16, .i32⟩
  | 30 => ⟨S16, .i32⟩
  | 31 => ⟨S16, .i32⟩
  | 32 => ⟨S16, .i32⟩
  | 33 => ⟨S_, .i32⟩
  | 34 => ⟨S16, .i32⟩
  | 35 => ⟨S16, .i32⟩
  | 36 => ⟨S_, .i32⟩
  | 37 => ⟨S16, .i32⟩
  | 38 => ⟨S16, .i32⟩
  | 39 => ⟨S16, .i32⟩
  | 40 => ⟨S16, .i32⟩
  | 41 => ⟨S16, .i32⟩
  | 42 => ⟨S_, .i32⟩
  | 43 => ⟨S16, .i32⟩
  | 44 => ⟨S16, .i32⟩
  | 45 => ⟨S_, .i32⟩
  | 46 => ⟨S16, .i32⟩
  | 47 => ⟨S16, .i32⟩
  | 48 => ⟨S16, .i32⟩
  | 49 => ⟨S16, .i32⟩
  | 50 => ⟨S16, .i32⟩
  | 51 => ⟨S16, .i32⟩
  | 52 => ⟨S16, .i32⟩
  | 53 => ⟨S16, .i32⟩
  | 54 => ⟨S_, .i32⟩
  | 55 => ⟨S16, .i32⟩
  | 56 => ⟨S16, .i32⟩
  | 57 => ⟨S16, .i32⟩
  | 58 => ⟨S_, .i32⟩
  | 59 => ⟨S16, .i32⟩
  | 60 => ⟨S16, .i32⟩
  | 61 => ⟨S_, .i32⟩
  | 62 => ⟨S16, .i32⟩
  | 63 => ⟨S16, .i32⟩
  | 64 => ⟨S16, .i32⟩
  | 65 => ⟨S16, .i32⟩
  | 66 => ⟨S16, .i32⟩
  | 67 => ⟨S_, .i32⟩
  | 68 => ⟨S16, .i32⟩
  | 69 => ⟨S16, .i32⟩
  | 70 => ⟨S_, .i32⟩
  | 71 => ⟨S16, .i32⟩
  | 72 => ⟨S16, .i32⟩
  | 73 => ⟨S16, .i32⟩
  | 74 => ⟨S16, .i32⟩
  | 75 => ⟨S16, .i32⟩
  | 76 => ⟨S_, .i32⟩
  | 77 => ⟨S16, .i32⟩
  | 78 => ⟨S16, .i32⟩
  | 79 => ⟨S_, .i32⟩
  | 80 => ⟨S16, .i32⟩
  | 81 => ⟨S16, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S_, .i32⟩
  | 89 => ⟨S16, .i32⟩
  | 90 => ⟨S16, .i32⟩
  | 91 => ⟨S16, .i32⟩
  | 92 => ⟨S16, .i32⟩
  | 93 => ⟨S16, .i32⟩
  | 94 => ⟨S16, .i32⟩
  | 95 => ⟨S16, .i32⟩
  | 96 => ⟨S16, .i32⟩
  | 97 => ⟨S_, .i32⟩
  | 98 => ⟨S16, .i32⟩
  | 99 => ⟨S16, .i32⟩
  | 100 => ⟨S16, .i32⟩
  | 101 => ⟨S_, .i32⟩
  | 102 => ⟨S16, .i32⟩
  | 103 => ⟨S16, .i32⟩
  | 104 => ⟨S_, .i32⟩
  | 105 => ⟨S16, .i32⟩
  | 106 => ⟨S16, .i32⟩
  | 107 => ⟨S16, .i32⟩
  | 108 => ⟨S16, .i32⟩
  | 109 => ⟨S16, .i32⟩
  | 110 => ⟨S_, .i32⟩
  | 111 => ⟨S16, .i32⟩
  | 112 => ⟨S16, .i32⟩
  | 113 => ⟨S_, .i32⟩
  | 114 => ⟨S16, .i32⟩
  | 115 => ⟨S16, .i32⟩
  | 116 => ⟨S16, .i32⟩
  | 117 => ⟨S16, .i32⟩
  | 118 => ⟨S16, .i32⟩
  | 119 => ⟨S_, .i32⟩
  | 120 => ⟨S16, .i32⟩
  | 121 => ⟨S16, .i32⟩
  | 122 => ⟨S_, .i32⟩
  | 123 => ⟨S16, .i32⟩
  | 124 => ⟨S16, .i32⟩
  | 125 => ⟨S16, .i32⟩
  | 126 => ⟨S16, .i32⟩
  | 127 => ⟨S16, .i32⟩
  | _ => ⟨S16x96x224x224, .f32⟩

abbrev hbmTy0_43 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i32⟩
  | 6 => ⟨S16, .i32⟩
  | 7 => ⟨S16, .i32⟩
  | 8 => ⟨S16, .i32⟩
  | 9 => ⟨S16, .i32⟩
  | 10 => ⟨S16, .i32⟩
  | 11 => ⟨S16, .i32⟩
  | 12 => ⟨S_, .i32⟩
  | 13 => ⟨S16, .i32⟩
  | 14 => ⟨S16, .i32⟩
  | 15 => ⟨S16, .i32⟩
  | 16 => ⟨S_, .i32⟩
  | 17 => ⟨S16, .i32⟩
  | 18 => ⟨S16, .i32⟩
  | 19 => ⟨S_, .i32⟩
  | 20 => ⟨S16, .i32⟩
  | 21 => ⟨S16, .i32⟩
  | 22 => ⟨S16, .i32⟩
  | 23 => ⟨S16, .i32⟩
  | 24 => ⟨S16, .i32⟩
  | 25 => ⟨S_, .i32⟩
  | 26 => ⟨S16, .i32⟩
  | 27 => ⟨S16, .i32⟩
  | 28 => ⟨S_, .i32⟩
  | 29 => ⟨S16, .i32⟩
  | 30 => ⟨S16, .i32⟩
  | 31 => ⟨S16, .i32⟩
  | 32 => ⟨S16, .i32⟩
  | 33 => ⟨S16, .i32⟩
  | 34 => ⟨S_, .i32⟩
  | 35 => ⟨S16, .i32⟩
  | 36 => ⟨S16, .i32⟩
  | 37 => ⟨S_, .i32⟩
  | 38 => ⟨S16, .i32⟩
  | 39 => ⟨S16, .i32⟩
  | 40 => ⟨S16, .i32⟩
  | 41 => ⟨S16, .i32⟩
  | 42 => ⟨S16, .i32⟩
  | 43 => ⟨S_, .i32⟩
  | 44 => ⟨S16, .i32⟩
  | 45 => ⟨S16, .i32⟩
  | 46 => ⟨S_, .i32⟩
  | 47 => ⟨S16, .i32⟩
  | 48 => ⟨S16, .i32⟩
  | 49 => ⟨S16, .i32⟩
  | 50 => ⟨S16, .i32⟩
  | 51 => ⟨S16, .i32⟩
  | 52 => ⟨S16, .i32⟩
  | 53 => ⟨S16, .i32⟩
  | 54 => ⟨S16, .i32⟩
  | 55 => ⟨S_, .i32⟩
  | 56 => ⟨S16, .i32⟩
  | 57 => ⟨S16, .i32⟩
  | 58 => ⟨S16, .i32⟩
  | 59 => ⟨S16, .i32⟩
  | 60 => ⟨S16, .i32⟩
  | 61 => ⟨S1x2, .i32⟩
  | 62 => ⟨S2, .i32⟩
  | 63 => ⟨S16, .i32⟩
  | 64 => ⟨S1, .i32⟩
  | 65 => ⟨S_, .i32⟩
  | 66 => ⟨S1, .i32⟩
  | 67 => ⟨S_, .i32⟩
  | 68 => ⟨S2, .i64⟩
  | 69 => ⟨S_, .i64⟩
  | 70 => ⟨S2, .i64⟩
  | 71 => ⟨S2, .i64⟩
  | 72 => ⟨S_, .i64⟩
  | 73 => ⟨S2, .i64⟩
  | 74 => ⟨S2, .i64⟩
  | 75 => ⟨S2, .i32⟩
  | 76 => ⟨S2, .i32⟩
  | 77 => ⟨S_, .i32⟩
  | 78 => ⟨S_, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S16x96x224x224, .f32⟩

abbrev hbmTy0_44 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_45 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2x1, .i32⟩
  | 44 => ⟨S2x1, .i32⟩
  | 45 => ⟨S2x2, .i32⟩
  | 46 => ⟨S1x2, .i32⟩
  | 47 => ⟨S2, .i32⟩
  | 48 => ⟨S1x2, .i32⟩
  | 49 => ⟨S2, .i32⟩
  | 50 => ⟨S1, .i32⟩
  | 51 => ⟨S_, .i32⟩
  | 52 => ⟨S1, .i32⟩
  | 53 => ⟨S_, .i32⟩
  | 54 => ⟨S16, .i64⟩
  | 55 => ⟨S_, .i64⟩
  | 56 => ⟨S16, .i64⟩
  | 57 => ⟨S16, .i64⟩
  | 58 => ⟨S_, .i64⟩
  | 59 => ⟨S16, .i64⟩
  | 60 => ⟨S16, .i64⟩
  | 61 => ⟨S16, .i32⟩
  | 62 => ⟨S16, .i32⟩
  | 63 => ⟨S_, .i32⟩
  | 64 => ⟨S_, .i32⟩
  | 65 => ⟨S_, .i32⟩
  | 66 => ⟨S16, .i32⟩
  | 67 => ⟨S16, .i32⟩
  | 68 => ⟨S16, .i32⟩
  | 69 => ⟨S16, .i32⟩
  | 70 => ⟨S16, .i32⟩
  | 71 => ⟨S_, .i32⟩
  | 72 => ⟨S16, .i32⟩
  | 73 => ⟨S16, .i32⟩
  | 74 => ⟨S_, .i32⟩
  | 75 => ⟨S16, .i32⟩
  | 76 => ⟨S16, .i32⟩
  | 77 => ⟨S16, .i32⟩
  | 78 => ⟨S16, .i32⟩
  | 79 => ⟨S16, .i32⟩
  | 80 => ⟨S_, .i32⟩
  | 81 => ⟨S16, .i32⟩
  | 82 => ⟨S16, .i32⟩
  | 83 => ⟨S_, .i32⟩
  | 84 => ⟨S16, .i32⟩
  | 85 => ⟨S16, .i32⟩
  | 86 => ⟨S16, .i32⟩
  | 87 => ⟨S16, .i32⟩
  | 88 => ⟨S16, .i32⟩
  | 89 => ⟨S_, .i32⟩
  | 90 => ⟨S16, .i32⟩
  | 91 => ⟨S16, .i32⟩
  | 92 => ⟨S_, .i32⟩
  | 93 => ⟨S16, .i32⟩
  | 94 => ⟨S16, .i32⟩
  | 95 => ⟨S16, .i32⟩
  | 96 => ⟨S16, .i32⟩
  | 97 => ⟨S16, .i32⟩
  | 98 => ⟨S_, .i32⟩
  | 99 => ⟨S16, .i32⟩
  | 100 => ⟨S16, .i32⟩
  | 101 => ⟨S_, .i32⟩
  | 102 => ⟨S16, .i32⟩
  | 103 => ⟨S16, .i32⟩
  | 104 => ⟨S16, .i32⟩
  | 105 => ⟨S16, .i32⟩
  | 106 => ⟨S16, .i32⟩
  | 107 => ⟨S16, .i32⟩
  | 108 => ⟨S16, .i32⟩
  | 109 => ⟨S16, .i32⟩
  | 110 => ⟨S_, .i32⟩
  | 111 => ⟨S16, .i32⟩
  | 112 => ⟨S16, .i32⟩
  | 113 => ⟨S16, .i32⟩
  | 114 => ⟨S_, .i32⟩
  | 115 => ⟨S16, .i32⟩
  | 116 => ⟨S16, .i32⟩
  | 117 => ⟨S_, .i32⟩
  | 118 => ⟨S16, .i32⟩
  | 119 => ⟨S16, .i32⟩
  | 120 => ⟨S16, .i32⟩
  | 121 => ⟨S16, .i32⟩
  | 122 => ⟨S16, .i32⟩
  | 123 => ⟨S_, .i32⟩
  | 124 => ⟨S16, .i32⟩
  | 125 => ⟨S16, .i32⟩
  | 126 => ⟨S_, .i32⟩
  | 127 => ⟨S16, .i32⟩
  | _ => ⟨S16x96x224x224, .f32⟩

abbrev hbmTy0_46 (i : Nat) : BufTy := match i % 128 with
  | 0 => ⟨S16, .i32⟩
  | 1 => ⟨S16, .i32⟩
  | 2 => ⟨S16, .i32⟩
  | 3 => ⟨S16, .i32⟩
  | 4 => ⟨S_, .i32⟩
  | 5 => ⟨S16, .i32⟩
  | 6 => ⟨S16, .i32⟩
  | 7 => ⟨S_, .i32⟩
  | 8 => ⟨S16, .i32⟩
  | 9 => ⟨S16, .i32⟩
  | 10 => ⟨S16, .i32⟩
  | 11 => ⟨S16, .i32⟩
  | 12 => ⟨S16, .i32⟩
  | 13 => ⟨S_, .i32⟩
  | 14 => ⟨S16, .i32⟩
  | 15 => ⟨S16, .i32⟩
  | 16 => ⟨S_, .i32⟩
  | 17 => ⟨S16, .i32⟩
  | 18 => ⟨S16, .i32⟩
  | 19 => ⟨S16, .i32⟩
  | 20 => ⟨S16, .i32⟩
  | 21 => ⟨S16, .i32⟩
  | 22 => ⟨S16, .i32⟩
  | 23 => ⟨S16, .i32⟩
  | 24 => ⟨S16, .i32⟩
  | 25 => ⟨S_, .i32⟩
  | 26 => ⟨S16, .i32⟩
  | 27 => ⟨S16, .i32⟩
  | 28 => ⟨S16, .i32⟩
  | 29 => ⟨S_, .i32⟩
  | 30 => ⟨S16, .i32⟩
  | 31 => ⟨S16, .i32⟩
  | 32 => ⟨S_, .i32⟩
  | 33 => ⟨S16, .i32⟩
  | 34 => ⟨S16, .i32⟩
  | 35 => ⟨S16, .i32⟩
  | 36 => ⟨S16, .i32⟩
  | 37 => ⟨S16, .i32⟩
  | 38 => ⟨S_, .i32⟩
  | 39 => ⟨S16, .i32⟩
  | 40 => ⟨S16, .i32⟩
  | 41 => ⟨S_, .i32⟩
  | 42 => ⟨S16, .i32⟩
  | 43 => ⟨S16, .i32⟩
  | 44 => ⟨S16, .i32⟩
  | 45 => ⟨S16, .i32⟩
  | 46 => ⟨S16, .i32⟩
  | 47 => ⟨S_, .i32⟩
  | 48 => ⟨S16, .i32⟩
  | 49 => ⟨S16, .i32⟩
  | 50 => ⟨S_, .i32⟩
  | 51 => ⟨S16, .i32⟩
  | 52 => ⟨S16, .i32⟩
  | 53 => ⟨S16, .i32⟩
  | 54 => ⟨S16, .i32⟩
  | 55 => ⟨S16, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .i32⟩
  | 63 => ⟨S16, .i32⟩
  | 64 => ⟨S16, .i32⟩
  | 65 => ⟨S16, .i32⟩
  | 66 => ⟨S16, .i32⟩
  | 67 => ⟨S16, .i32⟩
  | 68 => ⟨S_, .i32⟩
  | 69 => ⟨S16, .i32⟩
  | 70 => ⟨S16, .i32⟩
  | 71 => ⟨S16, .i32⟩
  | 72 => ⟨S_, .i32⟩
  | 73 => ⟨S16, .i32⟩
  | 74 => ⟨S16, .i32⟩
  | 75 => ⟨S_, .i32⟩
  | 76 => ⟨S16, .i32⟩
  | 77 => ⟨S16, .i32⟩
  | 78 => ⟨S16, .i32⟩
  | 79 => ⟨S16, .i32⟩
  | 80 => ⟨S16, .i32⟩
  | 81 => ⟨S_, .i32⟩
  | 82 => ⟨S16, .i32⟩
  | 83 => ⟨S16, .i32⟩
  | 84 => ⟨S_, .i32⟩
  | 85 => ⟨S16, .i32⟩
  | 86 => ⟨S16, .i32⟩
  | 87 => ⟨S16, .i32⟩
  | 88 => ⟨S16, .i32⟩
  | 89 => ⟨S16, .i32⟩
  | 90 => ⟨S_, .i32⟩
  | 91 => ⟨S16, .i32⟩
  | 92 => ⟨S16, .i32⟩
  | 93 => ⟨S_, .i32⟩
  | 94 => ⟨S16, .i32⟩
  | 95 => ⟨S16, .i32⟩
  | 96 => ⟨S16, .i32⟩
  | 97 => ⟨S16, .i32⟩
  | 98 => ⟨S16, .i32⟩
  | 99 => ⟨S_, .i32⟩
  | 100 => ⟨S16, .i32⟩
  | 101 => ⟨S16, .i32⟩
  | 102 => ⟨S_, .i32⟩
  | 103 => ⟨S16, .i32⟩
  | 104 => ⟨S16, .i32⟩
  | 105 => ⟨S16, .i32⟩
  | 106 => ⟨S16, .i32⟩
  | 107 => ⟨S16, .i32⟩
  | 108 => ⟨S16, .i32⟩
  | 109 => ⟨S16, .i32⟩
  | 110 => ⟨S16, .i32⟩
  | 111 => ⟨S_, .i32⟩
  | 112 => ⟨S16, .i32⟩
  | 113 => ⟨S16, .i32⟩
  | 114 => ⟨S16, .i32⟩
  | 115 => ⟨S_, .i32⟩
  | 116 => ⟨S16, .i32⟩
  | 117 => ⟨S16, .i32⟩
  | 118 => ⟨S_, .i32⟩
  | 119 => ⟨S16, .i32⟩
  | 120 => ⟨S16, .i32⟩
  | 121 => ⟨S16, .i32⟩
  | 122 => ⟨S16, .i32⟩
  | 123 => ⟨S16, .i32⟩
  | 124 => ⟨S_, .i32⟩
  | 125 => ⟨S16, .i32⟩
  | 126 => ⟨S16, .i32⟩
  | 127 => ⟨S_, .i32⟩
  | _ => ⟨S16x96x224x224, .f32⟩

abbrev hbmTy0_47 (i : Nat) : BufTy := match i % 128 with
  | 0 => ⟨S16, .i32⟩
  | 1 => ⟨S16, .i32⟩
  | 2 => ⟨S16, .i32⟩
  | 3 => ⟨S16, .i32⟩
  | 4 => ⟨S16, .i32⟩
  | 5 => ⟨S_, .i32⟩
  | 6 => ⟨S16, .i32⟩
  | 7 => ⟨S16, .i32⟩
  | 8 => ⟨S_, .i32⟩
  | 9 => ⟨S16, .i32⟩
  | 10 => ⟨S16, .i32⟩
  | 11 => ⟨S16, .i32⟩
  | 12 => ⟨S16, .i32⟩
  | 13 => ⟨S16, .i32⟩
  | 14 => ⟨S_, .i32⟩
  | 15 => ⟨S16, .i32⟩
  | 16 => ⟨S16, .i32⟩
  | 17 => ⟨S_, .i32⟩
  | 18 => ⟨S16, .i32⟩
  | 19 => ⟨S16, .i32⟩
  | 20 => ⟨S16, .i32⟩
  | 21 => ⟨S16, .i32⟩
  | 22 => ⟨S16, .i32⟩
  | 23 => ⟨S16, .i32⟩
  | 24 => ⟨S16, .i32⟩
  | 25 => ⟨S16, .i32⟩
  | 26 => ⟨S_, .i32⟩
  | 27 => ⟨S16, .i32⟩
  | 28 => ⟨S16, .i32⟩
  | 29 => ⟨S16, .i32⟩
  | 30 => ⟨S16, .i32⟩
  | 31 => ⟨S16, .i32⟩
  | 32 => ⟨S1x2, .i32⟩
  | 33 => ⟨S2, .i32⟩
  | 34 => ⟨S16, .i32⟩
  | 35 => ⟨S1, .i32⟩
  | 36 => ⟨S_, .i32⟩
  | 37 => ⟨S1, .i32⟩
  | 38 => ⟨S_, .i32⟩
  | 39 => ⟨S2, .i64⟩
  | 40 => ⟨S_, .i64⟩
  | 41 => ⟨S2, .i64⟩
  | 42 => ⟨S2, .i64⟩
  | 43 => ⟨S_, .i64⟩
  | 44 => ⟨S2, .i64⟩
  | 45 => ⟨S2, .i64⟩
  | 46 => ⟨S2, .i32⟩
  | 47 => ⟨S2, .i32⟩
  | 48 => ⟨S_, .i32⟩
  | 49 => ⟨S_, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x96x224x224, .f32⟩

abbrev hbmTy0_48 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16x96x224x224, .f32⟩

abbrev hbmTy0_49 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S2x1, .i32⟩
  | 15 => ⟨S2x1, .i32⟩
  | 16 => ⟨S2x2, .i32⟩
  | 17 => ⟨S1x2, .i32⟩
  | 18 => ⟨S2, .i32⟩
  | 19 => ⟨S1x2, .i32⟩
  | 20 => ⟨S2, .i32⟩
  | 21 => ⟨S1, .i32⟩
  | 22 => ⟨S_, .i32⟩
  | 23 => ⟨S1, .i32⟩
  | 24 => ⟨S_, .i32⟩
  | 25 => ⟨S16, .i64⟩
  | 26 => ⟨S_, .i64⟩
  | 27 => ⟨S16, .i64⟩
  | 28 => ⟨S16, .i64⟩
  | 29 => ⟨S_, .i64⟩
  | 30 => ⟨S16, .i64⟩
  | 31 => ⟨S16, .i64⟩
  | 32 => ⟨S16, .i32⟩
  | 33 => ⟨S16, .i32⟩
  | 34 => ⟨S_, .i32⟩
  | 35 => ⟨S_, .i32⟩
  | 36 => ⟨S_, .i32⟩
  | 37 => ⟨S16, .i32⟩
  | 38 => ⟨S16, .i32⟩
  | 39 => ⟨S16, .i32⟩
  | 40 => ⟨S16, .i32⟩
  | 41 => ⟨S16, .i32⟩
  | 42 => ⟨S_, .i32⟩
  | 43 => ⟨S16, .i32⟩
  | 44 => ⟨S16, .i32⟩
  | 45 => ⟨S_, .i32⟩
  | 46 => ⟨S16, .i32⟩
  | 47 => ⟨S16, .i32⟩
  | 48 => ⟨S16, .i32⟩
  | 49 => ⟨S16, .i32⟩
  | 50 => ⟨S16, .i32⟩
  | 51 => ⟨S_, .i32⟩
  | 52 => ⟨S16, .i32⟩
  | 53 => ⟨S16, .i32⟩
  | 54 => ⟨S_, .i32⟩
  | 55 => ⟨S16, .i32⟩
  | 56 => ⟨S16, .i32⟩
  | 57 => ⟨S16, .i32⟩
  | 58 => ⟨S16, .i32⟩
  | 59 => ⟨S16, .i32⟩
  | 60 => ⟨S_, .i32⟩
  | 61 => ⟨S16, .i32⟩
  | 62 => ⟨S16, .i32⟩
  | 63 => ⟨S_, .i32⟩
  | 64 => ⟨S16, .i32⟩
  | 65 => ⟨S16, .i32⟩
  | 66 => ⟨S16, .i32⟩
  | 67 => ⟨S16, .i32⟩
  | 68 => ⟨S16, .i32⟩
  | 69 => ⟨S_, .i32⟩
  | 70 => ⟨S16, .i32⟩
  | 71 => ⟨S16, .i32⟩
  | 72 => ⟨S_, .i32⟩
  | 73 => ⟨S16, .i32⟩
  | 74 => ⟨S16, .i32⟩
  | 75 => ⟨S16, .i32⟩
  | 76 => ⟨S16, .i32⟩
  | 77 => ⟨S16, .i32⟩
  | 78 => ⟨S16, .i32⟩
  | 79 => ⟨S16, .i32⟩
  | 80 => ⟨S16, .i32⟩
  | 81 => ⟨S_, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S_, .i32⟩
  | 89 => ⟨S16, .i32⟩
  | 90 => ⟨S16, .i32⟩
  | 91 => ⟨S16, .i32⟩
  | 92 => ⟨S16, .i32⟩
  | 93 => ⟨S16, .i32⟩
  | 94 => ⟨S_, .i32⟩
  | 95 => ⟨S16, .i32⟩
  | 96 => ⟨S16, .i32⟩
  | 97 => ⟨S_, .i32⟩
  | 98 => ⟨S16, .i32⟩
  | 99 => ⟨S16, .i32⟩
  | 100 => ⟨S16, .i32⟩
  | 101 => ⟨S16, .i32⟩
  | 102 => ⟨S16, .i32⟩
  | 103 => ⟨S_, .i32⟩
  | 104 => ⟨S16, .i32⟩
  | 105 => ⟨S16, .i32⟩
  | 106 => ⟨S_, .i32⟩
  | 107 => ⟨S16, .i32⟩
  | 108 => ⟨S16, .i32⟩
  | 109 => ⟨S16, .i32⟩
  | 110 => ⟨S16, .i32⟩
  | 111 => ⟨S16, .i32⟩
  | 112 => ⟨S_, .i32⟩
  | 113 => ⟨S16, .i32⟩
  | 114 => ⟨S16, .i32⟩
  | 115 => ⟨S_, .i32⟩
  | 116 => ⟨S16, .i32⟩
  | 117 => ⟨S16, .i32⟩
  | 118 => ⟨S16, .i32⟩
  | 119 => ⟨S16, .i32⟩
  | 120 => ⟨S16, .i32⟩
  | 121 => ⟨S16, .i32⟩
  | 122 => ⟨S16, .i32⟩
  | 123 => ⟨S16, .i32⟩
  | 124 => ⟨S_, .i32⟩
  | 125 => ⟨S16, .i32⟩
  | 126 => ⟨S16, .i32⟩
  | 127 => ⟨S16, .i32⟩
  | _ => ⟨S16x96x224x224, .f32⟩

abbrev hbmTy0_50 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i32⟩
  | 6 => ⟨S16, .i32⟩
  | 7 => ⟨S16, .i32⟩
  | 8 => ⟨S16, .i32⟩
  | 9 => ⟨S_, .i32⟩
  | 10 => ⟨S16, .i32⟩
  | 11 => ⟨S16, .i32⟩
  | 12 => ⟨S_, .i32⟩
  | 13 => ⟨S16, .i32⟩
  | 14 => ⟨S16, .i32⟩
  | 15 => ⟨S16, .i32⟩
  | 16 => ⟨S16, .i32⟩
  | 17 => ⟨S16, .i32⟩
  | 18 => ⟨S_, .i32⟩
  | 19 => ⟨S16, .i32⟩
  | 20 => ⟨S16, .i32⟩
  | 21 => ⟨S_, .i32⟩
  | 22 => ⟨S16, .i32⟩
  | 23 => ⟨S16, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S16, .i32⟩
  | 34 => ⟨S16, .i32⟩
  | 35 => ⟨S16, .i32⟩
  | 36 => ⟨S16, .i32⟩
  | 37 => ⟨S16, .i32⟩
  | 38 => ⟨S16, .i32⟩
  | 39 => ⟨S_, .i32⟩
  | 40 => ⟨S16, .i32⟩
  | 41 => ⟨S16, .i32⟩
  | 42 => ⟨S16, .i32⟩
  | 43 => ⟨S_, .i32⟩
  | 44 => ⟨S16, .i32⟩
  | 45 => ⟨S16, .i32⟩
  | 46 => ⟨S_, .i32⟩
  | 47 => ⟨S16, .i32⟩
  | 48 => ⟨S16, .i32⟩
  | 49 => ⟨S16, .i32⟩
  | 50 => ⟨S16, .i32⟩
  | 51 => ⟨S16, .i32⟩
  | 52 => ⟨S_, .i32⟩
  | 53 => ⟨S16, .i32⟩
  | 54 => ⟨S16, .i32⟩
  | 55 => ⟨S_, .i32⟩
  | 56 => ⟨S16, .i32⟩
  | 57 => ⟨S16, .i32⟩
  | 58 => ⟨S16, .i32⟩
  | 59 => ⟨S16, .i32⟩
  | 60 => ⟨S16, .i32⟩
  | 61 => ⟨S_, .i32⟩
  | 62 => ⟨S16, .i32⟩
  | 63 => ⟨S16, .i32⟩
  | 64 => ⟨S_, .i32⟩
  | 65 => ⟨S16, .i32⟩
  | 66 => ⟨S16, .i32⟩
  | 67 => ⟨S16, .i32⟩
  | 68 => ⟨S16, .i32⟩
  | 69 => ⟨S16, .i32⟩
  | 70 => ⟨S_, .i32⟩
  | 71 => ⟨S16, .i32⟩
  | 72 => ⟨S16, .i32⟩
  | 73 => ⟨S_, .i32⟩
  | 74 => ⟨S16, .i32⟩
  | 75 => ⟨S16, .i32⟩
  | 76 => ⟨S16, .i32⟩
  | 77 => ⟨S16, .i32⟩
  | 78 => ⟨S16, .i32⟩
  | 79 => ⟨S16, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S_, .i32⟩
  | 87 => ⟨S16, .i32⟩
  | 88 => ⟨S16, .i32⟩
  | 89 => ⟨S_, .i32⟩
  | 90 => ⟨S16, .i32⟩
  | 91 => ⟨S16, .i32⟩
  | 92 => ⟨S16, .i32⟩
  | 93 => ⟨S16, .i32⟩
  | 94 => ⟨S16, .i32⟩
  | 95 => ⟨S_, .i32⟩
  | 96 => ⟨S16, .i32⟩
  | 97 => ⟨S16, .i32⟩
  | 98 => ⟨S_, .i32⟩
  | 99 => ⟨S16, .i32⟩
  | 100 => ⟨S16, .i32⟩
  | 101 => ⟨S16, .i32⟩
  | 102 => ⟨S16, .i32⟩
  | 103 => ⟨S16, .i32⟩
  | 104 => ⟨S_, .i32⟩
  | 105 => ⟨S16, .i32⟩
  | 106 => ⟨S16, .i32⟩
  | 107 => ⟨S_, .i32⟩
  | 108 => ⟨S16, .i32⟩
  | 109 => ⟨S16, .i32⟩
  | 110 => ⟨S16, .i32⟩
  | 111 => ⟨S16, .i32⟩
  | 112 => ⟨S16, .i32⟩
  | 113 => ⟨S_, .i32⟩
  | 114 => ⟨S16, .i32⟩
  | 115 => ⟨S16, .i32⟩
  | 116 => ⟨S_, .i32⟩
  | 117 => ⟨S16, .i32⟩
  | 118 => ⟨S16, .i32⟩
  | 119 => ⟨S16, .i32⟩
  | 120 => ⟨S16, .i32⟩
  | 121 => ⟨S16, .i32⟩
  | 122 => ⟨S16, .i32⟩
  | 123 => ⟨S16, .i32⟩
  | 124 => ⟨S16, .i32⟩
  | 125 => ⟨S_, .i32⟩
  | 126 => ⟨S16, .i32⟩
  | 127 => ⟨S16, .i32⟩
  | _ => ⟨S16x96x224x224, .f32⟩

abbrev hbmTy0_51 (i : Nat) : BufTy := match i % 128 with
  | 0 => ⟨S16, .i32⟩
  | 1 => ⟨S16, .i32⟩
  | 2 => ⟨S16, .i32⟩
  | 3 => ⟨S1x2, .i32⟩
  | 4 => ⟨S2, .i32⟩
  | 5 => ⟨S16, .i32⟩
  | 6 => ⟨S1, .i32⟩
  | 7 => ⟨S_, .i32⟩
  | 8 => ⟨S1, .i32⟩
  | 9 => ⟨S_, .i32⟩
  | 10 => ⟨S2, .i64⟩
  | 11 => ⟨S_, .i64⟩
  | 12 => ⟨S2, .i64⟩
  | 13 => ⟨S2, .i64⟩
  | 14 => ⟨S_, .i64⟩
  | 15 => ⟨S2, .i64⟩
  | 16 => ⟨S2, .i64⟩
  | 17 => ⟨S2, .i32⟩
  | 18 => ⟨S2, .i32⟩
  | 19 => ⟨S_, .i32⟩
  | 20 => ⟨S_, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_52 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S2x1, .i32⟩
  | 114 => ⟨S2x1, .i32⟩
  | 115 => ⟨S2x2, .i32⟩
  | 116 => ⟨S1x2, .i32⟩
  | 117 => ⟨S2, .i32⟩
  | 118 => ⟨S1x2, .i32⟩
  | 119 => ⟨S2, .i32⟩
  | 120 => ⟨S1, .i32⟩
  | 121 => ⟨S_, .i32⟩
  | 122 => ⟨S1, .i32⟩
  | 123 => ⟨S_, .i32⟩
  | 124 => ⟨S16, .i64⟩
  | 125 => ⟨S_, .i64⟩
  | 126 => ⟨S16, .i64⟩
  | 127 => ⟨S16, .i64⟩
  | _ => ⟨S16x96x224x224, .f32⟩

abbrev hbmTy0_53 (i : Nat) : BufTy := match i % 128 with
  | 0 => ⟨S_, .i64⟩
  | 1 => ⟨S16, .i64⟩
  | 2 => ⟨S16, .i64⟩
  | 3 => ⟨S16, .i32⟩
  | 4 => ⟨S16, .i32⟩
  | 5 => ⟨S_, .i32⟩
  | 6 => ⟨S_, .i32⟩
  | 7 => ⟨S_, .i32⟩
  | 8 => ⟨S16, .i32⟩
  | 9 => ⟨S16, .i32⟩
  | 10 => ⟨S16, .i32⟩
  | 11 => ⟨S16, .i32⟩
  | 12 => ⟨S16, .i32⟩
  | 13 => ⟨S_, .i32⟩
  | 14 => ⟨S16, .i32⟩
  | 15 => ⟨S16, .i32⟩
  | 16 => ⟨S_, .i32⟩
  | 17 => ⟨S16, .i32⟩
  | 18 => ⟨S16, .i32⟩
  | 19 => ⟨S16, .i32⟩
  | 20 => ⟨S16, .i32⟩
  | 21 => ⟨S16, .i32⟩
  | 22 => ⟨S_, .i32⟩
  | 23 => ⟨S16, .i32⟩
  | 24 => ⟨S16, .i32⟩
  | 25 => ⟨S_, .i32⟩
  | 26 => ⟨S16, .i32⟩
  | 27 => ⟨S16, .i32⟩
  | 28 => ⟨S16, .i32⟩
  | 29 => ⟨S16, .i32⟩
  | 30 => ⟨S16, .i32⟩
  | 31 => ⟨S_, .i32⟩
  | 32 => ⟨S16, .i32⟩
  | 33 => ⟨S16, .i32⟩
  | 34 => ⟨S_, .i32⟩
  | 35 => ⟨S16, .i32⟩
  | 36 => ⟨S16, .i32⟩
  | 37 => ⟨S16, .i32⟩
  | 38 => ⟨S16, .i32⟩
  | 39 => ⟨S16, .i32⟩
  | 40 => ⟨S_, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S16, .i32⟩
  | 48 => ⟨S16, .i32⟩
  | 49 => ⟨S16, .i32⟩
  | 50 => ⟨S16, .i32⟩
  | 51 => ⟨S16, .i32⟩
  | 52 => ⟨S_, .i32⟩
  | 53 => ⟨S16, .i32⟩
  | 54 => ⟨S16, .i32⟩
  | 55 => ⟨S16, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .i32⟩
  | 63 => ⟨S16, .i32⟩
  | 64 => ⟨S16, .i32⟩
  | 65 => ⟨S_, .i32⟩
  | 66 => ⟨S16, .i32⟩
  | 67 => ⟨S16, .i32⟩
  | 68 => ⟨S_, .i32⟩
  | 69 => ⟨S16, .i32⟩
  | 70 => ⟨S16, .i32⟩
  | 71 => ⟨S16, .i32⟩
  | 72 => ⟨S16, .i32⟩
  | 73 => ⟨S16, .i32⟩
  | 74 => ⟨S_, .i32⟩
  | 75 => ⟨S16, .i32⟩
  | 76 => ⟨S16, .i32⟩
  | 77 => ⟨S_, .i32⟩
  | 78 => ⟨S16, .i32⟩
  | 79 => ⟨S16, .i32⟩
  | 80 => ⟨S16, .i32⟩
  | 81 => ⟨S16, .i32⟩
  | 82 => ⟨S16, .i32⟩
  | 83 => ⟨S_, .i32⟩
  | 84 => ⟨S16, .i32⟩
  | 85 => ⟨S16, .i32⟩
  | 86 => ⟨S_, .i32⟩
  | 87 => ⟨S16, .i32⟩
  | 88 => ⟨S16, .i32⟩
  | 89 => ⟨S16, .i32⟩
  | 90 => ⟨S16, .i32⟩
  | 91 => ⟨S16, .i32⟩
  | 92 => ⟨S16, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S_, .i32⟩
  | 100 => ⟨S16, .i32⟩
  | 101 => ⟨S16, .i32⟩
  | 102 => ⟨S_, .i32⟩
  | 103 => ⟨S16, .i32⟩
  | 104 => ⟨S16, .i32⟩
  | 105 => ⟨S16, .i32⟩
  | 106 => ⟨S16, .i32⟩
  | 107 => ⟨S16, .i32⟩
  | 108 => ⟨S_, .i32⟩
  | 109 => ⟨S16, .i32⟩
  | 110 => ⟨S16, .i32⟩
  | 111 => ⟨S_, .i32⟩
  | 112 => ⟨S16, .i32⟩
  | 113 => ⟨S16, .i32⟩
  | 114 => ⟨S16, .i32⟩
  | 115 => ⟨S16, .i32⟩
  | 116 => ⟨S16, .i32⟩
  | 117 => ⟨S_, .i32⟩
  | 118 => ⟨S16, .i32⟩
  | 119 => ⟨S16, .i32⟩
  | 120 => ⟨S_, .i32⟩
  | 121 => ⟨S16, .i32⟩
  | 122 => ⟨S16, .i32⟩
  | 123 => ⟨S16, .i32⟩
  | 124 => ⟨S16, .i32⟩
  | 125 => ⟨S16, .i32⟩
  | 126 => ⟨S_, .i32⟩
  | 127 => ⟨S16, .i32⟩
  | _ => ⟨S16x96x224x224, .f32⟩

abbrev hbmTy0_54 (i : Nat) : BufTy := match i % 128 with
  | 0 => ⟨S16, .i32⟩
  | 1 => ⟨S_, .i32⟩
  | 2 => ⟨S16, .i32⟩
  | 3 => ⟨S16, .i32⟩
  | 4 => ⟨S16, .i32⟩
  | 5 => ⟨S16, .i32⟩
  | 6 => ⟨S16, .i32⟩
  | 7 => ⟨S16, .i32⟩
  | 8 => ⟨S16, .i32⟩
  | 9 => ⟨S16, .i32⟩
  | 10 => ⟨S_, .i32⟩
  | 11 => ⟨S16, .i32⟩
  | 12 => ⟨S16, .i32⟩
  | 13 => ⟨S16, .i32⟩
  | 14 => ⟨S_, .i32⟩
  | 15 => ⟨S16, .i32⟩
  | 16 => ⟨S16, .i32⟩
  | 17 => ⟨S_, .i32⟩
  | 18 => ⟨S16, .i32⟩
  | 19 => ⟨S16, .i32⟩
  | 20 => ⟨S16, .i32⟩
  | 21 => ⟨S16, .i32⟩
  | 22 => ⟨S16, .i32⟩
  | 23 => ⟨S_, .i32⟩
  | 24 => ⟨S16, .i32⟩
  | 25 => ⟨S16, .i32⟩
  | 26 => ⟨S_, .i32⟩
  | 27 => ⟨S16, .i32⟩
  | 28 => ⟨S16, .i32⟩
  | 29 => ⟨S16, .i32⟩
  | 30 => ⟨S16, .i32⟩
  | 31 => ⟨S16, .i32⟩
  | 32 => ⟨S_, .i32⟩
  | 33 => ⟨S16, .i32⟩
  | 34 => ⟨S16, .i32⟩
  | 35 => ⟨S_, .i32⟩
  | 36 => ⟨S16, .i32⟩
  | 37 => ⟨S16, .i32⟩
  | 38 => ⟨S16, .i32⟩
  | 39 => ⟨S16, .i32⟩
  | 40 => ⟨S16, .i32⟩
  | 41 => ⟨S_, .i32⟩
  | 42 => ⟨S16, .i32⟩
  | 43 => ⟨S16, .i32⟩
  | 44 => ⟨S_, .i32⟩
  | 45 => ⟨S16, .i32⟩
  | 46 => ⟨S16, .i32⟩
  | 47 => ⟨S16, .i32⟩
  | 48 => ⟨S16, .i32⟩
  | 49 => ⟨S16, .i32⟩
  | 50 => ⟨S16, .i32⟩
  | 51 => ⟨S16, .i32⟩
  | 52 => ⟨S16, .i32⟩
  | 53 => ⟨S_, .i32⟩
  | 54 => ⟨S16, .i32⟩
  | 55 => ⟨S16, .i32⟩
  | 56 => ⟨S16, .i32⟩
  | 57 => ⟨S_, .i32⟩
  | 58 => ⟨S16, .i32⟩
  | 59 => ⟨S16, .i32⟩
  | 60 => ⟨S_, .i32⟩
  | 61 => ⟨S16, .i32⟩
  | 62 => ⟨S16, .i32⟩
  | 63 => ⟨S16, .i32⟩
  | 64 => ⟨S16, .i32⟩
  | 65 => ⟨S16, .i32⟩
  | 66 => ⟨S_, .i32⟩
  | 67 => ⟨S16, .i32⟩
  | 68 => ⟨S16, .i32⟩
  | 69 => ⟨S_, .i32⟩
  | 70 => ⟨S16, .i32⟩
  | 71 => ⟨S16, .i32⟩
  | 72 => ⟨S16, .i32⟩
  | 73 => ⟨S16, .i32⟩
  | 74 => ⟨S16, .i32⟩
  | 75 => ⟨S_, .i32⟩
  | 76 => ⟨S16, .i32⟩
  | 77 => ⟨S16, .i32⟩
  | 78 => ⟨S_, .i32⟩
  | 79 => ⟨S16, .i32⟩
  | 80 => ⟨S16, .i32⟩
  | 81 => ⟨S16, .i32⟩
  | 82 => ⟨S16, .i32⟩
  | 83 => ⟨S16, .i32⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S16, .i32⟩
  | 91 => ⟨S16, .i32⟩
  | 92 => ⟨S16, .i32⟩
  | 93 => ⟨S16, .i32⟩
  | 94 => ⟨S16, .i32⟩
  | 95 => ⟨S16, .i32⟩
  | 96 => ⟨S_, .i32⟩
  | 97 => ⟨S16, .i32⟩
  | 98 => ⟨S16, .i32⟩
  | 99 => ⟨S16, .i32⟩
  | 100 => ⟨S16, .i32⟩
  | 101 => ⟨S16, .i32⟩
  | 102 => ⟨S1x2, .i32⟩
  | 103 => ⟨S2, .i32⟩
  | 104 => ⟨S16, .i32⟩
  | 105 => ⟨S1, .i32⟩
  | 106 => ⟨S_, .i32⟩
  | 107 => ⟨S1, .i32⟩
  | 108 => ⟨S_, .i32⟩
  | 109 => ⟨S2, .i64⟩
  | 110 => ⟨S_, .i64⟩
  | 111 => ⟨S2, .i64⟩
  | 112 => ⟨S2, .i64⟩
  | 113 => ⟨S_, .i64⟩
  | 114 => ⟨S2, .i64⟩
  | 115 => ⟨S2, .i64⟩
  | 116 => ⟨S2, .i32⟩
  | 117 => ⟨S2, .i32⟩
  | 118 => ⟨S_, .i32⟩
  | 119 => ⟨S_, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x96x224x224, .f32⟩

abbrev hbmTy0_55 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S_, .i32⟩
  | _ => ⟨S16x96x224x224, .f32⟩

abbrev hbmTy0_56 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S2x1, .i32⟩
  | 85 => ⟨S2x1, .i32⟩
  | 86 => ⟨S2x2, .i32⟩
  | 87 => ⟨S1x2, .i32⟩
  | 88 => ⟨S2, .i32⟩
  | 89 => ⟨S1x2, .i32⟩
  | 90 => ⟨S2, .i32⟩
  | 91 => ⟨S1, .i32⟩
  | 92 => ⟨S_, .i32⟩
  | 93 => ⟨S1, .i32⟩
  | 94 => ⟨S_, .i32⟩
  | 95 => ⟨S16, .i64⟩
  | 96 => ⟨S_, .i64⟩
  | 97 => ⟨S16, .i64⟩
  | 98 => ⟨S16, .i64⟩
  | 99 => ⟨S_, .i64⟩
  | 100 => ⟨S16, .i64⟩
  | 101 => ⟨S16, .i64⟩
  | 102 => ⟨S16, .i32⟩
  | 103 => ⟨S16, .i32⟩
  | 104 => ⟨S_, .i32⟩
  | 105 => ⟨S_, .i32⟩
  | 106 => ⟨S_, .i32⟩
  | 107 => ⟨S16, .i32⟩
  | 108 => ⟨S16, .i32⟩
  | 109 => ⟨S16, .i32⟩
  | 110 => ⟨S16, .i32⟩
  | 111 => ⟨S16, .i32⟩
  | 112 => ⟨S_, .i32⟩
  | 113 => ⟨S16, .i32⟩
  | 114 => ⟨S16, .i32⟩
  | 115 => ⟨S_, .i32⟩
  | 116 => ⟨S16, .i32⟩
  | 117 => ⟨S16, .i32⟩
  | 118 => ⟨S16, .i32⟩
  | 119 => ⟨S16, .i32⟩
  | 120 => ⟨S16, .i32⟩
  | 121 => ⟨S_, .i32⟩
  | 122 => ⟨S16, .i32⟩
  | 123 => ⟨S16, .i32⟩
  | 124 => ⟨S_, .i32⟩
  | 125 => ⟨S16, .i32⟩
  | 126 => ⟨S16, .i32⟩
  | 127 => ⟨S16, .i32⟩
  | _ => ⟨S16x96x224x224, .f32⟩

abbrev hbmTy0_57 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S_, .i32⟩
  | 6 => ⟨S16, .i32⟩
  | 7 => ⟨S16, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S_, .i32⟩
  | 15 => ⟨S16, .i32⟩
  | 16 => ⟨S16, .i32⟩
  | 17 => ⟨S16, .i32⟩
  | 18 => ⟨S16, .i32⟩
  | 19 => ⟨S16, .i32⟩
  | 20 => ⟨S16, .i32⟩
  | 21 => ⟨S16, .i32⟩
  | 22 => ⟨S16, .i32⟩
  | 23 => ⟨S_, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S16, .i32⟩
  | 34 => ⟨S16, .i32⟩
  | 35 => ⟨S16, .i32⟩
  | 36 => ⟨S_, .i32⟩
  | 37 => ⟨S16, .i32⟩
  | 38 => ⟨S16, .i32⟩
  | 39 => ⟨S_, .i32⟩
  | 40 => ⟨S16, .i32⟩
  | 41 => ⟨S16, .i32⟩
  | 42 => ⟨S16, .i32⟩
  | 43 => ⟨S16, .i32⟩
  | 44 => ⟨S16, .i32⟩
  | 45 => ⟨S_, .i32⟩
  | 46 => ⟨S16, .i32⟩
  | 47 => ⟨S16, .i32⟩
  | 48 => ⟨S_, .i32⟩
  | 49 => ⟨S16, .i32⟩
  | 50 => ⟨S16, .i32⟩
  | 51 => ⟨S16, .i32⟩
  | 52 => ⟨S16, .i32⟩
  | 53 => ⟨S16, .i32⟩
  | 54 => ⟨S_, .i32⟩
  | 55 => ⟨S16, .i32⟩
  | 56 => ⟨S16, .i32⟩
  | 57 => ⟨S_, .i32⟩
  | 58 => ⟨S16, .i32⟩
  | 59 => ⟨S16, .i32⟩
  | 60 => ⟨S16, .i32⟩
  | 61 => ⟨S16, .i32⟩
  | 62 => ⟨S16, .i32⟩
  | 63 => ⟨S16, .i32⟩
  | 64 => ⟨S16, .i32⟩
  | 65 => ⟨S16, .i32⟩
  | 66 => ⟨S_, .i32⟩
  | 67 => ⟨S16, .i32⟩
  | 68 => ⟨S16, .i32⟩
  | 69 => ⟨S16, .i32⟩
  | 70 => ⟨S_, .i32⟩
  | 71 => ⟨S16, .i32⟩
  | 72 => ⟨S16, .i32⟩
  | 73 => ⟨S_, .i32⟩
  | 74 => ⟨S16, .i32⟩
  | 75 => ⟨S16, .i32⟩
  | 76 => ⟨S16, .i32⟩
  | 77 => ⟨S16, .i32⟩
  | 78 => ⟨S16, .i32⟩
  | 79 => ⟨S_, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S16, .i32⟩
  | 87 => ⟨S16, .i32⟩
  | 88 => ⟨S_, .i32⟩
  | 89 => ⟨S16, .i32⟩
  | 90 => ⟨S16, .i32⟩
  | 91 => ⟨S_, .i32⟩
  | 92 => ⟨S16, .i32⟩
  | 93 => ⟨S16, .i32⟩
  | 94 => ⟨S16, .i32⟩
  | 95 => ⟨S16, .i32⟩
  | 96 => ⟨S16, .i32⟩
  | 97 => ⟨S_, .i32⟩
  | 98 => ⟨S16, .i32⟩
  | 99 => ⟨S16, .i32⟩
  | 100 => ⟨S_, .i32⟩
  | 101 => ⟨S16, .i32⟩
  | 102 => ⟨S16, .i32⟩
  | 103 => ⟨S16, .i32⟩
  | 104 => ⟨S16, .i32⟩
  | 105 => ⟨S16, .i32⟩
  | 106 => ⟨S16, .i32⟩
  | 107 => ⟨S16, .i32⟩
  | 108 => ⟨S16, .i32⟩
  | 109 => ⟨S_, .i32⟩
  | 110 => ⟨S16, .i32⟩
  | 111 => ⟨S16, .i32⟩
  | 112 => ⟨S16, .i32⟩
  | 113 => ⟨S_, .i32⟩
  | 114 => ⟨S16, .i32⟩
  | 115 => ⟨S16, .i32⟩
  | 116 => ⟨S_, .i32⟩
  | 117 => ⟨S16, .i32⟩
  | 118 => ⟨S16, .i32⟩
  | 119 => ⟨S16, .i32⟩
  | 120 => ⟨S16, .i32⟩
  | 121 => ⟨S16, .i32⟩
  | 122 => ⟨S_, .i32⟩
  | 123 => ⟨S16, .i32⟩
  | 124 => ⟨S16, .i32⟩
  | 125 => ⟨S_, .i32⟩
  | 126 => ⟨S16, .i32⟩
  | 127 => ⟨S16, .i32⟩
  | _ => ⟨S16x96x224x224, .f32⟩

abbrev hbmTy0_58 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i32⟩
  | 6 => ⟨S_, .i32⟩
  | 7 => ⟨S16, .i32⟩
  | 8 => ⟨S16, .i32⟩
  | 9 => ⟨S16, .i32⟩
  | 10 => ⟨S16, .i32⟩
  | 11 => ⟨S16, .i32⟩
  | 12 => ⟨S_, .i32⟩
  | 13 => ⟨S16, .i32⟩
  | 14 => ⟨S16, .i32⟩
  | 15 => ⟨S_, .i32⟩
  | 16 => ⟨S16, .i32⟩
  | 17 => ⟨S16, .i32⟩
  | 18 => ⟨S16, .i32⟩
  | 19 => ⟨S16, .i32⟩
  | 20 => ⟨S16, .i32⟩
  | 21 => ⟨S16, .i32⟩
  | 22 => ⟨S16, .i32⟩
  | 23 => ⟨S16, .i32⟩
  | 24 => ⟨S_, .i32⟩
  | 25 => ⟨S16, .i32⟩
  | 26 => ⟨S16, .i32⟩
  | 27 => ⟨S16, .i32⟩
  | 28 => ⟨S_, .i32⟩
  | 29 => ⟨S16, .i32⟩
  | 30 => ⟨S16, .i32⟩
  | 31 => ⟨S_, .i32⟩
  | 32 => ⟨S16, .i32⟩
  | 33 => ⟨S16, .i32⟩
  | 34 => ⟨S16, .i32⟩
  | 35 => ⟨S16, .i32⟩
  | 36 => ⟨S16, .i32⟩
  | 37 => ⟨S_, .i32⟩
  | 38 => ⟨S16, .i32⟩
  | 39 => ⟨S16, .i32⟩
  | 40 => ⟨S_, .i32⟩
  | 41 => ⟨S16, .i32⟩
  | 42 => ⟨S16, .i32⟩
  | 43 => ⟨S16, .i32⟩
  | 44 => ⟨S16, .i32⟩
  | 45 => ⟨S16, .i32⟩
  | 46 => ⟨S_, .i32⟩
  | 47 => ⟨S16, .i32⟩
  | 48 => ⟨S16, .i32⟩
  | 49 => ⟨S_, .i32⟩
  | 50 => ⟨S16, .i32⟩
  | 51 => ⟨S16, .i32⟩
  | 52 => ⟨S16, .i32⟩
  | 53 => ⟨S16, .i32⟩
  | 54 => ⟨S16, .i32⟩
  | 55 => ⟨S_, .i32⟩
  | 56 => ⟨S16, .i32⟩
  | 57 => ⟨S16, .i32⟩
  | 58 => ⟨S_, .i32⟩
  | 59 => ⟨S16, .i32⟩
  | 60 => ⟨S16, .i32⟩
  | 61 => ⟨S16, .i32⟩
  | 62 => ⟨S16, .i32⟩
  | 63 => ⟨S16, .i32⟩
  | 64 => ⟨S16, .i32⟩
  | 65 => ⟨S16, .i32⟩
  | 66 => ⟨S16, .i32⟩
  | 67 => ⟨S_, .i32⟩
  | 68 => ⟨S16, .i32⟩
  | 69 => ⟨S16, .i32⟩
  | 70 => ⟨S16, .i32⟩
  | 71 => ⟨S16, .i32⟩
  | 72 => ⟨S16, .i32⟩
  | 73 => ⟨S1x2, .i32⟩
  | 74 => ⟨S2, .i32⟩
  | 75 => ⟨S16, .i32⟩
  | 76 => ⟨S1, .i32⟩
  | 77 => ⟨S_, .i32⟩
  | 78 => ⟨S1, .i32⟩
  | 79 => ⟨S_, .i32⟩
  | 80 => ⟨S2, .i64⟩
  | 81 => ⟨S_, .i64⟩
  | 82 => ⟨S2, .i64⟩
  | 83 => ⟨S2, .i64⟩
  | 84 => ⟨S_, .i64⟩
  | 85 => ⟨S2, .i64⟩
  | 86 => ⟨S2, .i64⟩
  | 87 => ⟨S2, .i32⟩
  | 88 => ⟨S2, .i32⟩
  | 89 => ⟨S_, .i32⟩
  | 90 => ⟨S_, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S16x96x224x224, .f32⟩

abbrev hbmTy0_59 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x96x224x224, .f32⟩

abbrev hbmTy0_60 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2x1, .i32⟩
  | 56 => ⟨S2x1, .i32⟩
  | 57 => ⟨S2x2, .i32⟩
  | 58 => ⟨S1x2, .i32⟩
  | 59 => ⟨S2, .i32⟩
  | 60 => ⟨S1x2, .i32⟩
  | 61 => ⟨S2, .i32⟩
  | 62 => ⟨S1, .i32⟩
  | 63 => ⟨S_, .i32⟩
  | 64 => ⟨S1, .i32⟩
  | 65 => ⟨S_, .i32⟩
  | 66 => ⟨S16, .i64⟩
  | 67 => ⟨S_, .i64⟩
  | 68 => ⟨S16, .i64⟩
  | 69 => ⟨S16, .i64⟩
  | 70 => ⟨S_, .i64⟩
  | 71 => ⟨S16, .i64⟩
  | 72 => ⟨S16, .i64⟩
  | 73 => ⟨S16, .i32⟩
  | 74 => ⟨S16, .i32⟩
  | 75 => ⟨S_, .i32⟩
  | 76 => ⟨S_, .i32⟩
  | 77 => ⟨S_, .i32⟩
  | 78 => ⟨S16, .i32⟩
  | 79 => ⟨S16, .i32⟩
  | 80 => ⟨S16, .i32⟩
  | 81 => ⟨S16, .i32⟩
  | 82 => ⟨S16, .i32⟩
  | 83 => ⟨S_, .i32⟩
  | 84 => ⟨S16, .i32⟩
  | 85 => ⟨S16, .i32⟩
  | 86 => ⟨S_, .i32⟩
  | 87 => ⟨S16, .i32⟩
  | 88 => ⟨S16, .i32⟩
  | 89 => ⟨S16, .i32⟩
  | 90 => ⟨S16, .i32⟩
  | 91 => ⟨S16, .i32⟩
  | 92 => ⟨S_, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S16, .i32⟩
  | 100 => ⟨S16, .i32⟩
  | 101 => ⟨S_, .i32⟩
  | 102 => ⟨S16, .i32⟩
  | 103 => ⟨S16, .i32⟩
  | 104 => ⟨S_, .i32⟩
  | 105 => ⟨S16, .i32⟩
  | 106 => ⟨S16, .i32⟩
  | 107 => ⟨S16, .i32⟩
  | 108 => ⟨S16, .i32⟩
  | 109 => ⟨S16, .i32⟩
  | 110 => ⟨S_, .i32⟩
  | 111 => ⟨S16, .i32⟩
  | 112 => ⟨S16, .i32⟩
  | 113 => ⟨S_, .i32⟩
  | 114 => ⟨S16, .i32⟩
  | 115 => ⟨S16, .i32⟩
  | 116 => ⟨S16, .i32⟩
  | 117 => ⟨S16, .i32⟩
  | 118 => ⟨S16, .i32⟩
  | 119 => ⟨S16, .i32⟩
  | 120 => ⟨S16, .i32⟩
  | 121 => ⟨S16, .i32⟩
  | 122 => ⟨S_, .i32⟩
  | 123 => ⟨S16, .i32⟩
  | 124 => ⟨S16, .i32⟩
  | 125 => ⟨S16, .i32⟩
  | 126 => ⟨S_, .i32⟩
  | 127 => ⟨S16, .i32⟩
  | _ => ⟨S16x96x224x224, .f32⟩

abbrev hbmTy0_61 (i : Nat) : BufTy := match i % 128 with
  | 0 => ⟨S16, .i32⟩
  | 1 => ⟨S_, .i32⟩
  | 2 => ⟨S16, .i32⟩
  | 3 => ⟨S16, .i32⟩
  | 4 => ⟨S16, .i32⟩
  | 5 => ⟨S16, .i32⟩
  | 6 => ⟨S16, .i32⟩
  | 7 => ⟨S_, .i32⟩
  | 8 => ⟨S16, .i32⟩
  | 9 => ⟨S16, .i32⟩
  | 10 => ⟨S_, .i32⟩
  | 11 => ⟨S16, .i32⟩
  | 12 => ⟨S16, .i32⟩
  | 13 => ⟨S16, .i32⟩
  | 14 => ⟨S16, .i32⟩
  | 15 => ⟨S16, .i32⟩
  | 16 => ⟨S_, .i32⟩
  | 17 => ⟨S16, .i32⟩
  | 18 => ⟨S16, .i32⟩
  | 19 => ⟨S_, .i32⟩
  | 20 => ⟨S16, .i32⟩
  | 21 => ⟨S16, .i32⟩
  | 22 => ⟨S16, .i32⟩
  | 23 => ⟨S16, .i32⟩
  | 24 => ⟨S16, .i32⟩
  | 25 => ⟨S_, .i32⟩
  | 26 => ⟨S16, .i32⟩
  | 27 => ⟨S16, .i32⟩
  | 28 => ⟨S_, .i32⟩
  | 29 => ⟨S16, .i32⟩
  | 30 => ⟨S16, .i32⟩
  | 31 => ⟨S16, .i32⟩
  | 32 => ⟨S16, .i32⟩
  | 33 => ⟨S16, .i32⟩
  | 34 => ⟨S16, .i32⟩
  | 35 => ⟨S16, .i32⟩
  | 36 => ⟨S16, .i32⟩
  | 37 => ⟨S_, .i32⟩
  | 38 => ⟨S16, .i32⟩
  | 39 => ⟨S16, .i32⟩
  | 40 => ⟨S16, .i32⟩
  | 41 => ⟨S_, .i32⟩
  | 42 => ⟨S16, .i32⟩
  | 43 => ⟨S16, .i32⟩
  | 44 => ⟨S_, .i32⟩
  | 45 => ⟨S16, .i32⟩
  | 46 => ⟨S16, .i32⟩
  | 47 => ⟨S16, .i32⟩
  | 48 => ⟨S16, .i32⟩
  | 49 => ⟨S16, .i32⟩
  | 50 => ⟨S_, .i32⟩
  | 51 => ⟨S16, .i32⟩
  | 52 => ⟨S16, .i32⟩
  | 53 => ⟨S_, .i32⟩
  | 54 => ⟨S16, .i32⟩
  | 55 => ⟨S16, .i32⟩
  | 56 => ⟨S16, .i32⟩
  | 57 => ⟨S16, .i32⟩
  | 58 => ⟨S16, .i32⟩
  | 59 => ⟨S_, .i32⟩
  | 60 => ⟨S16, .i32⟩
  | 61 => ⟨S16, .i32⟩
  | 62 => ⟨S_, .i32⟩
  | 63 => ⟨S16, .i32⟩
  | 64 => ⟨S16, .i32⟩
  | 65 => ⟨S16, .i32⟩
  | 66 => ⟨S16, .i32⟩
  | 67 => ⟨S16, .i32⟩
  | 68 => ⟨S_, .i32⟩
  | 69 => ⟨S16, .i32⟩
  | 70 => ⟨S16, .i32⟩
  | 71 => ⟨S_, .i32⟩
  | 72 => ⟨S16, .i32⟩
  | 73 => ⟨S16, .i32⟩
  | 74 => ⟨S16, .i32⟩
  | 75 => ⟨S16, .i32⟩
  | 76 => ⟨S16, .i32⟩
  | 77 => ⟨S16, .i32⟩
  | 78 => ⟨S16, .i32⟩
  | 79 => ⟨S16, .i32⟩
  | 80 => ⟨S_, .i32⟩
  | 81 => ⟨S16, .i32⟩
  | 82 => ⟨S16, .i32⟩
  | 83 => ⟨S16, .i32⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S16, .i32⟩
  | 91 => ⟨S16, .i32⟩
  | 92 => ⟨S16, .i32⟩
  | 93 => ⟨S_, .i32⟩
  | 94 => ⟨S16, .i32⟩
  | 95 => ⟨S16, .i32⟩
  | 96 => ⟨S_, .i32⟩
  | 97 => ⟨S16, .i32⟩
  | 98 => ⟨S16, .i32⟩
  | 99 => ⟨S16, .i32⟩
  | 100 => ⟨S16, .i32⟩
  | 101 => ⟨S16, .i32⟩
  | 102 => ⟨S_, .i32⟩
  | 103 => ⟨S16, .i32⟩
  | 104 => ⟨S16, .i32⟩
  | 105 => ⟨S_, .i32⟩
  | 106 => ⟨S16, .i32⟩
  | 107 => ⟨S16, .i32⟩
  | 108 => ⟨S16, .i32⟩
  | 109 => ⟨S16, .i32⟩
  | 110 => ⟨S16, .i32⟩
  | 111 => ⟨S_, .i32⟩
  | 112 => ⟨S16, .i32⟩
  | 113 => ⟨S16, .i32⟩
  | 114 => ⟨S_, .i32⟩
  | 115 => ⟨S16, .i32⟩
  | 116 => ⟨S16, .i32⟩
  | 117 => ⟨S16, .i32⟩
  | 118 => ⟨S16, .i32⟩
  | 119 => ⟨S16, .i32⟩
  | 120 => ⟨S16, .i32⟩
  | 121 => ⟨S16, .i32⟩
  | 122 => ⟨S16, .i32⟩
  | 123 => ⟨S_, .i32⟩
  | 124 => ⟨S16, .i32⟩
  | 125 => ⟨S16, .i32⟩
  | 126 => ⟨S16, .i32⟩
  | 127 => ⟨S_, .i32⟩
  | _ => ⟨S16x96x224x224, .f32⟩

abbrev hbmTy0_62 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S16, .i32⟩
  | 6 => ⟨S16, .i32⟩
  | 7 => ⟨S16, .i32⟩
  | 8 => ⟨S_, .i32⟩
  | 9 => ⟨S16, .i32⟩
  | 10 => ⟨S16, .i32⟩
  | 11 => ⟨S_, .i32⟩
  | 12 => ⟨S16, .i32⟩
  | 13 => ⟨S16, .i32⟩
  | 14 => ⟨S16, .i32⟩
  | 15 => ⟨S16, .i32⟩
  | 16 => ⟨S16, .i32⟩
  | 17 => ⟨S_, .i32⟩
  | 18 => ⟨S16, .i32⟩
  | 19 => ⟨S16, .i32⟩
  | 20 => ⟨S_, .i32⟩
  | 21 => ⟨S16, .i32⟩
  | 22 => ⟨S16, .i32⟩
  | 23 => ⟨S16, .i32⟩
  | 24 => ⟨S16, .i32⟩
  | 25 => ⟨S16, .i32⟩
  | 26 => ⟨S_, .i32⟩
  | 27 => ⟨S16, .i32⟩
  | 28 => ⟨S16, .i32⟩
  | 29 => ⟨S_, .i32⟩
  | 30 => ⟨S16, .i32⟩
  | 31 => ⟨S16, .i32⟩
  | 32 => ⟨S16, .i32⟩
  | 33 => ⟨S16, .i32⟩
  | 34 => ⟨S16, .i32⟩
  | 35 => ⟨S16, .i32⟩
  | 36 => ⟨S16, .i32⟩
  | 37 => ⟨S16, .i32⟩
  | 38 => ⟨S_, .i32⟩
  | 39 => ⟨S16, .i32⟩
  | 40 => ⟨S16, .i32⟩
  | 41 => ⟨S16, .i32⟩
  | 42 => ⟨S16, .i32⟩
  | 43 => ⟨S16, .i32⟩
  | 44 => ⟨S1x16, .i32⟩
  | 45 => ⟨S1x16, .i32⟩
  | 46 => ⟨S1x16, .i32⟩
  | 47 => ⟨S1x16, .i32⟩
  | 48 => ⟨S1x16, .i32⟩
  | 49 => ⟨S1x16, .i32⟩
  | 50 => ⟨S1x16, .i32⟩
  | 51 => ⟨S1x16, .i32⟩
  | 52 => ⟨S1x16, .i32⟩
  | 53 => ⟨S1x16, .i32⟩
  | 54 => ⟨S1x16, .i32⟩
  | 55 => ⟨S1x16, .i32⟩
  | 56 => ⟨S1x16, .i32⟩
  | 57 => ⟨S1x16, .i32⟩
  | 58 => ⟨S1x16, .i32⟩
  | 59 => ⟨S1x16, .i32⟩
  | 60 => ⟨S16x16, .i32⟩
  | 61 => ⟨S1x16x96x56x56, .f32⟩
  | 62 => ⟨S16x96x56x56, .f32⟩
  | 63 => ⟨S1x16, .i32⟩
  | 64 => ⟨S16, .i32⟩
  | 65 => ⟨S_, .i32⟩
  | 66 => ⟨S16, .i32⟩
  | 67 => ⟨S16, .i1⟩
  | 68 => ⟨S_, .i32⟩
  | 69 => ⟨S16, .i32⟩
  | 70 => ⟨S16, .i32⟩
  | 71 => ⟨S16, .i32⟩
  | 72 => ⟨S16x1, .i32⟩
  | 73 => ⟨S16x96x56x56, .f32⟩
  | 74 => ⟨S1x16x96x56x56, .f32⟩
  | 75 => ⟨S16x96x56x56, .f32⟩
  | 76 => ⟨S1x16, .i32⟩
  | 77 => ⟨S16, .i32⟩
  | 78 => ⟨S_, .i32⟩
  | 79 => ⟨S16, .i32⟩
  | 80 => ⟨S16, .i1⟩
  | 81 => ⟨S_, .i32⟩
  | 82 => ⟨S16, .i32⟩
  | 83 => ⟨S16, .i32⟩
  | 84 => ⟨S16, .i32⟩
  | 85 => ⟨S16x1, .i32⟩
  | 86 => ⟨S16x96x56x56, .f32⟩
  | 87 => ⟨S1x16x96x56x56, .f32⟩
  | 88 => ⟨S16x96x56x56, .f32⟩
  | 89 => ⟨S1x16, .i32⟩
  | 90 => ⟨S16, .i32⟩
  | 91 => ⟨S_, .i32⟩
  | 92 => ⟨S16, .i32⟩
  | 93 => ⟨S16, .i1⟩
  | 94 => ⟨S_, .i32⟩
  | 95 => ⟨S16, .i32⟩
  | 96 => ⟨S16, .i32⟩
  | 97 => ⟨S16, .i32⟩
  | 98 => ⟨S16x1, .i32⟩
  | 99 => ⟨S16x96x56x56, .f32⟩
  | 100 => ⟨S1x16x96x56x56, .f32⟩
  | 101 => ⟨S16x96x56x56, .f32⟩
  | 102 => ⟨S1x16, .i32⟩
  | 103 => ⟨S16, .i32⟩
  | 104 => ⟨S_, .i32⟩
  | 105 => ⟨S16, .i32⟩
  | 106 => ⟨S16, .i1⟩
  | 107 => ⟨S_, .i32⟩
  | 108 => ⟨S16, .i32⟩
  | 109 => ⟨S16, .i32⟩
  | 110 => ⟨S16, .i32⟩
  | 111 => ⟨S16x1, .i32⟩
  | 112 => ⟨S16x96x56x56, .f32⟩
  | 113 => ⟨S1x16x96x56x56, .f32⟩
  | 114 => ⟨S16x96x56x56, .f32⟩
  | 115 => ⟨S1x16, .i32⟩
  | 116 => ⟨S16, .i32⟩
  | 117 => ⟨S_, .i32⟩
  | 118 => ⟨S16, .i32⟩
  | 119 => ⟨S16, .i1⟩
  | 120 => ⟨S_, .i32⟩
  | 121 => ⟨S16, .i32⟩
  | 122 => ⟨S16, .i32⟩
  | 123 => ⟨S16, .i32⟩
  | 124 => ⟨S16x1, .i32⟩
  | 125 => ⟨S16x96x56x56, .f32⟩
  | 126 => ⟨S1x16x96x56x56, .f32⟩
  | 127 => ⟨S16x96x56x56, .f32⟩
  | _ => ⟨S16x96x224x224, .f32⟩

abbrev hbmTy0_63 (i : Nat) : BufTy := match i % 128 with
  | 0 => ⟨S1x16, .i32⟩
  | 1 => ⟨S16, .i32⟩
  | 2 => ⟨S_, .i32⟩
  | 3 => ⟨S16, .i32⟩
  | 4 => ⟨S16, .i1⟩
  | 5 => ⟨S_, .i32⟩
  | 6 => ⟨S16, .i32⟩
  | 7 => ⟨S16, .i32⟩
  | 8 => ⟨S16, .i32⟩
  | 9 => ⟨S16x1, .i32⟩
  | 10 => ⟨S16x96x56x56, .f32⟩
  | 11 => ⟨S1x16x96x56x56, .f32⟩
  | 12 => ⟨S16x96x56x56, .f32⟩
  | 13 => ⟨S1x16, .i32⟩
  | 14 => ⟨S16, .i32⟩
  | 15 => ⟨S_, .i32⟩
  | 16 => ⟨S16, .i32⟩
  | 17 => ⟨S16, .i1⟩
  | 18 => ⟨S_, .i32⟩
  | 19 => ⟨S16, .i32⟩
  | 20 => ⟨S16, .i32⟩
  | 21 => ⟨S16, .i32⟩
  | 22 => ⟨S16x1, .i32⟩
  | 23 => ⟨S16x96x56x56, .f32⟩
  | 24 => ⟨S1x16x96x56x56, .f32⟩
  | 25 => ⟨S16x96x56x56, .f32⟩
  | 26 => ⟨S1x16, .i32⟩
  | 27 => ⟨S16, .i32⟩
  | 28 => ⟨S_, .i32⟩
  | 29 => ⟨S16, .i32⟩
  | 30 => ⟨S16, .i1⟩
  | 31 => ⟨S_, .i32⟩
  | 32 => ⟨S16, .i32⟩
  | 33 => ⟨S16, .i32⟩
  | 34 => ⟨S16, .i32⟩
  | 35 => ⟨S16x1, .i32⟩
  | 36 => ⟨S16x96x56x56, .f32⟩
  | 37 => ⟨S1x16x96x56x56, .f32⟩
  | 38 => ⟨S16x96x56x56, .f32⟩
  | 39 => ⟨S1x16, .i32⟩
  | 40 => ⟨S16, .i32⟩
  | 41 => ⟨S_, .i32⟩
  | 42 => ⟨S16, .i32⟩
  | 43 => ⟨S16, .i1⟩
  | 44 => ⟨S_, .i32⟩
  | 45 => ⟨S16, .i32⟩
  | 46 => ⟨S16, .i32⟩
  | 47 => ⟨S16, .i32⟩
  | 48 => ⟨S16x1, .i32⟩
  | 49 => ⟨S16x96x56x56, .f32⟩
  | 50 => ⟨S1x16x96x56x56, .f32⟩
  | 51 => ⟨S16x96x56x56, .f32⟩
  | 52 => ⟨S1x16, .i32⟩
  | 53 => ⟨S16, .i32⟩
  | 54 => ⟨S_, .i32⟩
  | 55 => ⟨S16, .i32⟩
  | 56 => ⟨S16, .i1⟩
  | 57 => ⟨S_, .i32⟩
  | 58 => ⟨S16, .i32⟩
  | 59 => ⟨S16, .i32⟩
  | 60 => ⟨S16, .i32⟩
  | 61 => ⟨S16x1, .i32⟩
  | 62 => ⟨S16x96x56x56, .f32⟩
  | 63 => ⟨S1x16x96x56x56, .f32⟩
  | 64 => ⟨S16x96x56x56, .f32⟩
  | 65 => ⟨S1x16, .i32⟩
  | 66 => ⟨S16, .i32⟩
  | 67 => ⟨S_, .i32⟩
  | 68 => ⟨S16, .i32⟩
  | 69 => ⟨S16, .i1⟩
  | 70 => ⟨S_, .i32⟩
  | 71 => ⟨S16, .i32⟩
  | 72 => ⟨S16, .i32⟩
  | 73 => ⟨S16, .i32⟩
  | 74 => ⟨S16x1, .i32⟩
  | 75 => ⟨S16x96x56x56, .f32⟩
  | 76 => ⟨S1x16x96x56x56, .f32⟩
  | 77 => ⟨S16x96x56x56, .f32⟩
  | 78 => ⟨S1x16, .i32⟩
  | 79 => ⟨S16, .i32⟩
  | 80 => ⟨S_, .i32⟩
  | 81 => ⟨S16, .i32⟩
  | 82 => ⟨S16, .i1⟩
  | 83 => ⟨S_, .i32⟩
  | 84 => ⟨S16, .i32⟩
  | 85 => ⟨S16, .i32⟩
  | 86 => ⟨S16, .i32⟩
  | 87 => ⟨S16x1, .i32⟩
  | 88 => ⟨S16x96x56x56, .f32⟩
  | 89 => ⟨S1x16x96x56x56, .f32⟩
  | 90 => ⟨S16x96x56x56, .f32⟩
  | 91 => ⟨S1x16, .i32⟩
  | 92 => ⟨S16, .i32⟩
  | 93 => ⟨S_, .i32⟩
  | 94 => ⟨S16, .i32⟩
  | 95 => ⟨S16, .i1⟩
  | 96 => ⟨S_, .i32⟩
  | 97 => ⟨S16, .i32⟩
  | 98 => ⟨S16, .i32⟩
  | 99 => ⟨S16, .i32⟩
  | 100 => ⟨S16x1, .i32⟩
  | 101 => ⟨S16x96x56x56, .f32⟩
  | 102 => ⟨S1x16x96x56x56, .f32⟩
  | 103 => ⟨S16x96x56x56, .f32⟩
  | 104 => ⟨S1x16, .i32⟩
  | 105 => ⟨S16, .i32⟩
  | 106 => ⟨S_, .i32⟩
  | 107 => ⟨S16, .i32⟩
  | 108 => ⟨S16, .i1⟩
  | 109 => ⟨S_, .i32⟩
  | 110 => ⟨S16, .i32⟩
  | 111 => ⟨S16, .i32⟩
  | 112 => ⟨S16, .i32⟩
  | 113 => ⟨S16x1, .i32⟩
  | 114 => ⟨S16x96x56x56, .f32⟩
  | 115 => ⟨S1x16x96x56x56, .f32⟩
  | 116 => ⟨S16x96x56x56, .f32⟩
  | 117 => ⟨S1x16, .i32⟩
  | 118 => ⟨S16, .i32⟩
  | 119 => ⟨S_, .i32⟩
  | 120 => ⟨S16, .i32⟩
  | 121 => ⟨S16, .i1⟩
  | 122 => ⟨S_, .i32⟩
  | 123 => ⟨S16, .i32⟩
  | 124 => ⟨S16, .i32⟩
  | 125 => ⟨S16, .i32⟩
  | 126 => ⟨S16x1, .i32⟩
  | 127 => ⟨S16x96x56x56, .f32⟩
  | _ => ⟨S16x96x224x224, .f32⟩

abbrev hbmTy0_64 (i : Nat) : BufTy := match i % 128 with
  | 0 => ⟨S1x16x96x56x56, .f32⟩
  | 1 => ⟨S16x96x56x56, .f32⟩
  | 2 => ⟨S1x16, .i32⟩
  | 3 => ⟨S16, .i32⟩
  | 4 => ⟨S_, .i32⟩
  | 5 => ⟨S16, .i32⟩
  | 6 => ⟨S16, .i1⟩
  | 7 => ⟨S_, .i32⟩
  | 8 => ⟨S16, .i32⟩
  | 9 => ⟨S16, .i32⟩
  | 10 => ⟨S16, .i32⟩
  | 11 => ⟨S16x1, .i32⟩
  | 12 => ⟨S16x96x56x56, .f32⟩
  | 13 => ⟨S1x16x96x56x56, .f32⟩
  | 14 => ⟨S1x16x96x56x56, .f32⟩
  | 15 => ⟨S1x16x96x56x56, .f32⟩
  | 16 => ⟨S1x16x96x56x56, .f32⟩
  | 17 => ⟨S1x16x96x56x56, .f32⟩
  | 18 => ⟨S1x16x96x56x56, .f32⟩
  | 19 => ⟨S1x16x96x56x56, .f32⟩
  | 20 => ⟨S1x16x96x56x56, .f32⟩
  | 21 => ⟨S1x16x96x56x56, .f32⟩
  | 22 => ⟨S1x16x96x56x56, .f32⟩
  | 23 => ⟨S1x16x96x56x56, .f32⟩
  | 24 => ⟨S1x16x96x56x56, .f32⟩
  | 25 => ⟨S1x16x96x56x56, .f32⟩
  | 26 => ⟨S1x16x96x56x56, .f32⟩
  | 27 => ⟨S1x16x96x56x56, .f32⟩
  | 28 => ⟨S1x16x96x56x56, .f32⟩
  | 29 => ⟨S16x16x96x56x56, .f32⟩
  | 30 => ⟨S4x4x16x96x56x56, .f32⟩
  | 31 => ⟨S16x96x4x56x4x56, .f32⟩
  | 32 => ⟨S16x96x224x224, .f32⟩
  | _ => ⟨S16x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | 39 => hbmTy0_39 i
  | 40 => hbmTy0_40 i
  | 41 => hbmTy0_41 i
  | 42 => hbmTy0_42 i
  | 43 => hbmTy0_43 i
  | 44 => hbmTy0_44 i
  | 45 => hbmTy0_45 i
  | 46 => hbmTy0_46 i
  | 47 => hbmTy0_47 i
  | 48 => hbmTy0_48 i
  | 49 => hbmTy0_49 i
  | 50 => hbmTy0_50 i
  | 51 => hbmTy0_51 i
  | 52 => hbmTy0_52 i
  | 53 => hbmTy0_53 i
  | 54 => hbmTy0_54 i
  | 55 => hbmTy0_55 i
  | 56 => hbmTy0_56 i
  | 57 => hbmTy0_57 i
  | 58 => hbmTy0_58 i
  | 59 => hbmTy0_59 i
  | 60 => hbmTy0_60 i
  | 61 => hbmTy0_61 i
  | 62 => hbmTy0_62 i
  | 63 => hbmTy0_63 i
  | 64 => hbmTy0_64 i
  | _ => ⟨S16x96x224x224, .f32⟩

abbrev bufTy : (tb : Table) → Fin (tcTables nBuf tb) → BufTy
  | .hbm, ⟨i, _⟩ => hbmTy i
  | _, _ => ⟨S16x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c : Ref sig .tc := ⟨.hbm, 19, rfl⟩
abbrev main_call0_v5 : Ref sig .tc := ⟨.hbm, 20, rfl⟩
abbrev main_call0_v6 : Ref sig .tc := ⟨.hbm, 21, rfl⟩
abbrev main_call0_c_0 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_call0_v0 : Ref sig .tc := ⟨.hbm, 27, rfl⟩
abbrev main_call0_call0_c : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_c_0 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c_1 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_c_2 : Ref sig .tc := ⟨.hbm, 44, rfl⟩
abbrev main_call0_call0_v14 : Ref sig .tc := ⟨.hbm, 45, rfl⟩
abbrev main_call0_call0_v15 : Ref sig .tc := ⟨.hbm, 46, rfl⟩
abbrev main_call0_call0_c_3 : Ref sig .tc := ⟨.hbm, 47, rfl⟩
abbrev main_call0_call0_v16 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_c_4 : Ref sig .tc := ⟨.hbm, 53, rfl⟩
abbrev main_call0_call0_v21 : Ref sig .tc := ⟨.hbm, 54, rfl⟩
abbrev main_call0_call0_v22 : Ref sig .tc := ⟨.hbm, 55, rfl⟩
abbrev main_call0_call0_c_5 : Ref sig .tc := ⟨.hbm, 56, rfl⟩
abbrev main_call0_call0_v23 : Ref sig .tc := ⟨.hbm, 57, rfl⟩
abbrev main_call0_call0_v24 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_v27 : Ref sig .tc := ⟨.hbm, 61, rfl⟩
abbrev main_call0_call0_c_6 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_c_7 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_v32 : Ref sig .tc := ⟨.hbm, 68, rfl⟩
abbrev main_call0_call0_v33 : Ref sig .tc := ⟨.hbm, 69, rfl⟩
abbrev main_call0_call0_v34 : Ref sig .tc := ⟨.hbm, 70, rfl⟩
abbrev main_call0_call0_v35 : Ref sig .tc := ⟨.hbm, 71, rfl⟩
abbrev main_call0_call0_v36 : Ref sig .tc := ⟨.hbm, 72, rfl⟩
abbrev main_call0_call0_v37 : Ref sig .tc := ⟨.hbm, 73, rfl⟩
abbrev main_call0_call0_c_8 : Ref sig .tc := ⟨.hbm, 74, rfl⟩
abbrev main_call0_call0_v38 : Ref sig .tc := ⟨.hbm, 75, rfl⟩
abbrev main_call0_call0_v39 : Ref sig .tc := ⟨.hbm, 76, rfl⟩
abbrev main_call0_call0_v40 : Ref sig .tc := ⟨.hbm, 77, rfl⟩
abbrev main_call0_call0_c_9 : Ref sig .tc := ⟨.hbm, 78, rfl⟩
abbrev main_call0_call0_v41 : Ref sig .tc := ⟨.hbm, 79, rfl⟩
abbrev main_call0_call0_v42 : Ref sig .tc := ⟨.hbm, 80, rfl⟩
abbrev main_call0_call0_c_10 : Ref sig .tc := ⟨.hbm, 81, rfl⟩
abbrev main_call0_call0_v43 : Ref sig .tc := ⟨.hbm, 82, rfl⟩
abbrev main_call0_call0_v44 : Ref sig .tc := ⟨.hbm, 83, rfl⟩
abbrev main_call0_call0_v45 : Ref sig .tc := ⟨.hbm, 84, rfl⟩
abbrev main_call0_call0_v46 : Ref sig .tc := ⟨.hbm, 85, rfl⟩
abbrev main_call0_call0_v47 : Ref sig .tc := ⟨.hbm, 86, rfl⟩
abbrev main_call0_call0_c_11 : Ref sig .tc := ⟨.hbm, 87, rfl⟩
abbrev main_call0_call0_v48 : Ref sig .tc := ⟨.hbm, 88, rfl⟩
abbrev main_call0_call0_v49 : Ref sig .tc := ⟨.hbm, 89, rfl⟩
abbrev main_call0_call0_c_12 : Ref sig .tc := ⟨.hbm, 90, rfl⟩
abbrev main_call0_call0_v50 : Ref sig .tc := ⟨.hbm, 91, rfl⟩
abbrev main_call0_call0_v51 : Ref sig .tc := ⟨.hbm, 92, rfl⟩
abbrev main_call0_call0_v52 : Ref sig .tc := ⟨.hbm, 93, rfl⟩
abbrev main_call0_call0_v53 : Ref sig .tc := ⟨.hbm, 94, rfl⟩
abbrev main_call0_call0_v54 : Ref sig .tc := ⟨.hbm, 95, rfl⟩
abbrev main_call0_call0_c_13 : Ref sig .tc := ⟨.hbm, 96, rfl⟩
abbrev main_call0_call0_v55 : Ref sig .tc := ⟨.hbm, 97, rfl⟩
abbrev main_call0_call0_v56 : Ref sig .tc := ⟨.hbm, 98, rfl⟩
abbrev main_call0_call0_c_14 : Ref sig .tc := ⟨.hbm, 99, rfl⟩
abbrev main_call0_call0_v57 : Ref sig .tc := ⟨.hbm, 100, rfl⟩
abbrev main_call0_call0_v58 : Ref sig .tc := ⟨.hbm, 101, rfl⟩
abbrev main_call0_call0_v59 : Ref sig .tc := ⟨.hbm, 102, rfl⟩
abbrev main_call0_call0_v60 : Ref sig .tc := ⟨.hbm, 103, rfl⟩
abbrev main_call0_call0_v61 : Ref sig .tc := ⟨.hbm, 104, rfl⟩
abbrev main_call0_call0_c_15 : Ref sig .tc := ⟨.hbm, 105, rfl⟩
abbrev main_call0_call0_v62 : Ref sig .tc := ⟨.hbm, 106, rfl⟩
abbrev main_call0_call0_v63 : Ref sig .tc := ⟨.hbm, 107, rfl⟩
abbrev main_call0_call0_c_16 : Ref sig .tc := ⟨.hbm, 108, rfl⟩
abbrev main_call0_call0_v64 : Ref sig .tc := ⟨.hbm, 109, rfl⟩
abbrev main_call0_call0_v65 : Ref sig .tc := ⟨.hbm, 110, rfl⟩
abbrev main_call0_call0_v66 : Ref sig .tc := ⟨.hbm, 111, rfl⟩
abbrev main_call0_call0_v67 : Ref sig .tc := ⟨.hbm, 112, rfl⟩
abbrev main_call0_call0_v68 : Ref sig .tc := ⟨.hbm, 113, rfl⟩
abbrev main_call0_call0_v69 : Ref sig .tc := ⟨.hbm, 114, rfl⟩
abbrev main_call0_call0_v70 : Ref sig .tc := ⟨.hbm, 115, rfl⟩
abbrev main_call0_call0_v71 : Ref sig .tc := ⟨.hbm, 116, rfl⟩
abbrev main_call0_call0_c_17 : Ref sig .tc := ⟨.hbm, 117, rfl⟩
abbrev main_call0_call0_v72 : Ref sig .tc := ⟨.hbm, 118, rfl⟩
abbrev main_call0_call0_v73 : Ref sig .tc := ⟨.hbm, 119, rfl⟩
abbrev main_call0_call0_v74 : Ref sig .tc := ⟨.hbm, 120, rfl⟩
abbrev main_call0_call0_c_18 : Ref sig .tc := ⟨.hbm, 121, rfl⟩
abbrev main_call0_call0_v75 : Ref sig .tc := ⟨.hbm, 122, rfl⟩
abbrev main_call0_call0_v76 : Ref sig .tc := ⟨.hbm, 123, rfl⟩
abbrev main_call0_call0_c_19 : Ref sig .tc := ⟨.hbm, 124, rfl⟩
abbrev main_call0_call0_v77 : Ref sig .tc := ⟨.hbm, 125, rfl⟩
abbrev main_call0_call0_v78 : Ref sig .tc := ⟨.hbm, 126, rfl⟩
abbrev main_call0_call0_v79 : Ref sig .tc := ⟨.hbm, 127, rfl⟩
abbrev main_call0_call0_v80 : Ref sig .tc := ⟨.hbm, 128, rfl⟩
abbrev main_call0_call0_v81 : Ref sig .tc := ⟨.hbm, 129, rfl⟩
abbrev main_call0_call0_c_20 : Ref sig .tc := ⟨.hbm, 130, rfl⟩
abbrev main_call0_call0_v82 : Ref sig .tc := ⟨.hbm, 131, rfl⟩
abbrev main_call0_call0_v83 : Ref sig .tc := ⟨.hbm, 132, rfl⟩
abbrev main_call0_call0_c_21 : Ref sig .tc := ⟨.hbm, 133, rfl⟩
abbrev main_call0_call0_v84 : Ref sig .tc := ⟨.hbm, 134, rfl⟩
abbrev main_call0_call0_v85 : Ref sig .tc := ⟨.hbm, 135, rfl⟩
abbrev main_call0_call0_v86 : Ref sig .tc := ⟨.hbm, 136, rfl⟩
abbrev main_call0_call0_v87 : Ref sig .tc := ⟨.hbm, 137, rfl⟩
abbrev main_call0_call0_v88 : Ref sig .tc := ⟨.hbm, 138, rfl⟩
abbrev main_call0_call0_c_22 : Ref sig .tc := ⟨.hbm, 139, rfl⟩
abbrev main_call0_call0_v89 : Ref sig .tc := ⟨.hbm, 140, rfl⟩
abbrev main_call0_call0_v90 : Ref sig .tc := ⟨.hbm, 141, rfl⟩
abbrev main_call0_call0_c_23 : Ref sig .tc := ⟨.hbm, 142, rfl⟩
abbrev main_call0_call0_v91 : Ref sig .tc := ⟨.hbm, 143, rfl⟩
abbrev main_call0_call0_v92 : Ref sig .tc := ⟨.hbm, 144, rfl⟩
abbrev main_call0_call0_v93 : Ref sig .tc := ⟨.hbm, 145, rfl⟩
abbrev main_call0_call0_v94 : Ref sig .tc := ⟨.hbm, 146, rfl⟩
abbrev main_call0_call0_v95 : Ref sig .tc := ⟨.hbm, 147, rfl⟩
abbrev main_call0_call0_c_24 : Ref sig .tc := ⟨.hbm, 148, rfl⟩
abbrev main_call0_call0_v96 : Ref sig .tc := ⟨.hbm, 149, rfl⟩
abbrev main_call0_call0_v97 : Ref sig .tc := ⟨.hbm, 150, rfl⟩
abbrev main_call0_call0_c_25 : Ref sig .tc := ⟨.hbm, 151, rfl⟩
abbrev main_call0_call0_v98 : Ref sig .tc := ⟨.hbm, 152, rfl⟩
abbrev main_call0_call0_v99 : Ref sig .tc := ⟨.hbm, 153, rfl⟩
abbrev main_call0_call0_v100 : Ref sig .tc := ⟨.hbm, 154, rfl⟩
abbrev main_call0_call0_v101 : Ref sig .tc := ⟨.hbm, 155, rfl⟩
abbrev main_call0_call0_v102 : Ref sig .tc := ⟨.hbm, 156, rfl⟩
abbrev main_call0_call0_v103 : Ref sig .tc := ⟨.hbm, 157, rfl⟩
abbrev main_call0_call0_v104 : Ref sig .tc := ⟨.hbm, 158, rfl⟩
abbrev main_call0_call0_v105 : Ref sig .tc := ⟨.hbm, 159, rfl⟩
abbrev main_call0_call0_c_26 : Ref sig .tc := ⟨.hbm, 160, rfl⟩
abbrev main_call0_call0_v106 : Ref sig .tc := ⟨.hbm, 161, rfl⟩
abbrev main_call0_call0_v107 : Ref sig .tc := ⟨.hbm, 162, rfl⟩
abbrev main_call0_call0_v108 : Ref sig .tc := ⟨.hbm, 163, rfl⟩
abbrev main_call0_call0_c_27 : Ref sig .tc := ⟨.hbm, 164, rfl⟩
abbrev main_call0_call0_v109 : Ref sig .tc := ⟨.hbm, 165, rfl⟩
abbrev main_call0_call0_v110 : Ref sig .tc := ⟨.hbm, 166, rfl⟩
abbrev main_call0_call0_c_28 : Ref sig .tc := ⟨.hbm, 167, rfl⟩
abbrev main_call0_call0_v111 : Ref sig .tc := ⟨.hbm, 168, rfl⟩
abbrev main_call0_call0_v112 : Ref sig .tc := ⟨.hbm, 169, rfl⟩
abbrev main_call0_call0_v113 : Ref sig .tc := ⟨.hbm, 170, rfl⟩
abbrev main_call0_call0_v114 : Ref sig .tc := ⟨.hbm, 171, rfl⟩
abbrev main_call0_call0_v115 : Ref sig .tc := ⟨.hbm, 172, rfl⟩
abbrev main_call0_call0_c_29 : Ref sig .tc := ⟨.hbm, 173, rfl⟩
abbrev main_call0_call0_v116 : Ref sig .tc := ⟨.hbm, 174, rfl⟩
abbrev main_call0_call0_v117 : Ref sig .tc := ⟨.hbm, 175, rfl⟩
abbrev main_call0_call0_c_30 : Ref sig .tc := ⟨.hbm, 176, rfl⟩
abbrev main_call0_call0_v118 : Ref sig .tc := ⟨.hbm, 177, rfl⟩
abbrev main_call0_call0_v119 : Ref sig .tc := ⟨.hbm, 178, rfl⟩
abbrev main_call0_call0_v120 : Ref sig .tc := ⟨.hbm, 179, rfl⟩
abbrev main_call0_call0_v121 : Ref sig .tc := ⟨.hbm, 180, rfl⟩
abbrev main_call0_call0_v122 : Ref sig .tc := ⟨.hbm, 181, rfl⟩
abbrev main_call0_call0_c_31 : Ref sig .tc := ⟨.hbm, 182, rfl⟩
abbrev main_call0_call0_v123 : Ref sig .tc := ⟨.hbm, 183, rfl⟩
abbrev main_call0_call0_v124 : Ref sig .tc := ⟨.hbm, 184, rfl⟩
abbrev main_call0_call0_c_32 : Ref sig .tc := ⟨.hbm, 185, rfl⟩
abbrev main_call0_call0_v125 : Ref sig .tc := ⟨.hbm, 186, rfl⟩
abbrev main_call0_call0_v126 : Ref sig .tc := ⟨.hbm, 187, rfl⟩
abbrev main_call0_call0_v127 : Ref sig .tc := ⟨.hbm, 188, rfl⟩
abbrev main_call0_call0_v128 : Ref sig .tc := ⟨.hbm, 189, rfl⟩
abbrev main_call0_call0_v129 : Ref sig .tc := ⟨.hbm, 190, rfl⟩
abbrev main_call0_call0_c_33 : Ref sig .tc := ⟨.hbm, 191, rfl⟩
abbrev main_call0_call0_v130 : Ref sig .tc := ⟨.hbm, 192, rfl⟩
abbrev main_call0_call0_v131 : Ref sig .tc := ⟨.hbm, 193, rfl⟩
abbrev main_call0_call0_c_34 : Ref sig .tc := ⟨.hbm, 194, rfl⟩
abbrev main_call0_call0_v132 : Ref sig .tc := ⟨.hbm, 195, rfl⟩
abbrev main_call0_call0_v133 : Ref sig .tc := ⟨.hbm, 196, rfl⟩
abbrev main_call0_call0_v134 : Ref sig .tc := ⟨.hbm, 197, rfl⟩
abbrev main_call0_call0_v135 : Ref sig .tc := ⟨.hbm, 198, rfl⟩
abbrev main_call0_call0_v136 : Ref sig .tc := ⟨.hbm, 199, rfl⟩
abbrev main_call0_call0_v137 : Ref sig .tc := ⟨.hbm, 200, rfl⟩
abbrev main_call0_call0_v138 : Ref sig .tc := ⟨.hbm, 201, rfl⟩
abbrev main_call0_call0_v139 : Ref sig .tc := ⟨.hbm, 202, rfl⟩
abbrev main_call0_call0_c_35 : Ref sig .tc := ⟨.hbm, 203, rfl⟩
abbrev main_call0_call0_v140 : Ref sig .tc := ⟨.hbm, 204, rfl⟩
abbrev main_call0_call0_v141 : Ref sig .tc := ⟨.hbm, 205, rfl⟩
abbrev main_call0_call0_v142 : Ref sig .tc := ⟨.hbm, 206, rfl⟩
abbrev main_call0_call0_c_36 : Ref sig .tc := ⟨.hbm, 207, rfl⟩
abbrev main_call0_call0_v143 : Ref sig .tc := ⟨.hbm, 208, rfl⟩
abbrev main_call0_call0_v144 : Ref sig .tc := ⟨.hbm, 209, rfl⟩
abbrev main_call0_call0_c_37 : Ref sig .tc := ⟨.hbm, 210, rfl⟩
abbrev main_call0_call0_v145 : Ref sig .tc := ⟨.hbm, 211, rfl⟩
abbrev main_call0_call0_v146 : Ref sig .tc := ⟨.hbm, 212, rfl⟩
abbrev main_call0_call0_v147 : Ref sig .tc := ⟨.hbm, 213, rfl⟩
abbrev main_call0_call0_v148 : Ref sig .tc := ⟨.hbm, 214, rfl⟩
abbrev main_call0_call0_v149 : Ref sig .tc := ⟨.hbm, 215, rfl⟩
abbrev main_call0_call0_c_38 : Ref sig .tc := ⟨.hbm, 216, rfl⟩
abbrev main_call0_call0_v150 : Ref sig .tc := ⟨.hbm, 217, rfl⟩
abbrev main_call0_call0_v151 : Ref sig .tc := ⟨.hbm, 218, rfl⟩
abbrev main_call0_call0_c_39 : Ref sig .tc := ⟨.hbm, 219, rfl⟩
abbrev main_call0_call0_v152 : Ref sig .tc := ⟨.hbm, 220, rfl⟩
abbrev main_call0_call0_v153 : Ref sig .tc := ⟨.hbm, 221, rfl⟩
abbrev main_call0_call0_v154 : Ref sig .tc := ⟨.hbm, 222, rfl⟩
abbrev main_call0_call0_v155 : Ref sig .tc := ⟨.hbm, 223, rfl⟩
abbrev main_call0_call0_v156 : Ref sig .tc := ⟨.hbm, 224, rfl⟩
abbrev main_call0_call0_c_40 : Ref sig .tc := ⟨.hbm, 225, rfl⟩
abbrev main_call0_call0_v157 : Ref sig .tc := ⟨.hbm, 226, rfl⟩
abbrev main_call0_call0_v158 : Ref sig .tc := ⟨.hbm, 227, rfl⟩
abbrev main_call0_call0_c_41 : Ref sig .tc := ⟨.hbm, 228, rfl⟩
abbrev main_call0_call0_v159 : Ref sig .tc := ⟨.hbm, 229, rfl⟩
abbrev main_call0_call0_v160 : Ref sig .tc := ⟨.hbm, 230, rfl⟩
abbrev main_call0_call0_v161 : Ref sig .tc := ⟨.hbm, 231, rfl⟩
abbrev main_call0_call0_v162 : Ref sig .tc := ⟨.hbm, 232, rfl⟩
abbrev main_call0_call0_v163 : Ref sig .tc := ⟨.hbm, 233, rfl⟩
abbrev main_call0_call0_c_42 : Ref sig .tc := ⟨.hbm, 234, rfl⟩
abbrev main_call0_call0_v164 : Ref sig .tc := ⟨.hbm, 235, rfl⟩
abbrev main_call0_call0_v165 : Ref sig .tc := ⟨.hbm, 236, rfl⟩
abbrev main_call0_call0_c_43 : Ref sig .tc := ⟨.hbm, 237, rfl⟩
abbrev main_call0_call0_v166 : Ref sig .tc := ⟨.hbm, 238, rfl⟩
abbrev main_call0_call0_v167 : Ref sig .tc := ⟨.hbm, 239, rfl⟩
abbrev main_call0_call0_v168 : Ref sig .tc := ⟨.hbm, 240, rfl⟩
abbrev main_call0_call0_v169 : Ref sig .tc := ⟨.hbm, 241, rfl⟩
abbrev main_call0_call0_v170 : Ref sig .tc := ⟨.hbm, 242, rfl⟩
abbrev main_call0_v11_0 : Ref sig .tc := ⟨.hbm, 243, rfl⟩
abbrev main_call0_call0_v172 : Ref sig .tc := ⟨.hbm, 244, rfl⟩
abbrev main_call0_call0_v173 : Ref sig .tc := ⟨.hbm, 245, rfl⟩
abbrev main_call0_call0_c_44 : Ref sig .tc := ⟨.hbm, 246, rfl⟩
abbrev main_call0_call0_v174 : Ref sig .tc := ⟨.hbm, 247, rfl⟩
abbrev main_call0_v11_1 : Ref sig .tc := ⟨.hbm, 248, rfl⟩
abbrev main_call0_v12 : Ref sig .tc := ⟨.hbm, 249, rfl⟩
abbrev main_call0_v13 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_v13 : Ref sig .tc := ⟨.hbm, 254, rfl⟩
abbrev main_call1_call0_v0 : Ref sig .tc := ⟨.hbm, 255, rfl⟩
abbrev main_call1_call0_v1 : Ref sig .tc := ⟨.hbm, 256, rfl⟩
abbrev main_call1_call0_v2 : Ref sig .tc := ⟨.hbm, 257, rfl⟩
abbrev main_call1_call0_v3 : Ref sig .tc := ⟨.hbm, 258, rfl⟩
abbrev main_call1_call0_v4 : Ref sig .tc := ⟨.hbm, 259, rfl⟩
abbrev main_call1_call0_c : Ref sig .tc := ⟨.hbm, 260, rfl⟩
abbrev main_call1_call0_v5 : Ref sig .tc := ⟨.hbm, 261, rfl⟩
abbrev main_call1_call0_v6 : Ref sig .tc := ⟨.hbm, 262, rfl⟩
abbrev main_call1_call0_c_0 : Ref sig .tc := ⟨.hbm, 263, rfl⟩
abbrev main_call1_call0_v7 : Ref sig .tc := ⟨.hbm, 264, rfl⟩
abbrev main_call1_call0_v8 : Ref sig .tc := ⟨.hbm, 265, rfl⟩
abbrev main_call1_call0_v9 : Ref sig .tc := ⟨.hbm, 266, rfl⟩
abbrev main_call1_call0_v10 : Ref sig .tc := ⟨.hbm, 267, rfl⟩
abbrev main_call1_call0_call0_v0 : Ref sig .tc := ⟨.hbm, 268, rfl⟩
abbrev main_call1_call0_call0_c : Ref sig .tc := ⟨.hbm, 269, rfl⟩
abbrev main_call1_call0_call0_v1 : Ref sig .tc := ⟨.hbm, 270, rfl⟩
abbrev main_call1_call0_call0_v2 : Ref sig .tc := ⟨.hbm, 271, rfl⟩
abbrev main_call1_call0_call0_v3 : Ref sig .tc := ⟨.hbm, 272, rfl⟩
abbrev main_call1_call0_call0_v4 : Ref sig .tc := ⟨.hbm, 273, rfl⟩
abbrev main_call1_call0_call0_v5 : Ref sig .tc := ⟨.hbm, 274, rfl⟩
abbrev main_call1_call0_call0_v6 : Ref sig .tc := ⟨.hbm, 275, rfl⟩
abbrev main_call1_call0_call0_c_0 : Ref sig .tc := ⟨.hbm, 276, rfl⟩
abbrev main_call1_call0_call0_v7 : Ref sig .tc := ⟨.hbm, 277, rfl⟩
abbrev main_call1_call0_call0_v8 : Ref sig .tc := ⟨.hbm, 278, rfl⟩
abbrev main_call1_call0_call0_c_1 : Ref sig .tc := ⟨.hbm, 279, rfl⟩
abbrev main_call1_call0_call0_v9 : Ref sig .tc := ⟨.hbm, 280, rfl⟩
abbrev main_call1_call0_call0_v10 : Ref sig .tc := ⟨.hbm, 281, rfl⟩
abbrev main_call1_call0_call0_v11 : Ref sig .tc := ⟨.hbm, 282, rfl⟩
abbrev main_call1_call0_call0_v12 : Ref sig .tc := ⟨.hbm, 283, rfl⟩
abbrev main_call1_call0_call0_v13 : Ref sig .tc := ⟨.hbm, 284, rfl⟩
abbrev main_call1_call0_call0_c_2 : Ref sig .tc := ⟨.hbm, 285, rfl⟩
abbrev main_call1_call0_call0_v14 : Ref sig .tc := ⟨.hbm, 286, rfl⟩
abbrev main_call1_call0_call0_v15 : Ref sig .tc := ⟨.hbm, 287, rfl⟩
abbrev main_call1_call0_call0_c_3 : Ref sig .tc := ⟨.hbm, 288, rfl⟩
abbrev main_call1_call0_call0_v16 : Ref sig .tc := ⟨.hbm, 289, rfl⟩
abbrev main_call1_call0_call0_v17 : Ref sig .tc := ⟨.hbm, 290, rfl⟩
abbrev main_call1_call0_call0_v18 : Ref sig .tc := ⟨.hbm, 291, rfl⟩
abbrev main_call1_call0_call0_v19 : Ref sig .tc := ⟨.hbm, 292, rfl⟩
abbrev main_call1_call0_call0_v20 : Ref sig .tc := ⟨.hbm, 293, rfl⟩
abbrev main_call1_call0_call0_c_4 : Ref sig .tc := ⟨.hbm, 294, rfl⟩
abbrev main_call1_call0_call0_v21 : Ref sig .tc := ⟨.hbm, 295, rfl⟩
abbrev main_call1_call0_call0_v22 : Ref sig .tc := ⟨.hbm, 296, rfl⟩
abbrev main_call1_call0_call0_c_5 : Ref sig .tc := ⟨.hbm, 297, rfl⟩
abbrev main_call1_call0_call0_v23 : Ref sig .tc := ⟨.hbm, 298, rfl⟩
abbrev main_call1_call0_call0_v24 : Ref sig .tc := ⟨.hbm, 299, rfl⟩
abbrev main_call1_call0_call0_v25 : Ref sig .tc := ⟨.hbm, 300, rfl⟩
abbrev main_call1_call0_call0_v26 : Ref sig .tc := ⟨.hbm, 301, rfl⟩
abbrev main_call1_call0_call0_v27 : Ref sig .tc := ⟨.hbm, 302, rfl⟩
abbrev main_call1_call0_call0_c_6 : Ref sig .tc := ⟨.hbm, 303, rfl⟩
abbrev main_call1_call0_call0_v28 : Ref sig .tc := ⟨.hbm, 304, rfl⟩
abbrev main_call1_call0_call0_v29 : Ref sig .tc := ⟨.hbm, 305, rfl⟩
abbrev main_call1_call0_call0_c_7 : Ref sig .tc := ⟨.hbm, 306, rfl⟩
abbrev main_call1_call0_call0_v30 : Ref sig .tc := ⟨.hbm, 307, rfl⟩
abbrev main_call1_call0_call0_v31 : Ref sig .tc := ⟨.hbm, 308, rfl⟩
abbrev main_call1_call0_call0_v32 : Ref sig .tc := ⟨.hbm, 309, rfl⟩
abbrev main_call1_call0_call0_v33 : Ref sig .tc := ⟨.hbm, 310, rfl⟩
abbrev main_call1_call0_call0_v34 : Ref sig .tc := ⟨.hbm, 311, rfl⟩
abbrev main_call1_call0_call0_v35 : Ref sig .tc := ⟨.hbm, 312, rfl⟩
abbrev main_call1_call0_call0_v36 : Ref sig .tc := ⟨.hbm, 313, rfl⟩
abbrev main_call1_call0_call0_v37 : Ref sig .tc := ⟨.hbm, 314, rfl⟩
abbrev main_call1_call0_call0_c_8 : Ref sig .tc := ⟨.hbm, 315, rfl⟩
abbrev main_call1_call0_call0_v38 : Ref sig .tc := ⟨.hbm, 316, rfl⟩
abbrev main_call1_call0_call0_v39 : Ref sig .tc := ⟨.hbm, 317, rfl⟩
abbrev main_call1_call0_call0_v40 : Ref sig .tc := ⟨.hbm, 318, rfl⟩
abbrev main_call1_call0_call0_c_9 : Ref sig .tc := ⟨.hbm, 319, rfl⟩
abbrev main_call1_call0_call0_v41 : Ref sig .tc := ⟨.hbm, 320, rfl⟩
abbrev main_call1_call0_call0_v42 : Ref sig .tc := ⟨.hbm, 321, rfl⟩
abbrev main_call1_call0_call0_c_10 : Ref sig .tc := ⟨.hbm, 322, rfl⟩
abbrev main_call1_call0_call0_v43 : Ref sig .tc := ⟨.hbm, 323, rfl⟩
abbrev main_call1_call0_call0_v44 : Ref sig .tc := ⟨.hbm, 324, rfl⟩
abbrev main_call1_call0_call0_v45 : Ref sig .tc := ⟨.hbm, 325, rfl⟩
abbrev main_call1_call0_call0_v46 : Ref sig .tc := ⟨.hbm, 326, rfl⟩
abbrev main_call1_call0_call0_v47 : Ref sig .tc := ⟨.hbm, 327, rfl⟩
abbrev main_call1_call0_call0_c_11 : Ref sig .tc := ⟨.hbm, 328, rfl⟩
abbrev main_call1_call0_call0_v48 : Ref sig .tc := ⟨.hbm, 329, rfl⟩
abbrev main_call1_call0_call0_v49 : Ref sig .tc := ⟨.hbm, 330, rfl⟩
abbrev main_call1_call0_call0_c_12 : Ref sig .tc := ⟨.hbm, 331, rfl⟩
abbrev main_call1_call0_call0_v50 : Ref sig .tc := ⟨.hbm, 332, rfl⟩
abbrev main_call1_call0_call0_v51 : Ref sig .tc := ⟨.hbm, 333, rfl⟩
abbrev main_call1_call0_call0_v52 : Ref sig .tc := ⟨.hbm, 334, rfl⟩
abbrev main_call1_call0_call0_v53 : Ref sig .tc := ⟨.hbm, 335, rfl⟩
abbrev main_call1_call0_call0_v54 : Ref sig .tc := ⟨.hbm, 336, rfl⟩
abbrev main_call1_call0_call0_c_13 : Ref sig .tc := ⟨.hbm, 337, rfl⟩
abbrev main_call1_call0_call0_v55 : Ref sig .tc := ⟨.hbm, 338, rfl⟩
abbrev main_call1_call0_call0_v56 : Ref sig .tc := ⟨.hbm, 339, rfl⟩
abbrev main_call1_call0_call0_c_14 : Ref sig .tc := ⟨.hbm, 340, rfl⟩
abbrev main_call1_call0_call0_v57 : Ref sig .tc := ⟨.hbm, 341, rfl⟩
abbrev main_call1_call0_call0_v58 : Ref sig .tc := ⟨.hbm, 342, rfl⟩
abbrev main_call1_call0_call0_v59 : Ref sig .tc := ⟨.hbm, 343, rfl⟩
abbrev main_call1_call0_call0_v60 : Ref sig .tc := ⟨.hbm, 344, rfl⟩
abbrev main_call1_call0_call0_v61 : Ref sig .tc := ⟨.hbm, 345, rfl⟩
abbrev main_call1_call0_call0_c_15 : Ref sig .tc := ⟨.hbm, 346, rfl⟩
abbrev main_call1_call0_call0_v62 : Ref sig .tc := ⟨.hbm, 347, rfl⟩
abbrev main_call1_call0_call0_v63 : Ref sig .tc := ⟨.hbm, 348, rfl⟩
abbrev main_call1_call0_call0_c_16 : Ref sig .tc := ⟨.hbm, 349, rfl⟩
abbrev main_call1_call0_call0_v64 : Ref sig .tc := ⟨.hbm, 350, rfl⟩
abbrev main_call1_call0_call0_v65 : Ref sig .tc := ⟨.hbm, 351, rfl⟩
abbrev main_call1_call0_call0_v66 : Ref sig .tc := ⟨.hbm, 352, rfl⟩
abbrev main_call1_call0_call0_v67 : Ref sig .tc := ⟨.hbm, 353, rfl⟩
abbrev main_call1_call0_call0_v68 : Ref sig .tc := ⟨.hbm, 354, rfl⟩
abbrev main_call1_call0_call0_v69 : Ref sig .tc := ⟨.hbm, 355, rfl⟩
abbrev main_call1_call0_call0_v70 : Ref sig .tc := ⟨.hbm, 356, rfl⟩
abbrev main_call1_call0_call0_v71 : Ref sig .tc := ⟨.hbm, 357, rfl⟩
abbrev main_call1_call0_call0_c_17 : Ref sig .tc := ⟨.hbm, 358, rfl⟩
abbrev main_call1_call0_call0_v72 : Ref sig .tc := ⟨.hbm, 359, rfl⟩
abbrev main_call1_call0_call0_v73 : Ref sig .tc := ⟨.hbm, 360, rfl⟩
abbrev main_call1_call0_call0_v74 : Ref sig .tc := ⟨.hbm, 361, rfl⟩
abbrev main_call1_call0_call0_c_18 : Ref sig .tc := ⟨.hbm, 362, rfl⟩
abbrev main_call1_call0_call0_v75 : Ref sig .tc := ⟨.hbm, 363, rfl⟩
abbrev main_call1_call0_call0_v76 : Ref sig .tc := ⟨.hbm, 364, rfl⟩
abbrev main_call1_call0_call0_c_19 : Ref sig .tc := ⟨.hbm, 365, rfl⟩
abbrev main_call1_call0_call0_v77 : Ref sig .tc := ⟨.hbm, 366, rfl⟩
abbrev main_call1_call0_call0_v78 : Ref sig .tc := ⟨.hbm, 367, rfl⟩
abbrev main_call1_call0_call0_v79 : Ref sig .tc := ⟨.hbm, 368, rfl⟩
abbrev main_call1_call0_call0_v80 : Ref sig .tc := ⟨.hbm, 369, rfl⟩
abbrev main_call1_call0_call0_v81 : Ref sig .tc := ⟨.hbm, 370, rfl⟩
abbrev main_call1_call0_call0_c_20 : Ref sig .tc := ⟨.hbm, 371, rfl⟩
abbrev main_call1_call0_call0_v82 : Ref sig .tc := ⟨.hbm, 372, rfl⟩
abbrev main_call1_call0_call0_v83 : Ref sig .tc := ⟨.hbm, 373, rfl⟩
abbrev main_call1_call0_call0_c_21 : Ref sig .tc := ⟨.hbm, 374, rfl⟩
abbrev main_call1_call0_call0_v84 : Ref sig .tc := ⟨.hbm, 375, rfl⟩
abbrev main_call1_call0_call0_v85 : Ref sig .tc := ⟨.hbm, 376, rfl⟩
abbrev main_call1_call0_call0_v86 : Ref sig .tc := ⟨.hbm, 377, rfl⟩
abbrev main_call1_call0_call0_v87 : Ref sig .tc := ⟨.hbm, 378, rfl⟩
abbrev main_call1_call0_call0_v88 : Ref sig .tc := ⟨.hbm, 379, rfl⟩
abbrev main_call1_call0_call0_c_22 : Ref sig .tc := ⟨.hbm, 380, rfl⟩
abbrev main_call1_call0_call0_v89 : Ref sig .tc := ⟨.hbm, 381, rfl⟩
abbrev main_call1_call0_call0_v90 : Ref sig .tc := ⟨.hbm, 382, rfl⟩
abbrev main_call1_call0_call0_c_23 : Ref sig .tc := ⟨.hbm, 383, rfl⟩
abbrev main_call1_call0_call0_v91 : Ref sig .tc := ⟨.hbm, 384, rfl⟩
abbrev main_call1_call0_call0_v92 : Ref sig .tc := ⟨.hbm, 385, rfl⟩
abbrev main_call1_call0_call0_v93 : Ref sig .tc := ⟨.hbm, 386, rfl⟩
abbrev main_call1_call0_call0_v94 : Ref sig .tc := ⟨.hbm, 387, rfl⟩
abbrev main_call1_call0_call0_v95 : Ref sig .tc := ⟨.hbm, 388, rfl⟩
abbrev main_call1_call0_call0_c_24 : Ref sig .tc := ⟨.hbm, 389, rfl⟩
abbrev main_call1_call0_call0_v96 : Ref sig .tc := ⟨.hbm, 390, rfl⟩
abbrev main_call1_call0_call0_v97 : Ref sig .tc := ⟨.hbm, 391, rfl⟩
abbrev main_call1_call0_call0_c_25 : Ref sig .tc := ⟨.hbm, 392, rfl⟩
abbrev main_call1_call0_call0_v98 : Ref sig .tc := ⟨.hbm, 393, rfl⟩
abbrev main_call1_call0_call0_v99 : Ref sig .tc := ⟨.hbm, 394, rfl⟩
abbrev main_call1_call0_call0_v100 : Ref sig .tc := ⟨.hbm, 395, rfl⟩
abbrev main_call1_call0_call0_v101 : Ref sig .tc := ⟨.hbm, 396, rfl⟩
abbrev main_call1_call0_call0_v102 : Ref sig .tc := ⟨.hbm, 397, rfl⟩
abbrev main_call1_call0_call0_v103 : Ref sig .tc := ⟨.hbm, 398, rfl⟩
abbrev main_call1_call0_call0_v104 : Ref sig .tc := ⟨.hbm, 399, rfl⟩
abbrev main_call1_call0_call0_v105 : Ref sig .tc := ⟨.hbm, 400, rfl⟩
abbrev main_call1_call0_call0_c_26 : Ref sig .tc := ⟨.hbm, 401, rfl⟩
abbrev main_call1_call0_call0_v106 : Ref sig .tc := ⟨.hbm, 402, rfl⟩
abbrev main_call1_call0_call0_v107 : Ref sig .tc := ⟨.hbm, 403, rfl⟩
abbrev main_call1_call0_call0_v108 : Ref sig .tc := ⟨.hbm, 404, rfl⟩
abbrev main_call1_call0_call0_c_27 : Ref sig .tc := ⟨.hbm, 405, rfl⟩
abbrev main_call1_call0_call0_v109 : Ref sig .tc := ⟨.hbm, 406, rfl⟩
abbrev main_call1_call0_call0_v110 : Ref sig .tc := ⟨.hbm, 407, rfl⟩
abbrev main_call1_call0_call0_c_28 : Ref sig .tc := ⟨.hbm, 408, rfl⟩
abbrev main_call1_call0_call0_v111 : Ref sig .tc := ⟨.hbm, 409, rfl⟩
abbrev main_call1_call0_call0_v112 : Ref sig .tc := ⟨.hbm, 410, rfl⟩
abbrev main_call1_call0_call0_v113 : Ref sig .tc := ⟨.hbm, 411, rfl⟩
abbrev main_call1_call0_call0_v114 : Ref sig .tc := ⟨.hbm, 412, rfl⟩
abbrev main_call1_call0_call0_v115 : Ref sig .tc := ⟨.hbm, 413, rfl⟩
abbrev main_call1_call0_call0_c_29 : Ref sig .tc := ⟨.hbm, 414, rfl⟩
abbrev main_call1_call0_call0_v116 : Ref sig .tc := ⟨.hbm, 415, rfl⟩
abbrev main_call1_call0_call0_v117 : Ref sig .tc := ⟨.hbm, 416, rfl⟩
abbrev main_call1_call0_call0_c_30 : Ref sig .tc := ⟨.hbm, 417, rfl⟩
abbrev main_call1_call0_call0_v118 : Ref sig .tc := ⟨.hbm, 418, rfl⟩
abbrev main_call1_call0_call0_v119 : Ref sig .tc := ⟨.hbm, 419, rfl⟩
abbrev main_call1_call0_call0_v120 : Ref sig .tc := ⟨.hbm, 420, rfl⟩
abbrev main_call1_call0_call0_v121 : Ref sig .tc := ⟨.hbm, 421, rfl⟩
abbrev main_call1_call0_call0_v122 : Ref sig .tc := ⟨.hbm, 422, rfl⟩
abbrev main_call1_call0_call0_c_31 : Ref sig .tc := ⟨.hbm, 423, rfl⟩
abbrev main_call1_call0_call0_v123 : Ref sig .tc := ⟨.hbm, 424, rfl⟩
abbrev main_call1_call0_call0_v124 : Ref sig .tc := ⟨.hbm, 425, rfl⟩
abbrev main_call1_call0_call0_c_32 : Ref sig .tc := ⟨.hbm, 426, rfl⟩
abbrev main_call1_call0_call0_v125 : Ref sig .tc := ⟨.hbm, 427, rfl⟩
abbrev main_call1_call0_call0_v126 : Ref sig .tc := ⟨.hbm, 428, rfl⟩
abbrev main_call1_call0_call0_v127 : Ref sig .tc := ⟨.hbm, 429, rfl⟩
abbrev main_call1_call0_call0_v128 : Ref sig .tc := ⟨.hbm, 430, rfl⟩
abbrev main_call1_call0_call0_v129 : Ref sig .tc := ⟨.hbm, 431, rfl⟩
abbrev main_call1_call0_call0_c_33 : Ref sig .tc := ⟨.hbm, 432, rfl⟩
abbrev main_call1_call0_call0_v130 : Ref sig .tc := ⟨.hbm, 433, rfl⟩
abbrev main_call1_call0_call0_v131 : Ref sig .tc := ⟨.hbm, 434, rfl⟩
abbrev main_call1_call0_call0_c_34 : Ref sig .tc := ⟨.hbm, 435, rfl⟩
abbrev main_call1_call0_call0_v132 : Ref sig .tc := ⟨.hbm, 436, rfl⟩
abbrev main_call1_call0_call0_v133 : Ref sig .tc := ⟨.hbm, 437, rfl⟩
abbrev main_call1_call0_call0_v134 : Ref sig .tc := ⟨.hbm, 438, rfl⟩
abbrev main_call1_call0_call0_v135 : Ref sig .tc := ⟨.hbm, 439, rfl⟩
abbrev main_call1_call0_call0_v136 : Ref sig .tc := ⟨.hbm, 440, rfl⟩
abbrev main_call1_call0_call0_v137 : Ref sig .tc := ⟨.hbm, 441, rfl⟩
abbrev main_call1_call0_call0_v138 : Ref sig .tc := ⟨.hbm, 442, rfl⟩
abbrev main_call1_call0_call0_v139 : Ref sig .tc := ⟨.hbm, 443, rfl⟩
abbrev main_call1_call0_call0_c_35 : Ref sig .tc := ⟨.hbm, 444, rfl⟩
abbrev main_call1_call0_call0_v140 : Ref sig .tc := ⟨.hbm, 445, rfl⟩
abbrev main_call1_call0_call0_v141 : Ref sig .tc := ⟨.hbm, 446, rfl⟩
abbrev main_call1_call0_call0_v142 : Ref sig .tc := ⟨.hbm, 447, rfl⟩
abbrev main_call1_call0_call0_c_36 : Ref sig .tc := ⟨.hbm, 448, rfl⟩
abbrev main_call1_call0_call0_v143 : Ref sig .tc := ⟨.hbm, 449, rfl⟩
abbrev main_call1_call0_call0_v144 : Ref sig .tc := ⟨.hbm, 450, rfl⟩
abbrev main_call1_call0_call0_c_37 : Ref sig .tc := ⟨.hbm, 451, rfl⟩
abbrev main_call1_call0_call0_v145 : Ref sig .tc := ⟨.hbm, 452, rfl⟩
abbrev main_call1_call0_call0_v146 : Ref sig .tc := ⟨.hbm, 453, rfl⟩
abbrev main_call1_call0_call0_v147 : Ref sig .tc := ⟨.hbm, 454, rfl⟩
abbrev main_call1_call0_call0_v148 : Ref sig .tc := ⟨.hbm, 455, rfl⟩
abbrev main_call1_call0_call0_v149 : Ref sig .tc := ⟨.hbm, 456, rfl⟩
abbrev main_call1_call0_call0_c_38 : Ref sig .tc := ⟨.hbm, 457, rfl⟩
abbrev main_call1_call0_call0_v150 : Ref sig .tc := ⟨.hbm, 458, rfl⟩
abbrev main_call1_call0_call0_v151 : Ref sig .tc := ⟨.hbm, 459, rfl⟩
abbrev main_call1_call0_call0_c_39 : Ref sig .tc := ⟨.hbm, 460, rfl⟩
abbrev main_call1_call0_call0_v152 : Ref sig .tc := ⟨.hbm, 461, rfl⟩
abbrev main_call1_call0_call0_v153 : Ref sig .tc := ⟨.hbm, 462, rfl⟩
abbrev main_call1_call0_call0_v154 : Ref sig .tc := ⟨.hbm, 463, rfl⟩
abbrev main_call1_call0_call0_v155 : Ref sig .tc := ⟨.hbm, 464, rfl⟩
abbrev main_call1_call0_call0_v156 : Ref sig .tc := ⟨.hbm, 465, rfl⟩
abbrev main_call1_call0_call0_c_40 : Ref sig .tc := ⟨.hbm, 466, rfl⟩
abbrev main_call1_call0_call0_v157 : Ref sig .tc := ⟨.hbm, 467, rfl⟩
abbrev main_call1_call0_call0_v158 : Ref sig .tc := ⟨.hbm, 468, rfl⟩
abbrev main_call1_call0_call0_c_41 : Ref sig .tc := ⟨.hbm, 469, rfl⟩
abbrev main_call1_call0_call0_v159 : Ref sig .tc := ⟨.hbm, 470, rfl⟩
abbrev main_call1_call0_call0_v160 : Ref sig .tc := ⟨.hbm, 471, rfl⟩
abbrev main_call1_call0_call0_v161 : Ref sig .tc := ⟨.hbm, 472, rfl⟩
abbrev main_call1_call0_call0_v162 : Ref sig .tc := ⟨.hbm, 473, rfl⟩
abbrev main_call1_call0_call0_v163 : Ref sig .tc := ⟨.hbm, 474, rfl⟩
abbrev main_call1_call0_call0_c_42 : Ref sig .tc := ⟨.hbm, 475, rfl⟩
abbrev main_call1_call0_call0_v164 : Ref sig .tc := ⟨.hbm, 476, rfl⟩
abbrev main_call1_call0_call0_v165 : Ref sig .tc := ⟨.hbm, 477, rfl⟩
abbrev main_call1_call0_call0_c_43 : Ref sig .tc := ⟨.hbm, 478, rfl⟩
abbrev main_call1_call0_call0_v166 : Ref sig .tc := ⟨.hbm, 479, rfl⟩
abbrev main_call1_call0_call0_v167 : Ref sig .tc := ⟨.hbm, 480, rfl⟩
abbrev main_call1_call0_call0_v168 : Ref sig .tc := ⟨.hbm, 481, rfl⟩
abbrev main_call1_call0_call0_v169 : Ref sig .tc := ⟨.hbm, 482, rfl⟩
abbrev main_call1_call0_call0_v170 : Ref sig .tc := ⟨.hbm, 483, rfl⟩
abbrev main_call1_call0_v11_0 : Ref sig .tc := ⟨.hbm, 484, rfl⟩
abbrev main_call1_call0_call0_v172 : Ref sig .tc := ⟨.hbm, 485, rfl⟩
abbrev main_call1_call0_call0_v173 : Ref sig .tc := ⟨.hbm, 486, rfl⟩
abbrev main_call1_call0_call0_c_44 : Ref sig .tc := ⟨.hbm, 487, rfl⟩
abbrev main_call1_call0_call0_v174 : Ref sig .tc := ⟨.hbm, 488, rfl⟩
abbrev main_call1_call0_v11_1 : Ref sig .tc := ⟨.hbm, 489, rfl⟩
abbrev main_call1_call0_v12 : Ref sig .tc := ⟨.hbm, 490, rfl⟩
abbrev main_call1_call0_v13 : Ref sig .tc := ⟨.hbm, 491, rfl⟩
abbrev main_call1_v0 : Ref sig .tc := ⟨.hbm, 492, rfl⟩
abbrev main_call1_v1 : Ref sig .tc := ⟨.hbm, 493, rfl⟩
abbrev main_call1_v2 : Ref sig .tc := ⟨.hbm, 494, rfl⟩
abbrev main_call1_v3 : Ref sig .tc := ⟨.hbm, 495, rfl⟩
abbrev main_call1_v4 : Ref sig .tc := ⟨.hbm, 496, rfl⟩
abbrev main_call1_v5 : Ref sig .tc := ⟨.hbm, 497, rfl⟩
abbrev main_call1_v6 : Ref sig .tc := ⟨.hbm, 498, rfl⟩
abbrev main_call1_v7 : Ref sig .tc := ⟨.hbm, 499, rfl⟩
abbrev main_call1_v8 : Ref sig .tc := ⟨.hbm, 500, rfl⟩
abbrev main_call1_v9 : Ref sig .tc := ⟨.hbm, 501, rfl⟩
abbrev main_call1_c : Ref sig .tc := ⟨.hbm, 502, rfl⟩
abbrev main_call1_v10 : Ref sig .tc := ⟨.hbm, 503, rfl⟩
abbrev main_call1_v11 : Ref sig .tc := ⟨.hbm, 504, rfl⟩
abbrev main_call1_c_0 : Ref sig .tc := ⟨.hbm, 505, rfl⟩
abbrev main_call1_v12 : Ref sig .tc := ⟨.hbm, 506, rfl⟩
abbrev main_call1_v13 : Ref sig .tc := ⟨.hbm, 507, rfl⟩
abbrev main_call1_v14 : Ref sig .tc := ⟨.hbm, 508, rfl⟩
abbrev main_call1_v15 : Ref sig .tc := ⟨.hbm, 509, rfl⟩
abbrev main_call1_call1_v0 : Ref sig .tc := ⟨.hbm, 510, rfl⟩
abbrev main_call1_call1_c : Ref sig .tc := ⟨.hbm, 511, rfl⟩
abbrev main_call1_call1_v1 : Ref sig .tc := ⟨.hbm, 512, rfl⟩
abbrev main_call1_call1_v2 : Ref sig .tc := ⟨.hbm, 513, rfl⟩
abbrev main_call1_call1_v3 : Ref sig .tc := ⟨.hbm, 514, rfl⟩
abbrev main_call1_call1_v4 : Ref sig .tc := ⟨.hbm, 515, rfl⟩
abbrev main_call1_call1_v5 : Ref sig .tc := ⟨.hbm, 516, rfl⟩
abbrev main_call1_call1_v6 : Ref sig .tc := ⟨.hbm, 517, rfl⟩
abbrev main_call1_call1_c_0 : Ref sig .tc := ⟨.hbm, 518, rfl⟩
abbrev main_call1_call1_v7 : Ref sig .tc := ⟨.hbm, 519, rfl⟩
abbrev main_call1_call1_v8 : Ref sig .tc := ⟨.hbm, 520, rfl⟩
abbrev main_call1_call1_c_1 : Ref sig .tc := ⟨.hbm, 521, rfl⟩
abbrev main_call1_call1_v9 : Ref sig .tc := ⟨.hbm, 522, rfl⟩
abbrev main_call1_call1_v10 : Ref sig .tc := ⟨.hbm, 523, rfl⟩
abbrev main_call1_call1_v11 : Ref sig .tc := ⟨.hbm, 524, rfl⟩
abbrev main_call1_call1_v12 : Ref sig .tc := ⟨.hbm, 525, rfl⟩
abbrev main_call1_call1_v13 : Ref sig .tc := ⟨.hbm, 526, rfl⟩
abbrev main_call1_call1_c_2 : Ref sig .tc := ⟨.hbm, 527, rfl⟩
abbrev main_call1_call1_v14 : Ref sig .tc := ⟨.hbm, 528, rfl⟩
abbrev main_call1_call1_v15 : Ref sig .tc := ⟨.hbm, 529, rfl⟩
abbrev main_call1_call1_c_3 : Ref sig .tc := ⟨.hbm, 530, rfl⟩
abbrev main_call1_call1_v16 : Ref sig .tc := ⟨.hbm, 531, rfl⟩
abbrev main_call1_call1_v17 : Ref sig .tc := ⟨.hbm, 532, rfl⟩
abbrev main_call1_call1_v18 : Ref sig .tc := ⟨.hbm, 533, rfl⟩
abbrev main_call1_call1_v19 : Ref sig .tc := ⟨.hbm, 534, rfl⟩
abbrev main_call1_call1_v20 : Ref sig .tc := ⟨.hbm, 535, rfl⟩
abbrev main_call1_call1_c_4 : Ref sig .tc := ⟨.hbm, 536, rfl⟩
abbrev main_call1_call1_v21 : Ref sig .tc := ⟨.hbm, 537, rfl⟩
abbrev main_call1_call1_v22 : Ref sig .tc := ⟨.hbm, 538, rfl⟩
abbrev main_call1_call1_c_5 : Ref sig .tc := ⟨.hbm, 539, rfl⟩
abbrev main_call1_call1_v23 : Ref sig .tc := ⟨.hbm, 540, rfl⟩
abbrev main_call1_call1_v24 : Ref sig .tc := ⟨.hbm, 541, rfl⟩
abbrev main_call1_call1_v25 : Ref sig .tc := ⟨.hbm, 542, rfl⟩
abbrev main_call1_call1_v26 : Ref sig .tc := ⟨.hbm, 543, rfl⟩
abbrev main_call1_call1_v27 : Ref sig .tc := ⟨.hbm, 544, rfl⟩
abbrev main_call1_call1_c_6 : Ref sig .tc := ⟨.hbm, 545, rfl⟩
abbrev main_call1_call1_v28 : Ref sig .tc := ⟨.hbm, 546, rfl⟩
abbrev main_call1_call1_v29 : Ref sig .tc := ⟨.hbm, 547, rfl⟩
abbrev main_call1_call1_c_7 : Ref sig .tc := ⟨.hbm, 548, rfl⟩
abbrev main_call1_call1_v30 : Ref sig .tc := ⟨.hbm, 549, rfl⟩
abbrev main_call1_call1_v31 : Ref sig .tc := ⟨.hbm, 550, rfl⟩
abbrev main_call1_call1_v32 : Ref sig .tc := ⟨.hbm, 551, rfl⟩
abbrev main_call1_call1_v33 : Ref sig .tc := ⟨.hbm, 552, rfl⟩
abbrev main_call1_call1_v34 : Ref sig .tc := ⟨.hbm, 553, rfl⟩
abbrev main_call1_call1_v35 : Ref sig .tc := ⟨.hbm, 554, rfl⟩
abbrev main_call1_call1_v36 : Ref sig .tc := ⟨.hbm, 555, rfl⟩
abbrev main_call1_call1_v37 : Ref sig .tc := ⟨.hbm, 556, rfl⟩
abbrev main_call1_call1_c_8 : Ref sig .tc := ⟨.hbm, 557, rfl⟩
abbrev main_call1_call1_v38 : Ref sig .tc := ⟨.hbm, 558, rfl⟩
abbrev main_call1_call1_v39 : Ref sig .tc := ⟨.hbm, 559, rfl⟩
abbrev main_call1_call1_v40 : Ref sig .tc := ⟨.hbm, 560, rfl⟩
abbrev main_call1_call1_c_9 : Ref sig .tc := ⟨.hbm, 561, rfl⟩
abbrev main_call1_call1_v41 : Ref sig .tc := ⟨.hbm, 562, rfl⟩
abbrev main_call1_call1_v42 : Ref sig .tc := ⟨.hbm, 563, rfl⟩
abbrev main_call1_call1_c_10 : Ref sig .tc := ⟨.hbm, 564, rfl⟩
abbrev main_call1_call1_v43 : Ref sig .tc := ⟨.hbm, 565, rfl⟩
abbrev main_call1_call1_v44 : Ref sig .tc := ⟨.hbm, 566, rfl⟩
abbrev main_call1_call1_v45 : Ref sig .tc := ⟨.hbm, 567, rfl⟩
abbrev main_call1_call1_v46 : Ref sig .tc := ⟨.hbm, 568, rfl⟩
abbrev main_call1_call1_v47 : Ref sig .tc := ⟨.hbm, 569, rfl⟩
abbrev main_call1_call1_c_11 : Ref sig .tc := ⟨.hbm, 570, rfl⟩
abbrev main_call1_call1_v48 : Ref sig .tc := ⟨.hbm, 571, rfl⟩
abbrev main_call1_call1_v49 : Ref sig .tc := ⟨.hbm, 572, rfl⟩
abbrev main_call1_call1_c_12 : Ref sig .tc := ⟨.hbm, 573, rfl⟩
abbrev main_call1_call1_v50 : Ref sig .tc := ⟨.hbm, 574, rfl⟩
abbrev main_call1_call1_v51 : Ref sig .tc := ⟨.hbm, 575, rfl⟩
abbrev main_call1_call1_v52 : Ref sig .tc := ⟨.hbm, 576, rfl⟩
abbrev main_call1_call1_v53 : Ref sig .tc := ⟨.hbm, 577, rfl⟩
abbrev main_call1_call1_v54 : Ref sig .tc := ⟨.hbm, 578, rfl⟩
abbrev main_call1_call1_c_13 : Ref sig .tc := ⟨.hbm, 579, rfl⟩
abbrev main_call1_call1_v55 : Ref sig .tc := ⟨.hbm, 580, rfl⟩
abbrev main_call1_call1_v56 : Ref sig .tc := ⟨.hbm, 581, rfl⟩
abbrev main_call1_call1_c_14 : Ref sig .tc := ⟨.hbm, 582, rfl⟩
abbrev main_call1_call1_v57 : Ref sig .tc := ⟨.hbm, 583, rfl⟩
abbrev main_call1_call1_v58 : Ref sig .tc := ⟨.hbm, 584, rfl⟩
abbrev main_call1_call1_v59 : Ref sig .tc := ⟨.hbm, 585, rfl⟩
abbrev main_call1_call1_v60 : Ref sig .tc := ⟨.hbm, 586, rfl⟩
abbrev main_call1_call1_v61 : Ref sig .tc := ⟨.hbm, 587, rfl⟩
abbrev main_call1_call1_c_15 : Ref sig .tc := ⟨.hbm, 588, rfl⟩
abbrev main_call1_call1_v62 : Ref sig .tc := ⟨.hbm, 589, rfl⟩
abbrev main_call1_call1_v63 : Ref sig .tc := ⟨.hbm, 590, rfl⟩
abbrev main_call1_call1_c_16 : Ref sig .tc := ⟨.hbm, 591, rfl⟩
abbrev main_call1_call1_v64 : Ref sig .tc := ⟨.hbm, 592, rfl⟩
abbrev main_call1_call1_v65 : Ref sig .tc := ⟨.hbm, 593, rfl⟩
abbrev main_call1_call1_v66 : Ref sig .tc := ⟨.hbm, 594, rfl⟩
abbrev main_call1_call1_v67 : Ref sig .tc := ⟨.hbm, 595, rfl⟩
abbrev main_call1_call1_v68 : Ref sig .tc := ⟨.hbm, 596, rfl⟩
abbrev main_call1_call1_v69 : Ref sig .tc := ⟨.hbm, 597, rfl⟩
abbrev main_call1_call1_v70 : Ref sig .tc := ⟨.hbm, 598, rfl⟩
abbrev main_call1_call1_v71 : Ref sig .tc := ⟨.hbm, 599, rfl⟩
abbrev main_call1_call1_c_17 : Ref sig .tc := ⟨.hbm, 600, rfl⟩
abbrev main_call1_call1_v72 : Ref sig .tc := ⟨.hbm, 601, rfl⟩
abbrev main_call1_call1_v73 : Ref sig .tc := ⟨.hbm, 602, rfl⟩
abbrev main_call1_call1_v74 : Ref sig .tc := ⟨.hbm, 603, rfl⟩
abbrev main_call1_call1_c_18 : Ref sig .tc := ⟨.hbm, 604, rfl⟩
abbrev main_call1_call1_v75 : Ref sig .tc := ⟨.hbm, 605, rfl⟩
abbrev main_call1_call1_v76 : Ref sig .tc := ⟨.hbm, 606, rfl⟩
abbrev main_call1_call1_c_19 : Ref sig .tc := ⟨.hbm, 607, rfl⟩
abbrev main_call1_call1_v77 : Ref sig .tc := ⟨.hbm, 608, rfl⟩
abbrev main_call1_call1_v78 : Ref sig .tc := ⟨.hbm, 609, rfl⟩
abbrev main_call1_call1_v79 : Ref sig .tc := ⟨.hbm, 610, rfl⟩
abbrev main_call1_call1_v80 : Ref sig .tc := ⟨.hbm, 611, rfl⟩
abbrev main_call1_call1_v81 : Ref sig .tc := ⟨.hbm, 612, rfl⟩
abbrev main_call1_call1_c_20 : Ref sig .tc := ⟨.hbm, 613, rfl⟩
abbrev main_call1_call1_v82 : Ref sig .tc := ⟨.hbm, 614, rfl⟩
abbrev main_call1_call1_v83 : Ref sig .tc := ⟨.hbm, 615, rfl⟩
abbrev main_call1_call1_c_21 : Ref sig .tc := ⟨.hbm, 616, rfl⟩
abbrev main_call1_call1_v84 : Ref sig .tc := ⟨.hbm, 617, rfl⟩
abbrev main_call1_call1_v85 : Ref sig .tc := ⟨.hbm, 618, rfl⟩
abbrev main_call1_call1_v86 : Ref sig .tc := ⟨.hbm, 619, rfl⟩
abbrev main_call1_call1_v87 : Ref sig .tc := ⟨.hbm, 620, rfl⟩
abbrev main_call1_call1_v88 : Ref sig .tc := ⟨.hbm, 621, rfl⟩
abbrev main_call1_call1_c_22 : Ref sig .tc := ⟨.hbm, 622, rfl⟩
abbrev main_call1_call1_v89 : Ref sig .tc := ⟨.hbm, 623, rfl⟩
abbrev main_call1_call1_v90 : Ref sig .tc := ⟨.hbm, 624, rfl⟩
abbrev main_call1_call1_c_23 : Ref sig .tc := ⟨.hbm, 625, rfl⟩
abbrev main_call1_call1_v91 : Ref sig .tc := ⟨.hbm, 626, rfl⟩
abbrev main_call1_call1_v92 : Ref sig .tc := ⟨.hbm, 627, rfl⟩
abbrev main_call1_call1_v93 : Ref sig .tc := ⟨.hbm, 628, rfl⟩
abbrev main_call1_call1_v94 : Ref sig .tc := ⟨.hbm, 629, rfl⟩
abbrev main_call1_call1_v95 : Ref sig .tc := ⟨.hbm, 630, rfl⟩
abbrev main_call1_call1_c_24 : Ref sig .tc := ⟨.hbm, 631, rfl⟩
abbrev main_call1_call1_v96 : Ref sig .tc := ⟨.hbm, 632, rfl⟩
abbrev main_call1_call1_v97 : Ref sig .tc := ⟨.hbm, 633, rfl⟩
abbrev main_call1_call1_c_25 : Ref sig .tc := ⟨.hbm, 634, rfl⟩
abbrev main_call1_call1_v98 : Ref sig .tc := ⟨.hbm, 635, rfl⟩
abbrev main_call1_call1_v99 : Ref sig .tc := ⟨.hbm, 636, rfl⟩
abbrev main_call1_call1_v100 : Ref sig .tc := ⟨.hbm, 637, rfl⟩
abbrev main_call1_call1_v101 : Ref sig .tc := ⟨.hbm, 638, rfl⟩
abbrev main_call1_call1_v102 : Ref sig .tc := ⟨.hbm, 639, rfl⟩
abbrev main_call1_call1_v103 : Ref sig .tc := ⟨.hbm, 640, rfl⟩
abbrev main_call1_call1_v104 : Ref sig .tc := ⟨.hbm, 641, rfl⟩
abbrev main_call1_call1_v105 : Ref sig .tc := ⟨.hbm, 642, rfl⟩
abbrev main_call1_call1_c_26 : Ref sig .tc := ⟨.hbm, 643, rfl⟩
abbrev main_call1_call1_v106 : Ref sig .tc := ⟨.hbm, 644, rfl⟩
abbrev main_call1_call1_v107 : Ref sig .tc := ⟨.hbm, 645, rfl⟩
abbrev main_call1_call1_v108 : Ref sig .tc := ⟨.hbm, 646, rfl⟩
abbrev main_call1_call1_c_27 : Ref sig .tc := ⟨.hbm, 647, rfl⟩
abbrev main_call1_call1_v109 : Ref sig .tc := ⟨.hbm, 648, rfl⟩
abbrev main_call1_call1_v110 : Ref sig .tc := ⟨.hbm, 649, rfl⟩
abbrev main_call1_call1_c_28 : Ref sig .tc := ⟨.hbm, 650, rfl⟩
abbrev main_call1_call1_v111 : Ref sig .tc := ⟨.hbm, 651, rfl⟩
abbrev main_call1_call1_v112 : Ref sig .tc := ⟨.hbm, 652, rfl⟩
abbrev main_call1_call1_v113 : Ref sig .tc := ⟨.hbm, 653, rfl⟩
abbrev main_call1_call1_v114 : Ref sig .tc := ⟨.hbm, 654, rfl⟩
abbrev main_call1_call1_v115 : Ref sig .tc := ⟨.hbm, 655, rfl⟩
abbrev main_call1_call1_c_29 : Ref sig .tc := ⟨.hbm, 656, rfl⟩
abbrev main_call1_call1_v116 : Ref sig .tc := ⟨.hbm, 657, rfl⟩
abbrev main_call1_call1_v117 : Ref sig .tc := ⟨.hbm, 658, rfl⟩
abbrev main_call1_call1_c_30 : Ref sig .tc := ⟨.hbm, 659, rfl⟩
abbrev main_call1_call1_v118 : Ref sig .tc := ⟨.hbm, 660, rfl⟩
abbrev main_call1_call1_v119 : Ref sig .tc := ⟨.hbm, 661, rfl⟩
abbrev main_call1_call1_v120 : Ref sig .tc := ⟨.hbm, 662, rfl⟩
abbrev main_call1_call1_v121 : Ref sig .tc := ⟨.hbm, 663, rfl⟩
abbrev main_call1_call1_v122 : Ref sig .tc := ⟨.hbm, 664, rfl⟩
abbrev main_call1_call1_c_31 : Ref sig .tc := ⟨.hbm, 665, rfl⟩
abbrev main_call1_call1_v123 : Ref sig .tc := ⟨.hbm, 666, rfl⟩
abbrev main_call1_call1_v124 : Ref sig .tc := ⟨.hbm, 667, rfl⟩
abbrev main_call1_call1_c_32 : Ref sig .tc := ⟨.hbm, 668, rfl⟩
abbrev main_call1_call1_v125 : Ref sig .tc := ⟨.hbm, 669, rfl⟩
abbrev main_call1_call1_v126 : Ref sig .tc := ⟨.hbm, 670, rfl⟩
abbrev main_call1_call1_v127 : Ref sig .tc := ⟨.hbm, 671, rfl⟩
abbrev main_call1_call1_v128 : Ref sig .tc := ⟨.hbm, 672, rfl⟩
abbrev main_call1_call1_v129 : Ref sig .tc := ⟨.hbm, 673, rfl⟩
abbrev main_call1_call1_c_33 : Ref sig .tc := ⟨.hbm, 674, rfl⟩
abbrev main_call1_call1_v130 : Ref sig .tc := ⟨.hbm, 675, rfl⟩
abbrev main_call1_call1_v131 : Ref sig .tc := ⟨.hbm, 676, rfl⟩
abbrev main_call1_call1_c_34 : Ref sig .tc := ⟨.hbm, 677, rfl⟩
abbrev main_call1_call1_v132 : Ref sig .tc := ⟨.hbm, 678, rfl⟩
abbrev main_call1_call1_v133 : Ref sig .tc := ⟨.hbm, 679, rfl⟩
abbrev main_call1_call1_v134 : Ref sig .tc := ⟨.hbm, 680, rfl⟩
abbrev main_call1_call1_v135 : Ref sig .tc := ⟨.hbm, 681, rfl⟩
abbrev main_call1_call1_v136 : Ref sig .tc := ⟨.hbm, 682, rfl⟩
abbrev main_call1_call1_v137 : Ref sig .tc := ⟨.hbm, 683, rfl⟩
abbrev main_call1_call1_v138 : Ref sig .tc := ⟨.hbm, 684, rfl⟩
abbrev main_call1_call1_v139 : Ref sig .tc := ⟨.hbm, 685, rfl⟩
abbrev main_call1_call1_c_35 : Ref sig .tc := ⟨.hbm, 686, rfl⟩
abbrev main_call1_call1_v140 : Ref sig .tc := ⟨.hbm, 687, rfl⟩
abbrev main_call1_call1_v141 : Ref sig .tc := ⟨.hbm, 688, rfl⟩
abbrev main_call1_call1_v142 : Ref sig .tc := ⟨.hbm, 689, rfl⟩
abbrev main_call1_call1_c_36 : Ref sig .tc := ⟨.hbm, 690, rfl⟩
abbrev main_call1_call1_v143 : Ref sig .tc := ⟨.hbm, 691, rfl⟩
abbrev main_call1_call1_v144 : Ref sig .tc := ⟨.hbm, 692, rfl⟩
abbrev main_call1_call1_c_37 : Ref sig .tc := ⟨.hbm, 693, rfl⟩
abbrev main_call1_call1_v145 : Ref sig .tc := ⟨.hbm, 694, rfl⟩
abbrev main_call1_call1_v146 : Ref sig .tc := ⟨.hbm, 695, rfl⟩
abbrev main_call1_call1_v147 : Ref sig .tc := ⟨.hbm, 696, rfl⟩
abbrev main_call1_call1_v148 : Ref sig .tc := ⟨.hbm, 697, rfl⟩
abbrev main_call1_call1_v149 : Ref sig .tc := ⟨.hbm, 698, rfl⟩
abbrev main_call1_call1_c_38 : Ref sig .tc := ⟨.hbm, 699, rfl⟩
abbrev main_call1_call1_v150 : Ref sig .tc := ⟨.hbm, 700, rfl⟩
abbrev main_call1_call1_v151 : Ref sig .tc := ⟨.hbm, 701, rfl⟩
abbrev main_call1_call1_c_39 : Ref sig .tc := ⟨.hbm, 702, rfl⟩
abbrev main_call1_call1_v152 : Ref sig .tc := ⟨.hbm, 703, rfl⟩
abbrev main_call1_call1_v153 : Ref sig .tc := ⟨.hbm, 704, rfl⟩
abbrev main_call1_call1_v154 : Ref sig .tc := ⟨.hbm, 705, rfl⟩
abbrev main_call1_call1_v155 : Ref sig .tc := ⟨.hbm, 706, rfl⟩
abbrev main_call1_call1_v156 : Ref sig .tc := ⟨.hbm, 707, rfl⟩
abbrev main_call1_call1_c_40 : Ref sig .tc := ⟨.hbm, 708, rfl⟩
abbrev main_call1_call1_v157 : Ref sig .tc := ⟨.hbm, 709, rfl⟩
abbrev main_call1_call1_v158 : Ref sig .tc := ⟨.hbm, 710, rfl⟩
abbrev main_call1_call1_c_41 : Ref sig .tc := ⟨.hbm, 711, rfl⟩
abbrev main_call1_call1_v159 : Ref sig .tc := ⟨.hbm, 712, rfl⟩
abbrev main_call1_call1_v160 : Ref sig .tc := ⟨.hbm, 713, rfl⟩
abbrev main_call1_call1_v161 : Ref sig .tc := ⟨.hbm, 714, rfl⟩
abbrev main_call1_call1_v162 : Ref sig .tc := ⟨.hbm, 715, rfl⟩
abbrev main_call1_call1_v163 : Ref sig .tc := ⟨.hbm, 716, rfl⟩
abbrev main_call1_call1_c_42 : Ref sig .tc := ⟨.hbm, 717, rfl⟩
abbrev main_call1_call1_v164 : Ref sig .tc := ⟨.hbm, 718, rfl⟩
abbrev main_call1_call1_v165 : Ref sig .tc := ⟨.hbm, 719, rfl⟩
abbrev main_call1_call1_c_43 : Ref sig .tc := ⟨.hbm, 720, rfl⟩
abbrev main_call1_call1_v166 : Ref sig .tc := ⟨.hbm, 721, rfl⟩
abbrev main_call1_call1_v167 : Ref sig .tc := ⟨.hbm, 722, rfl⟩
abbrev main_call1_call1_v168 : Ref sig .tc := ⟨.hbm, 723, rfl⟩
abbrev main_call1_call1_v169 : Ref sig .tc := ⟨.hbm, 724, rfl⟩
abbrev main_call1_call1_v170 : Ref sig .tc := ⟨.hbm, 725, rfl⟩
abbrev main_call1_v16_0 : Ref sig .tc := ⟨.hbm, 726, rfl⟩
abbrev main_call1_call1_v172 : Ref sig .tc := ⟨.hbm, 727, rfl⟩
abbrev main_call1_call1_v173 : Ref sig .tc := ⟨.hbm, 728, rfl⟩
abbrev main_call1_call1_c_44 : Ref sig .tc := ⟨.hbm, 729, rfl⟩
abbrev main_call1_call1_v174 : Ref sig .tc := ⟨.hbm, 730, rfl⟩
abbrev main_call1_v16_1 : Ref sig .tc := ⟨.hbm, 731, rfl⟩
abbrev main_call1_v17 : Ref sig .tc := ⟨.hbm, 732, rfl⟩
abbrev main_call1_v18_0 : Ref sig .tc := ⟨.hbm, 733, rfl⟩
abbrev main_v14 : Ref sig .tc := ⟨.hbm, 734, rfl⟩
abbrev main_v15 : Ref sig .tc := ⟨.hbm, 735, rfl⟩
abbrev main_v16 : Ref sig .tc := ⟨.hbm, 736, rfl⟩
abbrev main_v17 : Ref sig .tc := ⟨.hbm, 737, rfl⟩
abbrev main_call2_call0_v0 : Ref sig .tc := ⟨.hbm, 738, rfl⟩
abbrev main_call2_call0_v1 : Ref sig .tc := ⟨.hbm, 739, rfl⟩
abbrev main_call2_call0_v2 : Ref sig .tc := ⟨.hbm, 740, rfl⟩
abbrev main_call2_call0_v3 : Ref sig .tc := ⟨.hbm, 741, rfl⟩
abbrev main_call2_call0_v4 : Ref sig .tc := ⟨.hbm, 742, rfl⟩
abbrev main_call2_call0_c : Ref sig .tc := ⟨.hbm, 743, rfl⟩
abbrev main_call2_call0_v5 : Ref sig .tc := ⟨.hbm, 744, rfl⟩
abbrev main_call2_call0_v6 : Ref sig .tc := ⟨.hbm, 745, rfl⟩
abbrev main_call2_call0_c_0 : Ref sig .tc := ⟨.hbm, 746, rfl⟩
abbrev main_call2_call0_v7 : Ref sig .tc := ⟨.hbm, 747, rfl⟩
abbrev main_call2_call0_v8 : Ref sig .tc := ⟨.hbm, 748, rfl⟩
abbrev main_call2_call0_v9 : Ref sig .tc := ⟨.hbm, 749, rfl⟩
abbrev main_call2_call0_v10 : Ref sig .tc := ⟨.hbm, 750, rfl⟩
abbrev main_call2_call0_call0_v0 : Ref sig .tc := ⟨.hbm, 751, rfl⟩
abbrev main_call2_call0_call0_c : Ref sig .tc := ⟨.hbm, 752, rfl⟩
abbrev main_call2_call0_call0_v1 : Ref sig .tc := ⟨.hbm, 753, rfl⟩
abbrev main_call2_call0_call0_v2 : Ref sig .tc := ⟨.hbm, 754, rfl⟩
abbrev main_call2_call0_call0_v3 : Ref sig .tc := ⟨.hbm, 755, rfl⟩
abbrev main_call2_call0_call0_v4 : Ref sig .tc := ⟨.hbm, 756, rfl⟩
abbrev main_call2_call0_call0_v5 : Ref sig .tc := ⟨.hbm, 757, rfl⟩
abbrev main_call2_call0_call0_v6 : Ref sig .tc := ⟨.hbm, 758, rfl⟩
abbrev main_call2_call0_call0_c_0 : Ref sig .tc := ⟨.hbm, 759, rfl⟩
abbrev main_call2_call0_call0_v7 : Ref sig .tc := ⟨.hbm, 760, rfl⟩
abbrev main_call2_call0_call0_v8 : Ref sig .tc := ⟨.hbm, 761, rfl⟩
abbrev main_call2_call0_call0_c_1 : Ref sig .tc := ⟨.hbm, 762, rfl⟩
abbrev main_call2_call0_call0_v9 : Ref sig .tc := ⟨.hbm, 763, rfl⟩
abbrev main_call2_call0_call0_v10 : Ref sig .tc := ⟨.hbm, 764, rfl⟩
abbrev main_call2_call0_call0_v11 : Ref sig .tc := ⟨.hbm, 765, rfl⟩
abbrev main_call2_call0_call0_v12 : Ref sig .tc := ⟨.hbm, 766, rfl⟩
abbrev main_call2_call0_call0_v13 : Ref sig .tc := ⟨.hbm, 767, rfl⟩
abbrev main_call2_call0_call0_c_2 : Ref sig .tc := ⟨.hbm, 768, rfl⟩
abbrev main_call2_call0_call0_v14 : Ref sig .tc := ⟨.hbm, 769, rfl⟩
abbrev main_call2_call0_call0_v15 : Ref sig .tc := ⟨.hbm, 770, rfl⟩
abbrev main_call2_call0_call0_c_3 : Ref sig .tc := ⟨.hbm, 771, rfl⟩
abbrev main_call2_call0_call0_v16 : Ref sig .tc := ⟨.hbm, 772, rfl⟩
abbrev main_call2_call0_call0_v17 : Ref sig .tc := ⟨.hbm, 773, rfl⟩
abbrev main_call2_call0_call0_v18 : Ref sig .tc := ⟨.hbm, 774, rfl⟩
abbrev main_call2_call0_call0_v19 : Ref sig .tc := ⟨.hbm, 775, rfl⟩
abbrev main_call2_call0_call0_v20 : Ref sig .tc := ⟨.hbm, 776, rfl⟩
abbrev main_call2_call0_call0_c_4 : Ref sig .tc := ⟨.hbm, 777, rfl⟩
abbrev main_call2_call0_call0_v21 : Ref sig .tc := ⟨.hbm, 778, rfl⟩
abbrev main_call2_call0_call0_v22 : Ref sig .tc := ⟨.hbm, 779, rfl⟩
abbrev main_call2_call0_call0_c_5 : Ref sig .tc := ⟨.hbm, 780, rfl⟩
abbrev main_call2_call0_call0_v23 : Ref sig .tc := ⟨.hbm, 781, rfl⟩
abbrev main_call2_call0_call0_v24 : Ref sig .tc := ⟨.hbm, 782, rfl⟩
abbrev main_call2_call0_call0_v25 : Ref sig .tc := ⟨.hbm, 783, rfl⟩
abbrev main_call2_call0_call0_v26 : Ref sig .tc := ⟨.hbm, 784, rfl⟩
abbrev main_call2_call0_call0_v27 : Ref sig .tc := ⟨.hbm, 785, rfl⟩
abbrev main_call2_call0_call0_c_6 : Ref sig .tc := ⟨.hbm, 786, rfl⟩
abbrev main_call2_call0_call0_v28 : Ref sig .tc := ⟨.hbm, 787, rfl⟩
abbrev main_call2_call0_call0_v29 : Ref sig .tc := ⟨.hbm, 788, rfl⟩
abbrev main_call2_call0_call0_c_7 : Ref sig .tc := ⟨.hbm, 789, rfl⟩
abbrev main_call2_call0_call0_v30 : Ref sig .tc := ⟨.hbm, 790, rfl⟩
abbrev main_call2_call0_call0_v31 : Ref sig .tc := ⟨.hbm, 791, rfl⟩
abbrev main_call2_call0_call0_v32 : Ref sig .tc := ⟨.hbm, 792, rfl⟩
abbrev main_call2_call0_call0_v33 : Ref sig .tc := ⟨.hbm, 793, rfl⟩
abbrev main_call2_call0_call0_v34 : Ref sig .tc := ⟨.hbm, 794, rfl⟩
abbrev main_call2_call0_call0_v35 : Ref sig .tc := ⟨.hbm, 795, rfl⟩
abbrev main_call2_call0_call0_v36 : Ref sig .tc := ⟨.hbm, 796, rfl⟩
abbrev main_call2_call0_call0_v37 : Ref sig .tc := ⟨.hbm, 797, rfl⟩
abbrev main_call2_call0_call0_c_8 : Ref sig .tc := ⟨.hbm, 798, rfl⟩
abbrev main_call2_call0_call0_v38 : Ref sig .tc := ⟨.hbm, 799, rfl⟩
abbrev main_call2_call0_call0_v39 : Ref sig .tc := ⟨.hbm, 800, rfl⟩
abbrev main_call2_call0_call0_v40 : Ref sig .tc := ⟨.hbm, 801, rfl⟩
abbrev main_call2_call0_call0_c_9 : Ref sig .tc := ⟨.hbm, 802, rfl⟩
abbrev main_call2_call0_call0_v41 : Ref sig .tc := ⟨.hbm, 803, rfl⟩
abbrev main_call2_call0_call0_v42 : Ref sig .tc := ⟨.hbm, 804, rfl⟩
abbrev main_call2_call0_call0_c_10 : Ref sig .tc := ⟨.hbm, 805, rfl⟩
abbrev main_call2_call0_call0_v43 : Ref sig .tc := ⟨.hbm, 806, rfl⟩
abbrev main_call2_call0_call0_v44 : Ref sig .tc := ⟨.hbm, 807, rfl⟩
abbrev main_call2_call0_call0_v45 : Ref sig .tc := ⟨.hbm, 808, rfl⟩
abbrev main_call2_call0_call0_v46 : Ref sig .tc := ⟨.hbm, 809, rfl⟩
abbrev main_call2_call0_call0_v47 : Ref sig .tc := ⟨.hbm, 810, rfl⟩
abbrev main_call2_call0_call0_c_11 : Ref sig .tc := ⟨.hbm, 811, rfl⟩
abbrev main_call2_call0_call0_v48 : Ref sig .tc := ⟨.hbm, 812, rfl⟩
abbrev main_call2_call0_call0_v49 : Ref sig .tc := ⟨.hbm, 813, rfl⟩
abbrev main_call2_call0_call0_c_12 : Ref sig .tc := ⟨.hbm, 814, rfl⟩
abbrev main_call2_call0_call0_v50 : Ref sig .tc := ⟨.hbm, 815, rfl⟩
abbrev main_call2_call0_call0_v51 : Ref sig .tc := ⟨.hbm, 816, rfl⟩
abbrev main_call2_call0_call0_v52 : Ref sig .tc := ⟨.hbm, 817, rfl⟩
abbrev main_call2_call0_call0_v53 : Ref sig .tc := ⟨.hbm, 818, rfl⟩
abbrev main_call2_call0_call0_v54 : Ref sig .tc := ⟨.hbm, 819, rfl⟩
abbrev main_call2_call0_call0_c_13 : Ref sig .tc := ⟨.hbm, 820, rfl⟩
abbrev main_call2_call0_call0_v55 : Ref sig .tc := ⟨.hbm, 821, rfl⟩
abbrev main_call2_call0_call0_v56 : Ref sig .tc := ⟨.hbm, 822, rfl⟩
abbrev main_call2_call0_call0_c_14 : Ref sig .tc := ⟨.hbm, 823, rfl⟩
abbrev main_call2_call0_call0_v57 : Ref sig .tc := ⟨.hbm, 824, rfl⟩
abbrev main_call2_call0_call0_v58 : Ref sig .tc := ⟨.hbm, 825, rfl⟩
abbrev main_call2_call0_call0_v59 : Ref sig .tc := ⟨.hbm, 826, rfl⟩
abbrev main_call2_call0_call0_v60 : Ref sig .tc := ⟨.hbm, 827, rfl⟩
abbrev main_call2_call0_call0_v61 : Ref sig .tc := ⟨.hbm, 828, rfl⟩
abbrev main_call2_call0_call0_c_15 : Ref sig .tc := ⟨.hbm, 829, rfl⟩
abbrev main_call2_call0_call0_v62 : Ref sig .tc := ⟨.hbm, 830, rfl⟩
abbrev main_call2_call0_call0_v63 : Ref sig .tc := ⟨.hbm, 831, rfl⟩
abbrev main_call2_call0_call0_c_16 : Ref sig .tc := ⟨.hbm, 832, rfl⟩
abbrev main_call2_call0_call0_v64 : Ref sig .tc := ⟨.hbm, 833, rfl⟩
abbrev main_call2_call0_call0_v65 : Ref sig .tc := ⟨.hbm, 834, rfl⟩
abbrev main_call2_call0_call0_v66 : Ref sig .tc := ⟨.hbm, 835, rfl⟩
abbrev main_call2_call0_call0_v67 : Ref sig .tc := ⟨.hbm, 836, rfl⟩
abbrev main_call2_call0_call0_v68 : Ref sig .tc := ⟨.hbm, 837, rfl⟩
abbrev main_call2_call0_call0_v69 : Ref sig .tc := ⟨.hbm, 838, rfl⟩
abbrev main_call2_call0_call0_v70 : Ref sig .tc := ⟨.hbm, 839, rfl⟩
abbrev main_call2_call0_call0_v71 : Ref sig .tc := ⟨.hbm, 840, rfl⟩
abbrev main_call2_call0_call0_c_17 : Ref sig .tc := ⟨.hbm, 841, rfl⟩
abbrev main_call2_call0_call0_v72 : Ref sig .tc := ⟨.hbm, 842, rfl⟩
abbrev main_call2_call0_call0_v73 : Ref sig .tc := ⟨.hbm, 843, rfl⟩
abbrev main_call2_call0_call0_v74 : Ref sig .tc := ⟨.hbm, 844, rfl⟩
abbrev main_call2_call0_call0_c_18 : Ref sig .tc := ⟨.hbm, 845, rfl⟩
abbrev main_call2_call0_call0_v75 : Ref sig .tc := ⟨.hbm, 846, rfl⟩
abbrev main_call2_call0_call0_v76 : Ref sig .tc := ⟨.hbm, 847, rfl⟩
abbrev main_call2_call0_call0_c_19 : Ref sig .tc := ⟨.hbm, 848, rfl⟩
abbrev main_call2_call0_call0_v77 : Ref sig .tc := ⟨.hbm, 849, rfl⟩
abbrev main_call2_call0_call0_v78 : Ref sig .tc := ⟨.hbm, 850, rfl⟩
abbrev main_call2_call0_call0_v79 : Ref sig .tc := ⟨.hbm, 851, rfl⟩
abbrev main_call2_call0_call0_v80 : Ref sig .tc := ⟨.hbm, 852, rfl⟩
abbrev main_call2_call0_call0_v81 : Ref sig .tc := ⟨.hbm, 853, rfl⟩
abbrev main_call2_call0_call0_c_20 : Ref sig .tc := ⟨.hbm, 854, rfl⟩
abbrev main_call2_call0_call0_v82 : Ref sig .tc := ⟨.hbm, 855, rfl⟩
abbrev main_call2_call0_call0_v83 : Ref sig .tc := ⟨.hbm, 856, rfl⟩
abbrev main_call2_call0_call0_c_21 : Ref sig .tc := ⟨.hbm, 857, rfl⟩
abbrev main_call2_call0_call0_v84 : Ref sig .tc := ⟨.hbm, 858, rfl⟩
abbrev main_call2_call0_call0_v85 : Ref sig .tc := ⟨.hbm, 859, rfl⟩
abbrev main_call2_call0_call0_v86 : Ref sig .tc := ⟨.hbm, 860, rfl⟩
abbrev main_call2_call0_call0_v87 : Ref sig .tc := ⟨.hbm, 861, rfl⟩
abbrev main_call2_call0_call0_v88 : Ref sig .tc := ⟨.hbm, 862, rfl⟩
abbrev main_call2_call0_call0_c_22 : Ref sig .tc := ⟨.hbm, 863, rfl⟩
abbrev main_call2_call0_call0_v89 : Ref sig .tc := ⟨.hbm, 864, rfl⟩
abbrev main_call2_call0_call0_v90 : Ref sig .tc := ⟨.hbm, 865, rfl⟩
abbrev main_call2_call0_call0_c_23 : Ref sig .tc := ⟨.hbm, 866, rfl⟩
abbrev main_call2_call0_call0_v91 : Ref sig .tc := ⟨.hbm, 867, rfl⟩
abbrev main_call2_call0_call0_v92 : Ref sig .tc := ⟨.hbm, 868, rfl⟩
abbrev main_call2_call0_call0_v93 : Ref sig .tc := ⟨.hbm, 869, rfl⟩
abbrev main_call2_call0_call0_v94 : Ref sig .tc := ⟨.hbm, 870, rfl⟩
abbrev main_call2_call0_call0_v95 : Ref sig .tc := ⟨.hbm, 871, rfl⟩
abbrev main_call2_call0_call0_c_24 : Ref sig .tc := ⟨.hbm, 872, rfl⟩
abbrev main_call2_call0_call0_v96 : Ref sig .tc := ⟨.hbm, 873, rfl⟩
abbrev main_call2_call0_call0_v97 : Ref sig .tc := ⟨.hbm, 874, rfl⟩
abbrev main_call2_call0_call0_c_25 : Ref sig .tc := ⟨.hbm, 875, rfl⟩
abbrev main_call2_call0_call0_v98 : Ref sig .tc := ⟨.hbm, 876, rfl⟩
abbrev main_call2_call0_call0_v99 : Ref sig .tc := ⟨.hbm, 877, rfl⟩
abbrev main_call2_call0_call0_v100 : Ref sig .tc := ⟨.hbm, 878, rfl⟩
abbrev main_call2_call0_call0_v101 : Ref sig .tc := ⟨.hbm, 879, rfl⟩
abbrev main_call2_call0_call0_v102 : Ref sig .tc := ⟨.hbm, 880, rfl⟩
abbrev main_call2_call0_call0_v103 : Ref sig .tc := ⟨.hbm, 881, rfl⟩
abbrev main_call2_call0_call0_v104 : Ref sig .tc := ⟨.hbm, 882, rfl⟩
abbrev main_call2_call0_call0_v105 : Ref sig .tc := ⟨.hbm, 883, rfl⟩
abbrev main_call2_call0_call0_c_26 : Ref sig .tc := ⟨.hbm, 884, rfl⟩
abbrev main_call2_call0_call0_v106 : Ref sig .tc := ⟨.hbm, 885, rfl⟩
abbrev main_call2_call0_call0_v107 : Ref sig .tc := ⟨.hbm, 886, rfl⟩
abbrev main_call2_call0_call0_v108 : Ref sig .tc := ⟨.hbm, 887, rfl⟩
abbrev main_call2_call0_call0_c_27 : Ref sig .tc := ⟨.hbm, 888, rfl⟩
abbrev main_call2_call0_call0_v109 : Ref sig .tc := ⟨.hbm, 889, rfl⟩
abbrev main_call2_call0_call0_v110 : Ref sig .tc := ⟨.hbm, 890, rfl⟩
abbrev main_call2_call0_call0_c_28 : Ref sig .tc := ⟨.hbm, 891, rfl⟩
abbrev main_call2_call0_call0_v111 : Ref sig .tc := ⟨.hbm, 892, rfl⟩
abbrev main_call2_call0_call0_v112 : Ref sig .tc := ⟨.hbm, 893, rfl⟩
abbrev main_call2_call0_call0_v113 : Ref sig .tc := ⟨.hbm, 894, rfl⟩
abbrev main_call2_call0_call0_v114 : Ref sig .tc := ⟨.hbm, 895, rfl⟩
abbrev main_call2_call0_call0_v115 : Ref sig .tc := ⟨.hbm, 896, rfl⟩
abbrev main_call2_call0_call0_c_29 : Ref sig .tc := ⟨.hbm, 897, rfl⟩
abbrev main_call2_call0_call0_v116 : Ref sig .tc := ⟨.hbm, 898, rfl⟩
abbrev main_call2_call0_call0_v117 : Ref sig .tc := ⟨.hbm, 899, rfl⟩
abbrev main_call2_call0_call0_c_30 : Ref sig .tc := ⟨.hbm, 900, rfl⟩
abbrev main_call2_call0_call0_v118 : Ref sig .tc := ⟨.hbm, 901, rfl⟩
abbrev main_call2_call0_call0_v119 : Ref sig .tc := ⟨.hbm, 902, rfl⟩
abbrev main_call2_call0_call0_v120 : Ref sig .tc := ⟨.hbm, 903, rfl⟩
abbrev main_call2_call0_call0_v121 : Ref sig .tc := ⟨.hbm, 904, rfl⟩
abbrev main_call2_call0_call0_v122 : Ref sig .tc := ⟨.hbm, 905, rfl⟩
abbrev main_call2_call0_call0_c_31 : Ref sig .tc := ⟨.hbm, 906, rfl⟩
abbrev main_call2_call0_call0_v123 : Ref sig .tc := ⟨.hbm, 907, rfl⟩
abbrev main_call2_call0_call0_v124 : Ref sig .tc := ⟨.hbm, 908, rfl⟩
abbrev main_call2_call0_call0_c_32 : Ref sig .tc := ⟨.hbm, 909, rfl⟩
abbrev main_call2_call0_call0_v125 : Ref sig .tc := ⟨.hbm, 910, rfl⟩
abbrev main_call2_call0_call0_v126 : Ref sig .tc := ⟨.hbm, 911, rfl⟩
abbrev main_call2_call0_call0_v127 : Ref sig .tc := ⟨.hbm, 912, rfl⟩
abbrev main_call2_call0_call0_v128 : Ref sig .tc := ⟨.hbm, 913, rfl⟩
abbrev main_call2_call0_call0_v129 : Ref sig .tc := ⟨.hbm, 914, rfl⟩
abbrev main_call2_call0_call0_c_33 : Ref sig .tc := ⟨.hbm, 915, rfl⟩
abbrev main_call2_call0_call0_v130 : Ref sig .tc := ⟨.hbm, 916, rfl⟩
abbrev main_call2_call0_call0_v131 : Ref sig .tc := ⟨.hbm, 917, rfl⟩
abbrev main_call2_call0_call0_c_34 : Ref sig .tc := ⟨.hbm, 918, rfl⟩
abbrev main_call2_call0_call0_v132 : Ref sig .tc := ⟨.hbm, 919, rfl⟩
abbrev main_call2_call0_call0_v133 : Ref sig .tc := ⟨.hbm, 920, rfl⟩
abbrev main_call2_call0_call0_v134 : Ref sig .tc := ⟨.hbm, 921, rfl⟩
abbrev main_call2_call0_call0_v135 : Ref sig .tc := ⟨.hbm, 922, rfl⟩
abbrev main_call2_call0_call0_v136 : Ref sig .tc := ⟨.hbm, 923, rfl⟩
abbrev main_call2_call0_call0_v137 : Ref sig .tc := ⟨.hbm, 924, rfl⟩
abbrev main_call2_call0_call0_v138 : Ref sig .tc := ⟨.hbm, 925, rfl⟩
abbrev main_call2_call0_call0_v139 : Ref sig .tc := ⟨.hbm, 926, rfl⟩
abbrev main_call2_call0_call0_c_35 : Ref sig .tc := ⟨.hbm, 927, rfl⟩
abbrev main_call2_call0_call0_v140 : Ref sig .tc := ⟨.hbm, 928, rfl⟩
abbrev main_call2_call0_call0_v141 : Ref sig .tc := ⟨.hbm, 929, rfl⟩
abbrev main_call2_call0_call0_v142 : Ref sig .tc := ⟨.hbm, 930, rfl⟩
abbrev main_call2_call0_call0_c_36 : Ref sig .tc := ⟨.hbm, 931, rfl⟩
abbrev main_call2_call0_call0_v143 : Ref sig .tc := ⟨.hbm, 932, rfl⟩
abbrev main_call2_call0_call0_v144 : Ref sig .tc := ⟨.hbm, 933, rfl⟩
abbrev main_call2_call0_call0_c_37 : Ref sig .tc := ⟨.hbm, 934, rfl⟩
abbrev main_call2_call0_call0_v145 : Ref sig .tc := ⟨.hbm, 935, rfl⟩
abbrev main_call2_call0_call0_v146 : Ref sig .tc := ⟨.hbm, 936, rfl⟩
abbrev main_call2_call0_call0_v147 : Ref sig .tc := ⟨.hbm, 937, rfl⟩
abbrev main_call2_call0_call0_v148 : Ref sig .tc := ⟨.hbm, 938, rfl⟩
abbrev main_call2_call0_call0_v149 : Ref sig .tc := ⟨.hbm, 939, rfl⟩
abbrev main_call2_call0_call0_c_38 : Ref sig .tc := ⟨.hbm, 940, rfl⟩
abbrev main_call2_call0_call0_v150 : Ref sig .tc := ⟨.hbm, 941, rfl⟩
abbrev main_call2_call0_call0_v151 : Ref sig .tc := ⟨.hbm, 942, rfl⟩
abbrev main_call2_call0_call0_c_39 : Ref sig .tc := ⟨.hbm, 943, rfl⟩
abbrev main_call2_call0_call0_v152 : Ref sig .tc := ⟨.hbm, 944, rfl⟩
abbrev main_call2_call0_call0_v153 : Ref sig .tc := ⟨.hbm, 945, rfl⟩
abbrev main_call2_call0_call0_v154 : Ref sig .tc := ⟨.hbm, 946, rfl⟩
abbrev main_call2_call0_call0_v155 : Ref sig .tc := ⟨.hbm, 947, rfl⟩
abbrev main_call2_call0_call0_v156 : Ref sig .tc := ⟨.hbm, 948, rfl⟩
abbrev main_call2_call0_call0_c_40 : Ref sig .tc := ⟨.hbm, 949, rfl⟩
abbrev main_call2_call0_call0_v157 : Ref sig .tc := ⟨.hbm, 950, rfl⟩
abbrev main_call2_call0_call0_v158 : Ref sig .tc := ⟨.hbm, 951, rfl⟩
abbrev main_call2_call0_call0_c_41 : Ref sig .tc := ⟨.hbm, 952, rfl⟩
abbrev main_call2_call0_call0_v159 : Ref sig .tc := ⟨.hbm, 953, rfl⟩
abbrev main_call2_call0_call0_v160 : Ref sig .tc := ⟨.hbm, 954, rfl⟩
abbrev main_call2_call0_call0_v161 : Ref sig .tc := ⟨.hbm, 955, rfl⟩
abbrev main_call2_call0_call0_v162 : Ref sig .tc := ⟨.hbm, 956, rfl⟩
abbrev main_call2_call0_call0_v163 : Ref sig .tc := ⟨.hbm, 957, rfl⟩
abbrev main_call2_call0_call0_c_42 : Ref sig .tc := ⟨.hbm, 958, rfl⟩
abbrev main_call2_call0_call0_v164 : Ref sig .tc := ⟨.hbm, 959, rfl⟩
abbrev main_call2_call0_call0_v165 : Ref sig .tc := ⟨.hbm, 960, rfl⟩
abbrev main_call2_call0_call0_c_43 : Ref sig .tc := ⟨.hbm, 961, rfl⟩
abbrev main_call2_call0_call0_v166 : Ref sig .tc := ⟨.hbm, 962, rfl⟩
abbrev main_call2_call0_call0_v167 : Ref sig .tc := ⟨.hbm, 963, rfl⟩
abbrev main_call2_call0_call0_v168 : Ref sig .tc := ⟨.hbm, 964, rfl⟩
abbrev main_call2_call0_call0_v169 : Ref sig .tc := ⟨.hbm, 965, rfl⟩
abbrev main_call2_call0_call0_v170 : Ref sig .tc := ⟨.hbm, 966, rfl⟩
abbrev main_call2_call0_v11_0 : Ref sig .tc := ⟨.hbm, 967, rfl⟩
abbrev main_call2_call0_call0_v172 : Ref sig .tc := ⟨.hbm, 968, rfl⟩
abbrev main_call2_call0_call0_v173 : Ref sig .tc := ⟨.hbm, 969, rfl⟩
abbrev main_call2_call0_call0_c_44 : Ref sig .tc := ⟨.hbm, 970, rfl⟩
abbrev main_call2_call0_call0_v174 : Ref sig .tc := ⟨.hbm, 971, rfl⟩
abbrev main_call2_call0_v11_1 : Ref sig .tc := ⟨.hbm, 972, rfl⟩
abbrev main_call2_call0_v12 : Ref sig .tc := ⟨.hbm, 973, rfl⟩
abbrev main_call2_call0_v13 : Ref sig .tc := ⟨.hbm, 974, rfl⟩
abbrev main_call2_v0 : Ref sig .tc := ⟨.hbm, 975, rfl⟩
abbrev main_call2_v1 : Ref sig .tc := ⟨.hbm, 976, rfl⟩
abbrev main_call2_v2 : Ref sig .tc := ⟨.hbm, 977, rfl⟩
abbrev main_call2_v3 : Ref sig .tc := ⟨.hbm, 978, rfl⟩
abbrev main_call2_v4 : Ref sig .tc := ⟨.hbm, 979, rfl⟩
abbrev main_call2_v5 : Ref sig .tc := ⟨.hbm, 980, rfl⟩
abbrev main_call2_v6 : Ref sig .tc := ⟨.hbm, 981, rfl⟩
abbrev main_call2_v7 : Ref sig .tc := ⟨.hbm, 982, rfl⟩
abbrev main_call2_v8 : Ref sig .tc := ⟨.hbm, 983, rfl⟩
abbrev main_call2_v9 : Ref sig .tc := ⟨.hbm, 984, rfl⟩
abbrev main_call2_c : Ref sig .tc := ⟨.hbm, 985, rfl⟩
abbrev main_call2_v10 : Ref sig .tc := ⟨.hbm, 986, rfl⟩
abbrev main_call2_v11 : Ref sig .tc := ⟨.hbm, 987, rfl⟩
abbrev main_call2_c_0 : Ref sig .tc := ⟨.hbm, 988, rfl⟩
abbrev main_call2_v12 : Ref sig .tc := ⟨.hbm, 989, rfl⟩
abbrev main_call2_v13 : Ref sig .tc := ⟨.hbm, 990, rfl⟩
abbrev main_call2_v14 : Ref sig .tc := ⟨.hbm, 991, rfl⟩
abbrev main_call2_v15 : Ref sig .tc := ⟨.hbm, 992, rfl⟩
abbrev main_call2_call1_v0 : Ref sig .tc := ⟨.hbm, 993, rfl⟩
abbrev main_call2_call1_c : Ref sig .tc := ⟨.hbm, 994, rfl⟩
abbrev main_call2_call1_v1 : Ref sig .tc := ⟨.hbm, 995, rfl⟩
abbrev main_call2_call1_v2 : Ref sig .tc := ⟨.hbm, 996, rfl⟩
abbrev main_call2_call1_v3 : Ref sig .tc := ⟨.hbm, 997, rfl⟩
abbrev main_call2_call1_v4 : Ref sig .tc := ⟨.hbm, 998, rfl⟩
abbrev main_call2_call1_v5 : Ref sig .tc := ⟨.hbm, 999, rfl⟩
abbrev main_call2_call1_v6 : Ref sig .tc := ⟨.hbm, 1000, rfl⟩
abbrev main_call2_call1_c_0 : Ref sig .tc := ⟨.hbm, 1001, rfl⟩
abbrev main_call2_call1_v7 : Ref sig .tc := ⟨.hbm, 1002, rfl⟩
abbrev main_call2_call1_v8 : Ref sig .tc := ⟨.hbm, 1003, rfl⟩
abbrev main_call2_call1_c_1 : Ref sig .tc := ⟨.hbm, 1004, rfl⟩
abbrev main_call2_call1_v9 : Ref sig .tc := ⟨.hbm, 1005, rfl⟩
abbrev main_call2_call1_v10 : Ref sig .tc := ⟨.hbm, 1006, rfl⟩
abbrev main_call2_call1_v11 : Ref sig .tc := ⟨.hbm, 1007, rfl⟩
abbrev main_call2_call1_v12 : Ref sig .tc := ⟨.hbm, 1008, rfl⟩
abbrev main_call2_call1_v13 : Ref sig .tc := ⟨.hbm, 1009, rfl⟩
abbrev main_call2_call1_c_2 : Ref sig .tc := ⟨.hbm, 1010, rfl⟩
abbrev main_call2_call1_v14 : Ref sig .tc := ⟨.hbm, 1011, rfl⟩
abbrev main_call2_call1_v15 : Ref sig .tc := ⟨.hbm, 1012, rfl⟩
abbrev main_call2_call1_c_3 : Ref sig .tc := ⟨.hbm, 1013, rfl⟩
abbrev main_call2_call1_v16 : Ref sig .tc := ⟨.hbm, 1014, rfl⟩
abbrev main_call2_call1_v17 : Ref sig .tc := ⟨.hbm, 1015, rfl⟩
abbrev main_call2_call1_v18 : Ref sig .tc := ⟨.hbm, 1016, rfl⟩
abbrev main_call2_call1_v19 : Ref sig .tc := ⟨.hbm, 1017, rfl⟩
abbrev main_call2_call1_v20 : Ref sig .tc := ⟨.hbm, 1018, rfl⟩
abbrev main_call2_call1_c_4 : Ref sig .tc := ⟨.hbm, 1019, rfl⟩
abbrev main_call2_call1_v21 : Ref sig .tc := ⟨.hbm, 1020, rfl⟩
abbrev main_call2_call1_v22 : Ref sig .tc := ⟨.hbm, 1021, rfl⟩
abbrev main_call2_call1_c_5 : Ref sig .tc := ⟨.hbm, 1022, rfl⟩
abbrev main_call2_call1_v23 : Ref sig .tc := ⟨.hbm, 1023, rfl⟩
abbrev main_call2_call1_v24 : Ref sig .tc := ⟨.hbm, 1024, rfl⟩
abbrev main_call2_call1_v25 : Ref sig .tc := ⟨.hbm, 1025, rfl⟩
abbrev main_call2_call1_v26 : Ref sig .tc := ⟨.hbm, 1026, rfl⟩
abbrev main_call2_call1_v27 : Ref sig .tc := ⟨.hbm, 1027, rfl⟩
abbrev main_call2_call1_c_6 : Ref sig .tc := ⟨.hbm, 1028, rfl⟩
abbrev main_call2_call1_v28 : Ref sig .tc := ⟨.hbm, 1029, rfl⟩
abbrev main_call2_call1_v29 : Ref sig .tc := ⟨.hbm, 1030, rfl⟩
abbrev main_call2_call1_c_7 : Ref sig .tc := ⟨.hbm, 1031, rfl⟩
abbrev main_call2_call1_v30 : Ref sig .tc := ⟨.hbm, 1032, rfl⟩
abbrev main_call2_call1_v31 : Ref sig .tc := ⟨.hbm, 1033, rfl⟩
abbrev main_call2_call1_v32 : Ref sig .tc := ⟨.hbm, 1034, rfl⟩
abbrev main_call2_call1_v33 : Ref sig .tc := ⟨.hbm, 1035, rfl⟩
abbrev main_call2_call1_v34 : Ref sig .tc := ⟨.hbm, 1036, rfl⟩
abbrev main_call2_call1_v35 : Ref sig .tc := ⟨.hbm, 1037, rfl⟩
abbrev main_call2_call1_v36 : Ref sig .tc := ⟨.hbm, 1038, rfl⟩
abbrev main_call2_call1_v37 : Ref sig .tc := ⟨.hbm, 1039, rfl⟩
abbrev main_call2_call1_c_8 : Ref sig .tc := ⟨.hbm, 1040, rfl⟩
abbrev main_call2_call1_v38 : Ref sig .tc := ⟨.hbm, 1041, rfl⟩
abbrev main_call2_call1_v39 : Ref sig .tc := ⟨.hbm, 1042, rfl⟩
abbrev main_call2_call1_v40 : Ref sig .tc := ⟨.hbm, 1043, rfl⟩
abbrev main_call2_call1_c_9 : Ref sig .tc := ⟨.hbm, 1044, rfl⟩
abbrev main_call2_call1_v41 : Ref sig .tc := ⟨.hbm, 1045, rfl⟩
abbrev main_call2_call1_v42 : Ref sig .tc := ⟨.hbm, 1046, rfl⟩
abbrev main_call2_call1_c_10 : Ref sig .tc := ⟨.hbm, 1047, rfl⟩
abbrev main_call2_call1_v43 : Ref sig .tc := ⟨.hbm, 1048, rfl⟩
abbrev main_call2_call1_v44 : Ref sig .tc := ⟨.hbm, 1049, rfl⟩
abbrev main_call2_call1_v45 : Ref sig .tc := ⟨.hbm, 1050, rfl⟩
abbrev main_call2_call1_v46 : Ref sig .tc := ⟨.hbm, 1051, rfl⟩
abbrev main_call2_call1_v47 : Ref sig .tc := ⟨.hbm, 1052, rfl⟩
abbrev main_call2_call1_c_11 : Ref sig .tc := ⟨.hbm, 1053, rfl⟩
abbrev main_call2_call1_v48 : Ref sig .tc := ⟨.hbm, 1054, rfl⟩
abbrev main_call2_call1_v49 : Ref sig .tc := ⟨.hbm, 1055, rfl⟩
abbrev main_call2_call1_c_12 : Ref sig .tc := ⟨.hbm, 1056, rfl⟩
abbrev main_call2_call1_v50 : Ref sig .tc := ⟨.hbm, 1057, rfl⟩
abbrev main_call2_call1_v51 : Ref sig .tc := ⟨.hbm, 1058, rfl⟩
abbrev main_call2_call1_v52 : Ref sig .tc := ⟨.hbm, 1059, rfl⟩
abbrev main_call2_call1_v53 : Ref sig .tc := ⟨.hbm, 1060, rfl⟩
abbrev main_call2_call1_v54 : Ref sig .tc := ⟨.hbm, 1061, rfl⟩
abbrev main_call2_call1_c_13 : Ref sig .tc := ⟨.hbm, 1062, rfl⟩
abbrev main_call2_call1_v55 : Ref sig .tc := ⟨.hbm, 1063, rfl⟩
abbrev main_call2_call1_v56 : Ref sig .tc := ⟨.hbm, 1064, rfl⟩
abbrev main_call2_call1_c_14 : Ref sig .tc := ⟨.hbm, 1065, rfl⟩
abbrev main_call2_call1_v57 : Ref sig .tc := ⟨.hbm, 1066, rfl⟩
abbrev main_call2_call1_v58 : Ref sig .tc := ⟨.hbm, 1067, rfl⟩
abbrev main_call2_call1_v59 : Ref sig .tc := ⟨.hbm, 1068, rfl⟩
abbrev main_call2_call1_v60 : Ref sig .tc := ⟨.hbm, 1069, rfl⟩
abbrev main_call2_call1_v61 : Ref sig .tc := ⟨.hbm, 1070, rfl⟩
abbrev main_call2_call1_c_15 : Ref sig .tc := ⟨.hbm, 1071, rfl⟩
abbrev main_call2_call1_v62 : Ref sig .tc := ⟨.hbm, 1072, rfl⟩
abbrev main_call2_call1_v63 : Ref sig .tc := ⟨.hbm, 1073, rfl⟩
abbrev main_call2_call1_c_16 : Ref sig .tc := ⟨.hbm, 1074, rfl⟩
abbrev main_call2_call1_v64 : Ref sig .tc := ⟨.hbm, 1075, rfl⟩
abbrev main_call2_call1_v65 : Ref sig .tc := ⟨.hbm, 1076, rfl⟩
abbrev main_call2_call1_v66 : Ref sig .tc := ⟨.hbm, 1077, rfl⟩
abbrev main_call2_call1_v67 : Ref sig .tc := ⟨.hbm, 1078, rfl⟩
abbrev main_call2_call1_v68 : Ref sig .tc := ⟨.hbm, 1079, rfl⟩
abbrev main_call2_call1_v69 : Ref sig .tc := ⟨.hbm, 1080, rfl⟩
abbrev main_call2_call1_v70 : Ref sig .tc := ⟨.hbm, 1081, rfl⟩
abbrev main_call2_call1_v71 : Ref sig .tc := ⟨.hbm, 1082, rfl⟩
abbrev main_call2_call1_c_17 : Ref sig .tc := ⟨.hbm, 1083, rfl⟩
abbrev main_call2_call1_v72 : Ref sig .tc := ⟨.hbm, 1084, rfl⟩
abbrev main_call2_call1_v73 : Ref sig .tc := ⟨.hbm, 1085, rfl⟩
abbrev main_call2_call1_v74 : Ref sig .tc := ⟨.hbm, 1086, rfl⟩
abbrev main_call2_call1_c_18 : Ref sig .tc := ⟨.hbm, 1087, rfl⟩
abbrev main_call2_call1_v75 : Ref sig .tc := ⟨.hbm, 1088, rfl⟩
abbrev main_call2_call1_v76 : Ref sig .tc := ⟨.hbm, 1089, rfl⟩
abbrev main_call2_call1_c_19 : Ref sig .tc := ⟨.hbm, 1090, rfl⟩
abbrev main_call2_call1_v77 : Ref sig .tc := ⟨.hbm, 1091, rfl⟩
abbrev main_call2_call1_v78 : Ref sig .tc := ⟨.hbm, 1092, rfl⟩
abbrev main_call2_call1_v79 : Ref sig .tc := ⟨.hbm, 1093, rfl⟩
abbrev main_call2_call1_v80 : Ref sig .tc := ⟨.hbm, 1094, rfl⟩
abbrev main_call2_call1_v81 : Ref sig .tc := ⟨.hbm, 1095, rfl⟩
abbrev main_call2_call1_c_20 : Ref sig .tc := ⟨.hbm, 1096, rfl⟩
abbrev main_call2_call1_v82 : Ref sig .tc := ⟨.hbm, 1097, rfl⟩
abbrev main_call2_call1_v83 : Ref sig .tc := ⟨.hbm, 1098, rfl⟩
abbrev main_call2_call1_c_21 : Ref sig .tc := ⟨.hbm, 1099, rfl⟩
abbrev main_call2_call1_v84 : Ref sig .tc := ⟨.hbm, 1100, rfl⟩
abbrev main_call2_call1_v85 : Ref sig .tc := ⟨.hbm, 1101, rfl⟩
abbrev main_call2_call1_v86 : Ref sig .tc := ⟨.hbm, 1102, rfl⟩
abbrev main_call2_call1_v87 : Ref sig .tc := ⟨.hbm, 1103, rfl⟩
abbrev main_call2_call1_v88 : Ref sig .tc := ⟨.hbm, 1104, rfl⟩
abbrev main_call2_call1_c_22 : Ref sig .tc := ⟨.hbm, 1105, rfl⟩
abbrev main_call2_call1_v89 : Ref sig .tc := ⟨.hbm, 1106, rfl⟩
abbrev main_call2_call1_v90 : Ref sig .tc := ⟨.hbm, 1107, rfl⟩
abbrev main_call2_call1_c_23 : Ref sig .tc := ⟨.hbm, 1108, rfl⟩
abbrev main_call2_call1_v91 : Ref sig .tc := ⟨.hbm, 1109, rfl⟩
abbrev main_call2_call1_v92 : Ref sig .tc := ⟨.hbm, 1110, rfl⟩
abbrev main_call2_call1_v93 : Ref sig .tc := ⟨.hbm, 1111, rfl⟩
abbrev main_call2_call1_v94 : Ref sig .tc := ⟨.hbm, 1112, rfl⟩
abbrev main_call2_call1_v95 : Ref sig .tc := ⟨.hbm, 1113, rfl⟩
abbrev main_call2_call1_c_24 : Ref sig .tc := ⟨.hbm, 1114, rfl⟩
abbrev main_call2_call1_v96 : Ref sig .tc := ⟨.hbm, 1115, rfl⟩
abbrev main_call2_call1_v97 : Ref sig .tc := ⟨.hbm, 1116, rfl⟩
abbrev main_call2_call1_c_25 : Ref sig .tc := ⟨.hbm, 1117, rfl⟩
abbrev main_call2_call1_v98 : Ref sig .tc := ⟨.hbm, 1118, rfl⟩
abbrev main_call2_call1_v99 : Ref sig .tc := ⟨.hbm, 1119, rfl⟩
abbrev main_call2_call1_v100 : Ref sig .tc := ⟨.hbm, 1120, rfl⟩
abbrev main_call2_call1_v101 : Ref sig .tc := ⟨.hbm, 1121, rfl⟩
abbrev main_call2_call1_v102 : Ref sig .tc := ⟨.hbm, 1122, rfl⟩
abbrev main_call2_call1_v103 : Ref sig .tc := ⟨.hbm, 1123, rfl⟩
abbrev main_call2_call1_v104 : Ref sig .tc := ⟨.hbm, 1124, rfl⟩
abbrev main_call2_call1_v105 : Ref sig .tc := ⟨.hbm, 1125, rfl⟩
abbrev main_call2_call1_c_26 : Ref sig .tc := ⟨.hbm, 1126, rfl⟩
abbrev main_call2_call1_v106 : Ref sig .tc := ⟨.hbm, 1127, rfl⟩
abbrev main_call2_call1_v107 : Ref sig .tc := ⟨.hbm, 1128, rfl⟩
abbrev main_call2_call1_v108 : Ref sig .tc := ⟨.hbm, 1129, rfl⟩
abbrev main_call2_call1_c_27 : Ref sig .tc := ⟨.hbm, 1130, rfl⟩
abbrev main_call2_call1_v109 : Ref sig .tc := ⟨.hbm, 1131, rfl⟩
abbrev main_call2_call1_v110 : Ref sig .tc := ⟨.hbm, 1132, rfl⟩
abbrev main_call2_call1_c_28 : Ref sig .tc := ⟨.hbm, 1133, rfl⟩
abbrev main_call2_call1_v111 : Ref sig .tc := ⟨.hbm, 1134, rfl⟩
abbrev main_call2_call1_v112 : Ref sig .tc := ⟨.hbm, 1135, rfl⟩
abbrev main_call2_call1_v113 : Ref sig .tc := ⟨.hbm, 1136, rfl⟩
abbrev main_call2_call1_v114 : Ref sig .tc := ⟨.hbm, 1137, rfl⟩
abbrev main_call2_call1_v115 : Ref sig .tc := ⟨.hbm, 1138, rfl⟩
abbrev main_call2_call1_c_29 : Ref sig .tc := ⟨.hbm, 1139, rfl⟩
abbrev main_call2_call1_v116 : Ref sig .tc := ⟨.hbm, 1140, rfl⟩
abbrev main_call2_call1_v117 : Ref sig .tc := ⟨.hbm, 1141, rfl⟩
abbrev main_call2_call1_c_30 : Ref sig .tc := ⟨.hbm, 1142, rfl⟩
abbrev main_call2_call1_v118 : Ref sig .tc := ⟨.hbm, 1143, rfl⟩
abbrev main_call2_call1_v119 : Ref sig .tc := ⟨.hbm, 1144, rfl⟩
abbrev main_call2_call1_v120 : Ref sig .tc := ⟨.hbm, 1145, rfl⟩
abbrev main_call2_call1_v121 : Ref sig .tc := ⟨.hbm, 1146, rfl⟩
abbrev main_call2_call1_v122 : Ref sig .tc := ⟨.hbm, 1147, rfl⟩
abbrev main_call2_call1_c_31 : Ref sig .tc := ⟨.hbm, 1148, rfl⟩
abbrev main_call2_call1_v123 : Ref sig .tc := ⟨.hbm, 1149, rfl⟩
abbrev main_call2_call1_v124 : Ref sig .tc := ⟨.hbm, 1150, rfl⟩
abbrev main_call2_call1_c_32 : Ref sig .tc := ⟨.hbm, 1151, rfl⟩
abbrev main_call2_call1_v125 : Ref sig .tc := ⟨.hbm, 1152, rfl⟩
abbrev main_call2_call1_v126 : Ref sig .tc := ⟨.hbm, 1153, rfl⟩
abbrev main_call2_call1_v127 : Ref sig .tc := ⟨.hbm, 1154, rfl⟩
abbrev main_call2_call1_v128 : Ref sig .tc := ⟨.hbm, 1155, rfl⟩
abbrev main_call2_call1_v129 : Ref sig .tc := ⟨.hbm, 1156, rfl⟩
abbrev main_call2_call1_c_33 : Ref sig .tc := ⟨.hbm, 1157, rfl⟩
abbrev main_call2_call1_v130 : Ref sig .tc := ⟨.hbm, 1158, rfl⟩
abbrev main_call2_call1_v131 : Ref sig .tc := ⟨.hbm, 1159, rfl⟩
abbrev main_call2_call1_c_34 : Ref sig .tc := ⟨.hbm, 1160, rfl⟩
abbrev main_call2_call1_v132 : Ref sig .tc := ⟨.hbm, 1161, rfl⟩
abbrev main_call2_call1_v133 : Ref sig .tc := ⟨.hbm, 1162, rfl⟩
abbrev main_call2_call1_v134 : Ref sig .tc := ⟨.hbm, 1163, rfl⟩
abbrev main_call2_call1_v135 : Ref sig .tc := ⟨.hbm, 1164, rfl⟩
abbrev main_call2_call1_v136 : Ref sig .tc := ⟨.hbm, 1165, rfl⟩
abbrev main_call2_call1_v137 : Ref sig .tc := ⟨.hbm, 1166, rfl⟩
abbrev main_call2_call1_v138 : Ref sig .tc := ⟨.hbm, 1167, rfl⟩
abbrev main_call2_call1_v139 : Ref sig .tc := ⟨.hbm, 1168, rfl⟩
abbrev main_call2_call1_c_35 : Ref sig .tc := ⟨.hbm, 1169, rfl⟩
abbrev main_call2_call1_v140 : Ref sig .tc := ⟨.hbm, 1170, rfl⟩
abbrev main_call2_call1_v141 : Ref sig .tc := ⟨.hbm, 1171, rfl⟩
abbrev main_call2_call1_v142 : Ref sig .tc := ⟨.hbm, 1172, rfl⟩
abbrev main_call2_call1_c_36 : Ref sig .tc := ⟨.hbm, 1173, rfl⟩
abbrev main_call2_call1_v143 : Ref sig .tc := ⟨.hbm, 1174, rfl⟩
abbrev main_call2_call1_v144 : Ref sig .tc := ⟨.hbm, 1175, rfl⟩
abbrev main_call2_call1_c_37 : Ref sig .tc := ⟨.hbm, 1176, rfl⟩
abbrev main_call2_call1_v145 : Ref sig .tc := ⟨.hbm, 1177, rfl⟩
abbrev main_call2_call1_v146 : Ref sig .tc := ⟨.hbm, 1178, rfl⟩
abbrev main_call2_call1_v147 : Ref sig .tc := ⟨.hbm, 1179, rfl⟩
abbrev main_call2_call1_v148 : Ref sig .tc := ⟨.hbm, 1180, rfl⟩
abbrev main_call2_call1_v149 : Ref sig .tc := ⟨.hbm, 1181, rfl⟩
abbrev main_call2_call1_c_38 : Ref sig .tc := ⟨.hbm, 1182, rfl⟩
abbrev main_call2_call1_v150 : Ref sig .tc := ⟨.hbm, 1183, rfl⟩
abbrev main_call2_call1_v151 : Ref sig .tc := ⟨.hbm, 1184, rfl⟩
abbrev main_call2_call1_c_39 : Ref sig .tc := ⟨.hbm, 1185, rfl⟩
abbrev main_call2_call1_v152 : Ref sig .tc := ⟨.hbm, 1186, rfl⟩
abbrev main_call2_call1_v153 : Ref sig .tc := ⟨.hbm, 1187, rfl⟩
abbrev main_call2_call1_v154 : Ref sig .tc := ⟨.hbm, 1188, rfl⟩
abbrev main_call2_call1_v155 : Ref sig .tc := ⟨.hbm, 1189, rfl⟩
abbrev main_call2_call1_v156 : Ref sig .tc := ⟨.hbm, 1190, rfl⟩
abbrev main_call2_call1_c_40 : Ref sig .tc := ⟨.hbm, 1191, rfl⟩
abbrev main_call2_call1_v157 : Ref sig .tc := ⟨.hbm, 1192, rfl⟩
abbrev main_call2_call1_v158 : Ref sig .tc := ⟨.hbm, 1193, rfl⟩
abbrev main_call2_call1_c_41 : Ref sig .tc := ⟨.hbm, 1194, rfl⟩
abbrev main_call2_call1_v159 : Ref sig .tc := ⟨.hbm, 1195, rfl⟩
abbrev main_call2_call1_v160 : Ref sig .tc := ⟨.hbm, 1196, rfl⟩
abbrev main_call2_call1_v161 : Ref sig .tc := ⟨.hbm, 1197, rfl⟩
abbrev main_call2_call1_v162 : Ref sig .tc := ⟨.hbm, 1198, rfl⟩
abbrev main_call2_call1_v163 : Ref sig .tc := ⟨.hbm, 1199, rfl⟩
abbrev main_call2_call1_c_42 : Ref sig .tc := ⟨.hbm, 1200, rfl⟩
abbrev main_call2_call1_v164 : Ref sig .tc := ⟨.hbm, 1201, rfl⟩
abbrev main_call2_call1_v165 : Ref sig .tc := ⟨.hbm, 1202, rfl⟩
abbrev main_call2_call1_c_43 : Ref sig .tc := ⟨.hbm, 1203, rfl⟩
abbrev main_call2_call1_v166 : Ref sig .tc := ⟨.hbm, 1204, rfl⟩
abbrev main_call2_call1_v167 : Ref sig .tc := ⟨.hbm, 1205, rfl⟩
abbrev main_call2_call1_v168 : Ref sig .tc := ⟨.hbm, 1206, rfl⟩
abbrev main_call2_call1_v169 : Ref sig .tc := ⟨.hbm, 1207, rfl⟩
abbrev main_call2_call1_v170 : Ref sig .tc := ⟨.hbm, 1208, rfl⟩
abbrev main_call2_v16_0 : Ref sig .tc := ⟨.hbm, 1209, rfl⟩
abbrev main_call2_call1_v172 : Ref sig .tc := ⟨.hbm, 1210, rfl⟩
abbrev main_call2_call1_v173 : Ref sig .tc := ⟨.hbm, 1211, rfl⟩
abbrev main_call2_call1_c_44 : Ref sig .tc := ⟨.hbm, 1212, rfl⟩
abbrev main_call2_call1_v174 : Ref sig .tc := ⟨.hbm, 1213, rfl⟩
abbrev main_call2_v16_1 : Ref sig .tc := ⟨.hbm, 1214, rfl⟩
abbrev main_call2_v17 : Ref sig .tc := ⟨.hbm, 1215, rfl⟩
abbrev main_call2_v18_0 : Ref sig .tc := ⟨.hbm, 1216, rfl⟩
abbrev main_v18 : Ref sig .tc := ⟨.hbm, 1217, rfl⟩
abbrev main_v19 : Ref sig .tc := ⟨.hbm, 1218, rfl⟩
abbrev main_v20 : Ref sig .tc := ⟨.hbm, 1219, rfl⟩
abbrev main_v21 : Ref sig .tc := ⟨.hbm, 1220, rfl⟩
abbrev main_call3_call0_v0 : Ref sig .tc := ⟨.hbm, 1221, rfl⟩
abbrev main_call3_call0_v1 : Ref sig .tc := ⟨.hbm, 1222, rfl⟩
abbrev main_call3_call0_v2 : Ref sig .tc := ⟨.hbm, 1223, rfl⟩
abbrev main_call3_call0_v3 : Ref sig .tc := ⟨.hbm, 1224, rfl⟩
abbrev main_call3_call0_v4 : Ref sig .tc := ⟨.hbm, 1225, rfl⟩
abbrev main_call3_call0_c : Ref sig .tc := ⟨.hbm, 1226, rfl⟩
abbrev main_call3_call0_v5 : Ref sig .tc := ⟨.hbm, 1227, rfl⟩
abbrev main_call3_call0_v6 : Ref sig .tc := ⟨.hbm, 1228, rfl⟩
abbrev main_call3_call0_c_0 : Ref sig .tc := ⟨.hbm, 1229, rfl⟩
abbrev main_call3_call0_v7 : Ref sig .tc := ⟨.hbm, 1230, rfl⟩
abbrev main_call3_call0_v8 : Ref sig .tc := ⟨.hbm, 1231, rfl⟩
abbrev main_call3_call0_v9 : Ref sig .tc := ⟨.hbm, 1232, rfl⟩
abbrev main_call3_call0_v10 : Ref sig .tc := ⟨.hbm, 1233, rfl⟩
abbrev main_call3_call0_call0_v0 : Ref sig .tc := ⟨.hbm, 1234, rfl⟩
abbrev main_call3_call0_call0_c : Ref sig .tc := ⟨.hbm, 1235, rfl⟩
abbrev main_call3_call0_call0_v1 : Ref sig .tc := ⟨.hbm, 1236, rfl⟩
abbrev main_call3_call0_call0_v2 : Ref sig .tc := ⟨.hbm, 1237, rfl⟩
abbrev main_call3_call0_call0_v3 : Ref sig .tc := ⟨.hbm, 1238, rfl⟩
abbrev main_call3_call0_call0_v4 : Ref sig .tc := ⟨.hbm, 1239, rfl⟩
abbrev main_call3_call0_call0_v5 : Ref sig .tc := ⟨.hbm, 1240, rfl⟩
abbrev main_call3_call0_call0_v6 : Ref sig .tc := ⟨.hbm, 1241, rfl⟩
abbrev main_call3_call0_call0_c_0 : Ref sig .tc := ⟨.hbm, 1242, rfl⟩
abbrev main_call3_call0_call0_v7 : Ref sig .tc := ⟨.hbm, 1243, rfl⟩
abbrev main_call3_call0_call0_v8 : Ref sig .tc := ⟨.hbm, 1244, rfl⟩
abbrev main_call3_call0_call0_c_1 : Ref sig .tc := ⟨.hbm, 1245, rfl⟩
abbrev main_call3_call0_call0_v9 : Ref sig .tc := ⟨.hbm, 1246, rfl⟩
abbrev main_call3_call0_call0_v10 : Ref sig .tc := ⟨.hbm, 1247, rfl⟩
abbrev main_call3_call0_call0_v11 : Ref sig .tc := ⟨.hbm, 1248, rfl⟩
abbrev main_call3_call0_call0_v12 : Ref sig .tc := ⟨.hbm, 1249, rfl⟩
abbrev main_call3_call0_call0_v13 : Ref sig .tc := ⟨.hbm, 1250, rfl⟩
abbrev main_call3_call0_call0_c_2 : Ref sig .tc := ⟨.hbm, 1251, rfl⟩
abbrev main_call3_call0_call0_v14 : Ref sig .tc := ⟨.hbm, 1252, rfl⟩
abbrev main_call3_call0_call0_v15 : Ref sig .tc := ⟨.hbm, 1253, rfl⟩
abbrev main_call3_call0_call0_c_3 : Ref sig .tc := ⟨.hbm, 1254, rfl⟩
abbrev main_call3_call0_call0_v16 : Ref sig .tc := ⟨.hbm, 1255, rfl⟩
abbrev main_call3_call0_call0_v17 : Ref sig .tc := ⟨.hbm, 1256, rfl⟩
abbrev main_call3_call0_call0_v18 : Ref sig .tc := ⟨.hbm, 1257, rfl⟩
abbrev main_call3_call0_call0_v19 : Ref sig .tc := ⟨.hbm, 1258, rfl⟩
abbrev main_call3_call0_call0_v20 : Ref sig .tc := ⟨.hbm, 1259, rfl⟩
abbrev main_call3_call0_call0_c_4 : Ref sig .tc := ⟨.hbm, 1260, rfl⟩
abbrev main_call3_call0_call0_v21 : Ref sig .tc := ⟨.hbm, 1261, rfl⟩
abbrev main_call3_call0_call0_v22 : Ref sig .tc := ⟨.hbm, 1262, rfl⟩
abbrev main_call3_call0_call0_c_5 : Ref sig .tc := ⟨.hbm, 1263, rfl⟩
abbrev main_call3_call0_call0_v23 : Ref sig .tc := ⟨.hbm, 1264, rfl⟩
abbrev main_call3_call0_call0_v24 : Ref sig .tc := ⟨.hbm, 1265, rfl⟩
abbrev main_call3_call0_call0_v25 : Ref sig .tc := ⟨.hbm, 1266, rfl⟩
abbrev main_call3_call0_call0_v26 : Ref sig .tc := ⟨.hbm, 1267, rfl⟩
abbrev main_call3_call0_call0_v27 : Ref sig .tc := ⟨.hbm, 1268, rfl⟩
abbrev main_call3_call0_call0_c_6 : Ref sig .tc := ⟨.hbm, 1269, rfl⟩
abbrev main_call3_call0_call0_v28 : Ref sig .tc := ⟨.hbm, 1270, rfl⟩
abbrev main_call3_call0_call0_v29 : Ref sig .tc := ⟨.hbm, 1271, rfl⟩
abbrev main_call3_call0_call0_c_7 : Ref sig .tc := ⟨.hbm, 1272, rfl⟩
abbrev main_call3_call0_call0_v30 : Ref sig .tc := ⟨.hbm, 1273, rfl⟩
abbrev main_call3_call0_call0_v31 : Ref sig .tc := ⟨.hbm, 1274, rfl⟩
abbrev main_call3_call0_call0_v32 : Ref sig .tc := ⟨.hbm, 1275, rfl⟩
abbrev main_call3_call0_call0_v33 : Ref sig .tc := ⟨.hbm, 1276, rfl⟩
abbrev main_call3_call0_call0_v34 : Ref sig .tc := ⟨.hbm, 1277, rfl⟩
abbrev main_call3_call0_call0_v35 : Ref sig .tc := ⟨.hbm, 1278, rfl⟩
abbrev main_call3_call0_call0_v36 : Ref sig .tc := ⟨.hbm, 1279, rfl⟩
abbrev main_call3_call0_call0_v37 : Ref sig .tc := ⟨.hbm, 1280, rfl⟩
abbrev main_call3_call0_call0_c_8 : Ref sig .tc := ⟨.hbm, 1281, rfl⟩
abbrev main_call3_call0_call0_v38 : Ref sig .tc := ⟨.hbm, 1282, rfl⟩
abbrev main_call3_call0_call0_v39 : Ref sig .tc := ⟨.hbm, 1283, rfl⟩
abbrev main_call3_call0_call0_v40 : Ref sig .tc := ⟨.hbm, 1284, rfl⟩
abbrev main_call3_call0_call0_c_9 : Ref sig .tc := ⟨.hbm, 1285, rfl⟩
abbrev main_call3_call0_call0_v41 : Ref sig .tc := ⟨.hbm, 1286, rfl⟩
abbrev main_call3_call0_call0_v42 : Ref sig .tc := ⟨.hbm, 1287, rfl⟩
abbrev main_call3_call0_call0_c_10 : Ref sig .tc := ⟨.hbm, 1288, rfl⟩
abbrev main_call3_call0_call0_v43 : Ref sig .tc := ⟨.hbm, 1289, rfl⟩
abbrev main_call3_call0_call0_v44 : Ref sig .tc := ⟨.hbm, 1290, rfl⟩
abbrev main_call3_call0_call0_v45 : Ref sig .tc := ⟨.hbm, 1291, rfl⟩
abbrev main_call3_call0_call0_v46 : Ref sig .tc := ⟨.hbm, 1292, rfl⟩
abbrev main_call3_call0_call0_v47 : Ref sig .tc := ⟨.hbm, 1293, rfl⟩
abbrev main_call3_call0_call0_c_11 : Ref sig .tc := ⟨.hbm, 1294, rfl⟩
abbrev main_call3_call0_call0_v48 : Ref sig .tc := ⟨.hbm, 1295, rfl⟩
abbrev main_call3_call0_call0_v49 : Ref sig .tc := ⟨.hbm, 1296, rfl⟩
abbrev main_call3_call0_call0_c_12 : Ref sig .tc := ⟨.hbm, 1297, rfl⟩
abbrev main_call3_call0_call0_v50 : Ref sig .tc := ⟨.hbm, 1298, rfl⟩
abbrev main_call3_call0_call0_v51 : Ref sig .tc := ⟨.hbm, 1299, rfl⟩
abbrev main_call3_call0_call0_v52 : Ref sig .tc := ⟨.hbm, 1300, rfl⟩
abbrev main_call3_call0_call0_v53 : Ref sig .tc := ⟨.hbm, 1301, rfl⟩
abbrev main_call3_call0_call0_v54 : Ref sig .tc := ⟨.hbm, 1302, rfl⟩
abbrev main_call3_call0_call0_c_13 : Ref sig .tc := ⟨.hbm, 1303, rfl⟩
abbrev main_call3_call0_call0_v55 : Ref sig .tc := ⟨.hbm, 1304, rfl⟩
abbrev main_call3_call0_call0_v56 : Ref sig .tc := ⟨.hbm, 1305, rfl⟩
abbrev main_call3_call0_call0_c_14 : Ref sig .tc := ⟨.hbm, 1306, rfl⟩
abbrev main_call3_call0_call0_v57 : Ref sig .tc := ⟨.hbm, 1307, rfl⟩
abbrev main_call3_call0_call0_v58 : Ref sig .tc := ⟨.hbm, 1308, rfl⟩
abbrev main_call3_call0_call0_v59 : Ref sig .tc := ⟨.hbm, 1309, rfl⟩
abbrev main_call3_call0_call0_v60 : Ref sig .tc := ⟨.hbm, 1310, rfl⟩
abbrev main_call3_call0_call0_v61 : Ref sig .tc := ⟨.hbm, 1311, rfl⟩
abbrev main_call3_call0_call0_c_15 : Ref sig .tc := ⟨.hbm, 1312, rfl⟩
abbrev main_call3_call0_call0_v62 : Ref sig .tc := ⟨.hbm, 1313, rfl⟩
abbrev main_call3_call0_call0_v63 : Ref sig .tc := ⟨.hbm, 1314, rfl⟩
abbrev main_call3_call0_call0_c_16 : Ref sig .tc := ⟨.hbm, 1315, rfl⟩
abbrev main_call3_call0_call0_v64 : Ref sig .tc := ⟨.hbm, 1316, rfl⟩
abbrev main_call3_call0_call0_v65 : Ref sig .tc := ⟨.hbm, 1317, rfl⟩
abbrev main_call3_call0_call0_v66 : Ref sig .tc := ⟨.hbm, 1318, rfl⟩
abbrev main_call3_call0_call0_v67 : Ref sig .tc := ⟨.hbm, 1319, rfl⟩
abbrev main_call3_call0_call0_v68 : Ref sig .tc := ⟨.hbm, 1320, rfl⟩
abbrev main_call3_call0_call0_v69 : Ref sig .tc := ⟨.hbm, 1321, rfl⟩
abbrev main_call3_call0_call0_v70 : Ref sig .tc := ⟨.hbm, 1322, rfl⟩
abbrev main_call3_call0_call0_v71 : Ref sig .tc := ⟨.hbm, 1323, rfl⟩
abbrev main_call3_call0_call0_c_17 : Ref sig .tc := ⟨.hbm, 1324, rfl⟩
abbrev main_call3_call0_call0_v72 : Ref sig .tc := ⟨.hbm, 1325, rfl⟩
abbrev main_call3_call0_call0_v73 : Ref sig .tc := ⟨.hbm, 1326, rfl⟩
abbrev main_call3_call0_call0_v74 : Ref sig .tc := ⟨.hbm, 1327, rfl⟩
abbrev main_call3_call0_call0_c_18 : Ref sig .tc := ⟨.hbm, 1328, rfl⟩
abbrev main_call3_call0_call0_v75 : Ref sig .tc := ⟨.hbm, 1329, rfl⟩
abbrev main_call3_call0_call0_v76 : Ref sig .tc := ⟨.hbm, 1330, rfl⟩
abbrev main_call3_call0_call0_c_19 : Ref sig .tc := ⟨.hbm, 1331, rfl⟩
abbrev main_call3_call0_call0_v77 : Ref sig .tc := ⟨.hbm, 1332, rfl⟩
abbrev main_call3_call0_call0_v78 : Ref sig .tc := ⟨.hbm, 1333, rfl⟩
abbrev main_call3_call0_call0_v79 : Ref sig .tc := ⟨.hbm, 1334, rfl⟩
abbrev main_call3_call0_call0_v80 : Ref sig .tc := ⟨.hbm, 1335, rfl⟩
abbrev main_call3_call0_call0_v81 : Ref sig .tc := ⟨.hbm, 1336, rfl⟩
abbrev main_call3_call0_call0_c_20 : Ref sig .tc := ⟨.hbm, 1337, rfl⟩
abbrev main_call3_call0_call0_v82 : Ref sig .tc := ⟨.hbm, 1338, rfl⟩
abbrev main_call3_call0_call0_v83 : Ref sig .tc := ⟨.hbm, 1339, rfl⟩
abbrev main_call3_call0_call0_c_21 : Ref sig .tc := ⟨.hbm, 1340, rfl⟩
abbrev main_call3_call0_call0_v84 : Ref sig .tc := ⟨.hbm, 1341, rfl⟩
abbrev main_call3_call0_call0_v85 : Ref sig .tc := ⟨.hbm, 1342, rfl⟩
abbrev main_call3_call0_call0_v86 : Ref sig .tc := ⟨.hbm, 1343, rfl⟩
abbrev main_call3_call0_call0_v87 : Ref sig .tc := ⟨.hbm, 1344, rfl⟩
abbrev main_call3_call0_call0_v88 : Ref sig .tc := ⟨.hbm, 1345, rfl⟩
abbrev main_call3_call0_call0_c_22 : Ref sig .tc := ⟨.hbm, 1346, rfl⟩
abbrev main_call3_call0_call0_v89 : Ref sig .tc := ⟨.hbm, 1347, rfl⟩
abbrev main_call3_call0_call0_v90 : Ref sig .tc := ⟨.hbm, 1348, rfl⟩
abbrev main_call3_call0_call0_c_23 : Ref sig .tc := ⟨.hbm, 1349, rfl⟩
abbrev main_call3_call0_call0_v91 : Ref sig .tc := ⟨.hbm, 1350, rfl⟩
abbrev main_call3_call0_call0_v92 : Ref sig .tc := ⟨.hbm, 1351, rfl⟩
abbrev main_call3_call0_call0_v93 : Ref sig .tc := ⟨.hbm, 1352, rfl⟩
abbrev main_call3_call0_call0_v94 : Ref sig .tc := ⟨.hbm, 1353, rfl⟩
abbrev main_call3_call0_call0_v95 : Ref sig .tc := ⟨.hbm, 1354, rfl⟩
abbrev main_call3_call0_call0_c_24 : Ref sig .tc := ⟨.hbm, 1355, rfl⟩
abbrev main_call3_call0_call0_v96 : Ref sig .tc := ⟨.hbm, 1356, rfl⟩
abbrev main_call3_call0_call0_v97 : Ref sig .tc := ⟨.hbm, 1357, rfl⟩
abbrev main_call3_call0_call0_c_25 : Ref sig .tc := ⟨.hbm, 1358, rfl⟩
abbrev main_call3_call0_call0_v98 : Ref sig .tc := ⟨.hbm, 1359, rfl⟩
abbrev main_call3_call0_call0_v99 : Ref sig .tc := ⟨.hbm, 1360, rfl⟩
abbrev main_call3_call0_call0_v100 : Ref sig .tc := ⟨.hbm, 1361, rfl⟩
abbrev main_call3_call0_call0_v101 : Ref sig .tc := ⟨.hbm, 1362, rfl⟩
abbrev main_call3_call0_call0_v102 : Ref sig .tc := ⟨.hbm, 1363, rfl⟩
abbrev main_call3_call0_call0_v103 : Ref sig .tc := ⟨.hbm, 1364, rfl⟩
abbrev main_call3_call0_call0_v104 : Ref sig .tc := ⟨.hbm, 1365, rfl⟩
abbrev main_call3_call0_call0_v105 : Ref sig .tc := ⟨.hbm, 1366, rfl⟩
abbrev main_call3_call0_call0_c_26 : Ref sig .tc := ⟨.hbm, 1367, rfl⟩
abbrev main_call3_call0_call0_v106 : Ref sig .tc := ⟨.hbm, 1368, rfl⟩
abbrev main_call3_call0_call0_v107 : Ref sig .tc := ⟨.hbm, 1369, rfl⟩
abbrev main_call3_call0_call0_v108 : Ref sig .tc := ⟨.hbm, 1370, rfl⟩
abbrev main_call3_call0_call0_c_27 : Ref sig .tc := ⟨.hbm, 1371, rfl⟩
abbrev main_call3_call0_call0_v109 : Ref sig .tc := ⟨.hbm, 1372, rfl⟩
abbrev main_call3_call0_call0_v110 : Ref sig .tc := ⟨.hbm, 1373, rfl⟩
abbrev main_call3_call0_call0_c_28 : Ref sig .tc := ⟨.hbm, 1374, rfl⟩
abbrev main_call3_call0_call0_v111 : Ref sig .tc := ⟨.hbm, 1375, rfl⟩
abbrev main_call3_call0_call0_v112 : Ref sig .tc := ⟨.hbm, 1376, rfl⟩
abbrev main_call3_call0_call0_v113 : Ref sig .tc := ⟨.hbm, 1377, rfl⟩
abbrev main_call3_call0_call0_v114 : Ref sig .tc := ⟨.hbm, 1378, rfl⟩
abbrev main_call3_call0_call0_v115 : Ref sig .tc := ⟨.hbm, 1379, rfl⟩
abbrev main_call3_call0_call0_c_29 : Ref sig .tc := ⟨.hbm, 1380, rfl⟩
abbrev main_call3_call0_call0_v116 : Ref sig .tc := ⟨.hbm, 1381, rfl⟩
abbrev main_call3_call0_call0_v117 : Ref sig .tc := ⟨.hbm, 1382, rfl⟩
abbrev main_call3_call0_call0_c_30 : Ref sig .tc := ⟨.hbm, 1383, rfl⟩
abbrev main_call3_call0_call0_v118 : Ref sig .tc := ⟨.hbm, 1384, rfl⟩
abbrev main_call3_call0_call0_v119 : Ref sig .tc := ⟨.hbm, 1385, rfl⟩
abbrev main_call3_call0_call0_v120 : Ref sig .tc := ⟨.hbm, 1386, rfl⟩
abbrev main_call3_call0_call0_v121 : Ref sig .tc := ⟨.hbm, 1387, rfl⟩
abbrev main_call3_call0_call0_v122 : Ref sig .tc := ⟨.hbm, 1388, rfl⟩
abbrev main_call3_call0_call0_c_31 : Ref sig .tc := ⟨.hbm, 1389, rfl⟩
abbrev main_call3_call0_call0_v123 : Ref sig .tc := ⟨.hbm, 1390, rfl⟩
abbrev main_call3_call0_call0_v124 : Ref sig .tc := ⟨.hbm, 1391, rfl⟩
abbrev main_call3_call0_call0_c_32 : Ref sig .tc := ⟨.hbm, 1392, rfl⟩
abbrev main_call3_call0_call0_v125 : Ref sig .tc := ⟨.hbm, 1393, rfl⟩
abbrev main_call3_call0_call0_v126 : Ref sig .tc := ⟨.hbm, 1394, rfl⟩
abbrev main_call3_call0_call0_v127 : Ref sig .tc := ⟨.hbm, 1395, rfl⟩
abbrev main_call3_call0_call0_v128 : Ref sig .tc := ⟨.hbm, 1396, rfl⟩
abbrev main_call3_call0_call0_v129 : Ref sig .tc := ⟨.hbm, 1397, rfl⟩
abbrev main_call3_call0_call0_c_33 : Ref sig .tc := ⟨.hbm, 1398, rfl⟩
abbrev main_call3_call0_call0_v130 : Ref sig .tc := ⟨.hbm, 1399, rfl⟩
abbrev main_call3_call0_call0_v131 : Ref sig .tc := ⟨.hbm, 1400, rfl⟩
abbrev main_call3_call0_call0_c_34 : Ref sig .tc := ⟨.hbm, 1401, rfl⟩
abbrev main_call3_call0_call0_v132 : Ref sig .tc := ⟨.hbm, 1402, rfl⟩
abbrev main_call3_call0_call0_v133 : Ref sig .tc := ⟨.hbm, 1403, rfl⟩
abbrev main_call3_call0_call0_v134 : Ref sig .tc := ⟨.hbm, 1404, rfl⟩
abbrev main_call3_call0_call0_v135 : Ref sig .tc := ⟨.hbm, 1405, rfl⟩
abbrev main_call3_call0_call0_v136 : Ref sig .tc := ⟨.hbm, 1406, rfl⟩
abbrev main_call3_call0_call0_v137 : Ref sig .tc := ⟨.hbm, 1407, rfl⟩
abbrev main_call3_call0_call0_v138 : Ref sig .tc := ⟨.hbm, 1408, rfl⟩
abbrev main_call3_call0_call0_v139 : Ref sig .tc := ⟨.hbm, 1409, rfl⟩
abbrev main_call3_call0_call0_c_35 : Ref sig .tc := ⟨.hbm, 1410, rfl⟩
abbrev main_call3_call0_call0_v140 : Ref sig .tc := ⟨.hbm, 1411, rfl⟩
abbrev main_call3_call0_call0_v141 : Ref sig .tc := ⟨.hbm, 1412, rfl⟩
abbrev main_call3_call0_call0_v142 : Ref sig .tc := ⟨.hbm, 1413, rfl⟩
abbrev main_call3_call0_call0_c_36 : Ref sig .tc := ⟨.hbm, 1414, rfl⟩
abbrev main_call3_call0_call0_v143 : Ref sig .tc := ⟨.hbm, 1415, rfl⟩
abbrev main_call3_call0_call0_v144 : Ref sig .tc := ⟨.hbm, 1416, rfl⟩
abbrev main_call3_call0_call0_c_37 : Ref sig .tc := ⟨.hbm, 1417, rfl⟩
abbrev main_call3_call0_call0_v145 : Ref sig .tc := ⟨.hbm, 1418, rfl⟩
abbrev main_call3_call0_call0_v146 : Ref sig .tc := ⟨.hbm, 1419, rfl⟩
abbrev main_call3_call0_call0_v147 : Ref sig .tc := ⟨.hbm, 1420, rfl⟩
abbrev main_call3_call0_call0_v148 : Ref sig .tc := ⟨.hbm, 1421, rfl⟩
abbrev main_call3_call0_call0_v149 : Ref sig .tc := ⟨.hbm, 1422, rfl⟩
abbrev main_call3_call0_call0_c_38 : Ref sig .tc := ⟨.hbm, 1423, rfl⟩
abbrev main_call3_call0_call0_v150 : Ref sig .tc := ⟨.hbm, 1424, rfl⟩
abbrev main_call3_call0_call0_v151 : Ref sig .tc := ⟨.hbm, 1425, rfl⟩
abbrev main_call3_call0_call0_c_39 : Ref sig .tc := ⟨.hbm, 1426, rfl⟩
abbrev main_call3_call0_call0_v152 : Ref sig .tc := ⟨.hbm, 1427, rfl⟩
abbrev main_call3_call0_call0_v153 : Ref sig .tc := ⟨.hbm, 1428, rfl⟩
abbrev main_call3_call0_call0_v154 : Ref sig .tc := ⟨.hbm, 1429, rfl⟩
abbrev main_call3_call0_call0_v155 : Ref sig .tc := ⟨.hbm, 1430, rfl⟩
abbrev main_call3_call0_call0_v156 : Ref sig .tc := ⟨.hbm, 1431, rfl⟩
abbrev main_call3_call0_call0_c_40 : Ref sig .tc := ⟨.hbm, 1432, rfl⟩
abbrev main_call3_call0_call0_v157 : Ref sig .tc := ⟨.hbm, 1433, rfl⟩
abbrev main_call3_call0_call0_v158 : Ref sig .tc := ⟨.hbm, 1434, rfl⟩
abbrev main_call3_call0_call0_c_41 : Ref sig .tc := ⟨.hbm, 1435, rfl⟩
abbrev main_call3_call0_call0_v159 : Ref sig .tc := ⟨.hbm, 1436, rfl⟩
abbrev main_call3_call0_call0_v160 : Ref sig .tc := ⟨.hbm, 1437, rfl⟩
abbrev main_call3_call0_call0_v161 : Ref sig .tc := ⟨.hbm, 1438, rfl⟩
abbrev main_call3_call0_call0_v162 : Ref sig .tc := ⟨.hbm, 1439, rfl⟩
abbrev main_call3_call0_call0_v163 : Ref sig .tc := ⟨.hbm, 1440, rfl⟩
abbrev main_call3_call0_call0_c_42 : Ref sig .tc := ⟨.hbm, 1441, rfl⟩
abbrev main_call3_call0_call0_v164 : Ref sig .tc := ⟨.hbm, 1442, rfl⟩
abbrev main_call3_call0_call0_v165 : Ref sig .tc := ⟨.hbm, 1443, rfl⟩
abbrev main_call3_call0_call0_c_43 : Ref sig .tc := ⟨.hbm, 1444, rfl⟩
abbrev main_call3_call0_call0_v166 : Ref sig .tc := ⟨.hbm, 1445, rfl⟩
abbrev main_call3_call0_call0_v167 : Ref sig .tc := ⟨.hbm, 1446, rfl⟩
abbrev main_call3_call0_call0_v168 : Ref sig .tc := ⟨.hbm, 1447, rfl⟩
abbrev main_call3_call0_call0_v169 : Ref sig .tc := ⟨.hbm, 1448, rfl⟩
abbrev main_call3_call0_call0_v170 : Ref sig .tc := ⟨.hbm, 1449, rfl⟩
abbrev main_call3_call0_v11_0 : Ref sig .tc := ⟨.hbm, 1450, rfl⟩
abbrev main_call3_call0_call0_v172 : Ref sig .tc := ⟨.hbm, 1451, rfl⟩
abbrev main_call3_call0_call0_v173 : Ref sig .tc := ⟨.hbm, 1452, rfl⟩
abbrev main_call3_call0_call0_c_44 : Ref sig .tc := ⟨.hbm, 1453, rfl⟩
abbrev main_call3_call0_call0_v174 : Ref sig .tc := ⟨.hbm, 1454, rfl⟩
abbrev main_call3_call0_v11_1 : Ref sig .tc := ⟨.hbm, 1455, rfl⟩
abbrev main_call3_call0_v12 : Ref sig .tc := ⟨.hbm, 1456, rfl⟩
abbrev main_call3_call0_v13 : Ref sig .tc := ⟨.hbm, 1457, rfl⟩
abbrev main_call3_v0 : Ref sig .tc := ⟨.hbm, 1458, rfl⟩
abbrev main_call3_v1 : Ref sig .tc := ⟨.hbm, 1459, rfl⟩
abbrev main_call3_v2 : Ref sig .tc := ⟨.hbm, 1460, rfl⟩
abbrev main_call3_v3 : Ref sig .tc := ⟨.hbm, 1461, rfl⟩
abbrev main_call3_v4 : Ref sig .tc := ⟨.hbm, 1462, rfl⟩
abbrev main_call3_v5 : Ref sig .tc := ⟨.hbm, 1463, rfl⟩
abbrev main_call3_v6 : Ref sig .tc := ⟨.hbm, 1464, rfl⟩
abbrev main_call3_v7 : Ref sig .tc := ⟨.hbm, 1465, rfl⟩
abbrev main_call3_v8 : Ref sig .tc := ⟨.hbm, 1466, rfl⟩
abbrev main_call3_v9 : Ref sig .tc := ⟨.hbm, 1467, rfl⟩
abbrev main_call3_c : Ref sig .tc := ⟨.hbm, 1468, rfl⟩
abbrev main_call3_v10 : Ref sig .tc := ⟨.hbm, 1469, rfl⟩
abbrev main_call3_v11 : Ref sig .tc := ⟨.hbm, 1470, rfl⟩
abbrev main_call3_c_0 : Ref sig .tc := ⟨.hbm, 1471, rfl⟩
abbrev main_call3_v12 : Ref sig .tc := ⟨.hbm, 1472, rfl⟩
abbrev main_call3_v13 : Ref sig .tc := ⟨.hbm, 1473, rfl⟩
abbrev main_call3_v14 : Ref sig .tc := ⟨.hbm, 1474, rfl⟩
abbrev main_call3_v15 : Ref sig .tc := ⟨.hbm, 1475, rfl⟩
abbrev main_call3_call1_v0 : Ref sig .tc := ⟨.hbm, 1476, rfl⟩
abbrev main_call3_call1_c : Ref sig .tc := ⟨.hbm, 1477, rfl⟩
abbrev main_call3_call1_v1 : Ref sig .tc := ⟨.hbm, 1478, rfl⟩
abbrev main_call3_call1_v2 : Ref sig .tc := ⟨.hbm, 1479, rfl⟩
abbrev main_call3_call1_v3 : Ref sig .tc := ⟨.hbm, 1480, rfl⟩
abbrev main_call3_call1_v4 : Ref sig .tc := ⟨.hbm, 1481, rfl⟩
abbrev main_call3_call1_v5 : Ref sig .tc := ⟨.hbm, 1482, rfl⟩
abbrev main_call3_call1_v6 : Ref sig .tc := ⟨.hbm, 1483, rfl⟩
abbrev main_call3_call1_c_0 : Ref sig .tc := ⟨.hbm, 1484, rfl⟩
abbrev main_call3_call1_v7 : Ref sig .tc := ⟨.hbm, 1485, rfl⟩
abbrev main_call3_call1_v8 : Ref sig .tc := ⟨.hbm, 1486, rfl⟩
abbrev main_call3_call1_c_1 : Ref sig .tc := ⟨.hbm, 1487, rfl⟩
abbrev main_call3_call1_v9 : Ref sig .tc := ⟨.hbm, 1488, rfl⟩
abbrev main_call3_call1_v10 : Ref sig .tc := ⟨.hbm, 1489, rfl⟩
abbrev main_call3_call1_v11 : Ref sig .tc := ⟨.hbm, 1490, rfl⟩
abbrev main_call3_call1_v12 : Ref sig .tc := ⟨.hbm, 1491, rfl⟩
abbrev main_call3_call1_v13 : Ref sig .tc := ⟨.hbm, 1492, rfl⟩
abbrev main_call3_call1_c_2 : Ref sig .tc := ⟨.hbm, 1493, rfl⟩
abbrev main_call3_call1_v14 : Ref sig .tc := ⟨.hbm, 1494, rfl⟩
abbrev main_call3_call1_v15 : Ref sig .tc := ⟨.hbm, 1495, rfl⟩
abbrev main_call3_call1_c_3 : Ref sig .tc := ⟨.hbm, 1496, rfl⟩
abbrev main_call3_call1_v16 : Ref sig .tc := ⟨.hbm, 1497, rfl⟩
abbrev main_call3_call1_v17 : Ref sig .tc := ⟨.hbm, 1498, rfl⟩
abbrev main_call3_call1_v18 : Ref sig .tc := ⟨.hbm, 1499, rfl⟩
abbrev main_call3_call1_v19 : Ref sig .tc := ⟨.hbm, 1500, rfl⟩
abbrev main_call3_call1_v20 : Ref sig .tc := ⟨.hbm, 1501, rfl⟩
abbrev main_call3_call1_c_4 : Ref sig .tc := ⟨.hbm, 1502, rfl⟩
abbrev main_call3_call1_v21 : Ref sig .tc := ⟨.hbm, 1503, rfl⟩
abbrev main_call3_call1_v22 : Ref sig .tc := ⟨.hbm, 1504, rfl⟩
abbrev main_call3_call1_c_5 : Ref sig .tc := ⟨.hbm, 1505, rfl⟩
abbrev main_call3_call1_v23 : Ref sig .tc := ⟨.hbm, 1506, rfl⟩
abbrev main_call3_call1_v24 : Ref sig .tc := ⟨.hbm, 1507, rfl⟩
abbrev main_call3_call1_v25 : Ref sig .tc := ⟨.hbm, 1508, rfl⟩
abbrev main_call3_call1_v26 : Ref sig .tc := ⟨.hbm, 1509, rfl⟩
abbrev main_call3_call1_v27 : Ref sig .tc := ⟨.hbm, 1510, rfl⟩
abbrev main_call3_call1_c_6 : Ref sig .tc := ⟨.hbm, 1511, rfl⟩
abbrev main_call3_call1_v28 : Ref sig .tc := ⟨.hbm, 1512, rfl⟩
abbrev main_call3_call1_v29 : Ref sig .tc := ⟨.hbm, 1513, rfl⟩
abbrev main_call3_call1_c_7 : Ref sig .tc := ⟨.hbm, 1514, rfl⟩
abbrev main_call3_call1_v30 : Ref sig .tc := ⟨.hbm, 1515, rfl⟩
abbrev main_call3_call1_v31 : Ref sig .tc := ⟨.hbm, 1516, rfl⟩
abbrev main_call3_call1_v32 : Ref sig .tc := ⟨.hbm, 1517, rfl⟩
abbrev main_call3_call1_v33 : Ref sig .tc := ⟨.hbm, 1518, rfl⟩
abbrev main_call3_call1_v34 : Ref sig .tc := ⟨.hbm, 1519, rfl⟩
abbrev main_call3_call1_v35 : Ref sig .tc := ⟨.hbm, 1520, rfl⟩
abbrev main_call3_call1_v36 : Ref sig .tc := ⟨.hbm, 1521, rfl⟩
abbrev main_call3_call1_v37 : Ref sig .tc := ⟨.hbm, 1522, rfl⟩
abbrev main_call3_call1_c_8 : Ref sig .tc := ⟨.hbm, 1523, rfl⟩
abbrev main_call3_call1_v38 : Ref sig .tc := ⟨.hbm, 1524, rfl⟩
abbrev main_call3_call1_v39 : Ref sig .tc := ⟨.hbm, 1525, rfl⟩
abbrev main_call3_call1_v40 : Ref sig .tc := ⟨.hbm, 1526, rfl⟩
abbrev main_call3_call1_c_9 : Ref sig .tc := ⟨.hbm, 1527, rfl⟩
abbrev main_call3_call1_v41 : Ref sig .tc := ⟨.hbm, 1528, rfl⟩
abbrev main_call3_call1_v42 : Ref sig .tc := ⟨.hbm, 1529, rfl⟩
abbrev main_call3_call1_c_10 : Ref sig .tc := ⟨.hbm, 1530, rfl⟩
abbrev main_call3_call1_v43 : Ref sig .tc := ⟨.hbm, 1531, rfl⟩
abbrev main_call3_call1_v44 : Ref sig .tc := ⟨.hbm, 1532, rfl⟩
abbrev main_call3_call1_v45 : Ref sig .tc := ⟨.hbm, 1533, rfl⟩
abbrev main_call3_call1_v46 : Ref sig .tc := ⟨.hbm, 1534, rfl⟩
abbrev main_call3_call1_v47 : Ref sig .tc := ⟨.hbm, 1535, rfl⟩
abbrev main_call3_call1_c_11 : Ref sig .tc := ⟨.hbm, 1536, rfl⟩
abbrev main_call3_call1_v48 : Ref sig .tc := ⟨.hbm, 1537, rfl⟩
abbrev main_call3_call1_v49 : Ref sig .tc := ⟨.hbm, 1538, rfl⟩
abbrev main_call3_call1_c_12 : Ref sig .tc := ⟨.hbm, 1539, rfl⟩
abbrev main_call3_call1_v50 : Ref sig .tc := ⟨.hbm, 1540, rfl⟩
abbrev main_call3_call1_v51 : Ref sig .tc := ⟨.hbm, 1541, rfl⟩
abbrev main_call3_call1_v52 : Ref sig .tc := ⟨.hbm, 1542, rfl⟩
abbrev main_call3_call1_v53 : Ref sig .tc := ⟨.hbm, 1543, rfl⟩
abbrev main_call3_call1_v54 : Ref sig .tc := ⟨.hbm, 1544, rfl⟩
abbrev main_call3_call1_c_13 : Ref sig .tc := ⟨.hbm, 1545, rfl⟩
abbrev main_call3_call1_v55 : Ref sig .tc := ⟨.hbm, 1546, rfl⟩
abbrev main_call3_call1_v56 : Ref sig .tc := ⟨.hbm, 1547, rfl⟩
abbrev main_call3_call1_c_14 : Ref sig .tc := ⟨.hbm, 1548, rfl⟩
abbrev main_call3_call1_v57 : Ref sig .tc := ⟨.hbm, 1549, rfl⟩
abbrev main_call3_call1_v58 : Ref sig .tc := ⟨.hbm, 1550, rfl⟩
abbrev main_call3_call1_v59 : Ref sig .tc := ⟨.hbm, 1551, rfl⟩
abbrev main_call3_call1_v60 : Ref sig .tc := ⟨.hbm, 1552, rfl⟩
abbrev main_call3_call1_v61 : Ref sig .tc := ⟨.hbm, 1553, rfl⟩
abbrev main_call3_call1_c_15 : Ref sig .tc := ⟨.hbm, 1554, rfl⟩
abbrev main_call3_call1_v62 : Ref sig .tc := ⟨.hbm, 1555, rfl⟩
abbrev main_call3_call1_v63 : Ref sig .tc := ⟨.hbm, 1556, rfl⟩
abbrev main_call3_call1_c_16 : Ref sig .tc := ⟨.hbm, 1557, rfl⟩
abbrev main_call3_call1_v64 : Ref sig .tc := ⟨.hbm, 1558, rfl⟩
abbrev main_call3_call1_v65 : Ref sig .tc := ⟨.hbm, 1559, rfl⟩
abbrev main_call3_call1_v66 : Ref sig .tc := ⟨.hbm, 1560, rfl⟩
abbrev main_call3_call1_v67 : Ref sig .tc := ⟨.hbm, 1561, rfl⟩
abbrev main_call3_call1_v68 : Ref sig .tc := ⟨.hbm, 1562, rfl⟩
abbrev main_call3_call1_v69 : Ref sig .tc := ⟨.hbm, 1563, rfl⟩
abbrev main_call3_call1_v70 : Ref sig .tc := ⟨.hbm, 1564, rfl⟩
abbrev main_call3_call1_v71 : Ref sig .tc := ⟨.hbm, 1565, rfl⟩
abbrev main_call3_call1_c_17 : Ref sig .tc := ⟨.hbm, 1566, rfl⟩
abbrev main_call3_call1_v72 : Ref sig .tc := ⟨.hbm, 1567, rfl⟩
abbrev main_call3_call1_v73 : Ref sig .tc := ⟨.hbm, 1568, rfl⟩
abbrev main_call3_call1_v74 : Ref sig .tc := ⟨.hbm, 1569, rfl⟩
abbrev main_call3_call1_c_18 : Ref sig .tc := ⟨.hbm, 1570, rfl⟩
abbrev main_call3_call1_v75 : Ref sig .tc := ⟨.hbm, 1571, rfl⟩
abbrev main_call3_call1_v76 : Ref sig .tc := ⟨.hbm, 1572, rfl⟩
abbrev main_call3_call1_c_19 : Ref sig .tc := ⟨.hbm, 1573, rfl⟩
abbrev main_call3_call1_v77 : Ref sig .tc := ⟨.hbm, 1574, rfl⟩
abbrev main_call3_call1_v78 : Ref sig .tc := ⟨.hbm, 1575, rfl⟩
abbrev main_call3_call1_v79 : Ref sig .tc := ⟨.hbm, 1576, rfl⟩
abbrev main_call3_call1_v80 : Ref sig .tc := ⟨.hbm, 1577, rfl⟩
abbrev main_call3_call1_v81 : Ref sig .tc := ⟨.hbm, 1578, rfl⟩
abbrev main_call3_call1_c_20 : Ref sig .tc := ⟨.hbm, 1579, rfl⟩
abbrev main_call3_call1_v82 : Ref sig .tc := ⟨.hbm, 1580, rfl⟩
abbrev main_call3_call1_v83 : Ref sig .tc := ⟨.hbm, 1581, rfl⟩
abbrev main_call3_call1_c_21 : Ref sig .tc := ⟨.hbm, 1582, rfl⟩
abbrev main_call3_call1_v84 : Ref sig .tc := ⟨.hbm, 1583, rfl⟩
abbrev main_call3_call1_v85 : Ref sig .tc := ⟨.hbm, 1584, rfl⟩
abbrev main_call3_call1_v86 : Ref sig .tc := ⟨.hbm, 1585, rfl⟩
abbrev main_call3_call1_v87 : Ref sig .tc := ⟨.hbm, 1586, rfl⟩
abbrev main_call3_call1_v88 : Ref sig .tc := ⟨.hbm, 1587, rfl⟩
abbrev main_call3_call1_c_22 : Ref sig .tc := ⟨.hbm, 1588, rfl⟩
abbrev main_call3_call1_v89 : Ref sig .tc := ⟨.hbm, 1589, rfl⟩
abbrev main_call3_call1_v90 : Ref sig .tc := ⟨.hbm, 1590, rfl⟩
abbrev main_call3_call1_c_23 : Ref sig .tc := ⟨.hbm, 1591, rfl⟩
abbrev main_call3_call1_v91 : Ref sig .tc := ⟨.hbm, 1592, rfl⟩
abbrev main_call3_call1_v92 : Ref sig .tc := ⟨.hbm, 1593, rfl⟩
abbrev main_call3_call1_v93 : Ref sig .tc := ⟨.hbm, 1594, rfl⟩
abbrev main_call3_call1_v94 : Ref sig .tc := ⟨.hbm, 1595, rfl⟩
abbrev main_call3_call1_v95 : Ref sig .tc := ⟨.hbm, 1596, rfl⟩
abbrev main_call3_call1_c_24 : Ref sig .tc := ⟨.hbm, 1597, rfl⟩
abbrev main_call3_call1_v96 : Ref sig .tc := ⟨.hbm, 1598, rfl⟩
abbrev main_call3_call1_v97 : Ref sig .tc := ⟨.hbm, 1599, rfl⟩
abbrev main_call3_call1_c_25 : Ref sig .tc := ⟨.hbm, 1600, rfl⟩
abbrev main_call3_call1_v98 : Ref sig .tc := ⟨.hbm, 1601, rfl⟩
abbrev main_call3_call1_v99 : Ref sig .tc := ⟨.hbm, 1602, rfl⟩
abbrev main_call3_call1_v100 : Ref sig .tc := ⟨.hbm, 1603, rfl⟩
abbrev main_call3_call1_v101 : Ref sig .tc := ⟨.hbm, 1604, rfl⟩
abbrev main_call3_call1_v102 : Ref sig .tc := ⟨.hbm, 1605, rfl⟩
abbrev main_call3_call1_v103 : Ref sig .tc := ⟨.hbm, 1606, rfl⟩
abbrev main_call3_call1_v104 : Ref sig .tc := ⟨.hbm, 1607, rfl⟩
abbrev main_call3_call1_v105 : Ref sig .tc := ⟨.hbm, 1608, rfl⟩
abbrev main_call3_call1_c_26 : Ref sig .tc := ⟨.hbm, 1609, rfl⟩
abbrev main_call3_call1_v106 : Ref sig .tc := ⟨.hbm, 1610, rfl⟩
abbrev main_call3_call1_v107 : Ref sig .tc := ⟨.hbm, 1611, rfl⟩
abbrev main_call3_call1_v108 : Ref sig .tc := ⟨.hbm, 1612, rfl⟩
abbrev main_call3_call1_c_27 : Ref sig .tc := ⟨.hbm, 1613, rfl⟩
abbrev main_call3_call1_v109 : Ref sig .tc := ⟨.hbm, 1614, rfl⟩
abbrev main_call3_call1_v110 : Ref sig .tc := ⟨.hbm, 1615, rfl⟩
abbrev main_call3_call1_c_28 : Ref sig .tc := ⟨.hbm, 1616, rfl⟩
abbrev main_call3_call1_v111 : Ref sig .tc := ⟨.hbm, 1617, rfl⟩
abbrev main_call3_call1_v112 : Ref sig .tc := ⟨.hbm, 1618, rfl⟩
abbrev main_call3_call1_v113 : Ref sig .tc := ⟨.hbm, 1619, rfl⟩
abbrev main_call3_call1_v114 : Ref sig .tc := ⟨.hbm, 1620, rfl⟩
abbrev main_call3_call1_v115 : Ref sig .tc := ⟨.hbm, 1621, rfl⟩
abbrev main_call3_call1_c_29 : Ref sig .tc := ⟨.hbm, 1622, rfl⟩
abbrev main_call3_call1_v116 : Ref sig .tc := ⟨.hbm, 1623, rfl⟩
abbrev main_call3_call1_v117 : Ref sig .tc := ⟨.hbm, 1624, rfl⟩
abbrev main_call3_call1_c_30 : Ref sig .tc := ⟨.hbm, 1625, rfl⟩
abbrev main_call3_call1_v118 : Ref sig .tc := ⟨.hbm, 1626, rfl⟩
abbrev main_call3_call1_v119 : Ref sig .tc := ⟨.hbm, 1627, rfl⟩
abbrev main_call3_call1_v120 : Ref sig .tc := ⟨.hbm, 1628, rfl⟩
abbrev main_call3_call1_v121 : Ref sig .tc := ⟨.hbm, 1629, rfl⟩
abbrev main_call3_call1_v122 : Ref sig .tc := ⟨.hbm, 1630, rfl⟩
abbrev main_call3_call1_c_31 : Ref sig .tc := ⟨.hbm, 1631, rfl⟩
abbrev main_call3_call1_v123 : Ref sig .tc := ⟨.hbm, 1632, rfl⟩
abbrev main_call3_call1_v124 : Ref sig .tc := ⟨.hbm, 1633, rfl⟩
abbrev main_call3_call1_c_32 : Ref sig .tc := ⟨.hbm, 1634, rfl⟩
abbrev main_call3_call1_v125 : Ref sig .tc := ⟨.hbm, 1635, rfl⟩
abbrev main_call3_call1_v126 : Ref sig .tc := ⟨.hbm, 1636, rfl⟩
abbrev main_call3_call1_v127 : Ref sig .tc := ⟨.hbm, 1637, rfl⟩
abbrev main_call3_call1_v128 : Ref sig .tc := ⟨.hbm, 1638, rfl⟩
abbrev main_call3_call1_v129 : Ref sig .tc := ⟨.hbm, 1639, rfl⟩
abbrev main_call3_call1_c_33 : Ref sig .tc := ⟨.hbm, 1640, rfl⟩
abbrev main_call3_call1_v130 : Ref sig .tc := ⟨.hbm, 1641, rfl⟩
abbrev main_call3_call1_v131 : Ref sig .tc := ⟨.hbm, 1642, rfl⟩
abbrev main_call3_call1_c_34 : Ref sig .tc := ⟨.hbm, 1643, rfl⟩
abbrev main_call3_call1_v132 : Ref sig .tc := ⟨.hbm, 1644, rfl⟩
abbrev main_call3_call1_v133 : Ref sig .tc := ⟨.hbm, 1645, rfl⟩
abbrev main_call3_call1_v134 : Ref sig .tc := ⟨.hbm, 1646, rfl⟩
abbrev main_call3_call1_v135 : Ref sig .tc := ⟨.hbm, 1647, rfl⟩
abbrev main_call3_call1_v136 : Ref sig .tc := ⟨.hbm, 1648, rfl⟩
abbrev main_call3_call1_v137 : Ref sig .tc := ⟨.hbm, 1649, rfl⟩
abbrev main_call3_call1_v138 : Ref sig .tc := ⟨.hbm, 1650, rfl⟩
abbrev main_call3_call1_v139 : Ref sig .tc := ⟨.hbm, 1651, rfl⟩
abbrev main_call3_call1_c_35 : Ref sig .tc := ⟨.hbm, 1652, rfl⟩
abbrev main_call3_call1_v140 : Ref sig .tc := ⟨.hbm, 1653, rfl⟩
abbrev main_call3_call1_v141 : Ref sig .tc := ⟨.hbm, 1654, rfl⟩
abbrev main_call3_call1_v142 : Ref sig .tc := ⟨.hbm, 1655, rfl⟩
abbrev main_call3_call1_c_36 : Ref sig .tc := ⟨.hbm, 1656, rfl⟩
abbrev main_call3_call1_v143 : Ref sig .tc := ⟨.hbm, 1657, rfl⟩
abbrev main_call3_call1_v144 : Ref sig .tc := ⟨.hbm, 1658, rfl⟩
abbrev main_call3_call1_c_37 : Ref sig .tc := ⟨.hbm, 1659, rfl⟩
abbrev main_call3_call1_v145 : Ref sig .tc := ⟨.hbm, 1660, rfl⟩
abbrev main_call3_call1_v146 : Ref sig .tc := ⟨.hbm, 1661, rfl⟩
abbrev main_call3_call1_v147 : Ref sig .tc := ⟨.hbm, 1662, rfl⟩
abbrev main_call3_call1_v148 : Ref sig .tc := ⟨.hbm, 1663, rfl⟩
abbrev main_call3_call1_v149 : Ref sig .tc := ⟨.hbm, 1664, rfl⟩
abbrev main_call3_call1_c_38 : Ref sig .tc := ⟨.hbm, 1665, rfl⟩
abbrev main_call3_call1_v150 : Ref sig .tc := ⟨.hbm, 1666, rfl⟩
abbrev main_call3_call1_v151 : Ref sig .tc := ⟨.hbm, 1667, rfl⟩
abbrev main_call3_call1_c_39 : Ref sig .tc := ⟨.hbm, 1668, rfl⟩
abbrev main_call3_call1_v152 : Ref sig .tc := ⟨.hbm, 1669, rfl⟩
abbrev main_call3_call1_v153 : Ref sig .tc := ⟨.hbm, 1670, rfl⟩
abbrev main_call3_call1_v154 : Ref sig .tc := ⟨.hbm, 1671, rfl⟩
abbrev main_call3_call1_v155 : Ref sig .tc := ⟨.hbm, 1672, rfl⟩
abbrev main_call3_call1_v156 : Ref sig .tc := ⟨.hbm, 1673, rfl⟩
abbrev main_call3_call1_c_40 : Ref sig .tc := ⟨.hbm, 1674, rfl⟩
abbrev main_call3_call1_v157 : Ref sig .tc := ⟨.hbm, 1675, rfl⟩
abbrev main_call3_call1_v158 : Ref sig .tc := ⟨.hbm, 1676, rfl⟩
abbrev main_call3_call1_c_41 : Ref sig .tc := ⟨.hbm, 1677, rfl⟩
abbrev main_call3_call1_v159 : Ref sig .tc := ⟨.hbm, 1678, rfl⟩
abbrev main_call3_call1_v160 : Ref sig .tc := ⟨.hbm, 1679, rfl⟩
abbrev main_call3_call1_v161 : Ref sig .tc := ⟨.hbm, 1680, rfl⟩
abbrev main_call3_call1_v162 : Ref sig .tc := ⟨.hbm, 1681, rfl⟩
abbrev main_call3_call1_v163 : Ref sig .tc := ⟨.hbm, 1682, rfl⟩
abbrev main_call3_call1_c_42 : Ref sig .tc := ⟨.hbm, 1683, rfl⟩
abbrev main_call3_call1_v164 : Ref sig .tc := ⟨.hbm, 1684, rfl⟩
abbrev main_call3_call1_v165 : Ref sig .tc := ⟨.hbm, 1685, rfl⟩
abbrev main_call3_call1_c_43 : Ref sig .tc := ⟨.hbm, 1686, rfl⟩
abbrev main_call3_call1_v166 : Ref sig .tc := ⟨.hbm, 1687, rfl⟩
abbrev main_call3_call1_v167 : Ref sig .tc := ⟨.hbm, 1688, rfl⟩
abbrev main_call3_call1_v168 : Ref sig .tc := ⟨.hbm, 1689, rfl⟩
abbrev main_call3_call1_v169 : Ref sig .tc := ⟨.hbm, 1690, rfl⟩
abbrev main_call3_call1_v170 : Ref sig .tc := ⟨.hbm, 1691, rfl⟩
abbrev main_call3_v16_0 : Ref sig .tc := ⟨.hbm, 1692, rfl⟩
abbrev main_call3_call1_v172 : Ref sig .tc := ⟨.hbm, 1693, rfl⟩
abbrev main_call3_call1_v173 : Ref sig .tc := ⟨.hbm, 1694, rfl⟩
abbrev main_call3_call1_c_44 : Ref sig .tc := ⟨.hbm, 1695, rfl⟩
abbrev main_call3_call1_v174 : Ref sig .tc := ⟨.hbm, 1696, rfl⟩
abbrev main_call3_v16_1 : Ref sig .tc := ⟨.hbm, 1697, rfl⟩
abbrev main_call3_v17 : Ref sig .tc := ⟨.hbm, 1698, rfl⟩
abbrev main_call3_v18_0 : Ref sig .tc := ⟨.hbm, 1699, rfl⟩
abbrev main_v22 : Ref sig .tc := ⟨.hbm, 1700, rfl⟩
abbrev main_v23 : Ref sig .tc := ⟨.hbm, 1701, rfl⟩
abbrev main_v24 : Ref sig .tc := ⟨.hbm, 1702, rfl⟩
abbrev main_v25 : Ref sig .tc := ⟨.hbm, 1703, rfl⟩
abbrev main_call4_call0_v0 : Ref sig .tc := ⟨.hbm, 1704, rfl⟩
abbrev main_call4_call0_v1 : Ref sig .tc := ⟨.hbm, 1705, rfl⟩
abbrev main_call4_call0_v2 : Ref sig .tc := ⟨.hbm, 1706, rfl⟩
abbrev main_call4_call0_v3 : Ref sig .tc := ⟨.hbm, 1707, rfl⟩
abbrev main_call4_call0_v4 : Ref sig .tc := ⟨.hbm, 1708, rfl⟩
abbrev main_call4_call0_c : Ref sig .tc := ⟨.hbm, 1709, rfl⟩
abbrev main_call4_call0_v5 : Ref sig .tc := ⟨.hbm, 1710, rfl⟩
abbrev main_call4_call0_v6 : Ref sig .tc := ⟨.hbm, 1711, rfl⟩
abbrev main_call4_call0_c_0 : Ref sig .tc := ⟨.hbm, 1712, rfl⟩
abbrev main_call4_call0_v7 : Ref sig .tc := ⟨.hbm, 1713, rfl⟩
abbrev main_call4_call0_v8 : Ref sig .tc := ⟨.hbm, 1714, rfl⟩
abbrev main_call4_call0_v9 : Ref sig .tc := ⟨.hbm, 1715, rfl⟩
abbrev main_call4_call0_v10 : Ref sig .tc := ⟨.hbm, 1716, rfl⟩
abbrev main_call4_call0_call0_v0 : Ref sig .tc := ⟨.hbm, 1717, rfl⟩
abbrev main_call4_call0_call0_c : Ref sig .tc := ⟨.hbm, 1718, rfl⟩
abbrev main_call4_call0_call0_v1 : Ref sig .tc := ⟨.hbm, 1719, rfl⟩
abbrev main_call4_call0_call0_v2 : Ref sig .tc := ⟨.hbm, 1720, rfl⟩
abbrev main_call4_call0_call0_v3 : Ref sig .tc := ⟨.hbm, 1721, rfl⟩
abbrev main_call4_call0_call0_v4 : Ref sig .tc := ⟨.hbm, 1722, rfl⟩
abbrev main_call4_call0_call0_v5 : Ref sig .tc := ⟨.hbm, 1723, rfl⟩
abbrev main_call4_call0_call0_v6 : Ref sig .tc := ⟨.hbm, 1724, rfl⟩
abbrev main_call4_call0_call0_c_0 : Ref sig .tc := ⟨.hbm, 1725, rfl⟩
abbrev main_call4_call0_call0_v7 : Ref sig .tc := ⟨.hbm, 1726, rfl⟩
abbrev main_call4_call0_call0_v8 : Ref sig .tc := ⟨.hbm, 1727, rfl⟩
abbrev main_call4_call0_call0_c_1 : Ref sig .tc := ⟨.hbm, 1728, rfl⟩
abbrev main_call4_call0_call0_v9 : Ref sig .tc := ⟨.hbm, 1729, rfl⟩
abbrev main_call4_call0_call0_v10 : Ref sig .tc := ⟨.hbm, 1730, rfl⟩
abbrev main_call4_call0_call0_v11 : Ref sig .tc := ⟨.hbm, 1731, rfl⟩
abbrev main_call4_call0_call0_v12 : Ref sig .tc := ⟨.hbm, 1732, rfl⟩
abbrev main_call4_call0_call0_v13 : Ref sig .tc := ⟨.hbm, 1733, rfl⟩
abbrev main_call4_call0_call0_c_2 : Ref sig .tc := ⟨.hbm, 1734, rfl⟩
abbrev main_call4_call0_call0_v14 : Ref sig .tc := ⟨.hbm, 1735, rfl⟩
abbrev main_call4_call0_call0_v15 : Ref sig .tc := ⟨.hbm, 1736, rfl⟩
abbrev main_call4_call0_call0_c_3 : Ref sig .tc := ⟨.hbm, 1737, rfl⟩
abbrev main_call4_call0_call0_v16 : Ref sig .tc := ⟨.hbm, 1738, rfl⟩
abbrev main_call4_call0_call0_v17 : Ref sig .tc := ⟨.hbm, 1739, rfl⟩
abbrev main_call4_call0_call0_v18 : Ref sig .tc := ⟨.hbm, 1740, rfl⟩
abbrev main_call4_call0_call0_v19 : Ref sig .tc := ⟨.hbm, 1741, rfl⟩
abbrev main_call4_call0_call0_v20 : Ref sig .tc := ⟨.hbm, 1742, rfl⟩
abbrev main_call4_call0_call0_c_4 : Ref sig .tc := ⟨.hbm, 1743, rfl⟩
abbrev main_call4_call0_call0_v21 : Ref sig .tc := ⟨.hbm, 1744, rfl⟩
abbrev main_call4_call0_call0_v22 : Ref sig .tc := ⟨.hbm, 1745, rfl⟩
abbrev main_call4_call0_call0_c_5 : Ref sig .tc := ⟨.hbm, 1746, rfl⟩
abbrev main_call4_call0_call0_v23 : Ref sig .tc := ⟨.hbm, 1747, rfl⟩
abbrev main_call4_call0_call0_v24 : Ref sig .tc := ⟨.hbm, 1748, rfl⟩
abbrev main_call4_call0_call0_v25 : Ref sig .tc := ⟨.hbm, 1749, rfl⟩
abbrev main_call4_call0_call0_v26 : Ref sig .tc := ⟨.hbm, 1750, rfl⟩
abbrev main_call4_call0_call0_v27 : Ref sig .tc := ⟨.hbm, 1751, rfl⟩
abbrev main_call4_call0_call0_c_6 : Ref sig .tc := ⟨.hbm, 1752, rfl⟩
abbrev main_call4_call0_call0_v28 : Ref sig .tc := ⟨.hbm, 1753, rfl⟩
abbrev main_call4_call0_call0_v29 : Ref sig .tc := ⟨.hbm, 1754, rfl⟩
abbrev main_call4_call0_call0_c_7 : Ref sig .tc := ⟨.hbm, 1755, rfl⟩
abbrev main_call4_call0_call0_v30 : Ref sig .tc := ⟨.hbm, 1756, rfl⟩
abbrev main_call4_call0_call0_v31 : Ref sig .tc := ⟨.hbm, 1757, rfl⟩
abbrev main_call4_call0_call0_v32 : Ref sig .tc := ⟨.hbm, 1758, rfl⟩
abbrev main_call4_call0_call0_v33 : Ref sig .tc := ⟨.hbm, 1759, rfl⟩
abbrev main_call4_call0_call0_v34 : Ref sig .tc := ⟨.hbm, 1760, rfl⟩
abbrev main_call4_call0_call0_v35 : Ref sig .tc := ⟨.hbm, 1761, rfl⟩
abbrev main_call4_call0_call0_v36 : Ref sig .tc := ⟨.hbm, 1762, rfl⟩
abbrev main_call4_call0_call0_v37 : Ref sig .tc := ⟨.hbm, 1763, rfl⟩
abbrev main_call4_call0_call0_c_8 : Ref sig .tc := ⟨.hbm, 1764, rfl⟩
abbrev main_call4_call0_call0_v38 : Ref sig .tc := ⟨.hbm, 1765, rfl⟩
abbrev main_call4_call0_call0_v39 : Ref sig .tc := ⟨.hbm, 1766, rfl⟩
abbrev main_call4_call0_call0_v40 : Ref sig .tc := ⟨.hbm, 1767, rfl⟩
abbrev main_call4_call0_call0_c_9 : Ref sig .tc := ⟨.hbm, 1768, rfl⟩
abbrev main_call4_call0_call0_v41 : Ref sig .tc := ⟨.hbm, 1769, rfl⟩
abbrev main_call4_call0_call0_v42 : Ref sig .tc := ⟨.hbm, 1770, rfl⟩
abbrev main_call4_call0_call0_c_10 : Ref sig .tc := ⟨.hbm, 1771, rfl⟩
abbrev main_call4_call0_call0_v43 : Ref sig .tc := ⟨.hbm, 1772, rfl⟩
abbrev main_call4_call0_call0_v44 : Ref sig .tc := ⟨.hbm, 1773, rfl⟩
abbrev main_call4_call0_call0_v45 : Ref sig .tc := ⟨.hbm, 1774, rfl⟩
abbrev main_call4_call0_call0_v46 : Ref sig .tc := ⟨.hbm, 1775, rfl⟩
abbrev main_call4_call0_call0_v47 : Ref sig .tc := ⟨.hbm, 1776, rfl⟩
abbrev main_call4_call0_call0_c_11 : Ref sig .tc := ⟨.hbm, 1777, rfl⟩
abbrev main_call4_call0_call0_v48 : Ref sig .tc := ⟨.hbm, 1778, rfl⟩
abbrev main_call4_call0_call0_v49 : Ref sig .tc := ⟨.hbm, 1779, rfl⟩
abbrev main_call4_call0_call0_c_12 : Ref sig .tc := ⟨.hbm, 1780, rfl⟩
abbrev main_call4_call0_call0_v50 : Ref sig .tc := ⟨.hbm, 1781, rfl⟩
abbrev main_call4_call0_call0_v51 : Ref sig .tc := ⟨.hbm, 1782, rfl⟩
abbrev main_call4_call0_call0_v52 : Ref sig .tc := ⟨.hbm, 1783, rfl⟩
abbrev main_call4_call0_call0_v53 : Ref sig .tc := ⟨.hbm, 1784, rfl⟩
abbrev main_call4_call0_call0_v54 : Ref sig .tc := ⟨.hbm, 1785, rfl⟩
abbrev main_call4_call0_call0_c_13 : Ref sig .tc := ⟨.hbm, 1786, rfl⟩
abbrev main_call4_call0_call0_v55 : Ref sig .tc := ⟨.hbm, 1787, rfl⟩
abbrev main_call4_call0_call0_v56 : Ref sig .tc := ⟨.hbm, 1788, rfl⟩
abbrev main_call4_call0_call0_c_14 : Ref sig .tc := ⟨.hbm, 1789, rfl⟩
abbrev main_call4_call0_call0_v57 : Ref sig .tc := ⟨.hbm, 1790, rfl⟩
abbrev main_call4_call0_call0_v58 : Ref sig .tc := ⟨.hbm, 1791, rfl⟩
abbrev main_call4_call0_call0_v59 : Ref sig .tc := ⟨.hbm, 1792, rfl⟩
abbrev main_call4_call0_call0_v60 : Ref sig .tc := ⟨.hbm, 1793, rfl⟩
abbrev main_call4_call0_call0_v61 : Ref sig .tc := ⟨.hbm, 1794, rfl⟩
abbrev main_call4_call0_call0_c_15 : Ref sig .tc := ⟨.hbm, 1795, rfl⟩
abbrev main_call4_call0_call0_v62 : Ref sig .tc := ⟨.hbm, 1796, rfl⟩
abbrev main_call4_call0_call0_v63 : Ref sig .tc := ⟨.hbm, 1797, rfl⟩
abbrev main_call4_call0_call0_c_16 : Ref sig .tc := ⟨.hbm, 1798, rfl⟩
abbrev main_call4_call0_call0_v64 : Ref sig .tc := ⟨.hbm, 1799, rfl⟩
abbrev main_call4_call0_call0_v65 : Ref sig .tc := ⟨.hbm, 1800, rfl⟩
abbrev main_call4_call0_call0_v66 : Ref sig .tc := ⟨.hbm, 1801, rfl⟩
abbrev main_call4_call0_call0_v67 : Ref sig .tc := ⟨.hbm, 1802, rfl⟩
abbrev main_call4_call0_call0_v68 : Ref sig .tc := ⟨.hbm, 1803, rfl⟩
abbrev main_call4_call0_call0_v69 : Ref sig .tc := ⟨.hbm, 1804, rfl⟩
abbrev main_call4_call0_call0_v70 : Ref sig .tc := ⟨.hbm, 1805, rfl⟩
abbrev main_call4_call0_call0_v71 : Ref sig .tc := ⟨.hbm, 1806, rfl⟩
abbrev main_call4_call0_call0_c_17 : Ref sig .tc := ⟨.hbm, 1807, rfl⟩
abbrev main_call4_call0_call0_v72 : Ref sig .tc := ⟨.hbm, 1808, rfl⟩
abbrev main_call4_call0_call0_v73 : Ref sig .tc := ⟨.hbm, 1809, rfl⟩
abbrev main_call4_call0_call0_v74 : Ref sig .tc := ⟨.hbm, 1810, rfl⟩
abbrev main_call4_call0_call0_c_18 : Ref sig .tc := ⟨.hbm, 1811, rfl⟩
abbrev main_call4_call0_call0_v75 : Ref sig .tc := ⟨.hbm, 1812, rfl⟩
abbrev main_call4_call0_call0_v76 : Ref sig .tc := ⟨.hbm, 1813, rfl⟩
abbrev main_call4_call0_call0_c_19 : Ref sig .tc := ⟨.hbm, 1814, rfl⟩
abbrev main_call4_call0_call0_v77 : Ref sig .tc := ⟨.hbm, 1815, rfl⟩
abbrev main_call4_call0_call0_v78 : Ref sig .tc := ⟨.hbm, 1816, rfl⟩
abbrev main_call4_call0_call0_v79 : Ref sig .tc := ⟨.hbm, 1817, rfl⟩
abbrev main_call4_call0_call0_v80 : Ref sig .tc := ⟨.hbm, 1818, rfl⟩
abbrev main_call4_call0_call0_v81 : Ref sig .tc := ⟨.hbm, 1819, rfl⟩
abbrev main_call4_call0_call0_c_20 : Ref sig .tc := ⟨.hbm, 1820, rfl⟩
abbrev main_call4_call0_call0_v82 : Ref sig .tc := ⟨.hbm, 1821, rfl⟩
abbrev main_call4_call0_call0_v83 : Ref sig .tc := ⟨.hbm, 1822, rfl⟩
abbrev main_call4_call0_call0_c_21 : Ref sig .tc := ⟨.hbm, 1823, rfl⟩
abbrev main_call4_call0_call0_v84 : Ref sig .tc := ⟨.hbm, 1824, rfl⟩
abbrev main_call4_call0_call0_v85 : Ref sig .tc := ⟨.hbm, 1825, rfl⟩
abbrev main_call4_call0_call0_v86 : Ref sig .tc := ⟨.hbm, 1826, rfl⟩
abbrev main_call4_call0_call0_v87 : Ref sig .tc := ⟨.hbm, 1827, rfl⟩
abbrev main_call4_call0_call0_v88 : Ref sig .tc := ⟨.hbm, 1828, rfl⟩
abbrev main_call4_call0_call0_c_22 : Ref sig .tc := ⟨.hbm, 1829, rfl⟩
abbrev main_call4_call0_call0_v89 : Ref sig .tc := ⟨.hbm, 1830, rfl⟩
abbrev main_call4_call0_call0_v90 : Ref sig .tc := ⟨.hbm, 1831, rfl⟩
abbrev main_call4_call0_call0_c_23 : Ref sig .tc := ⟨.hbm, 1832, rfl⟩
abbrev main_call4_call0_call0_v91 : Ref sig .tc := ⟨.hbm, 1833, rfl⟩
abbrev main_call4_call0_call0_v92 : Ref sig .tc := ⟨.hbm, 1834, rfl⟩
abbrev main_call4_call0_call0_v93 : Ref sig .tc := ⟨.hbm, 1835, rfl⟩
abbrev main_call4_call0_call0_v94 : Ref sig .tc := ⟨.hbm, 1836, rfl⟩
abbrev main_call4_call0_call0_v95 : Ref sig .tc := ⟨.hbm, 1837, rfl⟩
abbrev main_call4_call0_call0_c_24 : Ref sig .tc := ⟨.hbm, 1838, rfl⟩
abbrev main_call4_call0_call0_v96 : Ref sig .tc := ⟨.hbm, 1839, rfl⟩
abbrev main_call4_call0_call0_v97 : Ref sig .tc := ⟨.hbm, 1840, rfl⟩
abbrev main_call4_call0_call0_c_25 : Ref sig .tc := ⟨.hbm, 1841, rfl⟩
abbrev main_call4_call0_call0_v98 : Ref sig .tc := ⟨.hbm, 1842, rfl⟩
abbrev main_call4_call0_call0_v99 : Ref sig .tc := ⟨.hbm, 1843, rfl⟩
abbrev main_call4_call0_call0_v100 : Ref sig .tc := ⟨.hbm, 1844, rfl⟩
abbrev main_call4_call0_call0_v101 : Ref sig .tc := ⟨.hbm, 1845, rfl⟩
abbrev main_call4_call0_call0_v102 : Ref sig .tc := ⟨.hbm, 1846, rfl⟩
abbrev main_call4_call0_call0_v103 : Ref sig .tc := ⟨.hbm, 1847, rfl⟩
abbrev main_call4_call0_call0_v104 : Ref sig .tc := ⟨.hbm, 1848, rfl⟩
abbrev main_call4_call0_call0_v105 : Ref sig .tc := ⟨.hbm, 1849, rfl⟩
abbrev main_call4_call0_call0_c_26 : Ref sig .tc := ⟨.hbm, 1850, rfl⟩
abbrev main_call4_call0_call0_v106 : Ref sig .tc := ⟨.hbm, 1851, rfl⟩
abbrev main_call4_call0_call0_v107 : Ref sig .tc := ⟨.hbm, 1852, rfl⟩
abbrev main_call4_call0_call0_v108 : Ref sig .tc := ⟨.hbm, 1853, rfl⟩
abbrev main_call4_call0_call0_c_27 : Ref sig .tc := ⟨.hbm, 1854, rfl⟩
abbrev main_call4_call0_call0_v109 : Ref sig .tc := ⟨.hbm, 1855, rfl⟩
abbrev main_call4_call0_call0_v110 : Ref sig .tc := ⟨.hbm, 1856, rfl⟩
abbrev main_call4_call0_call0_c_28 : Ref sig .tc := ⟨.hbm, 1857, rfl⟩
abbrev main_call4_call0_call0_v111 : Ref sig .tc := ⟨.hbm, 1858, rfl⟩
abbrev main_call4_call0_call0_v112 : Ref sig .tc := ⟨.hbm, 1859, rfl⟩
abbrev main_call4_call0_call0_v113 : Ref sig .tc := ⟨.hbm, 1860, rfl⟩
abbrev main_call4_call0_call0_v114 : Ref sig .tc := ⟨.hbm, 1861, rfl⟩
abbrev main_call4_call0_call0_v115 : Ref sig .tc := ⟨.hbm, 1862, rfl⟩
abbrev main_call4_call0_call0_c_29 : Ref sig .tc := ⟨.hbm, 1863, rfl⟩
abbrev main_call4_call0_call0_v116 : Ref sig .tc := ⟨.hbm, 1864, rfl⟩
abbrev main_call4_call0_call0_v117 : Ref sig .tc := ⟨.hbm, 1865, rfl⟩
abbrev main_call4_call0_call0_c_30 : Ref sig .tc := ⟨.hbm, 1866, rfl⟩
abbrev main_call4_call0_call0_v118 : Ref sig .tc := ⟨.hbm, 1867, rfl⟩
abbrev main_call4_call0_call0_v119 : Ref sig .tc := ⟨.hbm, 1868, rfl⟩
abbrev main_call4_call0_call0_v120 : Ref sig .tc := ⟨.hbm, 1869, rfl⟩
abbrev main_call4_call0_call0_v121 : Ref sig .tc := ⟨.hbm, 1870, rfl⟩
abbrev main_call4_call0_call0_v122 : Ref sig .tc := ⟨.hbm, 1871, rfl⟩
abbrev main_call4_call0_call0_c_31 : Ref sig .tc := ⟨.hbm, 1872, rfl⟩
abbrev main_call4_call0_call0_v123 : Ref sig .tc := ⟨.hbm, 1873, rfl⟩
abbrev main_call4_call0_call0_v124 : Ref sig .tc := ⟨.hbm, 1874, rfl⟩
abbrev main_call4_call0_call0_c_32 : Ref sig .tc := ⟨.hbm, 1875, rfl⟩
abbrev main_call4_call0_call0_v125 : Ref sig .tc := ⟨.hbm, 1876, rfl⟩
abbrev main_call4_call0_call0_v126 : Ref sig .tc := ⟨.hbm, 1877, rfl⟩
abbrev main_call4_call0_call0_v127 : Ref sig .tc := ⟨.hbm, 1878, rfl⟩
abbrev main_call4_call0_call0_v128 : Ref sig .tc := ⟨.hbm, 1879, rfl⟩
abbrev main_call4_call0_call0_v129 : Ref sig .tc := ⟨.hbm, 1880, rfl⟩
abbrev main_call4_call0_call0_c_33 : Ref sig .tc := ⟨.hbm, 1881, rfl⟩
abbrev main_call4_call0_call0_v130 : Ref sig .tc := ⟨.hbm, 1882, rfl⟩
abbrev main_call4_call0_call0_v131 : Ref sig .tc := ⟨.hbm, 1883, rfl⟩
abbrev main_call4_call0_call0_c_34 : Ref sig .tc := ⟨.hbm, 1884, rfl⟩
abbrev main_call4_call0_call0_v132 : Ref sig .tc := ⟨.hbm, 1885, rfl⟩
abbrev main_call4_call0_call0_v133 : Ref sig .tc := ⟨.hbm, 1886, rfl⟩
abbrev main_call4_call0_call0_v134 : Ref sig .tc := ⟨.hbm, 1887, rfl⟩
abbrev main_call4_call0_call0_v135 : Ref sig .tc := ⟨.hbm, 1888, rfl⟩
abbrev main_call4_call0_call0_v136 : Ref sig .tc := ⟨.hbm, 1889, rfl⟩
abbrev main_call4_call0_call0_v137 : Ref sig .tc := ⟨.hbm, 1890, rfl⟩
abbrev main_call4_call0_call0_v138 : Ref sig .tc := ⟨.hbm, 1891, rfl⟩
abbrev main_call4_call0_call0_v139 : Ref sig .tc := ⟨.hbm, 1892, rfl⟩
abbrev main_call4_call0_call0_c_35 : Ref sig .tc := ⟨.hbm, 1893, rfl⟩
abbrev main_call4_call0_call0_v140 : Ref sig .tc := ⟨.hbm, 1894, rfl⟩
abbrev main_call4_call0_call0_v141 : Ref sig .tc := ⟨.hbm, 1895, rfl⟩
abbrev main_call4_call0_call0_v142 : Ref sig .tc := ⟨.hbm, 1896, rfl⟩
abbrev main_call4_call0_call0_c_36 : Ref sig .tc := ⟨.hbm, 1897, rfl⟩
abbrev main_call4_call0_call0_v143 : Ref sig .tc := ⟨.hbm, 1898, rfl⟩
abbrev main_call4_call0_call0_v144 : Ref sig .tc := ⟨.hbm, 1899, rfl⟩
abbrev main_call4_call0_call0_c_37 : Ref sig .tc := ⟨.hbm, 1900, rfl⟩
abbrev main_call4_call0_call0_v145 : Ref sig .tc := ⟨.hbm, 1901, rfl⟩
abbrev main_call4_call0_call0_v146 : Ref sig .tc := ⟨.hbm, 1902, rfl⟩
abbrev main_call4_call0_call0_v147 : Ref sig .tc := ⟨.hbm, 1903, rfl⟩
abbrev main_call4_call0_call0_v148 : Ref sig .tc := ⟨.hbm, 1904, rfl⟩
abbrev main_call4_call0_call0_v149 : Ref sig .tc := ⟨.hbm, 1905, rfl⟩
abbrev main_call4_call0_call0_c_38 : Ref sig .tc := ⟨.hbm, 1906, rfl⟩
abbrev main_call4_call0_call0_v150 : Ref sig .tc := ⟨.hbm, 1907, rfl⟩
abbrev main_call4_call0_call0_v151 : Ref sig .tc := ⟨.hbm, 1908, rfl⟩
abbrev main_call4_call0_call0_c_39 : Ref sig .tc := ⟨.hbm, 1909, rfl⟩
abbrev main_call4_call0_call0_v152 : Ref sig .tc := ⟨.hbm, 1910, rfl⟩
abbrev main_call4_call0_call0_v153 : Ref sig .tc := ⟨.hbm, 1911, rfl⟩
abbrev main_call4_call0_call0_v154 : Ref sig .tc := ⟨.hbm, 1912, rfl⟩
abbrev main_call4_call0_call0_v155 : Ref sig .tc := ⟨.hbm, 1913, rfl⟩
abbrev main_call4_call0_call0_v156 : Ref sig .tc := ⟨.hbm, 1914, rfl⟩
abbrev main_call4_call0_call0_c_40 : Ref sig .tc := ⟨.hbm, 1915, rfl⟩
abbrev main_call4_call0_call0_v157 : Ref sig .tc := ⟨.hbm, 1916, rfl⟩
abbrev main_call4_call0_call0_v158 : Ref sig .tc := ⟨.hbm, 1917, rfl⟩
abbrev main_call4_call0_call0_c_41 : Ref sig .tc := ⟨.hbm, 1918, rfl⟩
abbrev main_call4_call0_call0_v159 : Ref sig .tc := ⟨.hbm, 1919, rfl⟩
abbrev main_call4_call0_call0_v160 : Ref sig .tc := ⟨.hbm, 1920, rfl⟩
abbrev main_call4_call0_call0_v161 : Ref sig .tc := ⟨.hbm, 1921, rfl⟩
abbrev main_call4_call0_call0_v162 : Ref sig .tc := ⟨.hbm, 1922, rfl⟩
abbrev main_call4_call0_call0_v163 : Ref sig .tc := ⟨.hbm, 1923, rfl⟩
abbrev main_call4_call0_call0_c_42 : Ref sig .tc := ⟨.hbm, 1924, rfl⟩
abbrev main_call4_call0_call0_v164 : Ref sig .tc := ⟨.hbm, 1925, rfl⟩
abbrev main_call4_call0_call0_v165 : Ref sig .tc := ⟨.hbm, 1926, rfl⟩
abbrev main_call4_call0_call0_c_43 : Ref sig .tc := ⟨.hbm, 1927, rfl⟩
abbrev main_call4_call0_call0_v166 : Ref sig .tc := ⟨.hbm, 1928, rfl⟩
abbrev main_call4_call0_call0_v167 : Ref sig .tc := ⟨.hbm, 1929, rfl⟩
abbrev main_call4_call0_call0_v168 : Ref sig .tc := ⟨.hbm, 1930, rfl⟩
abbrev main_call4_call0_call0_v169 : Ref sig .tc := ⟨.hbm, 1931, rfl⟩
abbrev main_call4_call0_call0_v170 : Ref sig .tc := ⟨.hbm, 1932, rfl⟩
abbrev main_call4_call0_v11_0 : Ref sig .tc := ⟨.hbm, 1933, rfl⟩
abbrev main_call4_call0_call0_v172 : Ref sig .tc := ⟨.hbm, 1934, rfl⟩
abbrev main_call4_call0_call0_v173 : Ref sig .tc := ⟨.hbm, 1935, rfl⟩
abbrev main_call4_call0_call0_c_44 : Ref sig .tc := ⟨.hbm, 1936, rfl⟩
abbrev main_call4_call0_call0_v174 : Ref sig .tc := ⟨.hbm, 1937, rfl⟩
abbrev main_call4_call0_v11_1 : Ref sig .tc := ⟨.hbm, 1938, rfl⟩
abbrev main_call4_call0_v12 : Ref sig .tc := ⟨.hbm, 1939, rfl⟩
abbrev main_call4_call0_v13 : Ref sig .tc := ⟨.hbm, 1940, rfl⟩
abbrev main_call4_v0 : Ref sig .tc := ⟨.hbm, 1941, rfl⟩
abbrev main_call4_v1 : Ref sig .tc := ⟨.hbm, 1942, rfl⟩
abbrev main_call4_v2 : Ref sig .tc := ⟨.hbm, 1943, rfl⟩
abbrev main_call4_v3 : Ref sig .tc := ⟨.hbm, 1944, rfl⟩
abbrev main_call4_v4 : Ref sig .tc := ⟨.hbm, 1945, rfl⟩
abbrev main_call4_v5 : Ref sig .tc := ⟨.hbm, 1946, rfl⟩
abbrev main_call4_v6 : Ref sig .tc := ⟨.hbm, 1947, rfl⟩
abbrev main_call4_v7 : Ref sig .tc := ⟨.hbm, 1948, rfl⟩
abbrev main_call4_v8 : Ref sig .tc := ⟨.hbm, 1949, rfl⟩
abbrev main_call4_v9 : Ref sig .tc := ⟨.hbm, 1950, rfl⟩
abbrev main_call4_c : Ref sig .tc := ⟨.hbm, 1951, rfl⟩
abbrev main_call4_v10 : Ref sig .tc := ⟨.hbm, 1952, rfl⟩
abbrev main_call4_v11 : Ref sig .tc := ⟨.hbm, 1953, rfl⟩
abbrev main_call4_c_0 : Ref sig .tc := ⟨.hbm, 1954, rfl⟩
abbrev main_call4_v12 : Ref sig .tc := ⟨.hbm, 1955, rfl⟩
abbrev main_call4_v13 : Ref sig .tc := ⟨.hbm, 1956, rfl⟩
abbrev main_call4_v14 : Ref sig .tc := ⟨.hbm, 1957, rfl⟩
abbrev main_call4_v15 : Ref sig .tc := ⟨.hbm, 1958, rfl⟩
abbrev main_call4_call1_v0 : Ref sig .tc := ⟨.hbm, 1959, rfl⟩
abbrev main_call4_call1_c : Ref sig .tc := ⟨.hbm, 1960, rfl⟩
abbrev main_call4_call1_v1 : Ref sig .tc := ⟨.hbm, 1961, rfl⟩
abbrev main_call4_call1_v2 : Ref sig .tc := ⟨.hbm, 1962, rfl⟩
abbrev main_call4_call1_v3 : Ref sig .tc := ⟨.hbm, 1963, rfl⟩
abbrev main_call4_call1_v4 : Ref sig .tc := ⟨.hbm, 1964, rfl⟩
abbrev main_call4_call1_v5 : Ref sig .tc := ⟨.hbm, 1965, rfl⟩
abbrev main_call4_call1_v6 : Ref sig .tc := ⟨.hbm, 1966, rfl⟩
abbrev main_call4_call1_c_0 : Ref sig .tc := ⟨.hbm, 1967, rfl⟩
abbrev main_call4_call1_v7 : Ref sig .tc := ⟨.hbm, 1968, rfl⟩
abbrev main_call4_call1_v8 : Ref sig .tc := ⟨.hbm, 1969, rfl⟩
abbrev main_call4_call1_c_1 : Ref sig .tc := ⟨.hbm, 1970, rfl⟩
abbrev main_call4_call1_v9 : Ref sig .tc := ⟨.hbm, 1971, rfl⟩
abbrev main_call4_call1_v10 : Ref sig .tc := ⟨.hbm, 1972, rfl⟩
abbrev main_call4_call1_v11 : Ref sig .tc := ⟨.hbm, 1973, rfl⟩
abbrev main_call4_call1_v12 : Ref sig .tc := ⟨.hbm, 1974, rfl⟩
abbrev main_call4_call1_v13 : Ref sig .tc := ⟨.hbm, 1975, rfl⟩
abbrev main_call4_call1_c_2 : Ref sig .tc := ⟨.hbm, 1976, rfl⟩
abbrev main_call4_call1_v14 : Ref sig .tc := ⟨.hbm, 1977, rfl⟩
abbrev main_call4_call1_v15 : Ref sig .tc := ⟨.hbm, 1978, rfl⟩
abbrev main_call4_call1_c_3 : Ref sig .tc := ⟨.hbm, 1979, rfl⟩
abbrev main_call4_call1_v16 : Ref sig .tc := ⟨.hbm, 1980, rfl⟩
abbrev main_call4_call1_v17 : Ref sig .tc := ⟨.hbm, 1981, rfl⟩
abbrev main_call4_call1_v18 : Ref sig .tc := ⟨.hbm, 1982, rfl⟩
abbrev main_call4_call1_v19 : Ref sig .tc := ⟨.hbm, 1983, rfl⟩
abbrev main_call4_call1_v20 : Ref sig .tc := ⟨.hbm, 1984, rfl⟩
abbrev main_call4_call1_c_4 : Ref sig .tc := ⟨.hbm, 1985, rfl⟩
abbrev main_call4_call1_v21 : Ref sig .tc := ⟨.hbm, 1986, rfl⟩
abbrev main_call4_call1_v22 : Ref sig .tc := ⟨.hbm, 1987, rfl⟩
abbrev main_call4_call1_c_5 : Ref sig .tc := ⟨.hbm, 1988, rfl⟩
abbrev main_call4_call1_v23 : Ref sig .tc := ⟨.hbm, 1989, rfl⟩
abbrev main_call4_call1_v24 : Ref sig .tc := ⟨.hbm, 1990, rfl⟩
abbrev main_call4_call1_v25 : Ref sig .tc := ⟨.hbm, 1991, rfl⟩
abbrev main_call4_call1_v26 : Ref sig .tc := ⟨.hbm, 1992, rfl⟩
abbrev main_call4_call1_v27 : Ref sig .tc := ⟨.hbm, 1993, rfl⟩
abbrev main_call4_call1_c_6 : Ref sig .tc := ⟨.hbm, 1994, rfl⟩
abbrev main_call4_call1_v28 : Ref sig .tc := ⟨.hbm, 1995, rfl⟩
abbrev main_call4_call1_v29 : Ref sig .tc := ⟨.hbm, 1996, rfl⟩
abbrev main_call4_call1_c_7 : Ref sig .tc := ⟨.hbm, 1997, rfl⟩
abbrev main_call4_call1_v30 : Ref sig .tc := ⟨.hbm, 1998, rfl⟩
abbrev main_call4_call1_v31 : Ref sig .tc := ⟨.hbm, 1999, rfl⟩
abbrev main_call4_call1_v32 : Ref sig .tc := ⟨.hbm, 2000, rfl⟩
abbrev main_call4_call1_v33 : Ref sig .tc := ⟨.hbm, 2001, rfl⟩
abbrev main_call4_call1_v34 : Ref sig .tc := ⟨.hbm, 2002, rfl⟩
abbrev main_call4_call1_v35 : Ref sig .tc := ⟨.hbm, 2003, rfl⟩
abbrev main_call4_call1_v36 : Ref sig .tc := ⟨.hbm, 2004, rfl⟩
abbrev main_call4_call1_v37 : Ref sig .tc := ⟨.hbm, 2005, rfl⟩
abbrev main_call4_call1_c_8 : Ref sig .tc := ⟨.hbm, 2006, rfl⟩
abbrev main_call4_call1_v38 : Ref sig .tc := ⟨.hbm, 2007, rfl⟩
abbrev main_call4_call1_v39 : Ref sig .tc := ⟨.hbm, 2008, rfl⟩
abbrev main_call4_call1_v40 : Ref sig .tc := ⟨.hbm, 2009, rfl⟩
abbrev main_call4_call1_c_9 : Ref sig .tc := ⟨.hbm, 2010, rfl⟩
abbrev main_call4_call1_v41 : Ref sig .tc := ⟨.hbm, 2011, rfl⟩
abbrev main_call4_call1_v42 : Ref sig .tc := ⟨.hbm, 2012, rfl⟩
abbrev main_call4_call1_c_10 : Ref sig .tc := ⟨.hbm, 2013, rfl⟩
abbrev main_call4_call1_v43 : Ref sig .tc := ⟨.hbm, 2014, rfl⟩
abbrev main_call4_call1_v44 : Ref sig .tc := ⟨.hbm, 2015, rfl⟩
abbrev main_call4_call1_v45 : Ref sig .tc := ⟨.hbm, 2016, rfl⟩
abbrev main_call4_call1_v46 : Ref sig .tc := ⟨.hbm, 2017, rfl⟩
abbrev main_call4_call1_v47 : Ref sig .tc := ⟨.hbm, 2018, rfl⟩
abbrev main_call4_call1_c_11 : Ref sig .tc := ⟨.hbm, 2019, rfl⟩
abbrev main_call4_call1_v48 : Ref sig .tc := ⟨.hbm, 2020, rfl⟩
abbrev main_call4_call1_v49 : Ref sig .tc := ⟨.hbm, 2021, rfl⟩
abbrev main_call4_call1_c_12 : Ref sig .tc := ⟨.hbm, 2022, rfl⟩
abbrev main_call4_call1_v50 : Ref sig .tc := ⟨.hbm, 2023, rfl⟩
abbrev main_call4_call1_v51 : Ref sig .tc := ⟨.hbm, 2024, rfl⟩
abbrev main_call4_call1_v52 : Ref sig .tc := ⟨.hbm, 2025, rfl⟩
abbrev main_call4_call1_v53 : Ref sig .tc := ⟨.hbm, 2026, rfl⟩
abbrev main_call4_call1_v54 : Ref sig .tc := ⟨.hbm, 2027, rfl⟩
abbrev main_call4_call1_c_13 : Ref sig .tc := ⟨.hbm, 2028, rfl⟩
abbrev main_call4_call1_v55 : Ref sig .tc := ⟨.hbm, 2029, rfl⟩
abbrev main_call4_call1_v56 : Ref sig .tc := ⟨.hbm, 2030, rfl⟩
abbrev main_call4_call1_c_14 : Ref sig .tc := ⟨.hbm, 2031, rfl⟩
abbrev main_call4_call1_v57 : Ref sig .tc := ⟨.hbm, 2032, rfl⟩
abbrev main_call4_call1_v58 : Ref sig .tc := ⟨.hbm, 2033, rfl⟩
abbrev main_call4_call1_v59 : Ref sig .tc := ⟨.hbm, 2034, rfl⟩
abbrev main_call4_call1_v60 : Ref sig .tc := ⟨.hbm, 2035, rfl⟩
abbrev main_call4_call1_v61 : Ref sig .tc := ⟨.hbm, 2036, rfl⟩
abbrev main_call4_call1_c_15 : Ref sig .tc := ⟨.hbm, 2037, rfl⟩
abbrev main_call4_call1_v62 : Ref sig .tc := ⟨.hbm, 2038, rfl⟩
abbrev main_call4_call1_v63 : Ref sig .tc := ⟨.hbm, 2039, rfl⟩
abbrev main_call4_call1_c_16 : Ref sig .tc := ⟨.hbm, 2040, rfl⟩
abbrev main_call4_call1_v64 : Ref sig .tc := ⟨.hbm, 2041, rfl⟩
abbrev main_call4_call1_v65 : Ref sig .tc := ⟨.hbm, 2042, rfl⟩
abbrev main_call4_call1_v66 : Ref sig .tc := ⟨.hbm, 2043, rfl⟩
abbrev main_call4_call1_v67 : Ref sig .tc := ⟨.hbm, 2044, rfl⟩
abbrev main_call4_call1_v68 : Ref sig .tc := ⟨.hbm, 2045, rfl⟩
abbrev main_call4_call1_v69 : Ref sig .tc := ⟨.hbm, 2046, rfl⟩
abbrev main_call4_call1_v70 : Ref sig .tc := ⟨.hbm, 2047, rfl⟩
abbrev main_call4_call1_v71 : Ref sig .tc := ⟨.hbm, 2048, rfl⟩
abbrev main_call4_call1_c_17 : Ref sig .tc := ⟨.hbm, 2049, rfl⟩
abbrev main_call4_call1_v72 : Ref sig .tc := ⟨.hbm, 2050, rfl⟩
abbrev main_call4_call1_v73 : Ref sig .tc := ⟨.hbm, 2051, rfl⟩
abbrev main_call4_call1_v74 : Ref sig .tc := ⟨.hbm, 2052, rfl⟩
abbrev main_call4_call1_c_18 : Ref sig .tc := ⟨.hbm, 2053, rfl⟩
abbrev main_call4_call1_v75 : Ref sig .tc := ⟨.hbm, 2054, rfl⟩
abbrev main_call4_call1_v76 : Ref sig .tc := ⟨.hbm, 2055, rfl⟩
abbrev main_call4_call1_c_19 : Ref sig .tc := ⟨.hbm, 2056, rfl⟩
abbrev main_call4_call1_v77 : Ref sig .tc := ⟨.hbm, 2057, rfl⟩
abbrev main_call4_call1_v78 : Ref sig .tc := ⟨.hbm, 2058, rfl⟩
abbrev main_call4_call1_v79 : Ref sig .tc := ⟨.hbm, 2059, rfl⟩
abbrev main_call4_call1_v80 : Ref sig .tc := ⟨.hbm, 2060, rfl⟩
abbrev main_call4_call1_v81 : Ref sig .tc := ⟨.hbm, 2061, rfl⟩
abbrev main_call4_call1_c_20 : Ref sig .tc := ⟨.hbm, 2062, rfl⟩
abbrev main_call4_call1_v82 : Ref sig .tc := ⟨.hbm, 2063, rfl⟩
abbrev main_call4_call1_v83 : Ref sig .tc := ⟨.hbm, 2064, rfl⟩
abbrev main_call4_call1_c_21 : Ref sig .tc := ⟨.hbm, 2065, rfl⟩
abbrev main_call4_call1_v84 : Ref sig .tc := ⟨.hbm, 2066, rfl⟩
abbrev main_call4_call1_v85 : Ref sig .tc := ⟨.hbm, 2067, rfl⟩
abbrev main_call4_call1_v86 : Ref sig .tc := ⟨.hbm, 2068, rfl⟩
abbrev main_call4_call1_v87 : Ref sig .tc := ⟨.hbm, 2069, rfl⟩
abbrev main_call4_call1_v88 : Ref sig .tc := ⟨.hbm, 2070, rfl⟩
abbrev main_call4_call1_c_22 : Ref sig .tc := ⟨.hbm, 2071, rfl⟩
abbrev main_call4_call1_v89 : Ref sig .tc := ⟨.hbm, 2072, rfl⟩
abbrev main_call4_call1_v90 : Ref sig .tc := ⟨.hbm, 2073, rfl⟩
abbrev main_call4_call1_c_23 : Ref sig .tc := ⟨.hbm, 2074, rfl⟩
abbrev main_call4_call1_v91 : Ref sig .tc := ⟨.hbm, 2075, rfl⟩
abbrev main_call4_call1_v92 : Ref sig .tc := ⟨.hbm, 2076, rfl⟩
abbrev main_call4_call1_v93 : Ref sig .tc := ⟨.hbm, 2077, rfl⟩
abbrev main_call4_call1_v94 : Ref sig .tc := ⟨.hbm, 2078, rfl⟩
abbrev main_call4_call1_v95 : Ref sig .tc := ⟨.hbm, 2079, rfl⟩
abbrev main_call4_call1_c_24 : Ref sig .tc := ⟨.hbm, 2080, rfl⟩
abbrev main_call4_call1_v96 : Ref sig .tc := ⟨.hbm, 2081, rfl⟩
abbrev main_call4_call1_v97 : Ref sig .tc := ⟨.hbm, 2082, rfl⟩
abbrev main_call4_call1_c_25 : Ref sig .tc := ⟨.hbm, 2083, rfl⟩
abbrev main_call4_call1_v98 : Ref sig .tc := ⟨.hbm, 2084, rfl⟩
abbrev main_call4_call1_v99 : Ref sig .tc := ⟨.hbm, 2085, rfl⟩
abbrev main_call4_call1_v100 : Ref sig .tc := ⟨.hbm, 2086, rfl⟩
abbrev main_call4_call1_v101 : Ref sig .tc := ⟨.hbm, 2087, rfl⟩
abbrev main_call4_call1_v102 : Ref sig .tc := ⟨.hbm, 2088, rfl⟩
abbrev main_call4_call1_v103 : Ref sig .tc := ⟨.hbm, 2089, rfl⟩
abbrev main_call4_call1_v104 : Ref sig .tc := ⟨.hbm, 2090, rfl⟩
abbrev main_call4_call1_v105 : Ref sig .tc := ⟨.hbm, 2091, rfl⟩
abbrev main_call4_call1_c_26 : Ref sig .tc := ⟨.hbm, 2092, rfl⟩
abbrev main_call4_call1_v106 : Ref sig .tc := ⟨.hbm, 2093, rfl⟩
abbrev main_call4_call1_v107 : Ref sig .tc := ⟨.hbm, 2094, rfl⟩
abbrev main_call4_call1_v108 : Ref sig .tc := ⟨.hbm, 2095, rfl⟩
abbrev main_call4_call1_c_27 : Ref sig .tc := ⟨.hbm, 2096, rfl⟩
abbrev main_call4_call1_v109 : Ref sig .tc := ⟨.hbm, 2097, rfl⟩
abbrev main_call4_call1_v110 : Ref sig .tc := ⟨.hbm, 2098, rfl⟩
abbrev main_call4_call1_c_28 : Ref sig .tc := ⟨.hbm, 2099, rfl⟩
abbrev main_call4_call1_v111 : Ref sig .tc := ⟨.hbm, 2100, rfl⟩
abbrev main_call4_call1_v112 : Ref sig .tc := ⟨.hbm, 2101, rfl⟩
abbrev main_call4_call1_v113 : Ref sig .tc := ⟨.hbm, 2102, rfl⟩
abbrev main_call4_call1_v114 : Ref sig .tc := ⟨.hbm, 2103, rfl⟩
abbrev main_call4_call1_v115 : Ref sig .tc := ⟨.hbm, 2104, rfl⟩
abbrev main_call4_call1_c_29 : Ref sig .tc := ⟨.hbm, 2105, rfl⟩
abbrev main_call4_call1_v116 : Ref sig .tc := ⟨.hbm, 2106, rfl⟩
abbrev main_call4_call1_v117 : Ref sig .tc := ⟨.hbm, 2107, rfl⟩
abbrev main_call4_call1_c_30 : Ref sig .tc := ⟨.hbm, 2108, rfl⟩
abbrev main_call4_call1_v118 : Ref sig .tc := ⟨.hbm, 2109, rfl⟩
abbrev main_call4_call1_v119 : Ref sig .tc := ⟨.hbm, 2110, rfl⟩
abbrev main_call4_call1_v120 : Ref sig .tc := ⟨.hbm, 2111, rfl⟩
abbrev main_call4_call1_v121 : Ref sig .tc := ⟨.hbm, 2112, rfl⟩
abbrev main_call4_call1_v122 : Ref sig .tc := ⟨.hbm, 2113, rfl⟩
abbrev main_call4_call1_c_31 : Ref sig .tc := ⟨.hbm, 2114, rfl⟩
abbrev main_call4_call1_v123 : Ref sig .tc := ⟨.hbm, 2115, rfl⟩
abbrev main_call4_call1_v124 : Ref sig .tc := ⟨.hbm, 2116, rfl⟩
abbrev main_call4_call1_c_32 : Ref sig .tc := ⟨.hbm, 2117, rfl⟩
abbrev main_call4_call1_v125 : Ref sig .tc := ⟨.hbm, 2118, rfl⟩
abbrev main_call4_call1_v126 : Ref sig .tc := ⟨.hbm, 2119, rfl⟩
abbrev main_call4_call1_v127 : Ref sig .tc := ⟨.hbm, 2120, rfl⟩
abbrev main_call4_call1_v128 : Ref sig .tc := ⟨.hbm, 2121, rfl⟩
abbrev main_call4_call1_v129 : Ref sig .tc := ⟨.hbm, 2122, rfl⟩
abbrev main_call4_call1_c_33 : Ref sig .tc := ⟨.hbm, 2123, rfl⟩
abbrev main_call4_call1_v130 : Ref sig .tc := ⟨.hbm, 2124, rfl⟩
abbrev main_call4_call1_v131 : Ref sig .tc := ⟨.hbm, 2125, rfl⟩
abbrev main_call4_call1_c_34 : Ref sig .tc := ⟨.hbm, 2126, rfl⟩
abbrev main_call4_call1_v132 : Ref sig .tc := ⟨.hbm, 2127, rfl⟩
abbrev main_call4_call1_v133 : Ref sig .tc := ⟨.hbm, 2128, rfl⟩
abbrev main_call4_call1_v134 : Ref sig .tc := ⟨.hbm, 2129, rfl⟩
abbrev main_call4_call1_v135 : Ref sig .tc := ⟨.hbm, 2130, rfl⟩
abbrev main_call4_call1_v136 : Ref sig .tc := ⟨.hbm, 2131, rfl⟩
abbrev main_call4_call1_v137 : Ref sig .tc := ⟨.hbm, 2132, rfl⟩
abbrev main_call4_call1_v138 : Ref sig .tc := ⟨.hbm, 2133, rfl⟩
abbrev main_call4_call1_v139 : Ref sig .tc := ⟨.hbm, 2134, rfl⟩
abbrev main_call4_call1_c_35 : Ref sig .tc := ⟨.hbm, 2135, rfl⟩
abbrev main_call4_call1_v140 : Ref sig .tc := ⟨.hbm, 2136, rfl⟩
abbrev main_call4_call1_v141 : Ref sig .tc := ⟨.hbm, 2137, rfl⟩
abbrev main_call4_call1_v142 : Ref sig .tc := ⟨.hbm, 2138, rfl⟩
abbrev main_call4_call1_c_36 : Ref sig .tc := ⟨.hbm, 2139, rfl⟩
abbrev main_call4_call1_v143 : Ref sig .tc := ⟨.hbm, 2140, rfl⟩
abbrev main_call4_call1_v144 : Ref sig .tc := ⟨.hbm, 2141, rfl⟩
abbrev main_call4_call1_c_37 : Ref sig .tc := ⟨.hbm, 2142, rfl⟩
abbrev main_call4_call1_v145 : Ref sig .tc := ⟨.hbm, 2143, rfl⟩
abbrev main_call4_call1_v146 : Ref sig .tc := ⟨.hbm, 2144, rfl⟩
abbrev main_call4_call1_v147 : Ref sig .tc := ⟨.hbm, 2145, rfl⟩
abbrev main_call4_call1_v148 : Ref sig .tc := ⟨.hbm, 2146, rfl⟩
abbrev main_call4_call1_v149 : Ref sig .tc := ⟨.hbm, 2147, rfl⟩
abbrev main_call4_call1_c_38 : Ref sig .tc := ⟨.hbm, 2148, rfl⟩
abbrev main_call4_call1_v150 : Ref sig .tc := ⟨.hbm, 2149, rfl⟩
abbrev main_call4_call1_v151 : Ref sig .tc := ⟨.hbm, 2150, rfl⟩
abbrev main_call4_call1_c_39 : Ref sig .tc := ⟨.hbm, 2151, rfl⟩
abbrev main_call4_call1_v152 : Ref sig .tc := ⟨.hbm, 2152, rfl⟩
abbrev main_call4_call1_v153 : Ref sig .tc := ⟨.hbm, 2153, rfl⟩
abbrev main_call4_call1_v154 : Ref sig .tc := ⟨.hbm, 2154, rfl⟩
abbrev main_call4_call1_v155 : Ref sig .tc := ⟨.hbm, 2155, rfl⟩
abbrev main_call4_call1_v156 : Ref sig .tc := ⟨.hbm, 2156, rfl⟩
abbrev main_call4_call1_c_40 : Ref sig .tc := ⟨.hbm, 2157, rfl⟩
abbrev main_call4_call1_v157 : Ref sig .tc := ⟨.hbm, 2158, rfl⟩
abbrev main_call4_call1_v158 : Ref sig .tc := ⟨.hbm, 2159, rfl⟩
abbrev main_call4_call1_c_41 : Ref sig .tc := ⟨.hbm, 2160, rfl⟩
abbrev main_call4_call1_v159 : Ref sig .tc := ⟨.hbm, 2161, rfl⟩
abbrev main_call4_call1_v160 : Ref sig .tc := ⟨.hbm, 2162, rfl⟩
abbrev main_call4_call1_v161 : Ref sig .tc := ⟨.hbm, 2163, rfl⟩
abbrev main_call4_call1_v162 : Ref sig .tc := ⟨.hbm, 2164, rfl⟩
abbrev main_call4_call1_v163 : Ref sig .tc := ⟨.hbm, 2165, rfl⟩
abbrev main_call4_call1_c_42 : Ref sig .tc := ⟨.hbm, 2166, rfl⟩
abbrev main_call4_call1_v164 : Ref sig .tc := ⟨.hbm, 2167, rfl⟩
abbrev main_call4_call1_v165 : Ref sig .tc := ⟨.hbm, 2168, rfl⟩
abbrev main_call4_call1_c_43 : Ref sig .tc := ⟨.hbm, 2169, rfl⟩
abbrev main_call4_call1_v166 : Ref sig .tc := ⟨.hbm, 2170, rfl⟩
abbrev main_call4_call1_v167 : Ref sig .tc := ⟨.hbm, 2171, rfl⟩
abbrev main_call4_call1_v168 : Ref sig .tc := ⟨.hbm, 2172, rfl⟩
abbrev main_call4_call1_v169 : Ref sig .tc := ⟨.hbm, 2173, rfl⟩
abbrev main_call4_call1_v170 : Ref sig .tc := ⟨.hbm, 2174, rfl⟩
abbrev main_call4_v16_0 : Ref sig .tc := ⟨.hbm, 2175, rfl⟩
abbrev main_call4_call1_v172 : Ref sig .tc := ⟨.hbm, 2176, rfl⟩
abbrev main_call4_call1_v173 : Ref sig .tc := ⟨.hbm, 2177, rfl⟩
abbrev main_call4_call1_c_44 : Ref sig .tc := ⟨.hbm, 2178, rfl⟩
abbrev main_call4_call1_v174 : Ref sig .tc := ⟨.hbm, 2179, rfl⟩
abbrev main_call4_v16_1 : Ref sig .tc := ⟨.hbm, 2180, rfl⟩
abbrev main_call4_v17 : Ref sig .tc := ⟨.hbm, 2181, rfl⟩
abbrev main_call4_v18_0 : Ref sig .tc := ⟨.hbm, 2182, rfl⟩
abbrev main_v26 : Ref sig .tc := ⟨.hbm, 2183, rfl⟩
abbrev main_v27 : Ref sig .tc := ⟨.hbm, 2184, rfl⟩
abbrev main_v28 : Ref sig .tc := ⟨.hbm, 2185, rfl⟩
abbrev main_v29 : Ref sig .tc := ⟨.hbm, 2186, rfl⟩
abbrev main_call5_call0_v0 : Ref sig .tc := ⟨.hbm, 2187, rfl⟩
abbrev main_call5_call0_v1 : Ref sig .tc := ⟨.hbm, 2188, rfl⟩
abbrev main_call5_call0_v2 : Ref sig .tc := ⟨.hbm, 2189, rfl⟩
abbrev main_call5_call0_v3 : Ref sig .tc := ⟨.hbm, 2190, rfl⟩
abbrev main_call5_call0_v4 : Ref sig .tc := ⟨.hbm, 2191, rfl⟩
abbrev main_call5_call0_c : Ref sig .tc := ⟨.hbm, 2192, rfl⟩
abbrev main_call5_call0_v5 : Ref sig .tc := ⟨.hbm, 2193, rfl⟩
abbrev main_call5_call0_v6 : Ref sig .tc := ⟨.hbm, 2194, rfl⟩
abbrev main_call5_call0_c_0 : Ref sig .tc := ⟨.hbm, 2195, rfl⟩
abbrev main_call5_call0_v7 : Ref sig .tc := ⟨.hbm, 2196, rfl⟩
abbrev main_call5_call0_v8 : Ref sig .tc := ⟨.hbm, 2197, rfl⟩
abbrev main_call5_call0_v9 : Ref sig .tc := ⟨.hbm, 2198, rfl⟩
abbrev main_call5_call0_v10 : Ref sig .tc := ⟨.hbm, 2199, rfl⟩
abbrev main_call5_call0_call0_v0 : Ref sig .tc := ⟨.hbm, 2200, rfl⟩
abbrev main_call5_call0_call0_c : Ref sig .tc := ⟨.hbm, 2201, rfl⟩
abbrev main_call5_call0_call0_v1 : Ref sig .tc := ⟨.hbm, 2202, rfl⟩
abbrev main_call5_call0_call0_v2 : Ref sig .tc := ⟨.hbm, 2203, rfl⟩
abbrev main_call5_call0_call0_v3 : Ref sig .tc := ⟨.hbm, 2204, rfl⟩
abbrev main_call5_call0_call0_v4 : Ref sig .tc := ⟨.hbm, 2205, rfl⟩
abbrev main_call5_call0_call0_v5 : Ref sig .tc := ⟨.hbm, 2206, rfl⟩
abbrev main_call5_call0_call0_v6 : Ref sig .tc := ⟨.hbm, 2207, rfl⟩
abbrev main_call5_call0_call0_c_0 : Ref sig .tc := ⟨.hbm, 2208, rfl⟩
abbrev main_call5_call0_call0_v7 : Ref sig .tc := ⟨.hbm, 2209, rfl⟩
abbrev main_call5_call0_call0_v8 : Ref sig .tc := ⟨.hbm, 2210, rfl⟩
abbrev main_call5_call0_call0_c_1 : Ref sig .tc := ⟨.hbm, 2211, rfl⟩
abbrev main_call5_call0_call0_v9 : Ref sig .tc := ⟨.hbm, 2212, rfl⟩
abbrev main_call5_call0_call0_v10 : Ref sig .tc := ⟨.hbm, 2213, rfl⟩
abbrev main_call5_call0_call0_v11 : Ref sig .tc := ⟨.hbm, 2214, rfl⟩
abbrev main_call5_call0_call0_v12 : Ref sig .tc := ⟨.hbm, 2215, rfl⟩
abbrev main_call5_call0_call0_v13 : Ref sig .tc := ⟨.hbm, 2216, rfl⟩
abbrev main_call5_call0_call0_c_2 : Ref sig .tc := ⟨.hbm, 2217, rfl⟩
abbrev main_call5_call0_call0_v14 : Ref sig .tc := ⟨.hbm, 2218, rfl⟩
abbrev main_call5_call0_call0_v15 : Ref sig .tc := ⟨.hbm, 2219, rfl⟩
abbrev main_call5_call0_call0_c_3 : Ref sig .tc := ⟨.hbm, 2220, rfl⟩
abbrev main_call5_call0_call0_v16 : Ref sig .tc := ⟨.hbm, 2221, rfl⟩
abbrev main_call5_call0_call0_v17 : Ref sig .tc := ⟨.hbm, 2222, rfl⟩
abbrev main_call5_call0_call0_v18 : Ref sig .tc := ⟨.hbm, 2223, rfl⟩
abbrev main_call5_call0_call0_v19 : Ref sig .tc := ⟨.hbm, 2224, rfl⟩
abbrev main_call5_call0_call0_v20 : Ref sig .tc := ⟨.hbm, 2225, rfl⟩
abbrev main_call5_call0_call0_c_4 : Ref sig .tc := ⟨.hbm, 2226, rfl⟩
abbrev main_call5_call0_call0_v21 : Ref sig .tc := ⟨.hbm, 2227, rfl⟩
abbrev main_call5_call0_call0_v22 : Ref sig .tc := ⟨.hbm, 2228, rfl⟩
abbrev main_call5_call0_call0_c_5 : Ref sig .tc := ⟨.hbm, 2229, rfl⟩
abbrev main_call5_call0_call0_v23 : Ref sig .tc := ⟨.hbm, 2230, rfl⟩
abbrev main_call5_call0_call0_v24 : Ref sig .tc := ⟨.hbm, 2231, rfl⟩
abbrev main_call5_call0_call0_v25 : Ref sig .tc := ⟨.hbm, 2232, rfl⟩
abbrev main_call5_call0_call0_v26 : Ref sig .tc := ⟨.hbm, 2233, rfl⟩
abbrev main_call5_call0_call0_v27 : Ref sig .tc := ⟨.hbm, 2234, rfl⟩
abbrev main_call5_call0_call0_c_6 : Ref sig .tc := ⟨.hbm, 2235, rfl⟩
abbrev main_call5_call0_call0_v28 : Ref sig .tc := ⟨.hbm, 2236, rfl⟩
abbrev main_call5_call0_call0_v29 : Ref sig .tc := ⟨.hbm, 2237, rfl⟩
abbrev main_call5_call0_call0_c_7 : Ref sig .tc := ⟨.hbm, 2238, rfl⟩
abbrev main_call5_call0_call0_v30 : Ref sig .tc := ⟨.hbm, 2239, rfl⟩
abbrev main_call5_call0_call0_v31 : Ref sig .tc := ⟨.hbm, 2240, rfl⟩
abbrev main_call5_call0_call0_v32 : Ref sig .tc := ⟨.hbm, 2241, rfl⟩
abbrev main_call5_call0_call0_v33 : Ref sig .tc := ⟨.hbm, 2242, rfl⟩
abbrev main_call5_call0_call0_v34 : Ref sig .tc := ⟨.hbm, 2243, rfl⟩
abbrev main_call5_call0_call0_v35 : Ref sig .tc := ⟨.hbm, 2244, rfl⟩
abbrev main_call5_call0_call0_v36 : Ref sig .tc := ⟨.hbm, 2245, rfl⟩
abbrev main_call5_call0_call0_v37 : Ref sig .tc := ⟨.hbm, 2246, rfl⟩
abbrev main_call5_call0_call0_c_8 : Ref sig .tc := ⟨.hbm, 2247, rfl⟩
abbrev main_call5_call0_call0_v38 : Ref sig .tc := ⟨.hbm, 2248, rfl⟩
abbrev main_call5_call0_call0_v39 : Ref sig .tc := ⟨.hbm, 2249, rfl⟩
abbrev main_call5_call0_call0_v40 : Ref sig .tc := ⟨.hbm, 2250, rfl⟩
abbrev main_call5_call0_call0_c_9 : Ref sig .tc := ⟨.hbm, 2251, rfl⟩
abbrev main_call5_call0_call0_v41 : Ref sig .tc := ⟨.hbm, 2252, rfl⟩
abbrev main_call5_call0_call0_v42 : Ref sig .tc := ⟨.hbm, 2253, rfl⟩
abbrev main_call5_call0_call0_c_10 : Ref sig .tc := ⟨.hbm, 2254, rfl⟩
abbrev main_call5_call0_call0_v43 : Ref sig .tc := ⟨.hbm, 2255, rfl⟩
abbrev main_call5_call0_call0_v44 : Ref sig .tc := ⟨.hbm, 2256, rfl⟩
abbrev main_call5_call0_call0_v45 : Ref sig .tc := ⟨.hbm, 2257, rfl⟩
abbrev main_call5_call0_call0_v46 : Ref sig .tc := ⟨.hbm, 2258, rfl⟩
abbrev main_call5_call0_call0_v47 : Ref sig .tc := ⟨.hbm, 2259, rfl⟩
abbrev main_call5_call0_call0_c_11 : Ref sig .tc := ⟨.hbm, 2260, rfl⟩
abbrev main_call5_call0_call0_v48 : Ref sig .tc := ⟨.hbm, 2261, rfl⟩
abbrev main_call5_call0_call0_v49 : Ref sig .tc := ⟨.hbm, 2262, rfl⟩
abbrev main_call5_call0_call0_c_12 : Ref sig .tc := ⟨.hbm, 2263, rfl⟩
abbrev main_call5_call0_call0_v50 : Ref sig .tc := ⟨.hbm, 2264, rfl⟩
abbrev main_call5_call0_call0_v51 : Ref sig .tc := ⟨.hbm, 2265, rfl⟩
abbrev main_call5_call0_call0_v52 : Ref sig .tc := ⟨.hbm, 2266, rfl⟩
abbrev main_call5_call0_call0_v53 : Ref sig .tc := ⟨.hbm, 2267, rfl⟩
abbrev main_call5_call0_call0_v54 : Ref sig .tc := ⟨.hbm, 2268, rfl⟩
abbrev main_call5_call0_call0_c_13 : Ref sig .tc := ⟨.hbm, 2269, rfl⟩
abbrev main_call5_call0_call0_v55 : Ref sig .tc := ⟨.hbm, 2270, rfl⟩
abbrev main_call5_call0_call0_v56 : Ref sig .tc := ⟨.hbm, 2271, rfl⟩
abbrev main_call5_call0_call0_c_14 : Ref sig .tc := ⟨.hbm, 2272, rfl⟩
abbrev main_call5_call0_call0_v57 : Ref sig .tc := ⟨.hbm, 2273, rfl⟩
abbrev main_call5_call0_call0_v58 : Ref sig .tc := ⟨.hbm, 2274, rfl⟩
abbrev main_call5_call0_call0_v59 : Ref sig .tc := ⟨.hbm, 2275, rfl⟩
abbrev main_call5_call0_call0_v60 : Ref sig .tc := ⟨.hbm, 2276, rfl⟩
abbrev main_call5_call0_call0_v61 : Ref sig .tc := ⟨.hbm, 2277, rfl⟩
abbrev main_call5_call0_call0_c_15 : Ref sig .tc := ⟨.hbm, 2278, rfl⟩
abbrev main_call5_call0_call0_v62 : Ref sig .tc := ⟨.hbm, 2279, rfl⟩
abbrev main_call5_call0_call0_v63 : Ref sig .tc := ⟨.hbm, 2280, rfl⟩
abbrev main_call5_call0_call0_c_16 : Ref sig .tc := ⟨.hbm, 2281, rfl⟩
abbrev main_call5_call0_call0_v64 : Ref sig .tc := ⟨.hbm, 2282, rfl⟩
abbrev main_call5_call0_call0_v65 : Ref sig .tc := ⟨.hbm, 2283, rfl⟩
abbrev main_call5_call0_call0_v66 : Ref sig .tc := ⟨.hbm, 2284, rfl⟩
abbrev main_call5_call0_call0_v67 : Ref sig .tc := ⟨.hbm, 2285, rfl⟩
abbrev main_call5_call0_call0_v68 : Ref sig .tc := ⟨.hbm, 2286, rfl⟩
abbrev main_call5_call0_call0_v69 : Ref sig .tc := ⟨.hbm, 2287, rfl⟩
abbrev main_call5_call0_call0_v70 : Ref sig .tc := ⟨.hbm, 2288, rfl⟩
abbrev main_call5_call0_call0_v71 : Ref sig .tc := ⟨.hbm, 2289, rfl⟩
abbrev main_call5_call0_call0_c_17 : Ref sig .tc := ⟨.hbm, 2290, rfl⟩
abbrev main_call5_call0_call0_v72 : Ref sig .tc := ⟨.hbm, 2291, rfl⟩
abbrev main_call5_call0_call0_v73 : Ref sig .tc := ⟨.hbm, 2292, rfl⟩
abbrev main_call5_call0_call0_v74 : Ref sig .tc := ⟨.hbm, 2293, rfl⟩
abbrev main_call5_call0_call0_c_18 : Ref sig .tc := ⟨.hbm, 2294, rfl⟩
abbrev main_call5_call0_call0_v75 : Ref sig .tc := ⟨.hbm, 2295, rfl⟩
abbrev main_call5_call0_call0_v76 : Ref sig .tc := ⟨.hbm, 2296, rfl⟩
abbrev main_call5_call0_call0_c_19 : Ref sig .tc := ⟨.hbm, 2297, rfl⟩
abbrev main_call5_call0_call0_v77 : Ref sig .tc := ⟨.hbm, 2298, rfl⟩
abbrev main_call5_call0_call0_v78 : Ref sig .tc := ⟨.hbm, 2299, rfl⟩
abbrev main_call5_call0_call0_v79 : Ref sig .tc := ⟨.hbm, 2300, rfl⟩
abbrev main_call5_call0_call0_v80 : Ref sig .tc := ⟨.hbm, 2301, rfl⟩
abbrev main_call5_call0_call0_v81 : Ref sig .tc := ⟨.hbm, 2302, rfl⟩
abbrev main_call5_call0_call0_c_20 : Ref sig .tc := ⟨.hbm, 2303, rfl⟩
abbrev main_call5_call0_call0_v82 : Ref sig .tc := ⟨.hbm, 2304, rfl⟩
abbrev main_call5_call0_call0_v83 : Ref sig .tc := ⟨.hbm, 2305, rfl⟩
abbrev main_call5_call0_call0_c_21 : Ref sig .tc := ⟨.hbm, 2306, rfl⟩
abbrev main_call5_call0_call0_v84 : Ref sig .tc := ⟨.hbm, 2307, rfl⟩
abbrev main_call5_call0_call0_v85 : Ref sig .tc := ⟨.hbm, 2308, rfl⟩
abbrev main_call5_call0_call0_v86 : Ref sig .tc := ⟨.hbm, 2309, rfl⟩
abbrev main_call5_call0_call0_v87 : Ref sig .tc := ⟨.hbm, 2310, rfl⟩
abbrev main_call5_call0_call0_v88 : Ref sig .tc := ⟨.hbm, 2311, rfl⟩
abbrev main_call5_call0_call0_c_22 : Ref sig .tc := ⟨.hbm, 2312, rfl⟩
abbrev main_call5_call0_call0_v89 : Ref sig .tc := ⟨.hbm, 2313, rfl⟩
abbrev main_call5_call0_call0_v90 : Ref sig .tc := ⟨.hbm, 2314, rfl⟩
abbrev main_call5_call0_call0_c_23 : Ref sig .tc := ⟨.hbm, 2315, rfl⟩
abbrev main_call5_call0_call0_v91 : Ref sig .tc := ⟨.hbm, 2316, rfl⟩
abbrev main_call5_call0_call0_v92 : Ref sig .tc := ⟨.hbm, 2317, rfl⟩
abbrev main_call5_call0_call0_v93 : Ref sig .tc := ⟨.hbm, 2318, rfl⟩
abbrev main_call5_call0_call0_v94 : Ref sig .tc := ⟨.hbm, 2319, rfl⟩
abbrev main_call5_call0_call0_v95 : Ref sig .tc := ⟨.hbm, 2320, rfl⟩
abbrev main_call5_call0_call0_c_24 : Ref sig .tc := ⟨.hbm, 2321, rfl⟩
abbrev main_call5_call0_call0_v96 : Ref sig .tc := ⟨.hbm, 2322, rfl⟩
abbrev main_call5_call0_call0_v97 : Ref sig .tc := ⟨.hbm, 2323, rfl⟩
abbrev main_call5_call0_call0_c_25 : Ref sig .tc := ⟨.hbm, 2324, rfl⟩
abbrev main_call5_call0_call0_v98 : Ref sig .tc := ⟨.hbm, 2325, rfl⟩
abbrev main_call5_call0_call0_v99 : Ref sig .tc := ⟨.hbm, 2326, rfl⟩
abbrev main_call5_call0_call0_v100 : Ref sig .tc := ⟨.hbm, 2327, rfl⟩
abbrev main_call5_call0_call0_v101 : Ref sig .tc := ⟨.hbm, 2328, rfl⟩
abbrev main_call5_call0_call0_v102 : Ref sig .tc := ⟨.hbm, 2329, rfl⟩
abbrev main_call5_call0_call0_v103 : Ref sig .tc := ⟨.hbm, 2330, rfl⟩
abbrev main_call5_call0_call0_v104 : Ref sig .tc := ⟨.hbm, 2331, rfl⟩
abbrev main_call5_call0_call0_v105 : Ref sig .tc := ⟨.hbm, 2332, rfl⟩
abbrev main_call5_call0_call0_c_26 : Ref sig .tc := ⟨.hbm, 2333, rfl⟩
abbrev main_call5_call0_call0_v106 : Ref sig .tc := ⟨.hbm, 2334, rfl⟩
abbrev main_call5_call0_call0_v107 : Ref sig .tc := ⟨.hbm, 2335, rfl⟩
abbrev main_call5_call0_call0_v108 : Ref sig .tc := ⟨.hbm, 2336, rfl⟩
abbrev main_call5_call0_call0_c_27 : Ref sig .tc := ⟨.hbm, 2337, rfl⟩
abbrev main_call5_call0_call0_v109 : Ref sig .tc := ⟨.hbm, 2338, rfl⟩
abbrev main_call5_call0_call0_v110 : Ref sig .tc := ⟨.hbm, 2339, rfl⟩
abbrev main_call5_call0_call0_c_28 : Ref sig .tc := ⟨.hbm, 2340, rfl⟩
abbrev main_call5_call0_call0_v111 : Ref sig .tc := ⟨.hbm, 2341, rfl⟩
abbrev main_call5_call0_call0_v112 : Ref sig .tc := ⟨.hbm, 2342, rfl⟩
abbrev main_call5_call0_call0_v113 : Ref sig .tc := ⟨.hbm, 2343, rfl⟩
abbrev main_call5_call0_call0_v114 : Ref sig .tc := ⟨.hbm, 2344, rfl⟩
abbrev main_call5_call0_call0_v115 : Ref sig .tc := ⟨.hbm, 2345, rfl⟩
abbrev main_call5_call0_call0_c_29 : Ref sig .tc := ⟨.hbm, 2346, rfl⟩
abbrev main_call5_call0_call0_v116 : Ref sig .tc := ⟨.hbm, 2347, rfl⟩
abbrev main_call5_call0_call0_v117 : Ref sig .tc := ⟨.hbm, 2348, rfl⟩
abbrev main_call5_call0_call0_c_30 : Ref sig .tc := ⟨.hbm, 2349, rfl⟩
abbrev main_call5_call0_call0_v118 : Ref sig .tc := ⟨.hbm, 2350, rfl⟩
abbrev main_call5_call0_call0_v119 : Ref sig .tc := ⟨.hbm, 2351, rfl⟩
abbrev main_call5_call0_call0_v120 : Ref sig .tc := ⟨.hbm, 2352, rfl⟩
abbrev main_call5_call0_call0_v121 : Ref sig .tc := ⟨.hbm, 2353, rfl⟩
abbrev main_call5_call0_call0_v122 : Ref sig .tc := ⟨.hbm, 2354, rfl⟩
abbrev main_call5_call0_call0_c_31 : Ref sig .tc := ⟨.hbm, 2355, rfl⟩
abbrev main_call5_call0_call0_v123 : Ref sig .tc := ⟨.hbm, 2356, rfl⟩
abbrev main_call5_call0_call0_v124 : Ref sig .tc := ⟨.hbm, 2357, rfl⟩
abbrev main_call5_call0_call0_c_32 : Ref sig .tc := ⟨.hbm, 2358, rfl⟩
abbrev main_call5_call0_call0_v125 : Ref sig .tc := ⟨.hbm, 2359, rfl⟩
abbrev main_call5_call0_call0_v126 : Ref sig .tc := ⟨.hbm, 2360, rfl⟩
abbrev main_call5_call0_call0_v127 : Ref sig .tc := ⟨.hbm, 2361, rfl⟩
abbrev main_call5_call0_call0_v128 : Ref sig .tc := ⟨.hbm, 2362, rfl⟩
abbrev main_call5_call0_call0_v129 : Ref sig .tc := ⟨.hbm, 2363, rfl⟩
abbrev main_call5_call0_call0_c_33 : Ref sig .tc := ⟨.hbm, 2364, rfl⟩
abbrev main_call5_call0_call0_v130 : Ref sig .tc := ⟨.hbm, 2365, rfl⟩
abbrev main_call5_call0_call0_v131 : Ref sig .tc := ⟨.hbm, 2366, rfl⟩
abbrev main_call5_call0_call0_c_34 : Ref sig .tc := ⟨.hbm, 2367, rfl⟩
abbrev main_call5_call0_call0_v132 : Ref sig .tc := ⟨.hbm, 2368, rfl⟩
abbrev main_call5_call0_call0_v133 : Ref sig .tc := ⟨.hbm, 2369, rfl⟩
abbrev main_call5_call0_call0_v134 : Ref sig .tc := ⟨.hbm, 2370, rfl⟩
abbrev main_call5_call0_call0_v135 : Ref sig .tc := ⟨.hbm, 2371, rfl⟩
abbrev main_call5_call0_call0_v136 : Ref sig .tc := ⟨.hbm, 2372, rfl⟩
abbrev main_call5_call0_call0_v137 : Ref sig .tc := ⟨.hbm, 2373, rfl⟩
abbrev main_call5_call0_call0_v138 : Ref sig .tc := ⟨.hbm, 2374, rfl⟩
abbrev main_call5_call0_call0_v139 : Ref sig .tc := ⟨.hbm, 2375, rfl⟩
abbrev main_call5_call0_call0_c_35 : Ref sig .tc := ⟨.hbm, 2376, rfl⟩
abbrev main_call5_call0_call0_v140 : Ref sig .tc := ⟨.hbm, 2377, rfl⟩
abbrev main_call5_call0_call0_v141 : Ref sig .tc := ⟨.hbm, 2378, rfl⟩
abbrev main_call5_call0_call0_v142 : Ref sig .tc := ⟨.hbm, 2379, rfl⟩
abbrev main_call5_call0_call0_c_36 : Ref sig .tc := ⟨.hbm, 2380, rfl⟩
abbrev main_call5_call0_call0_v143 : Ref sig .tc := ⟨.hbm, 2381, rfl⟩
abbrev main_call5_call0_call0_v144 : Ref sig .tc := ⟨.hbm, 2382, rfl⟩
abbrev main_call5_call0_call0_c_37 : Ref sig .tc := ⟨.hbm, 2383, rfl⟩
abbrev main_call5_call0_call0_v145 : Ref sig .tc := ⟨.hbm, 2384, rfl⟩
abbrev main_call5_call0_call0_v146 : Ref sig .tc := ⟨.hbm, 2385, rfl⟩
abbrev main_call5_call0_call0_v147 : Ref sig .tc := ⟨.hbm, 2386, rfl⟩
abbrev main_call5_call0_call0_v148 : Ref sig .tc := ⟨.hbm, 2387, rfl⟩
abbrev main_call5_call0_call0_v149 : Ref sig .tc := ⟨.hbm, 2388, rfl⟩
abbrev main_call5_call0_call0_c_38 : Ref sig .tc := ⟨.hbm, 2389, rfl⟩
abbrev main_call5_call0_call0_v150 : Ref sig .tc := ⟨.hbm, 2390, rfl⟩
abbrev main_call5_call0_call0_v151 : Ref sig .tc := ⟨.hbm, 2391, rfl⟩
abbrev main_call5_call0_call0_c_39 : Ref sig .tc := ⟨.hbm, 2392, rfl⟩
abbrev main_call5_call0_call0_v152 : Ref sig .tc := ⟨.hbm, 2393, rfl⟩
abbrev main_call5_call0_call0_v153 : Ref sig .tc := ⟨.hbm, 2394, rfl⟩
abbrev main_call5_call0_call0_v154 : Ref sig .tc := ⟨.hbm, 2395, rfl⟩
abbrev main_call5_call0_call0_v155 : Ref sig .tc := ⟨.hbm, 2396, rfl⟩
abbrev main_call5_call0_call0_v156 : Ref sig .tc := ⟨.hbm, 2397, rfl⟩
abbrev main_call5_call0_call0_c_40 : Ref sig .tc := ⟨.hbm, 2398, rfl⟩
abbrev main_call5_call0_call0_v157 : Ref sig .tc := ⟨.hbm, 2399, rfl⟩
abbrev main_call5_call0_call0_v158 : Ref sig .tc := ⟨.hbm, 2400, rfl⟩
abbrev main_call5_call0_call0_c_41 : Ref sig .tc := ⟨.hbm, 2401, rfl⟩
abbrev main_call5_call0_call0_v159 : Ref sig .tc := ⟨.hbm, 2402, rfl⟩
abbrev main_call5_call0_call0_v160 : Ref sig .tc := ⟨.hbm, 2403, rfl⟩
abbrev main_call5_call0_call0_v161 : Ref sig .tc := ⟨.hbm, 2404, rfl⟩
abbrev main_call5_call0_call0_v162 : Ref sig .tc := ⟨.hbm, 2405, rfl⟩
abbrev main_call5_call0_call0_v163 : Ref sig .tc := ⟨.hbm, 2406, rfl⟩
abbrev main_call5_call0_call0_c_42 : Ref sig .tc := ⟨.hbm, 2407, rfl⟩
abbrev main_call5_call0_call0_v164 : Ref sig .tc := ⟨.hbm, 2408, rfl⟩
abbrev main_call5_call0_call0_v165 : Ref sig .tc := ⟨.hbm, 2409, rfl⟩
abbrev main_call5_call0_call0_c_43 : Ref sig .tc := ⟨.hbm, 2410, rfl⟩
abbrev main_call5_call0_call0_v166 : Ref sig .tc := ⟨.hbm, 2411, rfl⟩
abbrev main_call5_call0_call0_v167 : Ref sig .tc := ⟨.hbm, 2412, rfl⟩
abbrev main_call5_call0_call0_v168 : Ref sig .tc := ⟨.hbm, 2413, rfl⟩
abbrev main_call5_call0_call0_v169 : Ref sig .tc := ⟨.hbm, 2414, rfl⟩
abbrev main_call5_call0_call0_v170 : Ref sig .tc := ⟨.hbm, 2415, rfl⟩
abbrev main_call5_call0_v11_0 : Ref sig .tc := ⟨.hbm, 2416, rfl⟩
abbrev main_call5_call0_call0_v172 : Ref sig .tc := ⟨.hbm, 2417, rfl⟩
abbrev main_call5_call0_call0_v173 : Ref sig .tc := ⟨.hbm, 2418, rfl⟩
abbrev main_call5_call0_call0_c_44 : Ref sig .tc := ⟨.hbm, 2419, rfl⟩
abbrev main_call5_call0_call0_v174 : Ref sig .tc := ⟨.hbm, 2420, rfl⟩
abbrev main_call5_call0_v11_1 : Ref sig .tc := ⟨.hbm, 2421, rfl⟩
abbrev main_call5_call0_v12 : Ref sig .tc := ⟨.hbm, 2422, rfl⟩
abbrev main_call5_call0_v13 : Ref sig .tc := ⟨.hbm, 2423, rfl⟩
abbrev main_call5_v0 : Ref sig .tc := ⟨.hbm, 2424, rfl⟩
abbrev main_call5_v1 : Ref sig .tc := ⟨.hbm, 2425, rfl⟩
abbrev main_call5_v2 : Ref sig .tc := ⟨.hbm, 2426, rfl⟩
abbrev main_call5_v3 : Ref sig .tc := ⟨.hbm, 2427, rfl⟩
abbrev main_call5_v4 : Ref sig .tc := ⟨.hbm, 2428, rfl⟩
abbrev main_call5_v5 : Ref sig .tc := ⟨.hbm, 2429, rfl⟩
abbrev main_call5_v6 : Ref sig .tc := ⟨.hbm, 2430, rfl⟩
abbrev main_call5_v7 : Ref sig .tc := ⟨.hbm, 2431, rfl⟩
abbrev main_call5_v8 : Ref sig .tc := ⟨.hbm, 2432, rfl⟩
abbrev main_call5_v9 : Ref sig .tc := ⟨.hbm, 2433, rfl⟩
abbrev main_call5_c : Ref sig .tc := ⟨.hbm, 2434, rfl⟩
abbrev main_call5_v10 : Ref sig .tc := ⟨.hbm, 2435, rfl⟩
abbrev main_call5_v11 : Ref sig .tc := ⟨.hbm, 2436, rfl⟩
abbrev main_call5_c_0 : Ref sig .tc := ⟨.hbm, 2437, rfl⟩
abbrev main_call5_v12 : Ref sig .tc := ⟨.hbm, 2438, rfl⟩
abbrev main_call5_v13 : Ref sig .tc := ⟨.hbm, 2439, rfl⟩
abbrev main_call5_v14 : Ref sig .tc := ⟨.hbm, 2440, rfl⟩
abbrev main_call5_v15 : Ref sig .tc := ⟨.hbm, 2441, rfl⟩
abbrev main_call5_call1_v0 : Ref sig .tc := ⟨.hbm, 2442, rfl⟩
abbrev main_call5_call1_c : Ref sig .tc := ⟨.hbm, 2443, rfl⟩
abbrev main_call5_call1_v1 : Ref sig .tc := ⟨.hbm, 2444, rfl⟩
abbrev main_call5_call1_v2 : Ref sig .tc := ⟨.hbm, 2445, rfl⟩
abbrev main_call5_call1_v3 : Ref sig .tc := ⟨.hbm, 2446, rfl⟩
abbrev main_call5_call1_v4 : Ref sig .tc := ⟨.hbm, 2447, rfl⟩
abbrev main_call5_call1_v5 : Ref sig .tc := ⟨.hbm, 2448, rfl⟩
abbrev main_call5_call1_v6 : Ref sig .tc := ⟨.hbm, 2449, rfl⟩
abbrev main_call5_call1_c_0 : Ref sig .tc := ⟨.hbm, 2450, rfl⟩
abbrev main_call5_call1_v7 : Ref sig .tc := ⟨.hbm, 2451, rfl⟩
abbrev main_call5_call1_v8 : Ref sig .tc := ⟨.hbm, 2452, rfl⟩
abbrev main_call5_call1_c_1 : Ref sig .tc := ⟨.hbm, 2453, rfl⟩
abbrev main_call5_call1_v9 : Ref sig .tc := ⟨.hbm, 2454, rfl⟩
abbrev main_call5_call1_v10 : Ref sig .tc := ⟨.hbm, 2455, rfl⟩
abbrev main_call5_call1_v11 : Ref sig .tc := ⟨.hbm, 2456, rfl⟩
abbrev main_call5_call1_v12 : Ref sig .tc := ⟨.hbm, 2457, rfl⟩
abbrev main_call5_call1_v13 : Ref sig .tc := ⟨.hbm, 2458, rfl⟩
abbrev main_call5_call1_c_2 : Ref sig .tc := ⟨.hbm, 2459, rfl⟩
abbrev main_call5_call1_v14 : Ref sig .tc := ⟨.hbm, 2460, rfl⟩
abbrev main_call5_call1_v15 : Ref sig .tc := ⟨.hbm, 2461, rfl⟩
abbrev main_call5_call1_c_3 : Ref sig .tc := ⟨.hbm, 2462, rfl⟩
abbrev main_call5_call1_v16 : Ref sig .tc := ⟨.hbm, 2463, rfl⟩
abbrev main_call5_call1_v17 : Ref sig .tc := ⟨.hbm, 2464, rfl⟩
abbrev main_call5_call1_v18 : Ref sig .tc := ⟨.hbm, 2465, rfl⟩
abbrev main_call5_call1_v19 : Ref sig .tc := ⟨.hbm, 2466, rfl⟩
abbrev main_call5_call1_v20 : Ref sig .tc := ⟨.hbm, 2467, rfl⟩
abbrev main_call5_call1_c_4 : Ref sig .tc := ⟨.hbm, 2468, rfl⟩
abbrev main_call5_call1_v21 : Ref sig .tc := ⟨.hbm, 2469, rfl⟩
abbrev main_call5_call1_v22 : Ref sig .tc := ⟨.hbm, 2470, rfl⟩
abbrev main_call5_call1_c_5 : Ref sig .tc := ⟨.hbm, 2471, rfl⟩
abbrev main_call5_call1_v23 : Ref sig .tc := ⟨.hbm, 2472, rfl⟩
abbrev main_call5_call1_v24 : Ref sig .tc := ⟨.hbm, 2473, rfl⟩
abbrev main_call5_call1_v25 : Ref sig .tc := ⟨.hbm, 2474, rfl⟩
abbrev main_call5_call1_v26 : Ref sig .tc := ⟨.hbm, 2475, rfl⟩
abbrev main_call5_call1_v27 : Ref sig .tc := ⟨.hbm, 2476, rfl⟩
abbrev main_call5_call1_c_6 : Ref sig .tc := ⟨.hbm, 2477, rfl⟩
abbrev main_call5_call1_v28 : Ref sig .tc := ⟨.hbm, 2478, rfl⟩
abbrev main_call5_call1_v29 : Ref sig .tc := ⟨.hbm, 2479, rfl⟩
abbrev main_call5_call1_c_7 : Ref sig .tc := ⟨.hbm, 2480, rfl⟩
abbrev main_call5_call1_v30 : Ref sig .tc := ⟨.hbm, 2481, rfl⟩
abbrev main_call5_call1_v31 : Ref sig .tc := ⟨.hbm, 2482, rfl⟩
abbrev main_call5_call1_v32 : Ref sig .tc := ⟨.hbm, 2483, rfl⟩
abbrev main_call5_call1_v33 : Ref sig .tc := ⟨.hbm, 2484, rfl⟩
abbrev main_call5_call1_v34 : Ref sig .tc := ⟨.hbm, 2485, rfl⟩
abbrev main_call5_call1_v35 : Ref sig .tc := ⟨.hbm, 2486, rfl⟩
abbrev main_call5_call1_v36 : Ref sig .tc := ⟨.hbm, 2487, rfl⟩
abbrev main_call5_call1_v37 : Ref sig .tc := ⟨.hbm, 2488, rfl⟩
abbrev main_call5_call1_c_8 : Ref sig .tc := ⟨.hbm, 2489, rfl⟩
abbrev main_call5_call1_v38 : Ref sig .tc := ⟨.hbm, 2490, rfl⟩
abbrev main_call5_call1_v39 : Ref sig .tc := ⟨.hbm, 2491, rfl⟩
abbrev main_call5_call1_v40 : Ref sig .tc := ⟨.hbm, 2492, rfl⟩
abbrev main_call5_call1_c_9 : Ref sig .tc := ⟨.hbm, 2493, rfl⟩
abbrev main_call5_call1_v41 : Ref sig .tc := ⟨.hbm, 2494, rfl⟩
abbrev main_call5_call1_v42 : Ref sig .tc := ⟨.hbm, 2495, rfl⟩
abbrev main_call5_call1_c_10 : Ref sig .tc := ⟨.hbm, 2496, rfl⟩
abbrev main_call5_call1_v43 : Ref sig .tc := ⟨.hbm, 2497, rfl⟩
abbrev main_call5_call1_v44 : Ref sig .tc := ⟨.hbm, 2498, rfl⟩
abbrev main_call5_call1_v45 : Ref sig .tc := ⟨.hbm, 2499, rfl⟩
abbrev main_call5_call1_v46 : Ref sig .tc := ⟨.hbm, 2500, rfl⟩
abbrev main_call5_call1_v47 : Ref sig .tc := ⟨.hbm, 2501, rfl⟩
abbrev main_call5_call1_c_11 : Ref sig .tc := ⟨.hbm, 2502, rfl⟩
abbrev main_call5_call1_v48 : Ref sig .tc := ⟨.hbm, 2503, rfl⟩
abbrev main_call5_call1_v49 : Ref sig .tc := ⟨.hbm, 2504, rfl⟩
abbrev main_call5_call1_c_12 : Ref sig .tc := ⟨.hbm, 2505, rfl⟩
abbrev main_call5_call1_v50 : Ref sig .tc := ⟨.hbm, 2506, rfl⟩
abbrev main_call5_call1_v51 : Ref sig .tc := ⟨.hbm, 2507, rfl⟩
abbrev main_call5_call1_v52 : Ref sig .tc := ⟨.hbm, 2508, rfl⟩
abbrev main_call5_call1_v53 : Ref sig .tc := ⟨.hbm, 2509, rfl⟩
abbrev main_call5_call1_v54 : Ref sig .tc := ⟨.hbm, 2510, rfl⟩
abbrev main_call5_call1_c_13 : Ref sig .tc := ⟨.hbm, 2511, rfl⟩
abbrev main_call5_call1_v55 : Ref sig .tc := ⟨.hbm, 2512, rfl⟩
abbrev main_call5_call1_v56 : Ref sig .tc := ⟨.hbm, 2513, rfl⟩
abbrev main_call5_call1_c_14 : Ref sig .tc := ⟨.hbm, 2514, rfl⟩
abbrev main_call5_call1_v57 : Ref sig .tc := ⟨.hbm, 2515, rfl⟩
abbrev main_call5_call1_v58 : Ref sig .tc := ⟨.hbm, 2516, rfl⟩
abbrev main_call5_call1_v59 : Ref sig .tc := ⟨.hbm, 2517, rfl⟩
abbrev main_call5_call1_v60 : Ref sig .tc := ⟨.hbm, 2518, rfl⟩
abbrev main_call5_call1_v61 : Ref sig .tc := ⟨.hbm, 2519, rfl⟩
abbrev main_call5_call1_c_15 : Ref sig .tc := ⟨.hbm, 2520, rfl⟩
abbrev main_call5_call1_v62 : Ref sig .tc := ⟨.hbm, 2521, rfl⟩
abbrev main_call5_call1_v63 : Ref sig .tc := ⟨.hbm, 2522, rfl⟩
abbrev main_call5_call1_c_16 : Ref sig .tc := ⟨.hbm, 2523, rfl⟩
abbrev main_call5_call1_v64 : Ref sig .tc := ⟨.hbm, 2524, rfl⟩
abbrev main_call5_call1_v65 : Ref sig .tc := ⟨.hbm, 2525, rfl⟩
abbrev main_call5_call1_v66 : Ref sig .tc := ⟨.hbm, 2526, rfl⟩
abbrev main_call5_call1_v67 : Ref sig .tc := ⟨.hbm, 2527, rfl⟩
abbrev main_call5_call1_v68 : Ref sig .tc := ⟨.hbm, 2528, rfl⟩
abbrev main_call5_call1_v69 : Ref sig .tc := ⟨.hbm, 2529, rfl⟩
abbrev main_call5_call1_v70 : Ref sig .tc := ⟨.hbm, 2530, rfl⟩
abbrev main_call5_call1_v71 : Ref sig .tc := ⟨.hbm, 2531, rfl⟩
abbrev main_call5_call1_c_17 : Ref sig .tc := ⟨.hbm, 2532, rfl⟩
abbrev main_call5_call1_v72 : Ref sig .tc := ⟨.hbm, 2533, rfl⟩
abbrev main_call5_call1_v73 : Ref sig .tc := ⟨.hbm, 2534, rfl⟩
abbrev main_call5_call1_v74 : Ref sig .tc := ⟨.hbm, 2535, rfl⟩
abbrev main_call5_call1_c_18 : Ref sig .tc := ⟨.hbm, 2536, rfl⟩
abbrev main_call5_call1_v75 : Ref sig .tc := ⟨.hbm, 2537, rfl⟩
abbrev main_call5_call1_v76 : Ref sig .tc := ⟨.hbm, 2538, rfl⟩
abbrev main_call5_call1_c_19 : Ref sig .tc := ⟨.hbm, 2539, rfl⟩
abbrev main_call5_call1_v77 : Ref sig .tc := ⟨.hbm, 2540, rfl⟩
abbrev main_call5_call1_v78 : Ref sig .tc := ⟨.hbm, 2541, rfl⟩
abbrev main_call5_call1_v79 : Ref sig .tc := ⟨.hbm, 2542, rfl⟩
abbrev main_call5_call1_v80 : Ref sig .tc := ⟨.hbm, 2543, rfl⟩
abbrev main_call5_call1_v81 : Ref sig .tc := ⟨.hbm, 2544, rfl⟩
abbrev main_call5_call1_c_20 : Ref sig .tc := ⟨.hbm, 2545, rfl⟩
abbrev main_call5_call1_v82 : Ref sig .tc := ⟨.hbm, 2546, rfl⟩
abbrev main_call5_call1_v83 : Ref sig .tc := ⟨.hbm, 2547, rfl⟩
abbrev main_call5_call1_c_21 : Ref sig .tc := ⟨.hbm, 2548, rfl⟩
abbrev main_call5_call1_v84 : Ref sig .tc := ⟨.hbm, 2549, rfl⟩
abbrev main_call5_call1_v85 : Ref sig .tc := ⟨.hbm, 2550, rfl⟩
abbrev main_call5_call1_v86 : Ref sig .tc := ⟨.hbm, 2551, rfl⟩
abbrev main_call5_call1_v87 : Ref sig .tc := ⟨.hbm, 2552, rfl⟩
abbrev main_call5_call1_v88 : Ref sig .tc := ⟨.hbm, 2553, rfl⟩
abbrev main_call5_call1_c_22 : Ref sig .tc := ⟨.hbm, 2554, rfl⟩
abbrev main_call5_call1_v89 : Ref sig .tc := ⟨.hbm, 2555, rfl⟩
abbrev main_call5_call1_v90 : Ref sig .tc := ⟨.hbm, 2556, rfl⟩
abbrev main_call5_call1_c_23 : Ref sig .tc := ⟨.hbm, 2557, rfl⟩
abbrev main_call5_call1_v91 : Ref sig .tc := ⟨.hbm, 2558, rfl⟩
abbrev main_call5_call1_v92 : Ref sig .tc := ⟨.hbm, 2559, rfl⟩
abbrev main_call5_call1_v93 : Ref sig .tc := ⟨.hbm, 2560, rfl⟩
abbrev main_call5_call1_v94 : Ref sig .tc := ⟨.hbm, 2561, rfl⟩
abbrev main_call5_call1_v95 : Ref sig .tc := ⟨.hbm, 2562, rfl⟩
abbrev main_call5_call1_c_24 : Ref sig .tc := ⟨.hbm, 2563, rfl⟩
abbrev main_call5_call1_v96 : Ref sig .tc := ⟨.hbm, 2564, rfl⟩
abbrev main_call5_call1_v97 : Ref sig .tc := ⟨.hbm, 2565, rfl⟩
abbrev main_call5_call1_c_25 : Ref sig .tc := ⟨.hbm, 2566, rfl⟩
abbrev main_call5_call1_v98 : Ref sig .tc := ⟨.hbm, 2567, rfl⟩
abbrev main_call5_call1_v99 : Ref sig .tc := ⟨.hbm, 2568, rfl⟩
abbrev main_call5_call1_v100 : Ref sig .tc := ⟨.hbm, 2569, rfl⟩
abbrev main_call5_call1_v101 : Ref sig .tc := ⟨.hbm, 2570, rfl⟩
abbrev main_call5_call1_v102 : Ref sig .tc := ⟨.hbm, 2571, rfl⟩
abbrev main_call5_call1_v103 : Ref sig .tc := ⟨.hbm, 2572, rfl⟩
abbrev main_call5_call1_v104 : Ref sig .tc := ⟨.hbm, 2573, rfl⟩
abbrev main_call5_call1_v105 : Ref sig .tc := ⟨.hbm, 2574, rfl⟩
abbrev main_call5_call1_c_26 : Ref sig .tc := ⟨.hbm, 2575, rfl⟩
abbrev main_call5_call1_v106 : Ref sig .tc := ⟨.hbm, 2576, rfl⟩
abbrev main_call5_call1_v107 : Ref sig .tc := ⟨.hbm, 2577, rfl⟩
abbrev main_call5_call1_v108 : Ref sig .tc := ⟨.hbm, 2578, rfl⟩
abbrev main_call5_call1_c_27 : Ref sig .tc := ⟨.hbm, 2579, rfl⟩
abbrev main_call5_call1_v109 : Ref sig .tc := ⟨.hbm, 2580, rfl⟩
abbrev main_call5_call1_v110 : Ref sig .tc := ⟨.hbm, 2581, rfl⟩
abbrev main_call5_call1_c_28 : Ref sig .tc := ⟨.hbm, 2582, rfl⟩
abbrev main_call5_call1_v111 : Ref sig .tc := ⟨.hbm, 2583, rfl⟩
abbrev main_call5_call1_v112 : Ref sig .tc := ⟨.hbm, 2584, rfl⟩
abbrev main_call5_call1_v113 : Ref sig .tc := ⟨.hbm, 2585, rfl⟩
abbrev main_call5_call1_v114 : Ref sig .tc := ⟨.hbm, 2586, rfl⟩
abbrev main_call5_call1_v115 : Ref sig .tc := ⟨.hbm, 2587, rfl⟩
abbrev main_call5_call1_c_29 : Ref sig .tc := ⟨.hbm, 2588, rfl⟩
abbrev main_call5_call1_v116 : Ref sig .tc := ⟨.hbm, 2589, rfl⟩
abbrev main_call5_call1_v117 : Ref sig .tc := ⟨.hbm, 2590, rfl⟩
abbrev main_call5_call1_c_30 : Ref sig .tc := ⟨.hbm, 2591, rfl⟩
abbrev main_call5_call1_v118 : Ref sig .tc := ⟨.hbm, 2592, rfl⟩
abbrev main_call5_call1_v119 : Ref sig .tc := ⟨.hbm, 2593, rfl⟩
abbrev main_call5_call1_v120 : Ref sig .tc := ⟨.hbm, 2594, rfl⟩
abbrev main_call5_call1_v121 : Ref sig .tc := ⟨.hbm, 2595, rfl⟩
abbrev main_call5_call1_v122 : Ref sig .tc := ⟨.hbm, 2596, rfl⟩
abbrev main_call5_call1_c_31 : Ref sig .tc := ⟨.hbm, 2597, rfl⟩
abbrev main_call5_call1_v123 : Ref sig .tc := ⟨.hbm, 2598, rfl⟩
abbrev main_call5_call1_v124 : Ref sig .tc := ⟨.hbm, 2599, rfl⟩
abbrev main_call5_call1_c_32 : Ref sig .tc := ⟨.hbm, 2600, rfl⟩
abbrev main_call5_call1_v125 : Ref sig .tc := ⟨.hbm, 2601, rfl⟩
abbrev main_call5_call1_v126 : Ref sig .tc := ⟨.hbm, 2602, rfl⟩
abbrev main_call5_call1_v127 : Ref sig .tc := ⟨.hbm, 2603, rfl⟩
abbrev main_call5_call1_v128 : Ref sig .tc := ⟨.hbm, 2604, rfl⟩
abbrev main_call5_call1_v129 : Ref sig .tc := ⟨.hbm, 2605, rfl⟩
abbrev main_call5_call1_c_33 : Ref sig .tc := ⟨.hbm, 2606, rfl⟩
abbrev main_call5_call1_v130 : Ref sig .tc := ⟨.hbm, 2607, rfl⟩
abbrev main_call5_call1_v131 : Ref sig .tc := ⟨.hbm, 2608, rfl⟩
abbrev main_call5_call1_c_34 : Ref sig .tc := ⟨.hbm, 2609, rfl⟩
abbrev main_call5_call1_v132 : Ref sig .tc := ⟨.hbm, 2610, rfl⟩
abbrev main_call5_call1_v133 : Ref sig .tc := ⟨.hbm, 2611, rfl⟩
abbrev main_call5_call1_v134 : Ref sig .tc := ⟨.hbm, 2612, rfl⟩
abbrev main_call5_call1_v135 : Ref sig .tc := ⟨.hbm, 2613, rfl⟩
abbrev main_call5_call1_v136 : Ref sig .tc := ⟨.hbm, 2614, rfl⟩
abbrev main_call5_call1_v137 : Ref sig .tc := ⟨.hbm, 2615, rfl⟩
abbrev main_call5_call1_v138 : Ref sig .tc := ⟨.hbm, 2616, rfl⟩
abbrev main_call5_call1_v139 : Ref sig .tc := ⟨.hbm, 2617, rfl⟩
abbrev main_call5_call1_c_35 : Ref sig .tc := ⟨.hbm, 2618, rfl⟩
abbrev main_call5_call1_v140 : Ref sig .tc := ⟨.hbm, 2619, rfl⟩
abbrev main_call5_call1_v141 : Ref sig .tc := ⟨.hbm, 2620, rfl⟩
abbrev main_call5_call1_v142 : Ref sig .tc := ⟨.hbm, 2621, rfl⟩
abbrev main_call5_call1_c_36 : Ref sig .tc := ⟨.hbm, 2622, rfl⟩
abbrev main_call5_call1_v143 : Ref sig .tc := ⟨.hbm, 2623, rfl⟩
abbrev main_call5_call1_v144 : Ref sig .tc := ⟨.hbm, 2624, rfl⟩
abbrev main_call5_call1_c_37 : Ref sig .tc := ⟨.hbm, 2625, rfl⟩
abbrev main_call5_call1_v145 : Ref sig .tc := ⟨.hbm, 2626, rfl⟩
abbrev main_call5_call1_v146 : Ref sig .tc := ⟨.hbm, 2627, rfl⟩
abbrev main_call5_call1_v147 : Ref sig .tc := ⟨.hbm, 2628, rfl⟩
abbrev main_call5_call1_v148 : Ref sig .tc := ⟨.hbm, 2629, rfl⟩
abbrev main_call5_call1_v149 : Ref sig .tc := ⟨.hbm, 2630, rfl⟩
abbrev main_call5_call1_c_38 : Ref sig .tc := ⟨.hbm, 2631, rfl⟩
abbrev main_call5_call1_v150 : Ref sig .tc := ⟨.hbm, 2632, rfl⟩
abbrev main_call5_call1_v151 : Ref sig .tc := ⟨.hbm, 2633, rfl⟩
abbrev main_call5_call1_c_39 : Ref sig .tc := ⟨.hbm, 2634, rfl⟩
abbrev main_call5_call1_v152 : Ref sig .tc := ⟨.hbm, 2635, rfl⟩
abbrev main_call5_call1_v153 : Ref sig .tc := ⟨.hbm, 2636, rfl⟩
abbrev main_call5_call1_v154 : Ref sig .tc := ⟨.hbm, 2637, rfl⟩
abbrev main_call5_call1_v155 : Ref sig .tc := ⟨.hbm, 2638, rfl⟩
abbrev main_call5_call1_v156 : Ref sig .tc := ⟨.hbm, 2639, rfl⟩
abbrev main_call5_call1_c_40 : Ref sig .tc := ⟨.hbm, 2640, rfl⟩
abbrev main_call5_call1_v157 : Ref sig .tc := ⟨.hbm, 2641, rfl⟩
abbrev main_call5_call1_v158 : Ref sig .tc := ⟨.hbm, 2642, rfl⟩
abbrev main_call5_call1_c_41 : Ref sig .tc := ⟨.hbm, 2643, rfl⟩
abbrev main_call5_call1_v159 : Ref sig .tc := ⟨.hbm, 2644, rfl⟩
abbrev main_call5_call1_v160 : Ref sig .tc := ⟨.hbm, 2645, rfl⟩
abbrev main_call5_call1_v161 : Ref sig .tc := ⟨.hbm, 2646, rfl⟩
abbrev main_call5_call1_v162 : Ref sig .tc := ⟨.hbm, 2647, rfl⟩
abbrev main_call5_call1_v163 : Ref sig .tc := ⟨.hbm, 2648, rfl⟩
abbrev main_call5_call1_c_42 : Ref sig .tc := ⟨.hbm, 2649, rfl⟩
abbrev main_call5_call1_v164 : Ref sig .tc := ⟨.hbm, 2650, rfl⟩
abbrev main_call5_call1_v165 : Ref sig .tc := ⟨.hbm, 2651, rfl⟩
abbrev main_call5_call1_c_43 : Ref sig .tc := ⟨.hbm, 2652, rfl⟩
abbrev main_call5_call1_v166 : Ref sig .tc := ⟨.hbm, 2653, rfl⟩
abbrev main_call5_call1_v167 : Ref sig .tc := ⟨.hbm, 2654, rfl⟩
abbrev main_call5_call1_v168 : Ref sig .tc := ⟨.hbm, 2655, rfl⟩
abbrev main_call5_call1_v169 : Ref sig .tc := ⟨.hbm, 2656, rfl⟩
abbrev main_call5_call1_v170 : Ref sig .tc := ⟨.hbm, 2657, rfl⟩
abbrev main_call5_v16_0 : Ref sig .tc := ⟨.hbm, 2658, rfl⟩
abbrev main_call5_call1_v172 : Ref sig .tc := ⟨.hbm, 2659, rfl⟩
abbrev main_call5_call1_v173 : Ref sig .tc := ⟨.hbm, 2660, rfl⟩
abbrev main_call5_call1_c_44 : Ref sig .tc := ⟨.hbm, 2661, rfl⟩
abbrev main_call5_call1_v174 : Ref sig .tc := ⟨.hbm, 2662, rfl⟩
abbrev main_call5_v16_1 : Ref sig .tc := ⟨.hbm, 2663, rfl⟩
abbrev main_call5_v17 : Ref sig .tc := ⟨.hbm, 2664, rfl⟩
abbrev main_call5_v18_0 : Ref sig .tc := ⟨.hbm, 2665, rfl⟩
abbrev main_v30 : Ref sig .tc := ⟨.hbm, 2666, rfl⟩
abbrev main_v31 : Ref sig .tc := ⟨.hbm, 2667, rfl⟩
abbrev main_v32 : Ref sig .tc := ⟨.hbm, 2668, rfl⟩
abbrev main_v33 : Ref sig .tc := ⟨.hbm, 2669, rfl⟩
abbrev main_call6_call0_v0 : Ref sig .tc := ⟨.hbm, 2670, rfl⟩
abbrev main_call6_call0_v1 : Ref sig .tc := ⟨.hbm, 2671, rfl⟩
abbrev main_call6_call0_v2 : Ref sig .tc := ⟨.hbm, 2672, rfl⟩
abbrev main_call6_call0_v3 : Ref sig .tc := ⟨.hbm, 2673, rfl⟩
abbrev main_call6_call0_v4 : Ref sig .tc := ⟨.hbm, 2674, rfl⟩
abbrev main_call6_call0_c : Ref sig .tc := ⟨.hbm, 2675, rfl⟩
abbrev main_call6_call0_v5 : Ref sig .tc := ⟨.hbm, 2676, rfl⟩
abbrev main_call6_call0_v6 : Ref sig .tc := ⟨.hbm, 2677, rfl⟩
abbrev main_call6_call0_c_0 : Ref sig .tc := ⟨.hbm, 2678, rfl⟩
abbrev main_call6_call0_v7 : Ref sig .tc := ⟨.hbm, 2679, rfl⟩
abbrev main_call6_call0_v8 : Ref sig .tc := ⟨.hbm, 2680, rfl⟩
abbrev main_call6_call0_v9 : Ref sig .tc := ⟨.hbm, 2681, rfl⟩
abbrev main_call6_call0_v10 : Ref sig .tc := ⟨.hbm, 2682, rfl⟩
abbrev main_call6_call0_call0_v0 : Ref sig .tc := ⟨.hbm, 2683, rfl⟩
abbrev main_call6_call0_call0_c : Ref sig .tc := ⟨.hbm, 2684, rfl⟩
abbrev main_call6_call0_call0_v1 : Ref sig .tc := ⟨.hbm, 2685, rfl⟩
abbrev main_call6_call0_call0_v2 : Ref sig .tc := ⟨.hbm, 2686, rfl⟩
abbrev main_call6_call0_call0_v3 : Ref sig .tc := ⟨.hbm, 2687, rfl⟩
abbrev main_call6_call0_call0_v4 : Ref sig .tc := ⟨.hbm, 2688, rfl⟩
abbrev main_call6_call0_call0_v5 : Ref sig .tc := ⟨.hbm, 2689, rfl⟩
abbrev main_call6_call0_call0_v6 : Ref sig .tc := ⟨.hbm, 2690, rfl⟩
abbrev main_call6_call0_call0_c_0 : Ref sig .tc := ⟨.hbm, 2691, rfl⟩
abbrev main_call6_call0_call0_v7 : Ref sig .tc := ⟨.hbm, 2692, rfl⟩
abbrev main_call6_call0_call0_v8 : Ref sig .tc := ⟨.hbm, 2693, rfl⟩
abbrev main_call6_call0_call0_c_1 : Ref sig .tc := ⟨.hbm, 2694, rfl⟩
abbrev main_call6_call0_call0_v9 : Ref sig .tc := ⟨.hbm, 2695, rfl⟩
abbrev main_call6_call0_call0_v10 : Ref sig .tc := ⟨.hbm, 2696, rfl⟩
abbrev main_call6_call0_call0_v11 : Ref sig .tc := ⟨.hbm, 2697, rfl⟩
abbrev main_call6_call0_call0_v12 : Ref sig .tc := ⟨.hbm, 2698, rfl⟩
abbrev main_call6_call0_call0_v13 : Ref sig .tc := ⟨.hbm, 2699, rfl⟩
abbrev main_call6_call0_call0_c_2 : Ref sig .tc := ⟨.hbm, 2700, rfl⟩
abbrev main_call6_call0_call0_v14 : Ref sig .tc := ⟨.hbm, 2701, rfl⟩
abbrev main_call6_call0_call0_v15 : Ref sig .tc := ⟨.hbm, 2702, rfl⟩
abbrev main_call6_call0_call0_c_3 : Ref sig .tc := ⟨.hbm, 2703, rfl⟩
abbrev main_call6_call0_call0_v16 : Ref sig .tc := ⟨.hbm, 2704, rfl⟩
abbrev main_call6_call0_call0_v17 : Ref sig .tc := ⟨.hbm, 2705, rfl⟩
abbrev main_call6_call0_call0_v18 : Ref sig .tc := ⟨.hbm, 2706, rfl⟩
abbrev main_call6_call0_call0_v19 : Ref sig .tc := ⟨.hbm, 2707, rfl⟩
abbrev main_call6_call0_call0_v20 : Ref sig .tc := ⟨.hbm, 2708, rfl⟩
abbrev main_call6_call0_call0_c_4 : Ref sig .tc := ⟨.hbm, 2709, rfl⟩
abbrev main_call6_call0_call0_v21 : Ref sig .tc := ⟨.hbm, 2710, rfl⟩
abbrev main_call6_call0_call0_v22 : Ref sig .tc := ⟨.hbm, 2711, rfl⟩
abbrev main_call6_call0_call0_c_5 : Ref sig .tc := ⟨.hbm, 2712, rfl⟩
abbrev main_call6_call0_call0_v23 : Ref sig .tc := ⟨.hbm, 2713, rfl⟩
abbrev main_call6_call0_call0_v24 : Ref sig .tc := ⟨.hbm, 2714, rfl⟩
abbrev main_call6_call0_call0_v25 : Ref sig .tc := ⟨.hbm, 2715, rfl⟩
abbrev main_call6_call0_call0_v26 : Ref sig .tc := ⟨.hbm, 2716, rfl⟩
abbrev main_call6_call0_call0_v27 : Ref sig .tc := ⟨.hbm, 2717, rfl⟩
abbrev main_call6_call0_call0_c_6 : Ref sig .tc := ⟨.hbm, 2718, rfl⟩
abbrev main_call6_call0_call0_v28 : Ref sig .tc := ⟨.hbm, 2719, rfl⟩
abbrev main_call6_call0_call0_v29 : Ref sig .tc := ⟨.hbm, 2720, rfl⟩
abbrev main_call6_call0_call0_c_7 : Ref sig .tc := ⟨.hbm, 2721, rfl⟩
abbrev main_call6_call0_call0_v30 : Ref sig .tc := ⟨.hbm, 2722, rfl⟩
abbrev main_call6_call0_call0_v31 : Ref sig .tc := ⟨.hbm, 2723, rfl⟩
abbrev main_call6_call0_call0_v32 : Ref sig .tc := ⟨.hbm, 2724, rfl⟩
abbrev main_call6_call0_call0_v33 : Ref sig .tc := ⟨.hbm, 2725, rfl⟩
abbrev main_call6_call0_call0_v34 : Ref sig .tc := ⟨.hbm, 2726, rfl⟩
abbrev main_call6_call0_call0_v35 : Ref sig .tc := ⟨.hbm, 2727, rfl⟩
abbrev main_call6_call0_call0_v36 : Ref sig .tc := ⟨.hbm, 2728, rfl⟩
abbrev main_call6_call0_call0_v37 : Ref sig .tc := ⟨.hbm, 2729, rfl⟩
abbrev main_call6_call0_call0_c_8 : Ref sig .tc := ⟨.hbm, 2730, rfl⟩
abbrev main_call6_call0_call0_v38 : Ref sig .tc := ⟨.hbm, 2731, rfl⟩
abbrev main_call6_call0_call0_v39 : Ref sig .tc := ⟨.hbm, 2732, rfl⟩
abbrev main_call6_call0_call0_v40 : Ref sig .tc := ⟨.hbm, 2733, rfl⟩
abbrev main_call6_call0_call0_c_9 : Ref sig .tc := ⟨.hbm, 2734, rfl⟩
abbrev main_call6_call0_call0_v41 : Ref sig .tc := ⟨.hbm, 2735, rfl⟩
abbrev main_call6_call0_call0_v42 : Ref sig .tc := ⟨.hbm, 2736, rfl⟩
abbrev main_call6_call0_call0_c_10 : Ref sig .tc := ⟨.hbm, 2737, rfl⟩
abbrev main_call6_call0_call0_v43 : Ref sig .tc := ⟨.hbm, 2738, rfl⟩
abbrev main_call6_call0_call0_v44 : Ref sig .tc := ⟨.hbm, 2739, rfl⟩
abbrev main_call6_call0_call0_v45 : Ref sig .tc := ⟨.hbm, 2740, rfl⟩
abbrev main_call6_call0_call0_v46 : Ref sig .tc := ⟨.hbm, 2741, rfl⟩
abbrev main_call6_call0_call0_v47 : Ref sig .tc := ⟨.hbm, 2742, rfl⟩
abbrev main_call6_call0_call0_c_11 : Ref sig .tc := ⟨.hbm, 2743, rfl⟩
abbrev main_call6_call0_call0_v48 : Ref sig .tc := ⟨.hbm, 2744, rfl⟩
abbrev main_call6_call0_call0_v49 : Ref sig .tc := ⟨.hbm, 2745, rfl⟩
abbrev main_call6_call0_call0_c_12 : Ref sig .tc := ⟨.hbm, 2746, rfl⟩
abbrev main_call6_call0_call0_v50 : Ref sig .tc := ⟨.hbm, 2747, rfl⟩
abbrev main_call6_call0_call0_v51 : Ref sig .tc := ⟨.hbm, 2748, rfl⟩
abbrev main_call6_call0_call0_v52 : Ref sig .tc := ⟨.hbm, 2749, rfl⟩
abbrev main_call6_call0_call0_v53 : Ref sig .tc := ⟨.hbm, 2750, rfl⟩
abbrev main_call6_call0_call0_v54 : Ref sig .tc := ⟨.hbm, 2751, rfl⟩
abbrev main_call6_call0_call0_c_13 : Ref sig .tc := ⟨.hbm, 2752, rfl⟩
abbrev main_call6_call0_call0_v55 : Ref sig .tc := ⟨.hbm, 2753, rfl⟩
abbrev main_call6_call0_call0_v56 : Ref sig .tc := ⟨.hbm, 2754, rfl⟩
abbrev main_call6_call0_call0_c_14 : Ref sig .tc := ⟨.hbm, 2755, rfl⟩
abbrev main_call6_call0_call0_v57 : Ref sig .tc := ⟨.hbm, 2756, rfl⟩
abbrev main_call6_call0_call0_v58 : Ref sig .tc := ⟨.hbm, 2757, rfl⟩
abbrev main_call6_call0_call0_v59 : Ref sig .tc := ⟨.hbm, 2758, rfl⟩
abbrev main_call6_call0_call0_v60 : Ref sig .tc := ⟨.hbm, 2759, rfl⟩
abbrev main_call6_call0_call0_v61 : Ref sig .tc := ⟨.hbm, 2760, rfl⟩
abbrev main_call6_call0_call0_c_15 : Ref sig .tc := ⟨.hbm, 2761, rfl⟩
abbrev main_call6_call0_call0_v62 : Ref sig .tc := ⟨.hbm, 2762, rfl⟩
abbrev main_call6_call0_call0_v63 : Ref sig .tc := ⟨.hbm, 2763, rfl⟩
abbrev main_call6_call0_call0_c_16 : Ref sig .tc := ⟨.hbm, 2764, rfl⟩
abbrev main_call6_call0_call0_v64 : Ref sig .tc := ⟨.hbm, 2765, rfl⟩
abbrev main_call6_call0_call0_v65 : Ref sig .tc := ⟨.hbm, 2766, rfl⟩
abbrev main_call6_call0_call0_v66 : Ref sig .tc := ⟨.hbm, 2767, rfl⟩
abbrev main_call6_call0_call0_v67 : Ref sig .tc := ⟨.hbm, 2768, rfl⟩
abbrev main_call6_call0_call0_v68 : Ref sig .tc := ⟨.hbm, 2769, rfl⟩
abbrev main_call6_call0_call0_v69 : Ref sig .tc := ⟨.hbm, 2770, rfl⟩
abbrev main_call6_call0_call0_v70 : Ref sig .tc := ⟨.hbm, 2771, rfl⟩
abbrev main_call6_call0_call0_v71 : Ref sig .tc := ⟨.hbm, 2772, rfl⟩
abbrev main_call6_call0_call0_c_17 : Ref sig .tc := ⟨.hbm, 2773, rfl⟩
abbrev main_call6_call0_call0_v72 : Ref sig .tc := ⟨.hbm, 2774, rfl⟩
abbrev main_call6_call0_call0_v73 : Ref sig .tc := ⟨.hbm, 2775, rfl⟩
abbrev main_call6_call0_call0_v74 : Ref sig .tc := ⟨.hbm, 2776, rfl⟩
abbrev main_call6_call0_call0_c_18 : Ref sig .tc := ⟨.hbm, 2777, rfl⟩
abbrev main_call6_call0_call0_v75 : Ref sig .tc := ⟨.hbm, 2778, rfl⟩
abbrev main_call6_call0_call0_v76 : Ref sig .tc := ⟨.hbm, 2779, rfl⟩
abbrev main_call6_call0_call0_c_19 : Ref sig .tc := ⟨.hbm, 2780, rfl⟩
abbrev main_call6_call0_call0_v77 : Ref sig .tc := ⟨.hbm, 2781, rfl⟩
abbrev main_call6_call0_call0_v78 : Ref sig .tc := ⟨.hbm, 2782, rfl⟩
abbrev main_call6_call0_call0_v79 : Ref sig .tc := ⟨.hbm, 2783, rfl⟩
abbrev main_call6_call0_call0_v80 : Ref sig .tc := ⟨.hbm, 2784, rfl⟩
abbrev main_call6_call0_call0_v81 : Ref sig .tc := ⟨.hbm, 2785, rfl⟩
abbrev main_call6_call0_call0_c_20 : Ref sig .tc := ⟨.hbm, 2786, rfl⟩
abbrev main_call6_call0_call0_v82 : Ref sig .tc := ⟨.hbm, 2787, rfl⟩
abbrev main_call6_call0_call0_v83 : Ref sig .tc := ⟨.hbm, 2788, rfl⟩
abbrev main_call6_call0_call0_c_21 : Ref sig .tc := ⟨.hbm, 2789, rfl⟩
abbrev main_call6_call0_call0_v84 : Ref sig .tc := ⟨.hbm, 2790, rfl⟩
abbrev main_call6_call0_call0_v85 : Ref sig .tc := ⟨.hbm, 2791, rfl⟩
abbrev main_call6_call0_call0_v86 : Ref sig .tc := ⟨.hbm, 2792, rfl⟩
abbrev main_call6_call0_call0_v87 : Ref sig .tc := ⟨.hbm, 2793, rfl⟩
abbrev main_call6_call0_call0_v88 : Ref sig .tc := ⟨.hbm, 2794, rfl⟩
abbrev main_call6_call0_call0_c_22 : Ref sig .tc := ⟨.hbm, 2795, rfl⟩
abbrev main_call6_call0_call0_v89 : Ref sig .tc := ⟨.hbm, 2796, rfl⟩
abbrev main_call6_call0_call0_v90 : Ref sig .tc := ⟨.hbm, 2797, rfl⟩
abbrev main_call6_call0_call0_c_23 : Ref sig .tc := ⟨.hbm, 2798, rfl⟩
abbrev main_call6_call0_call0_v91 : Ref sig .tc := ⟨.hbm, 2799, rfl⟩
abbrev main_call6_call0_call0_v92 : Ref sig .tc := ⟨.hbm, 2800, rfl⟩
abbrev main_call6_call0_call0_v93 : Ref sig .tc := ⟨.hbm, 2801, rfl⟩
abbrev main_call6_call0_call0_v94 : Ref sig .tc := ⟨.hbm, 2802, rfl⟩
abbrev main_call6_call0_call0_v95 : Ref sig .tc := ⟨.hbm, 2803, rfl⟩
abbrev main_call6_call0_call0_c_24 : Ref sig .tc := ⟨.hbm, 2804, rfl⟩
abbrev main_call6_call0_call0_v96 : Ref sig .tc := ⟨.hbm, 2805, rfl⟩
abbrev main_call6_call0_call0_v97 : Ref sig .tc := ⟨.hbm, 2806, rfl⟩
abbrev main_call6_call0_call0_c_25 : Ref sig .tc := ⟨.hbm, 2807, rfl⟩
abbrev main_call6_call0_call0_v98 : Ref sig .tc := ⟨.hbm, 2808, rfl⟩
abbrev main_call6_call0_call0_v99 : Ref sig .tc := ⟨.hbm, 2809, rfl⟩
abbrev main_call6_call0_call0_v100 : Ref sig .tc := ⟨.hbm, 2810, rfl⟩
abbrev main_call6_call0_call0_v101 : Ref sig .tc := ⟨.hbm, 2811, rfl⟩
abbrev main_call6_call0_call0_v102 : Ref sig .tc := ⟨.hbm, 2812, rfl⟩
abbrev main_call6_call0_call0_v103 : Ref sig .tc := ⟨.hbm, 2813, rfl⟩
abbrev main_call6_call0_call0_v104 : Ref sig .tc := ⟨.hbm, 2814, rfl⟩
abbrev main_call6_call0_call0_v105 : Ref sig .tc := ⟨.hbm, 2815, rfl⟩
abbrev main_call6_call0_call0_c_26 : Ref sig .tc := ⟨.hbm, 2816, rfl⟩
abbrev main_call6_call0_call0_v106 : Ref sig .tc := ⟨.hbm, 2817, rfl⟩
abbrev main_call6_call0_call0_v107 : Ref sig .tc := ⟨.hbm, 2818, rfl⟩
abbrev main_call6_call0_call0_v108 : Ref sig .tc := ⟨.hbm, 2819, rfl⟩
abbrev main_call6_call0_call0_c_27 : Ref sig .tc := ⟨.hbm, 2820, rfl⟩
abbrev main_call6_call0_call0_v109 : Ref sig .tc := ⟨.hbm, 2821, rfl⟩
abbrev main_call6_call0_call0_v110 : Ref sig .tc := ⟨.hbm, 2822, rfl⟩
abbrev main_call6_call0_call0_c_28 : Ref sig .tc := ⟨.hbm, 2823, rfl⟩
abbrev main_call6_call0_call0_v111 : Ref sig .tc := ⟨.hbm, 2824, rfl⟩
abbrev main_call6_call0_call0_v112 : Ref sig .tc := ⟨.hbm, 2825, rfl⟩
abbrev main_call6_call0_call0_v113 : Ref sig .tc := ⟨.hbm, 2826, rfl⟩
abbrev main_call6_call0_call0_v114 : Ref sig .tc := ⟨.hbm, 2827, rfl⟩
abbrev main_call6_call0_call0_v115 : Ref sig .tc := ⟨.hbm, 2828, rfl⟩
abbrev main_call6_call0_call0_c_29 : Ref sig .tc := ⟨.hbm, 2829, rfl⟩
abbrev main_call6_call0_call0_v116 : Ref sig .tc := ⟨.hbm, 2830, rfl⟩
abbrev main_call6_call0_call0_v117 : Ref sig .tc := ⟨.hbm, 2831, rfl⟩
abbrev main_call6_call0_call0_c_30 : Ref sig .tc := ⟨.hbm, 2832, rfl⟩
abbrev main_call6_call0_call0_v118 : Ref sig .tc := ⟨.hbm, 2833, rfl⟩
abbrev main_call6_call0_call0_v119 : Ref sig .tc := ⟨.hbm, 2834, rfl⟩
abbrev main_call6_call0_call0_v120 : Ref sig .tc := ⟨.hbm, 2835, rfl⟩
abbrev main_call6_call0_call0_v121 : Ref sig .tc := ⟨.hbm, 2836, rfl⟩
abbrev main_call6_call0_call0_v122 : Ref sig .tc := ⟨.hbm, 2837, rfl⟩
abbrev main_call6_call0_call0_c_31 : Ref sig .tc := ⟨.hbm, 2838, rfl⟩
abbrev main_call6_call0_call0_v123 : Ref sig .tc := ⟨.hbm, 2839, rfl⟩
abbrev main_call6_call0_call0_v124 : Ref sig .tc := ⟨.hbm, 2840, rfl⟩
abbrev main_call6_call0_call0_c_32 : Ref sig .tc := ⟨.hbm, 2841, rfl⟩
abbrev main_call6_call0_call0_v125 : Ref sig .tc := ⟨.hbm, 2842, rfl⟩
abbrev main_call6_call0_call0_v126 : Ref sig .tc := ⟨.hbm, 2843, rfl⟩
abbrev main_call6_call0_call0_v127 : Ref sig .tc := ⟨.hbm, 2844, rfl⟩
abbrev main_call6_call0_call0_v128 : Ref sig .tc := ⟨.hbm, 2845, rfl⟩
abbrev main_call6_call0_call0_v129 : Ref sig .tc := ⟨.hbm, 2846, rfl⟩
abbrev main_call6_call0_call0_c_33 : Ref sig .tc := ⟨.hbm, 2847, rfl⟩
abbrev main_call6_call0_call0_v130 : Ref sig .tc := ⟨.hbm, 2848, rfl⟩
abbrev main_call6_call0_call0_v131 : Ref sig .tc := ⟨.hbm, 2849, rfl⟩
abbrev main_call6_call0_call0_c_34 : Ref sig .tc := ⟨.hbm, 2850, rfl⟩
abbrev main_call6_call0_call0_v132 : Ref sig .tc := ⟨.hbm, 2851, rfl⟩
abbrev main_call6_call0_call0_v133 : Ref sig .tc := ⟨.hbm, 2852, rfl⟩
abbrev main_call6_call0_call0_v134 : Ref sig .tc := ⟨.hbm, 2853, rfl⟩
abbrev main_call6_call0_call0_v135 : Ref sig .tc := ⟨.hbm, 2854, rfl⟩
abbrev main_call6_call0_call0_v136 : Ref sig .tc := ⟨.hbm, 2855, rfl⟩
abbrev main_call6_call0_call0_v137 : Ref sig .tc := ⟨.hbm, 2856, rfl⟩
abbrev main_call6_call0_call0_v138 : Ref sig .tc := ⟨.hbm, 2857, rfl⟩
abbrev main_call6_call0_call0_v139 : Ref sig .tc := ⟨.hbm, 2858, rfl⟩
abbrev main_call6_call0_call0_c_35 : Ref sig .tc := ⟨.hbm, 2859, rfl⟩
abbrev main_call6_call0_call0_v140 : Ref sig .tc := ⟨.hbm, 2860, rfl⟩
abbrev main_call6_call0_call0_v141 : Ref sig .tc := ⟨.hbm, 2861, rfl⟩
abbrev main_call6_call0_call0_v142 : Ref sig .tc := ⟨.hbm, 2862, rfl⟩
abbrev main_call6_call0_call0_c_36 : Ref sig .tc := ⟨.hbm, 2863, rfl⟩
abbrev main_call6_call0_call0_v143 : Ref sig .tc := ⟨.hbm, 2864, rfl⟩
abbrev main_call6_call0_call0_v144 : Ref sig .tc := ⟨.hbm, 2865, rfl⟩
abbrev main_call6_call0_call0_c_37 : Ref sig .tc := ⟨.hbm, 2866, rfl⟩
abbrev main_call6_call0_call0_v145 : Ref sig .tc := ⟨.hbm, 2867, rfl⟩
abbrev main_call6_call0_call0_v146 : Ref sig .tc := ⟨.hbm, 2868, rfl⟩
abbrev main_call6_call0_call0_v147 : Ref sig .tc := ⟨.hbm, 2869, rfl⟩
abbrev main_call6_call0_call0_v148 : Ref sig .tc := ⟨.hbm, 2870, rfl⟩
abbrev main_call6_call0_call0_v149 : Ref sig .tc := ⟨.hbm, 2871, rfl⟩
abbrev main_call6_call0_call0_c_38 : Ref sig .tc := ⟨.hbm, 2872, rfl⟩
abbrev main_call6_call0_call0_v150 : Ref sig .tc := ⟨.hbm, 2873, rfl⟩
abbrev main_call6_call0_call0_v151 : Ref sig .tc := ⟨.hbm, 2874, rfl⟩
abbrev main_call6_call0_call0_c_39 : Ref sig .tc := ⟨.hbm, 2875, rfl⟩
abbrev main_call6_call0_call0_v152 : Ref sig .tc := ⟨.hbm, 2876, rfl⟩
abbrev main_call6_call0_call0_v153 : Ref sig .tc := ⟨.hbm, 2877, rfl⟩
abbrev main_call6_call0_call0_v154 : Ref sig .tc := ⟨.hbm, 2878, rfl⟩
abbrev main_call6_call0_call0_v155 : Ref sig .tc := ⟨.hbm, 2879, rfl⟩
abbrev main_call6_call0_call0_v156 : Ref sig .tc := ⟨.hbm, 2880, rfl⟩
abbrev main_call6_call0_call0_c_40 : Ref sig .tc := ⟨.hbm, 2881, rfl⟩
abbrev main_call6_call0_call0_v157 : Ref sig .tc := ⟨.hbm, 2882, rfl⟩
abbrev main_call6_call0_call0_v158 : Ref sig .tc := ⟨.hbm, 2883, rfl⟩
abbrev main_call6_call0_call0_c_41 : Ref sig .tc := ⟨.hbm, 2884, rfl⟩
abbrev main_call6_call0_call0_v159 : Ref sig .tc := ⟨.hbm, 2885, rfl⟩
abbrev main_call6_call0_call0_v160 : Ref sig .tc := ⟨.hbm, 2886, rfl⟩
abbrev main_call6_call0_call0_v161 : Ref sig .tc := ⟨.hbm, 2887, rfl⟩
abbrev main_call6_call0_call0_v162 : Ref sig .tc := ⟨.hbm, 2888, rfl⟩
abbrev main_call6_call0_call0_v163 : Ref sig .tc := ⟨.hbm, 2889, rfl⟩
abbrev main_call6_call0_call0_c_42 : Ref sig .tc := ⟨.hbm, 2890, rfl⟩
abbrev main_call6_call0_call0_v164 : Ref sig .tc := ⟨.hbm, 2891, rfl⟩
abbrev main_call6_call0_call0_v165 : Ref sig .tc := ⟨.hbm, 2892, rfl⟩
abbrev main_call6_call0_call0_c_43 : Ref sig .tc := ⟨.hbm, 2893, rfl⟩
abbrev main_call6_call0_call0_v166 : Ref sig .tc := ⟨.hbm, 2894, rfl⟩
abbrev main_call6_call0_call0_v167 : Ref sig .tc := ⟨.hbm, 2895, rfl⟩
abbrev main_call6_call0_call0_v168 : Ref sig .tc := ⟨.hbm, 2896, rfl⟩
abbrev main_call6_call0_call0_v169 : Ref sig .tc := ⟨.hbm, 2897, rfl⟩
abbrev main_call6_call0_call0_v170 : Ref sig .tc := ⟨.hbm, 2898, rfl⟩
abbrev main_call6_call0_v11_0 : Ref sig .tc := ⟨.hbm, 2899, rfl⟩
abbrev main_call6_call0_call0_v172 : Ref sig .tc := ⟨.hbm, 2900, rfl⟩
abbrev main_call6_call0_call0_v173 : Ref sig .tc := ⟨.hbm, 2901, rfl⟩
abbrev main_call6_call0_call0_c_44 : Ref sig .tc := ⟨.hbm, 2902, rfl⟩
abbrev main_call6_call0_call0_v174 : Ref sig .tc := ⟨.hbm, 2903, rfl⟩
abbrev main_call6_call0_v11_1 : Ref sig .tc := ⟨.hbm, 2904, rfl⟩
abbrev main_call6_call0_v12 : Ref sig .tc := ⟨.hbm, 2905, rfl⟩
abbrev main_call6_call0_v13 : Ref sig .tc := ⟨.hbm, 2906, rfl⟩
abbrev main_call6_v0 : Ref sig .tc := ⟨.hbm, 2907, rfl⟩
abbrev main_call6_v1 : Ref sig .tc := ⟨.hbm, 2908, rfl⟩
abbrev main_call6_v2 : Ref sig .tc := ⟨.hbm, 2909, rfl⟩
abbrev main_call6_v3 : Ref sig .tc := ⟨.hbm, 2910, rfl⟩
abbrev main_call6_v4 : Ref sig .tc := ⟨.hbm, 2911, rfl⟩
abbrev main_call6_v5 : Ref sig .tc := ⟨.hbm, 2912, rfl⟩
abbrev main_call6_v6 : Ref sig .tc := ⟨.hbm, 2913, rfl⟩
abbrev main_call6_v7 : Ref sig .tc := ⟨.hbm, 2914, rfl⟩
abbrev main_call6_v8 : Ref sig .tc := ⟨.hbm, 2915, rfl⟩
abbrev main_call6_v9 : Ref sig .tc := ⟨.hbm, 2916, rfl⟩
abbrev main_call6_c : Ref sig .tc := ⟨.hbm, 2917, rfl⟩
abbrev main_call6_v10 : Ref sig .tc := ⟨.hbm, 2918, rfl⟩
abbrev main_call6_v11 : Ref sig .tc := ⟨.hbm, 2919, rfl⟩
abbrev main_call6_c_0 : Ref sig .tc := ⟨.hbm, 2920, rfl⟩
abbrev main_call6_v12 : Ref sig .tc := ⟨.hbm, 2921, rfl⟩
abbrev main_call6_v13 : Ref sig .tc := ⟨.hbm, 2922, rfl⟩
abbrev main_call6_v14 : Ref sig .tc := ⟨.hbm, 2923, rfl⟩
abbrev main_call6_v15 : Ref sig .tc := ⟨.hbm, 2924, rfl⟩
abbrev main_call6_call1_v0 : Ref sig .tc := ⟨.hbm, 2925, rfl⟩
abbrev main_call6_call1_c : Ref sig .tc := ⟨.hbm, 2926, rfl⟩
abbrev main_call6_call1_v1 : Ref sig .tc := ⟨.hbm, 2927, rfl⟩
abbrev main_call6_call1_v2 : Ref sig .tc := ⟨.hbm, 2928, rfl⟩
abbrev main_call6_call1_v3 : Ref sig .tc := ⟨.hbm, 2929, rfl⟩
abbrev main_call6_call1_v4 : Ref sig .tc := ⟨.hbm, 2930, rfl⟩
abbrev main_call6_call1_v5 : Ref sig .tc := ⟨.hbm, 2931, rfl⟩
abbrev main_call6_call1_v6 : Ref sig .tc := ⟨.hbm, 2932, rfl⟩
abbrev main_call6_call1_c_0 : Ref sig .tc := ⟨.hbm, 2933, rfl⟩
abbrev main_call6_call1_v7 : Ref sig .tc := ⟨.hbm, 2934, rfl⟩
abbrev main_call6_call1_v8 : Ref sig .tc := ⟨.hbm, 2935, rfl⟩
abbrev main_call6_call1_c_1 : Ref sig .tc := ⟨.hbm, 2936, rfl⟩
abbrev main_call6_call1_v9 : Ref sig .tc := ⟨.hbm, 2937, rfl⟩
abbrev main_call6_call1_v10 : Ref sig .tc := ⟨.hbm, 2938, rfl⟩
abbrev main_call6_call1_v11 : Ref sig .tc := ⟨.hbm, 2939, rfl⟩
abbrev main_call6_call1_v12 : Ref sig .tc := ⟨.hbm, 2940, rfl⟩
abbrev main_call6_call1_v13 : Ref sig .tc := ⟨.hbm, 2941, rfl⟩
abbrev main_call6_call1_c_2 : Ref sig .tc := ⟨.hbm, 2942, rfl⟩
abbrev main_call6_call1_v14 : Ref sig .tc := ⟨.hbm, 2943, rfl⟩
abbrev main_call6_call1_v15 : Ref sig .tc := ⟨.hbm, 2944, rfl⟩
abbrev main_call6_call1_c_3 : Ref sig .tc := ⟨.hbm, 2945, rfl⟩
abbrev main_call6_call1_v16 : Ref sig .tc := ⟨.hbm, 2946, rfl⟩
abbrev main_call6_call1_v17 : Ref sig .tc := ⟨.hbm, 2947, rfl⟩
abbrev main_call6_call1_v18 : Ref sig .tc := ⟨.hbm, 2948, rfl⟩
abbrev main_call6_call1_v19 : Ref sig .tc := ⟨.hbm, 2949, rfl⟩
abbrev main_call6_call1_v20 : Ref sig .tc := ⟨.hbm, 2950, rfl⟩
abbrev main_call6_call1_c_4 : Ref sig .tc := ⟨.hbm, 2951, rfl⟩
abbrev main_call6_call1_v21 : Ref sig .tc := ⟨.hbm, 2952, rfl⟩
abbrev main_call6_call1_v22 : Ref sig .tc := ⟨.hbm, 2953, rfl⟩
abbrev main_call6_call1_c_5 : Ref sig .tc := ⟨.hbm, 2954, rfl⟩
abbrev main_call6_call1_v23 : Ref sig .tc := ⟨.hbm, 2955, rfl⟩
abbrev main_call6_call1_v24 : Ref sig .tc := ⟨.hbm, 2956, rfl⟩
abbrev main_call6_call1_v25 : Ref sig .tc := ⟨.hbm, 2957, rfl⟩
abbrev main_call6_call1_v26 : Ref sig .tc := ⟨.hbm, 2958, rfl⟩
abbrev main_call6_call1_v27 : Ref sig .tc := ⟨.hbm, 2959, rfl⟩
abbrev main_call6_call1_c_6 : Ref sig .tc := ⟨.hbm, 2960, rfl⟩
abbrev main_call6_call1_v28 : Ref sig .tc := ⟨.hbm, 2961, rfl⟩
abbrev main_call6_call1_v29 : Ref sig .tc := ⟨.hbm, 2962, rfl⟩
abbrev main_call6_call1_c_7 : Ref sig .tc := ⟨.hbm, 2963, rfl⟩
abbrev main_call6_call1_v30 : Ref sig .tc := ⟨.hbm, 2964, rfl⟩
abbrev main_call6_call1_v31 : Ref sig .tc := ⟨.hbm, 2965, rfl⟩
abbrev main_call6_call1_v32 : Ref sig .tc := ⟨.hbm, 2966, rfl⟩
abbrev main_call6_call1_v33 : Ref sig .tc := ⟨.hbm, 2967, rfl⟩
abbrev main_call6_call1_v34 : Ref sig .tc := ⟨.hbm, 2968, rfl⟩
abbrev main_call6_call1_v35 : Ref sig .tc := ⟨.hbm, 2969, rfl⟩
abbrev main_call6_call1_v36 : Ref sig .tc := ⟨.hbm, 2970, rfl⟩
abbrev main_call6_call1_v37 : Ref sig .tc := ⟨.hbm, 2971, rfl⟩
abbrev main_call6_call1_c_8 : Ref sig .tc := ⟨.hbm, 2972, rfl⟩
abbrev main_call6_call1_v38 : Ref sig .tc := ⟨.hbm, 2973, rfl⟩
abbrev main_call6_call1_v39 : Ref sig .tc := ⟨.hbm, 2974, rfl⟩
abbrev main_call6_call1_v40 : Ref sig .tc := ⟨.hbm, 2975, rfl⟩
abbrev main_call6_call1_c_9 : Ref sig .tc := ⟨.hbm, 2976, rfl⟩
abbrev main_call6_call1_v41 : Ref sig .tc := ⟨.hbm, 2977, rfl⟩
abbrev main_call6_call1_v42 : Ref sig .tc := ⟨.hbm, 2978, rfl⟩
abbrev main_call6_call1_c_10 : Ref sig .tc := ⟨.hbm, 2979, rfl⟩
abbrev main_call6_call1_v43 : Ref sig .tc := ⟨.hbm, 2980, rfl⟩
abbrev main_call6_call1_v44 : Ref sig .tc := ⟨.hbm, 2981, rfl⟩
abbrev main_call6_call1_v45 : Ref sig .tc := ⟨.hbm, 2982, rfl⟩
abbrev main_call6_call1_v46 : Ref sig .tc := ⟨.hbm, 2983, rfl⟩
abbrev main_call6_call1_v47 : Ref sig .tc := ⟨.hbm, 2984, rfl⟩
abbrev main_call6_call1_c_11 : Ref sig .tc := ⟨.hbm, 2985, rfl⟩
abbrev main_call6_call1_v48 : Ref sig .tc := ⟨.hbm, 2986, rfl⟩
abbrev main_call6_call1_v49 : Ref sig .tc := ⟨.hbm, 2987, rfl⟩
abbrev main_call6_call1_c_12 : Ref sig .tc := ⟨.hbm, 2988, rfl⟩
abbrev main_call6_call1_v50 : Ref sig .tc := ⟨.hbm, 2989, rfl⟩
abbrev main_call6_call1_v51 : Ref sig .tc := ⟨.hbm, 2990, rfl⟩
abbrev main_call6_call1_v52 : Ref sig .tc := ⟨.hbm, 2991, rfl⟩
abbrev main_call6_call1_v53 : Ref sig .tc := ⟨.hbm, 2992, rfl⟩
abbrev main_call6_call1_v54 : Ref sig .tc := ⟨.hbm, 2993, rfl⟩
abbrev main_call6_call1_c_13 : Ref sig .tc := ⟨.hbm, 2994, rfl⟩
abbrev main_call6_call1_v55 : Ref sig .tc := ⟨.hbm, 2995, rfl⟩
abbrev main_call6_call1_v56 : Ref sig .tc := ⟨.hbm, 2996, rfl⟩
abbrev main_call6_call1_c_14 : Ref sig .tc := ⟨.hbm, 2997, rfl⟩
abbrev main_call6_call1_v57 : Ref sig .tc := ⟨.hbm, 2998, rfl⟩
abbrev main_call6_call1_v58 : Ref sig .tc := ⟨.hbm, 2999, rfl⟩
abbrev main_call6_call1_v59 : Ref sig .tc := ⟨.hbm, 3000, rfl⟩
abbrev main_call6_call1_v60 : Ref sig .tc := ⟨.hbm, 3001, rfl⟩
abbrev main_call6_call1_v61 : Ref sig .tc := ⟨.hbm, 3002, rfl⟩
abbrev main_call6_call1_c_15 : Ref sig .tc := ⟨.hbm, 3003, rfl⟩
abbrev main_call6_call1_v62 : Ref sig .tc := ⟨.hbm, 3004, rfl⟩
abbrev main_call6_call1_v63 : Ref sig .tc := ⟨.hbm, 3005, rfl⟩
abbrev main_call6_call1_c_16 : Ref sig .tc := ⟨.hbm, 3006, rfl⟩
abbrev main_call6_call1_v64 : Ref sig .tc := ⟨.hbm, 3007, rfl⟩
abbrev main_call6_call1_v65 : Ref sig .tc := ⟨.hbm, 3008, rfl⟩
abbrev main_call6_call1_v66 : Ref sig .tc := ⟨.hbm, 3009, rfl⟩
abbrev main_call6_call1_v67 : Ref sig .tc := ⟨.hbm, 3010, rfl⟩
abbrev main_call6_call1_v68 : Ref sig .tc := ⟨.hbm, 3011, rfl⟩
abbrev main_call6_call1_v69 : Ref sig .tc := ⟨.hbm, 3012, rfl⟩
abbrev main_call6_call1_v70 : Ref sig .tc := ⟨.hbm, 3013, rfl⟩
abbrev main_call6_call1_v71 : Ref sig .tc := ⟨.hbm, 3014, rfl⟩
abbrev main_call6_call1_c_17 : Ref sig .tc := ⟨.hbm, 3015, rfl⟩
abbrev main_call6_call1_v72 : Ref sig .tc := ⟨.hbm, 3016, rfl⟩
abbrev main_call6_call1_v73 : Ref sig .tc := ⟨.hbm, 3017, rfl⟩
abbrev main_call6_call1_v74 : Ref sig .tc := ⟨.hbm, 3018, rfl⟩
abbrev main_call6_call1_c_18 : Ref sig .tc := ⟨.hbm, 3019, rfl⟩
abbrev main_call6_call1_v75 : Ref sig .tc := ⟨.hbm, 3020, rfl⟩
abbrev main_call6_call1_v76 : Ref sig .tc := ⟨.hbm, 3021, rfl⟩
abbrev main_call6_call1_c_19 : Ref sig .tc := ⟨.hbm, 3022, rfl⟩
abbrev main_call6_call1_v77 : Ref sig .tc := ⟨.hbm, 3023, rfl⟩
abbrev main_call6_call1_v78 : Ref sig .tc := ⟨.hbm, 3024, rfl⟩
abbrev main_call6_call1_v79 : Ref sig .tc := ⟨.hbm, 3025, rfl⟩
abbrev main_call6_call1_v80 : Ref sig .tc := ⟨.hbm, 3026, rfl⟩
abbrev main_call6_call1_v81 : Ref sig .tc := ⟨.hbm, 3027, rfl⟩
abbrev main_call6_call1_c_20 : Ref sig .tc := ⟨.hbm, 3028, rfl⟩
abbrev main_call6_call1_v82 : Ref sig .tc := ⟨.hbm, 3029, rfl⟩
abbrev main_call6_call1_v83 : Ref sig .tc := ⟨.hbm, 3030, rfl⟩
abbrev main_call6_call1_c_21 : Ref sig .tc := ⟨.hbm, 3031, rfl⟩
abbrev main_call6_call1_v84 : Ref sig .tc := ⟨.hbm, 3032, rfl⟩
abbrev main_call6_call1_v85 : Ref sig .tc := ⟨.hbm, 3033, rfl⟩
abbrev main_call6_call1_v86 : Ref sig .tc := ⟨.hbm, 3034, rfl⟩
abbrev main_call6_call1_v87 : Ref sig .tc := ⟨.hbm, 3035, rfl⟩
abbrev main_call6_call1_v88 : Ref sig .tc := ⟨.hbm, 3036, rfl⟩
abbrev main_call6_call1_c_22 : Ref sig .tc := ⟨.hbm, 3037, rfl⟩
abbrev main_call6_call1_v89 : Ref sig .tc := ⟨.hbm, 3038, rfl⟩
abbrev main_call6_call1_v90 : Ref sig .tc := ⟨.hbm, 3039, rfl⟩
abbrev main_call6_call1_c_23 : Ref sig .tc := ⟨.hbm, 3040, rfl⟩
abbrev main_call6_call1_v91 : Ref sig .tc := ⟨.hbm, 3041, rfl⟩
abbrev main_call6_call1_v92 : Ref sig .tc := ⟨.hbm, 3042, rfl⟩
abbrev main_call6_call1_v93 : Ref sig .tc := ⟨.hbm, 3043, rfl⟩
abbrev main_call6_call1_v94 : Ref sig .tc := ⟨.hbm, 3044, rfl⟩
abbrev main_call6_call1_v95 : Ref sig .tc := ⟨.hbm, 3045, rfl⟩
abbrev main_call6_call1_c_24 : Ref sig .tc := ⟨.hbm, 3046, rfl⟩
abbrev main_call6_call1_v96 : Ref sig .tc := ⟨.hbm, 3047, rfl⟩
abbrev main_call6_call1_v97 : Ref sig .tc := ⟨.hbm, 3048, rfl⟩
abbrev main_call6_call1_c_25 : Ref sig .tc := ⟨.hbm, 3049, rfl⟩
abbrev main_call6_call1_v98 : Ref sig .tc := ⟨.hbm, 3050, rfl⟩
abbrev main_call6_call1_v99 : Ref sig .tc := ⟨.hbm, 3051, rfl⟩
abbrev main_call6_call1_v100 : Ref sig .tc := ⟨.hbm, 3052, rfl⟩
abbrev main_call6_call1_v101 : Ref sig .tc := ⟨.hbm, 3053, rfl⟩
abbrev main_call6_call1_v102 : Ref sig .tc := ⟨.hbm, 3054, rfl⟩
abbrev main_call6_call1_v103 : Ref sig .tc := ⟨.hbm, 3055, rfl⟩
abbrev main_call6_call1_v104 : Ref sig .tc := ⟨.hbm, 3056, rfl⟩
abbrev main_call6_call1_v105 : Ref sig .tc := ⟨.hbm, 3057, rfl⟩
abbrev main_call6_call1_c_26 : Ref sig .tc := ⟨.hbm, 3058, rfl⟩
abbrev main_call6_call1_v106 : Ref sig .tc := ⟨.hbm, 3059, rfl⟩
abbrev main_call6_call1_v107 : Ref sig .tc := ⟨.hbm, 3060, rfl⟩
abbrev main_call6_call1_v108 : Ref sig .tc := ⟨.hbm, 3061, rfl⟩
abbrev main_call6_call1_c_27 : Ref sig .tc := ⟨.hbm, 3062, rfl⟩
abbrev main_call6_call1_v109 : Ref sig .tc := ⟨.hbm, 3063, rfl⟩
abbrev main_call6_call1_v110 : Ref sig .tc := ⟨.hbm, 3064, rfl⟩
abbrev main_call6_call1_c_28 : Ref sig .tc := ⟨.hbm, 3065, rfl⟩
abbrev main_call6_call1_v111 : Ref sig .tc := ⟨.hbm, 3066, rfl⟩
abbrev main_call6_call1_v112 : Ref sig .tc := ⟨.hbm, 3067, rfl⟩
abbrev main_call6_call1_v113 : Ref sig .tc := ⟨.hbm, 3068, rfl⟩
abbrev main_call6_call1_v114 : Ref sig .tc := ⟨.hbm, 3069, rfl⟩
abbrev main_call6_call1_v115 : Ref sig .tc := ⟨.hbm, 3070, rfl⟩
abbrev main_call6_call1_c_29 : Ref sig .tc := ⟨.hbm, 3071, rfl⟩
abbrev main_call6_call1_v116 : Ref sig .tc := ⟨.hbm, 3072, rfl⟩
abbrev main_call6_call1_v117 : Ref sig .tc := ⟨.hbm, 3073, rfl⟩
abbrev main_call6_call1_c_30 : Ref sig .tc := ⟨.hbm, 3074, rfl⟩
abbrev main_call6_call1_v118 : Ref sig .tc := ⟨.hbm, 3075, rfl⟩
abbrev main_call6_call1_v119 : Ref sig .tc := ⟨.hbm, 3076, rfl⟩
abbrev main_call6_call1_v120 : Ref sig .tc := ⟨.hbm, 3077, rfl⟩
abbrev main_call6_call1_v121 : Ref sig .tc := ⟨.hbm, 3078, rfl⟩
abbrev main_call6_call1_v122 : Ref sig .tc := ⟨.hbm, 3079, rfl⟩
abbrev main_call6_call1_c_31 : Ref sig .tc := ⟨.hbm, 3080, rfl⟩
abbrev main_call6_call1_v123 : Ref sig .tc := ⟨.hbm, 3081, rfl⟩
abbrev main_call6_call1_v124 : Ref sig .tc := ⟨.hbm, 3082, rfl⟩
abbrev main_call6_call1_c_32 : Ref sig .tc := ⟨.hbm, 3083, rfl⟩
abbrev main_call6_call1_v125 : Ref sig .tc := ⟨.hbm, 3084, rfl⟩
abbrev main_call6_call1_v126 : Ref sig .tc := ⟨.hbm, 3085, rfl⟩
abbrev main_call6_call1_v127 : Ref sig .tc := ⟨.hbm, 3086, rfl⟩
abbrev main_call6_call1_v128 : Ref sig .tc := ⟨.hbm, 3087, rfl⟩
abbrev main_call6_call1_v129 : Ref sig .tc := ⟨.hbm, 3088, rfl⟩
abbrev main_call6_call1_c_33 : Ref sig .tc := ⟨.hbm, 3089, rfl⟩
abbrev main_call6_call1_v130 : Ref sig .tc := ⟨.hbm, 3090, rfl⟩
abbrev main_call6_call1_v131 : Ref sig .tc := ⟨.hbm, 3091, rfl⟩
abbrev main_call6_call1_c_34 : Ref sig .tc := ⟨.hbm, 3092, rfl⟩
abbrev main_call6_call1_v132 : Ref sig .tc := ⟨.hbm, 3093, rfl⟩
abbrev main_call6_call1_v133 : Ref sig .tc := ⟨.hbm, 3094, rfl⟩
abbrev main_call6_call1_v134 : Ref sig .tc := ⟨.hbm, 3095, rfl⟩
abbrev main_call6_call1_v135 : Ref sig .tc := ⟨.hbm, 3096, rfl⟩
abbrev main_call6_call1_v136 : Ref sig .tc := ⟨.hbm, 3097, rfl⟩
abbrev main_call6_call1_v137 : Ref sig .tc := ⟨.hbm, 3098, rfl⟩
abbrev main_call6_call1_v138 : Ref sig .tc := ⟨.hbm, 3099, rfl⟩
abbrev main_call6_call1_v139 : Ref sig .tc := ⟨.hbm, 3100, rfl⟩
abbrev main_call6_call1_c_35 : Ref sig .tc := ⟨.hbm, 3101, rfl⟩
abbrev main_call6_call1_v140 : Ref sig .tc := ⟨.hbm, 3102, rfl⟩
abbrev main_call6_call1_v141 : Ref sig .tc := ⟨.hbm, 3103, rfl⟩
abbrev main_call6_call1_v142 : Ref sig .tc := ⟨.hbm, 3104, rfl⟩
abbrev main_call6_call1_c_36 : Ref sig .tc := ⟨.hbm, 3105, rfl⟩
abbrev main_call6_call1_v143 : Ref sig .tc := ⟨.hbm, 3106, rfl⟩
abbrev main_call6_call1_v144 : Ref sig .tc := ⟨.hbm, 3107, rfl⟩
abbrev main_call6_call1_c_37 : Ref sig .tc := ⟨.hbm, 3108, rfl⟩
abbrev main_call6_call1_v145 : Ref sig .tc := ⟨.hbm, 3109, rfl⟩
abbrev main_call6_call1_v146 : Ref sig .tc := ⟨.hbm, 3110, rfl⟩
abbrev main_call6_call1_v147 : Ref sig .tc := ⟨.hbm, 3111, rfl⟩
abbrev main_call6_call1_v148 : Ref sig .tc := ⟨.hbm, 3112, rfl⟩
abbrev main_call6_call1_v149 : Ref sig .tc := ⟨.hbm, 3113, rfl⟩
abbrev main_call6_call1_c_38 : Ref sig .tc := ⟨.hbm, 3114, rfl⟩
abbrev main_call6_call1_v150 : Ref sig .tc := ⟨.hbm, 3115, rfl⟩
abbrev main_call6_call1_v151 : Ref sig .tc := ⟨.hbm, 3116, rfl⟩
abbrev main_call6_call1_c_39 : Ref sig .tc := ⟨.hbm, 3117, rfl⟩
abbrev main_call6_call1_v152 : Ref sig .tc := ⟨.hbm, 3118, rfl⟩
abbrev main_call6_call1_v153 : Ref sig .tc := ⟨.hbm, 3119, rfl⟩
abbrev main_call6_call1_v154 : Ref sig .tc := ⟨.hbm, 3120, rfl⟩
abbrev main_call6_call1_v155 : Ref sig .tc := ⟨.hbm, 3121, rfl⟩
abbrev main_call6_call1_v156 : Ref sig .tc := ⟨.hbm, 3122, rfl⟩
abbrev main_call6_call1_c_40 : Ref sig .tc := ⟨.hbm, 3123, rfl⟩
abbrev main_call6_call1_v157 : Ref sig .tc := ⟨.hbm, 3124, rfl⟩
abbrev main_call6_call1_v158 : Ref sig .tc := ⟨.hbm, 3125, rfl⟩
abbrev main_call6_call1_c_41 : Ref sig .tc := ⟨.hbm, 3126, rfl⟩
abbrev main_call6_call1_v159 : Ref sig .tc := ⟨.hbm, 3127, rfl⟩
abbrev main_call6_call1_v160 : Ref sig .tc := ⟨.hbm, 3128, rfl⟩
abbrev main_call6_call1_v161 : Ref sig .tc := ⟨.hbm, 3129, rfl⟩
abbrev main_call6_call1_v162 : Ref sig .tc := ⟨.hbm, 3130, rfl⟩
abbrev main_call6_call1_v163 : Ref sig .tc := ⟨.hbm, 3131, rfl⟩
abbrev main_call6_call1_c_42 : Ref sig .tc := ⟨.hbm, 3132, rfl⟩
abbrev main_call6_call1_v164 : Ref sig .tc := ⟨.hbm, 3133, rfl⟩
abbrev main_call6_call1_v165 : Ref sig .tc := ⟨.hbm, 3134, rfl⟩
abbrev main_call6_call1_c_43 : Ref sig .tc := ⟨.hbm, 3135, rfl⟩
abbrev main_call6_call1_v166 : Ref sig .tc := ⟨.hbm, 3136, rfl⟩
abbrev main_call6_call1_v167 : Ref sig .tc := ⟨.hbm, 3137, rfl⟩
abbrev main_call6_call1_v168 : Ref sig .tc := ⟨.hbm, 3138, rfl⟩
abbrev main_call6_call1_v169 : Ref sig .tc := ⟨.hbm, 3139, rfl⟩
abbrev main_call6_call1_v170 : Ref sig .tc := ⟨.hbm, 3140, rfl⟩
abbrev main_call6_v16_0 : Ref sig .tc := ⟨.hbm, 3141, rfl⟩
abbrev main_call6_call1_v172 : Ref sig .tc := ⟨.hbm, 3142, rfl⟩
abbrev main_call6_call1_v173 : Ref sig .tc := ⟨.hbm, 3143, rfl⟩
abbrev main_call6_call1_c_44 : Ref sig .tc := ⟨.hbm, 3144, rfl⟩
abbrev main_call6_call1_v174 : Ref sig .tc := ⟨.hbm, 3145, rfl⟩
abbrev main_call6_v16_1 : Ref sig .tc := ⟨.hbm, 3146, rfl⟩
abbrev main_call6_v17 : Ref sig .tc := ⟨.hbm, 3147, rfl⟩
abbrev main_call6_v18_0 : Ref sig .tc := ⟨.hbm, 3148, rfl⟩
abbrev main_v34 : Ref sig .tc := ⟨.hbm, 3149, rfl⟩
abbrev main_v35 : Ref sig .tc := ⟨.hbm, 3150, rfl⟩
abbrev main_v36 : Ref sig .tc := ⟨.hbm, 3151, rfl⟩
abbrev main_v37 : Ref sig .tc := ⟨.hbm, 3152, rfl⟩
abbrev main_call7_call0_v0 : Ref sig .tc := ⟨.hbm, 3153, rfl⟩
abbrev main_call7_call0_v1 : Ref sig .tc := ⟨.hbm, 3154, rfl⟩
abbrev main_call7_call0_v2 : Ref sig .tc := ⟨.hbm, 3155, rfl⟩
abbrev main_call7_call0_v3 : Ref sig .tc := ⟨.hbm, 3156, rfl⟩
abbrev main_call7_call0_v4 : Ref sig .tc := ⟨.hbm, 3157, rfl⟩
abbrev main_call7_call0_c : Ref sig .tc := ⟨.hbm, 3158, rfl⟩
abbrev main_call7_call0_v5 : Ref sig .tc := ⟨.hbm, 3159, rfl⟩
abbrev main_call7_call0_v6 : Ref sig .tc := ⟨.hbm, 3160, rfl⟩
abbrev main_call7_call0_c_0 : Ref sig .tc := ⟨.hbm, 3161, rfl⟩
abbrev main_call7_call0_v7 : Ref sig .tc := ⟨.hbm, 3162, rfl⟩
abbrev main_call7_call0_v8 : Ref sig .tc := ⟨.hbm, 3163, rfl⟩
abbrev main_call7_call0_v9 : Ref sig .tc := ⟨.hbm, 3164, rfl⟩
abbrev main_call7_call0_v10 : Ref sig .tc := ⟨.hbm, 3165, rfl⟩
abbrev main_call7_call0_call0_v0 : Ref sig .tc := ⟨.hbm, 3166, rfl⟩
abbrev main_call7_call0_call0_c : Ref sig .tc := ⟨.hbm, 3167, rfl⟩
abbrev main_call7_call0_call0_v1 : Ref sig .tc := ⟨.hbm, 3168, rfl⟩
abbrev main_call7_call0_call0_v2 : Ref sig .tc := ⟨.hbm, 3169, rfl⟩
abbrev main_call7_call0_call0_v3 : Ref sig .tc := ⟨.hbm, 3170, rfl⟩
abbrev main_call7_call0_call0_v4 : Ref sig .tc := ⟨.hbm, 3171, rfl⟩
abbrev main_call7_call0_call0_v5 : Ref sig .tc := ⟨.hbm, 3172, rfl⟩
abbrev main_call7_call0_call0_v6 : Ref sig .tc := ⟨.hbm, 3173, rfl⟩
abbrev main_call7_call0_call0_c_0 : Ref sig .tc := ⟨.hbm, 3174, rfl⟩
abbrev main_call7_call0_call0_v7 : Ref sig .tc := ⟨.hbm, 3175, rfl⟩
abbrev main_call7_call0_call0_v8 : Ref sig .tc := ⟨.hbm, 3176, rfl⟩
abbrev main_call7_call0_call0_c_1 : Ref sig .tc := ⟨.hbm, 3177, rfl⟩
abbrev main_call7_call0_call0_v9 : Ref sig .tc := ⟨.hbm, 3178, rfl⟩
abbrev main_call7_call0_call0_v10 : Ref sig .tc := ⟨.hbm, 3179, rfl⟩
abbrev main_call7_call0_call0_v11 : Ref sig .tc := ⟨.hbm, 3180, rfl⟩
abbrev main_call7_call0_call0_v12 : Ref sig .tc := ⟨.hbm, 3181, rfl⟩
abbrev main_call7_call0_call0_v13 : Ref sig .tc := ⟨.hbm, 3182, rfl⟩
abbrev main_call7_call0_call0_c_2 : Ref sig .tc := ⟨.hbm, 3183, rfl⟩
abbrev main_call7_call0_call0_v14 : Ref sig .tc := ⟨.hbm, 3184, rfl⟩
abbrev main_call7_call0_call0_v15 : Ref sig .tc := ⟨.hbm, 3185, rfl⟩
abbrev main_call7_call0_call0_c_3 : Ref sig .tc := ⟨.hbm, 3186, rfl⟩
abbrev main_call7_call0_call0_v16 : Ref sig .tc := ⟨.hbm, 3187, rfl⟩
abbrev main_call7_call0_call0_v17 : Ref sig .tc := ⟨.hbm, 3188, rfl⟩
abbrev main_call7_call0_call0_v18 : Ref sig .tc := ⟨.hbm, 3189, rfl⟩
abbrev main_call7_call0_call0_v19 : Ref sig .tc := ⟨.hbm, 3190, rfl⟩
abbrev main_call7_call0_call0_v20 : Ref sig .tc := ⟨.hbm, 3191, rfl⟩
abbrev main_call7_call0_call0_c_4 : Ref sig .tc := ⟨.hbm, 3192, rfl⟩
abbrev main_call7_call0_call0_v21 : Ref sig .tc := ⟨.hbm, 3193, rfl⟩
abbrev main_call7_call0_call0_v22 : Ref sig .tc := ⟨.hbm, 3194, rfl⟩
abbrev main_call7_call0_call0_c_5 : Ref sig .tc := ⟨.hbm, 3195, rfl⟩
abbrev main_call7_call0_call0_v23 : Ref sig .tc := ⟨.hbm, 3196, rfl⟩
abbrev main_call7_call0_call0_v24 : Ref sig .tc := ⟨.hbm, 3197, rfl⟩
abbrev main_call7_call0_call0_v25 : Ref sig .tc := ⟨.hbm, 3198, rfl⟩
abbrev main_call7_call0_call0_v26 : Ref sig .tc := ⟨.hbm, 3199, rfl⟩
abbrev main_call7_call0_call0_v27 : Ref sig .tc := ⟨.hbm, 3200, rfl⟩
abbrev main_call7_call0_call0_c_6 : Ref sig .tc := ⟨.hbm, 3201, rfl⟩
abbrev main_call7_call0_call0_v28 : Ref sig .tc := ⟨.hbm, 3202, rfl⟩
abbrev main_call7_call0_call0_v29 : Ref sig .tc := ⟨.hbm, 3203, rfl⟩
abbrev main_call7_call0_call0_c_7 : Ref sig .tc := ⟨.hbm, 3204, rfl⟩
abbrev main_call7_call0_call0_v30 : Ref sig .tc := ⟨.hbm, 3205, rfl⟩
abbrev main_call7_call0_call0_v31 : Ref sig .tc := ⟨.hbm, 3206, rfl⟩
abbrev main_call7_call0_call0_v32 : Ref sig .tc := ⟨.hbm, 3207, rfl⟩
abbrev main_call7_call0_call0_v33 : Ref sig .tc := ⟨.hbm, 3208, rfl⟩
abbrev main_call7_call0_call0_v34 : Ref sig .tc := ⟨.hbm, 3209, rfl⟩
abbrev main_call7_call0_call0_v35 : Ref sig .tc := ⟨.hbm, 3210, rfl⟩
abbrev main_call7_call0_call0_v36 : Ref sig .tc := ⟨.hbm, 3211, rfl⟩
abbrev main_call7_call0_call0_v37 : Ref sig .tc := ⟨.hbm, 3212, rfl⟩
abbrev main_call7_call0_call0_c_8 : Ref sig .tc := ⟨.hbm, 3213, rfl⟩
abbrev main_call7_call0_call0_v38 : Ref sig .tc := ⟨.hbm, 3214, rfl⟩
abbrev main_call7_call0_call0_v39 : Ref sig .tc := ⟨.hbm, 3215, rfl⟩
abbrev main_call7_call0_call0_v40 : Ref sig .tc := ⟨.hbm, 3216, rfl⟩
abbrev main_call7_call0_call0_c_9 : Ref sig .tc := ⟨.hbm, 3217, rfl⟩
abbrev main_call7_call0_call0_v41 : Ref sig .tc := ⟨.hbm, 3218, rfl⟩
abbrev main_call7_call0_call0_v42 : Ref sig .tc := ⟨.hbm, 3219, rfl⟩
abbrev main_call7_call0_call0_c_10 : Ref sig .tc := ⟨.hbm, 3220, rfl⟩
abbrev main_call7_call0_call0_v43 : Ref sig .tc := ⟨.hbm, 3221, rfl⟩
abbrev main_call7_call0_call0_v44 : Ref sig .tc := ⟨.hbm, 3222, rfl⟩
abbrev main_call7_call0_call0_v45 : Ref sig .tc := ⟨.hbm, 3223, rfl⟩
abbrev main_call7_call0_call0_v46 : Ref sig .tc := ⟨.hbm, 3224, rfl⟩
abbrev main_call7_call0_call0_v47 : Ref sig .tc := ⟨.hbm, 3225, rfl⟩
abbrev main_call7_call0_call0_c_11 : Ref sig .tc := ⟨.hbm, 3226, rfl⟩
abbrev main_call7_call0_call0_v48 : Ref sig .tc := ⟨.hbm, 3227, rfl⟩
abbrev main_call7_call0_call0_v49 : Ref sig .tc := ⟨.hbm, 3228, rfl⟩
abbrev main_call7_call0_call0_c_12 : Ref sig .tc := ⟨.hbm, 3229, rfl⟩
abbrev main_call7_call0_call0_v50 : Ref sig .tc := ⟨.hbm, 3230, rfl⟩
abbrev main_call7_call0_call0_v51 : Ref sig .tc := ⟨.hbm, 3231, rfl⟩
abbrev main_call7_call0_call0_v52 : Ref sig .tc := ⟨.hbm, 3232, rfl⟩
abbrev main_call7_call0_call0_v53 : Ref sig .tc := ⟨.hbm, 3233, rfl⟩
abbrev main_call7_call0_call0_v54 : Ref sig .tc := ⟨.hbm, 3234, rfl⟩
abbrev main_call7_call0_call0_c_13 : Ref sig .tc := ⟨.hbm, 3235, rfl⟩
abbrev main_call7_call0_call0_v55 : Ref sig .tc := ⟨.hbm, 3236, rfl⟩
abbrev main_call7_call0_call0_v56 : Ref sig .tc := ⟨.hbm, 3237, rfl⟩
abbrev main_call7_call0_call0_c_14 : Ref sig .tc := ⟨.hbm, 3238, rfl⟩
abbrev main_call7_call0_call0_v57 : Ref sig .tc := ⟨.hbm, 3239, rfl⟩
abbrev main_call7_call0_call0_v58 : Ref sig .tc := ⟨.hbm, 3240, rfl⟩
abbrev main_call7_call0_call0_v59 : Ref sig .tc := ⟨.hbm, 3241, rfl⟩
abbrev main_call7_call0_call0_v60 : Ref sig .tc := ⟨.hbm, 3242, rfl⟩
abbrev main_call7_call0_call0_v61 : Ref sig .tc := ⟨.hbm, 3243, rfl⟩
abbrev main_call7_call0_call0_c_15 : Ref sig .tc := ⟨.hbm, 3244, rfl⟩
abbrev main_call7_call0_call0_v62 : Ref sig .tc := ⟨.hbm, 3245, rfl⟩
abbrev main_call7_call0_call0_v63 : Ref sig .tc := ⟨.hbm, 3246, rfl⟩
abbrev main_call7_call0_call0_c_16 : Ref sig .tc := ⟨.hbm, 3247, rfl⟩
abbrev main_call7_call0_call0_v64 : Ref sig .tc := ⟨.hbm, 3248, rfl⟩
abbrev main_call7_call0_call0_v65 : Ref sig .tc := ⟨.hbm, 3249, rfl⟩
abbrev main_call7_call0_call0_v66 : Ref sig .tc := ⟨.hbm, 3250, rfl⟩
abbrev main_call7_call0_call0_v67 : Ref sig .tc := ⟨.hbm, 3251, rfl⟩
abbrev main_call7_call0_call0_v68 : Ref sig .tc := ⟨.hbm, 3252, rfl⟩
abbrev main_call7_call0_call0_v69 : Ref sig .tc := ⟨.hbm, 3253, rfl⟩
abbrev main_call7_call0_call0_v70 : Ref sig .tc := ⟨.hbm, 3254, rfl⟩
abbrev main_call7_call0_call0_v71 : Ref sig .tc := ⟨.hbm, 3255, rfl⟩
abbrev main_call7_call0_call0_c_17 : Ref sig .tc := ⟨.hbm, 3256, rfl⟩
abbrev main_call7_call0_call0_v72 : Ref sig .tc := ⟨.hbm, 3257, rfl⟩
abbrev main_call7_call0_call0_v73 : Ref sig .tc := ⟨.hbm, 3258, rfl⟩
abbrev main_call7_call0_call0_v74 : Ref sig .tc := ⟨.hbm, 3259, rfl⟩
abbrev main_call7_call0_call0_c_18 : Ref sig .tc := ⟨.hbm, 3260, rfl⟩
abbrev main_call7_call0_call0_v75 : Ref sig .tc := ⟨.hbm, 3261, rfl⟩
abbrev main_call7_call0_call0_v76 : Ref sig .tc := ⟨.hbm, 3262, rfl⟩
abbrev main_call7_call0_call0_c_19 : Ref sig .tc := ⟨.hbm, 3263, rfl⟩
abbrev main_call7_call0_call0_v77 : Ref sig .tc := ⟨.hbm, 3264, rfl⟩
abbrev main_call7_call0_call0_v78 : Ref sig .tc := ⟨.hbm, 3265, rfl⟩
abbrev main_call7_call0_call0_v79 : Ref sig .tc := ⟨.hbm, 3266, rfl⟩
abbrev main_call7_call0_call0_v80 : Ref sig .tc := ⟨.hbm, 3267, rfl⟩
abbrev main_call7_call0_call0_v81 : Ref sig .tc := ⟨.hbm, 3268, rfl⟩
abbrev main_call7_call0_call0_c_20 : Ref sig .tc := ⟨.hbm, 3269, rfl⟩
abbrev main_call7_call0_call0_v82 : Ref sig .tc := ⟨.hbm, 3270, rfl⟩
abbrev main_call7_call0_call0_v83 : Ref sig .tc := ⟨.hbm, 3271, rfl⟩
abbrev main_call7_call0_call0_c_21 : Ref sig .tc := ⟨.hbm, 3272, rfl⟩
abbrev main_call7_call0_call0_v84 : Ref sig .tc := ⟨.hbm, 3273, rfl⟩
abbrev main_call7_call0_call0_v85 : Ref sig .tc := ⟨.hbm, 3274, rfl⟩
abbrev main_call7_call0_call0_v86 : Ref sig .tc := ⟨.hbm, 3275, rfl⟩
abbrev main_call7_call0_call0_v87 : Ref sig .tc := ⟨.hbm, 3276, rfl⟩
abbrev main_call7_call0_call0_v88 : Ref sig .tc := ⟨.hbm, 3277, rfl⟩
abbrev main_call7_call0_call0_c_22 : Ref sig .tc := ⟨.hbm, 3278, rfl⟩
abbrev main_call7_call0_call0_v89 : Ref sig .tc := ⟨.hbm, 3279, rfl⟩
abbrev main_call7_call0_call0_v90 : Ref sig .tc := ⟨.hbm, 3280, rfl⟩
abbrev main_call7_call0_call0_c_23 : Ref sig .tc := ⟨.hbm, 3281, rfl⟩
abbrev main_call7_call0_call0_v91 : Ref sig .tc := ⟨.hbm, 3282, rfl⟩
abbrev main_call7_call0_call0_v92 : Ref sig .tc := ⟨.hbm, 3283, rfl⟩
abbrev main_call7_call0_call0_v93 : Ref sig .tc := ⟨.hbm, 3284, rfl⟩
abbrev main_call7_call0_call0_v94 : Ref sig .tc := ⟨.hbm, 3285, rfl⟩
abbrev main_call7_call0_call0_v95 : Ref sig .tc := ⟨.hbm, 3286, rfl⟩
abbrev main_call7_call0_call0_c_24 : Ref sig .tc := ⟨.hbm, 3287, rfl⟩
abbrev main_call7_call0_call0_v96 : Ref sig .tc := ⟨.hbm, 3288, rfl⟩
abbrev main_call7_call0_call0_v97 : Ref sig .tc := ⟨.hbm, 3289, rfl⟩
abbrev main_call7_call0_call0_c_25 : Ref sig .tc := ⟨.hbm, 3290, rfl⟩
abbrev main_call7_call0_call0_v98 : Ref sig .tc := ⟨.hbm, 3291, rfl⟩
abbrev main_call7_call0_call0_v99 : Ref sig .tc := ⟨.hbm, 3292, rfl⟩
abbrev main_call7_call0_call0_v100 : Ref sig .tc := ⟨.hbm, 3293, rfl⟩
abbrev main_call7_call0_call0_v101 : Ref sig .tc := ⟨.hbm, 3294, rfl⟩
abbrev main_call7_call0_call0_v102 : Ref sig .tc := ⟨.hbm, 3295, rfl⟩
abbrev main_call7_call0_call0_v103 : Ref sig .tc := ⟨.hbm, 3296, rfl⟩
abbrev main_call7_call0_call0_v104 : Ref sig .tc := ⟨.hbm, 3297, rfl⟩
abbrev main_call7_call0_call0_v105 : Ref sig .tc := ⟨.hbm, 3298, rfl⟩
abbrev main_call7_call0_call0_c_26 : Ref sig .tc := ⟨.hbm, 3299, rfl⟩
abbrev main_call7_call0_call0_v106 : Ref sig .tc := ⟨.hbm, 3300, rfl⟩
abbrev main_call7_call0_call0_v107 : Ref sig .tc := ⟨.hbm, 3301, rfl⟩
abbrev main_call7_call0_call0_v108 : Ref sig .tc := ⟨.hbm, 3302, rfl⟩
abbrev main_call7_call0_call0_c_27 : Ref sig .tc := ⟨.hbm, 3303, rfl⟩
abbrev main_call7_call0_call0_v109 : Ref sig .tc := ⟨.hbm, 3304, rfl⟩
abbrev main_call7_call0_call0_v110 : Ref sig .tc := ⟨.hbm, 3305, rfl⟩
abbrev main_call7_call0_call0_c_28 : Ref sig .tc := ⟨.hbm, 3306, rfl⟩
abbrev main_call7_call0_call0_v111 : Ref sig .tc := ⟨.hbm, 3307, rfl⟩
abbrev main_call7_call0_call0_v112 : Ref sig .tc := ⟨.hbm, 3308, rfl⟩
abbrev main_call7_call0_call0_v113 : Ref sig .tc := ⟨.hbm, 3309, rfl⟩
abbrev main_call7_call0_call0_v114 : Ref sig .tc := ⟨.hbm, 3310, rfl⟩
abbrev main_call7_call0_call0_v115 : Ref sig .tc := ⟨.hbm, 3311, rfl⟩
abbrev main_call7_call0_call0_c_29 : Ref sig .tc := ⟨.hbm, 3312, rfl⟩
abbrev main_call7_call0_call0_v116 : Ref sig .tc := ⟨.hbm, 3313, rfl⟩
abbrev main_call7_call0_call0_v117 : Ref sig .tc := ⟨.hbm, 3314, rfl⟩
abbrev main_call7_call0_call0_c_30 : Ref sig .tc := ⟨.hbm, 3315, rfl⟩
abbrev main_call7_call0_call0_v118 : Ref sig .tc := ⟨.hbm, 3316, rfl⟩
abbrev main_call7_call0_call0_v119 : Ref sig .tc := ⟨.hbm, 3317, rfl⟩
abbrev main_call7_call0_call0_v120 : Ref sig .tc := ⟨.hbm, 3318, rfl⟩
abbrev main_call7_call0_call0_v121 : Ref sig .tc := ⟨.hbm, 3319, rfl⟩
abbrev main_call7_call0_call0_v122 : Ref sig .tc := ⟨.hbm, 3320, rfl⟩
abbrev main_call7_call0_call0_c_31 : Ref sig .tc := ⟨.hbm, 3321, rfl⟩
abbrev main_call7_call0_call0_v123 : Ref sig .tc := ⟨.hbm, 3322, rfl⟩
abbrev main_call7_call0_call0_v124 : Ref sig .tc := ⟨.hbm, 3323, rfl⟩
abbrev main_call7_call0_call0_c_32 : Ref sig .tc := ⟨.hbm, 3324, rfl⟩
abbrev main_call7_call0_call0_v125 : Ref sig .tc := ⟨.hbm, 3325, rfl⟩
abbrev main_call7_call0_call0_v126 : Ref sig .tc := ⟨.hbm, 3326, rfl⟩
abbrev main_call7_call0_call0_v127 : Ref sig .tc := ⟨.hbm, 3327, rfl⟩
abbrev main_call7_call0_call0_v128 : Ref sig .tc := ⟨.hbm, 3328, rfl⟩
abbrev main_call7_call0_call0_v129 : Ref sig .tc := ⟨.hbm, 3329, rfl⟩
abbrev main_call7_call0_call0_c_33 : Ref sig .tc := ⟨.hbm, 3330, rfl⟩
abbrev main_call7_call0_call0_v130 : Ref sig .tc := ⟨.hbm, 3331, rfl⟩
abbrev main_call7_call0_call0_v131 : Ref sig .tc := ⟨.hbm, 3332, rfl⟩
abbrev main_call7_call0_call0_c_34 : Ref sig .tc := ⟨.hbm, 3333, rfl⟩
abbrev main_call7_call0_call0_v132 : Ref sig .tc := ⟨.hbm, 3334, rfl⟩
abbrev main_call7_call0_call0_v133 : Ref sig .tc := ⟨.hbm, 3335, rfl⟩
abbrev main_call7_call0_call0_v134 : Ref sig .tc := ⟨.hbm, 3336, rfl⟩
abbrev main_call7_call0_call0_v135 : Ref sig .tc := ⟨.hbm, 3337, rfl⟩
abbrev main_call7_call0_call0_v136 : Ref sig .tc := ⟨.hbm, 3338, rfl⟩
abbrev main_call7_call0_call0_v137 : Ref sig .tc := ⟨.hbm, 3339, rfl⟩
abbrev main_call7_call0_call0_v138 : Ref sig .tc := ⟨.hbm, 3340, rfl⟩
abbrev main_call7_call0_call0_v139 : Ref sig .tc := ⟨.hbm, 3341, rfl⟩
abbrev main_call7_call0_call0_c_35 : Ref sig .tc := ⟨.hbm, 3342, rfl⟩
abbrev main_call7_call0_call0_v140 : Ref sig .tc := ⟨.hbm, 3343, rfl⟩
abbrev main_call7_call0_call0_v141 : Ref sig .tc := ⟨.hbm, 3344, rfl⟩
abbrev main_call7_call0_call0_v142 : Ref sig .tc := ⟨.hbm, 3345, rfl⟩
abbrev main_call7_call0_call0_c_36 : Ref sig .tc := ⟨.hbm, 3346, rfl⟩
abbrev main_call7_call0_call0_v143 : Ref sig .tc := ⟨.hbm, 3347, rfl⟩
abbrev main_call7_call0_call0_v144 : Ref sig .tc := ⟨.hbm, 3348, rfl⟩
abbrev main_call7_call0_call0_c_37 : Ref sig .tc := ⟨.hbm, 3349, rfl⟩
abbrev main_call7_call0_call0_v145 : Ref sig .tc := ⟨.hbm, 3350, rfl⟩
abbrev main_call7_call0_call0_v146 : Ref sig .tc := ⟨.hbm, 3351, rfl⟩
abbrev main_call7_call0_call0_v147 : Ref sig .tc := ⟨.hbm, 3352, rfl⟩
abbrev main_call7_call0_call0_v148 : Ref sig .tc := ⟨.hbm, 3353, rfl⟩
abbrev main_call7_call0_call0_v149 : Ref sig .tc := ⟨.hbm, 3354, rfl⟩
abbrev main_call7_call0_call0_c_38 : Ref sig .tc := ⟨.hbm, 3355, rfl⟩
abbrev main_call7_call0_call0_v150 : Ref sig .tc := ⟨.hbm, 3356, rfl⟩
abbrev main_call7_call0_call0_v151 : Ref sig .tc := ⟨.hbm, 3357, rfl⟩
abbrev main_call7_call0_call0_c_39 : Ref sig .tc := ⟨.hbm, 3358, rfl⟩
abbrev main_call7_call0_call0_v152 : Ref sig .tc := ⟨.hbm, 3359, rfl⟩
abbrev main_call7_call0_call0_v153 : Ref sig .tc := ⟨.hbm, 3360, rfl⟩
abbrev main_call7_call0_call0_v154 : Ref sig .tc := ⟨.hbm, 3361, rfl⟩
abbrev main_call7_call0_call0_v155 : Ref sig .tc := ⟨.hbm, 3362, rfl⟩
abbrev main_call7_call0_call0_v156 : Ref sig .tc := ⟨.hbm, 3363, rfl⟩
abbrev main_call7_call0_call0_c_40 : Ref sig .tc := ⟨.hbm, 3364, rfl⟩
abbrev main_call7_call0_call0_v157 : Ref sig .tc := ⟨.hbm, 3365, rfl⟩
abbrev main_call7_call0_call0_v158 : Ref sig .tc := ⟨.hbm, 3366, rfl⟩
abbrev main_call7_call0_call0_c_41 : Ref sig .tc := ⟨.hbm, 3367, rfl⟩
abbrev main_call7_call0_call0_v159 : Ref sig .tc := ⟨.hbm, 3368, rfl⟩
abbrev main_call7_call0_call0_v160 : Ref sig .tc := ⟨.hbm, 3369, rfl⟩
abbrev main_call7_call0_call0_v161 : Ref sig .tc := ⟨.hbm, 3370, rfl⟩
abbrev main_call7_call0_call0_v162 : Ref sig .tc := ⟨.hbm, 3371, rfl⟩
abbrev main_call7_call0_call0_v163 : Ref sig .tc := ⟨.hbm, 3372, rfl⟩
abbrev main_call7_call0_call0_c_42 : Ref sig .tc := ⟨.hbm, 3373, rfl⟩
abbrev main_call7_call0_call0_v164 : Ref sig .tc := ⟨.hbm, 3374, rfl⟩
abbrev main_call7_call0_call0_v165 : Ref sig .tc := ⟨.hbm, 3375, rfl⟩
abbrev main_call7_call0_call0_c_43 : Ref sig .tc := ⟨.hbm, 3376, rfl⟩
abbrev main_call7_call0_call0_v166 : Ref sig .tc := ⟨.hbm, 3377, rfl⟩
abbrev main_call7_call0_call0_v167 : Ref sig .tc := ⟨.hbm, 3378, rfl⟩
abbrev main_call7_call0_call0_v168 : Ref sig .tc := ⟨.hbm, 3379, rfl⟩
abbrev main_call7_call0_call0_v169 : Ref sig .tc := ⟨.hbm, 3380, rfl⟩
abbrev main_call7_call0_call0_v170 : Ref sig .tc := ⟨.hbm, 3381, rfl⟩
abbrev main_call7_call0_v11_0 : Ref sig .tc := ⟨.hbm, 3382, rfl⟩
abbrev main_call7_call0_call0_v172 : Ref sig .tc := ⟨.hbm, 3383, rfl⟩
abbrev main_call7_call0_call0_v173 : Ref sig .tc := ⟨.hbm, 3384, rfl⟩
abbrev main_call7_call0_call0_c_44 : Ref sig .tc := ⟨.hbm, 3385, rfl⟩
abbrev main_call7_call0_call0_v174 : Ref sig .tc := ⟨.hbm, 3386, rfl⟩
abbrev main_call7_call0_v11_1 : Ref sig .tc := ⟨.hbm, 3387, rfl⟩
abbrev main_call7_call0_v12 : Ref sig .tc := ⟨.hbm, 3388, rfl⟩
abbrev main_call7_call0_v13 : Ref sig .tc := ⟨.hbm, 3389, rfl⟩
abbrev main_call7_v0 : Ref sig .tc := ⟨.hbm, 3390, rfl⟩
abbrev main_call7_v1 : Ref sig .tc := ⟨.hbm, 3391, rfl⟩
abbrev main_call7_v2 : Ref sig .tc := ⟨.hbm, 3392, rfl⟩
abbrev main_call7_v3 : Ref sig .tc := ⟨.hbm, 3393, rfl⟩
abbrev main_call7_v4 : Ref sig .tc := ⟨.hbm, 3394, rfl⟩
abbrev main_call7_v5 : Ref sig .tc := ⟨.hbm, 3395, rfl⟩
abbrev main_call7_v6 : Ref sig .tc := ⟨.hbm, 3396, rfl⟩
abbrev main_call7_v7 : Ref sig .tc := ⟨.hbm, 3397, rfl⟩
abbrev main_call7_v8 : Ref sig .tc := ⟨.hbm, 3398, rfl⟩
abbrev main_call7_v9 : Ref sig .tc := ⟨.hbm, 3399, rfl⟩
abbrev main_call7_c : Ref sig .tc := ⟨.hbm, 3400, rfl⟩
abbrev main_call7_v10 : Ref sig .tc := ⟨.hbm, 3401, rfl⟩
abbrev main_call7_v11 : Ref sig .tc := ⟨.hbm, 3402, rfl⟩
abbrev main_call7_c_0 : Ref sig .tc := ⟨.hbm, 3403, rfl⟩
abbrev main_call7_v12 : Ref sig .tc := ⟨.hbm, 3404, rfl⟩
abbrev main_call7_v13 : Ref sig .tc := ⟨.hbm, 3405, rfl⟩
abbrev main_call7_v14 : Ref sig .tc := ⟨.hbm, 3406, rfl⟩
abbrev main_call7_v15 : Ref sig .tc := ⟨.hbm, 3407, rfl⟩
abbrev main_call7_call1_v0 : Ref sig .tc := ⟨.hbm, 3408, rfl⟩
abbrev main_call7_call1_c : Ref sig .tc := ⟨.hbm, 3409, rfl⟩
abbrev main_call7_call1_v1 : Ref sig .tc := ⟨.hbm, 3410, rfl⟩
abbrev main_call7_call1_v2 : Ref sig .tc := ⟨.hbm, 3411, rfl⟩
abbrev main_call7_call1_v3 : Ref sig .tc := ⟨.hbm, 3412, rfl⟩
abbrev main_call7_call1_v4 : Ref sig .tc := ⟨.hbm, 3413, rfl⟩
abbrev main_call7_call1_v5 : Ref sig .tc := ⟨.hbm, 3414, rfl⟩
abbrev main_call7_call1_v6 : Ref sig .tc := ⟨.hbm, 3415, rfl⟩
abbrev main_call7_call1_c_0 : Ref sig .tc := ⟨.hbm, 3416, rfl⟩
abbrev main_call7_call1_v7 : Ref sig .tc := ⟨.hbm, 3417, rfl⟩
abbrev main_call7_call1_v8 : Ref sig .tc := ⟨.hbm, 3418, rfl⟩
abbrev main_call7_call1_c_1 : Ref sig .tc := ⟨.hbm, 3419, rfl⟩
abbrev main_call7_call1_v9 : Ref sig .tc := ⟨.hbm, 3420, rfl⟩
abbrev main_call7_call1_v10 : Ref sig .tc := ⟨.hbm, 3421, rfl⟩
abbrev main_call7_call1_v11 : Ref sig .tc := ⟨.hbm, 3422, rfl⟩
abbrev main_call7_call1_v12 : Ref sig .tc := ⟨.hbm, 3423, rfl⟩
abbrev main_call7_call1_v13 : Ref sig .tc := ⟨.hbm, 3424, rfl⟩
abbrev main_call7_call1_c_2 : Ref sig .tc := ⟨.hbm, 3425, rfl⟩
abbrev main_call7_call1_v14 : Ref sig .tc := ⟨.hbm, 3426, rfl⟩
abbrev main_call7_call1_v15 : Ref sig .tc := ⟨.hbm, 3427, rfl⟩
abbrev main_call7_call1_c_3 : Ref sig .tc := ⟨.hbm, 3428, rfl⟩
abbrev main_call7_call1_v16 : Ref sig .tc := ⟨.hbm, 3429, rfl⟩
abbrev main_call7_call1_v17 : Ref sig .tc := ⟨.hbm, 3430, rfl⟩
abbrev main_call7_call1_v18 : Ref sig .tc := ⟨.hbm, 3431, rfl⟩
abbrev main_call7_call1_v19 : Ref sig .tc := ⟨.hbm, 3432, rfl⟩
abbrev main_call7_call1_v20 : Ref sig .tc := ⟨.hbm, 3433, rfl⟩
abbrev main_call7_call1_c_4 : Ref sig .tc := ⟨.hbm, 3434, rfl⟩
abbrev main_call7_call1_v21 : Ref sig .tc := ⟨.hbm, 3435, rfl⟩
abbrev main_call7_call1_v22 : Ref sig .tc := ⟨.hbm, 3436, rfl⟩
abbrev main_call7_call1_c_5 : Ref sig .tc := ⟨.hbm, 3437, rfl⟩
abbrev main_call7_call1_v23 : Ref sig .tc := ⟨.hbm, 3438, rfl⟩
abbrev main_call7_call1_v24 : Ref sig .tc := ⟨.hbm, 3439, rfl⟩
abbrev main_call7_call1_v25 : Ref sig .tc := ⟨.hbm, 3440, rfl⟩
abbrev main_call7_call1_v26 : Ref sig .tc := ⟨.hbm, 3441, rfl⟩
abbrev main_call7_call1_v27 : Ref sig .tc := ⟨.hbm, 3442, rfl⟩
abbrev main_call7_call1_c_6 : Ref sig .tc := ⟨.hbm, 3443, rfl⟩
abbrev main_call7_call1_v28 : Ref sig .tc := ⟨.hbm, 3444, rfl⟩
abbrev main_call7_call1_v29 : Ref sig .tc := ⟨.hbm, 3445, rfl⟩
abbrev main_call7_call1_c_7 : Ref sig .tc := ⟨.hbm, 3446, rfl⟩
abbrev main_call7_call1_v30 : Ref sig .tc := ⟨.hbm, 3447, rfl⟩
abbrev main_call7_call1_v31 : Ref sig .tc := ⟨.hbm, 3448, rfl⟩
abbrev main_call7_call1_v32 : Ref sig .tc := ⟨.hbm, 3449, rfl⟩
abbrev main_call7_call1_v33 : Ref sig .tc := ⟨.hbm, 3450, rfl⟩
abbrev main_call7_call1_v34 : Ref sig .tc := ⟨.hbm, 3451, rfl⟩
abbrev main_call7_call1_v35 : Ref sig .tc := ⟨.hbm, 3452, rfl⟩
abbrev main_call7_call1_v36 : Ref sig .tc := ⟨.hbm, 3453, rfl⟩
abbrev main_call7_call1_v37 : Ref sig .tc := ⟨.hbm, 3454, rfl⟩
abbrev main_call7_call1_c_8 : Ref sig .tc := ⟨.hbm, 3455, rfl⟩
abbrev main_call7_call1_v38 : Ref sig .tc := ⟨.hbm, 3456, rfl⟩
abbrev main_call7_call1_v39 : Ref sig .tc := ⟨.hbm, 3457, rfl⟩
abbrev main_call7_call1_v40 : Ref sig .tc := ⟨.hbm, 3458, rfl⟩
abbrev main_call7_call1_c_9 : Ref sig .tc := ⟨.hbm, 3459, rfl⟩
abbrev main_call7_call1_v41 : Ref sig .tc := ⟨.hbm, 3460, rfl⟩
abbrev main_call7_call1_v42 : Ref sig .tc := ⟨.hbm, 3461, rfl⟩
abbrev main_call7_call1_c_10 : Ref sig .tc := ⟨.hbm, 3462, rfl⟩
abbrev main_call7_call1_v43 : Ref sig .tc := ⟨.hbm, 3463, rfl⟩
abbrev main_call7_call1_v44 : Ref sig .tc := ⟨.hbm, 3464, rfl⟩
abbrev main_call7_call1_v45 : Ref sig .tc := ⟨.hbm, 3465, rfl⟩
abbrev main_call7_call1_v46 : Ref sig .tc := ⟨.hbm, 3466, rfl⟩
abbrev main_call7_call1_v47 : Ref sig .tc := ⟨.hbm, 3467, rfl⟩
abbrev main_call7_call1_c_11 : Ref sig .tc := ⟨.hbm, 3468, rfl⟩
abbrev main_call7_call1_v48 : Ref sig .tc := ⟨.hbm, 3469, rfl⟩
abbrev main_call7_call1_v49 : Ref sig .tc := ⟨.hbm, 3470, rfl⟩
abbrev main_call7_call1_c_12 : Ref sig .tc := ⟨.hbm, 3471, rfl⟩
abbrev main_call7_call1_v50 : Ref sig .tc := ⟨.hbm, 3472, rfl⟩
abbrev main_call7_call1_v51 : Ref sig .tc := ⟨.hbm, 3473, rfl⟩
abbrev main_call7_call1_v52 : Ref sig .tc := ⟨.hbm, 3474, rfl⟩
abbrev main_call7_call1_v53 : Ref sig .tc := ⟨.hbm, 3475, rfl⟩
abbrev main_call7_call1_v54 : Ref sig .tc := ⟨.hbm, 3476, rfl⟩
abbrev main_call7_call1_c_13 : Ref sig .tc := ⟨.hbm, 3477, rfl⟩
abbrev main_call7_call1_v55 : Ref sig .tc := ⟨.hbm, 3478, rfl⟩
abbrev main_call7_call1_v56 : Ref sig .tc := ⟨.hbm, 3479, rfl⟩
abbrev main_call7_call1_c_14 : Ref sig .tc := ⟨.hbm, 3480, rfl⟩
abbrev main_call7_call1_v57 : Ref sig .tc := ⟨.hbm, 3481, rfl⟩
abbrev main_call7_call1_v58 : Ref sig .tc := ⟨.hbm, 3482, rfl⟩
abbrev main_call7_call1_v59 : Ref sig .tc := ⟨.hbm, 3483, rfl⟩
abbrev main_call7_call1_v60 : Ref sig .tc := ⟨.hbm, 3484, rfl⟩
abbrev main_call7_call1_v61 : Ref sig .tc := ⟨.hbm, 3485, rfl⟩
abbrev main_call7_call1_c_15 : Ref sig .tc := ⟨.hbm, 3486, rfl⟩
abbrev main_call7_call1_v62 : Ref sig .tc := ⟨.hbm, 3487, rfl⟩
abbrev main_call7_call1_v63 : Ref sig .tc := ⟨.hbm, 3488, rfl⟩
abbrev main_call7_call1_c_16 : Ref sig .tc := ⟨.hbm, 3489, rfl⟩
abbrev main_call7_call1_v64 : Ref sig .tc := ⟨.hbm, 3490, rfl⟩
abbrev main_call7_call1_v65 : Ref sig .tc := ⟨.hbm, 3491, rfl⟩
abbrev main_call7_call1_v66 : Ref sig .tc := ⟨.hbm, 3492, rfl⟩
abbrev main_call7_call1_v67 : Ref sig .tc := ⟨.hbm, 3493, rfl⟩
abbrev main_call7_call1_v68 : Ref sig .tc := ⟨.hbm, 3494, rfl⟩
abbrev main_call7_call1_v69 : Ref sig .tc := ⟨.hbm, 3495, rfl⟩
abbrev main_call7_call1_v70 : Ref sig .tc := ⟨.hbm, 3496, rfl⟩
abbrev main_call7_call1_v71 : Ref sig .tc := ⟨.hbm, 3497, rfl⟩
abbrev main_call7_call1_c_17 : Ref sig .tc := ⟨.hbm, 3498, rfl⟩
abbrev main_call7_call1_v72 : Ref sig .tc := ⟨.hbm, 3499, rfl⟩
abbrev main_call7_call1_v73 : Ref sig .tc := ⟨.hbm, 3500, rfl⟩
abbrev main_call7_call1_v74 : Ref sig .tc := ⟨.hbm, 3501, rfl⟩
abbrev main_call7_call1_c_18 : Ref sig .tc := ⟨.hbm, 3502, rfl⟩
abbrev main_call7_call1_v75 : Ref sig .tc := ⟨.hbm, 3503, rfl⟩
abbrev main_call7_call1_v76 : Ref sig .tc := ⟨.hbm, 3504, rfl⟩
abbrev main_call7_call1_c_19 : Ref sig .tc := ⟨.hbm, 3505, rfl⟩
abbrev main_call7_call1_v77 : Ref sig .tc := ⟨.hbm, 3506, rfl⟩
abbrev main_call7_call1_v78 : Ref sig .tc := ⟨.hbm, 3507, rfl⟩
abbrev main_call7_call1_v79 : Ref sig .tc := ⟨.hbm, 3508, rfl⟩
abbrev main_call7_call1_v80 : Ref sig .tc := ⟨.hbm, 3509, rfl⟩
abbrev main_call7_call1_v81 : Ref sig .tc := ⟨.hbm, 3510, rfl⟩
abbrev main_call7_call1_c_20 : Ref sig .tc := ⟨.hbm, 3511, rfl⟩
abbrev main_call7_call1_v82 : Ref sig .tc := ⟨.hbm, 3512, rfl⟩
abbrev main_call7_call1_v83 : Ref sig .tc := ⟨.hbm, 3513, rfl⟩
abbrev main_call7_call1_c_21 : Ref sig .tc := ⟨.hbm, 3514, rfl⟩
abbrev main_call7_call1_v84 : Ref sig .tc := ⟨.hbm, 3515, rfl⟩
abbrev main_call7_call1_v85 : Ref sig .tc := ⟨.hbm, 3516, rfl⟩
abbrev main_call7_call1_v86 : Ref sig .tc := ⟨.hbm, 3517, rfl⟩
abbrev main_call7_call1_v87 : Ref sig .tc := ⟨.hbm, 3518, rfl⟩
abbrev main_call7_call1_v88 : Ref sig .tc := ⟨.hbm, 3519, rfl⟩
abbrev main_call7_call1_c_22 : Ref sig .tc := ⟨.hbm, 3520, rfl⟩
abbrev main_call7_call1_v89 : Ref sig .tc := ⟨.hbm, 3521, rfl⟩
abbrev main_call7_call1_v90 : Ref sig .tc := ⟨.hbm, 3522, rfl⟩
abbrev main_call7_call1_c_23 : Ref sig .tc := ⟨.hbm, 3523, rfl⟩
abbrev main_call7_call1_v91 : Ref sig .tc := ⟨.hbm, 3524, rfl⟩
abbrev main_call7_call1_v92 : Ref sig .tc := ⟨.hbm, 3525, rfl⟩
abbrev main_call7_call1_v93 : Ref sig .tc := ⟨.hbm, 3526, rfl⟩
abbrev main_call7_call1_v94 : Ref sig .tc := ⟨.hbm, 3527, rfl⟩
abbrev main_call7_call1_v95 : Ref sig .tc := ⟨.hbm, 3528, rfl⟩
abbrev main_call7_call1_c_24 : Ref sig .tc := ⟨.hbm, 3529, rfl⟩
abbrev main_call7_call1_v96 : Ref sig .tc := ⟨.hbm, 3530, rfl⟩
abbrev main_call7_call1_v97 : Ref sig .tc := ⟨.hbm, 3531, rfl⟩
abbrev main_call7_call1_c_25 : Ref sig .tc := ⟨.hbm, 3532, rfl⟩
abbrev main_call7_call1_v98 : Ref sig .tc := ⟨.hbm, 3533, rfl⟩
abbrev main_call7_call1_v99 : Ref sig .tc := ⟨.hbm, 3534, rfl⟩
abbrev main_call7_call1_v100 : Ref sig .tc := ⟨.hbm, 3535, rfl⟩
abbrev main_call7_call1_v101 : Ref sig .tc := ⟨.hbm, 3536, rfl⟩
abbrev main_call7_call1_v102 : Ref sig .tc := ⟨.hbm, 3537, rfl⟩
abbrev main_call7_call1_v103 : Ref sig .tc := ⟨.hbm, 3538, rfl⟩
abbrev main_call7_call1_v104 : Ref sig .tc := ⟨.hbm, 3539, rfl⟩
abbrev main_call7_call1_v105 : Ref sig .tc := ⟨.hbm, 3540, rfl⟩
abbrev main_call7_call1_c_26 : Ref sig .tc := ⟨.hbm, 3541, rfl⟩
abbrev main_call7_call1_v106 : Ref sig .tc := ⟨.hbm, 3542, rfl⟩
abbrev main_call7_call1_v107 : Ref sig .tc := ⟨.hbm, 3543, rfl⟩
abbrev main_call7_call1_v108 : Ref sig .tc := ⟨.hbm, 3544, rfl⟩
abbrev main_call7_call1_c_27 : Ref sig .tc := ⟨.hbm, 3545, rfl⟩
abbrev main_call7_call1_v109 : Ref sig .tc := ⟨.hbm, 3546, rfl⟩
abbrev main_call7_call1_v110 : Ref sig .tc := ⟨.hbm, 3547, rfl⟩
abbrev main_call7_call1_c_28 : Ref sig .tc := ⟨.hbm, 3548, rfl⟩
abbrev main_call7_call1_v111 : Ref sig .tc := ⟨.hbm, 3549, rfl⟩
abbrev main_call7_call1_v112 : Ref sig .tc := ⟨.hbm, 3550, rfl⟩
abbrev main_call7_call1_v113 : Ref sig .tc := ⟨.hbm, 3551, rfl⟩
abbrev main_call7_call1_v114 : Ref sig .tc := ⟨.hbm, 3552, rfl⟩
abbrev main_call7_call1_v115 : Ref sig .tc := ⟨.hbm, 3553, rfl⟩
abbrev main_call7_call1_c_29 : Ref sig .tc := ⟨.hbm, 3554, rfl⟩
abbrev main_call7_call1_v116 : Ref sig .tc := ⟨.hbm, 3555, rfl⟩
abbrev main_call7_call1_v117 : Ref sig .tc := ⟨.hbm, 3556, rfl⟩
abbrev main_call7_call1_c_30 : Ref sig .tc := ⟨.hbm, 3557, rfl⟩
abbrev main_call7_call1_v118 : Ref sig .tc := ⟨.hbm, 3558, rfl⟩
abbrev main_call7_call1_v119 : Ref sig .tc := ⟨.hbm, 3559, rfl⟩
abbrev main_call7_call1_v120 : Ref sig .tc := ⟨.hbm, 3560, rfl⟩
abbrev main_call7_call1_v121 : Ref sig .tc := ⟨.hbm, 3561, rfl⟩
abbrev main_call7_call1_v122 : Ref sig .tc := ⟨.hbm, 3562, rfl⟩
abbrev main_call7_call1_c_31 : Ref sig .tc := ⟨.hbm, 3563, rfl⟩
abbrev main_call7_call1_v123 : Ref sig .tc := ⟨.hbm, 3564, rfl⟩
abbrev main_call7_call1_v124 : Ref sig .tc := ⟨.hbm, 3565, rfl⟩
abbrev main_call7_call1_c_32 : Ref sig .tc := ⟨.hbm, 3566, rfl⟩
abbrev main_call7_call1_v125 : Ref sig .tc := ⟨.hbm, 3567, rfl⟩
abbrev main_call7_call1_v126 : Ref sig .tc := ⟨.hbm, 3568, rfl⟩
abbrev main_call7_call1_v127 : Ref sig .tc := ⟨.hbm, 3569, rfl⟩
abbrev main_call7_call1_v128 : Ref sig .tc := ⟨.hbm, 3570, rfl⟩
abbrev main_call7_call1_v129 : Ref sig .tc := ⟨.hbm, 3571, rfl⟩
abbrev main_call7_call1_c_33 : Ref sig .tc := ⟨.hbm, 3572, rfl⟩
abbrev main_call7_call1_v130 : Ref sig .tc := ⟨.hbm, 3573, rfl⟩
abbrev main_call7_call1_v131 : Ref sig .tc := ⟨.hbm, 3574, rfl⟩
abbrev main_call7_call1_c_34 : Ref sig .tc := ⟨.hbm, 3575, rfl⟩
abbrev main_call7_call1_v132 : Ref sig .tc := ⟨.hbm, 3576, rfl⟩
abbrev main_call7_call1_v133 : Ref sig .tc := ⟨.hbm, 3577, rfl⟩
abbrev main_call7_call1_v134 : Ref sig .tc := ⟨.hbm, 3578, rfl⟩
abbrev main_call7_call1_v135 : Ref sig .tc := ⟨.hbm, 3579, rfl⟩
abbrev main_call7_call1_v136 : Ref sig .tc := ⟨.hbm, 3580, rfl⟩
abbrev main_call7_call1_v137 : Ref sig .tc := ⟨.hbm, 3581, rfl⟩
abbrev main_call7_call1_v138 : Ref sig .tc := ⟨.hbm, 3582, rfl⟩
abbrev main_call7_call1_v139 : Ref sig .tc := ⟨.hbm, 3583, rfl⟩
abbrev main_call7_call1_c_35 : Ref sig .tc := ⟨.hbm, 3584, rfl⟩
abbrev main_call7_call1_v140 : Ref sig .tc := ⟨.hbm, 3585, rfl⟩
abbrev main_call7_call1_v141 : Ref sig .tc := ⟨.hbm, 3586, rfl⟩
abbrev main_call7_call1_v142 : Ref sig .tc := ⟨.hbm, 3587, rfl⟩
abbrev main_call7_call1_c_36 : Ref sig .tc := ⟨.hbm, 3588, rfl⟩
abbrev main_call7_call1_v143 : Ref sig .tc := ⟨.hbm, 3589, rfl⟩
abbrev main_call7_call1_v144 : Ref sig .tc := ⟨.hbm, 3590, rfl⟩
abbrev main_call7_call1_c_37 : Ref sig .tc := ⟨.hbm, 3591, rfl⟩
abbrev main_call7_call1_v145 : Ref sig .tc := ⟨.hbm, 3592, rfl⟩
abbrev main_call7_call1_v146 : Ref sig .tc := ⟨.hbm, 3593, rfl⟩
abbrev main_call7_call1_v147 : Ref sig .tc := ⟨.hbm, 3594, rfl⟩
abbrev main_call7_call1_v148 : Ref sig .tc := ⟨.hbm, 3595, rfl⟩
abbrev main_call7_call1_v149 : Ref sig .tc := ⟨.hbm, 3596, rfl⟩
abbrev main_call7_call1_c_38 : Ref sig .tc := ⟨.hbm, 3597, rfl⟩
abbrev main_call7_call1_v150 : Ref sig .tc := ⟨.hbm, 3598, rfl⟩
abbrev main_call7_call1_v151 : Ref sig .tc := ⟨.hbm, 3599, rfl⟩
abbrev main_call7_call1_c_39 : Ref sig .tc := ⟨.hbm, 3600, rfl⟩
abbrev main_call7_call1_v152 : Ref sig .tc := ⟨.hbm, 3601, rfl⟩
abbrev main_call7_call1_v153 : Ref sig .tc := ⟨.hbm, 3602, rfl⟩
abbrev main_call7_call1_v154 : Ref sig .tc := ⟨.hbm, 3603, rfl⟩
abbrev main_call7_call1_v155 : Ref sig .tc := ⟨.hbm, 3604, rfl⟩
abbrev main_call7_call1_v156 : Ref sig .tc := ⟨.hbm, 3605, rfl⟩
abbrev main_call7_call1_c_40 : Ref sig .tc := ⟨.hbm, 3606, rfl⟩
abbrev main_call7_call1_v157 : Ref sig .tc := ⟨.hbm, 3607, rfl⟩
abbrev main_call7_call1_v158 : Ref sig .tc := ⟨.hbm, 3608, rfl⟩
abbrev main_call7_call1_c_41 : Ref sig .tc := ⟨.hbm, 3609, rfl⟩
abbrev main_call7_call1_v159 : Ref sig .tc := ⟨.hbm, 3610, rfl⟩
abbrev main_call7_call1_v160 : Ref sig .tc := ⟨.hbm, 3611, rfl⟩
abbrev main_call7_call1_v161 : Ref sig .tc := ⟨.hbm, 3612, rfl⟩
abbrev main_call7_call1_v162 : Ref sig .tc := ⟨.hbm, 3613, rfl⟩
abbrev main_call7_call1_v163 : Ref sig .tc := ⟨.hbm, 3614, rfl⟩
abbrev main_call7_call1_c_42 : Ref sig .tc := ⟨.hbm, 3615, rfl⟩
abbrev main_call7_call1_v164 : Ref sig .tc := ⟨.hbm, 3616, rfl⟩
abbrev main_call7_call1_v165 : Ref sig .tc := ⟨.hbm, 3617, rfl⟩
abbrev main_call7_call1_c_43 : Ref sig .tc := ⟨.hbm, 3618, rfl⟩
abbrev main_call7_call1_v166 : Ref sig .tc := ⟨.hbm, 3619, rfl⟩
abbrev main_call7_call1_v167 : Ref sig .tc := ⟨.hbm, 3620, rfl⟩
abbrev main_call7_call1_v168 : Ref sig .tc := ⟨.hbm, 3621, rfl⟩
abbrev main_call7_call1_v169 : Ref sig .tc := ⟨.hbm, 3622, rfl⟩
abbrev main_call7_call1_v170 : Ref sig .tc := ⟨.hbm, 3623, rfl⟩
abbrev main_call7_v16_0 : Ref sig .tc := ⟨.hbm, 3624, rfl⟩
abbrev main_call7_call1_v172 : Ref sig .tc := ⟨.hbm, 3625, rfl⟩
abbrev main_call7_call1_v173 : Ref sig .tc := ⟨.hbm, 3626, rfl⟩
abbrev main_call7_call1_c_44 : Ref sig .tc := ⟨.hbm, 3627, rfl⟩
abbrev main_call7_call1_v174 : Ref sig .tc := ⟨.hbm, 3628, rfl⟩
abbrev main_call7_v16_1 : Ref sig .tc := ⟨.hbm, 3629, rfl⟩
abbrev main_call7_v17 : Ref sig .tc := ⟨.hbm, 3630, rfl⟩
abbrev main_call7_v18_0 : Ref sig .tc := ⟨.hbm, 3631, rfl⟩
abbrev main_v38 : Ref sig .tc := ⟨.hbm, 3632, rfl⟩
abbrev main_v39 : Ref sig .tc := ⟨.hbm, 3633, rfl⟩
abbrev main_v40 : Ref sig .tc := ⟨.hbm, 3634, rfl⟩
abbrev main_v41 : Ref sig .tc := ⟨.hbm, 3635, rfl⟩
abbrev main_call8_call0_v0 : Ref sig .tc := ⟨.hbm, 3636, rfl⟩
abbrev main_call8_call0_v1 : Ref sig .tc := ⟨.hbm, 3637, rfl⟩
abbrev main_call8_call0_v2 : Ref sig .tc := ⟨.hbm, 3638, rfl⟩
abbrev main_call8_call0_v3 : Ref sig .tc := ⟨.hbm, 3639, rfl⟩
abbrev main_call8_call0_v4 : Ref sig .tc := ⟨.hbm, 3640, rfl⟩
abbrev main_call8_call0_c : Ref sig .tc := ⟨.hbm, 3641, rfl⟩
abbrev main_call8_call0_v5 : Ref sig .tc := ⟨.hbm, 3642, rfl⟩
abbrev main_call8_call0_v6 : Ref sig .tc := ⟨.hbm, 3643, rfl⟩
abbrev main_call8_call0_c_0 : Ref sig .tc := ⟨.hbm, 3644, rfl⟩
abbrev main_call8_call0_v7 : Ref sig .tc := ⟨.hbm, 3645, rfl⟩
abbrev main_call8_call0_v8 : Ref sig .tc := ⟨.hbm, 3646, rfl⟩
abbrev main_call8_call0_v9 : Ref sig .tc := ⟨.hbm, 3647, rfl⟩
abbrev main_call8_call0_v10 : Ref sig .tc := ⟨.hbm, 3648, rfl⟩
abbrev main_call8_call0_call0_v0 : Ref sig .tc := ⟨.hbm, 3649, rfl⟩
abbrev main_call8_call0_call0_c : Ref sig .tc := ⟨.hbm, 3650, rfl⟩
abbrev main_call8_call0_call0_v1 : Ref sig .tc := ⟨.hbm, 3651, rfl⟩
abbrev main_call8_call0_call0_v2 : Ref sig .tc := ⟨.hbm, 3652, rfl⟩
abbrev main_call8_call0_call0_v3 : Ref sig .tc := ⟨.hbm, 3653, rfl⟩
abbrev main_call8_call0_call0_v4 : Ref sig .tc := ⟨.hbm, 3654, rfl⟩
abbrev main_call8_call0_call0_v5 : Ref sig .tc := ⟨.hbm, 3655, rfl⟩
abbrev main_call8_call0_call0_v6 : Ref sig .tc := ⟨.hbm, 3656, rfl⟩
abbrev main_call8_call0_call0_c_0 : Ref sig .tc := ⟨.hbm, 3657, rfl⟩
abbrev main_call8_call0_call0_v7 : Ref sig .tc := ⟨.hbm, 3658, rfl⟩
abbrev main_call8_call0_call0_v8 : Ref sig .tc := ⟨.hbm, 3659, rfl⟩
abbrev main_call8_call0_call0_c_1 : Ref sig .tc := ⟨.hbm, 3660, rfl⟩
abbrev main_call8_call0_call0_v9 : Ref sig .tc := ⟨.hbm, 3661, rfl⟩
abbrev main_call8_call0_call0_v10 : Ref sig .tc := ⟨.hbm, 3662, rfl⟩
abbrev main_call8_call0_call0_v11 : Ref sig .tc := ⟨.hbm, 3663, rfl⟩
abbrev main_call8_call0_call0_v12 : Ref sig .tc := ⟨.hbm, 3664, rfl⟩
abbrev main_call8_call0_call0_v13 : Ref sig .tc := ⟨.hbm, 3665, rfl⟩
abbrev main_call8_call0_call0_c_2 : Ref sig .tc := ⟨.hbm, 3666, rfl⟩
abbrev main_call8_call0_call0_v14 : Ref sig .tc := ⟨.hbm, 3667, rfl⟩
abbrev main_call8_call0_call0_v15 : Ref sig .tc := ⟨.hbm, 3668, rfl⟩
abbrev main_call8_call0_call0_c_3 : Ref sig .tc := ⟨.hbm, 3669, rfl⟩
abbrev main_call8_call0_call0_v16 : Ref sig .tc := ⟨.hbm, 3670, rfl⟩
abbrev main_call8_call0_call0_v17 : Ref sig .tc := ⟨.hbm, 3671, rfl⟩
abbrev main_call8_call0_call0_v18 : Ref sig .tc := ⟨.hbm, 3672, rfl⟩
abbrev main_call8_call0_call0_v19 : Ref sig .tc := ⟨.hbm, 3673, rfl⟩
abbrev main_call8_call0_call0_v20 : Ref sig .tc := ⟨.hbm, 3674, rfl⟩
abbrev main_call8_call0_call0_c_4 : Ref sig .tc := ⟨.hbm, 3675, rfl⟩
abbrev main_call8_call0_call0_v21 : Ref sig .tc := ⟨.hbm, 3676, rfl⟩
abbrev main_call8_call0_call0_v22 : Ref sig .tc := ⟨.hbm, 3677, rfl⟩
abbrev main_call8_call0_call0_c_5 : Ref sig .tc := ⟨.hbm, 3678, rfl⟩
abbrev main_call8_call0_call0_v23 : Ref sig .tc := ⟨.hbm, 3679, rfl⟩
abbrev main_call8_call0_call0_v24 : Ref sig .tc := ⟨.hbm, 3680, rfl⟩
abbrev main_call8_call0_call0_v25 : Ref sig .tc := ⟨.hbm, 3681, rfl⟩
abbrev main_call8_call0_call0_v26 : Ref sig .tc := ⟨.hbm, 3682, rfl⟩
abbrev main_call8_call0_call0_v27 : Ref sig .tc := ⟨.hbm, 3683, rfl⟩
abbrev main_call8_call0_call0_c_6 : Ref sig .tc := ⟨.hbm, 3684, rfl⟩
abbrev main_call8_call0_call0_v28 : Ref sig .tc := ⟨.hbm, 3685, rfl⟩
abbrev main_call8_call0_call0_v29 : Ref sig .tc := ⟨.hbm, 3686, rfl⟩
abbrev main_call8_call0_call0_c_7 : Ref sig .tc := ⟨.hbm, 3687, rfl⟩
abbrev main_call8_call0_call0_v30 : Ref sig .tc := ⟨.hbm, 3688, rfl⟩
abbrev main_call8_call0_call0_v31 : Ref sig .tc := ⟨.hbm, 3689, rfl⟩
abbrev main_call8_call0_call0_v32 : Ref sig .tc := ⟨.hbm, 3690, rfl⟩
abbrev main_call8_call0_call0_v33 : Ref sig .tc := ⟨.hbm, 3691, rfl⟩
abbrev main_call8_call0_call0_v34 : Ref sig .tc := ⟨.hbm, 3692, rfl⟩
abbrev main_call8_call0_call0_v35 : Ref sig .tc := ⟨.hbm, 3693, rfl⟩
abbrev main_call8_call0_call0_v36 : Ref sig .tc := ⟨.hbm, 3694, rfl⟩
abbrev main_call8_call0_call0_v37 : Ref sig .tc := ⟨.hbm, 3695, rfl⟩
abbrev main_call8_call0_call0_c_8 : Ref sig .tc := ⟨.hbm, 3696, rfl⟩
abbrev main_call8_call0_call0_v38 : Ref sig .tc := ⟨.hbm, 3697, rfl⟩
abbrev main_call8_call0_call0_v39 : Ref sig .tc := ⟨.hbm, 3698, rfl⟩
abbrev main_call8_call0_call0_v40 : Ref sig .tc := ⟨.hbm, 3699, rfl⟩
abbrev main_call8_call0_call0_c_9 : Ref sig .tc := ⟨.hbm, 3700, rfl⟩
abbrev main_call8_call0_call0_v41 : Ref sig .tc := ⟨.hbm, 3701, rfl⟩
abbrev main_call8_call0_call0_v42 : Ref sig .tc := ⟨.hbm, 3702, rfl⟩
abbrev main_call8_call0_call0_c_10 : Ref sig .tc := ⟨.hbm, 3703, rfl⟩
abbrev main_call8_call0_call0_v43 : Ref sig .tc := ⟨.hbm, 3704, rfl⟩
abbrev main_call8_call0_call0_v44 : Ref sig .tc := ⟨.hbm, 3705, rfl⟩
abbrev main_call8_call0_call0_v45 : Ref sig .tc := ⟨.hbm, 3706, rfl⟩
abbrev main_call8_call0_call0_v46 : Ref sig .tc := ⟨.hbm, 3707, rfl⟩
abbrev main_call8_call0_call0_v47 : Ref sig .tc := ⟨.hbm, 3708, rfl⟩
abbrev main_call8_call0_call0_c_11 : Ref sig .tc := ⟨.hbm, 3709, rfl⟩
abbrev main_call8_call0_call0_v48 : Ref sig .tc := ⟨.hbm, 3710, rfl⟩
abbrev main_call8_call0_call0_v49 : Ref sig .tc := ⟨.hbm, 3711, rfl⟩
abbrev main_call8_call0_call0_c_12 : Ref sig .tc := ⟨.hbm, 3712, rfl⟩
abbrev main_call8_call0_call0_v50 : Ref sig .tc := ⟨.hbm, 3713, rfl⟩
abbrev main_call8_call0_call0_v51 : Ref sig .tc := ⟨.hbm, 3714, rfl⟩
abbrev main_call8_call0_call0_v52 : Ref sig .tc := ⟨.hbm, 3715, rfl⟩
abbrev main_call8_call0_call0_v53 : Ref sig .tc := ⟨.hbm, 3716, rfl⟩
abbrev main_call8_call0_call0_v54 : Ref sig .tc := ⟨.hbm, 3717, rfl⟩
abbrev main_call8_call0_call0_c_13 : Ref sig .tc := ⟨.hbm, 3718, rfl⟩
abbrev main_call8_call0_call0_v55 : Ref sig .tc := ⟨.hbm, 3719, rfl⟩
abbrev main_call8_call0_call0_v56 : Ref sig .tc := ⟨.hbm, 3720, rfl⟩
abbrev main_call8_call0_call0_c_14 : Ref sig .tc := ⟨.hbm, 3721, rfl⟩
abbrev main_call8_call0_call0_v57 : Ref sig .tc := ⟨.hbm, 3722, rfl⟩
abbrev main_call8_call0_call0_v58 : Ref sig .tc := ⟨.hbm, 3723, rfl⟩
abbrev main_call8_call0_call0_v59 : Ref sig .tc := ⟨.hbm, 3724, rfl⟩
abbrev main_call8_call0_call0_v60 : Ref sig .tc := ⟨.hbm, 3725, rfl⟩
abbrev main_call8_call0_call0_v61 : Ref sig .tc := ⟨.hbm, 3726, rfl⟩
abbrev main_call8_call0_call0_c_15 : Ref sig .tc := ⟨.hbm, 3727, rfl⟩
abbrev main_call8_call0_call0_v62 : Ref sig .tc := ⟨.hbm, 3728, rfl⟩
abbrev main_call8_call0_call0_v63 : Ref sig .tc := ⟨.hbm, 3729, rfl⟩
abbrev main_call8_call0_call0_c_16 : Ref sig .tc := ⟨.hbm, 3730, rfl⟩
abbrev main_call8_call0_call0_v64 : Ref sig .tc := ⟨.hbm, 3731, rfl⟩
abbrev main_call8_call0_call0_v65 : Ref sig .tc := ⟨.hbm, 3732, rfl⟩
abbrev main_call8_call0_call0_v66 : Ref sig .tc := ⟨.hbm, 3733, rfl⟩
abbrev main_call8_call0_call0_v67 : Ref sig .tc := ⟨.hbm, 3734, rfl⟩
abbrev main_call8_call0_call0_v68 : Ref sig .tc := ⟨.hbm, 3735, rfl⟩
abbrev main_call8_call0_call0_v69 : Ref sig .tc := ⟨.hbm, 3736, rfl⟩
abbrev main_call8_call0_call0_v70 : Ref sig .tc := ⟨.hbm, 3737, rfl⟩
abbrev main_call8_call0_call0_v71 : Ref sig .tc := ⟨.hbm, 3738, rfl⟩
abbrev main_call8_call0_call0_c_17 : Ref sig .tc := ⟨.hbm, 3739, rfl⟩
abbrev main_call8_call0_call0_v72 : Ref sig .tc := ⟨.hbm, 3740, rfl⟩
abbrev main_call8_call0_call0_v73 : Ref sig .tc := ⟨.hbm, 3741, rfl⟩
abbrev main_call8_call0_call0_v74 : Ref sig .tc := ⟨.hbm, 3742, rfl⟩
abbrev main_call8_call0_call0_c_18 : Ref sig .tc := ⟨.hbm, 3743, rfl⟩
abbrev main_call8_call0_call0_v75 : Ref sig .tc := ⟨.hbm, 3744, rfl⟩
abbrev main_call8_call0_call0_v76 : Ref sig .tc := ⟨.hbm, 3745, rfl⟩
abbrev main_call8_call0_call0_c_19 : Ref sig .tc := ⟨.hbm, 3746, rfl⟩
abbrev main_call8_call0_call0_v77 : Ref sig .tc := ⟨.hbm, 3747, rfl⟩
abbrev main_call8_call0_call0_v78 : Ref sig .tc := ⟨.hbm, 3748, rfl⟩
abbrev main_call8_call0_call0_v79 : Ref sig .tc := ⟨.hbm, 3749, rfl⟩
abbrev main_call8_call0_call0_v80 : Ref sig .tc := ⟨.hbm, 3750, rfl⟩
abbrev main_call8_call0_call0_v81 : Ref sig .tc := ⟨.hbm, 3751, rfl⟩
abbrev main_call8_call0_call0_c_20 : Ref sig .tc := ⟨.hbm, 3752, rfl⟩
abbrev main_call8_call0_call0_v82 : Ref sig .tc := ⟨.hbm, 3753, rfl⟩
abbrev main_call8_call0_call0_v83 : Ref sig .tc := ⟨.hbm, 3754, rfl⟩
abbrev main_call8_call0_call0_c_21 : Ref sig .tc := ⟨.hbm, 3755, rfl⟩
abbrev main_call8_call0_call0_v84 : Ref sig .tc := ⟨.hbm, 3756, rfl⟩
abbrev main_call8_call0_call0_v85 : Ref sig .tc := ⟨.hbm, 3757, rfl⟩
abbrev main_call8_call0_call0_v86 : Ref sig .tc := ⟨.hbm, 3758, rfl⟩
abbrev main_call8_call0_call0_v87 : Ref sig .tc := ⟨.hbm, 3759, rfl⟩
abbrev main_call8_call0_call0_v88 : Ref sig .tc := ⟨.hbm, 3760, rfl⟩
abbrev main_call8_call0_call0_c_22 : Ref sig .tc := ⟨.hbm, 3761, rfl⟩
abbrev main_call8_call0_call0_v89 : Ref sig .tc := ⟨.hbm, 3762, rfl⟩
abbrev main_call8_call0_call0_v90 : Ref sig .tc := ⟨.hbm, 3763, rfl⟩
abbrev main_call8_call0_call0_c_23 : Ref sig .tc := ⟨.hbm, 3764, rfl⟩
abbrev main_call8_call0_call0_v91 : Ref sig .tc := ⟨.hbm, 3765, rfl⟩
abbrev main_call8_call0_call0_v92 : Ref sig .tc := ⟨.hbm, 3766, rfl⟩
abbrev main_call8_call0_call0_v93 : Ref sig .tc := ⟨.hbm, 3767, rfl⟩
abbrev main_call8_call0_call0_v94 : Ref sig .tc := ⟨.hbm, 3768, rfl⟩
abbrev main_call8_call0_call0_v95 : Ref sig .tc := ⟨.hbm, 3769, rfl⟩
abbrev main_call8_call0_call0_c_24 : Ref sig .tc := ⟨.hbm, 3770, rfl⟩
abbrev main_call8_call0_call0_v96 : Ref sig .tc := ⟨.hbm, 3771, rfl⟩
abbrev main_call8_call0_call0_v97 : Ref sig .tc := ⟨.hbm, 3772, rfl⟩
abbrev main_call8_call0_call0_c_25 : Ref sig .tc := ⟨.hbm, 3773, rfl⟩
abbrev main_call8_call0_call0_v98 : Ref sig .tc := ⟨.hbm, 3774, rfl⟩
abbrev main_call8_call0_call0_v99 : Ref sig .tc := ⟨.hbm, 3775, rfl⟩
abbrev main_call8_call0_call0_v100 : Ref sig .tc := ⟨.hbm, 3776, rfl⟩
abbrev main_call8_call0_call0_v101 : Ref sig .tc := ⟨.hbm, 3777, rfl⟩
abbrev main_call8_call0_call0_v102 : Ref sig .tc := ⟨.hbm, 3778, rfl⟩
abbrev main_call8_call0_call0_v103 : Ref sig .tc := ⟨.hbm, 3779, rfl⟩
abbrev main_call8_call0_call0_v104 : Ref sig .tc := ⟨.hbm, 3780, rfl⟩
abbrev main_call8_call0_call0_v105 : Ref sig .tc := ⟨.hbm, 3781, rfl⟩
abbrev main_call8_call0_call0_c_26 : Ref sig .tc := ⟨.hbm, 3782, rfl⟩
abbrev main_call8_call0_call0_v106 : Ref sig .tc := ⟨.hbm, 3783, rfl⟩
abbrev main_call8_call0_call0_v107 : Ref sig .tc := ⟨.hbm, 3784, rfl⟩
abbrev main_call8_call0_call0_v108 : Ref sig .tc := ⟨.hbm, 3785, rfl⟩
abbrev main_call8_call0_call0_c_27 : Ref sig .tc := ⟨.hbm, 3786, rfl⟩
abbrev main_call8_call0_call0_v109 : Ref sig .tc := ⟨.hbm, 3787, rfl⟩
abbrev main_call8_call0_call0_v110 : Ref sig .tc := ⟨.hbm, 3788, rfl⟩
abbrev main_call8_call0_call0_c_28 : Ref sig .tc := ⟨.hbm, 3789, rfl⟩
abbrev main_call8_call0_call0_v111 : Ref sig .tc := ⟨.hbm, 3790, rfl⟩
abbrev main_call8_call0_call0_v112 : Ref sig .tc := ⟨.hbm, 3791, rfl⟩
abbrev main_call8_call0_call0_v113 : Ref sig .tc := ⟨.hbm, 3792, rfl⟩
abbrev main_call8_call0_call0_v114 : Ref sig .tc := ⟨.hbm, 3793, rfl⟩
abbrev main_call8_call0_call0_v115 : Ref sig .tc := ⟨.hbm, 3794, rfl⟩
abbrev main_call8_call0_call0_c_29 : Ref sig .tc := ⟨.hbm, 3795, rfl⟩
abbrev main_call8_call0_call0_v116 : Ref sig .tc := ⟨.hbm, 3796, rfl⟩
abbrev main_call8_call0_call0_v117 : Ref sig .tc := ⟨.hbm, 3797, rfl⟩
abbrev main_call8_call0_call0_c_30 : Ref sig .tc := ⟨.hbm, 3798, rfl⟩
abbrev main_call8_call0_call0_v118 : Ref sig .tc := ⟨.hbm, 3799, rfl⟩
abbrev main_call8_call0_call0_v119 : Ref sig .tc := ⟨.hbm, 3800, rfl⟩
abbrev main_call8_call0_call0_v120 : Ref sig .tc := ⟨.hbm, 3801, rfl⟩
abbrev main_call8_call0_call0_v121 : Ref sig .tc := ⟨.hbm, 3802, rfl⟩
abbrev main_call8_call0_call0_v122 : Ref sig .tc := ⟨.hbm, 3803, rfl⟩
abbrev main_call8_call0_call0_c_31 : Ref sig .tc := ⟨.hbm, 3804, rfl⟩
abbrev main_call8_call0_call0_v123 : Ref sig .tc := ⟨.hbm, 3805, rfl⟩
abbrev main_call8_call0_call0_v124 : Ref sig .tc := ⟨.hbm, 3806, rfl⟩
abbrev main_call8_call0_call0_c_32 : Ref sig .tc := ⟨.hbm, 3807, rfl⟩
abbrev main_call8_call0_call0_v125 : Ref sig .tc := ⟨.hbm, 3808, rfl⟩
abbrev main_call8_call0_call0_v126 : Ref sig .tc := ⟨.hbm, 3809, rfl⟩
abbrev main_call8_call0_call0_v127 : Ref sig .tc := ⟨.hbm, 3810, rfl⟩
abbrev main_call8_call0_call0_v128 : Ref sig .tc := ⟨.hbm, 3811, rfl⟩
abbrev main_call8_call0_call0_v129 : Ref sig .tc := ⟨.hbm, 3812, rfl⟩
abbrev main_call8_call0_call0_c_33 : Ref sig .tc := ⟨.hbm, 3813, rfl⟩
abbrev main_call8_call0_call0_v130 : Ref sig .tc := ⟨.hbm, 3814, rfl⟩
abbrev main_call8_call0_call0_v131 : Ref sig .tc := ⟨.hbm, 3815, rfl⟩
abbrev main_call8_call0_call0_c_34 : Ref sig .tc := ⟨.hbm, 3816, rfl⟩
abbrev main_call8_call0_call0_v132 : Ref sig .tc := ⟨.hbm, 3817, rfl⟩
abbrev main_call8_call0_call0_v133 : Ref sig .tc := ⟨.hbm, 3818, rfl⟩
abbrev main_call8_call0_call0_v134 : Ref sig .tc := ⟨.hbm, 3819, rfl⟩
abbrev main_call8_call0_call0_v135 : Ref sig .tc := ⟨.hbm, 3820, rfl⟩
abbrev main_call8_call0_call0_v136 : Ref sig .tc := ⟨.hbm, 3821, rfl⟩
abbrev main_call8_call0_call0_v137 : Ref sig .tc := ⟨.hbm, 3822, rfl⟩
abbrev main_call8_call0_call0_v138 : Ref sig .tc := ⟨.hbm, 3823, rfl⟩
abbrev main_call8_call0_call0_v139 : Ref sig .tc := ⟨.hbm, 3824, rfl⟩
abbrev main_call8_call0_call0_c_35 : Ref sig .tc := ⟨.hbm, 3825, rfl⟩
abbrev main_call8_call0_call0_v140 : Ref sig .tc := ⟨.hbm, 3826, rfl⟩
abbrev main_call8_call0_call0_v141 : Ref sig .tc := ⟨.hbm, 3827, rfl⟩
abbrev main_call8_call0_call0_v142 : Ref sig .tc := ⟨.hbm, 3828, rfl⟩
abbrev main_call8_call0_call0_c_36 : Ref sig .tc := ⟨.hbm, 3829, rfl⟩
abbrev main_call8_call0_call0_v143 : Ref sig .tc := ⟨.hbm, 3830, rfl⟩
abbrev main_call8_call0_call0_v144 : Ref sig .tc := ⟨.hbm, 3831, rfl⟩
abbrev main_call8_call0_call0_c_37 : Ref sig .tc := ⟨.hbm, 3832, rfl⟩
abbrev main_call8_call0_call0_v145 : Ref sig .tc := ⟨.hbm, 3833, rfl⟩
abbrev main_call8_call0_call0_v146 : Ref sig .tc := ⟨.hbm, 3834, rfl⟩
abbrev main_call8_call0_call0_v147 : Ref sig .tc := ⟨.hbm, 3835, rfl⟩
abbrev main_call8_call0_call0_v148 : Ref sig .tc := ⟨.hbm, 3836, rfl⟩
abbrev main_call8_call0_call0_v149 : Ref sig .tc := ⟨.hbm, 3837, rfl⟩
abbrev main_call8_call0_call0_c_38 : Ref sig .tc := ⟨.hbm, 3838, rfl⟩
abbrev main_call8_call0_call0_v150 : Ref sig .tc := ⟨.hbm, 3839, rfl⟩
abbrev main_call8_call0_call0_v151 : Ref sig .tc := ⟨.hbm, 3840, rfl⟩
abbrev main_call8_call0_call0_c_39 : Ref sig .tc := ⟨.hbm, 3841, rfl⟩
abbrev main_call8_call0_call0_v152 : Ref sig .tc := ⟨.hbm, 3842, rfl⟩
abbrev main_call8_call0_call0_v153 : Ref sig .tc := ⟨.hbm, 3843, rfl⟩
abbrev main_call8_call0_call0_v154 : Ref sig .tc := ⟨.hbm, 3844, rfl⟩
abbrev main_call8_call0_call0_v155 : Ref sig .tc := ⟨.hbm, 3845, rfl⟩
abbrev main_call8_call0_call0_v156 : Ref sig .tc := ⟨.hbm, 3846, rfl⟩
abbrev main_call8_call0_call0_c_40 : Ref sig .tc := ⟨.hbm, 3847, rfl⟩
abbrev main_call8_call0_call0_v157 : Ref sig .tc := ⟨.hbm, 3848, rfl⟩
abbrev main_call8_call0_call0_v158 : Ref sig .tc := ⟨.hbm, 3849, rfl⟩
abbrev main_call8_call0_call0_c_41 : Ref sig .tc := ⟨.hbm, 3850, rfl⟩
abbrev main_call8_call0_call0_v159 : Ref sig .tc := ⟨.hbm, 3851, rfl⟩
abbrev main_call8_call0_call0_v160 : Ref sig .tc := ⟨.hbm, 3852, rfl⟩
abbrev main_call8_call0_call0_v161 : Ref sig .tc := ⟨.hbm, 3853, rfl⟩
abbrev main_call8_call0_call0_v162 : Ref sig .tc := ⟨.hbm, 3854, rfl⟩
abbrev main_call8_call0_call0_v163 : Ref sig .tc := ⟨.hbm, 3855, rfl⟩
abbrev main_call8_call0_call0_c_42 : Ref sig .tc := ⟨.hbm, 3856, rfl⟩
abbrev main_call8_call0_call0_v164 : Ref sig .tc := ⟨.hbm, 3857, rfl⟩
abbrev main_call8_call0_call0_v165 : Ref sig .tc := ⟨.hbm, 3858, rfl⟩
abbrev main_call8_call0_call0_c_43 : Ref sig .tc := ⟨.hbm, 3859, rfl⟩
abbrev main_call8_call0_call0_v166 : Ref sig .tc := ⟨.hbm, 3860, rfl⟩
abbrev main_call8_call0_call0_v167 : Ref sig .tc := ⟨.hbm, 3861, rfl⟩
abbrev main_call8_call0_call0_v168 : Ref sig .tc := ⟨.hbm, 3862, rfl⟩
abbrev main_call8_call0_call0_v169 : Ref sig .tc := ⟨.hbm, 3863, rfl⟩
abbrev main_call8_call0_call0_v170 : Ref sig .tc := ⟨.hbm, 3864, rfl⟩
abbrev main_call8_call0_v11_0 : Ref sig .tc := ⟨.hbm, 3865, rfl⟩
abbrev main_call8_call0_call0_v172 : Ref sig .tc := ⟨.hbm, 3866, rfl⟩
abbrev main_call8_call0_call0_v173 : Ref sig .tc := ⟨.hbm, 3867, rfl⟩
abbrev main_call8_call0_call0_c_44 : Ref sig .tc := ⟨.hbm, 3868, rfl⟩
abbrev main_call8_call0_call0_v174 : Ref sig .tc := ⟨.hbm, 3869, rfl⟩
abbrev main_call8_call0_v11_1 : Ref sig .tc := ⟨.hbm, 3870, rfl⟩
abbrev main_call8_call0_v12 : Ref sig .tc := ⟨.hbm, 3871, rfl⟩
abbrev main_call8_call0_v13 : Ref sig .tc := ⟨.hbm, 3872, rfl⟩
abbrev main_call8_v0 : Ref sig .tc := ⟨.hbm, 3873, rfl⟩
abbrev main_call8_v1 : Ref sig .tc := ⟨.hbm, 3874, rfl⟩
abbrev main_call8_v2 : Ref sig .tc := ⟨.hbm, 3875, rfl⟩
abbrev main_call8_v3 : Ref sig .tc := ⟨.hbm, 3876, rfl⟩
abbrev main_call8_v4 : Ref sig .tc := ⟨.hbm, 3877, rfl⟩
abbrev main_call8_v5 : Ref sig .tc := ⟨.hbm, 3878, rfl⟩
abbrev main_call8_v6 : Ref sig .tc := ⟨.hbm, 3879, rfl⟩
abbrev main_call8_v7 : Ref sig .tc := ⟨.hbm, 3880, rfl⟩
abbrev main_call8_v8 : Ref sig .tc := ⟨.hbm, 3881, rfl⟩
abbrev main_call8_v9 : Ref sig .tc := ⟨.hbm, 3882, rfl⟩
abbrev main_call8_c : Ref sig .tc := ⟨.hbm, 3883, rfl⟩
abbrev main_call8_v10 : Ref sig .tc := ⟨.hbm, 3884, rfl⟩
abbrev main_call8_v11 : Ref sig .tc := ⟨.hbm, 3885, rfl⟩
abbrev main_call8_c_0 : Ref sig .tc := ⟨.hbm, 3886, rfl⟩
abbrev main_call8_v12 : Ref sig .tc := ⟨.hbm, 3887, rfl⟩
abbrev main_call8_v13 : Ref sig .tc := ⟨.hbm, 3888, rfl⟩
abbrev main_call8_v14 : Ref sig .tc := ⟨.hbm, 3889, rfl⟩
abbrev main_call8_v15 : Ref sig .tc := ⟨.hbm, 3890, rfl⟩
abbrev main_call8_call1_v0 : Ref sig .tc := ⟨.hbm, 3891, rfl⟩
abbrev main_call8_call1_c : Ref sig .tc := ⟨.hbm, 3892, rfl⟩
abbrev main_call8_call1_v1 : Ref sig .tc := ⟨.hbm, 3893, rfl⟩
abbrev main_call8_call1_v2 : Ref sig .tc := ⟨.hbm, 3894, rfl⟩
abbrev main_call8_call1_v3 : Ref sig .tc := ⟨.hbm, 3895, rfl⟩
abbrev main_call8_call1_v4 : Ref sig .tc := ⟨.hbm, 3896, rfl⟩
abbrev main_call8_call1_v5 : Ref sig .tc := ⟨.hbm, 3897, rfl⟩
abbrev main_call8_call1_v6 : Ref sig .tc := ⟨.hbm, 3898, rfl⟩
abbrev main_call8_call1_c_0 : Ref sig .tc := ⟨.hbm, 3899, rfl⟩
abbrev main_call8_call1_v7 : Ref sig .tc := ⟨.hbm, 3900, rfl⟩
abbrev main_call8_call1_v8 : Ref sig .tc := ⟨.hbm, 3901, rfl⟩
abbrev main_call8_call1_c_1 : Ref sig .tc := ⟨.hbm, 3902, rfl⟩
abbrev main_call8_call1_v9 : Ref sig .tc := ⟨.hbm, 3903, rfl⟩
abbrev main_call8_call1_v10 : Ref sig .tc := ⟨.hbm, 3904, rfl⟩
abbrev main_call8_call1_v11 : Ref sig .tc := ⟨.hbm, 3905, rfl⟩
abbrev main_call8_call1_v12 : Ref sig .tc := ⟨.hbm, 3906, rfl⟩
abbrev main_call8_call1_v13 : Ref sig .tc := ⟨.hbm, 3907, rfl⟩
abbrev main_call8_call1_c_2 : Ref sig .tc := ⟨.hbm, 3908, rfl⟩
abbrev main_call8_call1_v14 : Ref sig .tc := ⟨.hbm, 3909, rfl⟩
abbrev main_call8_call1_v15 : Ref sig .tc := ⟨.hbm, 3910, rfl⟩
abbrev main_call8_call1_c_3 : Ref sig .tc := ⟨.hbm, 3911, rfl⟩
abbrev main_call8_call1_v16 : Ref sig .tc := ⟨.hbm, 3912, rfl⟩
abbrev main_call8_call1_v17 : Ref sig .tc := ⟨.hbm, 3913, rfl⟩
abbrev main_call8_call1_v18 : Ref sig .tc := ⟨.hbm, 3914, rfl⟩
abbrev main_call8_call1_v19 : Ref sig .tc := ⟨.hbm, 3915, rfl⟩
abbrev main_call8_call1_v20 : Ref sig .tc := ⟨.hbm, 3916, rfl⟩
abbrev main_call8_call1_c_4 : Ref sig .tc := ⟨.hbm, 3917, rfl⟩
abbrev main_call8_call1_v21 : Ref sig .tc := ⟨.hbm, 3918, rfl⟩
abbrev main_call8_call1_v22 : Ref sig .tc := ⟨.hbm, 3919, rfl⟩
abbrev main_call8_call1_c_5 : Ref sig .tc := ⟨.hbm, 3920, rfl⟩
abbrev main_call8_call1_v23 : Ref sig .tc := ⟨.hbm, 3921, rfl⟩
abbrev main_call8_call1_v24 : Ref sig .tc := ⟨.hbm, 3922, rfl⟩
abbrev main_call8_call1_v25 : Ref sig .tc := ⟨.hbm, 3923, rfl⟩
abbrev main_call8_call1_v26 : Ref sig .tc := ⟨.hbm, 3924, rfl⟩
abbrev main_call8_call1_v27 : Ref sig .tc := ⟨.hbm, 3925, rfl⟩
abbrev main_call8_call1_c_6 : Ref sig .tc := ⟨.hbm, 3926, rfl⟩
abbrev main_call8_call1_v28 : Ref sig .tc := ⟨.hbm, 3927, rfl⟩
abbrev main_call8_call1_v29 : Ref sig .tc := ⟨.hbm, 3928, rfl⟩
abbrev main_call8_call1_c_7 : Ref sig .tc := ⟨.hbm, 3929, rfl⟩
abbrev main_call8_call1_v30 : Ref sig .tc := ⟨.hbm, 3930, rfl⟩
abbrev main_call8_call1_v31 : Ref sig .tc := ⟨.hbm, 3931, rfl⟩
abbrev main_call8_call1_v32 : Ref sig .tc := ⟨.hbm, 3932, rfl⟩
abbrev main_call8_call1_v33 : Ref sig .tc := ⟨.hbm, 3933, rfl⟩
abbrev main_call8_call1_v34 : Ref sig .tc := ⟨.hbm, 3934, rfl⟩
abbrev main_call8_call1_v35 : Ref sig .tc := ⟨.hbm, 3935, rfl⟩
abbrev main_call8_call1_v36 : Ref sig .tc := ⟨.hbm, 3936, rfl⟩
abbrev main_call8_call1_v37 : Ref sig .tc := ⟨.hbm, 3937, rfl⟩
abbrev main_call8_call1_c_8 : Ref sig .tc := ⟨.hbm, 3938, rfl⟩
abbrev main_call8_call1_v38 : Ref sig .tc := ⟨.hbm, 3939, rfl⟩
abbrev main_call8_call1_v39 : Ref sig .tc := ⟨.hbm, 3940, rfl⟩
abbrev main_call8_call1_v40 : Ref sig .tc := ⟨.hbm, 3941, rfl⟩
abbrev main_call8_call1_c_9 : Ref sig .tc := ⟨.hbm, 3942, rfl⟩
abbrev main_call8_call1_v41 : Ref sig .tc := ⟨.hbm, 3943, rfl⟩
abbrev main_call8_call1_v42 : Ref sig .tc := ⟨.hbm, 3944, rfl⟩
abbrev main_call8_call1_c_10 : Ref sig .tc := ⟨.hbm, 3945, rfl⟩
abbrev main_call8_call1_v43 : Ref sig .tc := ⟨.hbm, 3946, rfl⟩
abbrev main_call8_call1_v44 : Ref sig .tc := ⟨.hbm, 3947, rfl⟩
abbrev main_call8_call1_v45 : Ref sig .tc := ⟨.hbm, 3948, rfl⟩
abbrev main_call8_call1_v46 : Ref sig .tc := ⟨.hbm, 3949, rfl⟩
abbrev main_call8_call1_v47 : Ref sig .tc := ⟨.hbm, 3950, rfl⟩
abbrev main_call8_call1_c_11 : Ref sig .tc := ⟨.hbm, 3951, rfl⟩
abbrev main_call8_call1_v48 : Ref sig .tc := ⟨.hbm, 3952, rfl⟩
abbrev main_call8_call1_v49 : Ref sig .tc := ⟨.hbm, 3953, rfl⟩
abbrev main_call8_call1_c_12 : Ref sig .tc := ⟨.hbm, 3954, rfl⟩
abbrev main_call8_call1_v50 : Ref sig .tc := ⟨.hbm, 3955, rfl⟩
abbrev main_call8_call1_v51 : Ref sig .tc := ⟨.hbm, 3956, rfl⟩
abbrev main_call8_call1_v52 : Ref sig .tc := ⟨.hbm, 3957, rfl⟩
abbrev main_call8_call1_v53 : Ref sig .tc := ⟨.hbm, 3958, rfl⟩
abbrev main_call8_call1_v54 : Ref sig .tc := ⟨.hbm, 3959, rfl⟩
abbrev main_call8_call1_c_13 : Ref sig .tc := ⟨.hbm, 3960, rfl⟩
abbrev main_call8_call1_v55 : Ref sig .tc := ⟨.hbm, 3961, rfl⟩
abbrev main_call8_call1_v56 : Ref sig .tc := ⟨.hbm, 3962, rfl⟩
abbrev main_call8_call1_c_14 : Ref sig .tc := ⟨.hbm, 3963, rfl⟩
abbrev main_call8_call1_v57 : Ref sig .tc := ⟨.hbm, 3964, rfl⟩
abbrev main_call8_call1_v58 : Ref sig .tc := ⟨.hbm, 3965, rfl⟩
abbrev main_call8_call1_v59 : Ref sig .tc := ⟨.hbm, 3966, rfl⟩
abbrev main_call8_call1_v60 : Ref sig .tc := ⟨.hbm, 3967, rfl⟩
abbrev main_call8_call1_v61 : Ref sig .tc := ⟨.hbm, 3968, rfl⟩
abbrev main_call8_call1_c_15 : Ref sig .tc := ⟨.hbm, 3969, rfl⟩
abbrev main_call8_call1_v62 : Ref sig .tc := ⟨.hbm, 3970, rfl⟩
abbrev main_call8_call1_v63 : Ref sig .tc := ⟨.hbm, 3971, rfl⟩
abbrev main_call8_call1_c_16 : Ref sig .tc := ⟨.hbm, 3972, rfl⟩
abbrev main_call8_call1_v64 : Ref sig .tc := ⟨.hbm, 3973, rfl⟩
abbrev main_call8_call1_v65 : Ref sig .tc := ⟨.hbm, 3974, rfl⟩
abbrev main_call8_call1_v66 : Ref sig .tc := ⟨.hbm, 3975, rfl⟩
abbrev main_call8_call1_v67 : Ref sig .tc := ⟨.hbm, 3976, rfl⟩
abbrev main_call8_call1_v68 : Ref sig .tc := ⟨.hbm, 3977, rfl⟩
abbrev main_call8_call1_v69 : Ref sig .tc := ⟨.hbm, 3978, rfl⟩
abbrev main_call8_call1_v70 : Ref sig .tc := ⟨.hbm, 3979, rfl⟩
abbrev main_call8_call1_v71 : Ref sig .tc := ⟨.hbm, 3980, rfl⟩
abbrev main_call8_call1_c_17 : Ref sig .tc := ⟨.hbm, 3981, rfl⟩
abbrev main_call8_call1_v72 : Ref sig .tc := ⟨.hbm, 3982, rfl⟩
abbrev main_call8_call1_v73 : Ref sig .tc := ⟨.hbm, 3983, rfl⟩
abbrev main_call8_call1_v74 : Ref sig .tc := ⟨.hbm, 3984, rfl⟩
abbrev main_call8_call1_c_18 : Ref sig .tc := ⟨.hbm, 3985, rfl⟩
abbrev main_call8_call1_v75 : Ref sig .tc := ⟨.hbm, 3986, rfl⟩
abbrev main_call8_call1_v76 : Ref sig .tc := ⟨.hbm, 3987, rfl⟩
abbrev main_call8_call1_c_19 : Ref sig .tc := ⟨.hbm, 3988, rfl⟩
abbrev main_call8_call1_v77 : Ref sig .tc := ⟨.hbm, 3989, rfl⟩
abbrev main_call8_call1_v78 : Ref sig .tc := ⟨.hbm, 3990, rfl⟩
abbrev main_call8_call1_v79 : Ref sig .tc := ⟨.hbm, 3991, rfl⟩
abbrev main_call8_call1_v80 : Ref sig .tc := ⟨.hbm, 3992, rfl⟩
abbrev main_call8_call1_v81 : Ref sig .tc := ⟨.hbm, 3993, rfl⟩
abbrev main_call8_call1_c_20 : Ref sig .tc := ⟨.hbm, 3994, rfl⟩
abbrev main_call8_call1_v82 : Ref sig .tc := ⟨.hbm, 3995, rfl⟩
abbrev main_call8_call1_v83 : Ref sig .tc := ⟨.hbm, 3996, rfl⟩
abbrev main_call8_call1_c_21 : Ref sig .tc := ⟨.hbm, 3997, rfl⟩
abbrev main_call8_call1_v84 : Ref sig .tc := ⟨.hbm, 3998, rfl⟩
abbrev main_call8_call1_v85 : Ref sig .tc := ⟨.hbm, 3999, rfl⟩
abbrev main_call8_call1_v86 : Ref sig .tc := ⟨.hbm, 4000, rfl⟩
abbrev main_call8_call1_v87 : Ref sig .tc := ⟨.hbm, 4001, rfl⟩
abbrev main_call8_call1_v88 : Ref sig .tc := ⟨.hbm, 4002, rfl⟩
abbrev main_call8_call1_c_22 : Ref sig .tc := ⟨.hbm, 4003, rfl⟩
abbrev main_call8_call1_v89 : Ref sig .tc := ⟨.hbm, 4004, rfl⟩
abbrev main_call8_call1_v90 : Ref sig .tc := ⟨.hbm, 4005, rfl⟩
abbrev main_call8_call1_c_23 : Ref sig .tc := ⟨.hbm, 4006, rfl⟩
abbrev main_call8_call1_v91 : Ref sig .tc := ⟨.hbm, 4007, rfl⟩
abbrev main_call8_call1_v92 : Ref sig .tc := ⟨.hbm, 4008, rfl⟩
abbrev main_call8_call1_v93 : Ref sig .tc := ⟨.hbm, 4009, rfl⟩
abbrev main_call8_call1_v94 : Ref sig .tc := ⟨.hbm, 4010, rfl⟩
abbrev main_call8_call1_v95 : Ref sig .tc := ⟨.hbm, 4011, rfl⟩
abbrev main_call8_call1_c_24 : Ref sig .tc := ⟨.hbm, 4012, rfl⟩
abbrev main_call8_call1_v96 : Ref sig .tc := ⟨.hbm, 4013, rfl⟩
abbrev main_call8_call1_v97 : Ref sig .tc := ⟨.hbm, 4014, rfl⟩
abbrev main_call8_call1_c_25 : Ref sig .tc := ⟨.hbm, 4015, rfl⟩
abbrev main_call8_call1_v98 : Ref sig .tc := ⟨.hbm, 4016, rfl⟩
abbrev main_call8_call1_v99 : Ref sig .tc := ⟨.hbm, 4017, rfl⟩
abbrev main_call8_call1_v100 : Ref sig .tc := ⟨.hbm, 4018, rfl⟩
abbrev main_call8_call1_v101 : Ref sig .tc := ⟨.hbm, 4019, rfl⟩
abbrev main_call8_call1_v102 : Ref sig .tc := ⟨.hbm, 4020, rfl⟩
abbrev main_call8_call1_v103 : Ref sig .tc := ⟨.hbm, 4021, rfl⟩
abbrev main_call8_call1_v104 : Ref sig .tc := ⟨.hbm, 4022, rfl⟩
abbrev main_call8_call1_v105 : Ref sig .tc := ⟨.hbm, 4023, rfl⟩
abbrev main_call8_call1_c_26 : Ref sig .tc := ⟨.hbm, 4024, rfl⟩
abbrev main_call8_call1_v106 : Ref sig .tc := ⟨.hbm, 4025, rfl⟩
abbrev main_call8_call1_v107 : Ref sig .tc := ⟨.hbm, 4026, rfl⟩
abbrev main_call8_call1_v108 : Ref sig .tc := ⟨.hbm, 4027, rfl⟩
abbrev main_call8_call1_c_27 : Ref sig .tc := ⟨.hbm, 4028, rfl⟩
abbrev main_call8_call1_v109 : Ref sig .tc := ⟨.hbm, 4029, rfl⟩
abbrev main_call8_call1_v110 : Ref sig .tc := ⟨.hbm, 4030, rfl⟩
abbrev main_call8_call1_c_28 : Ref sig .tc := ⟨.hbm, 4031, rfl⟩
abbrev main_call8_call1_v111 : Ref sig .tc := ⟨.hbm, 4032, rfl⟩
abbrev main_call8_call1_v112 : Ref sig .tc := ⟨.hbm, 4033, rfl⟩
abbrev main_call8_call1_v113 : Ref sig .tc := ⟨.hbm, 4034, rfl⟩
abbrev main_call8_call1_v114 : Ref sig .tc := ⟨.hbm, 4035, rfl⟩
abbrev main_call8_call1_v115 : Ref sig .tc := ⟨.hbm, 4036, rfl⟩
abbrev main_call8_call1_c_29 : Ref sig .tc := ⟨.hbm, 4037, rfl⟩
abbrev main_call8_call1_v116 : Ref sig .tc := ⟨.hbm, 4038, rfl⟩
abbrev main_call8_call1_v117 : Ref sig .tc := ⟨.hbm, 4039, rfl⟩
abbrev main_call8_call1_c_30 : Ref sig .tc := ⟨.hbm, 4040, rfl⟩
abbrev main_call8_call1_v118 : Ref sig .tc := ⟨.hbm, 4041, rfl⟩
abbrev main_call8_call1_v119 : Ref sig .tc := ⟨.hbm, 4042, rfl⟩
abbrev main_call8_call1_v120 : Ref sig .tc := ⟨.hbm, 4043, rfl⟩
abbrev main_call8_call1_v121 : Ref sig .tc := ⟨.hbm, 4044, rfl⟩
abbrev main_call8_call1_v122 : Ref sig .tc := ⟨.hbm, 4045, rfl⟩
abbrev main_call8_call1_c_31 : Ref sig .tc := ⟨.hbm, 4046, rfl⟩
abbrev main_call8_call1_v123 : Ref sig .tc := ⟨.hbm, 4047, rfl⟩
abbrev main_call8_call1_v124 : Ref sig .tc := ⟨.hbm, 4048, rfl⟩
abbrev main_call8_call1_c_32 : Ref sig .tc := ⟨.hbm, 4049, rfl⟩
abbrev main_call8_call1_v125 : Ref sig .tc := ⟨.hbm, 4050, rfl⟩
abbrev main_call8_call1_v126 : Ref sig .tc := ⟨.hbm, 4051, rfl⟩
abbrev main_call8_call1_v127 : Ref sig .tc := ⟨.hbm, 4052, rfl⟩
abbrev main_call8_call1_v128 : Ref sig .tc := ⟨.hbm, 4053, rfl⟩
abbrev main_call8_call1_v129 : Ref sig .tc := ⟨.hbm, 4054, rfl⟩
abbrev main_call8_call1_c_33 : Ref sig .tc := ⟨.hbm, 4055, rfl⟩
abbrev main_call8_call1_v130 : Ref sig .tc := ⟨.hbm, 4056, rfl⟩
abbrev main_call8_call1_v131 : Ref sig .tc := ⟨.hbm, 4057, rfl⟩
abbrev main_call8_call1_c_34 : Ref sig .tc := ⟨.hbm, 4058, rfl⟩
abbrev main_call8_call1_v132 : Ref sig .tc := ⟨.hbm, 4059, rfl⟩
abbrev main_call8_call1_v133 : Ref sig .tc := ⟨.hbm, 4060, rfl⟩
abbrev main_call8_call1_v134 : Ref sig .tc := ⟨.hbm, 4061, rfl⟩
abbrev main_call8_call1_v135 : Ref sig .tc := ⟨.hbm, 4062, rfl⟩
abbrev main_call8_call1_v136 : Ref sig .tc := ⟨.hbm, 4063, rfl⟩
abbrev main_call8_call1_v137 : Ref sig .tc := ⟨.hbm, 4064, rfl⟩
abbrev main_call8_call1_v138 : Ref sig .tc := ⟨.hbm, 4065, rfl⟩
abbrev main_call8_call1_v139 : Ref sig .tc := ⟨.hbm, 4066, rfl⟩
abbrev main_call8_call1_c_35 : Ref sig .tc := ⟨.hbm, 4067, rfl⟩
abbrev main_call8_call1_v140 : Ref sig .tc := ⟨.hbm, 4068, rfl⟩
abbrev main_call8_call1_v141 : Ref sig .tc := ⟨.hbm, 4069, rfl⟩
abbrev main_call8_call1_v142 : Ref sig .tc := ⟨.hbm, 4070, rfl⟩
abbrev main_call8_call1_c_36 : Ref sig .tc := ⟨.hbm, 4071, rfl⟩
abbrev main_call8_call1_v143 : Ref sig .tc := ⟨.hbm, 4072, rfl⟩
abbrev main_call8_call1_v144 : Ref sig .tc := ⟨.hbm, 4073, rfl⟩
abbrev main_call8_call1_c_37 : Ref sig .tc := ⟨.hbm, 4074, rfl⟩
abbrev main_call8_call1_v145 : Ref sig .tc := ⟨.hbm, 4075, rfl⟩
abbrev main_call8_call1_v146 : Ref sig .tc := ⟨.hbm, 4076, rfl⟩
abbrev main_call8_call1_v147 : Ref sig .tc := ⟨.hbm, 4077, rfl⟩
abbrev main_call8_call1_v148 : Ref sig .tc := ⟨.hbm, 4078, rfl⟩
abbrev main_call8_call1_v149 : Ref sig .tc := ⟨.hbm, 4079, rfl⟩
abbrev main_call8_call1_c_38 : Ref sig .tc := ⟨.hbm, 4080, rfl⟩
abbrev main_call8_call1_v150 : Ref sig .tc := ⟨.hbm, 4081, rfl⟩
abbrev main_call8_call1_v151 : Ref sig .tc := ⟨.hbm, 4082, rfl⟩
abbrev main_call8_call1_c_39 : Ref sig .tc := ⟨.hbm, 4083, rfl⟩
abbrev main_call8_call1_v152 : Ref sig .tc := ⟨.hbm, 4084, rfl⟩
abbrev main_call8_call1_v153 : Ref sig .tc := ⟨.hbm, 4085, rfl⟩
abbrev main_call8_call1_v154 : Ref sig .tc := ⟨.hbm, 4086, rfl⟩
abbrev main_call8_call1_v155 : Ref sig .tc := ⟨.hbm, 4087, rfl⟩
abbrev main_call8_call1_v156 : Ref sig .tc := ⟨.hbm, 4088, rfl⟩
abbrev main_call8_call1_c_40 : Ref sig .tc := ⟨.hbm, 4089, rfl⟩
abbrev main_call8_call1_v157 : Ref sig .tc := ⟨.hbm, 4090, rfl⟩
abbrev main_call8_call1_v158 : Ref sig .tc := ⟨.hbm, 4091, rfl⟩
abbrev main_call8_call1_c_41 : Ref sig .tc := ⟨.hbm, 4092, rfl⟩
abbrev main_call8_call1_v159 : Ref sig .tc := ⟨.hbm, 4093, rfl⟩
abbrev main_call8_call1_v160 : Ref sig .tc := ⟨.hbm, 4094, rfl⟩
abbrev main_call8_call1_v161 : Ref sig .tc := ⟨.hbm, 4095, rfl⟩

abbrev main_call8_call1_v162 : Ref sig .tc := ⟨.hbm, 4096, rfl⟩
abbrev main_call8_call1_v163 : Ref sig .tc := ⟨.hbm, 4097, rfl⟩
abbrev main_call8_call1_c_42 : Ref sig .tc := ⟨.hbm, 4098, rfl⟩
abbrev main_call8_call1_v164 : Ref sig .tc := ⟨.hbm, 4099, rfl⟩
abbrev main_call8_call1_v165 : Ref sig .tc := ⟨.hbm, 4100, rfl⟩
abbrev main_call8_call1_c_43 : Ref sig .tc := ⟨.hbm, 4101, rfl⟩
abbrev main_call8_call1_v166 : Ref sig .tc := ⟨.hbm, 4102, rfl⟩
abbrev main_call8_call1_v167 : Ref sig .tc := ⟨.hbm, 4103, rfl⟩
abbrev main_call8_call1_v168 : Ref sig .tc := ⟨.hbm, 4104, rfl⟩
abbrev main_call8_call1_v169 : Ref sig .tc := ⟨.hbm, 4105, rfl⟩
abbrev main_call8_call1_v170 : Ref sig .tc := ⟨.hbm, 4106, rfl⟩
abbrev main_call8_v16_0 : Ref sig .tc := ⟨.hbm, 4107, rfl⟩
abbrev main_call8_call1_v172 : Ref sig .tc := ⟨.hbm, 4108, rfl⟩
abbrev main_call8_call1_v173 : Ref sig .tc := ⟨.hbm, 4109, rfl⟩
abbrev main_call8_call1_c_44 : Ref sig .tc := ⟨.hbm, 4110, rfl⟩
abbrev main_call8_call1_v174 : Ref sig .tc := ⟨.hbm, 4111, rfl⟩
abbrev main_call8_v16_1 : Ref sig .tc := ⟨.hbm, 4112, rfl⟩
abbrev main_call8_v17 : Ref sig .tc := ⟨.hbm, 4113, rfl⟩
abbrev main_call8_v18_0 : Ref sig .tc := ⟨.hbm, 4114, rfl⟩
abbrev main_v42 : Ref sig .tc := ⟨.hbm, 4115, rfl⟩
abbrev main_v43 : Ref sig .tc := ⟨.hbm, 4116, rfl⟩
abbrev main_v44 : Ref sig .tc := ⟨.hbm, 4117, rfl⟩
abbrev main_v45 : Ref sig .tc := ⟨.hbm, 4118, rfl⟩
abbrev main_call9_call0_v0 : Ref sig .tc := ⟨.hbm, 4119, rfl⟩
abbrev main_call9_call0_v1 : Ref sig .tc := ⟨.hbm, 4120, rfl⟩
abbrev main_call9_call0_v2 : Ref sig .tc := ⟨.hbm, 4121, rfl⟩
abbrev main_call9_call0_v3 : Ref sig .tc := ⟨.hbm, 4122, rfl⟩
abbrev main_call9_call0_v4 : Ref sig .tc := ⟨.hbm, 4123, rfl⟩
abbrev main_call9_call0_c : Ref sig .tc := ⟨.hbm, 4124, rfl⟩
abbrev main_call9_call0_v5 : Ref sig .tc := ⟨.hbm, 4125, rfl⟩
abbrev main_call9_call0_v6 : Ref sig .tc := ⟨.hbm, 4126, rfl⟩
abbrev main_call9_call0_c_0 : Ref sig .tc := ⟨.hbm, 4127, rfl⟩
abbrev main_call9_call0_v7 : Ref sig .tc := ⟨.hbm, 4128, rfl⟩
abbrev main_call9_call0_v8 : Ref sig .tc := ⟨.hbm, 4129, rfl⟩
abbrev main_call9_call0_v9 : Ref sig .tc := ⟨.hbm, 4130, rfl⟩
abbrev main_call9_call0_v10 : Ref sig .tc := ⟨.hbm, 4131, rfl⟩
abbrev main_call9_call0_call0_v0 : Ref sig .tc := ⟨.hbm, 4132, rfl⟩
abbrev main_call9_call0_call0_c : Ref sig .tc := ⟨.hbm, 4133, rfl⟩
abbrev main_call9_call0_call0_v1 : Ref sig .tc := ⟨.hbm, 4134, rfl⟩
abbrev main_call9_call0_call0_v2 : Ref sig .tc := ⟨.hbm, 4135, rfl⟩
abbrev main_call9_call0_call0_v3 : Ref sig .tc := ⟨.hbm, 4136, rfl⟩
abbrev main_call9_call0_call0_v4 : Ref sig .tc := ⟨.hbm, 4137, rfl⟩
abbrev main_call9_call0_call0_v5 : Ref sig .tc := ⟨.hbm, 4138, rfl⟩
abbrev main_call9_call0_call0_v6 : Ref sig .tc := ⟨.hbm, 4139, rfl⟩
abbrev main_call9_call0_call0_c_0 : Ref sig .tc := ⟨.hbm, 4140, rfl⟩
abbrev main_call9_call0_call0_v7 : Ref sig .tc := ⟨.hbm, 4141, rfl⟩
abbrev main_call9_call0_call0_v8 : Ref sig .tc := ⟨.hbm, 4142, rfl⟩
abbrev main_call9_call0_call0_c_1 : Ref sig .tc := ⟨.hbm, 4143, rfl⟩
abbrev main_call9_call0_call0_v9 : Ref sig .tc := ⟨.hbm, 4144, rfl⟩
abbrev main_call9_call0_call0_v10 : Ref sig .tc := ⟨.hbm, 4145, rfl⟩
abbrev main_call9_call0_call0_v11 : Ref sig .tc := ⟨.hbm, 4146, rfl⟩
abbrev main_call9_call0_call0_v12 : Ref sig .tc := ⟨.hbm, 4147, rfl⟩
abbrev main_call9_call0_call0_v13 : Ref sig .tc := ⟨.hbm, 4148, rfl⟩
abbrev main_call9_call0_call0_c_2 : Ref sig .tc := ⟨.hbm, 4149, rfl⟩
abbrev main_call9_call0_call0_v14 : Ref sig .tc := ⟨.hbm, 4150, rfl⟩
abbrev main_call9_call0_call0_v15 : Ref sig .tc := ⟨.hbm, 4151, rfl⟩
abbrev main_call9_call0_call0_c_3 : Ref sig .tc := ⟨.hbm, 4152, rfl⟩
abbrev main_call9_call0_call0_v16 : Ref sig .tc := ⟨.hbm, 4153, rfl⟩
abbrev main_call9_call0_call0_v17 : Ref sig .tc := ⟨.hbm, 4154, rfl⟩
abbrev main_call9_call0_call0_v18 : Ref sig .tc := ⟨.hbm, 4155, rfl⟩
abbrev main_call9_call0_call0_v19 : Ref sig .tc := ⟨.hbm, 4156, rfl⟩
abbrev main_call9_call0_call0_v20 : Ref sig .tc := ⟨.hbm, 4157, rfl⟩
abbrev main_call9_call0_call0_c_4 : Ref sig .tc := ⟨.hbm, 4158, rfl⟩
abbrev main_call9_call0_call0_v21 : Ref sig .tc := ⟨.hbm, 4159, rfl⟩
abbrev main_call9_call0_call0_v22 : Ref sig .tc := ⟨.hbm, 4160, rfl⟩
abbrev main_call9_call0_call0_c_5 : Ref sig .tc := ⟨.hbm, 4161, rfl⟩
abbrev main_call9_call0_call0_v23 : Ref sig .tc := ⟨.hbm, 4162, rfl⟩
abbrev main_call9_call0_call0_v24 : Ref sig .tc := ⟨.hbm, 4163, rfl⟩
abbrev main_call9_call0_call0_v25 : Ref sig .tc := ⟨.hbm, 4164, rfl⟩
abbrev main_call9_call0_call0_v26 : Ref sig .tc := ⟨.hbm, 4165, rfl⟩
abbrev main_call9_call0_call0_v27 : Ref sig .tc := ⟨.hbm, 4166, rfl⟩
abbrev main_call9_call0_call0_c_6 : Ref sig .tc := ⟨.hbm, 4167, rfl⟩
abbrev main_call9_call0_call0_v28 : Ref sig .tc := ⟨.hbm, 4168, rfl⟩
abbrev main_call9_call0_call0_v29 : Ref sig .tc := ⟨.hbm, 4169, rfl⟩
abbrev main_call9_call0_call0_c_7 : Ref sig .tc := ⟨.hbm, 4170, rfl⟩
abbrev main_call9_call0_call0_v30 : Ref sig .tc := ⟨.hbm, 4171, rfl⟩
abbrev main_call9_call0_call0_v31 : Ref sig .tc := ⟨.hbm, 4172, rfl⟩
abbrev main_call9_call0_call0_v32 : Ref sig .tc := ⟨.hbm, 4173, rfl⟩
abbrev main_call9_call0_call0_v33 : Ref sig .tc := ⟨.hbm, 4174, rfl⟩
abbrev main_call9_call0_call0_v34 : Ref sig .tc := ⟨.hbm, 4175, rfl⟩
abbrev main_call9_call0_call0_v35 : Ref sig .tc := ⟨.hbm, 4176, rfl⟩
abbrev main_call9_call0_call0_v36 : Ref sig .tc := ⟨.hbm, 4177, rfl⟩
abbrev main_call9_call0_call0_v37 : Ref sig .tc := ⟨.hbm, 4178, rfl⟩
abbrev main_call9_call0_call0_c_8 : Ref sig .tc := ⟨.hbm, 4179, rfl⟩
abbrev main_call9_call0_call0_v38 : Ref sig .tc := ⟨.hbm, 4180, rfl⟩
abbrev main_call9_call0_call0_v39 : Ref sig .tc := ⟨.hbm, 4181, rfl⟩
abbrev main_call9_call0_call0_v40 : Ref sig .tc := ⟨.hbm, 4182, rfl⟩
abbrev main_call9_call0_call0_c_9 : Ref sig .tc := ⟨.hbm, 4183, rfl⟩
abbrev main_call9_call0_call0_v41 : Ref sig .tc := ⟨.hbm, 4184, rfl⟩
abbrev main_call9_call0_call0_v42 : Ref sig .tc := ⟨.hbm, 4185, rfl⟩
abbrev main_call9_call0_call0_c_10 : Ref sig .tc := ⟨.hbm, 4186, rfl⟩
abbrev main_call9_call0_call0_v43 : Ref sig .tc := ⟨.hbm, 4187, rfl⟩
abbrev main_call9_call0_call0_v44 : Ref sig .tc := ⟨.hbm, 4188, rfl⟩
abbrev main_call9_call0_call0_v45 : Ref sig .tc := ⟨.hbm, 4189, rfl⟩
abbrev main_call9_call0_call0_v46 : Ref sig .tc := ⟨.hbm, 4190, rfl⟩
abbrev main_call9_call0_call0_v47 : Ref sig .tc := ⟨.hbm, 4191, rfl⟩
abbrev main_call9_call0_call0_c_11 : Ref sig .tc := ⟨.hbm, 4192, rfl⟩
abbrev main_call9_call0_call0_v48 : Ref sig .tc := ⟨.hbm, 4193, rfl⟩
abbrev main_call9_call0_call0_v49 : Ref sig .tc := ⟨.hbm, 4194, rfl⟩
abbrev main_call9_call0_call0_c_12 : Ref sig .tc := ⟨.hbm, 4195, rfl⟩
abbrev main_call9_call0_call0_v50 : Ref sig .tc := ⟨.hbm, 4196, rfl⟩
abbrev main_call9_call0_call0_v51 : Ref sig .tc := ⟨.hbm, 4197, rfl⟩
abbrev main_call9_call0_call0_v52 : Ref sig .tc := ⟨.hbm, 4198, rfl⟩
abbrev main_call9_call0_call0_v53 : Ref sig .tc := ⟨.hbm, 4199, rfl⟩
abbrev main_call9_call0_call0_v54 : Ref sig .tc := ⟨.hbm, 4200, rfl⟩
abbrev main_call9_call0_call0_c_13 : Ref sig .tc := ⟨.hbm, 4201, rfl⟩
abbrev main_call9_call0_call0_v55 : Ref sig .tc := ⟨.hbm, 4202, rfl⟩
abbrev main_call9_call0_call0_v56 : Ref sig .tc := ⟨.hbm, 4203, rfl⟩
abbrev main_call9_call0_call0_c_14 : Ref sig .tc := ⟨.hbm, 4204, rfl⟩
abbrev main_call9_call0_call0_v57 : Ref sig .tc := ⟨.hbm, 4205, rfl⟩
abbrev main_call9_call0_call0_v58 : Ref sig .tc := ⟨.hbm, 4206, rfl⟩
abbrev main_call9_call0_call0_v59 : Ref sig .tc := ⟨.hbm, 4207, rfl⟩
abbrev main_call9_call0_call0_v60 : Ref sig .tc := ⟨.hbm, 4208, rfl⟩
abbrev main_call9_call0_call0_v61 : Ref sig .tc := ⟨.hbm, 4209, rfl⟩
abbrev main_call9_call0_call0_c_15 : Ref sig .tc := ⟨.hbm, 4210, rfl⟩
abbrev main_call9_call0_call0_v62 : Ref sig .tc := ⟨.hbm, 4211, rfl⟩
abbrev main_call9_call0_call0_v63 : Ref sig .tc := ⟨.hbm, 4212, rfl⟩
abbrev main_call9_call0_call0_c_16 : Ref sig .tc := ⟨.hbm, 4213, rfl⟩
abbrev main_call9_call0_call0_v64 : Ref sig .tc := ⟨.hbm, 4214, rfl⟩
abbrev main_call9_call0_call0_v65 : Ref sig .tc := ⟨.hbm, 4215, rfl⟩
abbrev main_call9_call0_call0_v66 : Ref sig .tc := ⟨.hbm, 4216, rfl⟩
abbrev main_call9_call0_call0_v67 : Ref sig .tc := ⟨.hbm, 4217, rfl⟩
abbrev main_call9_call0_call0_v68 : Ref sig .tc := ⟨.hbm, 4218, rfl⟩
abbrev main_call9_call0_call0_v69 : Ref sig .tc := ⟨.hbm, 4219, rfl⟩
abbrev main_call9_call0_call0_v70 : Ref sig .tc := ⟨.hbm, 4220, rfl⟩
abbrev main_call9_call0_call0_v71 : Ref sig .tc := ⟨.hbm, 4221, rfl⟩
abbrev main_call9_call0_call0_c_17 : Ref sig .tc := ⟨.hbm, 4222, rfl⟩
abbrev main_call9_call0_call0_v72 : Ref sig .tc := ⟨.hbm, 4223, rfl⟩
abbrev main_call9_call0_call0_v73 : Ref sig .tc := ⟨.hbm, 4224, rfl⟩
abbrev main_call9_call0_call0_v74 : Ref sig .tc := ⟨.hbm, 4225, rfl⟩
abbrev main_call9_call0_call0_c_18 : Ref sig .tc := ⟨.hbm, 4226, rfl⟩
abbrev main_call9_call0_call0_v75 : Ref sig .tc := ⟨.hbm, 4227, rfl⟩
abbrev main_call9_call0_call0_v76 : Ref sig .tc := ⟨.hbm, 4228, rfl⟩
abbrev main_call9_call0_call0_c_19 : Ref sig .tc := ⟨.hbm, 4229, rfl⟩
abbrev main_call9_call0_call0_v77 : Ref sig .tc := ⟨.hbm, 4230, rfl⟩
abbrev main_call9_call0_call0_v78 : Ref sig .tc := ⟨.hbm, 4231, rfl⟩
abbrev main_call9_call0_call0_v79 : Ref sig .tc := ⟨.hbm, 4232, rfl⟩
abbrev main_call9_call0_call0_v80 : Ref sig .tc := ⟨.hbm, 4233, rfl⟩
abbrev main_call9_call0_call0_v81 : Ref sig .tc := ⟨.hbm, 4234, rfl⟩
abbrev main_call9_call0_call0_c_20 : Ref sig .tc := ⟨.hbm, 4235, rfl⟩
abbrev main_call9_call0_call0_v82 : Ref sig .tc := ⟨.hbm, 4236, rfl⟩
abbrev main_call9_call0_call0_v83 : Ref sig .tc := ⟨.hbm, 4237, rfl⟩
abbrev main_call9_call0_call0_c_21 : Ref sig .tc := ⟨.hbm, 4238, rfl⟩
abbrev main_call9_call0_call0_v84 : Ref sig .tc := ⟨.hbm, 4239, rfl⟩
abbrev main_call9_call0_call0_v85 : Ref sig .tc := ⟨.hbm, 4240, rfl⟩
abbrev main_call9_call0_call0_v86 : Ref sig .tc := ⟨.hbm, 4241, rfl⟩
abbrev main_call9_call0_call0_v87 : Ref sig .tc := ⟨.hbm, 4242, rfl⟩
abbrev main_call9_call0_call0_v88 : Ref sig .tc := ⟨.hbm, 4243, rfl⟩
abbrev main_call9_call0_call0_c_22 : Ref sig .tc := ⟨.hbm, 4244, rfl⟩
abbrev main_call9_call0_call0_v89 : Ref sig .tc := ⟨.hbm, 4245, rfl⟩
abbrev main_call9_call0_call0_v90 : Ref sig .tc := ⟨.hbm, 4246, rfl⟩
abbrev main_call9_call0_call0_c_23 : Ref sig .tc := ⟨.hbm, 4247, rfl⟩
abbrev main_call9_call0_call0_v91 : Ref sig .tc := ⟨.hbm, 4248, rfl⟩
abbrev main_call9_call0_call0_v92 : Ref sig .tc := ⟨.hbm, 4249, rfl⟩
abbrev main_call9_call0_call0_v93 : Ref sig .tc := ⟨.hbm, 4250, rfl⟩
abbrev main_call9_call0_call0_v94 : Ref sig .tc := ⟨.hbm, 4251, rfl⟩
abbrev main_call9_call0_call0_v95 : Ref sig .tc := ⟨.hbm, 4252, rfl⟩
abbrev main_call9_call0_call0_c_24 : Ref sig .tc := ⟨.hbm, 4253, rfl⟩
abbrev main_call9_call0_call0_v96 : Ref sig .tc := ⟨.hbm, 4254, rfl⟩
abbrev main_call9_call0_call0_v97 : Ref sig .tc := ⟨.hbm, 4255, rfl⟩
abbrev main_call9_call0_call0_c_25 : Ref sig .tc := ⟨.hbm, 4256, rfl⟩
abbrev main_call9_call0_call0_v98 : Ref sig .tc := ⟨.hbm, 4257, rfl⟩
abbrev main_call9_call0_call0_v99 : Ref sig .tc := ⟨.hbm, 4258, rfl⟩
abbrev main_call9_call0_call0_v100 : Ref sig .tc := ⟨.hbm, 4259, rfl⟩
abbrev main_call9_call0_call0_v101 : Ref sig .tc := ⟨.hbm, 4260, rfl⟩
abbrev main_call9_call0_call0_v102 : Ref sig .tc := ⟨.hbm, 4261, rfl⟩
abbrev main_call9_call0_call0_v103 : Ref sig .tc := ⟨.hbm, 4262, rfl⟩
abbrev main_call9_call0_call0_v104 : Ref sig .tc := ⟨.hbm, 4263, rfl⟩
abbrev main_call9_call0_call0_v105 : Ref sig .tc := ⟨.hbm, 4264, rfl⟩
abbrev main_call9_call0_call0_c_26 : Ref sig .tc := ⟨.hbm, 4265, rfl⟩
abbrev main_call9_call0_call0_v106 : Ref sig .tc := ⟨.hbm, 4266, rfl⟩
abbrev main_call9_call0_call0_v107 : Ref sig .tc := ⟨.hbm, 4267, rfl⟩
abbrev main_call9_call0_call0_v108 : Ref sig .tc := ⟨.hbm, 4268, rfl⟩
abbrev main_call9_call0_call0_c_27 : Ref sig .tc := ⟨.hbm, 4269, rfl⟩
abbrev main_call9_call0_call0_v109 : Ref sig .tc := ⟨.hbm, 4270, rfl⟩
abbrev main_call9_call0_call0_v110 : Ref sig .tc := ⟨.hbm, 4271, rfl⟩
abbrev main_call9_call0_call0_c_28 : Ref sig .tc := ⟨.hbm, 4272, rfl⟩
abbrev main_call9_call0_call0_v111 : Ref sig .tc := ⟨.hbm, 4273, rfl⟩
abbrev main_call9_call0_call0_v112 : Ref sig .tc := ⟨.hbm, 4274, rfl⟩
abbrev main_call9_call0_call0_v113 : Ref sig .tc := ⟨.hbm, 4275, rfl⟩
abbrev main_call9_call0_call0_v114 : Ref sig .tc := ⟨.hbm, 4276, rfl⟩
abbrev main_call9_call0_call0_v115 : Ref sig .tc := ⟨.hbm, 4277, rfl⟩
abbrev main_call9_call0_call0_c_29 : Ref sig .tc := ⟨.hbm, 4278, rfl⟩
abbrev main_call9_call0_call0_v116 : Ref sig .tc := ⟨.hbm, 4279, rfl⟩
abbrev main_call9_call0_call0_v117 : Ref sig .tc := ⟨.hbm, 4280, rfl⟩
abbrev main_call9_call0_call0_c_30 : Ref sig .tc := ⟨.hbm, 4281, rfl⟩
abbrev main_call9_call0_call0_v118 : Ref sig .tc := ⟨.hbm, 4282, rfl⟩
abbrev main_call9_call0_call0_v119 : Ref sig .tc := ⟨.hbm, 4283, rfl⟩
abbrev main_call9_call0_call0_v120 : Ref sig .tc := ⟨.hbm, 4284, rfl⟩
abbrev main_call9_call0_call0_v121 : Ref sig .tc := ⟨.hbm, 4285, rfl⟩
abbrev main_call9_call0_call0_v122 : Ref sig .tc := ⟨.hbm, 4286, rfl⟩
abbrev main_call9_call0_call0_c_31 : Ref sig .tc := ⟨.hbm, 4287, rfl⟩
abbrev main_call9_call0_call0_v123 : Ref sig .tc := ⟨.hbm, 4288, rfl⟩
abbrev main_call9_call0_call0_v124 : Ref sig .tc := ⟨.hbm, 4289, rfl⟩
abbrev main_call9_call0_call0_c_32 : Ref sig .tc := ⟨.hbm, 4290, rfl⟩
abbrev main_call9_call0_call0_v125 : Ref sig .tc := ⟨.hbm, 4291, rfl⟩
abbrev main_call9_call0_call0_v126 : Ref sig .tc := ⟨.hbm, 4292, rfl⟩
abbrev main_call9_call0_call0_v127 : Ref sig .tc := ⟨.hbm, 4293, rfl⟩
abbrev main_call9_call0_call0_v128 : Ref sig .tc := ⟨.hbm, 4294, rfl⟩
abbrev main_call9_call0_call0_v129 : Ref sig .tc := ⟨.hbm, 4295, rfl⟩
abbrev main_call9_call0_call0_c_33 : Ref sig .tc := ⟨.hbm, 4296, rfl⟩
abbrev main_call9_call0_call0_v130 : Ref sig .tc := ⟨.hbm, 4297, rfl⟩
abbrev main_call9_call0_call0_v131 : Ref sig .tc := ⟨.hbm, 4298, rfl⟩
abbrev main_call9_call0_call0_c_34 : Ref sig .tc := ⟨.hbm, 4299, rfl⟩
abbrev main_call9_call0_call0_v132 : Ref sig .tc := ⟨.hbm, 4300, rfl⟩
abbrev main_call9_call0_call0_v133 : Ref sig .tc := ⟨.hbm, 4301, rfl⟩
abbrev main_call9_call0_call0_v134 : Ref sig .tc := ⟨.hbm, 4302, rfl⟩
abbrev main_call9_call0_call0_v135 : Ref sig .tc := ⟨.hbm, 4303, rfl⟩
abbrev main_call9_call0_call0_v136 : Ref sig .tc := ⟨.hbm, 4304, rfl⟩
abbrev main_call9_call0_call0_v137 : Ref sig .tc := ⟨.hbm, 4305, rfl⟩
abbrev main_call9_call0_call0_v138 : Ref sig .tc := ⟨.hbm, 4306, rfl⟩
abbrev main_call9_call0_call0_v139 : Ref sig .tc := ⟨.hbm, 4307, rfl⟩
abbrev main_call9_call0_call0_c_35 : Ref sig .tc := ⟨.hbm, 4308, rfl⟩
abbrev main_call9_call0_call0_v140 : Ref sig .tc := ⟨.hbm, 4309, rfl⟩
abbrev main_call9_call0_call0_v141 : Ref sig .tc := ⟨.hbm, 4310, rfl⟩
abbrev main_call9_call0_call0_v142 : Ref sig .tc := ⟨.hbm, 4311, rfl⟩
abbrev main_call9_call0_call0_c_36 : Ref sig .tc := ⟨.hbm, 4312, rfl⟩
abbrev main_call9_call0_call0_v143 : Ref sig .tc := ⟨.hbm, 4313, rfl⟩
abbrev main_call9_call0_call0_v144 : Ref sig .tc := ⟨.hbm, 4314, rfl⟩
abbrev main_call9_call0_call0_c_37 : Ref sig .tc := ⟨.hbm, 4315, rfl⟩
abbrev main_call9_call0_call0_v145 : Ref sig .tc := ⟨.hbm, 4316, rfl⟩
abbrev main_call9_call0_call0_v146 : Ref sig .tc := ⟨.hbm, 4317, rfl⟩
abbrev main_call9_call0_call0_v147 : Ref sig .tc := ⟨.hbm, 4318, rfl⟩
abbrev main_call9_call0_call0_v148 : Ref sig .tc := ⟨.hbm, 4319, rfl⟩
abbrev main_call9_call0_call0_v149 : Ref sig .tc := ⟨.hbm, 4320, rfl⟩
abbrev main_call9_call0_call0_c_38 : Ref sig .tc := ⟨.hbm, 4321, rfl⟩
abbrev main_call9_call0_call0_v150 : Ref sig .tc := ⟨.hbm, 4322, rfl⟩
abbrev main_call9_call0_call0_v151 : Ref sig .tc := ⟨.hbm, 4323, rfl⟩
abbrev main_call9_call0_call0_c_39 : Ref sig .tc := ⟨.hbm, 4324, rfl⟩
abbrev main_call9_call0_call0_v152 : Ref sig .tc := ⟨.hbm, 4325, rfl⟩
abbrev main_call9_call0_call0_v153 : Ref sig .tc := ⟨.hbm, 4326, rfl⟩
abbrev main_call9_call0_call0_v154 : Ref sig .tc := ⟨.hbm, 4327, rfl⟩
abbrev main_call9_call0_call0_v155 : Ref sig .tc := ⟨.hbm, 4328, rfl⟩
abbrev main_call9_call0_call0_v156 : Ref sig .tc := ⟨.hbm, 4329, rfl⟩
abbrev main_call9_call0_call0_c_40 : Ref sig .tc := ⟨.hbm, 4330, rfl⟩
abbrev main_call9_call0_call0_v157 : Ref sig .tc := ⟨.hbm, 4331, rfl⟩
abbrev main_call9_call0_call0_v158 : Ref sig .tc := ⟨.hbm, 4332, rfl⟩
abbrev main_call9_call0_call0_c_41 : Ref sig .tc := ⟨.hbm, 4333, rfl⟩
abbrev main_call9_call0_call0_v159 : Ref sig .tc := ⟨.hbm, 4334, rfl⟩
abbrev main_call9_call0_call0_v160 : Ref sig .tc := ⟨.hbm, 4335, rfl⟩
abbrev main_call9_call0_call0_v161 : Ref sig .tc := ⟨.hbm, 4336, rfl⟩
abbrev main_call9_call0_call0_v162 : Ref sig .tc := ⟨.hbm, 4337, rfl⟩
abbrev main_call9_call0_call0_v163 : Ref sig .tc := ⟨.hbm, 4338, rfl⟩
abbrev main_call9_call0_call0_c_42 : Ref sig .tc := ⟨.hbm, 4339, rfl⟩
abbrev main_call9_call0_call0_v164 : Ref sig .tc := ⟨.hbm, 4340, rfl⟩
abbrev main_call9_call0_call0_v165 : Ref sig .tc := ⟨.hbm, 4341, rfl⟩
abbrev main_call9_call0_call0_c_43 : Ref sig .tc := ⟨.hbm, 4342, rfl⟩
abbrev main_call9_call0_call0_v166 : Ref sig .tc := ⟨.hbm, 4343, rfl⟩
abbrev main_call9_call0_call0_v167 : Ref sig .tc := ⟨.hbm, 4344, rfl⟩
abbrev main_call9_call0_call0_v168 : Ref sig .tc := ⟨.hbm, 4345, rfl⟩
abbrev main_call9_call0_call0_v169 : Ref sig .tc := ⟨.hbm, 4346, rfl⟩
abbrev main_call9_call0_call0_v170 : Ref sig .tc := ⟨.hbm, 4347, rfl⟩
abbrev main_call9_call0_v11_0 : Ref sig .tc := ⟨.hbm, 4348, rfl⟩
abbrev main_call9_call0_call0_v172 : Ref sig .tc := ⟨.hbm, 4349, rfl⟩
abbrev main_call9_call0_call0_v173 : Ref sig .tc := ⟨.hbm, 4350, rfl⟩
abbrev main_call9_call0_call0_c_44 : Ref sig .tc := ⟨.hbm, 4351, rfl⟩
abbrev main_call9_call0_call0_v174 : Ref sig .tc := ⟨.hbm, 4352, rfl⟩
abbrev main_call9_call0_v11_1 : Ref sig .tc := ⟨.hbm, 4353, rfl⟩
abbrev main_call9_call0_v12 : Ref sig .tc := ⟨.hbm, 4354, rfl⟩
abbrev main_call9_call0_v13 : Ref sig .tc := ⟨.hbm, 4355, rfl⟩
abbrev main_call9_v0 : Ref sig .tc := ⟨.hbm, 4356, rfl⟩
abbrev main_call9_v1 : Ref sig .tc := ⟨.hbm, 4357, rfl⟩
abbrev main_call9_v2 : Ref sig .tc := ⟨.hbm, 4358, rfl⟩
abbrev main_call9_v3 : Ref sig .tc := ⟨.hbm, 4359, rfl⟩
abbrev main_call9_v4 : Ref sig .tc := ⟨.hbm, 4360, rfl⟩
abbrev main_call9_v5 : Ref sig .tc := ⟨.hbm, 4361, rfl⟩
abbrev main_call9_v6 : Ref sig .tc := ⟨.hbm, 4362, rfl⟩
abbrev main_call9_v7 : Ref sig .tc := ⟨.hbm, 4363, rfl⟩
abbrev main_call9_v8 : Ref sig .tc := ⟨.hbm, 4364, rfl⟩
abbrev main_call9_v9 : Ref sig .tc := ⟨.hbm, 4365, rfl⟩
abbrev main_call9_c : Ref sig .tc := ⟨.hbm, 4366, rfl⟩
abbrev main_call9_v10 : Ref sig .tc := ⟨.hbm, 4367, rfl⟩
abbrev main_call9_v11 : Ref sig .tc := ⟨.hbm, 4368, rfl⟩
abbrev main_call9_c_0 : Ref sig .tc := ⟨.hbm, 4369, rfl⟩
abbrev main_call9_v12 : Ref sig .tc := ⟨.hbm, 4370, rfl⟩
abbrev main_call9_v13 : Ref sig .tc := ⟨.hbm, 4371, rfl⟩
abbrev main_call9_v14 : Ref sig .tc := ⟨.hbm, 4372, rfl⟩
abbrev main_call9_v15 : Ref sig .tc := ⟨.hbm, 4373, rfl⟩
abbrev main_call9_call1_v0 : Ref sig .tc := ⟨.hbm, 4374, rfl⟩
abbrev main_call9_call1_c : Ref sig .tc := ⟨.hbm, 4375, rfl⟩
abbrev main_call9_call1_v1 : Ref sig .tc := ⟨.hbm, 4376, rfl⟩
abbrev main_call9_call1_v2 : Ref sig .tc := ⟨.hbm, 4377, rfl⟩
abbrev main_call9_call1_v3 : Ref sig .tc := ⟨.hbm, 4378, rfl⟩
abbrev main_call9_call1_v4 : Ref sig .tc := ⟨.hbm, 4379, rfl⟩
abbrev main_call9_call1_v5 : Ref sig .tc := ⟨.hbm, 4380, rfl⟩
abbrev main_call9_call1_v6 : Ref sig .tc := ⟨.hbm, 4381, rfl⟩
abbrev main_call9_call1_c_0 : Ref sig .tc := ⟨.hbm, 4382, rfl⟩
abbrev main_call9_call1_v7 : Ref sig .tc := ⟨.hbm, 4383, rfl⟩
abbrev main_call9_call1_v8 : Ref sig .tc := ⟨.hbm, 4384, rfl⟩
abbrev main_call9_call1_c_1 : Ref sig .tc := ⟨.hbm, 4385, rfl⟩
abbrev main_call9_call1_v9 : Ref sig .tc := ⟨.hbm, 4386, rfl⟩
abbrev main_call9_call1_v10 : Ref sig .tc := ⟨.hbm, 4387, rfl⟩
abbrev main_call9_call1_v11 : Ref sig .tc := ⟨.hbm, 4388, rfl⟩
abbrev main_call9_call1_v12 : Ref sig .tc := ⟨.hbm, 4389, rfl⟩
abbrev main_call9_call1_v13 : Ref sig .tc := ⟨.hbm, 4390, rfl⟩
abbrev main_call9_call1_c_2 : Ref sig .tc := ⟨.hbm, 4391, rfl⟩
abbrev main_call9_call1_v14 : Ref sig .tc := ⟨.hbm, 4392, rfl⟩
abbrev main_call9_call1_v15 : Ref sig .tc := ⟨.hbm, 4393, rfl⟩
abbrev main_call9_call1_c_3 : Ref sig .tc := ⟨.hbm, 4394, rfl⟩
abbrev main_call9_call1_v16 : Ref sig .tc := ⟨.hbm, 4395, rfl⟩
abbrev main_call9_call1_v17 : Ref sig .tc := ⟨.hbm, 4396, rfl⟩
abbrev main_call9_call1_v18 : Ref sig .tc := ⟨.hbm, 4397, rfl⟩
abbrev main_call9_call1_v19 : Ref sig .tc := ⟨.hbm, 4398, rfl⟩
abbrev main_call9_call1_v20 : Ref sig .tc := ⟨.hbm, 4399, rfl⟩
abbrev main_call9_call1_c_4 : Ref sig .tc := ⟨.hbm, 4400, rfl⟩
abbrev main_call9_call1_v21 : Ref sig .tc := ⟨.hbm, 4401, rfl⟩
abbrev main_call9_call1_v22 : Ref sig .tc := ⟨.hbm, 4402, rfl⟩
abbrev main_call9_call1_c_5 : Ref sig .tc := ⟨.hbm, 4403, rfl⟩
abbrev main_call9_call1_v23 : Ref sig .tc := ⟨.hbm, 4404, rfl⟩
abbrev main_call9_call1_v24 : Ref sig .tc := ⟨.hbm, 4405, rfl⟩
abbrev main_call9_call1_v25 : Ref sig .tc := ⟨.hbm, 4406, rfl⟩
abbrev main_call9_call1_v26 : Ref sig .tc := ⟨.hbm, 4407, rfl⟩
abbrev main_call9_call1_v27 : Ref sig .tc := ⟨.hbm, 4408, rfl⟩
abbrev main_call9_call1_c_6 : Ref sig .tc := ⟨.hbm, 4409, rfl⟩
abbrev main_call9_call1_v28 : Ref sig .tc := ⟨.hbm, 4410, rfl⟩
abbrev main_call9_call1_v29 : Ref sig .tc := ⟨.hbm, 4411, rfl⟩
abbrev main_call9_call1_c_7 : Ref sig .tc := ⟨.hbm, 4412, rfl⟩
abbrev main_call9_call1_v30 : Ref sig .tc := ⟨.hbm, 4413, rfl⟩
abbrev main_call9_call1_v31 : Ref sig .tc := ⟨.hbm, 4414, rfl⟩
abbrev main_call9_call1_v32 : Ref sig .tc := ⟨.hbm, 4415, rfl⟩
abbrev main_call9_call1_v33 : Ref sig .tc := ⟨.hbm, 4416, rfl⟩
abbrev main_call9_call1_v34 : Ref sig .tc := ⟨.hbm, 4417, rfl⟩
abbrev main_call9_call1_v35 : Ref sig .tc := ⟨.hbm, 4418, rfl⟩
abbrev main_call9_call1_v36 : Ref sig .tc := ⟨.hbm, 4419, rfl⟩
abbrev main_call9_call1_v37 : Ref sig .tc := ⟨.hbm, 4420, rfl⟩
abbrev main_call9_call1_c_8 : Ref sig .tc := ⟨.hbm, 4421, rfl⟩
abbrev main_call9_call1_v38 : Ref sig .tc := ⟨.hbm, 4422, rfl⟩
abbrev main_call9_call1_v39 : Ref sig .tc := ⟨.hbm, 4423, rfl⟩
abbrev main_call9_call1_v40 : Ref sig .tc := ⟨.hbm, 4424, rfl⟩
abbrev main_call9_call1_c_9 : Ref sig .tc := ⟨.hbm, 4425, rfl⟩
abbrev main_call9_call1_v41 : Ref sig .tc := ⟨.hbm, 4426, rfl⟩
abbrev main_call9_call1_v42 : Ref sig .tc := ⟨.hbm, 4427, rfl⟩
abbrev main_call9_call1_c_10 : Ref sig .tc := ⟨.hbm, 4428, rfl⟩
abbrev main_call9_call1_v43 : Ref sig .tc := ⟨.hbm, 4429, rfl⟩
abbrev main_call9_call1_v44 : Ref sig .tc := ⟨.hbm, 4430, rfl⟩
abbrev main_call9_call1_v45 : Ref sig .tc := ⟨.hbm, 4431, rfl⟩
abbrev main_call9_call1_v46 : Ref sig .tc := ⟨.hbm, 4432, rfl⟩
abbrev main_call9_call1_v47 : Ref sig .tc := ⟨.hbm, 4433, rfl⟩
abbrev main_call9_call1_c_11 : Ref sig .tc := ⟨.hbm, 4434, rfl⟩
abbrev main_call9_call1_v48 : Ref sig .tc := ⟨.hbm, 4435, rfl⟩
abbrev main_call9_call1_v49 : Ref sig .tc := ⟨.hbm, 4436, rfl⟩
abbrev main_call9_call1_c_12 : Ref sig .tc := ⟨.hbm, 4437, rfl⟩
abbrev main_call9_call1_v50 : Ref sig .tc := ⟨.hbm, 4438, rfl⟩
abbrev main_call9_call1_v51 : Ref sig .tc := ⟨.hbm, 4439, rfl⟩
abbrev main_call9_call1_v52 : Ref sig .tc := ⟨.hbm, 4440, rfl⟩
abbrev main_call9_call1_v53 : Ref sig .tc := ⟨.hbm, 4441, rfl⟩
abbrev main_call9_call1_v54 : Ref sig .tc := ⟨.hbm, 4442, rfl⟩
abbrev main_call9_call1_c_13 : Ref sig .tc := ⟨.hbm, 4443, rfl⟩
abbrev main_call9_call1_v55 : Ref sig .tc := ⟨.hbm, 4444, rfl⟩
abbrev main_call9_call1_v56 : Ref sig .tc := ⟨.hbm, 4445, rfl⟩
abbrev main_call9_call1_c_14 : Ref sig .tc := ⟨.hbm, 4446, rfl⟩
abbrev main_call9_call1_v57 : Ref sig .tc := ⟨.hbm, 4447, rfl⟩
abbrev main_call9_call1_v58 : Ref sig .tc := ⟨.hbm, 4448, rfl⟩
abbrev main_call9_call1_v59 : Ref sig .tc := ⟨.hbm, 4449, rfl⟩
abbrev main_call9_call1_v60 : Ref sig .tc := ⟨.hbm, 4450, rfl⟩
abbrev main_call9_call1_v61 : Ref sig .tc := ⟨.hbm, 4451, rfl⟩
abbrev main_call9_call1_c_15 : Ref sig .tc := ⟨.hbm, 4452, rfl⟩
abbrev main_call9_call1_v62 : Ref sig .tc := ⟨.hbm, 4453, rfl⟩
abbrev main_call9_call1_v63 : Ref sig .tc := ⟨.hbm, 4454, rfl⟩
abbrev main_call9_call1_c_16 : Ref sig .tc := ⟨.hbm, 4455, rfl⟩
abbrev main_call9_call1_v64 : Ref sig .tc := ⟨.hbm, 4456, rfl⟩
abbrev main_call9_call1_v65 : Ref sig .tc := ⟨.hbm, 4457, rfl⟩
abbrev main_call9_call1_v66 : Ref sig .tc := ⟨.hbm, 4458, rfl⟩
abbrev main_call9_call1_v67 : Ref sig .tc := ⟨.hbm, 4459, rfl⟩
abbrev main_call9_call1_v68 : Ref sig .tc := ⟨.hbm, 4460, rfl⟩
abbrev main_call9_call1_v69 : Ref sig .tc := ⟨.hbm, 4461, rfl⟩
abbrev main_call9_call1_v70 : Ref sig .tc := ⟨.hbm, 4462, rfl⟩
abbrev main_call9_call1_v71 : Ref sig .tc := ⟨.hbm, 4463, rfl⟩
abbrev main_call9_call1_c_17 : Ref sig .tc := ⟨.hbm, 4464, rfl⟩
abbrev main_call9_call1_v72 : Ref sig .tc := ⟨.hbm, 4465, rfl⟩
abbrev main_call9_call1_v73 : Ref sig .tc := ⟨.hbm, 4466, rfl⟩
abbrev main_call9_call1_v74 : Ref sig .tc := ⟨.hbm, 4467, rfl⟩
abbrev main_call9_call1_c_18 : Ref sig .tc := ⟨.hbm, 4468, rfl⟩
abbrev main_call9_call1_v75 : Ref sig .tc := ⟨.hbm, 4469, rfl⟩
abbrev main_call9_call1_v76 : Ref sig .tc := ⟨.hbm, 4470, rfl⟩
abbrev main_call9_call1_c_19 : Ref sig .tc := ⟨.hbm, 4471, rfl⟩
abbrev main_call9_call1_v77 : Ref sig .tc := ⟨.hbm, 4472, rfl⟩
abbrev main_call9_call1_v78 : Ref sig .tc := ⟨.hbm, 4473, rfl⟩
abbrev main_call9_call1_v79 : Ref sig .tc := ⟨.hbm, 4474, rfl⟩
abbrev main_call9_call1_v80 : Ref sig .tc := ⟨.hbm, 4475, rfl⟩
abbrev main_call9_call1_v81 : Ref sig .tc := ⟨.hbm, 4476, rfl⟩
abbrev main_call9_call1_c_20 : Ref sig .tc := ⟨.hbm, 4477, rfl⟩
abbrev main_call9_call1_v82 : Ref sig .tc := ⟨.hbm, 4478, rfl⟩
abbrev main_call9_call1_v83 : Ref sig .tc := ⟨.hbm, 4479, rfl⟩
abbrev main_call9_call1_c_21 : Ref sig .tc := ⟨.hbm, 4480, rfl⟩
abbrev main_call9_call1_v84 : Ref sig .tc := ⟨.hbm, 4481, rfl⟩
abbrev main_call9_call1_v85 : Ref sig .tc := ⟨.hbm, 4482, rfl⟩
abbrev main_call9_call1_v86 : Ref sig .tc := ⟨.hbm, 4483, rfl⟩
abbrev main_call9_call1_v87 : Ref sig .tc := ⟨.hbm, 4484, rfl⟩
abbrev main_call9_call1_v88 : Ref sig .tc := ⟨.hbm, 4485, rfl⟩
abbrev main_call9_call1_c_22 : Ref sig .tc := ⟨.hbm, 4486, rfl⟩
abbrev main_call9_call1_v89 : Ref sig .tc := ⟨.hbm, 4487, rfl⟩
abbrev main_call9_call1_v90 : Ref sig .tc := ⟨.hbm, 4488, rfl⟩
abbrev main_call9_call1_c_23 : Ref sig .tc := ⟨.hbm, 4489, rfl⟩
abbrev main_call9_call1_v91 : Ref sig .tc := ⟨.hbm, 4490, rfl⟩
abbrev main_call9_call1_v92 : Ref sig .tc := ⟨.hbm, 4491, rfl⟩
abbrev main_call9_call1_v93 : Ref sig .tc := ⟨.hbm, 4492, rfl⟩
abbrev main_call9_call1_v94 : Ref sig .tc := ⟨.hbm, 4493, rfl⟩
abbrev main_call9_call1_v95 : Ref sig .tc := ⟨.hbm, 4494, rfl⟩
abbrev main_call9_call1_c_24 : Ref sig .tc := ⟨.hbm, 4495, rfl⟩
abbrev main_call9_call1_v96 : Ref sig .tc := ⟨.hbm, 4496, rfl⟩
abbrev main_call9_call1_v97 : Ref sig .tc := ⟨.hbm, 4497, rfl⟩
abbrev main_call9_call1_c_25 : Ref sig .tc := ⟨.hbm, 4498, rfl⟩
abbrev main_call9_call1_v98 : Ref sig .tc := ⟨.hbm, 4499, rfl⟩
abbrev main_call9_call1_v99 : Ref sig .tc := ⟨.hbm, 4500, rfl⟩
abbrev main_call9_call1_v100 : Ref sig .tc := ⟨.hbm, 4501, rfl⟩
abbrev main_call9_call1_v101 : Ref sig .tc := ⟨.hbm, 4502, rfl⟩
abbrev main_call9_call1_v102 : Ref sig .tc := ⟨.hbm, 4503, rfl⟩
abbrev main_call9_call1_v103 : Ref sig .tc := ⟨.hbm, 4504, rfl⟩
abbrev main_call9_call1_v104 : Ref sig .tc := ⟨.hbm, 4505, rfl⟩
abbrev main_call9_call1_v105 : Ref sig .tc := ⟨.hbm, 4506, rfl⟩
abbrev main_call9_call1_c_26 : Ref sig .tc := ⟨.hbm, 4507, rfl⟩
abbrev main_call9_call1_v106 : Ref sig .tc := ⟨.hbm, 4508, rfl⟩
abbrev main_call9_call1_v107 : Ref sig .tc := ⟨.hbm, 4509, rfl⟩
abbrev main_call9_call1_v108 : Ref sig .tc := ⟨.hbm, 4510, rfl⟩
abbrev main_call9_call1_c_27 : Ref sig .tc := ⟨.hbm, 4511, rfl⟩
abbrev main_call9_call1_v109 : Ref sig .tc := ⟨.hbm, 4512, rfl⟩
abbrev main_call9_call1_v110 : Ref sig .tc := ⟨.hbm, 4513, rfl⟩
abbrev main_call9_call1_c_28 : Ref sig .tc := ⟨.hbm, 4514, rfl⟩
abbrev main_call9_call1_v111 : Ref sig .tc := ⟨.hbm, 4515, rfl⟩
abbrev main_call9_call1_v112 : Ref sig .tc := ⟨.hbm, 4516, rfl⟩
abbrev main_call9_call1_v113 : Ref sig .tc := ⟨.hbm, 4517, rfl⟩
abbrev main_call9_call1_v114 : Ref sig .tc := ⟨.hbm, 4518, rfl⟩
abbrev main_call9_call1_v115 : Ref sig .tc := ⟨.hbm, 4519, rfl⟩
abbrev main_call9_call1_c_29 : Ref sig .tc := ⟨.hbm, 4520, rfl⟩
abbrev main_call9_call1_v116 : Ref sig .tc := ⟨.hbm, 4521, rfl⟩
abbrev main_call9_call1_v117 : Ref sig .tc := ⟨.hbm, 4522, rfl⟩
abbrev main_call9_call1_c_30 : Ref sig .tc := ⟨.hbm, 4523, rfl⟩
abbrev main_call9_call1_v118 : Ref sig .tc := ⟨.hbm, 4524, rfl⟩
abbrev main_call9_call1_v119 : Ref sig .tc := ⟨.hbm, 4525, rfl⟩
abbrev main_call9_call1_v120 : Ref sig .tc := ⟨.hbm, 4526, rfl⟩
abbrev main_call9_call1_v121 : Ref sig .tc := ⟨.hbm, 4527, rfl⟩
abbrev main_call9_call1_v122 : Ref sig .tc := ⟨.hbm, 4528, rfl⟩
abbrev main_call9_call1_c_31 : Ref sig .tc := ⟨.hbm, 4529, rfl⟩
abbrev main_call9_call1_v123 : Ref sig .tc := ⟨.hbm, 4530, rfl⟩
abbrev main_call9_call1_v124 : Ref sig .tc := ⟨.hbm, 4531, rfl⟩
abbrev main_call9_call1_c_32 : Ref sig .tc := ⟨.hbm, 4532, rfl⟩
abbrev main_call9_call1_v125 : Ref sig .tc := ⟨.hbm, 4533, rfl⟩
abbrev main_call9_call1_v126 : Ref sig .tc := ⟨.hbm, 4534, rfl⟩
abbrev main_call9_call1_v127 : Ref sig .tc := ⟨.hbm, 4535, rfl⟩
abbrev main_call9_call1_v128 : Ref sig .tc := ⟨.hbm, 4536, rfl⟩
abbrev main_call9_call1_v129 : Ref sig .tc := ⟨.hbm, 4537, rfl⟩
abbrev main_call9_call1_c_33 : Ref sig .tc := ⟨.hbm, 4538, rfl⟩
abbrev main_call9_call1_v130 : Ref sig .tc := ⟨.hbm, 4539, rfl⟩
abbrev main_call9_call1_v131 : Ref sig .tc := ⟨.hbm, 4540, rfl⟩
abbrev main_call9_call1_c_34 : Ref sig .tc := ⟨.hbm, 4541, rfl⟩
abbrev main_call9_call1_v132 : Ref sig .tc := ⟨.hbm, 4542, rfl⟩
abbrev main_call9_call1_v133 : Ref sig .tc := ⟨.hbm, 4543, rfl⟩
abbrev main_call9_call1_v134 : Ref sig .tc := ⟨.hbm, 4544, rfl⟩
abbrev main_call9_call1_v135 : Ref sig .tc := ⟨.hbm, 4545, rfl⟩
abbrev main_call9_call1_v136 : Ref sig .tc := ⟨.hbm, 4546, rfl⟩
abbrev main_call9_call1_v137 : Ref sig .tc := ⟨.hbm, 4547, rfl⟩
abbrev main_call9_call1_v138 : Ref sig .tc := ⟨.hbm, 4548, rfl⟩
abbrev main_call9_call1_v139 : Ref sig .tc := ⟨.hbm, 4549, rfl⟩
abbrev main_call9_call1_c_35 : Ref sig .tc := ⟨.hbm, 4550, rfl⟩
abbrev main_call9_call1_v140 : Ref sig .tc := ⟨.hbm, 4551, rfl⟩
abbrev main_call9_call1_v141 : Ref sig .tc := ⟨.hbm, 4552, rfl⟩
abbrev main_call9_call1_v142 : Ref sig .tc := ⟨.hbm, 4553, rfl⟩
abbrev main_call9_call1_c_36 : Ref sig .tc := ⟨.hbm, 4554, rfl⟩
abbrev main_call9_call1_v143 : Ref sig .tc := ⟨.hbm, 4555, rfl⟩
abbrev main_call9_call1_v144 : Ref sig .tc := ⟨.hbm, 4556, rfl⟩
abbrev main_call9_call1_c_37 : Ref sig .tc := ⟨.hbm, 4557, rfl⟩
abbrev main_call9_call1_v145 : Ref sig .tc := ⟨.hbm, 4558, rfl⟩
abbrev main_call9_call1_v146 : Ref sig .tc := ⟨.hbm, 4559, rfl⟩
abbrev main_call9_call1_v147 : Ref sig .tc := ⟨.hbm, 4560, rfl⟩
abbrev main_call9_call1_v148 : Ref sig .tc := ⟨.hbm, 4561, rfl⟩
abbrev main_call9_call1_v149 : Ref sig .tc := ⟨.hbm, 4562, rfl⟩
abbrev main_call9_call1_c_38 : Ref sig .tc := ⟨.hbm, 4563, rfl⟩
abbrev main_call9_call1_v150 : Ref sig .tc := ⟨.hbm, 4564, rfl⟩
abbrev main_call9_call1_v151 : Ref sig .tc := ⟨.hbm, 4565, rfl⟩
abbrev main_call9_call1_c_39 : Ref sig .tc := ⟨.hbm, 4566, rfl⟩
abbrev main_call9_call1_v152 : Ref sig .tc := ⟨.hbm, 4567, rfl⟩
abbrev main_call9_call1_v153 : Ref sig .tc := ⟨.hbm, 4568, rfl⟩
abbrev main_call9_call1_v154 : Ref sig .tc := ⟨.hbm, 4569, rfl⟩
abbrev main_call9_call1_v155 : Ref sig .tc := ⟨.hbm, 4570, rfl⟩
abbrev main_call9_call1_v156 : Ref sig .tc := ⟨.hbm, 4571, rfl⟩
abbrev main_call9_call1_c_40 : Ref sig .tc := ⟨.hbm, 4572, rfl⟩
abbrev main_call9_call1_v157 : Ref sig .tc := ⟨.hbm, 4573, rfl⟩
abbrev main_call9_call1_v158 : Ref sig .tc := ⟨.hbm, 4574, rfl⟩
abbrev main_call9_call1_c_41 : Ref sig .tc := ⟨.hbm, 4575, rfl⟩
abbrev main_call9_call1_v159 : Ref sig .tc := ⟨.hbm, 4576, rfl⟩
abbrev main_call9_call1_v160 : Ref sig .tc := ⟨.hbm, 4577, rfl⟩
abbrev main_call9_call1_v161 : Ref sig .tc := ⟨.hbm, 4578, rfl⟩
abbrev main_call9_call1_v162 : Ref sig .tc := ⟨.hbm, 4579, rfl⟩
abbrev main_call9_call1_v163 : Ref sig .tc := ⟨.hbm, 4580, rfl⟩
abbrev main_call9_call1_c_42 : Ref sig .tc := ⟨.hbm, 4581, rfl⟩
abbrev main_call9_call1_v164 : Ref sig .tc := ⟨.hbm, 4582, rfl⟩
abbrev main_call9_call1_v165 : Ref sig .tc := ⟨.hbm, 4583, rfl⟩
abbrev main_call9_call1_c_43 : Ref sig .tc := ⟨.hbm, 4584, rfl⟩
abbrev main_call9_call1_v166 : Ref sig .tc := ⟨.hbm, 4585, rfl⟩
abbrev main_call9_call1_v167 : Ref sig .tc := ⟨.hbm, 4586, rfl⟩
abbrev main_call9_call1_v168 : Ref sig .tc := ⟨.hbm, 4587, rfl⟩
abbrev main_call9_call1_v169 : Ref sig .tc := ⟨.hbm, 4588, rfl⟩
abbrev main_call9_call1_v170 : Ref sig .tc := ⟨.hbm, 4589, rfl⟩
abbrev main_call9_v16_0 : Ref sig .tc := ⟨.hbm, 4590, rfl⟩
abbrev main_call9_call1_v172 : Ref sig .tc := ⟨.hbm, 4591, rfl⟩
abbrev main_call9_call1_v173 : Ref sig .tc := ⟨.hbm, 4592, rfl⟩
abbrev main_call9_call1_c_44 : Ref sig .tc := ⟨.hbm, 4593, rfl⟩
abbrev main_call9_call1_v174 : Ref sig .tc := ⟨.hbm, 4594, rfl⟩
abbrev main_call9_v16_1 : Ref sig .tc := ⟨.hbm, 4595, rfl⟩
abbrev main_call9_v17 : Ref sig .tc := ⟨.hbm, 4596, rfl⟩
abbrev main_call9_v18_0 : Ref sig .tc := ⟨.hbm, 4597, rfl⟩
abbrev main_v46 : Ref sig .tc := ⟨.hbm, 4598, rfl⟩
abbrev main_v47 : Ref sig .tc := ⟨.hbm, 4599, rfl⟩
abbrev main_v48 : Ref sig .tc := ⟨.hbm, 4600, rfl⟩
abbrev main_v49 : Ref sig .tc := ⟨.hbm, 4601, rfl⟩
abbrev main_call10_call0_v0 : Ref sig .tc := ⟨.hbm, 4602, rfl⟩
abbrev main_call10_call0_v1 : Ref sig .tc := ⟨.hbm, 4603, rfl⟩
abbrev main_call10_call0_v2 : Ref sig .tc := ⟨.hbm, 4604, rfl⟩
abbrev main_call10_call0_v3 : Ref sig .tc := ⟨.hbm, 4605, rfl⟩
abbrev main_call10_call0_v4 : Ref sig .tc := ⟨.hbm, 4606, rfl⟩
abbrev main_call10_call0_c : Ref sig .tc := ⟨.hbm, 4607, rfl⟩
abbrev main_call10_call0_v5 : Ref sig .tc := ⟨.hbm, 4608, rfl⟩
abbrev main_call10_call0_v6 : Ref sig .tc := ⟨.hbm, 4609, rfl⟩
abbrev main_call10_call0_c_0 : Ref sig .tc := ⟨.hbm, 4610, rfl⟩
abbrev main_call10_call0_v7 : Ref sig .tc := ⟨.hbm, 4611, rfl⟩
abbrev main_call10_call0_v8 : Ref sig .tc := ⟨.hbm, 4612, rfl⟩
abbrev main_call10_call0_v9 : Ref sig .tc := ⟨.hbm, 4613, rfl⟩
abbrev main_call10_call0_v10 : Ref sig .tc := ⟨.hbm, 4614, rfl⟩
abbrev main_call10_call0_call0_v0 : Ref sig .tc := ⟨.hbm, 4615, rfl⟩
abbrev main_call10_call0_call0_c : Ref sig .tc := ⟨.hbm, 4616, rfl⟩
abbrev main_call10_call0_call0_v1 : Ref sig .tc := ⟨.hbm, 4617, rfl⟩
abbrev main_call10_call0_call0_v2 : Ref sig .tc := ⟨.hbm, 4618, rfl⟩
abbrev main_call10_call0_call0_v3 : Ref sig .tc := ⟨.hbm, 4619, rfl⟩
abbrev main_call10_call0_call0_v4 : Ref sig .tc := ⟨.hbm, 4620, rfl⟩
abbrev main_call10_call0_call0_v5 : Ref sig .tc := ⟨.hbm, 4621, rfl⟩
abbrev main_call10_call0_call0_v6 : Ref sig .tc := ⟨.hbm, 4622, rfl⟩
abbrev main_call10_call0_call0_c_0 : Ref sig .tc := ⟨.hbm, 4623, rfl⟩
abbrev main_call10_call0_call0_v7 : Ref sig .tc := ⟨.hbm, 4624, rfl⟩
abbrev main_call10_call0_call0_v8 : Ref sig .tc := ⟨.hbm, 4625, rfl⟩
abbrev main_call10_call0_call0_c_1 : Ref sig .tc := ⟨.hbm, 4626, rfl⟩
abbrev main_call10_call0_call0_v9 : Ref sig .tc := ⟨.hbm, 4627, rfl⟩
abbrev main_call10_call0_call0_v10 : Ref sig .tc := ⟨.hbm, 4628, rfl⟩
abbrev main_call10_call0_call0_v11 : Ref sig .tc := ⟨.hbm, 4629, rfl⟩
abbrev main_call10_call0_call0_v12 : Ref sig .tc := ⟨.hbm, 4630, rfl⟩
abbrev main_call10_call0_call0_v13 : Ref sig .tc := ⟨.hbm, 4631, rfl⟩
abbrev main_call10_call0_call0_c_2 : Ref sig .tc := ⟨.hbm, 4632, rfl⟩
abbrev main_call10_call0_call0_v14 : Ref sig .tc := ⟨.hbm, 4633, rfl⟩
abbrev main_call10_call0_call0_v15 : Ref sig .tc := ⟨.hbm, 4634, rfl⟩
abbrev main_call10_call0_call0_c_3 : Ref sig .tc := ⟨.hbm, 4635, rfl⟩
abbrev main_call10_call0_call0_v16 : Ref sig .tc := ⟨.hbm, 4636, rfl⟩
abbrev main_call10_call0_call0_v17 : Ref sig .tc := ⟨.hbm, 4637, rfl⟩
abbrev main_call10_call0_call0_v18 : Ref sig .tc := ⟨.hbm, 4638, rfl⟩
abbrev main_call10_call0_call0_v19 : Ref sig .tc := ⟨.hbm, 4639, rfl⟩
abbrev main_call10_call0_call0_v20 : Ref sig .tc := ⟨.hbm, 4640, rfl⟩
abbrev main_call10_call0_call0_c_4 : Ref sig .tc := ⟨.hbm, 4641, rfl⟩
abbrev main_call10_call0_call0_v21 : Ref sig .tc := ⟨.hbm, 4642, rfl⟩
abbrev main_call10_call0_call0_v22 : Ref sig .tc := ⟨.hbm, 4643, rfl⟩
abbrev main_call10_call0_call0_c_5 : Ref sig .tc := ⟨.hbm, 4644, rfl⟩
abbrev main_call10_call0_call0_v23 : Ref sig .tc := ⟨.hbm, 4645, rfl⟩
abbrev main_call10_call0_call0_v24 : Ref sig .tc := ⟨.hbm, 4646, rfl⟩
abbrev main_call10_call0_call0_v25 : Ref sig .tc := ⟨.hbm, 4647, rfl⟩
abbrev main_call10_call0_call0_v26 : Ref sig .tc := ⟨.hbm, 4648, rfl⟩
abbrev main_call10_call0_call0_v27 : Ref sig .tc := ⟨.hbm, 4649, rfl⟩
abbrev main_call10_call0_call0_c_6 : Ref sig .tc := ⟨.hbm, 4650, rfl⟩
abbrev main_call10_call0_call0_v28 : Ref sig .tc := ⟨.hbm, 4651, rfl⟩
abbrev main_call10_call0_call0_v29 : Ref sig .tc := ⟨.hbm, 4652, rfl⟩
abbrev main_call10_call0_call0_c_7 : Ref sig .tc := ⟨.hbm, 4653, rfl⟩
abbrev main_call10_call0_call0_v30 : Ref sig .tc := ⟨.hbm, 4654, rfl⟩
abbrev main_call10_call0_call0_v31 : Ref sig .tc := ⟨.hbm, 4655, rfl⟩
abbrev main_call10_call0_call0_v32 : Ref sig .tc := ⟨.hbm, 4656, rfl⟩
abbrev main_call10_call0_call0_v33 : Ref sig .tc := ⟨.hbm, 4657, rfl⟩
abbrev main_call10_call0_call0_v34 : Ref sig .tc := ⟨.hbm, 4658, rfl⟩
abbrev main_call10_call0_call0_v35 : Ref sig .tc := ⟨.hbm, 4659, rfl⟩
abbrev main_call10_call0_call0_v36 : Ref sig .tc := ⟨.hbm, 4660, rfl⟩
abbrev main_call10_call0_call0_v37 : Ref sig .tc := ⟨.hbm, 4661, rfl⟩
abbrev main_call10_call0_call0_c_8 : Ref sig .tc := ⟨.hbm, 4662, rfl⟩
abbrev main_call10_call0_call0_v38 : Ref sig .tc := ⟨.hbm, 4663, rfl⟩
abbrev main_call10_call0_call0_v39 : Ref sig .tc := ⟨.hbm, 4664, rfl⟩
abbrev main_call10_call0_call0_v40 : Ref sig .tc := ⟨.hbm, 4665, rfl⟩
abbrev main_call10_call0_call0_c_9 : Ref sig .tc := ⟨.hbm, 4666, rfl⟩
abbrev main_call10_call0_call0_v41 : Ref sig .tc := ⟨.hbm, 4667, rfl⟩
abbrev main_call10_call0_call0_v42 : Ref sig .tc := ⟨.hbm, 4668, rfl⟩
abbrev main_call10_call0_call0_c_10 : Ref sig .tc := ⟨.hbm, 4669, rfl⟩
abbrev main_call10_call0_call0_v43 : Ref sig .tc := ⟨.hbm, 4670, rfl⟩
abbrev main_call10_call0_call0_v44 : Ref sig .tc := ⟨.hbm, 4671, rfl⟩
abbrev main_call10_call0_call0_v45 : Ref sig .tc := ⟨.hbm, 4672, rfl⟩
abbrev main_call10_call0_call0_v46 : Ref sig .tc := ⟨.hbm, 4673, rfl⟩
abbrev main_call10_call0_call0_v47 : Ref sig .tc := ⟨.hbm, 4674, rfl⟩
abbrev main_call10_call0_call0_c_11 : Ref sig .tc := ⟨.hbm, 4675, rfl⟩
abbrev main_call10_call0_call0_v48 : Ref sig .tc := ⟨.hbm, 4676, rfl⟩
abbrev main_call10_call0_call0_v49 : Ref sig .tc := ⟨.hbm, 4677, rfl⟩
abbrev main_call10_call0_call0_c_12 : Ref sig .tc := ⟨.hbm, 4678, rfl⟩
abbrev main_call10_call0_call0_v50 : Ref sig .tc := ⟨.hbm, 4679, rfl⟩
abbrev main_call10_call0_call0_v51 : Ref sig .tc := ⟨.hbm, 4680, rfl⟩
abbrev main_call10_call0_call0_v52 : Ref sig .tc := ⟨.hbm, 4681, rfl⟩
abbrev main_call10_call0_call0_v53 : Ref sig .tc := ⟨.hbm, 4682, rfl⟩
abbrev main_call10_call0_call0_v54 : Ref sig .tc := ⟨.hbm, 4683, rfl⟩
abbrev main_call10_call0_call0_c_13 : Ref sig .tc := ⟨.hbm, 4684, rfl⟩
abbrev main_call10_call0_call0_v55 : Ref sig .tc := ⟨.hbm, 4685, rfl⟩
abbrev main_call10_call0_call0_v56 : Ref sig .tc := ⟨.hbm, 4686, rfl⟩
abbrev main_call10_call0_call0_c_14 : Ref sig .tc := ⟨.hbm, 4687, rfl⟩
abbrev main_call10_call0_call0_v57 : Ref sig .tc := ⟨.hbm, 4688, rfl⟩
abbrev main_call10_call0_call0_v58 : Ref sig .tc := ⟨.hbm, 4689, rfl⟩
abbrev main_call10_call0_call0_v59 : Ref sig .tc := ⟨.hbm, 4690, rfl⟩
abbrev main_call10_call0_call0_v60 : Ref sig .tc := ⟨.hbm, 4691, rfl⟩
abbrev main_call10_call0_call0_v61 : Ref sig .tc := ⟨.hbm, 4692, rfl⟩
abbrev main_call10_call0_call0_c_15 : Ref sig .tc := ⟨.hbm, 4693, rfl⟩
abbrev main_call10_call0_call0_v62 : Ref sig .tc := ⟨.hbm, 4694, rfl⟩
abbrev main_call10_call0_call0_v63 : Ref sig .tc := ⟨.hbm, 4695, rfl⟩
abbrev main_call10_call0_call0_c_16 : Ref sig .tc := ⟨.hbm, 4696, rfl⟩
abbrev main_call10_call0_call0_v64 : Ref sig .tc := ⟨.hbm, 4697, rfl⟩
abbrev main_call10_call0_call0_v65 : Ref sig .tc := ⟨.hbm, 4698, rfl⟩
abbrev main_call10_call0_call0_v66 : Ref sig .tc := ⟨.hbm, 4699, rfl⟩
abbrev main_call10_call0_call0_v67 : Ref sig .tc := ⟨.hbm, 4700, rfl⟩
abbrev main_call10_call0_call0_v68 : Ref sig .tc := ⟨.hbm, 4701, rfl⟩
abbrev main_call10_call0_call0_v69 : Ref sig .tc := ⟨.hbm, 4702, rfl⟩
abbrev main_call10_call0_call0_v70 : Ref sig .tc := ⟨.hbm, 4703, rfl⟩
abbrev main_call10_call0_call0_v71 : Ref sig .tc := ⟨.hbm, 4704, rfl⟩
abbrev main_call10_call0_call0_c_17 : Ref sig .tc := ⟨.hbm, 4705, rfl⟩
abbrev main_call10_call0_call0_v72 : Ref sig .tc := ⟨.hbm, 4706, rfl⟩
abbrev main_call10_call0_call0_v73 : Ref sig .tc := ⟨.hbm, 4707, rfl⟩
abbrev main_call10_call0_call0_v74 : Ref sig .tc := ⟨.hbm, 4708, rfl⟩
abbrev main_call10_call0_call0_c_18 : Ref sig .tc := ⟨.hbm, 4709, rfl⟩
abbrev main_call10_call0_call0_v75 : Ref sig .tc := ⟨.hbm, 4710, rfl⟩
abbrev main_call10_call0_call0_v76 : Ref sig .tc := ⟨.hbm, 4711, rfl⟩
abbrev main_call10_call0_call0_c_19 : Ref sig .tc := ⟨.hbm, 4712, rfl⟩
abbrev main_call10_call0_call0_v77 : Ref sig .tc := ⟨.hbm, 4713, rfl⟩
abbrev main_call10_call0_call0_v78 : Ref sig .tc := ⟨.hbm, 4714, rfl⟩
abbrev main_call10_call0_call0_v79 : Ref sig .tc := ⟨.hbm, 4715, rfl⟩
abbrev main_call10_call0_call0_v80 : Ref sig .tc := ⟨.hbm, 4716, rfl⟩
abbrev main_call10_call0_call0_v81 : Ref sig .tc := ⟨.hbm, 4717, rfl⟩
abbrev main_call10_call0_call0_c_20 : Ref sig .tc := ⟨.hbm, 4718, rfl⟩
abbrev main_call10_call0_call0_v82 : Ref sig .tc := ⟨.hbm, 4719, rfl⟩
abbrev main_call10_call0_call0_v83 : Ref sig .tc := ⟨.hbm, 4720, rfl⟩
abbrev main_call10_call0_call0_c_21 : Ref sig .tc := ⟨.hbm, 4721, rfl⟩
abbrev main_call10_call0_call0_v84 : Ref sig .tc := ⟨.hbm, 4722, rfl⟩
abbrev main_call10_call0_call0_v85 : Ref sig .tc := ⟨.hbm, 4723, rfl⟩
abbrev main_call10_call0_call0_v86 : Ref sig .tc := ⟨.hbm, 4724, rfl⟩
abbrev main_call10_call0_call0_v87 : Ref sig .tc := ⟨.hbm, 4725, rfl⟩
abbrev main_call10_call0_call0_v88 : Ref sig .tc := ⟨.hbm, 4726, rfl⟩
abbrev main_call10_call0_call0_c_22 : Ref sig .tc := ⟨.hbm, 4727, rfl⟩
abbrev main_call10_call0_call0_v89 : Ref sig .tc := ⟨.hbm, 4728, rfl⟩
abbrev main_call10_call0_call0_v90 : Ref sig .tc := ⟨.hbm, 4729, rfl⟩
abbrev main_call10_call0_call0_c_23 : Ref sig .tc := ⟨.hbm, 4730, rfl⟩
abbrev main_call10_call0_call0_v91 : Ref sig .tc := ⟨.hbm, 4731, rfl⟩
abbrev main_call10_call0_call0_v92 : Ref sig .tc := ⟨.hbm, 4732, rfl⟩
abbrev main_call10_call0_call0_v93 : Ref sig .tc := ⟨.hbm, 4733, rfl⟩
abbrev main_call10_call0_call0_v94 : Ref sig .tc := ⟨.hbm, 4734, rfl⟩
abbrev main_call10_call0_call0_v95 : Ref sig .tc := ⟨.hbm, 4735, rfl⟩
abbrev main_call10_call0_call0_c_24 : Ref sig .tc := ⟨.hbm, 4736, rfl⟩
abbrev main_call10_call0_call0_v96 : Ref sig .tc := ⟨.hbm, 4737, rfl⟩
abbrev main_call10_call0_call0_v97 : Ref sig .tc := ⟨.hbm, 4738, rfl⟩
abbrev main_call10_call0_call0_c_25 : Ref sig .tc := ⟨.hbm, 4739, rfl⟩
abbrev main_call10_call0_call0_v98 : Ref sig .tc := ⟨.hbm, 4740, rfl⟩
abbrev main_call10_call0_call0_v99 : Ref sig .tc := ⟨.hbm, 4741, rfl⟩
abbrev main_call10_call0_call0_v100 : Ref sig .tc := ⟨.hbm, 4742, rfl⟩
abbrev main_call10_call0_call0_v101 : Ref sig .tc := ⟨.hbm, 4743, rfl⟩
abbrev main_call10_call0_call0_v102 : Ref sig .tc := ⟨.hbm, 4744, rfl⟩
abbrev main_call10_call0_call0_v103 : Ref sig .tc := ⟨.hbm, 4745, rfl⟩
abbrev main_call10_call0_call0_v104 : Ref sig .tc := ⟨.hbm, 4746, rfl⟩
abbrev main_call10_call0_call0_v105 : Ref sig .tc := ⟨.hbm, 4747, rfl⟩
abbrev main_call10_call0_call0_c_26 : Ref sig .tc := ⟨.hbm, 4748, rfl⟩
abbrev main_call10_call0_call0_v106 : Ref sig .tc := ⟨.hbm, 4749, rfl⟩
abbrev main_call10_call0_call0_v107 : Ref sig .tc := ⟨.hbm, 4750, rfl⟩
abbrev main_call10_call0_call0_v108 : Ref sig .tc := ⟨.hbm, 4751, rfl⟩
abbrev main_call10_call0_call0_c_27 : Ref sig .tc := ⟨.hbm, 4752, rfl⟩
abbrev main_call10_call0_call0_v109 : Ref sig .tc := ⟨.hbm, 4753, rfl⟩
abbrev main_call10_call0_call0_v110 : Ref sig .tc := ⟨.hbm, 4754, rfl⟩
abbrev main_call10_call0_call0_c_28 : Ref sig .tc := ⟨.hbm, 4755, rfl⟩
abbrev main_call10_call0_call0_v111 : Ref sig .tc := ⟨.hbm, 4756, rfl⟩
abbrev main_call10_call0_call0_v112 : Ref sig .tc := ⟨.hbm, 4757, rfl⟩
abbrev main_call10_call0_call0_v113 : Ref sig .tc := ⟨.hbm, 4758, rfl⟩
abbrev main_call10_call0_call0_v114 : Ref sig .tc := ⟨.hbm, 4759, rfl⟩
abbrev main_call10_call0_call0_v115 : Ref sig .tc := ⟨.hbm, 4760, rfl⟩
abbrev main_call10_call0_call0_c_29 : Ref sig .tc := ⟨.hbm, 4761, rfl⟩
abbrev main_call10_call0_call0_v116 : Ref sig .tc := ⟨.hbm, 4762, rfl⟩
abbrev main_call10_call0_call0_v117 : Ref sig .tc := ⟨.hbm, 4763, rfl⟩
abbrev main_call10_call0_call0_c_30 : Ref sig .tc := ⟨.hbm, 4764, rfl⟩
abbrev main_call10_call0_call0_v118 : Ref sig .tc := ⟨.hbm, 4765, rfl⟩
abbrev main_call10_call0_call0_v119 : Ref sig .tc := ⟨.hbm, 4766, rfl⟩
abbrev main_call10_call0_call0_v120 : Ref sig .tc := ⟨.hbm, 4767, rfl⟩
abbrev main_call10_call0_call0_v121 : Ref sig .tc := ⟨.hbm, 4768, rfl⟩
abbrev main_call10_call0_call0_v122 : Ref sig .tc := ⟨.hbm, 4769, rfl⟩
abbrev main_call10_call0_call0_c_31 : Ref sig .tc := ⟨.hbm, 4770, rfl⟩
abbrev main_call10_call0_call0_v123 : Ref sig .tc := ⟨.hbm, 4771, rfl⟩
abbrev main_call10_call0_call0_v124 : Ref sig .tc := ⟨.hbm, 4772, rfl⟩
abbrev main_call10_call0_call0_c_32 : Ref sig .tc := ⟨.hbm, 4773, rfl⟩
abbrev main_call10_call0_call0_v125 : Ref sig .tc := ⟨.hbm, 4774, rfl⟩
abbrev main_call10_call0_call0_v126 : Ref sig .tc := ⟨.hbm, 4775, rfl⟩
abbrev main_call10_call0_call0_v127 : Ref sig .tc := ⟨.hbm, 4776, rfl⟩
abbrev main_call10_call0_call0_v128 : Ref sig .tc := ⟨.hbm, 4777, rfl⟩
abbrev main_call10_call0_call0_v129 : Ref sig .tc := ⟨.hbm, 4778, rfl⟩
abbrev main_call10_call0_call0_c_33 : Ref sig .tc := ⟨.hbm, 4779, rfl⟩
abbrev main_call10_call0_call0_v130 : Ref sig .tc := ⟨.hbm, 4780, rfl⟩
abbrev main_call10_call0_call0_v131 : Ref sig .tc := ⟨.hbm, 4781, rfl⟩
abbrev main_call10_call0_call0_c_34 : Ref sig .tc := ⟨.hbm, 4782, rfl⟩
abbrev main_call10_call0_call0_v132 : Ref sig .tc := ⟨.hbm, 4783, rfl⟩
abbrev main_call10_call0_call0_v133 : Ref sig .tc := ⟨.hbm, 4784, rfl⟩
abbrev main_call10_call0_call0_v134 : Ref sig .tc := ⟨.hbm, 4785, rfl⟩
abbrev main_call10_call0_call0_v135 : Ref sig .tc := ⟨.hbm, 4786, rfl⟩
abbrev main_call10_call0_call0_v136 : Ref sig .tc := ⟨.hbm, 4787, rfl⟩
abbrev main_call10_call0_call0_v137 : Ref sig .tc := ⟨.hbm, 4788, rfl⟩
abbrev main_call10_call0_call0_v138 : Ref sig .tc := ⟨.hbm, 4789, rfl⟩
abbrev main_call10_call0_call0_v139 : Ref sig .tc := ⟨.hbm, 4790, rfl⟩
abbrev main_call10_call0_call0_c_35 : Ref sig .tc := ⟨.hbm, 4791, rfl⟩
abbrev main_call10_call0_call0_v140 : Ref sig .tc := ⟨.hbm, 4792, rfl⟩
abbrev main_call10_call0_call0_v141 : Ref sig .tc := ⟨.hbm, 4793, rfl⟩
abbrev main_call10_call0_call0_v142 : Ref sig .tc := ⟨.hbm, 4794, rfl⟩
abbrev main_call10_call0_call0_c_36 : Ref sig .tc := ⟨.hbm, 4795, rfl⟩
abbrev main_call10_call0_call0_v143 : Ref sig .tc := ⟨.hbm, 4796, rfl⟩
abbrev main_call10_call0_call0_v144 : Ref sig .tc := ⟨.hbm, 4797, rfl⟩
abbrev main_call10_call0_call0_c_37 : Ref sig .tc := ⟨.hbm, 4798, rfl⟩
abbrev main_call10_call0_call0_v145 : Ref sig .tc := ⟨.hbm, 4799, rfl⟩
abbrev main_call10_call0_call0_v146 : Ref sig .tc := ⟨.hbm, 4800, rfl⟩
abbrev main_call10_call0_call0_v147 : Ref sig .tc := ⟨.hbm, 4801, rfl⟩
abbrev main_call10_call0_call0_v148 : Ref sig .tc := ⟨.hbm, 4802, rfl⟩
abbrev main_call10_call0_call0_v149 : Ref sig .tc := ⟨.hbm, 4803, rfl⟩
abbrev main_call10_call0_call0_c_38 : Ref sig .tc := ⟨.hbm, 4804, rfl⟩
abbrev main_call10_call0_call0_v150 : Ref sig .tc := ⟨.hbm, 4805, rfl⟩
abbrev main_call10_call0_call0_v151 : Ref sig .tc := ⟨.hbm, 4806, rfl⟩
abbrev main_call10_call0_call0_c_39 : Ref sig .tc := ⟨.hbm, 4807, rfl⟩
abbrev main_call10_call0_call0_v152 : Ref sig .tc := ⟨.hbm, 4808, rfl⟩
abbrev main_call10_call0_call0_v153 : Ref sig .tc := ⟨.hbm, 4809, rfl⟩
abbrev main_call10_call0_call0_v154 : Ref sig .tc := ⟨.hbm, 4810, rfl⟩
abbrev main_call10_call0_call0_v155 : Ref sig .tc := ⟨.hbm, 4811, rfl⟩
abbrev main_call10_call0_call0_v156 : Ref sig .tc := ⟨.hbm, 4812, rfl⟩
abbrev main_call10_call0_call0_c_40 : Ref sig .tc := ⟨.hbm, 4813, rfl⟩
abbrev main_call10_call0_call0_v157 : Ref sig .tc := ⟨.hbm, 4814, rfl⟩
abbrev main_call10_call0_call0_v158 : Ref sig .tc := ⟨.hbm, 4815, rfl⟩
abbrev main_call10_call0_call0_c_41 : Ref sig .tc := ⟨.hbm, 4816, rfl⟩
abbrev main_call10_call0_call0_v159 : Ref sig .tc := ⟨.hbm, 4817, rfl⟩
abbrev main_call10_call0_call0_v160 : Ref sig .tc := ⟨.hbm, 4818, rfl⟩
abbrev main_call10_call0_call0_v161 : Ref sig .tc := ⟨.hbm, 4819, rfl⟩
abbrev main_call10_call0_call0_v162 : Ref sig .tc := ⟨.hbm, 4820, rfl⟩
abbrev main_call10_call0_call0_v163 : Ref sig .tc := ⟨.hbm, 4821, rfl⟩
abbrev main_call10_call0_call0_c_42 : Ref sig .tc := ⟨.hbm, 4822, rfl⟩
abbrev main_call10_call0_call0_v164 : Ref sig .tc := ⟨.hbm, 4823, rfl⟩
abbrev main_call10_call0_call0_v165 : Ref sig .tc := ⟨.hbm, 4824, rfl⟩
abbrev main_call10_call0_call0_c_43 : Ref sig .tc := ⟨.hbm, 4825, rfl⟩
abbrev main_call10_call0_call0_v166 : Ref sig .tc := ⟨.hbm, 4826, rfl⟩
abbrev main_call10_call0_call0_v167 : Ref sig .tc := ⟨.hbm, 4827, rfl⟩
abbrev main_call10_call0_call0_v168 : Ref sig .tc := ⟨.hbm, 4828, rfl⟩
abbrev main_call10_call0_call0_v169 : Ref sig .tc := ⟨.hbm, 4829, rfl⟩
abbrev main_call10_call0_call0_v170 : Ref sig .tc := ⟨.hbm, 4830, rfl⟩
abbrev main_call10_call0_v11_0 : Ref sig .tc := ⟨.hbm, 4831, rfl⟩
abbrev main_call10_call0_call0_v172 : Ref sig .tc := ⟨.hbm, 4832, rfl⟩
abbrev main_call10_call0_call0_v173 : Ref sig .tc := ⟨.hbm, 4833, rfl⟩
abbrev main_call10_call0_call0_c_44 : Ref sig .tc := ⟨.hbm, 4834, rfl⟩
abbrev main_call10_call0_call0_v174 : Ref sig .tc := ⟨.hbm, 4835, rfl⟩
abbrev main_call10_call0_v11_1 : Ref sig .tc := ⟨.hbm, 4836, rfl⟩
abbrev main_call10_call0_v12 : Ref sig .tc := ⟨.hbm, 4837, rfl⟩
abbrev main_call10_call0_v13 : Ref sig .tc := ⟨.hbm, 4838, rfl⟩
abbrev main_call10_v0 : Ref sig .tc := ⟨.hbm, 4839, rfl⟩
abbrev main_call10_v1 : Ref sig .tc := ⟨.hbm, 4840, rfl⟩
abbrev main_call10_v2 : Ref sig .tc := ⟨.hbm, 4841, rfl⟩
abbrev main_call10_v3 : Ref sig .tc := ⟨.hbm, 4842, rfl⟩
abbrev main_call10_v4 : Ref sig .tc := ⟨.hbm, 4843, rfl⟩
abbrev main_call10_v5 : Ref sig .tc := ⟨.hbm, 4844, rfl⟩
abbrev main_call10_v6 : Ref sig .tc := ⟨.hbm, 4845, rfl⟩
abbrev main_call10_v7 : Ref sig .tc := ⟨.hbm, 4846, rfl⟩
abbrev main_call10_v8 : Ref sig .tc := ⟨.hbm, 4847, rfl⟩
abbrev main_call10_v9 : Ref sig .tc := ⟨.hbm, 4848, rfl⟩
abbrev main_call10_c : Ref sig .tc := ⟨.hbm, 4849, rfl⟩
abbrev main_call10_v10 : Ref sig .tc := ⟨.hbm, 4850, rfl⟩
abbrev main_call10_v11 : Ref sig .tc := ⟨.hbm, 4851, rfl⟩
abbrev main_call10_c_0 : Ref sig .tc := ⟨.hbm, 4852, rfl⟩
abbrev main_call10_v12 : Ref sig .tc := ⟨.hbm, 4853, rfl⟩
abbrev main_call10_v13 : Ref sig .tc := ⟨.hbm, 4854, rfl⟩
abbrev main_call10_v14 : Ref sig .tc := ⟨.hbm, 4855, rfl⟩
abbrev main_call10_v15 : Ref sig .tc := ⟨.hbm, 4856, rfl⟩
abbrev main_call10_call1_v0 : Ref sig .tc := ⟨.hbm, 4857, rfl⟩
abbrev main_call10_call1_c : Ref sig .tc := ⟨.hbm, 4858, rfl⟩
abbrev main_call10_call1_v1 : Ref sig .tc := ⟨.hbm, 4859, rfl⟩
abbrev main_call10_call1_v2 : Ref sig .tc := ⟨.hbm, 4860, rfl⟩
abbrev main_call10_call1_v3 : Ref sig .tc := ⟨.hbm, 4861, rfl⟩
abbrev main_call10_call1_v4 : Ref sig .tc := ⟨.hbm, 4862, rfl⟩
abbrev main_call10_call1_v5 : Ref sig .tc := ⟨.hbm, 4863, rfl⟩
abbrev main_call10_call1_v6 : Ref sig .tc := ⟨.hbm, 4864, rfl⟩
abbrev main_call10_call1_c_0 : Ref sig .tc := ⟨.hbm, 4865, rfl⟩
abbrev main_call10_call1_v7 : Ref sig .tc := ⟨.hbm, 4866, rfl⟩
abbrev main_call10_call1_v8 : Ref sig .tc := ⟨.hbm, 4867, rfl⟩
abbrev main_call10_call1_c_1 : Ref sig .tc := ⟨.hbm, 4868, rfl⟩
abbrev main_call10_call1_v9 : Ref sig .tc := ⟨.hbm, 4869, rfl⟩
abbrev main_call10_call1_v10 : Ref sig .tc := ⟨.hbm, 4870, rfl⟩
abbrev main_call10_call1_v11 : Ref sig .tc := ⟨.hbm, 4871, rfl⟩
abbrev main_call10_call1_v12 : Ref sig .tc := ⟨.hbm, 4872, rfl⟩
abbrev main_call10_call1_v13 : Ref sig .tc := ⟨.hbm, 4873, rfl⟩
abbrev main_call10_call1_c_2 : Ref sig .tc := ⟨.hbm, 4874, rfl⟩
abbrev main_call10_call1_v14 : Ref sig .tc := ⟨.hbm, 4875, rfl⟩
abbrev main_call10_call1_v15 : Ref sig .tc := ⟨.hbm, 4876, rfl⟩
abbrev main_call10_call1_c_3 : Ref sig .tc := ⟨.hbm, 4877, rfl⟩
abbrev main_call10_call1_v16 : Ref sig .tc := ⟨.hbm, 4878, rfl⟩
abbrev main_call10_call1_v17 : Ref sig .tc := ⟨.hbm, 4879, rfl⟩
abbrev main_call10_call1_v18 : Ref sig .tc := ⟨.hbm, 4880, rfl⟩
abbrev main_call10_call1_v19 : Ref sig .tc := ⟨.hbm, 4881, rfl⟩
abbrev main_call10_call1_v20 : Ref sig .tc := ⟨.hbm, 4882, rfl⟩
abbrev main_call10_call1_c_4 : Ref sig .tc := ⟨.hbm, 4883, rfl⟩
abbrev main_call10_call1_v21 : Ref sig .tc := ⟨.hbm, 4884, rfl⟩
abbrev main_call10_call1_v22 : Ref sig .tc := ⟨.hbm, 4885, rfl⟩
abbrev main_call10_call1_c_5 : Ref sig .tc := ⟨.hbm, 4886, rfl⟩
abbrev main_call10_call1_v23 : Ref sig .tc := ⟨.hbm, 4887, rfl⟩
abbrev main_call10_call1_v24 : Ref sig .tc := ⟨.hbm, 4888, rfl⟩
abbrev main_call10_call1_v25 : Ref sig .tc := ⟨.hbm, 4889, rfl⟩
abbrev main_call10_call1_v26 : Ref sig .tc := ⟨.hbm, 4890, rfl⟩
abbrev main_call10_call1_v27 : Ref sig .tc := ⟨.hbm, 4891, rfl⟩
abbrev main_call10_call1_c_6 : Ref sig .tc := ⟨.hbm, 4892, rfl⟩
abbrev main_call10_call1_v28 : Ref sig .tc := ⟨.hbm, 4893, rfl⟩
abbrev main_call10_call1_v29 : Ref sig .tc := ⟨.hbm, 4894, rfl⟩
abbrev main_call10_call1_c_7 : Ref sig .tc := ⟨.hbm, 4895, rfl⟩
abbrev main_call10_call1_v30 : Ref sig .tc := ⟨.hbm, 4896, rfl⟩
abbrev main_call10_call1_v31 : Ref sig .tc := ⟨.hbm, 4897, rfl⟩
abbrev main_call10_call1_v32 : Ref sig .tc := ⟨.hbm, 4898, rfl⟩
abbrev main_call10_call1_v33 : Ref sig .tc := ⟨.hbm, 4899, rfl⟩
abbrev main_call10_call1_v34 : Ref sig .tc := ⟨.hbm, 4900, rfl⟩
abbrev main_call10_call1_v35 : Ref sig .tc := ⟨.hbm, 4901, rfl⟩
abbrev main_call10_call1_v36 : Ref sig .tc := ⟨.hbm, 4902, rfl⟩
abbrev main_call10_call1_v37 : Ref sig .tc := ⟨.hbm, 4903, rfl⟩
abbrev main_call10_call1_c_8 : Ref sig .tc := ⟨.hbm, 4904, rfl⟩
abbrev main_call10_call1_v38 : Ref sig .tc := ⟨.hbm, 4905, rfl⟩
abbrev main_call10_call1_v39 : Ref sig .tc := ⟨.hbm, 4906, rfl⟩
abbrev main_call10_call1_v40 : Ref sig .tc := ⟨.hbm, 4907, rfl⟩
abbrev main_call10_call1_c_9 : Ref sig .tc := ⟨.hbm, 4908, rfl⟩
abbrev main_call10_call1_v41 : Ref sig .tc := ⟨.hbm, 4909, rfl⟩
abbrev main_call10_call1_v42 : Ref sig .tc := ⟨.hbm, 4910, rfl⟩
abbrev main_call10_call1_c_10 : Ref sig .tc := ⟨.hbm, 4911, rfl⟩
abbrev main_call10_call1_v43 : Ref sig .tc := ⟨.hbm, 4912, rfl⟩
abbrev main_call10_call1_v44 : Ref sig .tc := ⟨.hbm, 4913, rfl⟩
abbrev main_call10_call1_v45 : Ref sig .tc := ⟨.hbm, 4914, rfl⟩
abbrev main_call10_call1_v46 : Ref sig .tc := ⟨.hbm, 4915, rfl⟩
abbrev main_call10_call1_v47 : Ref sig .tc := ⟨.hbm, 4916, rfl⟩
abbrev main_call10_call1_c_11 : Ref sig .tc := ⟨.hbm, 4917, rfl⟩
abbrev main_call10_call1_v48 : Ref sig .tc := ⟨.hbm, 4918, rfl⟩
abbrev main_call10_call1_v49 : Ref sig .tc := ⟨.hbm, 4919, rfl⟩
abbrev main_call10_call1_c_12 : Ref sig .tc := ⟨.hbm, 4920, rfl⟩
abbrev main_call10_call1_v50 : Ref sig .tc := ⟨.hbm, 4921, rfl⟩
abbrev main_call10_call1_v51 : Ref sig .tc := ⟨.hbm, 4922, rfl⟩
abbrev main_call10_call1_v52 : Ref sig .tc := ⟨.hbm, 4923, rfl⟩
abbrev main_call10_call1_v53 : Ref sig .tc := ⟨.hbm, 4924, rfl⟩
abbrev main_call10_call1_v54 : Ref sig .tc := ⟨.hbm, 4925, rfl⟩
abbrev main_call10_call1_c_13 : Ref sig .tc := ⟨.hbm, 4926, rfl⟩
abbrev main_call10_call1_v55 : Ref sig .tc := ⟨.hbm, 4927, rfl⟩
abbrev main_call10_call1_v56 : Ref sig .tc := ⟨.hbm, 4928, rfl⟩
abbrev main_call10_call1_c_14 : Ref sig .tc := ⟨.hbm, 4929, rfl⟩
abbrev main_call10_call1_v57 : Ref sig .tc := ⟨.hbm, 4930, rfl⟩
abbrev main_call10_call1_v58 : Ref sig .tc := ⟨.hbm, 4931, rfl⟩
abbrev main_call10_call1_v59 : Ref sig .tc := ⟨.hbm, 4932, rfl⟩
abbrev main_call10_call1_v60 : Ref sig .tc := ⟨.hbm, 4933, rfl⟩
abbrev main_call10_call1_v61 : Ref sig .tc := ⟨.hbm, 4934, rfl⟩
abbrev main_call10_call1_c_15 : Ref sig .tc := ⟨.hbm, 4935, rfl⟩
abbrev main_call10_call1_v62 : Ref sig .tc := ⟨.hbm, 4936, rfl⟩
abbrev main_call10_call1_v63 : Ref sig .tc := ⟨.hbm, 4937, rfl⟩
abbrev main_call10_call1_c_16 : Ref sig .tc := ⟨.hbm, 4938, rfl⟩
abbrev main_call10_call1_v64 : Ref sig .tc := ⟨.hbm, 4939, rfl⟩
abbrev main_call10_call1_v65 : Ref sig .tc := ⟨.hbm, 4940, rfl⟩
abbrev main_call10_call1_v66 : Ref sig .tc := ⟨.hbm, 4941, rfl⟩
abbrev main_call10_call1_v67 : Ref sig .tc := ⟨.hbm, 4942, rfl⟩
abbrev main_call10_call1_v68 : Ref sig .tc := ⟨.hbm, 4943, rfl⟩
abbrev main_call10_call1_v69 : Ref sig .tc := ⟨.hbm, 4944, rfl⟩
abbrev main_call10_call1_v70 : Ref sig .tc := ⟨.hbm, 4945, rfl⟩
abbrev main_call10_call1_v71 : Ref sig .tc := ⟨.hbm, 4946, rfl⟩
abbrev main_call10_call1_c_17 : Ref sig .tc := ⟨.hbm, 4947, rfl⟩
abbrev main_call10_call1_v72 : Ref sig .tc := ⟨.hbm, 4948, rfl⟩
abbrev main_call10_call1_v73 : Ref sig .tc := ⟨.hbm, 4949, rfl⟩
abbrev main_call10_call1_v74 : Ref sig .tc := ⟨.hbm, 4950, rfl⟩
abbrev main_call10_call1_c_18 : Ref sig .tc := ⟨.hbm, 4951, rfl⟩
abbrev main_call10_call1_v75 : Ref sig .tc := ⟨.hbm, 4952, rfl⟩
abbrev main_call10_call1_v76 : Ref sig .tc := ⟨.hbm, 4953, rfl⟩
abbrev main_call10_call1_c_19 : Ref sig .tc := ⟨.hbm, 4954, rfl⟩
abbrev main_call10_call1_v77 : Ref sig .tc := ⟨.hbm, 4955, rfl⟩
abbrev main_call10_call1_v78 : Ref sig .tc := ⟨.hbm, 4956, rfl⟩
abbrev main_call10_call1_v79 : Ref sig .tc := ⟨.hbm, 4957, rfl⟩
abbrev main_call10_call1_v80 : Ref sig .tc := ⟨.hbm, 4958, rfl⟩
abbrev main_call10_call1_v81 : Ref sig .tc := ⟨.hbm, 4959, rfl⟩
abbrev main_call10_call1_c_20 : Ref sig .tc := ⟨.hbm, 4960, rfl⟩
abbrev main_call10_call1_v82 : Ref sig .tc := ⟨.hbm, 4961, rfl⟩
abbrev main_call10_call1_v83 : Ref sig .tc := ⟨.hbm, 4962, rfl⟩
abbrev main_call10_call1_c_21 : Ref sig .tc := ⟨.hbm, 4963, rfl⟩
abbrev main_call10_call1_v84 : Ref sig .tc := ⟨.hbm, 4964, rfl⟩
abbrev main_call10_call1_v85 : Ref sig .tc := ⟨.hbm, 4965, rfl⟩
abbrev main_call10_call1_v86 : Ref sig .tc := ⟨.hbm, 4966, rfl⟩
abbrev main_call10_call1_v87 : Ref sig .tc := ⟨.hbm, 4967, rfl⟩
abbrev main_call10_call1_v88 : Ref sig .tc := ⟨.hbm, 4968, rfl⟩
abbrev main_call10_call1_c_22 : Ref sig .tc := ⟨.hbm, 4969, rfl⟩
abbrev main_call10_call1_v89 : Ref sig .tc := ⟨.hbm, 4970, rfl⟩
abbrev main_call10_call1_v90 : Ref sig .tc := ⟨.hbm, 4971, rfl⟩
abbrev main_call10_call1_c_23 : Ref sig .tc := ⟨.hbm, 4972, rfl⟩
abbrev main_call10_call1_v91 : Ref sig .tc := ⟨.hbm, 4973, rfl⟩
abbrev main_call10_call1_v92 : Ref sig .tc := ⟨.hbm, 4974, rfl⟩
abbrev main_call10_call1_v93 : Ref sig .tc := ⟨.hbm, 4975, rfl⟩
abbrev main_call10_call1_v94 : Ref sig .tc := ⟨.hbm, 4976, rfl⟩
abbrev main_call10_call1_v95 : Ref sig .tc := ⟨.hbm, 4977, rfl⟩
abbrev main_call10_call1_c_24 : Ref sig .tc := ⟨.hbm, 4978, rfl⟩
abbrev main_call10_call1_v96 : Ref sig .tc := ⟨.hbm, 4979, rfl⟩
abbrev main_call10_call1_v97 : Ref sig .tc := ⟨.hbm, 4980, rfl⟩
abbrev main_call10_call1_c_25 : Ref sig .tc := ⟨.hbm, 4981, rfl⟩
abbrev main_call10_call1_v98 : Ref sig .tc := ⟨.hbm, 4982, rfl⟩
abbrev main_call10_call1_v99 : Ref sig .tc := ⟨.hbm, 4983, rfl⟩
abbrev main_call10_call1_v100 : Ref sig .tc := ⟨.hbm, 4984, rfl⟩
abbrev main_call10_call1_v101 : Ref sig .tc := ⟨.hbm, 4985, rfl⟩
abbrev main_call10_call1_v102 : Ref sig .tc := ⟨.hbm, 4986, rfl⟩
abbrev main_call10_call1_v103 : Ref sig .tc := ⟨.hbm, 4987, rfl⟩
abbrev main_call10_call1_v104 : Ref sig .tc := ⟨.hbm, 4988, rfl⟩
abbrev main_call10_call1_v105 : Ref sig .tc := ⟨.hbm, 4989, rfl⟩
abbrev main_call10_call1_c_26 : Ref sig .tc := ⟨.hbm, 4990, rfl⟩
abbrev main_call10_call1_v106 : Ref sig .tc := ⟨.hbm, 4991, rfl⟩
abbrev main_call10_call1_v107 : Ref sig .tc := ⟨.hbm, 4992, rfl⟩
abbrev main_call10_call1_v108 : Ref sig .tc := ⟨.hbm, 4993, rfl⟩
abbrev main_call10_call1_c_27 : Ref sig .tc := ⟨.hbm, 4994, rfl⟩
abbrev main_call10_call1_v109 : Ref sig .tc := ⟨.hbm, 4995, rfl⟩
abbrev main_call10_call1_v110 : Ref sig .tc := ⟨.hbm, 4996, rfl⟩
abbrev main_call10_call1_c_28 : Ref sig .tc := ⟨.hbm, 4997, rfl⟩
abbrev main_call10_call1_v111 : Ref sig .tc := ⟨.hbm, 4998, rfl⟩
abbrev main_call10_call1_v112 : Ref sig .tc := ⟨.hbm, 4999, rfl⟩
abbrev main_call10_call1_v113 : Ref sig .tc := ⟨.hbm, 5000, rfl⟩
abbrev main_call10_call1_v114 : Ref sig .tc := ⟨.hbm, 5001, rfl⟩
abbrev main_call10_call1_v115 : Ref sig .tc := ⟨.hbm, 5002, rfl⟩
abbrev main_call10_call1_c_29 : Ref sig .tc := ⟨.hbm, 5003, rfl⟩
abbrev main_call10_call1_v116 : Ref sig .tc := ⟨.hbm, 5004, rfl⟩
abbrev main_call10_call1_v117 : Ref sig .tc := ⟨.hbm, 5005, rfl⟩
abbrev main_call10_call1_c_30 : Ref sig .tc := ⟨.hbm, 5006, rfl⟩
abbrev main_call10_call1_v118 : Ref sig .tc := ⟨.hbm, 5007, rfl⟩
abbrev main_call10_call1_v119 : Ref sig .tc := ⟨.hbm, 5008, rfl⟩
abbrev main_call10_call1_v120 : Ref sig .tc := ⟨.hbm, 5009, rfl⟩
abbrev main_call10_call1_v121 : Ref sig .tc := ⟨.hbm, 5010, rfl⟩
abbrev main_call10_call1_v122 : Ref sig .tc := ⟨.hbm, 5011, rfl⟩
abbrev main_call10_call1_c_31 : Ref sig .tc := ⟨.hbm, 5012, rfl⟩
abbrev main_call10_call1_v123 : Ref sig .tc := ⟨.hbm, 5013, rfl⟩
abbrev main_call10_call1_v124 : Ref sig .tc := ⟨.hbm, 5014, rfl⟩
abbrev main_call10_call1_c_32 : Ref sig .tc := ⟨.hbm, 5015, rfl⟩
abbrev main_call10_call1_v125 : Ref sig .tc := ⟨.hbm, 5016, rfl⟩
abbrev main_call10_call1_v126 : Ref sig .tc := ⟨.hbm, 5017, rfl⟩
abbrev main_call10_call1_v127 : Ref sig .tc := ⟨.hbm, 5018, rfl⟩
abbrev main_call10_call1_v128 : Ref sig .tc := ⟨.hbm, 5019, rfl⟩
abbrev main_call10_call1_v129 : Ref sig .tc := ⟨.hbm, 5020, rfl⟩
abbrev main_call10_call1_c_33 : Ref sig .tc := ⟨.hbm, 5021, rfl⟩
abbrev main_call10_call1_v130 : Ref sig .tc := ⟨.hbm, 5022, rfl⟩
abbrev main_call10_call1_v131 : Ref sig .tc := ⟨.hbm, 5023, rfl⟩
abbrev main_call10_call1_c_34 : Ref sig .tc := ⟨.hbm, 5024, rfl⟩
abbrev main_call10_call1_v132 : Ref sig .tc := ⟨.hbm, 5025, rfl⟩
abbrev main_call10_call1_v133 : Ref sig .tc := ⟨.hbm, 5026, rfl⟩
abbrev main_call10_call1_v134 : Ref sig .tc := ⟨.hbm, 5027, rfl⟩
abbrev main_call10_call1_v135 : Ref sig .tc := ⟨.hbm, 5028, rfl⟩
abbrev main_call10_call1_v136 : Ref sig .tc := ⟨.hbm, 5029, rfl⟩
abbrev main_call10_call1_v137 : Ref sig .tc := ⟨.hbm, 5030, rfl⟩
abbrev main_call10_call1_v138 : Ref sig .tc := ⟨.hbm, 5031, rfl⟩
abbrev main_call10_call1_v139 : Ref sig .tc := ⟨.hbm, 5032, rfl⟩
abbrev main_call10_call1_c_35 : Ref sig .tc := ⟨.hbm, 5033, rfl⟩
abbrev main_call10_call1_v140 : Ref sig .tc := ⟨.hbm, 5034, rfl⟩
abbrev main_call10_call1_v141 : Ref sig .tc := ⟨.hbm, 5035, rfl⟩
abbrev main_call10_call1_v142 : Ref sig .tc := ⟨.hbm, 5036, rfl⟩
abbrev main_call10_call1_c_36 : Ref sig .tc := ⟨.hbm, 5037, rfl⟩
abbrev main_call10_call1_v143 : Ref sig .tc := ⟨.hbm, 5038, rfl⟩
abbrev main_call10_call1_v144 : Ref sig .tc := ⟨.hbm, 5039, rfl⟩
abbrev main_call10_call1_c_37 : Ref sig .tc := ⟨.hbm, 5040, rfl⟩
abbrev main_call10_call1_v145 : Ref sig .tc := ⟨.hbm, 5041, rfl⟩
abbrev main_call10_call1_v146 : Ref sig .tc := ⟨.hbm, 5042, rfl⟩
abbrev main_call10_call1_v147 : Ref sig .tc := ⟨.hbm, 5043, rfl⟩
abbrev main_call10_call1_v148 : Ref sig .tc := ⟨.hbm, 5044, rfl⟩
abbrev main_call10_call1_v149 : Ref sig .tc := ⟨.hbm, 5045, rfl⟩
abbrev main_call10_call1_c_38 : Ref sig .tc := ⟨.hbm, 5046, rfl⟩
abbrev main_call10_call1_v150 : Ref sig .tc := ⟨.hbm, 5047, rfl⟩
abbrev main_call10_call1_v151 : Ref sig .tc := ⟨.hbm, 5048, rfl⟩
abbrev main_call10_call1_c_39 : Ref sig .tc := ⟨.hbm, 5049, rfl⟩
abbrev main_call10_call1_v152 : Ref sig .tc := ⟨.hbm, 5050, rfl⟩
abbrev main_call10_call1_v153 : Ref sig .tc := ⟨.hbm, 5051, rfl⟩
abbrev main_call10_call1_v154 : Ref sig .tc := ⟨.hbm, 5052, rfl⟩
abbrev main_call10_call1_v155 : Ref sig .tc := ⟨.hbm, 5053, rfl⟩
abbrev main_call10_call1_v156 : Ref sig .tc := ⟨.hbm, 5054, rfl⟩
abbrev main_call10_call1_c_40 : Ref sig .tc := ⟨.hbm, 5055, rfl⟩
abbrev main_call10_call1_v157 : Ref sig .tc := ⟨.hbm, 5056, rfl⟩
abbrev main_call10_call1_v158 : Ref sig .tc := ⟨.hbm, 5057, rfl⟩
abbrev main_call10_call1_c_41 : Ref sig .tc := ⟨.hbm, 5058, rfl⟩
abbrev main_call10_call1_v159 : Ref sig .tc := ⟨.hbm, 5059, rfl⟩
abbrev main_call10_call1_v160 : Ref sig .tc := ⟨.hbm, 5060, rfl⟩
abbrev main_call10_call1_v161 : Ref sig .tc := ⟨.hbm, 5061, rfl⟩
abbrev main_call10_call1_v162 : Ref sig .tc := ⟨.hbm, 5062, rfl⟩
abbrev main_call10_call1_v163 : Ref sig .tc := ⟨.hbm, 5063, rfl⟩
abbrev main_call10_call1_c_42 : Ref sig .tc := ⟨.hbm, 5064, rfl⟩
abbrev main_call10_call1_v164 : Ref sig .tc := ⟨.hbm, 5065, rfl⟩
abbrev main_call10_call1_v165 : Ref sig .tc := ⟨.hbm, 5066, rfl⟩
abbrev main_call10_call1_c_43 : Ref sig .tc := ⟨.hbm, 5067, rfl⟩
abbrev main_call10_call1_v166 : Ref sig .tc := ⟨.hbm, 5068, rfl⟩
abbrev main_call10_call1_v167 : Ref sig .tc := ⟨.hbm, 5069, rfl⟩
abbrev main_call10_call1_v168 : Ref sig .tc := ⟨.hbm, 5070, rfl⟩
abbrev main_call10_call1_v169 : Ref sig .tc := ⟨.hbm, 5071, rfl⟩
abbrev main_call10_call1_v170 : Ref sig .tc := ⟨.hbm, 5072, rfl⟩
abbrev main_call10_v16_0 : Ref sig .tc := ⟨.hbm, 5073, rfl⟩
abbrev main_call10_call1_v172 : Ref sig .tc := ⟨.hbm, 5074, rfl⟩
abbrev main_call10_call1_v173 : Ref sig .tc := ⟨.hbm, 5075, rfl⟩
abbrev main_call10_call1_c_44 : Ref sig .tc := ⟨.hbm, 5076, rfl⟩
abbrev main_call10_call1_v174 : Ref sig .tc := ⟨.hbm, 5077, rfl⟩
abbrev main_call10_v16_1 : Ref sig .tc := ⟨.hbm, 5078, rfl⟩
abbrev main_call10_v17 : Ref sig .tc := ⟨.hbm, 5079, rfl⟩
abbrev main_call10_v18_0 : Ref sig .tc := ⟨.hbm, 5080, rfl⟩
abbrev main_v50 : Ref sig .tc := ⟨.hbm, 5081, rfl⟩
abbrev main_v51 : Ref sig .tc := ⟨.hbm, 5082, rfl⟩
abbrev main_v52 : Ref sig .tc := ⟨.hbm, 5083, rfl⟩
abbrev main_v53 : Ref sig .tc := ⟨.hbm, 5084, rfl⟩
abbrev main_call11_call0_v0 : Ref sig .tc := ⟨.hbm, 5085, rfl⟩
abbrev main_call11_call0_v1 : Ref sig .tc := ⟨.hbm, 5086, rfl⟩
abbrev main_call11_call0_v2 : Ref sig .tc := ⟨.hbm, 5087, rfl⟩
abbrev main_call11_call0_v3 : Ref sig .tc := ⟨.hbm, 5088, rfl⟩
abbrev main_call11_call0_v4 : Ref sig .tc := ⟨.hbm, 5089, rfl⟩
abbrev main_call11_call0_c : Ref sig .tc := ⟨.hbm, 5090, rfl⟩
abbrev main_call11_call0_v5 : Ref sig .tc := ⟨.hbm, 5091, rfl⟩
abbrev main_call11_call0_v6 : Ref sig .tc := ⟨.hbm, 5092, rfl⟩
abbrev main_call11_call0_c_0 : Ref sig .tc := ⟨.hbm, 5093, rfl⟩
abbrev main_call11_call0_v7 : Ref sig .tc := ⟨.hbm, 5094, rfl⟩
abbrev main_call11_call0_v8 : Ref sig .tc := ⟨.hbm, 5095, rfl⟩
abbrev main_call11_call0_v9 : Ref sig .tc := ⟨.hbm, 5096, rfl⟩
abbrev main_call11_call0_v10 : Ref sig .tc := ⟨.hbm, 5097, rfl⟩
abbrev main_call11_call0_call0_v0 : Ref sig .tc := ⟨.hbm, 5098, rfl⟩
abbrev main_call11_call0_call0_c : Ref sig .tc := ⟨.hbm, 5099, rfl⟩
abbrev main_call11_call0_call0_v1 : Ref sig .tc := ⟨.hbm, 5100, rfl⟩
abbrev main_call11_call0_call0_v2 : Ref sig .tc := ⟨.hbm, 5101, rfl⟩
abbrev main_call11_call0_call0_v3 : Ref sig .tc := ⟨.hbm, 5102, rfl⟩
abbrev main_call11_call0_call0_v4 : Ref sig .tc := ⟨.hbm, 5103, rfl⟩
abbrev main_call11_call0_call0_v5 : Ref sig .tc := ⟨.hbm, 5104, rfl⟩
abbrev main_call11_call0_call0_v6 : Ref sig .tc := ⟨.hbm, 5105, rfl⟩
abbrev main_call11_call0_call0_c_0 : Ref sig .tc := ⟨.hbm, 5106, rfl⟩
abbrev main_call11_call0_call0_v7 : Ref sig .tc := ⟨.hbm, 5107, rfl⟩
abbrev main_call11_call0_call0_v8 : Ref sig .tc := ⟨.hbm, 5108, rfl⟩
abbrev main_call11_call0_call0_c_1 : Ref sig .tc := ⟨.hbm, 5109, rfl⟩
abbrev main_call11_call0_call0_v9 : Ref sig .tc := ⟨.hbm, 5110, rfl⟩
abbrev main_call11_call0_call0_v10 : Ref sig .tc := ⟨.hbm, 5111, rfl⟩
abbrev main_call11_call0_call0_v11 : Ref sig .tc := ⟨.hbm, 5112, rfl⟩
abbrev main_call11_call0_call0_v12 : Ref sig .tc := ⟨.hbm, 5113, rfl⟩
abbrev main_call11_call0_call0_v13 : Ref sig .tc := ⟨.hbm, 5114, rfl⟩
abbrev main_call11_call0_call0_c_2 : Ref sig .tc := ⟨.hbm, 5115, rfl⟩
abbrev main_call11_call0_call0_v14 : Ref sig .tc := ⟨.hbm, 5116, rfl⟩
abbrev main_call11_call0_call0_v15 : Ref sig .tc := ⟨.hbm, 5117, rfl⟩
abbrev main_call11_call0_call0_c_3 : Ref sig .tc := ⟨.hbm, 5118, rfl⟩
abbrev main_call11_call0_call0_v16 : Ref sig .tc := ⟨.hbm, 5119, rfl⟩
abbrev main_call11_call0_call0_v17 : Ref sig .tc := ⟨.hbm, 5120, rfl⟩
abbrev main_call11_call0_call0_v18 : Ref sig .tc := ⟨.hbm, 5121, rfl⟩
abbrev main_call11_call0_call0_v19 : Ref sig .tc := ⟨.hbm, 5122, rfl⟩
abbrev main_call11_call0_call0_v20 : Ref sig .tc := ⟨.hbm, 5123, rfl⟩
abbrev main_call11_call0_call0_c_4 : Ref sig .tc := ⟨.hbm, 5124, rfl⟩
abbrev main_call11_call0_call0_v21 : Ref sig .tc := ⟨.hbm, 5125, rfl⟩
abbrev main_call11_call0_call0_v22 : Ref sig .tc := ⟨.hbm, 5126, rfl⟩
abbrev main_call11_call0_call0_c_5 : Ref sig .tc := ⟨.hbm, 5127, rfl⟩
abbrev main_call11_call0_call0_v23 : Ref sig .tc := ⟨.hbm, 5128, rfl⟩
abbrev main_call11_call0_call0_v24 : Ref sig .tc := ⟨.hbm, 5129, rfl⟩
abbrev main_call11_call0_call0_v25 : Ref sig .tc := ⟨.hbm, 5130, rfl⟩
abbrev main_call11_call0_call0_v26 : Ref sig .tc := ⟨.hbm, 5131, rfl⟩
abbrev main_call11_call0_call0_v27 : Ref sig .tc := ⟨.hbm, 5132, rfl⟩
abbrev main_call11_call0_call0_c_6 : Ref sig .tc := ⟨.hbm, 5133, rfl⟩
abbrev main_call11_call0_call0_v28 : Ref sig .tc := ⟨.hbm, 5134, rfl⟩
abbrev main_call11_call0_call0_v29 : Ref sig .tc := ⟨.hbm, 5135, rfl⟩
abbrev main_call11_call0_call0_c_7 : Ref sig .tc := ⟨.hbm, 5136, rfl⟩
abbrev main_call11_call0_call0_v30 : Ref sig .tc := ⟨.hbm, 5137, rfl⟩
abbrev main_call11_call0_call0_v31 : Ref sig .tc := ⟨.hbm, 5138, rfl⟩
abbrev main_call11_call0_call0_v32 : Ref sig .tc := ⟨.hbm, 5139, rfl⟩
abbrev main_call11_call0_call0_v33 : Ref sig .tc := ⟨.hbm, 5140, rfl⟩
abbrev main_call11_call0_call0_v34 : Ref sig .tc := ⟨.hbm, 5141, rfl⟩
abbrev main_call11_call0_call0_v35 : Ref sig .tc := ⟨.hbm, 5142, rfl⟩
abbrev main_call11_call0_call0_v36 : Ref sig .tc := ⟨.hbm, 5143, rfl⟩
abbrev main_call11_call0_call0_v37 : Ref sig .tc := ⟨.hbm, 5144, rfl⟩
abbrev main_call11_call0_call0_c_8 : Ref sig .tc := ⟨.hbm, 5145, rfl⟩
abbrev main_call11_call0_call0_v38 : Ref sig .tc := ⟨.hbm, 5146, rfl⟩
abbrev main_call11_call0_call0_v39 : Ref sig .tc := ⟨.hbm, 5147, rfl⟩
abbrev main_call11_call0_call0_v40 : Ref sig .tc := ⟨.hbm, 5148, rfl⟩
abbrev main_call11_call0_call0_c_9 : Ref sig .tc := ⟨.hbm, 5149, rfl⟩
abbrev main_call11_call0_call0_v41 : Ref sig .tc := ⟨.hbm, 5150, rfl⟩
abbrev main_call11_call0_call0_v42 : Ref sig .tc := ⟨.hbm, 5151, rfl⟩
abbrev main_call11_call0_call0_c_10 : Ref sig .tc := ⟨.hbm, 5152, rfl⟩
abbrev main_call11_call0_call0_v43 : Ref sig .tc := ⟨.hbm, 5153, rfl⟩
abbrev main_call11_call0_call0_v44 : Ref sig .tc := ⟨.hbm, 5154, rfl⟩
abbrev main_call11_call0_call0_v45 : Ref sig .tc := ⟨.hbm, 5155, rfl⟩
abbrev main_call11_call0_call0_v46 : Ref sig .tc := ⟨.hbm, 5156, rfl⟩
abbrev main_call11_call0_call0_v47 : Ref sig .tc := ⟨.hbm, 5157, rfl⟩
abbrev main_call11_call0_call0_c_11 : Ref sig .tc := ⟨.hbm, 5158, rfl⟩
abbrev main_call11_call0_call0_v48 : Ref sig .tc := ⟨.hbm, 5159, rfl⟩
abbrev main_call11_call0_call0_v49 : Ref sig .tc := ⟨.hbm, 5160, rfl⟩
abbrev main_call11_call0_call0_c_12 : Ref sig .tc := ⟨.hbm, 5161, rfl⟩
abbrev main_call11_call0_call0_v50 : Ref sig .tc := ⟨.hbm, 5162, rfl⟩
abbrev main_call11_call0_call0_v51 : Ref sig .tc := ⟨.hbm, 5163, rfl⟩
abbrev main_call11_call0_call0_v52 : Ref sig .tc := ⟨.hbm, 5164, rfl⟩
abbrev main_call11_call0_call0_v53 : Ref sig .tc := ⟨.hbm, 5165, rfl⟩
abbrev main_call11_call0_call0_v54 : Ref sig .tc := ⟨.hbm, 5166, rfl⟩
abbrev main_call11_call0_call0_c_13 : Ref sig .tc := ⟨.hbm, 5167, rfl⟩
abbrev main_call11_call0_call0_v55 : Ref sig .tc := ⟨.hbm, 5168, rfl⟩
abbrev main_call11_call0_call0_v56 : Ref sig .tc := ⟨.hbm, 5169, rfl⟩
abbrev main_call11_call0_call0_c_14 : Ref sig .tc := ⟨.hbm, 5170, rfl⟩
abbrev main_call11_call0_call0_v57 : Ref sig .tc := ⟨.hbm, 5171, rfl⟩
abbrev main_call11_call0_call0_v58 : Ref sig .tc := ⟨.hbm, 5172, rfl⟩
abbrev main_call11_call0_call0_v59 : Ref sig .tc := ⟨.hbm, 5173, rfl⟩
abbrev main_call11_call0_call0_v60 : Ref sig .tc := ⟨.hbm, 5174, rfl⟩
abbrev main_call11_call0_call0_v61 : Ref sig .tc := ⟨.hbm, 5175, rfl⟩
abbrev main_call11_call0_call0_c_15 : Ref sig .tc := ⟨.hbm, 5176, rfl⟩
abbrev main_call11_call0_call0_v62 : Ref sig .tc := ⟨.hbm, 5177, rfl⟩
abbrev main_call11_call0_call0_v63 : Ref sig .tc := ⟨.hbm, 5178, rfl⟩
abbrev main_call11_call0_call0_c_16 : Ref sig .tc := ⟨.hbm, 5179, rfl⟩
abbrev main_call11_call0_call0_v64 : Ref sig .tc := ⟨.hbm, 5180, rfl⟩
abbrev main_call11_call0_call0_v65 : Ref sig .tc := ⟨.hbm, 5181, rfl⟩
abbrev main_call11_call0_call0_v66 : Ref sig .tc := ⟨.hbm, 5182, rfl⟩
abbrev main_call11_call0_call0_v67 : Ref sig .tc := ⟨.hbm, 5183, rfl⟩
abbrev main_call11_call0_call0_v68 : Ref sig .tc := ⟨.hbm, 5184, rfl⟩
abbrev main_call11_call0_call0_v69 : Ref sig .tc := ⟨.hbm, 5185, rfl⟩
abbrev main_call11_call0_call0_v70 : Ref sig .tc := ⟨.hbm, 5186, rfl⟩
abbrev main_call11_call0_call0_v71 : Ref sig .tc := ⟨.hbm, 5187, rfl⟩
abbrev main_call11_call0_call0_c_17 : Ref sig .tc := ⟨.hbm, 5188, rfl⟩
abbrev main_call11_call0_call0_v72 : Ref sig .tc := ⟨.hbm, 5189, rfl⟩
abbrev main_call11_call0_call0_v73 : Ref sig .tc := ⟨.hbm, 5190, rfl⟩
abbrev main_call11_call0_call0_v74 : Ref sig .tc := ⟨.hbm, 5191, rfl⟩
abbrev main_call11_call0_call0_c_18 : Ref sig .tc := ⟨.hbm, 5192, rfl⟩
abbrev main_call11_call0_call0_v75 : Ref sig .tc := ⟨.hbm, 5193, rfl⟩
abbrev main_call11_call0_call0_v76 : Ref sig .tc := ⟨.hbm, 5194, rfl⟩
abbrev main_call11_call0_call0_c_19 : Ref sig .tc := ⟨.hbm, 5195, rfl⟩
abbrev main_call11_call0_call0_v77 : Ref sig .tc := ⟨.hbm, 5196, rfl⟩
abbrev main_call11_call0_call0_v78 : Ref sig .tc := ⟨.hbm, 5197, rfl⟩
abbrev main_call11_call0_call0_v79 : Ref sig .tc := ⟨.hbm, 5198, rfl⟩
abbrev main_call11_call0_call0_v80 : Ref sig .tc := ⟨.hbm, 5199, rfl⟩
abbrev main_call11_call0_call0_v81 : Ref sig .tc := ⟨.hbm, 5200, rfl⟩
abbrev main_call11_call0_call0_c_20 : Ref sig .tc := ⟨.hbm, 5201, rfl⟩
abbrev main_call11_call0_call0_v82 : Ref sig .tc := ⟨.hbm, 5202, rfl⟩
abbrev main_call11_call0_call0_v83 : Ref sig .tc := ⟨.hbm, 5203, rfl⟩
abbrev main_call11_call0_call0_c_21 : Ref sig .tc := ⟨.hbm, 5204, rfl⟩
abbrev main_call11_call0_call0_v84 : Ref sig .tc := ⟨.hbm, 5205, rfl⟩
abbrev main_call11_call0_call0_v85 : Ref sig .tc := ⟨.hbm, 5206, rfl⟩
abbrev main_call11_call0_call0_v86 : Ref sig .tc := ⟨.hbm, 5207, rfl⟩
abbrev main_call11_call0_call0_v87 : Ref sig .tc := ⟨.hbm, 5208, rfl⟩
abbrev main_call11_call0_call0_v88 : Ref sig .tc := ⟨.hbm, 5209, rfl⟩
abbrev main_call11_call0_call0_c_22 : Ref sig .tc := ⟨.hbm, 5210, rfl⟩
abbrev main_call11_call0_call0_v89 : Ref sig .tc := ⟨.hbm, 5211, rfl⟩
abbrev main_call11_call0_call0_v90 : Ref sig .tc := ⟨.hbm, 5212, rfl⟩
abbrev main_call11_call0_call0_c_23 : Ref sig .tc := ⟨.hbm, 5213, rfl⟩
abbrev main_call11_call0_call0_v91 : Ref sig .tc := ⟨.hbm, 5214, rfl⟩
abbrev main_call11_call0_call0_v92 : Ref sig .tc := ⟨.hbm, 5215, rfl⟩
abbrev main_call11_call0_call0_v93 : Ref sig .tc := ⟨.hbm, 5216, rfl⟩
abbrev main_call11_call0_call0_v94 : Ref sig .tc := ⟨.hbm, 5217, rfl⟩
abbrev main_call11_call0_call0_v95 : Ref sig .tc := ⟨.hbm, 5218, rfl⟩
abbrev main_call11_call0_call0_c_24 : Ref sig .tc := ⟨.hbm, 5219, rfl⟩
abbrev main_call11_call0_call0_v96 : Ref sig .tc := ⟨.hbm, 5220, rfl⟩
abbrev main_call11_call0_call0_v97 : Ref sig .tc := ⟨.hbm, 5221, rfl⟩
abbrev main_call11_call0_call0_c_25 : Ref sig .tc := ⟨.hbm, 5222, rfl⟩
abbrev main_call11_call0_call0_v98 : Ref sig .tc := ⟨.hbm, 5223, rfl⟩
abbrev main_call11_call0_call0_v99 : Ref sig .tc := ⟨.hbm, 5224, rfl⟩
abbrev main_call11_call0_call0_v100 : Ref sig .tc := ⟨.hbm, 5225, rfl⟩
abbrev main_call11_call0_call0_v101 : Ref sig .tc := ⟨.hbm, 5226, rfl⟩
abbrev main_call11_call0_call0_v102 : Ref sig .tc := ⟨.hbm, 5227, rfl⟩
abbrev main_call11_call0_call0_v103 : Ref sig .tc := ⟨.hbm, 5228, rfl⟩
abbrev main_call11_call0_call0_v104 : Ref sig .tc := ⟨.hbm, 5229, rfl⟩
abbrev main_call11_call0_call0_v105 : Ref sig .tc := ⟨.hbm, 5230, rfl⟩
abbrev main_call11_call0_call0_c_26 : Ref sig .tc := ⟨.hbm, 5231, rfl⟩
abbrev main_call11_call0_call0_v106 : Ref sig .tc := ⟨.hbm, 5232, rfl⟩
abbrev main_call11_call0_call0_v107 : Ref sig .tc := ⟨.hbm, 5233, rfl⟩
abbrev main_call11_call0_call0_v108 : Ref sig .tc := ⟨.hbm, 5234, rfl⟩
abbrev main_call11_call0_call0_c_27 : Ref sig .tc := ⟨.hbm, 5235, rfl⟩
abbrev main_call11_call0_call0_v109 : Ref sig .tc := ⟨.hbm, 5236, rfl⟩
abbrev main_call11_call0_call0_v110 : Ref sig .tc := ⟨.hbm, 5237, rfl⟩
abbrev main_call11_call0_call0_c_28 : Ref sig .tc := ⟨.hbm, 5238, rfl⟩
abbrev main_call11_call0_call0_v111 : Ref sig .tc := ⟨.hbm, 5239, rfl⟩
abbrev main_call11_call0_call0_v112 : Ref sig .tc := ⟨.hbm, 5240, rfl⟩
abbrev main_call11_call0_call0_v113 : Ref sig .tc := ⟨.hbm, 5241, rfl⟩
abbrev main_call11_call0_call0_v114 : Ref sig .tc := ⟨.hbm, 5242, rfl⟩
abbrev main_call11_call0_call0_v115 : Ref sig .tc := ⟨.hbm, 5243, rfl⟩
abbrev main_call11_call0_call0_c_29 : Ref sig .tc := ⟨.hbm, 5244, rfl⟩
abbrev main_call11_call0_call0_v116 : Ref sig .tc := ⟨.hbm, 5245, rfl⟩
abbrev main_call11_call0_call0_v117 : Ref sig .tc := ⟨.hbm, 5246, rfl⟩
abbrev main_call11_call0_call0_c_30 : Ref sig .tc := ⟨.hbm, 5247, rfl⟩
abbrev main_call11_call0_call0_v118 : Ref sig .tc := ⟨.hbm, 5248, rfl⟩
abbrev main_call11_call0_call0_v119 : Ref sig .tc := ⟨.hbm, 5249, rfl⟩
abbrev main_call11_call0_call0_v120 : Ref sig .tc := ⟨.hbm, 5250, rfl⟩
abbrev main_call11_call0_call0_v121 : Ref sig .tc := ⟨.hbm, 5251, rfl⟩
abbrev main_call11_call0_call0_v122 : Ref sig .tc := ⟨.hbm, 5252, rfl⟩
abbrev main_call11_call0_call0_c_31 : Ref sig .tc := ⟨.hbm, 5253, rfl⟩
abbrev main_call11_call0_call0_v123 : Ref sig .tc := ⟨.hbm, 5254, rfl⟩
abbrev main_call11_call0_call0_v124 : Ref sig .tc := ⟨.hbm, 5255, rfl⟩
abbrev main_call11_call0_call0_c_32 : Ref sig .tc := ⟨.hbm, 5256, rfl⟩
abbrev main_call11_call0_call0_v125 : Ref sig .tc := ⟨.hbm, 5257, rfl⟩
abbrev main_call11_call0_call0_v126 : Ref sig .tc := ⟨.hbm, 5258, rfl⟩
abbrev main_call11_call0_call0_v127 : Ref sig .tc := ⟨.hbm, 5259, rfl⟩
abbrev main_call11_call0_call0_v128 : Ref sig .tc := ⟨.hbm, 5260, rfl⟩
abbrev main_call11_call0_call0_v129 : Ref sig .tc := ⟨.hbm, 5261, rfl⟩
abbrev main_call11_call0_call0_c_33 : Ref sig .tc := ⟨.hbm, 5262, rfl⟩
abbrev main_call11_call0_call0_v130 : Ref sig .tc := ⟨.hbm, 5263, rfl⟩
abbrev main_call11_call0_call0_v131 : Ref sig .tc := ⟨.hbm, 5264, rfl⟩
abbrev main_call11_call0_call0_c_34 : Ref sig .tc := ⟨.hbm, 5265, rfl⟩
abbrev main_call11_call0_call0_v132 : Ref sig .tc := ⟨.hbm, 5266, rfl⟩
abbrev main_call11_call0_call0_v133 : Ref sig .tc := ⟨.hbm, 5267, rfl⟩
abbrev main_call11_call0_call0_v134 : Ref sig .tc := ⟨.hbm, 5268, rfl⟩
abbrev main_call11_call0_call0_v135 : Ref sig .tc := ⟨.hbm, 5269, rfl⟩
abbrev main_call11_call0_call0_v136 : Ref sig .tc := ⟨.hbm, 5270, rfl⟩
abbrev main_call11_call0_call0_v137 : Ref sig .tc := ⟨.hbm, 5271, rfl⟩
abbrev main_call11_call0_call0_v138 : Ref sig .tc := ⟨.hbm, 5272, rfl⟩
abbrev main_call11_call0_call0_v139 : Ref sig .tc := ⟨.hbm, 5273, rfl⟩
abbrev main_call11_call0_call0_c_35 : Ref sig .tc := ⟨.hbm, 5274, rfl⟩
abbrev main_call11_call0_call0_v140 : Ref sig .tc := ⟨.hbm, 5275, rfl⟩
abbrev main_call11_call0_call0_v141 : Ref sig .tc := ⟨.hbm, 5276, rfl⟩
abbrev main_call11_call0_call0_v142 : Ref sig .tc := ⟨.hbm, 5277, rfl⟩
abbrev main_call11_call0_call0_c_36 : Ref sig .tc := ⟨.hbm, 5278, rfl⟩
abbrev main_call11_call0_call0_v143 : Ref sig .tc := ⟨.hbm, 5279, rfl⟩
abbrev main_call11_call0_call0_v144 : Ref sig .tc := ⟨.hbm, 5280, rfl⟩
abbrev main_call11_call0_call0_c_37 : Ref sig .tc := ⟨.hbm, 5281, rfl⟩
abbrev main_call11_call0_call0_v145 : Ref sig .tc := ⟨.hbm, 5282, rfl⟩
abbrev main_call11_call0_call0_v146 : Ref sig .tc := ⟨.hbm, 5283, rfl⟩
abbrev main_call11_call0_call0_v147 : Ref sig .tc := ⟨.hbm, 5284, rfl⟩
abbrev main_call11_call0_call0_v148 : Ref sig .tc := ⟨.hbm, 5285, rfl⟩
abbrev main_call11_call0_call0_v149 : Ref sig .tc := ⟨.hbm, 5286, rfl⟩
abbrev main_call11_call0_call0_c_38 : Ref sig .tc := ⟨.hbm, 5287, rfl⟩
abbrev main_call11_call0_call0_v150 : Ref sig .tc := ⟨.hbm, 5288, rfl⟩
abbrev main_call11_call0_call0_v151 : Ref sig .tc := ⟨.hbm, 5289, rfl⟩
abbrev main_call11_call0_call0_c_39 : Ref sig .tc := ⟨.hbm, 5290, rfl⟩
abbrev main_call11_call0_call0_v152 : Ref sig .tc := ⟨.hbm, 5291, rfl⟩
abbrev main_call11_call0_call0_v153 : Ref sig .tc := ⟨.hbm, 5292, rfl⟩
abbrev main_call11_call0_call0_v154 : Ref sig .tc := ⟨.hbm, 5293, rfl⟩
abbrev main_call11_call0_call0_v155 : Ref sig .tc := ⟨.hbm, 5294, rfl⟩
abbrev main_call11_call0_call0_v156 : Ref sig .tc := ⟨.hbm, 5295, rfl⟩
abbrev main_call11_call0_call0_c_40 : Ref sig .tc := ⟨.hbm, 5296, rfl⟩
abbrev main_call11_call0_call0_v157 : Ref sig .tc := ⟨.hbm, 5297, rfl⟩
abbrev main_call11_call0_call0_v158 : Ref sig .tc := ⟨.hbm, 5298, rfl⟩
abbrev main_call11_call0_call0_c_41 : Ref sig .tc := ⟨.hbm, 5299, rfl⟩
abbrev main_call11_call0_call0_v159 : Ref sig .tc := ⟨.hbm, 5300, rfl⟩
abbrev main_call11_call0_call0_v160 : Ref sig .tc := ⟨.hbm, 5301, rfl⟩
abbrev main_call11_call0_call0_v161 : Ref sig .tc := ⟨.hbm, 5302, rfl⟩
abbrev main_call11_call0_call0_v162 : Ref sig .tc := ⟨.hbm, 5303, rfl⟩
abbrev main_call11_call0_call0_v163 : Ref sig .tc := ⟨.hbm, 5304, rfl⟩
abbrev main_call11_call0_call0_c_42 : Ref sig .tc := ⟨.hbm, 5305, rfl⟩
abbrev main_call11_call0_call0_v164 : Ref sig .tc := ⟨.hbm, 5306, rfl⟩
abbrev main_call11_call0_call0_v165 : Ref sig .tc := ⟨.hbm, 5307, rfl⟩
abbrev main_call11_call0_call0_c_43 : Ref sig .tc := ⟨.hbm, 5308, rfl⟩
abbrev main_call11_call0_call0_v166 : Ref sig .tc := ⟨.hbm, 5309, rfl⟩
abbrev main_call11_call0_call0_v167 : Ref sig .tc := ⟨.hbm, 5310, rfl⟩
abbrev main_call11_call0_call0_v168 : Ref sig .tc := ⟨.hbm, 5311, rfl⟩
abbrev main_call11_call0_call0_v169 : Ref sig .tc := ⟨.hbm, 5312, rfl⟩
abbrev main_call11_call0_call0_v170 : Ref sig .tc := ⟨.hbm, 5313, rfl⟩
abbrev main_call11_call0_v11_0 : Ref sig .tc := ⟨.hbm, 5314, rfl⟩
abbrev main_call11_call0_call0_v172 : Ref sig .tc := ⟨.hbm, 5315, rfl⟩
abbrev main_call11_call0_call0_v173 : Ref sig .tc := ⟨.hbm, 5316, rfl⟩
abbrev main_call11_call0_call0_c_44 : Ref sig .tc := ⟨.hbm, 5317, rfl⟩
abbrev main_call11_call0_call0_v174 : Ref sig .tc := ⟨.hbm, 5318, rfl⟩
abbrev main_call11_call0_v11_1 : Ref sig .tc := ⟨.hbm, 5319, rfl⟩
abbrev main_call11_call0_v12 : Ref sig .tc := ⟨.hbm, 5320, rfl⟩
abbrev main_call11_call0_v13 : Ref sig .tc := ⟨.hbm, 5321, rfl⟩
abbrev main_call11_v0 : Ref sig .tc := ⟨.hbm, 5322, rfl⟩
abbrev main_call11_v1 : Ref sig .tc := ⟨.hbm, 5323, rfl⟩
abbrev main_call11_v2 : Ref sig .tc := ⟨.hbm, 5324, rfl⟩
abbrev main_call11_v3 : Ref sig .tc := ⟨.hbm, 5325, rfl⟩
abbrev main_call11_v4 : Ref sig .tc := ⟨.hbm, 5326, rfl⟩
abbrev main_call11_v5 : Ref sig .tc := ⟨.hbm, 5327, rfl⟩
abbrev main_call11_v6 : Ref sig .tc := ⟨.hbm, 5328, rfl⟩
abbrev main_call11_v7 : Ref sig .tc := ⟨.hbm, 5329, rfl⟩
abbrev main_call11_v8 : Ref sig .tc := ⟨.hbm, 5330, rfl⟩
abbrev main_call11_v9 : Ref sig .tc := ⟨.hbm, 5331, rfl⟩
abbrev main_call11_c : Ref sig .tc := ⟨.hbm, 5332, rfl⟩
abbrev main_call11_v10 : Ref sig .tc := ⟨.hbm, 5333, rfl⟩
abbrev main_call11_v11 : Ref sig .tc := ⟨.hbm, 5334, rfl⟩
abbrev main_call11_c_0 : Ref sig .tc := ⟨.hbm, 5335, rfl⟩
abbrev main_call11_v12 : Ref sig .tc := ⟨.hbm, 5336, rfl⟩
abbrev main_call11_v13 : Ref sig .tc := ⟨.hbm, 5337, rfl⟩
abbrev main_call11_v14 : Ref sig .tc := ⟨.hbm, 5338, rfl⟩
abbrev main_call11_v15 : Ref sig .tc := ⟨.hbm, 5339, rfl⟩
abbrev main_call11_call1_v0 : Ref sig .tc := ⟨.hbm, 5340, rfl⟩
abbrev main_call11_call1_c : Ref sig .tc := ⟨.hbm, 5341, rfl⟩
abbrev main_call11_call1_v1 : Ref sig .tc := ⟨.hbm, 5342, rfl⟩
abbrev main_call11_call1_v2 : Ref sig .tc := ⟨.hbm, 5343, rfl⟩
abbrev main_call11_call1_v3 : Ref sig .tc := ⟨.hbm, 5344, rfl⟩
abbrev main_call11_call1_v4 : Ref sig .tc := ⟨.hbm, 5345, rfl⟩
abbrev main_call11_call1_v5 : Ref sig .tc := ⟨.hbm, 5346, rfl⟩
abbrev main_call11_call1_v6 : Ref sig .tc := ⟨.hbm, 5347, rfl⟩
abbrev main_call11_call1_c_0 : Ref sig .tc := ⟨.hbm, 5348, rfl⟩
abbrev main_call11_call1_v7 : Ref sig .tc := ⟨.hbm, 5349, rfl⟩
abbrev main_call11_call1_v8 : Ref sig .tc := ⟨.hbm, 5350, rfl⟩
abbrev main_call11_call1_c_1 : Ref sig .tc := ⟨.hbm, 5351, rfl⟩
abbrev main_call11_call1_v9 : Ref sig .tc := ⟨.hbm, 5352, rfl⟩
abbrev main_call11_call1_v10 : Ref sig .tc := ⟨.hbm, 5353, rfl⟩
abbrev main_call11_call1_v11 : Ref sig .tc := ⟨.hbm, 5354, rfl⟩
abbrev main_call11_call1_v12 : Ref sig .tc := ⟨.hbm, 5355, rfl⟩
abbrev main_call11_call1_v13 : Ref sig .tc := ⟨.hbm, 5356, rfl⟩
abbrev main_call11_call1_c_2 : Ref sig .tc := ⟨.hbm, 5357, rfl⟩
abbrev main_call11_call1_v14 : Ref sig .tc := ⟨.hbm, 5358, rfl⟩
abbrev main_call11_call1_v15 : Ref sig .tc := ⟨.hbm, 5359, rfl⟩
abbrev main_call11_call1_c_3 : Ref sig .tc := ⟨.hbm, 5360, rfl⟩
abbrev main_call11_call1_v16 : Ref sig .tc := ⟨.hbm, 5361, rfl⟩
abbrev main_call11_call1_v17 : Ref sig .tc := ⟨.hbm, 5362, rfl⟩
abbrev main_call11_call1_v18 : Ref sig .tc := ⟨.hbm, 5363, rfl⟩
abbrev main_call11_call1_v19 : Ref sig .tc := ⟨.hbm, 5364, rfl⟩
abbrev main_call11_call1_v20 : Ref sig .tc := ⟨.hbm, 5365, rfl⟩
abbrev main_call11_call1_c_4 : Ref sig .tc := ⟨.hbm, 5366, rfl⟩
abbrev main_call11_call1_v21 : Ref sig .tc := ⟨.hbm, 5367, rfl⟩
abbrev main_call11_call1_v22 : Ref sig .tc := ⟨.hbm, 5368, rfl⟩
abbrev main_call11_call1_c_5 : Ref sig .tc := ⟨.hbm, 5369, rfl⟩
abbrev main_call11_call1_v23 : Ref sig .tc := ⟨.hbm, 5370, rfl⟩
abbrev main_call11_call1_v24 : Ref sig .tc := ⟨.hbm, 5371, rfl⟩
abbrev main_call11_call1_v25 : Ref sig .tc := ⟨.hbm, 5372, rfl⟩
abbrev main_call11_call1_v26 : Ref sig .tc := ⟨.hbm, 5373, rfl⟩
abbrev main_call11_call1_v27 : Ref sig .tc := ⟨.hbm, 5374, rfl⟩
abbrev main_call11_call1_c_6 : Ref sig .tc := ⟨.hbm, 5375, rfl⟩
abbrev main_call11_call1_v28 : Ref sig .tc := ⟨.hbm, 5376, rfl⟩
abbrev main_call11_call1_v29 : Ref sig .tc := ⟨.hbm, 5377, rfl⟩
abbrev main_call11_call1_c_7 : Ref sig .tc := ⟨.hbm, 5378, rfl⟩
abbrev main_call11_call1_v30 : Ref sig .tc := ⟨.hbm, 5379, rfl⟩
abbrev main_call11_call1_v31 : Ref sig .tc := ⟨.hbm, 5380, rfl⟩
abbrev main_call11_call1_v32 : Ref sig .tc := ⟨.hbm, 5381, rfl⟩
abbrev main_call11_call1_v33 : Ref sig .tc := ⟨.hbm, 5382, rfl⟩
abbrev main_call11_call1_v34 : Ref sig .tc := ⟨.hbm, 5383, rfl⟩
abbrev main_call11_call1_v35 : Ref sig .tc := ⟨.hbm, 5384, rfl⟩
abbrev main_call11_call1_v36 : Ref sig .tc := ⟨.hbm, 5385, rfl⟩
abbrev main_call11_call1_v37 : Ref sig .tc := ⟨.hbm, 5386, rfl⟩
abbrev main_call11_call1_c_8 : Ref sig .tc := ⟨.hbm, 5387, rfl⟩
abbrev main_call11_call1_v38 : Ref sig .tc := ⟨.hbm, 5388, rfl⟩
abbrev main_call11_call1_v39 : Ref sig .tc := ⟨.hbm, 5389, rfl⟩
abbrev main_call11_call1_v40 : Ref sig .tc := ⟨.hbm, 5390, rfl⟩
abbrev main_call11_call1_c_9 : Ref sig .tc := ⟨.hbm, 5391, rfl⟩
abbrev main_call11_call1_v41 : Ref sig .tc := ⟨.hbm, 5392, rfl⟩
abbrev main_call11_call1_v42 : Ref sig .tc := ⟨.hbm, 5393, rfl⟩
abbrev main_call11_call1_c_10 : Ref sig .tc := ⟨.hbm, 5394, rfl⟩
abbrev main_call11_call1_v43 : Ref sig .tc := ⟨.hbm, 5395, rfl⟩
abbrev main_call11_call1_v44 : Ref sig .tc := ⟨.hbm, 5396, rfl⟩
abbrev main_call11_call1_v45 : Ref sig .tc := ⟨.hbm, 5397, rfl⟩
abbrev main_call11_call1_v46 : Ref sig .tc := ⟨.hbm, 5398, rfl⟩
abbrev main_call11_call1_v47 : Ref sig .tc := ⟨.hbm, 5399, rfl⟩
abbrev main_call11_call1_c_11 : Ref sig .tc := ⟨.hbm, 5400, rfl⟩
abbrev main_call11_call1_v48 : Ref sig .tc := ⟨.hbm, 5401, rfl⟩
abbrev main_call11_call1_v49 : Ref sig .tc := ⟨.hbm, 5402, rfl⟩
abbrev main_call11_call1_c_12 : Ref sig .tc := ⟨.hbm, 5403, rfl⟩
abbrev main_call11_call1_v50 : Ref sig .tc := ⟨.hbm, 5404, rfl⟩
abbrev main_call11_call1_v51 : Ref sig .tc := ⟨.hbm, 5405, rfl⟩
abbrev main_call11_call1_v52 : Ref sig .tc := ⟨.hbm, 5406, rfl⟩
abbrev main_call11_call1_v53 : Ref sig .tc := ⟨.hbm, 5407, rfl⟩
abbrev main_call11_call1_v54 : Ref sig .tc := ⟨.hbm, 5408, rfl⟩
abbrev main_call11_call1_c_13 : Ref sig .tc := ⟨.hbm, 5409, rfl⟩
abbrev main_call11_call1_v55 : Ref sig .tc := ⟨.hbm, 5410, rfl⟩
abbrev main_call11_call1_v56 : Ref sig .tc := ⟨.hbm, 5411, rfl⟩
abbrev main_call11_call1_c_14 : Ref sig .tc := ⟨.hbm, 5412, rfl⟩
abbrev main_call11_call1_v57 : Ref sig .tc := ⟨.hbm, 5413, rfl⟩
abbrev main_call11_call1_v58 : Ref sig .tc := ⟨.hbm, 5414, rfl⟩
abbrev main_call11_call1_v59 : Ref sig .tc := ⟨.hbm, 5415, rfl⟩
abbrev main_call11_call1_v60 : Ref sig .tc := ⟨.hbm, 5416, rfl⟩
abbrev main_call11_call1_v61 : Ref sig .tc := ⟨.hbm, 5417, rfl⟩
abbrev main_call11_call1_c_15 : Ref sig .tc := ⟨.hbm, 5418, rfl⟩
abbrev main_call11_call1_v62 : Ref sig .tc := ⟨.hbm, 5419, rfl⟩
abbrev main_call11_call1_v63 : Ref sig .tc := ⟨.hbm, 5420, rfl⟩
abbrev main_call11_call1_c_16 : Ref sig .tc := ⟨.hbm, 5421, rfl⟩
abbrev main_call11_call1_v64 : Ref sig .tc := ⟨.hbm, 5422, rfl⟩
abbrev main_call11_call1_v65 : Ref sig .tc := ⟨.hbm, 5423, rfl⟩
abbrev main_call11_call1_v66 : Ref sig .tc := ⟨.hbm, 5424, rfl⟩
abbrev main_call11_call1_v67 : Ref sig .tc := ⟨.hbm, 5425, rfl⟩
abbrev main_call11_call1_v68 : Ref sig .tc := ⟨.hbm, 5426, rfl⟩
abbrev main_call11_call1_v69 : Ref sig .tc := ⟨.hbm, 5427, rfl⟩
abbrev main_call11_call1_v70 : Ref sig .tc := ⟨.hbm, 5428, rfl⟩
abbrev main_call11_call1_v71 : Ref sig .tc := ⟨.hbm, 5429, rfl⟩
abbrev main_call11_call1_c_17 : Ref sig .tc := ⟨.hbm, 5430, rfl⟩
abbrev main_call11_call1_v72 : Ref sig .tc := ⟨.hbm, 5431, rfl⟩
abbrev main_call11_call1_v73 : Ref sig .tc := ⟨.hbm, 5432, rfl⟩
abbrev main_call11_call1_v74 : Ref sig .tc := ⟨.hbm, 5433, rfl⟩
abbrev main_call11_call1_c_18 : Ref sig .tc := ⟨.hbm, 5434, rfl⟩
abbrev main_call11_call1_v75 : Ref sig .tc := ⟨.hbm, 5435, rfl⟩
abbrev main_call11_call1_v76 : Ref sig .tc := ⟨.hbm, 5436, rfl⟩
abbrev main_call11_call1_c_19 : Ref sig .tc := ⟨.hbm, 5437, rfl⟩
abbrev main_call11_call1_v77 : Ref sig .tc := ⟨.hbm, 5438, rfl⟩
abbrev main_call11_call1_v78 : Ref sig .tc := ⟨.hbm, 5439, rfl⟩
abbrev main_call11_call1_v79 : Ref sig .tc := ⟨.hbm, 5440, rfl⟩
abbrev main_call11_call1_v80 : Ref sig .tc := ⟨.hbm, 5441, rfl⟩
abbrev main_call11_call1_v81 : Ref sig .tc := ⟨.hbm, 5442, rfl⟩
abbrev main_call11_call1_c_20 : Ref sig .tc := ⟨.hbm, 5443, rfl⟩
abbrev main_call11_call1_v82 : Ref sig .tc := ⟨.hbm, 5444, rfl⟩
abbrev main_call11_call1_v83 : Ref sig .tc := ⟨.hbm, 5445, rfl⟩
abbrev main_call11_call1_c_21 : Ref sig .tc := ⟨.hbm, 5446, rfl⟩
abbrev main_call11_call1_v84 : Ref sig .tc := ⟨.hbm, 5447, rfl⟩
abbrev main_call11_call1_v85 : Ref sig .tc := ⟨.hbm, 5448, rfl⟩
abbrev main_call11_call1_v86 : Ref sig .tc := ⟨.hbm, 5449, rfl⟩
abbrev main_call11_call1_v87 : Ref sig .tc := ⟨.hbm, 5450, rfl⟩
abbrev main_call11_call1_v88 : Ref sig .tc := ⟨.hbm, 5451, rfl⟩
abbrev main_call11_call1_c_22 : Ref sig .tc := ⟨.hbm, 5452, rfl⟩
abbrev main_call11_call1_v89 : Ref sig .tc := ⟨.hbm, 5453, rfl⟩
abbrev main_call11_call1_v90 : Ref sig .tc := ⟨.hbm, 5454, rfl⟩
abbrev main_call11_call1_c_23 : Ref sig .tc := ⟨.hbm, 5455, rfl⟩
abbrev main_call11_call1_v91 : Ref sig .tc := ⟨.hbm, 5456, rfl⟩
abbrev main_call11_call1_v92 : Ref sig .tc := ⟨.hbm, 5457, rfl⟩
abbrev main_call11_call1_v93 : Ref sig .tc := ⟨.hbm, 5458, rfl⟩
abbrev main_call11_call1_v94 : Ref sig .tc := ⟨.hbm, 5459, rfl⟩
abbrev main_call11_call1_v95 : Ref sig .tc := ⟨.hbm, 5460, rfl⟩
abbrev main_call11_call1_c_24 : Ref sig .tc := ⟨.hbm, 5461, rfl⟩
abbrev main_call11_call1_v96 : Ref sig .tc := ⟨.hbm, 5462, rfl⟩
abbrev main_call11_call1_v97 : Ref sig .tc := ⟨.hbm, 5463, rfl⟩
abbrev main_call11_call1_c_25 : Ref sig .tc := ⟨.hbm, 5464, rfl⟩
abbrev main_call11_call1_v98 : Ref sig .tc := ⟨.hbm, 5465, rfl⟩
abbrev main_call11_call1_v99 : Ref sig .tc := ⟨.hbm, 5466, rfl⟩
abbrev main_call11_call1_v100 : Ref sig .tc := ⟨.hbm, 5467, rfl⟩
abbrev main_call11_call1_v101 : Ref sig .tc := ⟨.hbm, 5468, rfl⟩
abbrev main_call11_call1_v102 : Ref sig .tc := ⟨.hbm, 5469, rfl⟩
abbrev main_call11_call1_v103 : Ref sig .tc := ⟨.hbm, 5470, rfl⟩
abbrev main_call11_call1_v104 : Ref sig .tc := ⟨.hbm, 5471, rfl⟩
abbrev main_call11_call1_v105 : Ref sig .tc := ⟨.hbm, 5472, rfl⟩
abbrev main_call11_call1_c_26 : Ref sig .tc := ⟨.hbm, 5473, rfl⟩
abbrev main_call11_call1_v106 : Ref sig .tc := ⟨.hbm, 5474, rfl⟩
abbrev main_call11_call1_v107 : Ref sig .tc := ⟨.hbm, 5475, rfl⟩
abbrev main_call11_call1_v108 : Ref sig .tc := ⟨.hbm, 5476, rfl⟩
abbrev main_call11_call1_c_27 : Ref sig .tc := ⟨.hbm, 5477, rfl⟩
abbrev main_call11_call1_v109 : Ref sig .tc := ⟨.hbm, 5478, rfl⟩
abbrev main_call11_call1_v110 : Ref sig .tc := ⟨.hbm, 5479, rfl⟩
abbrev main_call11_call1_c_28 : Ref sig .tc := ⟨.hbm, 5480, rfl⟩
abbrev main_call11_call1_v111 : Ref sig .tc := ⟨.hbm, 5481, rfl⟩
abbrev main_call11_call1_v112 : Ref sig .tc := ⟨.hbm, 5482, rfl⟩
abbrev main_call11_call1_v113 : Ref sig .tc := ⟨.hbm, 5483, rfl⟩
abbrev main_call11_call1_v114 : Ref sig .tc := ⟨.hbm, 5484, rfl⟩
abbrev main_call11_call1_v115 : Ref sig .tc := ⟨.hbm, 5485, rfl⟩
abbrev main_call11_call1_c_29 : Ref sig .tc := ⟨.hbm, 5486, rfl⟩
abbrev main_call11_call1_v116 : Ref sig .tc := ⟨.hbm, 5487, rfl⟩
abbrev main_call11_call1_v117 : Ref sig .tc := ⟨.hbm, 5488, rfl⟩
abbrev main_call11_call1_c_30 : Ref sig .tc := ⟨.hbm, 5489, rfl⟩
abbrev main_call11_call1_v118 : Ref sig .tc := ⟨.hbm, 5490, rfl⟩
abbrev main_call11_call1_v119 : Ref sig .tc := ⟨.hbm, 5491, rfl⟩
abbrev main_call11_call1_v120 : Ref sig .tc := ⟨.hbm, 5492, rfl⟩
abbrev main_call11_call1_v121 : Ref sig .tc := ⟨.hbm, 5493, rfl⟩
abbrev main_call11_call1_v122 : Ref sig .tc := ⟨.hbm, 5494, rfl⟩
abbrev main_call11_call1_c_31 : Ref sig .tc := ⟨.hbm, 5495, rfl⟩
abbrev main_call11_call1_v123 : Ref sig .tc := ⟨.hbm, 5496, rfl⟩
abbrev main_call11_call1_v124 : Ref sig .tc := ⟨.hbm, 5497, rfl⟩
abbrev main_call11_call1_c_32 : Ref sig .tc := ⟨.hbm, 5498, rfl⟩
abbrev main_call11_call1_v125 : Ref sig .tc := ⟨.hbm, 5499, rfl⟩
abbrev main_call11_call1_v126 : Ref sig .tc := ⟨.hbm, 5500, rfl⟩
abbrev main_call11_call1_v127 : Ref sig .tc := ⟨.hbm, 5501, rfl⟩
abbrev main_call11_call1_v128 : Ref sig .tc := ⟨.hbm, 5502, rfl⟩
abbrev main_call11_call1_v129 : Ref sig .tc := ⟨.hbm, 5503, rfl⟩
abbrev main_call11_call1_c_33 : Ref sig .tc := ⟨.hbm, 5504, rfl⟩
abbrev main_call11_call1_v130 : Ref sig .tc := ⟨.hbm, 5505, rfl⟩
abbrev main_call11_call1_v131 : Ref sig .tc := ⟨.hbm, 5506, rfl⟩
abbrev main_call11_call1_c_34 : Ref sig .tc := ⟨.hbm, 5507, rfl⟩
abbrev main_call11_call1_v132 : Ref sig .tc := ⟨.hbm, 5508, rfl⟩
abbrev main_call11_call1_v133 : Ref sig .tc := ⟨.hbm, 5509, rfl⟩
abbrev main_call11_call1_v134 : Ref sig .tc := ⟨.hbm, 5510, rfl⟩
abbrev main_call11_call1_v135 : Ref sig .tc := ⟨.hbm, 5511, rfl⟩
abbrev main_call11_call1_v136 : Ref sig .tc := ⟨.hbm, 5512, rfl⟩
abbrev main_call11_call1_v137 : Ref sig .tc := ⟨.hbm, 5513, rfl⟩
abbrev main_call11_call1_v138 : Ref sig .tc := ⟨.hbm, 5514, rfl⟩
abbrev main_call11_call1_v139 : Ref sig .tc := ⟨.hbm, 5515, rfl⟩
abbrev main_call11_call1_c_35 : Ref sig .tc := ⟨.hbm, 5516, rfl⟩
abbrev main_call11_call1_v140 : Ref sig .tc := ⟨.hbm, 5517, rfl⟩
abbrev main_call11_call1_v141 : Ref sig .tc := ⟨.hbm, 5518, rfl⟩
abbrev main_call11_call1_v142 : Ref sig .tc := ⟨.hbm, 5519, rfl⟩
abbrev main_call11_call1_c_36 : Ref sig .tc := ⟨.hbm, 5520, rfl⟩
abbrev main_call11_call1_v143 : Ref sig .tc := ⟨.hbm, 5521, rfl⟩
abbrev main_call11_call1_v144 : Ref sig .tc := ⟨.hbm, 5522, rfl⟩
abbrev main_call11_call1_c_37 : Ref sig .tc := ⟨.hbm, 5523, rfl⟩
abbrev main_call11_call1_v145 : Ref sig .tc := ⟨.hbm, 5524, rfl⟩
abbrev main_call11_call1_v146 : Ref sig .tc := ⟨.hbm, 5525, rfl⟩
abbrev main_call11_call1_v147 : Ref sig .tc := ⟨.hbm, 5526, rfl⟩
abbrev main_call11_call1_v148 : Ref sig .tc := ⟨.hbm, 5527, rfl⟩
abbrev main_call11_call1_v149 : Ref sig .tc := ⟨.hbm, 5528, rfl⟩
abbrev main_call11_call1_c_38 : Ref sig .tc := ⟨.hbm, 5529, rfl⟩
abbrev main_call11_call1_v150 : Ref sig .tc := ⟨.hbm, 5530, rfl⟩
abbrev main_call11_call1_v151 : Ref sig .tc := ⟨.hbm, 5531, rfl⟩
abbrev main_call11_call1_c_39 : Ref sig .tc := ⟨.hbm, 5532, rfl⟩
abbrev main_call11_call1_v152 : Ref sig .tc := ⟨.hbm, 5533, rfl⟩
abbrev main_call11_call1_v153 : Ref sig .tc := ⟨.hbm, 5534, rfl⟩
abbrev main_call11_call1_v154 : Ref sig .tc := ⟨.hbm, 5535, rfl⟩
abbrev main_call11_call1_v155 : Ref sig .tc := ⟨.hbm, 5536, rfl⟩
abbrev main_call11_call1_v156 : Ref sig .tc := ⟨.hbm, 5537, rfl⟩
abbrev main_call11_call1_c_40 : Ref sig .tc := ⟨.hbm, 5538, rfl⟩
abbrev main_call11_call1_v157 : Ref sig .tc := ⟨.hbm, 5539, rfl⟩
abbrev main_call11_call1_v158 : Ref sig .tc := ⟨.hbm, 5540, rfl⟩
abbrev main_call11_call1_c_41 : Ref sig .tc := ⟨.hbm, 5541, rfl⟩
abbrev main_call11_call1_v159 : Ref sig .tc := ⟨.hbm, 5542, rfl⟩
abbrev main_call11_call1_v160 : Ref sig .tc := ⟨.hbm, 5543, rfl⟩
abbrev main_call11_call1_v161 : Ref sig .tc := ⟨.hbm, 5544, rfl⟩
abbrev main_call11_call1_v162 : Ref sig .tc := ⟨.hbm, 5545, rfl⟩
abbrev main_call11_call1_v163 : Ref sig .tc := ⟨.hbm, 5546, rfl⟩
abbrev main_call11_call1_c_42 : Ref sig .tc := ⟨.hbm, 5547, rfl⟩
abbrev main_call11_call1_v164 : Ref sig .tc := ⟨.hbm, 5548, rfl⟩
abbrev main_call11_call1_v165 : Ref sig .tc := ⟨.hbm, 5549, rfl⟩
abbrev main_call11_call1_c_43 : Ref sig .tc := ⟨.hbm, 5550, rfl⟩
abbrev main_call11_call1_v166 : Ref sig .tc := ⟨.hbm, 5551, rfl⟩
abbrev main_call11_call1_v167 : Ref sig .tc := ⟨.hbm, 5552, rfl⟩
abbrev main_call11_call1_v168 : Ref sig .tc := ⟨.hbm, 5553, rfl⟩
abbrev main_call11_call1_v169 : Ref sig .tc := ⟨.hbm, 5554, rfl⟩
abbrev main_call11_call1_v170 : Ref sig .tc := ⟨.hbm, 5555, rfl⟩
abbrev main_call11_v16_0 : Ref sig .tc := ⟨.hbm, 5556, rfl⟩
abbrev main_call11_call1_v172 : Ref sig .tc := ⟨.hbm, 5557, rfl⟩
abbrev main_call11_call1_v173 : Ref sig .tc := ⟨.hbm, 5558, rfl⟩
abbrev main_call11_call1_c_44 : Ref sig .tc := ⟨.hbm, 5559, rfl⟩
abbrev main_call11_call1_v174 : Ref sig .tc := ⟨.hbm, 5560, rfl⟩
abbrev main_call11_v16_1 : Ref sig .tc := ⟨.hbm, 5561, rfl⟩
abbrev main_call11_v17 : Ref sig .tc := ⟨.hbm, 5562, rfl⟩
abbrev main_call11_v18_0 : Ref sig .tc := ⟨.hbm, 5563, rfl⟩
abbrev main_v54 : Ref sig .tc := ⟨.hbm, 5564, rfl⟩
abbrev main_v55 : Ref sig .tc := ⟨.hbm, 5565, rfl⟩
abbrev main_v56 : Ref sig .tc := ⟨.hbm, 5566, rfl⟩
abbrev main_v57 : Ref sig .tc := ⟨.hbm, 5567, rfl⟩
abbrev main_call12_call0_v0 : Ref sig .tc := ⟨.hbm, 5568, rfl⟩
abbrev main_call12_call0_v1 : Ref sig .tc := ⟨.hbm, 5569, rfl⟩
abbrev main_call12_call0_v2 : Ref sig .tc := ⟨.hbm, 5570, rfl⟩
abbrev main_call12_call0_v3 : Ref sig .tc := ⟨.hbm, 5571, rfl⟩
abbrev main_call12_call0_v4 : Ref sig .tc := ⟨.hbm, 5572, rfl⟩
abbrev main_call12_call0_c : Ref sig .tc := ⟨.hbm, 5573, rfl⟩
abbrev main_call12_call0_v5 : Ref sig .tc := ⟨.hbm, 5574, rfl⟩
abbrev main_call12_call0_v6 : Ref sig .tc := ⟨.hbm, 5575, rfl⟩
abbrev main_call12_call0_c_0 : Ref sig .tc := ⟨.hbm, 5576, rfl⟩
abbrev main_call12_call0_v7 : Ref sig .tc := ⟨.hbm, 5577, rfl⟩
abbrev main_call12_call0_v8 : Ref sig .tc := ⟨.hbm, 5578, rfl⟩
abbrev main_call12_call0_v9 : Ref sig .tc := ⟨.hbm, 5579, rfl⟩
abbrev main_call12_call0_v10 : Ref sig .tc := ⟨.hbm, 5580, rfl⟩
abbrev main_call12_call0_call0_v0 : Ref sig .tc := ⟨.hbm, 5581, rfl⟩
abbrev main_call12_call0_call0_c : Ref sig .tc := ⟨.hbm, 5582, rfl⟩
abbrev main_call12_call0_call0_v1 : Ref sig .tc := ⟨.hbm, 5583, rfl⟩
abbrev main_call12_call0_call0_v2 : Ref sig .tc := ⟨.hbm, 5584, rfl⟩
abbrev main_call12_call0_call0_v3 : Ref sig .tc := ⟨.hbm, 5585, rfl⟩
abbrev main_call12_call0_call0_v4 : Ref sig .tc := ⟨.hbm, 5586, rfl⟩
abbrev main_call12_call0_call0_v5 : Ref sig .tc := ⟨.hbm, 5587, rfl⟩
abbrev main_call12_call0_call0_v6 : Ref sig .tc := ⟨.hbm, 5588, rfl⟩
abbrev main_call12_call0_call0_c_0 : Ref sig .tc := ⟨.hbm, 5589, rfl⟩
abbrev main_call12_call0_call0_v7 : Ref sig .tc := ⟨.hbm, 5590, rfl⟩
abbrev main_call12_call0_call0_v8 : Ref sig .tc := ⟨.hbm, 5591, rfl⟩
abbrev main_call12_call0_call0_c_1 : Ref sig .tc := ⟨.hbm, 5592, rfl⟩
abbrev main_call12_call0_call0_v9 : Ref sig .tc := ⟨.hbm, 5593, rfl⟩
abbrev main_call12_call0_call0_v10 : Ref sig .tc := ⟨.hbm, 5594, rfl⟩
abbrev main_call12_call0_call0_v11 : Ref sig .tc := ⟨.hbm, 5595, rfl⟩
abbrev main_call12_call0_call0_v12 : Ref sig .tc := ⟨.hbm, 5596, rfl⟩
abbrev main_call12_call0_call0_v13 : Ref sig .tc := ⟨.hbm, 5597, rfl⟩
abbrev main_call12_call0_call0_c_2 : Ref sig .tc := ⟨.hbm, 5598, rfl⟩
abbrev main_call12_call0_call0_v14 : Ref sig .tc := ⟨.hbm, 5599, rfl⟩
abbrev main_call12_call0_call0_v15 : Ref sig .tc := ⟨.hbm, 5600, rfl⟩
abbrev main_call12_call0_call0_c_3 : Ref sig .tc := ⟨.hbm, 5601, rfl⟩
abbrev main_call12_call0_call0_v16 : Ref sig .tc := ⟨.hbm, 5602, rfl⟩
abbrev main_call12_call0_call0_v17 : Ref sig .tc := ⟨.hbm, 5603, rfl⟩
abbrev main_call12_call0_call0_v18 : Ref sig .tc := ⟨.hbm, 5604, rfl⟩
abbrev main_call12_call0_call0_v19 : Ref sig .tc := ⟨.hbm, 5605, rfl⟩
abbrev main_call12_call0_call0_v20 : Ref sig .tc := ⟨.hbm, 5606, rfl⟩
abbrev main_call12_call0_call0_c_4 : Ref sig .tc := ⟨.hbm, 5607, rfl⟩
abbrev main_call12_call0_call0_v21 : Ref sig .tc := ⟨.hbm, 5608, rfl⟩
abbrev main_call12_call0_call0_v22 : Ref sig .tc := ⟨.hbm, 5609, rfl⟩
abbrev main_call12_call0_call0_c_5 : Ref sig .tc := ⟨.hbm, 5610, rfl⟩
abbrev main_call12_call0_call0_v23 : Ref sig .tc := ⟨.hbm, 5611, rfl⟩
abbrev main_call12_call0_call0_v24 : Ref sig .tc := ⟨.hbm, 5612, rfl⟩
abbrev main_call12_call0_call0_v25 : Ref sig .tc := ⟨.hbm, 5613, rfl⟩
abbrev main_call12_call0_call0_v26 : Ref sig .tc := ⟨.hbm, 5614, rfl⟩
abbrev main_call12_call0_call0_v27 : Ref sig .tc := ⟨.hbm, 5615, rfl⟩
abbrev main_call12_call0_call0_c_6 : Ref sig .tc := ⟨.hbm, 5616, rfl⟩
abbrev main_call12_call0_call0_v28 : Ref sig .tc := ⟨.hbm, 5617, rfl⟩
abbrev main_call12_call0_call0_v29 : Ref sig .tc := ⟨.hbm, 5618, rfl⟩
abbrev main_call12_call0_call0_c_7 : Ref sig .tc := ⟨.hbm, 5619, rfl⟩
abbrev main_call12_call0_call0_v30 : Ref sig .tc := ⟨.hbm, 5620, rfl⟩
abbrev main_call12_call0_call0_v31 : Ref sig .tc := ⟨.hbm, 5621, rfl⟩
abbrev main_call12_call0_call0_v32 : Ref sig .tc := ⟨.hbm, 5622, rfl⟩
abbrev main_call12_call0_call0_v33 : Ref sig .tc := ⟨.hbm, 5623, rfl⟩
abbrev main_call12_call0_call0_v34 : Ref sig .tc := ⟨.hbm, 5624, rfl⟩
abbrev main_call12_call0_call0_v35 : Ref sig .tc := ⟨.hbm, 5625, rfl⟩
abbrev main_call12_call0_call0_v36 : Ref sig .tc := ⟨.hbm, 5626, rfl⟩
abbrev main_call12_call0_call0_v37 : Ref sig .tc := ⟨.hbm, 5627, rfl⟩
abbrev main_call12_call0_call0_c_8 : Ref sig .tc := ⟨.hbm, 5628, rfl⟩
abbrev main_call12_call0_call0_v38 : Ref sig .tc := ⟨.hbm, 5629, rfl⟩
abbrev main_call12_call0_call0_v39 : Ref sig .tc := ⟨.hbm, 5630, rfl⟩
abbrev main_call12_call0_call0_v40 : Ref sig .tc := ⟨.hbm, 5631, rfl⟩
abbrev main_call12_call0_call0_c_9 : Ref sig .tc := ⟨.hbm, 5632, rfl⟩
abbrev main_call12_call0_call0_v41 : Ref sig .tc := ⟨.hbm, 5633, rfl⟩
abbrev main_call12_call0_call0_v42 : Ref sig .tc := ⟨.hbm, 5634, rfl⟩
abbrev main_call12_call0_call0_c_10 : Ref sig .tc := ⟨.hbm, 5635, rfl⟩
abbrev main_call12_call0_call0_v43 : Ref sig .tc := ⟨.hbm, 5636, rfl⟩
abbrev main_call12_call0_call0_v44 : Ref sig .tc := ⟨.hbm, 5637, rfl⟩
abbrev main_call12_call0_call0_v45 : Ref sig .tc := ⟨.hbm, 5638, rfl⟩
abbrev main_call12_call0_call0_v46 : Ref sig .tc := ⟨.hbm, 5639, rfl⟩
abbrev main_call12_call0_call0_v47 : Ref sig .tc := ⟨.hbm, 5640, rfl⟩
abbrev main_call12_call0_call0_c_11 : Ref sig .tc := ⟨.hbm, 5641, rfl⟩
abbrev main_call12_call0_call0_v48 : Ref sig .tc := ⟨.hbm, 5642, rfl⟩
abbrev main_call12_call0_call0_v49 : Ref sig .tc := ⟨.hbm, 5643, rfl⟩
abbrev main_call12_call0_call0_c_12 : Ref sig .tc := ⟨.hbm, 5644, rfl⟩
abbrev main_call12_call0_call0_v50 : Ref sig .tc := ⟨.hbm, 5645, rfl⟩
abbrev main_call12_call0_call0_v51 : Ref sig .tc := ⟨.hbm, 5646, rfl⟩
abbrev main_call12_call0_call0_v52 : Ref sig .tc := ⟨.hbm, 5647, rfl⟩
abbrev main_call12_call0_call0_v53 : Ref sig .tc := ⟨.hbm, 5648, rfl⟩
abbrev main_call12_call0_call0_v54 : Ref sig .tc := ⟨.hbm, 5649, rfl⟩
abbrev main_call12_call0_call0_c_13 : Ref sig .tc := ⟨.hbm, 5650, rfl⟩
abbrev main_call12_call0_call0_v55 : Ref sig .tc := ⟨.hbm, 5651, rfl⟩
abbrev main_call12_call0_call0_v56 : Ref sig .tc := ⟨.hbm, 5652, rfl⟩
abbrev main_call12_call0_call0_c_14 : Ref sig .tc := ⟨.hbm, 5653, rfl⟩
abbrev main_call12_call0_call0_v57 : Ref sig .tc := ⟨.hbm, 5654, rfl⟩
abbrev main_call12_call0_call0_v58 : Ref sig .tc := ⟨.hbm, 5655, rfl⟩
abbrev main_call12_call0_call0_v59 : Ref sig .tc := ⟨.hbm, 5656, rfl⟩
abbrev main_call12_call0_call0_v60 : Ref sig .tc := ⟨.hbm, 5657, rfl⟩
abbrev main_call12_call0_call0_v61 : Ref sig .tc := ⟨.hbm, 5658, rfl⟩
abbrev main_call12_call0_call0_c_15 : Ref sig .tc := ⟨.hbm, 5659, rfl⟩
abbrev main_call12_call0_call0_v62 : Ref sig .tc := ⟨.hbm, 5660, rfl⟩
abbrev main_call12_call0_call0_v63 : Ref sig .tc := ⟨.hbm, 5661, rfl⟩
abbrev main_call12_call0_call0_c_16 : Ref sig .tc := ⟨.hbm, 5662, rfl⟩
abbrev main_call12_call0_call0_v64 : Ref sig .tc := ⟨.hbm, 5663, rfl⟩
abbrev main_call12_call0_call0_v65 : Ref sig .tc := ⟨.hbm, 5664, rfl⟩
abbrev main_call12_call0_call0_v66 : Ref sig .tc := ⟨.hbm, 5665, rfl⟩
abbrev main_call12_call0_call0_v67 : Ref sig .tc := ⟨.hbm, 5666, rfl⟩
abbrev main_call12_call0_call0_v68 : Ref sig .tc := ⟨.hbm, 5667, rfl⟩
abbrev main_call12_call0_call0_v69 : Ref sig .tc := ⟨.hbm, 5668, rfl⟩
abbrev main_call12_call0_call0_v70 : Ref sig .tc := ⟨.hbm, 5669, rfl⟩
abbrev main_call12_call0_call0_v71 : Ref sig .tc := ⟨.hbm, 5670, rfl⟩
abbrev main_call12_call0_call0_c_17 : Ref sig .tc := ⟨.hbm, 5671, rfl⟩
abbrev main_call12_call0_call0_v72 : Ref sig .tc := ⟨.hbm, 5672, rfl⟩
abbrev main_call12_call0_call0_v73 : Ref sig .tc := ⟨.hbm, 5673, rfl⟩
abbrev main_call12_call0_call0_v74 : Ref sig .tc := ⟨.hbm, 5674, rfl⟩
abbrev main_call12_call0_call0_c_18 : Ref sig .tc := ⟨.hbm, 5675, rfl⟩
abbrev main_call12_call0_call0_v75 : Ref sig .tc := ⟨.hbm, 5676, rfl⟩
abbrev main_call12_call0_call0_v76 : Ref sig .tc := ⟨.hbm, 5677, rfl⟩
abbrev main_call12_call0_call0_c_19 : Ref sig .tc := ⟨.hbm, 5678, rfl⟩
abbrev main_call12_call0_call0_v77 : Ref sig .tc := ⟨.hbm, 5679, rfl⟩
abbrev main_call12_call0_call0_v78 : Ref sig .tc := ⟨.hbm, 5680, rfl⟩
abbrev main_call12_call0_call0_v79 : Ref sig .tc := ⟨.hbm, 5681, rfl⟩
abbrev main_call12_call0_call0_v80 : Ref sig .tc := ⟨.hbm, 5682, rfl⟩
abbrev main_call12_call0_call0_v81 : Ref sig .tc := ⟨.hbm, 5683, rfl⟩
abbrev main_call12_call0_call0_c_20 : Ref sig .tc := ⟨.hbm, 5684, rfl⟩
abbrev main_call12_call0_call0_v82 : Ref sig .tc := ⟨.hbm, 5685, rfl⟩
abbrev main_call12_call0_call0_v83 : Ref sig .tc := ⟨.hbm, 5686, rfl⟩
abbrev main_call12_call0_call0_c_21 : Ref sig .tc := ⟨.hbm, 5687, rfl⟩
abbrev main_call12_call0_call0_v84 : Ref sig .tc := ⟨.hbm, 5688, rfl⟩
abbrev main_call12_call0_call0_v85 : Ref sig .tc := ⟨.hbm, 5689, rfl⟩
abbrev main_call12_call0_call0_v86 : Ref sig .tc := ⟨.hbm, 5690, rfl⟩
abbrev main_call12_call0_call0_v87 : Ref sig .tc := ⟨.hbm, 5691, rfl⟩
abbrev main_call12_call0_call0_v88 : Ref sig .tc := ⟨.hbm, 5692, rfl⟩
abbrev main_call12_call0_call0_c_22 : Ref sig .tc := ⟨.hbm, 5693, rfl⟩
abbrev main_call12_call0_call0_v89 : Ref sig .tc := ⟨.hbm, 5694, rfl⟩
abbrev main_call12_call0_call0_v90 : Ref sig .tc := ⟨.hbm, 5695, rfl⟩
abbrev main_call12_call0_call0_c_23 : Ref sig .tc := ⟨.hbm, 5696, rfl⟩
abbrev main_call12_call0_call0_v91 : Ref sig .tc := ⟨.hbm, 5697, rfl⟩
abbrev main_call12_call0_call0_v92 : Ref sig .tc := ⟨.hbm, 5698, rfl⟩
abbrev main_call12_call0_call0_v93 : Ref sig .tc := ⟨.hbm, 5699, rfl⟩
abbrev main_call12_call0_call0_v94 : Ref sig .tc := ⟨.hbm, 5700, rfl⟩
abbrev main_call12_call0_call0_v95 : Ref sig .tc := ⟨.hbm, 5701, rfl⟩
abbrev main_call12_call0_call0_c_24 : Ref sig .tc := ⟨.hbm, 5702, rfl⟩
abbrev main_call12_call0_call0_v96 : Ref sig .tc := ⟨.hbm, 5703, rfl⟩
abbrev main_call12_call0_call0_v97 : Ref sig .tc := ⟨.hbm, 5704, rfl⟩
abbrev main_call12_call0_call0_c_25 : Ref sig .tc := ⟨.hbm, 5705, rfl⟩
abbrev main_call12_call0_call0_v98 : Ref sig .tc := ⟨.hbm, 5706, rfl⟩
abbrev main_call12_call0_call0_v99 : Ref sig .tc := ⟨.hbm, 5707, rfl⟩
abbrev main_call12_call0_call0_v100 : Ref sig .tc := ⟨.hbm, 5708, rfl⟩
abbrev main_call12_call0_call0_v101 : Ref sig .tc := ⟨.hbm, 5709, rfl⟩
abbrev main_call12_call0_call0_v102 : Ref sig .tc := ⟨.hbm, 5710, rfl⟩
abbrev main_call12_call0_call0_v103 : Ref sig .tc := ⟨.hbm, 5711, rfl⟩
abbrev main_call12_call0_call0_v104 : Ref sig .tc := ⟨.hbm, 5712, rfl⟩
abbrev main_call12_call0_call0_v105 : Ref sig .tc := ⟨.hbm, 5713, rfl⟩
abbrev main_call12_call0_call0_c_26 : Ref sig .tc := ⟨.hbm, 5714, rfl⟩
abbrev main_call12_call0_call0_v106 : Ref sig .tc := ⟨.hbm, 5715, rfl⟩
abbrev main_call12_call0_call0_v107 : Ref sig .tc := ⟨.hbm, 5716, rfl⟩
abbrev main_call12_call0_call0_v108 : Ref sig .tc := ⟨.hbm, 5717, rfl⟩
abbrev main_call12_call0_call0_c_27 : Ref sig .tc := ⟨.hbm, 5718, rfl⟩
abbrev main_call12_call0_call0_v109 : Ref sig .tc := ⟨.hbm, 5719, rfl⟩
abbrev main_call12_call0_call0_v110 : Ref sig .tc := ⟨.hbm, 5720, rfl⟩
abbrev main_call12_call0_call0_c_28 : Ref sig .tc := ⟨.hbm, 5721, rfl⟩
abbrev main_call12_call0_call0_v111 : Ref sig .tc := ⟨.hbm, 5722, rfl⟩
abbrev main_call12_call0_call0_v112 : Ref sig .tc := ⟨.hbm, 5723, rfl⟩
abbrev main_call12_call0_call0_v113 : Ref sig .tc := ⟨.hbm, 5724, rfl⟩
abbrev main_call12_call0_call0_v114 : Ref sig .tc := ⟨.hbm, 5725, rfl⟩
abbrev main_call12_call0_call0_v115 : Ref sig .tc := ⟨.hbm, 5726, rfl⟩
abbrev main_call12_call0_call0_c_29 : Ref sig .tc := ⟨.hbm, 5727, rfl⟩
abbrev main_call12_call0_call0_v116 : Ref sig .tc := ⟨.hbm, 5728, rfl⟩
abbrev main_call12_call0_call0_v117 : Ref sig .tc := ⟨.hbm, 5729, rfl⟩
abbrev main_call12_call0_call0_c_30 : Ref sig .tc := ⟨.hbm, 5730, rfl⟩
abbrev main_call12_call0_call0_v118 : Ref sig .tc := ⟨.hbm, 5731, rfl⟩
abbrev main_call12_call0_call0_v119 : Ref sig .tc := ⟨.hbm, 5732, rfl⟩
abbrev main_call12_call0_call0_v120 : Ref sig .tc := ⟨.hbm, 5733, rfl⟩
abbrev main_call12_call0_call0_v121 : Ref sig .tc := ⟨.hbm, 5734, rfl⟩
abbrev main_call12_call0_call0_v122 : Ref sig .tc := ⟨.hbm, 5735, rfl⟩
abbrev main_call12_call0_call0_c_31 : Ref sig .tc := ⟨.hbm, 5736, rfl⟩
abbrev main_call12_call0_call0_v123 : Ref sig .tc := ⟨.hbm, 5737, rfl⟩
abbrev main_call12_call0_call0_v124 : Ref sig .tc := ⟨.hbm, 5738, rfl⟩
abbrev main_call12_call0_call0_c_32 : Ref sig .tc := ⟨.hbm, 5739, rfl⟩
abbrev main_call12_call0_call0_v125 : Ref sig .tc := ⟨.hbm, 5740, rfl⟩
abbrev main_call12_call0_call0_v126 : Ref sig .tc := ⟨.hbm, 5741, rfl⟩
abbrev main_call12_call0_call0_v127 : Ref sig .tc := ⟨.hbm, 5742, rfl⟩
abbrev main_call12_call0_call0_v128 : Ref sig .tc := ⟨.hbm, 5743, rfl⟩
abbrev main_call12_call0_call0_v129 : Ref sig .tc := ⟨.hbm, 5744, rfl⟩
abbrev main_call12_call0_call0_c_33 : Ref sig .tc := ⟨.hbm, 5745, rfl⟩
abbrev main_call12_call0_call0_v130 : Ref sig .tc := ⟨.hbm, 5746, rfl⟩
abbrev main_call12_call0_call0_v131 : Ref sig .tc := ⟨.hbm, 5747, rfl⟩
abbrev main_call12_call0_call0_c_34 : Ref sig .tc := ⟨.hbm, 5748, rfl⟩
abbrev main_call12_call0_call0_v132 : Ref sig .tc := ⟨.hbm, 5749, rfl⟩
abbrev main_call12_call0_call0_v133 : Ref sig .tc := ⟨.hbm, 5750, rfl⟩
abbrev main_call12_call0_call0_v134 : Ref sig .tc := ⟨.hbm, 5751, rfl⟩
abbrev main_call12_call0_call0_v135 : Ref sig .tc := ⟨.hbm, 5752, rfl⟩
abbrev main_call12_call0_call0_v136 : Ref sig .tc := ⟨.hbm, 5753, rfl⟩
abbrev main_call12_call0_call0_v137 : Ref sig .tc := ⟨.hbm, 5754, rfl⟩
abbrev main_call12_call0_call0_v138 : Ref sig .tc := ⟨.hbm, 5755, rfl⟩
abbrev main_call12_call0_call0_v139 : Ref sig .tc := ⟨.hbm, 5756, rfl⟩
abbrev main_call12_call0_call0_c_35 : Ref sig .tc := ⟨.hbm, 5757, rfl⟩
abbrev main_call12_call0_call0_v140 : Ref sig .tc := ⟨.hbm, 5758, rfl⟩
abbrev main_call12_call0_call0_v141 : Ref sig .tc := ⟨.hbm, 5759, rfl⟩
abbrev main_call12_call0_call0_v142 : Ref sig .tc := ⟨.hbm, 5760, rfl⟩
abbrev main_call12_call0_call0_c_36 : Ref sig .tc := ⟨.hbm, 5761, rfl⟩
abbrev main_call12_call0_call0_v143 : Ref sig .tc := ⟨.hbm, 5762, rfl⟩
abbrev main_call12_call0_call0_v144 : Ref sig .tc := ⟨.hbm, 5763, rfl⟩
abbrev main_call12_call0_call0_c_37 : Ref sig .tc := ⟨.hbm, 5764, rfl⟩
abbrev main_call12_call0_call0_v145 : Ref sig .tc := ⟨.hbm, 5765, rfl⟩
abbrev main_call12_call0_call0_v146 : Ref sig .tc := ⟨.hbm, 5766, rfl⟩
abbrev main_call12_call0_call0_v147 : Ref sig .tc := ⟨.hbm, 5767, rfl⟩
abbrev main_call12_call0_call0_v148 : Ref sig .tc := ⟨.hbm, 5768, rfl⟩
abbrev main_call12_call0_call0_v149 : Ref sig .tc := ⟨.hbm, 5769, rfl⟩
abbrev main_call12_call0_call0_c_38 : Ref sig .tc := ⟨.hbm, 5770, rfl⟩
abbrev main_call12_call0_call0_v150 : Ref sig .tc := ⟨.hbm, 5771, rfl⟩
abbrev main_call12_call0_call0_v151 : Ref sig .tc := ⟨.hbm, 5772, rfl⟩
abbrev main_call12_call0_call0_c_39 : Ref sig .tc := ⟨.hbm, 5773, rfl⟩
abbrev main_call12_call0_call0_v152 : Ref sig .tc := ⟨.hbm, 5774, rfl⟩
abbrev main_call12_call0_call0_v153 : Ref sig .tc := ⟨.hbm, 5775, rfl⟩
abbrev main_call12_call0_call0_v154 : Ref sig .tc := ⟨.hbm, 5776, rfl⟩
abbrev main_call12_call0_call0_v155 : Ref sig .tc := ⟨.hbm, 5777, rfl⟩
abbrev main_call12_call0_call0_v156 : Ref sig .tc := ⟨.hbm, 5778, rfl⟩
abbrev main_call12_call0_call0_c_40 : Ref sig .tc := ⟨.hbm, 5779, rfl⟩
abbrev main_call12_call0_call0_v157 : Ref sig .tc := ⟨.hbm, 5780, rfl⟩
abbrev main_call12_call0_call0_v158 : Ref sig .tc := ⟨.hbm, 5781, rfl⟩
abbrev main_call12_call0_call0_c_41 : Ref sig .tc := ⟨.hbm, 5782, rfl⟩
abbrev main_call12_call0_call0_v159 : Ref sig .tc := ⟨.hbm, 5783, rfl⟩
abbrev main_call12_call0_call0_v160 : Ref sig .tc := ⟨.hbm, 5784, rfl⟩
abbrev main_call12_call0_call0_v161 : Ref sig .tc := ⟨.hbm, 5785, rfl⟩
abbrev main_call12_call0_call0_v162 : Ref sig .tc := ⟨.hbm, 5786, rfl⟩
abbrev main_call12_call0_call0_v163 : Ref sig .tc := ⟨.hbm, 5787, rfl⟩
abbrev main_call12_call0_call0_c_42 : Ref sig .tc := ⟨.hbm, 5788, rfl⟩
abbrev main_call12_call0_call0_v164 : Ref sig .tc := ⟨.hbm, 5789, rfl⟩
abbrev main_call12_call0_call0_v165 : Ref sig .tc := ⟨.hbm, 5790, rfl⟩
abbrev main_call12_call0_call0_c_43 : Ref sig .tc := ⟨.hbm, 5791, rfl⟩
abbrev main_call12_call0_call0_v166 : Ref sig .tc := ⟨.hbm, 5792, rfl⟩
abbrev main_call12_call0_call0_v167 : Ref sig .tc := ⟨.hbm, 5793, rfl⟩
abbrev main_call12_call0_call0_v168 : Ref sig .tc := ⟨.hbm, 5794, rfl⟩
abbrev main_call12_call0_call0_v169 : Ref sig .tc := ⟨.hbm, 5795, rfl⟩
abbrev main_call12_call0_call0_v170 : Ref sig .tc := ⟨.hbm, 5796, rfl⟩
abbrev main_call12_call0_v11_0 : Ref sig .tc := ⟨.hbm, 5797, rfl⟩
abbrev main_call12_call0_call0_v172 : Ref sig .tc := ⟨.hbm, 5798, rfl⟩
abbrev main_call12_call0_call0_v173 : Ref sig .tc := ⟨.hbm, 5799, rfl⟩
abbrev main_call12_call0_call0_c_44 : Ref sig .tc := ⟨.hbm, 5800, rfl⟩
abbrev main_call12_call0_call0_v174 : Ref sig .tc := ⟨.hbm, 5801, rfl⟩
abbrev main_call12_call0_v11_1 : Ref sig .tc := ⟨.hbm, 5802, rfl⟩
abbrev main_call12_call0_v12 : Ref sig .tc := ⟨.hbm, 5803, rfl⟩
abbrev main_call12_call0_v13 : Ref sig .tc := ⟨.hbm, 5804, rfl⟩
abbrev main_call12_v0 : Ref sig .tc := ⟨.hbm, 5805, rfl⟩
abbrev main_call12_v1 : Ref sig .tc := ⟨.hbm, 5806, rfl⟩
abbrev main_call12_v2 : Ref sig .tc := ⟨.hbm, 5807, rfl⟩
abbrev main_call12_v3 : Ref sig .tc := ⟨.hbm, 5808, rfl⟩
abbrev main_call12_v4 : Ref sig .tc := ⟨.hbm, 5809, rfl⟩
abbrev main_call12_v5 : Ref sig .tc := ⟨.hbm, 5810, rfl⟩
abbrev main_call12_v6 : Ref sig .tc := ⟨.hbm, 5811, rfl⟩
abbrev main_call12_v7 : Ref sig .tc := ⟨.hbm, 5812, rfl⟩
abbrev main_call12_v8 : Ref sig .tc := ⟨.hbm, 5813, rfl⟩
abbrev main_call12_v9 : Ref sig .tc := ⟨.hbm, 5814, rfl⟩
abbrev main_call12_c : Ref sig .tc := ⟨.hbm, 5815, rfl⟩
abbrev main_call12_v10 : Ref sig .tc := ⟨.hbm, 5816, rfl⟩
abbrev main_call12_v11 : Ref sig .tc := ⟨.hbm, 5817, rfl⟩
abbrev main_call12_c_0 : Ref sig .tc := ⟨.hbm, 5818, rfl⟩
abbrev main_call12_v12 : Ref sig .tc := ⟨.hbm, 5819, rfl⟩
abbrev main_call12_v13 : Ref sig .tc := ⟨.hbm, 5820, rfl⟩
abbrev main_call12_v14 : Ref sig .tc := ⟨.hbm, 5821, rfl⟩
abbrev main_call12_v15 : Ref sig .tc := ⟨.hbm, 5822, rfl⟩
abbrev main_call12_call1_v0 : Ref sig .tc := ⟨.hbm, 5823, rfl⟩
abbrev main_call12_call1_c : Ref sig .tc := ⟨.hbm, 5824, rfl⟩
abbrev main_call12_call1_v1 : Ref sig .tc := ⟨.hbm, 5825, rfl⟩
abbrev main_call12_call1_v2 : Ref sig .tc := ⟨.hbm, 5826, rfl⟩
abbrev main_call12_call1_v3 : Ref sig .tc := ⟨.hbm, 5827, rfl⟩
abbrev main_call12_call1_v4 : Ref sig .tc := ⟨.hbm, 5828, rfl⟩
abbrev main_call12_call1_v5 : Ref sig .tc := ⟨.hbm, 5829, rfl⟩
abbrev main_call12_call1_v6 : Ref sig .tc := ⟨.hbm, 5830, rfl⟩
abbrev main_call12_call1_c_0 : Ref sig .tc := ⟨.hbm, 5831, rfl⟩
abbrev main_call12_call1_v7 : Ref sig .tc := ⟨.hbm, 5832, rfl⟩
abbrev main_call12_call1_v8 : Ref sig .tc := ⟨.hbm, 5833, rfl⟩
abbrev main_call12_call1_c_1 : Ref sig .tc := ⟨.hbm, 5834, rfl⟩
abbrev main_call12_call1_v9 : Ref sig .tc := ⟨.hbm, 5835, rfl⟩
abbrev main_call12_call1_v10 : Ref sig .tc := ⟨.hbm, 5836, rfl⟩
abbrev main_call12_call1_v11 : Ref sig .tc := ⟨.hbm, 5837, rfl⟩
abbrev main_call12_call1_v12 : Ref sig .tc := ⟨.hbm, 5838, rfl⟩
abbrev main_call12_call1_v13 : Ref sig .tc := ⟨.hbm, 5839, rfl⟩
abbrev main_call12_call1_c_2 : Ref sig .tc := ⟨.hbm, 5840, rfl⟩
abbrev main_call12_call1_v14 : Ref sig .tc := ⟨.hbm, 5841, rfl⟩
abbrev main_call12_call1_v15 : Ref sig .tc := ⟨.hbm, 5842, rfl⟩
abbrev main_call12_call1_c_3 : Ref sig .tc := ⟨.hbm, 5843, rfl⟩
abbrev main_call12_call1_v16 : Ref sig .tc := ⟨.hbm, 5844, rfl⟩
abbrev main_call12_call1_v17 : Ref sig .tc := ⟨.hbm, 5845, rfl⟩
abbrev main_call12_call1_v18 : Ref sig .tc := ⟨.hbm, 5846, rfl⟩
abbrev main_call12_call1_v19 : Ref sig .tc := ⟨.hbm, 5847, rfl⟩
abbrev main_call12_call1_v20 : Ref sig .tc := ⟨.hbm, 5848, rfl⟩
abbrev main_call12_call1_c_4 : Ref sig .tc := ⟨.hbm, 5849, rfl⟩
abbrev main_call12_call1_v21 : Ref sig .tc := ⟨.hbm, 5850, rfl⟩
abbrev main_call12_call1_v22 : Ref sig .tc := ⟨.hbm, 5851, rfl⟩
abbrev main_call12_call1_c_5 : Ref sig .tc := ⟨.hbm, 5852, rfl⟩
abbrev main_call12_call1_v23 : Ref sig .tc := ⟨.hbm, 5853, rfl⟩
abbrev main_call12_call1_v24 : Ref sig .tc := ⟨.hbm, 5854, rfl⟩
abbrev main_call12_call1_v25 : Ref sig .tc := ⟨.hbm, 5855, rfl⟩
abbrev main_call12_call1_v26 : Ref sig .tc := ⟨.hbm, 5856, rfl⟩
abbrev main_call12_call1_v27 : Ref sig .tc := ⟨.hbm, 5857, rfl⟩
abbrev main_call12_call1_c_6 : Ref sig .tc := ⟨.hbm, 5858, rfl⟩
abbrev main_call12_call1_v28 : Ref sig .tc := ⟨.hbm, 5859, rfl⟩
abbrev main_call12_call1_v29 : Ref sig .tc := ⟨.hbm, 5860, rfl⟩
abbrev main_call12_call1_c_7 : Ref sig .tc := ⟨.hbm, 5861, rfl⟩
abbrev main_call12_call1_v30 : Ref sig .tc := ⟨.hbm, 5862, rfl⟩
abbrev main_call12_call1_v31 : Ref sig .tc := ⟨.hbm, 5863, rfl⟩
abbrev main_call12_call1_v32 : Ref sig .tc := ⟨.hbm, 5864, rfl⟩
abbrev main_call12_call1_v33 : Ref sig .tc := ⟨.hbm, 5865, rfl⟩
abbrev main_call12_call1_v34 : Ref sig .tc := ⟨.hbm, 5866, rfl⟩
abbrev main_call12_call1_v35 : Ref sig .tc := ⟨.hbm, 5867, rfl⟩
abbrev main_call12_call1_v36 : Ref sig .tc := ⟨.hbm, 5868, rfl⟩
abbrev main_call12_call1_v37 : Ref sig .tc := ⟨.hbm, 5869, rfl⟩
abbrev main_call12_call1_c_8 : Ref sig .tc := ⟨.hbm, 5870, rfl⟩
abbrev main_call12_call1_v38 : Ref sig .tc := ⟨.hbm, 5871, rfl⟩
abbrev main_call12_call1_v39 : Ref sig .tc := ⟨.hbm, 5872, rfl⟩
abbrev main_call12_call1_v40 : Ref sig .tc := ⟨.hbm, 5873, rfl⟩
abbrev main_call12_call1_c_9 : Ref sig .tc := ⟨.hbm, 5874, rfl⟩
abbrev main_call12_call1_v41 : Ref sig .tc := ⟨.hbm, 5875, rfl⟩
abbrev main_call12_call1_v42 : Ref sig .tc := ⟨.hbm, 5876, rfl⟩
abbrev main_call12_call1_c_10 : Ref sig .tc := ⟨.hbm, 5877, rfl⟩
abbrev main_call12_call1_v43 : Ref sig .tc := ⟨.hbm, 5878, rfl⟩
abbrev main_call12_call1_v44 : Ref sig .tc := ⟨.hbm, 5879, rfl⟩
abbrev main_call12_call1_v45 : Ref sig .tc := ⟨.hbm, 5880, rfl⟩
abbrev main_call12_call1_v46 : Ref sig .tc := ⟨.hbm, 5881, rfl⟩
abbrev main_call12_call1_v47 : Ref sig .tc := ⟨.hbm, 5882, rfl⟩
abbrev main_call12_call1_c_11 : Ref sig .tc := ⟨.hbm, 5883, rfl⟩
abbrev main_call12_call1_v48 : Ref sig .tc := ⟨.hbm, 5884, rfl⟩
abbrev main_call12_call1_v49 : Ref sig .tc := ⟨.hbm, 5885, rfl⟩
abbrev main_call12_call1_c_12 : Ref sig .tc := ⟨.hbm, 5886, rfl⟩
abbrev main_call12_call1_v50 : Ref sig .tc := ⟨.hbm, 5887, rfl⟩
abbrev main_call12_call1_v51 : Ref sig .tc := ⟨.hbm, 5888, rfl⟩
abbrev main_call12_call1_v52 : Ref sig .tc := ⟨.hbm, 5889, rfl⟩
abbrev main_call12_call1_v53 : Ref sig .tc := ⟨.hbm, 5890, rfl⟩
abbrev main_call12_call1_v54 : Ref sig .tc := ⟨.hbm, 5891, rfl⟩
abbrev main_call12_call1_c_13 : Ref sig .tc := ⟨.hbm, 5892, rfl⟩
abbrev main_call12_call1_v55 : Ref sig .tc := ⟨.hbm, 5893, rfl⟩
abbrev main_call12_call1_v56 : Ref sig .tc := ⟨.hbm, 5894, rfl⟩
abbrev main_call12_call1_c_14 : Ref sig .tc := ⟨.hbm, 5895, rfl⟩
abbrev main_call12_call1_v57 : Ref sig .tc := ⟨.hbm, 5896, rfl⟩
abbrev main_call12_call1_v58 : Ref sig .tc := ⟨.hbm, 5897, rfl⟩
abbrev main_call12_call1_v59 : Ref sig .tc := ⟨.hbm, 5898, rfl⟩
abbrev main_call12_call1_v60 : Ref sig .tc := ⟨.hbm, 5899, rfl⟩
abbrev main_call12_call1_v61 : Ref sig .tc := ⟨.hbm, 5900, rfl⟩
abbrev main_call12_call1_c_15 : Ref sig .tc := ⟨.hbm, 5901, rfl⟩
abbrev main_call12_call1_v62 : Ref sig .tc := ⟨.hbm, 5902, rfl⟩
abbrev main_call12_call1_v63 : Ref sig .tc := ⟨.hbm, 5903, rfl⟩
abbrev main_call12_call1_c_16 : Ref sig .tc := ⟨.hbm, 5904, rfl⟩
abbrev main_call12_call1_v64 : Ref sig .tc := ⟨.hbm, 5905, rfl⟩
abbrev main_call12_call1_v65 : Ref sig .tc := ⟨.hbm, 5906, rfl⟩
abbrev main_call12_call1_v66 : Ref sig .tc := ⟨.hbm, 5907, rfl⟩
abbrev main_call12_call1_v67 : Ref sig .tc := ⟨.hbm, 5908, rfl⟩
abbrev main_call12_call1_v68 : Ref sig .tc := ⟨.hbm, 5909, rfl⟩
abbrev main_call12_call1_v69 : Ref sig .tc := ⟨.hbm, 5910, rfl⟩
abbrev main_call12_call1_v70 : Ref sig .tc := ⟨.hbm, 5911, rfl⟩
abbrev main_call12_call1_v71 : Ref sig .tc := ⟨.hbm, 5912, rfl⟩
abbrev main_call12_call1_c_17 : Ref sig .tc := ⟨.hbm, 5913, rfl⟩
abbrev main_call12_call1_v72 : Ref sig .tc := ⟨.hbm, 5914, rfl⟩
abbrev main_call12_call1_v73 : Ref sig .tc := ⟨.hbm, 5915, rfl⟩
abbrev main_call12_call1_v74 : Ref sig .tc := ⟨.hbm, 5916, rfl⟩
abbrev main_call12_call1_c_18 : Ref sig .tc := ⟨.hbm, 5917, rfl⟩
abbrev main_call12_call1_v75 : Ref sig .tc := ⟨.hbm, 5918, rfl⟩
abbrev main_call12_call1_v76 : Ref sig .tc := ⟨.hbm, 5919, rfl⟩
abbrev main_call12_call1_c_19 : Ref sig .tc := ⟨.hbm, 5920, rfl⟩
abbrev main_call12_call1_v77 : Ref sig .tc := ⟨.hbm, 5921, rfl⟩
abbrev main_call12_call1_v78 : Ref sig .tc := ⟨.hbm, 5922, rfl⟩
abbrev main_call12_call1_v79 : Ref sig .tc := ⟨.hbm, 5923, rfl⟩
abbrev main_call12_call1_v80 : Ref sig .tc := ⟨.hbm, 5924, rfl⟩
abbrev main_call12_call1_v81 : Ref sig .tc := ⟨.hbm, 5925, rfl⟩
abbrev main_call12_call1_c_20 : Ref sig .tc := ⟨.hbm, 5926, rfl⟩
abbrev main_call12_call1_v82 : Ref sig .tc := ⟨.hbm, 5927, rfl⟩
abbrev main_call12_call1_v83 : Ref sig .tc := ⟨.hbm, 5928, rfl⟩
abbrev main_call12_call1_c_21 : Ref sig .tc := ⟨.hbm, 5929, rfl⟩
abbrev main_call12_call1_v84 : Ref sig .tc := ⟨.hbm, 5930, rfl⟩
abbrev main_call12_call1_v85 : Ref sig .tc := ⟨.hbm, 5931, rfl⟩
abbrev main_call12_call1_v86 : Ref sig .tc := ⟨.hbm, 5932, rfl⟩
abbrev main_call12_call1_v87 : Ref sig .tc := ⟨.hbm, 5933, rfl⟩
abbrev main_call12_call1_v88 : Ref sig .tc := ⟨.hbm, 5934, rfl⟩
abbrev main_call12_call1_c_22 : Ref sig .tc := ⟨.hbm, 5935, rfl⟩
abbrev main_call12_call1_v89 : Ref sig .tc := ⟨.hbm, 5936, rfl⟩
abbrev main_call12_call1_v90 : Ref sig .tc := ⟨.hbm, 5937, rfl⟩
abbrev main_call12_call1_c_23 : Ref sig .tc := ⟨.hbm, 5938, rfl⟩
abbrev main_call12_call1_v91 : Ref sig .tc := ⟨.hbm, 5939, rfl⟩
abbrev main_call12_call1_v92 : Ref sig .tc := ⟨.hbm, 5940, rfl⟩
abbrev main_call12_call1_v93 : Ref sig .tc := ⟨.hbm, 5941, rfl⟩
abbrev main_call12_call1_v94 : Ref sig .tc := ⟨.hbm, 5942, rfl⟩
abbrev main_call12_call1_v95 : Ref sig .tc := ⟨.hbm, 5943, rfl⟩
abbrev main_call12_call1_c_24 : Ref sig .tc := ⟨.hbm, 5944, rfl⟩
abbrev main_call12_call1_v96 : Ref sig .tc := ⟨.hbm, 5945, rfl⟩
abbrev main_call12_call1_v97 : Ref sig .tc := ⟨.hbm, 5946, rfl⟩
abbrev main_call12_call1_c_25 : Ref sig .tc := ⟨.hbm, 5947, rfl⟩
abbrev main_call12_call1_v98 : Ref sig .tc := ⟨.hbm, 5948, rfl⟩
abbrev main_call12_call1_v99 : Ref sig .tc := ⟨.hbm, 5949, rfl⟩
abbrev main_call12_call1_v100 : Ref sig .tc := ⟨.hbm, 5950, rfl⟩
abbrev main_call12_call1_v101 : Ref sig .tc := ⟨.hbm, 5951, rfl⟩
abbrev main_call12_call1_v102 : Ref sig .tc := ⟨.hbm, 5952, rfl⟩
abbrev main_call12_call1_v103 : Ref sig .tc := ⟨.hbm, 5953, rfl⟩
abbrev main_call12_call1_v104 : Ref sig .tc := ⟨.hbm, 5954, rfl⟩
abbrev main_call12_call1_v105 : Ref sig .tc := ⟨.hbm, 5955, rfl⟩
abbrev main_call12_call1_c_26 : Ref sig .tc := ⟨.hbm, 5956, rfl⟩
abbrev main_call12_call1_v106 : Ref sig .tc := ⟨.hbm, 5957, rfl⟩
abbrev main_call12_call1_v107 : Ref sig .tc := ⟨.hbm, 5958, rfl⟩
abbrev main_call12_call1_v108 : Ref sig .tc := ⟨.hbm, 5959, rfl⟩
abbrev main_call12_call1_c_27 : Ref sig .tc := ⟨.hbm, 5960, rfl⟩
abbrev main_call12_call1_v109 : Ref sig .tc := ⟨.hbm, 5961, rfl⟩
abbrev main_call12_call1_v110 : Ref sig .tc := ⟨.hbm, 5962, rfl⟩
abbrev main_call12_call1_c_28 : Ref sig .tc := ⟨.hbm, 5963, rfl⟩
abbrev main_call12_call1_v111 : Ref sig .tc := ⟨.hbm, 5964, rfl⟩
abbrev main_call12_call1_v112 : Ref sig .tc := ⟨.hbm, 5965, rfl⟩
abbrev main_call12_call1_v113 : Ref sig .tc := ⟨.hbm, 5966, rfl⟩
abbrev main_call12_call1_v114 : Ref sig .tc := ⟨.hbm, 5967, rfl⟩
abbrev main_call12_call1_v115 : Ref sig .tc := ⟨.hbm, 5968, rfl⟩
abbrev main_call12_call1_c_29 : Ref sig .tc := ⟨.hbm, 5969, rfl⟩
abbrev main_call12_call1_v116 : Ref sig .tc := ⟨.hbm, 5970, rfl⟩
abbrev main_call12_call1_v117 : Ref sig .tc := ⟨.hbm, 5971, rfl⟩
abbrev main_call12_call1_c_30 : Ref sig .tc := ⟨.hbm, 5972, rfl⟩
abbrev main_call12_call1_v118 : Ref sig .tc := ⟨.hbm, 5973, rfl⟩
abbrev main_call12_call1_v119 : Ref sig .tc := ⟨.hbm, 5974, rfl⟩
abbrev main_call12_call1_v120 : Ref sig .tc := ⟨.hbm, 5975, rfl⟩
abbrev main_call12_call1_v121 : Ref sig .tc := ⟨.hbm, 5976, rfl⟩
abbrev main_call12_call1_v122 : Ref sig .tc := ⟨.hbm, 5977, rfl⟩
abbrev main_call12_call1_c_31 : Ref sig .tc := ⟨.hbm, 5978, rfl⟩
abbrev main_call12_call1_v123 : Ref sig .tc := ⟨.hbm, 5979, rfl⟩
abbrev main_call12_call1_v124 : Ref sig .tc := ⟨.hbm, 5980, rfl⟩
abbrev main_call12_call1_c_32 : Ref sig .tc := ⟨.hbm, 5981, rfl⟩
abbrev main_call12_call1_v125 : Ref sig .tc := ⟨.hbm, 5982, rfl⟩
abbrev main_call12_call1_v126 : Ref sig .tc := ⟨.hbm, 5983, rfl⟩
abbrev main_call12_call1_v127 : Ref sig .tc := ⟨.hbm, 5984, rfl⟩
abbrev main_call12_call1_v128 : Ref sig .tc := ⟨.hbm, 5985, rfl⟩
abbrev main_call12_call1_v129 : Ref sig .tc := ⟨.hbm, 5986, rfl⟩
abbrev main_call12_call1_c_33 : Ref sig .tc := ⟨.hbm, 5987, rfl⟩
abbrev main_call12_call1_v130 : Ref sig .tc := ⟨.hbm, 5988, rfl⟩
abbrev main_call12_call1_v131 : Ref sig .tc := ⟨.hbm, 5989, rfl⟩
abbrev main_call12_call1_c_34 : Ref sig .tc := ⟨.hbm, 5990, rfl⟩
abbrev main_call12_call1_v132 : Ref sig .tc := ⟨.hbm, 5991, rfl⟩
abbrev main_call12_call1_v133 : Ref sig .tc := ⟨.hbm, 5992, rfl⟩
abbrev main_call12_call1_v134 : Ref sig .tc := ⟨.hbm, 5993, rfl⟩
abbrev main_call12_call1_v135 : Ref sig .tc := ⟨.hbm, 5994, rfl⟩
abbrev main_call12_call1_v136 : Ref sig .tc := ⟨.hbm, 5995, rfl⟩
abbrev main_call12_call1_v137 : Ref sig .tc := ⟨.hbm, 5996, rfl⟩
abbrev main_call12_call1_v138 : Ref sig .tc := ⟨.hbm, 5997, rfl⟩
abbrev main_call12_call1_v139 : Ref sig .tc := ⟨.hbm, 5998, rfl⟩
abbrev main_call12_call1_c_35 : Ref sig .tc := ⟨.hbm, 5999, rfl⟩
abbrev main_call12_call1_v140 : Ref sig .tc := ⟨.hbm, 6000, rfl⟩
abbrev main_call12_call1_v141 : Ref sig .tc := ⟨.hbm, 6001, rfl⟩
abbrev main_call12_call1_v142 : Ref sig .tc := ⟨.hbm, 6002, rfl⟩
abbrev main_call12_call1_c_36 : Ref sig .tc := ⟨.hbm, 6003, rfl⟩
abbrev main_call12_call1_v143 : Ref sig .tc := ⟨.hbm, 6004, rfl⟩
abbrev main_call12_call1_v144 : Ref sig .tc := ⟨.hbm, 6005, rfl⟩
abbrev main_call12_call1_c_37 : Ref sig .tc := ⟨.hbm, 6006, rfl⟩
abbrev main_call12_call1_v145 : Ref sig .tc := ⟨.hbm, 6007, rfl⟩
abbrev main_call12_call1_v146 : Ref sig .tc := ⟨.hbm, 6008, rfl⟩
abbrev main_call12_call1_v147 : Ref sig .tc := ⟨.hbm, 6009, rfl⟩
abbrev main_call12_call1_v148 : Ref sig .tc := ⟨.hbm, 6010, rfl⟩
abbrev main_call12_call1_v149 : Ref sig .tc := ⟨.hbm, 6011, rfl⟩
abbrev main_call12_call1_c_38 : Ref sig .tc := ⟨.hbm, 6012, rfl⟩
abbrev main_call12_call1_v150 : Ref sig .tc := ⟨.hbm, 6013, rfl⟩
abbrev main_call12_call1_v151 : Ref sig .tc := ⟨.hbm, 6014, rfl⟩
abbrev main_call12_call1_c_39 : Ref sig .tc := ⟨.hbm, 6015, rfl⟩
abbrev main_call12_call1_v152 : Ref sig .tc := ⟨.hbm, 6016, rfl⟩
abbrev main_call12_call1_v153 : Ref sig .tc := ⟨.hbm, 6017, rfl⟩
abbrev main_call12_call1_v154 : Ref sig .tc := ⟨.hbm, 6018, rfl⟩
abbrev main_call12_call1_v155 : Ref sig .tc := ⟨.hbm, 6019, rfl⟩
abbrev main_call12_call1_v156 : Ref sig .tc := ⟨.hbm, 6020, rfl⟩
abbrev main_call12_call1_c_40 : Ref sig .tc := ⟨.hbm, 6021, rfl⟩
abbrev main_call12_call1_v157 : Ref sig .tc := ⟨.hbm, 6022, rfl⟩
abbrev main_call12_call1_v158 : Ref sig .tc := ⟨.hbm, 6023, rfl⟩
abbrev main_call12_call1_c_41 : Ref sig .tc := ⟨.hbm, 6024, rfl⟩
abbrev main_call12_call1_v159 : Ref sig .tc := ⟨.hbm, 6025, rfl⟩
abbrev main_call12_call1_v160 : Ref sig .tc := ⟨.hbm, 6026, rfl⟩
abbrev main_call12_call1_v161 : Ref sig .tc := ⟨.hbm, 6027, rfl⟩
abbrev main_call12_call1_v162 : Ref sig .tc := ⟨.hbm, 6028, rfl⟩
abbrev main_call12_call1_v163 : Ref sig .tc := ⟨.hbm, 6029, rfl⟩
abbrev main_call12_call1_c_42 : Ref sig .tc := ⟨.hbm, 6030, rfl⟩
abbrev main_call12_call1_v164 : Ref sig .tc := ⟨.hbm, 6031, rfl⟩
abbrev main_call12_call1_v165 : Ref sig .tc := ⟨.hbm, 6032, rfl⟩
abbrev main_call12_call1_c_43 : Ref sig .tc := ⟨.hbm, 6033, rfl⟩
abbrev main_call12_call1_v166 : Ref sig .tc := ⟨.hbm, 6034, rfl⟩
abbrev main_call12_call1_v167 : Ref sig .tc := ⟨.hbm, 6035, rfl⟩
abbrev main_call12_call1_v168 : Ref sig .tc := ⟨.hbm, 6036, rfl⟩
abbrev main_call12_call1_v169 : Ref sig .tc := ⟨.hbm, 6037, rfl⟩
abbrev main_call12_call1_v170 : Ref sig .tc := ⟨.hbm, 6038, rfl⟩
abbrev main_call12_v16_0 : Ref sig .tc := ⟨.hbm, 6039, rfl⟩
abbrev main_call12_call1_v172 : Ref sig .tc := ⟨.hbm, 6040, rfl⟩
abbrev main_call12_call1_v173 : Ref sig .tc := ⟨.hbm, 6041, rfl⟩
abbrev main_call12_call1_c_44 : Ref sig .tc := ⟨.hbm, 6042, rfl⟩
abbrev main_call12_call1_v174 : Ref sig .tc := ⟨.hbm, 6043, rfl⟩
abbrev main_call12_v16_1 : Ref sig .tc := ⟨.hbm, 6044, rfl⟩
abbrev main_call12_v17 : Ref sig .tc := ⟨.hbm, 6045, rfl⟩
abbrev main_call12_v18_0 : Ref sig .tc := ⟨.hbm, 6046, rfl⟩
abbrev main_v58 : Ref sig .tc := ⟨.hbm, 6047, rfl⟩
abbrev main_v59 : Ref sig .tc := ⟨.hbm, 6048, rfl⟩
abbrev main_v60 : Ref sig .tc := ⟨.hbm, 6049, rfl⟩
abbrev main_v61 : Ref sig .tc := ⟨.hbm, 6050, rfl⟩
abbrev main_call13_call0_v0 : Ref sig .tc := ⟨.hbm, 6051, rfl⟩
abbrev main_call13_call0_v1 : Ref sig .tc := ⟨.hbm, 6052, rfl⟩
abbrev main_call13_call0_v2 : Ref sig .tc := ⟨.hbm, 6053, rfl⟩
abbrev main_call13_call0_v3 : Ref sig .tc := ⟨.hbm, 6054, rfl⟩
abbrev main_call13_call0_v4 : Ref sig .tc := ⟨.hbm, 6055, rfl⟩
abbrev main_call13_call0_c : Ref sig .tc := ⟨.hbm, 6056, rfl⟩
abbrev main_call13_call0_v5 : Ref sig .tc := ⟨.hbm, 6057, rfl⟩
abbrev main_call13_call0_v6 : Ref sig .tc := ⟨.hbm, 6058, rfl⟩
abbrev main_call13_call0_c_0 : Ref sig .tc := ⟨.hbm, 6059, rfl⟩
abbrev main_call13_call0_v7 : Ref sig .tc := ⟨.hbm, 6060, rfl⟩
abbrev main_call13_call0_v8 : Ref sig .tc := ⟨.hbm, 6061, rfl⟩
abbrev main_call13_call0_v9 : Ref sig .tc := ⟨.hbm, 6062, rfl⟩
abbrev main_call13_call0_v10 : Ref sig .tc := ⟨.hbm, 6063, rfl⟩
abbrev main_call13_call0_call0_v0 : Ref sig .tc := ⟨.hbm, 6064, rfl⟩
abbrev main_call13_call0_call0_c : Ref sig .tc := ⟨.hbm, 6065, rfl⟩
abbrev main_call13_call0_call0_v1 : Ref sig .tc := ⟨.hbm, 6066, rfl⟩
abbrev main_call13_call0_call0_v2 : Ref sig .tc := ⟨.hbm, 6067, rfl⟩
abbrev main_call13_call0_call0_v3 : Ref sig .tc := ⟨.hbm, 6068, rfl⟩
abbrev main_call13_call0_call0_v4 : Ref sig .tc := ⟨.hbm, 6069, rfl⟩
abbrev main_call13_call0_call0_v5 : Ref sig .tc := ⟨.hbm, 6070, rfl⟩
abbrev main_call13_call0_call0_v6 : Ref sig .tc := ⟨.hbm, 6071, rfl⟩
abbrev main_call13_call0_call0_c_0 : Ref sig .tc := ⟨.hbm, 6072, rfl⟩
abbrev main_call13_call0_call0_v7 : Ref sig .tc := ⟨.hbm, 6073, rfl⟩
abbrev main_call13_call0_call0_v8 : Ref sig .tc := ⟨.hbm, 6074, rfl⟩
abbrev main_call13_call0_call0_c_1 : Ref sig .tc := ⟨.hbm, 6075, rfl⟩
abbrev main_call13_call0_call0_v9 : Ref sig .tc := ⟨.hbm, 6076, rfl⟩
abbrev main_call13_call0_call0_v10 : Ref sig .tc := ⟨.hbm, 6077, rfl⟩
abbrev main_call13_call0_call0_v11 : Ref sig .tc := ⟨.hbm, 6078, rfl⟩
abbrev main_call13_call0_call0_v12 : Ref sig .tc := ⟨.hbm, 6079, rfl⟩
abbrev main_call13_call0_call0_v13 : Ref sig .tc := ⟨.hbm, 6080, rfl⟩
abbrev main_call13_call0_call0_c_2 : Ref sig .tc := ⟨.hbm, 6081, rfl⟩
abbrev main_call13_call0_call0_v14 : Ref sig .tc := ⟨.hbm, 6082, rfl⟩
abbrev main_call13_call0_call0_v15 : Ref sig .tc := ⟨.hbm, 6083, rfl⟩
abbrev main_call13_call0_call0_c_3 : Ref sig .tc := ⟨.hbm, 6084, rfl⟩
abbrev main_call13_call0_call0_v16 : Ref sig .tc := ⟨.hbm, 6085, rfl⟩
abbrev main_call13_call0_call0_v17 : Ref sig .tc := ⟨.hbm, 6086, rfl⟩
abbrev main_call13_call0_call0_v18 : Ref sig .tc := ⟨.hbm, 6087, rfl⟩
abbrev main_call13_call0_call0_v19 : Ref sig .tc := ⟨.hbm, 6088, rfl⟩
abbrev main_call13_call0_call0_v20 : Ref sig .tc := ⟨.hbm, 6089, rfl⟩
abbrev main_call13_call0_call0_c_4 : Ref sig .tc := ⟨.hbm, 6090, rfl⟩
abbrev main_call13_call0_call0_v21 : Ref sig .tc := ⟨.hbm, 6091, rfl⟩
abbrev main_call13_call0_call0_v22 : Ref sig .tc := ⟨.hbm, 6092, rfl⟩
abbrev main_call13_call0_call0_c_5 : Ref sig .tc := ⟨.hbm, 6093, rfl⟩
abbrev main_call13_call0_call0_v23 : Ref sig .tc := ⟨.hbm, 6094, rfl⟩
abbrev main_call13_call0_call0_v24 : Ref sig .tc := ⟨.hbm, 6095, rfl⟩
abbrev main_call13_call0_call0_v25 : Ref sig .tc := ⟨.hbm, 6096, rfl⟩
abbrev main_call13_call0_call0_v26 : Ref sig .tc := ⟨.hbm, 6097, rfl⟩
abbrev main_call13_call0_call0_v27 : Ref sig .tc := ⟨.hbm, 6098, rfl⟩
abbrev main_call13_call0_call0_c_6 : Ref sig .tc := ⟨.hbm, 6099, rfl⟩
abbrev main_call13_call0_call0_v28 : Ref sig .tc := ⟨.hbm, 6100, rfl⟩
abbrev main_call13_call0_call0_v29 : Ref sig .tc := ⟨.hbm, 6101, rfl⟩
abbrev main_call13_call0_call0_c_7 : Ref sig .tc := ⟨.hbm, 6102, rfl⟩
abbrev main_call13_call0_call0_v30 : Ref sig .tc := ⟨.hbm, 6103, rfl⟩
abbrev main_call13_call0_call0_v31 : Ref sig .tc := ⟨.hbm, 6104, rfl⟩
abbrev main_call13_call0_call0_v32 : Ref sig .tc := ⟨.hbm, 6105, rfl⟩
abbrev main_call13_call0_call0_v33 : Ref sig .tc := ⟨.hbm, 6106, rfl⟩
abbrev main_call13_call0_call0_v34 : Ref sig .tc := ⟨.hbm, 6107, rfl⟩
abbrev main_call13_call0_call0_v35 : Ref sig .tc := ⟨.hbm, 6108, rfl⟩
abbrev main_call13_call0_call0_v36 : Ref sig .tc := ⟨.hbm, 6109, rfl⟩
abbrev main_call13_call0_call0_v37 : Ref sig .tc := ⟨.hbm, 6110, rfl⟩
abbrev main_call13_call0_call0_c_8 : Ref sig .tc := ⟨.hbm, 6111, rfl⟩
abbrev main_call13_call0_call0_v38 : Ref sig .tc := ⟨.hbm, 6112, rfl⟩
abbrev main_call13_call0_call0_v39 : Ref sig .tc := ⟨.hbm, 6113, rfl⟩
abbrev main_call13_call0_call0_v40 : Ref sig .tc := ⟨.hbm, 6114, rfl⟩
abbrev main_call13_call0_call0_c_9 : Ref sig .tc := ⟨.hbm, 6115, rfl⟩
abbrev main_call13_call0_call0_v41 : Ref sig .tc := ⟨.hbm, 6116, rfl⟩
abbrev main_call13_call0_call0_v42 : Ref sig .tc := ⟨.hbm, 6117, rfl⟩
abbrev main_call13_call0_call0_c_10 : Ref sig .tc := ⟨.hbm, 6118, rfl⟩
abbrev main_call13_call0_call0_v43 : Ref sig .tc := ⟨.hbm, 6119, rfl⟩
abbrev main_call13_call0_call0_v44 : Ref sig .tc := ⟨.hbm, 6120, rfl⟩
abbrev main_call13_call0_call0_v45 : Ref sig .tc := ⟨.hbm, 6121, rfl⟩
abbrev main_call13_call0_call0_v46 : Ref sig .tc := ⟨.hbm, 6122, rfl⟩
abbrev main_call13_call0_call0_v47 : Ref sig .tc := ⟨.hbm, 6123, rfl⟩
abbrev main_call13_call0_call0_c_11 : Ref sig .tc := ⟨.hbm, 6124, rfl⟩
abbrev main_call13_call0_call0_v48 : Ref sig .tc := ⟨.hbm, 6125, rfl⟩
abbrev main_call13_call0_call0_v49 : Ref sig .tc := ⟨.hbm, 6126, rfl⟩
abbrev main_call13_call0_call0_c_12 : Ref sig .tc := ⟨.hbm, 6127, rfl⟩
abbrev main_call13_call0_call0_v50 : Ref sig .tc := ⟨.hbm, 6128, rfl⟩
abbrev main_call13_call0_call0_v51 : Ref sig .tc := ⟨.hbm, 6129, rfl⟩
abbrev main_call13_call0_call0_v52 : Ref sig .tc := ⟨.hbm, 6130, rfl⟩
abbrev main_call13_call0_call0_v53 : Ref sig .tc := ⟨.hbm, 6131, rfl⟩
abbrev main_call13_call0_call0_v54 : Ref sig .tc := ⟨.hbm, 6132, rfl⟩
abbrev main_call13_call0_call0_c_13 : Ref sig .tc := ⟨.hbm, 6133, rfl⟩
abbrev main_call13_call0_call0_v55 : Ref sig .tc := ⟨.hbm, 6134, rfl⟩
abbrev main_call13_call0_call0_v56 : Ref sig .tc := ⟨.hbm, 6135, rfl⟩
abbrev main_call13_call0_call0_c_14 : Ref sig .tc := ⟨.hbm, 6136, rfl⟩
abbrev main_call13_call0_call0_v57 : Ref sig .tc := ⟨.hbm, 6137, rfl⟩
abbrev main_call13_call0_call0_v58 : Ref sig .tc := ⟨.hbm, 6138, rfl⟩
abbrev main_call13_call0_call0_v59 : Ref sig .tc := ⟨.hbm, 6139, rfl⟩
abbrev main_call13_call0_call0_v60 : Ref sig .tc := ⟨.hbm, 6140, rfl⟩
abbrev main_call13_call0_call0_v61 : Ref sig .tc := ⟨.hbm, 6141, rfl⟩
abbrev main_call13_call0_call0_c_15 : Ref sig .tc := ⟨.hbm, 6142, rfl⟩
abbrev main_call13_call0_call0_v62 : Ref sig .tc := ⟨.hbm, 6143, rfl⟩
abbrev main_call13_call0_call0_v63 : Ref sig .tc := ⟨.hbm, 6144, rfl⟩
abbrev main_call13_call0_call0_c_16 : Ref sig .tc := ⟨.hbm, 6145, rfl⟩
abbrev main_call13_call0_call0_v64 : Ref sig .tc := ⟨.hbm, 6146, rfl⟩
abbrev main_call13_call0_call0_v65 : Ref sig .tc := ⟨.hbm, 6147, rfl⟩
abbrev main_call13_call0_call0_v66 : Ref sig .tc := ⟨.hbm, 6148, rfl⟩
abbrev main_call13_call0_call0_v67 : Ref sig .tc := ⟨.hbm, 6149, rfl⟩
abbrev main_call13_call0_call0_v68 : Ref sig .tc := ⟨.hbm, 6150, rfl⟩
abbrev main_call13_call0_call0_v69 : Ref sig .tc := ⟨.hbm, 6151, rfl⟩
abbrev main_call13_call0_call0_v70 : Ref sig .tc := ⟨.hbm, 6152, rfl⟩
abbrev main_call13_call0_call0_v71 : Ref sig .tc := ⟨.hbm, 6153, rfl⟩
abbrev main_call13_call0_call0_c_17 : Ref sig .tc := ⟨.hbm, 6154, rfl⟩
abbrev main_call13_call0_call0_v72 : Ref sig .tc := ⟨.hbm, 6155, rfl⟩
abbrev main_call13_call0_call0_v73 : Ref sig .tc := ⟨.hbm, 6156, rfl⟩
abbrev main_call13_call0_call0_v74 : Ref sig .tc := ⟨.hbm, 6157, rfl⟩
abbrev main_call13_call0_call0_c_18 : Ref sig .tc := ⟨.hbm, 6158, rfl⟩
abbrev main_call13_call0_call0_v75 : Ref sig .tc := ⟨.hbm, 6159, rfl⟩
abbrev main_call13_call0_call0_v76 : Ref sig .tc := ⟨.hbm, 6160, rfl⟩
abbrev main_call13_call0_call0_c_19 : Ref sig .tc := ⟨.hbm, 6161, rfl⟩
abbrev main_call13_call0_call0_v77 : Ref sig .tc := ⟨.hbm, 6162, rfl⟩
abbrev main_call13_call0_call0_v78 : Ref sig .tc := ⟨.hbm, 6163, rfl⟩
abbrev main_call13_call0_call0_v79 : Ref sig .tc := ⟨.hbm, 6164, rfl⟩
abbrev main_call13_call0_call0_v80 : Ref sig .tc := ⟨.hbm, 6165, rfl⟩
abbrev main_call13_call0_call0_v81 : Ref sig .tc := ⟨.hbm, 6166, rfl⟩
abbrev main_call13_call0_call0_c_20 : Ref sig .tc := ⟨.hbm, 6167, rfl⟩
abbrev main_call13_call0_call0_v82 : Ref sig .tc := ⟨.hbm, 6168, rfl⟩
abbrev main_call13_call0_call0_v83 : Ref sig .tc := ⟨.hbm, 6169, rfl⟩
abbrev main_call13_call0_call0_c_21 : Ref sig .tc := ⟨.hbm, 6170, rfl⟩
abbrev main_call13_call0_call0_v84 : Ref sig .tc := ⟨.hbm, 6171, rfl⟩
abbrev main_call13_call0_call0_v85 : Ref sig .tc := ⟨.hbm, 6172, rfl⟩
abbrev main_call13_call0_call0_v86 : Ref sig .tc := ⟨.hbm, 6173, rfl⟩
abbrev main_call13_call0_call0_v87 : Ref sig .tc := ⟨.hbm, 6174, rfl⟩
abbrev main_call13_call0_call0_v88 : Ref sig .tc := ⟨.hbm, 6175, rfl⟩
abbrev main_call13_call0_call0_c_22 : Ref sig .tc := ⟨.hbm, 6176, rfl⟩
abbrev main_call13_call0_call0_v89 : Ref sig .tc := ⟨.hbm, 6177, rfl⟩
abbrev main_call13_call0_call0_v90 : Ref sig .tc := ⟨.hbm, 6178, rfl⟩
abbrev main_call13_call0_call0_c_23 : Ref sig .tc := ⟨.hbm, 6179, rfl⟩
abbrev main_call13_call0_call0_v91 : Ref sig .tc := ⟨.hbm, 6180, rfl⟩
abbrev main_call13_call0_call0_v92 : Ref sig .tc := ⟨.hbm, 6181, rfl⟩
abbrev main_call13_call0_call0_v93 : Ref sig .tc := ⟨.hbm, 6182, rfl⟩
abbrev main_call13_call0_call0_v94 : Ref sig .tc := ⟨.hbm, 6183, rfl⟩
abbrev main_call13_call0_call0_v95 : Ref sig .tc := ⟨.hbm, 6184, rfl⟩
abbrev main_call13_call0_call0_c_24 : Ref sig .tc := ⟨.hbm, 6185, rfl⟩
abbrev main_call13_call0_call0_v96 : Ref sig .tc := ⟨.hbm, 6186, rfl⟩
abbrev main_call13_call0_call0_v97 : Ref sig .tc := ⟨.hbm, 6187, rfl⟩
abbrev main_call13_call0_call0_c_25 : Ref sig .tc := ⟨.hbm, 6188, rfl⟩
abbrev main_call13_call0_call0_v98 : Ref sig .tc := ⟨.hbm, 6189, rfl⟩
abbrev main_call13_call0_call0_v99 : Ref sig .tc := ⟨.hbm, 6190, rfl⟩
abbrev main_call13_call0_call0_v100 : Ref sig .tc := ⟨.hbm, 6191, rfl⟩
abbrev main_call13_call0_call0_v101 : Ref sig .tc := ⟨.hbm, 6192, rfl⟩
abbrev main_call13_call0_call0_v102 : Ref sig .tc := ⟨.hbm, 6193, rfl⟩
abbrev main_call13_call0_call0_v103 : Ref sig .tc := ⟨.hbm, 6194, rfl⟩
abbrev main_call13_call0_call0_v104 : Ref sig .tc := ⟨.hbm, 6195, rfl⟩
abbrev main_call13_call0_call0_v105 : Ref sig .tc := ⟨.hbm, 6196, rfl⟩
abbrev main_call13_call0_call0_c_26 : Ref sig .tc := ⟨.hbm, 6197, rfl⟩
abbrev main_call13_call0_call0_v106 : Ref sig .tc := ⟨.hbm, 6198, rfl⟩
abbrev main_call13_call0_call0_v107 : Ref sig .tc := ⟨.hbm, 6199, rfl⟩
abbrev main_call13_call0_call0_v108 : Ref sig .tc := ⟨.hbm, 6200, rfl⟩
abbrev main_call13_call0_call0_c_27 : Ref sig .tc := ⟨.hbm, 6201, rfl⟩
abbrev main_call13_call0_call0_v109 : Ref sig .tc := ⟨.hbm, 6202, rfl⟩
abbrev main_call13_call0_call0_v110 : Ref sig .tc := ⟨.hbm, 6203, rfl⟩
abbrev main_call13_call0_call0_c_28 : Ref sig .tc := ⟨.hbm, 6204, rfl⟩
abbrev main_call13_call0_call0_v111 : Ref sig .tc := ⟨.hbm, 6205, rfl⟩
abbrev main_call13_call0_call0_v112 : Ref sig .tc := ⟨.hbm, 6206, rfl⟩
abbrev main_call13_call0_call0_v113 : Ref sig .tc := ⟨.hbm, 6207, rfl⟩
abbrev main_call13_call0_call0_v114 : Ref sig .tc := ⟨.hbm, 6208, rfl⟩
abbrev main_call13_call0_call0_v115 : Ref sig .tc := ⟨.hbm, 6209, rfl⟩
abbrev main_call13_call0_call0_c_29 : Ref sig .tc := ⟨.hbm, 6210, rfl⟩
abbrev main_call13_call0_call0_v116 : Ref sig .tc := ⟨.hbm, 6211, rfl⟩
abbrev main_call13_call0_call0_v117 : Ref sig .tc := ⟨.hbm, 6212, rfl⟩
abbrev main_call13_call0_call0_c_30 : Ref sig .tc := ⟨.hbm, 6213, rfl⟩
abbrev main_call13_call0_call0_v118 : Ref sig .tc := ⟨.hbm, 6214, rfl⟩
abbrev main_call13_call0_call0_v119 : Ref sig .tc := ⟨.hbm, 6215, rfl⟩
abbrev main_call13_call0_call0_v120 : Ref sig .tc := ⟨.hbm, 6216, rfl⟩
abbrev main_call13_call0_call0_v121 : Ref sig .tc := ⟨.hbm, 6217, rfl⟩
abbrev main_call13_call0_call0_v122 : Ref sig .tc := ⟨.hbm, 6218, rfl⟩
abbrev main_call13_call0_call0_c_31 : Ref sig .tc := ⟨.hbm, 6219, rfl⟩
abbrev main_call13_call0_call0_v123 : Ref sig .tc := ⟨.hbm, 6220, rfl⟩
abbrev main_call13_call0_call0_v124 : Ref sig .tc := ⟨.hbm, 6221, rfl⟩
abbrev main_call13_call0_call0_c_32 : Ref sig .tc := ⟨.hbm, 6222, rfl⟩
abbrev main_call13_call0_call0_v125 : Ref sig .tc := ⟨.hbm, 6223, rfl⟩
abbrev main_call13_call0_call0_v126 : Ref sig .tc := ⟨.hbm, 6224, rfl⟩
abbrev main_call13_call0_call0_v127 : Ref sig .tc := ⟨.hbm, 6225, rfl⟩
abbrev main_call13_call0_call0_v128 : Ref sig .tc := ⟨.hbm, 6226, rfl⟩
abbrev main_call13_call0_call0_v129 : Ref sig .tc := ⟨.hbm, 6227, rfl⟩
abbrev main_call13_call0_call0_c_33 : Ref sig .tc := ⟨.hbm, 6228, rfl⟩
abbrev main_call13_call0_call0_v130 : Ref sig .tc := ⟨.hbm, 6229, rfl⟩
abbrev main_call13_call0_call0_v131 : Ref sig .tc := ⟨.hbm, 6230, rfl⟩
abbrev main_call13_call0_call0_c_34 : Ref sig .tc := ⟨.hbm, 6231, rfl⟩
abbrev main_call13_call0_call0_v132 : Ref sig .tc := ⟨.hbm, 6232, rfl⟩
abbrev main_call13_call0_call0_v133 : Ref sig .tc := ⟨.hbm, 6233, rfl⟩
abbrev main_call13_call0_call0_v134 : Ref sig .tc := ⟨.hbm, 6234, rfl⟩
abbrev main_call13_call0_call0_v135 : Ref sig .tc := ⟨.hbm, 6235, rfl⟩
abbrev main_call13_call0_call0_v136 : Ref sig .tc := ⟨.hbm, 6236, rfl⟩
abbrev main_call13_call0_call0_v137 : Ref sig .tc := ⟨.hbm, 6237, rfl⟩
abbrev main_call13_call0_call0_v138 : Ref sig .tc := ⟨.hbm, 6238, rfl⟩
abbrev main_call13_call0_call0_v139 : Ref sig .tc := ⟨.hbm, 6239, rfl⟩
abbrev main_call13_call0_call0_c_35 : Ref sig .tc := ⟨.hbm, 6240, rfl⟩
abbrev main_call13_call0_call0_v140 : Ref sig .tc := ⟨.hbm, 6241, rfl⟩
abbrev main_call13_call0_call0_v141 : Ref sig .tc := ⟨.hbm, 6242, rfl⟩
abbrev main_call13_call0_call0_v142 : Ref sig .tc := ⟨.hbm, 6243, rfl⟩
abbrev main_call13_call0_call0_c_36 : Ref sig .tc := ⟨.hbm, 6244, rfl⟩
abbrev main_call13_call0_call0_v143 : Ref sig .tc := ⟨.hbm, 6245, rfl⟩
abbrev main_call13_call0_call0_v144 : Ref sig .tc := ⟨.hbm, 6246, rfl⟩
abbrev main_call13_call0_call0_c_37 : Ref sig .tc := ⟨.hbm, 6247, rfl⟩
abbrev main_call13_call0_call0_v145 : Ref sig .tc := ⟨.hbm, 6248, rfl⟩
abbrev main_call13_call0_call0_v146 : Ref sig .tc := ⟨.hbm, 6249, rfl⟩
abbrev main_call13_call0_call0_v147 : Ref sig .tc := ⟨.hbm, 6250, rfl⟩
abbrev main_call13_call0_call0_v148 : Ref sig .tc := ⟨.hbm, 6251, rfl⟩
abbrev main_call13_call0_call0_v149 : Ref sig .tc := ⟨.hbm, 6252, rfl⟩
abbrev main_call13_call0_call0_c_38 : Ref sig .tc := ⟨.hbm, 6253, rfl⟩
abbrev main_call13_call0_call0_v150 : Ref sig .tc := ⟨.hbm, 6254, rfl⟩
abbrev main_call13_call0_call0_v151 : Ref sig .tc := ⟨.hbm, 6255, rfl⟩
abbrev main_call13_call0_call0_c_39 : Ref sig .tc := ⟨.hbm, 6256, rfl⟩
abbrev main_call13_call0_call0_v152 : Ref sig .tc := ⟨.hbm, 6257, rfl⟩
abbrev main_call13_call0_call0_v153 : Ref sig .tc := ⟨.hbm, 6258, rfl⟩
abbrev main_call13_call0_call0_v154 : Ref sig .tc := ⟨.hbm, 6259, rfl⟩
abbrev main_call13_call0_call0_v155 : Ref sig .tc := ⟨.hbm, 6260, rfl⟩
abbrev main_call13_call0_call0_v156 : Ref sig .tc := ⟨.hbm, 6261, rfl⟩
abbrev main_call13_call0_call0_c_40 : Ref sig .tc := ⟨.hbm, 6262, rfl⟩
abbrev main_call13_call0_call0_v157 : Ref sig .tc := ⟨.hbm, 6263, rfl⟩
abbrev main_call13_call0_call0_v158 : Ref sig .tc := ⟨.hbm, 6264, rfl⟩
abbrev main_call13_call0_call0_c_41 : Ref sig .tc := ⟨.hbm, 6265, rfl⟩
abbrev main_call13_call0_call0_v159 : Ref sig .tc := ⟨.hbm, 6266, rfl⟩
abbrev main_call13_call0_call0_v160 : Ref sig .tc := ⟨.hbm, 6267, rfl⟩
abbrev main_call13_call0_call0_v161 : Ref sig .tc := ⟨.hbm, 6268, rfl⟩
abbrev main_call13_call0_call0_v162 : Ref sig .tc := ⟨.hbm, 6269, rfl⟩
abbrev main_call13_call0_call0_v163 : Ref sig .tc := ⟨.hbm, 6270, rfl⟩
abbrev main_call13_call0_call0_c_42 : Ref sig .tc := ⟨.hbm, 6271, rfl⟩
abbrev main_call13_call0_call0_v164 : Ref sig .tc := ⟨.hbm, 6272, rfl⟩
abbrev main_call13_call0_call0_v165 : Ref sig .tc := ⟨.hbm, 6273, rfl⟩
abbrev main_call13_call0_call0_c_43 : Ref sig .tc := ⟨.hbm, 6274, rfl⟩
abbrev main_call13_call0_call0_v166 : Ref sig .tc := ⟨.hbm, 6275, rfl⟩
abbrev main_call13_call0_call0_v167 : Ref sig .tc := ⟨.hbm, 6276, rfl⟩
abbrev main_call13_call0_call0_v168 : Ref sig .tc := ⟨.hbm, 6277, rfl⟩
abbrev main_call13_call0_call0_v169 : Ref sig .tc := ⟨.hbm, 6278, rfl⟩
abbrev main_call13_call0_call0_v170 : Ref sig .tc := ⟨.hbm, 6279, rfl⟩
abbrev main_call13_call0_v11_0 : Ref sig .tc := ⟨.hbm, 6280, rfl⟩
abbrev main_call13_call0_call0_v172 : Ref sig .tc := ⟨.hbm, 6281, rfl⟩
abbrev main_call13_call0_call0_v173 : Ref sig .tc := ⟨.hbm, 6282, rfl⟩
abbrev main_call13_call0_call0_c_44 : Ref sig .tc := ⟨.hbm, 6283, rfl⟩
abbrev main_call13_call0_call0_v174 : Ref sig .tc := ⟨.hbm, 6284, rfl⟩
abbrev main_call13_call0_v11_1 : Ref sig .tc := ⟨.hbm, 6285, rfl⟩
abbrev main_call13_call0_v12 : Ref sig .tc := ⟨.hbm, 6286, rfl⟩
abbrev main_call13_call0_v13 : Ref sig .tc := ⟨.hbm, 6287, rfl⟩
abbrev main_call13_v0 : Ref sig .tc := ⟨.hbm, 6288, rfl⟩
abbrev main_call13_v1 : Ref sig .tc := ⟨.hbm, 6289, rfl⟩
abbrev main_call13_v2 : Ref sig .tc := ⟨.hbm, 6290, rfl⟩
abbrev main_call13_v3 : Ref sig .tc := ⟨.hbm, 6291, rfl⟩
abbrev main_call13_v4 : Ref sig .tc := ⟨.hbm, 6292, rfl⟩
abbrev main_call13_v5 : Ref sig .tc := ⟨.hbm, 6293, rfl⟩
abbrev main_call13_v6 : Ref sig .tc := ⟨.hbm, 6294, rfl⟩
abbrev main_call13_v7 : Ref sig .tc := ⟨.hbm, 6295, rfl⟩
abbrev main_call13_v8 : Ref sig .tc := ⟨.hbm, 6296, rfl⟩
abbrev main_call13_v9 : Ref sig .tc := ⟨.hbm, 6297, rfl⟩
abbrev main_call13_c : Ref sig .tc := ⟨.hbm, 6298, rfl⟩
abbrev main_call13_v10 : Ref sig .tc := ⟨.hbm, 6299, rfl⟩
abbrev main_call13_v11 : Ref sig .tc := ⟨.hbm, 6300, rfl⟩
abbrev main_call13_c_0 : Ref sig .tc := ⟨.hbm, 6301, rfl⟩
abbrev main_call13_v12 : Ref sig .tc := ⟨.hbm, 6302, rfl⟩
abbrev main_call13_v13 : Ref sig .tc := ⟨.hbm, 6303, rfl⟩
abbrev main_call13_v14 : Ref sig .tc := ⟨.hbm, 6304, rfl⟩
abbrev main_call13_v15 : Ref sig .tc := ⟨.hbm, 6305, rfl⟩
abbrev main_call13_call1_v0 : Ref sig .tc := ⟨.hbm, 6306, rfl⟩
abbrev main_call13_call1_c : Ref sig .tc := ⟨.hbm, 6307, rfl⟩
abbrev main_call13_call1_v1 : Ref sig .tc := ⟨.hbm, 6308, rfl⟩
abbrev main_call13_call1_v2 : Ref sig .tc := ⟨.hbm, 6309, rfl⟩
abbrev main_call13_call1_v3 : Ref sig .tc := ⟨.hbm, 6310, rfl⟩
abbrev main_call13_call1_v4 : Ref sig .tc := ⟨.hbm, 6311, rfl⟩
abbrev main_call13_call1_v5 : Ref sig .tc := ⟨.hbm, 6312, rfl⟩
abbrev main_call13_call1_v6 : Ref sig .tc := ⟨.hbm, 6313, rfl⟩
abbrev main_call13_call1_c_0 : Ref sig .tc := ⟨.hbm, 6314, rfl⟩
abbrev main_call13_call1_v7 : Ref sig .tc := ⟨.hbm, 6315, rfl⟩
abbrev main_call13_call1_v8 : Ref sig .tc := ⟨.hbm, 6316, rfl⟩
abbrev main_call13_call1_c_1 : Ref sig .tc := ⟨.hbm, 6317, rfl⟩
abbrev main_call13_call1_v9 : Ref sig .tc := ⟨.hbm, 6318, rfl⟩
abbrev main_call13_call1_v10 : Ref sig .tc := ⟨.hbm, 6319, rfl⟩
abbrev main_call13_call1_v11 : Ref sig .tc := ⟨.hbm, 6320, rfl⟩
abbrev main_call13_call1_v12 : Ref sig .tc := ⟨.hbm, 6321, rfl⟩
abbrev main_call13_call1_v13 : Ref sig .tc := ⟨.hbm, 6322, rfl⟩
abbrev main_call13_call1_c_2 : Ref sig .tc := ⟨.hbm, 6323, rfl⟩
abbrev main_call13_call1_v14 : Ref sig .tc := ⟨.hbm, 6324, rfl⟩
abbrev main_call13_call1_v15 : Ref sig .tc := ⟨.hbm, 6325, rfl⟩
abbrev main_call13_call1_c_3 : Ref sig .tc := ⟨.hbm, 6326, rfl⟩
abbrev main_call13_call1_v16 : Ref sig .tc := ⟨.hbm, 6327, rfl⟩
abbrev main_call13_call1_v17 : Ref sig .tc := ⟨.hbm, 6328, rfl⟩
abbrev main_call13_call1_v18 : Ref sig .tc := ⟨.hbm, 6329, rfl⟩
abbrev main_call13_call1_v19 : Ref sig .tc := ⟨.hbm, 6330, rfl⟩
abbrev main_call13_call1_v20 : Ref sig .tc := ⟨.hbm, 6331, rfl⟩
abbrev main_call13_call1_c_4 : Ref sig .tc := ⟨.hbm, 6332, rfl⟩
abbrev main_call13_call1_v21 : Ref sig .tc := ⟨.hbm, 6333, rfl⟩
abbrev main_call13_call1_v22 : Ref sig .tc := ⟨.hbm, 6334, rfl⟩
abbrev main_call13_call1_c_5 : Ref sig .tc := ⟨.hbm, 6335, rfl⟩
abbrev main_call13_call1_v23 : Ref sig .tc := ⟨.hbm, 6336, rfl⟩
abbrev main_call13_call1_v24 : Ref sig .tc := ⟨.hbm, 6337, rfl⟩
abbrev main_call13_call1_v25 : Ref sig .tc := ⟨.hbm, 6338, rfl⟩
abbrev main_call13_call1_v26 : Ref sig .tc := ⟨.hbm, 6339, rfl⟩
abbrev main_call13_call1_v27 : Ref sig .tc := ⟨.hbm, 6340, rfl⟩
abbrev main_call13_call1_c_6 : Ref sig .tc := ⟨.hbm, 6341, rfl⟩
abbrev main_call13_call1_v28 : Ref sig .tc := ⟨.hbm, 6342, rfl⟩
abbrev main_call13_call1_v29 : Ref sig .tc := ⟨.hbm, 6343, rfl⟩
abbrev main_call13_call1_c_7 : Ref sig .tc := ⟨.hbm, 6344, rfl⟩
abbrev main_call13_call1_v30 : Ref sig .tc := ⟨.hbm, 6345, rfl⟩
abbrev main_call13_call1_v31 : Ref sig .tc := ⟨.hbm, 6346, rfl⟩
abbrev main_call13_call1_v32 : Ref sig .tc := ⟨.hbm, 6347, rfl⟩
abbrev main_call13_call1_v33 : Ref sig .tc := ⟨.hbm, 6348, rfl⟩
abbrev main_call13_call1_v34 : Ref sig .tc := ⟨.hbm, 6349, rfl⟩
abbrev main_call13_call1_v35 : Ref sig .tc := ⟨.hbm, 6350, rfl⟩
abbrev main_call13_call1_v36 : Ref sig .tc := ⟨.hbm, 6351, rfl⟩
abbrev main_call13_call1_v37 : Ref sig .tc := ⟨.hbm, 6352, rfl⟩
abbrev main_call13_call1_c_8 : Ref sig .tc := ⟨.hbm, 6353, rfl⟩
abbrev main_call13_call1_v38 : Ref sig .tc := ⟨.hbm, 6354, rfl⟩
abbrev main_call13_call1_v39 : Ref sig .tc := ⟨.hbm, 6355, rfl⟩
abbrev main_call13_call1_v40 : Ref sig .tc := ⟨.hbm, 6356, rfl⟩
abbrev main_call13_call1_c_9 : Ref sig .tc := ⟨.hbm, 6357, rfl⟩
abbrev main_call13_call1_v41 : Ref sig .tc := ⟨.hbm, 6358, rfl⟩
abbrev main_call13_call1_v42 : Ref sig .tc := ⟨.hbm, 6359, rfl⟩
abbrev main_call13_call1_c_10 : Ref sig .tc := ⟨.hbm, 6360, rfl⟩
abbrev main_call13_call1_v43 : Ref sig .tc := ⟨.hbm, 6361, rfl⟩
abbrev main_call13_call1_v44 : Ref sig .tc := ⟨.hbm, 6362, rfl⟩
abbrev main_call13_call1_v45 : Ref sig .tc := ⟨.hbm, 6363, rfl⟩
abbrev main_call13_call1_v46 : Ref sig .tc := ⟨.hbm, 6364, rfl⟩
abbrev main_call13_call1_v47 : Ref sig .tc := ⟨.hbm, 6365, rfl⟩
abbrev main_call13_call1_c_11 : Ref sig .tc := ⟨.hbm, 6366, rfl⟩
abbrev main_call13_call1_v48 : Ref sig .tc := ⟨.hbm, 6367, rfl⟩
abbrev main_call13_call1_v49 : Ref sig .tc := ⟨.hbm, 6368, rfl⟩
abbrev main_call13_call1_c_12 : Ref sig .tc := ⟨.hbm, 6369, rfl⟩
abbrev main_call13_call1_v50 : Ref sig .tc := ⟨.hbm, 6370, rfl⟩
abbrev main_call13_call1_v51 : Ref sig .tc := ⟨.hbm, 6371, rfl⟩
abbrev main_call13_call1_v52 : Ref sig .tc := ⟨.hbm, 6372, rfl⟩
abbrev main_call13_call1_v53 : Ref sig .tc := ⟨.hbm, 6373, rfl⟩
abbrev main_call13_call1_v54 : Ref sig .tc := ⟨.hbm, 6374, rfl⟩
abbrev main_call13_call1_c_13 : Ref sig .tc := ⟨.hbm, 6375, rfl⟩
abbrev main_call13_call1_v55 : Ref sig .tc := ⟨.hbm, 6376, rfl⟩
abbrev main_call13_call1_v56 : Ref sig .tc := ⟨.hbm, 6377, rfl⟩
abbrev main_call13_call1_c_14 : Ref sig .tc := ⟨.hbm, 6378, rfl⟩
abbrev main_call13_call1_v57 : Ref sig .tc := ⟨.hbm, 6379, rfl⟩
abbrev main_call13_call1_v58 : Ref sig .tc := ⟨.hbm, 6380, rfl⟩
abbrev main_call13_call1_v59 : Ref sig .tc := ⟨.hbm, 6381, rfl⟩
abbrev main_call13_call1_v60 : Ref sig .tc := ⟨.hbm, 6382, rfl⟩
abbrev main_call13_call1_v61 : Ref sig .tc := ⟨.hbm, 6383, rfl⟩
abbrev main_call13_call1_c_15 : Ref sig .tc := ⟨.hbm, 6384, rfl⟩
abbrev main_call13_call1_v62 : Ref sig .tc := ⟨.hbm, 6385, rfl⟩
abbrev main_call13_call1_v63 : Ref sig .tc := ⟨.hbm, 6386, rfl⟩
abbrev main_call13_call1_c_16 : Ref sig .tc := ⟨.hbm, 6387, rfl⟩
abbrev main_call13_call1_v64 : Ref sig .tc := ⟨.hbm, 6388, rfl⟩
abbrev main_call13_call1_v65 : Ref sig .tc := ⟨.hbm, 6389, rfl⟩
abbrev main_call13_call1_v66 : Ref sig .tc := ⟨.hbm, 6390, rfl⟩
abbrev main_call13_call1_v67 : Ref sig .tc := ⟨.hbm, 6391, rfl⟩
abbrev main_call13_call1_v68 : Ref sig .tc := ⟨.hbm, 6392, rfl⟩
abbrev main_call13_call1_v69 : Ref sig .tc := ⟨.hbm, 6393, rfl⟩
abbrev main_call13_call1_v70 : Ref sig .tc := ⟨.hbm, 6394, rfl⟩
abbrev main_call13_call1_v71 : Ref sig .tc := ⟨.hbm, 6395, rfl⟩
abbrev main_call13_call1_c_17 : Ref sig .tc := ⟨.hbm, 6396, rfl⟩
abbrev main_call13_call1_v72 : Ref sig .tc := ⟨.hbm, 6397, rfl⟩
abbrev main_call13_call1_v73 : Ref sig .tc := ⟨.hbm, 6398, rfl⟩
abbrev main_call13_call1_v74 : Ref sig .tc := ⟨.hbm, 6399, rfl⟩
abbrev main_call13_call1_c_18 : Ref sig .tc := ⟨.hbm, 6400, rfl⟩
abbrev main_call13_call1_v75 : Ref sig .tc := ⟨.hbm, 6401, rfl⟩
abbrev main_call13_call1_v76 : Ref sig .tc := ⟨.hbm, 6402, rfl⟩
abbrev main_call13_call1_c_19 : Ref sig .tc := ⟨.hbm, 6403, rfl⟩
abbrev main_call13_call1_v77 : Ref sig .tc := ⟨.hbm, 6404, rfl⟩
abbrev main_call13_call1_v78 : Ref sig .tc := ⟨.hbm, 6405, rfl⟩
abbrev main_call13_call1_v79 : Ref sig .tc := ⟨.hbm, 6406, rfl⟩
abbrev main_call13_call1_v80 : Ref sig .tc := ⟨.hbm, 6407, rfl⟩
abbrev main_call13_call1_v81 : Ref sig .tc := ⟨.hbm, 6408, rfl⟩
abbrev main_call13_call1_c_20 : Ref sig .tc := ⟨.hbm, 6409, rfl⟩
abbrev main_call13_call1_v82 : Ref sig .tc := ⟨.hbm, 6410, rfl⟩
abbrev main_call13_call1_v83 : Ref sig .tc := ⟨.hbm, 6411, rfl⟩
abbrev main_call13_call1_c_21 : Ref sig .tc := ⟨.hbm, 6412, rfl⟩
abbrev main_call13_call1_v84 : Ref sig .tc := ⟨.hbm, 6413, rfl⟩
abbrev main_call13_call1_v85 : Ref sig .tc := ⟨.hbm, 6414, rfl⟩
abbrev main_call13_call1_v86 : Ref sig .tc := ⟨.hbm, 6415, rfl⟩
abbrev main_call13_call1_v87 : Ref sig .tc := ⟨.hbm, 6416, rfl⟩
abbrev main_call13_call1_v88 : Ref sig .tc := ⟨.hbm, 6417, rfl⟩
abbrev main_call13_call1_c_22 : Ref sig .tc := ⟨.hbm, 6418, rfl⟩
abbrev main_call13_call1_v89 : Ref sig .tc := ⟨.hbm, 6419, rfl⟩
abbrev main_call13_call1_v90 : Ref sig .tc := ⟨.hbm, 6420, rfl⟩
abbrev main_call13_call1_c_23 : Ref sig .tc := ⟨.hbm, 6421, rfl⟩
abbrev main_call13_call1_v91 : Ref sig .tc := ⟨.hbm, 6422, rfl⟩
abbrev main_call13_call1_v92 : Ref sig .tc := ⟨.hbm, 6423, rfl⟩
abbrev main_call13_call1_v93 : Ref sig .tc := ⟨.hbm, 6424, rfl⟩
abbrev main_call13_call1_v94 : Ref sig .tc := ⟨.hbm, 6425, rfl⟩
abbrev main_call13_call1_v95 : Ref sig .tc := ⟨.hbm, 6426, rfl⟩
abbrev main_call13_call1_c_24 : Ref sig .tc := ⟨.hbm, 6427, rfl⟩
abbrev main_call13_call1_v96 : Ref sig .tc := ⟨.hbm, 6428, rfl⟩
abbrev main_call13_call1_v97 : Ref sig .tc := ⟨.hbm, 6429, rfl⟩
abbrev main_call13_call1_c_25 : Ref sig .tc := ⟨.hbm, 6430, rfl⟩
abbrev main_call13_call1_v98 : Ref sig .tc := ⟨.hbm, 6431, rfl⟩
abbrev main_call13_call1_v99 : Ref sig .tc := ⟨.hbm, 6432, rfl⟩
abbrev main_call13_call1_v100 : Ref sig .tc := ⟨.hbm, 6433, rfl⟩
abbrev main_call13_call1_v101 : Ref sig .tc := ⟨.hbm, 6434, rfl⟩
abbrev main_call13_call1_v102 : Ref sig .tc := ⟨.hbm, 6435, rfl⟩
abbrev main_call13_call1_v103 : Ref sig .tc := ⟨.hbm, 6436, rfl⟩
abbrev main_call13_call1_v104 : Ref sig .tc := ⟨.hbm, 6437, rfl⟩
abbrev main_call13_call1_v105 : Ref sig .tc := ⟨.hbm, 6438, rfl⟩
abbrev main_call13_call1_c_26 : Ref sig .tc := ⟨.hbm, 6439, rfl⟩
abbrev main_call13_call1_v106 : Ref sig .tc := ⟨.hbm, 6440, rfl⟩
abbrev main_call13_call1_v107 : Ref sig .tc := ⟨.hbm, 6441, rfl⟩
abbrev main_call13_call1_v108 : Ref sig .tc := ⟨.hbm, 6442, rfl⟩
abbrev main_call13_call1_c_27 : Ref sig .tc := ⟨.hbm, 6443, rfl⟩
abbrev main_call13_call1_v109 : Ref sig .tc := ⟨.hbm, 6444, rfl⟩
abbrev main_call13_call1_v110 : Ref sig .tc := ⟨.hbm, 6445, rfl⟩
abbrev main_call13_call1_c_28 : Ref sig .tc := ⟨.hbm, 6446, rfl⟩
abbrev main_call13_call1_v111 : Ref sig .tc := ⟨.hbm, 6447, rfl⟩
abbrev main_call13_call1_v112 : Ref sig .tc := ⟨.hbm, 6448, rfl⟩
abbrev main_call13_call1_v113 : Ref sig .tc := ⟨.hbm, 6449, rfl⟩
abbrev main_call13_call1_v114 : Ref sig .tc := ⟨.hbm, 6450, rfl⟩
abbrev main_call13_call1_v115 : Ref sig .tc := ⟨.hbm, 6451, rfl⟩
abbrev main_call13_call1_c_29 : Ref sig .tc := ⟨.hbm, 6452, rfl⟩
abbrev main_call13_call1_v116 : Ref sig .tc := ⟨.hbm, 6453, rfl⟩
abbrev main_call13_call1_v117 : Ref sig .tc := ⟨.hbm, 6454, rfl⟩
abbrev main_call13_call1_c_30 : Ref sig .tc := ⟨.hbm, 6455, rfl⟩
abbrev main_call13_call1_v118 : Ref sig .tc := ⟨.hbm, 6456, rfl⟩
abbrev main_call13_call1_v119 : Ref sig .tc := ⟨.hbm, 6457, rfl⟩
abbrev main_call13_call1_v120 : Ref sig .tc := ⟨.hbm, 6458, rfl⟩
abbrev main_call13_call1_v121 : Ref sig .tc := ⟨.hbm, 6459, rfl⟩
abbrev main_call13_call1_v122 : Ref sig .tc := ⟨.hbm, 6460, rfl⟩
abbrev main_call13_call1_c_31 : Ref sig .tc := ⟨.hbm, 6461, rfl⟩
abbrev main_call13_call1_v123 : Ref sig .tc := ⟨.hbm, 6462, rfl⟩
abbrev main_call13_call1_v124 : Ref sig .tc := ⟨.hbm, 6463, rfl⟩
abbrev main_call13_call1_c_32 : Ref sig .tc := ⟨.hbm, 6464, rfl⟩
abbrev main_call13_call1_v125 : Ref sig .tc := ⟨.hbm, 6465, rfl⟩
abbrev main_call13_call1_v126 : Ref sig .tc := ⟨.hbm, 6466, rfl⟩
abbrev main_call13_call1_v127 : Ref sig .tc := ⟨.hbm, 6467, rfl⟩
abbrev main_call13_call1_v128 : Ref sig .tc := ⟨.hbm, 6468, rfl⟩
abbrev main_call13_call1_v129 : Ref sig .tc := ⟨.hbm, 6469, rfl⟩
abbrev main_call13_call1_c_33 : Ref sig .tc := ⟨.hbm, 6470, rfl⟩
abbrev main_call13_call1_v130 : Ref sig .tc := ⟨.hbm, 6471, rfl⟩
abbrev main_call13_call1_v131 : Ref sig .tc := ⟨.hbm, 6472, rfl⟩
abbrev main_call13_call1_c_34 : Ref sig .tc := ⟨.hbm, 6473, rfl⟩
abbrev main_call13_call1_v132 : Ref sig .tc := ⟨.hbm, 6474, rfl⟩
abbrev main_call13_call1_v133 : Ref sig .tc := ⟨.hbm, 6475, rfl⟩
abbrev main_call13_call1_v134 : Ref sig .tc := ⟨.hbm, 6476, rfl⟩
abbrev main_call13_call1_v135 : Ref sig .tc := ⟨.hbm, 6477, rfl⟩
abbrev main_call13_call1_v136 : Ref sig .tc := ⟨.hbm, 6478, rfl⟩
abbrev main_call13_call1_v137 : Ref sig .tc := ⟨.hbm, 6479, rfl⟩
abbrev main_call13_call1_v138 : Ref sig .tc := ⟨.hbm, 6480, rfl⟩
abbrev main_call13_call1_v139 : Ref sig .tc := ⟨.hbm, 6481, rfl⟩
abbrev main_call13_call1_c_35 : Ref sig .tc := ⟨.hbm, 6482, rfl⟩
abbrev main_call13_call1_v140 : Ref sig .tc := ⟨.hbm, 6483, rfl⟩
abbrev main_call13_call1_v141 : Ref sig .tc := ⟨.hbm, 6484, rfl⟩
abbrev main_call13_call1_v142 : Ref sig .tc := ⟨.hbm, 6485, rfl⟩
abbrev main_call13_call1_c_36 : Ref sig .tc := ⟨.hbm, 6486, rfl⟩
abbrev main_call13_call1_v143 : Ref sig .tc := ⟨.hbm, 6487, rfl⟩
abbrev main_call13_call1_v144 : Ref sig .tc := ⟨.hbm, 6488, rfl⟩
abbrev main_call13_call1_c_37 : Ref sig .tc := ⟨.hbm, 6489, rfl⟩
abbrev main_call13_call1_v145 : Ref sig .tc := ⟨.hbm, 6490, rfl⟩
abbrev main_call13_call1_v146 : Ref sig .tc := ⟨.hbm, 6491, rfl⟩
abbrev main_call13_call1_v147 : Ref sig .tc := ⟨.hbm, 6492, rfl⟩
abbrev main_call13_call1_v148 : Ref sig .tc := ⟨.hbm, 6493, rfl⟩
abbrev main_call13_call1_v149 : Ref sig .tc := ⟨.hbm, 6494, rfl⟩
abbrev main_call13_call1_c_38 : Ref sig .tc := ⟨.hbm, 6495, rfl⟩
abbrev main_call13_call1_v150 : Ref sig .tc := ⟨.hbm, 6496, rfl⟩
abbrev main_call13_call1_v151 : Ref sig .tc := ⟨.hbm, 6497, rfl⟩
abbrev main_call13_call1_c_39 : Ref sig .tc := ⟨.hbm, 6498, rfl⟩
abbrev main_call13_call1_v152 : Ref sig .tc := ⟨.hbm, 6499, rfl⟩
abbrev main_call13_call1_v153 : Ref sig .tc := ⟨.hbm, 6500, rfl⟩
abbrev main_call13_call1_v154 : Ref sig .tc := ⟨.hbm, 6501, rfl⟩
abbrev main_call13_call1_v155 : Ref sig .tc := ⟨.hbm, 6502, rfl⟩
abbrev main_call13_call1_v156 : Ref sig .tc := ⟨.hbm, 6503, rfl⟩
abbrev main_call13_call1_c_40 : Ref sig .tc := ⟨.hbm, 6504, rfl⟩
abbrev main_call13_call1_v157 : Ref sig .tc := ⟨.hbm, 6505, rfl⟩
abbrev main_call13_call1_v158 : Ref sig .tc := ⟨.hbm, 6506, rfl⟩
abbrev main_call13_call1_c_41 : Ref sig .tc := ⟨.hbm, 6507, rfl⟩
abbrev main_call13_call1_v159 : Ref sig .tc := ⟨.hbm, 6508, rfl⟩
abbrev main_call13_call1_v160 : Ref sig .tc := ⟨.hbm, 6509, rfl⟩
abbrev main_call13_call1_v161 : Ref sig .tc := ⟨.hbm, 6510, rfl⟩
abbrev main_call13_call1_v162 : Ref sig .tc := ⟨.hbm, 6511, rfl⟩
abbrev main_call13_call1_v163 : Ref sig .tc := ⟨.hbm, 6512, rfl⟩
abbrev main_call13_call1_c_42 : Ref sig .tc := ⟨.hbm, 6513, rfl⟩
abbrev main_call13_call1_v164 : Ref sig .tc := ⟨.hbm, 6514, rfl⟩
abbrev main_call13_call1_v165 : Ref sig .tc := ⟨.hbm, 6515, rfl⟩
abbrev main_call13_call1_c_43 : Ref sig .tc := ⟨.hbm, 6516, rfl⟩
abbrev main_call13_call1_v166 : Ref sig .tc := ⟨.hbm, 6517, rfl⟩
abbrev main_call13_call1_v167 : Ref sig .tc := ⟨.hbm, 6518, rfl⟩
abbrev main_call13_call1_v168 : Ref sig .tc := ⟨.hbm, 6519, rfl⟩
abbrev main_call13_call1_v169 : Ref sig .tc := ⟨.hbm, 6520, rfl⟩
abbrev main_call13_call1_v170 : Ref sig .tc := ⟨.hbm, 6521, rfl⟩
abbrev main_call13_v16_0 : Ref sig .tc := ⟨.hbm, 6522, rfl⟩
abbrev main_call13_call1_v172 : Ref sig .tc := ⟨.hbm, 6523, rfl⟩
abbrev main_call13_call1_v173 : Ref sig .tc := ⟨.hbm, 6524, rfl⟩
abbrev main_call13_call1_c_44 : Ref sig .tc := ⟨.hbm, 6525, rfl⟩
abbrev main_call13_call1_v174 : Ref sig .tc := ⟨.hbm, 6526, rfl⟩
abbrev main_call13_v16_1 : Ref sig .tc := ⟨.hbm, 6527, rfl⟩
abbrev main_call13_v17 : Ref sig .tc := ⟨.hbm, 6528, rfl⟩
abbrev main_call13_v18_0 : Ref sig .tc := ⟨.hbm, 6529, rfl⟩
abbrev main_v62 : Ref sig .tc := ⟨.hbm, 6530, rfl⟩
abbrev main_v63 : Ref sig .tc := ⟨.hbm, 6531, rfl⟩
abbrev main_v64 : Ref sig .tc := ⟨.hbm, 6532, rfl⟩
abbrev main_v65 : Ref sig .tc := ⟨.hbm, 6533, rfl⟩
abbrev main_call14_call0_v0 : Ref sig .tc := ⟨.hbm, 6534, rfl⟩
abbrev main_call14_call0_v1 : Ref sig .tc := ⟨.hbm, 6535, rfl⟩
abbrev main_call14_call0_v2 : Ref sig .tc := ⟨.hbm, 6536, rfl⟩
abbrev main_call14_call0_v3 : Ref sig .tc := ⟨.hbm, 6537, rfl⟩
abbrev main_call14_call0_v4 : Ref sig .tc := ⟨.hbm, 6538, rfl⟩
abbrev main_call14_call0_c : Ref sig .tc := ⟨.hbm, 6539, rfl⟩
abbrev main_call14_call0_v5 : Ref sig .tc := ⟨.hbm, 6540, rfl⟩
abbrev main_call14_call0_v6 : Ref sig .tc := ⟨.hbm, 6541, rfl⟩
abbrev main_call14_call0_c_0 : Ref sig .tc := ⟨.hbm, 6542, rfl⟩
abbrev main_call14_call0_v7 : Ref sig .tc := ⟨.hbm, 6543, rfl⟩
abbrev main_call14_call0_v8 : Ref sig .tc := ⟨.hbm, 6544, rfl⟩
abbrev main_call14_call0_v9 : Ref sig .tc := ⟨.hbm, 6545, rfl⟩
abbrev main_call14_call0_v10 : Ref sig .tc := ⟨.hbm, 6546, rfl⟩
abbrev main_call14_call0_call0_v0 : Ref sig .tc := ⟨.hbm, 6547, rfl⟩
abbrev main_call14_call0_call0_c : Ref sig .tc := ⟨.hbm, 6548, rfl⟩
abbrev main_call14_call0_call0_v1 : Ref sig .tc := ⟨.hbm, 6549, rfl⟩
abbrev main_call14_call0_call0_v2 : Ref sig .tc := ⟨.hbm, 6550, rfl⟩
abbrev main_call14_call0_call0_v3 : Ref sig .tc := ⟨.hbm, 6551, rfl⟩
abbrev main_call14_call0_call0_v4 : Ref sig .tc := ⟨.hbm, 6552, rfl⟩
abbrev main_call14_call0_call0_v5 : Ref sig .tc := ⟨.hbm, 6553, rfl⟩
abbrev main_call14_call0_call0_v6 : Ref sig .tc := ⟨.hbm, 6554, rfl⟩
abbrev main_call14_call0_call0_c_0 : Ref sig .tc := ⟨.hbm, 6555, rfl⟩
abbrev main_call14_call0_call0_v7 : Ref sig .tc := ⟨.hbm, 6556, rfl⟩
abbrev main_call14_call0_call0_v8 : Ref sig .tc := ⟨.hbm, 6557, rfl⟩
abbrev main_call14_call0_call0_c_1 : Ref sig .tc := ⟨.hbm, 6558, rfl⟩
abbrev main_call14_call0_call0_v9 : Ref sig .tc := ⟨.hbm, 6559, rfl⟩
abbrev main_call14_call0_call0_v10 : Ref sig .tc := ⟨.hbm, 6560, rfl⟩
abbrev main_call14_call0_call0_v11 : Ref sig .tc := ⟨.hbm, 6561, rfl⟩
abbrev main_call14_call0_call0_v12 : Ref sig .tc := ⟨.hbm, 6562, rfl⟩
abbrev main_call14_call0_call0_v13 : Ref sig .tc := ⟨.hbm, 6563, rfl⟩
abbrev main_call14_call0_call0_c_2 : Ref sig .tc := ⟨.hbm, 6564, rfl⟩
abbrev main_call14_call0_call0_v14 : Ref sig .tc := ⟨.hbm, 6565, rfl⟩
abbrev main_call14_call0_call0_v15 : Ref sig .tc := ⟨.hbm, 6566, rfl⟩
abbrev main_call14_call0_call0_c_3 : Ref sig .tc := ⟨.hbm, 6567, rfl⟩
abbrev main_call14_call0_call0_v16 : Ref sig .tc := ⟨.hbm, 6568, rfl⟩
abbrev main_call14_call0_call0_v17 : Ref sig .tc := ⟨.hbm, 6569, rfl⟩
abbrev main_call14_call0_call0_v18 : Ref sig .tc := ⟨.hbm, 6570, rfl⟩
abbrev main_call14_call0_call0_v19 : Ref sig .tc := ⟨.hbm, 6571, rfl⟩
abbrev main_call14_call0_call0_v20 : Ref sig .tc := ⟨.hbm, 6572, rfl⟩
abbrev main_call14_call0_call0_c_4 : Ref sig .tc := ⟨.hbm, 6573, rfl⟩
abbrev main_call14_call0_call0_v21 : Ref sig .tc := ⟨.hbm, 6574, rfl⟩
abbrev main_call14_call0_call0_v22 : Ref sig .tc := ⟨.hbm, 6575, rfl⟩
abbrev main_call14_call0_call0_c_5 : Ref sig .tc := ⟨.hbm, 6576, rfl⟩
abbrev main_call14_call0_call0_v23 : Ref sig .tc := ⟨.hbm, 6577, rfl⟩
abbrev main_call14_call0_call0_v24 : Ref sig .tc := ⟨.hbm, 6578, rfl⟩
abbrev main_call14_call0_call0_v25 : Ref sig .tc := ⟨.hbm, 6579, rfl⟩
abbrev main_call14_call0_call0_v26 : Ref sig .tc := ⟨.hbm, 6580, rfl⟩
abbrev main_call14_call0_call0_v27 : Ref sig .tc := ⟨.hbm, 6581, rfl⟩
abbrev main_call14_call0_call0_c_6 : Ref sig .tc := ⟨.hbm, 6582, rfl⟩
abbrev main_call14_call0_call0_v28 : Ref sig .tc := ⟨.hbm, 6583, rfl⟩
abbrev main_call14_call0_call0_v29 : Ref sig .tc := ⟨.hbm, 6584, rfl⟩
abbrev main_call14_call0_call0_c_7 : Ref sig .tc := ⟨.hbm, 6585, rfl⟩
abbrev main_call14_call0_call0_v30 : Ref sig .tc := ⟨.hbm, 6586, rfl⟩
abbrev main_call14_call0_call0_v31 : Ref sig .tc := ⟨.hbm, 6587, rfl⟩
abbrev main_call14_call0_call0_v32 : Ref sig .tc := ⟨.hbm, 6588, rfl⟩
abbrev main_call14_call0_call0_v33 : Ref sig .tc := ⟨.hbm, 6589, rfl⟩
abbrev main_call14_call0_call0_v34 : Ref sig .tc := ⟨.hbm, 6590, rfl⟩
abbrev main_call14_call0_call0_v35 : Ref sig .tc := ⟨.hbm, 6591, rfl⟩
abbrev main_call14_call0_call0_v36 : Ref sig .tc := ⟨.hbm, 6592, rfl⟩
abbrev main_call14_call0_call0_v37 : Ref sig .tc := ⟨.hbm, 6593, rfl⟩
abbrev main_call14_call0_call0_c_8 : Ref sig .tc := ⟨.hbm, 6594, rfl⟩
abbrev main_call14_call0_call0_v38 : Ref sig .tc := ⟨.hbm, 6595, rfl⟩
abbrev main_call14_call0_call0_v39 : Ref sig .tc := ⟨.hbm, 6596, rfl⟩
abbrev main_call14_call0_call0_v40 : Ref sig .tc := ⟨.hbm, 6597, rfl⟩
abbrev main_call14_call0_call0_c_9 : Ref sig .tc := ⟨.hbm, 6598, rfl⟩
abbrev main_call14_call0_call0_v41 : Ref sig .tc := ⟨.hbm, 6599, rfl⟩
abbrev main_call14_call0_call0_v42 : Ref sig .tc := ⟨.hbm, 6600, rfl⟩
abbrev main_call14_call0_call0_c_10 : Ref sig .tc := ⟨.hbm, 6601, rfl⟩
abbrev main_call14_call0_call0_v43 : Ref sig .tc := ⟨.hbm, 6602, rfl⟩
abbrev main_call14_call0_call0_v44 : Ref sig .tc := ⟨.hbm, 6603, rfl⟩
abbrev main_call14_call0_call0_v45 : Ref sig .tc := ⟨.hbm, 6604, rfl⟩
abbrev main_call14_call0_call0_v46 : Ref sig .tc := ⟨.hbm, 6605, rfl⟩
abbrev main_call14_call0_call0_v47 : Ref sig .tc := ⟨.hbm, 6606, rfl⟩
abbrev main_call14_call0_call0_c_11 : Ref sig .tc := ⟨.hbm, 6607, rfl⟩
abbrev main_call14_call0_call0_v48 : Ref sig .tc := ⟨.hbm, 6608, rfl⟩
abbrev main_call14_call0_call0_v49 : Ref sig .tc := ⟨.hbm, 6609, rfl⟩
abbrev main_call14_call0_call0_c_12 : Ref sig .tc := ⟨.hbm, 6610, rfl⟩
abbrev main_call14_call0_call0_v50 : Ref sig .tc := ⟨.hbm, 6611, rfl⟩
abbrev main_call14_call0_call0_v51 : Ref sig .tc := ⟨.hbm, 6612, rfl⟩
abbrev main_call14_call0_call0_v52 : Ref sig .tc := ⟨.hbm, 6613, rfl⟩
abbrev main_call14_call0_call0_v53 : Ref sig .tc := ⟨.hbm, 6614, rfl⟩
abbrev main_call14_call0_call0_v54 : Ref sig .tc := ⟨.hbm, 6615, rfl⟩
abbrev main_call14_call0_call0_c_13 : Ref sig .tc := ⟨.hbm, 6616, rfl⟩
abbrev main_call14_call0_call0_v55 : Ref sig .tc := ⟨.hbm, 6617, rfl⟩
abbrev main_call14_call0_call0_v56 : Ref sig .tc := ⟨.hbm, 6618, rfl⟩
abbrev main_call14_call0_call0_c_14 : Ref sig .tc := ⟨.hbm, 6619, rfl⟩
abbrev main_call14_call0_call0_v57 : Ref sig .tc := ⟨.hbm, 6620, rfl⟩
abbrev main_call14_call0_call0_v58 : Ref sig .tc := ⟨.hbm, 6621, rfl⟩
abbrev main_call14_call0_call0_v59 : Ref sig .tc := ⟨.hbm, 6622, rfl⟩
abbrev main_call14_call0_call0_v60 : Ref sig .tc := ⟨.hbm, 6623, rfl⟩
abbrev main_call14_call0_call0_v61 : Ref sig .tc := ⟨.hbm, 6624, rfl⟩
abbrev main_call14_call0_call0_c_15 : Ref sig .tc := ⟨.hbm, 6625, rfl⟩
abbrev main_call14_call0_call0_v62 : Ref sig .tc := ⟨.hbm, 6626, rfl⟩
abbrev main_call14_call0_call0_v63 : Ref sig .tc := ⟨.hbm, 6627, rfl⟩
abbrev main_call14_call0_call0_c_16 : Ref sig .tc := ⟨.hbm, 6628, rfl⟩
abbrev main_call14_call0_call0_v64 : Ref sig .tc := ⟨.hbm, 6629, rfl⟩
abbrev main_call14_call0_call0_v65 : Ref sig .tc := ⟨.hbm, 6630, rfl⟩
abbrev main_call14_call0_call0_v66 : Ref sig .tc := ⟨.hbm, 6631, rfl⟩
abbrev main_call14_call0_call0_v67 : Ref sig .tc := ⟨.hbm, 6632, rfl⟩
abbrev main_call14_call0_call0_v68 : Ref sig .tc := ⟨.hbm, 6633, rfl⟩
abbrev main_call14_call0_call0_v69 : Ref sig .tc := ⟨.hbm, 6634, rfl⟩
abbrev main_call14_call0_call0_v70 : Ref sig .tc := ⟨.hbm, 6635, rfl⟩
abbrev main_call14_call0_call0_v71 : Ref sig .tc := ⟨.hbm, 6636, rfl⟩
abbrev main_call14_call0_call0_c_17 : Ref sig .tc := ⟨.hbm, 6637, rfl⟩
abbrev main_call14_call0_call0_v72 : Ref sig .tc := ⟨.hbm, 6638, rfl⟩
abbrev main_call14_call0_call0_v73 : Ref sig .tc := ⟨.hbm, 6639, rfl⟩
abbrev main_call14_call0_call0_v74 : Ref sig .tc := ⟨.hbm, 6640, rfl⟩
abbrev main_call14_call0_call0_c_18 : Ref sig .tc := ⟨.hbm, 6641, rfl⟩
abbrev main_call14_call0_call0_v75 : Ref sig .tc := ⟨.hbm, 6642, rfl⟩
abbrev main_call14_call0_call0_v76 : Ref sig .tc := ⟨.hbm, 6643, rfl⟩
abbrev main_call14_call0_call0_c_19 : Ref sig .tc := ⟨.hbm, 6644, rfl⟩
abbrev main_call14_call0_call0_v77 : Ref sig .tc := ⟨.hbm, 6645, rfl⟩
abbrev main_call14_call0_call0_v78 : Ref sig .tc := ⟨.hbm, 6646, rfl⟩
abbrev main_call14_call0_call0_v79 : Ref sig .tc := ⟨.hbm, 6647, rfl⟩
abbrev main_call14_call0_call0_v80 : Ref sig .tc := ⟨.hbm, 6648, rfl⟩
abbrev main_call14_call0_call0_v81 : Ref sig .tc := ⟨.hbm, 6649, rfl⟩
abbrev main_call14_call0_call0_c_20 : Ref sig .tc := ⟨.hbm, 6650, rfl⟩
abbrev main_call14_call0_call0_v82 : Ref sig .tc := ⟨.hbm, 6651, rfl⟩
abbrev main_call14_call0_call0_v83 : Ref sig .tc := ⟨.hbm, 6652, rfl⟩
abbrev main_call14_call0_call0_c_21 : Ref sig .tc := ⟨.hbm, 6653, rfl⟩
abbrev main_call14_call0_call0_v84 : Ref sig .tc := ⟨.hbm, 6654, rfl⟩
abbrev main_call14_call0_call0_v85 : Ref sig .tc := ⟨.hbm, 6655, rfl⟩
abbrev main_call14_call0_call0_v86 : Ref sig .tc := ⟨.hbm, 6656, rfl⟩
abbrev main_call14_call0_call0_v87 : Ref sig .tc := ⟨.hbm, 6657, rfl⟩
abbrev main_call14_call0_call0_v88 : Ref sig .tc := ⟨.hbm, 6658, rfl⟩
abbrev main_call14_call0_call0_c_22 : Ref sig .tc := ⟨.hbm, 6659, rfl⟩
abbrev main_call14_call0_call0_v89 : Ref sig .tc := ⟨.hbm, 6660, rfl⟩
abbrev main_call14_call0_call0_v90 : Ref sig .tc := ⟨.hbm, 6661, rfl⟩
abbrev main_call14_call0_call0_c_23 : Ref sig .tc := ⟨.hbm, 6662, rfl⟩
abbrev main_call14_call0_call0_v91 : Ref sig .tc := ⟨.hbm, 6663, rfl⟩
abbrev main_call14_call0_call0_v92 : Ref sig .tc := ⟨.hbm, 6664, rfl⟩
abbrev main_call14_call0_call0_v93 : Ref sig .tc := ⟨.hbm, 6665, rfl⟩
abbrev main_call14_call0_call0_v94 : Ref sig .tc := ⟨.hbm, 6666, rfl⟩
abbrev main_call14_call0_call0_v95 : Ref sig .tc := ⟨.hbm, 6667, rfl⟩
abbrev main_call14_call0_call0_c_24 : Ref sig .tc := ⟨.hbm, 6668, rfl⟩
abbrev main_call14_call0_call0_v96 : Ref sig .tc := ⟨.hbm, 6669, rfl⟩
abbrev main_call14_call0_call0_v97 : Ref sig .tc := ⟨.hbm, 6670, rfl⟩
abbrev main_call14_call0_call0_c_25 : Ref sig .tc := ⟨.hbm, 6671, rfl⟩
abbrev main_call14_call0_call0_v98 : Ref sig .tc := ⟨.hbm, 6672, rfl⟩
abbrev main_call14_call0_call0_v99 : Ref sig .tc := ⟨.hbm, 6673, rfl⟩
abbrev main_call14_call0_call0_v100 : Ref sig .tc := ⟨.hbm, 6674, rfl⟩
abbrev main_call14_call0_call0_v101 : Ref sig .tc := ⟨.hbm, 6675, rfl⟩
abbrev main_call14_call0_call0_v102 : Ref sig .tc := ⟨.hbm, 6676, rfl⟩
abbrev main_call14_call0_call0_v103 : Ref sig .tc := ⟨.hbm, 6677, rfl⟩
abbrev main_call14_call0_call0_v104 : Ref sig .tc := ⟨.hbm, 6678, rfl⟩
abbrev main_call14_call0_call0_v105 : Ref sig .tc := ⟨.hbm, 6679, rfl⟩
abbrev main_call14_call0_call0_c_26 : Ref sig .tc := ⟨.hbm, 6680, rfl⟩
abbrev main_call14_call0_call0_v106 : Ref sig .tc := ⟨.hbm, 6681, rfl⟩
abbrev main_call14_call0_call0_v107 : Ref sig .tc := ⟨.hbm, 6682, rfl⟩
abbrev main_call14_call0_call0_v108 : Ref sig .tc := ⟨.hbm, 6683, rfl⟩
abbrev main_call14_call0_call0_c_27 : Ref sig .tc := ⟨.hbm, 6684, rfl⟩
abbrev main_call14_call0_call0_v109 : Ref sig .tc := ⟨.hbm, 6685, rfl⟩
abbrev main_call14_call0_call0_v110 : Ref sig .tc := ⟨.hbm, 6686, rfl⟩
abbrev main_call14_call0_call0_c_28 : Ref sig .tc := ⟨.hbm, 6687, rfl⟩
abbrev main_call14_call0_call0_v111 : Ref sig .tc := ⟨.hbm, 6688, rfl⟩
abbrev main_call14_call0_call0_v112 : Ref sig .tc := ⟨.hbm, 6689, rfl⟩
abbrev main_call14_call0_call0_v113 : Ref sig .tc := ⟨.hbm, 6690, rfl⟩
abbrev main_call14_call0_call0_v114 : Ref sig .tc := ⟨.hbm, 6691, rfl⟩
abbrev main_call14_call0_call0_v115 : Ref sig .tc := ⟨.hbm, 6692, rfl⟩
abbrev main_call14_call0_call0_c_29 : Ref sig .tc := ⟨.hbm, 6693, rfl⟩
abbrev main_call14_call0_call0_v116 : Ref sig .tc := ⟨.hbm, 6694, rfl⟩
abbrev main_call14_call0_call0_v117 : Ref sig .tc := ⟨.hbm, 6695, rfl⟩
abbrev main_call14_call0_call0_c_30 : Ref sig .tc := ⟨.hbm, 6696, rfl⟩
abbrev main_call14_call0_call0_v118 : Ref sig .tc := ⟨.hbm, 6697, rfl⟩
abbrev main_call14_call0_call0_v119 : Ref sig .tc := ⟨.hbm, 6698, rfl⟩
abbrev main_call14_call0_call0_v120 : Ref sig .tc := ⟨.hbm, 6699, rfl⟩
abbrev main_call14_call0_call0_v121 : Ref sig .tc := ⟨.hbm, 6700, rfl⟩
abbrev main_call14_call0_call0_v122 : Ref sig .tc := ⟨.hbm, 6701, rfl⟩
abbrev main_call14_call0_call0_c_31 : Ref sig .tc := ⟨.hbm, 6702, rfl⟩
abbrev main_call14_call0_call0_v123 : Ref sig .tc := ⟨.hbm, 6703, rfl⟩
abbrev main_call14_call0_call0_v124 : Ref sig .tc := ⟨.hbm, 6704, rfl⟩
abbrev main_call14_call0_call0_c_32 : Ref sig .tc := ⟨.hbm, 6705, rfl⟩
abbrev main_call14_call0_call0_v125 : Ref sig .tc := ⟨.hbm, 6706, rfl⟩
abbrev main_call14_call0_call0_v126 : Ref sig .tc := ⟨.hbm, 6707, rfl⟩
abbrev main_call14_call0_call0_v127 : Ref sig .tc := ⟨.hbm, 6708, rfl⟩
abbrev main_call14_call0_call0_v128 : Ref sig .tc := ⟨.hbm, 6709, rfl⟩
abbrev main_call14_call0_call0_v129 : Ref sig .tc := ⟨.hbm, 6710, rfl⟩
abbrev main_call14_call0_call0_c_33 : Ref sig .tc := ⟨.hbm, 6711, rfl⟩
abbrev main_call14_call0_call0_v130 : Ref sig .tc := ⟨.hbm, 6712, rfl⟩
abbrev main_call14_call0_call0_v131 : Ref sig .tc := ⟨.hbm, 6713, rfl⟩
abbrev main_call14_call0_call0_c_34 : Ref sig .tc := ⟨.hbm, 6714, rfl⟩
abbrev main_call14_call0_call0_v132 : Ref sig .tc := ⟨.hbm, 6715, rfl⟩
abbrev main_call14_call0_call0_v133 : Ref sig .tc := ⟨.hbm, 6716, rfl⟩
abbrev main_call14_call0_call0_v134 : Ref sig .tc := ⟨.hbm, 6717, rfl⟩
abbrev main_call14_call0_call0_v135 : Ref sig .tc := ⟨.hbm, 6718, rfl⟩
abbrev main_call14_call0_call0_v136 : Ref sig .tc := ⟨.hbm, 6719, rfl⟩
abbrev main_call14_call0_call0_v137 : Ref sig .tc := ⟨.hbm, 6720, rfl⟩
abbrev main_call14_call0_call0_v138 : Ref sig .tc := ⟨.hbm, 6721, rfl⟩
abbrev main_call14_call0_call0_v139 : Ref sig .tc := ⟨.hbm, 6722, rfl⟩
abbrev main_call14_call0_call0_c_35 : Ref sig .tc := ⟨.hbm, 6723, rfl⟩
abbrev main_call14_call0_call0_v140 : Ref sig .tc := ⟨.hbm, 6724, rfl⟩
abbrev main_call14_call0_call0_v141 : Ref sig .tc := ⟨.hbm, 6725, rfl⟩
abbrev main_call14_call0_call0_v142 : Ref sig .tc := ⟨.hbm, 6726, rfl⟩
abbrev main_call14_call0_call0_c_36 : Ref sig .tc := ⟨.hbm, 6727, rfl⟩
abbrev main_call14_call0_call0_v143 : Ref sig .tc := ⟨.hbm, 6728, rfl⟩
abbrev main_call14_call0_call0_v144 : Ref sig .tc := ⟨.hbm, 6729, rfl⟩
abbrev main_call14_call0_call0_c_37 : Ref sig .tc := ⟨.hbm, 6730, rfl⟩
abbrev main_call14_call0_call0_v145 : Ref sig .tc := ⟨.hbm, 6731, rfl⟩
abbrev main_call14_call0_call0_v146 : Ref sig .tc := ⟨.hbm, 6732, rfl⟩
abbrev main_call14_call0_call0_v147 : Ref sig .tc := ⟨.hbm, 6733, rfl⟩
abbrev main_call14_call0_call0_v148 : Ref sig .tc := ⟨.hbm, 6734, rfl⟩
abbrev main_call14_call0_call0_v149 : Ref sig .tc := ⟨.hbm, 6735, rfl⟩
abbrev main_call14_call0_call0_c_38 : Ref sig .tc := ⟨.hbm, 6736, rfl⟩
abbrev main_call14_call0_call0_v150 : Ref sig .tc := ⟨.hbm, 6737, rfl⟩
abbrev main_call14_call0_call0_v151 : Ref sig .tc := ⟨.hbm, 6738, rfl⟩
abbrev main_call14_call0_call0_c_39 : Ref sig .tc := ⟨.hbm, 6739, rfl⟩
abbrev main_call14_call0_call0_v152 : Ref sig .tc := ⟨.hbm, 6740, rfl⟩
abbrev main_call14_call0_call0_v153 : Ref sig .tc := ⟨.hbm, 6741, rfl⟩
abbrev main_call14_call0_call0_v154 : Ref sig .tc := ⟨.hbm, 6742, rfl⟩
abbrev main_call14_call0_call0_v155 : Ref sig .tc := ⟨.hbm, 6743, rfl⟩
abbrev main_call14_call0_call0_v156 : Ref sig .tc := ⟨.hbm, 6744, rfl⟩
abbrev main_call14_call0_call0_c_40 : Ref sig .tc := ⟨.hbm, 6745, rfl⟩
abbrev main_call14_call0_call0_v157 : Ref sig .tc := ⟨.hbm, 6746, rfl⟩
abbrev main_call14_call0_call0_v158 : Ref sig .tc := ⟨.hbm, 6747, rfl⟩
abbrev main_call14_call0_call0_c_41 : Ref sig .tc := ⟨.hbm, 6748, rfl⟩
abbrev main_call14_call0_call0_v159 : Ref sig .tc := ⟨.hbm, 6749, rfl⟩
abbrev main_call14_call0_call0_v160 : Ref sig .tc := ⟨.hbm, 6750, rfl⟩
abbrev main_call14_call0_call0_v161 : Ref sig .tc := ⟨.hbm, 6751, rfl⟩
abbrev main_call14_call0_call0_v162 : Ref sig .tc := ⟨.hbm, 6752, rfl⟩
abbrev main_call14_call0_call0_v163 : Ref sig .tc := ⟨.hbm, 6753, rfl⟩
abbrev main_call14_call0_call0_c_42 : Ref sig .tc := ⟨.hbm, 6754, rfl⟩
abbrev main_call14_call0_call0_v164 : Ref sig .tc := ⟨.hbm, 6755, rfl⟩
abbrev main_call14_call0_call0_v165 : Ref sig .tc := ⟨.hbm, 6756, rfl⟩
abbrev main_call14_call0_call0_c_43 : Ref sig .tc := ⟨.hbm, 6757, rfl⟩
abbrev main_call14_call0_call0_v166 : Ref sig .tc := ⟨.hbm, 6758, rfl⟩
abbrev main_call14_call0_call0_v167 : Ref sig .tc := ⟨.hbm, 6759, rfl⟩
abbrev main_call14_call0_call0_v168 : Ref sig .tc := ⟨.hbm, 6760, rfl⟩
abbrev main_call14_call0_call0_v169 : Ref sig .tc := ⟨.hbm, 6761, rfl⟩
abbrev main_call14_call0_call0_v170 : Ref sig .tc := ⟨.hbm, 6762, rfl⟩
abbrev main_call14_call0_v11_0 : Ref sig .tc := ⟨.hbm, 6763, rfl⟩
abbrev main_call14_call0_call0_v172 : Ref sig .tc := ⟨.hbm, 6764, rfl⟩
abbrev main_call14_call0_call0_v173 : Ref sig .tc := ⟨.hbm, 6765, rfl⟩
abbrev main_call14_call0_call0_c_44 : Ref sig .tc := ⟨.hbm, 6766, rfl⟩
abbrev main_call14_call0_call0_v174 : Ref sig .tc := ⟨.hbm, 6767, rfl⟩
abbrev main_call14_call0_v11_1 : Ref sig .tc := ⟨.hbm, 6768, rfl⟩
abbrev main_call14_call0_v12 : Ref sig .tc := ⟨.hbm, 6769, rfl⟩
abbrev main_call14_call0_v13 : Ref sig .tc := ⟨.hbm, 6770, rfl⟩
abbrev main_call14_v0 : Ref sig .tc := ⟨.hbm, 6771, rfl⟩
abbrev main_call14_v1 : Ref sig .tc := ⟨.hbm, 6772, rfl⟩
abbrev main_call14_v2 : Ref sig .tc := ⟨.hbm, 6773, rfl⟩
abbrev main_call14_v3 : Ref sig .tc := ⟨.hbm, 6774, rfl⟩
abbrev main_call14_v4 : Ref sig .tc := ⟨.hbm, 6775, rfl⟩
abbrev main_call14_v5 : Ref sig .tc := ⟨.hbm, 6776, rfl⟩
abbrev main_call14_v6 : Ref sig .tc := ⟨.hbm, 6777, rfl⟩
abbrev main_call14_v7 : Ref sig .tc := ⟨.hbm, 6778, rfl⟩
abbrev main_call14_v8 : Ref sig .tc := ⟨.hbm, 6779, rfl⟩
abbrev main_call14_v9 : Ref sig .tc := ⟨.hbm, 6780, rfl⟩
abbrev main_call14_c : Ref sig .tc := ⟨.hbm, 6781, rfl⟩
abbrev main_call14_v10 : Ref sig .tc := ⟨.hbm, 6782, rfl⟩
abbrev main_call14_v11 : Ref sig .tc := ⟨.hbm, 6783, rfl⟩
abbrev main_call14_c_0 : Ref sig .tc := ⟨.hbm, 6784, rfl⟩
abbrev main_call14_v12 : Ref sig .tc := ⟨.hbm, 6785, rfl⟩
abbrev main_call14_v13 : Ref sig .tc := ⟨.hbm, 6786, rfl⟩
abbrev main_call14_v14 : Ref sig .tc := ⟨.hbm, 6787, rfl⟩
abbrev main_call14_v15 : Ref sig .tc := ⟨.hbm, 6788, rfl⟩
abbrev main_call14_call1_v0 : Ref sig .tc := ⟨.hbm, 6789, rfl⟩
abbrev main_call14_call1_c : Ref sig .tc := ⟨.hbm, 6790, rfl⟩
abbrev main_call14_call1_v1 : Ref sig .tc := ⟨.hbm, 6791, rfl⟩
abbrev main_call14_call1_v2 : Ref sig .tc := ⟨.hbm, 6792, rfl⟩
abbrev main_call14_call1_v3 : Ref sig .tc := ⟨.hbm, 6793, rfl⟩
abbrev main_call14_call1_v4 : Ref sig .tc := ⟨.hbm, 6794, rfl⟩
abbrev main_call14_call1_v5 : Ref sig .tc := ⟨.hbm, 6795, rfl⟩
abbrev main_call14_call1_v6 : Ref sig .tc := ⟨.hbm, 6796, rfl⟩
abbrev main_call14_call1_c_0 : Ref sig .tc := ⟨.hbm, 6797, rfl⟩
abbrev main_call14_call1_v7 : Ref sig .tc := ⟨.hbm, 6798, rfl⟩
abbrev main_call14_call1_v8 : Ref sig .tc := ⟨.hbm, 6799, rfl⟩
abbrev main_call14_call1_c_1 : Ref sig .tc := ⟨.hbm, 6800, rfl⟩
abbrev main_call14_call1_v9 : Ref sig .tc := ⟨.hbm, 6801, rfl⟩
abbrev main_call14_call1_v10 : Ref sig .tc := ⟨.hbm, 6802, rfl⟩
abbrev main_call14_call1_v11 : Ref sig .tc := ⟨.hbm, 6803, rfl⟩
abbrev main_call14_call1_v12 : Ref sig .tc := ⟨.hbm, 6804, rfl⟩
abbrev main_call14_call1_v13 : Ref sig .tc := ⟨.hbm, 6805, rfl⟩
abbrev main_call14_call1_c_2 : Ref sig .tc := ⟨.hbm, 6806, rfl⟩
abbrev main_call14_call1_v14 : Ref sig .tc := ⟨.hbm, 6807, rfl⟩
abbrev main_call14_call1_v15 : Ref sig .tc := ⟨.hbm, 6808, rfl⟩
abbrev main_call14_call1_c_3 : Ref sig .tc := ⟨.hbm, 6809, rfl⟩
abbrev main_call14_call1_v16 : Ref sig .tc := ⟨.hbm, 6810, rfl⟩
abbrev main_call14_call1_v17 : Ref sig .tc := ⟨.hbm, 6811, rfl⟩
abbrev main_call14_call1_v18 : Ref sig .tc := ⟨.hbm, 6812, rfl⟩
abbrev main_call14_call1_v19 : Ref sig .tc := ⟨.hbm, 6813, rfl⟩
abbrev main_call14_call1_v20 : Ref sig .tc := ⟨.hbm, 6814, rfl⟩
abbrev main_call14_call1_c_4 : Ref sig .tc := ⟨.hbm, 6815, rfl⟩
abbrev main_call14_call1_v21 : Ref sig .tc := ⟨.hbm, 6816, rfl⟩
abbrev main_call14_call1_v22 : Ref sig .tc := ⟨.hbm, 6817, rfl⟩
abbrev main_call14_call1_c_5 : Ref sig .tc := ⟨.hbm, 6818, rfl⟩
abbrev main_call14_call1_v23 : Ref sig .tc := ⟨.hbm, 6819, rfl⟩
abbrev main_call14_call1_v24 : Ref sig .tc := ⟨.hbm, 6820, rfl⟩
abbrev main_call14_call1_v25 : Ref sig .tc := ⟨.hbm, 6821, rfl⟩
abbrev main_call14_call1_v26 : Ref sig .tc := ⟨.hbm, 6822, rfl⟩
abbrev main_call14_call1_v27 : Ref sig .tc := ⟨.hbm, 6823, rfl⟩
abbrev main_call14_call1_c_6 : Ref sig .tc := ⟨.hbm, 6824, rfl⟩
abbrev main_call14_call1_v28 : Ref sig .tc := ⟨.hbm, 6825, rfl⟩
abbrev main_call14_call1_v29 : Ref sig .tc := ⟨.hbm, 6826, rfl⟩
abbrev main_call14_call1_c_7 : Ref sig .tc := ⟨.hbm, 6827, rfl⟩
abbrev main_call14_call1_v30 : Ref sig .tc := ⟨.hbm, 6828, rfl⟩
abbrev main_call14_call1_v31 : Ref sig .tc := ⟨.hbm, 6829, rfl⟩
abbrev main_call14_call1_v32 : Ref sig .tc := ⟨.hbm, 6830, rfl⟩
abbrev main_call14_call1_v33 : Ref sig .tc := ⟨.hbm, 6831, rfl⟩
abbrev main_call14_call1_v34 : Ref sig .tc := ⟨.hbm, 6832, rfl⟩
abbrev main_call14_call1_v35 : Ref sig .tc := ⟨.hbm, 6833, rfl⟩
abbrev main_call14_call1_v36 : Ref sig .tc := ⟨.hbm, 6834, rfl⟩
abbrev main_call14_call1_v37 : Ref sig .tc := ⟨.hbm, 6835, rfl⟩
abbrev main_call14_call1_c_8 : Ref sig .tc := ⟨.hbm, 6836, rfl⟩
abbrev main_call14_call1_v38 : Ref sig .tc := ⟨.hbm, 6837, rfl⟩
abbrev main_call14_call1_v39 : Ref sig .tc := ⟨.hbm, 6838, rfl⟩
abbrev main_call14_call1_v40 : Ref sig .tc := ⟨.hbm, 6839, rfl⟩
abbrev main_call14_call1_c_9 : Ref sig .tc := ⟨.hbm, 6840, rfl⟩
abbrev main_call14_call1_v41 : Ref sig .tc := ⟨.hbm, 6841, rfl⟩
abbrev main_call14_call1_v42 : Ref sig .tc := ⟨.hbm, 6842, rfl⟩
abbrev main_call14_call1_c_10 : Ref sig .tc := ⟨.hbm, 6843, rfl⟩
abbrev main_call14_call1_v43 : Ref sig .tc := ⟨.hbm, 6844, rfl⟩
abbrev main_call14_call1_v44 : Ref sig .tc := ⟨.hbm, 6845, rfl⟩
abbrev main_call14_call1_v45 : Ref sig .tc := ⟨.hbm, 6846, rfl⟩
abbrev main_call14_call1_v46 : Ref sig .tc := ⟨.hbm, 6847, rfl⟩
abbrev main_call14_call1_v47 : Ref sig .tc := ⟨.hbm, 6848, rfl⟩
abbrev main_call14_call1_c_11 : Ref sig .tc := ⟨.hbm, 6849, rfl⟩
abbrev main_call14_call1_v48 : Ref sig .tc := ⟨.hbm, 6850, rfl⟩
abbrev main_call14_call1_v49 : Ref sig .tc := ⟨.hbm, 6851, rfl⟩
abbrev main_call14_call1_c_12 : Ref sig .tc := ⟨.hbm, 6852, rfl⟩
abbrev main_call14_call1_v50 : Ref sig .tc := ⟨.hbm, 6853, rfl⟩
abbrev main_call14_call1_v51 : Ref sig .tc := ⟨.hbm, 6854, rfl⟩
abbrev main_call14_call1_v52 : Ref sig .tc := ⟨.hbm, 6855, rfl⟩
abbrev main_call14_call1_v53 : Ref sig .tc := ⟨.hbm, 6856, rfl⟩
abbrev main_call14_call1_v54 : Ref sig .tc := ⟨.hbm, 6857, rfl⟩
abbrev main_call14_call1_c_13 : Ref sig .tc := ⟨.hbm, 6858, rfl⟩
abbrev main_call14_call1_v55 : Ref sig .tc := ⟨.hbm, 6859, rfl⟩
abbrev main_call14_call1_v56 : Ref sig .tc := ⟨.hbm, 6860, rfl⟩
abbrev main_call14_call1_c_14 : Ref sig .tc := ⟨.hbm, 6861, rfl⟩
abbrev main_call14_call1_v57 : Ref sig .tc := ⟨.hbm, 6862, rfl⟩
abbrev main_call14_call1_v58 : Ref sig .tc := ⟨.hbm, 6863, rfl⟩
abbrev main_call14_call1_v59 : Ref sig .tc := ⟨.hbm, 6864, rfl⟩
abbrev main_call14_call1_v60 : Ref sig .tc := ⟨.hbm, 6865, rfl⟩
abbrev main_call14_call1_v61 : Ref sig .tc := ⟨.hbm, 6866, rfl⟩
abbrev main_call14_call1_c_15 : Ref sig .tc := ⟨.hbm, 6867, rfl⟩
abbrev main_call14_call1_v62 : Ref sig .tc := ⟨.hbm, 6868, rfl⟩
abbrev main_call14_call1_v63 : Ref sig .tc := ⟨.hbm, 6869, rfl⟩
abbrev main_call14_call1_c_16 : Ref sig .tc := ⟨.hbm, 6870, rfl⟩
abbrev main_call14_call1_v64 : Ref sig .tc := ⟨.hbm, 6871, rfl⟩
abbrev main_call14_call1_v65 : Ref sig .tc := ⟨.hbm, 6872, rfl⟩
abbrev main_call14_call1_v66 : Ref sig .tc := ⟨.hbm, 6873, rfl⟩
abbrev main_call14_call1_v67 : Ref sig .tc := ⟨.hbm, 6874, rfl⟩
abbrev main_call14_call1_v68 : Ref sig .tc := ⟨.hbm, 6875, rfl⟩
abbrev main_call14_call1_v69 : Ref sig .tc := ⟨.hbm, 6876, rfl⟩
abbrev main_call14_call1_v70 : Ref sig .tc := ⟨.hbm, 6877, rfl⟩
abbrev main_call14_call1_v71 : Ref sig .tc := ⟨.hbm, 6878, rfl⟩
abbrev main_call14_call1_c_17 : Ref sig .tc := ⟨.hbm, 6879, rfl⟩
abbrev main_call14_call1_v72 : Ref sig .tc := ⟨.hbm, 6880, rfl⟩
abbrev main_call14_call1_v73 : Ref sig .tc := ⟨.hbm, 6881, rfl⟩
abbrev main_call14_call1_v74 : Ref sig .tc := ⟨.hbm, 6882, rfl⟩
abbrev main_call14_call1_c_18 : Ref sig .tc := ⟨.hbm, 6883, rfl⟩
abbrev main_call14_call1_v75 : Ref sig .tc := ⟨.hbm, 6884, rfl⟩
abbrev main_call14_call1_v76 : Ref sig .tc := ⟨.hbm, 6885, rfl⟩
abbrev main_call14_call1_c_19 : Ref sig .tc := ⟨.hbm, 6886, rfl⟩
abbrev main_call14_call1_v77 : Ref sig .tc := ⟨.hbm, 6887, rfl⟩
abbrev main_call14_call1_v78 : Ref sig .tc := ⟨.hbm, 6888, rfl⟩
abbrev main_call14_call1_v79 : Ref sig .tc := ⟨.hbm, 6889, rfl⟩
abbrev main_call14_call1_v80 : Ref sig .tc := ⟨.hbm, 6890, rfl⟩
abbrev main_call14_call1_v81 : Ref sig .tc := ⟨.hbm, 6891, rfl⟩
abbrev main_call14_call1_c_20 : Ref sig .tc := ⟨.hbm, 6892, rfl⟩
abbrev main_call14_call1_v82 : Ref sig .tc := ⟨.hbm, 6893, rfl⟩
abbrev main_call14_call1_v83 : Ref sig .tc := ⟨.hbm, 6894, rfl⟩
abbrev main_call14_call1_c_21 : Ref sig .tc := ⟨.hbm, 6895, rfl⟩
abbrev main_call14_call1_v84 : Ref sig .tc := ⟨.hbm, 6896, rfl⟩
abbrev main_call14_call1_v85 : Ref sig .tc := ⟨.hbm, 6897, rfl⟩
abbrev main_call14_call1_v86 : Ref sig .tc := ⟨.hbm, 6898, rfl⟩
abbrev main_call14_call1_v87 : Ref sig .tc := ⟨.hbm, 6899, rfl⟩
abbrev main_call14_call1_v88 : Ref sig .tc := ⟨.hbm, 6900, rfl⟩
abbrev main_call14_call1_c_22 : Ref sig .tc := ⟨.hbm, 6901, rfl⟩
abbrev main_call14_call1_v89 : Ref sig .tc := ⟨.hbm, 6902, rfl⟩
abbrev main_call14_call1_v90 : Ref sig .tc := ⟨.hbm, 6903, rfl⟩
abbrev main_call14_call1_c_23 : Ref sig .tc := ⟨.hbm, 6904, rfl⟩
abbrev main_call14_call1_v91 : Ref sig .tc := ⟨.hbm, 6905, rfl⟩
abbrev main_call14_call1_v92 : Ref sig .tc := ⟨.hbm, 6906, rfl⟩
abbrev main_call14_call1_v93 : Ref sig .tc := ⟨.hbm, 6907, rfl⟩
abbrev main_call14_call1_v94 : Ref sig .tc := ⟨.hbm, 6908, rfl⟩
abbrev main_call14_call1_v95 : Ref sig .tc := ⟨.hbm, 6909, rfl⟩
abbrev main_call14_call1_c_24 : Ref sig .tc := ⟨.hbm, 6910, rfl⟩
abbrev main_call14_call1_v96 : Ref sig .tc := ⟨.hbm, 6911, rfl⟩
abbrev main_call14_call1_v97 : Ref sig .tc := ⟨.hbm, 6912, rfl⟩
abbrev main_call14_call1_c_25 : Ref sig .tc := ⟨.hbm, 6913, rfl⟩
abbrev main_call14_call1_v98 : Ref sig .tc := ⟨.hbm, 6914, rfl⟩
abbrev main_call14_call1_v99 : Ref sig .tc := ⟨.hbm, 6915, rfl⟩
abbrev main_call14_call1_v100 : Ref sig .tc := ⟨.hbm, 6916, rfl⟩
abbrev main_call14_call1_v101 : Ref sig .tc := ⟨.hbm, 6917, rfl⟩
abbrev main_call14_call1_v102 : Ref sig .tc := ⟨.hbm, 6918, rfl⟩
abbrev main_call14_call1_v103 : Ref sig .tc := ⟨.hbm, 6919, rfl⟩
abbrev main_call14_call1_v104 : Ref sig .tc := ⟨.hbm, 6920, rfl⟩
abbrev main_call14_call1_v105 : Ref sig .tc := ⟨.hbm, 6921, rfl⟩
abbrev main_call14_call1_c_26 : Ref sig .tc := ⟨.hbm, 6922, rfl⟩
abbrev main_call14_call1_v106 : Ref sig .tc := ⟨.hbm, 6923, rfl⟩
abbrev main_call14_call1_v107 : Ref sig .tc := ⟨.hbm, 6924, rfl⟩
abbrev main_call14_call1_v108 : Ref sig .tc := ⟨.hbm, 6925, rfl⟩
abbrev main_call14_call1_c_27 : Ref sig .tc := ⟨.hbm, 6926, rfl⟩
abbrev main_call14_call1_v109 : Ref sig .tc := ⟨.hbm, 6927, rfl⟩
abbrev main_call14_call1_v110 : Ref sig .tc := ⟨.hbm, 6928, rfl⟩
abbrev main_call14_call1_c_28 : Ref sig .tc := ⟨.hbm, 6929, rfl⟩
abbrev main_call14_call1_v111 : Ref sig .tc := ⟨.hbm, 6930, rfl⟩
abbrev main_call14_call1_v112 : Ref sig .tc := ⟨.hbm, 6931, rfl⟩
abbrev main_call14_call1_v113 : Ref sig .tc := ⟨.hbm, 6932, rfl⟩
abbrev main_call14_call1_v114 : Ref sig .tc := ⟨.hbm, 6933, rfl⟩
abbrev main_call14_call1_v115 : Ref sig .tc := ⟨.hbm, 6934, rfl⟩
abbrev main_call14_call1_c_29 : Ref sig .tc := ⟨.hbm, 6935, rfl⟩
abbrev main_call14_call1_v116 : Ref sig .tc := ⟨.hbm, 6936, rfl⟩
abbrev main_call14_call1_v117 : Ref sig .tc := ⟨.hbm, 6937, rfl⟩
abbrev main_call14_call1_c_30 : Ref sig .tc := ⟨.hbm, 6938, rfl⟩
abbrev main_call14_call1_v118 : Ref sig .tc := ⟨.hbm, 6939, rfl⟩
abbrev main_call14_call1_v119 : Ref sig .tc := ⟨.hbm, 6940, rfl⟩
abbrev main_call14_call1_v120 : Ref sig .tc := ⟨.hbm, 6941, rfl⟩
abbrev main_call14_call1_v121 : Ref sig .tc := ⟨.hbm, 6942, rfl⟩
abbrev main_call14_call1_v122 : Ref sig .tc := ⟨.hbm, 6943, rfl⟩
abbrev main_call14_call1_c_31 : Ref sig .tc := ⟨.hbm, 6944, rfl⟩
abbrev main_call14_call1_v123 : Ref sig .tc := ⟨.hbm, 6945, rfl⟩
abbrev main_call14_call1_v124 : Ref sig .tc := ⟨.hbm, 6946, rfl⟩
abbrev main_call14_call1_c_32 : Ref sig .tc := ⟨.hbm, 6947, rfl⟩
abbrev main_call14_call1_v125 : Ref sig .tc := ⟨.hbm, 6948, rfl⟩
abbrev main_call14_call1_v126 : Ref sig .tc := ⟨.hbm, 6949, rfl⟩
abbrev main_call14_call1_v127 : Ref sig .tc := ⟨.hbm, 6950, rfl⟩
abbrev main_call14_call1_v128 : Ref sig .tc := ⟨.hbm, 6951, rfl⟩
abbrev main_call14_call1_v129 : Ref sig .tc := ⟨.hbm, 6952, rfl⟩
abbrev main_call14_call1_c_33 : Ref sig .tc := ⟨.hbm, 6953, rfl⟩
abbrev main_call14_call1_v130 : Ref sig .tc := ⟨.hbm, 6954, rfl⟩
abbrev main_call14_call1_v131 : Ref sig .tc := ⟨.hbm, 6955, rfl⟩
abbrev main_call14_call1_c_34 : Ref sig .tc := ⟨.hbm, 6956, rfl⟩
abbrev main_call14_call1_v132 : Ref sig .tc := ⟨.hbm, 6957, rfl⟩
abbrev main_call14_call1_v133 : Ref sig .tc := ⟨.hbm, 6958, rfl⟩
abbrev main_call14_call1_v134 : Ref sig .tc := ⟨.hbm, 6959, rfl⟩
abbrev main_call14_call1_v135 : Ref sig .tc := ⟨.hbm, 6960, rfl⟩
abbrev main_call14_call1_v136 : Ref sig .tc := ⟨.hbm, 6961, rfl⟩
abbrev main_call14_call1_v137 : Ref sig .tc := ⟨.hbm, 6962, rfl⟩
abbrev main_call14_call1_v138 : Ref sig .tc := ⟨.hbm, 6963, rfl⟩
abbrev main_call14_call1_v139 : Ref sig .tc := ⟨.hbm, 6964, rfl⟩
abbrev main_call14_call1_c_35 : Ref sig .tc := ⟨.hbm, 6965, rfl⟩
abbrev main_call14_call1_v140 : Ref sig .tc := ⟨.hbm, 6966, rfl⟩
abbrev main_call14_call1_v141 : Ref sig .tc := ⟨.hbm, 6967, rfl⟩
abbrev main_call14_call1_v142 : Ref sig .tc := ⟨.hbm, 6968, rfl⟩
abbrev main_call14_call1_c_36 : Ref sig .tc := ⟨.hbm, 6969, rfl⟩
abbrev main_call14_call1_v143 : Ref sig .tc := ⟨.hbm, 6970, rfl⟩
abbrev main_call14_call1_v144 : Ref sig .tc := ⟨.hbm, 6971, rfl⟩
abbrev main_call14_call1_c_37 : Ref sig .tc := ⟨.hbm, 6972, rfl⟩
abbrev main_call14_call1_v145 : Ref sig .tc := ⟨.hbm, 6973, rfl⟩
abbrev main_call14_call1_v146 : Ref sig .tc := ⟨.hbm, 6974, rfl⟩
abbrev main_call14_call1_v147 : Ref sig .tc := ⟨.hbm, 6975, rfl⟩
abbrev main_call14_call1_v148 : Ref sig .tc := ⟨.hbm, 6976, rfl⟩
abbrev main_call14_call1_v149 : Ref sig .tc := ⟨.hbm, 6977, rfl⟩
abbrev main_call14_call1_c_38 : Ref sig .tc := ⟨.hbm, 6978, rfl⟩
abbrev main_call14_call1_v150 : Ref sig .tc := ⟨.hbm, 6979, rfl⟩
abbrev main_call14_call1_v151 : Ref sig .tc := ⟨.hbm, 6980, rfl⟩
abbrev main_call14_call1_c_39 : Ref sig .tc := ⟨.hbm, 6981, rfl⟩
abbrev main_call14_call1_v152 : Ref sig .tc := ⟨.hbm, 6982, rfl⟩
abbrev main_call14_call1_v153 : Ref sig .tc := ⟨.hbm, 6983, rfl⟩
abbrev main_call14_call1_v154 : Ref sig .tc := ⟨.hbm, 6984, rfl⟩
abbrev main_call14_call1_v155 : Ref sig .tc := ⟨.hbm, 6985, rfl⟩
abbrev main_call14_call1_v156 : Ref sig .tc := ⟨.hbm, 6986, rfl⟩
abbrev main_call14_call1_c_40 : Ref sig .tc := ⟨.hbm, 6987, rfl⟩
abbrev main_call14_call1_v157 : Ref sig .tc := ⟨.hbm, 6988, rfl⟩
abbrev main_call14_call1_v158 : Ref sig .tc := ⟨.hbm, 6989, rfl⟩
abbrev main_call14_call1_c_41 : Ref sig .tc := ⟨.hbm, 6990, rfl⟩
abbrev main_call14_call1_v159 : Ref sig .tc := ⟨.hbm, 6991, rfl⟩
abbrev main_call14_call1_v160 : Ref sig .tc := ⟨.hbm, 6992, rfl⟩
abbrev main_call14_call1_v161 : Ref sig .tc := ⟨.hbm, 6993, rfl⟩
abbrev main_call14_call1_v162 : Ref sig .tc := ⟨.hbm, 6994, rfl⟩
abbrev main_call14_call1_v163 : Ref sig .tc := ⟨.hbm, 6995, rfl⟩
abbrev main_call14_call1_c_42 : Ref sig .tc := ⟨.hbm, 6996, rfl⟩
abbrev main_call14_call1_v164 : Ref sig .tc := ⟨.hbm, 6997, rfl⟩
abbrev main_call14_call1_v165 : Ref sig .tc := ⟨.hbm, 6998, rfl⟩
abbrev main_call14_call1_c_43 : Ref sig .tc := ⟨.hbm, 6999, rfl⟩
abbrev main_call14_call1_v166 : Ref sig .tc := ⟨.hbm, 7000, rfl⟩
abbrev main_call14_call1_v167 : Ref sig .tc := ⟨.hbm, 7001, rfl⟩
abbrev main_call14_call1_v168 : Ref sig .tc := ⟨.hbm, 7002, rfl⟩
abbrev main_call14_call1_v169 : Ref sig .tc := ⟨.hbm, 7003, rfl⟩
abbrev main_call14_call1_v170 : Ref sig .tc := ⟨.hbm, 7004, rfl⟩
abbrev main_call14_v16_0 : Ref sig .tc := ⟨.hbm, 7005, rfl⟩
abbrev main_call14_call1_v172 : Ref sig .tc := ⟨.hbm, 7006, rfl⟩
abbrev main_call14_call1_v173 : Ref sig .tc := ⟨.hbm, 7007, rfl⟩
abbrev main_call14_call1_c_44 : Ref sig .tc := ⟨.hbm, 7008, rfl⟩
abbrev main_call14_call1_v174 : Ref sig .tc := ⟨.hbm, 7009, rfl⟩
abbrev main_call14_v16_1 : Ref sig .tc := ⟨.hbm, 7010, rfl⟩
abbrev main_call14_v17 : Ref sig .tc := ⟨.hbm, 7011, rfl⟩
abbrev main_call14_v18_0 : Ref sig .tc := ⟨.hbm, 7012, rfl⟩
abbrev main_v66 : Ref sig .tc := ⟨.hbm, 7013, rfl⟩
abbrev main_v67 : Ref sig .tc := ⟨.hbm, 7014, rfl⟩
abbrev main_v68 : Ref sig .tc := ⟨.hbm, 7015, rfl⟩
abbrev main_v69 : Ref sig .tc := ⟨.hbm, 7016, rfl⟩
abbrev main_call15_call0_v0 : Ref sig .tc := ⟨.hbm, 7017, rfl⟩
abbrev main_call15_call0_v1 : Ref sig .tc := ⟨.hbm, 7018, rfl⟩
abbrev main_call15_call0_v2 : Ref sig .tc := ⟨.hbm, 7019, rfl⟩
abbrev main_call15_call0_v3 : Ref sig .tc := ⟨.hbm, 7020, rfl⟩
abbrev main_call15_call0_v4 : Ref sig .tc := ⟨.hbm, 7021, rfl⟩
abbrev main_call15_call0_c : Ref sig .tc := ⟨.hbm, 7022, rfl⟩
abbrev main_call15_call0_v5 : Ref sig .tc := ⟨.hbm, 7023, rfl⟩
abbrev main_call15_call0_v6 : Ref sig .tc := ⟨.hbm, 7024, rfl⟩
abbrev main_call15_call0_c_0 : Ref sig .tc := ⟨.hbm, 7025, rfl⟩
abbrev main_call15_call0_v7 : Ref sig .tc := ⟨.hbm, 7026, rfl⟩
abbrev main_call15_call0_v8 : Ref sig .tc := ⟨.hbm, 7027, rfl⟩
abbrev main_call15_call0_v9 : Ref sig .tc := ⟨.hbm, 7028, rfl⟩
abbrev main_call15_call0_v10 : Ref sig .tc := ⟨.hbm, 7029, rfl⟩
abbrev main_call15_call0_call0_v0 : Ref sig .tc := ⟨.hbm, 7030, rfl⟩
abbrev main_call15_call0_call0_c : Ref sig .tc := ⟨.hbm, 7031, rfl⟩
abbrev main_call15_call0_call0_v1 : Ref sig .tc := ⟨.hbm, 7032, rfl⟩
abbrev main_call15_call0_call0_v2 : Ref sig .tc := ⟨.hbm, 7033, rfl⟩
abbrev main_call15_call0_call0_v3 : Ref sig .tc := ⟨.hbm, 7034, rfl⟩
abbrev main_call15_call0_call0_v4 : Ref sig .tc := ⟨.hbm, 7035, rfl⟩
abbrev main_call15_call0_call0_v5 : Ref sig .tc := ⟨.hbm, 7036, rfl⟩
abbrev main_call15_call0_call0_v6 : Ref sig .tc := ⟨.hbm, 7037, rfl⟩
abbrev main_call15_call0_call0_c_0 : Ref sig .tc := ⟨.hbm, 7038, rfl⟩
abbrev main_call15_call0_call0_v7 : Ref sig .tc := ⟨.hbm, 7039, rfl⟩
abbrev main_call15_call0_call0_v8 : Ref sig .tc := ⟨.hbm, 7040, rfl⟩
abbrev main_call15_call0_call0_c_1 : Ref sig .tc := ⟨.hbm, 7041, rfl⟩
abbrev main_call15_call0_call0_v9 : Ref sig .tc := ⟨.hbm, 7042, rfl⟩
abbrev main_call15_call0_call0_v10 : Ref sig .tc := ⟨.hbm, 7043, rfl⟩
abbrev main_call15_call0_call0_v11 : Ref sig .tc := ⟨.hbm, 7044, rfl⟩
abbrev main_call15_call0_call0_v12 : Ref sig .tc := ⟨.hbm, 7045, rfl⟩
abbrev main_call15_call0_call0_v13 : Ref sig .tc := ⟨.hbm, 7046, rfl⟩
abbrev main_call15_call0_call0_c_2 : Ref sig .tc := ⟨.hbm, 7047, rfl⟩
abbrev main_call15_call0_call0_v14 : Ref sig .tc := ⟨.hbm, 7048, rfl⟩
abbrev main_call15_call0_call0_v15 : Ref sig .tc := ⟨.hbm, 7049, rfl⟩
abbrev main_call15_call0_call0_c_3 : Ref sig .tc := ⟨.hbm, 7050, rfl⟩
abbrev main_call15_call0_call0_v16 : Ref sig .tc := ⟨.hbm, 7051, rfl⟩
abbrev main_call15_call0_call0_v17 : Ref sig .tc := ⟨.hbm, 7052, rfl⟩
abbrev main_call15_call0_call0_v18 : Ref sig .tc := ⟨.hbm, 7053, rfl⟩
abbrev main_call15_call0_call0_v19 : Ref sig .tc := ⟨.hbm, 7054, rfl⟩
abbrev main_call15_call0_call0_v20 : Ref sig .tc := ⟨.hbm, 7055, rfl⟩
abbrev main_call15_call0_call0_c_4 : Ref sig .tc := ⟨.hbm, 7056, rfl⟩
abbrev main_call15_call0_call0_v21 : Ref sig .tc := ⟨.hbm, 7057, rfl⟩
abbrev main_call15_call0_call0_v22 : Ref sig .tc := ⟨.hbm, 7058, rfl⟩
abbrev main_call15_call0_call0_c_5 : Ref sig .tc := ⟨.hbm, 7059, rfl⟩
abbrev main_call15_call0_call0_v23 : Ref sig .tc := ⟨.hbm, 7060, rfl⟩
abbrev main_call15_call0_call0_v24 : Ref sig .tc := ⟨.hbm, 7061, rfl⟩
abbrev main_call15_call0_call0_v25 : Ref sig .tc := ⟨.hbm, 7062, rfl⟩
abbrev main_call15_call0_call0_v26 : Ref sig .tc := ⟨.hbm, 7063, rfl⟩
abbrev main_call15_call0_call0_v27 : Ref sig .tc := ⟨.hbm, 7064, rfl⟩
abbrev main_call15_call0_call0_c_6 : Ref sig .tc := ⟨.hbm, 7065, rfl⟩
abbrev main_call15_call0_call0_v28 : Ref sig .tc := ⟨.hbm, 7066, rfl⟩
abbrev main_call15_call0_call0_v29 : Ref sig .tc := ⟨.hbm, 7067, rfl⟩
abbrev main_call15_call0_call0_c_7 : Ref sig .tc := ⟨.hbm, 7068, rfl⟩
abbrev main_call15_call0_call0_v30 : Ref sig .tc := ⟨.hbm, 7069, rfl⟩
abbrev main_call15_call0_call0_v31 : Ref sig .tc := ⟨.hbm, 7070, rfl⟩
abbrev main_call15_call0_call0_v32 : Ref sig .tc := ⟨.hbm, 7071, rfl⟩
abbrev main_call15_call0_call0_v33 : Ref sig .tc := ⟨.hbm, 7072, rfl⟩
abbrev main_call15_call0_call0_v34 : Ref sig .tc := ⟨.hbm, 7073, rfl⟩
abbrev main_call15_call0_call0_v35 : Ref sig .tc := ⟨.hbm, 7074, rfl⟩
abbrev main_call15_call0_call0_v36 : Ref sig .tc := ⟨.hbm, 7075, rfl⟩
abbrev main_call15_call0_call0_v37 : Ref sig .tc := ⟨.hbm, 7076, rfl⟩
abbrev main_call15_call0_call0_c_8 : Ref sig .tc := ⟨.hbm, 7077, rfl⟩
abbrev main_call15_call0_call0_v38 : Ref sig .tc := ⟨.hbm, 7078, rfl⟩
abbrev main_call15_call0_call0_v39 : Ref sig .tc := ⟨.hbm, 7079, rfl⟩
abbrev main_call15_call0_call0_v40 : Ref sig .tc := ⟨.hbm, 7080, rfl⟩
abbrev main_call15_call0_call0_c_9 : Ref sig .tc := ⟨.hbm, 7081, rfl⟩
abbrev main_call15_call0_call0_v41 : Ref sig .tc := ⟨.hbm, 7082, rfl⟩
abbrev main_call15_call0_call0_v42 : Ref sig .tc := ⟨.hbm, 7083, rfl⟩
abbrev main_call15_call0_call0_c_10 : Ref sig .tc := ⟨.hbm, 7084, rfl⟩
abbrev main_call15_call0_call0_v43 : Ref sig .tc := ⟨.hbm, 7085, rfl⟩
abbrev main_call15_call0_call0_v44 : Ref sig .tc := ⟨.hbm, 7086, rfl⟩
abbrev main_call15_call0_call0_v45 : Ref sig .tc := ⟨.hbm, 7087, rfl⟩
abbrev main_call15_call0_call0_v46 : Ref sig .tc := ⟨.hbm, 7088, rfl⟩
abbrev main_call15_call0_call0_v47 : Ref sig .tc := ⟨.hbm, 7089, rfl⟩
abbrev main_call15_call0_call0_c_11 : Ref sig .tc := ⟨.hbm, 7090, rfl⟩
abbrev main_call15_call0_call0_v48 : Ref sig .tc := ⟨.hbm, 7091, rfl⟩
abbrev main_call15_call0_call0_v49 : Ref sig .tc := ⟨.hbm, 7092, rfl⟩
abbrev main_call15_call0_call0_c_12 : Ref sig .tc := ⟨.hbm, 7093, rfl⟩
abbrev main_call15_call0_call0_v50 : Ref sig .tc := ⟨.hbm, 7094, rfl⟩
abbrev main_call15_call0_call0_v51 : Ref sig .tc := ⟨.hbm, 7095, rfl⟩
abbrev main_call15_call0_call0_v52 : Ref sig .tc := ⟨.hbm, 7096, rfl⟩
abbrev main_call15_call0_call0_v53 : Ref sig .tc := ⟨.hbm, 7097, rfl⟩
abbrev main_call15_call0_call0_v54 : Ref sig .tc := ⟨.hbm, 7098, rfl⟩
abbrev main_call15_call0_call0_c_13 : Ref sig .tc := ⟨.hbm, 7099, rfl⟩
abbrev main_call15_call0_call0_v55 : Ref sig .tc := ⟨.hbm, 7100, rfl⟩
abbrev main_call15_call0_call0_v56 : Ref sig .tc := ⟨.hbm, 7101, rfl⟩
abbrev main_call15_call0_call0_c_14 : Ref sig .tc := ⟨.hbm, 7102, rfl⟩
abbrev main_call15_call0_call0_v57 : Ref sig .tc := ⟨.hbm, 7103, rfl⟩
abbrev main_call15_call0_call0_v58 : Ref sig .tc := ⟨.hbm, 7104, rfl⟩
abbrev main_call15_call0_call0_v59 : Ref sig .tc := ⟨.hbm, 7105, rfl⟩
abbrev main_call15_call0_call0_v60 : Ref sig .tc := ⟨.hbm, 7106, rfl⟩
abbrev main_call15_call0_call0_v61 : Ref sig .tc := ⟨.hbm, 7107, rfl⟩
abbrev main_call15_call0_call0_c_15 : Ref sig .tc := ⟨.hbm, 7108, rfl⟩
abbrev main_call15_call0_call0_v62 : Ref sig .tc := ⟨.hbm, 7109, rfl⟩
abbrev main_call15_call0_call0_v63 : Ref sig .tc := ⟨.hbm, 7110, rfl⟩
abbrev main_call15_call0_call0_c_16 : Ref sig .tc := ⟨.hbm, 7111, rfl⟩
abbrev main_call15_call0_call0_v64 : Ref sig .tc := ⟨.hbm, 7112, rfl⟩
abbrev main_call15_call0_call0_v65 : Ref sig .tc := ⟨.hbm, 7113, rfl⟩
abbrev main_call15_call0_call0_v66 : Ref sig .tc := ⟨.hbm, 7114, rfl⟩
abbrev main_call15_call0_call0_v67 : Ref sig .tc := ⟨.hbm, 7115, rfl⟩
abbrev main_call15_call0_call0_v68 : Ref sig .tc := ⟨.hbm, 7116, rfl⟩
abbrev main_call15_call0_call0_v69 : Ref sig .tc := ⟨.hbm, 7117, rfl⟩
abbrev main_call15_call0_call0_v70 : Ref sig .tc := ⟨.hbm, 7118, rfl⟩
abbrev main_call15_call0_call0_v71 : Ref sig .tc := ⟨.hbm, 7119, rfl⟩
abbrev main_call15_call0_call0_c_17 : Ref sig .tc := ⟨.hbm, 7120, rfl⟩
abbrev main_call15_call0_call0_v72 : Ref sig .tc := ⟨.hbm, 7121, rfl⟩
abbrev main_call15_call0_call0_v73 : Ref sig .tc := ⟨.hbm, 7122, rfl⟩
abbrev main_call15_call0_call0_v74 : Ref sig .tc := ⟨.hbm, 7123, rfl⟩
abbrev main_call15_call0_call0_c_18 : Ref sig .tc := ⟨.hbm, 7124, rfl⟩
abbrev main_call15_call0_call0_v75 : Ref sig .tc := ⟨.hbm, 7125, rfl⟩
abbrev main_call15_call0_call0_v76 : Ref sig .tc := ⟨.hbm, 7126, rfl⟩
abbrev main_call15_call0_call0_c_19 : Ref sig .tc := ⟨.hbm, 7127, rfl⟩
abbrev main_call15_call0_call0_v77 : Ref sig .tc := ⟨.hbm, 7128, rfl⟩
abbrev main_call15_call0_call0_v78 : Ref sig .tc := ⟨.hbm, 7129, rfl⟩
abbrev main_call15_call0_call0_v79 : Ref sig .tc := ⟨.hbm, 7130, rfl⟩
abbrev main_call15_call0_call0_v80 : Ref sig .tc := ⟨.hbm, 7131, rfl⟩
abbrev main_call15_call0_call0_v81 : Ref sig .tc := ⟨.hbm, 7132, rfl⟩
abbrev main_call15_call0_call0_c_20 : Ref sig .tc := ⟨.hbm, 7133, rfl⟩
abbrev main_call15_call0_call0_v82 : Ref sig .tc := ⟨.hbm, 7134, rfl⟩
abbrev main_call15_call0_call0_v83 : Ref sig .tc := ⟨.hbm, 7135, rfl⟩
abbrev main_call15_call0_call0_c_21 : Ref sig .tc := ⟨.hbm, 7136, rfl⟩
abbrev main_call15_call0_call0_v84 : Ref sig .tc := ⟨.hbm, 7137, rfl⟩
abbrev main_call15_call0_call0_v85 : Ref sig .tc := ⟨.hbm, 7138, rfl⟩
abbrev main_call15_call0_call0_v86 : Ref sig .tc := ⟨.hbm, 7139, rfl⟩
abbrev main_call15_call0_call0_v87 : Ref sig .tc := ⟨.hbm, 7140, rfl⟩
abbrev main_call15_call0_call0_v88 : Ref sig .tc := ⟨.hbm, 7141, rfl⟩
abbrev main_call15_call0_call0_c_22 : Ref sig .tc := ⟨.hbm, 7142, rfl⟩
abbrev main_call15_call0_call0_v89 : Ref sig .tc := ⟨.hbm, 7143, rfl⟩
abbrev main_call15_call0_call0_v90 : Ref sig .tc := ⟨.hbm, 7144, rfl⟩
abbrev main_call15_call0_call0_c_23 : Ref sig .tc := ⟨.hbm, 7145, rfl⟩
abbrev main_call15_call0_call0_v91 : Ref sig .tc := ⟨.hbm, 7146, rfl⟩
abbrev main_call15_call0_call0_v92 : Ref sig .tc := ⟨.hbm, 7147, rfl⟩
abbrev main_call15_call0_call0_v93 : Ref sig .tc := ⟨.hbm, 7148, rfl⟩
abbrev main_call15_call0_call0_v94 : Ref sig .tc := ⟨.hbm, 7149, rfl⟩
abbrev main_call15_call0_call0_v95 : Ref sig .tc := ⟨.hbm, 7150, rfl⟩
abbrev main_call15_call0_call0_c_24 : Ref sig .tc := ⟨.hbm, 7151, rfl⟩
abbrev main_call15_call0_call0_v96 : Ref sig .tc := ⟨.hbm, 7152, rfl⟩
abbrev main_call15_call0_call0_v97 : Ref sig .tc := ⟨.hbm, 7153, rfl⟩
abbrev main_call15_call0_call0_c_25 : Ref sig .tc := ⟨.hbm, 7154, rfl⟩
abbrev main_call15_call0_call0_v98 : Ref sig .tc := ⟨.hbm, 7155, rfl⟩
abbrev main_call15_call0_call0_v99 : Ref sig .tc := ⟨.hbm, 7156, rfl⟩
abbrev main_call15_call0_call0_v100 : Ref sig .tc := ⟨.hbm, 7157, rfl⟩
abbrev main_call15_call0_call0_v101 : Ref sig .tc := ⟨.hbm, 7158, rfl⟩
abbrev main_call15_call0_call0_v102 : Ref sig .tc := ⟨.hbm, 7159, rfl⟩
abbrev main_call15_call0_call0_v103 : Ref sig .tc := ⟨.hbm, 7160, rfl⟩
abbrev main_call15_call0_call0_v104 : Ref sig .tc := ⟨.hbm, 7161, rfl⟩
abbrev main_call15_call0_call0_v105 : Ref sig .tc := ⟨.hbm, 7162, rfl⟩
abbrev main_call15_call0_call0_c_26 : Ref sig .tc := ⟨.hbm, 7163, rfl⟩
abbrev main_call15_call0_call0_v106 : Ref sig .tc := ⟨.hbm, 7164, rfl⟩
abbrev main_call15_call0_call0_v107 : Ref sig .tc := ⟨.hbm, 7165, rfl⟩
abbrev main_call15_call0_call0_v108 : Ref sig .tc := ⟨.hbm, 7166, rfl⟩
abbrev main_call15_call0_call0_c_27 : Ref sig .tc := ⟨.hbm, 7167, rfl⟩
abbrev main_call15_call0_call0_v109 : Ref sig .tc := ⟨.hbm, 7168, rfl⟩
abbrev main_call15_call0_call0_v110 : Ref sig .tc := ⟨.hbm, 7169, rfl⟩
abbrev main_call15_call0_call0_c_28 : Ref sig .tc := ⟨.hbm, 7170, rfl⟩
abbrev main_call15_call0_call0_v111 : Ref sig .tc := ⟨.hbm, 7171, rfl⟩
abbrev main_call15_call0_call0_v112 : Ref sig .tc := ⟨.hbm, 7172, rfl⟩
abbrev main_call15_call0_call0_v113 : Ref sig .tc := ⟨.hbm, 7173, rfl⟩
abbrev main_call15_call0_call0_v114 : Ref sig .tc := ⟨.hbm, 7174, rfl⟩
abbrev main_call15_call0_call0_v115 : Ref sig .tc := ⟨.hbm, 7175, rfl⟩
abbrev main_call15_call0_call0_c_29 : Ref sig .tc := ⟨.hbm, 7176, rfl⟩
abbrev main_call15_call0_call0_v116 : Ref sig .tc := ⟨.hbm, 7177, rfl⟩
abbrev main_call15_call0_call0_v117 : Ref sig .tc := ⟨.hbm, 7178, rfl⟩
abbrev main_call15_call0_call0_c_30 : Ref sig .tc := ⟨.hbm, 7179, rfl⟩
abbrev main_call15_call0_call0_v118 : Ref sig .tc := ⟨.hbm, 7180, rfl⟩
abbrev main_call15_call0_call0_v119 : Ref sig .tc := ⟨.hbm, 7181, rfl⟩
abbrev main_call15_call0_call0_v120 : Ref sig .tc := ⟨.hbm, 7182, rfl⟩
abbrev main_call15_call0_call0_v121 : Ref sig .tc := ⟨.hbm, 7183, rfl⟩
abbrev main_call15_call0_call0_v122 : Ref sig .tc := ⟨.hbm, 7184, rfl⟩
abbrev main_call15_call0_call0_c_31 : Ref sig .tc := ⟨.hbm, 7185, rfl⟩
abbrev main_call15_call0_call0_v123 : Ref sig .tc := ⟨.hbm, 7186, rfl⟩
abbrev main_call15_call0_call0_v124 : Ref sig .tc := ⟨.hbm, 7187, rfl⟩
abbrev main_call15_call0_call0_c_32 : Ref sig .tc := ⟨.hbm, 7188, rfl⟩
abbrev main_call15_call0_call0_v125 : Ref sig .tc := ⟨.hbm, 7189, rfl⟩
abbrev main_call15_call0_call0_v126 : Ref sig .tc := ⟨.hbm, 7190, rfl⟩
abbrev main_call15_call0_call0_v127 : Ref sig .tc := ⟨.hbm, 7191, rfl⟩
abbrev main_call15_call0_call0_v128 : Ref sig .tc := ⟨.hbm, 7192, rfl⟩
abbrev main_call15_call0_call0_v129 : Ref sig .tc := ⟨.hbm, 7193, rfl⟩
abbrev main_call15_call0_call0_c_33 : Ref sig .tc := ⟨.hbm, 7194, rfl⟩
abbrev main_call15_call0_call0_v130 : Ref sig .tc := ⟨.hbm, 7195, rfl⟩
abbrev main_call15_call0_call0_v131 : Ref sig .tc := ⟨.hbm, 7196, rfl⟩
abbrev main_call15_call0_call0_c_34 : Ref sig .tc := ⟨.hbm, 7197, rfl⟩
abbrev main_call15_call0_call0_v132 : Ref sig .tc := ⟨.hbm, 7198, rfl⟩
abbrev main_call15_call0_call0_v133 : Ref sig .tc := ⟨.hbm, 7199, rfl⟩
abbrev main_call15_call0_call0_v134 : Ref sig .tc := ⟨.hbm, 7200, rfl⟩
abbrev main_call15_call0_call0_v135 : Ref sig .tc := ⟨.hbm, 7201, rfl⟩
abbrev main_call15_call0_call0_v136 : Ref sig .tc := ⟨.hbm, 7202, rfl⟩
abbrev main_call15_call0_call0_v137 : Ref sig .tc := ⟨.hbm, 7203, rfl⟩
abbrev main_call15_call0_call0_v138 : Ref sig .tc := ⟨.hbm, 7204, rfl⟩
abbrev main_call15_call0_call0_v139 : Ref sig .tc := ⟨.hbm, 7205, rfl⟩
abbrev main_call15_call0_call0_c_35 : Ref sig .tc := ⟨.hbm, 7206, rfl⟩
abbrev main_call15_call0_call0_v140 : Ref sig .tc := ⟨.hbm, 7207, rfl⟩
abbrev main_call15_call0_call0_v141 : Ref sig .tc := ⟨.hbm, 7208, rfl⟩
abbrev main_call15_call0_call0_v142 : Ref sig .tc := ⟨.hbm, 7209, rfl⟩
abbrev main_call15_call0_call0_c_36 : Ref sig .tc := ⟨.hbm, 7210, rfl⟩
abbrev main_call15_call0_call0_v143 : Ref sig .tc := ⟨.hbm, 7211, rfl⟩
abbrev main_call15_call0_call0_v144 : Ref sig .tc := ⟨.hbm, 7212, rfl⟩
abbrev main_call15_call0_call0_c_37 : Ref sig .tc := ⟨.hbm, 7213, rfl⟩
abbrev main_call15_call0_call0_v145 : Ref sig .tc := ⟨.hbm, 7214, rfl⟩
abbrev main_call15_call0_call0_v146 : Ref sig .tc := ⟨.hbm, 7215, rfl⟩
abbrev main_call15_call0_call0_v147 : Ref sig .tc := ⟨.hbm, 7216, rfl⟩
abbrev main_call15_call0_call0_v148 : Ref sig .tc := ⟨.hbm, 7217, rfl⟩
abbrev main_call15_call0_call0_v149 : Ref sig .tc := ⟨.hbm, 7218, rfl⟩
abbrev main_call15_call0_call0_c_38 : Ref sig .tc := ⟨.hbm, 7219, rfl⟩
abbrev main_call15_call0_call0_v150 : Ref sig .tc := ⟨.hbm, 7220, rfl⟩
abbrev main_call15_call0_call0_v151 : Ref sig .tc := ⟨.hbm, 7221, rfl⟩
abbrev main_call15_call0_call0_c_39 : Ref sig .tc := ⟨.hbm, 7222, rfl⟩
abbrev main_call15_call0_call0_v152 : Ref sig .tc := ⟨.hbm, 7223, rfl⟩
abbrev main_call15_call0_call0_v153 : Ref sig .tc := ⟨.hbm, 7224, rfl⟩
abbrev main_call15_call0_call0_v154 : Ref sig .tc := ⟨.hbm, 7225, rfl⟩
abbrev main_call15_call0_call0_v155 : Ref sig .tc := ⟨.hbm, 7226, rfl⟩
abbrev main_call15_call0_call0_v156 : Ref sig .tc := ⟨.hbm, 7227, rfl⟩
abbrev main_call15_call0_call0_c_40 : Ref sig .tc := ⟨.hbm, 7228, rfl⟩
abbrev main_call15_call0_call0_v157 : Ref sig .tc := ⟨.hbm, 7229, rfl⟩
abbrev main_call15_call0_call0_v158 : Ref sig .tc := ⟨.hbm, 7230, rfl⟩
abbrev main_call15_call0_call0_c_41 : Ref sig .tc := ⟨.hbm, 7231, rfl⟩
abbrev main_call15_call0_call0_v159 : Ref sig .tc := ⟨.hbm, 7232, rfl⟩
abbrev main_call15_call0_call0_v160 : Ref sig .tc := ⟨.hbm, 7233, rfl⟩
abbrev main_call15_call0_call0_v161 : Ref sig .tc := ⟨.hbm, 7234, rfl⟩
abbrev main_call15_call0_call0_v162 : Ref sig .tc := ⟨.hbm, 7235, rfl⟩
abbrev main_call15_call0_call0_v163 : Ref sig .tc := ⟨.hbm, 7236, rfl⟩
abbrev main_call15_call0_call0_c_42 : Ref sig .tc := ⟨.hbm, 7237, rfl⟩
abbrev main_call15_call0_call0_v164 : Ref sig .tc := ⟨.hbm, 7238, rfl⟩
abbrev main_call15_call0_call0_v165 : Ref sig .tc := ⟨.hbm, 7239, rfl⟩
abbrev main_call15_call0_call0_c_43 : Ref sig .tc := ⟨.hbm, 7240, rfl⟩
abbrev main_call15_call0_call0_v166 : Ref sig .tc := ⟨.hbm, 7241, rfl⟩
abbrev main_call15_call0_call0_v167 : Ref sig .tc := ⟨.hbm, 7242, rfl⟩
abbrev main_call15_call0_call0_v168 : Ref sig .tc := ⟨.hbm, 7243, rfl⟩
abbrev main_call15_call0_call0_v169 : Ref sig .tc := ⟨.hbm, 7244, rfl⟩
abbrev main_call15_call0_call0_v170 : Ref sig .tc := ⟨.hbm, 7245, rfl⟩
abbrev main_call15_call0_v11_0 : Ref sig .tc := ⟨.hbm, 7246, rfl⟩
abbrev main_call15_call0_call0_v172 : Ref sig .tc := ⟨.hbm, 7247, rfl⟩
abbrev main_call15_call0_call0_v173 : Ref sig .tc := ⟨.hbm, 7248, rfl⟩
abbrev main_call15_call0_call0_c_44 : Ref sig .tc := ⟨.hbm, 7249, rfl⟩
abbrev main_call15_call0_call0_v174 : Ref sig .tc := ⟨.hbm, 7250, rfl⟩
abbrev main_call15_call0_v11_1 : Ref sig .tc := ⟨.hbm, 7251, rfl⟩
abbrev main_call15_call0_v12 : Ref sig .tc := ⟨.hbm, 7252, rfl⟩
abbrev main_call15_call0_v13 : Ref sig .tc := ⟨.hbm, 7253, rfl⟩
abbrev main_call15_v0 : Ref sig .tc := ⟨.hbm, 7254, rfl⟩
abbrev main_call15_v1 : Ref sig .tc := ⟨.hbm, 7255, rfl⟩
abbrev main_call15_v2 : Ref sig .tc := ⟨.hbm, 7256, rfl⟩
abbrev main_call15_v3 : Ref sig .tc := ⟨.hbm, 7257, rfl⟩
abbrev main_call15_v4 : Ref sig .tc := ⟨.hbm, 7258, rfl⟩
abbrev main_call15_v5 : Ref sig .tc := ⟨.hbm, 7259, rfl⟩
abbrev main_call15_v6 : Ref sig .tc := ⟨.hbm, 7260, rfl⟩
abbrev main_call15_v7 : Ref sig .tc := ⟨.hbm, 7261, rfl⟩
abbrev main_call15_v8 : Ref sig .tc := ⟨.hbm, 7262, rfl⟩
abbrev main_call15_v9 : Ref sig .tc := ⟨.hbm, 7263, rfl⟩
abbrev main_call15_c : Ref sig .tc := ⟨.hbm, 7264, rfl⟩
abbrev main_call15_v10 : Ref sig .tc := ⟨.hbm, 7265, rfl⟩
abbrev main_call15_v11 : Ref sig .tc := ⟨.hbm, 7266, rfl⟩
abbrev main_call15_c_0 : Ref sig .tc := ⟨.hbm, 7267, rfl⟩
abbrev main_call15_v12 : Ref sig .tc := ⟨.hbm, 7268, rfl⟩
abbrev main_call15_v13 : Ref sig .tc := ⟨.hbm, 7269, rfl⟩
abbrev main_call15_v14 : Ref sig .tc := ⟨.hbm, 7270, rfl⟩
abbrev main_call15_v15 : Ref sig .tc := ⟨.hbm, 7271, rfl⟩
abbrev main_call15_call1_v0 : Ref sig .tc := ⟨.hbm, 7272, rfl⟩
abbrev main_call15_call1_c : Ref sig .tc := ⟨.hbm, 7273, rfl⟩
abbrev main_call15_call1_v1 : Ref sig .tc := ⟨.hbm, 7274, rfl⟩
abbrev main_call15_call1_v2 : Ref sig .tc := ⟨.hbm, 7275, rfl⟩
abbrev main_call15_call1_v3 : Ref sig .tc := ⟨.hbm, 7276, rfl⟩
abbrev main_call15_call1_v4 : Ref sig .tc := ⟨.hbm, 7277, rfl⟩
abbrev main_call15_call1_v5 : Ref sig .tc := ⟨.hbm, 7278, rfl⟩
abbrev main_call15_call1_v6 : Ref sig .tc := ⟨.hbm, 7279, rfl⟩
abbrev main_call15_call1_c_0 : Ref sig .tc := ⟨.hbm, 7280, rfl⟩
abbrev main_call15_call1_v7 : Ref sig .tc := ⟨.hbm, 7281, rfl⟩
abbrev main_call15_call1_v8 : Ref sig .tc := ⟨.hbm, 7282, rfl⟩
abbrev main_call15_call1_c_1 : Ref sig .tc := ⟨.hbm, 7283, rfl⟩
abbrev main_call15_call1_v9 : Ref sig .tc := ⟨.hbm, 7284, rfl⟩
abbrev main_call15_call1_v10 : Ref sig .tc := ⟨.hbm, 7285, rfl⟩
abbrev main_call15_call1_v11 : Ref sig .tc := ⟨.hbm, 7286, rfl⟩
abbrev main_call15_call1_v12 : Ref sig .tc := ⟨.hbm, 7287, rfl⟩
abbrev main_call15_call1_v13 : Ref sig .tc := ⟨.hbm, 7288, rfl⟩
abbrev main_call15_call1_c_2 : Ref sig .tc := ⟨.hbm, 7289, rfl⟩
abbrev main_call15_call1_v14 : Ref sig .tc := ⟨.hbm, 7290, rfl⟩
abbrev main_call15_call1_v15 : Ref sig .tc := ⟨.hbm, 7291, rfl⟩
abbrev main_call15_call1_c_3 : Ref sig .tc := ⟨.hbm, 7292, rfl⟩
abbrev main_call15_call1_v16 : Ref sig .tc := ⟨.hbm, 7293, rfl⟩
abbrev main_call15_call1_v17 : Ref sig .tc := ⟨.hbm, 7294, rfl⟩
abbrev main_call15_call1_v18 : Ref sig .tc := ⟨.hbm, 7295, rfl⟩
abbrev main_call15_call1_v19 : Ref sig .tc := ⟨.hbm, 7296, rfl⟩
abbrev main_call15_call1_v20 : Ref sig .tc := ⟨.hbm, 7297, rfl⟩
abbrev main_call15_call1_c_4 : Ref sig .tc := ⟨.hbm, 7298, rfl⟩
abbrev main_call15_call1_v21 : Ref sig .tc := ⟨.hbm, 7299, rfl⟩
abbrev main_call15_call1_v22 : Ref sig .tc := ⟨.hbm, 7300, rfl⟩
abbrev main_call15_call1_c_5 : Ref sig .tc := ⟨.hbm, 7301, rfl⟩
abbrev main_call15_call1_v23 : Ref sig .tc := ⟨.hbm, 7302, rfl⟩
abbrev main_call15_call1_v24 : Ref sig .tc := ⟨.hbm, 7303, rfl⟩
abbrev main_call15_call1_v25 : Ref sig .tc := ⟨.hbm, 7304, rfl⟩
abbrev main_call15_call1_v26 : Ref sig .tc := ⟨.hbm, 7305, rfl⟩
abbrev main_call15_call1_v27 : Ref sig .tc := ⟨.hbm, 7306, rfl⟩
abbrev main_call15_call1_c_6 : Ref sig .tc := ⟨.hbm, 7307, rfl⟩
abbrev main_call15_call1_v28 : Ref sig .tc := ⟨.hbm, 7308, rfl⟩
abbrev main_call15_call1_v29 : Ref sig .tc := ⟨.hbm, 7309, rfl⟩
abbrev main_call15_call1_c_7 : Ref sig .tc := ⟨.hbm, 7310, rfl⟩
abbrev main_call15_call1_v30 : Ref sig .tc := ⟨.hbm, 7311, rfl⟩
abbrev main_call15_call1_v31 : Ref sig .tc := ⟨.hbm, 7312, rfl⟩
abbrev main_call15_call1_v32 : Ref sig .tc := ⟨.hbm, 7313, rfl⟩
abbrev main_call15_call1_v33 : Ref sig .tc := ⟨.hbm, 7314, rfl⟩
abbrev main_call15_call1_v34 : Ref sig .tc := ⟨.hbm, 7315, rfl⟩
abbrev main_call15_call1_v35 : Ref sig .tc := ⟨.hbm, 7316, rfl⟩
abbrev main_call15_call1_v36 : Ref sig .tc := ⟨.hbm, 7317, rfl⟩
abbrev main_call15_call1_v37 : Ref sig .tc := ⟨.hbm, 7318, rfl⟩
abbrev main_call15_call1_c_8 : Ref sig .tc := ⟨.hbm, 7319, rfl⟩
abbrev main_call15_call1_v38 : Ref sig .tc := ⟨.hbm, 7320, rfl⟩
abbrev main_call15_call1_v39 : Ref sig .tc := ⟨.hbm, 7321, rfl⟩
abbrev main_call15_call1_v40 : Ref sig .tc := ⟨.hbm, 7322, rfl⟩
abbrev main_call15_call1_c_9 : Ref sig .tc := ⟨.hbm, 7323, rfl⟩
abbrev main_call15_call1_v41 : Ref sig .tc := ⟨.hbm, 7324, rfl⟩
abbrev main_call15_call1_v42 : Ref sig .tc := ⟨.hbm, 7325, rfl⟩
abbrev main_call15_call1_c_10 : Ref sig .tc := ⟨.hbm, 7326, rfl⟩
abbrev main_call15_call1_v43 : Ref sig .tc := ⟨.hbm, 7327, rfl⟩
abbrev main_call15_call1_v44 : Ref sig .tc := ⟨.hbm, 7328, rfl⟩
abbrev main_call15_call1_v45 : Ref sig .tc := ⟨.hbm, 7329, rfl⟩
abbrev main_call15_call1_v46 : Ref sig .tc := ⟨.hbm, 7330, rfl⟩
abbrev main_call15_call1_v47 : Ref sig .tc := ⟨.hbm, 7331, rfl⟩
abbrev main_call15_call1_c_11 : Ref sig .tc := ⟨.hbm, 7332, rfl⟩
abbrev main_call15_call1_v48 : Ref sig .tc := ⟨.hbm, 7333, rfl⟩
abbrev main_call15_call1_v49 : Ref sig .tc := ⟨.hbm, 7334, rfl⟩
abbrev main_call15_call1_c_12 : Ref sig .tc := ⟨.hbm, 7335, rfl⟩
abbrev main_call15_call1_v50 : Ref sig .tc := ⟨.hbm, 7336, rfl⟩
abbrev main_call15_call1_v51 : Ref sig .tc := ⟨.hbm, 7337, rfl⟩
abbrev main_call15_call1_v52 : Ref sig .tc := ⟨.hbm, 7338, rfl⟩
abbrev main_call15_call1_v53 : Ref sig .tc := ⟨.hbm, 7339, rfl⟩
abbrev main_call15_call1_v54 : Ref sig .tc := ⟨.hbm, 7340, rfl⟩
abbrev main_call15_call1_c_13 : Ref sig .tc := ⟨.hbm, 7341, rfl⟩
abbrev main_call15_call1_v55 : Ref sig .tc := ⟨.hbm, 7342, rfl⟩
abbrev main_call15_call1_v56 : Ref sig .tc := ⟨.hbm, 7343, rfl⟩
abbrev main_call15_call1_c_14 : Ref sig .tc := ⟨.hbm, 7344, rfl⟩
abbrev main_call15_call1_v57 : Ref sig .tc := ⟨.hbm, 7345, rfl⟩
abbrev main_call15_call1_v58 : Ref sig .tc := ⟨.hbm, 7346, rfl⟩
abbrev main_call15_call1_v59 : Ref sig .tc := ⟨.hbm, 7347, rfl⟩
abbrev main_call15_call1_v60 : Ref sig .tc := ⟨.hbm, 7348, rfl⟩
abbrev main_call15_call1_v61 : Ref sig .tc := ⟨.hbm, 7349, rfl⟩
abbrev main_call15_call1_c_15 : Ref sig .tc := ⟨.hbm, 7350, rfl⟩
abbrev main_call15_call1_v62 : Ref sig .tc := ⟨.hbm, 7351, rfl⟩
abbrev main_call15_call1_v63 : Ref sig .tc := ⟨.hbm, 7352, rfl⟩
abbrev main_call15_call1_c_16 : Ref sig .tc := ⟨.hbm, 7353, rfl⟩
abbrev main_call15_call1_v64 : Ref sig .tc := ⟨.hbm, 7354, rfl⟩
abbrev main_call15_call1_v65 : Ref sig .tc := ⟨.hbm, 7355, rfl⟩
abbrev main_call15_call1_v66 : Ref sig .tc := ⟨.hbm, 7356, rfl⟩
abbrev main_call15_call1_v67 : Ref sig .tc := ⟨.hbm, 7357, rfl⟩
abbrev main_call15_call1_v68 : Ref sig .tc := ⟨.hbm, 7358, rfl⟩
abbrev main_call15_call1_v69 : Ref sig .tc := ⟨.hbm, 7359, rfl⟩
abbrev main_call15_call1_v70 : Ref sig .tc := ⟨.hbm, 7360, rfl⟩
abbrev main_call15_call1_v71 : Ref sig .tc := ⟨.hbm, 7361, rfl⟩
abbrev main_call15_call1_c_17 : Ref sig .tc := ⟨.hbm, 7362, rfl⟩
abbrev main_call15_call1_v72 : Ref sig .tc := ⟨.hbm, 7363, rfl⟩
abbrev main_call15_call1_v73 : Ref sig .tc := ⟨.hbm, 7364, rfl⟩
abbrev main_call15_call1_v74 : Ref sig .tc := ⟨.hbm, 7365, rfl⟩
abbrev main_call15_call1_c_18 : Ref sig .tc := ⟨.hbm, 7366, rfl⟩
abbrev main_call15_call1_v75 : Ref sig .tc := ⟨.hbm, 7367, rfl⟩
abbrev main_call15_call1_v76 : Ref sig .tc := ⟨.hbm, 7368, rfl⟩
abbrev main_call15_call1_c_19 : Ref sig .tc := ⟨.hbm, 7369, rfl⟩
abbrev main_call15_call1_v77 : Ref sig .tc := ⟨.hbm, 7370, rfl⟩
abbrev main_call15_call1_v78 : Ref sig .tc := ⟨.hbm, 7371, rfl⟩
abbrev main_call15_call1_v79 : Ref sig .tc := ⟨.hbm, 7372, rfl⟩
abbrev main_call15_call1_v80 : Ref sig .tc := ⟨.hbm, 7373, rfl⟩
abbrev main_call15_call1_v81 : Ref sig .tc := ⟨.hbm, 7374, rfl⟩
abbrev main_call15_call1_c_20 : Ref sig .tc := ⟨.hbm, 7375, rfl⟩
abbrev main_call15_call1_v82 : Ref sig .tc := ⟨.hbm, 7376, rfl⟩
abbrev main_call15_call1_v83 : Ref sig .tc := ⟨.hbm, 7377, rfl⟩
abbrev main_call15_call1_c_21 : Ref sig .tc := ⟨.hbm, 7378, rfl⟩
abbrev main_call15_call1_v84 : Ref sig .tc := ⟨.hbm, 7379, rfl⟩
abbrev main_call15_call1_v85 : Ref sig .tc := ⟨.hbm, 7380, rfl⟩
abbrev main_call15_call1_v86 : Ref sig .tc := ⟨.hbm, 7381, rfl⟩
abbrev main_call15_call1_v87 : Ref sig .tc := ⟨.hbm, 7382, rfl⟩
abbrev main_call15_call1_v88 : Ref sig .tc := ⟨.hbm, 7383, rfl⟩
abbrev main_call15_call1_c_22 : Ref sig .tc := ⟨.hbm, 7384, rfl⟩
abbrev main_call15_call1_v89 : Ref sig .tc := ⟨.hbm, 7385, rfl⟩
abbrev main_call15_call1_v90 : Ref sig .tc := ⟨.hbm, 7386, rfl⟩
abbrev main_call15_call1_c_23 : Ref sig .tc := ⟨.hbm, 7387, rfl⟩
abbrev main_call15_call1_v91 : Ref sig .tc := ⟨.hbm, 7388, rfl⟩
abbrev main_call15_call1_v92 : Ref sig .tc := ⟨.hbm, 7389, rfl⟩
abbrev main_call15_call1_v93 : Ref sig .tc := ⟨.hbm, 7390, rfl⟩
abbrev main_call15_call1_v94 : Ref sig .tc := ⟨.hbm, 7391, rfl⟩
abbrev main_call15_call1_v95 : Ref sig .tc := ⟨.hbm, 7392, rfl⟩
abbrev main_call15_call1_c_24 : Ref sig .tc := ⟨.hbm, 7393, rfl⟩
abbrev main_call15_call1_v96 : Ref sig .tc := ⟨.hbm, 7394, rfl⟩
abbrev main_call15_call1_v97 : Ref sig .tc := ⟨.hbm, 7395, rfl⟩
abbrev main_call15_call1_c_25 : Ref sig .tc := ⟨.hbm, 7396, rfl⟩
abbrev main_call15_call1_v98 : Ref sig .tc := ⟨.hbm, 7397, rfl⟩
abbrev main_call15_call1_v99 : Ref sig .tc := ⟨.hbm, 7398, rfl⟩
abbrev main_call15_call1_v100 : Ref sig .tc := ⟨.hbm, 7399, rfl⟩
abbrev main_call15_call1_v101 : Ref sig .tc := ⟨.hbm, 7400, rfl⟩
abbrev main_call15_call1_v102 : Ref sig .tc := ⟨.hbm, 7401, rfl⟩
abbrev main_call15_call1_v103 : Ref sig .tc := ⟨.hbm, 7402, rfl⟩
abbrev main_call15_call1_v104 : Ref sig .tc := ⟨.hbm, 7403, rfl⟩
abbrev main_call15_call1_v105 : Ref sig .tc := ⟨.hbm, 7404, rfl⟩
abbrev main_call15_call1_c_26 : Ref sig .tc := ⟨.hbm, 7405, rfl⟩
abbrev main_call15_call1_v106 : Ref sig .tc := ⟨.hbm, 7406, rfl⟩
abbrev main_call15_call1_v107 : Ref sig .tc := ⟨.hbm, 7407, rfl⟩
abbrev main_call15_call1_v108 : Ref sig .tc := ⟨.hbm, 7408, rfl⟩
abbrev main_call15_call1_c_27 : Ref sig .tc := ⟨.hbm, 7409, rfl⟩
abbrev main_call15_call1_v109 : Ref sig .tc := ⟨.hbm, 7410, rfl⟩
abbrev main_call15_call1_v110 : Ref sig .tc := ⟨.hbm, 7411, rfl⟩
abbrev main_call15_call1_c_28 : Ref sig .tc := ⟨.hbm, 7412, rfl⟩
abbrev main_call15_call1_v111 : Ref sig .tc := ⟨.hbm, 7413, rfl⟩
abbrev main_call15_call1_v112 : Ref sig .tc := ⟨.hbm, 7414, rfl⟩
abbrev main_call15_call1_v113 : Ref sig .tc := ⟨.hbm, 7415, rfl⟩
abbrev main_call15_call1_v114 : Ref sig .tc := ⟨.hbm, 7416, rfl⟩
abbrev main_call15_call1_v115 : Ref sig .tc := ⟨.hbm, 7417, rfl⟩
abbrev main_call15_call1_c_29 : Ref sig .tc := ⟨.hbm, 7418, rfl⟩
abbrev main_call15_call1_v116 : Ref sig .tc := ⟨.hbm, 7419, rfl⟩
abbrev main_call15_call1_v117 : Ref sig .tc := ⟨.hbm, 7420, rfl⟩
abbrev main_call15_call1_c_30 : Ref sig .tc := ⟨.hbm, 7421, rfl⟩
abbrev main_call15_call1_v118 : Ref sig .tc := ⟨.hbm, 7422, rfl⟩
abbrev main_call15_call1_v119 : Ref sig .tc := ⟨.hbm, 7423, rfl⟩
abbrev main_call15_call1_v120 : Ref sig .tc := ⟨.hbm, 7424, rfl⟩
abbrev main_call15_call1_v121 : Ref sig .tc := ⟨.hbm, 7425, rfl⟩
abbrev main_call15_call1_v122 : Ref sig .tc := ⟨.hbm, 7426, rfl⟩
abbrev main_call15_call1_c_31 : Ref sig .tc := ⟨.hbm, 7427, rfl⟩
abbrev main_call15_call1_v123 : Ref sig .tc := ⟨.hbm, 7428, rfl⟩
abbrev main_call15_call1_v124 : Ref sig .tc := ⟨.hbm, 7429, rfl⟩
abbrev main_call15_call1_c_32 : Ref sig .tc := ⟨.hbm, 7430, rfl⟩
abbrev main_call15_call1_v125 : Ref sig .tc := ⟨.hbm, 7431, rfl⟩
abbrev main_call15_call1_v126 : Ref sig .tc := ⟨.hbm, 7432, rfl⟩
abbrev main_call15_call1_v127 : Ref sig .tc := ⟨.hbm, 7433, rfl⟩
abbrev main_call15_call1_v128 : Ref sig .tc := ⟨.hbm, 7434, rfl⟩
abbrev main_call15_call1_v129 : Ref sig .tc := ⟨.hbm, 7435, rfl⟩
abbrev main_call15_call1_c_33 : Ref sig .tc := ⟨.hbm, 7436, rfl⟩
abbrev main_call15_call1_v130 : Ref sig .tc := ⟨.hbm, 7437, rfl⟩
abbrev main_call15_call1_v131 : Ref sig .tc := ⟨.hbm, 7438, rfl⟩
abbrev main_call15_call1_c_34 : Ref sig .tc := ⟨.hbm, 7439, rfl⟩
abbrev main_call15_call1_v132 : Ref sig .tc := ⟨.hbm, 7440, rfl⟩
abbrev main_call15_call1_v133 : Ref sig .tc := ⟨.hbm, 7441, rfl⟩
abbrev main_call15_call1_v134 : Ref sig .tc := ⟨.hbm, 7442, rfl⟩
abbrev main_call15_call1_v135 : Ref sig .tc := ⟨.hbm, 7443, rfl⟩
abbrev main_call15_call1_v136 : Ref sig .tc := ⟨.hbm, 7444, rfl⟩
abbrev main_call15_call1_v137 : Ref sig .tc := ⟨.hbm, 7445, rfl⟩
abbrev main_call15_call1_v138 : Ref sig .tc := ⟨.hbm, 7446, rfl⟩
abbrev main_call15_call1_v139 : Ref sig .tc := ⟨.hbm, 7447, rfl⟩
abbrev main_call15_call1_c_35 : Ref sig .tc := ⟨.hbm, 7448, rfl⟩
abbrev main_call15_call1_v140 : Ref sig .tc := ⟨.hbm, 7449, rfl⟩
abbrev main_call15_call1_v141 : Ref sig .tc := ⟨.hbm, 7450, rfl⟩
abbrev main_call15_call1_v142 : Ref sig .tc := ⟨.hbm, 7451, rfl⟩
abbrev main_call15_call1_c_36 : Ref sig .tc := ⟨.hbm, 7452, rfl⟩
abbrev main_call15_call1_v143 : Ref sig .tc := ⟨.hbm, 7453, rfl⟩
abbrev main_call15_call1_v144 : Ref sig .tc := ⟨.hbm, 7454, rfl⟩
abbrev main_call15_call1_c_37 : Ref sig .tc := ⟨.hbm, 7455, rfl⟩
abbrev main_call15_call1_v145 : Ref sig .tc := ⟨.hbm, 7456, rfl⟩
abbrev main_call15_call1_v146 : Ref sig .tc := ⟨.hbm, 7457, rfl⟩
abbrev main_call15_call1_v147 : Ref sig .tc := ⟨.hbm, 7458, rfl⟩
abbrev main_call15_call1_v148 : Ref sig .tc := ⟨.hbm, 7459, rfl⟩
abbrev main_call15_call1_v149 : Ref sig .tc := ⟨.hbm, 7460, rfl⟩
abbrev main_call15_call1_c_38 : Ref sig .tc := ⟨.hbm, 7461, rfl⟩
abbrev main_call15_call1_v150 : Ref sig .tc := ⟨.hbm, 7462, rfl⟩
abbrev main_call15_call1_v151 : Ref sig .tc := ⟨.hbm, 7463, rfl⟩
abbrev main_call15_call1_c_39 : Ref sig .tc := ⟨.hbm, 7464, rfl⟩
abbrev main_call15_call1_v152 : Ref sig .tc := ⟨.hbm, 7465, rfl⟩
abbrev main_call15_call1_v153 : Ref sig .tc := ⟨.hbm, 7466, rfl⟩
abbrev main_call15_call1_v154 : Ref sig .tc := ⟨.hbm, 7467, rfl⟩
abbrev main_call15_call1_v155 : Ref sig .tc := ⟨.hbm, 7468, rfl⟩
abbrev main_call15_call1_v156 : Ref sig .tc := ⟨.hbm, 7469, rfl⟩
abbrev main_call15_call1_c_40 : Ref sig .tc := ⟨.hbm, 7470, rfl⟩
abbrev main_call15_call1_v157 : Ref sig .tc := ⟨.hbm, 7471, rfl⟩
abbrev main_call15_call1_v158 : Ref sig .tc := ⟨.hbm, 7472, rfl⟩
abbrev main_call15_call1_c_41 : Ref sig .tc := ⟨.hbm, 7473, rfl⟩
abbrev main_call15_call1_v159 : Ref sig .tc := ⟨.hbm, 7474, rfl⟩
abbrev main_call15_call1_v160 : Ref sig .tc := ⟨.hbm, 7475, rfl⟩
abbrev main_call15_call1_v161 : Ref sig .tc := ⟨.hbm, 7476, rfl⟩
abbrev main_call15_call1_v162 : Ref sig .tc := ⟨.hbm, 7477, rfl⟩
abbrev main_call15_call1_v163 : Ref sig .tc := ⟨.hbm, 7478, rfl⟩
abbrev main_call15_call1_c_42 : Ref sig .tc := ⟨.hbm, 7479, rfl⟩
abbrev main_call15_call1_v164 : Ref sig .tc := ⟨.hbm, 7480, rfl⟩
abbrev main_call15_call1_v165 : Ref sig .tc := ⟨.hbm, 7481, rfl⟩
abbrev main_call15_call1_c_43 : Ref sig .tc := ⟨.hbm, 7482, rfl⟩
abbrev main_call15_call1_v166 : Ref sig .tc := ⟨.hbm, 7483, rfl⟩
abbrev main_call15_call1_v167 : Ref sig .tc := ⟨.hbm, 7484, rfl⟩
abbrev main_call15_call1_v168 : Ref sig .tc := ⟨.hbm, 7485, rfl⟩
abbrev main_call15_call1_v169 : Ref sig .tc := ⟨.hbm, 7486, rfl⟩
abbrev main_call15_call1_v170 : Ref sig .tc := ⟨.hbm, 7487, rfl⟩
abbrev main_call15_v16_0 : Ref sig .tc := ⟨.hbm, 7488, rfl⟩
abbrev main_call15_call1_v172 : Ref sig .tc := ⟨.hbm, 7489, rfl⟩
abbrev main_call15_call1_v173 : Ref sig .tc := ⟨.hbm, 7490, rfl⟩
abbrev main_call15_call1_c_44 : Ref sig .tc := ⟨.hbm, 7491, rfl⟩
abbrev main_call15_call1_v174 : Ref sig .tc := ⟨.hbm, 7492, rfl⟩
abbrev main_call15_v16_1 : Ref sig .tc := ⟨.hbm, 7493, rfl⟩
abbrev main_call15_v17 : Ref sig .tc := ⟨.hbm, 7494, rfl⟩
abbrev main_call15_v18_0 : Ref sig .tc := ⟨.hbm, 7495, rfl⟩
abbrev main_v70 : Ref sig .tc := ⟨.hbm, 7496, rfl⟩
abbrev main_v71 : Ref sig .tc := ⟨.hbm, 7497, rfl⟩
abbrev main_v72 : Ref sig .tc := ⟨.hbm, 7498, rfl⟩
abbrev main_v73 : Ref sig .tc := ⟨.hbm, 7499, rfl⟩
abbrev main_call16_call0_v0 : Ref sig .tc := ⟨.hbm, 7500, rfl⟩
abbrev main_call16_call0_v1 : Ref sig .tc := ⟨.hbm, 7501, rfl⟩
abbrev main_call16_call0_v2 : Ref sig .tc := ⟨.hbm, 7502, rfl⟩
abbrev main_call16_call0_v3 : Ref sig .tc := ⟨.hbm, 7503, rfl⟩
abbrev main_call16_call0_v4 : Ref sig .tc := ⟨.hbm, 7504, rfl⟩
abbrev main_call16_call0_c : Ref sig .tc := ⟨.hbm, 7505, rfl⟩
abbrev main_call16_call0_v5 : Ref sig .tc := ⟨.hbm, 7506, rfl⟩
abbrev main_call16_call0_v6 : Ref sig .tc := ⟨.hbm, 7507, rfl⟩
abbrev main_call16_call0_c_0 : Ref sig .tc := ⟨.hbm, 7508, rfl⟩
abbrev main_call16_call0_v7 : Ref sig .tc := ⟨.hbm, 7509, rfl⟩
abbrev main_call16_call0_v8 : Ref sig .tc := ⟨.hbm, 7510, rfl⟩
abbrev main_call16_call0_v9 : Ref sig .tc := ⟨.hbm, 7511, rfl⟩
abbrev main_call16_call0_v10 : Ref sig .tc := ⟨.hbm, 7512, rfl⟩
abbrev main_call16_call0_call0_v0 : Ref sig .tc := ⟨.hbm, 7513, rfl⟩
abbrev main_call16_call0_call0_c : Ref sig .tc := ⟨.hbm, 7514, rfl⟩
abbrev main_call16_call0_call0_v1 : Ref sig .tc := ⟨.hbm, 7515, rfl⟩
abbrev main_call16_call0_call0_v2 : Ref sig .tc := ⟨.hbm, 7516, rfl⟩
abbrev main_call16_call0_call0_v3 : Ref sig .tc := ⟨.hbm, 7517, rfl⟩
abbrev main_call16_call0_call0_v4 : Ref sig .tc := ⟨.hbm, 7518, rfl⟩
abbrev main_call16_call0_call0_v5 : Ref sig .tc := ⟨.hbm, 7519, rfl⟩
abbrev main_call16_call0_call0_v6 : Ref sig .tc := ⟨.hbm, 7520, rfl⟩
abbrev main_call16_call0_call0_c_0 : Ref sig .tc := ⟨.hbm, 7521, rfl⟩
abbrev main_call16_call0_call0_v7 : Ref sig .tc := ⟨.hbm, 7522, rfl⟩
abbrev main_call16_call0_call0_v8 : Ref sig .tc := ⟨.hbm, 7523, rfl⟩
abbrev main_call16_call0_call0_c_1 : Ref sig .tc := ⟨.hbm, 7524, rfl⟩
abbrev main_call16_call0_call0_v9 : Ref sig .tc := ⟨.hbm, 7525, rfl⟩
abbrev main_call16_call0_call0_v10 : Ref sig .tc := ⟨.hbm, 7526, rfl⟩
abbrev main_call16_call0_call0_v11 : Ref sig .tc := ⟨.hbm, 7527, rfl⟩
abbrev main_call16_call0_call0_v12 : Ref sig .tc := ⟨.hbm, 7528, rfl⟩
abbrev main_call16_call0_call0_v13 : Ref sig .tc := ⟨.hbm, 7529, rfl⟩
abbrev main_call16_call0_call0_c_2 : Ref sig .tc := ⟨.hbm, 7530, rfl⟩
abbrev main_call16_call0_call0_v14 : Ref sig .tc := ⟨.hbm, 7531, rfl⟩
abbrev main_call16_call0_call0_v15 : Ref sig .tc := ⟨.hbm, 7532, rfl⟩
abbrev main_call16_call0_call0_c_3 : Ref sig .tc := ⟨.hbm, 7533, rfl⟩
abbrev main_call16_call0_call0_v16 : Ref sig .tc := ⟨.hbm, 7534, rfl⟩
abbrev main_call16_call0_call0_v17 : Ref sig .tc := ⟨.hbm, 7535, rfl⟩
abbrev main_call16_call0_call0_v18 : Ref sig .tc := ⟨.hbm, 7536, rfl⟩
abbrev main_call16_call0_call0_v19 : Ref sig .tc := ⟨.hbm, 7537, rfl⟩
abbrev main_call16_call0_call0_v20 : Ref sig .tc := ⟨.hbm, 7538, rfl⟩
abbrev main_call16_call0_call0_c_4 : Ref sig .tc := ⟨.hbm, 7539, rfl⟩
abbrev main_call16_call0_call0_v21 : Ref sig .tc := ⟨.hbm, 7540, rfl⟩
abbrev main_call16_call0_call0_v22 : Ref sig .tc := ⟨.hbm, 7541, rfl⟩
abbrev main_call16_call0_call0_c_5 : Ref sig .tc := ⟨.hbm, 7542, rfl⟩
abbrev main_call16_call0_call0_v23 : Ref sig .tc := ⟨.hbm, 7543, rfl⟩
abbrev main_call16_call0_call0_v24 : Ref sig .tc := ⟨.hbm, 7544, rfl⟩
abbrev main_call16_call0_call0_v25 : Ref sig .tc := ⟨.hbm, 7545, rfl⟩
abbrev main_call16_call0_call0_v26 : Ref sig .tc := ⟨.hbm, 7546, rfl⟩
abbrev main_call16_call0_call0_v27 : Ref sig .tc := ⟨.hbm, 7547, rfl⟩
abbrev main_call16_call0_call0_c_6 : Ref sig .tc := ⟨.hbm, 7548, rfl⟩
abbrev main_call16_call0_call0_v28 : Ref sig .tc := ⟨.hbm, 7549, rfl⟩
abbrev main_call16_call0_call0_v29 : Ref sig .tc := ⟨.hbm, 7550, rfl⟩
abbrev main_call16_call0_call0_c_7 : Ref sig .tc := ⟨.hbm, 7551, rfl⟩
abbrev main_call16_call0_call0_v30 : Ref sig .tc := ⟨.hbm, 7552, rfl⟩
abbrev main_call16_call0_call0_v31 : Ref sig .tc := ⟨.hbm, 7553, rfl⟩
abbrev main_call16_call0_call0_v32 : Ref sig .tc := ⟨.hbm, 7554, rfl⟩
abbrev main_call16_call0_call0_v33 : Ref sig .tc := ⟨.hbm, 7555, rfl⟩
abbrev main_call16_call0_call0_v34 : Ref sig .tc := ⟨.hbm, 7556, rfl⟩
abbrev main_call16_call0_call0_v35 : Ref sig .tc := ⟨.hbm, 7557, rfl⟩
abbrev main_call16_call0_call0_v36 : Ref sig .tc := ⟨.hbm, 7558, rfl⟩
abbrev main_call16_call0_call0_v37 : Ref sig .tc := ⟨.hbm, 7559, rfl⟩
abbrev main_call16_call0_call0_c_8 : Ref sig .tc := ⟨.hbm, 7560, rfl⟩
abbrev main_call16_call0_call0_v38 : Ref sig .tc := ⟨.hbm, 7561, rfl⟩
abbrev main_call16_call0_call0_v39 : Ref sig .tc := ⟨.hbm, 7562, rfl⟩
abbrev main_call16_call0_call0_v40 : Ref sig .tc := ⟨.hbm, 7563, rfl⟩
abbrev main_call16_call0_call0_c_9 : Ref sig .tc := ⟨.hbm, 7564, rfl⟩
abbrev main_call16_call0_call0_v41 : Ref sig .tc := ⟨.hbm, 7565, rfl⟩
abbrev main_call16_call0_call0_v42 : Ref sig .tc := ⟨.hbm, 7566, rfl⟩
abbrev main_call16_call0_call0_c_10 : Ref sig .tc := ⟨.hbm, 7567, rfl⟩
abbrev main_call16_call0_call0_v43 : Ref sig .tc := ⟨.hbm, 7568, rfl⟩
abbrev main_call16_call0_call0_v44 : Ref sig .tc := ⟨.hbm, 7569, rfl⟩
abbrev main_call16_call0_call0_v45 : Ref sig .tc := ⟨.hbm, 7570, rfl⟩
abbrev main_call16_call0_call0_v46 : Ref sig .tc := ⟨.hbm, 7571, rfl⟩
abbrev main_call16_call0_call0_v47 : Ref sig .tc := ⟨.hbm, 7572, rfl⟩
abbrev main_call16_call0_call0_c_11 : Ref sig .tc := ⟨.hbm, 7573, rfl⟩
abbrev main_call16_call0_call0_v48 : Ref sig .tc := ⟨.hbm, 7574, rfl⟩
abbrev main_call16_call0_call0_v49 : Ref sig .tc := ⟨.hbm, 7575, rfl⟩
abbrev main_call16_call0_call0_c_12 : Ref sig .tc := ⟨.hbm, 7576, rfl⟩
abbrev main_call16_call0_call0_v50 : Ref sig .tc := ⟨.hbm, 7577, rfl⟩
abbrev main_call16_call0_call0_v51 : Ref sig .tc := ⟨.hbm, 7578, rfl⟩
abbrev main_call16_call0_call0_v52 : Ref sig .tc := ⟨.hbm, 7579, rfl⟩
abbrev main_call16_call0_call0_v53 : Ref sig .tc := ⟨.hbm, 7580, rfl⟩
abbrev main_call16_call0_call0_v54 : Ref sig .tc := ⟨.hbm, 7581, rfl⟩
abbrev main_call16_call0_call0_c_13 : Ref sig .tc := ⟨.hbm, 7582, rfl⟩
abbrev main_call16_call0_call0_v55 : Ref sig .tc := ⟨.hbm, 7583, rfl⟩
abbrev main_call16_call0_call0_v56 : Ref sig .tc := ⟨.hbm, 7584, rfl⟩
abbrev main_call16_call0_call0_c_14 : Ref sig .tc := ⟨.hbm, 7585, rfl⟩
abbrev main_call16_call0_call0_v57 : Ref sig .tc := ⟨.hbm, 7586, rfl⟩
abbrev main_call16_call0_call0_v58 : Ref sig .tc := ⟨.hbm, 7587, rfl⟩
abbrev main_call16_call0_call0_v59 : Ref sig .tc := ⟨.hbm, 7588, rfl⟩
abbrev main_call16_call0_call0_v60 : Ref sig .tc := ⟨.hbm, 7589, rfl⟩
abbrev main_call16_call0_call0_v61 : Ref sig .tc := ⟨.hbm, 7590, rfl⟩
abbrev main_call16_call0_call0_c_15 : Ref sig .tc := ⟨.hbm, 7591, rfl⟩
abbrev main_call16_call0_call0_v62 : Ref sig .tc := ⟨.hbm, 7592, rfl⟩
abbrev main_call16_call0_call0_v63 : Ref sig .tc := ⟨.hbm, 7593, rfl⟩
abbrev main_call16_call0_call0_c_16 : Ref sig .tc := ⟨.hbm, 7594, rfl⟩
abbrev main_call16_call0_call0_v64 : Ref sig .tc := ⟨.hbm, 7595, rfl⟩
abbrev main_call16_call0_call0_v65 : Ref sig .tc := ⟨.hbm, 7596, rfl⟩
abbrev main_call16_call0_call0_v66 : Ref sig .tc := ⟨.hbm, 7597, rfl⟩
abbrev main_call16_call0_call0_v67 : Ref sig .tc := ⟨.hbm, 7598, rfl⟩
abbrev main_call16_call0_call0_v68 : Ref sig .tc := ⟨.hbm, 7599, rfl⟩
abbrev main_call16_call0_call0_v69 : Ref sig .tc := ⟨.hbm, 7600, rfl⟩
abbrev main_call16_call0_call0_v70 : Ref sig .tc := ⟨.hbm, 7601, rfl⟩
abbrev main_call16_call0_call0_v71 : Ref sig .tc := ⟨.hbm, 7602, rfl⟩
abbrev main_call16_call0_call0_c_17 : Ref sig .tc := ⟨.hbm, 7603, rfl⟩
abbrev main_call16_call0_call0_v72 : Ref sig .tc := ⟨.hbm, 7604, rfl⟩
abbrev main_call16_call0_call0_v73 : Ref sig .tc := ⟨.hbm, 7605, rfl⟩
abbrev main_call16_call0_call0_v74 : Ref sig .tc := ⟨.hbm, 7606, rfl⟩
abbrev main_call16_call0_call0_c_18 : Ref sig .tc := ⟨.hbm, 7607, rfl⟩
abbrev main_call16_call0_call0_v75 : Ref sig .tc := ⟨.hbm, 7608, rfl⟩
abbrev main_call16_call0_call0_v76 : Ref sig .tc := ⟨.hbm, 7609, rfl⟩
abbrev main_call16_call0_call0_c_19 : Ref sig .tc := ⟨.hbm, 7610, rfl⟩
abbrev main_call16_call0_call0_v77 : Ref sig .tc := ⟨.hbm, 7611, rfl⟩
abbrev main_call16_call0_call0_v78 : Ref sig .tc := ⟨.hbm, 7612, rfl⟩
abbrev main_call16_call0_call0_v79 : Ref sig .tc := ⟨.hbm, 7613, rfl⟩
abbrev main_call16_call0_call0_v80 : Ref sig .tc := ⟨.hbm, 7614, rfl⟩
abbrev main_call16_call0_call0_v81 : Ref sig .tc := ⟨.hbm, 7615, rfl⟩
abbrev main_call16_call0_call0_c_20 : Ref sig .tc := ⟨.hbm, 7616, rfl⟩
abbrev main_call16_call0_call0_v82 : Ref sig .tc := ⟨.hbm, 7617, rfl⟩
abbrev main_call16_call0_call0_v83 : Ref sig .tc := ⟨.hbm, 7618, rfl⟩
abbrev main_call16_call0_call0_c_21 : Ref sig .tc := ⟨.hbm, 7619, rfl⟩
abbrev main_call16_call0_call0_v84 : Ref sig .tc := ⟨.hbm, 7620, rfl⟩
abbrev main_call16_call0_call0_v85 : Ref sig .tc := ⟨.hbm, 7621, rfl⟩
abbrev main_call16_call0_call0_v86 : Ref sig .tc := ⟨.hbm, 7622, rfl⟩
abbrev main_call16_call0_call0_v87 : Ref sig .tc := ⟨.hbm, 7623, rfl⟩
abbrev main_call16_call0_call0_v88 : Ref sig .tc := ⟨.hbm, 7624, rfl⟩
abbrev main_call16_call0_call0_c_22 : Ref sig .tc := ⟨.hbm, 7625, rfl⟩
abbrev main_call16_call0_call0_v89 : Ref sig .tc := ⟨.hbm, 7626, rfl⟩
abbrev main_call16_call0_call0_v90 : Ref sig .tc := ⟨.hbm, 7627, rfl⟩
abbrev main_call16_call0_call0_c_23 : Ref sig .tc := ⟨.hbm, 7628, rfl⟩
abbrev main_call16_call0_call0_v91 : Ref sig .tc := ⟨.hbm, 7629, rfl⟩
abbrev main_call16_call0_call0_v92 : Ref sig .tc := ⟨.hbm, 7630, rfl⟩
abbrev main_call16_call0_call0_v93 : Ref sig .tc := ⟨.hbm, 7631, rfl⟩
abbrev main_call16_call0_call0_v94 : Ref sig .tc := ⟨.hbm, 7632, rfl⟩
abbrev main_call16_call0_call0_v95 : Ref sig .tc := ⟨.hbm, 7633, rfl⟩
abbrev main_call16_call0_call0_c_24 : Ref sig .tc := ⟨.hbm, 7634, rfl⟩
abbrev main_call16_call0_call0_v96 : Ref sig .tc := ⟨.hbm, 7635, rfl⟩
abbrev main_call16_call0_call0_v97 : Ref sig .tc := ⟨.hbm, 7636, rfl⟩
abbrev main_call16_call0_call0_c_25 : Ref sig .tc := ⟨.hbm, 7637, rfl⟩
abbrev main_call16_call0_call0_v98 : Ref sig .tc := ⟨.hbm, 7638, rfl⟩
abbrev main_call16_call0_call0_v99 : Ref sig .tc := ⟨.hbm, 7639, rfl⟩
abbrev main_call16_call0_call0_v100 : Ref sig .tc := ⟨.hbm, 7640, rfl⟩
abbrev main_call16_call0_call0_v101 : Ref sig .tc := ⟨.hbm, 7641, rfl⟩
abbrev main_call16_call0_call0_v102 : Ref sig .tc := ⟨.hbm, 7642, rfl⟩
abbrev main_call16_call0_call0_v103 : Ref sig .tc := ⟨.hbm, 7643, rfl⟩
abbrev main_call16_call0_call0_v104 : Ref sig .tc := ⟨.hbm, 7644, rfl⟩
abbrev main_call16_call0_call0_v105 : Ref sig .tc := ⟨.hbm, 7645, rfl⟩
abbrev main_call16_call0_call0_c_26 : Ref sig .tc := ⟨.hbm, 7646, rfl⟩
abbrev main_call16_call0_call0_v106 : Ref sig .tc := ⟨.hbm, 7647, rfl⟩
abbrev main_call16_call0_call0_v107 : Ref sig .tc := ⟨.hbm, 7648, rfl⟩
abbrev main_call16_call0_call0_v108 : Ref sig .tc := ⟨.hbm, 7649, rfl⟩
abbrev main_call16_call0_call0_c_27 : Ref sig .tc := ⟨.hbm, 7650, rfl⟩
abbrev main_call16_call0_call0_v109 : Ref sig .tc := ⟨.hbm, 7651, rfl⟩
abbrev main_call16_call0_call0_v110 : Ref sig .tc := ⟨.hbm, 7652, rfl⟩
abbrev main_call16_call0_call0_c_28 : Ref sig .tc := ⟨.hbm, 7653, rfl⟩
abbrev main_call16_call0_call0_v111 : Ref sig .tc := ⟨.hbm, 7654, rfl⟩
abbrev main_call16_call0_call0_v112 : Ref sig .tc := ⟨.hbm, 7655, rfl⟩
abbrev main_call16_call0_call0_v113 : Ref sig .tc := ⟨.hbm, 7656, rfl⟩
abbrev main_call16_call0_call0_v114 : Ref sig .tc := ⟨.hbm, 7657, rfl⟩
abbrev main_call16_call0_call0_v115 : Ref sig .tc := ⟨.hbm, 7658, rfl⟩
abbrev main_call16_call0_call0_c_29 : Ref sig .tc := ⟨.hbm, 7659, rfl⟩
abbrev main_call16_call0_call0_v116 : Ref sig .tc := ⟨.hbm, 7660, rfl⟩
abbrev main_call16_call0_call0_v117 : Ref sig .tc := ⟨.hbm, 7661, rfl⟩
abbrev main_call16_call0_call0_c_30 : Ref sig .tc := ⟨.hbm, 7662, rfl⟩
abbrev main_call16_call0_call0_v118 : Ref sig .tc := ⟨.hbm, 7663, rfl⟩
abbrev main_call16_call0_call0_v119 : Ref sig .tc := ⟨.hbm, 7664, rfl⟩
abbrev main_call16_call0_call0_v120 : Ref sig .tc := ⟨.hbm, 7665, rfl⟩
abbrev main_call16_call0_call0_v121 : Ref sig .tc := ⟨.hbm, 7666, rfl⟩
abbrev main_call16_call0_call0_v122 : Ref sig .tc := ⟨.hbm, 7667, rfl⟩
abbrev main_call16_call0_call0_c_31 : Ref sig .tc := ⟨.hbm, 7668, rfl⟩
abbrev main_call16_call0_call0_v123 : Ref sig .tc := ⟨.hbm, 7669, rfl⟩
abbrev main_call16_call0_call0_v124 : Ref sig .tc := ⟨.hbm, 7670, rfl⟩
abbrev main_call16_call0_call0_c_32 : Ref sig .tc := ⟨.hbm, 7671, rfl⟩
abbrev main_call16_call0_call0_v125 : Ref sig .tc := ⟨.hbm, 7672, rfl⟩
abbrev main_call16_call0_call0_v126 : Ref sig .tc := ⟨.hbm, 7673, rfl⟩
abbrev main_call16_call0_call0_v127 : Ref sig .tc := ⟨.hbm, 7674, rfl⟩
abbrev main_call16_call0_call0_v128 : Ref sig .tc := ⟨.hbm, 7675, rfl⟩
abbrev main_call16_call0_call0_v129 : Ref sig .tc := ⟨.hbm, 7676, rfl⟩
abbrev main_call16_call0_call0_c_33 : Ref sig .tc := ⟨.hbm, 7677, rfl⟩
abbrev main_call16_call0_call0_v130 : Ref sig .tc := ⟨.hbm, 7678, rfl⟩
abbrev main_call16_call0_call0_v131 : Ref sig .tc := ⟨.hbm, 7679, rfl⟩
abbrev main_call16_call0_call0_c_34 : Ref sig .tc := ⟨.hbm, 7680, rfl⟩
abbrev main_call16_call0_call0_v132 : Ref sig .tc := ⟨.hbm, 7681, rfl⟩
abbrev main_call16_call0_call0_v133 : Ref sig .tc := ⟨.hbm, 7682, rfl⟩
abbrev main_call16_call0_call0_v134 : Ref sig .tc := ⟨.hbm, 7683, rfl⟩
abbrev main_call16_call0_call0_v135 : Ref sig .tc := ⟨.hbm, 7684, rfl⟩
abbrev main_call16_call0_call0_v136 : Ref sig .tc := ⟨.hbm, 7685, rfl⟩
abbrev main_call16_call0_call0_v137 : Ref sig .tc := ⟨.hbm, 7686, rfl⟩
abbrev main_call16_call0_call0_v138 : Ref sig .tc := ⟨.hbm, 7687, rfl⟩
abbrev main_call16_call0_call0_v139 : Ref sig .tc := ⟨.hbm, 7688, rfl⟩
abbrev main_call16_call0_call0_c_35 : Ref sig .tc := ⟨.hbm, 7689, rfl⟩
abbrev main_call16_call0_call0_v140 : Ref sig .tc := ⟨.hbm, 7690, rfl⟩
abbrev main_call16_call0_call0_v141 : Ref sig .tc := ⟨.hbm, 7691, rfl⟩
abbrev main_call16_call0_call0_v142 : Ref sig .tc := ⟨.hbm, 7692, rfl⟩
abbrev main_call16_call0_call0_c_36 : Ref sig .tc := ⟨.hbm, 7693, rfl⟩
abbrev main_call16_call0_call0_v143 : Ref sig .tc := ⟨.hbm, 7694, rfl⟩
abbrev main_call16_call0_call0_v144 : Ref sig .tc := ⟨.hbm, 7695, rfl⟩
abbrev main_call16_call0_call0_c_37 : Ref sig .tc := ⟨.hbm, 7696, rfl⟩
abbrev main_call16_call0_call0_v145 : Ref sig .tc := ⟨.hbm, 7697, rfl⟩
abbrev main_call16_call0_call0_v146 : Ref sig .tc := ⟨.hbm, 7698, rfl⟩
abbrev main_call16_call0_call0_v147 : Ref sig .tc := ⟨.hbm, 7699, rfl⟩
abbrev main_call16_call0_call0_v148 : Ref sig .tc := ⟨.hbm, 7700, rfl⟩
abbrev main_call16_call0_call0_v149 : Ref sig .tc := ⟨.hbm, 7701, rfl⟩
abbrev main_call16_call0_call0_c_38 : Ref sig .tc := ⟨.hbm, 7702, rfl⟩
abbrev main_call16_call0_call0_v150 : Ref sig .tc := ⟨.hbm, 7703, rfl⟩
abbrev main_call16_call0_call0_v151 : Ref sig .tc := ⟨.hbm, 7704, rfl⟩
abbrev main_call16_call0_call0_c_39 : Ref sig .tc := ⟨.hbm, 7705, rfl⟩
abbrev main_call16_call0_call0_v152 : Ref sig .tc := ⟨.hbm, 7706, rfl⟩
abbrev main_call16_call0_call0_v153 : Ref sig .tc := ⟨.hbm, 7707, rfl⟩
abbrev main_call16_call0_call0_v154 : Ref sig .tc := ⟨.hbm, 7708, rfl⟩
abbrev main_call16_call0_call0_v155 : Ref sig .tc := ⟨.hbm, 7709, rfl⟩
abbrev main_call16_call0_call0_v156 : Ref sig .tc := ⟨.hbm, 7710, rfl⟩
abbrev main_call16_call0_call0_c_40 : Ref sig .tc := ⟨.hbm, 7711, rfl⟩
abbrev main_call16_call0_call0_v157 : Ref sig .tc := ⟨.hbm, 7712, rfl⟩
abbrev main_call16_call0_call0_v158 : Ref sig .tc := ⟨.hbm, 7713, rfl⟩
abbrev main_call16_call0_call0_c_41 : Ref sig .tc := ⟨.hbm, 7714, rfl⟩
abbrev main_call16_call0_call0_v159 : Ref sig .tc := ⟨.hbm, 7715, rfl⟩
abbrev main_call16_call0_call0_v160 : Ref sig .tc := ⟨.hbm, 7716, rfl⟩
abbrev main_call16_call0_call0_v161 : Ref sig .tc := ⟨.hbm, 7717, rfl⟩
abbrev main_call16_call0_call0_v162 : Ref sig .tc := ⟨.hbm, 7718, rfl⟩
abbrev main_call16_call0_call0_v163 : Ref sig .tc := ⟨.hbm, 7719, rfl⟩
abbrev main_call16_call0_call0_c_42 : Ref sig .tc := ⟨.hbm, 7720, rfl⟩
abbrev main_call16_call0_call0_v164 : Ref sig .tc := ⟨.hbm, 7721, rfl⟩
abbrev main_call16_call0_call0_v165 : Ref sig .tc := ⟨.hbm, 7722, rfl⟩
abbrev main_call16_call0_call0_c_43 : Ref sig .tc := ⟨.hbm, 7723, rfl⟩
abbrev main_call16_call0_call0_v166 : Ref sig .tc := ⟨.hbm, 7724, rfl⟩
abbrev main_call16_call0_call0_v167 : Ref sig .tc := ⟨.hbm, 7725, rfl⟩
abbrev main_call16_call0_call0_v168 : Ref sig .tc := ⟨.hbm, 7726, rfl⟩
abbrev main_call16_call0_call0_v169 : Ref sig .tc := ⟨.hbm, 7727, rfl⟩
abbrev main_call16_call0_call0_v170 : Ref sig .tc := ⟨.hbm, 7728, rfl⟩
abbrev main_call16_call0_v11_0 : Ref sig .tc := ⟨.hbm, 7729, rfl⟩
abbrev main_call16_call0_call0_v172 : Ref sig .tc := ⟨.hbm, 7730, rfl⟩
abbrev main_call16_call0_call0_v173 : Ref sig .tc := ⟨.hbm, 7731, rfl⟩
abbrev main_call16_call0_call0_c_44 : Ref sig .tc := ⟨.hbm, 7732, rfl⟩
abbrev main_call16_call0_call0_v174 : Ref sig .tc := ⟨.hbm, 7733, rfl⟩
abbrev main_call16_call0_v11_1 : Ref sig .tc := ⟨.hbm, 7734, rfl⟩
abbrev main_call16_call0_v12 : Ref sig .tc := ⟨.hbm, 7735, rfl⟩
abbrev main_call16_call0_v13 : Ref sig .tc := ⟨.hbm, 7736, rfl⟩
abbrev main_call16_v0 : Ref sig .tc := ⟨.hbm, 7737, rfl⟩
abbrev main_call16_v1 : Ref sig .tc := ⟨.hbm, 7738, rfl⟩
abbrev main_call16_v2 : Ref sig .tc := ⟨.hbm, 7739, rfl⟩
abbrev main_call16_v3 : Ref sig .tc := ⟨.hbm, 7740, rfl⟩
abbrev main_call16_v4 : Ref sig .tc := ⟨.hbm, 7741, rfl⟩
abbrev main_call16_v5 : Ref sig .tc := ⟨.hbm, 7742, rfl⟩
abbrev main_call16_v6 : Ref sig .tc := ⟨.hbm, 7743, rfl⟩
abbrev main_call16_v7 : Ref sig .tc := ⟨.hbm, 7744, rfl⟩
abbrev main_call16_v8 : Ref sig .tc := ⟨.hbm, 7745, rfl⟩
abbrev main_call16_v9 : Ref sig .tc := ⟨.hbm, 7746, rfl⟩
abbrev main_call16_c : Ref sig .tc := ⟨.hbm, 7747, rfl⟩
abbrev main_call16_v10 : Ref sig .tc := ⟨.hbm, 7748, rfl⟩
abbrev main_call16_v11 : Ref sig .tc := ⟨.hbm, 7749, rfl⟩
abbrev main_call16_c_0 : Ref sig .tc := ⟨.hbm, 7750, rfl⟩
abbrev main_call16_v12 : Ref sig .tc := ⟨.hbm, 7751, rfl⟩
abbrev main_call16_v13 : Ref sig .tc := ⟨.hbm, 7752, rfl⟩
abbrev main_call16_v14 : Ref sig .tc := ⟨.hbm, 7753, rfl⟩
abbrev main_call16_v15 : Ref sig .tc := ⟨.hbm, 7754, rfl⟩
abbrev main_call16_call1_v0 : Ref sig .tc := ⟨.hbm, 7755, rfl⟩
abbrev main_call16_call1_c : Ref sig .tc := ⟨.hbm, 7756, rfl⟩
abbrev main_call16_call1_v1 : Ref sig .tc := ⟨.hbm, 7757, rfl⟩
abbrev main_call16_call1_v2 : Ref sig .tc := ⟨.hbm, 7758, rfl⟩
abbrev main_call16_call1_v3 : Ref sig .tc := ⟨.hbm, 7759, rfl⟩
abbrev main_call16_call1_v4 : Ref sig .tc := ⟨.hbm, 7760, rfl⟩
abbrev main_call16_call1_v5 : Ref sig .tc := ⟨.hbm, 7761, rfl⟩
abbrev main_call16_call1_v6 : Ref sig .tc := ⟨.hbm, 7762, rfl⟩
abbrev main_call16_call1_c_0 : Ref sig .tc := ⟨.hbm, 7763, rfl⟩
abbrev main_call16_call1_v7 : Ref sig .tc := ⟨.hbm, 7764, rfl⟩
abbrev main_call16_call1_v8 : Ref sig .tc := ⟨.hbm, 7765, rfl⟩
abbrev main_call16_call1_c_1 : Ref sig .tc := ⟨.hbm, 7766, rfl⟩
abbrev main_call16_call1_v9 : Ref sig .tc := ⟨.hbm, 7767, rfl⟩
abbrev main_call16_call1_v10 : Ref sig .tc := ⟨.hbm, 7768, rfl⟩
abbrev main_call16_call1_v11 : Ref sig .tc := ⟨.hbm, 7769, rfl⟩
abbrev main_call16_call1_v12 : Ref sig .tc := ⟨.hbm, 7770, rfl⟩
abbrev main_call16_call1_v13 : Ref sig .tc := ⟨.hbm, 7771, rfl⟩
abbrev main_call16_call1_c_2 : Ref sig .tc := ⟨.hbm, 7772, rfl⟩
abbrev main_call16_call1_v14 : Ref sig .tc := ⟨.hbm, 7773, rfl⟩
abbrev main_call16_call1_v15 : Ref sig .tc := ⟨.hbm, 7774, rfl⟩
abbrev main_call16_call1_c_3 : Ref sig .tc := ⟨.hbm, 7775, rfl⟩
abbrev main_call16_call1_v16 : Ref sig .tc := ⟨.hbm, 7776, rfl⟩
abbrev main_call16_call1_v17 : Ref sig .tc := ⟨.hbm, 7777, rfl⟩
abbrev main_call16_call1_v18 : Ref sig .tc := ⟨.hbm, 7778, rfl⟩
abbrev main_call16_call1_v19 : Ref sig .tc := ⟨.hbm, 7779, rfl⟩
abbrev main_call16_call1_v20 : Ref sig .tc := ⟨.hbm, 7780, rfl⟩
abbrev main_call16_call1_c_4 : Ref sig .tc := ⟨.hbm, 7781, rfl⟩
abbrev main_call16_call1_v21 : Ref sig .tc := ⟨.hbm, 7782, rfl⟩
abbrev main_call16_call1_v22 : Ref sig .tc := ⟨.hbm, 7783, rfl⟩
abbrev main_call16_call1_c_5 : Ref sig .tc := ⟨.hbm, 7784, rfl⟩
abbrev main_call16_call1_v23 : Ref sig .tc := ⟨.hbm, 7785, rfl⟩
abbrev main_call16_call1_v24 : Ref sig .tc := ⟨.hbm, 7786, rfl⟩
abbrev main_call16_call1_v25 : Ref sig .tc := ⟨.hbm, 7787, rfl⟩
abbrev main_call16_call1_v26 : Ref sig .tc := ⟨.hbm, 7788, rfl⟩
abbrev main_call16_call1_v27 : Ref sig .tc := ⟨.hbm, 7789, rfl⟩
abbrev main_call16_call1_c_6 : Ref sig .tc := ⟨.hbm, 7790, rfl⟩
abbrev main_call16_call1_v28 : Ref sig .tc := ⟨.hbm, 7791, rfl⟩
abbrev main_call16_call1_v29 : Ref sig .tc := ⟨.hbm, 7792, rfl⟩
abbrev main_call16_call1_c_7 : Ref sig .tc := ⟨.hbm, 7793, rfl⟩
abbrev main_call16_call1_v30 : Ref sig .tc := ⟨.hbm, 7794, rfl⟩
abbrev main_call16_call1_v31 : Ref sig .tc := ⟨.hbm, 7795, rfl⟩
abbrev main_call16_call1_v32 : Ref sig .tc := ⟨.hbm, 7796, rfl⟩
abbrev main_call16_call1_v33 : Ref sig .tc := ⟨.hbm, 7797, rfl⟩
abbrev main_call16_call1_v34 : Ref sig .tc := ⟨.hbm, 7798, rfl⟩
abbrev main_call16_call1_v35 : Ref sig .tc := ⟨.hbm, 7799, rfl⟩
abbrev main_call16_call1_v36 : Ref sig .tc := ⟨.hbm, 7800, rfl⟩
abbrev main_call16_call1_v37 : Ref sig .tc := ⟨.hbm, 7801, rfl⟩
abbrev main_call16_call1_c_8 : Ref sig .tc := ⟨.hbm, 7802, rfl⟩
abbrev main_call16_call1_v38 : Ref sig .tc := ⟨.hbm, 7803, rfl⟩
abbrev main_call16_call1_v39 : Ref sig .tc := ⟨.hbm, 7804, rfl⟩
abbrev main_call16_call1_v40 : Ref sig .tc := ⟨.hbm, 7805, rfl⟩
abbrev main_call16_call1_c_9 : Ref sig .tc := ⟨.hbm, 7806, rfl⟩
abbrev main_call16_call1_v41 : Ref sig .tc := ⟨.hbm, 7807, rfl⟩
abbrev main_call16_call1_v42 : Ref sig .tc := ⟨.hbm, 7808, rfl⟩
abbrev main_call16_call1_c_10 : Ref sig .tc := ⟨.hbm, 7809, rfl⟩
abbrev main_call16_call1_v43 : Ref sig .tc := ⟨.hbm, 7810, rfl⟩
abbrev main_call16_call1_v44 : Ref sig .tc := ⟨.hbm, 7811, rfl⟩
abbrev main_call16_call1_v45 : Ref sig .tc := ⟨.hbm, 7812, rfl⟩
abbrev main_call16_call1_v46 : Ref sig .tc := ⟨.hbm, 7813, rfl⟩
abbrev main_call16_call1_v47 : Ref sig .tc := ⟨.hbm, 7814, rfl⟩
abbrev main_call16_call1_c_11 : Ref sig .tc := ⟨.hbm, 7815, rfl⟩
abbrev main_call16_call1_v48 : Ref sig .tc := ⟨.hbm, 7816, rfl⟩
abbrev main_call16_call1_v49 : Ref sig .tc := ⟨.hbm, 7817, rfl⟩
abbrev main_call16_call1_c_12 : Ref sig .tc := ⟨.hbm, 7818, rfl⟩
abbrev main_call16_call1_v50 : Ref sig .tc := ⟨.hbm, 7819, rfl⟩
abbrev main_call16_call1_v51 : Ref sig .tc := ⟨.hbm, 7820, rfl⟩
abbrev main_call16_call1_v52 : Ref sig .tc := ⟨.hbm, 7821, rfl⟩
abbrev main_call16_call1_v53 : Ref sig .tc := ⟨.hbm, 7822, rfl⟩
abbrev main_call16_call1_v54 : Ref sig .tc := ⟨.hbm, 7823, rfl⟩
abbrev main_call16_call1_c_13 : Ref sig .tc := ⟨.hbm, 7824, rfl⟩
abbrev main_call16_call1_v55 : Ref sig .tc := ⟨.hbm, 7825, rfl⟩
abbrev main_call16_call1_v56 : Ref sig .tc := ⟨.hbm, 7826, rfl⟩
abbrev main_call16_call1_c_14 : Ref sig .tc := ⟨.hbm, 7827, rfl⟩
abbrev main_call16_call1_v57 : Ref sig .tc := ⟨.hbm, 7828, rfl⟩
abbrev main_call16_call1_v58 : Ref sig .tc := ⟨.hbm, 7829, rfl⟩
abbrev main_call16_call1_v59 : Ref sig .tc := ⟨.hbm, 7830, rfl⟩
abbrev main_call16_call1_v60 : Ref sig .tc := ⟨.hbm, 7831, rfl⟩
abbrev main_call16_call1_v61 : Ref sig .tc := ⟨.hbm, 7832, rfl⟩
abbrev main_call16_call1_c_15 : Ref sig .tc := ⟨.hbm, 7833, rfl⟩
abbrev main_call16_call1_v62 : Ref sig .tc := ⟨.hbm, 7834, rfl⟩
abbrev main_call16_call1_v63 : Ref sig .tc := ⟨.hbm, 7835, rfl⟩
abbrev main_call16_call1_c_16 : Ref sig .tc := ⟨.hbm, 7836, rfl⟩
abbrev main_call16_call1_v64 : Ref sig .tc := ⟨.hbm, 7837, rfl⟩
abbrev main_call16_call1_v65 : Ref sig .tc := ⟨.hbm, 7838, rfl⟩
abbrev main_call16_call1_v66 : Ref sig .tc := ⟨.hbm, 7839, rfl⟩
abbrev main_call16_call1_v67 : Ref sig .tc := ⟨.hbm, 7840, rfl⟩
abbrev main_call16_call1_v68 : Ref sig .tc := ⟨.hbm, 7841, rfl⟩
abbrev main_call16_call1_v69 : Ref sig .tc := ⟨.hbm, 7842, rfl⟩
abbrev main_call16_call1_v70 : Ref sig .tc := ⟨.hbm, 7843, rfl⟩
abbrev main_call16_call1_v71 : Ref sig .tc := ⟨.hbm, 7844, rfl⟩
abbrev main_call16_call1_c_17 : Ref sig .tc := ⟨.hbm, 7845, rfl⟩
abbrev main_call16_call1_v72 : Ref sig .tc := ⟨.hbm, 7846, rfl⟩
abbrev main_call16_call1_v73 : Ref sig .tc := ⟨.hbm, 7847, rfl⟩
abbrev main_call16_call1_v74 : Ref sig .tc := ⟨.hbm, 7848, rfl⟩
abbrev main_call16_call1_c_18 : Ref sig .tc := ⟨.hbm, 7849, rfl⟩
abbrev main_call16_call1_v75 : Ref sig .tc := ⟨.hbm, 7850, rfl⟩
abbrev main_call16_call1_v76 : Ref sig .tc := ⟨.hbm, 7851, rfl⟩
abbrev main_call16_call1_c_19 : Ref sig .tc := ⟨.hbm, 7852, rfl⟩
abbrev main_call16_call1_v77 : Ref sig .tc := ⟨.hbm, 7853, rfl⟩
abbrev main_call16_call1_v78 : Ref sig .tc := ⟨.hbm, 7854, rfl⟩
abbrev main_call16_call1_v79 : Ref sig .tc := ⟨.hbm, 7855, rfl⟩
abbrev main_call16_call1_v80 : Ref sig .tc := ⟨.hbm, 7856, rfl⟩
abbrev main_call16_call1_v81 : Ref sig .tc := ⟨.hbm, 7857, rfl⟩
abbrev main_call16_call1_c_20 : Ref sig .tc := ⟨.hbm, 7858, rfl⟩
abbrev main_call16_call1_v82 : Ref sig .tc := ⟨.hbm, 7859, rfl⟩
abbrev main_call16_call1_v83 : Ref sig .tc := ⟨.hbm, 7860, rfl⟩
abbrev main_call16_call1_c_21 : Ref sig .tc := ⟨.hbm, 7861, rfl⟩
abbrev main_call16_call1_v84 : Ref sig .tc := ⟨.hbm, 7862, rfl⟩
abbrev main_call16_call1_v85 : Ref sig .tc := ⟨.hbm, 7863, rfl⟩
abbrev main_call16_call1_v86 : Ref sig .tc := ⟨.hbm, 7864, rfl⟩
abbrev main_call16_call1_v87 : Ref sig .tc := ⟨.hbm, 7865, rfl⟩
abbrev main_call16_call1_v88 : Ref sig .tc := ⟨.hbm, 7866, rfl⟩
abbrev main_call16_call1_c_22 : Ref sig .tc := ⟨.hbm, 7867, rfl⟩
abbrev main_call16_call1_v89 : Ref sig .tc := ⟨.hbm, 7868, rfl⟩
abbrev main_call16_call1_v90 : Ref sig .tc := ⟨.hbm, 7869, rfl⟩
abbrev main_call16_call1_c_23 : Ref sig .tc := ⟨.hbm, 7870, rfl⟩
abbrev main_call16_call1_v91 : Ref sig .tc := ⟨.hbm, 7871, rfl⟩
abbrev main_call16_call1_v92 : Ref sig .tc := ⟨.hbm, 7872, rfl⟩
abbrev main_call16_call1_v93 : Ref sig .tc := ⟨.hbm, 7873, rfl⟩
abbrev main_call16_call1_v94 : Ref sig .tc := ⟨.hbm, 7874, rfl⟩
abbrev main_call16_call1_v95 : Ref sig .tc := ⟨.hbm, 7875, rfl⟩
abbrev main_call16_call1_c_24 : Ref sig .tc := ⟨.hbm, 7876, rfl⟩
abbrev main_call16_call1_v96 : Ref sig .tc := ⟨.hbm, 7877, rfl⟩
abbrev main_call16_call1_v97 : Ref sig .tc := ⟨.hbm, 7878, rfl⟩
abbrev main_call16_call1_c_25 : Ref sig .tc := ⟨.hbm, 7879, rfl⟩
abbrev main_call16_call1_v98 : Ref sig .tc := ⟨.hbm, 7880, rfl⟩
abbrev main_call16_call1_v99 : Ref sig .tc := ⟨.hbm, 7881, rfl⟩
abbrev main_call16_call1_v100 : Ref sig .tc := ⟨.hbm, 7882, rfl⟩
abbrev main_call16_call1_v101 : Ref sig .tc := ⟨.hbm, 7883, rfl⟩
abbrev main_call16_call1_v102 : Ref sig .tc := ⟨.hbm, 7884, rfl⟩
abbrev main_call16_call1_v103 : Ref sig .tc := ⟨.hbm, 7885, rfl⟩
abbrev main_call16_call1_v104 : Ref sig .tc := ⟨.hbm, 7886, rfl⟩
abbrev main_call16_call1_v105 : Ref sig .tc := ⟨.hbm, 7887, rfl⟩
abbrev main_call16_call1_c_26 : Ref sig .tc := ⟨.hbm, 7888, rfl⟩
abbrev main_call16_call1_v106 : Ref sig .tc := ⟨.hbm, 7889, rfl⟩
abbrev main_call16_call1_v107 : Ref sig .tc := ⟨.hbm, 7890, rfl⟩
abbrev main_call16_call1_v108 : Ref sig .tc := ⟨.hbm, 7891, rfl⟩
abbrev main_call16_call1_c_27 : Ref sig .tc := ⟨.hbm, 7892, rfl⟩
abbrev main_call16_call1_v109 : Ref sig .tc := ⟨.hbm, 7893, rfl⟩
abbrev main_call16_call1_v110 : Ref sig .tc := ⟨.hbm, 7894, rfl⟩
abbrev main_call16_call1_c_28 : Ref sig .tc := ⟨.hbm, 7895, rfl⟩
abbrev main_call16_call1_v111 : Ref sig .tc := ⟨.hbm, 7896, rfl⟩
abbrev main_call16_call1_v112 : Ref sig .tc := ⟨.hbm, 7897, rfl⟩
abbrev main_call16_call1_v113 : Ref sig .tc := ⟨.hbm, 7898, rfl⟩
abbrev main_call16_call1_v114 : Ref sig .tc := ⟨.hbm, 7899, rfl⟩
abbrev main_call16_call1_v115 : Ref sig .tc := ⟨.hbm, 7900, rfl⟩
abbrev main_call16_call1_c_29 : Ref sig .tc := ⟨.hbm, 7901, rfl⟩
abbrev main_call16_call1_v116 : Ref sig .tc := ⟨.hbm, 7902, rfl⟩
abbrev main_call16_call1_v117 : Ref sig .tc := ⟨.hbm, 7903, rfl⟩
abbrev main_call16_call1_c_30 : Ref sig .tc := ⟨.hbm, 7904, rfl⟩
abbrev main_call16_call1_v118 : Ref sig .tc := ⟨.hbm, 7905, rfl⟩
abbrev main_call16_call1_v119 : Ref sig .tc := ⟨.hbm, 7906, rfl⟩
abbrev main_call16_call1_v120 : Ref sig .tc := ⟨.hbm, 7907, rfl⟩
abbrev main_call16_call1_v121 : Ref sig .tc := ⟨.hbm, 7908, rfl⟩
abbrev main_call16_call1_v122 : Ref sig .tc := ⟨.hbm, 7909, rfl⟩
abbrev main_call16_call1_c_31 : Ref sig .tc := ⟨.hbm, 7910, rfl⟩
abbrev main_call16_call1_v123 : Ref sig .tc := ⟨.hbm, 7911, rfl⟩
abbrev main_call16_call1_v124 : Ref sig .tc := ⟨.hbm, 7912, rfl⟩
abbrev main_call16_call1_c_32 : Ref sig .tc := ⟨.hbm, 7913, rfl⟩
abbrev main_call16_call1_v125 : Ref sig .tc := ⟨.hbm, 7914, rfl⟩
abbrev main_call16_call1_v126 : Ref sig .tc := ⟨.hbm, 7915, rfl⟩
abbrev main_call16_call1_v127 : Ref sig .tc := ⟨.hbm, 7916, rfl⟩
abbrev main_call16_call1_v128 : Ref sig .tc := ⟨.hbm, 7917, rfl⟩
abbrev main_call16_call1_v129 : Ref sig .tc := ⟨.hbm, 7918, rfl⟩
abbrev main_call16_call1_c_33 : Ref sig .tc := ⟨.hbm, 7919, rfl⟩
abbrev main_call16_call1_v130 : Ref sig .tc := ⟨.hbm, 7920, rfl⟩
abbrev main_call16_call1_v131 : Ref sig .tc := ⟨.hbm, 7921, rfl⟩
abbrev main_call16_call1_c_34 : Ref sig .tc := ⟨.hbm, 7922, rfl⟩
abbrev main_call16_call1_v132 : Ref sig .tc := ⟨.hbm, 7923, rfl⟩
abbrev main_call16_call1_v133 : Ref sig .tc := ⟨.hbm, 7924, rfl⟩
abbrev main_call16_call1_v134 : Ref sig .tc := ⟨.hbm, 7925, rfl⟩
abbrev main_call16_call1_v135 : Ref sig .tc := ⟨.hbm, 7926, rfl⟩
abbrev main_call16_call1_v136 : Ref sig .tc := ⟨.hbm, 7927, rfl⟩
abbrev main_call16_call1_v137 : Ref sig .tc := ⟨.hbm, 7928, rfl⟩
abbrev main_call16_call1_v138 : Ref sig .tc := ⟨.hbm, 7929, rfl⟩
abbrev main_call16_call1_v139 : Ref sig .tc := ⟨.hbm, 7930, rfl⟩
abbrev main_call16_call1_c_35 : Ref sig .tc := ⟨.hbm, 7931, rfl⟩
abbrev main_call16_call1_v140 : Ref sig .tc := ⟨.hbm, 7932, rfl⟩
abbrev main_call16_call1_v141 : Ref sig .tc := ⟨.hbm, 7933, rfl⟩
abbrev main_call16_call1_v142 : Ref sig .tc := ⟨.hbm, 7934, rfl⟩
abbrev main_call16_call1_c_36 : Ref sig .tc := ⟨.hbm, 7935, rfl⟩
abbrev main_call16_call1_v143 : Ref sig .tc := ⟨.hbm, 7936, rfl⟩
abbrev main_call16_call1_v144 : Ref sig .tc := ⟨.hbm, 7937, rfl⟩
abbrev main_call16_call1_c_37 : Ref sig .tc := ⟨.hbm, 7938, rfl⟩
abbrev main_call16_call1_v145 : Ref sig .tc := ⟨.hbm, 7939, rfl⟩
abbrev main_call16_call1_v146 : Ref sig .tc := ⟨.hbm, 7940, rfl⟩
abbrev main_call16_call1_v147 : Ref sig .tc := ⟨.hbm, 7941, rfl⟩
abbrev main_call16_call1_v148 : Ref sig .tc := ⟨.hbm, 7942, rfl⟩
abbrev main_call16_call1_v149 : Ref sig .tc := ⟨.hbm, 7943, rfl⟩
abbrev main_call16_call1_c_38 : Ref sig .tc := ⟨.hbm, 7944, rfl⟩
abbrev main_call16_call1_v150 : Ref sig .tc := ⟨.hbm, 7945, rfl⟩
abbrev main_call16_call1_v151 : Ref sig .tc := ⟨.hbm, 7946, rfl⟩
abbrev main_call16_call1_c_39 : Ref sig .tc := ⟨.hbm, 7947, rfl⟩
abbrev main_call16_call1_v152 : Ref sig .tc := ⟨.hbm, 7948, rfl⟩
abbrev main_call16_call1_v153 : Ref sig .tc := ⟨.hbm, 7949, rfl⟩
abbrev main_call16_call1_v154 : Ref sig .tc := ⟨.hbm, 7950, rfl⟩
abbrev main_call16_call1_v155 : Ref sig .tc := ⟨.hbm, 7951, rfl⟩
abbrev main_call16_call1_v156 : Ref sig .tc := ⟨.hbm, 7952, rfl⟩
abbrev main_call16_call1_c_40 : Ref sig .tc := ⟨.hbm, 7953, rfl⟩
abbrev main_call16_call1_v157 : Ref sig .tc := ⟨.hbm, 7954, rfl⟩
abbrev main_call16_call1_v158 : Ref sig .tc := ⟨.hbm, 7955, rfl⟩
abbrev main_call16_call1_c_41 : Ref sig .tc := ⟨.hbm, 7956, rfl⟩
abbrev main_call16_call1_v159 : Ref sig .tc := ⟨.hbm, 7957, rfl⟩
abbrev main_call16_call1_v160 : Ref sig .tc := ⟨.hbm, 7958, rfl⟩
abbrev main_call16_call1_v161 : Ref sig .tc := ⟨.hbm, 7959, rfl⟩
abbrev main_call16_call1_v162 : Ref sig .tc := ⟨.hbm, 7960, rfl⟩
abbrev main_call16_call1_v163 : Ref sig .tc := ⟨.hbm, 7961, rfl⟩
abbrev main_call16_call1_c_42 : Ref sig .tc := ⟨.hbm, 7962, rfl⟩
abbrev main_call16_call1_v164 : Ref sig .tc := ⟨.hbm, 7963, rfl⟩
abbrev main_call16_call1_v165 : Ref sig .tc := ⟨.hbm, 7964, rfl⟩
abbrev main_call16_call1_c_43 : Ref sig .tc := ⟨.hbm, 7965, rfl⟩
abbrev main_call16_call1_v166 : Ref sig .tc := ⟨.hbm, 7966, rfl⟩
abbrev main_call16_call1_v167 : Ref sig .tc := ⟨.hbm, 7967, rfl⟩
abbrev main_call16_call1_v168 : Ref sig .tc := ⟨.hbm, 7968, rfl⟩
abbrev main_call16_call1_v169 : Ref sig .tc := ⟨.hbm, 7969, rfl⟩
abbrev main_call16_call1_v170 : Ref sig .tc := ⟨.hbm, 7970, rfl⟩
abbrev main_call16_v16_0 : Ref sig .tc := ⟨.hbm, 7971, rfl⟩
abbrev main_call16_call1_v172 : Ref sig .tc := ⟨.hbm, 7972, rfl⟩
abbrev main_call16_call1_v173 : Ref sig .tc := ⟨.hbm, 7973, rfl⟩
abbrev main_call16_call1_c_44 : Ref sig .tc := ⟨.hbm, 7974, rfl⟩
abbrev main_call16_call1_v174 : Ref sig .tc := ⟨.hbm, 7975, rfl⟩
abbrev main_call16_v16_1 : Ref sig .tc := ⟨.hbm, 7976, rfl⟩
abbrev main_call16_v17 : Ref sig .tc := ⟨.hbm, 7977, rfl⟩
abbrev main_call16_v18_0 : Ref sig .tc := ⟨.hbm, 7978, rfl⟩
abbrev main_v74 : Ref sig .tc := ⟨.hbm, 7979, rfl⟩
abbrev main_v75 : Ref sig .tc := ⟨.hbm, 7980, rfl⟩
abbrev main_v76 : Ref sig .tc := ⟨.hbm, 7981, rfl⟩
abbrev main_v77 : Ref sig .tc := ⟨.hbm, 7982, rfl⟩
abbrev main_v78 : Ref sig .tc := ⟨.hbm, 7983, rfl⟩
abbrev main_v79 : Ref sig .tc := ⟨.hbm, 7984, rfl⟩
abbrev main_v80 : Ref sig .tc := ⟨.hbm, 7985, rfl⟩
abbrev main_v81 : Ref sig .tc := ⟨.hbm, 7986, rfl⟩
abbrev main_v82 : Ref sig .tc := ⟨.hbm, 7987, rfl⟩
abbrev main_v83 : Ref sig .tc := ⟨.hbm, 7988, rfl⟩
abbrev main_v84 : Ref sig .tc := ⟨.hbm, 7989, rfl⟩
abbrev main_v85 : Ref sig .tc := ⟨.hbm, 7990, rfl⟩
abbrev main_v86 : Ref sig .tc := ⟨.hbm, 7991, rfl⟩
abbrev main_v87 : Ref sig .tc := ⟨.hbm, 7992, rfl⟩
abbrev main_v88 : Ref sig .tc := ⟨.hbm, 7993, rfl⟩
abbrev main_v89 : Ref sig .tc := ⟨.hbm, 7994, rfl⟩
abbrev main_v90 : Ref sig .tc := ⟨.hbm, 7995, rfl⟩
abbrev main_v91 : Ref sig .tc := ⟨.hbm, 7996, rfl⟩
abbrev main_v92 : Ref sig .tc := ⟨.hbm, 7997, rfl⟩
abbrev main_v93 : Ref sig .tc := ⟨.hbm, 7998, rfl⟩
abbrev main_v94 : Ref sig .tc := ⟨.hbm, 7999, rfl⟩
abbrev main_v95 : Ref sig .tc := ⟨.hbm, 8000, rfl⟩
abbrev main_c_2 : Ref sig .tc := ⟨.hbm, 8001, rfl⟩
abbrev main_v96 : Ref sig .tc := ⟨.hbm, 8002, rfl⟩
abbrev main_v97 : Ref sig .tc := ⟨.hbm, 8003, rfl⟩
abbrev main_c_3 : Ref sig .tc := ⟨.hbm, 8004, rfl⟩
abbrev main_v98 : Ref sig .tc := ⟨.hbm, 8005, rfl⟩
abbrev main_v99 : Ref sig .tc := ⟨.hbm, 8006, rfl⟩
abbrev main_v100 : Ref sig .tc := ⟨.hbm, 8007, rfl⟩
abbrev main_v101 : Ref sig .tc := ⟨.hbm, 8008, rfl⟩
abbrev main_v102 : Ref sig .tc := ⟨.hbm, 8009, rfl⟩
abbrev main_v103 : Ref sig .tc := ⟨.hbm, 8010, rfl⟩
abbrev main_v104 : Ref sig .tc := ⟨.hbm, 8011, rfl⟩
abbrev main_v105 : Ref sig .tc := ⟨.hbm, 8012, rfl⟩
abbrev main_v106 : Ref sig .tc := ⟨.hbm, 8013, rfl⟩
abbrev main_c_4 : Ref sig .tc := ⟨.hbm, 8014, rfl⟩
abbrev main_v107 : Ref sig .tc := ⟨.hbm, 8015, rfl⟩
abbrev main_v108 : Ref sig .tc := ⟨.hbm, 8016, rfl⟩
abbrev main_c_5 : Ref sig .tc := ⟨.hbm, 8017, rfl⟩
abbrev main_v109 : Ref sig .tc := ⟨.hbm, 8018, rfl⟩
abbrev main_v110 : Ref sig .tc := ⟨.hbm, 8019, rfl⟩
abbrev main_v111 : Ref sig .tc := ⟨.hbm, 8020, rfl⟩
abbrev main_v112 : Ref sig .tc := ⟨.hbm, 8021, rfl⟩
abbrev main_v113 : Ref sig .tc := ⟨.hbm, 8022, rfl⟩
abbrev main_v114 : Ref sig .tc := ⟨.hbm, 8023, rfl⟩
abbrev main_v115 : Ref sig .tc := ⟨.hbm, 8024, rfl⟩
abbrev main_v116 : Ref sig .tc := ⟨.hbm, 8025, rfl⟩
abbrev main_v117 : Ref sig .tc := ⟨.hbm, 8026, rfl⟩
abbrev main_c_6 : Ref sig .tc := ⟨.hbm, 8027, rfl⟩
abbrev main_v118 : Ref sig .tc := ⟨.hbm, 8028, rfl⟩
abbrev main_v119 : Ref sig .tc := ⟨.hbm, 8029, rfl⟩
abbrev main_c_7 : Ref sig .tc := ⟨.hbm, 8030, rfl⟩
abbrev main_v120 : Ref sig .tc := ⟨.hbm, 8031, rfl⟩
abbrev main_v121 : Ref sig .tc := ⟨.hbm, 8032, rfl⟩
abbrev main_v122 : Ref sig .tc := ⟨.hbm, 8033, rfl⟩
abbrev main_v123 : Ref sig .tc := ⟨.hbm, 8034, rfl⟩
abbrev main_v124 : Ref sig .tc := ⟨.hbm, 8035, rfl⟩
abbrev main_v125 : Ref sig .tc := ⟨.hbm, 8036, rfl⟩
abbrev main_v126 : Ref sig .tc := ⟨.hbm, 8037, rfl⟩
abbrev main_v127 : Ref sig .tc := ⟨.hbm, 8038, rfl⟩
abbrev main_v128 : Ref sig .tc := ⟨.hbm, 8039, rfl⟩
abbrev main_c_8 : Ref sig .tc := ⟨.hbm, 8040, rfl⟩
abbrev main_v129 : Ref sig .tc := ⟨.hbm, 8041, rfl⟩
abbrev main_v130 : Ref sig .tc := ⟨.hbm, 8042, rfl⟩
abbrev main_c_9 : Ref sig .tc := ⟨.hbm, 8043, rfl⟩
abbrev main_v131 : Ref sig .tc := ⟨.hbm, 8044, rfl⟩
abbrev main_v132 : Ref sig .tc := ⟨.hbm, 8045, rfl⟩
abbrev main_v133 : Ref sig .tc := ⟨.hbm, 8046, rfl⟩
abbrev main_v134 : Ref sig .tc := ⟨.hbm, 8047, rfl⟩
abbrev main_v135 : Ref sig .tc := ⟨.hbm, 8048, rfl⟩
abbrev main_v136 : Ref sig .tc := ⟨.hbm, 8049, rfl⟩
abbrev main_v137 : Ref sig .tc := ⟨.hbm, 8050, rfl⟩
abbrev main_v138 : Ref sig .tc := ⟨.hbm, 8051, rfl⟩
abbrev main_v139 : Ref sig .tc := ⟨.hbm, 8052, rfl⟩
abbrev main_c_10 : Ref sig .tc := ⟨.hbm, 8053, rfl⟩
abbrev main_v140 : Ref sig .tc := ⟨.hbm, 8054, rfl⟩
abbrev main_v141 : Ref sig .tc := ⟨.hbm, 8055, rfl⟩
abbrev main_c_11 : Ref sig .tc := ⟨.hbm, 8056, rfl⟩
abbrev main_v142 : Ref sig .tc := ⟨.hbm, 8057, rfl⟩
abbrev main_v143 : Ref sig .tc := ⟨.hbm, 8058, rfl⟩
abbrev main_v144 : Ref sig .tc := ⟨.hbm, 8059, rfl⟩
abbrev main_v145 : Ref sig .tc := ⟨.hbm, 8060, rfl⟩
abbrev main_v146 : Ref sig .tc := ⟨.hbm, 8061, rfl⟩
abbrev main_v147 : Ref sig .tc := ⟨.hbm, 8062, rfl⟩
abbrev main_v148 : Ref sig .tc := ⟨.hbm, 8063, rfl⟩
abbrev main_v149 : Ref sig .tc := ⟨.hbm, 8064, rfl⟩
abbrev main_v150 : Ref sig .tc := ⟨.hbm, 8065, rfl⟩
abbrev main_c_12 : Ref sig .tc := ⟨.hbm, 8066, rfl⟩
abbrev main_v151 : Ref sig .tc := ⟨.hbm, 8067, rfl⟩
abbrev main_v152 : Ref sig .tc := ⟨.hbm, 8068, rfl⟩
abbrev main_c_13 : Ref sig .tc := ⟨.hbm, 8069, rfl⟩
abbrev main_v153 : Ref sig .tc := ⟨.hbm, 8070, rfl⟩
abbrev main_v154 : Ref sig .tc := ⟨.hbm, 8071, rfl⟩
abbrev main_v155 : Ref sig .tc := ⟨.hbm, 8072, rfl⟩
abbrev main_v156 : Ref sig .tc := ⟨.hbm, 8073, rfl⟩
abbrev main_v157 : Ref sig .tc := ⟨.hbm, 8074, rfl⟩
abbrev main_v158 : Ref sig .tc := ⟨.hbm, 8075, rfl⟩
abbrev main_v159 : Ref sig .tc := ⟨.hbm, 8076, rfl⟩
abbrev main_v160 : Ref sig .tc := ⟨.hbm, 8077, rfl⟩
abbrev main_v161 : Ref sig .tc := ⟨.hbm, 8078, rfl⟩
abbrev main_c_14 : Ref sig .tc := ⟨.hbm, 8079, rfl⟩
abbrev main_v162 : Ref sig .tc := ⟨.hbm, 8080, rfl⟩
abbrev main_v163 : Ref sig .tc := ⟨.hbm, 8081, rfl⟩
abbrev main_c_15 : Ref sig .tc := ⟨.hbm, 8082, rfl⟩
abbrev main_v164 : Ref sig .tc := ⟨.hbm, 8083, rfl⟩
abbrev main_v165 : Ref sig .tc := ⟨.hbm, 8084, rfl⟩
abbrev main_v166 : Ref sig .tc := ⟨.hbm, 8085, rfl⟩
abbrev main_v167 : Ref sig .tc := ⟨.hbm, 8086, rfl⟩
abbrev main_v168 : Ref sig .tc := ⟨.hbm, 8087, rfl⟩
abbrev main_v169 : Ref sig .tc := ⟨.hbm, 8088, rfl⟩
abbrev main_v170 : Ref sig .tc := ⟨.hbm, 8089, rfl⟩
abbrev main_v171 : Ref sig .tc := ⟨.hbm, 8090, rfl⟩
abbrev main_v172 : Ref sig .tc := ⟨.hbm, 8091, rfl⟩
abbrev main_c_16 : Ref sig .tc := ⟨.hbm, 8092, rfl⟩
abbrev main_v173 : Ref sig .tc := ⟨.hbm, 8093, rfl⟩
abbrev main_v174 : Ref sig .tc := ⟨.hbm, 8094, rfl⟩
abbrev main_c_17 : Ref sig .tc := ⟨.hbm, 8095, rfl⟩
abbrev main_v175 : Ref sig .tc := ⟨.hbm, 8096, rfl⟩
abbrev main_v176 : Ref sig .tc := ⟨.hbm, 8097, rfl⟩
abbrev main_v177 : Ref sig .tc := ⟨.hbm, 8098, rfl⟩
abbrev main_v178 : Ref sig .tc := ⟨.hbm, 8099, rfl⟩
abbrev main_v179 : Ref sig .tc := ⟨.hbm, 8100, rfl⟩
abbrev main_v180 : Ref sig .tc := ⟨.hbm, 8101, rfl⟩
abbrev main_v181 : Ref sig .tc := ⟨.hbm, 8102, rfl⟩
abbrev main_v182 : Ref sig .tc := ⟨.hbm, 8103, rfl⟩
abbrev main_v183 : Ref sig .tc := ⟨.hbm, 8104, rfl⟩
abbrev main_c_18 : Ref sig .tc := ⟨.hbm, 8105, rfl⟩
abbrev main_v184 : Ref sig .tc := ⟨.hbm, 8106, rfl⟩
abbrev main_v185 : Ref sig .tc := ⟨.hbm, 8107, rfl⟩
abbrev main_c_19 : Ref sig .tc := ⟨.hbm, 8108, rfl⟩
abbrev main_v186 : Ref sig .tc := ⟨.hbm, 8109, rfl⟩
abbrev main_v187 : Ref sig .tc := ⟨.hbm, 8110, rfl⟩
abbrev main_v188 : Ref sig .tc := ⟨.hbm, 8111, rfl⟩
abbrev main_v189 : Ref sig .tc := ⟨.hbm, 8112, rfl⟩
abbrev main_v190 : Ref sig .tc := ⟨.hbm, 8113, rfl⟩
abbrev main_v191 : Ref sig .tc := ⟨.hbm, 8114, rfl⟩
abbrev main_v192 : Ref sig .tc := ⟨.hbm, 8115, rfl⟩
abbrev main_v193 : Ref sig .tc := ⟨.hbm, 8116, rfl⟩
abbrev main_v194 : Ref sig .tc := ⟨.hbm, 8117, rfl⟩
abbrev main_c_20 : Ref sig .tc := ⟨.hbm, 8118, rfl⟩
abbrev main_v195 : Ref sig .tc := ⟨.hbm, 8119, rfl⟩
abbrev main_v196 : Ref sig .tc := ⟨.hbm, 8120, rfl⟩
abbrev main_c_21 : Ref sig .tc := ⟨.hbm, 8121, rfl⟩
abbrev main_v197 : Ref sig .tc := ⟨.hbm, 8122, rfl⟩
abbrev main_v198 : Ref sig .tc := ⟨.hbm, 8123, rfl⟩
abbrev main_v199 : Ref sig .tc := ⟨.hbm, 8124, rfl⟩
abbrev main_v200 : Ref sig .tc := ⟨.hbm, 8125, rfl⟩
abbrev main_v201 : Ref sig .tc := ⟨.hbm, 8126, rfl⟩
abbrev main_v202 : Ref sig .tc := ⟨.hbm, 8127, rfl⟩
abbrev main_v203 : Ref sig .tc := ⟨.hbm, 8128, rfl⟩
abbrev main_v204 : Ref sig .tc := ⟨.hbm, 8129, rfl⟩
abbrev main_v205 : Ref sig .tc := ⟨.hbm, 8130, rfl⟩
abbrev main_c_22 : Ref sig .tc := ⟨.hbm, 8131, rfl⟩
abbrev main_v206 : Ref sig .tc := ⟨.hbm, 8132, rfl⟩
abbrev main_v207 : Ref sig .tc := ⟨.hbm, 8133, rfl⟩
abbrev main_c_23 : Ref sig .tc := ⟨.hbm, 8134, rfl⟩
abbrev main_v208 : Ref sig .tc := ⟨.hbm, 8135, rfl⟩
abbrev main_v209 : Ref sig .tc := ⟨.hbm, 8136, rfl⟩
abbrev main_v210 : Ref sig .tc := ⟨.hbm, 8137, rfl⟩
abbrev main_v211 : Ref sig .tc := ⟨.hbm, 8138, rfl⟩
abbrev main_v212 : Ref sig .tc := ⟨.hbm, 8139, rfl⟩
abbrev main_v213 : Ref sig .tc := ⟨.hbm, 8140, rfl⟩
abbrev main_v214 : Ref sig .tc := ⟨.hbm, 8141, rfl⟩
abbrev main_v215 : Ref sig .tc := ⟨.hbm, 8142, rfl⟩
abbrev main_v216 : Ref sig .tc := ⟨.hbm, 8143, rfl⟩
abbrev main_c_24 : Ref sig .tc := ⟨.hbm, 8144, rfl⟩
abbrev main_v217 : Ref sig .tc := ⟨.hbm, 8145, rfl⟩
abbrev main_v218 : Ref sig .tc := ⟨.hbm, 8146, rfl⟩
abbrev main_c_25 : Ref sig .tc := ⟨.hbm, 8147, rfl⟩
abbrev main_v219 : Ref sig .tc := ⟨.hbm, 8148, rfl⟩
abbrev main_v220 : Ref sig .tc := ⟨.hbm, 8149, rfl⟩
abbrev main_v221 : Ref sig .tc := ⟨.hbm, 8150, rfl⟩
abbrev main_v222 : Ref sig .tc := ⟨.hbm, 8151, rfl⟩
abbrev main_v223 : Ref sig .tc := ⟨.hbm, 8152, rfl⟩
abbrev main_v224 : Ref sig .tc := ⟨.hbm, 8153, rfl⟩
abbrev main_v225 : Ref sig .tc := ⟨.hbm, 8154, rfl⟩
abbrev main_v226 : Ref sig .tc := ⟨.hbm, 8155, rfl⟩
abbrev main_v227 : Ref sig .tc := ⟨.hbm, 8156, rfl⟩
abbrev main_c_26 : Ref sig .tc := ⟨.hbm, 8157, rfl⟩
abbrev main_v228 : Ref sig .tc := ⟨.hbm, 8158, rfl⟩
abbrev main_v229 : Ref sig .tc := ⟨.hbm, 8159, rfl⟩
abbrev main_c_27 : Ref sig .tc := ⟨.hbm, 8160, rfl⟩
abbrev main_v230 : Ref sig .tc := ⟨.hbm, 8161, rfl⟩
abbrev main_v231 : Ref sig .tc := ⟨.hbm, 8162, rfl⟩
abbrev main_v232 : Ref sig .tc := ⟨.hbm, 8163, rfl⟩
abbrev main_v233 : Ref sig .tc := ⟨.hbm, 8164, rfl⟩
abbrev main_v234 : Ref sig .tc := ⟨.hbm, 8165, rfl⟩
abbrev main_v235 : Ref sig .tc := ⟨.hbm, 8166, rfl⟩
abbrev main_v236 : Ref sig .tc := ⟨.hbm, 8167, rfl⟩
abbrev main_v237 : Ref sig .tc := ⟨.hbm, 8168, rfl⟩
abbrev main_v238 : Ref sig .tc := ⟨.hbm, 8169, rfl⟩
abbrev main_c_28 : Ref sig .tc := ⟨.hbm, 8170, rfl⟩
abbrev main_v239 : Ref sig .tc := ⟨.hbm, 8171, rfl⟩
abbrev main_v240 : Ref sig .tc := ⟨.hbm, 8172, rfl⟩
abbrev main_c_29 : Ref sig .tc := ⟨.hbm, 8173, rfl⟩
abbrev main_v241 : Ref sig .tc := ⟨.hbm, 8174, rfl⟩
abbrev main_v242 : Ref sig .tc := ⟨.hbm, 8175, rfl⟩
abbrev main_v243 : Ref sig .tc := ⟨.hbm, 8176, rfl⟩
abbrev main_v244 : Ref sig .tc := ⟨.hbm, 8177, rfl⟩
abbrev main_v245 : Ref sig .tc := ⟨.hbm, 8178, rfl⟩
abbrev main_v246 : Ref sig .tc := ⟨.hbm, 8179, rfl⟩
abbrev main_v247 : Ref sig .tc := ⟨.hbm, 8180, rfl⟩
abbrev main_v248 : Ref sig .tc := ⟨.hbm, 8181, rfl⟩
abbrev main_v249 : Ref sig .tc := ⟨.hbm, 8182, rfl⟩
abbrev main_c_30 : Ref sig .tc := ⟨.hbm, 8183, rfl⟩
abbrev main_v250 : Ref sig .tc := ⟨.hbm, 8184, rfl⟩
abbrev main_v251 : Ref sig .tc := ⟨.hbm, 8185, rfl⟩
abbrev main_c_31 : Ref sig .tc := ⟨.hbm, 8186, rfl⟩
abbrev main_v252 : Ref sig .tc := ⟨.hbm, 8187, rfl⟩
abbrev main_v253 : Ref sig .tc := ⟨.hbm, 8188, rfl⟩
abbrev main_v254 : Ref sig .tc := ⟨.hbm, 8189, rfl⟩
abbrev main_v255 : Ref sig .tc := ⟨.hbm, 8190, rfl⟩
abbrev main_v256 : Ref sig .tc := ⟨.hbm, 8191, rfl⟩
abbrev main_v257 : Ref sig .tc := ⟨.hbm, 8192, rfl⟩
abbrev main_v258 : Ref sig .tc := ⟨.hbm, 8193, rfl⟩
abbrev main_v259 : Ref sig .tc := ⟨.hbm, 8194, rfl⟩
abbrev main_v260 : Ref sig .tc := ⟨.hbm, 8195, rfl⟩
abbrev main_c_32 : Ref sig .tc := ⟨.hbm, 8196, rfl⟩
abbrev main_v261 : Ref sig .tc := ⟨.hbm, 8197, rfl⟩
abbrev main_v262 : Ref sig .tc := ⟨.hbm, 8198, rfl⟩
abbrev main_c_33 : Ref sig .tc := ⟨.hbm, 8199, rfl⟩
abbrev main_v263 : Ref sig .tc := ⟨.hbm, 8200, rfl⟩
abbrev main_v264 : Ref sig .tc := ⟨.hbm, 8201, rfl⟩
abbrev main_v265 : Ref sig .tc := ⟨.hbm, 8202, rfl⟩
abbrev main_v266 : Ref sig .tc := ⟨.hbm, 8203, rfl⟩
abbrev main_v267 : Ref sig .tc := ⟨.hbm, 8204, rfl⟩
abbrev main_v268 : Ref sig .tc := ⟨.hbm, 8205, rfl⟩
abbrev main_v269 : Ref sig .tc := ⟨.hbm, 8206, rfl⟩
abbrev main_v270 : Ref sig .tc := ⟨.hbm, 8207, rfl⟩
abbrev main_v271 : Ref sig .tc := ⟨.hbm, 8208, rfl⟩
abbrev main_v272 : Ref sig .tc := ⟨.hbm, 8209, rfl⟩
abbrev main_v273 : Ref sig .tc := ⟨.hbm, 8210, rfl⟩
abbrev main_v274 : Ref sig .tc := ⟨.hbm, 8211, rfl⟩
abbrev main_v275 : Ref sig .tc := ⟨.hbm, 8212, rfl⟩
abbrev main_v276 : Ref sig .tc := ⟨.hbm, 8213, rfl⟩
abbrev main_v277 : Ref sig .tc := ⟨.hbm, 8214, rfl⟩
abbrev main_v278 : Ref sig .tc := ⟨.hbm, 8215, rfl⟩
abbrev main_v279 : Ref sig .tc := ⟨.hbm, 8216, rfl⟩
abbrev main_v280 : Ref sig .tc := ⟨.hbm, 8217, rfl⟩
abbrev main_v281 : Ref sig .tc := ⟨.hbm, 8218, rfl⟩
abbrev main_v282 : Ref sig .tc := ⟨.hbm, 8219, rfl⟩
abbrev main_v283 : Ref sig .tc := ⟨.hbm, 8220, rfl⟩
abbrev main_v284 : Ref sig .tc := ⟨.hbm, 8221, rfl⟩
abbrev main_v285 : Ref sig .tc := ⟨.hbm, 8222, rfl⟩
abbrev main_v286 : Ref sig .tc := ⟨.hbm, 8223, rfl⟩
abbrev main_v287 : Ref sig .tc := ⟨.hbm, 8224, rfl⟩

abbrev nD : Nat := 1
abbrev τ : Topo := Topo.v7x

variable {F : FTy → Type} [FloatOps F]
-- ==== Proof.Setup.lean ====
/-
  The launch as its theorem wants it, and what the launch computes: the program's tables, the offsets of its copies in closed form, the part of the
  output one vector subcore writes, and the values it writes there.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.Pipeline.Kit
public import Idealize.ShloMosaic.Lib.ValueIdxCoords
public import Idealize.ShloMosaic.Lib.Tactic
public import proofs.«01_k».proof.Proof.Gen.KernelIdeal
public import proofs.«01_k».proof.Proof.Gen.KernelIdeal.Skeleton

@[expose] public section

noncomputable section

namespace Cert.Proof.Shuffle

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-! ## The program's tables -/

abbrev ΛP : Labels := Pipeline.Sig Λ₀ (Fin 0) fun p => (pcfgs (F := F) p).Adm
abbrev K : SparseCore.Cfg τ sig (ΛP (F := F)) 1 := sc (F := F)
/-- The call runs on sixteen vector subcores of each SparseCore. -/
theorem nSub_zero : (K (F := F)).nSub 0 = 16 := rfl
/-- The call runs on both SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the table of handshake cells. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, fun _ _ _ => rfl,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Which part of the output a subcore writes, and with what -/

abbrev pLoc (d : Dev nD) : Loc nD τ sig := (SparseCore.T d).loc main_arg0
abbrev iLoc (d : Dev nD) : Loc nD τ sig := (SparseCore.T d).loc main_v92
abbrev oLoc (d : Dev nD) : Loc nD τ sig := (SparseCore.T d).loc main_v93

/-- Where in the table of sources the source of an output element stands. -/
def srcAt (j : S16x96x224x224.Idx) : S64x16.Idx :=
  ix2 ⟨4 * (j 0).val + (j 2).val / 56, by have := (j 0).isLt; have := (j 2).isLt; simp [S16x96x224x224] at *; omega⟩
    ⟨(j 3).val / 56, by have := (j 3).isLt; simp [S16x96x224x224] at *; omega⟩

/-- What the launch writes: each element of the output is the same element of the image the table of sources names for its patch. -/
def outVal {α : Type} (p : S16x96x224x224.Idx → α) (t : S64x16.Idx → BitVec 32) (j : S16x96x224x224.Idx) : α :=
  p (ix4 (n0 := 16) (n1 := 96) (n2 := 224) (n3 := 224) ⟨(t (srcAt j)).toNat % 16, Nat.mod_lt _ (by decide)⟩ (j 1) (j 2) (j 3))

/-- The elements subcore `s` of core `c` writes: image `s`, rows `112 c` to `112 c + 111`. -/
def tileSet (c s : Nat) : Finset S16x96x224x224.Idx := Finset.univ.filter fun j => (j 0).val = s ∧ (j 2).val / 112 = c

/-- When a subcore writes an element: its trips are numbered 0 to 47, 24 groups of channels for each of its two rows of patches. -/
def turn (c : Nat) (j : S16x96x224x224.Idx) : Nat := 24 * ((j 2).val / 56 - 2 * c) + (j 1).val / 4

theorem mem_tileSet {c s : Nat} {j : S16x96x224x224.Idx} : j ∈ tileSet c s ↔ (j 0).val = s ∧ (j 2).val / 112 = c := by
  simp [tileSet]

/-! ## The offsets in closed form -/

section Offsets

variable (L : grid0.Coords)

/-- Where trip `k` of the first loop writes. -/
theorem off6_eq : ∀ (L : grid0.Coords) (k : Fin k0_t1_loop.trips), k0_off6 L k = ![(L 1).val, 4 * k.val, 112 * (L 0).val, 0] := by decide +kernel
/-- Where trip `k` of the second loop writes. -/
theorem off11_eq : ∀ (L : grid0.Coords) (k : Fin k0_t2_loop.trips), k0_off11 L k = ![(L 1).val, 4 * k.val, 112 * (L 0).val + 56, 0] := by decide +kernel
theorem off2_zero : ∀ (L : grid0.Coords) (k : Fin k0_t1_loop.trips), k0_off2 L k 0#32 = ![0, 4 * k.val, 112 * (L 0).val, 0] := by decide +kernel
theorem off7_zero : ∀ (L : grid0.Coords) (k : Fin k0_t2_loop.trips), k0_off7 L k 0#32 = ![0, 4 * k.val, 112 * (L 0).val + 56, 0] := by decide +kernel

theorem off_of_zero {f g : Fin 4 → Nat} {a b c e e' : Nat} (hg : g = ![0, b, c, e']) (h0 : f 0 = a) (h1 : f 1 = g 1) (h2 : f 2 = g 2) (h3 : f 3 = e) :
    f = ![a, b, c, e] := by
  subst hg; funext x
  match x with
  | 0 => exact h0
  | 1 => exact h1
  | 2 => exact h2
  | 3 => exact h3

/-- Where trip `k` of the first loop reads the four patches. -/
theorem off2_eq (k : Fin k0_t1_loop.trips) (v : BitVec 32) : k0_off2 L k v = ![v.toNat, 4 * k.val, 112 * (L 0).val, 0] := off_of_zero (off2_zero L k) rfl rfl rfl rfl
theorem off3_eq (k : Fin k0_t1_loop.trips) (v : BitVec 32) : k0_off3 L k v = ![v.toNat, 4 * k.val, 112 * (L 0).val, 56] := off_of_zero (off2_zero L k) rfl rfl rfl rfl
theorem off4_eq (k : Fin k0_t1_loop.trips) (v : BitVec 32) : k0_off4 L k v = ![v.toNat, 4 * k.val, 112 * (L 0).val, 112] := off_of_zero (off2_zero L k) rfl rfl rfl rfl
theorem off5_eq (k : Fin k0_t1_loop.trips) (v : BitVec 32) : k0_off5 L k v = ![v.toNat, 4 * k.val, 112 * (L 0).val, 168] := off_of_zero (off2_zero L k) rfl rfl rfl rfl
/-- Where trip `k` of the second loop reads the four patches. -/
theorem off7_eq (k : Fin k0_t2_loop.trips) (v : BitVec 32) : k0_off7 L k v = ![v.toNat, 4 * k.val, 112 * (L 0).val + 56, 0] := off_of_zero (off7_zero L k) rfl rfl rfl rfl
theorem off8_eq (k : Fin k0_t2_loop.trips) (v : BitVec 32) : k0_off8 L k v = ![v.toNat, 4 * k.val, 112 * (L 0).val + 56, 56] := off_of_zero (off7_zero L k) rfl rfl rfl rfl
theorem off9_eq (k : Fin k0_t2_loop.trips) (v : BitVec 32) : k0_off9 L k v = ![v.toNat, 4 * k.val, 112 * (L 0).val + 56, 112] := off_of_zero (off7_zero L k) rfl rfl rfl rfl
theorem off10_eq (k : Fin k0_t2_loop.trips) (v : BitVec 32) : k0_off10 L k v = ![v.toNat, 4 * k.val, 112 * (L 0).val + 56, 168] := off_of_zero (off7_zero L k) rfl rfl rfl rfl

theorem trips1 : k0_t1_loop.trips = 24 := by decide +kernel
theorem trips2 : k0_t2_loop.trips = 24 := by decide +kernel

/-- A copy of a patch stays inside the images when the image's number is below 16. -/
theorem inb_patch {a k r e : Nat} (ha : a < 16) (hk : k < 24) (hr : r ≤ 168) (he : e ≤ 168) :
    ∀ x, (![a, 4 * k, r, e] : Fin 4 → Nat) x + S1x4x56x56.size x ≤ S16x96x224x224.size x := by
  intro x
  match x with
  | 0 => show a + 1 ≤ 16; omega
  | 1 => show 4 * k + 4 ≤ 96; omega
  | 2 => show r + 56 ≤ 224; omega
  | 3 => show e + 56 ≤ 224; omega

theorem L0_lt : (L 0).val < 2 := (L 0).isLt
theorem L1_lt : (L 1).val < 16 := (L 1).isLt

section
variable {L} {k : Fin k0_t1_loop.trips} {v : BitVec 32} (h : v.toNat < 16)
include h
theorem chk1 : k0_chk1 L k v := by
  unfold k0_chk1; rw [off2_eq]; exact inb_patch h (trips1 ▸ k.isLt) (by have := L0_lt L; omega) (by omega)
theorem chk2 : k0_chk2 L k v := by
  unfold k0_chk2; rw [off3_eq]; exact inb_patch h (trips1 ▸ k.isLt) (by have := L0_lt L; omega) (by omega)
theorem chk3 : k0_chk3 L k v := by
  unfold k0_chk3; rw [off4_eq]; exact inb_patch h (trips1 ▸ k.isLt) (by have := L0_lt L; omega) (by omega)
theorem chk4 : k0_chk4 L k v := by
  unfold k0_chk4; rw [off5_eq]; exact inb_patch h (trips1 ▸ k.isLt) (by have := L0_lt L; omega) (by omega)
end
section
variable {L} {k : Fin k0_t2_loop.trips} {v : BitVec 32} (h : v.toNat < 16)
include h
theorem chk5 : k0_chk5 L k v := by
  unfold k0_chk5; rw [off7_eq]; exact inb_patch h (trips2 ▸ k.isLt) (by have := L0_lt L; omega) (by omega)
theorem chk6 : k0_chk6 L k v := by
  unfold k0_chk6; rw [off8_eq]; exact inb_patch h (trips2 ▸ k.isLt) (by have := L0_lt L; omega) (by omega)
theorem chk7 : k0_chk7 L k v := by
  unfold k0_chk7; rw [off9_eq]; exact inb_patch h (trips2 ▸ k.isLt) (by have := L0_lt L; omega) (by omega)
theorem chk8 : k0_chk8 L k v := by
  unfold k0_chk8; rw [off10_eq]; exact inb_patch h (trips2 ▸ k.isLt) (by have := L0_lt L; omega) (by omega)
end

end Offsets

end Cert.Proof.Shuffle

end
-- ==== Proof.Patch.lean ====
/-
  The values of one trip: where the squeezed windows of the copies place their elements, what the buffer holds after the four patches have landed in
  it, and that this is what the output is to hold.
-/
module

public import proofs.«01_k».proof.Proof.Setup
public import Idealize.ShloMosaic.Lib.Writes

@[expose] public section

noncomputable section

namespace Cert.Proof.Shuffle

open Cert.KernelIdeal Cert.KernelIdeal.Gen
open Idealize.ShloMosaic Idealize.ShloMosaic.ValueIdx

variable {F : FTy → Type}

/-- Where a window of one image, squeezed to its other three axes, places an element. -/
theorem emb_window {sz : Fin 3 → Nat} {off : Fin 4 → Nat} (inb : ∀ a, off a + (Matrix.vecCons 1 sz : Fin 4 → Nat) a ≤ S16x96x224x224.size a)
    (h : (⟨3, sz⟩ : Shape).numel = (⟨4, Matrix.vecCons 1 sz⟩ : Shape).numel) (x : (⟨3, sz⟩ : Shape).Idx) (y : S16x96x224x224.Idx)
    (h0 : (y 0).val = off 0) (h1 : (y 1).val = off 1 + (x 0).val) (h2 : (y 2).val = off 2 + (x 1).val) (h3 : (y 3).val = off 3 + (x 2).val) :
    (Rect.unit (s := S16x96x224x224) off (Matrix.vecCons 1 sz) inb).emb (Shape.reshapeEquiv h x) = y := by
  rw [Shape.reshapeEquiv_cons_one]
  refine Rect.emb_eq_of_coords _ _ _ fun a => ?_
  match a with
  | 0 => exact h0
  | 1 => exact h1.trans (congrArg (off 1 + ·) (Nat.one_mul _).symm)
  | 2 => exact h2.trans (congrArg (off 2 + ·) (Nat.one_mul _).symm)
  | 3 => exact h3.trans (congrArg (off 3 + ·) (Nat.one_mul _).symm)

/-- A patch of the images, read through the squeezed window a copy addresses. -/
theorem read_patch (p : S16x96x224x224.Idx → Elt F .f32) {off : Fin 4 → Nat} (inb : ∀ a, off a + S1x4x56x56.size a ≤ S16x96x224x224.size a)
    (x : S4x56x56.Idx) (y : S16x96x224x224.Idx)
    (h0 : (y 0).val = off 0) (h1 : (y 1).val = off 1 + (x 0).val) (h2 : (y 2).val = off 2 + (x 1).val) (h3 : (y 3).val = off 3 + (x 2).val) :
    (((Memref.whole main_arg0_scv).slice (Rect.unit (s := S16x96x224x224) off S1x4x56x56.size inb) (fun _ => rfl)).squeeze S4x56x56
      squeezes_S1x4x56x56_S4x56x56).view.read (Elt F) p x = p y :=
  congrArg p (emb_window inb squeezes_S1x4x56x56_S4x56x56.numel_eq x y h0 h1 h2 h3)

/-- Four patches side by side fill the buffer: if each is the columns of `G` where it lands, the buffer then holds `G`. -/
theorem buffer_filled (G : S4x56x224.Idx → Elt F .f32) (f : (Memref.whole cc0_scratch1).view.ty.Contents (Elt F)) (w0 w1 w2 w3 : S4x56x56.Idx → Elt F .f32)
    (h0 : ∀ x, w0 x = G (ix3 (x 0) (x 1) ⟨(x 2).val, Nat.lt_trans (x 2).isLt (by decide)⟩))
    (h1 : ∀ x, w1 x = G (ix3 (x 0) (x 1) ⟨56 + (x 2).val, by have : (x 2).val < 56 := (x 2).isLt; omega⟩))
    (h2 : ∀ x, w2 x = G (ix3 (x 0) (x 1) ⟨112 + (x 2).val, by have : (x 2).val < 56 := (x 2).isLt; omega⟩))
    (h3 : ∀ x, w3 x = G (ix3 (x 0) (x 1) ⟨168 + (x 2).val, by have : (x 2).val < 56 := (x 2).isLt; omega⟩)) (y : S4x56x224.Idx) :
    (Memref.whole cc0_scratch1).view.read (Elt F) ((Memref.whole cc0_scratch1).view.writes (Elt F) f
      [⟨Rect.unit ![0, 0, 168] S4x56x56.size inb_S4x56x224_S4x56x56_0_0_168, w3⟩, ⟨Rect.unit ![0, 0, 112] S4x56x56.size inb_S4x56x224_S4x56x56_0_0_112, w2⟩,
        ⟨Rect.unit ![0, 0, 56] S4x56x56.size inb_S4x56x224_S4x56x56_0_0_56, w1⟩, ⟨Rect.unit ![0, 0, 0] S4x56x56.size inb_S4x56x224_S4x56x56_0_0_0, w0⟩]) y = G y := by
  have emb (e : Nat) (inb) (x : S4x56x56.Idx) (hx : e + (x 2).val < 224) : (Rect.unit (s := S4x56x224) ![0, 0, e] S4x56x56.size inb).emb x = ix3 (x 0) (x 1) ⟨e + (x 2).val, hx⟩ := by
    refine Rect.emb_eq_of_coords _ _ _ fun a => ?_
    match a with
    | 0 => show (x 0).val = 0 + 1 * (x 0).val; omega
    | 1 => show (x 1).val = 0 + 1 * (x 1).val; omega
    | 2 => show e + (x 2).val = e + 1 * (x 2).val; omega
  have b (x : S4x56x56.Idx) : (x 2).val < 56 := (x 2).isLt
  refine View.read_writes_apply_of_pieces _ _ G _ ?_ y ?_
  · intro p hp
    simp only [List.mem_cons, List.not_mem_nil, or_false] at hp
    rcases hp with rfl | rfl | rfl | rfl <;> intro x
    · exact (h3 x).trans (congrArg G (emb 168 inb_S4x56x224_S4x56x56_0_0_168 x (by have := b x; omega)).symm)
    · exact (h2 x).trans (congrArg G (emb 112 inb_S4x56x224_S4x56x56_0_0_112 x (by have := b x; omega)).symm)
    · exact (h1 x).trans (congrArg G (emb 56 inb_S4x56x224_S4x56x56_0_0_56 x (by have := b x; omega)).symm)
    · refine (h0 x).trans (congrArg G ((emb 0 inb_S4x56x224_S4x56x56_0_0_0 x (by have := b x; omega)).trans ?_).symm)
      exact congrArg (ix3 (x 0) (x 1)) (Fin.ext (Nat.zero_add _))
  · have l0 : (y 0).val < 4 := (y 0).isLt
    have l1 : (y 1).val < 56 := (y 1).isLt
    have l2 : (y 2).val < 224 := (y 2).isLt
    have mem (e : Nat) (inb) (hl : e ≤ (y 2).val) (hu : (y 2).val < e + 56) : y ∈ (Rect.unit (s := S4x56x224) ![0, 0, e] S4x56x56.size inb).set := by
      refine Rect.mem_set_unit.mpr fun a => ?_
      match a with
      | 0 => exact ⟨Nat.zero_le _, by show (y 0).val < 0 + 4; omega⟩
      | 1 => exact ⟨Nat.zero_le _, by show (y 1).val < 0 + 56; omega⟩
      | 2 => exact ⟨hl, hu⟩
    simp only [List.mem_cons, List.not_mem_nil, or_false, exists_eq_or_imp, exists_eq_left]
    rcases Nat.lt_or_ge (y 2).val 56 with h | h
    · exact .inr (.inr (.inr (mem 0 _ (Nat.zero_le _) (by omega))))
    rcases Nat.lt_or_ge (y 2).val 112 with h' | h'
    · exact .inr (.inr (.inl (mem 56 _ h h')))
    rcases Nat.lt_or_ge (y 2).val 168 with h'' | h''
    · exact .inr (.inl (mem 112 _ h' h''))
    · exact .inl (mem 168 _ h'' l2)

/-- The element at `x` of the four channels from `4 k` and the row of patches `r` of image `n`. -/
def place (n : Fin 16) (r : Fin 4) (k : Fin 24) (x : S4x56x224.Idx) : S16x96x224x224.Idx :=
  ix4 (n0 := 16) (n1 := 96) (n2 := 224) (n3 := 224) n ⟨4 * k.val + (x 0).val, by have : (x 0).val < 4 := (x 0).isLt; omega⟩
    ⟨56 * r.val + (x 1).val, by have : (x 1).val < 56 := (x 1).isLt; omega⟩ (x 2)

/-- What a copy of a patch brings is what the output is to hold where the patch goes, if its image is the one the table of sources names. -/
theorem patch_value (p : S16x96x224x224.Idx → Elt F .f32) (t : S64x16.Idx → BitVec 32) (n : Fin 16) (r : Fin 4) (k : Fin 24) (e : Nat) (he : e < 4) (w : BitVec 32)
    (hw : w.toNat < 16) (ht : w = t (ix2 ⟨4 * n.val + r.val, by omega⟩ ⟨e, by omega⟩)) {off : Fin 4 → Nat} (ho : off = ![w.toNat, 4 * k.val, 56 * r.val, 56 * e])
    (inb : ∀ a, off a + S1x4x56x56.size a ≤ S16x96x224x224.size a) (x : S4x56x56.Idx) (z : Fin 224) (hz : z.val = 56 * e + (x 2).val) :
    (((Memref.whole main_arg0_scv).slice (Rect.unit (s := S16x96x224x224) off S1x4x56x56.size inb) (fun _ => rfl)).squeeze S4x56x56
      squeezes_S1x4x56x56_S4x56x56).view.read (Elt F) p x = outVal p t (place n r k (ix3 (x 0) (x 1) z)) := by
  subst ho
  have b1 : (x 1).val < 56 := (x 1).isLt
  have b2 : (x 2).val < 56 := (x 2).isLt
  have hs : srcAt (place n r k (ix3 (x 0) (x 1) z)) = ix2 ⟨4 * n.val + r.val, by omega⟩ ⟨e, by omega⟩ := by
    refine (congrArg₂ ix2 (Fin.ext ?_) (Fin.ext ?_) : _)
    · show 4 * n.val + (56 * r.val + (x 1).val) / 56 = 4 * n.val + r.val; omega
    · show z.val / 56 = e; omega
  unfold outVal
  refine read_patch p inb x _ ?_ rfl rfl hz
  show (t (srcAt (place n r k (ix3 (x 0) (x 1) z)))).toNat % 16 = w.toNat
  rw [hs, ← ht]; exact Nat.mod_eq_of_lt hw

end Cert.Proof.Shuffle

end
-- ==== Proof.Tile.lean ====
/-
  One trip of the kernel's two loops on one vector subcore: four patches of four channels are copied into the buffer, each from the image the table of
  sources names, and the buffer is copied to the output.
-/
module

public import proofs.«01_k».proof.Proof.Patch

@[expose] public section

noncomputable section

namespace Cert.Proof.Shuffle

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable (d : Dev nD) (L : grid0.Coords)

abbrev cV (L : grid0.Coords) : Fin τ.nSC := (L 0).castLE hcore0
abbrev jV (L : grid0.Coords) : Fin τ.nSub := (L 1).castLE hsub0
abbrev cell (d : Dev nD) (L : grid0.Coords) (s : DmaSems sig S_) : GSem nD τ sig := (V d (cV L) (jV L), .dma s.sem)

/-- The image a subcore writes, the number of a row of patches of its two, and a trip's number as a group of channels. -/
abbrev img (L : grid0.Coords) : Fin 16 := ⟨(L 1).val, L1_lt L⟩
abbrev row (L : grid0.Coords) (e : Fin 2) : Fin 4 := ⟨2 * (L 0).val + e.val, by have := L0_lt L; omega⟩
abbrev grp1 (k : Fin k0_t1_loop.trips) : Fin 24 := k.cast trips1
abbrev grp2 (k : Fin k0_t2_loop.trips) : Fin 24 := k.cast trips2

/-- The part of the output a trip of each loop writes, as the copy addresses it. -/
abbrev oTrip1 (L : grid0.Coords) (k : Fin k0_t1_loop.trips) : Memref sig .scVector .hbm S4x56x224 .f32 :=
  ((Memref.whole main_v93_scv).slice (Rect.unit (s := S16x96x224x224) (k0_off6 L k) S1x4x56x224.size (k0_off6_inb L k)) (fun _ => rfl)).squeeze S4x56x224 squeezes_S1x4x56x224_S4x56x224
abbrev oTrip2 (L : grid0.Coords) (k : Fin k0_t2_loop.trips) : Memref sig .scVector .hbm S4x56x224 .f32 :=
  ((Memref.whole main_v93_scv).slice (Rect.unit (s := S16x96x224x224) (k0_off11 L k) S1x4x56x224.size (k0_off11_inb L k)) (fun _ => rfl)).squeeze S4x56x224 squeezes_S1x4x56x224_S4x56x224

/-- A window of the output at row of patches `r` and channel group `k` of image `n` is the elements of one turn. -/
theorem mem_window {n : Fin 16} {c e k : Nat} (he : e < 2) (hk : k < 24) {off : Fin 4 → Nat} (ho : off = ![n.val, 4 * k, 56 * (2 * c + e), 0]) (inb : ∀ a, off a + S1x4x56x224.size a ≤ S16x96x224x224.size a)
    (j : S16x96x224x224.Idx) :
    j ∈ (((Memref.whole main_v93_scv).slice (Rect.unit (s := S16x96x224x224) off S1x4x56x224.size inb) (fun _ => rfl)).squeeze S4x56x224
      squeezes_S1x4x56x224_S4x56x224).view.set ↔ j ∈ tileSet c n.val ∧ turn c j = 24 * e + k := by
  subst ho
  rw [show (((Memref.whole main_v93_scv).slice (Rect.unit (s := S16x96x224x224) ![n.val, 4 * k, 56 * (2 * c + e), 0] S1x4x56x224.size inb) (fun _ => rfl)).squeeze S4x56x224
      squeezes_S1x4x56x224_S4x56x224).view.set = (Rect.unit (s := S16x96x224x224) ![n.val, 4 * k, 56 * (2 * c + e), 0] S1x4x56x224.size inb).set from
    (View.set_reshape _ _).trans (View.set_slice_whole _ _), Rect.mem_set_unit, mem_tileSet]
  have l1 : (j 1).val < 96 := (j 1).isLt
  have l3 : (j 3).val < 224 := (j 3).isLt
  unfold turn
  constructor
  · intro h
    have a0 : n.val ≤ (j 0).val ∧ (j 0).val < n.val + 1 := h 0
    have a1 : 4 * k ≤ (j 1).val ∧ (j 1).val < 4 * k + 4 := h 1
    have a2 : 56 * (2 * c + e) ≤ (j 2).val ∧ (j 2).val < 56 * (2 * c + e) + 56 := h 2
    omega
  · rintro ⟨⟨a0, a1⟩, a2⟩ a
    match a with
    | 0 => show n.val ≤ (j 0).val ∧ (j 0).val < n.val + 1; omega
    | 1 => show 4 * k ≤ (j 1).val ∧ (j 1).val < 4 * k + 4; omega
    | 2 => show 56 * (2 * c + e) ≤ (j 2).val ∧ (j 2).val < 56 * (2 * c + e) + 56; omega
    | 3 => exact ⟨Nat.zero_le _, by show (j 3).val < 0 + 224; omega⟩

/-- The words of a row of sources, as each loop takes them out. -/
theorem word_a (v : IVec S16 32) : extractAt ![0] (k0_pay2 v) inpos_S1_p0 = v (ix1 0) := congrArg v (funext fun | 0 => rfl)
theorem word_b (v : IVec S16 32) : extractAt ![0] (k0_pay3 v) inpos_S1_p0 = v (ix1 1) := congrArg v (funext fun | 0 => rfl)
theorem word_c (v : IVec S16 32) : extractAt ![0] (k0_pay4 v) inpos_S1_p0 = v (ix1 2) := congrArg v (funext fun | 0 => rfl)
theorem word_d (v : IVec S16 32) : extractAt ![0] (k0_pay5 v) inpos_S1_p0 = v (ix1 3) := congrArg v (funext fun | 0 => rfl)

/-! ## What is held between trips -/

/-- The output's part of a subcore before turn `t`: the elements of the turns before it hold what they are to. -/
def outSt (d : Dev nD) (L : grid0.Coords) (p : Buf (Elt F) (pLoc d)) (tS : Buf (Elt F) (iLoc d)) (t : Nat) : sProp 𝕄 :=
  iprop(∃ f : Buf (Elt F) (oLoc d), ⌜∀ j ∈ tileSet (L 0).val (L 1).val, turn (L 0).val j < t → f j = outVal (α := Elt F .f32) p tS j⌝
    ∗ (oLoc d ↦[tileSet (L 0).val (L 1).val]{fullShare} f))

/-- A turn's elements can be taken out of the output's part, and put back once they hold what they are to. -/
theorem outSt_step (p : Buf (Elt F) (pLoc d)) (tS : Buf (Elt F) (iLoc d)) (t : Nat) {I : Finset S16x96x224x224.Idx}
    (hI : ∀ j, j ∈ I ↔ j ∈ tileSet (L 0).val (L 1).val ∧ turn (L 0).val j = t) :
    outSt d L p tS t ⊢ (iprop(∃ f : Buf (Elt F) (oLoc d), (oLoc d ↦[I]{fullShare} f)
      ∗ ((oLoc d ↦[I]{fullShare} (outVal (α := Elt F .f32) p tS : Buf (Elt F) (oLoc d))) -∗ outSt d L p tS (t + 1))) : sProp 𝕄) := by
  classical
  have hsub : I ⊆ tileSet (L 0).val (L 1).val := fun j hj => ((hI j).mp hj).1
  unfold outSt
  iintro ⟨%f, %hf, H⟩
  ihave H' := (pointsTo_split_subset (ℓ := oLoc d) (q := fullShare) (f := f) hsub).1 $$ H
  icases H' with ⟨HI, HR⟩
  iexists f
  isplitl [HI]; · iexact HI
  iintro HI
  have e1 : (oLoc d ↦[I]{fullShare} (outVal (α := Elt F .f32) p tS : Buf (Elt F) (oLoc d)) : sProp 𝕄)
      = oLoc d ↦[I]{fullShare} (fun j => if j ∈ I then outVal (α := Elt F .f32) p tS j else f j : Buf (Elt F) (oLoc d)) :=
    pointsTo_congr fun j hj => (if_pos hj).symm
  have e2 : (oLoc d ↦[tileSet (L 0).val (L 1).val \ I]{fullShare} f : sProp 𝕄)
      = oLoc d ↦[tileSet (L 0).val (L 1).val \ I]{fullShare} (fun j => if j ∈ I then outVal (α := Elt F .f32) p tS j else f j : Buf (Elt F) (oLoc d)) :=
    pointsTo_congr fun j hj => (if_neg (Finset.mem_sdiff.mp hj).2).symm
  ihave HI' := (Entails.of_eq e1) $$ HI
  ihave HR' := (Entails.of_eq e2) $$ HR
  ihave H := (pointsTo_split_subset (ℓ := oLoc d) (q := fullShare) hsub).2 $$ [HI' HR']; · isplitl [HI'] <;> iassumption
  iexists _
  isplitr
  swap; · iexact H
  ipureintro
  intro j hj ht
  by_cases hm : j ∈ I
  · exact if_pos hm
  · refine (if_neg hm).trans (hf j hj (Nat.lt_of_le_of_ne (Nat.le_of_lt_succ ht) fun e => hm ((hI j).mpr ⟨hj, e⟩)))

/-- What is held between two trips of a loop whose copies use the cells `s1` to `s5`: the images at a share, the buffer, the cells at zero, and the
    output's part with the turns before `t` done. -/
def inv (d : Dev nD) (L : grid0.Coords) (p : Buf (Elt F) (pLoc d)) (tS : Buf (Elt F) (iLoc d)) (q : PosShare TreeShare) (O : CellTallies nD τ sig (HIx 1)) (W : Waits sig (HIx 1))
    (s1 s2 s3 s4 s5 : DmaSems sig S_) (t : Nat) : sProp 𝕄 :=
  iprop(Transfers.MayWaits (V d (cV L) (jV L)) (default : HIx 1) O ∗ ((Memref.whole main_arg0_scv).view.loc (V d (cV L) (jV L)) ↦{q} p)
    ∗ (∃ fb : Buf (Elt F) ((V d (cV L) (jV L)).loc cc0_scratch1), (Memref.whole cc0_scratch1).view.loc (V d (cV L) (jV L)) ↦{fullShare} fb)
    ∗ semVal (cell d L s1) 0 ∗ semVal (cell d L s2) 0 ∗ semVal (cell d L s3) 0 ∗ semVal (cell d L s4) 0 ∗ semVal (cell d L s5) 0
    ∗ outSt d L p tS t ∗ ∃ W', ⌜∀ p ∈ W', p ∈ W ∨ p.2 = none⌝ ∗ owes (V d (cV L) (jV L)) O W')

/-- Five waits more keep the record of waits within what the kernel may add. -/
theorem waits_five {W W' : Waits sig (HIx 1)} (h : ∀ p ∈ W', p ∈ W ∨ p.2 = none) (a b c d e : SemLoc sig) :
    ∀ p ∈ insert (a, (default : HIx 1)) (insert (b, (default : HIx 1)) (insert (c, (default : HIx 1)) (insert (d, (default : HIx 1)) (insert (e, (default : HIx 1)) W')))), p ∈ W ∨ p.2 = none := by
  intro p hp
  simp only [Finset.mem_insert] at hp
  rcases hp with rfl | rfl | rfl | rfl | rfl | hp
  iterate 5 exact .inr rfl
  exact h p hp

/-- A place of the output, read through the squeezed window a copy addresses. -/
theorem read_window (g : S16x96x224x224.Idx → Elt F .f32) (n : Fin 16) (r : Fin 4) (k : Fin 24) {off : Fin 4 → Nat} (ho : off = ![n.val, 4 * k.val, 56 * r.val, 0])
    (inb : ∀ a, off a + S1x4x56x224.size a ≤ S16x96x224x224.size a) (x : S4x56x224.Idx) :
    (((Memref.whole main_v93_scv).slice (Rect.unit (s := S16x96x224x224) off S1x4x56x224.size inb) (fun _ => rfl)).squeeze S4x56x224
      squeezes_S1x4x56x224_S4x56x224).view.read (Elt F) g x = g (place n r k x) := by
  subst ho
  exact congrArg g (emb_window inb squeezes_S1x4x56x224_S4x56x224.numel_eq x (place n r k x) rfl rfl rfl (Nat.zero_add _).symm)

/-- A window of the output that a copy has filled holds `G`, if what was copied is `G` element by element. -/
theorem window_filled (M : Memref sig .scVector .hbm S4x56x224 .f32) (f g : M.view.ty.Contents (Elt F)) (w : S4x56x224.Idx → Elt F .f32) (h : ∀ x, w x = M.view.read (Elt F) g x)
    {i : M.view.ty.Idx} (hi : i ∈ M.view.set) : M.view.writes (Elt F) f [⟨Rect.whole S4x56x224, w⟩] i = g i := by
  obtain ⟨x, rfl⟩ : ∃ x, M.view.emb x = i := by simpa [View.set] using hi
  have e : M.view.read (Elt F) (M.view.writes (Elt F) f [⟨Rect.whole S4x56x224, w⟩]) x = M.view.read (Elt F) g x := by
    rw [← h x]
    exact congrFun (View.read_writes_whole M.view f w) x
  rw [View.read_apply, View.read_apply] at e
  exact (cast_bijective _).1 e

variable [FloatOps F]

section Trips

variable (p : Buf (Elt F) (pLoc d)) (tS : Buf (Elt F) (iLoc d)) (q : PosShare TreeShare) (O : CellTallies nD τ sig (HIx 1)) (W : Waits sig (HIx 1))

set_option maxHeartbeats 4000000 in
/-- A trip of the first loop: one turn of the output is done. -/
theorem trip1 (ht : ∀ x, (tS x : BitVec 32).toNat < 16) (v30 c0 c1 : BitVec 32) (v : IVec S16 32) (hv : ∀ e : Fin 4, v (ix1 ⟨e.val, by omega⟩) = tS (ix2 ⟨4 * (img L).val + (row L 0).val, by omega⟩ ⟨e.val, by omega⟩))
    (k : Fin k0_t1_loop.trips) (acc : BitVec 32) :
    inv d L p tS q O W cc0_scoped1 cc0_scoped2 cc0_scoped3 cc0_scoped4 cc0_scoped5 k.val
      ⊢ wp frame (wpE (defs₀ (F := F)) 𝒱₀ (V d (cV L) (jV L)) none) Set.univ
          (k0_t1_body L (Memref.whole main_arg0_scv) (Memref.isWhole_whole _) (Memref.whole main_v92_scv) (Memref.isWhole_whole _) (Memref.whole main_v93_scv) (Memref.isWhole_whole _)
            (Memref.whole cc0_scratch0) (Memref.isWhole_whole _) (Memref.whole cc0_scratch1) (Memref.isWhole_whole _)
            cc0_scoped0 cc0_scoped1 cc0_scoped2 cc0_scoped3 cc0_scoped4 cc0_scoped5 cc0_scoped6 cc0_scoped7 cc0_scoped8 cc0_scoped9 cc0_scoped10
            v30 v c0 c1 k acc)
          fun _ => inv d L p tS q O W cc0_scoped1 cc0_scoped2 cc0_scoped3 cc0_scoped4 cc0_scoped5 (k.val + 1) := by
  have w0 := (word_a v).trans (hv 0)
  have w1 := (word_b v).trans (hv 1)
  have w2 := (word_c v).trans (hv 2)
  have w3 := (word_d v).trans (hv 3)
  have h0 : (extractAt ![0] (k0_pay2 v) inpos_S1_p0).toNat < 16 := by rw [w0]; exact ht _
  have h1 : (extractAt ![0] (k0_pay3 v) inpos_S1_p0).toNat < 16 := by rw [w1]; exact ht _
  have h2 : (extractAt ![0] (k0_pay4 v) inpos_S1_p0).toNat < 16 := by rw [w2]; exact ht _
  have h3 : (extractAt ![0] (k0_pay5 v) inpos_S1_p0).toNat < 16 := by rw [w3]; exact ht _
  have c1 := chk1 (L := L) (k := k) h0
  have c2 := chk2 (L := L) (k := k) h1
  have c3 := chk3 (L := L) (k := k) h2
  have c4 := chk4 (L := L) (k := k) h3
  have hI := mem_window (n := img L) (c := (L 0).val) (e := 0) (k := k.val) (by decide) (grp1 k).isLt
    ((off6_eq L k).trans (by rw [show 56 * (2 * (L 0).val + 0) = 112 * (L 0).val by omega])) (k0_off6_inb L k)
  unfold k0_t1_body
  rw [k0_part1_eq_skeleton, k0_part2_eq_skeleton]; unfold k0_part1_skel k0_part2_skel inv
  iintro ⟨#Hmw, Hp, ⟨%fb, Hb⟩, H1, H2, H3, H4, H5, Ho, %W', %hW', HO⟩
  ihave Ho' := (outSt_step d L p tS k.val (I := (oTrip1 L k).view.set) (fun j => by rw [hI j]; simp)) $$ Ho
  icases Ho' with ⟨%fo, Ho, Hback⟩
  ihave Ho' := (Entails.of_eq (show (oLoc d ↦[(oTrip1 L k).view.set]{fullShare} fo : sProp 𝕄) = (oTrip1 L k).view.loc (V d (cV L) (jV L)) ↦[(oTrip1 L k).view.set]{fullShare} fo from rfl)) $$ Ho
  sl_exec
  sl_step
  have hr : 56 * (row L 0).val = 112 * (L 0).val := by show 56 * (2 * (L 0).val + 0) = _; omega
  have value (x : S4x56x224.Idx) : trip1.sl.dma0_4 d L p v k c1 c2 c3 c4 fb x = (oTrip1 L k).view.read (Elt F) (outVal (α := Elt F .f32) p tS) x :=
    (buffer_filled (fun x => outVal (α := Elt F .f32) p tS (place (img L) (row L 0) (grp1 k) x)) fb _ _ _ _
      (fun x => patch_value p tS (img L) (row L 0) (grp1 k) 0 (by decide) _ h0 w0 ((off2_eq L k _).trans (by rw [hr]; rfl)) _ x _ (Nat.zero_add _).symm)
      (fun x => patch_value p tS (img L) (row L 0) (grp1 k) 1 (by decide) _ h1 w1 ((off3_eq L k _).trans (by rw [hr]; rfl)) _ x _ rfl)
      (fun x => patch_value p tS (img L) (row L 0) (grp1 k) 2 (by decide) _ h2 w2 ((off4_eq L k _).trans (by rw [hr]; rfl)) _ x _ rfl)
      (fun x => patch_value p tS (img L) (row L 0) (grp1 k) 3 (by decide) _ h3 w3 ((off5_eq L k _).trans (by rw [hr]; rfl)) _ x _ rfl) x).trans
    (read_window _ (img L) (row L 0) (grp1 k) ((off6_eq L k).trans (by rw [hr]; rfl)) (k0_off6_inb L k) x).symm
  ihave Ho := (Entails.of_eq (pointsTo_congr fun i hi => window_filled (oTrip1 L k) fo (outVal (α := Elt F .f32) p tS) _ value hi)) $$ Ho'
  isplitr; · iexact Hmw
  isplitl [Hp]; · iexact Hp
  isplitl [Hb]; · iexists _; iexact Hb
  isplitl [H1]; · iexact H1
  isplitl [H2]; · iexact H2
  isplitl [H3]; · iexact H3
  isplitl [H4]; · iexact H4
  isplitl [H5]; · iexact H5
  isplitl [Hback Ho]; · iapply Hback; iexact Ho
  iexists _; isplitr
  swap; · iexact HO
  ipureintro; exact waits_five hW' _ _ _ _ _

end Trips

end

end Cert.Proof.Shuffle

end
-- ==== Proof.Tile2.lean ====
/-
  One trip of the kernel's second loop on one vector subcore: as one of the first, a row of patches further down.
-/
module

public import proofs.«01_k».proof.Proof.Tile

@[expose] public section

noncomputable section

namespace Cert.Proof.Shuffle

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable (d : Dev nD) (L : grid0.Coords)

/-- The words of a row of sources, as the second loop takes them out. -/
theorem word_e (v : IVec S16 32) : extractAt ![0] (k0_pay6 v) inpos_S1_p0 = v (ix1 0) := congrArg v (funext fun | 0 => rfl)
theorem word_f (v : IVec S16 32) : extractAt ![0] (k0_pay7 v) inpos_S1_p0 = v (ix1 1) := congrArg v (funext fun | 0 => rfl)
theorem word_g (v : IVec S16 32) : extractAt ![0] (k0_pay8 v) inpos_S1_p0 = v (ix1 2) := congrArg v (funext fun | 0 => rfl)
theorem word_h (v : IVec S16 32) : extractAt ![0] (k0_pay9 v) inpos_S1_p0 = v (ix1 3) := congrArg v (funext fun | 0 => rfl)

variable [FloatOps F]

section Trips

variable (p : Buf (Elt F) (pLoc d)) (tS : Buf (Elt F) (iLoc d)) (q : PosShare TreeShare) (O : CellTallies nD τ sig (HIx 1)) (W : Waits sig (HIx 1))

set_option maxHeartbeats 4000000 in
/-- A trip of the second loop: one turn of the output is done. -/
theorem trip2 (ht : ∀ x, (tS x : BitVec 32).toNat < 16) (v30 : BitVec 32) (u : Vec F S1x16 .i32) (v : IVec S16 32) (hu : k0_pay1 u = v) (hv : ∀ e : Fin 4, v (ix1 ⟨e.val, by omega⟩) = tS (ix2 ⟨4 * (img L).val + (row L 1).val, by omega⟩ ⟨e.val, by omega⟩))
    (k : Fin k0_t2_loop.trips) (acc : BitVec 32) :
    inv d L p tS q O W cc0_scoped6 cc0_scoped7 cc0_scoped8 cc0_scoped9 cc0_scoped10 (24 + k.val)
      ⊢ wp frame (wpE (defs₀ (F := F)) 𝒱₀ (V d (cV L) (jV L)) none) Set.univ
          (k0_t2_body L (Memref.whole main_arg0_scv) (Memref.isWhole_whole _) (Memref.whole main_v92_scv) (Memref.isWhole_whole _) (Memref.whole main_v93_scv) (Memref.isWhole_whole _)
            (Memref.whole cc0_scratch0) (Memref.isWhole_whole _) (Memref.whole cc0_scratch1) (Memref.isWhole_whole _)
            cc0_scoped0 cc0_scoped1 cc0_scoped2 cc0_scoped3 cc0_scoped4 cc0_scoped5 cc0_scoped6 cc0_scoped7 cc0_scoped8 cc0_scoped9 cc0_scoped10
            v30 u k acc)
          fun _ => inv d L p tS q O W cc0_scoped6 cc0_scoped7 cc0_scoped8 cc0_scoped9 cc0_scoped10 (24 + k.val + 1) := by
  have w0 := (word_e v).trans (hv 0)
  have w1 := (word_f v).trans (hv 1)
  have w2 := (word_g v).trans (hv 2)
  have w3 := (word_h v).trans (hv 3)
  have h0 : (extractAt ![0] (k0_pay6 v) inpos_S1_p0).toNat < 16 := by rw [w0]; exact ht _
  have h1 : (extractAt ![0] (k0_pay7 v) inpos_S1_p0).toNat < 16 := by rw [w1]; exact ht _
  have h2 : (extractAt ![0] (k0_pay8 v) inpos_S1_p0).toNat < 16 := by rw [w2]; exact ht _
  have h3 : (extractAt ![0] (k0_pay9 v) inpos_S1_p0).toNat < 16 := by rw [w3]; exact ht _
  have c1 := chk5 (L := L) (k := k) h0
  have c2 := chk6 (L := L) (k := k) h1
  have c3 := chk7 (L := L) (k := k) h2
  have c4 := chk8 (L := L) (k := k) h3
  have hI := mem_window (n := img L) (c := (L 0).val) (e := 1) (k := k.val) (by decide) (grp2 k).isLt
    ((off11_eq L k).trans (by rw [show 56 * (2 * (L 0).val + 1) = 112 * (L 0).val + 56 by omega])) (k0_off11_inb L k)
  unfold k0_t2_body
  rw [hu]
  rw [k0_part3_eq_skeleton, k0_part4_eq_skeleton]; unfold k0_part3_skel k0_part4_skel inv
  iintro ⟨#Hmw, Hp, ⟨%fb, Hb⟩, H1, H2, H3, H4, H5, Ho, %W', %hW', HO⟩
  ihave Ho' := (outSt_step d L p tS (24 + k.val) (I := (oTrip2 L k).view.set) hI) $$ Ho
  icases Ho' with ⟨%fo, Ho, Hback⟩
  ihave Ho' := (Entails.of_eq (show (oLoc d ↦[(oTrip2 L k).view.set]{fullShare} fo : sProp 𝕄) = (oTrip2 L k).view.loc (V d (cV L) (jV L)) ↦[(oTrip2 L k).view.set]{fullShare} fo from rfl)) $$ Ho
  sl_exec
  sl_step
  have hr : 56 * (row L 1).val = 112 * (L 0).val + 56 := by show 56 * (2 * (L 0).val + 1) = _; omega
  have value (x : S4x56x224.Idx) : trip2.sl.dma0_4 d L p v k c1 c2 c3 c4 fb x = (oTrip2 L k).view.read (Elt F) (outVal (α := Elt F .f32) p tS) x :=
    (buffer_filled (fun x => outVal (α := Elt F .f32) p tS (place (img L) (row L 1) (grp2 k) x)) fb _ _ _ _
      (fun x => patch_value p tS (img L) (row L 1) (grp2 k) 0 (by decide) _ h0 w0 ((off7_eq L k _).trans (by rw [hr]; rfl)) _ x _ (Nat.zero_add _).symm)
      (fun x => patch_value p tS (img L) (row L 1) (grp2 k) 1 (by decide) _ h1 w1 ((off8_eq L k _).trans (by rw [hr]; rfl)) _ x _ rfl)
      (fun x => patch_value p tS (img L) (row L 1) (grp2 k) 2 (by decide) _ h2 w2 ((off9_eq L k _).trans (by rw [hr]; rfl)) _ x _ rfl)
      (fun x => patch_value p tS (img L) (row L 1) (grp2 k) 3 (by decide) _ h3 w3 ((off10_eq L k _).trans (by rw [hr]; rfl)) _ x _ rfl) x).trans
    (read_window _ (img L) (row L 1) (grp2 k) ((off11_eq L k).trans (by rw [hr]; rfl)) (k0_off11_inb L k) x).symm
  ihave Ho := (Entails.of_eq (pointsTo_congr fun i hi => window_filled (oTrip2 L k) fo (outVal (α := Elt F .f32) p tS) _ value hi)) $$ Ho'
  isplitr; · iexact Hmw
  isplitl [Hp]; · iexact Hp
  isplitl [Hb]; · iexists _; iexact Hb
  isplitl [H1]; · iexact H1
  isplitl [H2]; · iexact H2
  isplitl [H3]; · iexact H3
  isplitl [H4]; · iexact H4
  isplitl [H5]; · iexact H5
  isplitl [Hback Ho]; · iapply Hback; iexact Ho
  iexists _; isplitr
  swap; · iexact HO
  ipureintro; exact waits_five hW' _ _ _ _ _

end Trips

end

end Cert.Proof.Shuffle

end
-- ==== Proof.TileBody.lean ====
/-
  The kernel's task on one vector subcore: the table of sources is copied in, a row of it is read, and each of the two loops fills its row of patches.
-/
module

public import proofs.«01_k».proof.Proof.Tile2
public import Idealize.ShloMosaic.Lib.Pipeline.Value

@[expose] public section

noncomputable section

namespace Cert.Proof.Shuffle

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable (d : Dev nD) (L : grid0.Coords)

/-! ## What a subcore owns -/

/-- The cells of the task's copies, by number. -/
def cells (d : Dev nD) (L : grid0.Coords) : Fin 11 ↪ GSem nD τ sig where
  toFun i := (V d (cV L) (jV L), .dma i)
  inj' i j h := by injection h with _ h; injection h

theorem cells_own (i : Fin 11) : cells d L i ∈ ownCells (V d (cV L) (jV L)) :=
  mem_ownCells.mpr ⟨rfl, (by decide : ∀ i : Fin 11, (SemLoc.dma i : SemLoc sig).isScoped .scVector = true) i⟩

/-- The eleven cells are among the subcore's own: they are them, and the rest. -/
theorem ownSems0_V : ∃ R : sProp 𝕄, (ownSems0 (V d (cV L) (jV L)) : sProp 𝕄)
    = iprop((semVal (cell d L cc0_scoped0) 0 ∗ semVal (cell d L cc0_scoped1) 0 ∗ semVal (cell d L cc0_scoped2) 0 ∗ semVal (cell d L cc0_scoped3) 0
        ∗ semVal (cell d L cc0_scoped4) 0 ∗ semVal (cell d L cc0_scoped5) 0 ∗ semVal (cell d L cc0_scoped6) 0 ∗ semVal (cell d L cc0_scoped7) 0
        ∗ semVal (cell d L cc0_scoped8) 0 ∗ semVal (cell d L cc0_scoped9) 0 ∗ semVal (cell d L cc0_scoped10) 0) ∗ R) := by
  classical
  apply Exists.intro
  unfold SparseCore.Cfg.ownSems0
  rw [SparseCore.bigSep_sdiff_split' (t := Finset.univ.map (cells d L)) fun g hg => by
      obtain ⟨i, -, rfl⟩ := Finset.mem_map.mp hg; exact cells_own d L i,
    bigSep_map, show (Finset.univ : Finset (Fin 11)) = {0, 1, 2, 3, 4, 5, 6, 7, 8, 9, 10} by decide]
  iterate 10 rw [SparseCore.bigSep_insert' (by decide)]
  rw [bigSep_singleton]
  rfl

set_option maxRecDepth 100000 in
/-- The two scratch buffers are among the subcore's own: they are them, at some contents, and the rest. -/
theorem ownBufs_V : ∃ R : sProp 𝕄, (ownBufs (V d (cV L) (jV L)) : sProp 𝕄)
    = iprop((∃ f, (V d (cV L) (jV L)).loc cc0_scratch0 ↦{fullShare} f) ∗ (∃ f, (V d (cV L) (jV L)).loc cc0_scratch1 ↦{fullShare} f) ∗ R) := by
  apply Exists.intro
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A row of the table of sources, read from the buffer it was copied to. -/
theorem row_read (fs : (Memref.whole cc0_scratch0).view.ty.Contents (Elt F)) (w : S64x16.Idx → Elt F .i32) {off : Fin 2 → Nat} (a : Fin 64) (ho : off = ![a.val, 0])
    (inb : ∀ x, off x + S1x16.size x ≤ S64x16.size x) (h : S1x16.ShapeCasts S16) (e : Fin 16) :
    shapeCast S16 (View.readAt (Elt F) (Memref.whole cc0_scratch0).view (Rect.unit (s := S64x16) off S1x16.size inb).toLoadRect
      (View.write (Elt F) (Memref.whole cc0_scratch0).view fs w Finset.univ)) h (ix1 e) = w (ix2 a e) := by
  subst ho
  rw [shapeCast_apply _ h (ix1 e) (ix2 0 e) (by rw [Shape.rowMajor_val_one, Shape.rowMajor_val_two]; show 0 * 16 + e.val = e.val; omega)]
  rw [show View.write (Elt F) (Memref.whole cc0_scratch0).view fs w Finset.univ = w from View.write_whole_univ _ _ _]
  refine congrArg w (funext fun x => Fin.ext ?_)
  match x with
  | 0 => rfl
  | 1 => show 0 + 1 * e.val = e.val; omega

/-- What is held between trips, spelt out. -/
theorem inv_open (p : Buf (Elt F) (pLoc d)) (tS : Buf (Elt F) (iLoc d)) (q : PosShare TreeShare) (O : CellTallies nD τ sig (HIx 1)) (W : Waits sig (HIx 1))
    (s1 s2 s3 s4 s5 : DmaSems sig S_) (t : Nat) : inv d L p tS q O W s1 s2 s3 s4 s5 t
    ⊢ (iprop(Transfers.MayWaits (V d (cV L) (jV L)) (default : HIx 1) O ∗ ((Memref.whole main_arg0_scv).view.loc (V d (cV L) (jV L)) ↦{q} p)
      ∗ (∃ fb : Buf (Elt F) ((V d (cV L) (jV L)).loc cc0_scratch1), (Memref.whole cc0_scratch1).view.loc (V d (cV L) (jV L)) ↦{fullShare} fb)
      ∗ semVal (cell d L s1) 0 ∗ semVal (cell d L s2) 0 ∗ semVal (cell d L s3) 0 ∗ semVal (cell d L s4) 0 ∗ semVal (cell d L s5) 0
      ∗ outSt d L p tS t ∗ ∃ W', ⌜∀ p ∈ W', p ∈ W ∨ p.2 = none⌝ ∗ owes (V d (cV L) (jV L)) O W') : sProp 𝕄) :=
  Entails.rfl

/-- After the last turn a subcore's part of the output holds what it is to. -/
theorem outSt_done (p : Buf (Elt F) (pLoc d)) (tS : Buf (Elt F) (iLoc d)) :
    outSt d L p tS 48 ⊢ (oLoc d ↦[tileSet (L 0).val (L 1).val]{fullShare} (outVal (α := Elt F .f32) p tS : Buf (Elt F) (oLoc d)) : sProp 𝕄) := by
  unfold outSt
  iintro ⟨%f, %hf, H⟩
  iapply (Entails.of_eq (pointsTo_congr fun j hj => hf j hj (by
    have l1 : (j 1).val < 96 := (j 1).isLt
    have := (mem_tileSet.mp hj).2
    unfold turn; omega)))
  iexact H

variable [FloatOps F]

variable (p : Buf (Elt F) (pLoc d)) (tS : Buf (Elt F) (iLoc d)) (fo : Buf (Elt F) (oLoc d)) (q : PosShare TreeShare) (O : CellTallies nD τ sig (HIx 1)) (W : Waits sig (HIx 1))

set_option maxHeartbeats 4000000 in
/-- The task on a vector subcore: from the images and the table of sources at a share and its part of the output, the part of the output filled. -/
theorem tile_body (hF : (K (F := F)).Facts) (ht : ∀ x, (tS x : BitVec 32).toNat < 16) (hO : ∀ g, O g none = 0) :
    (iprop(levAts (K (F := F)).L (K (F := F)).lev ∗ emp
        ∗ ((pLoc d ↦{q} p) ∗ (iLoc d ↦{q} tS) ∗ (oLoc d ↦[tileSet (L 0).val (L 1).val]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__shuffle_body L (Memref.whole main_arg0_scv) (Memref.isWhole_whole _) (Memref.whole main_v92_scv) (Memref.isWhole_whole _) (Memref.whole main_v93_scv) (Memref.isWhole_whole _)
            (Memref.whole cc0_scratch0) (Memref.isWhole_whole _) (Memref.whole cc0_scratch1) (Memref.isWhole_whole _)
            cc0_scoped0 cc0_scoped1 cc0_scoped2 cc0_scoped3 cc0_scoped4 cc0_scoped5 cc0_scoped6 cc0_scoped7 cc0_scoped8 cc0_scoped9 cc0_scoped10)
          fun _ => iprop(((pLoc d ↦{q} p) ∗ (iLoc d ↦{q} tS) ∗ (oLoc d ↦[tileSet (L 0).val (L 1).val]{fullShare} (outVal (α := Elt F .f32) p tS : Buf (Elt F) (oLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨Rs, hRs⟩ := ownSems0_V (F := F) d L
  obtain ⟨Rb, hRb⟩ := ownBufs_V (F := F) d L
  rw [cc0__shuffle_body_eq_skeleton]; unfold cc0__shuffle_body_skel; rw [k0_part5_eq_skeleton]; unfold k0_part5_skel
  rw [(K (F := F)).scopedBufs_V hF d (cV L) (jV L), SparseCore.Cfg.scopedSems0_V (Val := Elt F) d (cV L) (jV L), hRs, hRb]
  iintro ⟨#Hlv, -, ⟨Hp, Hi, Ho⟩, ⟨⟨%fs, Hs⟩, ⟨%fb, Hb⟩, Hbufs⟩, ⟨⟨H0, H1, H2, H3, H4, H5, H6, H7, H8, H9, H10⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦{q} tS : sProp 𝕄) = (Memref.whole main_v92_scv).view.loc (V d (cV L) (jV L)) ↦{q} tS from rfl)) $$ Hi
  ihave Hs' := (Entails.of_eq (show ((V d (cV L) (jV L)).loc cc0_scratch0 ↦{fullShare} fs : sProp 𝕄) = (Memref.whole cc0_scratch0).view.loc (V d (cV L) (jV L)) ↦{fullShare} fs from rfl)) $$ Hs
  sl_exec
  have row1 (e : Fin 4) : k0_pay10 (F := F) (View.readAt (Elt F) (Memref.whole cc0_scratch0).view (Rect.unit (s := S64x16) (k0_off1 L 0#32) S1x16.size (k0_off1_inb L 0)).toLoadRect
      (View.write (Elt F) (Memref.whole cc0_scratch0).view fs (tile_body.sl.dma0 d tS) Finset.univ)) (ix1 ⟨e.val, by omega⟩) = tS (ix2 ⟨4 * (img L).val + (row L 0).val, by omega⟩ ⟨e.val, by omega⟩) :=
    row_read fs tS ⟨4 * (img L).val + (row L 0).val, by omega⟩ (k0_off1_eq L 0) (k0_off1_inb L 0) shapeCasts_S1x16_S16 ⟨e.val, by omega⟩
  have row2 (e : Fin 4) : k0_pay1 (F := F) (View.readAt (Elt F) (Memref.whole cc0_scratch0).view (Rect.unit (s := S64x16) (k0_off1 L 1#32) S1x16.size (k0_off1_inb L 1)).toLoadRect
      (View.write (Elt F) (Memref.whole cc0_scratch0).view fs (tile_body.sl.dma0 d tS) Finset.univ)) (ix1 ⟨e.val, by omega⟩) = tS (ix2 ⟨4 * (img L).val + (row L 1).val, by omega⟩ ⟨e.val, by omega⟩) :=
    row_read fs tS ⟨4 * (img L).val + (row L 1).val, by omega⟩ (k0_off1_eq L 1) (k0_off1_inb L 1) shapeCasts_S1x16_S16 ⟨e.val, by omega⟩
  sl_for (fun k _ => inv d L p tS q O W cc0_scoped1 cc0_scoped2 cc0_scoped3 cc0_scoped4 cc0_scoped5 k) $$ [Hmw Hp Hb H1 H2 H3 H4 H5 Ho HO]
  case region => exact fun k acc => trip1 d L p tS q O W ht _ _ _ _ row1 k acc
  · unfold inv
    isplitr; · iexact Hmw
    isplitl [Hp]; · iexact Hp
    isplitl [Hb]; · iexists _; iexact Hb
    isplitl [H1]; · iexact H1
    isplitl [H2]; · iexact H2
    isplitl [H3]; · iexact H3
    isplitl [H4]; · iexact H4
    isplitl [H5]; · iexact H5
    isplitl [Ho]
    · unfold outSt; iexists fo; isplitr
      · ipureintro; exact fun j _ h => absurd h (Nat.not_lt_zero _)
      · iexact Ho
    iexists _; isplitr
    swap; · iexact HO
    ipureintro; intro p hp
    rcases Finset.mem_insert.mp hp with rfl | hp
    · exact .inr rfl
    · exact .inl hp
  iintro %acc HI
  have e1 : inv d L p tS q O W cc0_scoped1 cc0_scoped2 cc0_scoped3 cc0_scoped4 cc0_scoped5 (Scf.trips k0_t1_loop.lb k0_t1_loop.ub k0_t1_loop.st)
      = inv d L p tS q O W cc0_scoped1 cc0_scoped2 cc0_scoped3 cc0_scoped4 cc0_scoped5 24 := congrArg _ trips1
  ihave HI' := ((Entails.of_eq e1).trans (inv_open d L p tS q O W _ _ _ _ _ _)) $$ HI
  icases HI' with ⟨-, Hp, Hb, H1, H2, H3, H4, H5, Ho, HO⟩
  sl_exec
  sl_for (fun k _ => inv d L p tS q O W cc0_scoped6 cc0_scoped7 cc0_scoped8 cc0_scoped9 cc0_scoped10 (24 + k)) $$ [Hmw Hp Hb H6 H7 H8 H9 H10 Ho HO]
  case region => exact fun k acc => trip2 d L p tS q O W ht _ _ _ rfl row2 k acc
  · unfold inv
    isplitr; · iexact Hmw
    isplitl [Hp]; · iexact Hp
    isplitl [Hb]; · iexact Hb
    isplitl [H6]; · iexact H6
    isplitl [H7]; · iexact H7
    isplitl [H8]; · iexact H8
    isplitl [H9]; · iexact H9
    isplitl [H10]; · iexact H10
    isplitl [Ho]; · iexact Ho
    iexact HO
  iintro %acc' HI
  have e2 : inv d L p tS q O W cc0_scoped6 cc0_scoped7 cc0_scoped8 cc0_scoped9 cc0_scoped10 (24 + Scf.trips k0_t2_loop.lb k0_t2_loop.ub k0_t2_loop.st)
      = inv d L p tS q O W cc0_scoped6 cc0_scoped7 cc0_scoped8 cc0_scoped9 cc0_scoped10 48 := by rw [show Scf.trips k0_t2_loop.lb k0_t2_loop.ub k0_t2_loop.st = 24 from trips2]
  ihave HI' := ((Entails.of_eq e2).trans (inv_open d L p tS q O W _ _ _ _ _ _)) $$ HI
  icases HI' with ⟨-, Hp, ⟨%fb', Hb⟩, H6, H7, H8, H9, H10, Ho, HO⟩
  sl_exec
  sl_step
  isplitl [Hp Hi' Ho]
  · isplitl [Hp]; · iexact Hp
    isplitl [Hi']; · iexact Hi'
    iapply (outSt_done d L p tS); iexact Ho
  isplitl [Hs' Hb Hbufs]
  · isplitl [Hs']; · iexists _; iexact Hs'
    isplitl [Hb]; · iexists _; iexact Hb
    iexact Hbufs
  isplitr [HO]
  · isplitr [Hsems]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iexact Hsems
  iexact HO

end

end Cert.Proof.Shuffle

end
-- ==== Proof.Launch.lean ====
/-
  The program's run: the host operations fill the table of sources, the call hands each vector subcore the images and the table at a share and its part of
  the output, and gets the output back filled.
-/
module

public import proofs.«01_k».proof.Proof.TileBody
public import Idealize.ShloMosaic.Lib.Pipeline.Frame
public import Idealize.ShloMosaic.Lib.StableHlo

@[expose] public section

noncomputable section

namespace Cert.Proof.Shuffle

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

/-! ## What a subcore is handed -/

/-- The share of the inputs subcore `s` of core `c` gets. -/
noncomputable def sh (c s : Nat) : PosShare TreeShare := ShareLeaves.leaf 4 (ShareLeaves.leaf 1 fullShare ⟨c % 2, Nat.mod_lt _ (by decide)⟩) ⟨s % 16, Nat.mod_lt _ (by decide)⟩

/-- What subcore `s` of core `c` holds: the images and the table of sources at its share, and its part of the output. -/
noncomputable def piece (d : Dev nD) (p : Buf (Elt F) (pLoc d)) (t : Buf (Elt F) (iLoc d)) (o : Buf (Elt F) (oLoc d)) (c s : Nat) : sProp 𝕄 :=
  iprop((pLoc d ↦{sh c s} p) ∗ (iLoc d ↦{sh c s} t) ∗ (oLoc d ↦[tileSet c s]{fullShare} o))

/-- An array at the full share is its shares, a core's after a core's. -/
theorem shares {ℓ : Loc nD τ sig} (f : Buf (Elt F) ℓ) :
    (ℓ ↦{fullShare} f : sProp 𝕄) = bigSep Finset.univ fun c : Fin 2 => bigSep Finset.univ fun s : Fin 16 => ℓ ↦{sh c.val s.val} f := by
  refine (ShareLeaves.pointsTo_leaves Finset.univ f 1 fullShare).trans (bigSep_congr fun c _ => ?_)
  refine (ShareLeaves.pointsTo_leaves Finset.univ f 4 _).trans (bigSep_congr fun s _ => ?_)
  unfold sh
  rw [show (⟨c.val % 2, Nat.mod_lt _ (by decide)⟩ : Fin (2 ^ 1)) = c from Fin.ext (Nat.mod_eq_of_lt c.isLt),
    show (⟨s.val % 16, Nat.mod_lt _ (by decide)⟩ : Fin (2 ^ 4)) = s from Fin.ext (Nat.mod_eq_of_lt s.isLt)]

/-- The output is its parts, a core's after a core's. -/
theorem parts (d : Dev nD) (o : Buf (Elt F) (oLoc d)) :
    (oLoc d ↦{fullShare} o : sProp 𝕄) = bigSep Finset.univ fun c : Fin 2 => bigSep Finset.univ fun s : Fin 16 => oLoc d ↦[tileSet c.val s.val]{fullShare} o := by
  classical
  have inner (c : Fin 2) : (bigSep Finset.univ fun s : Fin 16 => (oLoc d ↦[tileSet c.val s.val]{fullShare} o : sProp 𝕄))
      = oLoc d ↦[(Finset.univ : Finset (Fin 16)).biUnion fun s => tileSet c.val s.val]{fullShare} o :=
    (pointsTo_biUnion (ℓ := oLoc d) Finset.univ (fun s : Fin 16 => tileSet c.val s.val) fun s _ s' _ h => Finset.disjoint_left.mpr fun j hj hj' =>
      h (Fin.ext ((mem_tileSet.mp hj).1.symm.trans (mem_tileSet.mp hj').1))).symm
  rw [bigSep_congr fun c _ => inner c]
  rw [← pointsTo_biUnion (ℓ := oLoc d) Finset.univ (fun c : Fin 2 => (Finset.univ : Finset (Fin 16)).biUnion fun s => tileSet c.val s.val) fun c _ c' _ h =>
    Finset.disjoint_left.mpr fun j hj hj' => by
      obtain ⟨s, -, hs⟩ := Finset.mem_biUnion.mp hj
      obtain ⟨s', -, hs'⟩ := Finset.mem_biUnion.mp hj'
      exact h (Fin.ext ((mem_tileSet.mp hs).2.symm.trans (mem_tileSet.mp hs').2))]
  rw [show ((Finset.univ : Finset (Fin 2)).biUnion fun c => (Finset.univ : Finset (Fin 16)).biUnion fun s => tileSet c.val s.val) = Finset.univ from ?_]
  refine Finset.eq_univ_iff_forall.mpr fun j => ?_
  have l0 : (j 0).val < 16 := (j 0).isLt
  have l2 : (j 2).val < 224 := (j 2).isLt
  exact Finset.mem_biUnion.mpr ⟨⟨(j 2).val / 112, by omega⟩, Finset.mem_univ _, Finset.mem_biUnion.mpr ⟨⟨(j 0).val, l0⟩, Finset.mem_univ _, mem_tileSet.mpr ⟨rfl, rfl⟩⟩⟩

/-- What the subcores hold together: the images, the table and the output, whole. -/
theorem pieces (d : Dev nD) (p : Buf (Elt F) (pLoc d)) (t : Buf (Elt F) (iLoc d)) (o : Buf (Elt F) (oLoc d)) :
    (bigSep Finset.univ fun c : Fin 2 => bigSep Finset.univ fun s : Fin 16 => piece d p t o c.val s.val)
      = iprop((pLoc d ↦{fullShare} p) ∗ (iLoc d ↦{fullShare} t) ∗ (oLoc d ↦{fullShare} o)) := by
  rw [shares p, shares t, parts d o]
  unfold piece
  simp only [bigSep_sep']

/-! ## The call's payments -/

variable (p : (d : Dev nD) → Buf (Elt F) (pLoc d)) (t : (d : Dev nD) → Buf (Elt F) (iLoc d)) (o : (d : Dev nD) → Buf (Elt F) (oLoc d))

/-- What the call hands the subcores and gets back. -/
noncomputable def P : (K (F := F)).Pay (nD := nD) (Val := Elt F) (Name := ℕ) (U := UU) where
  st := fun q d c => match q with | 0 => bigSep Finset.univ fun s : Fin 16 => piece d (p d) (t d) (o d) c.val s.val
  dn := fun q d c => match q with | 0 => bigSep Finset.univ fun s : Fin 16 => piece d (p d) (t d) (outVal (α := Elt F .f32) (p d) (t d)) c.val s.val
  go := fun q d c s => match q with | 0 => piece d (p d) (t d) (o d) c.val s.val
  td := fun q d c s => match q with | 0 => piece d (p d) (t d) (outVal (α := Elt F .f32) (p d) (t d)) c.val s.val
  x := fun _ _ => iprop(emp)

instance piece_storable (d : Dev nD) (p : Buf (Elt F) (pLoc d)) (t : Buf (Elt F) (iLoc d)) (o : Buf (Elt F) (oLoc d)) (c s : Nat) :
    BI.Storable (upEmb : UEmb _ 𝕄) (piece d p t o c s) := by
  unfold piece; infer_instance

instance P_storable : (P (F := F) p t o).IsStorable where
  st q d c := match q with
    | 0 => (inferInstance : BI.Storable (upEmb : UEmb _ 𝕄) (bigSep Finset.univ fun s : Fin 16 => piece d (p d) (t d) (o d) c.val s.val))
  dn q d c := match q with
    | 0 => (inferInstance : BI.Storable (upEmb : UEmb _ 𝕄) (bigSep Finset.univ fun s : Fin 16 => piece d (p d) (t d) (outVal (α := Elt F .f32) (p d) (t d)) c.val s.val))
  go q d c s := match q with
    | 0 => piece_storable d (p d) (t d) (o d) c.val s.val
  td q d c s := match q with
    | 0 => piece_storable d (p d) (t d) (outVal (α := Elt F .f32) (p d) (t d)) c.val s.val

theorem vecSplit : (K (F := F)).VecSplit' (P p t o) 0 := by
  intro d c
  have hs : (P p t o).st 0 d c ⊢ bigSep Finset.univ fun i => (P p t o).go 0 d c i := Entails.of_eq rfl
  have hd : (bigSep Finset.univ fun i => (P p t o).td 0 d c i) ⊢ (P p t o).dn 0 d c := Entails.of_eq rfl
  iintro H; imodintro
  isplitl [H]; · iapply hs $$ H
  iintro H; iapply hd $$ H

variable [FloatOps F]

/-! ## The task, as the call asks for it -/

noncomputable def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__shuffle_body (coordsV c s)
          (Memref.whole main_arg0_scv) (Memref.isWhole_whole _) (Memref.whole main_v92_scv) (Memref.isWhole_whole _) (Memref.whole main_v93_scv) (Memref.isWhole_whole _)
          (Memref.whole cc0_scratch0) (Memref.isWhole_whole _) (Memref.whole cc0_scratch1) (Memref.isWhole_whole _)
          cc0_scoped0 cc0_scoped1 cc0_scoped2 cc0_scoped3 cc0_scoped4 cc0_scoped5 cc0_scoped6 cc0_scoped7 cc0_scoped8 cc0_scoped9 cc0_scoped10) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task keeps the call's bargain, if the table of sources names images only. -/
theorem tileObl (hF : (K (F := F)).Facts) (ht : ∀ d x, (t d x : BitVec 32).toNat < 16) : (K (F := F)).TileObl (D (F := F)) 𝒱 (P p t o) v₀ 0 := by
  intro d c i O W hO _ _
  simp only [show (P p t o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (p d) (t d) (o d) (sh c.val i.val) O W hF (ht d) hO).trans (wp_mono frame _ _ fun _ => obl_post)

end

end Cert.Proof.Shuffle

end
-- ==== Proof.Run.lean ====
/-
  The program's run: a line of host operations, then the call. The run ends with the images and the chosen permutations as the host operations left them,
  the output holding the moved patches, and every semaphore at zero.-/
module

public import proofs.«01_k».proof.Proof.Launch
public import Idealize.ShloMosaic.Lib.Pipeline.Frame
public import Idealize.ShloMosaic.Lib.StableHlo.Run

@[expose] public section

noncomputable section

namespace Cert.Proof.Shuffle

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type}

local notation "𝕄" => MT nD τ sig (HIx 1) (Elt F) ℕ UU ℕ

section

variable (m : (ℓ : Loc nD τ sig) → Buf (Elt F) ℓ) (ρ : Dev nD → PrngReg)
variable (ops : Dev nD → List (HloOp τ sig (Elt F)))

/-- The TensorCore's buffers once the host operations have run. -/
noncomputable abbrev V1 (d : Dev nD) : Valuation τ sig (Elt F) := after (ops d) (launchContents m d)

/-- The permutations' location. -/
noncomputable abbrev xLoc (d : Dev nD) : Loc nD τ sig := (SparseCore.T d).loc main_v88

/-- The images, the table of sources, the output and the permutations, as the host operations left them. -/
noncomputable def pf (d : Dev nD) : Buf (Elt F) (pLoc d) := V1 m ops d (Proc.devRef .tc main_arg0)
noncomputable def tf (d : Dev nD) : Buf (Elt F) (iLoc d) := V1 m ops d (Proc.devRef .tc main_v92)
noncomputable def of (d : Dev nD) : Buf (Elt F) (oLoc d) := V1 m ops d (Proc.devRef .tc main_v93)
noncomputable def xf (d : Dev nD) : Buf (Elt F) (xLoc d) := V1 m ops d (Proc.devRef .tc main_v88)

/-- The four arrays the call and the claims speak of. -/
noncomputable def four : Finset (DevRef τ sig) := {Proc.devRef .tc main_arg0, Proc.devRef .tc main_v92, Proc.devRef .tc main_v93, Proc.devRef .tc main_v88}

theorem four_sub : four ⊆ Pipeline.ucRefs τ sig := fun b hb => by
  simp only [four, Finset.mem_insert, Finset.mem_singleton] at hb
  rcases hb with rfl | rfl | rfl | rfl <;> exact Finset.mem_filter.mpr ⟨devRef_mem_tcRefs _, by decide⟩

theorem held_four (d : Dev nD) : (held (T d) four (V1 m ops d) : sProp 𝕄)
    = iprop((pLoc d ↦{fullShare} pf m ops d) ∗ (iLoc d ↦{fullShare} tf m ops d) ∗ (oLoc d ↦{fullShare} of m ops d) ∗ (xLoc d ↦{fullShare} xf m ops d)) := by
  have ne (a b : Ref sig .tc) (h : a ≠ b) : (Proc.devRef .tc a : DevRef τ sig) ≠ Proc.devRef .tc b := fun e => h (Proc.devRef_injective _ e)
  unfold held four
  rw [SparseCore.bigSep_insert' (by
      simp only [Finset.mem_insert, Finset.mem_singleton, not_or]
      exact ⟨ne _ _ (by decide), ne _ _ (by decide), ne _ _ (by decide)⟩),
    SparseCore.bigSep_insert' (by
      simp only [Finset.mem_insert, Finset.mem_singleton, not_or]
      exact ⟨ne _ _ (by decide), ne _ _ (by decide)⟩),
    SparseCore.bigSep_insert' (by
      simp only [Finset.mem_singleton]
      exact ne _ _ (by decide)), bigSep_singleton]
  rfl

/-- Of all the buffers the host operations leave, those four. -/
theorem split_four (d : Dev nD) : (held (d.tc : Thread nD τ) (Pipeline.ucRefs τ sig) (after (ops d) (launchContents m d)) : sProp 𝕄)
    ⊢ iprop(((pLoc d ↦{fullShare} pf m ops d) ∗ (iLoc d ↦{fullShare} tf m ops d) ∗ (oLoc d ↦{fullShare} of m ops d) ∗ (xLoc d ↦{fullShare} xf m ops d))
      ∗ held (d.tc : Thread nD τ) (Pipeline.ucRefs τ sig \ four) (after (ops d) (launchContents m d))) := by
  have e : (held (d.tc : Thread nD τ) (Pipeline.ucRefs τ sig) (V1 m ops d) : sProp 𝕄) = iprop(held (d.tc : Thread nD τ) four (V1 m ops d)
      ∗ held (d.tc : Thread nD τ) (Pipeline.ucRefs τ sig \ four) (V1 m ops d)) :=
    held_sub_split (sig := sig) (d.tc : Thread nD τ) (T := four) (S := Pipeline.ucRefs τ sig) (four_sub) (V1 m ops d)
  rw [held_four m ops d] at e
  exact Entails.of_eq e

/-- The launch's payments, over what the host operations left. -/
noncomputable abbrev Pm : (K (F := F)).Pay (nD := nD) (Val := Elt F) (Name := ℕ) (U := UU) := P (pf m ops) (tf m ops) (of m ops)

theorem st0_eq (d : Dev nD) : (bigSep Finset.univ fun c : Fin ((K (F := F)).nCore 0) => (Pm m ops).st 0 d c)
    = iprop((pLoc d ↦{fullShare} pf m ops d) ∗ (iLoc d ↦{fullShare} tf m ops d) ∗ (oLoc d ↦{fullShare} of m ops d)) :=
  pieces d (pf m ops d) (tf m ops d) (of m ops d)
theorem dn0_eq (d : Dev nD) : (bigSep Finset.univ fun c : Fin ((K (F := F)).nCore 0) => (Pm m ops).dn 0 d c)
    = iprop((pLoc d ↦{fullShare} pf m ops d) ∗ (iLoc d ↦{fullShare} tf m ops d)
        ∗ (oLoc d ↦{fullShare} (outVal (α := Elt F .f32) (pf m ops d) (tf m ops d) : Buf (Elt F) (oLoc d)))) :=
  pieces d (pf m ops d) (tf m ops d) (outVal (α := Elt F .f32) (pf m ops d) (tf m ops d))

/-! ## The ghost state at launch -/

noncomputable def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m ops).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (Pm m ops).x q thr) = bigSep Finset.univ fun _ => iprop(emp) from
    bigSep_congr fun _ _ => bigSep_univ_of_subsingleton (0 : Fin 1), bigSep_emp']
  iempintro

/-! ## The TensorCore's program -/

variable [FloatOps F]

/-- A line of host operations, then the call. -/
noncomputable def prog (d : Dev nD) : Prog (TpuEff nD τ sig (Elt F) (SparseCore.Sig (ΛP (F := F)) 1) .tc) PUnit :=
  seq (ops d) >>= fun _ => sc.run d 0 >>= fun _ => pure ⟨⟩

/-- What the TensorCore keeps for the claim. -/
noncomputable abbrev FIN (d : Dev nD) : sProp 𝕄 := iprop((pLoc d ↦{fullShare} pf m ops d) ∗ (xLoc d ↦{fullShare} xf m ops d)
  ∗ (oLoc d ↦{fullShare} (outVal (α := Elt F .f32) (pf m ops d) (tf m ops d) : Buf (Elt F) (oLoc d))))

theorem hmain (hb : ∀ d, ∀ op ∈ ops d, op.bufs ⊆ tcRefs τ sig) (hf : ∀ d, ∀ op ∈ ops d, op.fresh = ∅) (κ : GSem nD τ sig → ℕ) (d : Dev nD) :
    iprop((K (F := F)).ctx EH (Pm m ops) κ ∗ (K (F := F)).tcSt EH d 0 ∗ (K (F := F)).tcRes m ρ d ∗ emp)
      ⊢ wp frame (wpE ((K (F := F)).defs (D (F := F))) 𝒱 (SparseCore.T d) none) Set.univ (prog ops d)
          fun _ => iprop((K (F := F)).tcSt EH d 1 ∗ FIN m ops d ∗ (K (F := F)).tcEnd d) := by
  unfold SparseCore.Cfg.tcRes SparseCore.Cfg.tcEnd prog
  rw [show (unscopedBufs d (fun b => m ((SparseCore.T d : Thread nD τ).loc b)) : sProp 𝕄) = held (T d) (Pipeline.ucRefs τ sig) (launchContents m d) from
    Pipeline.unscopedBufs_held d (launchContents m d)]
  iintro ⟨#Hctx, Hst, ⟨Hb, Hh, Hts, -⟩, -⟩
  iapply (wp_seq 𝒱 none Set.univ d (Pipeline.ucRefs τ sig) (fun _ => sc.run d 0 >>= fun _ => pure ⟨⟩) (ops d)
    (fun op h => Pipeline.sub_ucRefs op (hb d op h)) (hf d) (launchContents m d)) $$ [Hb Hh]
  · isplitl [Hb] <;> iassumption
  iintro ⟨Hb, Hh⟩
  ihave Hh' := (split_four m ops d) $$ Hh
  icases Hh' with ⟨⟨Hp, Hi, Ho, Hx⟩, -⟩
  simp only [wp_bind, wp_pure]
  iapply ((K (F := F)).wp_run (D (F := F)) 𝒱 (EH := EH) (P := Pm m ops) κ d 0) $$ [Hst Hp Hi Ho Hx Hb Hts]
  isplitr; · iexact Hctx
  isplitl [Hst]; · iexact Hst
  isplitl [Hp Hi Ho]
  · rw [st0_eq]
    isplitl [Hp]; · iexact Hp
    isplitl [Hi]; · iexact Hi
    iexact Ho
  iintro ⟨Hst, Hdn⟩
  ihave Hdn' := (Entails.of_eq (dn0_eq m ops d)) $$ Hdn
  icases Hdn' with ⟨Hp, -, Ho⟩
  imodintro
  isplitl [Hst]; · iexact Hst
  isplitr [Hb Hts]
  · isplitl [Hp]; · iexact Hp
    isplitl [Hx]; · iexact Hx
    iexact Ho
  isplitl [Hb] <;> iassumption

/-- What the claim reads off device `d`'s memory. -/
noncomputable def fq (d : Dev nD) (s' : Phys nD τ sig (Elt F)) : Prop :=
  s'.mem.mem (pLoc d) = pf m ops d ∧ s'.mem.mem (xLoc d) = xf m ops d
    ∧ s'.mem.mem (oLoc d) = (outVal (α := Elt F .f32) (pf m ops d) (tf m ops d) : Buf (Elt F) (oLoc d))

set_option maxRecDepth 16384 in
theorem hfin (d : Dev nD) (s' : Phys nD τ sig (Elt F)) : iprop(FIN m ops d ∗ SI s') ⊢ (⌜fq m ops d s'⌝ : sProp 𝕄) := by
  iintro ⟨⟨Hp, Hx, Ho⟩, HSI⟩
  ihave H := (persistent_entails_right (SI_pointsTo_agree (st := s') (ℓ := pLoc d) (I := Finset.univ) (q := fullShare) (f := pf m ops d))) $$ [HSI Hp]
  · isplitl [HSI] <;> iassumption
  icases H with ⟨%h1, HSI, -⟩
  ihave H := (persistent_entails_right (SI_pointsTo_agree (st := s') (ℓ := xLoc d) (I := Finset.univ) (q := fullShare) (f := xf m ops d))) $$ [HSI Hx]
  · isplitl [HSI] <;> iassumption
  icases H with ⟨%h2, HSI, -⟩
  ihave H := (SI_pointsTo_agree (st := s') (ℓ := oLoc d) (I := Finset.univ) (q := fullShare)
    (f := (outVal (α := Elt F .f32) (pf m ops d) (tf m ops d) : Buf (Elt F) (oLoc d)))) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-! ## The run -/

/-- Every run ends with the images and the permutations as the host operations left them, the output holding the moved patches, every semaphore at zero. -/
theorem run_prog [∀ e, Nonempty (Elt F e)] (hb : ∀ d, ∀ op ∈ ops d, op.bufs ⊆ tcRefs τ sig) (hf : ∀ d, ∀ op ∈ ops d, op.fresh = ∅)
    (ht : ∀ d x, (tf m ops d x : BitVec 32).toNat < 16) :
    θ_run (defs (F := F)) (sc.threads (prog ops)) ⟨m, fun _ => 0, ρ⟩ fun r =>
      (∀ d : Dev nD, r.2.mem (pLoc d) = pf m ops d ∧ r.2.mem (xLoc d) = xf m ops d
        ∧ r.2.mem (oLoc d) = (outVal (α := Elt F .f32) (pf m ops d) (tf m ops d) : Buf (Elt F) (oLoc d))) ∧ r.2.sem = fun _ => 0 :=
  SparseCore.Cfg.θ_run_sc_quiescent (K := K (F := F)) (D := D (F := F)) (𝒱 := 𝒱) (EH := EH) (P := Pm m ops) (A := ∅) launchFacts v₀
    (fun q hq => match q with | 0 => nomatch hq)
    (fun q _ => match q with | 0 => tileObl (pf m ops) (tf m ops) (of m ops) launchFacts ht)
    (fun q _ => match q with | 0 => SparseCore.Cfg.VecSplit.of_plain (vecSplit (pf m ops) (tf m ops) (of m ops)))
    m ρ (prog ops) (fun _ => iprop(emp)) (FIN m ops) (u₀ (F := F)) (sep_elim_left.trans (hu₀ m ops)) (hmain m ρ ops hb hf) (fq m ops) (hfin m ops) _ (fun _ h hz => ⟨h, hz⟩)

end

end Cert.Proof.Shuffle

end
-- ==== Proof.Line.lean ====
/-
  Straight lines of host operations whose destinations come in increasing order. Such a line leaves contents that every one of its
  operations leaves unchanged, so its final contents satisfy each operation's equation.
-/
module

public import Idealize.ShloMosaic.Lib.StableHlo.RunHlo

@[expose] public section

namespace Cert.Proof

open Idealize.ShloMosaic Idealize.SL.Sem Idealize.ShloMosaic.StableHlo

variable {nD : Nat} {τ τ' : Topo} {sig sig' : RefSig} {Val : EltTy → Type} {Λ : Labels}

/-- What an operation writes and what it reads, by reference. -/
abbrev Foot (sig : RefSig) : Type := Ref sig .tc × List (Ref sig .tc)

/-- The operation writes exactly the first component of the footprint, what it writes there is decided by the references of the second,
    it touches references of the TensorCore only, and it leaves nothing to the machine's choice. -/
structure Touches (op : HloOp τ sig Val) (t : Foot sig) : Prop where
  writes : op.writes = {Proc.devRef .tc t.1}
  reads : ∀ V V' : Valuation τ sig Val, (∀ s ∈ t.2, V (Proc.devRef .tc s) = V' (Proc.devRef .tc s)) →
    op.result V (Proc.devRef .tc t.1) = op.result V' (Proc.devRef .tc t.1)
  bufs : op.bufs ⊆ tcRefs τ sig
  fresh : op.fresh = ∅

section Builders

variable {a b c x y : Ref sig .tc}

/-- The footprint of an operation without operands. -/
theorem touches_nullary (v : y.ty.Contents Val) (hy) : Touches (nullary (τ := τ) y v hy) (y, []) where
  writes := rfl
  reads _ _ _ := by rw [nullary_result, nullary_result]
  bufs := fun d hd => by cases Finset.mem_singleton.mp hd; exact devRef_mem_tcRefs _
  fresh := rfl

/-- The footprint of an operation of one operand. -/
theorem touches_unary (f : x.ty.Contents Val → y.ty.Contents Val) (hx hy) : Touches (unary (τ := τ) x y f hx hy) (y, [x]) where
  writes := rfl
  reads _ _ h := by rw [unary_result, unary_result, h x (by simp)]
  bufs := fun d hd => by
    rw [unary_bufs] at hd
    simp only [Finset.mem_insert, Finset.mem_singleton] at hd
    rcases hd with rfl | rfl <;> exact devRef_mem_tcRefs _
  fresh := rfl

/-- The footprint of an operation of two operands. -/
theorem touches_binary (f : a.ty.Contents Val → b.ty.Contents Val → y.ty.Contents Val) (ha hb hy) :
    Touches (binary (τ := τ) a b y f ha hb hy) (y, [a, b]) where
  writes := rfl
  reads _ _ h := by rw [binary_result, binary_result, h a (by simp), h b (by simp)]
  bufs := fun d hd => by
    rw [binary_bufs] at hd
    simp only [Finset.mem_insert, Finset.mem_singleton] at hd
    rcases hd with rfl | rfl | rfl <;> exact devRef_mem_tcRefs _
  fresh := rfl

/-- The footprint of an operation of three operands. -/
theorem touches_ternary (f : c.ty.Contents Val → a.ty.Contents Val → b.ty.Contents Val → y.ty.Contents Val) (hc ha hb hy) :
    Touches (ternary (τ := τ) c a b y f hc ha hb hy) (y, [c, a, b]) where
  writes := rfl
  reads _ _ h := by rw [ternary_result, ternary_result, h c (by simp), h a (by simp), h b (by simp)]
  bufs := fun d hd => by
    rw [ternary_bufs] at hd
    simp only [Finset.mem_insert, Finset.mem_singleton] at hd
    rcases hd with rfl | rfl | rfl | rfl <;> exact devRef_mem_tcRefs _
  fresh := rfl

/-- The footprint of a reshape. -/
theorem touches_reshape (he hn hx hy) : Touches (reshape (τ := τ) (Val := Val) x y he hn hx hy) (y, [x]) where
  writes := rfl
  reads _ _ h := by rw [reshape_result, reshape_result, h x (by simp)]
  bufs := fun d hd => by
    rw [reshape_bufs] at hd
    simp only [Finset.mem_insert, Finset.mem_singleton] at hd
    rcases hd with rfl | rfl <;> exact devRef_mem_tcRefs _
  fresh := rfl

/-- The footprint of an operation of a family of operands. -/
theorem touches_nary {n : Nat} (xs : Fin n → Ref sig .tc) (f : ((k : Fin n) → (xs k).ty.Contents Val) → y.ty.Contents Val) (hxs hy) :
    Touches (nary (τ := τ) xs y f hxs hy) (y, List.ofFn xs) where
  writes := rfl
  reads V V' h := by
    rw [nary_result, nary_result]
    congr 1
    funext k
    exact h (xs k) (by simp)
  bufs := fun d hd => by
    rcases Finset.mem_insert.mp hd with rfl | hd
    · exact devRef_mem_tcRefs _
    · obtain ⟨k, -, rfl⟩ := Finset.mem_image.mp hd
      exact devRef_mem_tcRefs _
  fresh := rfl

end Builders

/-- The footprint found for an operation. -/
class HasFoot (op : HloOp τ sig Val) where
  foot : Foot sig
  touches : Touches op foot

section Builders

variable {a b c x y : Ref sig .tc}

instance (v : y.ty.Contents Val) (hy) : HasFoot (nullary (τ := τ) y v hy) := ⟨_, touches_nullary v hy⟩
instance (f : x.ty.Contents Val → y.ty.Contents Val) (hx hy) : HasFoot (unary (τ := τ) x y f hx hy) := ⟨_, touches_unary f hx hy⟩
instance (f : a.ty.Contents Val → b.ty.Contents Val → y.ty.Contents Val) (ha hb hy) : HasFoot (binary (τ := τ) a b y f ha hb hy) :=
  ⟨_, touches_binary f ha hb hy⟩
instance (f : c.ty.Contents Val → a.ty.Contents Val → b.ty.Contents Val → y.ty.Contents Val) (hc ha hb hy) :
    HasFoot (ternary (τ := τ) c a b y f hc ha hb hy) := ⟨_, touches_ternary f hc ha hb hy⟩
instance (he hn hx hy) : HasFoot (reshape (τ := τ) (Val := Val) x y he hn hx hy) := ⟨_, touches_reshape he hn hx hy⟩
instance {n : Nat} (xs : Fin n → Ref sig .tc) (f : ((k : Fin n) → (xs k).ty.Contents Val) → y.ty.Contents Val) (hxs hy) :
    HasFoot (nary (τ := τ) xs y f hxs hy) := ⟨_, touches_nary xs f hxs hy⟩

end Builders

/-- A program read as a line of host operations, with the footprint of each. -/
class Line (p : Prog (TpuEff nD τ sig Val Λ .tc) PUnit) where
  ops : List (HloOp τ sig Val)
  feet : List (Foot sig)
  isSeq : IsSeq p ops
  touches : List.Forall₂ Touches ops feet

namespace Line

/-- The empty line. -/
instance nil : Line (pure ⟨⟩ : Prog (TpuEff nD τ sig Val Λ .tc) PUnit) := ⟨[], [], IsSeq.nil, .nil⟩

/-- One operation before a line. -/
instance (priority := high) cons {op : HloOp τ sig Val} {k : Prog (TpuEff nD τ sig Val Λ .tc) PUnit} [t : HasFoot op] [L : Line k] :
    Line ((hlo rfl op fun _ => .ret (⟨⟩ : PUnit)) >>= fun _ => k) :=
  ⟨op :: L.ops, t.foot :: L.feet, IsSeq.cons L.isSeq, .cons t.touches L.touches⟩

/-- One operation alone. -/
instance one {op : HloOp τ sig Val} [t : HasFoot op] :
    Line (hlo rfl op fun _ => .ret (⟨⟩ : PUnit) : Prog (TpuEff nD τ sig Val Λ .tc) PUnit) :=
  ⟨[op], [t.foot], rfl, .cons t.touches .nil⟩

/-- One line before another. -/
instance append {p k : Prog (TpuEff nD τ sig Val Λ .tc) PUnit} [L : Line p] [M : Line k] : Line (p >>= fun _ => k) :=
  ⟨L.ops ++ M.ops, L.feet ++ M.feet, by
    have hp := L.isSeq; have hk := M.isSeq
    unfold IsSeq at hp hk ⊢
    rw [seq_append, ← hp, ← hk], List.rel_append L.touches M.touches⟩

section Ops

variable {op : HloOp τ sig Val} {p k q : Prog (TpuEff nD τ sig Val Λ .tc) PUnit}

theorem ops_nil : (nil : Line (nD := nD) (τ := τ) (sig := sig) (Val := Val) (Λ := Λ) _).ops = [] := rfl
theorem ops_cons [t : HasFoot op] [L : Line k] : (cons (op := op) (k := k)).ops = op :: L.ops := rfl
theorem ops_one [t : HasFoot op] : (one (nD := nD) (Λ := Λ) (op := op)).ops = [op] := rfl
theorem ops_append [L : Line p] [M : Line k] : (append (p := p) (k := k)).ops = L.ops ++ M.ops := rfl

end Ops

end Line

/-- A program read as a line of host operations that goes on as `k`. -/
class LineTo (k p : Prog (TpuEff nD τ sig Val Λ .tc) PUnit) where
  ops : List (HloOp τ sig Val)
  feet : List (Foot sig)
  isSeq : p = seq ops >>= fun _ => k
  touches : List.Forall₂ Touches ops feet

namespace LineTo

/-- Nothing before `k`. -/
instance (priority := low) here {k : Prog (TpuEff nD τ sig Val Λ .tc) PUnit} : LineTo k k := ⟨[], [], by simp [seq], .nil⟩

/-- A line before one that goes on as `k`. -/
instance before {k p q : Prog (TpuEff nD τ sig Val Λ .tc) PUnit} [L : Line p] [M : LineTo k q] : LineTo k (p >>= fun _ => q) :=
  ⟨L.ops ++ M.ops, L.feet ++ M.feet, by
    have hp := L.isSeq
    unfold IsSeq at hp
    rw [seq_append, bind_assoc, ← hp, ← M.isSeq], List.rel_append L.touches M.touches⟩

end LineTo

/-! ## Increasing destinations -/

/-- Every footprint writes above all that was written before it, from `lo` on, and reads below what it writes. -/
def rising : Nat → List (Foot sig) → Bool
  | _, [] => true
  | lo, t :: l =>
    bif Nat.ble lo t.1.idx.val then
      bif t.2.all fun s => Nat.blt s.idx.val t.1.idx.val then rising (t.1.idx.val + 1) l else false
    else false

theorem rising_cons {lo : Nat} {t : Foot sig} {l : List (Foot sig)} (h : rising lo (t :: l) = true) :
    lo ≤ t.1.idx.val ∧ (∀ s ∈ t.2, s.idx.val < t.1.idx.val) ∧ rising (t.1.idx.val + 1) l = true := by
  unfold rising at h
  rcases h1 : Nat.ble lo t.1.idx.val with _ | _
  · rw [h1] at h; simp at h
  · rcases h2 : t.2.all fun s => Nat.blt s.idx.val t.1.idx.val with _ | _
    · rw [h1, h2] at h; simp at h
    · rw [h1, h2] at h
      refine ⟨Nat.le_of_ble_eq_true h1, fun s hs => ?_, by simpa using h⟩
      exact Nat.le_of_ble_eq_true (List.all_eq_true.mp h2 s hs)

/-- The contents `W` are ones that each of the operations leaves as they are. -/
def Sat (W : Valuation τ sig Val) (ops : List (HloOp τ sig Val)) : Prop := ∀ op ∈ ops, op.result W = W

/-- A rising line leaves the buffers below its start alone. -/
theorem after_low {ops : List (HloOp τ sig Val)} {feet : List (Foot sig)} (ht : List.Forall₂ Touches ops feet) :
    ∀ {lo : Nat}, rising lo feet = true → ∀ (V : Valuation τ sig Val) (r : Ref sig .tc), r.idx.val < lo →
      after ops V (Proc.devRef .tc r) = V (Proc.devRef .tc r) := by
  induction ht with
  | nil => intros; rfl
  | @cons op t ops feet h _ ih =>
    intro lo hr V r hlt
    obtain ⟨h1, _, h3⟩ := rising_cons hr
    rw [after_cons, ih h3 _ r (by omega)]
    refine HloOp.result_of_not_mem _ _ ?_
    rw [h.writes, Finset.mem_singleton]
    exact devRef_ne_of_ne fun e => by rw [e] at hlt; omega

/-- A rising line's final contents satisfy every operation of the line. -/
theorem sat_after {ops : List (HloOp τ sig Val)} {feet : List (Foot sig)} (ht : List.Forall₂ Touches ops feet) :
    ∀ {lo : Nat}, rising lo feet = true → ∀ V : Valuation τ sig Val, Sat (after ops V) ops := by
  induction ht with
  | nil => intro _ _ _ op h; cases h
  | @cons op t ops feet h ht ih =>
    intro lo hr V o ho
    obtain ⟨h1, h2, h3⟩ := rising_cons hr
    rcases List.mem_cons.mp ho with rfl | ho
    · funext d
      by_cases hd : d ∈ o.writes
      · rw [h.writes, Finset.mem_singleton] at hd
        subst hd
        rw [after_cons, after_low ht h3 _ t.1 (by omega)]
        refine h.reads _ _ fun s hs => ?_
        rw [after_low ht h3 _ s (by have := h2 s hs; omega)]
        refine HloOp.result_of_not_mem _ _ ?_
        rw [h.writes, Finset.mem_singleton]
        exact devRef_ne_of_ne fun e => by have := h2 s hs; rw [e] at this; omega
      · exact HloOp.result_of_not_mem _ _ hd
    · exact ih h3 _ o ho

theorem touches_bufs {ops : List (HloOp τ sig Val)} {feet : List (Foot sig)} (ht : List.Forall₂ Touches ops feet) :
    ∀ op ∈ ops, op.bufs ⊆ tcRefs τ sig ∧ op.fresh = ∅ := by
  induction ht with
  | nil => intro _ h; cases h
  | cons h _ ih =>
    intro o ho
    rcases List.mem_cons.mp ho with rfl | ho
    · exact ⟨h.bufs, h.fresh⟩
    · exact ih o ho

/-! ## Reading the equations -/

theorem Sat.tail {W : Valuation τ sig Val} {op : HloOp τ sig Val} {l : List (HloOp τ sig Val)} (h : Sat W (op :: l)) : Sat W l :=
  fun o ho => h o (List.mem_cons_of_mem _ ho)
theorem Sat.left {W : Valuation τ sig Val} {l l' : List (HloOp τ sig Val)} (h : Sat W (l ++ l')) : Sat W l :=
  fun o ho => h o (List.mem_append_left _ ho)
theorem Sat.right {W : Valuation τ sig Val} {l l' : List (HloOp τ sig Val)} (h : Sat W (l ++ l')) : Sat W l' :=
  fun o ho => h o (List.mem_append_right _ ho)

theorem Sat.at {W : Valuation τ sig Val} {op : HloOp τ sig Val} {l : List (HloOp τ sig Val)} (h : Sat W (op :: l)) (d : DevRef τ sig) :
    W d = op.result W d := by rw [h op List.mem_cons_self]

/-- The contents of a typed reference, at its own type. -/
def get {T : BufTy} (W : Valuation τ sig Val) (x : TRef sig T) : T.Contents Val := x.ofBuf (W (Proc.devRef .tc x.ref))

variable {T Ta Tb Tc Tx Ty : BufTy}

theorem Sat.nullary {W : Valuation τ sig Val} {l : List (HloOp τ sig Val)} {y : TRef sig Ty} {v : Ty.Contents Val}
    (h : Sat W (TRef.nullary y v :: l)) : get W y = v := by
  rw [get, h.at, nullary_result', TRef.ofBuf_toBuf]

theorem Sat.unary {W : Valuation τ sig Val} {l : List (HloOp τ sig Val)} {x : TRef sig Tx} {y : TRef sig Ty}
    {f : Tx.Contents Val → Ty.Contents Val} (h : Sat W (TRef.unary x y f :: l)) : get W y = f (get W x) := by
  rw [get, h.at, unary_result', TRef.ofBuf_toBuf]; rfl

theorem Sat.binary {W : Valuation τ sig Val} {l : List (HloOp τ sig Val)} {a : TRef sig Ta} {b : TRef sig Tb} {y : TRef sig Ty}
    {f : Ta.Contents Val → Tb.Contents Val → Ty.Contents Val} (h : Sat W (TRef.binary a b y f :: l)) :
    get W y = f (get W a) (get W b) := by
  rw [get, h.at, binary_result', TRef.ofBuf_toBuf]; rfl

theorem Sat.reshape {W : Valuation τ sig Val} {l : List (HloOp τ sig Val)} {x : TRef sig Tx} {y : TRef sig Ty}
    {he : Tx.elt = Ty.elt} {hn : Tx.shape.ShapeCasts Ty.shape} (h : Sat W (TRef.reshape x y he hn :: l)) :
    get W y = fun i => he ▸ shapeCast Ty.shape (get W x) hn i := by
  rw [get, h.at, reshape_result']
  obtain ⟨x, rfl, _, _⟩ := x
  obtain ⟨y, rfl, _, _⟩ := y
  rfl

/-! ## Two programs side by side

One lemma per form of operation: where the two lines begin with the same operation on operands that agree, their results agree. -/

variable {W : Valuation τ sig Val} {W' : Valuation τ' sig' Val} {l : List (HloOp τ sig Val)} {l' : List (HloOp τ' sig' Val)} {G : Prop}

theorem side_nullary {y : TRef sig Ty} {y' : TRef sig' Ty} {v : Ty.Contents Val}
    (k : get W y = get W' y' → Sat W l → Sat W' l' → G) (h : Sat W (TRef.nullary y v :: l)) (h' : Sat W' (TRef.nullary y' v :: l')) : G :=
  k (h.nullary.trans h'.nullary.symm) h.tail h'.tail

theorem side_unary {x : TRef sig Tx} {y : TRef sig Ty} {x' : TRef sig' Tx} {y' : TRef sig' Ty} {f : Tx.Contents Val → Ty.Contents Val}
    (hx : get W x = get W' x') (k : get W y = get W' y' → Sat W l → Sat W' l' → G)
    (h : Sat W (TRef.unary x y f :: l)) (h' : Sat W' (TRef.unary x' y' f :: l')) : G :=
  k (by rw [h.unary, h'.unary, hx]) h.tail h'.tail

theorem side_binary {a : TRef sig Ta} {b : TRef sig Tb} {y : TRef sig Ty} {a' : TRef sig' Ta} {b' : TRef sig' Tb} {y' : TRef sig' Ty}
    {f : Ta.Contents Val → Tb.Contents Val → Ty.Contents Val} (ha : get W a = get W' a') (hb : get W b = get W' b')
    (k : get W y = get W' y' → Sat W l → Sat W' l' → G)
    (h : Sat W (TRef.binary a b y f :: l)) (h' : Sat W' (TRef.binary a' b' y' f :: l')) : G :=
  k (by rw [h.binary, h'.binary, ha, hb]) h.tail h'.tail

theorem side_reshape {x : TRef sig Tx} {y : TRef sig Ty} {x' : TRef sig' Tx} {y' : TRef sig' Ty}
    {he : Tx.elt = Ty.elt} {hn : Tx.shape.ShapeCasts Ty.shape} (hx : get W x = get W' x')
    (k : get W y = get W' y' → Sat W l → Sat W' l' → G)
    (h : Sat W (TRef.reshape x y he hn :: l)) (h' : Sat W' (TRef.reshape x' y' he hn :: l')) : G :=
  k (by rw [h.reshape, h'.reshape, hx]) h.tail h'.tail

/-- Two lines in two pieces: what the first pieces give is there for the second. -/
theorem side_append {A : Prop} {r : List (HloOp τ sig Val)} {r' : List (HloOp τ' sig' Val)} (p : Sat W l → Sat W' l' → A)
    (k : A → Sat W r → Sat W' r' → G) (h : Sat W (l ++ r)) (h' : Sat W' (l' ++ r')) : G :=
  k (p h.left h'.left) h.right h'.right

end Cert.Proof
-- ==== Proof.LineI.lean ====
/-
  The host operations of `KernelIdeal` read as straight lines: each printed function's body, then `main`'s.
-/
module

public import proofs.«01_k».proof.KernelIdeal
public import proofs.«01_k».proof.Proof.Line

@[expose] public section

set_option maxRecDepth 10000
set_option synthInstance.maxSize 4000
set_option synthInstance.maxHeartbeats 4000000

namespace Cert.Proof.KernelIdeal

open Idealize.ShloMosaic Idealize.SL.Sem Idealize.ShloMosaic.StableHlo Cert.KernelIdeal

variable {F : FTy → Type} [FloatOps F] [Facts]

noncomputable section

instance threefry2x32_0 (a b : TRef sig ⟨S_, .i32⟩) (c e : TRef sig ⟨S16, .i32⟩) (φ : fn_threefry2x32.Bufs) : Line (fn_threefry2x32.body_part0 (F := F) a b c e φ) := by
  delta fn_threefry2x32.body_part0; infer_instance
instance threefry2x32_1 (a b : TRef sig ⟨S_, .i32⟩) (c e : TRef sig ⟨S16, .i32⟩) (φ : fn_threefry2x32.Bufs) : Line (fn_threefry2x32.body_part1 (F := F) a b c e φ) := by
  delta fn_threefry2x32.body_part1; infer_instance
instance threefry2x32_2 (a b : TRef sig ⟨S_, .i32⟩) (c e : TRef sig ⟨S16, .i32⟩) (φ : fn_threefry2x32.Bufs) : Line (fn_threefry2x32.body_part2 (F := F) a b c e φ) := by
  delta fn_threefry2x32.body_part2; infer_instance
instance threefry2x32_3 (a b : TRef sig ⟨S_, .i32⟩) (c e : TRef sig ⟨S16, .i32⟩) (φ : fn_threefry2x32.Bufs) : Line (fn_threefry2x32.body_part3 (F := F) a b c e φ) := by
  delta fn_threefry2x32.body_part3; infer_instance
instance threefry2x32_line (a b : TRef sig ⟨S_, .i32⟩) (c e : TRef sig ⟨S16, .i32⟩) (φ : fn_threefry2x32.Bufs) : Line (fn_threefry2x32.body (F := F) a b c e φ) := by
  delta fn_threefry2x32.body; infer_instance
instance threefry_split_line (a : TRef sig ⟨S2, .i32⟩) (φ : fn_threefry_split.Bufs) : Line (fn_threefry_split.body (F := F) a φ) := by
  delta fn_threefry_split.body; infer_instance

instance threefry2x32_1_0 (a b : TRef sig ⟨S_, .i32⟩) (c e : TRef sig ⟨S2, .i32⟩) (φ : fn_threefry2x32_1.Bufs) : Line (fn_threefry2x32_1.body_part0 (F := F) a b c e φ) := by
  delta fn_threefry2x32_1.body_part0; infer_instance
instance threefry2x32_1_1 (a b : TRef sig ⟨S_, .i32⟩) (c e : TRef sig ⟨S2, .i32⟩) (φ : fn_threefry2x32_1.Bufs) : Line (fn_threefry2x32_1.body_part1 (F := F) a b c e φ) := by
  delta fn_threefry2x32_1.body_part1; infer_instance
instance threefry2x32_1_2 (a b : TRef sig ⟨S_, .i32⟩) (c e : TRef sig ⟨S2, .i32⟩) (φ : fn_threefry2x32_1.Bufs) : Line (fn_threefry2x32_1.body_part2 (F := F) a b c e φ) := by
  delta fn_threefry2x32_1.body_part2; infer_instance
instance threefry2x32_1_3 (a b : TRef sig ⟨S_, .i32⟩) (c e : TRef sig ⟨S2, .i32⟩) (φ : fn_threefry2x32_1.Bufs) : Line (fn_threefry2x32_1.body_part3 (F := F) a b c e φ) := by
  delta fn_threefry2x32_1.body_part3; infer_instance
instance threefry2x32_1_line (a b : TRef sig ⟨S_, .i32⟩) (c e : TRef sig ⟨S2, .i32⟩) (φ : fn_threefry2x32_1.Bufs) : Line (fn_threefry2x32_1.body (F := F) a b c e φ) := by
  delta fn_threefry2x32_1.body; infer_instance
instance threefry_split_0_line (a : TRef sig ⟨S2, .i32⟩) (φ : fn_threefry_split_0.Bufs) : Line (fn_threefry_split_0.body (F := F) a φ) := by
  delta fn_threefry_split_0.body; infer_instance

instance shuffle_line (a : TRef sig ⟨S2, .i32⟩) (b : TRef sig ⟨S16, .i32⟩) (φ : fn_shuffle.Bufs) : Line (fn_shuffle.body (F := F) a b φ) := by
  delta fn_shuffle.body; infer_instance
instance pad_line (a : TRef sig ⟨S64x4, .i32⟩) (b : TRef sig ⟨S_, .i32⟩) (φ : fn_pad.Bufs) : Line (fn_pad.body (F := F) a b φ) := by
  delta fn_pad.body; infer_instance

instance main_0 (d : Dev nD) : Line (main_part0 (F := F) d) := by delta main_part0; infer_instance
/-- `main`'s second part is a line of host operations, then the launch. -/
instance main_1 (d : Dev nD) : LineTo (sc.run d 0 >>= fun _ => pure ⟨⟩) (main_part1 (F := F) d) := by delta main_part1; infer_instance
/-- `main` is a line of host operations, then the launch. -/
instance line (d : Dev nD) : LineTo (sc.run d 0 >>= fun _ => pure ⟨⟩) (main (F := F) d) := by delta main; infer_instance

end

end Cert.Proof.KernelIdeal
-- ==== Proof.Value.lean ====
module
public import proofs.«01_k».proof.KernelIdeal
public import proofs.«01_k».proof.ReferenceIdeal
public import Idealize.ShloMosaic.Lib.Pipeline.Value
public import Idealize.ShloMosaic.Lib.ValueIdxCoords
public import Idealize.ShloMosaic.Lib.ValueIdxRank6

/-! The values of the host operations around the sort, read element by element. -/

@[expose] public section

set_option maxRecDepth 10000

namespace Cert.Proof.Value
open Idealize.ShloMosaic ValueIdx
open Cert.KernelIdeal (S_ S2 S1x2 S16x2 S16 S1x16 S16x16 S4x4x16 S16x4x4 S64x4 S64x16)

variable {α : Type}

/-- A matrix from its sixteen rows. -/
def stack (xs : Fin 16 → S16.Idx → α) : S16x16.Idx → α := fun j => xs (j 0) (ix1 (j 1))

/-- Sixteen rows, each made a one-row matrix, one under another. -/
theorem stack_of (bs : Fin 16 → S1x16.Idx → α) (xs : Fin 16 → S16.Idx → α) (h1 : S16.BroadcastsInDim S1x16 ![1])
    (hb : ∀ i, bs i = broadcastInDim S1x16 ![1] h1 (xs i)) (h) :
    concatenate S16x16 0 [⟨S1x16, bs 0⟩, ⟨S1x16, bs 1⟩, ⟨S1x16, bs 2⟩, ⟨S1x16, bs 3⟩, ⟨S1x16, bs 4⟩, ⟨S1x16, bs 5⟩, ⟨S1x16, bs 6⟩,
      ⟨S1x16, bs 7⟩, ⟨S1x16, bs 8⟩, ⟨S1x16, bs 9⟩, ⟨S1x16, bs 10⟩, ⟨S1x16, bs 11⟩, ⟨S1x16, bs 12⟩, ⟨S1x16, bs 13⟩, ⟨S1x16, bs 14⟩,
      ⟨S1x16, bs 15⟩] h = stack xs := by
  funext j
  refine (concatenate_ofFn_unit_apply (s₁ := S1x16) (t := S16x16) 0 bs h rfl rfl j (j 0) rfl (ix2 0 (j 1)) ?_).trans ?_
  · intro b hne
    match b with
    | ⟨0, _⟩ => exact absurd rfl hne
    | ⟨1, _⟩ => rfl
  · refine (congrFun (hb (j 0)) _).trans ?_
    exact broadcastInDim_apply _ _ _ _ (ix1 (j 1)) fun a => by
      match a with
      | ⟨0, _⟩ => rfl

/-- A row of a table of keys: the slice of one row, as a vector. -/
theorem key_row (n : Fin 16) (v : S16x2.Idx → α) (h : S16x2.Slices ![n.val, 0] S1x2) (hc : S1x2.ShapeCasts S2) :
    shapeCast S2 (extractStridedSlice S1x2 ![n.val, 0] v h) hc = fun k => v (ix2 n (k 0)) := by
  funext k
  refine (shapeCast_apply _ hc k (ix2 0 (k 0)) ?_).trans (extractStridedSlice_apply _ _ _ _ (ix2 n (k 0)) ?_)
  · rw [Shape.rowMajor_val_one, Shape.rowMajor_val_two]
    show 0 * 2 + (k 0).val = (k 0).val
    omega
  · intro a
    match a with
    | ⟨0, _⟩ => rfl
    | ⟨1, _⟩ => exact (Nat.zero_add _).symm

/-- A row of a square table of indices: the slice of one row, as a vector. -/
theorem index_row (n : Fin 16) (v : S16x16.Idx → α) (h : S16x16.Slices ![n.val, 0] S1x16) (hc : S1x16.ShapeCasts S16) :
    shapeCast S16 (extractStridedSlice S1x16 ![n.val, 0] v h) hc = fun k => v (ix2 n (k 0)) := by
  funext k
  refine (shapeCast_apply _ hc k (ix2 0 (k 0)) ?_).trans (extractStridedSlice_apply _ _ _ _ (ix2 n (k 0)) ?_)
  · rw [Shape.rowMajor_val_one, Shape.rowMajor_val_two]
    show 0 * 16 + (k 0).val = (k 0).val
    omega
  · intro a
    match a with
    | ⟨0, _⟩ => rfl
    | ⟨1, _⟩ => exact (Nat.zero_add _).symm

/-- The table of sources the kernel reads: row `4 n + r`, column `w` is the source of image `n` at patch `(r, w)`. -/
theorem table_at (s : S16x16.Idx → α) (h1 : S16x16.ShapeCasts S4x4x16) (h2 : S4x4x16.Transposes [2, 0, 1] S16x4x4)
    (h3 : S16x4x4.ShapeCasts S64x4) (v : S_.Idx → α) (h4 : S64x4.Pads ![0, 0] ![0, 12] ![0, 0] S64x16) (h0 : 0 < S_.numel)
    (n : Fin 16) (r w : Fin 4) :
    pad S64x16 ![0, 0] ![0, 12] ![0, 0] (shapeCast S64x4 (transpose S16x4x4 [2, 0, 1] (shapeCast S4x4x16 s h1) h2) h3) v h4 h0
      (ix2 ⟨4 * n.val + r.val, by omega⟩ ⟨w.val, by omega⟩) = s (ix2 ⟨4 * r.val + w.val, by omega⟩ n) := by
  unfold pad
  rw [dif_pos (by
    intro a
    match a with
    | ⟨0, _⟩ =>
      refine ⟨Nat.zero_le _, Nat.mod_one _, ?_⟩
      show (4 * n.val + r.val - 0) / 1 < 64
      omega
    | ⟨1, _⟩ =>
      refine ⟨Nat.zero_le _, Nat.mod_one _, ?_⟩
      show (w.val - 0) / 1 < 4
      omega)]
  refine (shapeCast_apply _ h3 _ (ix3 n r w) ?_).trans ((transpose_apply _ _ h2 _ (ix3 r w n) ?_).trans
    (shapeCast_apply _ h1 _ (ix2 ⟨4 * r.val + w.val, by omega⟩ n) ?_))
  · rw [Shape.rowMajor_val_three, Shape.rowMajor_val_two]
    show (n.val * 4 + r.val) * 4 + w.val = (4 * n.val + r.val - 0) / 1 * 4 + (w.val - 0) / 1
    omega
  · intro b
    match b with
    | ⟨0, _⟩ => rfl
    | ⟨1, _⟩ => rfl
    | ⟨2, _⟩ => rfl
  · rw [Shape.rowMajor_val_three, Shape.rowMajor_val_two]
    show (4 * r.val + w.val) * 16 + n.val = (r.val * 4 + w.val) * 16 + n.val
    omega

/-- What holds of every index and of the padding holds of every entry of the table of sources. -/
theorem table_all (p : α → Prop) (s : S16x16.Idx → α) (h1 : S16x16.ShapeCasts S4x4x16) (h2 : S4x4x16.Transposes [2, 0, 1] S16x4x4)
    (h3 : S16x4x4.ShapeCasts S64x4) (v : S_.Idx → α) (h4 : S64x4.Pads ![0, 0] ![0, 12] ![0, 0] S64x16) (h0 : 0 < S_.numel)
    (hs : ∀ j, p (s j)) (hv : ∀ j, p (v j)) (j : S64x16.Idx) :
    p (pad S64x16 ![0, 0] ![0, 12] ![0, 0] (shapeCast S64x4 (transpose S16x4x4 [2, 0, 1] (shapeCast S4x4x16 s h1) h2) h3) v h4 h0 j) := by
  unfold pad
  split
  · exact hs _
  · exact hv _

/-- Sorting sixteen counters by their keys permutes them: every entry is still below sixteen. -/
theorem sorted_lt {β : Type} (cmp : β × BitVec 32 → β × BitVec 32 → BitVec 1) (x : S16.Idx → β) (j : S16.Idx) :
    ((Host.sort2 S16 0 cmp x (iotaInDim S16 32 0)).2 j).toNat < 16 := by
  unfold Host.sort2
  split
  · show ((BitVec.ofNat 32 _)).toNat < 16
    rw [BitVec.toNat_ofNat]
    exact lt_of_le_of_lt (Nat.mod_le _ _) (Fin.isLt _)
  · rename_i h
    exact absurd (show (0 : Nat) < S16.rank by decide) (by simpa using h)

end Cert.Proof.Value
-- ==== Proof.Gather.lean ====
module
public import proofs.«01_k».proof.Proof.Value
public import Idealize.ShloMosaic.Lib.WordCmp

/-! The values of the reference's gather and of the rearrangements around it. -/

@[expose] public section

set_option maxRecDepth 10000

namespace Cert.Proof.Value
open Idealize.ShloMosaic ValueIdx
open Cert.ReferenceIdeal

variable {α : Type}

/-- An array of patches from its sixteen positions. -/
def stack5 (xs : Fin 16 → S16x96x56x56.Idx → α) : S16x16x96x56x56.Idx → α := fun j => xs (j 0) (ix4 (j 1) (j 2) (j 3) (j 4))

/-- Sixteen arrays of patches, each with an axis of length one in front, one after another. -/
theorem stack5_of (bs : Fin 16 → S1x16x96x56x56.Idx → α) (xs : Fin 16 → S16x96x56x56.Idx → α)
    (h1 : S16x96x56x56.BroadcastsInDim S1x16x96x56x56 ![1, 2, 3, 4])
    (hb : ∀ i, bs i = broadcastInDim S1x16x96x56x56 ![1, 2, 3, 4] h1 (xs i)) (h) :
    concatenate S16x16x96x56x56 0 [⟨S1x16x96x56x56, bs 0⟩, ⟨S1x16x96x56x56, bs 1⟩, ⟨S1x16x96x56x56, bs 2⟩, ⟨S1x16x96x56x56, bs 3⟩,
      ⟨S1x16x96x56x56, bs 4⟩, ⟨S1x16x96x56x56, bs 5⟩, ⟨S1x16x96x56x56, bs 6⟩, ⟨S1x16x96x56x56, bs 7⟩, ⟨S1x16x96x56x56, bs 8⟩,
      ⟨S1x16x96x56x56, bs 9⟩, ⟨S1x16x96x56x56, bs 10⟩, ⟨S1x16x96x56x56, bs 11⟩, ⟨S1x16x96x56x56, bs 12⟩, ⟨S1x16x96x56x56, bs 13⟩,
      ⟨S1x16x96x56x56, bs 14⟩, ⟨S1x16x96x56x56, bs 15⟩] h = stack5 xs := by
  funext j
  refine (concatenate_ofFn_unit_apply (s₁ := S1x16x96x56x56) (t := S16x16x96x56x56) 0 bs h rfl rfl j (j 0) rfl
    (ix5 0 (j 1) (j 2) (j 3) (j 4)) ?_).trans ?_
  · intro b hne
    match b with
    | ⟨0, _⟩ => exact absurd rfl hne
    | ⟨1, _⟩ => rfl
    | ⟨2, _⟩ => rfl
    | ⟨3, _⟩ => rfl
    | ⟨4, _⟩ => rfl
  · refine (congrFun (hb (j 0)) _).trans ?_
    exact broadcastInDim_apply _ _ _ _ (ix4 (j 1) (j 2) (j 3) (j 4)) fun a => by
      match a with
      | ⟨0, _⟩ => rfl
      | ⟨1, _⟩ => rfl
      | ⟨2, _⟩ => rfl
      | ⟨3, _⟩ => rfl

/-- The patches at one position: the slice of that position, as an array of images. -/
theorem patch_row (n : Fin 16) (v : S16x16x96x56x56.Idx → α) (h : S16x16x96x56x56.Slices ![n.val, 0, 0, 0, 0] S1x16x96x56x56)
    (hc : S1x16x96x56x56.ShapeCasts S16x96x56x56) :
    shapeCast S16x96x56x56 (extractStridedSlice S1x16x96x56x56 ![n.val, 0, 0, 0, 0] v h) hc
      = fun k => v (ix5 n (k 0) (k 1) (k 2) (k 3)) := by
  funext k
  refine (shapeCast_apply _ hc k (ix5 0 (k 0) (k 1) (k 2) (k 3)) ?_).trans
    (extractStridedSlice_apply _ _ _ _ (ix5 n (k 0) (k 1) (k 2) (k 3)) ?_)
  · rw [Shape.rowMajor_val_five, Shape.rowMajor_val_four]
    show (((0 * 16 + (k 0).val) * 96 + (k 1).val) * 56 + (k 2).val) * 56 + (k 3).val
      = (((k 0).val * 96 + (k 1).val) * 56 + (k 2).val) * 56 + (k 3).val
    omega
  · intro a
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm

/-- The reference's patches: position `i`, image `n` is the patch of image `n` at row `i / 4` and column `i % 4`. -/
theorem patches_at (p : S16x96x224x224.Idx → α) (h1 : S16x96x224x224.ShapeCasts S16x96x4x56x4x56)
    (h2 : S16x96x4x56x4x56.Transposes [2, 4, 0, 1, 3, 5] S4x4x16x96x56x56) (h3 : S4x4x16x96x56x56.ShapeCasts S16x16x96x56x56)
    (r w : Fin 4) (n : Fin 16) (c : Fin 96) (y x : Fin 56) :
    shapeCast S16x16x96x56x56 (transpose S4x4x16x96x56x56 [2, 4, 0, 1, 3, 5] (shapeCast S16x96x4x56x4x56 p h1) h2) h3
      (ix5 ⟨4 * r.val + w.val, by omega⟩ n c y x)
      = p (ix4 n c ⟨56 * r.val + y.val, by omega⟩ ⟨56 * w.val + x.val, by omega⟩) := by
  refine (shapeCast_apply _ h3 _ (ix6 r w n c y x) ?_).trans ((transpose_apply _ _ h2 _ (ix6 n c r y w x) ?_).trans
    (shapeCast_apply _ h1 _ _ ?_))
  · rw [Shape.rowMajor_val_five, Shape.rowMajor_val_six]
    show ((((r.val * 4 + w.val) * 16 + n.val) * 96 + c.val) * 56 + y.val) * 56 + x.val
      = ((((4 * r.val + w.val) * 16 + n.val) * 96 + c.val) * 56 + y.val) * 56 + x.val
    omega
  · intro b
    match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_four, Shape.rowMajor_val_six]
    show ((n.val * 96 + c.val) * 224 + (56 * r.val + y.val)) * 224 + (56 * w.val + x.val)
      = ((((n.val * 96 + c.val) * 4 + r.val) * 56 + y.val) * 4 + w.val) * 56 + x.val
    omega

/-- The reference's output from its patches: the way back of `patches_at`. -/
theorem images_at (q : S16x16x96x56x56.Idx → α) (h1 : S16x16x96x56x56.ShapeCasts S4x4x16x96x56x56)
    (h2 : S4x4x16x96x56x56.Transposes [2, 3, 0, 4, 1, 5] S16x96x4x56x4x56) (h3 : S16x96x4x56x4x56.ShapeCasts S16x96x224x224)
    (r w : Fin 4) (n : Fin 16) (c : Fin 96) (y x : Fin 56) :
    shapeCast S16x96x224x224 (transpose S16x96x4x56x4x56 [2, 3, 0, 4, 1, 5] (shapeCast S4x4x16x96x56x56 q h1) h2) h3
      (ix4 n c ⟨56 * r.val + y.val, by omega⟩ ⟨56 * w.val + x.val, by omega⟩)
      = q (ix5 ⟨4 * r.val + w.val, by omega⟩ n c y x) := by
  refine (shapeCast_apply _ h3 _ (ix6 n c r y w x) ?_).trans ((transpose_apply _ _ h2 _ (ix6 r w n c y x) ?_).trans
    (shapeCast_apply _ h1 _ _ ?_))
  · rw [Shape.rowMajor_val_four, Shape.rowMajor_val_six]
    show ((((n.val * 96 + c.val) * 4 + r.val) * 56 + y.val) * 4 + w.val) * 56 + x.val
      = ((n.val * 96 + c.val) * 224 + (56 * r.val + y.val)) * 224 + (56 * w.val + x.val)
    omega
  · intro b
    match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_five, Shape.rowMajor_val_six]
    show ((((4 * r.val + w.val) * 16 + n.val) * 96 + c.val) * 56 + y.val) * 56 + x.val
      = ((((r.val * 4 + w.val) * 16 + n.val) * 96 + c.val) * 56 + y.val) * 56 + x.val
    omega

/-- An index below sixteen is not moved by counting negative indices from the end. -/
theorem wrap_small (a : IVec S16 32) (h1 h2 : S_.BroadcastsInDim S16 ![]) (ha : ∀ j, (a j).toNat < 16) :
    select (cmpi .slt a (broadcastInDim S16 ![] h1 (constantI S_ 32 0#32)))
      (addi a (broadcastInDim S16 ![] h2 (constantI S_ 32 16#32))) a = a := by
  funext j
  show Scalar.select (IntOp.cmpi .slt (a j) 0#32) _ (a j) = a j
  rw [WordCmp.cmpi_slt_zero, decide_eq_false (by have := ha j; omega)]
  rfl

/-- How the reference's gather reads its operand: one image at a time, its index counting along the first axis. -/
abbrev byImage [Facts] : GatherDims S16x96x56x56 S16x1 S16x96x56x56 :=
  gather_S16x96x56x56_S16x1_S16x96x56x56_123_0_n_n_0_1_1965656

/-- On the first axis the gather starts at the index, which is below sixteen. -/
theorem start_image [Facts] (a : IVec S16 32) (h : S16.BroadcastsInDim S16x1 ![0]) (j : S16x96x56x56.Idx)
    (ha : (a (ix1 (j 0))).toNat < 16) : byImage.start j (broadcastInDim S16x1 ![0] h a) (0 : Fin 4) = (a (ix1 (j 0))).toNat := by
  have ei : ((a (ix1 (j 0))).toInt).toNat = (a (ix1 (j 0))).toNat := by
    rw [BitVec.toInt_eq_toNat_of_lt (by omega)]; rfl
  have e : (broadcastInDim S16x1 ![0] h a) (byImage.siIdx j ⟨List.idxOf (0 : Fin 4) byImage.startIndexMap,
        List.idxOf_lt_length_iff.2 (List.mem_singleton.mpr rfl)⟩) = a (ix1 (j 0)) :=
    broadcastInDim_apply _ _ _ _ (ix1 (j 0)) fun c => by
      match c with
      | ⟨0, _⟩ => rfl
  refine (dif_pos (List.mem_singleton.mpr rfl)).trans ?_
  refine (congrArg (fun z : BitVec 32 => min z.toInt.toNat 15) e).trans ?_
  show min ((a (ix1 (j 0))).toInt).toNat 15 = _
  rw [ei]
  omega

/-- On the other axes it starts at the beginning. -/
theorem start_other [Facts] (i : IVec S16x1 32) (j : S16x96x56x56.Idx) (b : Fin 4) (hb : b ≠ 0) : byImage.start j i b = 0 :=
  dif_neg fun h => hb (List.mem_singleton.mp h)

/-- The axes but the first are read in full. -/
theorem kept_other [Facts] (b : Fin 4) (hb : b ≠ 0) : b ∈ byImage.sKept :=
  (GatherDims.mem_sKept _ _).mpr ⟨fun h => hb (List.mem_singleton.mp h), List.not_mem_nil⟩

/-- The reference's gather: image `j 0` of the result is the image its index names. -/
theorem gather_at [Facts] (x : S16x96x56x56.Idx → α) (a : IVec S16 32) (h : S16.BroadcastsInDim S16x1 ![0])
    (ha : ∀ j, (a j).toNat < 16) (j : S16x96x56x56.Idx) :
    Host.gather gather_S16x96x56x56_S16x1_S16x96x56x56_123_0_n_n_0_1_1965656 x (broadcastInDim S16x1 ![0] h a) j
      = x (ix4 ⟨(a (ix1 (j 0))).toNat, ha _⟩ (j 1) (j 2) (j 3)) := by
  unfold Host.gather
  congr 1
  funext b
  refine Fin.ext ?_
  show byImage.start j (broadcastInDim S16x1 ![0] h a) b + byImage.batchCoord j b + byImage.offCoord j b = _
  rw [GatherDims.batchCoord_eq_zero _ _ _ List.not_mem_nil, Nat.add_zero]
  match b with
  | ⟨0, _⟩ =>
    exact congrArg₂ (· + ·) (start_image a h j (ha _))
      (GatherDims.offCoord_eq_zero _ _ _ (fun h => ((GatherDims.mem_sKept _ _).mp h).1 (List.mem_singleton.mpr rfl)))
  | ⟨1, _⟩ =>
    exact (congrArg₂ (· + ·) (start_other _ j 1 (by decide)) (dif_pos (kept_other 1 (by decide)))).trans (Nat.zero_add _)
  | ⟨2, _⟩ =>
    exact (congrArg₂ (· + ·) (start_other _ j 2 (by decide)) (dif_pos (kept_other 2 (by decide)))).trans (Nat.zero_add _)
  | ⟨3, _⟩ =>
    exact (congrArg₂ (· + ·) (start_other _ j 3 (by decide)) (dif_pos (kept_other 3 (by decide)))).trans (Nat.zero_add _)

end Cert.Proof.Value
-- ==== Proof.Parse.lean ====
/-
  The forms the host operations of `main` come in, and what contents that satisfy them hold.
-/
module

public import proofs.«01_k».proof.Proof.Line
public import proofs.«01_k».proof.Proof.Value
public import proofs.«01_k».proof.Proof.Gather

@[expose] public section

set_option maxRecDepth 10000

namespace Cert.Proof

open Idealize.ShloMosaic Idealize.SL.Sem Idealize.ShloMosaic.StableHlo ValueIdx Value
open Cert.KernelIdeal (S_ S1 S2 S1x2 S16x2 S16 S1x16 S16x16 S4x4x16 S16x4x4 S64x4 S64x16)

variable {F : FTy → Type} [FloatOps F] {τ : Topo} {sig : RefSig} {W : Valuation τ sig (Elt F)}

section Pieces

variable {Val : EltTy → Type} {W : Valuation τ sig Val}

/-- An operation of three operands gives its function of them. -/
theorem Sat.ternary {Ta Tb Tc Ty : BufTy} {l : List (HloOp τ sig Val)} {a : TRef sig Ta} {b : TRef sig Tb} {c : TRef sig Tc}
    {y : TRef sig Ty} {f : Ta.Contents Val → Tb.Contents Val → Tc.Contents Val → Ty.Contents Val}
    (h : Sat W (TRef.ternary a b c y f :: l)) : get W y = f (get W a) (get W b) (get W c) := by
  rw [get, h.at, ternary_result', TRef.ofBuf_toBuf]; rfl

/-- An operation of a family of operands gives its function of them. -/
theorem Sat.nary {n : Nat} {l : List (HloOp τ sig Val)} {xs : Fin n → Ref sig .tc} {y : Ref sig .tc}
    {f : ((k : Fin n) → (xs k).ty.Contents Val) → y.ty.Contents Val} {hxs hy} (h : Sat W (nary xs y f hxs hy :: l)) :
    W (Proc.devRef .tc y) = f (fun k => W (Proc.devRef .tc (xs k))) := by
  rw [h.at, nary_result]

/-- Lines put one after another. -/
theorem Sat.append {l l' : List (HloOp τ sig Val)} (h : Sat W l) (h' : Sat W l') : Sat W (l ++ l') := fun o ho =>
  (List.mem_append.mp ho).elim (h o) (h' o)

/-- A line made of numbered pieces, taken apart. -/
theorem Sat.pieces {A : Fin 16 → List (HloOp τ sig Val) → List (HloOp τ sig Val)} {Q : Fin 16 → Prop}
    (hA : ∀ i l, Sat W (A i l) → Q i ∧ Sat W l) {rest : List (HloOp τ sig Val)} :
    ∀ {is : List (Fin 16)}, Sat W (is.foldr A rest) → (∀ i ∈ is, Q i) ∧ Sat W rest
  | [], h => ⟨fun _ hi => (List.not_mem_nil hi).elim, h⟩
  | i :: is, h => by
    obtain ⟨hi, h⟩ := hA i _ h
    obtain ⟨his, h⟩ := Sat.pieces hA (is := is) h
    exact ⟨fun j hj => (List.mem_cons.mp hj).elim (fun e => e ▸ hi) (his j), h⟩

end Pieces

/-! ## The key -/

/-- The first ten operations: the key made of the seed. -/
def keyOps (c c0 v0 v1 : TRef sig ⟨S_, .i32⟩) (v2 : TRef sig ⟨S1, .i32⟩) (c1 v3 v4 : TRef sig ⟨S_, .i32⟩) (v5 : TRef sig ⟨S1, .i32⟩)
    (v6 : TRef sig ⟨S2, .i32⟩) (hb : S_.BroadcastsInDim S1 ![])
    (hc : Shape.Concatenates [S1, S1] S2 0) : List (HloOp τ sig (Elt F)) :=
  [TRef.nullary c (constantI S_ 32 42#32), TRef.nullary c0 (constantI S_ 32 32#32), TRef.binary c c0 v0 Host.shrui, TRef.unary v0 v1 id,
    TRef.unary v1 v2 (broadcastInDim S1 ![] hb), TRef.nullary c1 (constantI S_ 32 4294967295#32), TRef.binary c c1 v3 andi,
    TRef.unary v3 v4 id, TRef.unary v4 v5 (broadcastInDim S1 ![] hb),
    TRef.binary v2 v5 v6 (fun a b => concatenate S2 0 [⟨S1, a⟩, ⟨S1, b⟩] hc)]

/-- The key: the seed's high word and its low word. -/
def keyVal (hb : S_.BroadcastsInDim S1 ![]) (hc : Shape.Concatenates [S1, S1] S2 0) : IVec S2 32 :=
  concatenate S2 0 [⟨S1, broadcastInDim S1 ![] hb (Host.shrui (constantI S_ 32 42#32) (constantI S_ 32 32#32))⟩,
    ⟨S1, broadcastInDim S1 ![] hb (andi (constantI S_ 32 42#32) (constantI S_ 32 4294967295#32))⟩] hc

/-- Contents that satisfy the first ten operations hold the key. -/
theorem key_read {c c0 v0 v1 v2 c1 v3 v4 v5 v6 hb hc} (h : Sat W (keyOps c c0 v0 v1 v2 c1 v3 v4 v5 v6 hb hc)) :
    get W v6 = keyVal hb hc := by
  unfold keyOps at h
  have e1 := h.nullary
  replace h := h.tail; have e2 := h.nullary
  replace h := h.tail; have e3 := h.binary
  replace h := h.tail; have e4 := h.unary
  replace h := h.tail; have e5 := h.unary
  replace h := h.tail; have e6 := h.nullary
  replace h := h.tail; have e7 := h.binary
  replace h := h.tail; have e8 := h.unary
  replace h := h.tail; have e9 := h.unary
  replace h := h.tail; have e10 := h.binary
  rw [e10, e9, e8, e7, e6, e5, e4, e3, e2, e1]
  rfl

/-! ## One row of the table of keys and the counters to shuffle -/

/-- A one-row slice of the keys lies inside them. -/
theorem slices_key : ∀ n : Fin 16, S16x2.Slices ![n.val, 0] S1x2 := by decide
/-- A one-row slice of the indices lies inside them. -/
theorem slices_index : ∀ n : Fin 16, S16x16.Slices ![n.val, 0] S1x16 := by decide

/-- The slice of key `n`. -/
abbrev sliceOp (n : Fin 16) (v : TRef sig ⟨S16x2, .i32⟩) (s : TRef sig ⟨S1x2, .i32⟩) : HloOp τ sig (Elt F) :=
  TRef.unary v s (extractStridedSlice S1x2 ![n.val, 0] · (slices_key n))
/-- That slice as a vector. -/
abbrev vectorOp (s : TRef sig ⟨S1x2, .i32⟩) (r : TRef sig ⟨S2, .i32⟩) (hc : S1x2.ShapeCasts S2) : HloOp τ sig (Elt F) :=
  TRef.reshape s r rfl hc
/-- The counters 0 to 15. -/
abbrev counterOp (j : TRef sig ⟨S16, .i32⟩) : HloOp τ sig (Elt F) := TRef.nullary j (iotaInDim S16 32 0)

/-- A slice and its reshape hold one key. -/
theorem key_of {n v s r hc} {l l' : List (HloOp τ sig (Elt F))} (h : Sat W (sliceOp n v s :: l)) (h' : Sat W (vectorOp s r hc :: l')) :
    get W r = fun k => get W v (ix2 n (k 0)) := by
  rw [h'.reshape, h.unary]
  exact key_row n _ (slices_key n) hc

/-- What one shuffle begins with: key `n` of the table, and the counters. -/
def Ready (W : Valuation τ sig (Elt F)) (v : TRef sig ⟨S16x2, .i32⟩) (n : Fin 16) (r : TRef sig ⟨S2, .i32⟩) (j : TRef sig ⟨S16, .i32⟩) :
    Prop :=
  get W r = (fun k => get W v (ix2 n (k 0))) ∧ get W j = iotaInDim S16 32 0

/-- One shuffle and what leads to it. -/
theorem ready_of {n v s r j hc} {c l : List (HloOp τ sig (Elt F))}
    (h : Sat W (sliceOp n v s :: vectorOp s r hc :: counterOp j :: (c ++ l))) : (Ready W v n r j ∧ Sat W c) ∧ Sat W l :=
  ⟨⟨⟨key_of h h.tail, h.tail.tail.nullary⟩, h.tail.tail.tail.left⟩, h.tail.tail.tail.right⟩

/-! ## The stack of the shuffled rows -/

/-- Each shuffled row as a one-row matrix. -/
abbrev rowOp (x : TRef sig ⟨S16, .i32⟩) (b : TRef sig ⟨S1x16, .i32⟩) (h : S16.BroadcastsInDim S1x16 ![1]) : HloOp τ sig (Elt F) :=
  TRef.unary x b (broadcastInDim S1x16 ![1] h)

/-! ## The table of sources -/

/-- The last operations before the launch: the indices rearranged by image and widened to sixteen columns. -/
def tableOps (v88 : TRef sig ⟨S16x16, .i32⟩) (v89 : TRef sig ⟨S4x4x16, .i32⟩) (v90 : TRef sig ⟨S16x4x4, .i32⟩)
    (v91 : TRef sig ⟨S64x4, .i32⟩) (c2 p0 : TRef sig ⟨S_, .i32⟩) (v92 : TRef sig ⟨S64x16, .i32⟩) (h1 : S16x16.ShapeCasts S4x4x16)
    (h2 : S4x4x16.Transposes [2, 0, 1] S16x4x4) (h3 : S16x4x4.ShapeCasts S64x4) (h4 : S64x4.Pads ![0, 0] ![0, 12] ![0, 0] S64x16)
    (h0 : 0 < S_.numel) : List (HloOp τ sig (Elt F)) :=
  [TRef.reshape v88 v89 rfl h1, TRef.unary v89 v90 (transpose S16x4x4 [2, 0, 1] · h2), TRef.reshape v90 v91 rfl h3,
    TRef.nullary c2 (constantI S_ 32 0#32), TRef.unary c2 p0 id,
    TRef.binary v91 p0 v92 (fun x v => pad S64x16 ![0, 0] ![0, 12] ![0, 0] x v h4 h0)]

/-- What the table of sources is, from the indices. -/
def tableVal (s : IVec S16x16 32) (h1 : S16x16.ShapeCasts S4x4x16) (h2 : S4x4x16.Transposes [2, 0, 1] S16x4x4)
    (h3 : S16x4x4.ShapeCasts S64x4) (h4 : S64x4.Pads ![0, 0] ![0, 12] ![0, 0] S64x16) (h0 : 0 < S_.numel) : IVec S64x16 32 :=
  pad S64x16 ![0, 0] ![0, 12] ![0, 0] (shapeCast S64x4 (transpose S16x4x4 [2, 0, 1] (shapeCast S4x4x16 s h1) h2) h3)
    (constantI S_ 32 0#32) h4 h0

/-- Contents that satisfy those operations hold the table of sources. -/
theorem table_read {v88 v89 v90 v91 c2 p0 v92 h1 h2 h3 h4 h0} {l : List (HloOp τ sig (Elt F))}
    (h : Sat W (tableOps v88 v89 v90 v91 c2 p0 v92 h1 h2 h3 h4 h0 ++ l)) :
    get W v92 = tableVal (get W v88) h1 h2 h3 h4 h0 := by
  replace h := h.left
  unfold tableOps at h
  have e1 := h.reshape
  replace h := h.tail; have e2 := h.unary
  replace h := h.tail; have e3 := h.reshape
  replace h := h.tail; have e4 := h.nullary
  replace h := h.tail; have e5 := h.unary
  replace h := h.tail; have e6 := h.binary
  rw [e6, e5, e4, e3, e2, e1]
  rfl

/-- Entries of the table are below sixteen when the indices are. -/
theorem tableVal_lt {s : IVec S16x16 32} (hs : ∀ j, (s j).toNat < 16) (h1 h2 h3 h4 h0) (j : S64x16.Idx) :
    (tableVal s h1 h2 h3 h4 h0 j).toNat < 16 :=
  table_all (fun a : BitVec 32 => a.toNat < 16) s h1 h2 h3 _ h4 h0 hs (fun _ => by show (0#32).toNat < 16; decide) j

end Cert.Proof
-- ==== Proof.ParseI.lean ====
/-
  The host operations of `KernelIdeal` read piece by piece: the key, the sixteen shuffles, the stack of the shuffled rows, the table of sources.
-/
module

public import proofs.«01_k».proof.Proof.LineI
public import proofs.«01_k».proof.Proof.Parse

@[expose] public section

set_option maxRecDepth 10000

namespace Cert.Proof.KernelIdeal

open Idealize.ShloMosaic Idealize.SL.Sem Idealize.ShloMosaic.StableHlo Cert.KernelIdeal Facts₀ Facts ValueIdx Cert.Proof.Value

variable {F : FTy → Type} [FloatOps F] [Facts] {W : Valuation τ sig (Elt F)}

/-- The slices of the sixteen keys. -/
noncomputable abbrev sl : Fin 16 → TRef sig ⟨S1x2, .i32⟩ := ![.of main_v8, .of main_v12, .of main_v16, .of main_v20, .of main_v24, .of main_v28, .of main_v32, .of main_v36, .of main_v40, .of main_v44, .of main_v48, .of main_v52, .of main_v56, .of main_v60, .of main_v64, .of main_v68]
/-- The sixteen keys. -/
noncomputable abbrev ky : Fin 16 → TRef sig ⟨S2, .i32⟩ := ![.of main_v9, .of main_v13, .of main_v17, .of main_v21, .of main_v25, .of main_v29, .of main_v33, .of main_v37, .of main_v41, .of main_v45, .of main_v49, .of main_v53, .of main_v57, .of main_v61, .of main_v65, .of main_v69]
/-- The counters each key shuffles. -/
noncomputable abbrev ct : Fin 16 → TRef sig ⟨S16, .i32⟩ := ![.of main_v10, .of main_v14, .of main_v18, .of main_v22, .of main_v26, .of main_v30, .of main_v34, .of main_v38, .of main_v42, .of main_v46, .of main_v50, .of main_v54, .of main_v58, .of main_v62, .of main_v66, .of main_v70]
/-- The buffers of the sixteen shuffles. -/
noncomputable abbrev sh : Fin 16 → fn_shuffle.Bufs := ![main_call1, main_call2, main_call3, main_call4, main_call5, main_call6, main_call7, main_call8, main_call9, main_call10, main_call11, main_call12, main_call13, main_call14, main_call15, main_call16]
/-- The shuffled rows as one-row matrices. -/
noncomputable abbrev rw1 : Fin 16 → TRef sig ⟨S1x16, .i32⟩ := ![.of main_v72, .of main_v73, .of main_v74, .of main_v75, .of main_v76, .of main_v77, .of main_v78, .of main_v79, .of main_v80, .of main_v81, .of main_v82, .of main_v83, .of main_v84, .of main_v85, .of main_v86, .of main_v87]

/-- Shuffle `n` and what leads to it. -/
noncomputable abbrev block (n : Fin 16) (l : List (HloOp τ sig (Elt F))) : List (HloOp τ sig (Elt F)) :=
  sliceOp n (.of main_v7) (sl n) :: vectorOp (sl n) (ky n) shapeCasts_S1x2_S2 :: counterOp (ct n)
    :: (Line.ops (fn_shuffle.body (F := F) (ky n) (ct n) (sh n)) ++ l)

/-- What shuffle `n` starts from, and that its own operations are satisfied. -/
noncomputable abbrev Shuffled (W : Valuation τ sig (Elt F)) (n : Fin 16) : Prop :=
  Ready W (.of main_v7) n (ky n) (ct n) ∧ Sat W (Line.ops (fn_shuffle.body (F := F) (ky n) (ct n) (sh n)))

/-- What the first part of `main` leaves: the key, the operations of its first call, twelve shuffles, and the slice of the next key. -/
theorem parse_0 (d : Dev nD) (h : Sat W (main_0 (F := F) d).ops) :
    get W (.of main_v6 : TRef sig ⟨S2, .i32⟩) = keyVal bcast_S_S1 concatenates_S1_S1_S2_d0
      ∧ Sat W (Line.ops (fn_threefry_split.body (F := F) (.of main_v6) main_call0))
      ∧ (∀ n ∈ ([0, 1, 2, 3, 4, 5, 6, 7, 8, 9, 10, 11] : List (Fin 16)), Shuffled W n)
      ∧ Sat W [sliceOp 12 (.of main_v7) (sl 12)] := by
  change Sat W (keyOps (.of main_c) (.of main_c_0) (.of main_v0) (.of main_v1) (.of main_v2) (.of main_c_1) (.of main_v3) (.of main_v4)
    (.of main_v5) (.of main_v6) bcast_S_S1 concatenates_S1_S1_S2_d0
    ++ (Line.ops (fn_threefry_split.body (F := F) (.of main_v6) main_call0)
    ++ ([0, 1, 2, 3, 4, 5, 6, 7, 8, 9, 10, 11] : List (Fin 16)).foldr block [sliceOp 12 (.of main_v7) (sl 12)])) at h
  have hp := Sat.pieces (fun i l hl => ready_of hl) h.right.right
  exact ⟨key_read h.left, h.right.left, hp⟩

/-- Shuffle `n` as the second part of `main` is cut. -/
noncomputable abbrev blockTo (n : Fin 16) (l : List (HloOp τ sig (Elt F))) : List (HloOp τ sig (Elt F)) :=
  [sliceOp n (.of main_v7) (sl n)] ++ ([vectorOp (sl n) (ky n) shapeCasts_S1x2_S2] ++ ([counterOp (ct n)]
    ++ (Line.ops (fn_shuffle.body (F := F) (ky n) (ct n) (sh n)) ++ l)))

/-- The shuffled rows as they are made one-row matrices. -/
noncomputable abbrev rowTo (n : Fin 16) (l : List (HloOp τ sig (Elt F))) : List (HloOp τ sig (Elt F)) :=
  [rowOp (sh n).v18_1 (rw1 n) bcast_S16_S1x16_1] ++ l

/-- What the second part of `main` leaves: the other shuffles, the stack of the shuffled rows and the table of sources. -/
theorem parse_1 (d : Dev nD) (hs : Sat W [sliceOp 12 (.of main_v7) (sl 12)]) (h : Sat W (main_1 (F := F) d).ops) :
    (∀ n ∈ ([12, 13, 14, 15] : List (Fin 16)), Shuffled W n)
      ∧ get W (.of main_v88 : TRef sig ⟨S16x16, .i32⟩) = stack (fun n => get W (sh n).v18_1)
      ∧ get W (.of main_v92 : TRef sig ⟨S64x16, .i32⟩) = tableVal (get W (.of main_v88 : TRef sig ⟨S16x16, .i32⟩))
          shapeCasts_S16x16_S4x4x16 transposes_S4x4x16_S16x4x4_2_0_1 shapeCasts_S16x4x4_S64x4 pads_S64x4_S64x16_000_0120 h_S_ := by
  change Sat W ([vectorOp (sl 12) (ky 12) shapeCasts_S1x2_S2] ++ ([counterOp (ct 12)]
    ++ (Line.ops (fn_shuffle.body (F := F) (ky 12) (ct 12) (sh 12)) ++ ([13, 14, 15] : List (Fin 16)).foldr blockTo _))) at h
  have h12 : Shuffled W 12 := ⟨⟨key_of hs h.left, h.right.left.nullary⟩, h.right.right.left⟩
  obtain ⟨h13, h⟩ := Sat.pieces (fun i l hl => ready_of hl) h.right.right.right
  change Sat W ((List.finRange 16).foldr rowTo _) at h
  obtain ⟨hr, h⟩ := Sat.pieces (Q := fun n => get W (rw1 n) = broadcastInDim S1x16 ![1] bcast_S16_S1x16_1 (get W (sh n).v18_1))
    (fun i l hl => ⟨Sat.unary hl, hl.tail⟩) h
  change Sat W (nary _ _ _ _ _ :: (tableOps (.of main_v88) (.of main_v89) (.of main_v90) (.of main_v91) (.of main_c_2)
    (.of main_call17_v0) (.of main_v92) shapeCasts_S16x16_S4x4x16 transposes_S4x4x16_S16x4x4_2_0_1 shapeCasts_S16x4x4_S64x4
    pads_S64x4_S64x16_000_0120 h_S_ ++ [])) at h
  refine ⟨fun n hn => (List.mem_cons.mp hn).elim (fun e => e ▸ h12) (h13 n), ?_, table_read h.tail⟩
  exact h.nary.trans (stack_of (fun n => get W (rw1 n)) (fun n => get W (sh n).v18_1) bcast_S16_S1x16_1
    (fun n => hr n (List.mem_finRange n)) _)

/-- What the host operations leave: the key, the operations of the first call, sixteen shuffles, their stack, and the table of sources. -/
theorem parse (d : Dev nD) (h : Sat W (line (F := F) d).ops) :
    get W (.of main_v6 : TRef sig ⟨S2, .i32⟩) = keyVal bcast_S_S1 concatenates_S1_S1_S2_d0
      ∧ Sat W (Line.ops (fn_threefry_split.body (F := F) (.of main_v6) main_call0))
      ∧ (∀ n, Shuffled W n)
      ∧ get W (.of main_v88 : TRef sig ⟨S16x16, .i32⟩) = stack (fun n => get W (sh n).v18_1)
      ∧ get W (.of main_v92 : TRef sig ⟨S64x16, .i32⟩) = tableVal (get W (.of main_v88 : TRef sig ⟨S16x16, .i32⟩))
          shapeCasts_S16x16_S4x4x16 transposes_S4x4x16_S16x4x4_2_0_1 shapeCasts_S16x4x4_S64x4 pads_S64x4_S64x16_000_0120 h_S_ := by
  change Sat W ((main_0 (F := F) d).ops ++ (main_1 (F := F) d).ops) at h
  obtain ⟨h1, h2, h3, h4⟩ := parse_0 d h.left
  obtain ⟨h5, h6, h7⟩ := parse_1 d h4 h.right
  refine ⟨h1, h2, fun n => ?_, h6, h7⟩
  by_cases hn : n.val < 12
  · exact h3 n (by revert n; decide)
  · exact h5 n (by revert n; decide)

/-- What one shuffle leaves: the counters, carried along by a sort. -/
theorem shuffle_sorted {a b φ} (h : Sat W (Line.ops (fn_shuffle.body (F := F) a b φ))) :
    get W φ.v18_1 = (Host.sort2 S16 0 comparator_i32_i32_d0 (get W φ.v17) (get W b)).2 := by
  change Sat W (_ ++ _) at h
  replace h := h.right
  iterate 17
    change Sat W (_ :: _) at h
    replace h := h.tail
  change Sat W (_ ++ _) at h
  replace h := h.right
  iterate 2
    change Sat W (_ :: _) at h
    replace h := h.tail
  change Sat W (_ :: _) at h
  exact h.binary

/-- The indices are below sixteen. -/
theorem indices_lt (d : Dev nD) (h : Sat W (line (F := F) d).ops) (j : S16x16.Idx) :
    (get W (.of main_v88 : TRef sig ⟨S16x16, .i32⟩) j : BitVec 32).toNat < 16 := by
  obtain ⟨-, -, hs, h88, -⟩ := parse d h
  rw [h88]
  show (get W (sh (j 0)).v18_1 (ix1 (j 1)) : BitVec 32).toNat < 16
  rw [shuffle_sorted (hs (j 0)).2, (hs (j 0)).1.2]
  exact sorted_lt _ _ _

/-- The sources in the table are below sixteen. -/
theorem sources_lt (d : Dev nD) (h : Sat W (line (F := F) d).ops) (j : S64x16.Idx) :
    (get W (.of main_v92 : TRef sig ⟨S64x16, .i32⟩) j : BitVec 32).toNat < 16 := by
  rw [(parse d h).2.2.2.2]
  exact tableVal_lt (indices_lt d h) _ _ _ _ _ j

end Cert.Proof.KernelIdeal
-- ==== Proof.RisingI.lean ====
/-
  Every host operation of `KernelIdeal` writes a later buffer than those before it, and reads earlier ones.
-/
module

public import proofs.«01_k».proof.Proof.LineI
public import proofs.«01_k».proof.Proof.Gen.KernelIdeal
public import Idealize.ShloMosaic.PureOps.Ideal

@[expose] public section

set_option maxRecDepth 100000

namespace Cert.Proof.KernelIdeal

open Idealize.ShloMosaic Cert.KernelIdeal

attribute [local instance] Gen.facts

/-- The host operations write increasing buffers, all after the argument's. -/
theorem rising_main : ∀ d : Dev nD, rising 1 (line (F := Ideal) d).feet = true := by decide +kernel

end Cert.Proof.KernelIdeal

end
-- ==== Proof.EndI.lean ====
/-
  The idealized kernel's whole program: what every run of it ends with.
-/
module

public import proofs.«01_k».proof.Proof.Run
public import proofs.«01_k».proof.Proof.ParseI
public import proofs.«01_k».proof.Proof.RisingI

@[expose] public section

set_option maxRecDepth 10000

namespace Cert.Proof.KernelIdeal

open Idealize.ShloMosaic Idealize.SL.Sem Idealize.ShloMosaic.StableHlo Cert.KernelIdeal Cert.Proof.Shuffle

attribute [local instance] Gen.facts

/-- The host operations of the program, device by device. -/
@[irreducible] noncomputable def hostOps (d : Dev nD) : List (HloOp τ sig (Elt Ideal)) := (line (F := Ideal) d).ops

/-- The program is its host operations, then the call. -/
theorem main_eq : main (F := Ideal) = prog hostOps := by
  funext d
  unfold prog hostOps
  exact (line (F := Ideal) d).isSeq

variable (m : (ℓ : Loc nD τ sig) → Buf (Elt Ideal) ℓ)

/-- What the host operations leave satisfies each of them. -/
theorem host_sat (d : Dev nD) : Sat (V1 m hostOps d) (line (F := Ideal) d).ops := by
  unfold V1 hostOps
  exact sat_after (line d).touches (rising_main d) _

/-- They leave the images alone. -/
theorem host_images (d : Dev nD) : pf m hostOps d = m (pLoc d) := by
  unfold pf V1 hostOps
  exact after_low (line d).touches (rising_main d) _ main_arg0 (by decide)

/-- Every operation touches the TensorCore's buffers only, and leaves nothing to choice. -/
theorem host_bufs (d : Dev nD) : ∀ op ∈ hostOps d, op.bufs ⊆ tcRefs τ sig ∧ op.fresh = ∅ := by
  unfold hostOps
  exact touches_bufs (line d).touches

/-- The sources in the table they leave are below sixteen. -/
theorem host_sources (d : Dev nD) (x : S64x16.Idx) : (tf m hostOps d x : BitVec 32).toNat < 16 := by
  have h := sources_lt d (host_sat m d) x
  unfold tf
  exact h

/-- Every run ends with the images unchanged, the permutations as drawn, the output holding the moved patches, and every semaphore at
    zero. -/
theorem run_main (ρ : Dev nD → PrngReg) :
    θ_run (defs (F := Ideal)) (threads (F := Ideal)) ⟨m, fun _ => 0, ρ⟩ fun r =>
      (∀ d : Dev nD, r.2.mem (pLoc d) = m (pLoc d) ∧ r.2.mem (xLoc d) = xf m hostOps d
        ∧ r.2.mem (oLoc d) = (outVal (α := Elt Ideal .f32) (m (pLoc d)) (tf m hostOps d) : Buf (Elt Ideal) (oLoc d)))
      ∧ r.2.sem = fun _ => 0 := by
  have h := run_prog m ρ hostOps (fun d op ho => (host_bufs d op ho).1) (fun d op ho => (host_bufs d op ho).2) (host_sources m)
  rw [← main_eq] at h
  refine θ_run_mono h fun r hr => ⟨fun d => ?_, hr.2⟩
  have hd := hr.1 d
  rw [host_images m d] at hd
  exact hd

end Cert.Proof.KernelIdeal

end
-- ==== Proof.RisingK.lean ====
/-
  Every host operation of `Kernel` writes a later buffer than those before it, and reads earlier ones.
-/
module

public import proofs.«01_k».proof.Proof.LineK
public import proofs.«01_k».proof.Proof.Gen.Kernel
public import Idealize.ShloMosaic.PureOps.BitExact

@[expose] public section

set_option maxRecDepth 100000

namespace Cert.Proof.Kernel

open Idealize.ShloMosaic Cert.Kernel

attribute [local instance] Gen.facts

/-- The host operations write increasing buffers, all after the argument's. -/
theorem rising_main : ∀ d : Dev nD, rising 1 (line (F := Bits) d).feet = true := by decide +kernel

end Cert.Proof.Kernel

end
-- ==== Proof.EndK.lean ====
/-
  The kernel's whole program as printed: what every run of it ends with.
-/
module

public import proofs.«01_k».proof.Proof.Run
public import proofs.«01_k».proof.Proof.ParseK
public import proofs.«01_k».proof.Proof.RisingK

@[expose] public section

set_option maxRecDepth 100000

namespace Cert.Proof.Kernel

open Idealize.ShloMosaic Idealize.SL.Sem Idealize.ShloMosaic.StableHlo Cert.Kernel

attribute [local instance] Gen.facts Cert.KernelIdeal.Gen.facts

/-- The host operations of the program, device by device. -/
@[irreducible] noncomputable def hostOps (d : Dev nD) : List (HloOp τ sig (Elt Bits)) := (line (F := Bits) d).ops

/-- The same operations, over the idealized program's names for the same buffers. -/
noncomputable def hostOpsI : Dev Cert.KernelIdeal.nD → List (HloOp Cert.KernelIdeal.τ Cert.KernelIdeal.sig (Elt Bits)) := hostOps

/-- The two programs have the same bodies. -/
theorem bodies_eq : defs₀ (F := Bits) = Cert.KernelIdeal.defs₀ (F := Bits) := by
  funext p; rcases p with _ | _ | _ <;> try rfl

/-- And so the same table of bodies. -/
theorem defs_eq : defs (F := Bits) = Cert.KernelIdeal.defs (F := Bits) := by
  show sc.defs (Pipeline.defs pcfgs defs₀) = Cert.KernelIdeal.sc.defs (Pipeline.defs Cert.KernelIdeal.pcfgs Cert.KernelIdeal.defs₀)
  rw [bodies_eq]
  rfl

/-- The program is its host operations, then the call. -/
theorem main_eq : main (F := Bits) = Shuffle.prog hostOpsI := by
  funext d
  unfold Shuffle.prog hostOpsI hostOps
  exact (line (F := Bits) d).isSeq

/-- The threads are the idealized program's, over these host operations. -/
theorem threads_eq : threads (F := Bits) = Cert.KernelIdeal.sc.threads (Shuffle.prog hostOpsI) := by
  rw [← main_eq]
  rfl

variable (m : (ℓ : Loc nD τ sig) → Buf (Elt Bits) ℓ)

/-- What the host operations leave satisfies each of them. -/
theorem host_sat (d : Dev nD) : Sat (after (hostOps d) (launchContents m d)) (line (F := Bits) d).ops := by
  unfold hostOps
  exact sat_after (line d).touches (rising_main d) _

/-- They leave the images alone. -/
theorem host_images (d : Dev nD) :
    after (hostOps d) (launchContents m d) (Proc.devRef .tc main_arg0) = m ((d.tc : Thread nD τ).loc main_arg0) := by
  unfold hostOps
  exact after_low (line d).touches (rising_main d) _ main_arg0 (by decide)

/-- Every operation touches the TensorCore's buffers only, and leaves nothing to choice. -/
theorem host_bufs (d : Dev nD) : ∀ op ∈ hostOps d, op.bufs ⊆ tcRefs τ sig ∧ op.fresh = ∅ := by
  unfold hostOps
  exact touches_bufs (line d).touches

/-- The sources in the table they leave are below sixteen. -/
theorem host_sources (d : Dev nD) (x : S64x16.Idx) :
    (get (after (hostOps d) (launchContents m d)) (.of main_v92 : TRef sig ⟨S64x16, .i32⟩) x : BitVec 32).toNat < 16 :=
  sources_lt d (host_sat m d) x

/-- The initial memory, over the idealized program's names for the same buffers. -/
noncomputable def memI : (ℓ : Loc Cert.KernelIdeal.nD Cert.KernelIdeal.τ Cert.KernelIdeal.sig) → Buf (Elt Bits) ℓ := m

/-- Every run ends with the images unchanged and every semaphore at zero. -/
theorem run_main (ρ : Dev nD → PrngReg) :
    θ_run (defs (F := Bits)) (threads (F := Bits)) ⟨m, fun _ => 0, ρ⟩ fun r =>
      (∀ d : Dev nD, r.2.mem ((d.tc : Thread nD τ).loc main_arg0) = m ((d.tc : Thread nD τ).loc main_arg0)) ∧ r.2.sem = fun _ => 0 := by
  have h := Shuffle.run_prog (memI m) ρ hostOpsI (fun d op ho => (host_bufs d op ho).1) (fun d op ho => (host_bufs d op ho).2)
    (fun d x => host_sources m d x)
  rw [defs_eq, threads_eq]
  refine θ_run_mono h fun r hr => ⟨fun d => ?_, hr.2⟩
  exact (hr.1 d).1.trans (host_images m d)

end Cert.Proof.Kernel

end
-- ==== Proof.LineR.lean ====
/-
  The host operations of `ReferenceIdeal` read as straight lines: each printed function's body, then `main`'s.
-/
module

public import proofs.«01_k».proof.ReferenceIdeal
public import proofs.«01_k».proof.Proof.Line

@[expose] public section

set_option maxRecDepth 10000
set_option synthInstance.maxSize 4000
set_option synthInstance.maxHeartbeats 4000000

namespace Cert.Proof.ReferenceIdeal

open Idealize.ShloMosaic Idealize.SL.Sem Idealize.ShloMosaic.StableHlo Cert.ReferenceIdeal

variable {F : FTy → Type} [FloatOps F] [Facts]

noncomputable section

instance threefry2x32_0 (a b : TRef sig ⟨S_, .i32⟩) (c e : TRef sig ⟨S16, .i32⟩) (φ : fn_threefry2x32.Bufs) : Line (fn_threefry2x32.body_part0 (F := F) a b c e φ) := by
  delta fn_threefry2x32.body_part0; infer_instance
instance threefry2x32_1 (a b : TRef sig ⟨S_, .i32⟩) (c e : TRef sig ⟨S16, .i32⟩) (φ : fn_threefry2x32.Bufs) : Line (fn_threefry2x32.body_part1 (F := F) a b c e φ) := by
  delta fn_threefry2x32.body_part1; infer_instance
instance threefry2x32_2 (a b : TRef sig ⟨S_, .i32⟩) (c e : TRef sig ⟨S16, .i32⟩) (φ : fn_threefry2x32.Bufs) : Line (fn_threefry2x32.body_part2 (F := F) a b c e φ) := by
  delta fn_threefry2x32.body_part2; infer_instance
instance threefry2x32_3 (a b : TRef sig ⟨S_, .i32⟩) (c e : TRef sig ⟨S16, .i32⟩) (φ : fn_threefry2x32.Bufs) : Line (fn_threefry2x32.body_part3 (F := F) a b c e φ) := by
  delta fn_threefry2x32.body_part3; infer_instance
instance threefry2x32_line (a b : TRef sig ⟨S_, .i32⟩) (c e : TRef sig ⟨S16, .i32⟩) (φ : fn_threefry2x32.Bufs) : Line (fn_threefry2x32.body (F := F) a b c e φ) := by
  delta fn_threefry2x32.body; infer_instance
instance threefry_split_line (a : TRef sig ⟨S2, .i32⟩) (φ : fn_threefry_split.Bufs) : Line (fn_threefry_split.body (F := F) a φ) := by
  delta fn_threefry_split.body; infer_instance

instance threefry2x32_1_0 (a b : TRef sig ⟨S_, .i32⟩) (c e : TRef sig ⟨S2, .i32⟩) (φ : fn_threefry2x32_1.Bufs) : Line (fn_threefry2x32_1.body_part0 (F := F) a b c e φ) := by
  delta fn_threefry2x32_1.body_part0; infer_instance
instance threefry2x32_1_1 (a b : TRef sig ⟨S_, .i32⟩) (c e : TRef sig ⟨S2, .i32⟩) (φ : fn_threefry2x32_1.Bufs) : Line (fn_threefry2x32_1.body_part1 (F := F) a b c e φ) := by
  delta fn_threefry2x32_1.body_part1; infer_instance
instance threefry2x32_1_2 (a b : TRef sig ⟨S_, .i32⟩) (c e : TRef sig ⟨S2, .i32⟩) (φ : fn_threefry2x32_1.Bufs) : Line (fn_threefry2x32_1.body_part2 (F := F) a b c e φ) := by
  delta fn_threefry2x32_1.body_part2; infer_instance
instance threefry2x32_1_3 (a b : TRef sig ⟨S_, .i32⟩) (c e : TRef sig ⟨S2, .i32⟩) (φ : fn_threefry2x32_1.Bufs) : Line (fn_threefry2x32_1.body_part3 (F := F) a b c e φ) := by
  delta fn_threefry2x32_1.body_part3; infer_instance
instance threefry2x32_1_line (a b : TRef sig ⟨S_, .i32⟩) (c e : TRef sig ⟨S2, .i32⟩) (φ : fn_threefry2x32_1.Bufs) : Line (fn_threefry2x32_1.body (F := F) a b c e φ) := by
  delta fn_threefry2x32_1.body; infer_instance
instance threefry_split_0_line (a : TRef sig ⟨S2, .i32⟩) (φ : fn_threefry_split_0.Bufs) : Line (fn_threefry_split_0.body (F := F) a φ) := by
  delta fn_threefry_split_0.body; infer_instance

instance shuffle_line (a : TRef sig ⟨S2, .i32⟩) (b : TRef sig ⟨S16, .i32⟩) (φ : fn_shuffle.Bufs) : Line (fn_shuffle.body (F := F) a b φ) := by
  delta fn_shuffle.body; infer_instance
instance main_0 (d : Dev nD) : Line (main_part0 (F := F) d) := by delta main_part0; infer_instance
instance main_1 (d : Dev nD) : Line (main_part1 (F := F) d) := by delta main_part1; infer_instance
instance main_2 (d : Dev nD) : Line (main_part2 (F := F) d) := by delta main_part2; infer_instance
instance main_3 (d : Dev nD) : Line (main_part3 (F := F) d) := by delta main_part3; infer_instance
instance main_4 (d : Dev nD) : Line (main_part4 (F := F) d) := by delta main_part4; infer_instance
instance main_5 (d : Dev nD) : Line (main_part5 (F := F) d) := by delta main_part5; infer_instance
/-- `main` is a line of host operations. -/
instance line (d : Dev nD) : Line (main (F := F) d) := by delta main; infer_instance

end

end Cert.Proof.ReferenceIdeal
-- ==== Proof.RisingR.lean ====
/-
  Every host operation of `ReferenceIdeal` writes a later buffer than those before it, and reads earlier ones.
-/
module

public import proofs.«01_k».proof.Proof.LineR
public import proofs.«01_k».proof.Proof.Gen.ReferenceIdeal
public import Idealize.ShloMosaic.PureOps.Ideal

@[expose] public section

set_option maxRecDepth 100000

namespace Cert.Proof.ReferenceIdeal

open Idealize.ShloMosaic Cert.ReferenceIdeal

attribute [local instance] Gen.facts

/-- The host operations write increasing buffers, all after the argument's. -/
theorem rising_main : ∀ d : Dev nD, rising 1 (line (F := Ideal) d).feet = true := by decide +kernel

end Cert.Proof.ReferenceIdeal

end
-- ==== Proof.EndR.lean ====
/-
  The reference's whole program: what every run of it ends with.
-/
module

public import proofs.«01_k».proof.Proof.LineR
public import proofs.«01_k».proof.Proof.RisingR
public import Idealize.ShloMosaic.Lib.Quiescent

@[expose] public section

set_option maxRecDepth 10000

namespace Cert.Proof.ReferenceIdeal

open Idealize.ShloMosaic Idealize.SL.Sem Idealize.ShloMosaic.StableHlo Cert.ReferenceIdeal

attribute [local instance] Gen.facts

variable (m : (ℓ : Loc nD τ sig) → Buf (Elt Ideal) ℓ)

/-- What the reference leaves in the TensorCore's buffers. -/
@[irreducible] noncomputable def left (d : Dev nD) : Valuation τ sig (Elt Ideal) := after (line (F := Ideal) d).ops (launchContents m d)

/-- What it leaves satisfies each of its operations. -/
theorem left_sat (d : Dev nD) : Sat (left m d) (line (F := Ideal) d).ops := by
  unfold left
  exact sat_after (line d).touches (rising_main d) _

/-- It leaves the images alone. -/
theorem left_images (d : Dev nD) : left m d (Proc.devRef .tc main_arg0) = m ((d.tc : Thread nD τ).loc main_arg0) := by
  unfold left
  exact after_low (line d).touches (rising_main d) _ main_arg0 (by decide)

/-- Every run ends with those contents, and every semaphore at zero. -/
theorem run_main (ρ : Dev nD → PrngReg) :
    θ_run (defs (F := Ideal)) (onTc (τ := τ) (main (F := Ideal))) ⟨m, fun _ => 0, ρ⟩ fun r =>
      (∀ (d : Dev nD) (b : Ref sig .tc), r.2.mem ((d.tc : Thread nD τ).loc b) = left m d (Proc.devRef .tc b)) ∧ r.2.sem = fun _ => 0 := by
  unfold left
  exact θ_run_mono (run_seq (by decide) (by decide) defs main (fun d => (line d).ops) (fun d => (line d).isSeq)
    (fun d => List.forall_iff_forall_mem.mpr fun op ho => (touches_bufs (line d).touches op ho).1) m ρ
    (fun d op ho => (touches_bufs (line d).touches op ho).2)) fun r h => ⟨h, sem_eq_zero_of_no_sems rfl r.2⟩

end Cert.Proof.ReferenceIdeal

end
-- ==== Proof.Sides.lean ====
/-
  The host functions of the kernel's program and of the reference's compute the same: on arguments that agree, their results agree.
-/
module

public import proofs.«01_k».proof.Proof.LineI
public import proofs.«01_k».proof.Proof.LineR

@[expose] public section

set_option maxRecDepth 10000
set_option maxHeartbeats 4000000

namespace Cert.Proof

open Idealize.ShloMosaic Idealize.SL.Sem Idealize.ShloMosaic.StableHlo

variable {F : FTy → Type} [FloatOps F] [Cert.KernelIdeal.Facts] [Cert.ReferenceIdeal.Facts]
variable {W : Valuation Cert.KernelIdeal.τ Cert.KernelIdeal.sig (Elt F)} {W' : Valuation Cert.ReferenceIdeal.τ Cert.ReferenceIdeal.sig (Elt F)}

/-- The counter-based hash of the random keys: its two result words agree when its two keys and its two counters do. -/
theorem side_threefry2x32 {a b c e φ a' b' c' e' φ'}
    (h : Sat W (Line.ops (Cert.KernelIdeal.fn_threefry2x32.body (F := F) a b c e φ)))
    (h' : Sat W' (Line.ops (Cert.ReferenceIdeal.fn_threefry2x32.body (F := F) a' b' c' e' φ')))
    (ha : get W a = get W' a') (hb : get W b = get W' b') (hc : get W c = get W' c') (he : get W e = get W' e') :
    get W φ.v171 = get W' φ'.v171 ∧ get W φ.v175 = get W' φ'.v175 := by
  revert h h'
  repeat
    change Sat W (_ :: _) → Sat W' (_ :: _) → _
    with_reducible first
      | refine side_nullary fun _ => ?_
      | refine side_unary (by assumption) fun _ => ?_
      | refine side_binary (by assumption) (by assumption) fun _ => ?_
  intro _ _
  exact ⟨by assumption, by assumption⟩

/-- The second size of the same hash: its two result words agree when its two keys and its two counters do. -/
theorem side_threefry2x32_1 {a b c e φ a' b' c' e' φ'}
    (h : Sat W (Line.ops (Cert.KernelIdeal.fn_threefry2x32_1.body (F := F) a b c e φ)))
    (h' : Sat W' (Line.ops (Cert.ReferenceIdeal.fn_threefry2x32_1.body (F := F) a' b' c' e' φ')))
    (ha : get W a = get W' a') (hb : get W b = get W' b') (hc : get W c = get W' c') (he : get W e = get W' e') :
    get W φ.v171 = get W' φ'.v171 ∧ get W φ.v175 = get W' φ'.v175 := by
  revert h h'
  repeat
    change Sat W (_ :: _) → Sat W' (_ :: _) → _
    with_reducible first
      | refine side_nullary fun _ => ?_
      | refine side_unary (by assumption) fun _ => ?_
      | refine side_binary (by assumption) (by assumption) fun _ => ?_
      | refine side_reshape (by assumption) fun _ => ?_
  intro _ _
  exact ⟨by assumption, by assumption⟩

/-- The sixteen keys made of one key agree when the key does. -/
theorem side_threefry_split {a φ a' φ'}
    (h : Sat W (Line.ops (Cert.KernelIdeal.fn_threefry_split.body (F := F) a φ)))
    (h' : Sat W' (Line.ops (Cert.ReferenceIdeal.fn_threefry_split.body (F := F) a' φ'))) (ha : get W a = get W' a') :
    get W φ.v14 = get W' φ'.v14 := by
  revert h h'
  iterate 13
    change Sat W (_ :: _) → Sat W' (_ :: _) → _
    with_reducible first
      | refine side_nullary fun _ => ?_
      | refine side_unary (by assumption) fun _ => ?_
      | refine side_binary (by assumption) (by assumption) fun _ => ?_
      | refine side_reshape (by assumption) fun _ => ?_
  change Sat W (_ ++ _) → Sat W' (_ ++ _) → _
  refine side_append (fun h h' => side_threefry2x32 h h' (by assumption) (by assumption) (by assumption) (by assumption)) fun ⟨_, _⟩ => ?_
  repeat
    change Sat W (_ :: _) → Sat W' (_ :: _) → _
    with_reducible first
      | refine side_nullary fun _ => ?_
      | refine side_unary (by assumption) fun _ => ?_
      | refine side_binary (by assumption) (by assumption) fun _ => ?_
      | refine side_reshape (by assumption) fun _ => ?_
  intro _ _
  assumption

/-- The two keys made of one key agree when the key does. -/
theorem side_threefry_split_0 {a φ a' φ'}
    (h : Sat W (Line.ops (Cert.KernelIdeal.fn_threefry_split_0.body (F := F) a φ)))
    (h' : Sat W' (Line.ops (Cert.ReferenceIdeal.fn_threefry_split_0.body (F := F) a' φ'))) (ha : get W a = get W' a') :
    get W φ.v14 = get W' φ'.v14 := by
  revert h h'
  iterate 13
    change Sat W (_ :: _) → Sat W' (_ :: _) → _
    with_reducible first
      | refine side_nullary fun _ => ?_
      | refine side_unary (by assumption) fun _ => ?_
      | refine side_binary (by assumption) (by assumption) fun _ => ?_
      | refine side_reshape (by assumption) fun _ => ?_
  change Sat W (_ ++ _) → Sat W' (_ ++ _) → _
  refine side_append (fun h h' => side_threefry2x32_1 h h' (by assumption) (by assumption) (by assumption) (by assumption)) fun ⟨_, _⟩ => ?_
  repeat
    change Sat W (_ :: _) → Sat W' (_ :: _) → _
    with_reducible first
      | refine side_nullary fun _ => ?_
      | refine side_unary (by assumption) fun _ => ?_
      | refine side_binary (by assumption) (by assumption) fun _ => ?_
      | refine side_reshape (by assumption) fun _ => ?_
  intro _ _
  assumption

/-- The shuffled rows agree when the key and the row to shuffle do; what is shuffled is what the sort by the drawn words carries along. -/
theorem side_shuffle {a b φ a' b' φ'}
    (h : Sat W (Line.ops (Cert.KernelIdeal.fn_shuffle.body (F := F) a b φ)))
    (h' : Sat W' (Line.ops (Cert.ReferenceIdeal.fn_shuffle.body (F := F) a' b' φ'))) (ha : get W a = get W' a') (hb : get W b = get W' b') :
    get W φ.v18_1 = get W' φ'.v18_1
      ∧ get W φ.v18_1 = (Host.sort2 Cert.KernelIdeal.S16 0 Cert.KernelIdeal.comparator_i32_i32_d0 (get W φ.v17) (get W b)).2 := by
  revert h h'
  change Sat W (_ ++ _) → Sat W' (_ ++ _) → _
  refine side_append (fun h h' => side_threefry_split_0 h h' (by assumption)) fun _ => ?_
  iterate 17
    change Sat W (_ :: _) → Sat W' (_ :: _) → _
    with_reducible first
      | refine side_nullary fun _ => ?_
      | refine side_unary (by assumption) fun _ => ?_
      | refine side_binary (by assumption) (by assumption) fun _ => ?_
      | refine side_reshape (by assumption) fun _ => ?_
  change Sat W (_ ++ _) → Sat W' (_ ++ _) → _
  refine side_append (fun h h' => side_threefry2x32 h h' (by assumption) (by assumption) (by assumption) (by assumption)) fun ⟨_, _⟩ => ?_
  refine side_binary (by assumption) (by assumption) fun _ => ?_
  refine side_binary (by assumption) (by assumption) fun _ => ?_
  change Sat W (_ :: _) → Sat W' (_ :: _) → _
  intro h h'
  have e := h.binary
  revert h h'
  refine side_binary (by assumption) (by assumption) fun _ => ?_
  intro _ _
  exact ⟨by assumption, e⟩

end Cert.Proof
-- ==== Proof.ParseR.lean ====
/-
  The host operations of `ReferenceIdeal` read piece by piece: the key, the sixteen shuffles, the stack of the shuffled rows, the gathers.
-/
module

public import proofs.«01_k».proof.Proof.LineR
public import proofs.«01_k».proof.Proof.Parse

@[expose] public section

set_option maxRecDepth 10000

namespace Cert.Proof.ReferenceIdeal

open Idealize.ShloMosaic Idealize.SL.Sem Idealize.ShloMosaic.StableHlo Cert.ReferenceIdeal Facts₀ Facts ValueIdx Cert.Proof.Value

variable {F : FTy → Type} [FloatOps F] [Facts] {W : Valuation τ sig (Elt F)}

/-- The slices of the sixteen keys. -/
noncomputable abbrev sl : Fin 16 → TRef sig ⟨S1x2, .i32⟩ := ![.of main_v11, .of main_v15, .of main_v19, .of main_v23, .of main_v27, .of main_v31, .of main_v35, .of main_v39, .of main_v43, .of main_v47, .of main_v51, .of main_v55, .of main_v59, .of main_v63, .of main_v67, .of main_v71]
/-- The sixteen keys. -/
noncomputable abbrev ky : Fin 16 → TRef sig ⟨S2, .i32⟩ := ![.of main_v12, .of main_v16, .of main_v20, .of main_v24, .of main_v28, .of main_v32, .of main_v36, .of main_v40, .of main_v44, .of main_v48, .of main_v52, .of main_v56, .of main_v60, .of main_v64, .of main_v68, .of main_v72]
/-- The counters each key shuffles. -/
noncomputable abbrev ct : Fin 16 → TRef sig ⟨S16, .i32⟩ := ![.of main_v13, .of main_v17, .of main_v21, .of main_v25, .of main_v29, .of main_v33, .of main_v37, .of main_v41, .of main_v45, .of main_v49, .of main_v53, .of main_v57, .of main_v61, .of main_v65, .of main_v69, .of main_v73]
/-- The buffers of the sixteen shuffles. -/
noncomputable abbrev sh : Fin 16 → fn_shuffle.Bufs := ![main_call1, main_call2, main_call3, main_call4, main_call5, main_call6, main_call7, main_call8, main_call9, main_call10, main_call11, main_call12, main_call13, main_call14, main_call15, main_call16]
/-- The shuffled rows as one-row matrices. -/
noncomputable abbrev rw1 : Fin 16 → TRef sig ⟨S1x16, .i32⟩ := ![.of main_v75, .of main_v76, .of main_v77, .of main_v78, .of main_v79, .of main_v80, .of main_v81, .of main_v82, .of main_v83, .of main_v84, .of main_v85, .of main_v86, .of main_v87, .of main_v88, .of main_v89, .of main_v90]

/-- Shuffle `n` and what leads to it. -/
noncomputable abbrev block (n : Fin 16) (l : List (HloOp τ sig (Elt F))) : List (HloOp τ sig (Elt F)) :=
  sliceOp n (.of main_v10) (sl n) :: vectorOp (sl n) (ky n) shapeCasts_S1x2_S2 :: counterOp (ct n)
    :: (Line.ops (fn_shuffle.body (F := F) (ky n) (ct n) (sh n)) ++ l)

/-- What shuffle `n` starts from, and that its own operations are satisfied. -/
noncomputable abbrev Shuffled (W : Valuation τ sig (Elt F)) (n : Fin 16) : Prop :=
  Ready W (.of main_v10) n (ky n) (ct n) ∧ Sat W (Line.ops (fn_shuffle.body (F := F) (ky n) (ct n) (sh n)))

/-- The buffers of one patch position's gather. -/
structure RowRefs where
  p : TRef sig ⟨S1x16x96x56x56, .f32⟩
  q : TRef sig ⟨S16x96x56x56, .f32⟩
  s : TRef sig ⟨S1x16, .i32⟩
  t : TRef sig ⟨S16, .i32⟩
  z : TRef sig ⟨S_, .i32⟩
  zb : TRef sig ⟨S16, .i32⟩
  lt : TRef sig ⟨S16, .i1⟩
  e : TRef sig ⟨S_, .i32⟩
  eb : TRef sig ⟨S16, .i32⟩
  a : TRef sig ⟨S16, .i32⟩
  sel : TRef sig ⟨S16, .i32⟩
  ix : TRef sig ⟨S16x1, .i32⟩
  g : TRef sig ⟨S16x96x56x56, .f32⟩

/-- The buffers of the sixteen gathers. -/
noncomputable abbrev rows : Fin 16 → RowRefs := ![
  ⟨.of main_v92, .of main_v93, .of main_v94, .of main_v95, .of main_c_2, .of main_v96, .of main_v97, .of main_c_3, .of main_v98, .of main_v99, .of main_v100, .of main_v101, .of main_v102⟩,
  ⟨.of main_v103, .of main_v104, .of main_v105, .of main_v106, .of main_c_4, .of main_v107, .of main_v108, .of main_c_5, .of main_v109, .of main_v110, .of main_v111, .of main_v112, .of main_v113⟩,
  ⟨.of main_v114, .of main_v115, .of main_v116, .of main_v117, .of main_c_6, .of main_v118, .of main_v119, .of main_c_7, .of main_v120, .of main_v121, .of main_v122, .of main_v123, .of main_v124⟩,
  ⟨.of main_v125, .of main_v126, .of main_v127, .of main_v128, .of main_c_8, .of main_v129, .of main_v130, .of main_c_9, .of main_v131, .of main_v132, .of main_v133, .of main_v134, .of main_v135⟩,
  ⟨.of main_v136, .of main_v137, .of main_v138, .of main_v139, .of main_c_10, .of main_v140, .of main_v141, .of main_c_11, .of main_v142, .of main_v143, .of main_v144, .of main_v145, .of main_v146⟩,
  ⟨.of main_v147, .of main_v148, .of main_v149, .of main_v150, .of main_c_12, .of main_v151, .of main_v152, .of main_c_13, .of main_v153, .of main_v154, .of main_v155, .of main_v156, .of main_v157⟩,
  ⟨.of main_v158, .of main_v159, .of main_v160, .of main_v161, .of main_c_14, .of main_v162, .of main_v163, .of main_c_15, .of main_v164, .of main_v165, .of main_v166, .of main_v167, .of main_v168⟩,
  ⟨.of main_v169, .of main_v170, .of main_v171, .of main_v172, .of main_c_16, .of main_v173, .of main_v174, .of main_c_17, .of main_v175, .of main_v176, .of main_v177, .of main_v178, .of main_v179⟩,
  ⟨.of main_v180, .of main_v181, .of main_v182, .of main_v183, .of main_c_18, .of main_v184, .of main_v185, .of main_c_19, .of main_v186, .of main_v187, .of main_v188, .of main_v189, .of main_v190⟩,
  ⟨.of main_v191, .of main_v192, .of main_v193, .of main_v194, .of main_c_20, .of main_v195, .of main_v196, .of main_c_21, .of main_v197, .of main_v198, .of main_v199, .of main_v200, .of main_v201⟩,
  ⟨.of main_v202, .of main_v203, .of main_v204, .of main_v205, .of main_c_22, .of main_v206, .of main_v207, .of main_c_23, .of main_v208, .of main_v209, .of main_v210, .of main_v211, .of main_v212⟩,
  ⟨.of main_v213, .of main_v214, .of main_v215, .of main_v216, .of main_c_24, .of main_v217, .of main_v218, .of main_c_25, .of main_v219, .of main_v220, .of main_v221, .of main_v222, .of main_v223⟩,
  ⟨.of main_v224, .of main_v225, .of main_v226, .of main_v227, .of main_c_26, .of main_v228, .of main_v229, .of main_c_27, .of main_v230, .of main_v231, .of main_v232, .of main_v233, .of main_v234⟩,
  ⟨.of main_v235, .of main_v236, .of main_v237, .of main_v238, .of main_c_28, .of main_v239, .of main_v240, .of main_c_29, .of main_v241, .of main_v242, .of main_v243, .of main_v244, .of main_v245⟩,
  ⟨.of main_v246, .of main_v247, .of main_v248, .of main_v249, .of main_c_30, .of main_v250, .of main_v251, .of main_c_31, .of main_v252, .of main_v253, .of main_v254, .of main_v255, .of main_v256⟩,
  ⟨.of main_v257, .of main_v258, .of main_v259, .of main_v260, .of main_c_32, .of main_v261, .of main_v262, .of main_c_33, .of main_v263, .of main_v264, .of main_v265, .of main_v266, .of main_v267⟩]

/-- A slice of the patches at one position lies inside them. -/
theorem slices_patch : ∀ n : Fin 16, S16x16x96x56x56.Slices ![n.val, 0, 0, 0, 0] S1x16x96x56x56 := by decide

/-- The operations of one gather: the position's patches, its row of indices, negative indices counted from the end, the gather. -/
noncomputable abbrev gatherOps (n : Fin 16) (l : List (HloOp τ sig (Elt F))) : List (HloOp τ sig (Elt F)) :=
  TRef.unary (.of main_v9 : TRef sig ⟨S16x16x96x56x56, .f32⟩) (rows n).p (extractStridedSlice S1x16x96x56x56 ![n.val, 0, 0, 0, 0] · (slices_patch n))
    :: TRef.reshape (rows n).p (rows n).q rfl shapeCasts_S1x16x96x56x56_S16x96x56x56
    :: TRef.unary (.of main_v91 : TRef sig ⟨S16x16, .i32⟩) (rows n).s (extractStridedSlice S1x16 ![n.val, 0] · (slices_index n))
    :: TRef.reshape (rows n).s (rows n).t rfl shapeCasts_S1x16_S16
    :: TRef.nullary (rows n).z (constantI S_ 32 0#32)
    :: TRef.unary (rows n).z (rows n).zb (broadcastInDim S16 ![] bcast_S_S16)
    :: TRef.binary (rows n).t (rows n).zb (rows n).lt (cmpi .slt)
    :: TRef.nullary (rows n).e (constantI S_ 32 16#32)
    :: TRef.unary (rows n).e (rows n).eb (broadcastInDim S16 ![] bcast_S_S16)
    :: TRef.binary (rows n).t (rows n).eb (rows n).a addi
    :: TRef.ternary (rows n).lt (rows n).a (rows n).t (rows n).sel select
    :: TRef.unary (rows n).sel (rows n).ix (broadcastInDim S16x1 ![0] bcast_S16_S16x1_0)
    :: TRef.binary (rows n).q (rows n).ix (rows n).g
        (fun x i => Host.gather gather_S16x96x56x56_S16x1_S16x96x56x56_123_0_n_n_0_1_1965656 x i)
    :: l

/-- One gather's result at an element: the patch of the image the index names, when the indices are below sixteen. -/
abbrev Gathered (W : Valuation τ sig (Elt F)) (n : Fin 16) : Prop :=
  ∀ (hlt : ∀ j, (get W (.of main_v91 : TRef sig ⟨S16x16, .i32⟩) j : BitVec 32).toNat < 16) (k : S16x96x56x56.Idx),
    get W (rows n).g k = get W (.of main_v9 : TRef sig ⟨S16x16x96x56x56, .f32⟩)
      (ix5 n ⟨(get W (.of main_v91 : TRef sig ⟨S16x16, .i32⟩) (ix2 n (k 0)) : BitVec 32).toNat, hlt _⟩ (k 1) (k 2) (k 3))

/-- Contents that satisfy the operations of one gather hold its result. -/
theorem gathered_of (n : Fin 16) (l : List (HloOp τ sig (Elt F))) (h : Sat W (gatherOps n l)) : Gathered W n ∧ Sat W l := by
  have e1 := h.unary
  replace h := h.tail; have e2 := h.reshape
  replace h := h.tail; have e3 := h.unary
  replace h := h.tail; have e4 := h.reshape
  replace h := h.tail; have e5 := h.nullary
  replace h := h.tail; have e6 := h.unary
  replace h := h.tail; have e7 := h.binary
  replace h := h.tail; have e8 := h.nullary
  replace h := h.tail; have e9 := h.unary
  replace h := h.tail; have e10 := h.binary
  replace h := h.tail; have e11 := h.ternary
  replace h := h.tail; have e12 := h.unary
  replace h := h.tail; have e13 := h.binary
  refine ⟨fun hlt k => ?_, h.tail⟩
  have et : get W (rows n).t = fun k => get W (.of main_v91 : TRef sig ⟨S16x16, .i32⟩) (ix2 n (k 0)) := by
    rw [e4, e3]
    exact index_row n _ (slices_index n) shapeCasts_S1x16_S16
  have eq : get W (rows n).q = fun k => get W (.of main_v9 : TRef sig ⟨S16x16x96x56x56, .f32⟩) (ix5 n (k 0) (k 1) (k 2) (k 3)) := by
    rw [e2, e1]
    exact patch_row n _ (slices_patch n) shapeCasts_S1x16x96x56x56_S16x96x56x56
  have hs : get W (rows n).sel = get W (rows n).t := by
    rw [e11, e10, e9, e8, e7, e6, e5]
    exact wrap_small _ bcast_S_S16 bcast_S_S16 (fun j => by rw [et]; exact hlt _)
  rw [e13, e12, hs]
  refine (gather_at _ _ bcast_S16_S16x1_0 (fun j => by rw [et]; exact hlt _) k).trans ?_
  simp only [eq, et]

/-- A gathered array with an axis of length one in front. -/
noncomputable abbrev frontOp (g : TRef sig ⟨S16x96x56x56, .f32⟩) (b : TRef sig ⟨S1x16x96x56x56, .f32⟩) : HloOp τ sig (Elt F) :=
  TRef.unary g b (broadcastInDim S1x16x96x56x56 ![1, 2, 3, 4] bcast_S16x96x56x56_S1x16x96x56x56_1_2_3_4)

/-- The gathered arrays with an axis of length one in front. -/
noncomputable abbrev fr : Fin 16 → TRef sig ⟨S1x16x96x56x56, .f32⟩ := ![.of main_v268, .of main_v269, .of main_v270, .of main_v271, .of main_v272, .of main_v273, .of main_v274, .of main_v275, .of main_v276, .of main_v277, .of main_v278, .of main_v279, .of main_v280, .of main_v281, .of main_v282, .of main_v283]

/-- The reference's patches, from the images. -/
noncomputable abbrev patchesVal (p : S16x96x224x224.Idx → Elt F .f32) : S16x16x96x56x56.Idx → Elt F .f32 :=
  shapeCast S16x16x96x56x56 (transpose S4x4x16x96x56x56 [2, 4, 0, 1, 3, 5]
    (shapeCast S16x96x4x56x4x56 p shapeCasts_S16x96x224x224_S16x96x4x56x4x56)
    transposes_S16x96x4x56x4x56_S4x4x16x96x56x56_2_4_0_1_3_5) shapeCasts_S4x4x16x96x56x56_S16x16x96x56x56

/-- The reference's output, from its patches. -/
noncomputable abbrev imagesVal (q : S16x16x96x56x56.Idx → Elt F .f32) : S16x96x224x224.Idx → Elt F .f32 :=
  shapeCast S16x96x224x224 (transpose S16x96x4x56x4x56 [2, 3, 0, 4, 1, 5]
    (shapeCast S4x4x16x96x56x56 q shapeCasts_S16x16x96x56x56_S4x4x16x96x56x56)
    transposes_S4x4x16x96x56x56_S16x96x4x56x4x56_2_3_0_4_1_5) shapeCasts_S16x96x4x56x4x56_S16x96x224x224

/-- What the first part of `main` leaves: the key, the patches, the operations of its first call, eleven shuffles, and the next key. -/
theorem parse_0 (d : Dev nD) (h : Sat W (main_0 (F := F) d).ops) :
    get W (.of main_v6 : TRef sig ⟨S2, .i32⟩) = keyVal bcast_S_S1 concatenates_S1_S1_S2_d0
      ∧ get W (.of main_v9 : TRef sig ⟨S16x16x96x56x56, .f32⟩) = patchesVal (get W (.of main_arg0 : TRef sig ⟨S16x96x224x224, .f32⟩))
      ∧ Sat W (Line.ops (fn_threefry_split.body (F := F) (.of main_v6) main_call0))
      ∧ (∀ n ∈ ([0, 1, 2, 3, 4, 5, 6, 7, 8, 9, 10] : List (Fin 16)), Shuffled W n)
      ∧ Sat W [sliceOp 11 (.of main_v10) (sl 11), vectorOp (sl 11) (ky 11) shapeCasts_S1x2_S2] := by
  change Sat W (keyOps (.of main_c) (.of main_c_0) (.of main_v0) (.of main_v1) (.of main_v2) (.of main_c_1) (.of main_v3) (.of main_v4)
    (.of main_v5) (.of main_v6) bcast_S_S1 concatenates_S1_S1_S2_d0
    ++ TRef.reshape (.of main_arg0 : TRef sig ⟨S16x96x224x224, .f32⟩) (.of main_v7 : TRef sig ⟨S16x96x4x56x4x56, .f32⟩) rfl shapeCasts_S16x96x224x224_S16x96x4x56x4x56
    :: TRef.unary (.of main_v7 : TRef sig ⟨S16x96x4x56x4x56, .f32⟩) (.of main_v8 : TRef sig ⟨S4x4x16x96x56x56, .f32⟩) (transpose S4x4x16x96x56x56 [2, 4, 0, 1, 3, 5]
        · transposes_S16x96x4x56x4x56_S4x4x16x96x56x56_2_4_0_1_3_5)
    :: TRef.reshape (.of main_v8 : TRef sig ⟨S4x4x16x96x56x56, .f32⟩) (.of main_v9 : TRef sig ⟨S16x16x96x56x56, .f32⟩) rfl
        shapeCasts_S4x4x16x96x56x56_S16x16x96x56x56
    :: (Line.ops (fn_threefry_split.body (F := F) (.of main_v6) main_call0)
    ++ ([0, 1, 2, 3, 4, 5, 6, 7, 8, 9, 10] : List (Fin 16)).foldr block
      [sliceOp 11 (.of main_v10) (sl 11), vectorOp (sl 11) (ky 11) shapeCasts_S1x2_S2])) at h
  have hk := key_read h.left
  replace h := h.right; have e7 := h.reshape
  replace h := h.tail; have e8 := h.unary
  replace h := h.tail; have e9 := h.reshape
  replace h := h.tail
  have hp := Sat.pieces (fun i l hl => ready_of hl) h.right
  refine ⟨hk, ?_, h.left, hp⟩
  rw [e9, e8, e7]

/-- The shuffled rows as they are made one-row matrices. -/
noncomputable abbrev rowTo (n : Fin 16) (l : List (HloOp τ sig (Elt F))) : List (HloOp τ sig (Elt F)) :=
  rowOp (sh n).v18_1 (rw1 n) bcast_S16_S1x16_1 :: l

/-- The gathered arrays as they get an axis in front. -/
noncomputable abbrev frontTo (n : Fin 16) (l : List (HloOp τ sig (Elt F))) : List (HloOp τ sig (Elt F)) :=
  frontOp (rows n).g (fr n) :: l

/-- What the other parts leave: the other shuffles, the stack of the shuffled rows, the gathers, and the output. -/
theorem parse_1 (d : Dev nD) (hs : Sat W [sliceOp 11 (.of main_v10) (sl 11), vectorOp (sl 11) (ky 11) shapeCasts_S1x2_S2])
    (h : Sat W (main_1 (F := F) d).ops) {l : List (HloOp τ sig (Elt F))}
    (hl : Sat W ((main_2 (F := F) d).ops ++ ((main_3 (F := F) d).ops ++ ((main_4 (F := F) d).ops ++ (main_5 (F := F) d).ops)))) :
    (∀ n ∈ ([11, 12, 13, 14, 15] : List (Fin 16)), Shuffled W n)
      ∧ get W (.of main_v91 : TRef sig ⟨S16x16, .i32⟩) = stack (fun n => get W (sh n).v18_1)
      ∧ (∀ n, Gathered W n)
      ∧ get W (.of main_v287 : TRef sig ⟨S16x96x224x224, .f32⟩) = imagesVal (stack5 fun n => get W (rows n).g) := by
  change Sat W (counterOp (ct 11)
    :: (Line.ops (fn_shuffle.body (F := F) (ky 11) (ct 11) (sh 11)) ++ ([12, 13, 14, 15] : List (Fin 16)).foldr block _)) at h
  have h11 : Shuffled W 11 := ⟨⟨key_of hs hs.tail, h.nullary⟩, h.tail.left⟩
  obtain ⟨h12, h⟩ := Sat.pieces (fun i l hl => ready_of hl) h.tail.right
  change Sat W ((List.finRange 16).foldr rowTo _) at h
  obtain ⟨hr, h⟩ := Sat.pieces (Q := fun n => get W (rw1 n) = broadcastInDim S1x16 ![1] bcast_S16_S1x16_1 (get W (sh n).v18_1))
    (fun i l hl => ⟨Sat.unary hl, hl.tail⟩) h
  change Sat W (nary _ _ _ _ _ :: _) at h
  have e91 : get W (.of main_v91 : TRef sig ⟨S16x16, .i32⟩) = stack (fun n => get W (sh n).v18_1) :=
    h.nary.trans (stack_of (fun n => get W (rw1 n)) (fun n => get W (sh n).v18_1) bcast_S16_S1x16_1
      (fun n => hr n (List.mem_finRange n)) _)
  replace h := h.tail.append hl
  change Sat W ((List.finRange 16).foldr gatherOps _) at h
  obtain ⟨hg, h⟩ := Sat.pieces gathered_of h
  change Sat W ((List.finRange 16).foldr frontTo _) at h
  obtain ⟨hf, h⟩ := Sat.pieces (Q := fun n => get W (fr n)
      = broadcastInDim S1x16x96x56x56 ![1, 2, 3, 4] bcast_S16x96x56x56_S1x16x96x56x56_1_2_3_4 (get W (rows n).g))
    (fun i l hl => ⟨Sat.unary hl, hl.tail⟩) h
  change Sat W (nary _ _ _ _ _
    :: TRef.reshape (.of main_v284 : TRef sig ⟨S16x16x96x56x56, .f32⟩) (.of main_v285 : TRef sig ⟨S4x4x16x96x56x56, .f32⟩) rfl
        shapeCasts_S16x16x96x56x56_S4x4x16x96x56x56
    :: TRef.unary (.of main_v285 : TRef sig ⟨S4x4x16x96x56x56, .f32⟩) (.of main_v286 : TRef sig ⟨S16x96x4x56x4x56, .f32⟩) (transpose S16x96x4x56x4x56 [2, 3, 0, 4, 1, 5]
        · transposes_S4x4x16x96x56x56_S16x96x4x56x4x56_2_3_0_4_1_5)
    :: TRef.reshape (.of main_v286 : TRef sig ⟨S16x96x4x56x4x56, .f32⟩) (.of main_v287 : TRef sig ⟨S16x96x224x224, .f32⟩) rfl
        shapeCasts_S16x96x4x56x4x56_S16x96x224x224
    :: _) at h
  have e284 : get W (.of main_v284 : TRef sig ⟨S16x16x96x56x56, .f32⟩) = stack5 (fun n => get W (rows n).g) :=
    h.nary.trans (stack5_of (fun n => get W (fr n)) (fun n => get W (rows n).g) bcast_S16x96x56x56_S1x16x96x56x56_1_2_3_4
      (fun n => hf n (List.mem_finRange n)) _)
  refine ⟨fun n hn => (List.mem_cons.mp hn).elim (fun e => e ▸ h11) (h12 n), e91, fun n => hg n (List.mem_finRange n), ?_⟩
  rw [h.tail.tail.tail.reshape, h.tail.tail.unary, h.tail.reshape, e284]

/-- What the reference leaves: the key, the patches, the operations of the first call, sixteen shuffles, their stack, the gathers, the
    output. -/
theorem parse (d : Dev nD) (h : Sat W (line (F := F) d).ops) :
    get W (.of main_v6 : TRef sig ⟨S2, .i32⟩) = keyVal bcast_S_S1 concatenates_S1_S1_S2_d0
      ∧ get W (.of main_v9 : TRef sig ⟨S16x16x96x56x56, .f32⟩) = patchesVal (get W (.of main_arg0 : TRef sig ⟨S16x96x224x224, .f32⟩))
      ∧ Sat W (Line.ops (fn_threefry_split.body (F := F) (.of main_v6) main_call0))
      ∧ (∀ n, Shuffled W n)
      ∧ get W (.of main_v91 : TRef sig ⟨S16x16, .i32⟩) = stack (fun n => get W (sh n).v18_1)
      ∧ (∀ n, Gathered W n)
      ∧ get W (.of main_v287 : TRef sig ⟨S16x96x224x224, .f32⟩) = imagesVal (stack5 fun n => get W (rows n).g) := by
  change Sat W ((main_0 (F := F) d).ops ++ ((main_1 (F := F) d).ops ++ _)) at h
  obtain ⟨h1, h9, h2, h3, h4⟩ := parse_0 d h.left
  obtain ⟨h5, h6⟩ := parse_1 (l := []) d h4 h.right.left h.right.right
  refine ⟨h1, h9, h2, fun n => ?_, h6⟩
  by_cases hn : n.val < 11
  · exact h3 n (by revert n; decide)
  · exact h5 n (by revert n; decide)

end Cert.Proof.ReferenceIdeal
-- ==== Proof.Agree.lean ====
/-
  The two programs' results agree: the same permutations, and the same moved patches.
-/
module

public import proofs.«01_k».proof.Proof.Sides
public import proofs.«01_k».proof.Proof.ParseI
public import proofs.«01_k».proof.Proof.ParseR
public import proofs.«01_k».proof.Proof.Setup

@[expose] public section

set_option maxRecDepth 10000

namespace Cert.Proof

open Idealize.ShloMosaic Idealize.SL.Sem Idealize.ShloMosaic.StableHlo ValueIdx Value

variable {F : FTy → Type} [FloatOps F] [hK : Cert.KernelIdeal.Facts] [hR : Cert.ReferenceIdeal.Facts]
variable {W : Valuation Cert.KernelIdeal.τ Cert.KernelIdeal.sig (Elt F)} {W' : Valuation Cert.ReferenceIdeal.τ Cert.ReferenceIdeal.sig (Elt F)}

/-- The permutations the kernel's program draws, as its host operations leave them. -/
abbrev drawn (W : Valuation Cert.KernelIdeal.τ Cert.KernelIdeal.sig (Elt F)) : IVec Cert.KernelIdeal.S16x16 32 :=
  get W (.of Cert.KernelIdeal.main_v88 : TRef Cert.KernelIdeal.sig ⟨Cert.KernelIdeal.S16x16, .i32⟩)
/-- The permutations the reference draws. -/
abbrev drawn' (W' : Valuation Cert.ReferenceIdeal.τ Cert.ReferenceIdeal.sig (Elt F)) : IVec Cert.KernelIdeal.S16x16 32 :=
  get W' (.of Cert.ReferenceIdeal.main_v91 : TRef Cert.ReferenceIdeal.sig ⟨Cert.ReferenceIdeal.S16x16, .i32⟩)

/-- Both programs draw the same permutations. -/
theorem drawn_eq (d : Dev Cert.KernelIdeal.nD) (d' : Dev Cert.ReferenceIdeal.nD)
    (h : Sat W (KernelIdeal.line (F := F) d).ops) (h' : Sat W' (ReferenceIdeal.line (F := F) d').ops) : drawn W = drawn' W' := by
  obtain ⟨k1, k2, k3, k4, -⟩ := KernelIdeal.parse d h
  obtain ⟨r1, -, r2, r3, r4, -⟩ := ReferenceIdeal.parse d' h'
  have e7 : get W (.of Cert.KernelIdeal.main_v7 : TRef Cert.KernelIdeal.sig ⟨Cert.KernelIdeal.S16x2, .i32⟩)
      = get W' (.of Cert.ReferenceIdeal.main_v10 : TRef Cert.ReferenceIdeal.sig ⟨Cert.ReferenceIdeal.S16x2, .i32⟩) :=
    side_threefry_split k2 r2 (k1.trans r1.symm)
  refine k4.trans (Eq.trans (congrArg stack (funext fun n => ?_)) r4.symm)
  refine (side_shuffle (k3 n).2 (r3 n).2 ?_ ((k3 n).1.2.trans (r3 n).1.2.symm)).1
  refine (k3 n).1.1.trans (Eq.trans ?_ (r3 n).1.1.symm)
  rw [e7]

/-- The images the reference is given. -/
abbrev images' (W' : Valuation Cert.ReferenceIdeal.τ Cert.ReferenceIdeal.sig (Elt F)) : Cert.KernelIdeal.S16x96x224x224.Idx → Elt F .f32 :=
  get W' (.of Cert.ReferenceIdeal.main_arg0 : TRef Cert.ReferenceIdeal.sig ⟨Cert.ReferenceIdeal.S16x96x224x224, .f32⟩)

/-- An element of the reference's output: the same element of the image its permutation names for the patch. -/
theorem output_at (d : Dev Cert.KernelIdeal.nD) (d' : Dev Cert.ReferenceIdeal.nD)
    (h : Sat W (KernelIdeal.line (F := F) d).ops) (h' : Sat W' (ReferenceIdeal.line (F := F) d').ops)
    (r w : Fin 4) (n : Fin 16) (c : Fin 96) (y x : Fin 56) :
    get W' (.of Cert.ReferenceIdeal.main_v287 : TRef Cert.ReferenceIdeal.sig ⟨Cert.ReferenceIdeal.S16x96x224x224, .f32⟩)
      (ix4 n c ⟨56 * r.val + y.val, by omega⟩ ⟨56 * w.val + x.val, by omega⟩)
      = images' W' (ix4 ⟨(drawn W (ix2 ⟨4 * r.val + w.val, by omega⟩ n)).toNat, KernelIdeal.indices_lt d h _⟩ c
          ⟨56 * r.val + y.val, by omega⟩ ⟨56 * w.val + x.val, by omega⟩) := by
  obtain ⟨-, r9, -, -, -, rg, r287⟩ := ReferenceIdeal.parse d' h'
  have ed := drawn_eq d d' h h'
  have hlt : ∀ j, (drawn' W' j).toNat < 16 := fun j => ed ▸ KernelIdeal.indices_lt d h j
  refine (congrFun r287 _).trans ((images_at _ _ _ _ r w n c y x).trans ?_)
  refine (rg ⟨4 * r.val + w.val, by omega⟩ hlt (ix4 n c y x)).trans ?_
  refine (congrFun r9 _).trans ((patches_at _ _ _ _ r w _ c y x).trans ?_)
  refine congrArg (fun k => images' W' (ix4 k c _ _)) (Fin.ext ?_)
  show (drawn' W' _).toNat = (drawn W _).toNat
  rw [ed]

/-- The table of sources, as the kernel's host operations leave it. -/
abbrev sources (W : Valuation Cert.KernelIdeal.τ Cert.KernelIdeal.sig (Elt F)) : IVec Cert.KernelIdeal.S64x16 32 :=
  get W (.of Cert.KernelIdeal.main_v92 : TRef Cert.KernelIdeal.sig ⟨Cert.KernelIdeal.S64x16, .i32⟩)

/-- The reference's output is what the launch writes. -/
theorem output_eq (d : Dev Cert.KernelIdeal.nD) (d' : Dev Cert.ReferenceIdeal.nD)
    (h : Sat W (KernelIdeal.line (F := F) d).ops) (h' : Sat W' (ReferenceIdeal.line (F := F) d').ops) :
    get W' (.of Cert.ReferenceIdeal.main_v287 : TRef Cert.ReferenceIdeal.sig ⟨Cert.ReferenceIdeal.S16x96x224x224, .f32⟩)
      = Shuffle.outVal (images' W') (sources W) := by
  funext j
  have h2 : (j 2).val < 224 := (j 2).isLt
  have h3 : (j 3).val < 224 := (j 3).isLt
  have ej : j = ix4 (n0 := 16) (n1 := 96) (n2 := 224) (n3 := 224) (j 0) (j 1) ⟨56 * ((j 2).val / 56) + (j 2).val % 56, by omega⟩
      ⟨56 * ((j 3).val / 56) + (j 3).val % 56, by omega⟩ := by
    funext a
    match a with
    | ⟨0, _⟩ => rfl
    | ⟨1, _⟩ => rfl
    | ⟨2, _⟩ => exact Fin.ext (Nat.div_add_mod _ _).symm
    | ⟨3, _⟩ => exact Fin.ext (Nat.div_add_mod _ _).symm
  have et : sources W (Shuffle.srcAt j) = drawn W (ix2 ⟨4 * ((j 2).val / 56) + (j 3).val / 56, by omega⟩ (j 0)) :=
    (congrFun (KernelIdeal.parse d h).2.2.2.2 _).trans
      (table_at _ _ _ _ _ _ _ (j 0) ⟨(j 2).val / 56, by omega⟩ ⟨(j 3).val / 56, by omega⟩)
  have e := output_at d d' h h' ⟨(j 2).val / 56, by omega⟩ ⟨(j 3).val / 56, by omega⟩ (j 0) (j 1) ⟨(j 2).val % 56, by omega⟩
    ⟨(j 3).val % 56, by omega⟩
  refine (congrArg _ ej).trans (e.trans ?_)
  unfold Shuffle.outVal
  refine congrArg (images' W') ?_
  funext a
  match a with
  | ⟨0, _⟩ =>
    refine Fin.ext ?_
    show (drawn W _).toNat = (sources W (Shuffle.srcAt j)).toNat % 16
    rw [et]
    exact (Nat.mod_eq_of_lt (KernelIdeal.indices_lt d h _)).symm
  | ⟨1, _⟩ => rfl
  | ⟨2, _⟩ => exact Fin.ext (Nat.div_add_mod _ _)
  | ⟨3, _⟩ => exact Fin.ext (Nat.div_add_mod _ _)

end Cert.Proof
-- ==== Proof.lean ====
module

public import proofs.«01_k».proof.Defs
public import proofs.«01_k».proof.Proof.EndI
public import proofs.«01_k».proof.Proof.EndK
public import proofs.«01_k».proof.Proof.EndR
public import proofs.«01_k».proof.Proof.Agree

@[expose] public section

set_option maxRecDepth 100000

noncomputable section

namespace Cert.Proof

open Idealize.ShloMosaic Idealize.SL.Sem Idealize.ShloMosaic.StableHlo

attribute [local instance] Cert.Kernel.Gen.facts Cert.KernelIdeal.Gen.facts Cert.ReferenceIdeal.Gen.facts

/-- The kernel as printed runs, leaves its argument unchanged, and ends with every semaphore at zero. -/
theorem frame_kernel : Cert.quiescent_Kernel := fun m g _ => Kernel.run_main m g

/-- The idealized kernel runs, leaves its argument unchanged, and ends with every semaphore at zero. -/
theorem frame_kernelIdeal : Cert.quiescent_KernelIdeal := fun m g _ =>
  θ_run_mono (KernelIdeal.run_main m g) fun _ h => ⟨fun d => (h.1 d).1, h.2⟩

/-- The reference runs, leaves its argument unchanged, and ends with every semaphore at zero. -/
theorem frame_reference : Cert.quiescent_ReferenceIdeal := fun m g _ =>
  θ_run_mono (ReferenceIdeal.run_main m g) fun _ h =>
    ⟨fun d => (h.1 d Cert.ReferenceIdeal.main_arg0).trans (ReferenceIdeal.left_images m d), h.2⟩

section Values

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The reference ends with the permutations the kernel draws. -/
theorem permutations_eq (d : Dev Cert.KernelIdeal.nD) :
    ReferenceIdeal.left m' d (Proc.devRef .tc Cert.ReferenceIdeal.main_v91) = Shuffle.xf m KernelIdeal.hostOps d := by
  have h := (drawn_eq d d (KernelIdeal.host_sat m d) (ReferenceIdeal.left_sat m' d)).symm
  unfold Shuffle.xf
  exact h

/-- From the same images, the reference ends with the output the launch writes. -/
theorem outputs_eq (d : Dev Cert.KernelIdeal.nD)
    (hm : m' ((d.tc : Thread Cert.ReferenceIdeal.nD Cert.ReferenceIdeal.τ).loc Cert.ReferenceIdeal.main_arg0) = m (Shuffle.pLoc d)) :
    ReferenceIdeal.left m' d (Proc.devRef .tc Cert.ReferenceIdeal.main_v287)
      = Shuffle.outVal (α := Elt Ideal .f32) (m (Shuffle.pLoc d)) (Shuffle.tf m KernelIdeal.hostOps d) := by
  have h := output_eq d d (KernelIdeal.host_sat m d) (ReferenceIdeal.left_sat m' d)
  have hi : images' (ReferenceIdeal.left m' d) = m (Shuffle.pLoc d) := (ReferenceIdeal.left_images m' d).trans hm
  rw [hi] at h
  unfold Shuffle.tf
  exact h

/-- From the same images the idealized kernel and the reference end with equal results, their arguments unchanged. -/
theorem results_agree : Cert.algebraic_KernelIdeal_ReferenceIdeal := fun m g m' g' _ hm =>
  ⟨fun d => Shuffle.outVal (α := Elt Ideal .f32) (m (Shuffle.pLoc d)) (Shuffle.tf m KernelIdeal.hostOps d),
    fun d => Shuffle.xf m KernelIdeal.hostOps d,
    θ_run_mono (KernelIdeal.run_main m g) fun _ h d => ⟨(h.1 d).2.2, (h.1 d).2.1, (h.1 d).1⟩,
    θ_run_mono (ReferenceIdeal.run_main m' g') fun _ h d =>
      ⟨(h.1 d Cert.ReferenceIdeal.main_v287).trans (outputs_eq m m' d (hm d)),
        (h.1 d Cert.ReferenceIdeal.main_v91).trans (permutations_eq m m' d),
        (h.1 d Cert.ReferenceIdeal.main_arg0).trans (ReferenceIdeal.left_images m' d)⟩⟩

end Values

theorem claim : Cert.Claim :=
  ⟨Cert.Kernel.Gen.facts, Cert.KernelIdeal.Gen.facts, Cert.ReferenceIdeal.Gen.facts, frame_kernel, frame_kernelIdeal, frame_reference,
    trivial, results_agree⟩

end Cert.Proof

end
